-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_GateUpBwd (m : (ℓ : Loc Cert.GateUpBwd.nD Cert.GateUpBwd.τ Cert.GateUpBwd.sig) → Buf (Elt Bits) ℓ) : Prop :=
  True

def Pre_GateUpBwdIdeal (m : (ℓ : Loc Cert.GateUpBwdIdeal.nD Cert.GateUpBwdIdeal.τ Cert.GateUpBwdIdeal.sig) → Buf (Elt Ideal) ℓ) : Prop :=
  True

def Pre_GateUpBwdRefIdeal (m : (ℓ : Loc Cert.GateUpBwdRefIdeal.nD Cert.GateUpBwdRefIdeal.τ Cert.GateUpBwdRefIdeal.sig) → Buf (Elt Ideal) ℓ) : Prop :=
  True

def Pre_DownBwd (m : (ℓ : Loc Cert.DownBwd.nD Cert.DownBwd.τ Cert.DownBwd.sig) → Buf (Elt Bits) ℓ) : Prop :=
  True

def Pre_DownBwdIdeal (m : (ℓ : Loc Cert.DownBwdIdeal.nD Cert.DownBwdIdeal.τ Cert.DownBwdIdeal.sig) → Buf (Elt Ideal) ℓ) : Prop :=
  True

def Pre_DownBwdRefIdeal (m : (ℓ : Loc Cert.DownBwdRefIdeal.nD Cert.DownBwdRefIdeal.τ Cert.DownBwdRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_GateUpDw (m : (ℓ : Loc Cert.GateUpDw.nD Cert.GateUpDw.τ Cert.GateUpDw.sig) → Buf (Elt Bits) ℓ) : Prop :=
  True

def Pre_GateUpDwIdeal (m : (ℓ : Loc Cert.GateUpDwIdeal.nD Cert.GateUpDwIdeal.τ Cert.GateUpDwIdeal.sig) → Buf (Elt Ideal) ℓ) : Prop :=
  True

def Pre_GateUpDwRefIdeal (m : (ℓ : Loc Cert.GateUpDwRefIdeal.nD Cert.GateUpDwRefIdeal.τ Cert.GateUpDwRefIdeal.sig) → Buf (Elt Ideal) ℓ) : Prop :=
  True

def Pre_GateUpProj (m : (ℓ : Loc Cert.GateUpProj.nD Cert.GateUpProj.τ Cert.GateUpProj.sig) → Buf (Elt Bits) ℓ) : Prop :=
  True

def Pre_GateUpProjIdeal (m : (ℓ : Loc Cert.GateUpProjIdeal.nD Cert.GateUpProjIdeal.τ Cert.GateUpProjIdeal.sig) → Buf (Elt Ideal) ℓ) : Prop :=
  True

def Pre_GateUpProjRefIdeal (m : (ℓ : Loc Cert.GateUpProjRefIdeal.nD Cert.GateUpProjRefIdeal.τ Cert.GateUpProjRefIdeal.sig) → Buf (Elt Ideal) ℓ) : Prop :=
  True

def Pre_DownProj (m : (ℓ : Loc Cert.DownProj.nD Cert.DownProj.τ Cert.DownProj.sig) → Buf (Elt Bits) ℓ) : Prop :=
  True

def Pre_DownProjIdeal (m : (ℓ : Loc Cert.DownProjIdeal.nD Cert.DownProjIdeal.τ Cert.DownProjIdeal.sig) → Buf (Elt Ideal) ℓ) : Prop :=
  True

def Pre_DownProjRefIdeal (m : (ℓ : Loc Cert.DownProjRefIdeal.nD Cert.DownProjRefIdeal.τ Cert.DownProjRefIdeal.sig) → Buf (Elt Ideal) ℓ) : Prop :=
  True

def Pre_KvBwd (m : (ℓ : Loc Cert.KvBwd.nD Cert.KvBwd.τ Cert.KvBwd.sig) → Buf (Elt Bits) ℓ) : Prop :=
  True

def Pre_KvBwdIdeal (m : (ℓ : Loc Cert.KvBwdIdeal.nD Cert.KvBwdIdeal.τ Cert.KvBwdIdeal.sig) → Buf (Elt Ideal) ℓ) : Prop :=
  True

def Pre_KvBwdRefIdeal (m : (ℓ : Loc Cert.KvBwdRefIdeal.nD Cert.KvBwdRefIdeal.τ Cert.KvBwdRefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def Pre_QBwd (m : (ℓ : Loc Cert.QBwd.nD Cert.QBwd.τ Cert.QBwd.sig) → Buf (Elt Bits) ℓ) : Prop :=
  True

def Pre_QBwdIdeal (m : (ℓ : Loc Cert.QBwdIdeal.nD Cert.QBwdIdeal.τ Cert.QBwdIdeal.sig) → Buf (Elt Ideal) ℓ) : Prop :=
  True

def Pre_QBwdRefIdeal (m : (ℓ : Loc Cert.QBwdRefIdeal.nD Cert.QBwdRefIdeal.τ Cert.QBwdRefIdeal.sig) → Buf (Elt Ideal) ℓ) : Prop :=
  True

def Pre_QDw (m : (ℓ : Loc Cert.QDw.nD Cert.QDw.τ Cert.QDw.sig) → Buf (Elt Bits) ℓ) : Prop :=
  True

def Pre_QDwIdeal (m : (ℓ : Loc Cert.QDwIdeal.nD Cert.QDwIdeal.τ Cert.QDwIdeal.sig) → Buf (Elt Ideal) ℓ) : Prop :=
  True

def Pre_QDwRefIdeal (m : (ℓ : Loc Cert.QDwRefIdeal.nD Cert.QDwRefIdeal.τ Cert.QDwRefIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjRefIdeal (m : (ℓ : Loc Cert.QProjRefIdeal.nD Cert.QProjRefIdeal.τ Cert.QProjRefIdeal.sig) → Buf (Elt Ideal) ℓ) : Prop :=
  True

def Pre_OBwd (m : (ℓ : Loc Cert.OBwd.nD Cert.OBwd.τ Cert.OBwd.sig) → Buf (Elt Bits) ℓ) : Prop :=
  True

def Pre_OBwdIdeal (m : (ℓ : Loc Cert.OBwdIdeal.nD Cert.OBwdIdeal.τ Cert.OBwdIdeal.sig) → Buf (Elt Ideal) ℓ) : Prop :=
  True

def Pre_OBwdRefIdeal (m : (ℓ : Loc Cert.OBwdRefIdeal.nD Cert.OBwdRefIdeal.τ Cert.OBwdRefIdeal.sig) → Buf (Elt Ideal) ℓ) : Prop :=
  True

def Pre_ODw (m : (ℓ : Loc Cert.ODw.nD Cert.ODw.τ Cert.ODw.sig) → Buf (Elt Bits) ℓ) : Prop :=
  True

def Pre_ODwIdeal (m : (ℓ : Loc Cert.ODwIdeal.nD Cert.ODwIdeal.τ Cert.ODwIdeal.sig) → Buf (Elt Ideal) ℓ) : Prop :=
  True

def Pre_ODwRefIdeal (m : (ℓ : Loc Cert.ODwRefIdeal.nD Cert.ODwRefIdeal.τ Cert.ODwRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdRefIdeal (m : (ℓ : Loc Cert.LnBwdRefIdeal.nD Cert.LnBwdRefIdeal.τ Cert.LnBwdRefIdeal.sig) → Buf (Elt Ideal) ℓ) : Prop :=
  True

def Pre_AdamLn (m : (ℓ : Loc Cert.AdamLn.nD Cert.AdamLn.τ Cert.AdamLn.sig) → Buf (Elt Bits) ℓ) : Prop :=
  True

def Pre_AdamLnIdeal (m : (ℓ : Loc Cert.AdamLnIdeal.nD Cert.AdamLnIdeal.τ Cert.AdamLnIdeal.sig) → Buf (Elt Ideal) ℓ) : Prop :=
  True

def Pre_AdamLnRefIdeal (m : (ℓ : Loc Cert.AdamLnRefIdeal.nD Cert.AdamLnRefIdeal.τ Cert.AdamLnRefIdeal.sig) → Buf (Elt Ideal) ℓ) : Prop :=
  True

def Pre_AdamConvB (m : (ℓ : Loc Cert.AdamConvB.nD Cert.AdamConvB.τ Cert.AdamConvB.sig) → Buf (Elt Bits) ℓ) : Prop :=
  True

def Pre_AdamConvBIdeal (m : (ℓ : Loc Cert.AdamConvBIdeal.nD Cert.AdamConvBIdeal.τ Cert.AdamConvBIdeal.sig) → Buf (Elt Ideal) ℓ) : Prop :=
  True

def Pre_AdamConvBRefIdeal (m : (ℓ : Loc Cert.AdamConvBRefIdeal.nD Cert.AdamConvBRefIdeal.τ Cert.AdamConvBRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamPoolW (m : (ℓ : Loc Cert.AdamPoolW.nD Cert.AdamPoolW.τ Cert.AdamPoolW.sig) → Buf (Elt Bits) ℓ) : Prop :=
  True

def Pre_AdamPoolWIdeal (m : (ℓ : Loc Cert.AdamPoolWIdeal.nD Cert.AdamPoolWIdeal.τ Cert.AdamPoolWIdeal.sig) → Buf (Elt Ideal) ℓ) : Prop :=
  True

def Pre_AdamPoolWRefIdeal (m : (ℓ : Loc Cert.AdamPoolWRefIdeal.nD Cert.AdamPoolWRefIdeal.τ Cert.AdamPoolWRefIdeal.sig) → Buf (Elt Ideal) ℓ) : Prop :=
  True

def Pre_AdamPoolScale (m : (ℓ : Loc Cert.AdamPoolScale.nD Cert.AdamPoolScale.τ Cert.AdamPoolScale.sig) → Buf (Elt Bits) ℓ) : Prop :=
  True

def Pre_AdamPoolScaleIdeal (m : (ℓ : Loc Cert.AdamPoolScaleIdeal.nD Cert.AdamPoolScaleIdeal.τ Cert.AdamPoolScaleIdeal.sig) → Buf (Elt Ideal) ℓ) : Prop :=
  True

def Pre_AdamPoolScaleRefIdeal (m : (ℓ : Loc Cert.AdamPoolScaleRefIdeal.nD Cert.AdamPoolScaleRefIdeal.τ Cert.AdamPoolScaleRefIdeal.sig) → Buf (Elt Ideal) ℓ) : Prop :=
  True

def Pre_AdamConvW (m : (ℓ : Loc Cert.AdamConvW.nD Cert.AdamConvW.τ Cert.AdamConvW.sig) → Buf (Elt Bits) ℓ) : Prop :=
  True

def Pre_AdamConvWIdeal (m : (ℓ : Loc Cert.AdamConvWIdeal.nD Cert.AdamConvWIdeal.τ Cert.AdamConvWIdeal.sig) → Buf (Elt Ideal) ℓ) : Prop :=
  True

def Pre_AdamConvWRefIdeal (m : (ℓ : Loc Cert.AdamConvWRefIdeal.nD Cert.AdamConvWRefIdeal.τ Cert.AdamConvWRefIdeal.sig) → Buf (Elt Ideal) ℓ) : Prop :=
  True

def Pre_AdamQ0 (m : (ℓ : Loc Cert.AdamQ0.nD Cert.AdamQ0.τ Cert.AdamQ0.sig) → Buf (Elt Bits) ℓ) : Prop :=
  True

def Pre_AdamQ0Ideal (m : (ℓ : Loc Cert.AdamQ0Ideal.nD Cert.AdamQ0Ideal.τ Cert.AdamQ0Ideal.sig) → Buf (Elt Ideal) ℓ) : Prop :=
  True

def Pre_AdamQ0RefIdeal (m : (ℓ : Loc Cert.AdamQ0RefIdeal.nD Cert.AdamQ0RefIdeal.τ Cert.AdamQ0RefIdeal.sig) → Buf (Elt Ideal) ℓ) : Prop :=
  True

def Pre_AdamQ1 (m : (ℓ : Loc Cert.AdamQ1.nD Cert.AdamQ1.τ Cert.AdamQ1.sig) → Buf (Elt Bits) ℓ) : Prop :=
  True

def Pre_AdamQ1Ideal (m : (ℓ : Loc Cert.AdamQ1Ideal.nD Cert.AdamQ1Ideal.τ Cert.AdamQ1Ideal.sig) → Buf (Elt Ideal) ℓ) : Prop :=
  True

def Pre_AdamQ1RefIdeal (m : (ℓ : Loc Cert.AdamQ1RefIdeal.nD Cert.AdamQ1RefIdeal.τ Cert.AdamQ1RefIdeal.sig) → Buf (Elt Ideal) ℓ) : Prop :=
  True

def Pre_AdamO0 (m : (ℓ : Loc Cert.AdamO0.nD Cert.AdamO0.τ Cert.AdamO0.sig) → Buf (Elt Bits) ℓ) : Prop :=
  True

def Pre_AdamO0Ideal (m : (ℓ : Loc Cert.AdamO0Ideal.nD Cert.AdamO0Ideal.τ Cert.AdamO0Ideal.sig) → Buf (Elt Ideal) ℓ) : Prop :=
  True

def Pre_AdamO0RefIdeal (m : (ℓ : Loc Cert.AdamO0RefIdeal.nD Cert.AdamO0RefIdeal.τ Cert.AdamO0RefIdeal.sig) → Buf (Elt Ideal) ℓ) : Prop :=
  True

def Pre_AdamO1 (m : (ℓ : Loc Cert.AdamO1.nD Cert.AdamO1.τ Cert.AdamO1.sig) → Buf (Elt Bits) ℓ) : Prop :=
  True

def Pre_AdamO1Ideal (m : (ℓ : Loc Cert.AdamO1Ideal.nD Cert.AdamO1Ideal.τ Cert.AdamO1Ideal.sig) → Buf (Elt Ideal) ℓ) : Prop :=
  True

def Pre_AdamO1RefIdeal (m : (ℓ : Loc Cert.AdamO1RefIdeal.nD Cert.AdamO1RefIdeal.τ Cert.AdamO1RefIdeal.sig) → Buf (Elt Ideal) ℓ) : Prop :=
  True

def Pre_AdamGate0 (m : (ℓ : Loc Cert.AdamGate0.nD Cert.AdamGate0.τ Cert.AdamGate0.sig) → Buf (Elt Bits) ℓ) : Prop :=
  True

def Pre_AdamGate0Ideal (m : (ℓ : Loc Cert.AdamGate0Ideal.nD Cert.AdamGate0Ideal.τ Cert.AdamGate0Ideal.sig) → Buf (Elt Ideal) ℓ) : Prop :=
  True

def Pre_AdamGate0RefIdeal (m : (ℓ : Loc Cert.AdamGate0RefIdeal.nD Cert.AdamGate0RefIdeal.τ Cert.AdamGate0RefIdeal.sig) → Buf (Elt Ideal) ℓ) : Prop :=
  True

def Pre_AdamGate1 (m : (ℓ : Loc Cert.AdamGate1.nD Cert.AdamGate1.τ Cert.AdamGate1.sig) → Buf (Elt Bits) ℓ) : Prop :=
  True

def Pre_AdamGate1Ideal (m : (ℓ : Loc Cert.AdamGate1Ideal.nD Cert.AdamGate1Ideal.τ Cert.AdamGate1Ideal.sig) → Buf (Elt Ideal) ℓ) : Prop :=
  True

def Pre_AdamGate1RefIdeal (m : (ℓ : Loc Cert.AdamGate1RefIdeal.nD Cert.AdamGate1RefIdeal.τ Cert.AdamGate1RefIdeal.sig) → Buf (Elt Ideal) ℓ) : Prop :=
  True

def Pre_AdamGate2 (m : (ℓ : Loc Cert.AdamGate2.nD Cert.AdamGate2.τ Cert.AdamGate2.sig) → Buf (Elt Bits) ℓ) : Prop :=
  True

def Pre_AdamGate2Ideal (m : (ℓ : Loc Cert.AdamGate2Ideal.nD Cert.AdamGate2Ideal.τ Cert.AdamGate2Ideal.sig) → Buf (Elt Ideal) ℓ) : Prop :=
  True

def Pre_AdamGate2RefIdeal (m : (ℓ : Loc Cert.AdamGate2RefIdeal.nD Cert.AdamGate2RefIdeal.τ Cert.AdamGate2RefIdeal.sig) → Buf (Elt Ideal) ℓ) : Prop :=
  True

def Pre_AdamGate3 (m : (ℓ : Loc Cert.AdamGate3.nD Cert.AdamGate3.τ Cert.AdamGate3.sig) → Buf (Elt Bits) ℓ) : Prop :=
  True

def Pre_AdamGate3Ideal (m : (ℓ : Loc Cert.AdamGate3Ideal.nD Cert.AdamGate3Ideal.τ Cert.AdamGate3Ideal.sig) → Buf (Elt Ideal) ℓ) : Prop :=
  True

def Pre_AdamGate3RefIdeal (m : (ℓ : Loc Cert.AdamGate3RefIdeal.nD Cert.AdamGate3RefIdeal.τ Cert.AdamGate3RefIdeal.sig) → Buf (Elt Ideal) ℓ) : Prop :=
  True

def Pre_AdamDown0 (m : (ℓ : Loc Cert.AdamDown0.nD Cert.AdamDown0.τ Cert.AdamDown0.sig) → Buf (Elt Bits) ℓ) : Prop :=
  True

def Pre_AdamDown0Ideal (m : (ℓ : Loc Cert.AdamDown0Ideal.nD Cert.AdamDown0Ideal.τ Cert.AdamDown0Ideal.sig) → Buf (Elt Ideal) ℓ) : Prop :=
  True

def Pre_AdamDown0RefIdeal (m : (ℓ : Loc Cert.AdamDown0RefIdeal.nD Cert.AdamDown0RefIdeal.τ Cert.AdamDown0RefIdeal.sig) → Buf (Elt Ideal) ℓ) : Prop :=
  True

def Pre_AdamDown1 (m : (ℓ : Loc Cert.AdamDown1.nD Cert.AdamDown1.τ Cert.AdamDown1.sig) → Buf (Elt Bits) ℓ) : Prop :=
  True

def Pre_AdamDown1Ideal (m : (ℓ : Loc Cert.AdamDown1Ideal.nD Cert.AdamDown1Ideal.τ Cert.AdamDown1Ideal.sig) → Buf (Elt Ideal) ℓ) : Prop :=
  True

def Pre_AdamDown1RefIdeal (m : (ℓ : Loc Cert.AdamDown1RefIdeal.nD Cert.AdamDown1RefIdeal.τ Cert.AdamDown1RefIdeal.sig) → Buf (Elt Ideal) ℓ) : Prop :=
  True

def Pre_AdamDown2 (m : (ℓ : Loc Cert.AdamDown2.nD Cert.AdamDown2.τ Cert.AdamDown2.sig) → Buf (Elt Bits) ℓ) : Prop :=
  True

def Pre_AdamDown2Ideal (m : (ℓ : Loc Cert.AdamDown2Ideal.nD Cert.AdamDown2Ideal.τ Cert.AdamDown2Ideal.sig) → Buf (Elt Ideal) ℓ) : Prop :=
  True

def Pre_AdamDown2RefIdeal (m : (ℓ : Loc Cert.AdamDown2RefIdeal.nD Cert.AdamDown2RefIdeal.τ Cert.AdamDown2RefIdeal.sig) → Buf (Elt Ideal) ℓ) : Prop :=
  True

def Pre_AdamDown3 (m : (ℓ : Loc Cert.AdamDown3.nD Cert.AdamDown3.τ Cert.AdamDown3.sig) → Buf (Elt Bits) ℓ) : Prop :=
  True

def Pre_AdamDown3Ideal (m : (ℓ : Loc Cert.AdamDown3Ideal.nD Cert.AdamDown3Ideal.τ Cert.AdamDown3Ideal.sig) → Buf (Elt Ideal) ℓ) : Prop :=
  True

def Pre_AdamDown3RefIdeal (m : (ℓ : Loc Cert.AdamDown3RefIdeal.nD Cert.AdamDown3RefIdeal.τ Cert.AdamDown3RefIdeal.sig) → Buf (Elt Ideal) ℓ) : Prop :=
  True

def Pre_LnBwdTop (m : (ℓ : Loc Cert.LnBwdTop.nD Cert.LnBwdTop.τ Cert.LnBwdTop.sig) → Buf (Elt Bits) ℓ) : Prop :=
  True

def Pre_LnBwdTopIdeal (m : (ℓ : Loc Cert.LnBwdTopIdeal.nD Cert.LnBwdTopIdeal.τ Cert.LnBwdTopIdeal.sig) → Buf (Elt Ideal) ℓ) : Prop :=
  True

def Pre_LnBwdTopRefIdeal (m : (ℓ : Loc Cert.LnBwdTopRefIdeal.nD Cert.LnBwdTopRefIdeal.τ Cert.LnBwdTopRefIdeal.sig) → Buf (Elt Ideal) ℓ) : Prop :=
  True

def Pre_LnBwdKv (m : (ℓ : Loc Cert.LnBwdKv.nD Cert.LnBwdKv.τ Cert.LnBwdKv.sig) → Buf (Elt Bits) ℓ) : Prop :=
  True

def Pre_LnBwdKvIdeal (m : (ℓ : Loc Cert.LnBwdKvIdeal.nD Cert.LnBwdKvIdeal.τ Cert.LnBwdKvIdeal.sig) → Buf (Elt Ideal) ℓ) : Prop :=
  True

def Pre_LnBwdKvRefIdeal (m : (ℓ : Loc Cert.LnBwdKvRefIdeal.nD Cert.LnBwdKvRefIdeal.τ Cert.LnBwdKvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_GateUpBwd [hGateUpBwd : Cert.GateUpBwd.Facts] : Prop :=
  ∀ (m : (ℓ : Loc Cert.GateUpBwd.nD Cert.GateUpBwd.τ Cert.GateUpBwd.sig) → Buf (Elt Bits) ℓ) (g : Dev Cert.GateUpBwd.nD → PrngReg), Pre_GateUpBwd m →
    θ_run (Cert.GateUpBwd.defs (F := Bits)) (onTc (τ := Cert.GateUpBwd.τ) (Cert.GateUpBwd.main (F := Bits))) ⟨m, fun _ => 0, g⟩ (fun r => (∀ c : Dev Cert.GateUpBwd.nD,
      r.2.mem ((c.tc : Thread Cert.GateUpBwd.nD Cert.GateUpBwd.τ).loc Cert.GateUpBwd.main_arg0) = m ((c.tc : Thread Cert.GateUpBwd.nD Cert.GateUpBwd.τ).loc Cert.GateUpBwd.main_arg0)
      ∧ r.2.mem ((c.tc : Thread Cert.GateUpBwd.nD Cert.GateUpBwd.τ).loc Cert.GateUpBwd.main_arg1) = m ((c.tc : Thread Cert.GateUpBwd.nD Cert.GateUpBwd.τ).loc Cert.GateUpBwd.main_arg1)
      ∧ r.2.mem ((c.tc : Thread Cert.GateUpBwd.nD Cert.GateUpBwd.τ).loc Cert.GateUpBwd.main_arg2) = m ((c.tc : Thread Cert.GateUpBwd.nD Cert.GateUpBwd.τ).loc Cert.GateUpBwd.main_arg2)
      ∧ r.2.mem ((c.tc : Thread Cert.GateUpBwd.nD Cert.GateUpBwd.τ).loc Cert.GateUpBwd.main_arg3) = m ((c.tc : Thread Cert.GateUpBwd.nD Cert.GateUpBwd.τ).loc Cert.GateUpBwd.main_arg3))
      ∧ r.2.sem = fun _ => 0)

def quiescent_GateUpBwdIdeal [hGateUpBwdIdeal : Cert.GateUpBwdIdeal.Facts] : Prop :=
  ∀ (m : (ℓ : Loc Cert.GateUpBwdIdeal.nD Cert.GateUpBwdIdeal.τ Cert.GateUpBwdIdeal.sig) → Buf (Elt Ideal) ℓ) (g : Dev Cert.GateUpBwdIdeal.nD → PrngReg), Pre_GateUpBwdIdeal m →
    θ_run (Cert.GateUpBwdIdeal.defs (F := Ideal)) (onTc (τ := Cert.GateUpBwdIdeal.τ) (Cert.GateUpBwdIdeal.main (F := Ideal))) ⟨m, fun _ => 0, g⟩ (fun r => (∀ c : Dev Cert.GateUpBwdIdeal.nD,
      r.2.mem ((c.tc : Thread Cert.GateUpBwdIdeal.nD Cert.GateUpBwdIdeal.τ).loc Cert.GateUpBwdIdeal.main_arg0) = m ((c.tc : Thread Cert.GateUpBwdIdeal.nD Cert.GateUpBwdIdeal.τ).loc Cert.GateUpBwdIdeal.main_arg0)
      ∧ r.2.mem ((c.tc : Thread Cert.GateUpBwdIdeal.nD Cert.GateUpBwdIdeal.τ).loc Cert.GateUpBwdIdeal.main_arg1) = m ((c.tc : Thread Cert.GateUpBwdIdeal.nD Cert.GateUpBwdIdeal.τ).loc Cert.GateUpBwdIdeal.main_arg1)
      ∧ r.2.mem ((c.tc : Thread Cert.GateUpBwdIdeal.nD Cert.GateUpBwdIdeal.τ).loc Cert.GateUpBwdIdeal.main_arg2) = m ((c.tc : Thread Cert.GateUpBwdIdeal.nD Cert.GateUpBwdIdeal.τ).loc Cert.GateUpBwdIdeal.main_arg2)
      ∧ r.2.mem ((c.tc : Thread Cert.GateUpBwdIdeal.nD Cert.GateUpBwdIdeal.τ).loc Cert.GateUpBwdIdeal.main_arg3) = m ((c.tc : Thread Cert.GateUpBwdIdeal.nD Cert.GateUpBwdIdeal.τ).loc Cert.GateUpBwdIdeal.main_arg3))
      ∧ r.2.sem = fun _ => 0)

def quiescent_GateUpBwdRefIdeal [hGateUpBwdRefIdeal : Cert.GateUpBwdRefIdeal.Facts] : Prop :=
  ∀ (m : (ℓ : Loc Cert.GateUpBwdRefIdeal.nD Cert.GateUpBwdRefIdeal.τ Cert.GateUpBwdRefIdeal.sig) → Buf (Elt Ideal) ℓ) (g : Dev Cert.GateUpBwdRefIdeal.nD → PrngReg), Pre_GateUpBwdRefIdeal m →
    θ_run (Cert.GateUpBwdRefIdeal.defs (F := Ideal)) (onTc (τ := Cert.GateUpBwdRefIdeal.τ) (Cert.GateUpBwdRefIdeal.main (F := Ideal))) ⟨m, fun _ => 0, g⟩ (fun r => (∀ c : Dev Cert.GateUpBwdRefIdeal.nD,
      r.2.mem ((c.tc : Thread Cert.GateUpBwdRefIdeal.nD Cert.GateUpBwdRefIdeal.τ).loc Cert.GateUpBwdRefIdeal.main_arg0) = m ((c.tc : Thread Cert.GateUpBwdRefIdeal.nD Cert.GateUpBwdRefIdeal.τ).loc Cert.GateUpBwdRefIdeal.main_arg0)
      ∧ r.2.mem ((c.tc : Thread Cert.GateUpBwdRefIdeal.nD Cert.GateUpBwdRefIdeal.τ).loc Cert.GateUpBwdRefIdeal.main_arg1) = m ((c.tc : Thread Cert.GateUpBwdRefIdeal.nD Cert.GateUpBwdRefIdeal.τ).loc Cert.GateUpBwdRefIdeal.main_arg1)
      ∧ r.2.mem ((c.tc : Thread Cert.GateUpBwdRefIdeal.nD Cert.GateUpBwdRefIdeal.τ).loc Cert.GateUpBwdRefIdeal.main_arg2) = m ((c.tc : Thread Cert.GateUpBwdRefIdeal.nD Cert.GateUpBwdRefIdeal.τ).loc Cert.GateUpBwdRefIdeal.main_arg2)
      ∧ r.2.mem ((c.tc : Thread Cert.GateUpBwdRefIdeal.nD Cert.GateUpBwdRefIdeal.τ).loc Cert.GateUpBwdRefIdeal.main_arg3) = m ((c.tc : Thread Cert.GateUpBwdRefIdeal.nD Cert.GateUpBwdRefIdeal.τ).loc Cert.GateUpBwdRefIdeal.main_arg3))
      ∧ r.2.sem = fun _ => 0)

def quiescent_DownBwd [hDownBwd : Cert.DownBwd.Facts] : Prop :=
  ∀ (m : (ℓ : Loc Cert.DownBwd.nD Cert.DownBwd.τ Cert.DownBwd.sig) → Buf (Elt Bits) ℓ) (g : Dev Cert.DownBwd.nD → PrngReg), Pre_DownBwd m →
    θ_run (Cert.DownBwd.defs (F := Bits)) (onTc (τ := Cert.DownBwd.τ) (Cert.DownBwd.main (F := Bits))) ⟨m, fun _ => 0, g⟩ (fun r => (∀ c : Dev Cert.DownBwd.nD,
      r.2.mem ((c.tc : Thread Cert.DownBwd.nD Cert.DownBwd.τ).loc Cert.DownBwd.main_arg0) = m ((c.tc : Thread Cert.DownBwd.nD Cert.DownBwd.τ).loc Cert.DownBwd.main_arg0)
      ∧ r.2.mem ((c.tc : Thread Cert.DownBwd.nD Cert.DownBwd.τ).loc Cert.DownBwd.main_arg1) = m ((c.tc : Thread Cert.DownBwd.nD Cert.DownBwd.τ).loc Cert.DownBwd.main_arg1))
      ∧ r.2.sem = fun _ => 0)

def quiescent_DownBwdIdeal [hDownBwdIdeal : Cert.DownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1))
      ∧ r.2.sem = fun _ => 0)

def quiescent_DownBwdRefIdeal [hDownBwdRefIdeal : Cert.DownBwdRefIdeal.Facts] : Prop :=
  ∀ (m : (ℓ : Loc Cert.DownBwdRefIdeal.nD Cert.DownBwdRefIdeal.τ Cert.DownBwdRefIdeal.sig) → Buf (Elt Ideal) ℓ) (g : Dev Cert.DownBwdRefIdeal.nD → PrngReg), Pre_DownBwdRefIdeal m →
    θ_run (Cert.DownBwdRefIdeal.defs (F := Ideal)) (onTc (τ := Cert.DownBwdRefIdeal.τ) (Cert.DownBwdRefIdeal.main (F := Ideal))) ⟨m, fun _ => 0, g⟩ (fun r => (∀ c : Dev Cert.DownBwdRefIdeal.nD,
      r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
      ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_GateUpDw [hGateUpDw : Cert.GateUpDw.Facts] : Prop :=
  ∀ (m : (ℓ : Loc Cert.GateUpDw.nD Cert.GateUpDw.τ Cert.GateUpDw.sig) → Buf (Elt Bits) ℓ) (g : Dev Cert.GateUpDw.nD → PrngReg), Pre_GateUpDw m →
    θ_run (Cert.GateUpDw.defs (F := Bits)) (onTc (τ := Cert.GateUpDw.τ) (Cert.GateUpDw.main (F := Bits))) ⟨m, fun _ => 0, g⟩ (fun r => (∀ c : Dev Cert.GateUpDw.nD,
      r.2.mem ((c.tc : Thread Cert.GateUpDw.nD Cert.GateUpDw.τ).loc Cert.GateUpDw.main_arg0) = m ((c.tc : Thread Cert.GateUpDw.nD Cert.GateUpDw.τ).loc Cert.GateUpDw.main_arg0)
      ∧ r.2.mem ((c.tc : Thread Cert.GateUpDw.nD Cert.GateUpDw.τ).loc Cert.GateUpDw.main_arg1) = m ((c.tc : Thread Cert.GateUpDw.nD Cert.GateUpDw.τ).loc Cert.GateUpDw.main_arg1))
      ∧ r.2.sem = fun _ => 0)

def quiescent_GateUpDwIdeal [hGateUpDwIdeal : Cert.GateUpDwIdeal.Facts] : Prop :=
  ∀ (m : (ℓ : Loc Cert.GateUpDwIdeal.nD Cert.GateUpDwIdeal.τ Cert.GateUpDwIdeal.sig) → Buf (Elt Ideal) ℓ) (g : Dev Cert.GateUpDwIdeal.nD → PrngReg), Pre_GateUpDwIdeal m →
    θ_run (Cert.GateUpDwIdeal.defs (F := Ideal)) (onTc (τ := Cert.GateUpDwIdeal.τ) (Cert.GateUpDwIdeal.main (F := Ideal))) ⟨m, fun _ => 0, g⟩ (fun r => (∀ c : Dev Cert.GateUpDwIdeal.nD,
      r.2.mem ((c.tc : Thread Cert.GateUpDwIdeal.nD Cert.GateUpDwIdeal.τ).loc Cert.GateUpDwIdeal.main_arg0) = m ((c.tc : Thread Cert.GateUpDwIdeal.nD Cert.GateUpDwIdeal.τ).loc Cert.GateUpDwIdeal.main_arg0)
      ∧ r.2.mem ((c.tc : Thread Cert.GateUpDwIdeal.nD Cert.GateUpDwIdeal.τ).loc Cert.GateUpDwIdeal.main_arg1) = m ((c.tc : Thread Cert.GateUpDwIdeal.nD Cert.GateUpDwIdeal.τ).loc Cert.GateUpDwIdeal.main_arg1))
      ∧ r.2.sem = fun _ => 0)

def quiescent_GateUpDwRefIdeal [hGateUpDwRefIdeal : Cert.GateUpDwRefIdeal.Facts] : Prop :=
  ∀ (m : (ℓ : Loc Cert.GateUpDwRefIdeal.nD Cert.GateUpDwRefIdeal.τ Cert.GateUpDwRefIdeal.sig) → Buf (Elt Ideal) ℓ) (g : Dev Cert.GateUpDwRefIdeal.nD → PrngReg), Pre_GateUpDwRefIdeal m →
    θ_run (Cert.GateUpDwRefIdeal.defs (F := Ideal)) (onTc (τ := Cert.GateUpDwRefIdeal.τ) (Cert.GateUpDwRefIdeal.main (F := Ideal))) ⟨m, fun _ => 0, g⟩ (fun r => (∀ c : Dev Cert.GateUpDwRefIdeal.nD,
      r.2.mem ((c.tc : Thread Cert.GateUpDwRefIdeal.nD Cert.GateUpDwRefIdeal.τ).loc Cert.GateUpDwRefIdeal.main_arg0) = m ((c.tc : Thread Cert.GateUpDwRefIdeal.nD Cert.GateUpDwRefIdeal.τ).loc Cert.GateUpDwRefIdeal.main_arg0)
      ∧ r.2.mem ((c.tc : Thread Cert.GateUpDwRefIdeal.nD Cert.GateUpDwRefIdeal.τ).loc Cert.GateUpDwRefIdeal.main_arg1) = m ((c.tc : Thread Cert.GateUpDwRefIdeal.nD Cert.GateUpDwRefIdeal.τ).loc Cert.GateUpDwRefIdeal.main_arg1))
      ∧ r.2.sem = fun _ => 0)

def quiescent_GateUpProj [hGateUpProj : Cert.GateUpProj.Facts] : Prop :=
  ∀ (m : (ℓ : Loc Cert.GateUpProj.nD Cert.GateUpProj.τ Cert.GateUpProj.sig) → Buf (Elt Bits) ℓ) (g : Dev Cert.GateUpProj.nD → PrngReg), Pre_GateUpProj m →
    θ_run (Cert.GateUpProj.defs (F := Bits)) (onTc (τ := Cert.GateUpProj.τ) (Cert.GateUpProj.main (F := Bits))) ⟨m, fun _ => 0, g⟩ (fun r => (∀ c : Dev Cert.GateUpProj.nD,
      r.2.mem ((c.tc : Thread Cert.GateUpProj.nD Cert.GateUpProj.τ).loc Cert.GateUpProj.main_arg0) = m ((c.tc : Thread Cert.GateUpProj.nD Cert.GateUpProj.τ).loc Cert.GateUpProj.main_arg0)
      ∧ r.2.mem ((c.tc : Thread Cert.GateUpProj.nD Cert.GateUpProj.τ).loc Cert.GateUpProj.main_arg1) = m ((c.tc : Thread Cert.GateUpProj.nD Cert.GateUpProj.τ).loc Cert.GateUpProj.main_arg1))
      ∧ r.2.sem = fun _ => 0)

def quiescent_GateUpProjIdeal [hGateUpProjIdeal : Cert.GateUpProjIdeal.Facts] : Prop :=
  ∀ (m : (ℓ : Loc Cert.GateUpProjIdeal.nD Cert.GateUpProjIdeal.τ Cert.GateUpProjIdeal.sig) → Buf (Elt Ideal) ℓ) (g : Dev Cert.GateUpProjIdeal.nD → PrngReg), Pre_GateUpProjIdeal m →
    θ_run (Cert.GateUpProjIdeal.defs (F := Ideal)) (onTc (τ := Cert.GateUpProjIdeal.τ) (Cert.GateUpProjIdeal.main (F := Ideal))) ⟨m, fun _ => 0, g⟩ (fun r => (∀ c : Dev Cert.GateUpProjIdeal.nD,
      r.2.mem ((c.tc : Thread Cert.GateUpProjIdeal.nD Cert.GateUpProjIdeal.τ).loc Cert.GateUpProjIdeal.main_arg0) = m ((c.tc : Thread Cert.GateUpProjIdeal.nD Cert.GateUpProjIdeal.τ).loc Cert.GateUpProjIdeal.main_arg0)
      ∧ r.2.mem ((c.tc : Thread Cert.GateUpProjIdeal.nD Cert.GateUpProjIdeal.τ).loc Cert.GateUpProjIdeal.main_arg1) = m ((c.tc : Thread Cert.GateUpProjIdeal.nD Cert.GateUpProjIdeal.τ).loc Cert.GateUpProjIdeal.main_arg1))
      ∧ r.2.sem = fun _ => 0)

def quiescent_GateUpProjRefIdeal [hGateUpProjRefIdeal : Cert.GateUpProjRefIdeal.Facts] : Prop :=
  ∀ (m : (ℓ : Loc Cert.GateUpProjRefIdeal.nD Cert.GateUpProjRefIdeal.τ Cert.GateUpProjRefIdeal.sig) → Buf (Elt Ideal) ℓ) (g : Dev Cert.GateUpProjRefIdeal.nD → PrngReg), Pre_GateUpProjRefIdeal m →
    θ_run (Cert.GateUpProjRefIdeal.defs (F := Ideal)) (onTc (τ := Cert.GateUpProjRefIdeal.τ) (Cert.GateUpProjRefIdeal.main (F := Ideal))) ⟨m, fun _ => 0, g⟩ (fun r => (∀ c : Dev Cert.GateUpProjRefIdeal.nD,
      r.2.mem ((c.tc : Thread Cert.GateUpProjRefIdeal.nD Cert.GateUpProjRefIdeal.τ).loc Cert.GateUpProjRefIdeal.main_arg0) = m ((c.tc : Thread Cert.GateUpProjRefIdeal.nD Cert.GateUpProjRefIdeal.τ).loc Cert.GateUpProjRefIdeal.main_arg0)
      ∧ r.2.mem ((c.tc : Thread Cert.GateUpProjRefIdeal.nD Cert.GateUpProjRefIdeal.τ).loc Cert.GateUpProjRefIdeal.main_arg1) = m ((c.tc : Thread Cert.GateUpProjRefIdeal.nD Cert.GateUpProjRefIdeal.τ).loc Cert.GateUpProjRefIdeal.main_arg1))
      ∧ r.2.sem = fun _ => 0)

def quiescent_DownProj [hDownProj : Cert.DownProj.Facts] : Prop :=
  ∀ (m : (ℓ : Loc Cert.DownProj.nD Cert.DownProj.τ Cert.DownProj.sig) → Buf (Elt Bits) ℓ) (g : Dev Cert.DownProj.nD → PrngReg), Pre_DownProj m →
    θ_run (Cert.DownProj.defs (F := Bits)) (onTc (τ := Cert.DownProj.τ) (Cert.DownProj.main (F := Bits))) ⟨m, fun _ => 0, g⟩ (fun r => (∀ c : Dev Cert.DownProj.nD,
      r.2.mem ((c.tc : Thread Cert.DownProj.nD Cert.DownProj.τ).loc Cert.DownProj.main_arg0) = m ((c.tc : Thread Cert.DownProj.nD Cert.DownProj.τ).loc Cert.DownProj.main_arg0)
      ∧ r.2.mem ((c.tc : Thread Cert.DownProj.nD Cert.DownProj.τ).loc Cert.DownProj.main_arg1) = m ((c.tc : Thread Cert.DownProj.nD Cert.DownProj.τ).loc Cert.DownProj.main_arg1))
      ∧ r.2.sem = fun _ => 0)

def quiescent_DownProjIdeal [hDownProjIdeal : Cert.DownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1))
      ∧ r.2.sem = fun _ => 0)

def quiescent_DownProjRefIdeal [hDownProjRefIdeal : Cert.DownProjRefIdeal.Facts] : Prop :=
  ∀ (m : (ℓ : Loc Cert.DownProjRefIdeal.nD Cert.DownProjRefIdeal.τ Cert.DownProjRefIdeal.sig) → Buf (Elt Ideal) ℓ) (g : Dev Cert.DownProjRefIdeal.nD → PrngReg), Pre_DownProjRefIdeal m →
    θ_run (Cert.DownProjRefIdeal.defs (F := Ideal)) (onTc (τ := Cert.DownProjRefIdeal.τ) (Cert.DownProjRefIdeal.main (F := Ideal))) ⟨m, fun _ => 0, g⟩ (fun r => (∀ c : Dev Cert.DownProjRefIdeal.nD,
      r.2.mem ((c.tc : Thread Cert.DownProjRefIdeal.nD Cert.DownProjRefIdeal.τ).loc Cert.DownProjRefIdeal.main_arg0) = m ((c.tc : Thread Cert.DownProjRefIdeal.nD Cert.DownProjRefIdeal.τ).loc Cert.DownProjRefIdeal.main_arg0)
      ∧ r.2.mem ((c.tc : Thread Cert.DownProjRefIdeal.nD Cert.DownProjRefIdeal.τ).loc Cert.DownProjRefIdeal.main_arg1) = m ((c.tc : Thread Cert.DownProjRefIdeal.nD Cert.DownProjRefIdeal.τ).loc Cert.DownProjRefIdeal.main_arg1))
      ∧ r.2.sem = fun _ => 0)

def quiescent_KvBwd [hKvBwd : Cert.KvBwd.Facts] : Prop :=
  ∀ (m : (ℓ : Loc Cert.KvBwd.nD Cert.KvBwd.τ Cert.KvBwd.sig) → Buf (Elt Bits) ℓ) (g : Dev Cert.KvBwd.nD → PrngReg), Pre_KvBwd m →
    θ_run (Cert.KvBwd.defs (F := Bits)) (onTc (τ := Cert.KvBwd.τ) (Cert.KvBwd.main (F := Bits))) ⟨m, fun _ => 0, g⟩ (fun r => (∀ c : Dev Cert.KvBwd.nD,
      r.2.mem ((c.tc : Thread Cert.KvBwd.nD Cert.KvBwd.τ).loc Cert.KvBwd.main_arg0) = m ((c.tc : Thread Cert.KvBwd.nD Cert.KvBwd.τ).loc Cert.KvBwd.main_arg0)
      ∧ r.2.mem ((c.tc : Thread Cert.KvBwd.nD Cert.KvBwd.τ).loc Cert.KvBwd.main_arg1) = m ((c.tc : Thread Cert.KvBwd.nD Cert.KvBwd.τ).loc Cert.KvBwd.main_arg1))
      ∧ r.2.sem = fun _ => 0)

def quiescent_KvBwdIdeal [hKvBwdIdeal : Cert.KvBwdIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg), Pre_KvBwdIdeal m →
    θ_run (Cert.KvBwdIdeal.defs (F := Ideal)) (onTc (τ := Cert.KvBwdIdeal.τ) (Cert.KvBwdIdeal.main (F := Ideal))) ⟨m, fun _ => 0, g⟩ (fun r => (∀ c : Dev Cert.KvBwdIdeal.nD,
      r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
      ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1))
      ∧ r.2.sem = fun _ => 0)

def quiescent_KvBwdRefIdeal [hKvBwdRefIdeal : Cert.KvBwdRefIdeal.Facts] : Prop :=
  ∀ (m : (ℓ : Loc Cert.KvBwdRefIdeal.nD Cert.KvBwdRefIdeal.τ Cert.KvBwdRefIdeal.sig) → Buf (Elt Ideal) ℓ) (g : Dev Cert.KvBwdRefIdeal.nD → PrngReg), Pre_KvBwdRefIdeal m →
    θ_run (Cert.KvBwdRefIdeal.defs (F := Ideal)) (onTc (τ := Cert.KvBwdRefIdeal.τ) (Cert.KvBwdRefIdeal.main (F := Ideal))) ⟨m, fun _ => 0, g⟩ (fun r => (∀ c : Dev Cert.KvBwdRefIdeal.nD,
      r.2.mem ((c.tc : Thread Cert.KvBwdRefIdeal.nD Cert.KvBwdRefIdeal.τ).loc Cert.KvBwdRefIdeal.main_arg0) = m ((c.tc : Thread Cert.KvBwdRefIdeal.nD Cert.KvBwdRefIdeal.τ).loc Cert.KvBwdRefIdeal.main_arg0)
      ∧ r.2.mem ((c.tc : Thread Cert.KvBwdRefIdeal.nD Cert.KvBwdRefIdeal.τ).loc Cert.KvBwdRefIdeal.main_arg1) = m ((c.tc : Thread Cert.KvBwdRefIdeal.nD Cert.KvBwdRefIdeal.τ).loc Cert.KvBwdRefIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1))
      ∧ r.2.sem = fun _ => 0)

def quiescent_QBwd [hQBwd : Cert.QBwd.Facts] : Prop :=
  ∀ (m : (ℓ : Loc Cert.QBwd.nD Cert.QBwd.τ Cert.QBwd.sig) → Buf (Elt Bits) ℓ) (g : Dev Cert.QBwd.nD → PrngReg), Pre_QBwd m →
    θ_run (Cert.QBwd.defs (F := Bits)) (onTc (τ := Cert.QBwd.τ) (Cert.QBwd.main (F := Bits))) ⟨m, fun _ => 0, g⟩ (fun r => (∀ c : Dev Cert.QBwd.nD,
      r.2.mem ((c.tc : Thread Cert.QBwd.nD Cert.QBwd.τ).loc Cert.QBwd.main_arg0) = m ((c.tc : Thread Cert.QBwd.nD Cert.QBwd.τ).loc Cert.QBwd.main_arg0)
      ∧ r.2.mem ((c.tc : Thread Cert.QBwd.nD Cert.QBwd.τ).loc Cert.QBwd.main_arg1) = m ((c.tc : Thread Cert.QBwd.nD Cert.QBwd.τ).loc Cert.QBwd.main_arg1))
      ∧ r.2.sem = fun _ => 0)

def quiescent_QBwdIdeal [hQBwdIdeal : Cert.QBwdIdeal.Facts] : Prop :=
  ∀ (m : (ℓ : Loc Cert.QBwdIdeal.nD Cert.QBwdIdeal.τ Cert.QBwdIdeal.sig) → Buf (Elt Ideal) ℓ) (g : Dev Cert.QBwdIdeal.nD → PrngReg), Pre_QBwdIdeal m →
    θ_run (Cert.QBwdIdeal.defs (F := Ideal)) (onTc (τ := Cert.QBwdIdeal.τ) (Cert.QBwdIdeal.main (F := Ideal))) ⟨m, fun _ => 0, g⟩ (fun r => (∀ c : Dev Cert.QBwdIdeal.nD,
      r.2.mem ((c.tc : Thread Cert.QBwdIdeal.nD Cert.QBwdIdeal.τ).loc Cert.QBwdIdeal.main_arg0) = m ((c.tc : Thread Cert.QBwdIdeal.nD Cert.QBwdIdeal.τ).loc Cert.QBwdIdeal.main_arg0)
      ∧ r.2.mem ((c.tc : Thread Cert.QBwdIdeal.nD Cert.QBwdIdeal.τ).loc Cert.QBwdIdeal.main_arg1) = m ((c.tc : Thread Cert.QBwdIdeal.nD Cert.QBwdIdeal.τ).loc Cert.QBwdIdeal.main_arg1))
      ∧ r.2.sem = fun _ => 0)

def quiescent_QBwdRefIdeal [hQBwdRefIdeal : Cert.QBwdRefIdeal.Facts] : Prop :=
  ∀ (m : (ℓ : Loc Cert.QBwdRefIdeal.nD Cert.QBwdRefIdeal.τ Cert.QBwdRefIdeal.sig) → Buf (Elt Ideal) ℓ) (g : Dev Cert.QBwdRefIdeal.nD → PrngReg), Pre_QBwdRefIdeal m →
    θ_run (Cert.QBwdRefIdeal.defs (F := Ideal)) (onTc (τ := Cert.QBwdRefIdeal.τ) (Cert.QBwdRefIdeal.main (F := Ideal))) ⟨m, fun _ => 0, g⟩ (fun r => (∀ c : Dev Cert.QBwdRefIdeal.nD,
      r.2.mem ((c.tc : Thread Cert.QBwdRefIdeal.nD Cert.QBwdRefIdeal.τ).loc Cert.QBwdRefIdeal.main_arg0) = m ((c.tc : Thread Cert.QBwdRefIdeal.nD Cert.QBwdRefIdeal.τ).loc Cert.QBwdRefIdeal.main_arg0)
      ∧ r.2.mem ((c.tc : Thread Cert.QBwdRefIdeal.nD Cert.QBwdRefIdeal.τ).loc Cert.QBwdRefIdeal.main_arg1) = m ((c.tc : Thread Cert.QBwdRefIdeal.nD Cert.QBwdRefIdeal.τ).loc Cert.QBwdRefIdeal.main_arg1))
      ∧ r.2.sem = fun _ => 0)

def quiescent_QDw [hQDw : Cert.QDw.Facts] : Prop :=
  ∀ (m : (ℓ : Loc Cert.QDw.nD Cert.QDw.τ Cert.QDw.sig) → Buf (Elt Bits) ℓ) (g : Dev Cert.QDw.nD → PrngReg), Pre_QDw m →
    θ_run (Cert.QDw.defs (F := Bits)) (onTc (τ := Cert.QDw.τ) (Cert.QDw.main (F := Bits))) ⟨m, fun _ => 0, g⟩ (fun r => (∀ c : Dev Cert.QDw.nD,
      r.2.mem ((c.tc : Thread Cert.QDw.nD Cert.QDw.τ).loc Cert.QDw.main_arg0) = m ((c.tc : Thread Cert.QDw.nD Cert.QDw.τ).loc Cert.QDw.main_arg0)
      ∧ r.2.mem ((c.tc : Thread Cert.QDw.nD Cert.QDw.τ).loc Cert.QDw.main_arg1) = m ((c.tc : Thread Cert.QDw.nD Cert.QDw.τ).loc Cert.QDw.main_arg1))
      ∧ r.2.sem = fun _ => 0)

def quiescent_QDwIdeal [hQDwIdeal : Cert.QDwIdeal.Facts] : Prop :=
  ∀ (m : (ℓ : Loc Cert.QDwIdeal.nD Cert.QDwIdeal.τ Cert.QDwIdeal.sig) → Buf (Elt Ideal) ℓ) (g : Dev Cert.QDwIdeal.nD → PrngReg), Pre_QDwIdeal m →
    θ_run (Cert.QDwIdeal.defs (F := Ideal)) (onTc (τ := Cert.QDwIdeal.τ) (Cert.QDwIdeal.main (F := Ideal))) ⟨m, fun _ => 0, g⟩ (fun r => (∀ c : Dev Cert.QDwIdeal.nD,
      r.2.mem ((c.tc : Thread Cert.QDwIdeal.nD Cert.QDwIdeal.τ).loc Cert.QDwIdeal.main_arg0) = m ((c.tc : Thread Cert.QDwIdeal.nD Cert.QDwIdeal.τ).loc Cert.QDwIdeal.main_arg0)
      ∧ r.2.mem ((c.tc : Thread Cert.QDwIdeal.nD Cert.QDwIdeal.τ).loc Cert.QDwIdeal.main_arg1) = m ((c.tc : Thread Cert.QDwIdeal.nD Cert.QDwIdeal.τ).loc Cert.QDwIdeal.main_arg1))
      ∧ r.2.sem = fun _ => 0)

def quiescent_QDwRefIdeal [hQDwRefIdeal : Cert.QDwRefIdeal.Facts] : Prop :=
  ∀ (m : (ℓ : Loc Cert.QDwRefIdeal.nD Cert.QDwRefIdeal.τ Cert.QDwRefIdeal.sig) → Buf (Elt Ideal) ℓ) (g : Dev Cert.QDwRefIdeal.nD → PrngReg), Pre_QDwRefIdeal m →
    θ_run (Cert.QDwRefIdeal.defs (F := Ideal)) (onTc (τ := Cert.QDwRefIdeal.τ) (Cert.QDwRefIdeal.main (F := Ideal))) ⟨m, fun _ => 0, g⟩ (fun r => (∀ c : Dev Cert.QDwRefIdeal.nD,
      r.2.mem ((c.tc : Thread Cert.QDwRefIdeal.nD Cert.QDwRefIdeal.τ).loc Cert.QDwRefIdeal.main_arg0) = m ((c.tc : Thread Cert.QDwRefIdeal.nD Cert.QDwRefIdeal.τ).loc Cert.QDwRefIdeal.main_arg0)
      ∧ r.2.mem ((c.tc : Thread Cert.QDwRefIdeal.nD Cert.QDwRefIdeal.τ).loc Cert.QDwRefIdeal.main_arg1) = m ((c.tc : Thread Cert.QDwRefIdeal.nD Cert.QDwRefIdeal.τ).loc Cert.QDwRefIdeal.main_arg1))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1))
      ∧ r.2.sem = fun _ => 0)

def quiescent_QProjRefIdeal [hQProjRefIdeal : Cert.QProjRefIdeal.Facts] : Prop :=
  ∀ (m : (ℓ : Loc Cert.QProjRefIdeal.nD Cert.QProjRefIdeal.τ Cert.QProjRefIdeal.sig) → Buf (Elt Ideal) ℓ) (g : Dev Cert.QProjRefIdeal.nD → PrngReg), Pre_QProjRefIdeal m →
    θ_run (Cert.QProjRefIdeal.defs (F := Ideal)) (onTc (τ := Cert.QProjRefIdeal.τ) (Cert.QProjRefIdeal.main (F := Ideal))) ⟨m, fun _ => 0, g⟩ (fun r => (∀ c : Dev Cert.QProjRefIdeal.nD,
      r.2.mem ((c.tc : Thread Cert.QProjRefIdeal.nD Cert.QProjRefIdeal.τ).loc Cert.QProjRefIdeal.main_arg0) = m ((c.tc : Thread Cert.QProjRefIdeal.nD Cert.QProjRefIdeal.τ).loc Cert.QProjRefIdeal.main_arg0)
      ∧ r.2.mem ((c.tc : Thread Cert.QProjRefIdeal.nD Cert.QProjRefIdeal.τ).loc Cert.QProjRefIdeal.main_arg1) = m ((c.tc : Thread Cert.QProjRefIdeal.nD Cert.QProjRefIdeal.τ).loc Cert.QProjRefIdeal.main_arg1))
      ∧ r.2.sem = fun _ => 0)

def quiescent_OBwd [hOBwd : Cert.OBwd.Facts] : Prop :=
  ∀ (m : (ℓ : Loc Cert.OBwd.nD Cert.OBwd.τ Cert.OBwd.sig) → Buf (Elt Bits) ℓ) (g : Dev Cert.OBwd.nD → PrngReg), Pre_OBwd m →
    θ_run (Cert.OBwd.defs (F := Bits)) (onTc (τ := Cert.OBwd.τ) (Cert.OBwd.main (F := Bits))) ⟨m, fun _ => 0, g⟩ (fun r => (∀ c : Dev Cert.OBwd.nD,
      r.2.mem ((c.tc : Thread Cert.OBwd.nD Cert.OBwd.τ).loc Cert.OBwd.main_arg0) = m ((c.tc : Thread Cert.OBwd.nD Cert.OBwd.τ).loc Cert.OBwd.main_arg0)
      ∧ r.2.mem ((c.tc : Thread Cert.OBwd.nD Cert.OBwd.τ).loc Cert.OBwd.main_arg1) = m ((c.tc : Thread Cert.OBwd.nD Cert.OBwd.τ).loc Cert.OBwd.main_arg1))
      ∧ r.2.sem = fun _ => 0)

def quiescent_OBwdIdeal [hOBwdIdeal : Cert.OBwdIdeal.Facts] : Prop :=
  ∀ (m : (ℓ : Loc Cert.OBwdIdeal.nD Cert.OBwdIdeal.τ Cert.OBwdIdeal.sig) → Buf (Elt Ideal) ℓ) (g : Dev Cert.OBwdIdeal.nD → PrngReg), Pre_OBwdIdeal m →
    θ_run (Cert.OBwdIdeal.defs (F := Ideal)) (onTc (τ := Cert.OBwdIdeal.τ) (Cert.OBwdIdeal.main (F := Ideal))) ⟨m, fun _ => 0, g⟩ (fun r => (∀ c : Dev Cert.OBwdIdeal.nD,
      r.2.mem ((c.tc : Thread Cert.OBwdIdeal.nD Cert.OBwdIdeal.τ).loc Cert.OBwdIdeal.main_arg0) = m ((c.tc : Thread Cert.OBwdIdeal.nD Cert.OBwdIdeal.τ).loc Cert.OBwdIdeal.main_arg0)
      ∧ r.2.mem ((c.tc : Thread Cert.OBwdIdeal.nD Cert.OBwdIdeal.τ).loc Cert.OBwdIdeal.main_arg1) = m ((c.tc : Thread Cert.OBwdIdeal.nD Cert.OBwdIdeal.τ).loc Cert.OBwdIdeal.main_arg1))
      ∧ r.2.sem = fun _ => 0)

def quiescent_OBwdRefIdeal [hOBwdRefIdeal : Cert.OBwdRefIdeal.Facts] : Prop :=
  ∀ (m : (ℓ : Loc Cert.OBwdRefIdeal.nD Cert.OBwdRefIdeal.τ Cert.OBwdRefIdeal.sig) → Buf (Elt Ideal) ℓ) (g : Dev Cert.OBwdRefIdeal.nD → PrngReg), Pre_OBwdRefIdeal m →
    θ_run (Cert.OBwdRefIdeal.defs (F := Ideal)) (onTc (τ := Cert.OBwdRefIdeal.τ) (Cert.OBwdRefIdeal.main (F := Ideal))) ⟨m, fun _ => 0, g⟩ (fun r => (∀ c : Dev Cert.OBwdRefIdeal.nD,
      r.2.mem ((c.tc : Thread Cert.OBwdRefIdeal.nD Cert.OBwdRefIdeal.τ).loc Cert.OBwdRefIdeal.main_arg0) = m ((c.tc : Thread Cert.OBwdRefIdeal.nD Cert.OBwdRefIdeal.τ).loc Cert.OBwdRefIdeal.main_arg0)
      ∧ r.2.mem ((c.tc : Thread Cert.OBwdRefIdeal.nD Cert.OBwdRefIdeal.τ).loc Cert.OBwdRefIdeal.main_arg1) = m ((c.tc : Thread Cert.OBwdRefIdeal.nD Cert.OBwdRefIdeal.τ).loc Cert.OBwdRefIdeal.main_arg1))
      ∧ r.2.sem = fun _ => 0)

def quiescent_ODw [hODw : Cert.ODw.Facts] : Prop :=
  ∀ (m : (ℓ : Loc Cert.ODw.nD Cert.ODw.τ Cert.ODw.sig) → Buf (Elt Bits) ℓ) (g : Dev Cert.ODw.nD → PrngReg), Pre_ODw m →
    θ_run (Cert.ODw.defs (F := Bits)) (onTc (τ := Cert.ODw.τ) (Cert.ODw.main (F := Bits))) ⟨m, fun _ => 0, g⟩ (fun r => (∀ c : Dev Cert.ODw.nD,
      r.2.mem ((c.tc : Thread Cert.ODw.nD Cert.ODw.τ).loc Cert.ODw.main_arg0) = m ((c.tc : Thread Cert.ODw.nD Cert.ODw.τ).loc Cert.ODw.main_arg0)
      ∧ r.2.mem ((c.tc : Thread Cert.ODw.nD Cert.ODw.τ).loc Cert.ODw.main_arg1) = m ((c.tc : Thread Cert.ODw.nD Cert.ODw.τ).loc Cert.ODw.main_arg1))
      ∧ r.2.sem = fun _ => 0)

def quiescent_ODwIdeal [hODwIdeal : Cert.ODwIdeal.Facts] : Prop :=
  ∀ (m : (ℓ : Loc Cert.ODwIdeal.nD Cert.ODwIdeal.τ Cert.ODwIdeal.sig) → Buf (Elt Ideal) ℓ) (g : Dev Cert.ODwIdeal.nD → PrngReg), Pre_ODwIdeal m →
    θ_run (Cert.ODwIdeal.defs (F := Ideal)) (onTc (τ := Cert.ODwIdeal.τ) (Cert.ODwIdeal.main (F := Ideal))) ⟨m, fun _ => 0, g⟩ (fun r => (∀ c : Dev Cert.ODwIdeal.nD,
      r.2.mem ((c.tc : Thread Cert.ODwIdeal.nD Cert.ODwIdeal.τ).loc Cert.ODwIdeal.main_arg0) = m ((c.tc : Thread Cert.ODwIdeal.nD Cert.ODwIdeal.τ).loc Cert.ODwIdeal.main_arg0)
      ∧ r.2.mem ((c.tc : Thread Cert.ODwIdeal.nD Cert.ODwIdeal.τ).loc Cert.ODwIdeal.main_arg1) = m ((c.tc : Thread Cert.ODwIdeal.nD Cert.ODwIdeal.τ).loc Cert.ODwIdeal.main_arg1))
      ∧ r.2.sem = fun _ => 0)

def quiescent_ODwRefIdeal [hODwRefIdeal : Cert.ODwRefIdeal.Facts] : Prop :=
  ∀ (m : (ℓ : Loc Cert.ODwRefIdeal.nD Cert.ODwRefIdeal.τ Cert.ODwRefIdeal.sig) → Buf (Elt Ideal) ℓ) (g : Dev Cert.ODwRefIdeal.nD → PrngReg), Pre_ODwRefIdeal m →
    θ_run (Cert.ODwRefIdeal.defs (F := Ideal)) (onTc (τ := Cert.ODwRefIdeal.τ) (Cert.ODwRefIdeal.main (F := Ideal))) ⟨m, fun _ => 0, g⟩ (fun r => (∀ c : Dev Cert.ODwRefIdeal.nD,
      r.2.mem ((c.tc : Thread Cert.ODwRefIdeal.nD Cert.ODwRefIdeal.τ).loc Cert.ODwRefIdeal.main_arg0) = m ((c.tc : Thread Cert.ODwRefIdeal.nD Cert.ODwRefIdeal.τ).loc Cert.ODwRefIdeal.main_arg0)
      ∧ r.2.mem ((c.tc : Thread Cert.ODwRefIdeal.nD Cert.ODwRefIdeal.τ).loc Cert.ODwRefIdeal.main_arg1) = m ((c.tc : Thread Cert.ODwRefIdeal.nD Cert.ODwRefIdeal.τ).loc Cert.ODwRefIdeal.main_arg1))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3))
      ∧ r.2.sem = fun _ => 0)

def quiescent_AdamLn [hAdamLn : Cert.AdamLn.Facts] : Prop :=
  ∀ (m : (ℓ : Loc Cert.AdamLn.nD Cert.AdamLn.τ Cert.AdamLn.sig) → Buf (Elt Bits) ℓ) (g : Dev Cert.AdamLn.nD → PrngReg), Pre_AdamLn m →
    θ_run (Cert.AdamLn.defs (F := Bits)) (onTc (τ := Cert.AdamLn.τ) (Cert.AdamLn.main (F := Bits))) ⟨m, fun _ => 0, g⟩ (fun r => (∀ c : Dev Cert.AdamLn.nD,
      r.2.mem ((c.tc : Thread Cert.AdamLn.nD Cert.AdamLn.τ).loc Cert.AdamLn.main_arg0) = m ((c.tc : Thread Cert.AdamLn.nD Cert.AdamLn.τ).loc Cert.AdamLn.main_arg0)
      ∧ r.2.mem ((c.tc : Thread Cert.AdamLn.nD Cert.AdamLn.τ).loc Cert.AdamLn.main_arg1) = m ((c.tc : Thread Cert.AdamLn.nD Cert.AdamLn.τ).loc Cert.AdamLn.main_arg1)
      ∧ r.2.mem ((c.tc : Thread Cert.AdamLn.nD Cert.AdamLn.τ).loc Cert.AdamLn.main_arg2) = m ((c.tc : Thread Cert.AdamLn.nD Cert.AdamLn.τ).loc Cert.AdamLn.main_arg2)
      ∧ r.2.mem ((c.tc : Thread Cert.AdamLn.nD Cert.AdamLn.τ).loc Cert.AdamLn.main_arg3) = m ((c.tc : Thread Cert.AdamLn.nD Cert.AdamLn.τ).loc Cert.AdamLn.main_arg3))
      ∧ r.2.sem = fun _ => 0)

def quiescent_AdamLnIdeal [hAdamLnIdeal : Cert.AdamLnIdeal.Facts] : Prop :=
  ∀ (m : (ℓ : Loc Cert.AdamLnIdeal.nD Cert.AdamLnIdeal.τ Cert.AdamLnIdeal.sig) → Buf (Elt Ideal) ℓ) (g : Dev Cert.AdamLnIdeal.nD → PrngReg), Pre_AdamLnIdeal m →
    θ_run (Cert.AdamLnIdeal.defs (F := Ideal)) (onTc (τ := Cert.AdamLnIdeal.τ) (Cert.AdamLnIdeal.main (F := Ideal))) ⟨m, fun _ => 0, g⟩ (fun r => (∀ c : Dev Cert.AdamLnIdeal.nD,
      r.2.mem ((c.tc : Thread Cert.AdamLnIdeal.nD Cert.AdamLnIdeal.τ).loc Cert.AdamLnIdeal.main_arg0) = m ((c.tc : Thread Cert.AdamLnIdeal.nD Cert.AdamLnIdeal.τ).loc Cert.AdamLnIdeal.main_arg0)
      ∧ r.2.mem ((c.tc : Thread Cert.AdamLnIdeal.nD Cert.AdamLnIdeal.τ).loc Cert.AdamLnIdeal.main_arg1) = m ((c.tc : Thread Cert.AdamLnIdeal.nD Cert.AdamLnIdeal.τ).loc Cert.AdamLnIdeal.main_arg1)
      ∧ r.2.mem ((c.tc : Thread Cert.AdamLnIdeal.nD Cert.AdamLnIdeal.τ).loc Cert.AdamLnIdeal.main_arg2) = m ((c.tc : Thread Cert.AdamLnIdeal.nD Cert.AdamLnIdeal.τ).loc Cert.AdamLnIdeal.main_arg2)
      ∧ r.2.mem ((c.tc : Thread Cert.AdamLnIdeal.nD Cert.AdamLnIdeal.τ).loc Cert.AdamLnIdeal.main_arg3) = m ((c.tc : Thread Cert.AdamLnIdeal.nD Cert.AdamLnIdeal.τ).loc Cert.AdamLnIdeal.main_arg3))
      ∧ r.2.sem = fun _ => 0)

def quiescent_AdamLnRefIdeal [hAdamLnRefIdeal : Cert.AdamLnRefIdeal.Facts] : Prop :=
  ∀ (m : (ℓ : Loc Cert.AdamLnRefIdeal.nD Cert.AdamLnRefIdeal.τ Cert.AdamLnRefIdeal.sig) → Buf (Elt Ideal) ℓ) (g : Dev Cert.AdamLnRefIdeal.nD → PrngReg), Pre_AdamLnRefIdeal m →
    θ_run (Cert.AdamLnRefIdeal.defs (F := Ideal)) (onTc (τ := Cert.AdamLnRefIdeal.τ) (Cert.AdamLnRefIdeal.main (F := Ideal))) ⟨m, fun _ => 0, g⟩ (fun r => (∀ c : Dev Cert.AdamLnRefIdeal.nD,
      r.2.mem ((c.tc : Thread Cert.AdamLnRefIdeal.nD Cert.AdamLnRefIdeal.τ).loc Cert.AdamLnRefIdeal.main_arg0) = m ((c.tc : Thread Cert.AdamLnRefIdeal.nD Cert.AdamLnRefIdeal.τ).loc Cert.AdamLnRefIdeal.main_arg0)
      ∧ r.2.mem ((c.tc : Thread Cert.AdamLnRefIdeal.nD Cert.AdamLnRefIdeal.τ).loc Cert.AdamLnRefIdeal.main_arg1) = m ((c.tc : Thread Cert.AdamLnRefIdeal.nD Cert.AdamLnRefIdeal.τ).loc Cert.AdamLnRefIdeal.main_arg1)
      ∧ r.2.mem ((c.tc : Thread Cert.AdamLnRefIdeal.nD Cert.AdamLnRefIdeal.τ).loc Cert.AdamLnRefIdeal.main_arg2) = m ((c.tc : Thread Cert.AdamLnRefIdeal.nD Cert.AdamLnRefIdeal.τ).loc Cert.AdamLnRefIdeal.main_arg2)
      ∧ r.2.mem ((c.tc : Thread Cert.AdamLnRefIdeal.nD Cert.AdamLnRefIdeal.τ).loc Cert.AdamLnRefIdeal.main_arg3) = m ((c.tc : Thread Cert.AdamLnRefIdeal.nD Cert.AdamLnRefIdeal.τ).loc Cert.AdamLnRefIdeal.main_arg3))
      ∧ r.2.sem = fun _ => 0)

def quiescent_AdamConvB [hAdamConvB : Cert.AdamConvB.Facts] : Prop :=
  ∀ (m : (ℓ : Loc Cert.AdamConvB.nD Cert.AdamConvB.τ Cert.AdamConvB.sig) → Buf (Elt Bits) ℓ) (g : Dev Cert.AdamConvB.nD → PrngReg), Pre_AdamConvB m →
    θ_run (Cert.AdamConvB.defs (F := Bits)) (onTc (τ := Cert.AdamConvB.τ) (Cert.AdamConvB.main (F := Bits))) ⟨m, fun _ => 0, g⟩ (fun r => (∀ c : Dev Cert.AdamConvB.nD,
      r.2.mem ((c.tc : Thread Cert.AdamConvB.nD Cert.AdamConvB.τ).loc Cert.AdamConvB.main_arg0) = m ((c.tc : Thread Cert.AdamConvB.nD Cert.AdamConvB.τ).loc Cert.AdamConvB.main_arg0)
      ∧ r.2.mem ((c.tc : Thread Cert.AdamConvB.nD Cert.AdamConvB.τ).loc Cert.AdamConvB.main_arg1) = m ((c.tc : Thread Cert.AdamConvB.nD Cert.AdamConvB.τ).loc Cert.AdamConvB.main_arg1)
      ∧ r.2.mem ((c.tc : Thread Cert.AdamConvB.nD Cert.AdamConvB.τ).loc Cert.AdamConvB.main_arg2) = m ((c.tc : Thread Cert.AdamConvB.nD Cert.AdamConvB.τ).loc Cert.AdamConvB.main_arg2)
      ∧ r.2.mem ((c.tc : Thread Cert.AdamConvB.nD Cert.AdamConvB.τ).loc Cert.AdamConvB.main_arg3) = m ((c.tc : Thread Cert.AdamConvB.nD Cert.AdamConvB.τ).loc Cert.AdamConvB.main_arg3))
      ∧ r.2.sem = fun _ => 0)

def quiescent_AdamConvBIdeal [hAdamConvBIdeal : Cert.AdamConvBIdeal.Facts] : Prop :=
  ∀ (m : (ℓ : Loc Cert.AdamConvBIdeal.nD Cert.AdamConvBIdeal.τ Cert.AdamConvBIdeal.sig) → Buf (Elt Ideal) ℓ) (g : Dev Cert.AdamConvBIdeal.nD → PrngReg), Pre_AdamConvBIdeal m →
    θ_run (Cert.AdamConvBIdeal.defs (F := Ideal)) (onTc (τ := Cert.AdamConvBIdeal.τ) (Cert.AdamConvBIdeal.main (F := Ideal))) ⟨m, fun _ => 0, g⟩ (fun r => (∀ c : Dev Cert.AdamConvBIdeal.nD,
      r.2.mem ((c.tc : Thread Cert.AdamConvBIdeal.nD Cert.AdamConvBIdeal.τ).loc Cert.AdamConvBIdeal.main_arg0) = m ((c.tc : Thread Cert.AdamConvBIdeal.nD Cert.AdamConvBIdeal.τ).loc Cert.AdamConvBIdeal.main_arg0)
      ∧ r.2.mem ((c.tc : Thread Cert.AdamConvBIdeal.nD Cert.AdamConvBIdeal.τ).loc Cert.AdamConvBIdeal.main_arg1) = m ((c.tc : Thread Cert.AdamConvBIdeal.nD Cert.AdamConvBIdeal.τ).loc Cert.AdamConvBIdeal.main_arg1)
      ∧ r.2.mem ((c.tc : Thread Cert.AdamConvBIdeal.nD Cert.AdamConvBIdeal.τ).loc Cert.AdamConvBIdeal.main_arg2) = m ((c.tc : Thread Cert.AdamConvBIdeal.nD Cert.AdamConvBIdeal.τ).loc Cert.AdamConvBIdeal.main_arg2)
      ∧ r.2.mem ((c.tc : Thread Cert.AdamConvBIdeal.nD Cert.AdamConvBIdeal.τ).loc Cert.AdamConvBIdeal.main_arg3) = m ((c.tc : Thread Cert.AdamConvBIdeal.nD Cert.AdamConvBIdeal.τ).loc Cert.AdamConvBIdeal.main_arg3))
      ∧ r.2.sem = fun _ => 0)

def quiescent_AdamConvBRefIdeal [hAdamConvBRefIdeal : Cert.AdamConvBRefIdeal.Facts] : Prop :=
  ∀ (m : (ℓ : Loc Cert.AdamConvBRefIdeal.nD Cert.AdamConvBRefIdeal.τ Cert.AdamConvBRefIdeal.sig) → Buf (Elt Ideal) ℓ) (g : Dev Cert.AdamConvBRefIdeal.nD → PrngReg), Pre_AdamConvBRefIdeal m →
    θ_run (Cert.AdamConvBRefIdeal.defs (F := Ideal)) (onTc (τ := Cert.AdamConvBRefIdeal.τ) (Cert.AdamConvBRefIdeal.main (F := Ideal))) ⟨m, fun _ => 0, g⟩ (fun r => (∀ c : Dev Cert.AdamConvBRefIdeal.nD,
      r.2.mem ((c.tc : Thread Cert.AdamConvBRefIdeal.nD Cert.AdamConvBRefIdeal.τ).loc Cert.AdamConvBRefIdeal.main_arg0) = m ((c.tc : Thread Cert.AdamConvBRefIdeal.nD Cert.AdamConvBRefIdeal.τ).loc Cert.AdamConvBRefIdeal.main_arg0)
      ∧ r.2.mem ((c.tc : Thread Cert.AdamConvBRefIdeal.nD Cert.AdamConvBRefIdeal.τ).loc Cert.AdamConvBRefIdeal.main_arg1) = m ((c.tc : Thread Cert.AdamConvBRefIdeal.nD Cert.AdamConvBRefIdeal.τ).loc Cert.AdamConvBRefIdeal.main_arg1)
      ∧ r.2.mem ((c.tc : Thread Cert.AdamConvBRefIdeal.nD Cert.AdamConvBRefIdeal.τ).loc Cert.AdamConvBRefIdeal.main_arg2) = m ((c.tc : Thread Cert.AdamConvBRefIdeal.nD Cert.AdamConvBRefIdeal.τ).loc Cert.AdamConvBRefIdeal.main_arg2)
      ∧ r.2.mem ((c.tc : Thread Cert.AdamConvBRefIdeal.nD Cert.AdamConvBRefIdeal.τ).loc Cert.AdamConvBRefIdeal.main_arg3) = m ((c.tc : Thread Cert.AdamConvBRefIdeal.nD Cert.AdamConvBRefIdeal.τ).loc Cert.AdamConvBRefIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3)
      ∧ r.2.mem ((c.tc : Thread Cert.AdamKv.nD Cert.AdamKv.τ).loc Cert.AdamKv.main_arg4) = m ((c.tc : Thread Cert.AdamKv.nD Cert.AdamKv.τ).loc Cert.AdamKv.main_arg4)
      ∧ r.2.mem ((c.tc : Thread Cert.AdamKv.nD Cert.AdamKv.τ).loc Cert.AdamKv.main_arg5) = m ((c.tc : Thread Cert.AdamKv.nD Cert.AdamKv.τ).loc Cert.AdamKv.main_arg5))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3)
      ∧ r.2.mem ((c.tc : Thread Cert.AdamKvIdeal.nD Cert.AdamKvIdeal.τ).loc Cert.AdamKvIdeal.main_arg4) = m ((c.tc : Thread Cert.AdamKvIdeal.nD Cert.AdamKvIdeal.τ).loc Cert.AdamKvIdeal.main_arg4)
      ∧ r.2.mem ((c.tc : Thread Cert.AdamKvIdeal.nD Cert.AdamKvIdeal.τ).loc Cert.AdamKvIdeal.main_arg5) = m ((c.tc : Thread Cert.AdamKvIdeal.nD Cert.AdamKvIdeal.τ).loc Cert.AdamKvIdeal.main_arg5))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3)
      ∧ r.2.mem ((c.tc : Thread Cert.AdamKvRefIdeal.nD Cert.AdamKvRefIdeal.τ).loc Cert.AdamKvRefIdeal.main_arg4) = m ((c.tc : Thread Cert.AdamKvRefIdeal.nD Cert.AdamKvRefIdeal.τ).loc Cert.AdamKvRefIdeal.main_arg4)
      ∧ r.2.mem ((c.tc : Thread Cert.AdamKvRefIdeal.nD Cert.AdamKvRefIdeal.τ).loc Cert.AdamKvRefIdeal.main_arg5) = m ((c.tc : Thread Cert.AdamKvRefIdeal.nD Cert.AdamKvRefIdeal.τ).loc Cert.AdamKvRefIdeal.main_arg5))
      ∧ r.2.sem = fun _ => 0)

def quiescent_AdamPoolW [hAdamPoolW : Cert.AdamPoolW.Facts] : Prop :=
  ∀ (m : (ℓ : Loc Cert.AdamPoolW.nD Cert.AdamPoolW.τ Cert.AdamPoolW.sig) → Buf (Elt Bits) ℓ) (g : Dev Cert.AdamPoolW.nD → PrngReg), Pre_AdamPoolW m →
    θ_run (Cert.AdamPoolW.defs (F := Bits)) (onTc (τ := Cert.AdamPoolW.τ) (Cert.AdamPoolW.main (F := Bits))) ⟨m, fun _ => 0, g⟩ (fun r => (∀ c : Dev Cert.AdamPoolW.nD,
      r.2.mem ((c.tc : Thread Cert.AdamPoolW.nD Cert.AdamPoolW.τ).loc Cert.AdamPoolW.main_arg0) = m ((c.tc : Thread Cert.AdamPoolW.nD Cert.AdamPoolW.τ).loc Cert.AdamPoolW.main_arg0)
      ∧ r.2.mem ((c.tc : Thread Cert.AdamPoolW.nD Cert.AdamPoolW.τ).loc Cert.AdamPoolW.main_arg1) = m ((c.tc : Thread Cert.AdamPoolW.nD Cert.AdamPoolW.τ).loc Cert.AdamPoolW.main_arg1)
      ∧ r.2.mem ((c.tc : Thread Cert.AdamPoolW.nD Cert.AdamPoolW.τ).loc Cert.AdamPoolW.main_arg2) = m ((c.tc : Thread Cert.AdamPoolW.nD Cert.AdamPoolW.τ).loc Cert.AdamPoolW.main_arg2)
      ∧ r.2.mem ((c.tc : Thread Cert.AdamPoolW.nD Cert.AdamPoolW.τ).loc Cert.AdamPoolW.main_arg3) = m ((c.tc : Thread Cert.AdamPoolW.nD Cert.AdamPoolW.τ).loc Cert.AdamPoolW.main_arg3)
      ∧ r.2.mem ((c.tc : Thread Cert.AdamPoolW.nD Cert.AdamPoolW.τ).loc Cert.AdamPoolW.main_arg4) = m ((c.tc : Thread Cert.AdamPoolW.nD Cert.AdamPoolW.τ).loc Cert.AdamPoolW.main_arg4)
      ∧ r.2.mem ((c.tc : Thread Cert.AdamPoolW.nD Cert.AdamPoolW.τ).loc Cert.AdamPoolW.main_arg5) = m ((c.tc : Thread Cert.AdamPoolW.nD Cert.AdamPoolW.τ).loc Cert.AdamPoolW.main_arg5))
      ∧ r.2.sem = fun _ => 0)

def quiescent_AdamPoolWIdeal [hAdamPoolWIdeal : Cert.AdamPoolWIdeal.Facts] : Prop :=
  ∀ (m : (ℓ : Loc Cert.AdamPoolWIdeal.nD Cert.AdamPoolWIdeal.τ Cert.AdamPoolWIdeal.sig) → Buf (Elt Ideal) ℓ) (g : Dev Cert.AdamPoolWIdeal.nD → PrngReg), Pre_AdamPoolWIdeal m →
    θ_run (Cert.AdamPoolWIdeal.defs (F := Ideal)) (onTc (τ := Cert.AdamPoolWIdeal.τ) (Cert.AdamPoolWIdeal.main (F := Ideal))) ⟨m, fun _ => 0, g⟩ (fun r => (∀ c : Dev Cert.AdamPoolWIdeal.nD,
      r.2.mem ((c.tc : Thread Cert.AdamPoolWIdeal.nD Cert.AdamPoolWIdeal.τ).loc Cert.AdamPoolWIdeal.main_arg0) = m ((c.tc : Thread Cert.AdamPoolWIdeal.nD Cert.AdamPoolWIdeal.τ).loc Cert.AdamPoolWIdeal.main_arg0)
      ∧ r.2.mem ((c.tc : Thread Cert.AdamPoolWIdeal.nD Cert.AdamPoolWIdeal.τ).loc Cert.AdamPoolWIdeal.main_arg1) = m ((c.tc : Thread Cert.AdamPoolWIdeal.nD Cert.AdamPoolWIdeal.τ).loc Cert.AdamPoolWIdeal.main_arg1)
      ∧ r.2.mem ((c.tc : Thread Cert.AdamPoolWIdeal.nD Cert.AdamPoolWIdeal.τ).loc Cert.AdamPoolWIdeal.main_arg2) = m ((c.tc : Thread Cert.AdamPoolWIdeal.nD Cert.AdamPoolWIdeal.τ).loc Cert.AdamPoolWIdeal.main_arg2)
      ∧ r.2.mem ((c.tc : Thread Cert.AdamPoolWIdeal.nD Cert.AdamPoolWIdeal.τ).loc Cert.AdamPoolWIdeal.main_arg3) = m ((c.tc : Thread Cert.AdamPoolWIdeal.nD Cert.AdamPoolWIdeal.τ).loc Cert.AdamPoolWIdeal.main_arg3)
      ∧ r.2.mem ((c.tc : Thread Cert.AdamPoolWIdeal.nD Cert.AdamPoolWIdeal.τ).loc Cert.AdamPoolWIdeal.main_arg4) = m ((c.tc : Thread Cert.AdamPoolWIdeal.nD Cert.AdamPoolWIdeal.τ).loc Cert.AdamPoolWIdeal.main_arg4)
      ∧ r.2.mem ((c.tc : Thread Cert.AdamPoolWIdeal.nD Cert.AdamPoolWIdeal.τ).loc Cert.AdamPoolWIdeal.main_arg5) = m ((c.tc : Thread Cert.AdamPoolWIdeal.nD Cert.AdamPoolWIdeal.τ).loc Cert.AdamPoolWIdeal.main_arg5))
      ∧ r.2.sem = fun _ => 0)

def quiescent_AdamPoolWRefIdeal [hAdamPoolWRefIdeal : Cert.AdamPoolWRefIdeal.Facts] : Prop :=
  ∀ (m : (ℓ : Loc Cert.AdamPoolWRefIdeal.nD Cert.AdamPoolWRefIdeal.τ Cert.AdamPoolWRefIdeal.sig) → Buf (Elt Ideal) ℓ) (g : Dev Cert.AdamPoolWRefIdeal.nD → PrngReg), Pre_AdamPoolWRefIdeal m →
    θ_run (Cert.AdamPoolWRefIdeal.defs (F := Ideal)) (onTc (τ := Cert.AdamPoolWRefIdeal.τ) (Cert.AdamPoolWRefIdeal.main (F := Ideal))) ⟨m, fun _ => 0, g⟩ (fun r => (∀ c : Dev Cert.AdamPoolWRefIdeal.nD,
      r.2.mem ((c.tc : Thread Cert.AdamPoolWRefIdeal.nD Cert.AdamPoolWRefIdeal.τ).loc Cert.AdamPoolWRefIdeal.main_arg0) = m ((c.tc : Thread Cert.AdamPoolWRefIdeal.nD Cert.AdamPoolWRefIdeal.τ).loc Cert.AdamPoolWRefIdeal.main_arg0)
      ∧ r.2.mem ((c.tc : Thread Cert.AdamPoolWRefIdeal.nD Cert.AdamPoolWRefIdeal.τ).loc Cert.AdamPoolWRefIdeal.main_arg1) = m ((c.tc : Thread Cert.AdamPoolWRefIdeal.nD Cert.AdamPoolWRefIdeal.τ).loc Cert.AdamPoolWRefIdeal.main_arg1)
      ∧ r.2.mem ((c.tc : Thread Cert.AdamPoolWRefIdeal.nD Cert.AdamPoolWRefIdeal.τ).loc Cert.AdamPoolWRefIdeal.main_arg2) = m ((c.tc : Thread Cert.AdamPoolWRefIdeal.nD Cert.AdamPoolWRefIdeal.τ).loc Cert.AdamPoolWRefIdeal.main_arg2)
      ∧ r.2.mem ((c.tc : Thread Cert.AdamPoolWRefIdeal.nD Cert.AdamPoolWRefIdeal.τ).loc Cert.AdamPoolWRefIdeal.main_arg3) = m ((c.tc : Thread Cert.AdamPoolWRefIdeal.nD Cert.AdamPoolWRefIdeal.τ).loc Cert.AdamPoolWRefIdeal.main_arg3)
      ∧ r.2.mem ((c.tc : Thread Cert.AdamPoolWRefIdeal.nD Cert.AdamPoolWRefIdeal.τ).loc Cert.AdamPoolWRefIdeal.main_arg4) = m ((c.tc : Thread Cert.AdamPoolWRefIdeal.nD Cert.AdamPoolWRefIdeal.τ).loc Cert.AdamPoolWRefIdeal.main_arg4)
      ∧ r.2.mem ((c.tc : Thread Cert.AdamPoolWRefIdeal.nD Cert.AdamPoolWRefIdeal.τ).loc Cert.AdamPoolWRefIdeal.main_arg5) = m ((c.tc : Thread Cert.AdamPoolWRefIdeal.nD Cert.AdamPoolWRefIdeal.τ).loc Cert.AdamPoolWRefIdeal.main_arg5))
      ∧ r.2.sem = fun _ => 0)

def quiescent_AdamPoolScale [hAdamPoolScale : Cert.AdamPoolScale.Facts] : Prop :=
  ∀ (m : (ℓ : Loc Cert.AdamPoolScale.nD Cert.AdamPoolScale.τ Cert.AdamPoolScale.sig) → Buf (Elt Bits) ℓ) (g : Dev Cert.AdamPoolScale.nD → PrngReg), Pre_AdamPoolScale m →
    θ_run (Cert.AdamPoolScale.defs (F := Bits)) (onTc (τ := Cert.AdamPoolScale.τ) (Cert.AdamPoolScale.main (F := Bits))) ⟨m, fun _ => 0, g⟩ (fun r => (∀ c : Dev Cert.AdamPoolScale.nD,
      r.2.mem ((c.tc : Thread Cert.AdamPoolScale.nD Cert.AdamPoolScale.τ).loc Cert.AdamPoolScale.main_arg0) = m ((c.tc : Thread Cert.AdamPoolScale.nD Cert.AdamPoolScale.τ).loc Cert.AdamPoolScale.main_arg0)
      ∧ r.2.mem ((c.tc : Thread Cert.AdamPoolScale.nD Cert.AdamPoolScale.τ).loc Cert.AdamPoolScale.main_arg1) = m ((c.tc : Thread Cert.AdamPoolScale.nD Cert.AdamPoolScale.τ).loc Cert.AdamPoolScale.main_arg1)
      ∧ r.2.mem ((c.tc : Thread Cert.AdamPoolScale.nD Cert.AdamPoolScale.τ).loc Cert.AdamPoolScale.main_arg2) = m ((c.tc : Thread Cert.AdamPoolScale.nD Cert.AdamPoolScale.τ).loc Cert.AdamPoolScale.main_arg2)
      ∧ r.2.mem ((c.tc : Thread Cert.AdamPoolScale.nD Cert.AdamPoolScale.τ).loc Cert.AdamPoolScale.main_arg3) = m ((c.tc : Thread Cert.AdamPoolScale.nD Cert.AdamPoolScale.τ).loc Cert.AdamPoolScale.main_arg3)
      ∧ r.2.mem ((c.tc : Thread Cert.AdamPoolScale.nD Cert.AdamPoolScale.τ).loc Cert.AdamPoolScale.main_arg4) = m ((c.tc : Thread Cert.AdamPoolScale.nD Cert.AdamPoolScale.τ).loc Cert.AdamPoolScale.main_arg4)
      ∧ r.2.mem ((c.tc : Thread Cert.AdamPoolScale.nD Cert.AdamPoolScale.τ).loc Cert.AdamPoolScale.main_arg5) = m ((c.tc : Thread Cert.AdamPoolScale.nD Cert.AdamPoolScale.τ).loc Cert.AdamPoolScale.main_arg5))
      ∧ r.2.sem = fun _ => 0)

def quiescent_AdamPoolScaleIdeal [hAdamPoolScaleIdeal : Cert.AdamPoolScaleIdeal.Facts] : Prop :=
  ∀ (m : (ℓ : Loc Cert.AdamPoolScaleIdeal.nD Cert.AdamPoolScaleIdeal.τ Cert.AdamPoolScaleIdeal.sig) → Buf (Elt Ideal) ℓ) (g : Dev Cert.AdamPoolScaleIdeal.nD → PrngReg), Pre_AdamPoolScaleIdeal m →
    θ_run (Cert.AdamPoolScaleIdeal.defs (F := Ideal)) (onTc (τ := Cert.AdamPoolScaleIdeal.τ) (Cert.AdamPoolScaleIdeal.main (F := Ideal))) ⟨m, fun _ => 0, g⟩ (fun r => (∀ c : Dev Cert.AdamPoolScaleIdeal.nD,
      r.2.mem ((c.tc : Thread Cert.AdamPoolScaleIdeal.nD Cert.AdamPoolScaleIdeal.τ).loc Cert.AdamPoolScaleIdeal.main_arg0) = m ((c.tc : Thread Cert.AdamPoolScaleIdeal.nD Cert.AdamPoolScaleIdeal.τ).loc Cert.AdamPoolScaleIdeal.main_arg0)
      ∧ r.2.mem ((c.tc : Thread Cert.AdamPoolScaleIdeal.nD Cert.AdamPoolScaleIdeal.τ).loc Cert.AdamPoolScaleIdeal.main_arg1) = m ((c.tc : Thread Cert.AdamPoolScaleIdeal.nD Cert.AdamPoolScaleIdeal.τ).loc Cert.AdamPoolScaleIdeal.main_arg1)
      ∧ r.2.mem ((c.tc : Thread Cert.AdamPoolScaleIdeal.nD Cert.AdamPoolScaleIdeal.τ).loc Cert.AdamPoolScaleIdeal.main_arg2) = m ((c.tc : Thread Cert.AdamPoolScaleIdeal.nD Cert.AdamPoolScaleIdeal.τ).loc Cert.AdamPoolScaleIdeal.main_arg2)
      ∧ r.2.mem ((c.tc : Thread Cert.AdamPoolScaleIdeal.nD Cert.AdamPoolScaleIdeal.τ).loc Cert.AdamPoolScaleIdeal.main_arg3) = m ((c.tc : Thread Cert.AdamPoolScaleIdeal.nD Cert.AdamPoolScaleIdeal.τ).loc Cert.AdamPoolScaleIdeal.main_arg3)
      ∧ r.2.mem ((c.tc : Thread Cert.AdamPoolScaleIdeal.nD Cert.AdamPoolScaleIdeal.τ).loc Cert.AdamPoolScaleIdeal.main_arg4) = m ((c.tc : Thread Cert.AdamPoolScaleIdeal.nD Cert.AdamPoolScaleIdeal.τ).loc Cert.AdamPoolScaleIdeal.main_arg4)
      ∧ r.2.mem ((c.tc : Thread Cert.AdamPoolScaleIdeal.nD Cert.AdamPoolScaleIdeal.τ).loc Cert.AdamPoolScaleIdeal.main_arg5) = m ((c.tc : Thread Cert.AdamPoolScaleIdeal.nD Cert.AdamPoolScaleIdeal.τ).loc Cert.AdamPoolScaleIdeal.main_arg5))
      ∧ r.2.sem = fun _ => 0)

def quiescent_AdamPoolScaleRefIdeal [hAdamPoolScaleRefIdeal : Cert.AdamPoolScaleRefIdeal.Facts] : Prop :=
  ∀ (m : (ℓ : Loc Cert.AdamPoolScaleRefIdeal.nD Cert.AdamPoolScaleRefIdeal.τ Cert.AdamPoolScaleRefIdeal.sig) → Buf (Elt Ideal) ℓ) (g : Dev Cert.AdamPoolScaleRefIdeal.nD → PrngReg), Pre_AdamPoolScaleRefIdeal m →
    θ_run (Cert.AdamPoolScaleRefIdeal.defs (F := Ideal)) (onTc (τ := Cert.AdamPoolScaleRefIdeal.τ) (Cert.AdamPoolScaleRefIdeal.main (F := Ideal))) ⟨m, fun _ => 0, g⟩ (fun r => (∀ c : Dev Cert.AdamPoolScaleRefIdeal.nD,
      r.2.mem ((c.tc : Thread Cert.AdamPoolScaleRefIdeal.nD Cert.AdamPoolScaleRefIdeal.τ).loc Cert.AdamPoolScaleRefIdeal.main_arg0) = m ((c.tc : Thread Cert.AdamPoolScaleRefIdeal.nD Cert.AdamPoolScaleRefIdeal.τ).loc Cert.AdamPoolScaleRefIdeal.main_arg0)
      ∧ r.2.mem ((c.tc : Thread Cert.AdamPoolScaleRefIdeal.nD Cert.AdamPoolScaleRefIdeal.τ).loc Cert.AdamPoolScaleRefIdeal.main_arg1) = m ((c.tc : Thread Cert.AdamPoolScaleRefIdeal.nD Cert.AdamPoolScaleRefIdeal.τ).loc Cert.AdamPoolScaleRefIdeal.main_arg1)
      ∧ r.2.mem ((c.tc : Thread Cert.AdamPoolScaleRefIdeal.nD Cert.AdamPoolScaleRefIdeal.τ).loc Cert.AdamPoolScaleRefIdeal.main_arg2) = m ((c.tc : Thread Cert.AdamPoolScaleRefIdeal.nD Cert.AdamPoolScaleRefIdeal.τ).loc Cert.AdamPoolScaleRefIdeal.main_arg2)
      ∧ r.2.mem ((c.tc : Thread Cert.AdamPoolScaleRefIdeal.nD Cert.AdamPoolScaleRefIdeal.τ).loc Cert.AdamPoolScaleRefIdeal.main_arg3) = m ((c.tc : Thread Cert.AdamPoolScaleRefIdeal.nD Cert.AdamPoolScaleRefIdeal.τ).loc Cert.AdamPoolScaleRefIdeal.main_arg3)
      ∧ r.2.mem ((c.tc : Thread Cert.AdamPoolScaleRefIdeal.nD Cert.AdamPoolScaleRefIdeal.τ).loc Cert.AdamPoolScaleRefIdeal.main_arg4) = m ((c.tc : Thread Cert.AdamPoolScaleRefIdeal.nD Cert.AdamPoolScaleRefIdeal.τ).loc Cert.AdamPoolScaleRefIdeal.main_arg4)
      ∧ r.2.mem ((c.tc : Thread Cert.AdamPoolScaleRefIdeal.nD Cert.AdamPoolScaleRefIdeal.τ).loc Cert.AdamPoolScaleRefIdeal.main_arg5) = m ((c.tc : Thread Cert.AdamPoolScaleRefIdeal.nD Cert.AdamPoolScaleRefIdeal.τ).loc Cert.AdamPoolScaleRefIdeal.main_arg5))
      ∧ r.2.sem = fun _ => 0)

def quiescent_AdamConvW [hAdamConvW : Cert.AdamConvW.Facts] : Prop :=
  ∀ (m : (ℓ : Loc Cert.AdamConvW.nD Cert.AdamConvW.τ Cert.AdamConvW.sig) → Buf (Elt Bits) ℓ) (g : Dev Cert.AdamConvW.nD → PrngReg), Pre_AdamConvW m →
    θ_run (Cert.AdamConvW.defs (F := Bits)) (onTc (τ := Cert.AdamConvW.τ) (Cert.AdamConvW.main (F := Bits))) ⟨m, fun _ => 0, g⟩ (fun r => (∀ c : Dev Cert.AdamConvW.nD,
      r.2.mem ((c.tc : Thread Cert.AdamConvW.nD Cert.AdamConvW.τ).loc Cert.AdamConvW.main_arg0) = m ((c.tc : Thread Cert.AdamConvW.nD Cert.AdamConvW.τ).loc Cert.AdamConvW.main_arg0)
      ∧ r.2.mem ((c.tc : Thread Cert.AdamConvW.nD Cert.AdamConvW.τ).loc Cert.AdamConvW.main_arg1) = m ((c.tc : Thread Cert.AdamConvW.nD Cert.AdamConvW.τ).loc Cert.AdamConvW.main_arg1)
      ∧ r.2.mem ((c.tc : Thread Cert.AdamConvW.nD Cert.AdamConvW.τ).loc Cert.AdamConvW.main_arg2) = m ((c.tc : Thread Cert.AdamConvW.nD Cert.AdamConvW.τ).loc Cert.AdamConvW.main_arg2)
      ∧ r.2.mem ((c.tc : Thread Cert.AdamConvW.nD Cert.AdamConvW.τ).loc Cert.AdamConvW.main_arg3) = m ((c.tc : Thread Cert.AdamConvW.nD Cert.AdamConvW.τ).loc Cert.AdamConvW.main_arg3)
      ∧ r.2.mem ((c.tc : Thread Cert.AdamConvW.nD Cert.AdamConvW.τ).loc Cert.AdamConvW.main_arg4) = m ((c.tc : Thread Cert.AdamConvW.nD Cert.AdamConvW.τ).loc Cert.AdamConvW.main_arg4)
      ∧ r.2.mem ((c.tc : Thread Cert.AdamConvW.nD Cert.AdamConvW.τ).loc Cert.AdamConvW.main_arg5) = m ((c.tc : Thread Cert.AdamConvW.nD Cert.AdamConvW.τ).loc Cert.AdamConvW.main_arg5))
      ∧ r.2.sem = fun _ => 0)

def quiescent_AdamConvWIdeal [hAdamConvWIdeal : Cert.AdamConvWIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg), Pre_AdamConvWIdeal m →
    θ_run (Cert.AdamConvWIdeal.defs (F := Ideal)) (onTc (τ := Cert.AdamConvWIdeal.τ) (Cert.AdamConvWIdeal.main (F := Ideal))) ⟨m, fun _ => 0, g⟩ (fun r => (∀ c : Dev Cert.AdamConvWIdeal.nD,
      r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
      ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
      ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
      ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3)
      ∧ r.2.mem ((c.tc : Thread Cert.AdamConvWIdeal.nD Cert.AdamConvWIdeal.τ).loc Cert.AdamConvWIdeal.main_arg4) = m ((c.tc : Thread Cert.AdamConvWIdeal.nD Cert.AdamConvWIdeal.τ).loc Cert.AdamConvWIdeal.main_arg4)
      ∧ r.2.mem ((c.tc : Thread Cert.AdamConvWIdeal.nD Cert.AdamConvWIdeal.τ).loc Cert.AdamConvWIdeal.main_arg5) = m ((c.tc : Thread Cert.AdamConvWIdeal.nD Cert.AdamConvWIdeal.τ).loc Cert.AdamConvWIdeal.main_arg5))
      ∧ r.2.sem = fun _ => 0)

def quiescent_AdamConvWRefIdeal [hAdamConvWRefIdeal : Cert.AdamConvWRefIdeal.Facts] : Prop :=
  ∀ (m : (ℓ : Loc Cert.AdamConvWRefIdeal.nD Cert.AdamConvWRefIdeal.τ Cert.AdamConvWRefIdeal.sig) → Buf (Elt Ideal) ℓ) (g : Dev Cert.AdamConvWRefIdeal.nD → PrngReg), Pre_AdamConvWRefIdeal m →
    θ_run (Cert.AdamConvWRefIdeal.defs (F := Ideal)) (onTc (τ := Cert.AdamConvWRefIdeal.τ) (Cert.AdamConvWRefIdeal.main (F := Ideal))) ⟨m, fun _ => 0, g⟩ (fun r => (∀ c : Dev Cert.AdamConvWRefIdeal.nD,
      r.2.mem ((c.tc : Thread Cert.AdamConvWRefIdeal.nD Cert.AdamConvWRefIdeal.τ).loc Cert.AdamConvWRefIdeal.main_arg0) = m ((c.tc : Thread Cert.AdamConvWRefIdeal.nD Cert.AdamConvWRefIdeal.τ).loc Cert.AdamConvWRefIdeal.main_arg0)
      ∧ r.2.mem ((c.tc : Thread Cert.AdamConvWRefIdeal.nD Cert.AdamConvWRefIdeal.τ).loc Cert.AdamConvWRefIdeal.main_arg1) = m ((c.tc : Thread Cert.AdamConvWRefIdeal.nD Cert.AdamConvWRefIdeal.τ).loc Cert.AdamConvWRefIdeal.main_arg1)
      ∧ r.2.mem ((c.tc : Thread Cert.AdamConvWRefIdeal.nD Cert.AdamConvWRefIdeal.τ).loc Cert.AdamConvWRefIdeal.main_arg2) = m ((c.tc : Thread Cert.AdamConvWRefIdeal.nD Cert.AdamConvWRefIdeal.τ).loc Cert.AdamConvWRefIdeal.main_arg2)
      ∧ r.2.mem ((c.tc : Thread Cert.AdamConvWRefIdeal.nD Cert.AdamConvWRefIdeal.τ).loc Cert.AdamConvWRefIdeal.main_arg3) = m ((c.tc : Thread Cert.AdamConvWRefIdeal.nD Cert.AdamConvWRefIdeal.τ).loc Cert.AdamConvWRefIdeal.main_arg3)
      ∧ r.2.mem ((c.tc : Thread Cert.AdamConvWRefIdeal.nD Cert.AdamConvWRefIdeal.τ).loc Cert.AdamConvWRefIdeal.main_arg4) = m ((c.tc : Thread Cert.AdamConvWRefIdeal.nD Cert.AdamConvWRefIdeal.τ).loc Cert.AdamConvWRefIdeal.main_arg4)
      ∧ r.2.mem ((c.tc : Thread Cert.AdamConvWRefIdeal.nD Cert.AdamConvWRefIdeal.τ).loc Cert.AdamConvWRefIdeal.main_arg5) = m ((c.tc : Thread Cert.AdamConvWRefIdeal.nD Cert.AdamConvWRefIdeal.τ).loc Cert.AdamConvWRefIdeal.main_arg5))
      ∧ r.2.sem = fun _ => 0)

def quiescent_AdamQ0 [hAdamQ0 : Cert.AdamQ0.Facts] : Prop :=
  ∀ (m : (ℓ : Loc Cert.AdamQ0.nD Cert.AdamQ0.τ Cert.AdamQ0.sig) → Buf (Elt Bits) ℓ) (g : Dev Cert.AdamQ0.nD → PrngReg), Pre_AdamQ0 m →
    θ_run (Cert.AdamQ0.defs (F := Bits)) (onTc (τ := Cert.AdamQ0.τ) (Cert.AdamQ0.main (F := Bits))) ⟨m, fun _ => 0, g⟩ (fun r => (∀ c : Dev Cert.AdamQ0.nD,
      r.2.mem ((c.tc : Thread Cert.AdamQ0.nD Cert.AdamQ0.τ).loc Cert.AdamQ0.main_arg0) = m ((c.tc : Thread Cert.AdamQ0.nD Cert.AdamQ0.τ).loc Cert.AdamQ0.main_arg0)
      ∧ r.2.mem ((c.tc : Thread Cert.AdamQ0.nD Cert.AdamQ0.τ).loc Cert.AdamQ0.main_arg1) = m ((c.tc : Thread Cert.AdamQ0.nD Cert.AdamQ0.τ).loc Cert.AdamQ0.main_arg1)
      ∧ r.2.mem ((c.tc : Thread Cert.AdamQ0.nD Cert.AdamQ0.τ).loc Cert.AdamQ0.main_arg2) = m ((c.tc : Thread Cert.AdamQ0.nD Cert.AdamQ0.τ).loc Cert.AdamQ0.main_arg2)
      ∧ r.2.mem ((c.tc : Thread Cert.AdamQ0.nD Cert.AdamQ0.τ).loc Cert.AdamQ0.main_arg3) = m ((c.tc : Thread Cert.AdamQ0.nD Cert.AdamQ0.τ).loc Cert.AdamQ0.main_arg3)
      ∧ r.2.mem ((c.tc : Thread Cert.AdamQ0.nD Cert.AdamQ0.τ).loc Cert.AdamQ0.main_arg4) = m ((c.tc : Thread Cert.AdamQ0.nD Cert.AdamQ0.τ).loc Cert.AdamQ0.main_arg4)
      ∧ r.2.mem ((c.tc : Thread Cert.AdamQ0.nD Cert.AdamQ0.τ).loc Cert.AdamQ0.main_arg5) = m ((c.tc : Thread Cert.AdamQ0.nD Cert.AdamQ0.τ).loc Cert.AdamQ0.main_arg5)
      ∧ r.2.mem ((c.tc : Thread Cert.AdamQ0.nD Cert.AdamQ0.τ).loc Cert.AdamQ0.main_arg6) = m ((c.tc : Thread Cert.AdamQ0.nD Cert.AdamQ0.τ).loc Cert.AdamQ0.main_arg6)
      ∧ r.2.mem ((c.tc : Thread Cert.AdamQ0.nD Cert.AdamQ0.τ).loc Cert.AdamQ0.main_arg7) = m ((c.tc : Thread Cert.AdamQ0.nD Cert.AdamQ0.τ).loc Cert.AdamQ0.main_arg7)
      ∧ r.2.mem ((c.tc : Thread Cert.AdamQ0.nD Cert.AdamQ0.τ).loc Cert.AdamQ0.main_arg8) = m ((c.tc : Thread Cert.AdamQ0.nD Cert.AdamQ0.τ).loc Cert.AdamQ0.main_arg8)
      ∧ r.2.mem ((c.tc : Thread Cert.AdamQ0.nD Cert.AdamQ0.τ).loc Cert.AdamQ0.main_arg9) = m ((c.tc : Thread Cert.AdamQ0.nD Cert.AdamQ0.τ).loc Cert.AdamQ0.main_arg9))
      ∧ r.2.sem = fun _ => 0)

def quiescent_AdamQ0Ideal [hAdamQ0Ideal : Cert.AdamQ0Ideal.Facts] : Prop :=
  ∀ (m : (ℓ : Loc Cert.AdamQ0Ideal.nD Cert.AdamQ0Ideal.τ Cert.AdamQ0Ideal.sig) → Buf (Elt Ideal) ℓ) (g : Dev Cert.AdamQ0Ideal.nD → PrngReg), Pre_AdamQ0Ideal m →
    θ_run (Cert.AdamQ0Ideal.defs (F := Ideal)) (onTc (τ := Cert.AdamQ0Ideal.τ) (Cert.AdamQ0Ideal.main (F := Ideal))) ⟨m, fun _ => 0, g⟩ (fun r => (∀ c : Dev Cert.AdamQ0Ideal.nD,
      r.2.mem ((c.tc : Thread Cert.AdamQ0Ideal.nD Cert.AdamQ0Ideal.τ).loc Cert.AdamQ0Ideal.main_arg0) = m ((c.tc : Thread Cert.AdamQ0Ideal.nD Cert.AdamQ0Ideal.τ).loc Cert.AdamQ0Ideal.main_arg0)
      ∧ r.2.mem ((c.tc : Thread Cert.AdamQ0Ideal.nD Cert.AdamQ0Ideal.τ).loc Cert.AdamQ0Ideal.main_arg1) = m ((c.tc : Thread Cert.AdamQ0Ideal.nD Cert.AdamQ0Ideal.τ).loc Cert.AdamQ0Ideal.main_arg1)
      ∧ r.2.mem ((c.tc : Thread Cert.AdamQ0Ideal.nD Cert.AdamQ0Ideal.τ).loc Cert.AdamQ0Ideal.main_arg2) = m ((c.tc : Thread Cert.AdamQ0Ideal.nD Cert.AdamQ0Ideal.τ).loc Cert.AdamQ0Ideal.main_arg2)
      ∧ r.2.mem ((c.tc : Thread Cert.AdamQ0Ideal.nD Cert.AdamQ0Ideal.τ).loc Cert.AdamQ0Ideal.main_arg3) = m ((c.tc : Thread Cert.AdamQ0Ideal.nD Cert.AdamQ0Ideal.τ).loc Cert.AdamQ0Ideal.main_arg3)
      ∧ r.2.mem ((c.tc : Thread Cert.AdamQ0Ideal.nD Cert.AdamQ0Ideal.τ).loc Cert.AdamQ0Ideal.main_arg4) = m ((c.tc : Thread Cert.AdamQ0Ideal.nD Cert.AdamQ0Ideal.τ).loc Cert.AdamQ0Ideal.main_arg4)
      ∧ r.2.mem ((c.tc : Thread Cert.AdamQ0Ideal.nD Cert.AdamQ0Ideal.τ).loc Cert.AdamQ0Ideal.main_arg5) = m ((c.tc : Thread Cert.AdamQ0Ideal.nD Cert.AdamQ0Ideal.τ).loc Cert.AdamQ0Ideal.main_arg5)
      ∧ r.2.mem ((c.tc : Thread Cert.AdamQ0Ideal.nD Cert.AdamQ0Ideal.τ).loc Cert.AdamQ0Ideal.main_arg6) = m ((c.tc : Thread Cert.AdamQ0Ideal.nD Cert.AdamQ0Ideal.τ).loc Cert.AdamQ0Ideal.main_arg6)
      ∧ r.2.mem ((c.tc : Thread Cert.AdamQ0Ideal.nD Cert.AdamQ0Ideal.τ).loc Cert.AdamQ0Ideal.main_arg7) = m ((c.tc : Thread Cert.AdamQ0Ideal.nD Cert.AdamQ0Ideal.τ).loc Cert.AdamQ0Ideal.main_arg7)
      ∧ r.2.mem ((c.tc : Thread Cert.AdamQ0Ideal.nD Cert.AdamQ0Ideal.τ).loc Cert.AdamQ0Ideal.main_arg8) = m ((c.tc : Thread Cert.AdamQ0Ideal.nD Cert.AdamQ0Ideal.τ).loc Cert.AdamQ0Ideal.main_arg8)
      ∧ r.2.mem ((c.tc : Thread Cert.AdamQ0Ideal.nD Cert.AdamQ0Ideal.τ).loc Cert.AdamQ0Ideal.main_arg9) = m ((c.tc : Thread Cert.AdamQ0Ideal.nD Cert.AdamQ0Ideal.τ).loc Cert.AdamQ0Ideal.main_arg9))
      ∧ r.2.sem = fun _ => 0)

def quiescent_AdamQ0RefIdeal [hAdamQ0RefIdeal : Cert.AdamQ0RefIdeal.Facts] : Prop :=
  ∀ (m : (ℓ : Loc Cert.AdamQ0RefIdeal.nD Cert.AdamQ0RefIdeal.τ Cert.AdamQ0RefIdeal.sig) → Buf (Elt Ideal) ℓ) (g : Dev Cert.AdamQ0RefIdeal.nD → PrngReg), Pre_AdamQ0RefIdeal m →
    θ_run (Cert.AdamQ0RefIdeal.defs (F := Ideal)) (onTc (τ := Cert.AdamQ0RefIdeal.τ) (Cert.AdamQ0RefIdeal.main (F := Ideal))) ⟨m, fun _ => 0, g⟩ (fun r => (∀ c : Dev Cert.AdamQ0RefIdeal.nD,
      r.2.mem ((c.tc : Thread Cert.AdamQ0RefIdeal.nD Cert.AdamQ0RefIdeal.τ).loc Cert.AdamQ0RefIdeal.main_arg0) = m ((c.tc : Thread Cert.AdamQ0RefIdeal.nD Cert.AdamQ0RefIdeal.τ).loc Cert.AdamQ0RefIdeal.main_arg0)
      ∧ r.2.mem ((c.tc : Thread Cert.AdamQ0RefIdeal.nD Cert.AdamQ0RefIdeal.τ).loc Cert.AdamQ0RefIdeal.main_arg1) = m ((c.tc : Thread Cert.AdamQ0RefIdeal.nD Cert.AdamQ0RefIdeal.τ).loc Cert.AdamQ0RefIdeal.main_arg1)
      ∧ r.2.mem ((c.tc : Thread Cert.AdamQ0RefIdeal.nD Cert.AdamQ0RefIdeal.τ).loc Cert.AdamQ0RefIdeal.main_arg2) = m ((c.tc : Thread Cert.AdamQ0RefIdeal.nD Cert.AdamQ0RefIdeal.τ).loc Cert.AdamQ0RefIdeal.main_arg2)
      ∧ r.2.mem ((c.tc : Thread Cert.AdamQ0RefIdeal.nD Cert.AdamQ0RefIdeal.τ).loc Cert.AdamQ0RefIdeal.main_arg3) = m ((c.tc : Thread Cert.AdamQ0RefIdeal.nD Cert.AdamQ0RefIdeal.τ).loc Cert.AdamQ0RefIdeal.main_arg3)
      ∧ r.2.mem ((c.tc : Thread Cert.AdamQ0RefIdeal.nD Cert.AdamQ0RefIdeal.τ).loc Cert.AdamQ0RefIdeal.main_arg4) = m ((c.tc : Thread Cert.AdamQ0RefIdeal.nD Cert.AdamQ0RefIdeal.τ).loc Cert.AdamQ0RefIdeal.main_arg4)
      ∧ r.2.mem ((c.tc : Thread Cert.AdamQ0RefIdeal.nD Cert.AdamQ0RefIdeal.τ).loc Cert.AdamQ0RefIdeal.main_arg5) = m ((c.tc : Thread Cert.AdamQ0RefIdeal.nD Cert.AdamQ0RefIdeal.τ).loc Cert.AdamQ0RefIdeal.main_arg5)
      ∧ r.2.mem ((c.tc : Thread Cert.AdamQ0RefIdeal.nD Cert.AdamQ0RefIdeal.τ).loc Cert.AdamQ0RefIdeal.main_arg6) = m ((c.tc : Thread Cert.AdamQ0RefIdeal.nD Cert.AdamQ0RefIdeal.τ).loc Cert.AdamQ0RefIdeal.main_arg6)
      ∧ r.2.mem ((c.tc : Thread Cert.AdamQ0RefIdeal.nD Cert.AdamQ0RefIdeal.τ).loc Cert.AdamQ0RefIdeal.main_arg7) = m ((c.tc : Thread Cert.AdamQ0RefIdeal.nD Cert.AdamQ0RefIdeal.τ).loc Cert.AdamQ0RefIdeal.main_arg7)
      ∧ r.2.mem ((c.tc : Thread Cert.AdamQ0RefIdeal.nD Cert.AdamQ0RefIdeal.τ).loc Cert.AdamQ0RefIdeal.main_arg8) = m ((c.tc : Thread Cert.AdamQ0RefIdeal.nD Cert.AdamQ0RefIdeal.τ).loc Cert.AdamQ0RefIdeal.main_arg8)
      ∧ r.2.mem ((c.tc : Thread Cert.AdamQ0RefIdeal.nD Cert.AdamQ0RefIdeal.τ).loc Cert.AdamQ0RefIdeal.main_arg9) = m ((c.tc : Thread Cert.AdamQ0RefIdeal.nD Cert.AdamQ0RefIdeal.τ).loc Cert.AdamQ0RefIdeal.main_arg9))
      ∧ r.2.sem = fun _ => 0)

def quiescent_AdamQ1 [hAdamQ1 : Cert.AdamQ1.Facts] : Prop :=
  ∀ (m : (ℓ : Loc Cert.AdamQ1.nD Cert.AdamQ1.τ Cert.AdamQ1.sig) → Buf (Elt Bits) ℓ) (g : Dev Cert.AdamQ1.nD → PrngReg), Pre_AdamQ1 m →
    θ_run (Cert.AdamQ1.defs (F := Bits)) (onTc (τ := Cert.AdamQ1.τ) (Cert.AdamQ1.main (F := Bits))) ⟨m, fun _ => 0, g⟩ (fun r => (∀ c : Dev Cert.AdamQ1.nD,
      r.2.mem ((c.tc : Thread Cert.AdamQ1.nD Cert.AdamQ1.τ).loc Cert.AdamQ1.main_arg0) = m ((c.tc : Thread Cert.AdamQ1.nD Cert.AdamQ1.τ).loc Cert.AdamQ1.main_arg0)
      ∧ r.2.mem ((c.tc : Thread Cert.AdamQ1.nD Cert.AdamQ1.τ).loc Cert.AdamQ1.main_arg1) = m ((c.tc : Thread Cert.AdamQ1.nD Cert.AdamQ1.τ).loc Cert.AdamQ1.main_arg1)
      ∧ r.2.mem ((c.tc : Thread Cert.AdamQ1.nD Cert.AdamQ1.τ).loc Cert.AdamQ1.main_arg2) = m ((c.tc : Thread Cert.AdamQ1.nD Cert.AdamQ1.τ).loc Cert.AdamQ1.main_arg2)
      ∧ r.2.mem ((c.tc : Thread Cert.AdamQ1.nD Cert.AdamQ1.τ).loc Cert.AdamQ1.main_arg3) = m ((c.tc : Thread Cert.AdamQ1.nD Cert.AdamQ1.τ).loc Cert.AdamQ1.main_arg3)
      ∧ r.2.mem ((c.tc : Thread Cert.AdamQ1.nD Cert.AdamQ1.τ).loc Cert.AdamQ1.main_arg4) = m ((c.tc : Thread Cert.AdamQ1.nD Cert.AdamQ1.τ).loc Cert.AdamQ1.main_arg4)
      ∧ r.2.mem ((c.tc : Thread Cert.AdamQ1.nD Cert.AdamQ1.τ).loc Cert.AdamQ1.main_arg5) = m ((c.tc : Thread Cert.AdamQ1.nD Cert.AdamQ1.τ).loc Cert.AdamQ1.main_arg5)
      ∧ r.2.mem ((c.tc : Thread Cert.AdamQ1.nD Cert.AdamQ1.τ).loc Cert.AdamQ1.main_arg6) = m ((c.tc : Thread Cert.AdamQ1.nD Cert.AdamQ1.τ).loc Cert.AdamQ1.main_arg6)
      ∧ r.2.mem ((c.tc : Thread Cert.AdamQ1.nD Cert.AdamQ1.τ).loc Cert.AdamQ1.main_arg7) = m ((c.tc : Thread Cert.AdamQ1.nD Cert.AdamQ1.τ).loc Cert.AdamQ1.main_arg7)
      ∧ r.2.mem ((c.tc : Thread Cert.AdamQ1.nD Cert.AdamQ1.τ).loc Cert.AdamQ1.main_arg8) = m ((c.tc : Thread Cert.AdamQ1.nD Cert.AdamQ1.τ).loc Cert.AdamQ1.main_arg8)
      ∧ r.2.mem ((c.tc : Thread Cert.AdamQ1.nD Cert.AdamQ1.τ).loc Cert.AdamQ1.main_arg9) = m ((c.tc : Thread Cert.AdamQ1.nD Cert.AdamQ1.τ).loc Cert.AdamQ1.main_arg9))
      ∧ r.2.sem = fun _ => 0)

def quiescent_AdamQ1Ideal [hAdamQ1Ideal : Cert.AdamQ1Ideal.Facts] : Prop :=
  ∀ (m : (ℓ : Loc Cert.AdamQ1Ideal.nD Cert.AdamQ1Ideal.τ Cert.AdamQ1Ideal.sig) → Buf (Elt Ideal) ℓ) (g : Dev Cert.AdamQ1Ideal.nD → PrngReg), Pre_AdamQ1Ideal m →
    θ_run (Cert.AdamQ1Ideal.defs (F := Ideal)) (onTc (τ := Cert.AdamQ1Ideal.τ) (Cert.AdamQ1Ideal.main (F := Ideal))) ⟨m, fun _ => 0, g⟩ (fun r => (∀ c : Dev Cert.AdamQ1Ideal.nD,
      r.2.mem ((c.tc : Thread Cert.AdamQ1Ideal.nD Cert.AdamQ1Ideal.τ).loc Cert.AdamQ1Ideal.main_arg0) = m ((c.tc : Thread Cert.AdamQ1Ideal.nD Cert.AdamQ1Ideal.τ).loc Cert.AdamQ1Ideal.main_arg0)
      ∧ r.2.mem ((c.tc : Thread Cert.AdamQ1Ideal.nD Cert.AdamQ1Ideal.τ).loc Cert.AdamQ1Ideal.main_arg1) = m ((c.tc : Thread Cert.AdamQ1Ideal.nD Cert.AdamQ1Ideal.τ).loc Cert.AdamQ1Ideal.main_arg1)
      ∧ r.2.mem ((c.tc : Thread Cert.AdamQ1Ideal.nD Cert.AdamQ1Ideal.τ).loc Cert.AdamQ1Ideal.main_arg2) = m ((c.tc : Thread Cert.AdamQ1Ideal.nD Cert.AdamQ1Ideal.τ).loc Cert.AdamQ1Ideal.main_arg2)
      ∧ r.2.mem ((c.tc : Thread Cert.AdamQ1Ideal.nD Cert.AdamQ1Ideal.τ).loc Cert.AdamQ1Ideal.main_arg3) = m ((c.tc : Thread Cert.AdamQ1Ideal.nD Cert.AdamQ1Ideal.τ).loc Cert.AdamQ1Ideal.main_arg3)
      ∧ r.2.mem ((c.tc : Thread Cert.AdamQ1Ideal.nD Cert.AdamQ1Ideal.τ).loc Cert.AdamQ1Ideal.main_arg4) = m ((c.tc : Thread Cert.AdamQ1Ideal.nD Cert.AdamQ1Ideal.τ).loc Cert.AdamQ1Ideal.main_arg4)
      ∧ r.2.mem ((c.tc : Thread Cert.AdamQ1Ideal.nD Cert.AdamQ1Ideal.τ).loc Cert.AdamQ1Ideal.main_arg5) = m ((c.tc : Thread Cert.AdamQ1Ideal.nD Cert.AdamQ1Ideal.τ).loc Cert.AdamQ1Ideal.main_arg5)
      ∧ r.2.mem ((c.tc : Thread Cert.AdamQ1Ideal.nD Cert.AdamQ1Ideal.τ).loc Cert.AdamQ1Ideal.main_arg6) = m ((c.tc : Thread Cert.AdamQ1Ideal.nD Cert.AdamQ1Ideal.τ).loc Cert.AdamQ1Ideal.main_arg6)
      ∧ r.2.mem ((c.tc : Thread Cert.AdamQ1Ideal.nD Cert.AdamQ1Ideal.τ).loc Cert.AdamQ1Ideal.main_arg7) = m ((c.tc : Thread Cert.AdamQ1Ideal.nD Cert.AdamQ1Ideal.τ).loc Cert.AdamQ1Ideal.main_arg7)
      ∧ r.2.mem ((c.tc : Thread Cert.AdamQ1Ideal.nD Cert.AdamQ1Ideal.τ).loc Cert.AdamQ1Ideal.main_arg8) = m ((c.tc : Thread Cert.AdamQ1Ideal.nD Cert.AdamQ1Ideal.τ).loc Cert.AdamQ1Ideal.main_arg8)
      ∧ r.2.mem ((c.tc : Thread Cert.AdamQ1Ideal.nD Cert.AdamQ1Ideal.τ).loc Cert.AdamQ1Ideal.main_arg9) = m ((c.tc : Thread Cert.AdamQ1Ideal.nD Cert.AdamQ1Ideal.τ).loc Cert.AdamQ1Ideal.main_arg9))
      ∧ r.2.sem = fun _ => 0)

def quiescent_AdamQ1RefIdeal [hAdamQ1RefIdeal : Cert.AdamQ1RefIdeal.Facts] : Prop :=
  ∀ (m : (ℓ : Loc Cert.AdamQ1RefIdeal.nD Cert.AdamQ1RefIdeal.τ Cert.AdamQ1RefIdeal.sig) → Buf (Elt Ideal) ℓ) (g : Dev Cert.AdamQ1RefIdeal.nD → PrngReg), Pre_AdamQ1RefIdeal m →
    θ_run (Cert.AdamQ1RefIdeal.defs (F := Ideal)) (onTc (τ := Cert.AdamQ1RefIdeal.τ) (Cert.AdamQ1RefIdeal.main (F := Ideal))) ⟨m, fun _ => 0, g⟩ (fun r => (∀ c : Dev Cert.AdamQ1RefIdeal.nD,
      r.2.mem ((c.tc : Thread Cert.AdamQ1RefIdeal.nD Cert.AdamQ1RefIdeal.τ).loc Cert.AdamQ1RefIdeal.main_arg0) = m ((c.tc : Thread Cert.AdamQ1RefIdeal.nD Cert.AdamQ1RefIdeal.τ).loc Cert.AdamQ1RefIdeal.main_arg0)
      ∧ r.2.mem ((c.tc : Thread Cert.AdamQ1RefIdeal.nD Cert.AdamQ1RefIdeal.τ).loc Cert.AdamQ1RefIdeal.main_arg1) = m ((c.tc : Thread Cert.AdamQ1RefIdeal.nD Cert.AdamQ1RefIdeal.τ).loc Cert.AdamQ1RefIdeal.main_arg1)
      ∧ r.2.mem ((c.tc : Thread Cert.AdamQ1RefIdeal.nD Cert.AdamQ1RefIdeal.τ).loc Cert.AdamQ1RefIdeal.main_arg2) = m ((c.tc : Thread Cert.AdamQ1RefIdeal.nD Cert.AdamQ1RefIdeal.τ).loc Cert.AdamQ1RefIdeal.main_arg2)
      ∧ r.2.mem ((c.tc : Thread Cert.AdamQ1RefIdeal.nD Cert.AdamQ1RefIdeal.τ).loc Cert.AdamQ1RefIdeal.main_arg3) = m ((c.tc : Thread Cert.AdamQ1RefIdeal.nD Cert.AdamQ1RefIdeal.τ).loc Cert.AdamQ1RefIdeal.main_arg3)
      ∧ r.2.mem ((c.tc : Thread Cert.AdamQ1RefIdeal.nD Cert.AdamQ1RefIdeal.τ).loc Cert.AdamQ1RefIdeal.main_arg4) = m ((c.tc : Thread Cert.AdamQ1RefIdeal.nD Cert.AdamQ1RefIdeal.τ).loc Cert.AdamQ1RefIdeal.main_arg4)
      ∧ r.2.mem ((c.tc : Thread Cert.AdamQ1RefIdeal.nD Cert.AdamQ1RefIdeal.τ).loc Cert.AdamQ1RefIdeal.main_arg5) = m ((c.tc : Thread Cert.AdamQ1RefIdeal.nD Cert.AdamQ1RefIdeal.τ).loc Cert.AdamQ1RefIdeal.main_arg5)
      ∧ r.2.mem ((c.tc : Thread Cert.AdamQ1RefIdeal.nD Cert.AdamQ1RefIdeal.τ).loc Cert.AdamQ1RefIdeal.main_arg6) = m ((c.tc : Thread Cert.AdamQ1RefIdeal.nD Cert.AdamQ1RefIdeal.τ).loc Cert.AdamQ1RefIdeal.main_arg6)
      ∧ r.2.mem ((c.tc : Thread Cert.AdamQ1RefIdeal.nD Cert.AdamQ1RefIdeal.τ).loc Cert.AdamQ1RefIdeal.main_arg7) = m ((c.tc : Thread Cert.AdamQ1RefIdeal.nD Cert.AdamQ1RefIdeal.τ).loc Cert.AdamQ1RefIdeal.main_arg7)
      ∧ r.2.mem ((c.tc : Thread Cert.AdamQ1RefIdeal.nD Cert.AdamQ1RefIdeal.τ).loc Cert.AdamQ1RefIdeal.main_arg8) = m ((c.tc : Thread Cert.AdamQ1RefIdeal.nD Cert.AdamQ1RefIdeal.τ).loc Cert.AdamQ1RefIdeal.main_arg8)
      ∧ r.2.mem ((c.tc : Thread Cert.AdamQ1RefIdeal.nD Cert.AdamQ1RefIdeal.τ).loc Cert.AdamQ1RefIdeal.main_arg9) = m ((c.tc : Thread Cert.AdamQ1RefIdeal.nD Cert.AdamQ1RefIdeal.τ).loc Cert.AdamQ1RefIdeal.main_arg9))
      ∧ r.2.sem = fun _ => 0)

def quiescent_AdamO0 [hAdamO0 : Cert.AdamO0.Facts] : Prop :=
  ∀ (m : (ℓ : Loc Cert.AdamO0.nD Cert.AdamO0.τ Cert.AdamO0.sig) → Buf (Elt Bits) ℓ) (g : Dev Cert.AdamO0.nD → PrngReg), Pre_AdamO0 m →
    θ_run (Cert.AdamO0.defs (F := Bits)) (onTc (τ := Cert.AdamO0.τ) (Cert.AdamO0.main (F := Bits))) ⟨m, fun _ => 0, g⟩ (fun r => (∀ c : Dev Cert.AdamO0.nD,
      r.2.mem ((c.tc : Thread Cert.AdamO0.nD Cert.AdamO0.τ).loc Cert.AdamO0.main_arg0) = m ((c.tc : Thread Cert.AdamO0.nD Cert.AdamO0.τ).loc Cert.AdamO0.main_arg0)
      ∧ r.2.mem ((c.tc : Thread Cert.AdamO0.nD Cert.AdamO0.τ).loc Cert.AdamO0.main_arg1) = m ((c.tc : Thread Cert.AdamO0.nD Cert.AdamO0.τ).loc Cert.AdamO0.main_arg1)
      ∧ r.2.mem ((c.tc : Thread Cert.AdamO0.nD Cert.AdamO0.τ).loc Cert.AdamO0.main_arg2) = m ((c.tc : Thread Cert.AdamO0.nD Cert.AdamO0.τ).loc Cert.AdamO0.main_arg2)
      ∧ r.2.mem ((c.tc : Thread Cert.AdamO0.nD Cert.AdamO0.τ).loc Cert.AdamO0.main_arg3) = m ((c.tc : Thread Cert.AdamO0.nD Cert.AdamO0.τ).loc Cert.AdamO0.main_arg3)
      ∧ r.2.mem ((c.tc : Thread Cert.AdamO0.nD Cert.AdamO0.τ).loc Cert.AdamO0.main_arg4) = m ((c.tc : Thread Cert.AdamO0.nD Cert.AdamO0.τ).loc Cert.AdamO0.main_arg4)
      ∧ r.2.mem ((c.tc : Thread Cert.AdamO0.nD Cert.AdamO0.τ).loc Cert.AdamO0.main_arg5) = m ((c.tc : Thread Cert.AdamO0.nD Cert.AdamO0.τ).loc Cert.AdamO0.main_arg5)
      ∧ r.2.mem ((c.tc : Thread Cert.AdamO0.nD Cert.AdamO0.τ).loc Cert.AdamO0.main_arg6) = m ((c.tc : Thread Cert.AdamO0.nD Cert.AdamO0.τ).loc Cert.AdamO0.main_arg6)
      ∧ r.2.mem ((c.tc : Thread Cert.AdamO0.nD Cert.AdamO0.τ).loc Cert.AdamO0.main_arg7) = m ((c.tc : Thread Cert.AdamO0.nD Cert.AdamO0.τ).loc Cert.AdamO0.main_arg7)
      ∧ r.2.mem ((c.tc : Thread Cert.AdamO0.nD Cert.AdamO0.τ).loc Cert.AdamO0.main_arg8) = m ((c.tc : Thread Cert.AdamO0.nD Cert.AdamO0.τ).loc Cert.AdamO0.main_arg8)
      ∧ r.2.mem ((c.tc : Thread Cert.AdamO0.nD Cert.AdamO0.τ).loc Cert.AdamO0.main_arg9) = m ((c.tc : Thread Cert.AdamO0.nD Cert.AdamO0.τ).loc Cert.AdamO0.main_arg9))
      ∧ r.2.sem = fun _ => 0)

def quiescent_AdamO0Ideal [hAdamO0Ideal : Cert.AdamO0Ideal.Facts] : Prop :=
  ∀ (m : (ℓ : Loc Cert.AdamO0Ideal.nD Cert.AdamO0Ideal.τ Cert.AdamO0Ideal.sig) → Buf (Elt Ideal) ℓ) (g : Dev Cert.AdamO0Ideal.nD → PrngReg), Pre_AdamO0Ideal m →
    θ_run (Cert.AdamO0Ideal.defs (F := Ideal)) (onTc (τ := Cert.AdamO0Ideal.τ) (Cert.AdamO0Ideal.main (F := Ideal))) ⟨m, fun _ => 0, g⟩ (fun r => (∀ c : Dev Cert.AdamO0Ideal.nD,
      r.2.mem ((c.tc : Thread Cert.AdamO0Ideal.nD Cert.AdamO0Ideal.τ).loc Cert.AdamO0Ideal.main_arg0) = m ((c.tc : Thread Cert.AdamO0Ideal.nD Cert.AdamO0Ideal.τ).loc Cert.AdamO0Ideal.main_arg0)
      ∧ r.2.mem ((c.tc : Thread Cert.AdamO0Ideal.nD Cert.AdamO0Ideal.τ).loc Cert.AdamO0Ideal.main_arg1) = m ((c.tc : Thread Cert.AdamO0Ideal.nD Cert.AdamO0Ideal.τ).loc Cert.AdamO0Ideal.main_arg1)
      ∧ r.2.mem ((c.tc : Thread Cert.AdamO0Ideal.nD Cert.AdamO0Ideal.τ).loc Cert.AdamO0Ideal.main_arg2) = m ((c.tc : Thread Cert.AdamO0Ideal.nD Cert.AdamO0Ideal.τ).loc Cert.AdamO0Ideal.main_arg2)
      ∧ r.2.mem ((c.tc : Thread Cert.AdamO0Ideal.nD Cert.AdamO0Ideal.τ).loc Cert.AdamO0Ideal.main_arg3) = m ((c.tc : Thread Cert.AdamO0Ideal.nD Cert.AdamO0Ideal.τ).loc Cert.AdamO0Ideal.main_arg3)
      ∧ r.2.mem ((c.tc : Thread Cert.AdamO0Ideal.nD Cert.AdamO0Ideal.τ).loc Cert.AdamO0Ideal.main_arg4) = m ((c.tc : Thread Cert.AdamO0Ideal.nD Cert.AdamO0Ideal.τ).loc Cert.AdamO0Ideal.main_arg4)
      ∧ r.2.mem ((c.tc : Thread Cert.AdamO0Ideal.nD Cert.AdamO0Ideal.τ).loc Cert.AdamO0Ideal.main_arg5) = m ((c.tc : Thread Cert.AdamO0Ideal.nD Cert.AdamO0Ideal.τ).loc Cert.AdamO0Ideal.main_arg5)
      ∧ r.2.mem ((c.tc : Thread Cert.AdamO0Ideal.nD Cert.AdamO0Ideal.τ).loc Cert.AdamO0Ideal.main_arg6) = m ((c.tc : Thread Cert.AdamO0Ideal.nD Cert.AdamO0Ideal.τ).loc Cert.AdamO0Ideal.main_arg6)
      ∧ r.2.mem ((c.tc : Thread Cert.AdamO0Ideal.nD Cert.AdamO0Ideal.τ).loc Cert.AdamO0Ideal.main_arg7) = m ((c.tc : Thread Cert.AdamO0Ideal.nD Cert.AdamO0Ideal.τ).loc Cert.AdamO0Ideal.main_arg7)
      ∧ r.2.mem ((c.tc : Thread Cert.AdamO0Ideal.nD Cert.AdamO0Ideal.τ).loc Cert.AdamO0Ideal.main_arg8) = m ((c.tc : Thread Cert.AdamO0Ideal.nD Cert.AdamO0Ideal.τ).loc Cert.AdamO0Ideal.main_arg8)
      ∧ r.2.mem ((c.tc : Thread Cert.AdamO0Ideal.nD Cert.AdamO0Ideal.τ).loc Cert.AdamO0Ideal.main_arg9) = m ((c.tc : Thread Cert.AdamO0Ideal.nD Cert.AdamO0Ideal.τ).loc Cert.AdamO0Ideal.main_arg9))
      ∧ r.2.sem = fun _ => 0)

def quiescent_AdamO0RefIdeal [hAdamO0RefIdeal : Cert.AdamO0RefIdeal.Facts] : Prop :=
  ∀ (m : (ℓ : Loc Cert.AdamO0RefIdeal.nD Cert.AdamO0RefIdeal.τ Cert.AdamO0RefIdeal.sig) → Buf (Elt Ideal) ℓ) (g : Dev Cert.AdamO0RefIdeal.nD → PrngReg), Pre_AdamO0RefIdeal m →
    θ_run (Cert.AdamO0RefIdeal.defs (F := Ideal)) (onTc (τ := Cert.AdamO0RefIdeal.τ) (Cert.AdamO0RefIdeal.main (F := Ideal))) ⟨m, fun _ => 0, g⟩ (fun r => (∀ c : Dev Cert.AdamO0RefIdeal.nD,
      r.2.mem ((c.tc : Thread Cert.AdamO0RefIdeal.nD Cert.AdamO0RefIdeal.τ).loc Cert.AdamO0RefIdeal.main_arg0) = m ((c.tc : Thread Cert.AdamO0RefIdeal.nD Cert.AdamO0RefIdeal.τ).loc Cert.AdamO0RefIdeal.main_arg0)
      ∧ r.2.mem ((c.tc : Thread Cert.AdamO0RefIdeal.nD Cert.AdamO0RefIdeal.τ).loc Cert.AdamO0RefIdeal.main_arg1) = m ((c.tc : Thread Cert.AdamO0RefIdeal.nD Cert.AdamO0RefIdeal.τ).loc Cert.AdamO0RefIdeal.main_arg1)
      ∧ r.2.mem ((c.tc : Thread Cert.AdamO0RefIdeal.nD Cert.AdamO0RefIdeal.τ).loc Cert.AdamO0RefIdeal.main_arg2) = m ((c.tc : Thread Cert.AdamO0RefIdeal.nD Cert.AdamO0RefIdeal.τ).loc Cert.AdamO0RefIdeal.main_arg2)
      ∧ r.2.mem ((c.tc : Thread Cert.AdamO0RefIdeal.nD Cert.AdamO0RefIdeal.τ).loc Cert.AdamO0RefIdeal.main_arg3) = m ((c.tc : Thread Cert.AdamO0RefIdeal.nD Cert.AdamO0RefIdeal.τ).loc Cert.AdamO0RefIdeal.main_arg3)
      ∧ r.2.mem ((c.tc : Thread Cert.AdamO0RefIdeal.nD Cert.AdamO0RefIdeal.τ).loc Cert.AdamO0RefIdeal.main_arg4) = m ((c.tc : Thread Cert.AdamO0RefIdeal.nD Cert.AdamO0RefIdeal.τ).loc Cert.AdamO0RefIdeal.main_arg4)
      ∧ r.2.mem ((c.tc : Thread Cert.AdamO0RefIdeal.nD Cert.AdamO0RefIdeal.τ).loc Cert.AdamO0RefIdeal.main_arg5) = m ((c.tc : Thread Cert.AdamO0RefIdeal.nD Cert.AdamO0RefIdeal.τ).loc Cert.AdamO0RefIdeal.main_arg5)
      ∧ r.2.mem ((c.tc : Thread Cert.AdamO0RefIdeal.nD Cert.AdamO0RefIdeal.τ).loc Cert.AdamO0RefIdeal.main_arg6) = m ((c.tc : Thread Cert.AdamO0RefIdeal.nD Cert.AdamO0RefIdeal.τ).loc Cert.AdamO0RefIdeal.main_arg6)
      ∧ r.2.mem ((c.tc : Thread Cert.AdamO0RefIdeal.nD Cert.AdamO0RefIdeal.τ).loc Cert.AdamO0RefIdeal.main_arg7) = m ((c.tc : Thread Cert.AdamO0RefIdeal.nD Cert.AdamO0RefIdeal.τ).loc Cert.AdamO0RefIdeal.main_arg7)
      ∧ r.2.mem ((c.tc : Thread Cert.AdamO0RefIdeal.nD Cert.AdamO0RefIdeal.τ).loc Cert.AdamO0RefIdeal.main_arg8) = m ((c.tc : Thread Cert.AdamO0RefIdeal.nD Cert.AdamO0RefIdeal.τ).loc Cert.AdamO0RefIdeal.main_arg8)
      ∧ r.2.mem ((c.tc : Thread Cert.AdamO0RefIdeal.nD Cert.AdamO0RefIdeal.τ).loc Cert.AdamO0RefIdeal.main_arg9) = m ((c.tc : Thread Cert.AdamO0RefIdeal.nD Cert.AdamO0RefIdeal.τ).loc Cert.AdamO0RefIdeal.main_arg9))
      ∧ r.2.sem = fun _ => 0)

def quiescent_AdamO1 [hAdamO1 : Cert.AdamO1.Facts] : Prop :=
  ∀ (m : (ℓ : Loc Cert.AdamO1.nD Cert.AdamO1.τ Cert.AdamO1.sig) → Buf (Elt Bits) ℓ) (g : Dev Cert.AdamO1.nD → PrngReg), Pre_AdamO1 m →
    θ_run (Cert.AdamO1.defs (F := Bits)) (onTc (τ := Cert.AdamO1.τ) (Cert.AdamO1.main (F := Bits))) ⟨m, fun _ => 0, g⟩ (fun r => (∀ c : Dev Cert.AdamO1.nD,
      r.2.mem ((c.tc : Thread Cert.AdamO1.nD Cert.AdamO1.τ).loc Cert.AdamO1.main_arg0) = m ((c.tc : Thread Cert.AdamO1.nD Cert.AdamO1.τ).loc Cert.AdamO1.main_arg0)
      ∧ r.2.mem ((c.tc : Thread Cert.AdamO1.nD Cert.AdamO1.τ).loc Cert.AdamO1.main_arg1) = m ((c.tc : Thread Cert.AdamO1.nD Cert.AdamO1.τ).loc Cert.AdamO1.main_arg1)
      ∧ r.2.mem ((c.tc : Thread Cert.AdamO1.nD Cert.AdamO1.τ).loc Cert.AdamO1.main_arg2) = m ((c.tc : Thread Cert.AdamO1.nD Cert.AdamO1.τ).loc Cert.AdamO1.main_arg2)
      ∧ r.2.mem ((c.tc : Thread Cert.AdamO1.nD Cert.AdamO1.τ).loc Cert.AdamO1.main_arg3) = m ((c.tc : Thread Cert.AdamO1.nD Cert.AdamO1.τ).loc Cert.AdamO1.main_arg3)
      ∧ r.2.mem ((c.tc : Thread Cert.AdamO1.nD Cert.AdamO1.τ).loc Cert.AdamO1.main_arg4) = m ((c.tc : Thread Cert.AdamO1.nD Cert.AdamO1.τ).loc Cert.AdamO1.main_arg4)
      ∧ r.2.mem ((c.tc : Thread Cert.AdamO1.nD Cert.AdamO1.τ).loc Cert.AdamO1.main_arg5) = m ((c.tc : Thread Cert.AdamO1.nD Cert.AdamO1.τ).loc Cert.AdamO1.main_arg5)
      ∧ r.2.mem ((c.tc : Thread Cert.AdamO1.nD Cert.AdamO1.τ).loc Cert.AdamO1.main_arg6) = m ((c.tc : Thread Cert.AdamO1.nD Cert.AdamO1.τ).loc Cert.AdamO1.main_arg6)
      ∧ r.2.mem ((c.tc : Thread Cert.AdamO1.nD Cert.AdamO1.τ).loc Cert.AdamO1.main_arg7) = m ((c.tc : Thread Cert.AdamO1.nD Cert.AdamO1.τ).loc Cert.AdamO1.main_arg7)
      ∧ r.2.mem ((c.tc : Thread Cert.AdamO1.nD Cert.AdamO1.τ).loc Cert.AdamO1.main_arg8) = m ((c.tc : Thread Cert.AdamO1.nD Cert.AdamO1.τ).loc Cert.AdamO1.main_arg8)
      ∧ r.2.mem ((c.tc : Thread Cert.AdamO1.nD Cert.AdamO1.τ).loc Cert.AdamO1.main_arg9) = m ((c.tc : Thread Cert.AdamO1.nD Cert.AdamO1.τ).loc Cert.AdamO1.main_arg9))
      ∧ r.2.sem = fun _ => 0)

def quiescent_AdamO1Ideal [hAdamO1Ideal : Cert.AdamO1Ideal.Facts] : Prop :=
  ∀ (m : (ℓ : Loc Cert.AdamO1Ideal.nD Cert.AdamO1Ideal.τ Cert.AdamO1Ideal.sig) → Buf (Elt Ideal) ℓ) (g : Dev Cert.AdamO1Ideal.nD → PrngReg), Pre_AdamO1Ideal m →
    θ_run (Cert.AdamO1Ideal.defs (F := Ideal)) (onTc (τ := Cert.AdamO1Ideal.τ) (Cert.AdamO1Ideal.main (F := Ideal))) ⟨m, fun _ => 0, g⟩ (fun r => (∀ c : Dev Cert.AdamO1Ideal.nD,
      r.2.mem ((c.tc : Thread Cert.AdamO1Ideal.nD Cert.AdamO1Ideal.τ).loc Cert.AdamO1Ideal.main_arg0) = m ((c.tc : Thread Cert.AdamO1Ideal.nD Cert.AdamO1Ideal.τ).loc Cert.AdamO1Ideal.main_arg0)
      ∧ r.2.mem ((c.tc : Thread Cert.AdamO1Ideal.nD Cert.AdamO1Ideal.τ).loc Cert.AdamO1Ideal.main_arg1) = m ((c.tc : Thread Cert.AdamO1Ideal.nD Cert.AdamO1Ideal.τ).loc Cert.AdamO1Ideal.main_arg1)
      ∧ r.2.mem ((c.tc : Thread Cert.AdamO1Ideal.nD Cert.AdamO1Ideal.τ).loc Cert.AdamO1Ideal.main_arg2) = m ((c.tc : Thread Cert.AdamO1Ideal.nD Cert.AdamO1Ideal.τ).loc Cert.AdamO1Ideal.main_arg2)
      ∧ r.2.mem ((c.tc : Thread Cert.AdamO1Ideal.nD Cert.AdamO1Ideal.τ).loc Cert.AdamO1Ideal.main_arg3) = m ((c.tc : Thread Cert.AdamO1Ideal.nD Cert.AdamO1Ideal.τ).loc Cert.AdamO1Ideal.main_arg3)
      ∧ r.2.mem ((c.tc : Thread Cert.AdamO1Ideal.nD Cert.AdamO1Ideal.τ).loc Cert.AdamO1Ideal.main_arg4) = m ((c.tc : Thread Cert.AdamO1Ideal.nD Cert.AdamO1Ideal.τ).loc Cert.AdamO1Ideal.main_arg4)
      ∧ r.2.mem ((c.tc : Thread Cert.AdamO1Ideal.nD Cert.AdamO1Ideal.τ).loc Cert.AdamO1Ideal.main_arg5) = m ((c.tc : Thread Cert.AdamO1Ideal.nD Cert.AdamO1Ideal.τ).loc Cert.AdamO1Ideal.main_arg5)
      ∧ r.2.mem ((c.tc : Thread Cert.AdamO1Ideal.nD Cert.AdamO1Ideal.τ).loc Cert.AdamO1Ideal.main_arg6) = m ((c.tc : Thread Cert.AdamO1Ideal.nD Cert.AdamO1Ideal.τ).loc Cert.AdamO1Ideal.main_arg6)
      ∧ r.2.mem ((c.tc : Thread Cert.AdamO1Ideal.nD Cert.AdamO1Ideal.τ).loc Cert.AdamO1Ideal.main_arg7) = m ((c.tc : Thread Cert.AdamO1Ideal.nD Cert.AdamO1Ideal.τ).loc Cert.AdamO1Ideal.main_arg7)
      ∧ r.2.mem ((c.tc : Thread Cert.AdamO1Ideal.nD Cert.AdamO1Ideal.τ).loc Cert.AdamO1Ideal.main_arg8) = m ((c.tc : Thread Cert.AdamO1Ideal.nD Cert.AdamO1Ideal.τ).loc Cert.AdamO1Ideal.main_arg8)
      ∧ r.2.mem ((c.tc : Thread Cert.AdamO1Ideal.nD Cert.AdamO1Ideal.τ).loc Cert.AdamO1Ideal.main_arg9) = m ((c.tc : Thread Cert.AdamO1Ideal.nD Cert.AdamO1Ideal.τ).loc Cert.AdamO1Ideal.main_arg9))
      ∧ r.2.sem = fun _ => 0)

def quiescent_AdamO1RefIdeal [hAdamO1RefIdeal : Cert.AdamO1RefIdeal.Facts] : Prop :=
  ∀ (m : (ℓ : Loc Cert.AdamO1RefIdeal.nD Cert.AdamO1RefIdeal.τ Cert.AdamO1RefIdeal.sig) → Buf (Elt Ideal) ℓ) (g : Dev Cert.AdamO1RefIdeal.nD → PrngReg), Pre_AdamO1RefIdeal m →
    θ_run (Cert.AdamO1RefIdeal.defs (F := Ideal)) (onTc (τ := Cert.AdamO1RefIdeal.τ) (Cert.AdamO1RefIdeal.main (F := Ideal))) ⟨m, fun _ => 0, g⟩ (fun r => (∀ c : Dev Cert.AdamO1RefIdeal.nD,
      r.2.mem ((c.tc : Thread Cert.AdamO1RefIdeal.nD Cert.AdamO1RefIdeal.τ).loc Cert.AdamO1RefIdeal.main_arg0) = m ((c.tc : Thread Cert.AdamO1RefIdeal.nD Cert.AdamO1RefIdeal.τ).loc Cert.AdamO1RefIdeal.main_arg0)
      ∧ r.2.mem ((c.tc : Thread Cert.AdamO1RefIdeal.nD Cert.AdamO1RefIdeal.τ).loc Cert.AdamO1RefIdeal.main_arg1) = m ((c.tc : Thread Cert.AdamO1RefIdeal.nD Cert.AdamO1RefIdeal.τ).loc Cert.AdamO1RefIdeal.main_arg1)
      ∧ r.2.mem ((c.tc : Thread Cert.AdamO1RefIdeal.nD Cert.AdamO1RefIdeal.τ).loc Cert.AdamO1RefIdeal.main_arg2) = m ((c.tc : Thread Cert.AdamO1RefIdeal.nD Cert.AdamO1RefIdeal.τ).loc Cert.AdamO1RefIdeal.main_arg2)
      ∧ r.2.mem ((c.tc : Thread Cert.AdamO1RefIdeal.nD Cert.AdamO1RefIdeal.τ).loc Cert.AdamO1RefIdeal.main_arg3) = m ((c.tc : Thread Cert.AdamO1RefIdeal.nD Cert.AdamO1RefIdeal.τ).loc Cert.AdamO1RefIdeal.main_arg3)
      ∧ r.2.mem ((c.tc : Thread Cert.AdamO1RefIdeal.nD Cert.AdamO1RefIdeal.τ).loc Cert.AdamO1RefIdeal.main_arg4) = m ((c.tc : Thread Cert.AdamO1RefIdeal.nD Cert.AdamO1RefIdeal.τ).loc Cert.AdamO1RefIdeal.main_arg4)
      ∧ r.2.mem ((c.tc : Thread Cert.AdamO1RefIdeal.nD Cert.AdamO1RefIdeal.τ).loc Cert.AdamO1RefIdeal.main_arg5) = m ((c.tc : Thread Cert.AdamO1RefIdeal.nD Cert.AdamO1RefIdeal.τ).loc Cert.AdamO1RefIdeal.main_arg5)
      ∧ r.2.mem ((c.tc : Thread Cert.AdamO1RefIdeal.nD Cert.AdamO1RefIdeal.τ).loc Cert.AdamO1RefIdeal.main_arg6) = m ((c.tc : Thread Cert.AdamO1RefIdeal.nD Cert.AdamO1RefIdeal.τ).loc Cert.AdamO1RefIdeal.main_arg6)
      ∧ r.2.mem ((c.tc : Thread Cert.AdamO1RefIdeal.nD Cert.AdamO1RefIdeal.τ).loc Cert.AdamO1RefIdeal.main_arg7) = m ((c.tc : Thread Cert.AdamO1RefIdeal.nD Cert.AdamO1RefIdeal.τ).loc Cert.AdamO1RefIdeal.main_arg7)
      ∧ r.2.mem ((c.tc : Thread Cert.AdamO1RefIdeal.nD Cert.AdamO1RefIdeal.τ).loc Cert.AdamO1RefIdeal.main_arg8) = m ((c.tc : Thread Cert.AdamO1RefIdeal.nD Cert.AdamO1RefIdeal.τ).loc Cert.AdamO1RefIdeal.main_arg8)
      ∧ r.2.mem ((c.tc : Thread Cert.AdamO1RefIdeal.nD Cert.AdamO1RefIdeal.τ).loc Cert.AdamO1RefIdeal.main_arg9) = m ((c.tc : Thread Cert.AdamO1RefIdeal.nD Cert.AdamO1RefIdeal.τ).loc Cert.AdamO1RefIdeal.main_arg9))
      ∧ r.2.sem = fun _ => 0)

def quiescent_AdamGate0 [hAdamGate0 : Cert.AdamGate0.Facts] : Prop :=
  ∀ (m : (ℓ : Loc Cert.AdamGate0.nD Cert.AdamGate0.τ Cert.AdamGate0.sig) → Buf (Elt Bits) ℓ) (g : Dev Cert.AdamGate0.nD → PrngReg), Pre_AdamGate0 m →
    θ_run (Cert.AdamGate0.defs (F := Bits)) (onTc (τ := Cert.AdamGate0.τ) (Cert.AdamGate0.main (F := Bits))) ⟨m, fun _ => 0, g⟩ (fun r => (∀ c : Dev Cert.AdamGate0.nD,
      r.2.mem ((c.tc : Thread Cert.AdamGate0.nD Cert.AdamGate0.τ).loc Cert.AdamGate0.main_arg0) = m ((c.tc : Thread Cert.AdamGate0.nD Cert.AdamGate0.τ).loc Cert.AdamGate0.main_arg0)
      ∧ r.2.mem ((c.tc : Thread Cert.AdamGate0.nD Cert.AdamGate0.τ).loc Cert.AdamGate0.main_arg1) = m ((c.tc : Thread Cert.AdamGate0.nD Cert.AdamGate0.τ).loc Cert.AdamGate0.main_arg1)
      ∧ r.2.mem ((c.tc : Thread Cert.AdamGate0.nD Cert.AdamGate0.τ).loc Cert.AdamGate0.main_arg2) = m ((c.tc : Thread Cert.AdamGate0.nD Cert.AdamGate0.τ).loc Cert.AdamGate0.main_arg2)
      ∧ r.2.mem ((c.tc : Thread Cert.AdamGate0.nD Cert.AdamGate0.τ).loc Cert.AdamGate0.main_arg3) = m ((c.tc : Thread Cert.AdamGate0.nD Cert.AdamGate0.τ).loc Cert.AdamGate0.main_arg3)
      ∧ r.2.mem ((c.tc : Thread Cert.AdamGate0.nD Cert.AdamGate0.τ).loc Cert.AdamGate0.main_arg4) = m ((c.tc : Thread Cert.AdamGate0.nD Cert.AdamGate0.τ).loc Cert.AdamGate0.main_arg4)
      ∧ r.2.mem ((c.tc : Thread Cert.AdamGate0.nD Cert.AdamGate0.τ).loc Cert.AdamGate0.main_arg5) = m ((c.tc : Thread Cert.AdamGate0.nD Cert.AdamGate0.τ).loc Cert.AdamGate0.main_arg5)
      ∧ r.2.mem ((c.tc : Thread Cert.AdamGate0.nD Cert.AdamGate0.τ).loc Cert.AdamGate0.main_arg6) = m ((c.tc : Thread Cert.AdamGate0.nD Cert.AdamGate0.τ).loc Cert.AdamGate0.main_arg6)
      ∧ r.2.mem ((c.tc : Thread Cert.AdamGate0.nD Cert.AdamGate0.τ).loc Cert.AdamGate0.main_arg7) = m ((c.tc : Thread Cert.AdamGate0.nD Cert.AdamGate0.τ).loc Cert.AdamGate0.main_arg7)
      ∧ r.2.mem ((c.tc : Thread Cert.AdamGate0.nD Cert.AdamGate0.τ).loc Cert.AdamGate0.main_arg8) = m ((c.tc : Thread Cert.AdamGate0.nD Cert.AdamGate0.τ).loc Cert.AdamGate0.main_arg8)
      ∧ r.2.mem ((c.tc : Thread Cert.AdamGate0.nD Cert.AdamGate0.τ).loc Cert.AdamGate0.main_arg9) = m ((c.tc : Thread Cert.AdamGate0.nD Cert.AdamGate0.τ).loc Cert.AdamGate0.main_arg9))
      ∧ r.2.sem = fun _ => 0)

def quiescent_AdamGate0Ideal [hAdamGate0Ideal : Cert.AdamGate0Ideal.Facts] : Prop :=
  ∀ (m : (ℓ : Loc Cert.AdamGate0Ideal.nD Cert.AdamGate0Ideal.τ Cert.AdamGate0Ideal.sig) → Buf (Elt Ideal) ℓ) (g : Dev Cert.AdamGate0Ideal.nD → PrngReg), Pre_AdamGate0Ideal m →
    θ_run (Cert.AdamGate0Ideal.defs (F := Ideal)) (onTc (τ := Cert.AdamGate0Ideal.τ) (Cert.AdamGate0Ideal.main (F := Ideal))) ⟨m, fun _ => 0, g⟩ (fun r => (∀ c : Dev Cert.AdamGate0Ideal.nD,
      r.2.mem ((c.tc : Thread Cert.AdamGate0Ideal.nD Cert.AdamGate0Ideal.τ).loc Cert.AdamGate0Ideal.main_arg0) = m ((c.tc : Thread Cert.AdamGate0Ideal.nD Cert.AdamGate0Ideal.τ).loc Cert.AdamGate0Ideal.main_arg0)
      ∧ r.2.mem ((c.tc : Thread Cert.AdamGate0Ideal.nD Cert.AdamGate0Ideal.τ).loc Cert.AdamGate0Ideal.main_arg1) = m ((c.tc : Thread Cert.AdamGate0Ideal.nD Cert.AdamGate0Ideal.τ).loc Cert.AdamGate0Ideal.main_arg1)
      ∧ r.2.mem ((c.tc : Thread Cert.AdamGate0Ideal.nD Cert.AdamGate0Ideal.τ).loc Cert.AdamGate0Ideal.main_arg2) = m ((c.tc : Thread Cert.AdamGate0Ideal.nD Cert.AdamGate0Ideal.τ).loc Cert.AdamGate0Ideal.main_arg2)
      ∧ r.2.mem ((c.tc : Thread Cert.AdamGate0Ideal.nD Cert.AdamGate0Ideal.τ).loc Cert.AdamGate0Ideal.main_arg3) = m ((c.tc : Thread Cert.AdamGate0Ideal.nD Cert.AdamGate0Ideal.τ).loc Cert.AdamGate0Ideal.main_arg3)
      ∧ r.2.mem ((c.tc : Thread Cert.AdamGate0Ideal.nD Cert.AdamGate0Ideal.τ).loc Cert.AdamGate0Ideal.main_arg4) = m ((c.tc : Thread Cert.AdamGate0Ideal.nD Cert.AdamGate0Ideal.τ).loc Cert.AdamGate0Ideal.main_arg4)
      ∧ r.2.mem ((c.tc : Thread Cert.AdamGate0Ideal.nD Cert.AdamGate0Ideal.τ).loc Cert.AdamGate0Ideal.main_arg5) = m ((c.tc : Thread Cert.AdamGate0Ideal.nD Cert.AdamGate0Ideal.τ).loc Cert.AdamGate0Ideal.main_arg5)
      ∧ r.2.mem ((c.tc : Thread Cert.AdamGate0Ideal.nD Cert.AdamGate0Ideal.τ).loc Cert.AdamGate0Ideal.main_arg6) = m ((c.tc : Thread Cert.AdamGate0Ideal.nD Cert.AdamGate0Ideal.τ).loc Cert.AdamGate0Ideal.main_arg6)
      ∧ r.2.mem ((c.tc : Thread Cert.AdamGate0Ideal.nD Cert.AdamGate0Ideal.τ).loc Cert.AdamGate0Ideal.main_arg7) = m ((c.tc : Thread Cert.AdamGate0Ideal.nD Cert.AdamGate0Ideal.τ).loc Cert.AdamGate0Ideal.main_arg7)
      ∧ r.2.mem ((c.tc : Thread Cert.AdamGate0Ideal.nD Cert.AdamGate0Ideal.τ).loc Cert.AdamGate0Ideal.main_arg8) = m ((c.tc : Thread Cert.AdamGate0Ideal.nD Cert.AdamGate0Ideal.τ).loc Cert.AdamGate0Ideal.main_arg8)
      ∧ r.2.mem ((c.tc : Thread Cert.AdamGate0Ideal.nD Cert.AdamGate0Ideal.τ).loc Cert.AdamGate0Ideal.main_arg9) = m ((c.tc : Thread Cert.AdamGate0Ideal.nD Cert.AdamGate0Ideal.τ).loc Cert.AdamGate0Ideal.main_arg9))
      ∧ r.2.sem = fun _ => 0)

def quiescent_AdamGate0RefIdeal [hAdamGate0RefIdeal : Cert.AdamGate0RefIdeal.Facts] : Prop :=
  ∀ (m : (ℓ : Loc Cert.AdamGate0RefIdeal.nD Cert.AdamGate0RefIdeal.τ Cert.AdamGate0RefIdeal.sig) → Buf (Elt Ideal) ℓ) (g : Dev Cert.AdamGate0RefIdeal.nD → PrngReg), Pre_AdamGate0RefIdeal m →
    θ_run (Cert.AdamGate0RefIdeal.defs (F := Ideal)) (onTc (τ := Cert.AdamGate0RefIdeal.τ) (Cert.AdamGate0RefIdeal.main (F := Ideal))) ⟨m, fun _ => 0, g⟩ (fun r => (∀ c : Dev Cert.AdamGate0RefIdeal.nD,
      r.2.mem ((c.tc : Thread Cert.AdamGate0RefIdeal.nD Cert.AdamGate0RefIdeal.τ).loc Cert.AdamGate0RefIdeal.main_arg0) = m ((c.tc : Thread Cert.AdamGate0RefIdeal.nD Cert.AdamGate0RefIdeal.τ).loc Cert.AdamGate0RefIdeal.main_arg0)
      ∧ r.2.mem ((c.tc : Thread Cert.AdamGate0RefIdeal.nD Cert.AdamGate0RefIdeal.τ).loc Cert.AdamGate0RefIdeal.main_arg1) = m ((c.tc : Thread Cert.AdamGate0RefIdeal.nD Cert.AdamGate0RefIdeal.τ).loc Cert.AdamGate0RefIdeal.main_arg1)
      ∧ r.2.mem ((c.tc : Thread Cert.AdamGate0RefIdeal.nD Cert.AdamGate0RefIdeal.τ).loc Cert.AdamGate0RefIdeal.main_arg2) = m ((c.tc : Thread Cert.AdamGate0RefIdeal.nD Cert.AdamGate0RefIdeal.τ).loc Cert.AdamGate0RefIdeal.main_arg2)
      ∧ r.2.mem ((c.tc : Thread Cert.AdamGate0RefIdeal.nD Cert.AdamGate0RefIdeal.τ).loc Cert.AdamGate0RefIdeal.main_arg3) = m ((c.tc : Thread Cert.AdamGate0RefIdeal.nD Cert.AdamGate0RefIdeal.τ).loc Cert.AdamGate0RefIdeal.main_arg3)
      ∧ r.2.mem ((c.tc : Thread Cert.AdamGate0RefIdeal.nD Cert.AdamGate0RefIdeal.τ).loc Cert.AdamGate0RefIdeal.main_arg4) = m ((c.tc : Thread Cert.AdamGate0RefIdeal.nD Cert.AdamGate0RefIdeal.τ).loc Cert.AdamGate0RefIdeal.main_arg4)
      ∧ r.2.mem ((c.tc : Thread Cert.AdamGate0RefIdeal.nD Cert.AdamGate0RefIdeal.τ).loc Cert.AdamGate0RefIdeal.main_arg5) = m ((c.tc : Thread Cert.AdamGate0RefIdeal.nD Cert.AdamGate0RefIdeal.τ).loc Cert.AdamGate0RefIdeal.main_arg5)
      ∧ r.2.mem ((c.tc : Thread Cert.AdamGate0RefIdeal.nD Cert.AdamGate0RefIdeal.τ).loc Cert.AdamGate0RefIdeal.main_arg6) = m ((c.tc : Thread Cert.AdamGate0RefIdeal.nD Cert.AdamGate0RefIdeal.τ).loc Cert.AdamGate0RefIdeal.main_arg6)
      ∧ r.2.mem ((c.tc : Thread Cert.AdamGate0RefIdeal.nD Cert.AdamGate0RefIdeal.τ).loc Cert.AdamGate0RefIdeal.main_arg7) = m ((c.tc : Thread Cert.AdamGate0RefIdeal.nD Cert.AdamGate0RefIdeal.τ).loc Cert.AdamGate0RefIdeal.main_arg7)
      ∧ r.2.mem ((c.tc : Thread Cert.AdamGate0RefIdeal.nD Cert.AdamGate0RefIdeal.τ).loc Cert.AdamGate0RefIdeal.main_arg8) = m ((c.tc : Thread Cert.AdamGate0RefIdeal.nD Cert.AdamGate0RefIdeal.τ).loc Cert.AdamGate0RefIdeal.main_arg8)
      ∧ r.2.mem ((c.tc : Thread Cert.AdamGate0RefIdeal.nD Cert.AdamGate0RefIdeal.τ).loc Cert.AdamGate0RefIdeal.main_arg9) = m ((c.tc : Thread Cert.AdamGate0RefIdeal.nD Cert.AdamGate0RefIdeal.τ).loc Cert.AdamGate0RefIdeal.main_arg9))
      ∧ r.2.sem = fun _ => 0)

def quiescent_AdamGate1 [hAdamGate1 : Cert.AdamGate1.Facts] : Prop :=
  ∀ (m : (ℓ : Loc Cert.AdamGate1.nD Cert.AdamGate1.τ Cert.AdamGate1.sig) → Buf (Elt Bits) ℓ) (g : Dev Cert.AdamGate1.nD → PrngReg), Pre_AdamGate1 m →
    θ_run (Cert.AdamGate1.defs (F := Bits)) (onTc (τ := Cert.AdamGate1.τ) (Cert.AdamGate1.main (F := Bits))) ⟨m, fun _ => 0, g⟩ (fun r => (∀ c : Dev Cert.AdamGate1.nD,
      r.2.mem ((c.tc : Thread Cert.AdamGate1.nD Cert.AdamGate1.τ).loc Cert.AdamGate1.main_arg0) = m ((c.tc : Thread Cert.AdamGate1.nD Cert.AdamGate1.τ).loc Cert.AdamGate1.main_arg0)
      ∧ r.2.mem ((c.tc : Thread Cert.AdamGate1.nD Cert.AdamGate1.τ).loc Cert.AdamGate1.main_arg1) = m ((c.tc : Thread Cert.AdamGate1.nD Cert.AdamGate1.τ).loc Cert.AdamGate1.main_arg1)
      ∧ r.2.mem ((c.tc : Thread Cert.AdamGate1.nD Cert.AdamGate1.τ).loc Cert.AdamGate1.main_arg2) = m ((c.tc : Thread Cert.AdamGate1.nD Cert.AdamGate1.τ).loc Cert.AdamGate1.main_arg2)
      ∧ r.2.mem ((c.tc : Thread Cert.AdamGate1.nD Cert.AdamGate1.τ).loc Cert.AdamGate1.main_arg3) = m ((c.tc : Thread Cert.AdamGate1.nD Cert.AdamGate1.τ).loc Cert.AdamGate1.main_arg3)
      ∧ r.2.mem ((c.tc : Thread Cert.AdamGate1.nD Cert.AdamGate1.τ).loc Cert.AdamGate1.main_arg4) = m ((c.tc : Thread Cert.AdamGate1.nD Cert.AdamGate1.τ).loc Cert.AdamGate1.main_arg4)
      ∧ r.2.mem ((c.tc : Thread Cert.AdamGate1.nD Cert.AdamGate1.τ).loc Cert.AdamGate1.main_arg5) = m ((c.tc : Thread Cert.AdamGate1.nD Cert.AdamGate1.τ).loc Cert.AdamGate1.main_arg5)
      ∧ r.2.mem ((c.tc : Thread Cert.AdamGate1.nD Cert.AdamGate1.τ).loc Cert.AdamGate1.main_arg6) = m ((c.tc : Thread Cert.AdamGate1.nD Cert.AdamGate1.τ).loc Cert.AdamGate1.main_arg6)
      ∧ r.2.mem ((c.tc : Thread Cert.AdamGate1.nD Cert.AdamGate1.τ).loc Cert.AdamGate1.main_arg7) = m ((c.tc : Thread Cert.AdamGate1.nD Cert.AdamGate1.τ).loc Cert.AdamGate1.main_arg7)
      ∧ r.2.mem ((c.tc : Thread Cert.AdamGate1.nD Cert.AdamGate1.τ).loc Cert.AdamGate1.main_arg8) = m ((c.tc : Thread Cert.AdamGate1.nD Cert.AdamGate1.τ).loc Cert.AdamGate1.main_arg8)
      ∧ r.2.mem ((c.tc : Thread Cert.AdamGate1.nD Cert.AdamGate1.τ).loc Cert.AdamGate1.main_arg9) = m ((c.tc : Thread Cert.AdamGate1.nD Cert.AdamGate1.τ).loc Cert.AdamGate1.main_arg9))
      ∧ r.2.sem = fun _ => 0)

def quiescent_AdamGate1Ideal [hAdamGate1Ideal : Cert.AdamGate1Ideal.Facts] : Prop :=
  ∀ (m : (ℓ : Loc Cert.AdamGate1Ideal.nD Cert.AdamGate1Ideal.τ Cert.AdamGate1Ideal.sig) → Buf (Elt Ideal) ℓ) (g : Dev Cert.AdamGate1Ideal.nD → PrngReg), Pre_AdamGate1Ideal m →
    θ_run (Cert.AdamGate1Ideal.defs (F := Ideal)) (onTc (τ := Cert.AdamGate1Ideal.τ) (Cert.AdamGate1Ideal.main (F := Ideal))) ⟨m, fun _ => 0, g⟩ (fun r => (∀ c : Dev Cert.AdamGate1Ideal.nD,
      r.2.mem ((c.tc : Thread Cert.AdamGate1Ideal.nD Cert.AdamGate1Ideal.τ).loc Cert.AdamGate1Ideal.main_arg0) = m ((c.tc : Thread Cert.AdamGate1Ideal.nD Cert.AdamGate1Ideal.τ).loc Cert.AdamGate1Ideal.main_arg0)
      ∧ r.2.mem ((c.tc : Thread Cert.AdamGate1Ideal.nD Cert.AdamGate1Ideal.τ).loc Cert.AdamGate1Ideal.main_arg1) = m ((c.tc : Thread Cert.AdamGate1Ideal.nD Cert.AdamGate1Ideal.τ).loc Cert.AdamGate1Ideal.main_arg1)
      ∧ r.2.mem ((c.tc : Thread Cert.AdamGate1Ideal.nD Cert.AdamGate1Ideal.τ).loc Cert.AdamGate1Ideal.main_arg2) = m ((c.tc : Thread Cert.AdamGate1Ideal.nD Cert.AdamGate1Ideal.τ).loc Cert.AdamGate1Ideal.main_arg2)
      ∧ r.2.mem ((c.tc : Thread Cert.AdamGate1Ideal.nD Cert.AdamGate1Ideal.τ).loc Cert.AdamGate1Ideal.main_arg3) = m ((c.tc : Thread Cert.AdamGate1Ideal.nD Cert.AdamGate1Ideal.τ).loc Cert.AdamGate1Ideal.main_arg3)
      ∧ r.2.mem ((c.tc : Thread Cert.AdamGate1Ideal.nD Cert.AdamGate1Ideal.τ).loc Cert.AdamGate1Ideal.main_arg4) = m ((c.tc : Thread Cert.AdamGate1Ideal.nD Cert.AdamGate1Ideal.τ).loc Cert.AdamGate1Ideal.main_arg4)
      ∧ r.2.mem ((c.tc : Thread Cert.AdamGate1Ideal.nD Cert.AdamGate1Ideal.τ).loc Cert.AdamGate1Ideal.main_arg5) = m ((c.tc : Thread Cert.AdamGate1Ideal.nD Cert.AdamGate1Ideal.τ).loc Cert.AdamGate1Ideal.main_arg5)
      ∧ r.2.mem ((c.tc : Thread Cert.AdamGate1Ideal.nD Cert.AdamGate1Ideal.τ).loc Cert.AdamGate1Ideal.main_arg6) = m ((c.tc : Thread Cert.AdamGate1Ideal.nD Cert.AdamGate1Ideal.τ).loc Cert.AdamGate1Ideal.main_arg6)
      ∧ r.2.mem ((c.tc : Thread Cert.AdamGate1Ideal.nD Cert.AdamGate1Ideal.τ).loc Cert.AdamGate1Ideal.main_arg7) = m ((c.tc : Thread Cert.AdamGate1Ideal.nD Cert.AdamGate1Ideal.τ).loc Cert.AdamGate1Ideal.main_arg7)
      ∧ r.2.mem ((c.tc : Thread Cert.AdamGate1Ideal.nD Cert.AdamGate1Ideal.τ).loc Cert.AdamGate1Ideal.main_arg8) = m ((c.tc : Thread Cert.AdamGate1Ideal.nD Cert.AdamGate1Ideal.τ).loc Cert.AdamGate1Ideal.main_arg8)
      ∧ r.2.mem ((c.tc : Thread Cert.AdamGate1Ideal.nD Cert.AdamGate1Ideal.τ).loc Cert.AdamGate1Ideal.main_arg9) = m ((c.tc : Thread Cert.AdamGate1Ideal.nD Cert.AdamGate1Ideal.τ).loc Cert.AdamGate1Ideal.main_arg9))
      ∧ r.2.sem = fun _ => 0)

def quiescent_AdamGate1RefIdeal [hAdamGate1RefIdeal : Cert.AdamGate1RefIdeal.Facts] : Prop :=
  ∀ (m : (ℓ : Loc Cert.AdamGate1RefIdeal.nD Cert.AdamGate1RefIdeal.τ Cert.AdamGate1RefIdeal.sig) → Buf (Elt Ideal) ℓ) (g : Dev Cert.AdamGate1RefIdeal.nD → PrngReg), Pre_AdamGate1RefIdeal m →
    θ_run (Cert.AdamGate1RefIdeal.defs (F := Ideal)) (onTc (τ := Cert.AdamGate1RefIdeal.τ) (Cert.AdamGate1RefIdeal.main (F := Ideal))) ⟨m, fun _ => 0, g⟩ (fun r => (∀ c : Dev Cert.AdamGate1RefIdeal.nD,
      r.2.mem ((c.tc : Thread Cert.AdamGate1RefIdeal.nD Cert.AdamGate1RefIdeal.τ).loc Cert.AdamGate1RefIdeal.main_arg0) = m ((c.tc : Thread Cert.AdamGate1RefIdeal.nD Cert.AdamGate1RefIdeal.τ).loc Cert.AdamGate1RefIdeal.main_arg0)
      ∧ r.2.mem ((c.tc : Thread Cert.AdamGate1RefIdeal.nD Cert.AdamGate1RefIdeal.τ).loc Cert.AdamGate1RefIdeal.main_arg1) = m ((c.tc : Thread Cert.AdamGate1RefIdeal.nD Cert.AdamGate1RefIdeal.τ).loc Cert.AdamGate1RefIdeal.main_arg1)
      ∧ r.2.mem ((c.tc : Thread Cert.AdamGate1RefIdeal.nD Cert.AdamGate1RefIdeal.τ).loc Cert.AdamGate1RefIdeal.main_arg2) = m ((c.tc : Thread Cert.AdamGate1RefIdeal.nD Cert.AdamGate1RefIdeal.τ).loc Cert.AdamGate1RefIdeal.main_arg2)
      ∧ r.2.mem ((c.tc : Thread Cert.AdamGate1RefIdeal.nD Cert.AdamGate1RefIdeal.τ).loc Cert.AdamGate1RefIdeal.main_arg3) = m ((c.tc : Thread Cert.AdamGate1RefIdeal.nD Cert.AdamGate1RefIdeal.τ).loc Cert.AdamGate1RefIdeal.main_arg3)
      ∧ r.2.mem ((c.tc : Thread Cert.AdamGate1RefIdeal.nD Cert.AdamGate1RefIdeal.τ).loc Cert.AdamGate1RefIdeal.main_arg4) = m ((c.tc : Thread Cert.AdamGate1RefIdeal.nD Cert.AdamGate1RefIdeal.τ).loc Cert.AdamGate1RefIdeal.main_arg4)
      ∧ r.2.mem ((c.tc : Thread Cert.AdamGate1RefIdeal.nD Cert.AdamGate1RefIdeal.τ).loc Cert.AdamGate1RefIdeal.main_arg5) = m ((c.tc : Thread Cert.AdamGate1RefIdeal.nD Cert.AdamGate1RefIdeal.τ).loc Cert.AdamGate1RefIdeal.main_arg5)
      ∧ r.2.mem ((c.tc : Thread Cert.AdamGate1RefIdeal.nD Cert.AdamGate1RefIdeal.τ).loc Cert.AdamGate1RefIdeal.main_arg6) = m ((c.tc : Thread Cert.AdamGate1RefIdeal.nD Cert.AdamGate1RefIdeal.τ).loc Cert.AdamGate1RefIdeal.main_arg6)
      ∧ r.2.mem ((c.tc : Thread Cert.AdamGate1RefIdeal.nD Cert.AdamGate1RefIdeal.τ).loc Cert.AdamGate1RefIdeal.main_arg7) = m ((c.tc : Thread Cert.AdamGate1RefIdeal.nD Cert.AdamGate1RefIdeal.τ).loc Cert.AdamGate1RefIdeal.main_arg7)
      ∧ r.2.mem ((c.tc : Thread Cert.AdamGate1RefIdeal.nD Cert.AdamGate1RefIdeal.τ).loc Cert.AdamGate1RefIdeal.main_arg8) = m ((c.tc : Thread Cert.AdamGate1RefIdeal.nD Cert.AdamGate1RefIdeal.τ).loc Cert.AdamGate1RefIdeal.main_arg8)
      ∧ r.2.mem ((c.tc : Thread Cert.AdamGate1RefIdeal.nD Cert.AdamGate1RefIdeal.τ).loc Cert.AdamGate1RefIdeal.main_arg9) = m ((c.tc : Thread Cert.AdamGate1RefIdeal.nD Cert.AdamGate1RefIdeal.τ).loc Cert.AdamGate1RefIdeal.main_arg9))
      ∧ r.2.sem = fun _ => 0)

def quiescent_AdamGate2 [hAdamGate2 : Cert.AdamGate2.Facts] : Prop :=
  ∀ (m : (ℓ : Loc Cert.AdamGate2.nD Cert.AdamGate2.τ Cert.AdamGate2.sig) → Buf (Elt Bits) ℓ) (g : Dev Cert.AdamGate2.nD → PrngReg), Pre_AdamGate2 m →
    θ_run (Cert.AdamGate2.defs (F := Bits)) (onTc (τ := Cert.AdamGate2.τ) (Cert.AdamGate2.main (F := Bits))) ⟨m, fun _ => 0, g⟩ (fun r => (∀ c : Dev Cert.AdamGate2.nD,
      r.2.mem ((c.tc : Thread Cert.AdamGate2.nD Cert.AdamGate2.τ).loc Cert.AdamGate2.main_arg0) = m ((c.tc : Thread Cert.AdamGate2.nD Cert.AdamGate2.τ).loc Cert.AdamGate2.main_arg0)
      ∧ r.2.mem ((c.tc : Thread Cert.AdamGate2.nD Cert.AdamGate2.τ).loc Cert.AdamGate2.main_arg1) = m ((c.tc : Thread Cert.AdamGate2.nD Cert.AdamGate2.τ).loc Cert.AdamGate2.main_arg1)
      ∧ r.2.mem ((c.tc : Thread Cert.AdamGate2.nD Cert.AdamGate2.τ).loc Cert.AdamGate2.main_arg2) = m ((c.tc : Thread Cert.AdamGate2.nD Cert.AdamGate2.τ).loc Cert.AdamGate2.main_arg2)
      ∧ r.2.mem ((c.tc : Thread Cert.AdamGate2.nD Cert.AdamGate2.τ).loc Cert.AdamGate2.main_arg3) = m ((c.tc : Thread Cert.AdamGate2.nD Cert.AdamGate2.τ).loc Cert.AdamGate2.main_arg3)
      ∧ r.2.mem ((c.tc : Thread Cert.AdamGate2.nD Cert.AdamGate2.τ).loc Cert.AdamGate2.main_arg4) = m ((c.tc : Thread Cert.AdamGate2.nD Cert.AdamGate2.τ).loc Cert.AdamGate2.main_arg4)
      ∧ r.2.mem ((c.tc : Thread Cert.AdamGate2.nD Cert.AdamGate2.τ).loc Cert.AdamGate2.main_arg5) = m ((c.tc : Thread Cert.AdamGate2.nD Cert.AdamGate2.τ).loc Cert.AdamGate2.main_arg5)
      ∧ r.2.mem ((c.tc : Thread Cert.AdamGate2.nD Cert.AdamGate2.τ).loc Cert.AdamGate2.main_arg6) = m ((c.tc : Thread Cert.AdamGate2.nD Cert.AdamGate2.τ).loc Cert.AdamGate2.main_arg6)
      ∧ r.2.mem ((c.tc : Thread Cert.AdamGate2.nD Cert.AdamGate2.τ).loc Cert.AdamGate2.main_arg7) = m ((c.tc : Thread Cert.AdamGate2.nD Cert.AdamGate2.τ).loc Cert.AdamGate2.main_arg7)
      ∧ r.2.mem ((c.tc : Thread Cert.AdamGate2.nD Cert.AdamGate2.τ).loc Cert.AdamGate2.main_arg8) = m ((c.tc : Thread Cert.AdamGate2.nD Cert.AdamGate2.τ).loc Cert.AdamGate2.main_arg8)
      ∧ r.2.mem ((c.tc : Thread Cert.AdamGate2.nD Cert.AdamGate2.τ).loc Cert.AdamGate2.main_arg9) = m ((c.tc : Thread Cert.AdamGate2.nD Cert.AdamGate2.τ).loc Cert.AdamGate2.main_arg9))
      ∧ r.2.sem = fun _ => 0)

def quiescent_AdamGate2Ideal [hAdamGate2Ideal : Cert.AdamGate2Ideal.Facts] : Prop :=
  ∀ (m : (ℓ : Loc Cert.AdamGate2Ideal.nD Cert.AdamGate2Ideal.τ Cert.AdamGate2Ideal.sig) → Buf (Elt Ideal) ℓ) (g : Dev Cert.AdamGate2Ideal.nD → PrngReg), Pre_AdamGate2Ideal m →
    θ_run (Cert.AdamGate2Ideal.defs (F := Ideal)) (onTc (τ := Cert.AdamGate2Ideal.τ) (Cert.AdamGate2Ideal.main (F := Ideal))) ⟨m, fun _ => 0, g⟩ (fun r => (∀ c : Dev Cert.AdamGate2Ideal.nD,
      r.2.mem ((c.tc : Thread Cert.AdamGate2Ideal.nD Cert.AdamGate2Ideal.τ).loc Cert.AdamGate2Ideal.main_arg0) = m ((c.tc : Thread Cert.AdamGate2Ideal.nD Cert.AdamGate2Ideal.τ).loc Cert.AdamGate2Ideal.main_arg0)
      ∧ r.2.mem ((c.tc : Thread Cert.AdamGate2Ideal.nD Cert.AdamGate2Ideal.τ).loc Cert.AdamGate2Ideal.main_arg1) = m ((c.tc : Thread Cert.AdamGate2Ideal.nD Cert.AdamGate2Ideal.τ).loc Cert.AdamGate2Ideal.main_arg1)
      ∧ r.2.mem ((c.tc : Thread Cert.AdamGate2Ideal.nD Cert.AdamGate2Ideal.τ).loc Cert.AdamGate2Ideal.main_arg2) = m ((c.tc : Thread Cert.AdamGate2Ideal.nD Cert.AdamGate2Ideal.τ).loc Cert.AdamGate2Ideal.main_arg2)
      ∧ r.2.mem ((c.tc : Thread Cert.AdamGate2Ideal.nD Cert.AdamGate2Ideal.τ).loc Cert.AdamGate2Ideal.main_arg3) = m ((c.tc : Thread Cert.AdamGate2Ideal.nD Cert.AdamGate2Ideal.τ).loc Cert.AdamGate2Ideal.main_arg3)
      ∧ r.2.mem ((c.tc : Thread Cert.AdamGate2Ideal.nD Cert.AdamGate2Ideal.τ).loc Cert.AdamGate2Ideal.main_arg4) = m ((c.tc : Thread Cert.AdamGate2Ideal.nD Cert.AdamGate2Ideal.τ).loc Cert.AdamGate2Ideal.main_arg4)
      ∧ r.2.mem ((c.tc : Thread Cert.AdamGate2Ideal.nD Cert.AdamGate2Ideal.τ).loc Cert.AdamGate2Ideal.main_arg5) = m ((c.tc : Thread Cert.AdamGate2Ideal.nD Cert.AdamGate2Ideal.τ).loc Cert.AdamGate2Ideal.main_arg5)
      ∧ r.2.mem ((c.tc : Thread Cert.AdamGate2Ideal.nD Cert.AdamGate2Ideal.τ).loc Cert.AdamGate2Ideal.main_arg6) = m ((c.tc : Thread Cert.AdamGate2Ideal.nD Cert.AdamGate2Ideal.τ).loc Cert.AdamGate2Ideal.main_arg6)
      ∧ r.2.mem ((c.tc : Thread Cert.AdamGate2Ideal.nD Cert.AdamGate2Ideal.τ).loc Cert.AdamGate2Ideal.main_arg7) = m ((c.tc : Thread Cert.AdamGate2Ideal.nD Cert.AdamGate2Ideal.τ).loc Cert.AdamGate2Ideal.main_arg7)
      ∧ r.2.mem ((c.tc : Thread Cert.AdamGate2Ideal.nD Cert.AdamGate2Ideal.τ).loc Cert.AdamGate2Ideal.main_arg8) = m ((c.tc : Thread Cert.AdamGate2Ideal.nD Cert.AdamGate2Ideal.τ).loc Cert.AdamGate2Ideal.main_arg8)
      ∧ r.2.mem ((c.tc : Thread Cert.AdamGate2Ideal.nD Cert.AdamGate2Ideal.τ).loc Cert.AdamGate2Ideal.main_arg9) = m ((c.tc : Thread Cert.AdamGate2Ideal.nD Cert.AdamGate2Ideal.τ).loc Cert.AdamGate2Ideal.main_arg9))
      ∧ r.2.sem = fun _ => 0)

def quiescent_AdamGate2RefIdeal [hAdamGate2RefIdeal : Cert.AdamGate2RefIdeal.Facts] : Prop :=
  ∀ (m : (ℓ : Loc Cert.AdamGate2RefIdeal.nD Cert.AdamGate2RefIdeal.τ Cert.AdamGate2RefIdeal.sig) → Buf (Elt Ideal) ℓ) (g : Dev Cert.AdamGate2RefIdeal.nD → PrngReg), Pre_AdamGate2RefIdeal m →
    θ_run (Cert.AdamGate2RefIdeal.defs (F := Ideal)) (onTc (τ := Cert.AdamGate2RefIdeal.τ) (Cert.AdamGate2RefIdeal.main (F := Ideal))) ⟨m, fun _ => 0, g⟩ (fun r => (∀ c : Dev Cert.AdamGate2RefIdeal.nD,
      r.2.mem ((c.tc : Thread Cert.AdamGate2RefIdeal.nD Cert.AdamGate2RefIdeal.τ).loc Cert.AdamGate2RefIdeal.main_arg0) = m ((c.tc : Thread Cert.AdamGate2RefIdeal.nD Cert.AdamGate2RefIdeal.τ).loc Cert.AdamGate2RefIdeal.main_arg0)
      ∧ r.2.mem ((c.tc : Thread Cert.AdamGate2RefIdeal.nD Cert.AdamGate2RefIdeal.τ).loc Cert.AdamGate2RefIdeal.main_arg1) = m ((c.tc : Thread Cert.AdamGate2RefIdeal.nD Cert.AdamGate2RefIdeal.τ).loc Cert.AdamGate2RefIdeal.main_arg1)
      ∧ r.2.mem ((c.tc : Thread Cert.AdamGate2RefIdeal.nD Cert.AdamGate2RefIdeal.τ).loc Cert.AdamGate2RefIdeal.main_arg2) = m ((c.tc : Thread Cert.AdamGate2RefIdeal.nD Cert.AdamGate2RefIdeal.τ).loc Cert.AdamGate2RefIdeal.main_arg2)
      ∧ r.2.mem ((c.tc : Thread Cert.AdamGate2RefIdeal.nD Cert.AdamGate2RefIdeal.τ).loc Cert.AdamGate2RefIdeal.main_arg3) = m ((c.tc : Thread Cert.AdamGate2RefIdeal.nD Cert.AdamGate2RefIdeal.τ).loc Cert.AdamGate2RefIdeal.main_arg3)
      ∧ r.2.mem ((c.tc : Thread Cert.AdamGate2RefIdeal.nD Cert.AdamGate2RefIdeal.τ).loc Cert.AdamGate2RefIdeal.main_arg4) = m ((c.tc : Thread Cert.AdamGate2RefIdeal.nD Cert.AdamGate2RefIdeal.τ).loc Cert.AdamGate2RefIdeal.main_arg4)
      ∧ r.2.mem ((c.tc : Thread Cert.AdamGate2RefIdeal.nD Cert.AdamGate2RefIdeal.τ).loc Cert.AdamGate2RefIdeal.main_arg5) = m ((c.tc : Thread Cert.AdamGate2RefIdeal.nD Cert.AdamGate2RefIdeal.τ).loc Cert.AdamGate2RefIdeal.main_arg5)
      ∧ r.2.mem ((c.tc : Thread Cert.AdamGate2RefIdeal.nD Cert.AdamGate2RefIdeal.τ).loc Cert.AdamGate2RefIdeal.main_arg6) = m ((c.tc : Thread Cert.AdamGate2RefIdeal.nD Cert.AdamGate2RefIdeal.τ).loc Cert.AdamGate2RefIdeal.main_arg6)
      ∧ r.2.mem ((c.tc : Thread Cert.AdamGate2RefIdeal.nD Cert.AdamGate2RefIdeal.τ).loc Cert.AdamGate2RefIdeal.main_arg7) = m ((c.tc : Thread Cert.AdamGate2RefIdeal.nD Cert.AdamGate2RefIdeal.τ).loc Cert.AdamGate2RefIdeal.main_arg7)
      ∧ r.2.mem ((c.tc : Thread Cert.AdamGate2RefIdeal.nD Cert.AdamGate2RefIdeal.τ).loc Cert.AdamGate2RefIdeal.main_arg8) = m ((c.tc : Thread Cert.AdamGate2RefIdeal.nD Cert.AdamGate2RefIdeal.τ).loc Cert.AdamGate2RefIdeal.main_arg8)
      ∧ r.2.mem ((c.tc : Thread Cert.AdamGate2RefIdeal.nD Cert.AdamGate2RefIdeal.τ).loc Cert.AdamGate2RefIdeal.main_arg9) = m ((c.tc : Thread Cert.AdamGate2RefIdeal.nD Cert.AdamGate2RefIdeal.τ).loc Cert.AdamGate2RefIdeal.main_arg9))
      ∧ r.2.sem = fun _ => 0)

def quiescent_AdamGate3 [hAdamGate3 : Cert.AdamGate3.Facts] : Prop :=
  ∀ (m : (ℓ : Loc Cert.AdamGate3.nD Cert.AdamGate3.τ Cert.AdamGate3.sig) → Buf (Elt Bits) ℓ) (g : Dev Cert.AdamGate3.nD → PrngReg), Pre_AdamGate3 m →
    θ_run (Cert.AdamGate3.defs (F := Bits)) (onTc (τ := Cert.AdamGate3.τ) (Cert.AdamGate3.main (F := Bits))) ⟨m, fun _ => 0, g⟩ (fun r => (∀ c : Dev Cert.AdamGate3.nD,
      r.2.mem ((c.tc : Thread Cert.AdamGate3.nD Cert.AdamGate3.τ).loc Cert.AdamGate3.main_arg0) = m ((c.tc : Thread Cert.AdamGate3.nD Cert.AdamGate3.τ).loc Cert.AdamGate3.main_arg0)
      ∧ r.2.mem ((c.tc : Thread Cert.AdamGate3.nD Cert.AdamGate3.τ).loc Cert.AdamGate3.main_arg1) = m ((c.tc : Thread Cert.AdamGate3.nD Cert.AdamGate3.τ).loc Cert.AdamGate3.main_arg1)
      ∧ r.2.mem ((c.tc : Thread Cert.AdamGate3.nD Cert.AdamGate3.τ).loc Cert.AdamGate3.main_arg2) = m ((c.tc : Thread Cert.AdamGate3.nD Cert.AdamGate3.τ).loc Cert.AdamGate3.main_arg2)
      ∧ r.2.mem ((c.tc : Thread Cert.AdamGate3.nD Cert.AdamGate3.τ).loc Cert.AdamGate3.main_arg3) = m ((c.tc : Thread Cert.AdamGate3.nD Cert.AdamGate3.τ).loc Cert.AdamGate3.main_arg3)
      ∧ r.2.mem ((c.tc : Thread Cert.AdamGate3.nD Cert.AdamGate3.τ).loc Cert.AdamGate3.main_arg4) = m ((c.tc : Thread Cert.AdamGate3.nD Cert.AdamGate3.τ).loc Cert.AdamGate3.main_arg4)
      ∧ r.2.mem ((c.tc : Thread Cert.AdamGate3.nD Cert.AdamGate3.τ).loc Cert.AdamGate3.main_arg5) = m ((c.tc : Thread Cert.AdamGate3.nD Cert.AdamGate3.τ).loc Cert.AdamGate3.main_arg5)
      ∧ r.2.mem ((c.tc : Thread Cert.AdamGate3.nD Cert.AdamGate3.τ).loc Cert.AdamGate3.main_arg6) = m ((c.tc : Thread Cert.AdamGate3.nD Cert.AdamGate3.τ).loc Cert.AdamGate3.main_arg6)
      ∧ r.2.mem ((c.tc : Thread Cert.AdamGate3.nD Cert.AdamGate3.τ).loc Cert.AdamGate3.main_arg7) = m ((c.tc : Thread Cert.AdamGate3.nD Cert.AdamGate3.τ).loc Cert.AdamGate3.main_arg7)
      ∧ r.2.mem ((c.tc : Thread Cert.AdamGate3.nD Cert.AdamGate3.τ).loc Cert.AdamGate3.main_arg8) = m ((c.tc : Thread Cert.AdamGate3.nD Cert.AdamGate3.τ).loc Cert.AdamGate3.main_arg8)
      ∧ r.2.mem ((c.tc : Thread Cert.AdamGate3.nD Cert.AdamGate3.τ).loc Cert.AdamGate3.main_arg9) = m ((c.tc : Thread Cert.AdamGate3.nD Cert.AdamGate3.τ).loc Cert.AdamGate3.main_arg9))
      ∧ r.2.sem = fun _ => 0)

def quiescent_AdamGate3Ideal [hAdamGate3Ideal : Cert.AdamGate3Ideal.Facts] : Prop :=
  ∀ (m : (ℓ : Loc Cert.AdamGate3Ideal.nD Cert.AdamGate3Ideal.τ Cert.AdamGate3Ideal.sig) → Buf (Elt Ideal) ℓ) (g : Dev Cert.AdamGate3Ideal.nD → PrngReg), Pre_AdamGate3Ideal m →
    θ_run (Cert.AdamGate3Ideal.defs (F := Ideal)) (onTc (τ := Cert.AdamGate3Ideal.τ) (Cert.AdamGate3Ideal.main (F := Ideal))) ⟨m, fun _ => 0, g⟩ (fun r => (∀ c : Dev Cert.AdamGate3Ideal.nD,
      r.2.mem ((c.tc : Thread Cert.AdamGate3Ideal.nD Cert.AdamGate3Ideal.τ).loc Cert.AdamGate3Ideal.main_arg0) = m ((c.tc : Thread Cert.AdamGate3Ideal.nD Cert.AdamGate3Ideal.τ).loc Cert.AdamGate3Ideal.main_arg0)
      ∧ r.2.mem ((c.tc : Thread Cert.AdamGate3Ideal.nD Cert.AdamGate3Ideal.τ).loc Cert.AdamGate3Ideal.main_arg1) = m ((c.tc : Thread Cert.AdamGate3Ideal.nD Cert.AdamGate3Ideal.τ).loc Cert.AdamGate3Ideal.main_arg1)
      ∧ r.2.mem ((c.tc : Thread Cert.AdamGate3Ideal.nD Cert.AdamGate3Ideal.τ).loc Cert.AdamGate3Ideal.main_arg2) = m ((c.tc : Thread Cert.AdamGate3Ideal.nD Cert.AdamGate3Ideal.τ).loc Cert.AdamGate3Ideal.main_arg2)
      ∧ r.2.mem ((c.tc : Thread Cert.AdamGate3Ideal.nD Cert.AdamGate3Ideal.τ).loc Cert.AdamGate3Ideal.main_arg3) = m ((c.tc : Thread Cert.AdamGate3Ideal.nD Cert.AdamGate3Ideal.τ).loc Cert.AdamGate3Ideal.main_arg3)
      ∧ r.2.mem ((c.tc : Thread Cert.AdamGate3Ideal.nD Cert.AdamGate3Ideal.τ).loc Cert.AdamGate3Ideal.main_arg4) = m ((c.tc : Thread Cert.AdamGate3Ideal.nD Cert.AdamGate3Ideal.τ).loc Cert.AdamGate3Ideal.main_arg4)
      ∧ r.2.mem ((c.tc : Thread Cert.AdamGate3Ideal.nD Cert.AdamGate3Ideal.τ).loc Cert.AdamGate3Ideal.main_arg5) = m ((c.tc : Thread Cert.AdamGate3Ideal.nD Cert.AdamGate3Ideal.τ).loc Cert.AdamGate3Ideal.main_arg5)
      ∧ r.2.mem ((c.tc : Thread Cert.AdamGate3Ideal.nD Cert.AdamGate3Ideal.τ).loc Cert.AdamGate3Ideal.main_arg6) = m ((c.tc : Thread Cert.AdamGate3Ideal.nD Cert.AdamGate3Ideal.τ).loc Cert.AdamGate3Ideal.main_arg6)
      ∧ r.2.mem ((c.tc : Thread Cert.AdamGate3Ideal.nD Cert.AdamGate3Ideal.τ).loc Cert.AdamGate3Ideal.main_arg7) = m ((c.tc : Thread Cert.AdamGate3Ideal.nD Cert.AdamGate3Ideal.τ).loc Cert.AdamGate3Ideal.main_arg7)
      ∧ r.2.mem ((c.tc : Thread Cert.AdamGate3Ideal.nD Cert.AdamGate3Ideal.τ).loc Cert.AdamGate3Ideal.main_arg8) = m ((c.tc : Thread Cert.AdamGate3Ideal.nD Cert.AdamGate3Ideal.τ).loc Cert.AdamGate3Ideal.main_arg8)
      ∧ r.2.mem ((c.tc : Thread Cert.AdamGate3Ideal.nD Cert.AdamGate3Ideal.τ).loc Cert.AdamGate3Ideal.main_arg9) = m ((c.tc : Thread Cert.AdamGate3Ideal.nD Cert.AdamGate3Ideal.τ).loc Cert.AdamGate3Ideal.main_arg9))
      ∧ r.2.sem = fun _ => 0)

def quiescent_AdamGate3RefIdeal [hAdamGate3RefIdeal : Cert.AdamGate3RefIdeal.Facts] : Prop :=
  ∀ (m : (ℓ : Loc Cert.AdamGate3RefIdeal.nD Cert.AdamGate3RefIdeal.τ Cert.AdamGate3RefIdeal.sig) → Buf (Elt Ideal) ℓ) (g : Dev Cert.AdamGate3RefIdeal.nD → PrngReg), Pre_AdamGate3RefIdeal m →
    θ_run (Cert.AdamGate3RefIdeal.defs (F := Ideal)) (onTc (τ := Cert.AdamGate3RefIdeal.τ) (Cert.AdamGate3RefIdeal.main (F := Ideal))) ⟨m, fun _ => 0, g⟩ (fun r => (∀ c : Dev Cert.AdamGate3RefIdeal.nD,
      r.2.mem ((c.tc : Thread Cert.AdamGate3RefIdeal.nD Cert.AdamGate3RefIdeal.τ).loc Cert.AdamGate3RefIdeal.main_arg0) = m ((c.tc : Thread Cert.AdamGate3RefIdeal.nD Cert.AdamGate3RefIdeal.τ).loc Cert.AdamGate3RefIdeal.main_arg0)
      ∧ r.2.mem ((c.tc : Thread Cert.AdamGate3RefIdeal.nD Cert.AdamGate3RefIdeal.τ).loc Cert.AdamGate3RefIdeal.main_arg1) = m ((c.tc : Thread Cert.AdamGate3RefIdeal.nD Cert.AdamGate3RefIdeal.τ).loc Cert.AdamGate3RefIdeal.main_arg1)
      ∧ r.2.mem ((c.tc : Thread Cert.AdamGate3RefIdeal.nD Cert.AdamGate3RefIdeal.τ).loc Cert.AdamGate3RefIdeal.main_arg2) = m ((c.tc : Thread Cert.AdamGate3RefIdeal.nD Cert.AdamGate3RefIdeal.τ).loc Cert.AdamGate3RefIdeal.main_arg2)
      ∧ r.2.mem ((c.tc : Thread Cert.AdamGate3RefIdeal.nD Cert.AdamGate3RefIdeal.τ).loc Cert.AdamGate3RefIdeal.main_arg3) = m ((c.tc : Thread Cert.AdamGate3RefIdeal.nD Cert.AdamGate3RefIdeal.τ).loc Cert.AdamGate3RefIdeal.main_arg3)
      ∧ r.2.mem ((c.tc : Thread Cert.AdamGate3RefIdeal.nD Cert.AdamGate3RefIdeal.τ).loc Cert.AdamGate3RefIdeal.main_arg4) = m ((c.tc : Thread Cert.AdamGate3RefIdeal.nD Cert.AdamGate3RefIdeal.τ).loc Cert.AdamGate3RefIdeal.main_arg4)
      ∧ r.2.mem ((c.tc : Thread Cert.AdamGate3RefIdeal.nD Cert.AdamGate3RefIdeal.τ).loc Cert.AdamGate3RefIdeal.main_arg5) = m ((c.tc : Thread Cert.AdamGate3RefIdeal.nD Cert.AdamGate3RefIdeal.τ).loc Cert.AdamGate3RefIdeal.main_arg5)
      ∧ r.2.mem ((c.tc : Thread Cert.AdamGate3RefIdeal.nD Cert.AdamGate3RefIdeal.τ).loc Cert.AdamGate3RefIdeal.main_arg6) = m ((c.tc : Thread Cert.AdamGate3RefIdeal.nD Cert.AdamGate3RefIdeal.τ).loc Cert.AdamGate3RefIdeal.main_arg6)
      ∧ r.2.mem ((c.tc : Thread Cert.AdamGate3RefIdeal.nD Cert.AdamGate3RefIdeal.τ).loc Cert.AdamGate3RefIdeal.main_arg7) = m ((c.tc : Thread Cert.AdamGate3RefIdeal.nD Cert.AdamGate3RefIdeal.τ).loc Cert.AdamGate3RefIdeal.main_arg7)
      ∧ r.2.mem ((c.tc : Thread Cert.AdamGate3RefIdeal.nD Cert.AdamGate3RefIdeal.τ).loc Cert.AdamGate3RefIdeal.main_arg8) = m ((c.tc : Thread Cert.AdamGate3RefIdeal.nD Cert.AdamGate3RefIdeal.τ).loc Cert.AdamGate3RefIdeal.main_arg8)
      ∧ r.2.mem ((c.tc : Thread Cert.AdamGate3RefIdeal.nD Cert.AdamGate3RefIdeal.τ).loc Cert.AdamGate3RefIdeal.main_arg9) = m ((c.tc : Thread Cert.AdamGate3RefIdeal.nD Cert.AdamGate3RefIdeal.τ).loc Cert.AdamGate3RefIdeal.main_arg9))
      ∧ r.2.sem = fun _ => 0)

def quiescent_AdamDown0 [hAdamDown0 : Cert.AdamDown0.Facts] : Prop :=
  ∀ (m : (ℓ : Loc Cert.AdamDown0.nD Cert.AdamDown0.τ Cert.AdamDown0.sig) → Buf (Elt Bits) ℓ) (g : Dev Cert.AdamDown0.nD → PrngReg), Pre_AdamDown0 m →
    θ_run (Cert.AdamDown0.defs (F := Bits)) (onTc (τ := Cert.AdamDown0.τ) (Cert.AdamDown0.main (F := Bits))) ⟨m, fun _ => 0, g⟩ (fun r => (∀ c : Dev Cert.AdamDown0.nD,
      r.2.mem ((c.tc : Thread Cert.AdamDown0.nD Cert.AdamDown0.τ).loc Cert.AdamDown0.main_arg0) = m ((c.tc : Thread Cert.AdamDown0.nD Cert.AdamDown0.τ).loc Cert.AdamDown0.main_arg0)
      ∧ r.2.mem ((c.tc : Thread Cert.AdamDown0.nD Cert.AdamDown0.τ).loc Cert.AdamDown0.main_arg1) = m ((c.tc : Thread Cert.AdamDown0.nD Cert.AdamDown0.τ).loc Cert.AdamDown0.main_arg1)
      ∧ r.2.mem ((c.tc : Thread Cert.AdamDown0.nD Cert.AdamDown0.τ).loc Cert.AdamDown0.main_arg2) = m ((c.tc : Thread Cert.AdamDown0.nD Cert.AdamDown0.τ).loc Cert.AdamDown0.main_arg2)
      ∧ r.2.mem ((c.tc : Thread Cert.AdamDown0.nD Cert.AdamDown0.τ).loc Cert.AdamDown0.main_arg3) = m ((c.tc : Thread Cert.AdamDown0.nD Cert.AdamDown0.τ).loc Cert.AdamDown0.main_arg3)
      ∧ r.2.mem ((c.tc : Thread Cert.AdamDown0.nD Cert.AdamDown0.τ).loc Cert.AdamDown0.main_arg4) = m ((c.tc : Thread Cert.AdamDown0.nD Cert.AdamDown0.τ).loc Cert.AdamDown0.main_arg4)
      ∧ r.2.mem ((c.tc : Thread Cert.AdamDown0.nD Cert.AdamDown0.τ).loc Cert.AdamDown0.main_arg5) = m ((c.tc : Thread Cert.AdamDown0.nD Cert.AdamDown0.τ).loc Cert.AdamDown0.main_arg5)
      ∧ r.2.mem ((c.tc : Thread Cert.AdamDown0.nD Cert.AdamDown0.τ).loc Cert.AdamDown0.main_arg6) = m ((c.tc : Thread Cert.AdamDown0.nD Cert.AdamDown0.τ).loc Cert.AdamDown0.main_arg6)
      ∧ r.2.mem ((c.tc : Thread Cert.AdamDown0.nD Cert.AdamDown0.τ).loc Cert.AdamDown0.main_arg7) = m ((c.tc : Thread Cert.AdamDown0.nD Cert.AdamDown0.τ).loc Cert.AdamDown0.main_arg7)
      ∧ r.2.mem ((c.tc : Thread Cert.AdamDown0.nD Cert.AdamDown0.τ).loc Cert.AdamDown0.main_arg8) = m ((c.tc : Thread Cert.AdamDown0.nD Cert.AdamDown0.τ).loc Cert.AdamDown0.main_arg8)
      ∧ r.2.mem ((c.tc : Thread Cert.AdamDown0.nD Cert.AdamDown0.τ).loc Cert.AdamDown0.main_arg9) = m ((c.tc : Thread Cert.AdamDown0.nD Cert.AdamDown0.τ).loc Cert.AdamDown0.main_arg9))
      ∧ r.2.sem = fun _ => 0)

def quiescent_AdamDown0Ideal [hAdamDown0Ideal : Cert.AdamDown0Ideal.Facts] : Prop :=
  ∀ (m : (ℓ : Loc Cert.AdamDown0Ideal.nD Cert.AdamDown0Ideal.τ Cert.AdamDown0Ideal.sig) → Buf (Elt Ideal) ℓ) (g : Dev Cert.AdamDown0Ideal.nD → PrngReg), Pre_AdamDown0Ideal m →
    θ_run (Cert.AdamDown0Ideal.defs (F := Ideal)) (onTc (τ := Cert.AdamDown0Ideal.τ) (Cert.AdamDown0Ideal.main (F := Ideal))) ⟨m, fun _ => 0, g⟩ (fun r => (∀ c : Dev Cert.AdamDown0Ideal.nD,
      r.2.mem ((c.tc : Thread Cert.AdamDown0Ideal.nD Cert.AdamDown0Ideal.τ).loc Cert.AdamDown0Ideal.main_arg0) = m ((c.tc : Thread Cert.AdamDown0Ideal.nD Cert.AdamDown0Ideal.τ).loc Cert.AdamDown0Ideal.main_arg0)
      ∧ r.2.mem ((c.tc : Thread Cert.AdamDown0Ideal.nD Cert.AdamDown0Ideal.τ).loc Cert.AdamDown0Ideal.main_arg1) = m ((c.tc : Thread Cert.AdamDown0Ideal.nD Cert.AdamDown0Ideal.τ).loc Cert.AdamDown0Ideal.main_arg1)
      ∧ r.2.mem ((c.tc : Thread Cert.AdamDown0Ideal.nD Cert.AdamDown0Ideal.τ).loc Cert.AdamDown0Ideal.main_arg2) = m ((c.tc : Thread Cert.AdamDown0Ideal.nD Cert.AdamDown0Ideal.τ).loc Cert.AdamDown0Ideal.main_arg2)
      ∧ r.2.mem ((c.tc : Thread Cert.AdamDown0Ideal.nD Cert.AdamDown0Ideal.τ).loc Cert.AdamDown0Ideal.main_arg3) = m ((c.tc : Thread Cert.AdamDown0Ideal.nD Cert.AdamDown0Ideal.τ).loc Cert.AdamDown0Ideal.main_arg3)
      ∧ r.2.mem ((c.tc : Thread Cert.AdamDown0Ideal.nD Cert.AdamDown0Ideal.τ).loc Cert.AdamDown0Ideal.main_arg4) = m ((c.tc : Thread Cert.AdamDown0Ideal.nD Cert.AdamDown0Ideal.τ).loc Cert.AdamDown0Ideal.main_arg4)
      ∧ r.2.mem ((c.tc : Thread Cert.AdamDown0Ideal.nD Cert.AdamDown0Ideal.τ).loc Cert.AdamDown0Ideal.main_arg5) = m ((c.tc : Thread Cert.AdamDown0Ideal.nD Cert.AdamDown0Ideal.τ).loc Cert.AdamDown0Ideal.main_arg5)
      ∧ r.2.mem ((c.tc : Thread Cert.AdamDown0Ideal.nD Cert.AdamDown0Ideal.τ).loc Cert.AdamDown0Ideal.main_arg6) = m ((c.tc : Thread Cert.AdamDown0Ideal.nD Cert.AdamDown0Ideal.τ).loc Cert.AdamDown0Ideal.main_arg6)
      ∧ r.2.mem ((c.tc : Thread Cert.AdamDown0Ideal.nD Cert.AdamDown0Ideal.τ).loc Cert.AdamDown0Ideal.main_arg7) = m ((c.tc : Thread Cert.AdamDown0Ideal.nD Cert.AdamDown0Ideal.τ).loc Cert.AdamDown0Ideal.main_arg7)
      ∧ r.2.mem ((c.tc : Thread Cert.AdamDown0Ideal.nD Cert.AdamDown0Ideal.τ).loc Cert.AdamDown0Ideal.main_arg8) = m ((c.tc : Thread Cert.AdamDown0Ideal.nD Cert.AdamDown0Ideal.τ).loc Cert.AdamDown0Ideal.main_arg8)
      ∧ r.2.mem ((c.tc : Thread Cert.AdamDown0Ideal.nD Cert.AdamDown0Ideal.τ).loc Cert.AdamDown0Ideal.main_arg9) = m ((c.tc : Thread Cert.AdamDown0Ideal.nD Cert.AdamDown0Ideal.τ).loc Cert.AdamDown0Ideal.main_arg9))
      ∧ r.2.sem = fun _ => 0)

def quiescent_AdamDown0RefIdeal [hAdamDown0RefIdeal : Cert.AdamDown0RefIdeal.Facts] : Prop :=
  ∀ (m : (ℓ : Loc Cert.AdamDown0RefIdeal.nD Cert.AdamDown0RefIdeal.τ Cert.AdamDown0RefIdeal.sig) → Buf (Elt Ideal) ℓ) (g : Dev Cert.AdamDown0RefIdeal.nD → PrngReg), Pre_AdamDown0RefIdeal m →
    θ_run (Cert.AdamDown0RefIdeal.defs (F := Ideal)) (onTc (τ := Cert.AdamDown0RefIdeal.τ) (Cert.AdamDown0RefIdeal.main (F := Ideal))) ⟨m, fun _ => 0, g⟩ (fun r => (∀ c : Dev Cert.AdamDown0RefIdeal.nD,
      r.2.mem ((c.tc : Thread Cert.AdamDown0RefIdeal.nD Cert.AdamDown0RefIdeal.τ).loc Cert.AdamDown0RefIdeal.main_arg0) = m ((c.tc : Thread Cert.AdamDown0RefIdeal.nD Cert.AdamDown0RefIdeal.τ).loc Cert.AdamDown0RefIdeal.main_arg0)
      ∧ r.2.mem ((c.tc : Thread Cert.AdamDown0RefIdeal.nD Cert.AdamDown0RefIdeal.τ).loc Cert.AdamDown0RefIdeal.main_arg1) = m ((c.tc : Thread Cert.AdamDown0RefIdeal.nD Cert.AdamDown0RefIdeal.τ).loc Cert.AdamDown0RefIdeal.main_arg1)
      ∧ r.2.mem ((c.tc : Thread Cert.AdamDown0RefIdeal.nD Cert.AdamDown0RefIdeal.τ).loc Cert.AdamDown0RefIdeal.main_arg2) = m ((c.tc : Thread Cert.AdamDown0RefIdeal.nD Cert.AdamDown0RefIdeal.τ).loc Cert.AdamDown0RefIdeal.main_arg2)
      ∧ r.2.mem ((c.tc : Thread Cert.AdamDown0RefIdeal.nD Cert.AdamDown0RefIdeal.τ).loc Cert.AdamDown0RefIdeal.main_arg3) = m ((c.tc : Thread Cert.AdamDown0RefIdeal.nD Cert.AdamDown0RefIdeal.τ).loc Cert.AdamDown0RefIdeal.main_arg3)
      ∧ r.2.mem ((c.tc : Thread Cert.AdamDown0RefIdeal.nD Cert.AdamDown0RefIdeal.τ).loc Cert.AdamDown0RefIdeal.main_arg4) = m ((c.tc : Thread Cert.AdamDown0RefIdeal.nD Cert.AdamDown0RefIdeal.τ).loc Cert.AdamDown0RefIdeal.main_arg4)
      ∧ r.2.mem ((c.tc : Thread Cert.AdamDown0RefIdeal.nD Cert.AdamDown0RefIdeal.τ).loc Cert.AdamDown0RefIdeal.main_arg5) = m ((c.tc : Thread Cert.AdamDown0RefIdeal.nD Cert.AdamDown0RefIdeal.τ).loc Cert.AdamDown0RefIdeal.main_arg5)
      ∧ r.2.mem ((c.tc : Thread Cert.AdamDown0RefIdeal.nD Cert.AdamDown0RefIdeal.τ).loc Cert.AdamDown0RefIdeal.main_arg6) = m ((c.tc : Thread Cert.AdamDown0RefIdeal.nD Cert.AdamDown0RefIdeal.τ).loc Cert.AdamDown0RefIdeal.main_arg6)
      ∧ r.2.mem ((c.tc : Thread Cert.AdamDown0RefIdeal.nD Cert.AdamDown0RefIdeal.τ).loc Cert.AdamDown0RefIdeal.main_arg7) = m ((c.tc : Thread Cert.AdamDown0RefIdeal.nD Cert.AdamDown0RefIdeal.τ).loc Cert.AdamDown0RefIdeal.main_arg7)
      ∧ r.2.mem ((c.tc : Thread Cert.AdamDown0RefIdeal.nD Cert.AdamDown0RefIdeal.τ).loc Cert.AdamDown0RefIdeal.main_arg8) = m ((c.tc : Thread Cert.AdamDown0RefIdeal.nD Cert.AdamDown0RefIdeal.τ).loc Cert.AdamDown0RefIdeal.main_arg8)
      ∧ r.2.mem ((c.tc : Thread Cert.AdamDown0RefIdeal.nD Cert.AdamDown0RefIdeal.τ).loc Cert.AdamDown0RefIdeal.main_arg9) = m ((c.tc : Thread Cert.AdamDown0RefIdeal.nD Cert.AdamDown0RefIdeal.τ).loc Cert.AdamDown0RefIdeal.main_arg9))
      ∧ r.2.sem = fun _ => 0)

def quiescent_AdamDown1 [hAdamDown1 : Cert.AdamDown1.Facts] : Prop :=
  ∀ (m : (ℓ : Loc Cert.AdamDown1.nD Cert.AdamDown1.τ Cert.AdamDown1.sig) → Buf (Elt Bits) ℓ) (g : Dev Cert.AdamDown1.nD → PrngReg), Pre_AdamDown1 m →
    θ_run (Cert.AdamDown1.defs (F := Bits)) (onTc (τ := Cert.AdamDown1.τ) (Cert.AdamDown1.main (F := Bits))) ⟨m, fun _ => 0, g⟩ (fun r => (∀ c : Dev Cert.AdamDown1.nD,
      r.2.mem ((c.tc : Thread Cert.AdamDown1.nD Cert.AdamDown1.τ).loc Cert.AdamDown1.main_arg0) = m ((c.tc : Thread Cert.AdamDown1.nD Cert.AdamDown1.τ).loc Cert.AdamDown1.main_arg0)
      ∧ r.2.mem ((c.tc : Thread Cert.AdamDown1.nD Cert.AdamDown1.τ).loc Cert.AdamDown1.main_arg1) = m ((c.tc : Thread Cert.AdamDown1.nD Cert.AdamDown1.τ).loc Cert.AdamDown1.main_arg1)
      ∧ r.2.mem ((c.tc : Thread Cert.AdamDown1.nD Cert.AdamDown1.τ).loc Cert.AdamDown1.main_arg2) = m ((c.tc : Thread Cert.AdamDown1.nD Cert.AdamDown1.τ).loc Cert.AdamDown1.main_arg2)
      ∧ r.2.mem ((c.tc : Thread Cert.AdamDown1.nD Cert.AdamDown1.τ).loc Cert.AdamDown1.main_arg3) = m ((c.tc : Thread Cert.AdamDown1.nD Cert.AdamDown1.τ).loc Cert.AdamDown1.main_arg3)
      ∧ r.2.mem ((c.tc : Thread Cert.AdamDown1.nD Cert.AdamDown1.τ).loc Cert.AdamDown1.main_arg4) = m ((c.tc : Thread Cert.AdamDown1.nD Cert.AdamDown1.τ).loc Cert.AdamDown1.main_arg4)
      ∧ r.2.mem ((c.tc : Thread Cert.AdamDown1.nD Cert.AdamDown1.τ).loc Cert.AdamDown1.main_arg5) = m ((c.tc : Thread Cert.AdamDown1.nD Cert.AdamDown1.τ).loc Cert.AdamDown1.main_arg5)
      ∧ r.2.mem ((c.tc : Thread Cert.AdamDown1.nD Cert.AdamDown1.τ).loc Cert.AdamDown1.main_arg6) = m ((c.tc : Thread Cert.AdamDown1.nD Cert.AdamDown1.τ).loc Cert.AdamDown1.main_arg6)
      ∧ r.2.mem ((c.tc : Thread Cert.AdamDown1.nD Cert.AdamDown1.τ).loc Cert.AdamDown1.main_arg7) = m ((c.tc : Thread Cert.AdamDown1.nD Cert.AdamDown1.τ).loc Cert.AdamDown1.main_arg7)
      ∧ r.2.mem ((c.tc : Thread Cert.AdamDown1.nD Cert.AdamDown1.τ).loc Cert.AdamDown1.main_arg8) = m ((c.tc : Thread Cert.AdamDown1.nD Cert.AdamDown1.τ).loc Cert.AdamDown1.main_arg8)
      ∧ r.2.mem ((c.tc : Thread Cert.AdamDown1.nD Cert.AdamDown1.τ).loc Cert.AdamDown1.main_arg9) = m ((c.tc : Thread Cert.AdamDown1.nD Cert.AdamDown1.τ).loc Cert.AdamDown1.main_arg9))
      ∧ r.2.sem = fun _ => 0)

def quiescent_AdamDown1Ideal [hAdamDown1Ideal : Cert.AdamDown1Ideal.Facts] : Prop :=
  ∀ (m : (ℓ : Loc Cert.AdamDown1Ideal.nD Cert.AdamDown1Ideal.τ Cert.AdamDown1Ideal.sig) → Buf (Elt Ideal) ℓ) (g : Dev Cert.AdamDown1Ideal.nD → PrngReg), Pre_AdamDown1Ideal m →
    θ_run (Cert.AdamDown1Ideal.defs (F := Ideal)) (onTc (τ := Cert.AdamDown1Ideal.τ) (Cert.AdamDown1Ideal.main (F := Ideal))) ⟨m, fun _ => 0, g⟩ (fun r => (∀ c : Dev Cert.AdamDown1Ideal.nD,
      r.2.mem ((c.tc : Thread Cert.AdamDown1Ideal.nD Cert.AdamDown1Ideal.τ).loc Cert.AdamDown1Ideal.main_arg0) = m ((c.tc : Thread Cert.AdamDown1Ideal.nD Cert.AdamDown1Ideal.τ).loc Cert.AdamDown1Ideal.main_arg0)
      ∧ r.2.mem ((c.tc : Thread Cert.AdamDown1Ideal.nD Cert.AdamDown1Ideal.τ).loc Cert.AdamDown1Ideal.main_arg1) = m ((c.tc : Thread Cert.AdamDown1Ideal.nD Cert.AdamDown1Ideal.τ).loc Cert.AdamDown1Ideal.main_arg1)
      ∧ r.2.mem ((c.tc : Thread Cert.AdamDown1Ideal.nD Cert.AdamDown1Ideal.τ).loc Cert.AdamDown1Ideal.main_arg2) = m ((c.tc : Thread Cert.AdamDown1Ideal.nD Cert.AdamDown1Ideal.τ).loc Cert.AdamDown1Ideal.main_arg2)
      ∧ r.2.mem ((c.tc : Thread Cert.AdamDown1Ideal.nD Cert.AdamDown1Ideal.τ).loc Cert.AdamDown1Ideal.main_arg3) = m ((c.tc : Thread Cert.AdamDown1Ideal.nD Cert.AdamDown1Ideal.τ).loc Cert.AdamDown1Ideal.main_arg3)
      ∧ r.2.mem ((c.tc : Thread Cert.AdamDown1Ideal.nD Cert.AdamDown1Ideal.τ).loc Cert.AdamDown1Ideal.main_arg4) = m ((c.tc : Thread Cert.AdamDown1Ideal.nD Cert.AdamDown1Ideal.τ).loc Cert.AdamDown1Ideal.main_arg4)
      ∧ r.2.mem ((c.tc : Thread Cert.AdamDown1Ideal.nD Cert.AdamDown1Ideal.τ).loc Cert.AdamDown1Ideal.main_arg5) = m ((c.tc : Thread Cert.AdamDown1Ideal.nD Cert.AdamDown1Ideal.τ).loc Cert.AdamDown1Ideal.main_arg5)
      ∧ r.2.mem ((c.tc : Thread Cert.AdamDown1Ideal.nD Cert.AdamDown1Ideal.τ).loc Cert.AdamDown1Ideal.main_arg6) = m ((c.tc : Thread Cert.AdamDown1Ideal.nD Cert.AdamDown1Ideal.τ).loc Cert.AdamDown1Ideal.main_arg6)
      ∧ r.2.mem ((c.tc : Thread Cert.AdamDown1Ideal.nD Cert.AdamDown1Ideal.τ).loc Cert.AdamDown1Ideal.main_arg7) = m ((c.tc : Thread Cert.AdamDown1Ideal.nD Cert.AdamDown1Ideal.τ).loc Cert.AdamDown1Ideal.main_arg7)
      ∧ r.2.mem ((c.tc : Thread Cert.AdamDown1Ideal.nD Cert.AdamDown1Ideal.τ).loc Cert.AdamDown1Ideal.main_arg8) = m ((c.tc : Thread Cert.AdamDown1Ideal.nD Cert.AdamDown1Ideal.τ).loc Cert.AdamDown1Ideal.main_arg8)
      ∧ r.2.mem ((c.tc : Thread Cert.AdamDown1Ideal.nD Cert.AdamDown1Ideal.τ).loc Cert.AdamDown1Ideal.main_arg9) = m ((c.tc : Thread Cert.AdamDown1Ideal.nD Cert.AdamDown1Ideal.τ).loc Cert.AdamDown1Ideal.main_arg9))
      ∧ r.2.sem = fun _ => 0)

def quiescent_AdamDown1RefIdeal [hAdamDown1RefIdeal : Cert.AdamDown1RefIdeal.Facts] : Prop :=
  ∀ (m : (ℓ : Loc Cert.AdamDown1RefIdeal.nD Cert.AdamDown1RefIdeal.τ Cert.AdamDown1RefIdeal.sig) → Buf (Elt Ideal) ℓ) (g : Dev Cert.AdamDown1RefIdeal.nD → PrngReg), Pre_AdamDown1RefIdeal m →
    θ_run (Cert.AdamDown1RefIdeal.defs (F := Ideal)) (onTc (τ := Cert.AdamDown1RefIdeal.τ) (Cert.AdamDown1RefIdeal.main (F := Ideal))) ⟨m, fun _ => 0, g⟩ (fun r => (∀ c : Dev Cert.AdamDown1RefIdeal.nD,
      r.2.mem ((c.tc : Thread Cert.AdamDown1RefIdeal.nD Cert.AdamDown1RefIdeal.τ).loc Cert.AdamDown1RefIdeal.main_arg0) = m ((c.tc : Thread Cert.AdamDown1RefIdeal.nD Cert.AdamDown1RefIdeal.τ).loc Cert.AdamDown1RefIdeal.main_arg0)
      ∧ r.2.mem ((c.tc : Thread Cert.AdamDown1RefIdeal.nD Cert.AdamDown1RefIdeal.τ).loc Cert.AdamDown1RefIdeal.main_arg1) = m ((c.tc : Thread Cert.AdamDown1RefIdeal.nD Cert.AdamDown1RefIdeal.τ).loc Cert.AdamDown1RefIdeal.main_arg1)
      ∧ r.2.mem ((c.tc : Thread Cert.AdamDown1RefIdeal.nD Cert.AdamDown1RefIdeal.τ).loc Cert.AdamDown1RefIdeal.main_arg2) = m ((c.tc : Thread Cert.AdamDown1RefIdeal.nD Cert.AdamDown1RefIdeal.τ).loc Cert.AdamDown1RefIdeal.main_arg2)
      ∧ r.2.mem ((c.tc : Thread Cert.AdamDown1RefIdeal.nD Cert.AdamDown1RefIdeal.τ).loc Cert.AdamDown1RefIdeal.main_arg3) = m ((c.tc : Thread Cert.AdamDown1RefIdeal.nD Cert.AdamDown1RefIdeal.τ).loc Cert.AdamDown1RefIdeal.main_arg3)
      ∧ r.2.mem ((c.tc : Thread Cert.AdamDown1RefIdeal.nD Cert.AdamDown1RefIdeal.τ).loc Cert.AdamDown1RefIdeal.main_arg4) = m ((c.tc : Thread Cert.AdamDown1RefIdeal.nD Cert.AdamDown1RefIdeal.τ).loc Cert.AdamDown1RefIdeal.main_arg4)
      ∧ r.2.mem ((c.tc : Thread Cert.AdamDown1RefIdeal.nD Cert.AdamDown1RefIdeal.τ).loc Cert.AdamDown1RefIdeal.main_arg5) = m ((c.tc : Thread Cert.AdamDown1RefIdeal.nD Cert.AdamDown1RefIdeal.τ).loc Cert.AdamDown1RefIdeal.main_arg5)
      ∧ r.2.mem ((c.tc : Thread Cert.AdamDown1RefIdeal.nD Cert.AdamDown1RefIdeal.τ).loc Cert.AdamDown1RefIdeal.main_arg6) = m ((c.tc : Thread Cert.AdamDown1RefIdeal.nD Cert.AdamDown1RefIdeal.τ).loc Cert.AdamDown1RefIdeal.main_arg6)
      ∧ r.2.mem ((c.tc : Thread Cert.AdamDown1RefIdeal.nD Cert.AdamDown1RefIdeal.τ).loc Cert.AdamDown1RefIdeal.main_arg7) = m ((c.tc : Thread Cert.AdamDown1RefIdeal.nD Cert.AdamDown1RefIdeal.τ).loc Cert.AdamDown1RefIdeal.main_arg7)
      ∧ r.2.mem ((c.tc : Thread Cert.AdamDown1RefIdeal.nD Cert.AdamDown1RefIdeal.τ).loc Cert.AdamDown1RefIdeal.main_arg8) = m ((c.tc : Thread Cert.AdamDown1RefIdeal.nD Cert.AdamDown1RefIdeal.τ).loc Cert.AdamDown1RefIdeal.main_arg8)
      ∧ r.2.mem ((c.tc : Thread Cert.AdamDown1RefIdeal.nD Cert.AdamDown1RefIdeal.τ).loc Cert.AdamDown1RefIdeal.main_arg9) = m ((c.tc : Thread Cert.AdamDown1RefIdeal.nD Cert.AdamDown1RefIdeal.τ).loc Cert.AdamDown1RefIdeal.main_arg9))
      ∧ r.2.sem = fun _ => 0)

def quiescent_AdamDown2 [hAdamDown2 : Cert.AdamDown2.Facts] : Prop :=
  ∀ (m : (ℓ : Loc Cert.AdamDown2.nD Cert.AdamDown2.τ Cert.AdamDown2.sig) → Buf (Elt Bits) ℓ) (g : Dev Cert.AdamDown2.nD → PrngReg), Pre_AdamDown2 m →
    θ_run (Cert.AdamDown2.defs (F := Bits)) (onTc (τ := Cert.AdamDown2.τ) (Cert.AdamDown2.main (F := Bits))) ⟨m, fun _ => 0, g⟩ (fun r => (∀ c : Dev Cert.AdamDown2.nD,
      r.2.mem ((c.tc : Thread Cert.AdamDown2.nD Cert.AdamDown2.τ).loc Cert.AdamDown2.main_arg0) = m ((c.tc : Thread Cert.AdamDown2.nD Cert.AdamDown2.τ).loc Cert.AdamDown2.main_arg0)
      ∧ r.2.mem ((c.tc : Thread Cert.AdamDown2.nD Cert.AdamDown2.τ).loc Cert.AdamDown2.main_arg1) = m ((c.tc : Thread Cert.AdamDown2.nD Cert.AdamDown2.τ).loc Cert.AdamDown2.main_arg1)
      ∧ r.2.mem ((c.tc : Thread Cert.AdamDown2.nD Cert.AdamDown2.τ).loc Cert.AdamDown2.main_arg2) = m ((c.tc : Thread Cert.AdamDown2.nD Cert.AdamDown2.τ).loc Cert.AdamDown2.main_arg2)
      ∧ r.2.mem ((c.tc : Thread Cert.AdamDown2.nD Cert.AdamDown2.τ).loc Cert.AdamDown2.main_arg3) = m ((c.tc : Thread Cert.AdamDown2.nD Cert.AdamDown2.τ).loc Cert.AdamDown2.main_arg3)
      ∧ r.2.mem ((c.tc : Thread Cert.AdamDown2.nD Cert.AdamDown2.τ).loc Cert.AdamDown2.main_arg4) = m ((c.tc : Thread Cert.AdamDown2.nD Cert.AdamDown2.τ).loc Cert.AdamDown2.main_arg4)
      ∧ r.2.mem ((c.tc : Thread Cert.AdamDown2.nD Cert.AdamDown2.τ).loc Cert.AdamDown2.main_arg5) = m ((c.tc : Thread Cert.AdamDown2.nD Cert.AdamDown2.τ).loc Cert.AdamDown2.main_arg5)
      ∧ r.2.mem ((c.tc : Thread Cert.AdamDown2.nD Cert.AdamDown2.τ).loc Cert.AdamDown2.main_arg6) = m ((c.tc : Thread Cert.AdamDown2.nD Cert.AdamDown2.τ).loc Cert.AdamDown2.main_arg6)
      ∧ r.2.mem ((c.tc : Thread Cert.AdamDown2.nD Cert.AdamDown2.τ).loc Cert.AdamDown2.main_arg7) = m ((c.tc : Thread Cert.AdamDown2.nD Cert.AdamDown2.τ).loc Cert.AdamDown2.main_arg7)
      ∧ r.2.mem ((c.tc : Thread Cert.AdamDown2.nD Cert.AdamDown2.τ).loc Cert.AdamDown2.main_arg8) = m ((c.tc : Thread Cert.AdamDown2.nD Cert.AdamDown2.τ).loc Cert.AdamDown2.main_arg8)
      ∧ r.2.mem ((c.tc : Thread Cert.AdamDown2.nD Cert.AdamDown2.τ).loc Cert.AdamDown2.main_arg9) = m ((c.tc : Thread Cert.AdamDown2.nD Cert.AdamDown2.τ).loc Cert.AdamDown2.main_arg9))
      ∧ r.2.sem = fun _ => 0)

def quiescent_AdamDown2Ideal [hAdamDown2Ideal : Cert.AdamDown2Ideal.Facts] : Prop :=
  ∀ (m : (ℓ : Loc Cert.AdamDown2Ideal.nD Cert.AdamDown2Ideal.τ Cert.AdamDown2Ideal.sig) → Buf (Elt Ideal) ℓ) (g : Dev Cert.AdamDown2Ideal.nD → PrngReg), Pre_AdamDown2Ideal m →
    θ_run (Cert.AdamDown2Ideal.defs (F := Ideal)) (onTc (τ := Cert.AdamDown2Ideal.τ) (Cert.AdamDown2Ideal.main (F := Ideal))) ⟨m, fun _ => 0, g⟩ (fun r => (∀ c : Dev Cert.AdamDown2Ideal.nD,
      r.2.mem ((c.tc : Thread Cert.AdamDown2Ideal.nD Cert.AdamDown2Ideal.τ).loc Cert.AdamDown2Ideal.main_arg0) = m ((c.tc : Thread Cert.AdamDown2Ideal.nD Cert.AdamDown2Ideal.τ).loc Cert.AdamDown2Ideal.main_arg0)
      ∧ r.2.mem ((c.tc : Thread Cert.AdamDown2Ideal.nD Cert.AdamDown2Ideal.τ).loc Cert.AdamDown2Ideal.main_arg1) = m ((c.tc : Thread Cert.AdamDown2Ideal.nD Cert.AdamDown2Ideal.τ).loc Cert.AdamDown2Ideal.main_arg1)
      ∧ r.2.mem ((c.tc : Thread Cert.AdamDown2Ideal.nD Cert.AdamDown2Ideal.τ).loc Cert.AdamDown2Ideal.main_arg2) = m ((c.tc : Thread Cert.AdamDown2Ideal.nD Cert.AdamDown2Ideal.τ).loc Cert.AdamDown2Ideal.main_arg2)
      ∧ r.2.mem ((c.tc : Thread Cert.AdamDown2Ideal.nD Cert.AdamDown2Ideal.τ).loc Cert.AdamDown2Ideal.main_arg3) = m ((c.tc : Thread Cert.AdamDown2Ideal.nD Cert.AdamDown2Ideal.τ).loc Cert.AdamDown2Ideal.main_arg3)
      ∧ r.2.mem ((c.tc : Thread Cert.AdamDown2Ideal.nD Cert.AdamDown2Ideal.τ).loc Cert.AdamDown2Ideal.main_arg4) = m ((c.tc : Thread Cert.AdamDown2Ideal.nD Cert.AdamDown2Ideal.τ).loc Cert.AdamDown2Ideal.main_arg4)
      ∧ r.2.mem ((c.tc : Thread Cert.AdamDown2Ideal.nD Cert.AdamDown2Ideal.τ).loc Cert.AdamDown2Ideal.main_arg5) = m ((c.tc : Thread Cert.AdamDown2Ideal.nD Cert.AdamDown2Ideal.τ).loc Cert.AdamDown2Ideal.main_arg5)
      ∧ r.2.mem ((c.tc : Thread Cert.AdamDown2Ideal.nD Cert.AdamDown2Ideal.τ).loc Cert.AdamDown2Ideal.main_arg6) = m ((c.tc : Thread Cert.AdamDown2Ideal.nD Cert.AdamDown2Ideal.τ).loc Cert.AdamDown2Ideal.main_arg6)
      ∧ r.2.mem ((c.tc : Thread Cert.AdamDown2Ideal.nD Cert.AdamDown2Ideal.τ).loc Cert.AdamDown2Ideal.main_arg7) = m ((c.tc : Thread Cert.AdamDown2Ideal.nD Cert.AdamDown2Ideal.τ).loc Cert.AdamDown2Ideal.main_arg7)
      ∧ r.2.mem ((c.tc : Thread Cert.AdamDown2Ideal.nD Cert.AdamDown2Ideal.τ).loc Cert.AdamDown2Ideal.main_arg8) = m ((c.tc : Thread Cert.AdamDown2Ideal.nD Cert.AdamDown2Ideal.τ).loc Cert.AdamDown2Ideal.main_arg8)
      ∧ r.2.mem ((c.tc : Thread Cert.AdamDown2Ideal.nD Cert.AdamDown2Ideal.τ).loc Cert.AdamDown2Ideal.main_arg9) = m ((c.tc : Thread Cert.AdamDown2Ideal.nD Cert.AdamDown2Ideal.τ).loc Cert.AdamDown2Ideal.main_arg9))
      ∧ r.2.sem = fun _ => 0)

def quiescent_AdamDown2RefIdeal [hAdamDown2RefIdeal : Cert.AdamDown2RefIdeal.Facts] : Prop :=
  ∀ (m : (ℓ : Loc Cert.AdamDown2RefIdeal.nD Cert.AdamDown2RefIdeal.τ Cert.AdamDown2RefIdeal.sig) → Buf (Elt Ideal) ℓ) (g : Dev Cert.AdamDown2RefIdeal.nD → PrngReg), Pre_AdamDown2RefIdeal m →
    θ_run (Cert.AdamDown2RefIdeal.defs (F := Ideal)) (onTc (τ := Cert.AdamDown2RefIdeal.τ) (Cert.AdamDown2RefIdeal.main (F := Ideal))) ⟨m, fun _ => 0, g⟩ (fun r => (∀ c : Dev Cert.AdamDown2RefIdeal.nD,
      r.2.mem ((c.tc : Thread Cert.AdamDown2RefIdeal.nD Cert.AdamDown2RefIdeal.τ).loc Cert.AdamDown2RefIdeal.main_arg0) = m ((c.tc : Thread Cert.AdamDown2RefIdeal.nD Cert.AdamDown2RefIdeal.τ).loc Cert.AdamDown2RefIdeal.main_arg0)
      ∧ r.2.mem ((c.tc : Thread Cert.AdamDown2RefIdeal.nD Cert.AdamDown2RefIdeal.τ).loc Cert.AdamDown2RefIdeal.main_arg1) = m ((c.tc : Thread Cert.AdamDown2RefIdeal.nD Cert.AdamDown2RefIdeal.τ).loc Cert.AdamDown2RefIdeal.main_arg1)
      ∧ r.2.mem ((c.tc : Thread Cert.AdamDown2RefIdeal.nD Cert.AdamDown2RefIdeal.τ).loc Cert.AdamDown2RefIdeal.main_arg2) = m ((c.tc : Thread Cert.AdamDown2RefIdeal.nD Cert.AdamDown2RefIdeal.τ).loc Cert.AdamDown2RefIdeal.main_arg2)
      ∧ r.2.mem ((c.tc : Thread Cert.AdamDown2RefIdeal.nD Cert.AdamDown2RefIdeal.τ).loc Cert.AdamDown2RefIdeal.main_arg3) = m ((c.tc : Thread Cert.AdamDown2RefIdeal.nD Cert.AdamDown2RefIdeal.τ).loc Cert.AdamDown2RefIdeal.main_arg3)
      ∧ r.2.mem ((c.tc : Thread Cert.AdamDown2RefIdeal.nD Cert.AdamDown2RefIdeal.τ).loc Cert.AdamDown2RefIdeal.main_arg4) = m ((c.tc : Thread Cert.AdamDown2RefIdeal.nD Cert.AdamDown2RefIdeal.τ).loc Cert.AdamDown2RefIdeal.main_arg4)
      ∧ r.2.mem ((c.tc : Thread Cert.AdamDown2RefIdeal.nD Cert.AdamDown2RefIdeal.τ).loc Cert.AdamDown2RefIdeal.main_arg5) = m ((c.tc : Thread Cert.AdamDown2RefIdeal.nD Cert.AdamDown2RefIdeal.τ).loc Cert.AdamDown2RefIdeal.main_arg5)
      ∧ r.2.mem ((c.tc : Thread Cert.AdamDown2RefIdeal.nD Cert.AdamDown2RefIdeal.τ).loc Cert.AdamDown2RefIdeal.main_arg6) = m ((c.tc : Thread Cert.AdamDown2RefIdeal.nD Cert.AdamDown2RefIdeal.τ).loc Cert.AdamDown2RefIdeal.main_arg6)
      ∧ r.2.mem ((c.tc : Thread Cert.AdamDown2RefIdeal.nD Cert.AdamDown2RefIdeal.τ).loc Cert.AdamDown2RefIdeal.main_arg7) = m ((c.tc : Thread Cert.AdamDown2RefIdeal.nD Cert.AdamDown2RefIdeal.τ).loc Cert.AdamDown2RefIdeal.main_arg7)
      ∧ r.2.mem ((c.tc : Thread Cert.AdamDown2RefIdeal.nD Cert.AdamDown2RefIdeal.τ).loc Cert.AdamDown2RefIdeal.main_arg8) = m ((c.tc : Thread Cert.AdamDown2RefIdeal.nD Cert.AdamDown2RefIdeal.τ).loc Cert.AdamDown2RefIdeal.main_arg8)
      ∧ r.2.mem ((c.tc : Thread Cert.AdamDown2RefIdeal.nD Cert.AdamDown2RefIdeal.τ).loc Cert.AdamDown2RefIdeal.main_arg9) = m ((c.tc : Thread Cert.AdamDown2RefIdeal.nD Cert.AdamDown2RefIdeal.τ).loc Cert.AdamDown2RefIdeal.main_arg9))
      ∧ r.2.sem = fun _ => 0)

def quiescent_AdamDown3 [hAdamDown3 : Cert.AdamDown3.Facts] : Prop :=
  ∀ (m : (ℓ : Loc Cert.AdamDown3.nD Cert.AdamDown3.τ Cert.AdamDown3.sig) → Buf (Elt Bits) ℓ) (g : Dev Cert.AdamDown3.nD → PrngReg), Pre_AdamDown3 m →
    θ_run (Cert.AdamDown3.defs (F := Bits)) (onTc (τ := Cert.AdamDown3.τ) (Cert.AdamDown3.main (F := Bits))) ⟨m, fun _ => 0, g⟩ (fun r => (∀ c : Dev Cert.AdamDown3.nD,
      r.2.mem ((c.tc : Thread Cert.AdamDown3.nD Cert.AdamDown3.τ).loc Cert.AdamDown3.main_arg0) = m ((c.tc : Thread Cert.AdamDown3.nD Cert.AdamDown3.τ).loc Cert.AdamDown3.main_arg0)
      ∧ r.2.mem ((c.tc : Thread Cert.AdamDown3.nD Cert.AdamDown3.τ).loc Cert.AdamDown3.main_arg1) = m ((c.tc : Thread Cert.AdamDown3.nD Cert.AdamDown3.τ).loc Cert.AdamDown3.main_arg1)
      ∧ r.2.mem ((c.tc : Thread Cert.AdamDown3.nD Cert.AdamDown3.τ).loc Cert.AdamDown3.main_arg2) = m ((c.tc : Thread Cert.AdamDown3.nD Cert.AdamDown3.τ).loc Cert.AdamDown3.main_arg2)
      ∧ r.2.mem ((c.tc : Thread Cert.AdamDown3.nD Cert.AdamDown3.τ).loc Cert.AdamDown3.main_arg3) = m ((c.tc : Thread Cert.AdamDown3.nD Cert.AdamDown3.τ).loc Cert.AdamDown3.main_arg3)
      ∧ r.2.mem ((c.tc : Thread Cert.AdamDown3.nD Cert.AdamDown3.τ).loc Cert.AdamDown3.main_arg4) = m ((c.tc : Thread Cert.AdamDown3.nD Cert.AdamDown3.τ).loc Cert.AdamDown3.main_arg4)
      ∧ r.2.mem ((c.tc : Thread Cert.AdamDown3.nD Cert.AdamDown3.τ).loc Cert.AdamDown3.main_arg5) = m ((c.tc : Thread Cert.AdamDown3.nD Cert.AdamDown3.τ).loc Cert.AdamDown3.main_arg5)
      ∧ r.2.mem ((c.tc : Thread Cert.AdamDown3.nD Cert.AdamDown3.τ).loc Cert.AdamDown3.main_arg6) = m ((c.tc : Thread Cert.AdamDown3.nD Cert.AdamDown3.τ).loc Cert.AdamDown3.main_arg6)
      ∧ r.2.mem ((c.tc : Thread Cert.AdamDown3.nD Cert.AdamDown3.τ).loc Cert.AdamDown3.main_arg7) = m ((c.tc : Thread Cert.AdamDown3.nD Cert.AdamDown3.τ).loc Cert.AdamDown3.main_arg7)
      ∧ r.2.mem ((c.tc : Thread Cert.AdamDown3.nD Cert.AdamDown3.τ).loc Cert.AdamDown3.main_arg8) = m ((c.tc : Thread Cert.AdamDown3.nD Cert.AdamDown3.τ).loc Cert.AdamDown3.main_arg8)
      ∧ r.2.mem ((c.tc : Thread Cert.AdamDown3.nD Cert.AdamDown3.τ).loc Cert.AdamDown3.main_arg9) = m ((c.tc : Thread Cert.AdamDown3.nD Cert.AdamDown3.τ).loc Cert.AdamDown3.main_arg9))
      ∧ r.2.sem = fun _ => 0)

def quiescent_AdamDown3Ideal [hAdamDown3Ideal : Cert.AdamDown3Ideal.Facts] : Prop :=
  ∀ (m : (ℓ : Loc Cert.AdamDown3Ideal.nD Cert.AdamDown3Ideal.τ Cert.AdamDown3Ideal.sig) → Buf (Elt Ideal) ℓ) (g : Dev Cert.AdamDown3Ideal.nD → PrngReg), Pre_AdamDown3Ideal m →
    θ_run (Cert.AdamDown3Ideal.defs (F := Ideal)) (onTc (τ := Cert.AdamDown3Ideal.τ) (Cert.AdamDown3Ideal.main (F := Ideal))) ⟨m, fun _ => 0, g⟩ (fun r => (∀ c : Dev Cert.AdamDown3Ideal.nD,
      r.2.mem ((c.tc : Thread Cert.AdamDown3Ideal.nD Cert.AdamDown3Ideal.τ).loc Cert.AdamDown3Ideal.main_arg0) = m ((c.tc : Thread Cert.AdamDown3Ideal.nD Cert.AdamDown3Ideal.τ).loc Cert.AdamDown3Ideal.main_arg0)
      ∧ r.2.mem ((c.tc : Thread Cert.AdamDown3Ideal.nD Cert.AdamDown3Ideal.τ).loc Cert.AdamDown3Ideal.main_arg1) = m ((c.tc : Thread Cert.AdamDown3Ideal.nD Cert.AdamDown3Ideal.τ).loc Cert.AdamDown3Ideal.main_arg1)
      ∧ r.2.mem ((c.tc : Thread Cert.AdamDown3Ideal.nD Cert.AdamDown3Ideal.τ).loc Cert.AdamDown3Ideal.main_arg2) = m ((c.tc : Thread Cert.AdamDown3Ideal.nD Cert.AdamDown3Ideal.τ).loc Cert.AdamDown3Ideal.main_arg2)
      ∧ r.2.mem ((c.tc : Thread Cert.AdamDown3Ideal.nD Cert.AdamDown3Ideal.τ).loc Cert.AdamDown3Ideal.main_arg3) = m ((c.tc : Thread Cert.AdamDown3Ideal.nD Cert.AdamDown3Ideal.τ).loc Cert.AdamDown3Ideal.main_arg3)
      ∧ r.2.mem ((c.tc : Thread Cert.AdamDown3Ideal.nD Cert.AdamDown3Ideal.τ).loc Cert.AdamDown3Ideal.main_arg4) = m ((c.tc : Thread Cert.AdamDown3Ideal.nD Cert.AdamDown3Ideal.τ).loc Cert.AdamDown3Ideal.main_arg4)
      ∧ r.2.mem ((c.tc : Thread Cert.AdamDown3Ideal.nD Cert.AdamDown3Ideal.τ).loc Cert.AdamDown3Ideal.main_arg5) = m ((c.tc : Thread Cert.AdamDown3Ideal.nD Cert.AdamDown3Ideal.τ).loc Cert.AdamDown3Ideal.main_arg5)
      ∧ r.2.mem ((c.tc : Thread Cert.AdamDown3Ideal.nD Cert.AdamDown3Ideal.τ).loc Cert.AdamDown3Ideal.main_arg6) = m ((c.tc : Thread Cert.AdamDown3Ideal.nD Cert.AdamDown3Ideal.τ).loc Cert.AdamDown3Ideal.main_arg6)
      ∧ r.2.mem ((c.tc : Thread Cert.AdamDown3Ideal.nD Cert.AdamDown3Ideal.τ).loc Cert.AdamDown3Ideal.main_arg7) = m ((c.tc : Thread Cert.AdamDown3Ideal.nD Cert.AdamDown3Ideal.τ).loc Cert.AdamDown3Ideal.main_arg7)
      ∧ r.2.mem ((c.tc : Thread Cert.AdamDown3Ideal.nD Cert.AdamDown3Ideal.τ).loc Cert.AdamDown3Ideal.main_arg8) = m ((c.tc : Thread Cert.AdamDown3Ideal.nD Cert.AdamDown3Ideal.τ).loc Cert.AdamDown3Ideal.main_arg8)
      ∧ r.2.mem ((c.tc : Thread Cert.AdamDown3Ideal.nD Cert.AdamDown3Ideal.τ).loc Cert.AdamDown3Ideal.main_arg9) = m ((c.tc : Thread Cert.AdamDown3Ideal.nD Cert.AdamDown3Ideal.τ).loc Cert.AdamDown3Ideal.main_arg9))
      ∧ r.2.sem = fun _ => 0)

def quiescent_AdamDown3RefIdeal [hAdamDown3RefIdeal : Cert.AdamDown3RefIdeal.Facts] : Prop :=
  ∀ (m : (ℓ : Loc Cert.AdamDown3RefIdeal.nD Cert.AdamDown3RefIdeal.τ Cert.AdamDown3RefIdeal.sig) → Buf (Elt Ideal) ℓ) (g : Dev Cert.AdamDown3RefIdeal.nD → PrngReg), Pre_AdamDown3RefIdeal m →
    θ_run (Cert.AdamDown3RefIdeal.defs (F := Ideal)) (onTc (τ := Cert.AdamDown3RefIdeal.τ) (Cert.AdamDown3RefIdeal.main (F := Ideal))) ⟨m, fun _ => 0, g⟩ (fun r => (∀ c : Dev Cert.AdamDown3RefIdeal.nD,
      r.2.mem ((c.tc : Thread Cert.AdamDown3RefIdeal.nD Cert.AdamDown3RefIdeal.τ).loc Cert.AdamDown3RefIdeal.main_arg0) = m ((c.tc : Thread Cert.AdamDown3RefIdeal.nD Cert.AdamDown3RefIdeal.τ).loc Cert.AdamDown3RefIdeal.main_arg0)
      ∧ r.2.mem ((c.tc : Thread Cert.AdamDown3RefIdeal.nD Cert.AdamDown3RefIdeal.τ).loc Cert.AdamDown3RefIdeal.main_arg1) = m ((c.tc : Thread Cert.AdamDown3RefIdeal.nD Cert.AdamDown3RefIdeal.τ).loc Cert.AdamDown3RefIdeal.main_arg1)
      ∧ r.2.mem ((c.tc : Thread Cert.AdamDown3RefIdeal.nD Cert.AdamDown3RefIdeal.τ).loc Cert.AdamDown3RefIdeal.main_arg2) = m ((c.tc : Thread Cert.AdamDown3RefIdeal.nD Cert.AdamDown3RefIdeal.τ).loc Cert.AdamDown3RefIdeal.main_arg2)
      ∧ r.2.mem ((c.tc : Thread Cert.AdamDown3RefIdeal.nD Cert.AdamDown3RefIdeal.τ).loc Cert.AdamDown3RefIdeal.main_arg3) = m ((c.tc : Thread Cert.AdamDown3RefIdeal.nD Cert.AdamDown3RefIdeal.τ).loc Cert.AdamDown3RefIdeal.main_arg3)
      ∧ r.2.mem ((c.tc : Thread Cert.AdamDown3RefIdeal.nD Cert.AdamDown3RefIdeal.τ).loc Cert.AdamDown3RefIdeal.main_arg4) = m ((c.tc : Thread Cert.AdamDown3RefIdeal.nD Cert.AdamDown3RefIdeal.τ).loc Cert.AdamDown3RefIdeal.main_arg4)
      ∧ r.2.mem ((c.tc : Thread Cert.AdamDown3RefIdeal.nD Cert.AdamDown3RefIdeal.τ).loc Cert.AdamDown3RefIdeal.main_arg5) = m ((c.tc : Thread Cert.AdamDown3RefIdeal.nD Cert.AdamDown3RefIdeal.τ).loc Cert.AdamDown3RefIdeal.main_arg5)
      ∧ r.2.mem ((c.tc : Thread Cert.AdamDown3RefIdeal.nD Cert.AdamDown3RefIdeal.τ).loc Cert.AdamDown3RefIdeal.main_arg6) = m ((c.tc : Thread Cert.AdamDown3RefIdeal.nD Cert.AdamDown3RefIdeal.τ).loc Cert.AdamDown3RefIdeal.main_arg6)
      ∧ r.2.mem ((c.tc : Thread Cert.AdamDown3RefIdeal.nD Cert.AdamDown3RefIdeal.τ).loc Cert.AdamDown3RefIdeal.main_arg7) = m ((c.tc : Thread Cert.AdamDown3RefIdeal.nD Cert.AdamDown3RefIdeal.τ).loc Cert.AdamDown3RefIdeal.main_arg7)
      ∧ r.2.mem ((c.tc : Thread Cert.AdamDown3RefIdeal.nD Cert.AdamDown3RefIdeal.τ).loc Cert.AdamDown3RefIdeal.main_arg8) = m ((c.tc : Thread Cert.AdamDown3RefIdeal.nD Cert.AdamDown3RefIdeal.τ).loc Cert.AdamDown3RefIdeal.main_arg8)
      ∧ r.2.mem ((c.tc : Thread Cert.AdamDown3RefIdeal.nD Cert.AdamDown3RefIdeal.τ).loc Cert.AdamDown3RefIdeal.main_arg9) = m ((c.tc : Thread Cert.AdamDown3RefIdeal.nD Cert.AdamDown3RefIdeal.τ).loc Cert.AdamDown3RefIdeal.main_arg9))
      ∧ r.2.sem = fun _ => 0)

def quiescent_LnBwdTop [hLnBwdTop : Cert.LnBwdTop.Facts] : Prop :=
  ∀ (m : (ℓ : Loc Cert.LnBwdTop.nD Cert.LnBwdTop.τ Cert.LnBwdTop.sig) → Buf (Elt Bits) ℓ) (g : Dev Cert.LnBwdTop.nD → PrngReg), Pre_LnBwdTop m →
    θ_run (Cert.LnBwdTop.defs (F := Bits)) (onTc (τ := Cert.LnBwdTop.τ) (Cert.LnBwdTop.main (F := Bits))) ⟨m, fun _ => 0, g⟩ (fun r => (∀ c : Dev Cert.LnBwdTop.nD,
      r.2.mem ((c.tc : Thread Cert.LnBwdTop.nD Cert.LnBwdTop.τ).loc Cert.LnBwdTop.main_arg0) = m ((c.tc : Thread Cert.LnBwdTop.nD Cert.LnBwdTop.τ).loc Cert.LnBwdTop.main_arg0)
      ∧ r.2.mem ((c.tc : Thread Cert.LnBwdTop.nD Cert.LnBwdTop.τ).loc Cert.LnBwdTop.main_arg1) = m ((c.tc : Thread Cert.LnBwdTop.nD Cert.LnBwdTop.τ).loc Cert.LnBwdTop.main_arg1)
      ∧ r.2.mem ((c.tc : Thread Cert.LnBwdTop.nD Cert.LnBwdTop.τ).loc Cert.LnBwdTop.main_arg2) = m ((c.tc : Thread Cert.LnBwdTop.nD Cert.LnBwdTop.τ).loc Cert.LnBwdTop.main_arg2))
      ∧ r.2.sem = fun _ => 0)

def quiescent_LnBwdTopIdeal [hLnBwdTopIdeal : Cert.LnBwdTopIdeal.Facts] : Prop :=
  ∀ (m : (ℓ : Loc Cert.LnBwdTopIdeal.nD Cert.LnBwdTopIdeal.τ Cert.LnBwdTopIdeal.sig) → Buf (Elt Ideal) ℓ) (g : Dev Cert.LnBwdTopIdeal.nD → PrngReg), Pre_LnBwdTopIdeal m →
    θ_run (Cert.LnBwdTopIdeal.defs (F := Ideal)) (onTc (τ := Cert.LnBwdTopIdeal.τ) (Cert.LnBwdTopIdeal.main (F := Ideal))) ⟨m, fun _ => 0, g⟩ (fun r => (∀ c : Dev Cert.LnBwdTopIdeal.nD,
      r.2.mem ((c.tc : Thread Cert.LnBwdTopIdeal.nD Cert.LnBwdTopIdeal.τ).loc Cert.LnBwdTopIdeal.main_arg0) = m ((c.tc : Thread Cert.LnBwdTopIdeal.nD Cert.LnBwdTopIdeal.τ).loc Cert.LnBwdTopIdeal.main_arg0)
      ∧ r.2.mem ((c.tc : Thread Cert.LnBwdTopIdeal.nD Cert.LnBwdTopIdeal.τ).loc Cert.LnBwdTopIdeal.main_arg1) = m ((c.tc : Thread Cert.LnBwdTopIdeal.nD Cert.LnBwdTopIdeal.τ).loc Cert.LnBwdTopIdeal.main_arg1)
      ∧ r.2.mem ((c.tc : Thread Cert.LnBwdTopIdeal.nD Cert.LnBwdTopIdeal.τ).loc Cert.LnBwdTopIdeal.main_arg2) = m ((c.tc : Thread Cert.LnBwdTopIdeal.nD Cert.LnBwdTopIdeal.τ).loc Cert.LnBwdTopIdeal.main_arg2))
      ∧ r.2.sem = fun _ => 0)

def quiescent_LnBwdTopRefIdeal [hLnBwdTopRefIdeal : Cert.LnBwdTopRefIdeal.Facts] : Prop :=
  ∀ (m : (ℓ : Loc Cert.LnBwdTopRefIdeal.nD Cert.LnBwdTopRefIdeal.τ Cert.LnBwdTopRefIdeal.sig) → Buf (Elt Ideal) ℓ) (g : Dev Cert.LnBwdTopRefIdeal.nD → PrngReg), Pre_LnBwdTopRefIdeal m →
    θ_run (Cert.LnBwdTopRefIdeal.defs (F := Ideal)) (onTc (τ := Cert.LnBwdTopRefIdeal.τ) (Cert.LnBwdTopRefIdeal.main (F := Ideal))) ⟨m, fun _ => 0, g⟩ (fun r => (∀ c : Dev Cert.LnBwdTopRefIdeal.nD,
      r.2.mem ((c.tc : Thread Cert.LnBwdTopRefIdeal.nD Cert.LnBwdTopRefIdeal.τ).loc Cert.LnBwdTopRefIdeal.main_arg0) = m ((c.tc : Thread Cert.LnBwdTopRefIdeal.nD Cert.LnBwdTopRefIdeal.τ).loc Cert.LnBwdTopRefIdeal.main_arg0)
      ∧ r.2.mem ((c.tc : Thread Cert.LnBwdTopRefIdeal.nD Cert.LnBwdTopRefIdeal.τ).loc Cert.LnBwdTopRefIdeal.main_arg1) = m ((c.tc : Thread Cert.LnBwdTopRefIdeal.nD Cert.LnBwdTopRefIdeal.τ).loc Cert.LnBwdTopRefIdeal.main_arg1)
      ∧ r.2.mem ((c.tc : Thread Cert.LnBwdTopRefIdeal.nD Cert.LnBwdTopRefIdeal.τ).loc Cert.LnBwdTopRefIdeal.main_arg2) = m ((c.tc : Thread Cert.LnBwdTopRefIdeal.nD Cert.LnBwdTopRefIdeal.τ).loc Cert.LnBwdTopRefIdeal.main_arg2))
      ∧ r.2.sem = fun _ => 0)

def quiescent_LnBwdKv [hLnBwdKv : Cert.LnBwdKv.Facts] : Prop :=
  ∀ (m : (ℓ : Loc Cert.LnBwdKv.nD Cert.LnBwdKv.τ Cert.LnBwdKv.sig) → Buf (Elt Bits) ℓ) (g : Dev Cert.LnBwdKv.nD → PrngReg), Pre_LnBwdKv m →
    θ_run (Cert.LnBwdKv.defs (F := Bits)) (onTc (τ := Cert.LnBwdKv.τ) (Cert.LnBwdKv.main (F := Bits))) ⟨m, fun _ => 0, g⟩ (fun r => (∀ c : Dev Cert.LnBwdKv.nD,
      r.2.mem ((c.tc : Thread Cert.LnBwdKv.nD Cert.LnBwdKv.τ).loc Cert.LnBwdKv.main_arg0) = m ((c.tc : Thread Cert.LnBwdKv.nD Cert.LnBwdKv.τ).loc Cert.LnBwdKv.main_arg0)
      ∧ r.2.mem ((c.tc : Thread Cert.LnBwdKv.nD Cert.LnBwdKv.τ).loc Cert.LnBwdKv.main_arg1) = m ((c.tc : Thread Cert.LnBwdKv.nD Cert.LnBwdKv.τ).loc Cert.LnBwdKv.main_arg1)
      ∧ r.2.mem ((c.tc : Thread Cert.LnBwdKv.nD Cert.LnBwdKv.τ).loc Cert.LnBwdKv.main_arg2) = m ((c.tc : Thread Cert.LnBwdKv.nD Cert.LnBwdKv.τ).loc Cert.LnBwdKv.main_arg2)
      ∧ r.2.mem ((c.tc : Thread Cert.LnBwdKv.nD Cert.LnBwdKv.τ).loc Cert.LnBwdKv.main_arg3) = m ((c.tc : Thread Cert.LnBwdKv.nD Cert.LnBwdKv.τ).loc Cert.LnBwdKv.main_arg3)
      ∧ r.2.mem ((c.tc : Thread Cert.LnBwdKv.nD Cert.LnBwdKv.τ).loc Cert.LnBwdKv.main_arg4) = m ((c.tc : Thread Cert.LnBwdKv.nD Cert.LnBwdKv.τ).loc Cert.LnBwdKv.main_arg4))
      ∧ r.2.sem = fun _ => 0)

def quiescent_LnBwdKvIdeal [hLnBwdKvIdeal : Cert.LnBwdKvIdeal.Facts] : Prop :=
  ∀ (m : (ℓ : Loc Cert.LnBwdKvIdeal.nD Cert.LnBwdKvIdeal.τ Cert.LnBwdKvIdeal.sig) → Buf (Elt Ideal) ℓ) (g : Dev Cert.LnBwdKvIdeal.nD → PrngReg), Pre_LnBwdKvIdeal m →
    θ_run (Cert.LnBwdKvIdeal.defs (F := Ideal)) (onTc (τ := Cert.LnBwdKvIdeal.τ) (Cert.LnBwdKvIdeal.main (F := Ideal))) ⟨m, fun _ => 0, g⟩ (fun r => (∀ c : Dev Cert.LnBwdKvIdeal.nD,
      r.2.mem ((c.tc : Thread Cert.LnBwdKvIdeal.nD Cert.LnBwdKvIdeal.τ).loc Cert.LnBwdKvIdeal.main_arg0) = m ((c.tc : Thread Cert.LnBwdKvIdeal.nD Cert.LnBwdKvIdeal.τ).loc Cert.LnBwdKvIdeal.main_arg0)
      ∧ r.2.mem ((c.tc : Thread Cert.LnBwdKvIdeal.nD Cert.LnBwdKvIdeal.τ).loc Cert.LnBwdKvIdeal.main_arg1) = m ((c.tc : Thread Cert.LnBwdKvIdeal.nD Cert.LnBwdKvIdeal.τ).loc Cert.LnBwdKvIdeal.main_arg1)
      ∧ r.2.mem ((c.tc : Thread Cert.LnBwdKvIdeal.nD Cert.LnBwdKvIdeal.τ).loc Cert.LnBwdKvIdeal.main_arg2) = m ((c.tc : Thread Cert.LnBwdKvIdeal.nD Cert.LnBwdKvIdeal.τ).loc Cert.LnBwdKvIdeal.main_arg2)
      ∧ r.2.mem ((c.tc : Thread Cert.LnBwdKvIdeal.nD Cert.LnBwdKvIdeal.τ).loc Cert.LnBwdKvIdeal.main_arg3) = m ((c.tc : Thread Cert.LnBwdKvIdeal.nD Cert.LnBwdKvIdeal.τ).loc Cert.LnBwdKvIdeal.main_arg3)
      ∧ r.2.mem ((c.tc : Thread Cert.LnBwdKvIdeal.nD Cert.LnBwdKvIdeal.τ).loc Cert.LnBwdKvIdeal.main_arg4) = m ((c.tc : Thread Cert.LnBwdKvIdeal.nD Cert.LnBwdKvIdeal.τ).loc Cert.LnBwdKvIdeal.main_arg4))
      ∧ r.2.sem = fun _ => 0)

def quiescent_LnBwdKvRefIdeal [hLnBwdKvRefIdeal : Cert.LnBwdKvRefIdeal.Facts] : Prop :=
  ∀ (m : (ℓ : Loc Cert.LnBwdKvRefIdeal.nD Cert.LnBwdKvRefIdeal.τ Cert.LnBwdKvRefIdeal.sig) → Buf (Elt Ideal) ℓ) (g : Dev Cert.LnBwdKvRefIdeal.nD → PrngReg), Pre_LnBwdKvRefIdeal m →
    θ_run (Cert.LnBwdKvRefIdeal.defs (F := Ideal)) (onTc (τ := Cert.LnBwdKvRefIdeal.τ) (Cert.LnBwdKvRefIdeal.main (F := Ideal))) ⟨m, fun _ => 0, g⟩ (fun r => (∀ c : Dev Cert.LnBwdKvRefIdeal.nD,
      r.2.mem ((c.tc : Thread Cert.LnBwdKvRefIdeal.nD Cert.LnBwdKvRefIdeal.τ).loc Cert.LnBwdKvRefIdeal.main_arg0) = m ((c.tc : Thread Cert.LnBwdKvRefIdeal.nD Cert.LnBwdKvRefIdeal.τ).loc Cert.LnBwdKvRefIdeal.main_arg0)
      ∧ r.2.mem ((c.tc : Thread Cert.LnBwdKvRefIdeal.nD Cert.LnBwdKvRefIdeal.τ).loc Cert.LnBwdKvRefIdeal.main_arg1) = m ((c.tc : Thread Cert.LnBwdKvRefIdeal.nD Cert.LnBwdKvRefIdeal.τ).loc Cert.LnBwdKvRefIdeal.main_arg1)
      ∧ r.2.mem ((c.tc : Thread Cert.LnBwdKvRefIdeal.nD Cert.LnBwdKvRefIdeal.τ).loc Cert.LnBwdKvRefIdeal.main_arg2) = m ((c.tc : Thread Cert.LnBwdKvRefIdeal.nD Cert.LnBwdKvRefIdeal.τ).loc Cert.LnBwdKvRefIdeal.main_arg2)
      ∧ r.2.mem ((c.tc : Thread Cert.LnBwdKvRefIdeal.nD Cert.LnBwdKvRefIdeal.τ).loc Cert.LnBwdKvRefIdeal.main_arg3) = m ((c.tc : Thread Cert.LnBwdKvRefIdeal.nD Cert.LnBwdKvRefIdeal.τ).loc Cert.LnBwdKvRefIdeal.main_arg3)
      ∧ r.2.mem ((c.tc : Thread Cert.LnBwdKvRefIdeal.nD Cert.LnBwdKvRefIdeal.τ).loc Cert.LnBwdKvRefIdeal.main_arg4) = m ((c.tc : Thread Cert.LnBwdKvRefIdeal.nD Cert.LnBwdKvRefIdeal.τ).loc Cert.LnBwdKvRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_v104) = v1 c
          ∧ r.2.mem ((c.tc : Thread Cert.ReferenceIdeal.nD Cert.ReferenceIdeal.τ).loc Cert.ReferenceIdeal.main_v162) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_GateUpBwd_GateUpBwdIdeal : Prop :=
  True

def algebraic_GateUpBwdIdeal_GateUpBwdRefIdeal [hGateUpBwdIdeal : Cert.GateUpBwdIdeal.Facts] [hGateUpBwdRefIdeal : Cert.GateUpBwdRefIdeal.Facts] : Prop :=
  ∀ (m : (ℓ : Loc Cert.GateUpBwdIdeal.nD Cert.GateUpBwdIdeal.τ Cert.GateUpBwdIdeal.sig) → Buf (Elt Ideal) ℓ) (g : Dev Cert.GateUpBwdIdeal.nD → PrngReg)
    (m' : (ℓ : Loc Cert.GateUpBwdRefIdeal.nD Cert.GateUpBwdRefIdeal.τ Cert.GateUpBwdRefIdeal.sig) → Buf (Elt Ideal) ℓ) (g' : Dev Cert.GateUpBwdRefIdeal.nD → PrngReg), Pre_GateUpBwdIdeal m →
    (∀ c : Dev Cert.GateUpBwdIdeal.nD,
      m' ((c.tc : Thread Cert.GateUpBwdRefIdeal.nD Cert.GateUpBwdRefIdeal.τ).loc Cert.GateUpBwdRefIdeal.main_arg0) = m ((c.tc : Thread Cert.GateUpBwdIdeal.nD Cert.GateUpBwdIdeal.τ).loc Cert.GateUpBwdIdeal.main_arg0)
      ∧ m' ((c.tc : Thread Cert.GateUpBwdRefIdeal.nD Cert.GateUpBwdRefIdeal.τ).loc Cert.GateUpBwdRefIdeal.main_arg1) = m ((c.tc : Thread Cert.GateUpBwdIdeal.nD Cert.GateUpBwdIdeal.τ).loc Cert.GateUpBwdIdeal.main_arg1)
      ∧ m' ((c.tc : Thread Cert.GateUpBwdRefIdeal.nD Cert.GateUpBwdRefIdeal.τ).loc Cert.GateUpBwdRefIdeal.main_arg2) = m ((c.tc : Thread Cert.GateUpBwdIdeal.nD Cert.GateUpBwdIdeal.τ).loc Cert.GateUpBwdIdeal.main_arg2)
      ∧ m' ((c.tc : Thread Cert.GateUpBwdRefIdeal.nD Cert.GateUpBwdRefIdeal.τ).loc Cert.GateUpBwdRefIdeal.main_arg3) = m ((c.tc : Thread Cert.GateUpBwdIdeal.nD Cert.GateUpBwdIdeal.τ).loc Cert.GateUpBwdIdeal.main_arg3)) →
    ∃ (v0 : (c : Dev Cert.GateUpBwdIdeal.nD) → Buf (Elt Ideal) ((c.tc : Thread Cert.GateUpBwdIdeal.nD Cert.GateUpBwdIdeal.τ).loc Cert.GateUpBwdIdeal.main_v0)),
      θ_run (Cert.GateUpBwdIdeal.defs (F := Ideal)) (onTc (τ := Cert.GateUpBwdIdeal.τ) (Cert.GateUpBwdIdeal.main (F := Ideal))) ⟨m, fun _ => 0, g⟩ (fun r => ∀ c : Dev Cert.GateUpBwdIdeal.nD,
          r.2.mem ((c.tc : Thread Cert.GateUpBwdIdeal.nD Cert.GateUpBwdIdeal.τ).loc Cert.GateUpBwdIdeal.main_v0) = v0 c
          ∧ r.2.mem ((c.tc : Thread Cert.GateUpBwdIdeal.nD Cert.GateUpBwdIdeal.τ).loc Cert.GateUpBwdIdeal.main_arg0) = m ((c.tc : Thread Cert.GateUpBwdIdeal.nD Cert.GateUpBwdIdeal.τ).loc Cert.GateUpBwdIdeal.main_arg0)
          ∧ r.2.mem ((c.tc : Thread Cert.GateUpBwdIdeal.nD Cert.GateUpBwdIdeal.τ).loc Cert.GateUpBwdIdeal.main_arg1) = m ((c.tc : Thread Cert.GateUpBwdIdeal.nD Cert.GateUpBwdIdeal.τ).loc Cert.GateUpBwdIdeal.main_arg1)
          ∧ r.2.mem ((c.tc : Thread Cert.GateUpBwdIdeal.nD Cert.GateUpBwdIdeal.τ).loc Cert.GateUpBwdIdeal.main_arg2) = m ((c.tc : Thread Cert.GateUpBwdIdeal.nD Cert.GateUpBwdIdeal.τ).loc Cert.GateUpBwdIdeal.main_arg2)
          ∧ r.2.mem ((c.tc : Thread Cert.GateUpBwdIdeal.nD Cert.GateUpBwdIdeal.τ).loc Cert.GateUpBwdIdeal.main_arg3) = m ((c.tc : Thread Cert.GateUpBwdIdeal.nD Cert.GateUpBwdIdeal.τ).loc Cert.GateUpBwdIdeal.main_arg3))
      ∧ θ_run (Cert.GateUpBwdRefIdeal.defs (F := Ideal)) (onTc (τ := Cert.GateUpBwdRefIdeal.τ) (Cert.GateUpBwdRefIdeal.main (F := Ideal))) ⟨m', fun _ => 0, g'⟩ (fun r => ∀ c : Dev Cert.GateUpBwdRefIdeal.nD,
          r.2.mem ((c.tc : Thread Cert.GateUpBwdRefIdeal.nD Cert.GateUpBwdRefIdeal.τ).loc Cert.GateUpBwdRefIdeal.main_v13) = v0 c
          ∧ r.2.mem ((c.tc : Thread Cert.GateUpBwdRefIdeal.nD Cert.GateUpBwdRefIdeal.τ).loc Cert.GateUpBwdRefIdeal.main_arg0) = m' ((c.tc : Thread Cert.GateUpBwdRefIdeal.nD Cert.GateUpBwdRefIdeal.τ).loc Cert.GateUpBwdRefIdeal.main_arg0)
          ∧ r.2.mem ((c.tc : Thread Cert.GateUpBwdRefIdeal.nD Cert.GateUpBwdRefIdeal.τ).loc Cert.GateUpBwdRefIdeal.main_arg1) = m' ((c.tc : Thread Cert.GateUpBwdRefIdeal.nD Cert.GateUpBwdRefIdeal.τ).loc Cert.GateUpBwdRefIdeal.main_arg1)
          ∧ r.2.mem ((c.tc : Thread Cert.GateUpBwdRefIdeal.nD Cert.GateUpBwdRefIdeal.τ).loc Cert.GateUpBwdRefIdeal.main_arg2) = m' ((c.tc : Thread Cert.GateUpBwdRefIdeal.nD Cert.GateUpBwdRefIdeal.τ).loc Cert.GateUpBwdRefIdeal.main_arg2)
          ∧ r.2.mem ((c.tc : Thread Cert.GateUpBwdRefIdeal.nD Cert.GateUpBwdRefIdeal.τ).loc Cert.GateUpBwdRefIdeal.main_arg3) = m' ((c.tc : Thread Cert.GateUpBwdRefIdeal.nD Cert.GateUpBwdRefIdeal.τ).loc Cert.GateUpBwdRefIdeal.main_arg3))

def preserves_DownBwd_DownBwdIdeal : Prop :=
  True

def algebraic_DownBwdIdeal_DownBwdRefIdeal [hDownBwdIdeal : Cert.DownBwdIdeal.Facts] [hDownBwdRefIdeal : Cert.DownBwdRefIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg)
    (m' : (ℓ : Loc Cert.DownBwdRefIdeal.nD Cert.DownBwdRefIdeal.τ Cert.DownBwdRefIdeal.sig) → Buf (Elt Ideal) ℓ) (g' : Dev Cert.DownBwdRefIdeal.nD → PrngReg), Pre_DownBwdIdeal m →
    (∀ c : Dev Cert.DownBwdIdeal.nD,
      m' ((c.tc : Thread Cert.DownBwdRefIdeal.nD Cert.DownBwdRefIdeal.τ).loc Cert.DownBwdRefIdeal.main_arg0) = m ((c.tc : Thread Cert.DownBwdIdeal.nD Cert.DownBwdIdeal.τ).loc Cert.DownBwdIdeal.main_arg0)
      ∧ m' ((c.tc : Thread Cert.DownBwdRefIdeal.nD Cert.DownBwdRefIdeal.τ).loc Cert.DownBwdRefIdeal.main_arg1) = m ((c.tc : Thread Cert.DownBwdIdeal.nD Cert.DownBwdIdeal.τ).loc Cert.DownBwdIdeal.main_arg1)) →
    ∃ (v0 : (c : Dev Cert.DownBwdIdeal.nD) → Buf (Elt Ideal) ((c.tc : Thread Cert.DownBwdIdeal.nD Cert.DownBwdIdeal.τ).loc Cert.DownBwdIdeal.main_v0)),
      θ_run (Cert.DownBwdIdeal.defs (F := Ideal)) (onTc (τ := Cert.DownBwdIdeal.τ) (Cert.DownBwdIdeal.main (F := Ideal))) ⟨m, fun _ => 0, g⟩ (fun r => ∀ c : Dev Cert.DownBwdIdeal.nD,
          r.2.mem ((c.tc : Thread Cert.DownBwdIdeal.nD Cert.DownBwdIdeal.τ).loc Cert.DownBwdIdeal.main_v0) = v0 c
          ∧ r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
          ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1))
      ∧ θ_run (Cert.DownBwdRefIdeal.defs (F := Ideal)) (onTc (τ := Cert.DownBwdRefIdeal.τ) (Cert.DownBwdRefIdeal.main (F := Ideal))) ⟨m', fun _ => 0, g'⟩ (fun r => ∀ c : Dev Cert.DownBwdRefIdeal.nD,
          r.2.mem ((c.tc : Thread Cert.DownBwdRefIdeal.nD Cert.DownBwdRefIdeal.τ).loc Cert.DownBwdRefIdeal.main_v5) = v0 c
          ∧ r.2.mem ((c.tc : Thread Cert.DownBwdRefIdeal.nD Cert.DownBwdRefIdeal.τ).loc Cert.DownBwdRefIdeal.main_arg0) = m' ((c.tc : Thread Cert.DownBwdRefIdeal.nD Cert.DownBwdRefIdeal.τ).loc Cert.DownBwdRefIdeal.main_arg0)
          ∧ r.2.mem ((c.tc : Thread Cert.DownBwdRefIdeal.nD Cert.DownBwdRefIdeal.τ).loc Cert.DownBwdRefIdeal.main_arg1) = m' ((c.tc : Thread Cert.DownBwdRefIdeal.nD Cert.DownBwdRefIdeal.τ).loc Cert.DownBwdRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_GateUpDw_GateUpDwIdeal : Prop :=
  True

def algebraic_GateUpDwIdeal_GateUpDwRefIdeal [hGateUpDwIdeal : Cert.GateUpDwIdeal.Facts] [hGateUpDwRefIdeal : Cert.GateUpDwRefIdeal.Facts] : Prop :=
  ∀ (m : (ℓ : Loc Cert.GateUpDwIdeal.nD Cert.GateUpDwIdeal.τ Cert.GateUpDwIdeal.sig) → Buf (Elt Ideal) ℓ) (g : Dev Cert.GateUpDwIdeal.nD → PrngReg)
    (m' : (ℓ : Loc Cert.GateUpDwRefIdeal.nD Cert.GateUpDwRefIdeal.τ Cert.GateUpDwRefIdeal.sig) → Buf (Elt Ideal) ℓ) (g' : Dev Cert.GateUpDwRefIdeal.nD → PrngReg), Pre_GateUpDwIdeal m →
    (∀ c : Dev Cert.GateUpDwIdeal.nD,
      m' ((c.tc : Thread Cert.GateUpDwRefIdeal.nD Cert.GateUpDwRefIdeal.τ).loc Cert.GateUpDwRefIdeal.main_arg0) = m ((c.tc : Thread Cert.GateUpDwIdeal.nD Cert.GateUpDwIdeal.τ).loc Cert.GateUpDwIdeal.main_arg0)
      ∧ m' ((c.tc : Thread Cert.GateUpDwRefIdeal.nD Cert.GateUpDwRefIdeal.τ).loc Cert.GateUpDwRefIdeal.main_arg1) = m ((c.tc : Thread Cert.GateUpDwIdeal.nD Cert.GateUpDwIdeal.τ).loc Cert.GateUpDwIdeal.main_arg1)) →
    ∃ (v0 : (c : Dev Cert.GateUpDwIdeal.nD) → Buf (Elt Ideal) ((c.tc : Thread Cert.GateUpDwIdeal.nD Cert.GateUpDwIdeal.τ).loc Cert.GateUpDwIdeal.main_v0)),
      θ_run (Cert.GateUpDwIdeal.defs (F := Ideal)) (onTc (τ := Cert.GateUpDwIdeal.τ) (Cert.GateUpDwIdeal.main (F := Ideal))) ⟨m, fun _ => 0, g⟩ (fun r => ∀ c : Dev Cert.GateUpDwIdeal.nD,
          r.2.mem ((c.tc : Thread Cert.GateUpDwIdeal.nD Cert.GateUpDwIdeal.τ).loc Cert.GateUpDwIdeal.main_v0) = v0 c
          ∧ r.2.mem ((c.tc : Thread Cert.GateUpDwIdeal.nD Cert.GateUpDwIdeal.τ).loc Cert.GateUpDwIdeal.main_arg0) = m ((c.tc : Thread Cert.GateUpDwIdeal.nD Cert.GateUpDwIdeal.τ).loc Cert.GateUpDwIdeal.main_arg0)
          ∧ r.2.mem ((c.tc : Thread Cert.GateUpDwIdeal.nD Cert.GateUpDwIdeal.τ).loc Cert.GateUpDwIdeal.main_arg1) = m ((c.tc : Thread Cert.GateUpDwIdeal.nD Cert.GateUpDwIdeal.τ).loc Cert.GateUpDwIdeal.main_arg1))
      ∧ θ_run (Cert.GateUpDwRefIdeal.defs (F := Ideal)) (onTc (τ := Cert.GateUpDwRefIdeal.τ) (Cert.GateUpDwRefIdeal.main (F := Ideal))) ⟨m', fun _ => 0, g'⟩ (fun r => ∀ c : Dev Cert.GateUpDwRefIdeal.nD,
          r.2.mem ((c.tc : Thread Cert.GateUpDwRefIdeal.nD Cert.GateUpDwRefIdeal.τ).loc Cert.GateUpDwRefIdeal.main_v7) = v0 c
          ∧ r.2.mem ((c.tc : Thread Cert.GateUpDwRefIdeal.nD Cert.GateUpDwRefIdeal.τ).loc Cert.GateUpDwRefIdeal.main_arg0) = m' ((c.tc : Thread Cert.GateUpDwRefIdeal.nD Cert.GateUpDwRefIdeal.τ).loc Cert.GateUpDwRefIdeal.main_arg0)
          ∧ r.2.mem ((c.tc : Thread Cert.GateUpDwRefIdeal.nD Cert.GateUpDwRefIdeal.τ).loc Cert.GateUpDwRefIdeal.main_arg1) = m' ((c.tc : Thread Cert.GateUpDwRefIdeal.nD Cert.GateUpDwRefIdeal.τ).loc Cert.GateUpDwRefIdeal.main_arg1))

def preserves_GateUpProj_GateUpProjIdeal : Prop :=
  True

def algebraic_GateUpProjIdeal_GateUpProjRefIdeal [hGateUpProjIdeal : Cert.GateUpProjIdeal.Facts] [hGateUpProjRefIdeal : Cert.GateUpProjRefIdeal.Facts] : Prop :=
  ∀ (m : (ℓ : Loc Cert.GateUpProjIdeal.nD Cert.GateUpProjIdeal.τ Cert.GateUpProjIdeal.sig) → Buf (Elt Ideal) ℓ) (g : Dev Cert.GateUpProjIdeal.nD → PrngReg)
    (m' : (ℓ : Loc Cert.GateUpProjRefIdeal.nD Cert.GateUpProjRefIdeal.τ Cert.GateUpProjRefIdeal.sig) → Buf (Elt Ideal) ℓ) (g' : Dev Cert.GateUpProjRefIdeal.nD → PrngReg), Pre_GateUpProjIdeal m →
    (∀ c : Dev Cert.GateUpProjIdeal.nD,
      m' ((c.tc : Thread Cert.GateUpProjRefIdeal.nD Cert.GateUpProjRefIdeal.τ).loc Cert.GateUpProjRefIdeal.main_arg0) = m ((c.tc : Thread Cert.GateUpProjIdeal.nD Cert.GateUpProjIdeal.τ).loc Cert.GateUpProjIdeal.main_arg0)
      ∧ m' ((c.tc : Thread Cert.GateUpProjRefIdeal.nD Cert.GateUpProjRefIdeal.τ).loc Cert.GateUpProjRefIdeal.main_arg1) = m ((c.tc : Thread Cert.GateUpProjIdeal.nD Cert.GateUpProjIdeal.τ).loc Cert.GateUpProjIdeal.main_arg1)) →
    ∃ (v0 : (c : Dev Cert.GateUpProjIdeal.nD) → Buf (Elt Ideal) ((c.tc : Thread Cert.GateUpProjIdeal.nD Cert.GateUpProjIdeal.τ).loc Cert.GateUpProjIdeal.main_v0)),
      θ_run (Cert.GateUpProjIdeal.defs (F := Ideal)) (onTc (τ := Cert.GateUpProjIdeal.τ) (Cert.GateUpProjIdeal.main (F := Ideal))) ⟨m, fun _ => 0, g⟩ (fun r => ∀ c : Dev Cert.GateUpProjIdeal.nD,
          r.2.mem ((c.tc : Thread Cert.GateUpProjIdeal.nD Cert.GateUpProjIdeal.τ).loc Cert.GateUpProjIdeal.main_v0) = v0 c
          ∧ r.2.mem ((c.tc : Thread Cert.GateUpProjIdeal.nD Cert.GateUpProjIdeal.τ).loc Cert.GateUpProjIdeal.main_arg0) = m ((c.tc : Thread Cert.GateUpProjIdeal.nD Cert.GateUpProjIdeal.τ).loc Cert.GateUpProjIdeal.main_arg0)
          ∧ r.2.mem ((c.tc : Thread Cert.GateUpProjIdeal.nD Cert.GateUpProjIdeal.τ).loc Cert.GateUpProjIdeal.main_arg1) = m ((c.tc : Thread Cert.GateUpProjIdeal.nD Cert.GateUpProjIdeal.τ).loc Cert.GateUpProjIdeal.main_arg1))
      ∧ θ_run (Cert.GateUpProjRefIdeal.defs (F := Ideal)) (onTc (τ := Cert.GateUpProjRefIdeal.τ) (Cert.GateUpProjRefIdeal.main (F := Ideal))) ⟨m', fun _ => 0, g'⟩ (fun r => ∀ c : Dev Cert.GateUpProjRefIdeal.nD,
          r.2.mem ((c.tc : Thread Cert.GateUpProjRefIdeal.nD Cert.GateUpProjRefIdeal.τ).loc Cert.GateUpProjRefIdeal.main_v3) = v0 c
          ∧ r.2.mem ((c.tc : Thread Cert.GateUpProjRefIdeal.nD Cert.GateUpProjRefIdeal.τ).loc Cert.GateUpProjRefIdeal.main_arg0) = m' ((c.tc : Thread Cert.GateUpProjRefIdeal.nD Cert.GateUpProjRefIdeal.τ).loc Cert.GateUpProjRefIdeal.main_arg0)
          ∧ r.2.mem ((c.tc : Thread Cert.GateUpProjRefIdeal.nD Cert.GateUpProjRefIdeal.τ).loc Cert.GateUpProjRefIdeal.main_arg1) = m' ((c.tc : Thread Cert.GateUpProjRefIdeal.nD Cert.GateUpProjRefIdeal.τ).loc Cert.GateUpProjRefIdeal.main_arg1))

def preserves_DownProj_DownProjIdeal : Prop :=
  True

def algebraic_DownProjIdeal_DownProjRefIdeal [hDownProjIdeal : Cert.DownProjIdeal.Facts] [hDownProjRefIdeal : Cert.DownProjRefIdeal.Facts] : Prop :=
  ∀ (m : (ℓ : Loc Cert.DownProjIdeal.nD Cert.DownProjIdeal.τ Cert.DownProjIdeal.sig) → Buf (Elt Ideal) ℓ) (g : Dev Cert.DownProjIdeal.nD → PrngReg)
    (m' : (ℓ : Loc Cert.DownProjRefIdeal.nD Cert.DownProjRefIdeal.τ Cert.DownProjRefIdeal.sig) → Buf (Elt Ideal) ℓ) (g' : Dev Cert.DownProjRefIdeal.nD → PrngReg), Pre_DownProjIdeal m →
    (∀ c : Dev Cert.DownProjIdeal.nD,
      m' ((c.tc : Thread Cert.DownProjRefIdeal.nD Cert.DownProjRefIdeal.τ).loc Cert.DownProjRefIdeal.main_arg0) = m ((c.tc : Thread Cert.DownProjIdeal.nD Cert.DownProjIdeal.τ).loc Cert.DownProjIdeal.main_arg0)
      ∧ m' ((c.tc : Thread Cert.DownProjRefIdeal.nD Cert.DownProjRefIdeal.τ).loc Cert.DownProjRefIdeal.main_arg1) = m ((c.tc : Thread Cert.DownProjIdeal.nD Cert.DownProjIdeal.τ).loc Cert.DownProjIdeal.main_arg1)) →
    ∃ (v0 : (c : Dev Cert.DownProjIdeal.nD) → Buf (Elt Ideal) ((c.tc : Thread Cert.DownProjIdeal.nD Cert.DownProjIdeal.τ).loc Cert.DownProjIdeal.main_v0)),
      θ_run (Cert.DownProjIdeal.defs (F := Ideal)) (onTc (τ := Cert.DownProjIdeal.τ) (Cert.DownProjIdeal.main (F := Ideal))) ⟨m, fun _ => 0, g⟩ (fun r => ∀ c : Dev Cert.DownProjIdeal.nD,
          r.2.mem ((c.tc : Thread Cert.DownProjIdeal.nD Cert.DownProjIdeal.τ).loc Cert.DownProjIdeal.main_v0) = v0 c
          ∧ r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
          ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1))
      ∧ θ_run (Cert.DownProjRefIdeal.defs (F := Ideal)) (onTc (τ := Cert.DownProjRefIdeal.τ) (Cert.DownProjRefIdeal.main (F := Ideal))) ⟨m', fun _ => 0, g'⟩ (fun r => ∀ c : Dev Cert.DownProjRefIdeal.nD,
          r.2.mem ((c.tc : Thread Cert.DownProjRefIdeal.nD Cert.DownProjRefIdeal.τ).loc Cert.DownProjRefIdeal.main_v2) = v0 c
          ∧ r.2.mem ((c.tc : Thread Cert.DownProjRefIdeal.nD Cert.DownProjRefIdeal.τ).loc Cert.DownProjRefIdeal.main_arg0) = m' ((c.tc : Thread Cert.DownProjRefIdeal.nD Cert.DownProjRefIdeal.τ).loc Cert.DownProjRefIdeal.main_arg0)
          ∧ r.2.mem ((c.tc : Thread Cert.DownProjRefIdeal.nD Cert.DownProjRefIdeal.τ).loc Cert.DownProjRefIdeal.main_arg1) = m' ((c.tc : Thread Cert.DownProjRefIdeal.nD Cert.DownProjRefIdeal.τ).loc Cert.DownProjRefIdeal.main_arg1))

def preserves_KvBwd_KvBwdIdeal : Prop :=
  True

def algebraic_KvBwdIdeal_KvBwdRefIdeal [hKvBwdIdeal : Cert.KvBwdIdeal.Facts] [hKvBwdRefIdeal : Cert.KvBwdRefIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg)
    (m' : (ℓ : Loc Cert.KvBwdRefIdeal.nD Cert.KvBwdRefIdeal.τ Cert.KvBwdRefIdeal.sig) → Buf (Elt Ideal) ℓ) (g' : Dev Cert.KvBwdRefIdeal.nD → PrngReg), Pre_KvBwdIdeal m →
    (∀ c : Dev Cert.KvBwdIdeal.nD,
      m' ((c.tc : Thread Cert.KvBwdRefIdeal.nD Cert.KvBwdRefIdeal.τ).loc Cert.KvBwdRefIdeal.main_arg0) = m ((c.tc : Thread Cert.KvBwdIdeal.nD Cert.KvBwdIdeal.τ).loc Cert.KvBwdIdeal.main_arg0)
      ∧ m' ((c.tc : Thread Cert.KvBwdRefIdeal.nD Cert.KvBwdRefIdeal.τ).loc Cert.KvBwdRefIdeal.main_arg1) = m ((c.tc : Thread Cert.KvBwdIdeal.nD Cert.KvBwdIdeal.τ).loc Cert.KvBwdIdeal.main_arg1)) →
    ∃ (v0 : (c : Dev Cert.KvBwdIdeal.nD) → Buf (Elt Ideal) ((c.tc : Thread Cert.KvBwdIdeal.nD Cert.KvBwdIdeal.τ).loc Cert.KvBwdIdeal.main_v0)),
      θ_run (Cert.KvBwdIdeal.defs (F := Ideal)) (onTc (τ := Cert.KvBwdIdeal.τ) (Cert.KvBwdIdeal.main (F := Ideal))) ⟨m, fun _ => 0, g⟩ (fun r => ∀ c : Dev Cert.KvBwdIdeal.nD,
          r.2.mem ((c.tc : Thread Cert.KvBwdIdeal.nD Cert.KvBwdIdeal.τ).loc Cert.KvBwdIdeal.main_v0) = v0 c
          ∧ r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
          ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1))
      ∧ θ_run (Cert.KvBwdRefIdeal.defs (F := Ideal)) (onTc (τ := Cert.KvBwdRefIdeal.τ) (Cert.KvBwdRefIdeal.main (F := Ideal))) ⟨m', fun _ => 0, g'⟩ (fun r => ∀ c : Dev Cert.KvBwdRefIdeal.nD,
          r.2.mem ((c.tc : Thread Cert.KvBwdRefIdeal.nD Cert.KvBwdRefIdeal.τ).loc Cert.KvBwdRefIdeal.main_v6) = v0 c
          ∧ r.2.mem ((c.tc : Thread Cert.KvBwdRefIdeal.nD Cert.KvBwdRefIdeal.τ).loc Cert.KvBwdRefIdeal.main_arg0) = m' ((c.tc : Thread Cert.KvBwdRefIdeal.nD Cert.KvBwdRefIdeal.τ).loc Cert.KvBwdRefIdeal.main_arg0)
          ∧ r.2.mem ((c.tc : Thread Cert.KvBwdRefIdeal.nD Cert.KvBwdRefIdeal.τ).loc Cert.KvBwdRefIdeal.main_arg1) = m' ((c.tc : Thread Cert.KvBwdRefIdeal.nD Cert.KvBwdRefIdeal.τ).loc Cert.KvBwdRefIdeal.main_arg1))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v0)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v9) = v0 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)) →
    ∃ (v0 : (c : Dev Cert.KvProjIdeal.nD) → Buf (Elt Ideal) ((c.tc : Thread Cert.KvProjIdeal.nD Cert.KvProjIdeal.τ).loc Cert.KvProjIdeal.main_v0)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v0) = v0 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v4) = v0 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1))

def preserves_QBwd_QBwdIdeal : Prop :=
  True

def algebraic_QBwdIdeal_QBwdRefIdeal [hQBwdIdeal : Cert.QBwdIdeal.Facts] [hQBwdRefIdeal : Cert.QBwdRefIdeal.Facts] : Prop :=
  ∀ (m : (ℓ : Loc Cert.QBwdIdeal.nD Cert.QBwdIdeal.τ Cert.QBwdIdeal.sig) → Buf (Elt Ideal) ℓ) (g : Dev Cert.QBwdIdeal.nD → PrngReg)
    (m' : (ℓ : Loc Cert.QBwdRefIdeal.nD Cert.QBwdRefIdeal.τ Cert.QBwdRefIdeal.sig) → Buf (Elt Ideal) ℓ) (g' : Dev Cert.QBwdRefIdeal.nD → PrngReg), Pre_QBwdIdeal m →
    (∀ c : Dev Cert.QBwdIdeal.nD,
      m' ((c.tc : Thread Cert.QBwdRefIdeal.nD Cert.QBwdRefIdeal.τ).loc Cert.QBwdRefIdeal.main_arg0) = m ((c.tc : Thread Cert.QBwdIdeal.nD Cert.QBwdIdeal.τ).loc Cert.QBwdIdeal.main_arg0)
      ∧ m' ((c.tc : Thread Cert.QBwdRefIdeal.nD Cert.QBwdRefIdeal.τ).loc Cert.QBwdRefIdeal.main_arg1) = m ((c.tc : Thread Cert.QBwdIdeal.nD Cert.QBwdIdeal.τ).loc Cert.QBwdIdeal.main_arg1)) →
    ∃ (v0 : (c : Dev Cert.QBwdIdeal.nD) → Buf (Elt Ideal) ((c.tc : Thread Cert.QBwdIdeal.nD Cert.QBwdIdeal.τ).loc Cert.QBwdIdeal.main_v0)),
      θ_run (Cert.QBwdIdeal.defs (F := Ideal)) (onTc (τ := Cert.QBwdIdeal.τ) (Cert.QBwdIdeal.main (F := Ideal))) ⟨m, fun _ => 0, g⟩ (fun r => ∀ c : Dev Cert.QBwdIdeal.nD,
          r.2.mem ((c.tc : Thread Cert.QBwdIdeal.nD Cert.QBwdIdeal.τ).loc Cert.QBwdIdeal.main_v0) = v0 c
          ∧ r.2.mem ((c.tc : Thread Cert.QBwdIdeal.nD Cert.QBwdIdeal.τ).loc Cert.QBwdIdeal.main_arg0) = m ((c.tc : Thread Cert.QBwdIdeal.nD Cert.QBwdIdeal.τ).loc Cert.QBwdIdeal.main_arg0)
          ∧ r.2.mem ((c.tc : Thread Cert.QBwdIdeal.nD Cert.QBwdIdeal.τ).loc Cert.QBwdIdeal.main_arg1) = m ((c.tc : Thread Cert.QBwdIdeal.nD Cert.QBwdIdeal.τ).loc Cert.QBwdIdeal.main_arg1))
      ∧ θ_run (Cert.QBwdRefIdeal.defs (F := Ideal)) (onTc (τ := Cert.QBwdRefIdeal.τ) (Cert.QBwdRefIdeal.main (F := Ideal))) ⟨m', fun _ => 0, g'⟩ (fun r => ∀ c : Dev Cert.QBwdRefIdeal.nD,
          r.2.mem ((c.tc : Thread Cert.QBwdRefIdeal.nD Cert.QBwdRefIdeal.τ).loc Cert.QBwdRefIdeal.main_v6) = v0 c
          ∧ r.2.mem ((c.tc : Thread Cert.QBwdRefIdeal.nD Cert.QBwdRefIdeal.τ).loc Cert.QBwdRefIdeal.main_arg0) = m' ((c.tc : Thread Cert.QBwdRefIdeal.nD Cert.QBwdRefIdeal.τ).loc Cert.QBwdRefIdeal.main_arg0)
          ∧ r.2.mem ((c.tc : Thread Cert.QBwdRefIdeal.nD Cert.QBwdRefIdeal.τ).loc Cert.QBwdRefIdeal.main_arg1) = m' ((c.tc : Thread Cert.QBwdRefIdeal.nD Cert.QBwdRefIdeal.τ).loc Cert.QBwdRefIdeal.main_arg1))

def preserves_QDw_QDwIdeal : Prop :=
  True

def algebraic_QDwIdeal_QDwRefIdeal [hQDwIdeal : Cert.QDwIdeal.Facts] [hQDwRefIdeal : Cert.QDwRefIdeal.Facts] : Prop :=
  ∀ (m : (ℓ : Loc Cert.QDwIdeal.nD Cert.QDwIdeal.τ Cert.QDwIdeal.sig) → Buf (Elt Ideal) ℓ) (g : Dev Cert.QDwIdeal.nD → PrngReg)
    (m' : (ℓ : Loc Cert.QDwRefIdeal.nD Cert.QDwRefIdeal.τ Cert.QDwRefIdeal.sig) → Buf (Elt Ideal) ℓ) (g' : Dev Cert.QDwRefIdeal.nD → PrngReg), Pre_QDwIdeal m →
    (∀ c : Dev Cert.QDwIdeal.nD,
      m' ((c.tc : Thread Cert.QDwRefIdeal.nD Cert.QDwRefIdeal.τ).loc Cert.QDwRefIdeal.main_arg0) = m ((c.tc : Thread Cert.QDwIdeal.nD Cert.QDwIdeal.τ).loc Cert.QDwIdeal.main_arg0)
      ∧ m' ((c.tc : Thread Cert.QDwRefIdeal.nD Cert.QDwRefIdeal.τ).loc Cert.QDwRefIdeal.main_arg1) = m ((c.tc : Thread Cert.QDwIdeal.nD Cert.QDwIdeal.τ).loc Cert.QDwIdeal.main_arg1)) →
    ∃ (v0 : (c : Dev Cert.QDwIdeal.nD) → Buf (Elt Ideal) ((c.tc : Thread Cert.QDwIdeal.nD Cert.QDwIdeal.τ).loc Cert.QDwIdeal.main_v0)),
      θ_run (Cert.QDwIdeal.defs (F := Ideal)) (onTc (τ := Cert.QDwIdeal.τ) (Cert.QDwIdeal.main (F := Ideal))) ⟨m, fun _ => 0, g⟩ (fun r => ∀ c : Dev Cert.QDwIdeal.nD,
          r.2.mem ((c.tc : Thread Cert.QDwIdeal.nD Cert.QDwIdeal.τ).loc Cert.QDwIdeal.main_v0) = v0 c
          ∧ r.2.mem ((c.tc : Thread Cert.QDwIdeal.nD Cert.QDwIdeal.τ).loc Cert.QDwIdeal.main_arg0) = m ((c.tc : Thread Cert.QDwIdeal.nD Cert.QDwIdeal.τ).loc Cert.QDwIdeal.main_arg0)
          ∧ r.2.mem ((c.tc : Thread Cert.QDwIdeal.nD Cert.QDwIdeal.τ).loc Cert.QDwIdeal.main_arg1) = m ((c.tc : Thread Cert.QDwIdeal.nD Cert.QDwIdeal.τ).loc Cert.QDwIdeal.main_arg1))
      ∧ θ_run (Cert.QDwRefIdeal.defs (F := Ideal)) (onTc (τ := Cert.QDwRefIdeal.τ) (Cert.QDwRefIdeal.main (F := Ideal))) ⟨m', fun _ => 0, g'⟩ (fun r => ∀ c : Dev Cert.QDwRefIdeal.nD,
          r.2.mem ((c.tc : Thread Cert.QDwRefIdeal.nD Cert.QDwRefIdeal.τ).loc Cert.QDwRefIdeal.main_v9) = v0 c
          ∧ r.2.mem ((c.tc : Thread Cert.QDwRefIdeal.nD Cert.QDwRefIdeal.τ).loc Cert.QDwRefIdeal.main_arg0) = m' ((c.tc : Thread Cert.QDwRefIdeal.nD Cert.QDwRefIdeal.τ).loc Cert.QDwRefIdeal.main_arg0)
          ∧ r.2.mem ((c.tc : Thread Cert.QDwRefIdeal.nD Cert.QDwRefIdeal.τ).loc Cert.QDwRefIdeal.main_arg1) = m' ((c.tc : Thread Cert.QDwRefIdeal.nD Cert.QDwRefIdeal.τ).loc Cert.QDwRefIdeal.main_arg1))

def preserves_QProj_QProjIdeal : Prop :=
  True

def algebraic_QProjIdeal_QProjRefIdeal [hQProjIdeal : Cert.QProjIdeal.Facts] [hQProjRefIdeal : Cert.QProjRefIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjRefIdeal.nD Cert.QProjRefIdeal.τ Cert.QProjRefIdeal.sig) → Buf (Elt Ideal) ℓ) (g' : Dev Cert.QProjRefIdeal.nD → PrngReg), Pre_QProjIdeal m →
    (∀ c : Dev Cert.QProjIdeal.nD,
      m' ((c.tc : Thread Cert.QProjRefIdeal.nD Cert.QProjRefIdeal.τ).loc Cert.QProjRefIdeal.main_arg0) = m ((c.tc : Thread Cert.QProjIdeal.nD Cert.QProjIdeal.τ).loc Cert.QProjIdeal.main_arg0)
      ∧ m' ((c.tc : Thread Cert.QProjRefIdeal.nD Cert.QProjRefIdeal.τ).loc Cert.QProjRefIdeal.main_arg1) = m ((c.tc : Thread Cert.QProjIdeal.nD Cert.QProjIdeal.τ).loc Cert.QProjIdeal.main_arg1)) →
    ∃ (v0 : (c : Dev Cert.QProjIdeal.nD) → Buf (Elt Ideal) ((c.tc : Thread Cert.QProjIdeal.nD Cert.QProjIdeal.τ).loc Cert.QProjIdeal.main_v0)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v0) = v0 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1))
      ∧ θ_run (Cert.QProjRefIdeal.defs (F := Ideal)) (onTc (τ := Cert.QProjRefIdeal.τ) (Cert.QProjRefIdeal.main (F := Ideal))) ⟨m', fun _ => 0, g'⟩ (fun r => ∀ c : Dev Cert.QProjRefIdeal.nD,
          r.2.mem ((c.tc : Thread Cert.QProjRefIdeal.nD Cert.QProjRefIdeal.τ).loc Cert.QProjRefIdeal.main_v4) = v0 c
          ∧ r.2.mem ((c.tc : Thread Cert.QProjRefIdeal.nD Cert.QProjRefIdeal.τ).loc Cert.QProjRefIdeal.main_arg0) = m' ((c.tc : Thread Cert.QProjRefIdeal.nD Cert.QProjRefIdeal.τ).loc Cert.QProjRefIdeal.main_arg0)
          ∧ r.2.mem ((c.tc : Thread Cert.QProjRefIdeal.nD Cert.QProjRefIdeal.τ).loc Cert.QProjRefIdeal.main_arg1) = m' ((c.tc : Thread Cert.QProjRefIdeal.nD Cert.QProjRefIdeal.τ).loc Cert.QProjRefIdeal.main_arg1))

def preserves_OBwd_OBwdIdeal : Prop :=
  True

def algebraic_OBwdIdeal_OBwdRefIdeal [hOBwdIdeal : Cert.OBwdIdeal.Facts] [hOBwdRefIdeal : Cert.OBwdRefIdeal.Facts] : Prop :=
  ∀ (m : (ℓ : Loc Cert.OBwdIdeal.nD Cert.OBwdIdeal.τ Cert.OBwdIdeal.sig) → Buf (Elt Ideal) ℓ) (g : Dev Cert.OBwdIdeal.nD → PrngReg)
    (m' : (ℓ : Loc Cert.OBwdRefIdeal.nD Cert.OBwdRefIdeal.τ Cert.OBwdRefIdeal.sig) → Buf (Elt Ideal) ℓ) (g' : Dev Cert.OBwdRefIdeal.nD → PrngReg), Pre_OBwdIdeal m →
    (∀ c : Dev Cert.OBwdIdeal.nD,
      m' ((c.tc : Thread Cert.OBwdRefIdeal.nD Cert.OBwdRefIdeal.τ).loc Cert.OBwdRefIdeal.main_arg0) = m ((c.tc : Thread Cert.OBwdIdeal.nD Cert.OBwdIdeal.τ).loc Cert.OBwdIdeal.main_arg0)
      ∧ m' ((c.tc : Thread Cert.OBwdRefIdeal.nD Cert.OBwdRefIdeal.τ).loc Cert.OBwdRefIdeal.main_arg1) = m ((c.tc : Thread Cert.OBwdIdeal.nD Cert.OBwdIdeal.τ).loc Cert.OBwdIdeal.main_arg1)) →
    ∃ (v0 : (c : Dev Cert.OBwdIdeal.nD) → Buf (Elt Ideal) ((c.tc : Thread Cert.OBwdIdeal.nD Cert.OBwdIdeal.τ).loc Cert.OBwdIdeal.main_v0)),
      θ_run (Cert.OBwdIdeal.defs (F := Ideal)) (onTc (τ := Cert.OBwdIdeal.τ) (Cert.OBwdIdeal.main (F := Ideal))) ⟨m, fun _ => 0, g⟩ (fun r => ∀ c : Dev Cert.OBwdIdeal.nD,
          r.2.mem ((c.tc : Thread Cert.OBwdIdeal.nD Cert.OBwdIdeal.τ).loc Cert.OBwdIdeal.main_v0) = v0 c
          ∧ r.2.mem ((c.tc : Thread Cert.OBwdIdeal.nD Cert.OBwdIdeal.τ).loc Cert.OBwdIdeal.main_arg0) = m ((c.tc : Thread Cert.OBwdIdeal.nD Cert.OBwdIdeal.τ).loc Cert.OBwdIdeal.main_arg0)
          ∧ r.2.mem ((c.tc : Thread Cert.OBwdIdeal.nD Cert.OBwdIdeal.τ).loc Cert.OBwdIdeal.main_arg1) = m ((c.tc : Thread Cert.OBwdIdeal.nD Cert.OBwdIdeal.τ).loc Cert.OBwdIdeal.main_arg1))
      ∧ θ_run (Cert.OBwdRefIdeal.defs (F := Ideal)) (onTc (τ := Cert.OBwdRefIdeal.τ) (Cert.OBwdRefIdeal.main (F := Ideal))) ⟨m', fun _ => 0, g'⟩ (fun r => ∀ c : Dev Cert.OBwdRefIdeal.nD,
          r.2.mem ((c.tc : Thread Cert.OBwdRefIdeal.nD Cert.OBwdRefIdeal.τ).loc Cert.OBwdRefIdeal.main_v4) = v0 c
          ∧ r.2.mem ((c.tc : Thread Cert.OBwdRefIdeal.nD Cert.OBwdRefIdeal.τ).loc Cert.OBwdRefIdeal.main_arg0) = m' ((c.tc : Thread Cert.OBwdRefIdeal.nD Cert.OBwdRefIdeal.τ).loc Cert.OBwdRefIdeal.main_arg0)
          ∧ r.2.mem ((c.tc : Thread Cert.OBwdRefIdeal.nD Cert.OBwdRefIdeal.τ).loc Cert.OBwdRefIdeal.main_arg1) = m' ((c.tc : Thread Cert.OBwdRefIdeal.nD Cert.OBwdRefIdeal.τ).loc Cert.OBwdRefIdeal.main_arg1))

def preserves_ODw_ODwIdeal : Prop :=
  True

def algebraic_ODwIdeal_ODwRefIdeal [hODwIdeal : Cert.ODwIdeal.Facts] [hODwRefIdeal : Cert.ODwRefIdeal.Facts] : Prop :=
  ∀ (m : (ℓ : Loc Cert.ODwIdeal.nD Cert.ODwIdeal.τ Cert.ODwIdeal.sig) → Buf (Elt Ideal) ℓ) (g : Dev Cert.ODwIdeal.nD → PrngReg)
    (m' : (ℓ : Loc Cert.ODwRefIdeal.nD Cert.ODwRefIdeal.τ Cert.ODwRefIdeal.sig) → Buf (Elt Ideal) ℓ) (g' : Dev Cert.ODwRefIdeal.nD → PrngReg), Pre_ODwIdeal m →
    (∀ c : Dev Cert.ODwIdeal.nD,
      m' ((c.tc : Thread Cert.ODwRefIdeal.nD Cert.ODwRefIdeal.τ).loc Cert.ODwRefIdeal.main_arg0) = m ((c.tc : Thread Cert.ODwIdeal.nD Cert.ODwIdeal.τ).loc Cert.ODwIdeal.main_arg0)
      ∧ m' ((c.tc : Thread Cert.ODwRefIdeal.nD Cert.ODwRefIdeal.τ).loc Cert.ODwRefIdeal.main_arg1) = m ((c.tc : Thread Cert.ODwIdeal.nD Cert.ODwIdeal.τ).loc Cert.ODwIdeal.main_arg1)) →
    ∃ (v0 : (c : Dev Cert.ODwIdeal.nD) → Buf (Elt Ideal) ((c.tc : Thread Cert.ODwIdeal.nD Cert.ODwIdeal.τ).loc Cert.ODwIdeal.main_v0)),
      θ_run (Cert.ODwIdeal.defs (F := Ideal)) (onTc (τ := Cert.ODwIdeal.τ) (Cert.ODwIdeal.main (F := Ideal))) ⟨m, fun _ => 0, g⟩ (fun r => ∀ c : Dev Cert.ODwIdeal.nD,
          r.2.mem ((c.tc : Thread Cert.ODwIdeal.nD Cert.ODwIdeal.τ).loc Cert.ODwIdeal.main_v0) = v0 c
          ∧ r.2.mem ((c.tc : Thread Cert.ODwIdeal.nD Cert.ODwIdeal.τ).loc Cert.ODwIdeal.main_arg0) = m ((c.tc : Thread Cert.ODwIdeal.nD Cert.ODwIdeal.τ).loc Cert.ODwIdeal.main_arg0)
          ∧ r.2.mem ((c.tc : Thread Cert.ODwIdeal.nD Cert.ODwIdeal.τ).loc Cert.ODwIdeal.main_arg1) = m ((c.tc : Thread Cert.ODwIdeal.nD Cert.ODwIdeal.τ).loc Cert.ODwIdeal.main_arg1))
      ∧ θ_run (Cert.ODwRefIdeal.defs (F := Ideal)) (onTc (τ := Cert.ODwRefIdeal.τ) (Cert.ODwRefIdeal.main (F := Ideal))) ⟨m', fun _ => 0, g'⟩ (fun r => ∀ c : Dev Cert.ODwRefIdeal.nD,
          r.2.mem ((c.tc : Thread Cert.ODwRefIdeal.nD Cert.ODwRefIdeal.τ).loc Cert.ODwRefIdeal.main_v7) = v0 c
          ∧ r.2.mem ((c.tc : Thread Cert.ODwRefIdeal.nD Cert.ODwRefIdeal.τ).loc Cert.ODwRefIdeal.main_arg0) = m' ((c.tc : Thread Cert.ODwRefIdeal.nD Cert.ODwRefIdeal.τ).loc Cert.ODwRefIdeal.main_arg0)
          ∧ r.2.mem ((c.tc : Thread Cert.ODwRefIdeal.nD Cert.ODwRefIdeal.τ).loc Cert.ODwRefIdeal.main_arg1) = m' ((c.tc : Thread Cert.ODwRefIdeal.nD Cert.ODwRefIdeal.τ).loc Cert.ODwRefIdeal.main_arg1))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)) →
    ∃ (v0 : (c : Dev Cert.OProjIdeal.nD) → Buf (Elt Ideal) ((c.tc : Thread Cert.OProjIdeal.nD Cert.OProjIdeal.τ).loc Cert.OProjIdeal.main_v0)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v0) = v0 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v2) = v0 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v14) = v0 c
          ∧ r.2.mem ((c.tc : Thread Cert.LossHeadRefIdeal.nD Cert.LossHeadRefIdeal.τ).loc Cert.LossHeadRefIdeal.main_v15) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_LnBwd_LnBwdIdeal : Prop :=
  True

def algebraic_LnBwdIdeal_LnBwdRefIdeal [hLnBwdIdeal : Cert.LnBwdIdeal.Facts] [hLnBwdRefIdeal : Cert.LnBwdRefIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)) →
    ∃ (v0 : (c : Dev Cert.LnBwdIdeal.nD) → Buf (Elt Ideal) ((c.tc : Thread Cert.LnBwdIdeal.nD Cert.LnBwdIdeal.τ).loc Cert.LnBwdIdeal.main_v0_2)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v0_2) = v0 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v38) = v0 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3))

def preserves_AdamLn_AdamLnIdeal : Prop :=
  True

def algebraic_AdamLnIdeal_AdamLnRefIdeal [hAdamLnIdeal : Cert.AdamLnIdeal.Facts] [hAdamLnRefIdeal : Cert.AdamLnRefIdeal.Facts] : Prop :=
  ∀ (m : (ℓ : Loc Cert.AdamLnIdeal.nD Cert.AdamLnIdeal.τ Cert.AdamLnIdeal.sig) → Buf (Elt Ideal) ℓ) (g : Dev Cert.AdamLnIdeal.nD → PrngReg)
    (m' : (ℓ : Loc Cert.AdamLnRefIdeal.nD Cert.AdamLnRefIdeal.τ Cert.AdamLnRefIdeal.sig) → Buf (Elt Ideal) ℓ) (g' : Dev Cert.AdamLnRefIdeal.nD → PrngReg), Pre_AdamLnIdeal m →
    (∀ c : Dev Cert.AdamLnIdeal.nD,
      m' ((c.tc : Thread Cert.AdamLnRefIdeal.nD Cert.AdamLnRefIdeal.τ).loc Cert.AdamLnRefIdeal.main_arg0) = m ((c.tc : Thread Cert.AdamLnIdeal.nD Cert.AdamLnIdeal.τ).loc Cert.AdamLnIdeal.main_arg0)
      ∧ m' ((c.tc : Thread Cert.AdamLnRefIdeal.nD Cert.AdamLnRefIdeal.τ).loc Cert.AdamLnRefIdeal.main_arg1) = m ((c.tc : Thread Cert.AdamLnIdeal.nD Cert.AdamLnIdeal.τ).loc Cert.AdamLnIdeal.main_arg1)
      ∧ m' ((c.tc : Thread Cert.AdamLnRefIdeal.nD Cert.AdamLnRefIdeal.τ).loc Cert.AdamLnRefIdeal.main_arg2) = m ((c.tc : Thread Cert.AdamLnIdeal.nD Cert.AdamLnIdeal.τ).loc Cert.AdamLnIdeal.main_arg2)
      ∧ m' ((c.tc : Thread Cert.AdamLnRefIdeal.nD Cert.AdamLnRefIdeal.τ).loc Cert.AdamLnRefIdeal.main_arg3) = m ((c.tc : Thread Cert.AdamLnIdeal.nD Cert.AdamLnIdeal.τ).loc Cert.AdamLnIdeal.main_arg3)) →
    ∃ (v0 : (c : Dev Cert.AdamLnIdeal.nD) → Buf (Elt Ideal) ((c.tc : Thread Cert.AdamLnIdeal.nD Cert.AdamLnIdeal.τ).loc Cert.AdamLnIdeal.main_v0_0)) (v1 : (c : Dev Cert.AdamLnIdeal.nD) → Buf (Elt Ideal) ((c.tc : Thread Cert.AdamLnIdeal.nD Cert.AdamLnIdeal.τ).loc Cert.AdamLnIdeal.main_v0_1)) (v2 : (c : Dev Cert.AdamLnIdeal.nD) → Buf (Elt Ideal) ((c.tc : Thread Cert.AdamLnIdeal.nD Cert.AdamLnIdeal.τ).loc Cert.AdamLnIdeal.main_v0_2)),
      θ_run (Cert.AdamLnIdeal.defs (F := Ideal)) (onTc (τ := Cert.AdamLnIdeal.τ) (Cert.AdamLnIdeal.main (F := Ideal))) ⟨m, fun _ => 0, g⟩ (fun r => ∀ c : Dev Cert.AdamLnIdeal.nD,
          r.2.mem ((c.tc : Thread Cert.AdamLnIdeal.nD Cert.AdamLnIdeal.τ).loc Cert.AdamLnIdeal.main_v0_0) = v0 c
          ∧ r.2.mem ((c.tc : Thread Cert.AdamLnIdeal.nD Cert.AdamLnIdeal.τ).loc Cert.AdamLnIdeal.main_v0_1) = v1 c
          ∧ r.2.mem ((c.tc : Thread Cert.AdamLnIdeal.nD Cert.AdamLnIdeal.τ).loc Cert.AdamLnIdeal.main_v0_2) = v2 c
          ∧ r.2.mem ((c.tc : Thread Cert.AdamLnIdeal.nD Cert.AdamLnIdeal.τ).loc Cert.AdamLnIdeal.main_arg0) = m ((c.tc : Thread Cert.AdamLnIdeal.nD Cert.AdamLnIdeal.τ).loc Cert.AdamLnIdeal.main_arg0)
          ∧ r.2.mem ((c.tc : Thread Cert.AdamLnIdeal.nD Cert.AdamLnIdeal.τ).loc Cert.AdamLnIdeal.main_arg1) = m ((c.tc : Thread Cert.AdamLnIdeal.nD Cert.AdamLnIdeal.τ).loc Cert.AdamLnIdeal.main_arg1)
          ∧ r.2.mem ((c.tc : Thread Cert.AdamLnIdeal.nD Cert.AdamLnIdeal.τ).loc Cert.AdamLnIdeal.main_arg2) = m ((c.tc : Thread Cert.AdamLnIdeal.nD Cert.AdamLnIdeal.τ).loc Cert.AdamLnIdeal.main_arg2)
          ∧ r.2.mem ((c.tc : Thread Cert.AdamLnIdeal.nD Cert.AdamLnIdeal.τ).loc Cert.AdamLnIdeal.main_arg3) = m ((c.tc : Thread Cert.AdamLnIdeal.nD Cert.AdamLnIdeal.τ).loc Cert.AdamLnIdeal.main_arg3))
      ∧ θ_run (Cert.AdamLnRefIdeal.defs (F := Ideal)) (onTc (τ := Cert.AdamLnRefIdeal.τ) (Cert.AdamLnRefIdeal.main (F := Ideal))) ⟨m', fun _ => 0, g'⟩ (fun r => ∀ c : Dev Cert.AdamLnRefIdeal.nD,
          r.2.mem ((c.tc : Thread Cert.AdamLnRefIdeal.nD Cert.AdamLnRefIdeal.τ).loc Cert.AdamLnRefIdeal.main_v23) = v0 c
          ∧ r.2.mem ((c.tc : Thread Cert.AdamLnRefIdeal.nD Cert.AdamLnRefIdeal.τ).loc Cert.AdamLnRefIdeal.main_v4) = v1 c
          ∧ r.2.mem ((c.tc : Thread Cert.AdamLnRefIdeal.nD Cert.AdamLnRefIdeal.τ).loc Cert.AdamLnRefIdeal.main_v10) = v2 c
          ∧ r.2.mem ((c.tc : Thread Cert.AdamLnRefIdeal.nD Cert.AdamLnRefIdeal.τ).loc Cert.AdamLnRefIdeal.main_arg0) = m' ((c.tc : Thread Cert.AdamLnRefIdeal.nD Cert.AdamLnRefIdeal.τ).loc Cert.AdamLnRefIdeal.main_arg0)
          ∧ r.2.mem ((c.tc : Thread Cert.AdamLnRefIdeal.nD Cert.AdamLnRefIdeal.τ).loc Cert.AdamLnRefIdeal.main_arg1) = m' ((c.tc : Thread Cert.AdamLnRefIdeal.nD Cert.AdamLnRefIdeal.τ).loc Cert.AdamLnRefIdeal.main_arg1)
          ∧ r.2.mem ((c.tc : Thread Cert.AdamLnRefIdeal.nD Cert.AdamLnRefIdeal.τ).loc Cert.AdamLnRefIdeal.main_arg2) = m' ((c.tc : Thread Cert.AdamLnRefIdeal.nD Cert.AdamLnRefIdeal.τ).loc Cert.AdamLnRefIdeal.main_arg2)
          ∧ r.2.mem ((c.tc : Thread Cert.AdamLnRefIdeal.nD Cert.AdamLnRefIdeal.τ).loc Cert.AdamLnRefIdeal.main_arg3) = m' ((c.tc : Thread Cert.AdamLnRefIdeal.nD Cert.AdamLnRefIdeal.τ).loc Cert.AdamLnRefIdeal.main_arg3))

def preserves_AdamConvB_AdamConvBIdeal : Prop :=
  True

def algebraic_AdamConvBIdeal_AdamConvBRefIdeal [hAdamConvBIdeal : Cert.AdamConvBIdeal.Facts] [hAdamConvBRefIdeal : Cert.AdamConvBRefIdeal.Facts] : Prop :=
  ∀ (m : (ℓ : Loc Cert.AdamConvBIdeal.nD Cert.AdamConvBIdeal.τ Cert.AdamConvBIdeal.sig) → Buf (Elt Ideal) ℓ) (g : Dev Cert.AdamConvBIdeal.nD → PrngReg)
    (m' : (ℓ : Loc Cert.AdamConvBRefIdeal.nD Cert.AdamConvBRefIdeal.τ Cert.AdamConvBRefIdeal.sig) → Buf (Elt Ideal) ℓ) (g' : Dev Cert.AdamConvBRefIdeal.nD → PrngReg), Pre_AdamConvBIdeal m →
    (∀ c : Dev Cert.AdamConvBIdeal.nD,
      m' ((c.tc : Thread Cert.AdamConvBRefIdeal.nD Cert.AdamConvBRefIdeal.τ).loc Cert.AdamConvBRefIdeal.main_arg0) = m ((c.tc : Thread Cert.AdamConvBIdeal.nD Cert.AdamConvBIdeal.τ).loc Cert.AdamConvBIdeal.main_arg0)
      ∧ m' ((c.tc : Thread Cert.AdamConvBRefIdeal.nD Cert.AdamConvBRefIdeal.τ).loc Cert.AdamConvBRefIdeal.main_arg1) = m ((c.tc : Thread Cert.AdamConvBIdeal.nD Cert.AdamConvBIdeal.τ).loc Cert.AdamConvBIdeal.main_arg1)
      ∧ m' ((c.tc : Thread Cert.AdamConvBRefIdeal.nD Cert.AdamConvBRefIdeal.τ).loc Cert.AdamConvBRefIdeal.main_arg2) = m ((c.tc : Thread Cert.AdamConvBIdeal.nD Cert.AdamConvBIdeal.τ).loc Cert.AdamConvBIdeal.main_arg2)
      ∧ m' ((c.tc : Thread Cert.AdamConvBRefIdeal.nD Cert.AdamConvBRefIdeal.τ).loc Cert.AdamConvBRefIdeal.main_arg3) = m ((c.tc : Thread Cert.AdamConvBIdeal.nD Cert.AdamConvBIdeal.τ).loc Cert.AdamConvBIdeal.main_arg3)) →
    ∃ (v0 : (c : Dev Cert.AdamConvBIdeal.nD) → Buf (Elt Ideal) ((c.tc : Thread Cert.AdamConvBIdeal.nD Cert.AdamConvBIdeal.τ).loc Cert.AdamConvBIdeal.main_v0_0)) (v1 : (c : Dev Cert.AdamConvBIdeal.nD) → Buf (Elt Ideal) ((c.tc : Thread Cert.AdamConvBIdeal.nD Cert.AdamConvBIdeal.τ).loc Cert.AdamConvBIdeal.main_v0_1)) (v2 : (c : Dev Cert.AdamConvBIdeal.nD) → Buf (Elt Ideal) ((c.tc : Thread Cert.AdamConvBIdeal.nD Cert.AdamConvBIdeal.τ).loc Cert.AdamConvBIdeal.main_v0_2)),
      θ_run (Cert.AdamConvBIdeal.defs (F := Ideal)) (onTc (τ := Cert.AdamConvBIdeal.τ) (Cert.AdamConvBIdeal.main (F := Ideal))) ⟨m, fun _ => 0, g⟩ (fun r => ∀ c : Dev Cert.AdamConvBIdeal.nD,
          r.2.mem ((c.tc : Thread Cert.AdamConvBIdeal.nD Cert.AdamConvBIdeal.τ).loc Cert.AdamConvBIdeal.main_v0_0) = v0 c
          ∧ r.2.mem ((c.tc : Thread Cert.AdamConvBIdeal.nD Cert.AdamConvBIdeal.τ).loc Cert.AdamConvBIdeal.main_v0_1) = v1 c
          ∧ r.2.mem ((c.tc : Thread Cert.AdamConvBIdeal.nD Cert.AdamConvBIdeal.τ).loc Cert.AdamConvBIdeal.main_v0_2) = v2 c
          ∧ r.2.mem ((c.tc : Thread Cert.AdamConvBIdeal.nD Cert.AdamConvBIdeal.τ).loc Cert.AdamConvBIdeal.main_arg0) = m ((c.tc : Thread Cert.AdamConvBIdeal.nD Cert.AdamConvBIdeal.τ).loc Cert.AdamConvBIdeal.main_arg0)
          ∧ r.2.mem ((c.tc : Thread Cert.AdamConvBIdeal.nD Cert.AdamConvBIdeal.τ).loc Cert.AdamConvBIdeal.main_arg1) = m ((c.tc : Thread Cert.AdamConvBIdeal.nD Cert.AdamConvBIdeal.τ).loc Cert.AdamConvBIdeal.main_arg1)
          ∧ r.2.mem ((c.tc : Thread Cert.AdamConvBIdeal.nD Cert.AdamConvBIdeal.τ).loc Cert.AdamConvBIdeal.main_arg2) = m ((c.tc : Thread Cert.AdamConvBIdeal.nD Cert.AdamConvBIdeal.τ).loc Cert.AdamConvBIdeal.main_arg2)
          ∧ r.2.mem ((c.tc : Thread Cert.AdamConvBIdeal.nD Cert.AdamConvBIdeal.τ).loc Cert.AdamConvBIdeal.main_arg3) = m ((c.tc : Thread Cert.AdamConvBIdeal.nD Cert.AdamConvBIdeal.τ).loc Cert.AdamConvBIdeal.main_arg3))
      ∧ θ_run (Cert.AdamConvBRefIdeal.defs (F := Ideal)) (onTc (τ := Cert.AdamConvBRefIdeal.τ) (Cert.AdamConvBRefIdeal.main (F := Ideal))) ⟨m', fun _ => 0, g'⟩ (fun r => ∀ c : Dev Cert.AdamConvBRefIdeal.nD,
          r.2.mem ((c.tc : Thread Cert.AdamConvBRefIdeal.nD Cert.AdamConvBRefIdeal.τ).loc Cert.AdamConvBRefIdeal.main_v23) = v0 c
          ∧ r.2.mem ((c.tc : Thread Cert.AdamConvBRefIdeal.nD Cert.AdamConvBRefIdeal.τ).loc Cert.AdamConvBRefIdeal.main_v4) = v1 c
          ∧ r.2.mem ((c.tc : Thread Cert.AdamConvBRefIdeal.nD Cert.AdamConvBRefIdeal.τ).loc Cert.AdamConvBRefIdeal.main_v10) = v2 c
          ∧ r.2.mem ((c.tc : Thread Cert.AdamConvBRefIdeal.nD Cert.AdamConvBRefIdeal.τ).loc Cert.AdamConvBRefIdeal.main_arg0) = m' ((c.tc : Thread Cert.AdamConvBRefIdeal.nD Cert.AdamConvBRefIdeal.τ).loc Cert.AdamConvBRefIdeal.main_arg0)
          ∧ r.2.mem ((c.tc : Thread Cert.AdamConvBRefIdeal.nD Cert.AdamConvBRefIdeal.τ).loc Cert.AdamConvBRefIdeal.main_arg1) = m' ((c.tc : Thread Cert.AdamConvBRefIdeal.nD Cert.AdamConvBRefIdeal.τ).loc Cert.AdamConvBRefIdeal.main_arg1)
          ∧ r.2.mem ((c.tc : Thread Cert.AdamConvBRefIdeal.nD Cert.AdamConvBRefIdeal.τ).loc Cert.AdamConvBRefIdeal.main_arg2) = m' ((c.tc : Thread Cert.AdamConvBRefIdeal.nD Cert.AdamConvBRefIdeal.τ).loc Cert.AdamConvBRefIdeal.main_arg2)
          ∧ r.2.mem ((c.tc : Thread Cert.AdamConvBRefIdeal.nD Cert.AdamConvBRefIdeal.τ).loc Cert.AdamConvBRefIdeal.main_arg3) = m' ((c.tc : Thread Cert.AdamConvBRefIdeal.nD Cert.AdamConvBRefIdeal.τ).loc Cert.AdamConvBRefIdeal.main_arg3))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)
      ∧ m' ((c.tc : Thread Cert.AdamKvRefIdeal.nD Cert.AdamKvRefIdeal.τ).loc Cert.AdamKvRefIdeal.main_arg4) = m ((c.tc : Thread Cert.AdamKvIdeal.nD Cert.AdamKvIdeal.τ).loc Cert.AdamKvIdeal.main_arg4)
      ∧ m' ((c.tc : Thread Cert.AdamKvRefIdeal.nD Cert.AdamKvRefIdeal.τ).loc Cert.AdamKvRefIdeal.main_arg5) = m ((c.tc : Thread Cert.AdamKvIdeal.nD Cert.AdamKvIdeal.τ).loc Cert.AdamKvIdeal.main_arg5)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)) (v3 : (c : Dev Cert.AdamKvIdeal.nD) → Buf (Elt Ideal) ((c.tc : Thread Cert.AdamKvIdeal.nD Cert.AdamKvIdeal.τ).loc Cert.AdamKvIdeal.main_v0_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_v0_3) = v3 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3)
          ∧ r.2.mem ((c.tc : Thread Cert.AdamKvIdeal.nD Cert.AdamKvIdeal.τ).loc Cert.AdamKvIdeal.main_arg4) = m ((c.tc : Thread Cert.AdamKvIdeal.nD Cert.AdamKvIdeal.τ).loc Cert.AdamKvIdeal.main_arg4)
          ∧ r.2.mem ((c.tc : Thread Cert.AdamKvIdeal.nD Cert.AdamKvIdeal.τ).loc Cert.AdamKvIdeal.main_arg5) = m ((c.tc : Thread Cert.AdamKvIdeal.nD Cert.AdamKvIdeal.τ).loc Cert.AdamKvIdeal.main_arg5))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v6) = v0 c
          ∧ r.2.mem ((c.tc : Thread Cert.AdamKvRefIdeal.nD Cert.AdamKvRefIdeal.τ).loc Cert.AdamKvRefIdeal.main_v30) = v1 c
          ∧ r.2.mem ((c.tc : Thread Cert.AdamKvRefIdeal.nD Cert.AdamKvRefIdeal.τ).loc Cert.AdamKvRefIdeal.main_v11) = v2 c
          ∧ r.2.mem ((c.tc : Thread Cert.AdamKvRefIdeal.nD Cert.AdamKvRefIdeal.τ).loc Cert.AdamKvRefIdeal.main_v17) = v3 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3)
          ∧ r.2.mem ((c.tc : Thread Cert.AdamKvRefIdeal.nD Cert.AdamKvRefIdeal.τ).loc Cert.AdamKvRefIdeal.main_arg4) = m' ((c.tc : Thread Cert.AdamKvRefIdeal.nD Cert.AdamKvRefIdeal.τ).loc Cert.AdamKvRefIdeal.main_arg4)
          ∧ r.2.mem ((c.tc : Thread Cert.AdamKvRefIdeal.nD Cert.AdamKvRefIdeal.τ).loc Cert.AdamKvRefIdeal.main_arg5) = m' ((c.tc : Thread Cert.AdamKvRefIdeal.nD Cert.AdamKvRefIdeal.τ).loc Cert.AdamKvRefIdeal.main_arg5))

def preserves_AdamPoolW_AdamPoolWIdeal : Prop :=
  True

def algebraic_AdamPoolWIdeal_AdamPoolWRefIdeal [hAdamPoolWIdeal : Cert.AdamPoolWIdeal.Facts] [hAdamPoolWRefIdeal : Cert.AdamPoolWRefIdeal.Facts] : Prop :=
  ∀ (m : (ℓ : Loc Cert.AdamPoolWIdeal.nD Cert.AdamPoolWIdeal.τ Cert.AdamPoolWIdeal.sig) → Buf (Elt Ideal) ℓ) (g : Dev Cert.AdamPoolWIdeal.nD → PrngReg)
    (m' : (ℓ : Loc Cert.AdamPoolWRefIdeal.nD Cert.AdamPoolWRefIdeal.τ Cert.AdamPoolWRefIdeal.sig) → Buf (Elt Ideal) ℓ) (g' : Dev Cert.AdamPoolWRefIdeal.nD → PrngReg), Pre_AdamPoolWIdeal m →
    (∀ c : Dev Cert.AdamPoolWIdeal.nD,
      m' ((c.tc : Thread Cert.AdamPoolWRefIdeal.nD Cert.AdamPoolWRefIdeal.τ).loc Cert.AdamPoolWRefIdeal.main_arg0) = m ((c.tc : Thread Cert.AdamPoolWIdeal.nD Cert.AdamPoolWIdeal.τ).loc Cert.AdamPoolWIdeal.main_arg0)
      ∧ m' ((c.tc : Thread Cert.AdamPoolWRefIdeal.nD Cert.AdamPoolWRefIdeal.τ).loc Cert.AdamPoolWRefIdeal.main_arg1) = m ((c.tc : Thread Cert.AdamPoolWIdeal.nD Cert.AdamPoolWIdeal.τ).loc Cert.AdamPoolWIdeal.main_arg1)
      ∧ m' ((c.tc : Thread Cert.AdamPoolWRefIdeal.nD Cert.AdamPoolWRefIdeal.τ).loc Cert.AdamPoolWRefIdeal.main_arg2) = m ((c.tc : Thread Cert.AdamPoolWIdeal.nD Cert.AdamPoolWIdeal.τ).loc Cert.AdamPoolWIdeal.main_arg2)
      ∧ m' ((c.tc : Thread Cert.AdamPoolWRefIdeal.nD Cert.AdamPoolWRefIdeal.τ).loc Cert.AdamPoolWRefIdeal.main_arg3) = m ((c.tc : Thread Cert.AdamPoolWIdeal.nD Cert.AdamPoolWIdeal.τ).loc Cert.AdamPoolWIdeal.main_arg3)
      ∧ m' ((c.tc : Thread Cert.AdamPoolWRefIdeal.nD Cert.AdamPoolWRefIdeal.τ).loc Cert.AdamPoolWRefIdeal.main_arg4) = m ((c.tc : Thread Cert.AdamPoolWIdeal.nD Cert.AdamPoolWIdeal.τ).loc Cert.AdamPoolWIdeal.main_arg4)
      ∧ m' ((c.tc : Thread Cert.AdamPoolWRefIdeal.nD Cert.AdamPoolWRefIdeal.τ).loc Cert.AdamPoolWRefIdeal.main_arg5) = m ((c.tc : Thread Cert.AdamPoolWIdeal.nD Cert.AdamPoolWIdeal.τ).loc Cert.AdamPoolWIdeal.main_arg5)) →
    ∃ (v0 : (c : Dev Cert.AdamPoolWIdeal.nD) → Buf (Elt Ideal) ((c.tc : Thread Cert.AdamPoolWIdeal.nD Cert.AdamPoolWIdeal.τ).loc Cert.AdamPoolWIdeal.main_v0_0)) (v1 : (c : Dev Cert.AdamPoolWIdeal.nD) → Buf (Elt Ideal) ((c.tc : Thread Cert.AdamPoolWIdeal.nD Cert.AdamPoolWIdeal.τ).loc Cert.AdamPoolWIdeal.main_v0_1)) (v2 : (c : Dev Cert.AdamPoolWIdeal.nD) → Buf (Elt Ideal) ((c.tc : Thread Cert.AdamPoolWIdeal.nD Cert.AdamPoolWIdeal.τ).loc Cert.AdamPoolWIdeal.main_v0_2)) (v3 : (c : Dev Cert.AdamPoolWIdeal.nD) → Buf (Elt Ideal) ((c.tc : Thread Cert.AdamPoolWIdeal.nD Cert.AdamPoolWIdeal.τ).loc Cert.AdamPoolWIdeal.main_v0_3)),
      θ_run (Cert.AdamPoolWIdeal.defs (F := Ideal)) (onTc (τ := Cert.AdamPoolWIdeal.τ) (Cert.AdamPoolWIdeal.main (F := Ideal))) ⟨m, fun _ => 0, g⟩ (fun r => ∀ c : Dev Cert.AdamPoolWIdeal.nD,
          r.2.mem ((c.tc : Thread Cert.AdamPoolWIdeal.nD Cert.AdamPoolWIdeal.τ).loc Cert.AdamPoolWIdeal.main_v0_0) = v0 c
          ∧ r.2.mem ((c.tc : Thread Cert.AdamPoolWIdeal.nD Cert.AdamPoolWIdeal.τ).loc Cert.AdamPoolWIdeal.main_v0_1) = v1 c
          ∧ r.2.mem ((c.tc : Thread Cert.AdamPoolWIdeal.nD Cert.AdamPoolWIdeal.τ).loc Cert.AdamPoolWIdeal.main_v0_2) = v2 c
          ∧ r.2.mem ((c.tc : Thread Cert.AdamPoolWIdeal.nD Cert.AdamPoolWIdeal.τ).loc Cert.AdamPoolWIdeal.main_v0_3) = v3 c
          ∧ r.2.mem ((c.tc : Thread Cert.AdamPoolWIdeal.nD Cert.AdamPoolWIdeal.τ).loc Cert.AdamPoolWIdeal.main_arg0) = m ((c.tc : Thread Cert.AdamPoolWIdeal.nD Cert.AdamPoolWIdeal.τ).loc Cert.AdamPoolWIdeal.main_arg0)
          ∧ r.2.mem ((c.tc : Thread Cert.AdamPoolWIdeal.nD Cert.AdamPoolWIdeal.τ).loc Cert.AdamPoolWIdeal.main_arg1) = m ((c.tc : Thread Cert.AdamPoolWIdeal.nD Cert.AdamPoolWIdeal.τ).loc Cert.AdamPoolWIdeal.main_arg1)
          ∧ r.2.mem ((c.tc : Thread Cert.AdamPoolWIdeal.nD Cert.AdamPoolWIdeal.τ).loc Cert.AdamPoolWIdeal.main_arg2) = m ((c.tc : Thread Cert.AdamPoolWIdeal.nD Cert.AdamPoolWIdeal.τ).loc Cert.AdamPoolWIdeal.main_arg2)
          ∧ r.2.mem ((c.tc : Thread Cert.AdamPoolWIdeal.nD Cert.AdamPoolWIdeal.τ).loc Cert.AdamPoolWIdeal.main_arg3) = m ((c.tc : Thread Cert.AdamPoolWIdeal.nD Cert.AdamPoolWIdeal.τ).loc Cert.AdamPoolWIdeal.main_arg3)
          ∧ r.2.mem ((c.tc : Thread Cert.AdamPoolWIdeal.nD Cert.AdamPoolWIdeal.τ).loc Cert.AdamPoolWIdeal.main_arg4) = m ((c.tc : Thread Cert.AdamPoolWIdeal.nD Cert.AdamPoolWIdeal.τ).loc Cert.AdamPoolWIdeal.main_arg4)
          ∧ r.2.mem ((c.tc : Thread Cert.AdamPoolWIdeal.nD Cert.AdamPoolWIdeal.τ).loc Cert.AdamPoolWIdeal.main_arg5) = m ((c.tc : Thread Cert.AdamPoolWIdeal.nD Cert.AdamPoolWIdeal.τ).loc Cert.AdamPoolWIdeal.main_arg5))
      ∧ θ_run (Cert.AdamPoolWRefIdeal.defs (F := Ideal)) (onTc (τ := Cert.AdamPoolWRefIdeal.τ) (Cert.AdamPoolWRefIdeal.main (F := Ideal))) ⟨m', fun _ => 0, g'⟩ (fun r => ∀ c : Dev Cert.AdamPoolWRefIdeal.nD,
          r.2.mem ((c.tc : Thread Cert.AdamPoolWRefIdeal.nD Cert.AdamPoolWRefIdeal.τ).loc Cert.AdamPoolWRefIdeal.main_v6) = v0 c
          ∧ r.2.mem ((c.tc : Thread Cert.AdamPoolWRefIdeal.nD Cert.AdamPoolWRefIdeal.τ).loc Cert.AdamPoolWRefIdeal.main_v30) = v1 c
          ∧ r.2.mem ((c.tc : Thread Cert.AdamPoolWRefIdeal.nD Cert.AdamPoolWRefIdeal.τ).loc Cert.AdamPoolWRefIdeal.main_v11) = v2 c
          ∧ r.2.mem ((c.tc : Thread Cert.AdamPoolWRefIdeal.nD Cert.AdamPoolWRefIdeal.τ).loc Cert.AdamPoolWRefIdeal.main_v17) = v3 c
          ∧ r.2.mem ((c.tc : Thread Cert.AdamPoolWRefIdeal.nD Cert.AdamPoolWRefIdeal.τ).loc Cert.AdamPoolWRefIdeal.main_arg0) = m' ((c.tc : Thread Cert.AdamPoolWRefIdeal.nD Cert.AdamPoolWRefIdeal.τ).loc Cert.AdamPoolWRefIdeal.main_arg0)
          ∧ r.2.mem ((c.tc : Thread Cert.AdamPoolWRefIdeal.nD Cert.AdamPoolWRefIdeal.τ).loc Cert.AdamPoolWRefIdeal.main_arg1) = m' ((c.tc : Thread Cert.AdamPoolWRefIdeal.nD Cert.AdamPoolWRefIdeal.τ).loc Cert.AdamPoolWRefIdeal.main_arg1)
          ∧ r.2.mem ((c.tc : Thread Cert.AdamPoolWRefIdeal.nD Cert.AdamPoolWRefIdeal.τ).loc Cert.AdamPoolWRefIdeal.main_arg2) = m' ((c.tc : Thread Cert.AdamPoolWRefIdeal.nD Cert.AdamPoolWRefIdeal.τ).loc Cert.AdamPoolWRefIdeal.main_arg2)
          ∧ r.2.mem ((c.tc : Thread Cert.AdamPoolWRefIdeal.nD Cert.AdamPoolWRefIdeal.τ).loc Cert.AdamPoolWRefIdeal.main_arg3) = m' ((c.tc : Thread Cert.AdamPoolWRefIdeal.nD Cert.AdamPoolWRefIdeal.τ).loc Cert.AdamPoolWRefIdeal.main_arg3)
          ∧ r.2.mem ((c.tc : Thread Cert.AdamPoolWRefIdeal.nD Cert.AdamPoolWRefIdeal.τ).loc Cert.AdamPoolWRefIdeal.main_arg4) = m' ((c.tc : Thread Cert.AdamPoolWRefIdeal.nD Cert.AdamPoolWRefIdeal.τ).loc Cert.AdamPoolWRefIdeal.main_arg4)
          ∧ r.2.mem ((c.tc : Thread Cert.AdamPoolWRefIdeal.nD Cert.AdamPoolWRefIdeal.τ).loc Cert.AdamPoolWRefIdeal.main_arg5) = m' ((c.tc : Thread Cert.AdamPoolWRefIdeal.nD Cert.AdamPoolWRefIdeal.τ).loc Cert.AdamPoolWRefIdeal.main_arg5))

def preserves_AdamPoolScale_AdamPoolScaleIdeal : Prop :=
  True

def algebraic_AdamPoolScaleIdeal_AdamPoolScaleRefIdeal [hAdamPoolScaleIdeal : Cert.AdamPoolScaleIdeal.Facts] [hAdamPoolScaleRefIdeal : Cert.AdamPoolScaleRefIdeal.Facts] : Prop :=
  ∀ (m : (ℓ : Loc Cert.AdamPoolScaleIdeal.nD Cert.AdamPoolScaleIdeal.τ Cert.AdamPoolScaleIdeal.sig) → Buf (Elt Ideal) ℓ) (g : Dev Cert.AdamPoolScaleIdeal.nD → PrngReg)
    (m' : (ℓ : Loc Cert.AdamPoolScaleRefIdeal.nD Cert.AdamPoolScaleRefIdeal.τ Cert.AdamPoolScaleRefIdeal.sig) → Buf (Elt Ideal) ℓ) (g' : Dev Cert.AdamPoolScaleRefIdeal.nD → PrngReg), Pre_AdamPoolScaleIdeal m →
    (∀ c : Dev Cert.AdamPoolScaleIdeal.nD,
      m' ((c.tc : Thread Cert.AdamPoolScaleRefIdeal.nD Cert.AdamPoolScaleRefIdeal.τ).loc Cert.AdamPoolScaleRefIdeal.main_arg0) = m ((c.tc : Thread Cert.AdamPoolScaleIdeal.nD Cert.AdamPoolScaleIdeal.τ).loc Cert.AdamPoolScaleIdeal.main_arg0)
      ∧ m' ((c.tc : Thread Cert.AdamPoolScaleRefIdeal.nD Cert.AdamPoolScaleRefIdeal.τ).loc Cert.AdamPoolScaleRefIdeal.main_arg1) = m ((c.tc : Thread Cert.AdamPoolScaleIdeal.nD Cert.AdamPoolScaleIdeal.τ).loc Cert.AdamPoolScaleIdeal.main_arg1)
      ∧ m' ((c.tc : Thread Cert.AdamPoolScaleRefIdeal.nD Cert.AdamPoolScaleRefIdeal.τ).loc Cert.AdamPoolScaleRefIdeal.main_arg2) = m ((c.tc : Thread Cert.AdamPoolScaleIdeal.nD Cert.AdamPoolScaleIdeal.τ).loc Cert.AdamPoolScaleIdeal.main_arg2)
      ∧ m' ((c.tc : Thread Cert.AdamPoolScaleRefIdeal.nD Cert.AdamPoolScaleRefIdeal.τ).loc Cert.AdamPoolScaleRefIdeal.main_arg3) = m ((c.tc : Thread Cert.AdamPoolScaleIdeal.nD Cert.AdamPoolScaleIdeal.τ).loc Cert.AdamPoolScaleIdeal.main_arg3)
      ∧ m' ((c.tc : Thread Cert.AdamPoolScaleRefIdeal.nD Cert.AdamPoolScaleRefIdeal.τ).loc Cert.AdamPoolScaleRefIdeal.main_arg4) = m ((c.tc : Thread Cert.AdamPoolScaleIdeal.nD Cert.AdamPoolScaleIdeal.τ).loc Cert.AdamPoolScaleIdeal.main_arg4)
      ∧ m' ((c.tc : Thread Cert.AdamPoolScaleRefIdeal.nD Cert.AdamPoolScaleRefIdeal.τ).loc Cert.AdamPoolScaleRefIdeal.main_arg5) = m ((c.tc : Thread Cert.AdamPoolScaleIdeal.nD Cert.AdamPoolScaleIdeal.τ).loc Cert.AdamPoolScaleIdeal.main_arg5)) →
    ∃ (v0 : (c : Dev Cert.AdamPoolScaleIdeal.nD) → Buf (Elt Ideal) ((c.tc : Thread Cert.AdamPoolScaleIdeal.nD Cert.AdamPoolScaleIdeal.τ).loc Cert.AdamPoolScaleIdeal.main_v0_0)) (v1 : (c : Dev Cert.AdamPoolScaleIdeal.nD) → Buf (Elt Ideal) ((c.tc : Thread Cert.AdamPoolScaleIdeal.nD Cert.AdamPoolScaleIdeal.τ).loc Cert.AdamPoolScaleIdeal.main_v0_1)) (v2 : (c : Dev Cert.AdamPoolScaleIdeal.nD) → Buf (Elt Ideal) ((c.tc : Thread Cert.AdamPoolScaleIdeal.nD Cert.AdamPoolScaleIdeal.τ).loc Cert.AdamPoolScaleIdeal.main_v0_2)) (v3 : (c : Dev Cert.AdamPoolScaleIdeal.nD) → Buf (Elt Ideal) ((c.tc : Thread Cert.AdamPoolScaleIdeal.nD Cert.AdamPoolScaleIdeal.τ).loc Cert.AdamPoolScaleIdeal.main_v0_3)),
      θ_run (Cert.AdamPoolScaleIdeal.defs (F := Ideal)) (onTc (τ := Cert.AdamPoolScaleIdeal.τ) (Cert.AdamPoolScaleIdeal.main (F := Ideal))) ⟨m, fun _ => 0, g⟩ (fun r => ∀ c : Dev Cert.AdamPoolScaleIdeal.nD,
          r.2.mem ((c.tc : Thread Cert.AdamPoolScaleIdeal.nD Cert.AdamPoolScaleIdeal.τ).loc Cert.AdamPoolScaleIdeal.main_v0_0) = v0 c
          ∧ r.2.mem ((c.tc : Thread Cert.AdamPoolScaleIdeal.nD Cert.AdamPoolScaleIdeal.τ).loc Cert.AdamPoolScaleIdeal.main_v0_1) = v1 c
          ∧ r.2.mem ((c.tc : Thread Cert.AdamPoolScaleIdeal.nD Cert.AdamPoolScaleIdeal.τ).loc Cert.AdamPoolScaleIdeal.main_v0_2) = v2 c
          ∧ r.2.mem ((c.tc : Thread Cert.AdamPoolScaleIdeal.nD Cert.AdamPoolScaleIdeal.τ).loc Cert.AdamPoolScaleIdeal.main_v0_3) = v3 c
          ∧ r.2.mem ((c.tc : Thread Cert.AdamPoolScaleIdeal.nD Cert.AdamPoolScaleIdeal.τ).loc Cert.AdamPoolScaleIdeal.main_arg0) = m ((c.tc : Thread Cert.AdamPoolScaleIdeal.nD Cert.AdamPoolScaleIdeal.τ).loc Cert.AdamPoolScaleIdeal.main_arg0)
          ∧ r.2.mem ((c.tc : Thread Cert.AdamPoolScaleIdeal.nD Cert.AdamPoolScaleIdeal.τ).loc Cert.AdamPoolScaleIdeal.main_arg1) = m ((c.tc : Thread Cert.AdamPoolScaleIdeal.nD Cert.AdamPoolScaleIdeal.τ).loc Cert.AdamPoolScaleIdeal.main_arg1)
          ∧ r.2.mem ((c.tc : Thread Cert.AdamPoolScaleIdeal.nD Cert.AdamPoolScaleIdeal.τ).loc Cert.AdamPoolScaleIdeal.main_arg2) = m ((c.tc : Thread Cert.AdamPoolScaleIdeal.nD Cert.AdamPoolScaleIdeal.τ).loc Cert.AdamPoolScaleIdeal.main_arg2)
          ∧ r.2.mem ((c.tc : Thread Cert.AdamPoolScaleIdeal.nD Cert.AdamPoolScaleIdeal.τ).loc Cert.AdamPoolScaleIdeal.main_arg3) = m ((c.tc : Thread Cert.AdamPoolScaleIdeal.nD Cert.AdamPoolScaleIdeal.τ).loc Cert.AdamPoolScaleIdeal.main_arg3)
          ∧ r.2.mem ((c.tc : Thread Cert.AdamPoolScaleIdeal.nD Cert.AdamPoolScaleIdeal.τ).loc Cert.AdamPoolScaleIdeal.main_arg4) = m ((c.tc : Thread Cert.AdamPoolScaleIdeal.nD Cert.AdamPoolScaleIdeal.τ).loc Cert.AdamPoolScaleIdeal.main_arg4)
          ∧ r.2.mem ((c.tc : Thread Cert.AdamPoolScaleIdeal.nD Cert.AdamPoolScaleIdeal.τ).loc Cert.AdamPoolScaleIdeal.main_arg5) = m ((c.tc : Thread Cert.AdamPoolScaleIdeal.nD Cert.AdamPoolScaleIdeal.τ).loc Cert.AdamPoolScaleIdeal.main_arg5))
      ∧ θ_run (Cert.AdamPoolScaleRefIdeal.defs (F := Ideal)) (onTc (τ := Cert.AdamPoolScaleRefIdeal.τ) (Cert.AdamPoolScaleRefIdeal.main (F := Ideal))) ⟨m', fun _ => 0, g'⟩ (fun r => ∀ c : Dev Cert.AdamPoolScaleRefIdeal.nD,
          r.2.mem ((c.tc : Thread Cert.AdamPoolScaleRefIdeal.nD Cert.AdamPoolScaleRefIdeal.τ).loc Cert.AdamPoolScaleRefIdeal.main_v6) = v0 c
          ∧ r.2.mem ((c.tc : Thread Cert.AdamPoolScaleRefIdeal.nD Cert.AdamPoolScaleRefIdeal.τ).loc Cert.AdamPoolScaleRefIdeal.main_v30) = v1 c
          ∧ r.2.mem ((c.tc : Thread Cert.AdamPoolScaleRefIdeal.nD Cert.AdamPoolScaleRefIdeal.τ).loc Cert.AdamPoolScaleRefIdeal.main_v11) = v2 c
          ∧ r.2.mem ((c.tc : Thread Cert.AdamPoolScaleRefIdeal.nD Cert.AdamPoolScaleRefIdeal.τ).loc Cert.AdamPoolScaleRefIdeal.main_v17) = v3 c
          ∧ r.2.mem ((c.tc : Thread Cert.AdamPoolScaleRefIdeal.nD Cert.AdamPoolScaleRefIdeal.τ).loc Cert.AdamPoolScaleRefIdeal.main_arg0) = m' ((c.tc : Thread Cert.AdamPoolScaleRefIdeal.nD Cert.AdamPoolScaleRefIdeal.τ).loc Cert.AdamPoolScaleRefIdeal.main_arg0)
          ∧ r.2.mem ((c.tc : Thread Cert.AdamPoolScaleRefIdeal.nD Cert.AdamPoolScaleRefIdeal.τ).loc Cert.AdamPoolScaleRefIdeal.main_arg1) = m' ((c.tc : Thread Cert.AdamPoolScaleRefIdeal.nD Cert.AdamPoolScaleRefIdeal.τ).loc Cert.AdamPoolScaleRefIdeal.main_arg1)
          ∧ r.2.mem ((c.tc : Thread Cert.AdamPoolScaleRefIdeal.nD Cert.AdamPoolScaleRefIdeal.τ).loc Cert.AdamPoolScaleRefIdeal.main_arg2) = m' ((c.tc : Thread Cert.AdamPoolScaleRefIdeal.nD Cert.AdamPoolScaleRefIdeal.τ).loc Cert.AdamPoolScaleRefIdeal.main_arg2)
          ∧ r.2.mem ((c.tc : Thread Cert.AdamPoolScaleRefIdeal.nD Cert.AdamPoolScaleRefIdeal.τ).loc Cert.AdamPoolScaleRefIdeal.main_arg3) = m' ((c.tc : Thread Cert.AdamPoolScaleRefIdeal.nD Cert.AdamPoolScaleRefIdeal.τ).loc Cert.AdamPoolScaleRefIdeal.main_arg3)
          ∧ r.2.mem ((c.tc : Thread Cert.AdamPoolScaleRefIdeal.nD Cert.AdamPoolScaleRefIdeal.τ).loc Cert.AdamPoolScaleRefIdeal.main_arg4) = m' ((c.tc : Thread Cert.AdamPoolScaleRefIdeal.nD Cert.AdamPoolScaleRefIdeal.τ).loc Cert.AdamPoolScaleRefIdeal.main_arg4)
          ∧ r.2.mem ((c.tc : Thread Cert.AdamPoolScaleRefIdeal.nD Cert.AdamPoolScaleRefIdeal.τ).loc Cert.AdamPoolScaleRefIdeal.main_arg5) = m' ((c.tc : Thread Cert.AdamPoolScaleRefIdeal.nD Cert.AdamPoolScaleRefIdeal.τ).loc Cert.AdamPoolScaleRefIdeal.main_arg5))

def preserves_AdamConvW_AdamConvWIdeal : Prop :=
  True

def algebraic_AdamConvWIdeal_AdamConvWRefIdeal [hAdamConvWIdeal : Cert.AdamConvWIdeal.Facts] [hAdamConvWRefIdeal : Cert.AdamConvWRefIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg)
    (m' : (ℓ : Loc Cert.AdamConvWRefIdeal.nD Cert.AdamConvWRefIdeal.τ Cert.AdamConvWRefIdeal.sig) → Buf (Elt Ideal) ℓ) (g' : Dev Cert.AdamConvWRefIdeal.nD → PrngReg), Pre_AdamConvWIdeal m →
    (∀ c : Dev Cert.AdamConvWIdeal.nD,
      m' ((c.tc : Thread Cert.AdamConvWRefIdeal.nD Cert.AdamConvWRefIdeal.τ).loc Cert.AdamConvWRefIdeal.main_arg0) = m ((c.tc : Thread Cert.AdamConvWIdeal.nD Cert.AdamConvWIdeal.τ).loc Cert.AdamConvWIdeal.main_arg0)
      ∧ m' ((c.tc : Thread Cert.AdamConvWRefIdeal.nD Cert.AdamConvWRefIdeal.τ).loc Cert.AdamConvWRefIdeal.main_arg1) = m ((c.tc : Thread Cert.AdamConvWIdeal.nD Cert.AdamConvWIdeal.τ).loc Cert.AdamConvWIdeal.main_arg1)
      ∧ m' ((c.tc : Thread Cert.AdamConvWRefIdeal.nD Cert.AdamConvWRefIdeal.τ).loc Cert.AdamConvWRefIdeal.main_arg2) = m ((c.tc : Thread Cert.AdamConvWIdeal.nD Cert.AdamConvWIdeal.τ).loc Cert.AdamConvWIdeal.main_arg2)
      ∧ m' ((c.tc : Thread Cert.AdamConvWRefIdeal.nD Cert.AdamConvWRefIdeal.τ).loc Cert.AdamConvWRefIdeal.main_arg3) = m ((c.tc : Thread Cert.AdamConvWIdeal.nD Cert.AdamConvWIdeal.τ).loc Cert.AdamConvWIdeal.main_arg3)
      ∧ m' ((c.tc : Thread Cert.AdamConvWRefIdeal.nD Cert.AdamConvWRefIdeal.τ).loc Cert.AdamConvWRefIdeal.main_arg4) = m ((c.tc : Thread Cert.AdamConvWIdeal.nD Cert.AdamConvWIdeal.τ).loc Cert.AdamConvWIdeal.main_arg4)
      ∧ m' ((c.tc : Thread Cert.AdamConvWRefIdeal.nD Cert.AdamConvWRefIdeal.τ).loc Cert.AdamConvWRefIdeal.main_arg5) = m ((c.tc : Thread Cert.AdamConvWIdeal.nD Cert.AdamConvWIdeal.τ).loc Cert.AdamConvWIdeal.main_arg5)) →
    ∃ (v0 : (c : Dev Cert.AdamConvWIdeal.nD) → Buf (Elt Ideal) ((c.tc : Thread Cert.AdamConvWIdeal.nD Cert.AdamConvWIdeal.τ).loc Cert.AdamConvWIdeal.main_v0_0)) (v1 : (c : Dev Cert.AdamConvWIdeal.nD) → Buf (Elt Ideal) ((c.tc : Thread Cert.AdamConvWIdeal.nD Cert.AdamConvWIdeal.τ).loc Cert.AdamConvWIdeal.main_v0_1)) (v2 : (c : Dev Cert.AdamConvWIdeal.nD) → Buf (Elt Ideal) ((c.tc : Thread Cert.AdamConvWIdeal.nD Cert.AdamConvWIdeal.τ).loc Cert.AdamConvWIdeal.main_v0_2)) (v3 : (c : Dev Cert.AdamConvWIdeal.nD) → Buf (Elt Ideal) ((c.tc : Thread Cert.AdamConvWIdeal.nD Cert.AdamConvWIdeal.τ).loc Cert.AdamConvWIdeal.main_v0_3)),
      θ_run (Cert.AdamConvWIdeal.defs (F := Ideal)) (onTc (τ := Cert.AdamConvWIdeal.τ) (Cert.AdamConvWIdeal.main (F := Ideal))) ⟨m, fun _ => 0, g⟩ (fun r => ∀ c : Dev Cert.AdamConvWIdeal.nD,
          r.2.mem ((c.tc : Thread Cert.AdamConvWIdeal.nD Cert.AdamConvWIdeal.τ).loc Cert.AdamConvWIdeal.main_v0_0) = v0 c
          ∧ r.2.mem ((c.tc : Thread Cert.AdamConvWIdeal.nD Cert.AdamConvWIdeal.τ).loc Cert.AdamConvWIdeal.main_v0_1) = v1 c
          ∧ r.2.mem ((c.tc : Thread Cert.AdamConvWIdeal.nD Cert.AdamConvWIdeal.τ).loc Cert.AdamConvWIdeal.main_v0_2) = v2 c
          ∧ r.2.mem ((c.tc : Thread Cert.AdamConvWIdeal.nD Cert.AdamConvWIdeal.τ).loc Cert.AdamConvWIdeal.main_v0_3) = v3 c
          ∧ r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
          ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
          ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
          ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3)
          ∧ r.2.mem ((c.tc : Thread Cert.AdamConvWIdeal.nD Cert.AdamConvWIdeal.τ).loc Cert.AdamConvWIdeal.main_arg4) = m ((c.tc : Thread Cert.AdamConvWIdeal.nD Cert.AdamConvWIdeal.τ).loc Cert.AdamConvWIdeal.main_arg4)
          ∧ r.2.mem ((c.tc : Thread Cert.AdamConvWIdeal.nD Cert.AdamConvWIdeal.τ).loc Cert.AdamConvWIdeal.main_arg5) = m ((c.tc : Thread Cert.AdamConvWIdeal.nD Cert.AdamConvWIdeal.τ).loc Cert.AdamConvWIdeal.main_arg5))
      ∧ θ_run (Cert.AdamConvWRefIdeal.defs (F := Ideal)) (onTc (τ := Cert.AdamConvWRefIdeal.τ) (Cert.AdamConvWRefIdeal.main (F := Ideal))) ⟨m', fun _ => 0, g'⟩ (fun r => ∀ c : Dev Cert.AdamConvWRefIdeal.nD,
          r.2.mem ((c.tc : Thread Cert.AdamConvWRefIdeal.nD Cert.AdamConvWRefIdeal.τ).loc Cert.AdamConvWRefIdeal.main_v6) = v0 c
          ∧ r.2.mem ((c.tc : Thread Cert.AdamConvWRefIdeal.nD Cert.AdamConvWRefIdeal.τ).loc Cert.AdamConvWRefIdeal.main_v30) = v1 c
          ∧ r.2.mem ((c.tc : Thread Cert.AdamConvWRefIdeal.nD Cert.AdamConvWRefIdeal.τ).loc Cert.AdamConvWRefIdeal.main_v11) = v2 c
          ∧ r.2.mem ((c.tc : Thread Cert.AdamConvWRefIdeal.nD Cert.AdamConvWRefIdeal.τ).loc Cert.AdamConvWRefIdeal.main_v17) = v3 c
          ∧ r.2.mem ((c.tc : Thread Cert.AdamConvWRefIdeal.nD Cert.AdamConvWRefIdeal.τ).loc Cert.AdamConvWRefIdeal.main_arg0) = m' ((c.tc : Thread Cert.AdamConvWRefIdeal.nD Cert.AdamConvWRefIdeal.τ).loc Cert.AdamConvWRefIdeal.main_arg0)
          ∧ r.2.mem ((c.tc : Thread Cert.AdamConvWRefIdeal.nD Cert.AdamConvWRefIdeal.τ).loc Cert.AdamConvWRefIdeal.main_arg1) = m' ((c.tc : Thread Cert.AdamConvWRefIdeal.nD Cert.AdamConvWRefIdeal.τ).loc Cert.AdamConvWRefIdeal.main_arg1)
          ∧ r.2.mem ((c.tc : Thread Cert.AdamConvWRefIdeal.nD Cert.AdamConvWRefIdeal.τ).loc Cert.AdamConvWRefIdeal.main_arg2) = m' ((c.tc : Thread Cert.AdamConvWRefIdeal.nD Cert.AdamConvWRefIdeal.τ).loc Cert.AdamConvWRefIdeal.main_arg2)
          ∧ r.2.mem ((c.tc : Thread Cert.AdamConvWRefIdeal.nD Cert.AdamConvWRefIdeal.τ).loc Cert.AdamConvWRefIdeal.main_arg3) = m' ((c.tc : Thread Cert.AdamConvWRefIdeal.nD Cert.AdamConvWRefIdeal.τ).loc Cert.AdamConvWRefIdeal.main_arg3)
          ∧ r.2.mem ((c.tc : Thread Cert.AdamConvWRefIdeal.nD Cert.AdamConvWRefIdeal.τ).loc Cert.AdamConvWRefIdeal.main_arg4) = m' ((c.tc : Thread Cert.AdamConvWRefIdeal.nD Cert.AdamConvWRefIdeal.τ).loc Cert.AdamConvWRefIdeal.main_arg4)
          ∧ r.2.mem ((c.tc : Thread Cert.AdamConvWRefIdeal.nD Cert.AdamConvWRefIdeal.τ).loc Cert.AdamConvWRefIdeal.main_arg5) = m' ((c.tc : Thread Cert.AdamConvWRefIdeal.nD Cert.AdamConvWRefIdeal.τ).loc Cert.AdamConvWRefIdeal.main_arg5))

def preserves_AdamQ0_AdamQ0Ideal : Prop :=
  True

def algebraic_AdamQ0Ideal_AdamQ0RefIdeal [hAdamQ0Ideal : Cert.AdamQ0Ideal.Facts] [hAdamQ0RefIdeal : Cert.AdamQ0RefIdeal.Facts] : Prop :=
  ∀ (m : (ℓ : Loc Cert.AdamQ0Ideal.nD Cert.AdamQ0Ideal.τ Cert.AdamQ0Ideal.sig) → Buf (Elt Ideal) ℓ) (g : Dev Cert.AdamQ0Ideal.nD → PrngReg)
    (m' : (ℓ : Loc Cert.AdamQ0RefIdeal.nD Cert.AdamQ0RefIdeal.τ Cert.AdamQ0RefIdeal.sig) → Buf (Elt Ideal) ℓ) (g' : Dev Cert.AdamQ0RefIdeal.nD → PrngReg), Pre_AdamQ0Ideal m →
    (∀ c : Dev Cert.AdamQ0Ideal.nD,
      m' ((c.tc : Thread Cert.AdamQ0RefIdeal.nD Cert.AdamQ0RefIdeal.τ).loc Cert.AdamQ0RefIdeal.main_arg0) = m ((c.tc : Thread Cert.AdamQ0Ideal.nD Cert.AdamQ0Ideal.τ).loc Cert.AdamQ0Ideal.main_arg0)
      ∧ m' ((c.tc : Thread Cert.AdamQ0RefIdeal.nD Cert.AdamQ0RefIdeal.τ).loc Cert.AdamQ0RefIdeal.main_arg1) = m ((c.tc : Thread Cert.AdamQ0Ideal.nD Cert.AdamQ0Ideal.τ).loc Cert.AdamQ0Ideal.main_arg1)
      ∧ m' ((c.tc : Thread Cert.AdamQ0RefIdeal.nD Cert.AdamQ0RefIdeal.τ).loc Cert.AdamQ0RefIdeal.main_arg2) = m ((c.tc : Thread Cert.AdamQ0Ideal.nD Cert.AdamQ0Ideal.τ).loc Cert.AdamQ0Ideal.main_arg2)
      ∧ m' ((c.tc : Thread Cert.AdamQ0RefIdeal.nD Cert.AdamQ0RefIdeal.τ).loc Cert.AdamQ0RefIdeal.main_arg3) = m ((c.tc : Thread Cert.AdamQ0Ideal.nD Cert.AdamQ0Ideal.τ).loc Cert.AdamQ0Ideal.main_arg3)
      ∧ m' ((c.tc : Thread Cert.AdamQ0RefIdeal.nD Cert.AdamQ0RefIdeal.τ).loc Cert.AdamQ0RefIdeal.main_arg4) = m ((c.tc : Thread Cert.AdamQ0Ideal.nD Cert.AdamQ0Ideal.τ).loc Cert.AdamQ0Ideal.main_arg4)
      ∧ m' ((c.tc : Thread Cert.AdamQ0RefIdeal.nD Cert.AdamQ0RefIdeal.τ).loc Cert.AdamQ0RefIdeal.main_arg5) = m ((c.tc : Thread Cert.AdamQ0Ideal.nD Cert.AdamQ0Ideal.τ).loc Cert.AdamQ0Ideal.main_arg5)
      ∧ m' ((c.tc : Thread Cert.AdamQ0RefIdeal.nD Cert.AdamQ0RefIdeal.τ).loc Cert.AdamQ0RefIdeal.main_arg6) = m ((c.tc : Thread Cert.AdamQ0Ideal.nD Cert.AdamQ0Ideal.τ).loc Cert.AdamQ0Ideal.main_arg6)
      ∧ m' ((c.tc : Thread Cert.AdamQ0RefIdeal.nD Cert.AdamQ0RefIdeal.τ).loc Cert.AdamQ0RefIdeal.main_arg7) = m ((c.tc : Thread Cert.AdamQ0Ideal.nD Cert.AdamQ0Ideal.τ).loc Cert.AdamQ0Ideal.main_arg7)
      ∧ m' ((c.tc : Thread Cert.AdamQ0RefIdeal.nD Cert.AdamQ0RefIdeal.τ).loc Cert.AdamQ0RefIdeal.main_arg8) = m ((c.tc : Thread Cert.AdamQ0Ideal.nD Cert.AdamQ0Ideal.τ).loc Cert.AdamQ0Ideal.main_arg8)
      ∧ m' ((c.tc : Thread Cert.AdamQ0RefIdeal.nD Cert.AdamQ0RefIdeal.τ).loc Cert.AdamQ0RefIdeal.main_arg9) = m ((c.tc : Thread Cert.AdamQ0Ideal.nD Cert.AdamQ0Ideal.τ).loc Cert.AdamQ0Ideal.main_arg9)) →
    ∃ (v0 : (c : Dev Cert.AdamQ0Ideal.nD) → Buf (Elt Ideal) ((c.tc : Thread Cert.AdamQ0Ideal.nD Cert.AdamQ0Ideal.τ).loc Cert.AdamQ0Ideal.main_v0_0)) (v1 : (c : Dev Cert.AdamQ0Ideal.nD) → Buf (Elt Ideal) ((c.tc : Thread Cert.AdamQ0Ideal.nD Cert.AdamQ0Ideal.τ).loc Cert.AdamQ0Ideal.main_v0_1)) (v2 : (c : Dev Cert.AdamQ0Ideal.nD) → Buf (Elt Ideal) ((c.tc : Thread Cert.AdamQ0Ideal.nD Cert.AdamQ0Ideal.τ).loc Cert.AdamQ0Ideal.main_v0_2)) (v3 : (c : Dev Cert.AdamQ0Ideal.nD) → Buf (Elt Ideal) ((c.tc : Thread Cert.AdamQ0Ideal.nD Cert.AdamQ0Ideal.τ).loc Cert.AdamQ0Ideal.main_v0_3)),
      θ_run (Cert.AdamQ0Ideal.defs (F := Ideal)) (onTc (τ := Cert.AdamQ0Ideal.τ) (Cert.AdamQ0Ideal.main (F := Ideal))) ⟨m, fun _ => 0, g⟩ (fun r => ∀ c : Dev Cert.AdamQ0Ideal.nD,
          r.2.mem ((c.tc : Thread Cert.AdamQ0Ideal.nD Cert.AdamQ0Ideal.τ).loc Cert.AdamQ0Ideal.main_v0_0) = v0 c
          ∧ r.2.mem ((c.tc : Thread Cert.AdamQ0Ideal.nD Cert.AdamQ0Ideal.τ).loc Cert.AdamQ0Ideal.main_v0_1) = v1 c
          ∧ r.2.mem ((c.tc : Thread Cert.AdamQ0Ideal.nD Cert.AdamQ0Ideal.τ).loc Cert.AdamQ0Ideal.main_v0_2) = v2 c
          ∧ r.2.mem ((c.tc : Thread Cert.AdamQ0Ideal.nD Cert.AdamQ0Ideal.τ).loc Cert.AdamQ0Ideal.main_v0_3) = v3 c
          ∧ r.2.mem ((c.tc : Thread Cert.AdamQ0Ideal.nD Cert.AdamQ0Ideal.τ).loc Cert.AdamQ0Ideal.main_arg0) = m ((c.tc : Thread Cert.AdamQ0Ideal.nD Cert.AdamQ0Ideal.τ).loc Cert.AdamQ0Ideal.main_arg0)
          ∧ r.2.mem ((c.tc : Thread Cert.AdamQ0Ideal.nD Cert.AdamQ0Ideal.τ).loc Cert.AdamQ0Ideal.main_arg1) = m ((c.tc : Thread Cert.AdamQ0Ideal.nD Cert.AdamQ0Ideal.τ).loc Cert.AdamQ0Ideal.main_arg1)
          ∧ r.2.mem ((c.tc : Thread Cert.AdamQ0Ideal.nD Cert.AdamQ0Ideal.τ).loc Cert.AdamQ0Ideal.main_arg2) = m ((c.tc : Thread Cert.AdamQ0Ideal.nD Cert.AdamQ0Ideal.τ).loc Cert.AdamQ0Ideal.main_arg2)
          ∧ r.2.mem ((c.tc : Thread Cert.AdamQ0Ideal.nD Cert.AdamQ0Ideal.τ).loc Cert.AdamQ0Ideal.main_arg3) = m ((c.tc : Thread Cert.AdamQ0Ideal.nD Cert.AdamQ0Ideal.τ).loc Cert.AdamQ0Ideal.main_arg3)
          ∧ r.2.mem ((c.tc : Thread Cert.AdamQ0Ideal.nD Cert.AdamQ0Ideal.τ).loc Cert.AdamQ0Ideal.main_arg4) = m ((c.tc : Thread Cert.AdamQ0Ideal.nD Cert.AdamQ0Ideal.τ).loc Cert.AdamQ0Ideal.main_arg4)
          ∧ r.2.mem ((c.tc : Thread Cert.AdamQ0Ideal.nD Cert.AdamQ0Ideal.τ).loc Cert.AdamQ0Ideal.main_arg5) = m ((c.tc : Thread Cert.AdamQ0Ideal.nD Cert.AdamQ0Ideal.τ).loc Cert.AdamQ0Ideal.main_arg5)
          ∧ r.2.mem ((c.tc : Thread Cert.AdamQ0Ideal.nD Cert.AdamQ0Ideal.τ).loc Cert.AdamQ0Ideal.main_arg6) = m ((c.tc : Thread Cert.AdamQ0Ideal.nD Cert.AdamQ0Ideal.τ).loc Cert.AdamQ0Ideal.main_arg6)
          ∧ r.2.mem ((c.tc : Thread Cert.AdamQ0Ideal.nD Cert.AdamQ0Ideal.τ).loc Cert.AdamQ0Ideal.main_arg7) = m ((c.tc : Thread Cert.AdamQ0Ideal.nD Cert.AdamQ0Ideal.τ).loc Cert.AdamQ0Ideal.main_arg7)
          ∧ r.2.mem ((c.tc : Thread Cert.AdamQ0Ideal.nD Cert.AdamQ0Ideal.τ).loc Cert.AdamQ0Ideal.main_arg8) = m ((c.tc : Thread Cert.AdamQ0Ideal.nD Cert.AdamQ0Ideal.τ).loc Cert.AdamQ0Ideal.main_arg8)
          ∧ r.2.mem ((c.tc : Thread Cert.AdamQ0Ideal.nD Cert.AdamQ0Ideal.τ).loc Cert.AdamQ0Ideal.main_arg9) = m ((c.tc : Thread Cert.AdamQ0Ideal.nD Cert.AdamQ0Ideal.τ).loc Cert.AdamQ0Ideal.main_arg9))
      ∧ θ_run (Cert.AdamQ0RefIdeal.defs (F := Ideal)) (onTc (τ := Cert.AdamQ0RefIdeal.τ) (Cert.AdamQ0RefIdeal.main (F := Ideal))) ⟨m', fun _ => 0, g'⟩ (fun r => ∀ c : Dev Cert.AdamQ0RefIdeal.nD,
          r.2.mem ((c.tc : Thread Cert.AdamQ0RefIdeal.nD Cert.AdamQ0RefIdeal.τ).loc Cert.AdamQ0RefIdeal.main_v37) = v0 c
          ∧ r.2.mem ((c.tc : Thread Cert.AdamQ0RefIdeal.nD Cert.AdamQ0RefIdeal.τ).loc Cert.AdamQ0RefIdeal.main_v42) = v1 c
          ∧ r.2.mem ((c.tc : Thread Cert.AdamQ0RefIdeal.nD Cert.AdamQ0RefIdeal.τ).loc Cert.AdamQ0RefIdeal.main_v47) = v2 c
          ∧ r.2.mem ((c.tc : Thread Cert.AdamQ0RefIdeal.nD Cert.AdamQ0RefIdeal.τ).loc Cert.AdamQ0RefIdeal.main_v52) = v3 c
          ∧ r.2.mem ((c.tc : Thread Cert.AdamQ0RefIdeal.nD Cert.AdamQ0RefIdeal.τ).loc Cert.AdamQ0RefIdeal.main_arg0) = m' ((c.tc : Thread Cert.AdamQ0RefIdeal.nD Cert.AdamQ0RefIdeal.τ).loc Cert.AdamQ0RefIdeal.main_arg0)
          ∧ r.2.mem ((c.tc : Thread Cert.AdamQ0RefIdeal.nD Cert.AdamQ0RefIdeal.τ).loc Cert.AdamQ0RefIdeal.main_arg1) = m' ((c.tc : Thread Cert.AdamQ0RefIdeal.nD Cert.AdamQ0RefIdeal.τ).loc Cert.AdamQ0RefIdeal.main_arg1)
          ∧ r.2.mem ((c.tc : Thread Cert.AdamQ0RefIdeal.nD Cert.AdamQ0RefIdeal.τ).loc Cert.AdamQ0RefIdeal.main_arg2) = m' ((c.tc : Thread Cert.AdamQ0RefIdeal.nD Cert.AdamQ0RefIdeal.τ).loc Cert.AdamQ0RefIdeal.main_arg2)
          ∧ r.2.mem ((c.tc : Thread Cert.AdamQ0RefIdeal.nD Cert.AdamQ0RefIdeal.τ).loc Cert.AdamQ0RefIdeal.main_arg3) = m' ((c.tc : Thread Cert.AdamQ0RefIdeal.nD Cert.AdamQ0RefIdeal.τ).loc Cert.AdamQ0RefIdeal.main_arg3)
          ∧ r.2.mem ((c.tc : Thread Cert.AdamQ0RefIdeal.nD Cert.AdamQ0RefIdeal.τ).loc Cert.AdamQ0RefIdeal.main_arg4) = m' ((c.tc : Thread Cert.AdamQ0RefIdeal.nD Cert.AdamQ0RefIdeal.τ).loc Cert.AdamQ0RefIdeal.main_arg4)
          ∧ r.2.mem ((c.tc : Thread Cert.AdamQ0RefIdeal.nD Cert.AdamQ0RefIdeal.τ).loc Cert.AdamQ0RefIdeal.main_arg5) = m' ((c.tc : Thread Cert.AdamQ0RefIdeal.nD Cert.AdamQ0RefIdeal.τ).loc Cert.AdamQ0RefIdeal.main_arg5)
          ∧ r.2.mem ((c.tc : Thread Cert.AdamQ0RefIdeal.nD Cert.AdamQ0RefIdeal.τ).loc Cert.AdamQ0RefIdeal.main_arg6) = m' ((c.tc : Thread Cert.AdamQ0RefIdeal.nD Cert.AdamQ0RefIdeal.τ).loc Cert.AdamQ0RefIdeal.main_arg6)
          ∧ r.2.mem ((c.tc : Thread Cert.AdamQ0RefIdeal.nD Cert.AdamQ0RefIdeal.τ).loc Cert.AdamQ0RefIdeal.main_arg7) = m' ((c.tc : Thread Cert.AdamQ0RefIdeal.nD Cert.AdamQ0RefIdeal.τ).loc Cert.AdamQ0RefIdeal.main_arg7)
          ∧ r.2.mem ((c.tc : Thread Cert.AdamQ0RefIdeal.nD Cert.AdamQ0RefIdeal.τ).loc Cert.AdamQ0RefIdeal.main_arg8) = m' ((c.tc : Thread Cert.AdamQ0RefIdeal.nD Cert.AdamQ0RefIdeal.τ).loc Cert.AdamQ0RefIdeal.main_arg8)
          ∧ r.2.mem ((c.tc : Thread Cert.AdamQ0RefIdeal.nD Cert.AdamQ0RefIdeal.τ).loc Cert.AdamQ0RefIdeal.main_arg9) = m' ((c.tc : Thread Cert.AdamQ0RefIdeal.nD Cert.AdamQ0RefIdeal.τ).loc Cert.AdamQ0RefIdeal.main_arg9))

def preserves_AdamQ1_AdamQ1Ideal : Prop :=
  True

def algebraic_AdamQ1Ideal_AdamQ1RefIdeal [hAdamQ1Ideal : Cert.AdamQ1Ideal.Facts] [hAdamQ1RefIdeal : Cert.AdamQ1RefIdeal.Facts] : Prop :=
  ∀ (m : (ℓ : Loc Cert.AdamQ1Ideal.nD Cert.AdamQ1Ideal.τ Cert.AdamQ1Ideal.sig) → Buf (Elt Ideal) ℓ) (g : Dev Cert.AdamQ1Ideal.nD → PrngReg)
    (m' : (ℓ : Loc Cert.AdamQ1RefIdeal.nD Cert.AdamQ1RefIdeal.τ Cert.AdamQ1RefIdeal.sig) → Buf (Elt Ideal) ℓ) (g' : Dev Cert.AdamQ1RefIdeal.nD → PrngReg), Pre_AdamQ1Ideal m →
    (∀ c : Dev Cert.AdamQ1Ideal.nD,
      m' ((c.tc : Thread Cert.AdamQ1RefIdeal.nD Cert.AdamQ1RefIdeal.τ).loc Cert.AdamQ1RefIdeal.main_arg0) = m ((c.tc : Thread Cert.AdamQ1Ideal.nD Cert.AdamQ1Ideal.τ).loc Cert.AdamQ1Ideal.main_arg0)
      ∧ m' ((c.tc : Thread Cert.AdamQ1RefIdeal.nD Cert.AdamQ1RefIdeal.τ).loc Cert.AdamQ1RefIdeal.main_arg1) = m ((c.tc : Thread Cert.AdamQ1Ideal.nD Cert.AdamQ1Ideal.τ).loc Cert.AdamQ1Ideal.main_arg1)
      ∧ m' ((c.tc : Thread Cert.AdamQ1RefIdeal.nD Cert.AdamQ1RefIdeal.τ).loc Cert.AdamQ1RefIdeal.main_arg2) = m ((c.tc : Thread Cert.AdamQ1Ideal.nD Cert.AdamQ1Ideal.τ).loc Cert.AdamQ1Ideal.main_arg2)
      ∧ m' ((c.tc : Thread Cert.AdamQ1RefIdeal.nD Cert.AdamQ1RefIdeal.τ).loc Cert.AdamQ1RefIdeal.main_arg3) = m ((c.tc : Thread Cert.AdamQ1Ideal.nD Cert.AdamQ1Ideal.τ).loc Cert.AdamQ1Ideal.main_arg3)
      ∧ m' ((c.tc : Thread Cert.AdamQ1RefIdeal.nD Cert.AdamQ1RefIdeal.τ).loc Cert.AdamQ1RefIdeal.main_arg4) = m ((c.tc : Thread Cert.AdamQ1Ideal.nD Cert.AdamQ1Ideal.τ).loc Cert.AdamQ1Ideal.main_arg4)
      ∧ m' ((c.tc : Thread Cert.AdamQ1RefIdeal.nD Cert.AdamQ1RefIdeal.τ).loc Cert.AdamQ1RefIdeal.main_arg5) = m ((c.tc : Thread Cert.AdamQ1Ideal.nD Cert.AdamQ1Ideal.τ).loc Cert.AdamQ1Ideal.main_arg5)
      ∧ m' ((c.tc : Thread Cert.AdamQ1RefIdeal.nD Cert.AdamQ1RefIdeal.τ).loc Cert.AdamQ1RefIdeal.main_arg6) = m ((c.tc : Thread Cert.AdamQ1Ideal.nD Cert.AdamQ1Ideal.τ).loc Cert.AdamQ1Ideal.main_arg6)
      ∧ m' ((c.tc : Thread Cert.AdamQ1RefIdeal.nD Cert.AdamQ1RefIdeal.τ).loc Cert.AdamQ1RefIdeal.main_arg7) = m ((c.tc : Thread Cert.AdamQ1Ideal.nD Cert.AdamQ1Ideal.τ).loc Cert.AdamQ1Ideal.main_arg7)
      ∧ m' ((c.tc : Thread Cert.AdamQ1RefIdeal.nD Cert.AdamQ1RefIdeal.τ).loc Cert.AdamQ1RefIdeal.main_arg8) = m ((c.tc : Thread Cert.AdamQ1Ideal.nD Cert.AdamQ1Ideal.τ).loc Cert.AdamQ1Ideal.main_arg8)
      ∧ m' ((c.tc : Thread Cert.AdamQ1RefIdeal.nD Cert.AdamQ1RefIdeal.τ).loc Cert.AdamQ1RefIdeal.main_arg9) = m ((c.tc : Thread Cert.AdamQ1Ideal.nD Cert.AdamQ1Ideal.τ).loc Cert.AdamQ1Ideal.main_arg9)) →
    ∃ (v0 : (c : Dev Cert.AdamQ1Ideal.nD) → Buf (Elt Ideal) ((c.tc : Thread Cert.AdamQ1Ideal.nD Cert.AdamQ1Ideal.τ).loc Cert.AdamQ1Ideal.main_v0_0)) (v1 : (c : Dev Cert.AdamQ1Ideal.nD) → Buf (Elt Ideal) ((c.tc : Thread Cert.AdamQ1Ideal.nD Cert.AdamQ1Ideal.τ).loc Cert.AdamQ1Ideal.main_v0_1)) (v2 : (c : Dev Cert.AdamQ1Ideal.nD) → Buf (Elt Ideal) ((c.tc : Thread Cert.AdamQ1Ideal.nD Cert.AdamQ1Ideal.τ).loc Cert.AdamQ1Ideal.main_v0_2)) (v3 : (c : Dev Cert.AdamQ1Ideal.nD) → Buf (Elt Ideal) ((c.tc : Thread Cert.AdamQ1Ideal.nD Cert.AdamQ1Ideal.τ).loc Cert.AdamQ1Ideal.main_v0_3)),
      θ_run (Cert.AdamQ1Ideal.defs (F := Ideal)) (onTc (τ := Cert.AdamQ1Ideal.τ) (Cert.AdamQ1Ideal.main (F := Ideal))) ⟨m, fun _ => 0, g⟩ (fun r => ∀ c : Dev Cert.AdamQ1Ideal.nD,
          r.2.mem ((c.tc : Thread Cert.AdamQ1Ideal.nD Cert.AdamQ1Ideal.τ).loc Cert.AdamQ1Ideal.main_v0_0) = v0 c
          ∧ r.2.mem ((c.tc : Thread Cert.AdamQ1Ideal.nD Cert.AdamQ1Ideal.τ).loc Cert.AdamQ1Ideal.main_v0_1) = v1 c
          ∧ r.2.mem ((c.tc : Thread Cert.AdamQ1Ideal.nD Cert.AdamQ1Ideal.τ).loc Cert.AdamQ1Ideal.main_v0_2) = v2 c
          ∧ r.2.mem ((c.tc : Thread Cert.AdamQ1Ideal.nD Cert.AdamQ1Ideal.τ).loc Cert.AdamQ1Ideal.main_v0_3) = v3 c
          ∧ r.2.mem ((c.tc : Thread Cert.AdamQ1Ideal.nD Cert.AdamQ1Ideal.τ).loc Cert.AdamQ1Ideal.main_arg0) = m ((c.tc : Thread Cert.AdamQ1Ideal.nD Cert.AdamQ1Ideal.τ).loc Cert.AdamQ1Ideal.main_arg0)
          ∧ r.2.mem ((c.tc : Thread Cert.AdamQ1Ideal.nD Cert.AdamQ1Ideal.τ).loc Cert.AdamQ1Ideal.main_arg1) = m ((c.tc : Thread Cert.AdamQ1Ideal.nD Cert.AdamQ1Ideal.τ).loc Cert.AdamQ1Ideal.main_arg1)
          ∧ r.2.mem ((c.tc : Thread Cert.AdamQ1Ideal.nD Cert.AdamQ1Ideal.τ).loc Cert.AdamQ1Ideal.main_arg2) = m ((c.tc : Thread Cert.AdamQ1Ideal.nD Cert.AdamQ1Ideal.τ).loc Cert.AdamQ1Ideal.main_arg2)
          ∧ r.2.mem ((c.tc : Thread Cert.AdamQ1Ideal.nD Cert.AdamQ1Ideal.τ).loc Cert.AdamQ1Ideal.main_arg3) = m ((c.tc : Thread Cert.AdamQ1Ideal.nD Cert.AdamQ1Ideal.τ).loc Cert.AdamQ1Ideal.main_arg3)
          ∧ r.2.mem ((c.tc : Thread Cert.AdamQ1Ideal.nD Cert.AdamQ1Ideal.τ).loc Cert.AdamQ1Ideal.main_arg4) = m ((c.tc : Thread Cert.AdamQ1Ideal.nD Cert.AdamQ1Ideal.τ).loc Cert.AdamQ1Ideal.main_arg4)
          ∧ r.2.mem ((c.tc : Thread Cert.AdamQ1Ideal.nD Cert.AdamQ1Ideal.τ).loc Cert.AdamQ1Ideal.main_arg5) = m ((c.tc : Thread Cert.AdamQ1Ideal.nD Cert.AdamQ1Ideal.τ).loc Cert.AdamQ1Ideal.main_arg5)
          ∧ r.2.mem ((c.tc : Thread Cert.AdamQ1Ideal.nD Cert.AdamQ1Ideal.τ).loc Cert.AdamQ1Ideal.main_arg6) = m ((c.tc : Thread Cert.AdamQ1Ideal.nD Cert.AdamQ1Ideal.τ).loc Cert.AdamQ1Ideal.main_arg6)
          ∧ r.2.mem ((c.tc : Thread Cert.AdamQ1Ideal.nD Cert.AdamQ1Ideal.τ).loc Cert.AdamQ1Ideal.main_arg7) = m ((c.tc : Thread Cert.AdamQ1Ideal.nD Cert.AdamQ1Ideal.τ).loc Cert.AdamQ1Ideal.main_arg7)
          ∧ r.2.mem ((c.tc : Thread Cert.AdamQ1Ideal.nD Cert.AdamQ1Ideal.τ).loc Cert.AdamQ1Ideal.main_arg8) = m ((c.tc : Thread Cert.AdamQ1Ideal.nD Cert.AdamQ1Ideal.τ).loc Cert.AdamQ1Ideal.main_arg8)
          ∧ r.2.mem ((c.tc : Thread Cert.AdamQ1Ideal.nD Cert.AdamQ1Ideal.τ).loc Cert.AdamQ1Ideal.main_arg9) = m ((c.tc : Thread Cert.AdamQ1Ideal.nD Cert.AdamQ1Ideal.τ).loc Cert.AdamQ1Ideal.main_arg9))
      ∧ θ_run (Cert.AdamQ1RefIdeal.defs (F := Ideal)) (onTc (τ := Cert.AdamQ1RefIdeal.τ) (Cert.AdamQ1RefIdeal.main (F := Ideal))) ⟨m', fun _ => 0, g'⟩ (fun r => ∀ c : Dev Cert.AdamQ1RefIdeal.nD,
          r.2.mem ((c.tc : Thread Cert.AdamQ1RefIdeal.nD Cert.AdamQ1RefIdeal.τ).loc Cert.AdamQ1RefIdeal.main_v37) = v0 c
          ∧ r.2.mem ((c.tc : Thread Cert.AdamQ1RefIdeal.nD Cert.AdamQ1RefIdeal.τ).loc Cert.AdamQ1RefIdeal.main_v42) = v1 c
          ∧ r.2.mem ((c.tc : Thread Cert.AdamQ1RefIdeal.nD Cert.AdamQ1RefIdeal.τ).loc Cert.AdamQ1RefIdeal.main_v47) = v2 c
          ∧ r.2.mem ((c.tc : Thread Cert.AdamQ1RefIdeal.nD Cert.AdamQ1RefIdeal.τ).loc Cert.AdamQ1RefIdeal.main_v52) = v3 c
          ∧ r.2.mem ((c.tc : Thread Cert.AdamQ1RefIdeal.nD Cert.AdamQ1RefIdeal.τ).loc Cert.AdamQ1RefIdeal.main_arg0) = m' ((c.tc : Thread Cert.AdamQ1RefIdeal.nD Cert.AdamQ1RefIdeal.τ).loc Cert.AdamQ1RefIdeal.main_arg0)
          ∧ r.2.mem ((c.tc : Thread Cert.AdamQ1RefIdeal.nD Cert.AdamQ1RefIdeal.τ).loc Cert.AdamQ1RefIdeal.main_arg1) = m' ((c.tc : Thread Cert.AdamQ1RefIdeal.nD Cert.AdamQ1RefIdeal.τ).loc Cert.AdamQ1RefIdeal.main_arg1)
          ∧ r.2.mem ((c.tc : Thread Cert.AdamQ1RefIdeal.nD Cert.AdamQ1RefIdeal.τ).loc Cert.AdamQ1RefIdeal.main_arg2) = m' ((c.tc : Thread Cert.AdamQ1RefIdeal.nD Cert.AdamQ1RefIdeal.τ).loc Cert.AdamQ1RefIdeal.main_arg2)
          ∧ r.2.mem ((c.tc : Thread Cert.AdamQ1RefIdeal.nD Cert.AdamQ1RefIdeal.τ).loc Cert.AdamQ1RefIdeal.main_arg3) = m' ((c.tc : Thread Cert.AdamQ1RefIdeal.nD Cert.AdamQ1RefIdeal.τ).loc Cert.AdamQ1RefIdeal.main_arg3)
          ∧ r.2.mem ((c.tc : Thread Cert.AdamQ1RefIdeal.nD Cert.AdamQ1RefIdeal.τ).loc Cert.AdamQ1RefIdeal.main_arg4) = m' ((c.tc : Thread Cert.AdamQ1RefIdeal.nD Cert.AdamQ1RefIdeal.τ).loc Cert.AdamQ1RefIdeal.main_arg4)
          ∧ r.2.mem ((c.tc : Thread Cert.AdamQ1RefIdeal.nD Cert.AdamQ1RefIdeal.τ).loc Cert.AdamQ1RefIdeal.main_arg5) = m' ((c.tc : Thread Cert.AdamQ1RefIdeal.nD Cert.AdamQ1RefIdeal.τ).loc Cert.AdamQ1RefIdeal.main_arg5)
          ∧ r.2.mem ((c.tc : Thread Cert.AdamQ1RefIdeal.nD Cert.AdamQ1RefIdeal.τ).loc Cert.AdamQ1RefIdeal.main_arg6) = m' ((c.tc : Thread Cert.AdamQ1RefIdeal.nD Cert.AdamQ1RefIdeal.τ).loc Cert.AdamQ1RefIdeal.main_arg6)
          ∧ r.2.mem ((c.tc : Thread Cert.AdamQ1RefIdeal.nD Cert.AdamQ1RefIdeal.τ).loc Cert.AdamQ1RefIdeal.main_arg7) = m' ((c.tc : Thread Cert.AdamQ1RefIdeal.nD Cert.AdamQ1RefIdeal.τ).loc Cert.AdamQ1RefIdeal.main_arg7)
          ∧ r.2.mem ((c.tc : Thread Cert.AdamQ1RefIdeal.nD Cert.AdamQ1RefIdeal.τ).loc Cert.AdamQ1RefIdeal.main_arg8) = m' ((c.tc : Thread Cert.AdamQ1RefIdeal.nD Cert.AdamQ1RefIdeal.τ).loc Cert.AdamQ1RefIdeal.main_arg8)
          ∧ r.2.mem ((c.tc : Thread Cert.AdamQ1RefIdeal.nD Cert.AdamQ1RefIdeal.τ).loc Cert.AdamQ1RefIdeal.main_arg9) = m' ((c.tc : Thread Cert.AdamQ1RefIdeal.nD Cert.AdamQ1RefIdeal.τ).loc Cert.AdamQ1RefIdeal.main_arg9))

def preserves_AdamO0_AdamO0Ideal : Prop :=
  True

def algebraic_AdamO0Ideal_AdamO0RefIdeal [hAdamO0Ideal : Cert.AdamO0Ideal.Facts] [hAdamO0RefIdeal : Cert.AdamO0RefIdeal.Facts] : Prop :=
  ∀ (m : (ℓ : Loc Cert.AdamO0Ideal.nD Cert.AdamO0Ideal.τ Cert.AdamO0Ideal.sig) → Buf (Elt Ideal) ℓ) (g : Dev Cert.AdamO0Ideal.nD → PrngReg)
    (m' : (ℓ : Loc Cert.AdamO0RefIdeal.nD Cert.AdamO0RefIdeal.τ Cert.AdamO0RefIdeal.sig) → Buf (Elt Ideal) ℓ) (g' : Dev Cert.AdamO0RefIdeal.nD → PrngReg), Pre_AdamO0Ideal m →
    (∀ c : Dev Cert.AdamO0Ideal.nD,
      m' ((c.tc : Thread Cert.AdamO0RefIdeal.nD Cert.AdamO0RefIdeal.τ).loc Cert.AdamO0RefIdeal.main_arg0) = m ((c.tc : Thread Cert.AdamO0Ideal.nD Cert.AdamO0Ideal.τ).loc Cert.AdamO0Ideal.main_arg0)
      ∧ m' ((c.tc : Thread Cert.AdamO0RefIdeal.nD Cert.AdamO0RefIdeal.τ).loc Cert.AdamO0RefIdeal.main_arg1) = m ((c.tc : Thread Cert.AdamO0Ideal.nD Cert.AdamO0Ideal.τ).loc Cert.AdamO0Ideal.main_arg1)
      ∧ m' ((c.tc : Thread Cert.AdamO0RefIdeal.nD Cert.AdamO0RefIdeal.τ).loc Cert.AdamO0RefIdeal.main_arg2) = m ((c.tc : Thread Cert.AdamO0Ideal.nD Cert.AdamO0Ideal.τ).loc Cert.AdamO0Ideal.main_arg2)
      ∧ m' ((c.tc : Thread Cert.AdamO0RefIdeal.nD Cert.AdamO0RefIdeal.τ).loc Cert.AdamO0RefIdeal.main_arg3) = m ((c.tc : Thread Cert.AdamO0Ideal.nD Cert.AdamO0Ideal.τ).loc Cert.AdamO0Ideal.main_arg3)
      ∧ m' ((c.tc : Thread Cert.AdamO0RefIdeal.nD Cert.AdamO0RefIdeal.τ).loc Cert.AdamO0RefIdeal.main_arg4) = m ((c.tc : Thread Cert.AdamO0Ideal.nD Cert.AdamO0Ideal.τ).loc Cert.AdamO0Ideal.main_arg4)
      ∧ m' ((c.tc : Thread Cert.AdamO0RefIdeal.nD Cert.AdamO0RefIdeal.τ).loc Cert.AdamO0RefIdeal.main_arg5) = m ((c.tc : Thread Cert.AdamO0Ideal.nD Cert.AdamO0Ideal.τ).loc Cert.AdamO0Ideal.main_arg5)
      ∧ m' ((c.tc : Thread Cert.AdamO0RefIdeal.nD Cert.AdamO0RefIdeal.τ).loc Cert.AdamO0RefIdeal.main_arg6) = m ((c.tc : Thread Cert.AdamO0Ideal.nD Cert.AdamO0Ideal.τ).loc Cert.AdamO0Ideal.main_arg6)
      ∧ m' ((c.tc : Thread Cert.AdamO0RefIdeal.nD Cert.AdamO0RefIdeal.τ).loc Cert.AdamO0RefIdeal.main_arg7) = m ((c.tc : Thread Cert.AdamO0Ideal.nD Cert.AdamO0Ideal.τ).loc Cert.AdamO0Ideal.main_arg7)
      ∧ m' ((c.tc : Thread Cert.AdamO0RefIdeal.nD Cert.AdamO0RefIdeal.τ).loc Cert.AdamO0RefIdeal.main_arg8) = m ((c.tc : Thread Cert.AdamO0Ideal.nD Cert.AdamO0Ideal.τ).loc Cert.AdamO0Ideal.main_arg8)
      ∧ m' ((c.tc : Thread Cert.AdamO0RefIdeal.nD Cert.AdamO0RefIdeal.τ).loc Cert.AdamO0RefIdeal.main_arg9) = m ((c.tc : Thread Cert.AdamO0Ideal.nD Cert.AdamO0Ideal.τ).loc Cert.AdamO0Ideal.main_arg9)) →
    ∃ (v0 : (c : Dev Cert.AdamO0Ideal.nD) → Buf (Elt Ideal) ((c.tc : Thread Cert.AdamO0Ideal.nD Cert.AdamO0Ideal.τ).loc Cert.AdamO0Ideal.main_v0_0)) (v1 : (c : Dev Cert.AdamO0Ideal.nD) → Buf (Elt Ideal) ((c.tc : Thread Cert.AdamO0Ideal.nD Cert.AdamO0Ideal.τ).loc Cert.AdamO0Ideal.main_v0_1)) (v2 : (c : Dev Cert.AdamO0Ideal.nD) → Buf (Elt Ideal) ((c.tc : Thread Cert.AdamO0Ideal.nD Cert.AdamO0Ideal.τ).loc Cert.AdamO0Ideal.main_v0_2)) (v3 : (c : Dev Cert.AdamO0Ideal.nD) → Buf (Elt Ideal) ((c.tc : Thread Cert.AdamO0Ideal.nD Cert.AdamO0Ideal.τ).loc Cert.AdamO0Ideal.main_v0_3)),
      θ_run (Cert.AdamO0Ideal.defs (F := Ideal)) (onTc (τ := Cert.AdamO0Ideal.τ) (Cert.AdamO0Ideal.main (F := Ideal))) ⟨m, fun _ => 0, g⟩ (fun r => ∀ c : Dev Cert.AdamO0Ideal.nD,
          r.2.mem ((c.tc : Thread Cert.AdamO0Ideal.nD Cert.AdamO0Ideal.τ).loc Cert.AdamO0Ideal.main_v0_0) = v0 c
          ∧ r.2.mem ((c.tc : Thread Cert.AdamO0Ideal.nD Cert.AdamO0Ideal.τ).loc Cert.AdamO0Ideal.main_v0_1) = v1 c
          ∧ r.2.mem ((c.tc : Thread Cert.AdamO0Ideal.nD Cert.AdamO0Ideal.τ).loc Cert.AdamO0Ideal.main_v0_2) = v2 c
          ∧ r.2.mem ((c.tc : Thread Cert.AdamO0Ideal.nD Cert.AdamO0Ideal.τ).loc Cert.AdamO0Ideal.main_v0_3) = v3 c
          ∧ r.2.mem ((c.tc : Thread Cert.AdamO0Ideal.nD Cert.AdamO0Ideal.τ).loc Cert.AdamO0Ideal.main_arg0) = m ((c.tc : Thread Cert.AdamO0Ideal.nD Cert.AdamO0Ideal.τ).loc Cert.AdamO0Ideal.main_arg0)
          ∧ r.2.mem ((c.tc : Thread Cert.AdamO0Ideal.nD Cert.AdamO0Ideal.τ).loc Cert.AdamO0Ideal.main_arg1) = m ((c.tc : Thread Cert.AdamO0Ideal.nD Cert.AdamO0Ideal.τ).loc Cert.AdamO0Ideal.main_arg1)
          ∧ r.2.mem ((c.tc : Thread Cert.AdamO0Ideal.nD Cert.AdamO0Ideal.τ).loc Cert.AdamO0Ideal.main_arg2) = m ((c.tc : Thread Cert.AdamO0Ideal.nD Cert.AdamO0Ideal.τ).loc Cert.AdamO0Ideal.main_arg2)
          ∧ r.2.mem ((c.tc : Thread Cert.AdamO0Ideal.nD Cert.AdamO0Ideal.τ).loc Cert.AdamO0Ideal.main_arg3) = m ((c.tc : Thread Cert.AdamO0Ideal.nD Cert.AdamO0Ideal.τ).loc Cert.AdamO0Ideal.main_arg3)
          ∧ r.2.mem ((c.tc : Thread Cert.AdamO0Ideal.nD Cert.AdamO0Ideal.τ).loc Cert.AdamO0Ideal.main_arg4) = m ((c.tc : Thread Cert.AdamO0Ideal.nD Cert.AdamO0Ideal.τ).loc Cert.AdamO0Ideal.main_arg4)
          ∧ r.2.mem ((c.tc : Thread Cert.AdamO0Ideal.nD Cert.AdamO0Ideal.τ).loc Cert.AdamO0Ideal.main_arg5) = m ((c.tc : Thread Cert.AdamO0Ideal.nD Cert.AdamO0Ideal.τ).loc Cert.AdamO0Ideal.main_arg5)
          ∧ r.2.mem ((c.tc : Thread Cert.AdamO0Ideal.nD Cert.AdamO0Ideal.τ).loc Cert.AdamO0Ideal.main_arg6) = m ((c.tc : Thread Cert.AdamO0Ideal.nD Cert.AdamO0Ideal.τ).loc Cert.AdamO0Ideal.main_arg6)
          ∧ r.2.mem ((c.tc : Thread Cert.AdamO0Ideal.nD Cert.AdamO0Ideal.τ).loc Cert.AdamO0Ideal.main_arg7) = m ((c.tc : Thread Cert.AdamO0Ideal.nD Cert.AdamO0Ideal.τ).loc Cert.AdamO0Ideal.main_arg7)
          ∧ r.2.mem ((c.tc : Thread Cert.AdamO0Ideal.nD Cert.AdamO0Ideal.τ).loc Cert.AdamO0Ideal.main_arg8) = m ((c.tc : Thread Cert.AdamO0Ideal.nD Cert.AdamO0Ideal.τ).loc Cert.AdamO0Ideal.main_arg8)
          ∧ r.2.mem ((c.tc : Thread Cert.AdamO0Ideal.nD Cert.AdamO0Ideal.τ).loc Cert.AdamO0Ideal.main_arg9) = m ((c.tc : Thread Cert.AdamO0Ideal.nD Cert.AdamO0Ideal.τ).loc Cert.AdamO0Ideal.main_arg9))
      ∧ θ_run (Cert.AdamO0RefIdeal.defs (F := Ideal)) (onTc (τ := Cert.AdamO0RefIdeal.τ) (Cert.AdamO0RefIdeal.main (F := Ideal))) ⟨m', fun _ => 0, g'⟩ (fun r => ∀ c : Dev Cert.AdamO0RefIdeal.nD,
          r.2.mem ((c.tc : Thread Cert.AdamO0RefIdeal.nD Cert.AdamO0RefIdeal.τ).loc Cert.AdamO0RefIdeal.main_v37) = v0 c
          ∧ r.2.mem ((c.tc : Thread Cert.AdamO0RefIdeal.nD Cert.AdamO0RefIdeal.τ).loc Cert.AdamO0RefIdeal.main_v42) = v1 c
          ∧ r.2.mem ((c.tc : Thread Cert.AdamO0RefIdeal.nD Cert.AdamO0RefIdeal.τ).loc Cert.AdamO0RefIdeal.main_v47) = v2 c
          ∧ r.2.mem ((c.tc : Thread Cert.AdamO0RefIdeal.nD Cert.AdamO0RefIdeal.τ).loc Cert.AdamO0RefIdeal.main_v52) = v3 c
          ∧ r.2.mem ((c.tc : Thread Cert.AdamO0RefIdeal.nD Cert.AdamO0RefIdeal.τ).loc Cert.AdamO0RefIdeal.main_arg0) = m' ((c.tc : Thread Cert.AdamO0RefIdeal.nD Cert.AdamO0RefIdeal.τ).loc Cert.AdamO0RefIdeal.main_arg0)
          ∧ r.2.mem ((c.tc : Thread Cert.AdamO0RefIdeal.nD Cert.AdamO0RefIdeal.τ).loc Cert.AdamO0RefIdeal.main_arg1) = m' ((c.tc : Thread Cert.AdamO0RefIdeal.nD Cert.AdamO0RefIdeal.τ).loc Cert.AdamO0RefIdeal.main_arg1)
          ∧ r.2.mem ((c.tc : Thread Cert.AdamO0RefIdeal.nD Cert.AdamO0RefIdeal.τ).loc Cert.AdamO0RefIdeal.main_arg2) = m' ((c.tc : Thread Cert.AdamO0RefIdeal.nD Cert.AdamO0RefIdeal.τ).loc Cert.AdamO0RefIdeal.main_arg2)
          ∧ r.2.mem ((c.tc : Thread Cert.AdamO0RefIdeal.nD Cert.AdamO0RefIdeal.τ).loc Cert.AdamO0RefIdeal.main_arg3) = m' ((c.tc : Thread Cert.AdamO0RefIdeal.nD Cert.AdamO0RefIdeal.τ).loc Cert.AdamO0RefIdeal.main_arg3)
          ∧ r.2.mem ((c.tc : Thread Cert.AdamO0RefIdeal.nD Cert.AdamO0RefIdeal.τ).loc Cert.AdamO0RefIdeal.main_arg4) = m' ((c.tc : Thread Cert.AdamO0RefIdeal.nD Cert.AdamO0RefIdeal.τ).loc Cert.AdamO0RefIdeal.main_arg4)
          ∧ r.2.mem ((c.tc : Thread Cert.AdamO0RefIdeal.nD Cert.AdamO0RefIdeal.τ).loc Cert.AdamO0RefIdeal.main_arg5) = m' ((c.tc : Thread Cert.AdamO0RefIdeal.nD Cert.AdamO0RefIdeal.τ).loc Cert.AdamO0RefIdeal.main_arg5)
          ∧ r.2.mem ((c.tc : Thread Cert.AdamO0RefIdeal.nD Cert.AdamO0RefIdeal.τ).loc Cert.AdamO0RefIdeal.main_arg6) = m' ((c.tc : Thread Cert.AdamO0RefIdeal.nD Cert.AdamO0RefIdeal.τ).loc Cert.AdamO0RefIdeal.main_arg6)
          ∧ r.2.mem ((c.tc : Thread Cert.AdamO0RefIdeal.nD Cert.AdamO0RefIdeal.τ).loc Cert.AdamO0RefIdeal.main_arg7) = m' ((c.tc : Thread Cert.AdamO0RefIdeal.nD Cert.AdamO0RefIdeal.τ).loc Cert.AdamO0RefIdeal.main_arg7)
          ∧ r.2.mem ((c.tc : Thread Cert.AdamO0RefIdeal.nD Cert.AdamO0RefIdeal.τ).loc Cert.AdamO0RefIdeal.main_arg8) = m' ((c.tc : Thread Cert.AdamO0RefIdeal.nD Cert.AdamO0RefIdeal.τ).loc Cert.AdamO0RefIdeal.main_arg8)
          ∧ r.2.mem ((c.tc : Thread Cert.AdamO0RefIdeal.nD Cert.AdamO0RefIdeal.τ).loc Cert.AdamO0RefIdeal.main_arg9) = m' ((c.tc : Thread Cert.AdamO0RefIdeal.nD Cert.AdamO0RefIdeal.τ).loc Cert.AdamO0RefIdeal.main_arg9))

def preserves_AdamO1_AdamO1Ideal : Prop :=
  True

def algebraic_AdamO1Ideal_AdamO1RefIdeal [hAdamO1Ideal : Cert.AdamO1Ideal.Facts] [hAdamO1RefIdeal : Cert.AdamO1RefIdeal.Facts] : Prop :=
  ∀ (m : (ℓ : Loc Cert.AdamO1Ideal.nD Cert.AdamO1Ideal.τ Cert.AdamO1Ideal.sig) → Buf (Elt Ideal) ℓ) (g : Dev Cert.AdamO1Ideal.nD → PrngReg)
    (m' : (ℓ : Loc Cert.AdamO1RefIdeal.nD Cert.AdamO1RefIdeal.τ Cert.AdamO1RefIdeal.sig) → Buf (Elt Ideal) ℓ) (g' : Dev Cert.AdamO1RefIdeal.nD → PrngReg), Pre_AdamO1Ideal m →
    (∀ c : Dev Cert.AdamO1Ideal.nD,
      m' ((c.tc : Thread Cert.AdamO1RefIdeal.nD Cert.AdamO1RefIdeal.τ).loc Cert.AdamO1RefIdeal.main_arg0) = m ((c.tc : Thread Cert.AdamO1Ideal.nD Cert.AdamO1Ideal.τ).loc Cert.AdamO1Ideal.main_arg0)
      ∧ m' ((c.tc : Thread Cert.AdamO1RefIdeal.nD Cert.AdamO1RefIdeal.τ).loc Cert.AdamO1RefIdeal.main_arg1) = m ((c.tc : Thread Cert.AdamO1Ideal.nD Cert.AdamO1Ideal.τ).loc Cert.AdamO1Ideal.main_arg1)
      ∧ m' ((c.tc : Thread Cert.AdamO1RefIdeal.nD Cert.AdamO1RefIdeal.τ).loc Cert.AdamO1RefIdeal.main_arg2) = m ((c.tc : Thread Cert.AdamO1Ideal.nD Cert.AdamO1Ideal.τ).loc Cert.AdamO1Ideal.main_arg2)
      ∧ m' ((c.tc : Thread Cert.AdamO1RefIdeal.nD Cert.AdamO1RefIdeal.τ).loc Cert.AdamO1RefIdeal.main_arg3) = m ((c.tc : Thread Cert.AdamO1Ideal.nD Cert.AdamO1Ideal.τ).loc Cert.AdamO1Ideal.main_arg3)
      ∧ m' ((c.tc : Thread Cert.AdamO1RefIdeal.nD Cert.AdamO1RefIdeal.τ).loc Cert.AdamO1RefIdeal.main_arg4) = m ((c.tc : Thread Cert.AdamO1Ideal.nD Cert.AdamO1Ideal.τ).loc Cert.AdamO1Ideal.main_arg4)
      ∧ m' ((c.tc : Thread Cert.AdamO1RefIdeal.nD Cert.AdamO1RefIdeal.τ).loc Cert.AdamO1RefIdeal.main_arg5) = m ((c.tc : Thread Cert.AdamO1Ideal.nD Cert.AdamO1Ideal.τ).loc Cert.AdamO1Ideal.main_arg5)
      ∧ m' ((c.tc : Thread Cert.AdamO1RefIdeal.nD Cert.AdamO1RefIdeal.τ).loc Cert.AdamO1RefIdeal.main_arg6) = m ((c.tc : Thread Cert.AdamO1Ideal.nD Cert.AdamO1Ideal.τ).loc Cert.AdamO1Ideal.main_arg6)
      ∧ m' ((c.tc : Thread Cert.AdamO1RefIdeal.nD Cert.AdamO1RefIdeal.τ).loc Cert.AdamO1RefIdeal.main_arg7) = m ((c.tc : Thread Cert.AdamO1Ideal.nD Cert.AdamO1Ideal.τ).loc Cert.AdamO1Ideal.main_arg7)
      ∧ m' ((c.tc : Thread Cert.AdamO1RefIdeal.nD Cert.AdamO1RefIdeal.τ).loc Cert.AdamO1RefIdeal.main_arg8) = m ((c.tc : Thread Cert.AdamO1Ideal.nD Cert.AdamO1Ideal.τ).loc Cert.AdamO1Ideal.main_arg8)
      ∧ m' ((c.tc : Thread Cert.AdamO1RefIdeal.nD Cert.AdamO1RefIdeal.τ).loc Cert.AdamO1RefIdeal.main_arg9) = m ((c.tc : Thread Cert.AdamO1Ideal.nD Cert.AdamO1Ideal.τ).loc Cert.AdamO1Ideal.main_arg9)) →
    ∃ (v0 : (c : Dev Cert.AdamO1Ideal.nD) → Buf (Elt Ideal) ((c.tc : Thread Cert.AdamO1Ideal.nD Cert.AdamO1Ideal.τ).loc Cert.AdamO1Ideal.main_v0_0)) (v1 : (c : Dev Cert.AdamO1Ideal.nD) → Buf (Elt Ideal) ((c.tc : Thread Cert.AdamO1Ideal.nD Cert.AdamO1Ideal.τ).loc Cert.AdamO1Ideal.main_v0_1)) (v2 : (c : Dev Cert.AdamO1Ideal.nD) → Buf (Elt Ideal) ((c.tc : Thread Cert.AdamO1Ideal.nD Cert.AdamO1Ideal.τ).loc Cert.AdamO1Ideal.main_v0_2)) (v3 : (c : Dev Cert.AdamO1Ideal.nD) → Buf (Elt Ideal) ((c.tc : Thread Cert.AdamO1Ideal.nD Cert.AdamO1Ideal.τ).loc Cert.AdamO1Ideal.main_v0_3)),
      θ_run (Cert.AdamO1Ideal.defs (F := Ideal)) (onTc (τ := Cert.AdamO1Ideal.τ) (Cert.AdamO1Ideal.main (F := Ideal))) ⟨m, fun _ => 0, g⟩ (fun r => ∀ c : Dev Cert.AdamO1Ideal.nD,
          r.2.mem ((c.tc : Thread Cert.AdamO1Ideal.nD Cert.AdamO1Ideal.τ).loc Cert.AdamO1Ideal.main_v0_0) = v0 c
          ∧ r.2.mem ((c.tc : Thread Cert.AdamO1Ideal.nD Cert.AdamO1Ideal.τ).loc Cert.AdamO1Ideal.main_v0_1) = v1 c
          ∧ r.2.mem ((c.tc : Thread Cert.AdamO1Ideal.nD Cert.AdamO1Ideal.τ).loc Cert.AdamO1Ideal.main_v0_2) = v2 c
          ∧ r.2.mem ((c.tc : Thread Cert.AdamO1Ideal.nD Cert.AdamO1Ideal.τ).loc Cert.AdamO1Ideal.main_v0_3) = v3 c
          ∧ r.2.mem ((c.tc : Thread Cert.AdamO1Ideal.nD Cert.AdamO1Ideal.τ).loc Cert.AdamO1Ideal.main_arg0) = m ((c.tc : Thread Cert.AdamO1Ideal.nD Cert.AdamO1Ideal.τ).loc Cert.AdamO1Ideal.main_arg0)
          ∧ r.2.mem ((c.tc : Thread Cert.AdamO1Ideal.nD Cert.AdamO1Ideal.τ).loc Cert.AdamO1Ideal.main_arg1) = m ((c.tc : Thread Cert.AdamO1Ideal.nD Cert.AdamO1Ideal.τ).loc Cert.AdamO1Ideal.main_arg1)
          ∧ r.2.mem ((c.tc : Thread Cert.AdamO1Ideal.nD Cert.AdamO1Ideal.τ).loc Cert.AdamO1Ideal.main_arg2) = m ((c.tc : Thread Cert.AdamO1Ideal.nD Cert.AdamO1Ideal.τ).loc Cert.AdamO1Ideal.main_arg2)
          ∧ r.2.mem ((c.tc : Thread Cert.AdamO1Ideal.nD Cert.AdamO1Ideal.τ).loc Cert.AdamO1Ideal.main_arg3) = m ((c.tc : Thread Cert.AdamO1Ideal.nD Cert.AdamO1Ideal.τ).loc Cert.AdamO1Ideal.main_arg3)
          ∧ r.2.mem ((c.tc : Thread Cert.AdamO1Ideal.nD Cert.AdamO1Ideal.τ).loc Cert.AdamO1Ideal.main_arg4) = m ((c.tc : Thread Cert.AdamO1Ideal.nD Cert.AdamO1Ideal.τ).loc Cert.AdamO1Ideal.main_arg4)
          ∧ r.2.mem ((c.tc : Thread Cert.AdamO1Ideal.nD Cert.AdamO1Ideal.τ).loc Cert.AdamO1Ideal.main_arg5) = m ((c.tc : Thread Cert.AdamO1Ideal.nD Cert.AdamO1Ideal.τ).loc Cert.AdamO1Ideal.main_arg5)
          ∧ r.2.mem ((c.tc : Thread Cert.AdamO1Ideal.nD Cert.AdamO1Ideal.τ).loc Cert.AdamO1Ideal.main_arg6) = m ((c.tc : Thread Cert.AdamO1Ideal.nD Cert.AdamO1Ideal.τ).loc Cert.AdamO1Ideal.main_arg6)
          ∧ r.2.mem ((c.tc : Thread Cert.AdamO1Ideal.nD Cert.AdamO1Ideal.τ).loc Cert.AdamO1Ideal.main_arg7) = m ((c.tc : Thread Cert.AdamO1Ideal.nD Cert.AdamO1Ideal.τ).loc Cert.AdamO1Ideal.main_arg7)
          ∧ r.2.mem ((c.tc : Thread Cert.AdamO1Ideal.nD Cert.AdamO1Ideal.τ).loc Cert.AdamO1Ideal.main_arg8) = m ((c.tc : Thread Cert.AdamO1Ideal.nD Cert.AdamO1Ideal.τ).loc Cert.AdamO1Ideal.main_arg8)
          ∧ r.2.mem ((c.tc : Thread Cert.AdamO1Ideal.nD Cert.AdamO1Ideal.τ).loc Cert.AdamO1Ideal.main_arg9) = m ((c.tc : Thread Cert.AdamO1Ideal.nD Cert.AdamO1Ideal.τ).loc Cert.AdamO1Ideal.main_arg9))
      ∧ θ_run (Cert.AdamO1RefIdeal.defs (F := Ideal)) (onTc (τ := Cert.AdamO1RefIdeal.τ) (Cert.AdamO1RefIdeal.main (F := Ideal))) ⟨m', fun _ => 0, g'⟩ (fun r => ∀ c : Dev Cert.AdamO1RefIdeal.nD,
          r.2.mem ((c.tc : Thread Cert.AdamO1RefIdeal.nD Cert.AdamO1RefIdeal.τ).loc Cert.AdamO1RefIdeal.main_v37) = v0 c
          ∧ r.2.mem ((c.tc : Thread Cert.AdamO1RefIdeal.nD Cert.AdamO1RefIdeal.τ).loc Cert.AdamO1RefIdeal.main_v42) = v1 c
          ∧ r.2.mem ((c.tc : Thread Cert.AdamO1RefIdeal.nD Cert.AdamO1RefIdeal.τ).loc Cert.AdamO1RefIdeal.main_v47) = v2 c
          ∧ r.2.mem ((c.tc : Thread Cert.AdamO1RefIdeal.nD Cert.AdamO1RefIdeal.τ).loc Cert.AdamO1RefIdeal.main_v52) = v3 c
          ∧ r.2.mem ((c.tc : Thread Cert.AdamO1RefIdeal.nD Cert.AdamO1RefIdeal.τ).loc Cert.AdamO1RefIdeal.main_arg0) = m' ((c.tc : Thread Cert.AdamO1RefIdeal.nD Cert.AdamO1RefIdeal.τ).loc Cert.AdamO1RefIdeal.main_arg0)
          ∧ r.2.mem ((c.tc : Thread Cert.AdamO1RefIdeal.nD Cert.AdamO1RefIdeal.τ).loc Cert.AdamO1RefIdeal.main_arg1) = m' ((c.tc : Thread Cert.AdamO1RefIdeal.nD Cert.AdamO1RefIdeal.τ).loc Cert.AdamO1RefIdeal.main_arg1)
          ∧ r.2.mem ((c.tc : Thread Cert.AdamO1RefIdeal.nD Cert.AdamO1RefIdeal.τ).loc Cert.AdamO1RefIdeal.main_arg2) = m' ((c.tc : Thread Cert.AdamO1RefIdeal.nD Cert.AdamO1RefIdeal.τ).loc Cert.AdamO1RefIdeal.main_arg2)
          ∧ r.2.mem ((c.tc : Thread Cert.AdamO1RefIdeal.nD Cert.AdamO1RefIdeal.τ).loc Cert.AdamO1RefIdeal.main_arg3) = m' ((c.tc : Thread Cert.AdamO1RefIdeal.nD Cert.AdamO1RefIdeal.τ).loc Cert.AdamO1RefIdeal.main_arg3)
          ∧ r.2.mem ((c.tc : Thread Cert.AdamO1RefIdeal.nD Cert.AdamO1RefIdeal.τ).loc Cert.AdamO1RefIdeal.main_arg4) = m' ((c.tc : Thread Cert.AdamO1RefIdeal.nD Cert.AdamO1RefIdeal.τ).loc Cert.AdamO1RefIdeal.main_arg4)
          ∧ r.2.mem ((c.tc : Thread Cert.AdamO1RefIdeal.nD Cert.AdamO1RefIdeal.τ).loc Cert.AdamO1RefIdeal.main_arg5) = m' ((c.tc : Thread Cert.AdamO1RefIdeal.nD Cert.AdamO1RefIdeal.τ).loc Cert.AdamO1RefIdeal.main_arg5)
          ∧ r.2.mem ((c.tc : Thread Cert.AdamO1RefIdeal.nD Cert.AdamO1RefIdeal.τ).loc Cert.AdamO1RefIdeal.main_arg6) = m' ((c.tc : Thread Cert.AdamO1RefIdeal.nD Cert.AdamO1RefIdeal.τ).loc Cert.AdamO1RefIdeal.main_arg6)
          ∧ r.2.mem ((c.tc : Thread Cert.AdamO1RefIdeal.nD Cert.AdamO1RefIdeal.τ).loc Cert.AdamO1RefIdeal.main_arg7) = m' ((c.tc : Thread Cert.AdamO1RefIdeal.nD Cert.AdamO1RefIdeal.τ).loc Cert.AdamO1RefIdeal.main_arg7)
          ∧ r.2.mem ((c.tc : Thread Cert.AdamO1RefIdeal.nD Cert.AdamO1RefIdeal.τ).loc Cert.AdamO1RefIdeal.main_arg8) = m' ((c.tc : Thread Cert.AdamO1RefIdeal.nD Cert.AdamO1RefIdeal.τ).loc Cert.AdamO1RefIdeal.main_arg8)
          ∧ r.2.mem ((c.tc : Thread Cert.AdamO1RefIdeal.nD Cert.AdamO1RefIdeal.τ).loc Cert.AdamO1RefIdeal.main_arg9) = m' ((c.tc : Thread Cert.AdamO1RefIdeal.nD Cert.AdamO1RefIdeal.τ).loc Cert.AdamO1RefIdeal.main_arg9))

def preserves_AdamGate0_AdamGate0Ideal : Prop :=
  True

def algebraic_AdamGate0Ideal_AdamGate0RefIdeal [hAdamGate0Ideal : Cert.AdamGate0Ideal.Facts] [hAdamGate0RefIdeal : Cert.AdamGate0RefIdeal.Facts] : Prop :=
  ∀ (m : (ℓ : Loc Cert.AdamGate0Ideal.nD Cert.AdamGate0Ideal.τ Cert.AdamGate0Ideal.sig) → Buf (Elt Ideal) ℓ) (g : Dev Cert.AdamGate0Ideal.nD → PrngReg)
    (m' : (ℓ : Loc Cert.AdamGate0RefIdeal.nD Cert.AdamGate0RefIdeal.τ Cert.AdamGate0RefIdeal.sig) → Buf (Elt Ideal) ℓ) (g' : Dev Cert.AdamGate0RefIdeal.nD → PrngReg), Pre_AdamGate0Ideal m →
    (∀ c : Dev Cert.AdamGate0Ideal.nD,
      m' ((c.tc : Thread Cert.AdamGate0RefIdeal.nD Cert.AdamGate0RefIdeal.τ).loc Cert.AdamGate0RefIdeal.main_arg0) = m ((c.tc : Thread Cert.AdamGate0Ideal.nD Cert.AdamGate0Ideal.τ).loc Cert.AdamGate0Ideal.main_arg0)
      ∧ m' ((c.tc : Thread Cert.AdamGate0RefIdeal.nD Cert.AdamGate0RefIdeal.τ).loc Cert.AdamGate0RefIdeal.main_arg1) = m ((c.tc : Thread Cert.AdamGate0Ideal.nD Cert.AdamGate0Ideal.τ).loc Cert.AdamGate0Ideal.main_arg1)
      ∧ m' ((c.tc : Thread Cert.AdamGate0RefIdeal.nD Cert.AdamGate0RefIdeal.τ).loc Cert.AdamGate0RefIdeal.main_arg2) = m ((c.tc : Thread Cert.AdamGate0Ideal.nD Cert.AdamGate0Ideal.τ).loc Cert.AdamGate0Ideal.main_arg2)
      ∧ m' ((c.tc : Thread Cert.AdamGate0RefIdeal.nD Cert.AdamGate0RefIdeal.τ).loc Cert.AdamGate0RefIdeal.main_arg3) = m ((c.tc : Thread Cert.AdamGate0Ideal.nD Cert.AdamGate0Ideal.τ).loc Cert.AdamGate0Ideal.main_arg3)
      ∧ m' ((c.tc : Thread Cert.AdamGate0RefIdeal.nD Cert.AdamGate0RefIdeal.τ).loc Cert.AdamGate0RefIdeal.main_arg4) = m ((c.tc : Thread Cert.AdamGate0Ideal.nD Cert.AdamGate0Ideal.τ).loc Cert.AdamGate0Ideal.main_arg4)
      ∧ m' ((c.tc : Thread Cert.AdamGate0RefIdeal.nD Cert.AdamGate0RefIdeal.τ).loc Cert.AdamGate0RefIdeal.main_arg5) = m ((c.tc : Thread Cert.AdamGate0Ideal.nD Cert.AdamGate0Ideal.τ).loc Cert.AdamGate0Ideal.main_arg5)
      ∧ m' ((c.tc : Thread Cert.AdamGate0RefIdeal.nD Cert.AdamGate0RefIdeal.τ).loc Cert.AdamGate0RefIdeal.main_arg6) = m ((c.tc : Thread Cert.AdamGate0Ideal.nD Cert.AdamGate0Ideal.τ).loc Cert.AdamGate0Ideal.main_arg6)
      ∧ m' ((c.tc : Thread Cert.AdamGate0RefIdeal.nD Cert.AdamGate0RefIdeal.τ).loc Cert.AdamGate0RefIdeal.main_arg7) = m ((c.tc : Thread Cert.AdamGate0Ideal.nD Cert.AdamGate0Ideal.τ).loc Cert.AdamGate0Ideal.main_arg7)
      ∧ m' ((c.tc : Thread Cert.AdamGate0RefIdeal.nD Cert.AdamGate0RefIdeal.τ).loc Cert.AdamGate0RefIdeal.main_arg8) = m ((c.tc : Thread Cert.AdamGate0Ideal.nD Cert.AdamGate0Ideal.τ).loc Cert.AdamGate0Ideal.main_arg8)
      ∧ m' ((c.tc : Thread Cert.AdamGate0RefIdeal.nD Cert.AdamGate0RefIdeal.τ).loc Cert.AdamGate0RefIdeal.main_arg9) = m ((c.tc : Thread Cert.AdamGate0Ideal.nD Cert.AdamGate0Ideal.τ).loc Cert.AdamGate0Ideal.main_arg9)) →
    ∃ (v0 : (c : Dev Cert.AdamGate0Ideal.nD) → Buf (Elt Ideal) ((c.tc : Thread Cert.AdamGate0Ideal.nD Cert.AdamGate0Ideal.τ).loc Cert.AdamGate0Ideal.main_v0_0)) (v1 : (c : Dev Cert.AdamGate0Ideal.nD) → Buf (Elt Ideal) ((c.tc : Thread Cert.AdamGate0Ideal.nD Cert.AdamGate0Ideal.τ).loc Cert.AdamGate0Ideal.main_v0_1)) (v2 : (c : Dev Cert.AdamGate0Ideal.nD) → Buf (Elt Ideal) ((c.tc : Thread Cert.AdamGate0Ideal.nD Cert.AdamGate0Ideal.τ).loc Cert.AdamGate0Ideal.main_v0_2)) (v3 : (c : Dev Cert.AdamGate0Ideal.nD) → Buf (Elt Ideal) ((c.tc : Thread Cert.AdamGate0Ideal.nD Cert.AdamGate0Ideal.τ).loc Cert.AdamGate0Ideal.main_v0_3)),
      θ_run (Cert.AdamGate0Ideal.defs (F := Ideal)) (onTc (τ := Cert.AdamGate0Ideal.τ) (Cert.AdamGate0Ideal.main (F := Ideal))) ⟨m, fun _ => 0, g⟩ (fun r => ∀ c : Dev Cert.AdamGate0Ideal.nD,
          r.2.mem ((c.tc : Thread Cert.AdamGate0Ideal.nD Cert.AdamGate0Ideal.τ).loc Cert.AdamGate0Ideal.main_v0_0) = v0 c
          ∧ r.2.mem ((c.tc : Thread Cert.AdamGate0Ideal.nD Cert.AdamGate0Ideal.τ).loc Cert.AdamGate0Ideal.main_v0_1) = v1 c
          ∧ r.2.mem ((c.tc : Thread Cert.AdamGate0Ideal.nD Cert.AdamGate0Ideal.τ).loc Cert.AdamGate0Ideal.main_v0_2) = v2 c
          ∧ r.2.mem ((c.tc : Thread Cert.AdamGate0Ideal.nD Cert.AdamGate0Ideal.τ).loc Cert.AdamGate0Ideal.main_v0_3) = v3 c
          ∧ r.2.mem ((c.tc : Thread Cert.AdamGate0Ideal.nD Cert.AdamGate0Ideal.τ).loc Cert.AdamGate0Ideal.main_arg0) = m ((c.tc : Thread Cert.AdamGate0Ideal.nD Cert.AdamGate0Ideal.τ).loc Cert.AdamGate0Ideal.main_arg0)
          ∧ r.2.mem ((c.tc : Thread Cert.AdamGate0Ideal.nD Cert.AdamGate0Ideal.τ).loc Cert.AdamGate0Ideal.main_arg1) = m ((c.tc : Thread Cert.AdamGate0Ideal.nD Cert.AdamGate0Ideal.τ).loc Cert.AdamGate0Ideal.main_arg1)
          ∧ r.2.mem ((c.tc : Thread Cert.AdamGate0Ideal.nD Cert.AdamGate0Ideal.τ).loc Cert.AdamGate0Ideal.main_arg2) = m ((c.tc : Thread Cert.AdamGate0Ideal.nD Cert.AdamGate0Ideal.τ).loc Cert.AdamGate0Ideal.main_arg2)
          ∧ r.2.mem ((c.tc : Thread Cert.AdamGate0Ideal.nD Cert.AdamGate0Ideal.τ).loc Cert.AdamGate0Ideal.main_arg3) = m ((c.tc : Thread Cert.AdamGate0Ideal.nD Cert.AdamGate0Ideal.τ).loc Cert.AdamGate0Ideal.main_arg3)
          ∧ r.2.mem ((c.tc : Thread Cert.AdamGate0Ideal.nD Cert.AdamGate0Ideal.τ).loc Cert.AdamGate0Ideal.main_arg4) = m ((c.tc : Thread Cert.AdamGate0Ideal.nD Cert.AdamGate0Ideal.τ).loc Cert.AdamGate0Ideal.main_arg4)
          ∧ r.2.mem ((c.tc : Thread Cert.AdamGate0Ideal.nD Cert.AdamGate0Ideal.τ).loc Cert.AdamGate0Ideal.main_arg5) = m ((c.tc : Thread Cert.AdamGate0Ideal.nD Cert.AdamGate0Ideal.τ).loc Cert.AdamGate0Ideal.main_arg5)
          ∧ r.2.mem ((c.tc : Thread Cert.AdamGate0Ideal.nD Cert.AdamGate0Ideal.τ).loc Cert.AdamGate0Ideal.main_arg6) = m ((c.tc : Thread Cert.AdamGate0Ideal.nD Cert.AdamGate0Ideal.τ).loc Cert.AdamGate0Ideal.main_arg6)
          ∧ r.2.mem ((c.tc : Thread Cert.AdamGate0Ideal.nD Cert.AdamGate0Ideal.τ).loc Cert.AdamGate0Ideal.main_arg7) = m ((c.tc : Thread Cert.AdamGate0Ideal.nD Cert.AdamGate0Ideal.τ).loc Cert.AdamGate0Ideal.main_arg7)
          ∧ r.2.mem ((c.tc : Thread Cert.AdamGate0Ideal.nD Cert.AdamGate0Ideal.τ).loc Cert.AdamGate0Ideal.main_arg8) = m ((c.tc : Thread Cert.AdamGate0Ideal.nD Cert.AdamGate0Ideal.τ).loc Cert.AdamGate0Ideal.main_arg8)
          ∧ r.2.mem ((c.tc : Thread Cert.AdamGate0Ideal.nD Cert.AdamGate0Ideal.τ).loc Cert.AdamGate0Ideal.main_arg9) = m ((c.tc : Thread Cert.AdamGate0Ideal.nD Cert.AdamGate0Ideal.τ).loc Cert.AdamGate0Ideal.main_arg9))
      ∧ θ_run (Cert.AdamGate0RefIdeal.defs (F := Ideal)) (onTc (τ := Cert.AdamGate0RefIdeal.τ) (Cert.AdamGate0RefIdeal.main (F := Ideal))) ⟨m', fun _ => 0, g'⟩ (fun r => ∀ c : Dev Cert.AdamGate0RefIdeal.nD,
          r.2.mem ((c.tc : Thread Cert.AdamGate0RefIdeal.nD Cert.AdamGate0RefIdeal.τ).loc Cert.AdamGate0RefIdeal.main_v37) = v0 c
          ∧ r.2.mem ((c.tc : Thread Cert.AdamGate0RefIdeal.nD Cert.AdamGate0RefIdeal.τ).loc Cert.AdamGate0RefIdeal.main_v42) = v1 c
          ∧ r.2.mem ((c.tc : Thread Cert.AdamGate0RefIdeal.nD Cert.AdamGate0RefIdeal.τ).loc Cert.AdamGate0RefIdeal.main_v47) = v2 c
          ∧ r.2.mem ((c.tc : Thread Cert.AdamGate0RefIdeal.nD Cert.AdamGate0RefIdeal.τ).loc Cert.AdamGate0RefIdeal.main_v52) = v3 c
          ∧ r.2.mem ((c.tc : Thread Cert.AdamGate0RefIdeal.nD Cert.AdamGate0RefIdeal.τ).loc Cert.AdamGate0RefIdeal.main_arg0) = m' ((c.tc : Thread Cert.AdamGate0RefIdeal.nD Cert.AdamGate0RefIdeal.τ).loc Cert.AdamGate0RefIdeal.main_arg0)
          ∧ r.2.mem ((c.tc : Thread Cert.AdamGate0RefIdeal.nD Cert.AdamGate0RefIdeal.τ).loc Cert.AdamGate0RefIdeal.main_arg1) = m' ((c.tc : Thread Cert.AdamGate0RefIdeal.nD Cert.AdamGate0RefIdeal.τ).loc Cert.AdamGate0RefIdeal.main_arg1)
          ∧ r.2.mem ((c.tc : Thread Cert.AdamGate0RefIdeal.nD Cert.AdamGate0RefIdeal.τ).loc Cert.AdamGate0RefIdeal.main_arg2) = m' ((c.tc : Thread Cert.AdamGate0RefIdeal.nD Cert.AdamGate0RefIdeal.τ).loc Cert.AdamGate0RefIdeal.main_arg2)
          ∧ r.2.mem ((c.tc : Thread Cert.AdamGate0RefIdeal.nD Cert.AdamGate0RefIdeal.τ).loc Cert.AdamGate0RefIdeal.main_arg3) = m' ((c.tc : Thread Cert.AdamGate0RefIdeal.nD Cert.AdamGate0RefIdeal.τ).loc Cert.AdamGate0RefIdeal.main_arg3)
          ∧ r.2.mem ((c.tc : Thread Cert.AdamGate0RefIdeal.nD Cert.AdamGate0RefIdeal.τ).loc Cert.AdamGate0RefIdeal.main_arg4) = m' ((c.tc : Thread Cert.AdamGate0RefIdeal.nD Cert.AdamGate0RefIdeal.τ).loc Cert.AdamGate0RefIdeal.main_arg4)
          ∧ r.2.mem ((c.tc : Thread Cert.AdamGate0RefIdeal.nD Cert.AdamGate0RefIdeal.τ).loc Cert.AdamGate0RefIdeal.main_arg5) = m' ((c.tc : Thread Cert.AdamGate0RefIdeal.nD Cert.AdamGate0RefIdeal.τ).loc Cert.AdamGate0RefIdeal.main_arg5)
          ∧ r.2.mem ((c.tc : Thread Cert.AdamGate0RefIdeal.nD Cert.AdamGate0RefIdeal.τ).loc Cert.AdamGate0RefIdeal.main_arg6) = m' ((c.tc : Thread Cert.AdamGate0RefIdeal.nD Cert.AdamGate0RefIdeal.τ).loc Cert.AdamGate0RefIdeal.main_arg6)
          ∧ r.2.mem ((c.tc : Thread Cert.AdamGate0RefIdeal.nD Cert.AdamGate0RefIdeal.τ).loc Cert.AdamGate0RefIdeal.main_arg7) = m' ((c.tc : Thread Cert.AdamGate0RefIdeal.nD Cert.AdamGate0RefIdeal.τ).loc Cert.AdamGate0RefIdeal.main_arg7)
          ∧ r.2.mem ((c.tc : Thread Cert.AdamGate0RefIdeal.nD Cert.AdamGate0RefIdeal.τ).loc Cert.AdamGate0RefIdeal.main_arg8) = m' ((c.tc : Thread Cert.AdamGate0RefIdeal.nD Cert.AdamGate0RefIdeal.τ).loc Cert.AdamGate0RefIdeal.main_arg8)
          ∧ r.2.mem ((c.tc : Thread Cert.AdamGate0RefIdeal.nD Cert.AdamGate0RefIdeal.τ).loc Cert.AdamGate0RefIdeal.main_arg9) = m' ((c.tc : Thread Cert.AdamGate0RefIdeal.nD Cert.AdamGate0RefIdeal.τ).loc Cert.AdamGate0RefIdeal.main_arg9))

def preserves_AdamGate1_AdamGate1Ideal : Prop :=
  True

def algebraic_AdamGate1Ideal_AdamGate1RefIdeal [hAdamGate1Ideal : Cert.AdamGate1Ideal.Facts] [hAdamGate1RefIdeal : Cert.AdamGate1RefIdeal.Facts] : Prop :=
  ∀ (m : (ℓ : Loc Cert.AdamGate1Ideal.nD Cert.AdamGate1Ideal.τ Cert.AdamGate1Ideal.sig) → Buf (Elt Ideal) ℓ) (g : Dev Cert.AdamGate1Ideal.nD → PrngReg)
    (m' : (ℓ : Loc Cert.AdamGate1RefIdeal.nD Cert.AdamGate1RefIdeal.τ Cert.AdamGate1RefIdeal.sig) → Buf (Elt Ideal) ℓ) (g' : Dev Cert.AdamGate1RefIdeal.nD → PrngReg), Pre_AdamGate1Ideal m →
    (∀ c : Dev Cert.AdamGate1Ideal.nD,
      m' ((c.tc : Thread Cert.AdamGate1RefIdeal.nD Cert.AdamGate1RefIdeal.τ).loc Cert.AdamGate1RefIdeal.main_arg0) = m ((c.tc : Thread Cert.AdamGate1Ideal.nD Cert.AdamGate1Ideal.τ).loc Cert.AdamGate1Ideal.main_arg0)
      ∧ m' ((c.tc : Thread Cert.AdamGate1RefIdeal.nD Cert.AdamGate1RefIdeal.τ).loc Cert.AdamGate1RefIdeal.main_arg1) = m ((c.tc : Thread Cert.AdamGate1Ideal.nD Cert.AdamGate1Ideal.τ).loc Cert.AdamGate1Ideal.main_arg1)
      ∧ m' ((c.tc : Thread Cert.AdamGate1RefIdeal.nD Cert.AdamGate1RefIdeal.τ).loc Cert.AdamGate1RefIdeal.main_arg2) = m ((c.tc : Thread Cert.AdamGate1Ideal.nD Cert.AdamGate1Ideal.τ).loc Cert.AdamGate1Ideal.main_arg2)
      ∧ m' ((c.tc : Thread Cert.AdamGate1RefIdeal.nD Cert.AdamGate1RefIdeal.τ).loc Cert.AdamGate1RefIdeal.main_arg3) = m ((c.tc : Thread Cert.AdamGate1Ideal.nD Cert.AdamGate1Ideal.τ).loc Cert.AdamGate1Ideal.main_arg3)
      ∧ m' ((c.tc : Thread Cert.AdamGate1RefIdeal.nD Cert.AdamGate1RefIdeal.τ).loc Cert.AdamGate1RefIdeal.main_arg4) = m ((c.tc : Thread Cert.AdamGate1Ideal.nD Cert.AdamGate1Ideal.τ).loc Cert.AdamGate1Ideal.main_arg4)
      ∧ m' ((c.tc : Thread Cert.AdamGate1RefIdeal.nD Cert.AdamGate1RefIdeal.τ).loc Cert.AdamGate1RefIdeal.main_arg5) = m ((c.tc : Thread Cert.AdamGate1Ideal.nD Cert.AdamGate1Ideal.τ).loc Cert.AdamGate1Ideal.main_arg5)
      ∧ m' ((c.tc : Thread Cert.AdamGate1RefIdeal.nD Cert.AdamGate1RefIdeal.τ).loc Cert.AdamGate1RefIdeal.main_arg6) = m ((c.tc : Thread Cert.AdamGate1Ideal.nD Cert.AdamGate1Ideal.τ).loc Cert.AdamGate1Ideal.main_arg6)
      ∧ m' ((c.tc : Thread Cert.AdamGate1RefIdeal.nD Cert.AdamGate1RefIdeal.τ).loc Cert.AdamGate1RefIdeal.main_arg7) = m ((c.tc : Thread Cert.AdamGate1Ideal.nD Cert.AdamGate1Ideal.τ).loc Cert.AdamGate1Ideal.main_arg7)
      ∧ m' ((c.tc : Thread Cert.AdamGate1RefIdeal.nD Cert.AdamGate1RefIdeal.τ).loc Cert.AdamGate1RefIdeal.main_arg8) = m ((c.tc : Thread Cert.AdamGate1Ideal.nD Cert.AdamGate1Ideal.τ).loc Cert.AdamGate1Ideal.main_arg8)
      ∧ m' ((c.tc : Thread Cert.AdamGate1RefIdeal.nD Cert.AdamGate1RefIdeal.τ).loc Cert.AdamGate1RefIdeal.main_arg9) = m ((c.tc : Thread Cert.AdamGate1Ideal.nD Cert.AdamGate1Ideal.τ).loc Cert.AdamGate1Ideal.main_arg9)) →
    ∃ (v0 : (c : Dev Cert.AdamGate1Ideal.nD) → Buf (Elt Ideal) ((c.tc : Thread Cert.AdamGate1Ideal.nD Cert.AdamGate1Ideal.τ).loc Cert.AdamGate1Ideal.main_v0_0)) (v1 : (c : Dev Cert.AdamGate1Ideal.nD) → Buf (Elt Ideal) ((c.tc : Thread Cert.AdamGate1Ideal.nD Cert.AdamGate1Ideal.τ).loc Cert.AdamGate1Ideal.main_v0_1)) (v2 : (c : Dev Cert.AdamGate1Ideal.nD) → Buf (Elt Ideal) ((c.tc : Thread Cert.AdamGate1Ideal.nD Cert.AdamGate1Ideal.τ).loc Cert.AdamGate1Ideal.main_v0_2)) (v3 : (c : Dev Cert.AdamGate1Ideal.nD) → Buf (Elt Ideal) ((c.tc : Thread Cert.AdamGate1Ideal.nD Cert.AdamGate1Ideal.τ).loc Cert.AdamGate1Ideal.main_v0_3)),
      θ_run (Cert.AdamGate1Ideal.defs (F := Ideal)) (onTc (τ := Cert.AdamGate1Ideal.τ) (Cert.AdamGate1Ideal.main (F := Ideal))) ⟨m, fun _ => 0, g⟩ (fun r => ∀ c : Dev Cert.AdamGate1Ideal.nD,
          r.2.mem ((c.tc : Thread Cert.AdamGate1Ideal.nD Cert.AdamGate1Ideal.τ).loc Cert.AdamGate1Ideal.main_v0_0) = v0 c
          ∧ r.2.mem ((c.tc : Thread Cert.AdamGate1Ideal.nD Cert.AdamGate1Ideal.τ).loc Cert.AdamGate1Ideal.main_v0_1) = v1 c
          ∧ r.2.mem ((c.tc : Thread Cert.AdamGate1Ideal.nD Cert.AdamGate1Ideal.τ).loc Cert.AdamGate1Ideal.main_v0_2) = v2 c
          ∧ r.2.mem ((c.tc : Thread Cert.AdamGate1Ideal.nD Cert.AdamGate1Ideal.τ).loc Cert.AdamGate1Ideal.main_v0_3) = v3 c
          ∧ r.2.mem ((c.tc : Thread Cert.AdamGate1Ideal.nD Cert.AdamGate1Ideal.τ).loc Cert.AdamGate1Ideal.main_arg0) = m ((c.tc : Thread Cert.AdamGate1Ideal.nD Cert.AdamGate1Ideal.τ).loc Cert.AdamGate1Ideal.main_arg0)
          ∧ r.2.mem ((c.tc : Thread Cert.AdamGate1Ideal.nD Cert.AdamGate1Ideal.τ).loc Cert.AdamGate1Ideal.main_arg1) = m ((c.tc : Thread Cert.AdamGate1Ideal.nD Cert.AdamGate1Ideal.τ).loc Cert.AdamGate1Ideal.main_arg1)
          ∧ r.2.mem ((c.tc : Thread Cert.AdamGate1Ideal.nD Cert.AdamGate1Ideal.τ).loc Cert.AdamGate1Ideal.main_arg2) = m ((c.tc : Thread Cert.AdamGate1Ideal.nD Cert.AdamGate1Ideal.τ).loc Cert.AdamGate1Ideal.main_arg2)
          ∧ r.2.mem ((c.tc : Thread Cert.AdamGate1Ideal.nD Cert.AdamGate1Ideal.τ).loc Cert.AdamGate1Ideal.main_arg3) = m ((c.tc : Thread Cert.AdamGate1Ideal.nD Cert.AdamGate1Ideal.τ).loc Cert.AdamGate1Ideal.main_arg3)
          ∧ r.2.mem ((c.tc : Thread Cert.AdamGate1Ideal.nD Cert.AdamGate1Ideal.τ).loc Cert.AdamGate1Ideal.main_arg4) = m ((c.tc : Thread Cert.AdamGate1Ideal.nD Cert.AdamGate1Ideal.τ).loc Cert.AdamGate1Ideal.main_arg4)
          ∧ r.2.mem ((c.tc : Thread Cert.AdamGate1Ideal.nD Cert.AdamGate1Ideal.τ).loc Cert.AdamGate1Ideal.main_arg5) = m ((c.tc : Thread Cert.AdamGate1Ideal.nD Cert.AdamGate1Ideal.τ).loc Cert.AdamGate1Ideal.main_arg5)
          ∧ r.2.mem ((c.tc : Thread Cert.AdamGate1Ideal.nD Cert.AdamGate1Ideal.τ).loc Cert.AdamGate1Ideal.main_arg6) = m ((c.tc : Thread Cert.AdamGate1Ideal.nD Cert.AdamGate1Ideal.τ).loc Cert.AdamGate1Ideal.main_arg6)
          ∧ r.2.mem ((c.tc : Thread Cert.AdamGate1Ideal.nD Cert.AdamGate1Ideal.τ).loc Cert.AdamGate1Ideal.main_arg7) = m ((c.tc : Thread Cert.AdamGate1Ideal.nD Cert.AdamGate1Ideal.τ).loc Cert.AdamGate1Ideal.main_arg7)
          ∧ r.2.mem ((c.tc : Thread Cert.AdamGate1Ideal.nD Cert.AdamGate1Ideal.τ).loc Cert.AdamGate1Ideal.main_arg8) = m ((c.tc : Thread Cert.AdamGate1Ideal.nD Cert.AdamGate1Ideal.τ).loc Cert.AdamGate1Ideal.main_arg8)
          ∧ r.2.mem ((c.tc : Thread Cert.AdamGate1Ideal.nD Cert.AdamGate1Ideal.τ).loc Cert.AdamGate1Ideal.main_arg9) = m ((c.tc : Thread Cert.AdamGate1Ideal.nD Cert.AdamGate1Ideal.τ).loc Cert.AdamGate1Ideal.main_arg9))
      ∧ θ_run (Cert.AdamGate1RefIdeal.defs (F := Ideal)) (onTc (τ := Cert.AdamGate1RefIdeal.τ) (Cert.AdamGate1RefIdeal.main (F := Ideal))) ⟨m', fun _ => 0, g'⟩ (fun r => ∀ c : Dev Cert.AdamGate1RefIdeal.nD,
          r.2.mem ((c.tc : Thread Cert.AdamGate1RefIdeal.nD Cert.AdamGate1RefIdeal.τ).loc Cert.AdamGate1RefIdeal.main_v37) = v0 c
          ∧ r.2.mem ((c.tc : Thread Cert.AdamGate1RefIdeal.nD Cert.AdamGate1RefIdeal.τ).loc Cert.AdamGate1RefIdeal.main_v42) = v1 c
          ∧ r.2.mem ((c.tc : Thread Cert.AdamGate1RefIdeal.nD Cert.AdamGate1RefIdeal.τ).loc Cert.AdamGate1RefIdeal.main_v47) = v2 c
          ∧ r.2.mem ((c.tc : Thread Cert.AdamGate1RefIdeal.nD Cert.AdamGate1RefIdeal.τ).loc Cert.AdamGate1RefIdeal.main_v52) = v3 c
          ∧ r.2.mem ((c.tc : Thread Cert.AdamGate1RefIdeal.nD Cert.AdamGate1RefIdeal.τ).loc Cert.AdamGate1RefIdeal.main_arg0) = m' ((c.tc : Thread Cert.AdamGate1RefIdeal.nD Cert.AdamGate1RefIdeal.τ).loc Cert.AdamGate1RefIdeal.main_arg0)
          ∧ r.2.mem ((c.tc : Thread Cert.AdamGate1RefIdeal.nD Cert.AdamGate1RefIdeal.τ).loc Cert.AdamGate1RefIdeal.main_arg1) = m' ((c.tc : Thread Cert.AdamGate1RefIdeal.nD Cert.AdamGate1RefIdeal.τ).loc Cert.AdamGate1RefIdeal.main_arg1)
          ∧ r.2.mem ((c.tc : Thread Cert.AdamGate1RefIdeal.nD Cert.AdamGate1RefIdeal.τ).loc Cert.AdamGate1RefIdeal.main_arg2) = m' ((c.tc : Thread Cert.AdamGate1RefIdeal.nD Cert.AdamGate1RefIdeal.τ).loc Cert.AdamGate1RefIdeal.main_arg2)
          ∧ r.2.mem ((c.tc : Thread Cert.AdamGate1RefIdeal.nD Cert.AdamGate1RefIdeal.τ).loc Cert.AdamGate1RefIdeal.main_arg3) = m' ((c.tc : Thread Cert.AdamGate1RefIdeal.nD Cert.AdamGate1RefIdeal.τ).loc Cert.AdamGate1RefIdeal.main_arg3)
          ∧ r.2.mem ((c.tc : Thread Cert.AdamGate1RefIdeal.nD Cert.AdamGate1RefIdeal.τ).loc Cert.AdamGate1RefIdeal.main_arg4) = m' ((c.tc : Thread Cert.AdamGate1RefIdeal.nD Cert.AdamGate1RefIdeal.τ).loc Cert.AdamGate1RefIdeal.main_arg4)
          ∧ r.2.mem ((c.tc : Thread Cert.AdamGate1RefIdeal.nD Cert.AdamGate1RefIdeal.τ).loc Cert.AdamGate1RefIdeal.main_arg5) = m' ((c.tc : Thread Cert.AdamGate1RefIdeal.nD Cert.AdamGate1RefIdeal.τ).loc Cert.AdamGate1RefIdeal.main_arg5)
          ∧ r.2.mem ((c.tc : Thread Cert.AdamGate1RefIdeal.nD Cert.AdamGate1RefIdeal.τ).loc Cert.AdamGate1RefIdeal.main_arg6) = m' ((c.tc : Thread Cert.AdamGate1RefIdeal.nD Cert.AdamGate1RefIdeal.τ).loc Cert.AdamGate1RefIdeal.main_arg6)
          ∧ r.2.mem ((c.tc : Thread Cert.AdamGate1RefIdeal.nD Cert.AdamGate1RefIdeal.τ).loc Cert.AdamGate1RefIdeal.main_arg7) = m' ((c.tc : Thread Cert.AdamGate1RefIdeal.nD Cert.AdamGate1RefIdeal.τ).loc Cert.AdamGate1RefIdeal.main_arg7)
          ∧ r.2.mem ((c.tc : Thread Cert.AdamGate1RefIdeal.nD Cert.AdamGate1RefIdeal.τ).loc Cert.AdamGate1RefIdeal.main_arg8) = m' ((c.tc : Thread Cert.AdamGate1RefIdeal.nD Cert.AdamGate1RefIdeal.τ).loc Cert.AdamGate1RefIdeal.main_arg8)
          ∧ r.2.mem ((c.tc : Thread Cert.AdamGate1RefIdeal.nD Cert.AdamGate1RefIdeal.τ).loc Cert.AdamGate1RefIdeal.main_arg9) = m' ((c.tc : Thread Cert.AdamGate1RefIdeal.nD Cert.AdamGate1RefIdeal.τ).loc Cert.AdamGate1RefIdeal.main_arg9))

def preserves_AdamGate2_AdamGate2Ideal : Prop :=
  True

def algebraic_AdamGate2Ideal_AdamGate2RefIdeal [hAdamGate2Ideal : Cert.AdamGate2Ideal.Facts] [hAdamGate2RefIdeal : Cert.AdamGate2RefIdeal.Facts] : Prop :=
  ∀ (m : (ℓ : Loc Cert.AdamGate2Ideal.nD Cert.AdamGate2Ideal.τ Cert.AdamGate2Ideal.sig) → Buf (Elt Ideal) ℓ) (g : Dev Cert.AdamGate2Ideal.nD → PrngReg)
    (m' : (ℓ : Loc Cert.AdamGate2RefIdeal.nD Cert.AdamGate2RefIdeal.τ Cert.AdamGate2RefIdeal.sig) → Buf (Elt Ideal) ℓ) (g' : Dev Cert.AdamGate2RefIdeal.nD → PrngReg), Pre_AdamGate2Ideal m →
    (∀ c : Dev Cert.AdamGate2Ideal.nD,
      m' ((c.tc : Thread Cert.AdamGate2RefIdeal.nD Cert.AdamGate2RefIdeal.τ).loc Cert.AdamGate2RefIdeal.main_arg0) = m ((c.tc : Thread Cert.AdamGate2Ideal.nD Cert.AdamGate2Ideal.τ).loc Cert.AdamGate2Ideal.main_arg0)
      ∧ m' ((c.tc : Thread Cert.AdamGate2RefIdeal.nD Cert.AdamGate2RefIdeal.τ).loc Cert.AdamGate2RefIdeal.main_arg1) = m ((c.tc : Thread Cert.AdamGate2Ideal.nD Cert.AdamGate2Ideal.τ).loc Cert.AdamGate2Ideal.main_arg1)
      ∧ m' ((c.tc : Thread Cert.AdamGate2RefIdeal.nD Cert.AdamGate2RefIdeal.τ).loc Cert.AdamGate2RefIdeal.main_arg2) = m ((c.tc : Thread Cert.AdamGate2Ideal.nD Cert.AdamGate2Ideal.τ).loc Cert.AdamGate2Ideal.main_arg2)
      ∧ m' ((c.tc : Thread Cert.AdamGate2RefIdeal.nD Cert.AdamGate2RefIdeal.τ).loc Cert.AdamGate2RefIdeal.main_arg3) = m ((c.tc : Thread Cert.AdamGate2Ideal.nD Cert.AdamGate2Ideal.τ).loc Cert.AdamGate2Ideal.main_arg3)
      ∧ m' ((c.tc : Thread Cert.AdamGate2RefIdeal.nD Cert.AdamGate2RefIdeal.τ).loc Cert.AdamGate2RefIdeal.main_arg4) = m ((c.tc : Thread Cert.AdamGate2Ideal.nD Cert.AdamGate2Ideal.τ).loc Cert.AdamGate2Ideal.main_arg4)
      ∧ m' ((c.tc : Thread Cert.AdamGate2RefIdeal.nD Cert.AdamGate2RefIdeal.τ).loc Cert.AdamGate2RefIdeal.main_arg5) = m ((c.tc : Thread Cert.AdamGate2Ideal.nD Cert.AdamGate2Ideal.τ).loc Cert.AdamGate2Ideal.main_arg5)
      ∧ m' ((c.tc : Thread Cert.AdamGate2RefIdeal.nD Cert.AdamGate2RefIdeal.τ).loc Cert.AdamGate2RefIdeal.main_arg6) = m ((c.tc : Thread Cert.AdamGate2Ideal.nD Cert.AdamGate2Ideal.τ).loc Cert.AdamGate2Ideal.main_arg6)
      ∧ m' ((c.tc : Thread Cert.AdamGate2RefIdeal.nD Cert.AdamGate2RefIdeal.τ).loc Cert.AdamGate2RefIdeal.main_arg7) = m ((c.tc : Thread Cert.AdamGate2Ideal.nD Cert.AdamGate2Ideal.τ).loc Cert.AdamGate2Ideal.main_arg7)
      ∧ m' ((c.tc : Thread Cert.AdamGate2RefIdeal.nD Cert.AdamGate2RefIdeal.τ).loc Cert.AdamGate2RefIdeal.main_arg8) = m ((c.tc : Thread Cert.AdamGate2Ideal.nD Cert.AdamGate2Ideal.τ).loc Cert.AdamGate2Ideal.main_arg8)
      ∧ m' ((c.tc : Thread Cert.AdamGate2RefIdeal.nD Cert.AdamGate2RefIdeal.τ).loc Cert.AdamGate2RefIdeal.main_arg9) = m ((c.tc : Thread Cert.AdamGate2Ideal.nD Cert.AdamGate2Ideal.τ).loc Cert.AdamGate2Ideal.main_arg9)) →
    ∃ (v0 : (c : Dev Cert.AdamGate2Ideal.nD) → Buf (Elt Ideal) ((c.tc : Thread Cert.AdamGate2Ideal.nD Cert.AdamGate2Ideal.τ).loc Cert.AdamGate2Ideal.main_v0_0)) (v1 : (c : Dev Cert.AdamGate2Ideal.nD) → Buf (Elt Ideal) ((c.tc : Thread Cert.AdamGate2Ideal.nD Cert.AdamGate2Ideal.τ).loc Cert.AdamGate2Ideal.main_v0_1)) (v2 : (c : Dev Cert.AdamGate2Ideal.nD) → Buf (Elt Ideal) ((c.tc : Thread Cert.AdamGate2Ideal.nD Cert.AdamGate2Ideal.τ).loc Cert.AdamGate2Ideal.main_v0_2)) (v3 : (c : Dev Cert.AdamGate2Ideal.nD) → Buf (Elt Ideal) ((c.tc : Thread Cert.AdamGate2Ideal.nD Cert.AdamGate2Ideal.τ).loc Cert.AdamGate2Ideal.main_v0_3)),
      θ_run (Cert.AdamGate2Ideal.defs (F := Ideal)) (onTc (τ := Cert.AdamGate2Ideal.τ) (Cert.AdamGate2Ideal.main (F := Ideal))) ⟨m, fun _ => 0, g⟩ (fun r => ∀ c : Dev Cert.AdamGate2Ideal.nD,
          r.2.mem ((c.tc : Thread Cert.AdamGate2Ideal.nD Cert.AdamGate2Ideal.τ).loc Cert.AdamGate2Ideal.main_v0_0) = v0 c
          ∧ r.2.mem ((c.tc : Thread Cert.AdamGate2Ideal.nD Cert.AdamGate2Ideal.τ).loc Cert.AdamGate2Ideal.main_v0_1) = v1 c
          ∧ r.2.mem ((c.tc : Thread Cert.AdamGate2Ideal.nD Cert.AdamGate2Ideal.τ).loc Cert.AdamGate2Ideal.main_v0_2) = v2 c
          ∧ r.2.mem ((c.tc : Thread Cert.AdamGate2Ideal.nD Cert.AdamGate2Ideal.τ).loc Cert.AdamGate2Ideal.main_v0_3) = v3 c
          ∧ r.2.mem ((c.tc : Thread Cert.AdamGate2Ideal.nD Cert.AdamGate2Ideal.τ).loc Cert.AdamGate2Ideal.main_arg0) = m ((c.tc : Thread Cert.AdamGate2Ideal.nD Cert.AdamGate2Ideal.τ).loc Cert.AdamGate2Ideal.main_arg0)
          ∧ r.2.mem ((c.tc : Thread Cert.AdamGate2Ideal.nD Cert.AdamGate2Ideal.τ).loc Cert.AdamGate2Ideal.main_arg1) = m ((c.tc : Thread Cert.AdamGate2Ideal.nD Cert.AdamGate2Ideal.τ).loc Cert.AdamGate2Ideal.main_arg1)
          ∧ r.2.mem ((c.tc : Thread Cert.AdamGate2Ideal.nD Cert.AdamGate2Ideal.τ).loc Cert.AdamGate2Ideal.main_arg2) = m ((c.tc : Thread Cert.AdamGate2Ideal.nD Cert.AdamGate2Ideal.τ).loc Cert.AdamGate2Ideal.main_arg2)
          ∧ r.2.mem ((c.tc : Thread Cert.AdamGate2Ideal.nD Cert.AdamGate2Ideal.τ).loc Cert.AdamGate2Ideal.main_arg3) = m ((c.tc : Thread Cert.AdamGate2Ideal.nD Cert.AdamGate2Ideal.τ).loc Cert.AdamGate2Ideal.main_arg3)
          ∧ r.2.mem ((c.tc : Thread Cert.AdamGate2Ideal.nD Cert.AdamGate2Ideal.τ).loc Cert.AdamGate2Ideal.main_arg4) = m ((c.tc : Thread Cert.AdamGate2Ideal.nD Cert.AdamGate2Ideal.τ).loc Cert.AdamGate2Ideal.main_arg4)
          ∧ r.2.mem ((c.tc : Thread Cert.AdamGate2Ideal.nD Cert.AdamGate2Ideal.τ).loc Cert.AdamGate2Ideal.main_arg5) = m ((c.tc : Thread Cert.AdamGate2Ideal.nD Cert.AdamGate2Ideal.τ).loc Cert.AdamGate2Ideal.main_arg5)
          ∧ r.2.mem ((c.tc : Thread Cert.AdamGate2Ideal.nD Cert.AdamGate2Ideal.τ).loc Cert.AdamGate2Ideal.main_arg6) = m ((c.tc : Thread Cert.AdamGate2Ideal.nD Cert.AdamGate2Ideal.τ).loc Cert.AdamGate2Ideal.main_arg6)
          ∧ r.2.mem ((c.tc : Thread Cert.AdamGate2Ideal.nD Cert.AdamGate2Ideal.τ).loc Cert.AdamGate2Ideal.main_arg7) = m ((c.tc : Thread Cert.AdamGate2Ideal.nD Cert.AdamGate2Ideal.τ).loc Cert.AdamGate2Ideal.main_arg7)
          ∧ r.2.mem ((c.tc : Thread Cert.AdamGate2Ideal.nD Cert.AdamGate2Ideal.τ).loc Cert.AdamGate2Ideal.main_arg8) = m ((c.tc : Thread Cert.AdamGate2Ideal.nD Cert.AdamGate2Ideal.τ).loc Cert.AdamGate2Ideal.main_arg8)
          ∧ r.2.mem ((c.tc : Thread Cert.AdamGate2Ideal.nD Cert.AdamGate2Ideal.τ).loc Cert.AdamGate2Ideal.main_arg9) = m ((c.tc : Thread Cert.AdamGate2Ideal.nD Cert.AdamGate2Ideal.τ).loc Cert.AdamGate2Ideal.main_arg9))
      ∧ θ_run (Cert.AdamGate2RefIdeal.defs (F := Ideal)) (onTc (τ := Cert.AdamGate2RefIdeal.τ) (Cert.AdamGate2RefIdeal.main (F := Ideal))) ⟨m', fun _ => 0, g'⟩ (fun r => ∀ c : Dev Cert.AdamGate2RefIdeal.nD,
          r.2.mem ((c.tc : Thread Cert.AdamGate2RefIdeal.nD Cert.AdamGate2RefIdeal.τ).loc Cert.AdamGate2RefIdeal.main_v37) = v0 c
          ∧ r.2.mem ((c.tc : Thread Cert.AdamGate2RefIdeal.nD Cert.AdamGate2RefIdeal.τ).loc Cert.AdamGate2RefIdeal.main_v42) = v1 c
          ∧ r.2.mem ((c.tc : Thread Cert.AdamGate2RefIdeal.nD Cert.AdamGate2RefIdeal.τ).loc Cert.AdamGate2RefIdeal.main_v47) = v2 c
          ∧ r.2.mem ((c.tc : Thread Cert.AdamGate2RefIdeal.nD Cert.AdamGate2RefIdeal.τ).loc Cert.AdamGate2RefIdeal.main_v52) = v3 c
          ∧ r.2.mem ((c.tc : Thread Cert.AdamGate2RefIdeal.nD Cert.AdamGate2RefIdeal.τ).loc Cert.AdamGate2RefIdeal.main_arg0) = m' ((c.tc : Thread Cert.AdamGate2RefIdeal.nD Cert.AdamGate2RefIdeal.τ).loc Cert.AdamGate2RefIdeal.main_arg0)
          ∧ r.2.mem ((c.tc : Thread Cert.AdamGate2RefIdeal.nD Cert.AdamGate2RefIdeal.τ).loc Cert.AdamGate2RefIdeal.main_arg1) = m' ((c.tc : Thread Cert.AdamGate2RefIdeal.nD Cert.AdamGate2RefIdeal.τ).loc Cert.AdamGate2RefIdeal.main_arg1)
          ∧ r.2.mem ((c.tc : Thread Cert.AdamGate2RefIdeal.nD Cert.AdamGate2RefIdeal.τ).loc Cert.AdamGate2RefIdeal.main_arg2) = m' ((c.tc : Thread Cert.AdamGate2RefIdeal.nD Cert.AdamGate2RefIdeal.τ).loc Cert.AdamGate2RefIdeal.main_arg2)
          ∧ r.2.mem ((c.tc : Thread Cert.AdamGate2RefIdeal.nD Cert.AdamGate2RefIdeal.τ).loc Cert.AdamGate2RefIdeal.main_arg3) = m' ((c.tc : Thread Cert.AdamGate2RefIdeal.nD Cert.AdamGate2RefIdeal.τ).loc Cert.AdamGate2RefIdeal.main_arg3)
          ∧ r.2.mem ((c.tc : Thread Cert.AdamGate2RefIdeal.nD Cert.AdamGate2RefIdeal.τ).loc Cert.AdamGate2RefIdeal.main_arg4) = m' ((c.tc : Thread Cert.AdamGate2RefIdeal.nD Cert.AdamGate2RefIdeal.τ).loc Cert.AdamGate2RefIdeal.main_arg4)
          ∧ r.2.mem ((c.tc : Thread Cert.AdamGate2RefIdeal.nD Cert.AdamGate2RefIdeal.τ).loc Cert.AdamGate2RefIdeal.main_arg5) = m' ((c.tc : Thread Cert.AdamGate2RefIdeal.nD Cert.AdamGate2RefIdeal.τ).loc Cert.AdamGate2RefIdeal.main_arg5)
          ∧ r.2.mem ((c.tc : Thread Cert.AdamGate2RefIdeal.nD Cert.AdamGate2RefIdeal.τ).loc Cert.AdamGate2RefIdeal.main_arg6) = m' ((c.tc : Thread Cert.AdamGate2RefIdeal.nD Cert.AdamGate2RefIdeal.τ).loc Cert.AdamGate2RefIdeal.main_arg6)
          ∧ r.2.mem ((c.tc : Thread Cert.AdamGate2RefIdeal.nD Cert.AdamGate2RefIdeal.τ).loc Cert.AdamGate2RefIdeal.main_arg7) = m' ((c.tc : Thread Cert.AdamGate2RefIdeal.nD Cert.AdamGate2RefIdeal.τ).loc Cert.AdamGate2RefIdeal.main_arg7)
          ∧ r.2.mem ((c.tc : Thread Cert.AdamGate2RefIdeal.nD Cert.AdamGate2RefIdeal.τ).loc Cert.AdamGate2RefIdeal.main_arg8) = m' ((c.tc : Thread Cert.AdamGate2RefIdeal.nD Cert.AdamGate2RefIdeal.τ).loc Cert.AdamGate2RefIdeal.main_arg8)
          ∧ r.2.mem ((c.tc : Thread Cert.AdamGate2RefIdeal.nD Cert.AdamGate2RefIdeal.τ).loc Cert.AdamGate2RefIdeal.main_arg9) = m' ((c.tc : Thread Cert.AdamGate2RefIdeal.nD Cert.AdamGate2RefIdeal.τ).loc Cert.AdamGate2RefIdeal.main_arg9))

def preserves_AdamGate3_AdamGate3Ideal : Prop :=
  True

def algebraic_AdamGate3Ideal_AdamGate3RefIdeal [hAdamGate3Ideal : Cert.AdamGate3Ideal.Facts] [hAdamGate3RefIdeal : Cert.AdamGate3RefIdeal.Facts] : Prop :=
  ∀ (m : (ℓ : Loc Cert.AdamGate3Ideal.nD Cert.AdamGate3Ideal.τ Cert.AdamGate3Ideal.sig) → Buf (Elt Ideal) ℓ) (g : Dev Cert.AdamGate3Ideal.nD → PrngReg)
    (m' : (ℓ : Loc Cert.AdamGate3RefIdeal.nD Cert.AdamGate3RefIdeal.τ Cert.AdamGate3RefIdeal.sig) → Buf (Elt Ideal) ℓ) (g' : Dev Cert.AdamGate3RefIdeal.nD → PrngReg), Pre_AdamGate3Ideal m →
    (∀ c : Dev Cert.AdamGate3Ideal.nD,
      m' ((c.tc : Thread Cert.AdamGate3RefIdeal.nD Cert.AdamGate3RefIdeal.τ).loc Cert.AdamGate3RefIdeal.main_arg0) = m ((c.tc : Thread Cert.AdamGate3Ideal.nD Cert.AdamGate3Ideal.τ).loc Cert.AdamGate3Ideal.main_arg0)
      ∧ m' ((c.tc : Thread Cert.AdamGate3RefIdeal.nD Cert.AdamGate3RefIdeal.τ).loc Cert.AdamGate3RefIdeal.main_arg1) = m ((c.tc : Thread Cert.AdamGate3Ideal.nD Cert.AdamGate3Ideal.τ).loc Cert.AdamGate3Ideal.main_arg1)
      ∧ m' ((c.tc : Thread Cert.AdamGate3RefIdeal.nD Cert.AdamGate3RefIdeal.τ).loc Cert.AdamGate3RefIdeal.main_arg2) = m ((c.tc : Thread Cert.AdamGate3Ideal.nD Cert.AdamGate3Ideal.τ).loc Cert.AdamGate3Ideal.main_arg2)
      ∧ m' ((c.tc : Thread Cert.AdamGate3RefIdeal.nD Cert.AdamGate3RefIdeal.τ).loc Cert.AdamGate3RefIdeal.main_arg3) = m ((c.tc : Thread Cert.AdamGate3Ideal.nD Cert.AdamGate3Ideal.τ).loc Cert.AdamGate3Ideal.main_arg3)
      ∧ m' ((c.tc : Thread Cert.AdamGate3RefIdeal.nD Cert.AdamGate3RefIdeal.τ).loc Cert.AdamGate3RefIdeal.main_arg4) = m ((c.tc : Thread Cert.AdamGate3Ideal.nD Cert.AdamGate3Ideal.τ).loc Cert.AdamGate3Ideal.main_arg4)
      ∧ m' ((c.tc : Thread Cert.AdamGate3RefIdeal.nD Cert.AdamGate3RefIdeal.τ).loc Cert.AdamGate3RefIdeal.main_arg5) = m ((c.tc : Thread Cert.AdamGate3Ideal.nD Cert.AdamGate3Ideal.τ).loc Cert.AdamGate3Ideal.main_arg5)
      ∧ m' ((c.tc : Thread Cert.AdamGate3RefIdeal.nD Cert.AdamGate3RefIdeal.τ).loc Cert.AdamGate3RefIdeal.main_arg6) = m ((c.tc : Thread Cert.AdamGate3Ideal.nD Cert.AdamGate3Ideal.τ).loc Cert.AdamGate3Ideal.main_arg6)
      ∧ m' ((c.tc : Thread Cert.AdamGate3RefIdeal.nD Cert.AdamGate3RefIdeal.τ).loc Cert.AdamGate3RefIdeal.main_arg7) = m ((c.tc : Thread Cert.AdamGate3Ideal.nD Cert.AdamGate3Ideal.τ).loc Cert.AdamGate3Ideal.main_arg7)
      ∧ m' ((c.tc : Thread Cert.AdamGate3RefIdeal.nD Cert.AdamGate3RefIdeal.τ).loc Cert.AdamGate3RefIdeal.main_arg8) = m ((c.tc : Thread Cert.AdamGate3Ideal.nD Cert.AdamGate3Ideal.τ).loc Cert.AdamGate3Ideal.main_arg8)
      ∧ m' ((c.tc : Thread Cert.AdamGate3RefIdeal.nD Cert.AdamGate3RefIdeal.τ).loc Cert.AdamGate3RefIdeal.main_arg9) = m ((c.tc : Thread Cert.AdamGate3Ideal.nD Cert.AdamGate3Ideal.τ).loc Cert.AdamGate3Ideal.main_arg9)) →
    ∃ (v0 : (c : Dev Cert.AdamGate3Ideal.nD) → Buf (Elt Ideal) ((c.tc : Thread Cert.AdamGate3Ideal.nD Cert.AdamGate3Ideal.τ).loc Cert.AdamGate3Ideal.main_v0_0)) (v1 : (c : Dev Cert.AdamGate3Ideal.nD) → Buf (Elt Ideal) ((c.tc : Thread Cert.AdamGate3Ideal.nD Cert.AdamGate3Ideal.τ).loc Cert.AdamGate3Ideal.main_v0_1)) (v2 : (c : Dev Cert.AdamGate3Ideal.nD) → Buf (Elt Ideal) ((c.tc : Thread Cert.AdamGate3Ideal.nD Cert.AdamGate3Ideal.τ).loc Cert.AdamGate3Ideal.main_v0_2)) (v3 : (c : Dev Cert.AdamGate3Ideal.nD) → Buf (Elt Ideal) ((c.tc : Thread Cert.AdamGate3Ideal.nD Cert.AdamGate3Ideal.τ).loc Cert.AdamGate3Ideal.main_v0_3)),
      θ_run (Cert.AdamGate3Ideal.defs (F := Ideal)) (onTc (τ := Cert.AdamGate3Ideal.τ) (Cert.AdamGate3Ideal.main (F := Ideal))) ⟨m, fun _ => 0, g⟩ (fun r => ∀ c : Dev Cert.AdamGate3Ideal.nD,
          r.2.mem ((c.tc : Thread Cert.AdamGate3Ideal.nD Cert.AdamGate3Ideal.τ).loc Cert.AdamGate3Ideal.main_v0_0) = v0 c
          ∧ r.2.mem ((c.tc : Thread Cert.AdamGate3Ideal.nD Cert.AdamGate3Ideal.τ).loc Cert.AdamGate3Ideal.main_v0_1) = v1 c
          ∧ r.2.mem ((c.tc : Thread Cert.AdamGate3Ideal.nD Cert.AdamGate3Ideal.τ).loc Cert.AdamGate3Ideal.main_v0_2) = v2 c
          ∧ r.2.mem ((c.tc : Thread Cert.AdamGate3Ideal.nD Cert.AdamGate3Ideal.τ).loc Cert.AdamGate3Ideal.main_v0_3) = v3 c
          ∧ r.2.mem ((c.tc : Thread Cert.AdamGate3Ideal.nD Cert.AdamGate3Ideal.τ).loc Cert.AdamGate3Ideal.main_arg0) = m ((c.tc : Thread Cert.AdamGate3Ideal.nD Cert.AdamGate3Ideal.τ).loc Cert.AdamGate3Ideal.main_arg0)
          ∧ r.2.mem ((c.tc : Thread Cert.AdamGate3Ideal.nD Cert.AdamGate3Ideal.τ).loc Cert.AdamGate3Ideal.main_arg1) = m ((c.tc : Thread Cert.AdamGate3Ideal.nD Cert.AdamGate3Ideal.τ).loc Cert.AdamGate3Ideal.main_arg1)
          ∧ r.2.mem ((c.tc : Thread Cert.AdamGate3Ideal.nD Cert.AdamGate3Ideal.τ).loc Cert.AdamGate3Ideal.main_arg2) = m ((c.tc : Thread Cert.AdamGate3Ideal.nD Cert.AdamGate3Ideal.τ).loc Cert.AdamGate3Ideal.main_arg2)
          ∧ r.2.mem ((c.tc : Thread Cert.AdamGate3Ideal.nD Cert.AdamGate3Ideal.τ).loc Cert.AdamGate3Ideal.main_arg3) = m ((c.tc : Thread Cert.AdamGate3Ideal.nD Cert.AdamGate3Ideal.τ).loc Cert.AdamGate3Ideal.main_arg3)
          ∧ r.2.mem ((c.tc : Thread Cert.AdamGate3Ideal.nD Cert.AdamGate3Ideal.τ).loc Cert.AdamGate3Ideal.main_arg4) = m ((c.tc : Thread Cert.AdamGate3Ideal.nD Cert.AdamGate3Ideal.τ).loc Cert.AdamGate3Ideal.main_arg4)
          ∧ r.2.mem ((c.tc : Thread Cert.AdamGate3Ideal.nD Cert.AdamGate3Ideal.τ).loc Cert.AdamGate3Ideal.main_arg5) = m ((c.tc : Thread Cert.AdamGate3Ideal.nD Cert.AdamGate3Ideal.τ).loc Cert.AdamGate3Ideal.main_arg5)
          ∧ r.2.mem ((c.tc : Thread Cert.AdamGate3Ideal.nD Cert.AdamGate3Ideal.τ).loc Cert.AdamGate3Ideal.main_arg6) = m ((c.tc : Thread Cert.AdamGate3Ideal.nD Cert.AdamGate3Ideal.τ).loc Cert.AdamGate3Ideal.main_arg6)
          ∧ r.2.mem ((c.tc : Thread Cert.AdamGate3Ideal.nD Cert.AdamGate3Ideal.τ).loc Cert.AdamGate3Ideal.main_arg7) = m ((c.tc : Thread Cert.AdamGate3Ideal.nD Cert.AdamGate3Ideal.τ).loc Cert.AdamGate3Ideal.main_arg7)
          ∧ r.2.mem ((c.tc : Thread Cert.AdamGate3Ideal.nD Cert.AdamGate3Ideal.τ).loc Cert.AdamGate3Ideal.main_arg8) = m ((c.tc : Thread Cert.AdamGate3Ideal.nD Cert.AdamGate3Ideal.τ).loc Cert.AdamGate3Ideal.main_arg8)
          ∧ r.2.mem ((c.tc : Thread Cert.AdamGate3Ideal.nD Cert.AdamGate3Ideal.τ).loc Cert.AdamGate3Ideal.main_arg9) = m ((c.tc : Thread Cert.AdamGate3Ideal.nD Cert.AdamGate3Ideal.τ).loc Cert.AdamGate3Ideal.main_arg9))
      ∧ θ_run (Cert.AdamGate3RefIdeal.defs (F := Ideal)) (onTc (τ := Cert.AdamGate3RefIdeal.τ) (Cert.AdamGate3RefIdeal.main (F := Ideal))) ⟨m', fun _ => 0, g'⟩ (fun r => ∀ c : Dev Cert.AdamGate3RefIdeal.nD,
          r.2.mem ((c.tc : Thread Cert.AdamGate3RefIdeal.nD Cert.AdamGate3RefIdeal.τ).loc Cert.AdamGate3RefIdeal.main_v37) = v0 c
          ∧ r.2.mem ((c.tc : Thread Cert.AdamGate3RefIdeal.nD Cert.AdamGate3RefIdeal.τ).loc Cert.AdamGate3RefIdeal.main_v42) = v1 c
          ∧ r.2.mem ((c.tc : Thread Cert.AdamGate3RefIdeal.nD Cert.AdamGate3RefIdeal.τ).loc Cert.AdamGate3RefIdeal.main_v47) = v2 c
          ∧ r.2.mem ((c.tc : Thread Cert.AdamGate3RefIdeal.nD Cert.AdamGate3RefIdeal.τ).loc Cert.AdamGate3RefIdeal.main_v52) = v3 c
          ∧ r.2.mem ((c.tc : Thread Cert.AdamGate3RefIdeal.nD Cert.AdamGate3RefIdeal.τ).loc Cert.AdamGate3RefIdeal.main_arg0) = m' ((c.tc : Thread Cert.AdamGate3RefIdeal.nD Cert.AdamGate3RefIdeal.τ).loc Cert.AdamGate3RefIdeal.main_arg0)
          ∧ r.2.mem ((c.tc : Thread Cert.AdamGate3RefIdeal.nD Cert.AdamGate3RefIdeal.τ).loc Cert.AdamGate3RefIdeal.main_arg1) = m' ((c.tc : Thread Cert.AdamGate3RefIdeal.nD Cert.AdamGate3RefIdeal.τ).loc Cert.AdamGate3RefIdeal.main_arg1)
          ∧ r.2.mem ((c.tc : Thread Cert.AdamGate3RefIdeal.nD Cert.AdamGate3RefIdeal.τ).loc Cert.AdamGate3RefIdeal.main_arg2) = m' ((c.tc : Thread Cert.AdamGate3RefIdeal.nD Cert.AdamGate3RefIdeal.τ).loc Cert.AdamGate3RefIdeal.main_arg2)
          ∧ r.2.mem ((c.tc : Thread Cert.AdamGate3RefIdeal.nD Cert.AdamGate3RefIdeal.τ).loc Cert.AdamGate3RefIdeal.main_arg3) = m' ((c.tc : Thread Cert.AdamGate3RefIdeal.nD Cert.AdamGate3RefIdeal.τ).loc Cert.AdamGate3RefIdeal.main_arg3)
          ∧ r.2.mem ((c.tc : Thread Cert.AdamGate3RefIdeal.nD Cert.AdamGate3RefIdeal.τ).loc Cert.AdamGate3RefIdeal.main_arg4) = m' ((c.tc : Thread Cert.AdamGate3RefIdeal.nD Cert.AdamGate3RefIdeal.τ).loc Cert.AdamGate3RefIdeal.main_arg4)
          ∧ r.2.mem ((c.tc : Thread Cert.AdamGate3RefIdeal.nD Cert.AdamGate3RefIdeal.τ).loc Cert.AdamGate3RefIdeal.main_arg5) = m' ((c.tc : Thread Cert.AdamGate3RefIdeal.nD Cert.AdamGate3RefIdeal.τ).loc Cert.AdamGate3RefIdeal.main_arg5)
          ∧ r.2.mem ((c.tc : Thread Cert.AdamGate3RefIdeal.nD Cert.AdamGate3RefIdeal.τ).loc Cert.AdamGate3RefIdeal.main_arg6) = m' ((c.tc : Thread Cert.AdamGate3RefIdeal.nD Cert.AdamGate3RefIdeal.τ).loc Cert.AdamGate3RefIdeal.main_arg6)
          ∧ r.2.mem ((c.tc : Thread Cert.AdamGate3RefIdeal.nD Cert.AdamGate3RefIdeal.τ).loc Cert.AdamGate3RefIdeal.main_arg7) = m' ((c.tc : Thread Cert.AdamGate3RefIdeal.nD Cert.AdamGate3RefIdeal.τ).loc Cert.AdamGate3RefIdeal.main_arg7)
          ∧ r.2.mem ((c.tc : Thread Cert.AdamGate3RefIdeal.nD Cert.AdamGate3RefIdeal.τ).loc Cert.AdamGate3RefIdeal.main_arg8) = m' ((c.tc : Thread Cert.AdamGate3RefIdeal.nD Cert.AdamGate3RefIdeal.τ).loc Cert.AdamGate3RefIdeal.main_arg8)
          ∧ r.2.mem ((c.tc : Thread Cert.AdamGate3RefIdeal.nD Cert.AdamGate3RefIdeal.τ).loc Cert.AdamGate3RefIdeal.main_arg9) = m' ((c.tc : Thread Cert.AdamGate3RefIdeal.nD Cert.AdamGate3RefIdeal.τ).loc Cert.AdamGate3RefIdeal.main_arg9))

def preserves_AdamDown0_AdamDown0Ideal : Prop :=
  True

def algebraic_AdamDown0Ideal_AdamDown0RefIdeal [hAdamDown0Ideal : Cert.AdamDown0Ideal.Facts] [hAdamDown0RefIdeal : Cert.AdamDown0RefIdeal.Facts] : Prop :=
  ∀ (m : (ℓ : Loc Cert.AdamDown0Ideal.nD Cert.AdamDown0Ideal.τ Cert.AdamDown0Ideal.sig) → Buf (Elt Ideal) ℓ) (g : Dev Cert.AdamDown0Ideal.nD → PrngReg)
    (m' : (ℓ : Loc Cert.AdamDown0RefIdeal.nD Cert.AdamDown0RefIdeal.τ Cert.AdamDown0RefIdeal.sig) → Buf (Elt Ideal) ℓ) (g' : Dev Cert.AdamDown0RefIdeal.nD → PrngReg), Pre_AdamDown0Ideal m →
    (∀ c : Dev Cert.AdamDown0Ideal.nD,
      m' ((c.tc : Thread Cert.AdamDown0RefIdeal.nD Cert.AdamDown0RefIdeal.τ).loc Cert.AdamDown0RefIdeal.main_arg0) = m ((c.tc : Thread Cert.AdamDown0Ideal.nD Cert.AdamDown0Ideal.τ).loc Cert.AdamDown0Ideal.main_arg0)
      ∧ m' ((c.tc : Thread Cert.AdamDown0RefIdeal.nD Cert.AdamDown0RefIdeal.τ).loc Cert.AdamDown0RefIdeal.main_arg1) = m ((c.tc : Thread Cert.AdamDown0Ideal.nD Cert.AdamDown0Ideal.τ).loc Cert.AdamDown0Ideal.main_arg1)
      ∧ m' ((c.tc : Thread Cert.AdamDown0RefIdeal.nD Cert.AdamDown0RefIdeal.τ).loc Cert.AdamDown0RefIdeal.main_arg2) = m ((c.tc : Thread Cert.AdamDown0Ideal.nD Cert.AdamDown0Ideal.τ).loc Cert.AdamDown0Ideal.main_arg2)
      ∧ m' ((c.tc : Thread Cert.AdamDown0RefIdeal.nD Cert.AdamDown0RefIdeal.τ).loc Cert.AdamDown0RefIdeal.main_arg3) = m ((c.tc : Thread Cert.AdamDown0Ideal.nD Cert.AdamDown0Ideal.τ).loc Cert.AdamDown0Ideal.main_arg3)
      ∧ m' ((c.tc : Thread Cert.AdamDown0RefIdeal.nD Cert.AdamDown0RefIdeal.τ).loc Cert.AdamDown0RefIdeal.main_arg4) = m ((c.tc : Thread Cert.AdamDown0Ideal.nD Cert.AdamDown0Ideal.τ).loc Cert.AdamDown0Ideal.main_arg4)
      ∧ m' ((c.tc : Thread Cert.AdamDown0RefIdeal.nD Cert.AdamDown0RefIdeal.τ).loc Cert.AdamDown0RefIdeal.main_arg5) = m ((c.tc : Thread Cert.AdamDown0Ideal.nD Cert.AdamDown0Ideal.τ).loc Cert.AdamDown0Ideal.main_arg5)
      ∧ m' ((c.tc : Thread Cert.AdamDown0RefIdeal.nD Cert.AdamDown0RefIdeal.τ).loc Cert.AdamDown0RefIdeal.main_arg6) = m ((c.tc : Thread Cert.AdamDown0Ideal.nD Cert.AdamDown0Ideal.τ).loc Cert.AdamDown0Ideal.main_arg6)
      ∧ m' ((c.tc : Thread Cert.AdamDown0RefIdeal.nD Cert.AdamDown0RefIdeal.τ).loc Cert.AdamDown0RefIdeal.main_arg7) = m ((c.tc : Thread Cert.AdamDown0Ideal.nD Cert.AdamDown0Ideal.τ).loc Cert.AdamDown0Ideal.main_arg7)
      ∧ m' ((c.tc : Thread Cert.AdamDown0RefIdeal.nD Cert.AdamDown0RefIdeal.τ).loc Cert.AdamDown0RefIdeal.main_arg8) = m ((c.tc : Thread Cert.AdamDown0Ideal.nD Cert.AdamDown0Ideal.τ).loc Cert.AdamDown0Ideal.main_arg8)
      ∧ m' ((c.tc : Thread Cert.AdamDown0RefIdeal.nD Cert.AdamDown0RefIdeal.τ).loc Cert.AdamDown0RefIdeal.main_arg9) = m ((c.tc : Thread Cert.AdamDown0Ideal.nD Cert.AdamDown0Ideal.τ).loc Cert.AdamDown0Ideal.main_arg9)) →
    ∃ (v0 : (c : Dev Cert.AdamDown0Ideal.nD) → Buf (Elt Ideal) ((c.tc : Thread Cert.AdamDown0Ideal.nD Cert.AdamDown0Ideal.τ).loc Cert.AdamDown0Ideal.main_v0_0)) (v1 : (c : Dev Cert.AdamDown0Ideal.nD) → Buf (Elt Ideal) ((c.tc : Thread Cert.AdamDown0Ideal.nD Cert.AdamDown0Ideal.τ).loc Cert.AdamDown0Ideal.main_v0_1)) (v2 : (c : Dev Cert.AdamDown0Ideal.nD) → Buf (Elt Ideal) ((c.tc : Thread Cert.AdamDown0Ideal.nD Cert.AdamDown0Ideal.τ).loc Cert.AdamDown0Ideal.main_v0_2)) (v3 : (c : Dev Cert.AdamDown0Ideal.nD) → Buf (Elt Ideal) ((c.tc : Thread Cert.AdamDown0Ideal.nD Cert.AdamDown0Ideal.τ).loc Cert.AdamDown0Ideal.main_v0_3)),
      θ_run (Cert.AdamDown0Ideal.defs (F := Ideal)) (onTc (τ := Cert.AdamDown0Ideal.τ) (Cert.AdamDown0Ideal.main (F := Ideal))) ⟨m, fun _ => 0, g⟩ (fun r => ∀ c : Dev Cert.AdamDown0Ideal.nD,
          r.2.mem ((c.tc : Thread Cert.AdamDown0Ideal.nD Cert.AdamDown0Ideal.τ).loc Cert.AdamDown0Ideal.main_v0_0) = v0 c
          ∧ r.2.mem ((c.tc : Thread Cert.AdamDown0Ideal.nD Cert.AdamDown0Ideal.τ).loc Cert.AdamDown0Ideal.main_v0_1) = v1 c
          ∧ r.2.mem ((c.tc : Thread Cert.AdamDown0Ideal.nD Cert.AdamDown0Ideal.τ).loc Cert.AdamDown0Ideal.main_v0_2) = v2 c
          ∧ r.2.mem ((c.tc : Thread Cert.AdamDown0Ideal.nD Cert.AdamDown0Ideal.τ).loc Cert.AdamDown0Ideal.main_v0_3) = v3 c
          ∧ r.2.mem ((c.tc : Thread Cert.AdamDown0Ideal.nD Cert.AdamDown0Ideal.τ).loc Cert.AdamDown0Ideal.main_arg0) = m ((c.tc : Thread Cert.AdamDown0Ideal.nD Cert.AdamDown0Ideal.τ).loc Cert.AdamDown0Ideal.main_arg0)
          ∧ r.2.mem ((c.tc : Thread Cert.AdamDown0Ideal.nD Cert.AdamDown0Ideal.τ).loc Cert.AdamDown0Ideal.main_arg1) = m ((c.tc : Thread Cert.AdamDown0Ideal.nD Cert.AdamDown0Ideal.τ).loc Cert.AdamDown0Ideal.main_arg1)
          ∧ r.2.mem ((c.tc : Thread Cert.AdamDown0Ideal.nD Cert.AdamDown0Ideal.τ).loc Cert.AdamDown0Ideal.main_arg2) = m ((c.tc : Thread Cert.AdamDown0Ideal.nD Cert.AdamDown0Ideal.τ).loc Cert.AdamDown0Ideal.main_arg2)
          ∧ r.2.mem ((c.tc : Thread Cert.AdamDown0Ideal.nD Cert.AdamDown0Ideal.τ).loc Cert.AdamDown0Ideal.main_arg3) = m ((c.tc : Thread Cert.AdamDown0Ideal.nD Cert.AdamDown0Ideal.τ).loc Cert.AdamDown0Ideal.main_arg3)
          ∧ r.2.mem ((c.tc : Thread Cert.AdamDown0Ideal.nD Cert.AdamDown0Ideal.τ).loc Cert.AdamDown0Ideal.main_arg4) = m ((c.tc : Thread Cert.AdamDown0Ideal.nD Cert.AdamDown0Ideal.τ).loc Cert.AdamDown0Ideal.main_arg4)
          ∧ r.2.mem ((c.tc : Thread Cert.AdamDown0Ideal.nD Cert.AdamDown0Ideal.τ).loc Cert.AdamDown0Ideal.main_arg5) = m ((c.tc : Thread Cert.AdamDown0Ideal.nD Cert.AdamDown0Ideal.τ).loc Cert.AdamDown0Ideal.main_arg5)
          ∧ r.2.mem ((c.tc : Thread Cert.AdamDown0Ideal.nD Cert.AdamDown0Ideal.τ).loc Cert.AdamDown0Ideal.main_arg6) = m ((c.tc : Thread Cert.AdamDown0Ideal.nD Cert.AdamDown0Ideal.τ).loc Cert.AdamDown0Ideal.main_arg6)
          ∧ r.2.mem ((c.tc : Thread Cert.AdamDown0Ideal.nD Cert.AdamDown0Ideal.τ).loc Cert.AdamDown0Ideal.main_arg7) = m ((c.tc : Thread Cert.AdamDown0Ideal.nD Cert.AdamDown0Ideal.τ).loc Cert.AdamDown0Ideal.main_arg7)
          ∧ r.2.mem ((c.tc : Thread Cert.AdamDown0Ideal.nD Cert.AdamDown0Ideal.τ).loc Cert.AdamDown0Ideal.main_arg8) = m ((c.tc : Thread Cert.AdamDown0Ideal.nD Cert.AdamDown0Ideal.τ).loc Cert.AdamDown0Ideal.main_arg8)
          ∧ r.2.mem ((c.tc : Thread Cert.AdamDown0Ideal.nD Cert.AdamDown0Ideal.τ).loc Cert.AdamDown0Ideal.main_arg9) = m ((c.tc : Thread Cert.AdamDown0Ideal.nD Cert.AdamDown0Ideal.τ).loc Cert.AdamDown0Ideal.main_arg9))
      ∧ θ_run (Cert.AdamDown0RefIdeal.defs (F := Ideal)) (onTc (τ := Cert.AdamDown0RefIdeal.τ) (Cert.AdamDown0RefIdeal.main (F := Ideal))) ⟨m', fun _ => 0, g'⟩ (fun r => ∀ c : Dev Cert.AdamDown0RefIdeal.nD,
          r.2.mem ((c.tc : Thread Cert.AdamDown0RefIdeal.nD Cert.AdamDown0RefIdeal.τ).loc Cert.AdamDown0RefIdeal.main_v37) = v0 c
          ∧ r.2.mem ((c.tc : Thread Cert.AdamDown0RefIdeal.nD Cert.AdamDown0RefIdeal.τ).loc Cert.AdamDown0RefIdeal.main_v42) = v1 c
          ∧ r.2.mem ((c.tc : Thread Cert.AdamDown0RefIdeal.nD Cert.AdamDown0RefIdeal.τ).loc Cert.AdamDown0RefIdeal.main_v47) = v2 c
          ∧ r.2.mem ((c.tc : Thread Cert.AdamDown0RefIdeal.nD Cert.AdamDown0RefIdeal.τ).loc Cert.AdamDown0RefIdeal.main_v52) = v3 c
          ∧ r.2.mem ((c.tc : Thread Cert.AdamDown0RefIdeal.nD Cert.AdamDown0RefIdeal.τ).loc Cert.AdamDown0RefIdeal.main_arg0) = m' ((c.tc : Thread Cert.AdamDown0RefIdeal.nD Cert.AdamDown0RefIdeal.τ).loc Cert.AdamDown0RefIdeal.main_arg0)
          ∧ r.2.mem ((c.tc : Thread Cert.AdamDown0RefIdeal.nD Cert.AdamDown0RefIdeal.τ).loc Cert.AdamDown0RefIdeal.main_arg1) = m' ((c.tc : Thread Cert.AdamDown0RefIdeal.nD Cert.AdamDown0RefIdeal.τ).loc Cert.AdamDown0RefIdeal.main_arg1)
          ∧ r.2.mem ((c.tc : Thread Cert.AdamDown0RefIdeal.nD Cert.AdamDown0RefIdeal.τ).loc Cert.AdamDown0RefIdeal.main_arg2) = m' ((c.tc : Thread Cert.AdamDown0RefIdeal.nD Cert.AdamDown0RefIdeal.τ).loc Cert.AdamDown0RefIdeal.main_arg2)
          ∧ r.2.mem ((c.tc : Thread Cert.AdamDown0RefIdeal.nD Cert.AdamDown0RefIdeal.τ).loc Cert.AdamDown0RefIdeal.main_arg3) = m' ((c.tc : Thread Cert.AdamDown0RefIdeal.nD Cert.AdamDown0RefIdeal.τ).loc Cert.AdamDown0RefIdeal.main_arg3)
          ∧ r.2.mem ((c.tc : Thread Cert.AdamDown0RefIdeal.nD Cert.AdamDown0RefIdeal.τ).loc Cert.AdamDown0RefIdeal.main_arg4) = m' ((c.tc : Thread Cert.AdamDown0RefIdeal.nD Cert.AdamDown0RefIdeal.τ).loc Cert.AdamDown0RefIdeal.main_arg4)
          ∧ r.2.mem ((c.tc : Thread Cert.AdamDown0RefIdeal.nD Cert.AdamDown0RefIdeal.τ).loc Cert.AdamDown0RefIdeal.main_arg5) = m' ((c.tc : Thread Cert.AdamDown0RefIdeal.nD Cert.AdamDown0RefIdeal.τ).loc Cert.AdamDown0RefIdeal.main_arg5)
          ∧ r.2.mem ((c.tc : Thread Cert.AdamDown0RefIdeal.nD Cert.AdamDown0RefIdeal.τ).loc Cert.AdamDown0RefIdeal.main_arg6) = m' ((c.tc : Thread Cert.AdamDown0RefIdeal.nD Cert.AdamDown0RefIdeal.τ).loc Cert.AdamDown0RefIdeal.main_arg6)
          ∧ r.2.mem ((c.tc : Thread Cert.AdamDown0RefIdeal.nD Cert.AdamDown0RefIdeal.τ).loc Cert.AdamDown0RefIdeal.main_arg7) = m' ((c.tc : Thread Cert.AdamDown0RefIdeal.nD Cert.AdamDown0RefIdeal.τ).loc Cert.AdamDown0RefIdeal.main_arg7)
          ∧ r.2.mem ((c.tc : Thread Cert.AdamDown0RefIdeal.nD Cert.AdamDown0RefIdeal.τ).loc Cert.AdamDown0RefIdeal.main_arg8) = m' ((c.tc : Thread Cert.AdamDown0RefIdeal.nD Cert.AdamDown0RefIdeal.τ).loc Cert.AdamDown0RefIdeal.main_arg8)
          ∧ r.2.mem ((c.tc : Thread Cert.AdamDown0RefIdeal.nD Cert.AdamDown0RefIdeal.τ).loc Cert.AdamDown0RefIdeal.main_arg9) = m' ((c.tc : Thread Cert.AdamDown0RefIdeal.nD Cert.AdamDown0RefIdeal.τ).loc Cert.AdamDown0RefIdeal.main_arg9))

def preserves_AdamDown1_AdamDown1Ideal : Prop :=
  True

def algebraic_AdamDown1Ideal_AdamDown1RefIdeal [hAdamDown1Ideal : Cert.AdamDown1Ideal.Facts] [hAdamDown1RefIdeal : Cert.AdamDown1RefIdeal.Facts] : Prop :=
  ∀ (m : (ℓ : Loc Cert.AdamDown1Ideal.nD Cert.AdamDown1Ideal.τ Cert.AdamDown1Ideal.sig) → Buf (Elt Ideal) ℓ) (g : Dev Cert.AdamDown1Ideal.nD → PrngReg)
    (m' : (ℓ : Loc Cert.AdamDown1RefIdeal.nD Cert.AdamDown1RefIdeal.τ Cert.AdamDown1RefIdeal.sig) → Buf (Elt Ideal) ℓ) (g' : Dev Cert.AdamDown1RefIdeal.nD → PrngReg), Pre_AdamDown1Ideal m →
    (∀ c : Dev Cert.AdamDown1Ideal.nD,
      m' ((c.tc : Thread Cert.AdamDown1RefIdeal.nD Cert.AdamDown1RefIdeal.τ).loc Cert.AdamDown1RefIdeal.main_arg0) = m ((c.tc : Thread Cert.AdamDown1Ideal.nD Cert.AdamDown1Ideal.τ).loc Cert.AdamDown1Ideal.main_arg0)
      ∧ m' ((c.tc : Thread Cert.AdamDown1RefIdeal.nD Cert.AdamDown1RefIdeal.τ).loc Cert.AdamDown1RefIdeal.main_arg1) = m ((c.tc : Thread Cert.AdamDown1Ideal.nD Cert.AdamDown1Ideal.τ).loc Cert.AdamDown1Ideal.main_arg1)
      ∧ m' ((c.tc : Thread Cert.AdamDown1RefIdeal.nD Cert.AdamDown1RefIdeal.τ).loc Cert.AdamDown1RefIdeal.main_arg2) = m ((c.tc : Thread Cert.AdamDown1Ideal.nD Cert.AdamDown1Ideal.τ).loc Cert.AdamDown1Ideal.main_arg2)
      ∧ m' ((c.tc : Thread Cert.AdamDown1RefIdeal.nD Cert.AdamDown1RefIdeal.τ).loc Cert.AdamDown1RefIdeal.main_arg3) = m ((c.tc : Thread Cert.AdamDown1Ideal.nD Cert.AdamDown1Ideal.τ).loc Cert.AdamDown1Ideal.main_arg3)
      ∧ m' ((c.tc : Thread Cert.AdamDown1RefIdeal.nD Cert.AdamDown1RefIdeal.τ).loc Cert.AdamDown1RefIdeal.main_arg4) = m ((c.tc : Thread Cert.AdamDown1Ideal.nD Cert.AdamDown1Ideal.τ).loc Cert.AdamDown1Ideal.main_arg4)
      ∧ m' ((c.tc : Thread Cert.AdamDown1RefIdeal.nD Cert.AdamDown1RefIdeal.τ).loc Cert.AdamDown1RefIdeal.main_arg5) = m ((c.tc : Thread Cert.AdamDown1Ideal.nD Cert.AdamDown1Ideal.τ).loc Cert.AdamDown1Ideal.main_arg5)
      ∧ m' ((c.tc : Thread Cert.AdamDown1RefIdeal.nD Cert.AdamDown1RefIdeal.τ).loc Cert.AdamDown1RefIdeal.main_arg6) = m ((c.tc : Thread Cert.AdamDown1Ideal.nD Cert.AdamDown1Ideal.τ).loc Cert.AdamDown1Ideal.main_arg6)
      ∧ m' ((c.tc : Thread Cert.AdamDown1RefIdeal.nD Cert.AdamDown1RefIdeal.τ).loc Cert.AdamDown1RefIdeal.main_arg7) = m ((c.tc : Thread Cert.AdamDown1Ideal.nD Cert.AdamDown1Ideal.τ).loc Cert.AdamDown1Ideal.main_arg7)
      ∧ m' ((c.tc : Thread Cert.AdamDown1RefIdeal.nD Cert.AdamDown1RefIdeal.τ).loc Cert.AdamDown1RefIdeal.main_arg8) = m ((c.tc : Thread Cert.AdamDown1Ideal.nD Cert.AdamDown1Ideal.τ).loc Cert.AdamDown1Ideal.main_arg8)
      ∧ m' ((c.tc : Thread Cert.AdamDown1RefIdeal.nD Cert.AdamDown1RefIdeal.τ).loc Cert.AdamDown1RefIdeal.main_arg9) = m ((c.tc : Thread Cert.AdamDown1Ideal.nD Cert.AdamDown1Ideal.τ).loc Cert.AdamDown1Ideal.main_arg9)) →
    ∃ (v0 : (c : Dev Cert.AdamDown1Ideal.nD) → Buf (Elt Ideal) ((c.tc : Thread Cert.AdamDown1Ideal.nD Cert.AdamDown1Ideal.τ).loc Cert.AdamDown1Ideal.main_v0_0)) (v1 : (c : Dev Cert.AdamDown1Ideal.nD) → Buf (Elt Ideal) ((c.tc : Thread Cert.AdamDown1Ideal.nD Cert.AdamDown1Ideal.τ).loc Cert.AdamDown1Ideal.main_v0_1)) (v2 : (c : Dev Cert.AdamDown1Ideal.nD) → Buf (Elt Ideal) ((c.tc : Thread Cert.AdamDown1Ideal.nD Cert.AdamDown1Ideal.τ).loc Cert.AdamDown1Ideal.main_v0_2)) (v3 : (c : Dev Cert.AdamDown1Ideal.nD) → Buf (Elt Ideal) ((c.tc : Thread Cert.AdamDown1Ideal.nD Cert.AdamDown1Ideal.τ).loc Cert.AdamDown1Ideal.main_v0_3)),
      θ_run (Cert.AdamDown1Ideal.defs (F := Ideal)) (onTc (τ := Cert.AdamDown1Ideal.τ) (Cert.AdamDown1Ideal.main (F := Ideal))) ⟨m, fun _ => 0, g⟩ (fun r => ∀ c : Dev Cert.AdamDown1Ideal.nD,
          r.2.mem ((c.tc : Thread Cert.AdamDown1Ideal.nD Cert.AdamDown1Ideal.τ).loc Cert.AdamDown1Ideal.main_v0_0) = v0 c
          ∧ r.2.mem ((c.tc : Thread Cert.AdamDown1Ideal.nD Cert.AdamDown1Ideal.τ).loc Cert.AdamDown1Ideal.main_v0_1) = v1 c
          ∧ r.2.mem ((c.tc : Thread Cert.AdamDown1Ideal.nD Cert.AdamDown1Ideal.τ).loc Cert.AdamDown1Ideal.main_v0_2) = v2 c
          ∧ r.2.mem ((c.tc : Thread Cert.AdamDown1Ideal.nD Cert.AdamDown1Ideal.τ).loc Cert.AdamDown1Ideal.main_v0_3) = v3 c
          ∧ r.2.mem ((c.tc : Thread Cert.AdamDown1Ideal.nD Cert.AdamDown1Ideal.τ).loc Cert.AdamDown1Ideal.main_arg0) = m ((c.tc : Thread Cert.AdamDown1Ideal.nD Cert.AdamDown1Ideal.τ).loc Cert.AdamDown1Ideal.main_arg0)
          ∧ r.2.mem ((c.tc : Thread Cert.AdamDown1Ideal.nD Cert.AdamDown1Ideal.τ).loc Cert.AdamDown1Ideal.main_arg1) = m ((c.tc : Thread Cert.AdamDown1Ideal.nD Cert.AdamDown1Ideal.τ).loc Cert.AdamDown1Ideal.main_arg1)
          ∧ r.2.mem ((c.tc : Thread Cert.AdamDown1Ideal.nD Cert.AdamDown1Ideal.τ).loc Cert.AdamDown1Ideal.main_arg2) = m ((c.tc : Thread Cert.AdamDown1Ideal.nD Cert.AdamDown1Ideal.τ).loc Cert.AdamDown1Ideal.main_arg2)
          ∧ r.2.mem ((c.tc : Thread Cert.AdamDown1Ideal.nD Cert.AdamDown1Ideal.τ).loc Cert.AdamDown1Ideal.main_arg3) = m ((c.tc : Thread Cert.AdamDown1Ideal.nD Cert.AdamDown1Ideal.τ).loc Cert.AdamDown1Ideal.main_arg3)
          ∧ r.2.mem ((c.tc : Thread Cert.AdamDown1Ideal.nD Cert.AdamDown1Ideal.τ).loc Cert.AdamDown1Ideal.main_arg4) = m ((c.tc : Thread Cert.AdamDown1Ideal.nD Cert.AdamDown1Ideal.τ).loc Cert.AdamDown1Ideal.main_arg4)
          ∧ r.2.mem ((c.tc : Thread Cert.AdamDown1Ideal.nD Cert.AdamDown1Ideal.τ).loc Cert.AdamDown1Ideal.main_arg5) = m ((c.tc : Thread Cert.AdamDown1Ideal.nD Cert.AdamDown1Ideal.τ).loc Cert.AdamDown1Ideal.main_arg5)
          ∧ r.2.mem ((c.tc : Thread Cert.AdamDown1Ideal.nD Cert.AdamDown1Ideal.τ).loc Cert.AdamDown1Ideal.main_arg6) = m ((c.tc : Thread Cert.AdamDown1Ideal.nD Cert.AdamDown1Ideal.τ).loc Cert.AdamDown1Ideal.main_arg6)
          ∧ r.2.mem ((c.tc : Thread Cert.AdamDown1Ideal.nD Cert.AdamDown1Ideal.τ).loc Cert.AdamDown1Ideal.main_arg7) = m ((c.tc : Thread Cert.AdamDown1Ideal.nD Cert.AdamDown1Ideal.τ).loc Cert.AdamDown1Ideal.main_arg7)
          ∧ r.2.mem ((c.tc : Thread Cert.AdamDown1Ideal.nD Cert.AdamDown1Ideal.τ).loc Cert.AdamDown1Ideal.main_arg8) = m ((c.tc : Thread Cert.AdamDown1Ideal.nD Cert.AdamDown1Ideal.τ).loc Cert.AdamDown1Ideal.main_arg8)
          ∧ r.2.mem ((c.tc : Thread Cert.AdamDown1Ideal.nD Cert.AdamDown1Ideal.τ).loc Cert.AdamDown1Ideal.main_arg9) = m ((c.tc : Thread Cert.AdamDown1Ideal.nD Cert.AdamDown1Ideal.τ).loc Cert.AdamDown1Ideal.main_arg9))
      ∧ θ_run (Cert.AdamDown1RefIdeal.defs (F := Ideal)) (onTc (τ := Cert.AdamDown1RefIdeal.τ) (Cert.AdamDown1RefIdeal.main (F := Ideal))) ⟨m', fun _ => 0, g'⟩ (fun r => ∀ c : Dev Cert.AdamDown1RefIdeal.nD,
          r.2.mem ((c.tc : Thread Cert.AdamDown1RefIdeal.nD Cert.AdamDown1RefIdeal.τ).loc Cert.AdamDown1RefIdeal.main_v37) = v0 c
          ∧ r.2.mem ((c.tc : Thread Cert.AdamDown1RefIdeal.nD Cert.AdamDown1RefIdeal.τ).loc Cert.AdamDown1RefIdeal.main_v42) = v1 c
          ∧ r.2.mem ((c.tc : Thread Cert.AdamDown1RefIdeal.nD Cert.AdamDown1RefIdeal.τ).loc Cert.AdamDown1RefIdeal.main_v47) = v2 c
          ∧ r.2.mem ((c.tc : Thread Cert.AdamDown1RefIdeal.nD Cert.AdamDown1RefIdeal.τ).loc Cert.AdamDown1RefIdeal.main_v52) = v3 c
          ∧ r.2.mem ((c.tc : Thread Cert.AdamDown1RefIdeal.nD Cert.AdamDown1RefIdeal.τ).loc Cert.AdamDown1RefIdeal.main_arg0) = m' ((c.tc : Thread Cert.AdamDown1RefIdeal.nD Cert.AdamDown1RefIdeal.τ).loc Cert.AdamDown1RefIdeal.main_arg0)
          ∧ r.2.mem ((c.tc : Thread Cert.AdamDown1RefIdeal.nD Cert.AdamDown1RefIdeal.τ).loc Cert.AdamDown1RefIdeal.main_arg1) = m' ((c.tc : Thread Cert.AdamDown1RefIdeal.nD Cert.AdamDown1RefIdeal.τ).loc Cert.AdamDown1RefIdeal.main_arg1)
          ∧ r.2.mem ((c.tc : Thread Cert.AdamDown1RefIdeal.nD Cert.AdamDown1RefIdeal.τ).loc Cert.AdamDown1RefIdeal.main_arg2) = m' ((c.tc : Thread Cert.AdamDown1RefIdeal.nD Cert.AdamDown1RefIdeal.τ).loc Cert.AdamDown1RefIdeal.main_arg2)
          ∧ r.2.mem ((c.tc : Thread Cert.AdamDown1RefIdeal.nD Cert.AdamDown1RefIdeal.τ).loc Cert.AdamDown1RefIdeal.main_arg3) = m' ((c.tc : Thread Cert.AdamDown1RefIdeal.nD Cert.AdamDown1RefIdeal.τ).loc Cert.AdamDown1RefIdeal.main_arg3)
          ∧ r.2.mem ((c.tc : Thread Cert.AdamDown1RefIdeal.nD Cert.AdamDown1RefIdeal.τ).loc Cert.AdamDown1RefIdeal.main_arg4) = m' ((c.tc : Thread Cert.AdamDown1RefIdeal.nD Cert.AdamDown1RefIdeal.τ).loc Cert.AdamDown1RefIdeal.main_arg4)
          ∧ r.2.mem ((c.tc : Thread Cert.AdamDown1RefIdeal.nD Cert.AdamDown1RefIdeal.τ).loc Cert.AdamDown1RefIdeal.main_arg5) = m' ((c.tc : Thread Cert.AdamDown1RefIdeal.nD Cert.AdamDown1RefIdeal.τ).loc Cert.AdamDown1RefIdeal.main_arg5)
          ∧ r.2.mem ((c.tc : Thread Cert.AdamDown1RefIdeal.nD Cert.AdamDown1RefIdeal.τ).loc Cert.AdamDown1RefIdeal.main_arg6) = m' ((c.tc : Thread Cert.AdamDown1RefIdeal.nD Cert.AdamDown1RefIdeal.τ).loc Cert.AdamDown1RefIdeal.main_arg6)
          ∧ r.2.mem ((c.tc : Thread Cert.AdamDown1RefIdeal.nD Cert.AdamDown1RefIdeal.τ).loc Cert.AdamDown1RefIdeal.main_arg7) = m' ((c.tc : Thread Cert.AdamDown1RefIdeal.nD Cert.AdamDown1RefIdeal.τ).loc Cert.AdamDown1RefIdeal.main_arg7)
          ∧ r.2.mem ((c.tc : Thread Cert.AdamDown1RefIdeal.nD Cert.AdamDown1RefIdeal.τ).loc Cert.AdamDown1RefIdeal.main_arg8) = m' ((c.tc : Thread Cert.AdamDown1RefIdeal.nD Cert.AdamDown1RefIdeal.τ).loc Cert.AdamDown1RefIdeal.main_arg8)
          ∧ r.2.mem ((c.tc : Thread Cert.AdamDown1RefIdeal.nD Cert.AdamDown1RefIdeal.τ).loc Cert.AdamDown1RefIdeal.main_arg9) = m' ((c.tc : Thread Cert.AdamDown1RefIdeal.nD Cert.AdamDown1RefIdeal.τ).loc Cert.AdamDown1RefIdeal.main_arg9))

def preserves_AdamDown2_AdamDown2Ideal : Prop :=
  True

def algebraic_AdamDown2Ideal_AdamDown2RefIdeal [hAdamDown2Ideal : Cert.AdamDown2Ideal.Facts] [hAdamDown2RefIdeal : Cert.AdamDown2RefIdeal.Facts] : Prop :=
  ∀ (m : (ℓ : Loc Cert.AdamDown2Ideal.nD Cert.AdamDown2Ideal.τ Cert.AdamDown2Ideal.sig) → Buf (Elt Ideal) ℓ) (g : Dev Cert.AdamDown2Ideal.nD → PrngReg)
    (m' : (ℓ : Loc Cert.AdamDown2RefIdeal.nD Cert.AdamDown2RefIdeal.τ Cert.AdamDown2RefIdeal.sig) → Buf (Elt Ideal) ℓ) (g' : Dev Cert.AdamDown2RefIdeal.nD → PrngReg), Pre_AdamDown2Ideal m →
    (∀ c : Dev Cert.AdamDown2Ideal.nD,
      m' ((c.tc : Thread Cert.AdamDown2RefIdeal.nD Cert.AdamDown2RefIdeal.τ).loc Cert.AdamDown2RefIdeal.main_arg0) = m ((c.tc : Thread Cert.AdamDown2Ideal.nD Cert.AdamDown2Ideal.τ).loc Cert.AdamDown2Ideal.main_arg0)
      ∧ m' ((c.tc : Thread Cert.AdamDown2RefIdeal.nD Cert.AdamDown2RefIdeal.τ).loc Cert.AdamDown2RefIdeal.main_arg1) = m ((c.tc : Thread Cert.AdamDown2Ideal.nD Cert.AdamDown2Ideal.τ).loc Cert.AdamDown2Ideal.main_arg1)
      ∧ m' ((c.tc : Thread Cert.AdamDown2RefIdeal.nD Cert.AdamDown2RefIdeal.τ).loc Cert.AdamDown2RefIdeal.main_arg2) = m ((c.tc : Thread Cert.AdamDown2Ideal.nD Cert.AdamDown2Ideal.τ).loc Cert.AdamDown2Ideal.main_arg2)
      ∧ m' ((c.tc : Thread Cert.AdamDown2RefIdeal.nD Cert.AdamDown2RefIdeal.τ).loc Cert.AdamDown2RefIdeal.main_arg3) = m ((c.tc : Thread Cert.AdamDown2Ideal.nD Cert.AdamDown2Ideal.τ).loc Cert.AdamDown2Ideal.main_arg3)
      ∧ m' ((c.tc : Thread Cert.AdamDown2RefIdeal.nD Cert.AdamDown2RefIdeal.τ).loc Cert.AdamDown2RefIdeal.main_arg4) = m ((c.tc : Thread Cert.AdamDown2Ideal.nD Cert.AdamDown2Ideal.τ).loc Cert.AdamDown2Ideal.main_arg4)
      ∧ m' ((c.tc : Thread Cert.AdamDown2RefIdeal.nD Cert.AdamDown2RefIdeal.τ).loc Cert.AdamDown2RefIdeal.main_arg5) = m ((c.tc : Thread Cert.AdamDown2Ideal.nD Cert.AdamDown2Ideal.τ).loc Cert.AdamDown2Ideal.main_arg5)
      ∧ m' ((c.tc : Thread Cert.AdamDown2RefIdeal.nD Cert.AdamDown2RefIdeal.τ).loc Cert.AdamDown2RefIdeal.main_arg6) = m ((c.tc : Thread Cert.AdamDown2Ideal.nD Cert.AdamDown2Ideal.τ).loc Cert.AdamDown2Ideal.main_arg6)
      ∧ m' ((c.tc : Thread Cert.AdamDown2RefIdeal.nD Cert.AdamDown2RefIdeal.τ).loc Cert.AdamDown2RefIdeal.main_arg7) = m ((c.tc : Thread Cert.AdamDown2Ideal.nD Cert.AdamDown2Ideal.τ).loc Cert.AdamDown2Ideal.main_arg7)
      ∧ m' ((c.tc : Thread Cert.AdamDown2RefIdeal.nD Cert.AdamDown2RefIdeal.τ).loc Cert.AdamDown2RefIdeal.main_arg8) = m ((c.tc : Thread Cert.AdamDown2Ideal.nD Cert.AdamDown2Ideal.τ).loc Cert.AdamDown2Ideal.main_arg8)
      ∧ m' ((c.tc : Thread Cert.AdamDown2RefIdeal.nD Cert.AdamDown2RefIdeal.τ).loc Cert.AdamDown2RefIdeal.main_arg9) = m ((c.tc : Thread Cert.AdamDown2Ideal.nD Cert.AdamDown2Ideal.τ).loc Cert.AdamDown2Ideal.main_arg9)) →
    ∃ (v0 : (c : Dev Cert.AdamDown2Ideal.nD) → Buf (Elt Ideal) ((c.tc : Thread Cert.AdamDown2Ideal.nD Cert.AdamDown2Ideal.τ).loc Cert.AdamDown2Ideal.main_v0_0)) (v1 : (c : Dev Cert.AdamDown2Ideal.nD) → Buf (Elt Ideal) ((c.tc : Thread Cert.AdamDown2Ideal.nD Cert.AdamDown2Ideal.τ).loc Cert.AdamDown2Ideal.main_v0_1)) (v2 : (c : Dev Cert.AdamDown2Ideal.nD) → Buf (Elt Ideal) ((c.tc : Thread Cert.AdamDown2Ideal.nD Cert.AdamDown2Ideal.τ).loc Cert.AdamDown2Ideal.main_v0_2)) (v3 : (c : Dev Cert.AdamDown2Ideal.nD) → Buf (Elt Ideal) ((c.tc : Thread Cert.AdamDown2Ideal.nD Cert.AdamDown2Ideal.τ).loc Cert.AdamDown2Ideal.main_v0_3)),
      θ_run (Cert.AdamDown2Ideal.defs (F := Ideal)) (onTc (τ := Cert.AdamDown2Ideal.τ) (Cert.AdamDown2Ideal.main (F := Ideal))) ⟨m, fun _ => 0, g⟩ (fun r => ∀ c : Dev Cert.AdamDown2Ideal.nD,
          r.2.mem ((c.tc : Thread Cert.AdamDown2Ideal.nD Cert.AdamDown2Ideal.τ).loc Cert.AdamDown2Ideal.main_v0_0) = v0 c
          ∧ r.2.mem ((c.tc : Thread Cert.AdamDown2Ideal.nD Cert.AdamDown2Ideal.τ).loc Cert.AdamDown2Ideal.main_v0_1) = v1 c
          ∧ r.2.mem ((c.tc : Thread Cert.AdamDown2Ideal.nD Cert.AdamDown2Ideal.τ).loc Cert.AdamDown2Ideal.main_v0_2) = v2 c
          ∧ r.2.mem ((c.tc : Thread Cert.AdamDown2Ideal.nD Cert.AdamDown2Ideal.τ).loc Cert.AdamDown2Ideal.main_v0_3) = v3 c
          ∧ r.2.mem ((c.tc : Thread Cert.AdamDown2Ideal.nD Cert.AdamDown2Ideal.τ).loc Cert.AdamDown2Ideal.main_arg0) = m ((c.tc : Thread Cert.AdamDown2Ideal.nD Cert.AdamDown2Ideal.τ).loc Cert.AdamDown2Ideal.main_arg0)
          ∧ r.2.mem ((c.tc : Thread Cert.AdamDown2Ideal.nD Cert.AdamDown2Ideal.τ).loc Cert.AdamDown2Ideal.main_arg1) = m ((c.tc : Thread Cert.AdamDown2Ideal.nD Cert.AdamDown2Ideal.τ).loc Cert.AdamDown2Ideal.main_arg1)
          ∧ r.2.mem ((c.tc : Thread Cert.AdamDown2Ideal.nD Cert.AdamDown2Ideal.τ).loc Cert.AdamDown2Ideal.main_arg2) = m ((c.tc : Thread Cert.AdamDown2Ideal.nD Cert.AdamDown2Ideal.τ).loc Cert.AdamDown2Ideal.main_arg2)
          ∧ r.2.mem ((c.tc : Thread Cert.AdamDown2Ideal.nD Cert.AdamDown2Ideal.τ).loc Cert.AdamDown2Ideal.main_arg3) = m ((c.tc : Thread Cert.AdamDown2Ideal.nD Cert.AdamDown2Ideal.τ).loc Cert.AdamDown2Ideal.main_arg3)
          ∧ r.2.mem ((c.tc : Thread Cert.AdamDown2Ideal.nD Cert.AdamDown2Ideal.τ).loc Cert.AdamDown2Ideal.main_arg4) = m ((c.tc : Thread Cert.AdamDown2Ideal.nD Cert.AdamDown2Ideal.τ).loc Cert.AdamDown2Ideal.main_arg4)
          ∧ r.2.mem ((c.tc : Thread Cert.AdamDown2Ideal.nD Cert.AdamDown2Ideal.τ).loc Cert.AdamDown2Ideal.main_arg5) = m ((c.tc : Thread Cert.AdamDown2Ideal.nD Cert.AdamDown2Ideal.τ).loc Cert.AdamDown2Ideal.main_arg5)
          ∧ r.2.mem ((c.tc : Thread Cert.AdamDown2Ideal.nD Cert.AdamDown2Ideal.τ).loc Cert.AdamDown2Ideal.main_arg6) = m ((c.tc : Thread Cert.AdamDown2Ideal.nD Cert.AdamDown2Ideal.τ).loc Cert.AdamDown2Ideal.main_arg6)
          ∧ r.2.mem ((c.tc : Thread Cert.AdamDown2Ideal.nD Cert.AdamDown2Ideal.τ).loc Cert.AdamDown2Ideal.main_arg7) = m ((c.tc : Thread Cert.AdamDown2Ideal.nD Cert.AdamDown2Ideal.τ).loc Cert.AdamDown2Ideal.main_arg7)
          ∧ r.2.mem ((c.tc : Thread Cert.AdamDown2Ideal.nD Cert.AdamDown2Ideal.τ).loc Cert.AdamDown2Ideal.main_arg8) = m ((c.tc : Thread Cert.AdamDown2Ideal.nD Cert.AdamDown2Ideal.τ).loc Cert.AdamDown2Ideal.main_arg8)
          ∧ r.2.mem ((c.tc : Thread Cert.AdamDown2Ideal.nD Cert.AdamDown2Ideal.τ).loc Cert.AdamDown2Ideal.main_arg9) = m ((c.tc : Thread Cert.AdamDown2Ideal.nD Cert.AdamDown2Ideal.τ).loc Cert.AdamDown2Ideal.main_arg9))
      ∧ θ_run (Cert.AdamDown2RefIdeal.defs (F := Ideal)) (onTc (τ := Cert.AdamDown2RefIdeal.τ) (Cert.AdamDown2RefIdeal.main (F := Ideal))) ⟨m', fun _ => 0, g'⟩ (fun r => ∀ c : Dev Cert.AdamDown2RefIdeal.nD,
          r.2.mem ((c.tc : Thread Cert.AdamDown2RefIdeal.nD Cert.AdamDown2RefIdeal.τ).loc Cert.AdamDown2RefIdeal.main_v37) = v0 c
          ∧ r.2.mem ((c.tc : Thread Cert.AdamDown2RefIdeal.nD Cert.AdamDown2RefIdeal.τ).loc Cert.AdamDown2RefIdeal.main_v42) = v1 c
          ∧ r.2.mem ((c.tc : Thread Cert.AdamDown2RefIdeal.nD Cert.AdamDown2RefIdeal.τ).loc Cert.AdamDown2RefIdeal.main_v47) = v2 c
          ∧ r.2.mem ((c.tc : Thread Cert.AdamDown2RefIdeal.nD Cert.AdamDown2RefIdeal.τ).loc Cert.AdamDown2RefIdeal.main_v52) = v3 c
          ∧ r.2.mem ((c.tc : Thread Cert.AdamDown2RefIdeal.nD Cert.AdamDown2RefIdeal.τ).loc Cert.AdamDown2RefIdeal.main_arg0) = m' ((c.tc : Thread Cert.AdamDown2RefIdeal.nD Cert.AdamDown2RefIdeal.τ).loc Cert.AdamDown2RefIdeal.main_arg0)
          ∧ r.2.mem ((c.tc : Thread Cert.AdamDown2RefIdeal.nD Cert.AdamDown2RefIdeal.τ).loc Cert.AdamDown2RefIdeal.main_arg1) = m' ((c.tc : Thread Cert.AdamDown2RefIdeal.nD Cert.AdamDown2RefIdeal.τ).loc Cert.AdamDown2RefIdeal.main_arg1)
          ∧ r.2.mem ((c.tc : Thread Cert.AdamDown2RefIdeal.nD Cert.AdamDown2RefIdeal.τ).loc Cert.AdamDown2RefIdeal.main_arg2) = m' ((c.tc : Thread Cert.AdamDown2RefIdeal.nD Cert.AdamDown2RefIdeal.τ).loc Cert.AdamDown2RefIdeal.main_arg2)
          ∧ r.2.mem ((c.tc : Thread Cert.AdamDown2RefIdeal.nD Cert.AdamDown2RefIdeal.τ).loc Cert.AdamDown2RefIdeal.main_arg3) = m' ((c.tc : Thread Cert.AdamDown2RefIdeal.nD Cert.AdamDown2RefIdeal.τ).loc Cert.AdamDown2RefIdeal.main_arg3)
          ∧ r.2.mem ((c.tc : Thread Cert.AdamDown2RefIdeal.nD Cert.AdamDown2RefIdeal.τ).loc Cert.AdamDown2RefIdeal.main_arg4) = m' ((c.tc : Thread Cert.AdamDown2RefIdeal.nD Cert.AdamDown2RefIdeal.τ).loc Cert.AdamDown2RefIdeal.main_arg4)
          ∧ r.2.mem ((c.tc : Thread Cert.AdamDown2RefIdeal.nD Cert.AdamDown2RefIdeal.τ).loc Cert.AdamDown2RefIdeal.main_arg5) = m' ((c.tc : Thread Cert.AdamDown2RefIdeal.nD Cert.AdamDown2RefIdeal.τ).loc Cert.AdamDown2RefIdeal.main_arg5)
          ∧ r.2.mem ((c.tc : Thread Cert.AdamDown2RefIdeal.nD Cert.AdamDown2RefIdeal.τ).loc Cert.AdamDown2RefIdeal.main_arg6) = m' ((c.tc : Thread Cert.AdamDown2RefIdeal.nD Cert.AdamDown2RefIdeal.τ).loc Cert.AdamDown2RefIdeal.main_arg6)
          ∧ r.2.mem ((c.tc : Thread Cert.AdamDown2RefIdeal.nD Cert.AdamDown2RefIdeal.τ).loc Cert.AdamDown2RefIdeal.main_arg7) = m' ((c.tc : Thread Cert.AdamDown2RefIdeal.nD Cert.AdamDown2RefIdeal.τ).loc Cert.AdamDown2RefIdeal.main_arg7)
          ∧ r.2.mem ((c.tc : Thread Cert.AdamDown2RefIdeal.nD Cert.AdamDown2RefIdeal.τ).loc Cert.AdamDown2RefIdeal.main_arg8) = m' ((c.tc : Thread Cert.AdamDown2RefIdeal.nD Cert.AdamDown2RefIdeal.τ).loc Cert.AdamDown2RefIdeal.main_arg8)
          ∧ r.2.mem ((c.tc : Thread Cert.AdamDown2RefIdeal.nD Cert.AdamDown2RefIdeal.τ).loc Cert.AdamDown2RefIdeal.main_arg9) = m' ((c.tc : Thread Cert.AdamDown2RefIdeal.nD Cert.AdamDown2RefIdeal.τ).loc Cert.AdamDown2RefIdeal.main_arg9))

def preserves_AdamDown3_AdamDown3Ideal : Prop :=
  True

def algebraic_AdamDown3Ideal_AdamDown3RefIdeal [hAdamDown3Ideal : Cert.AdamDown3Ideal.Facts] [hAdamDown3RefIdeal : Cert.AdamDown3RefIdeal.Facts] : Prop :=
  ∀ (m : (ℓ : Loc Cert.AdamDown3Ideal.nD Cert.AdamDown3Ideal.τ Cert.AdamDown3Ideal.sig) → Buf (Elt Ideal) ℓ) (g : Dev Cert.AdamDown3Ideal.nD → PrngReg)
    (m' : (ℓ : Loc Cert.AdamDown3RefIdeal.nD Cert.AdamDown3RefIdeal.τ Cert.AdamDown3RefIdeal.sig) → Buf (Elt Ideal) ℓ) (g' : Dev Cert.AdamDown3RefIdeal.nD → PrngReg), Pre_AdamDown3Ideal m →
    (∀ c : Dev Cert.AdamDown3Ideal.nD,
      m' ((c.tc : Thread Cert.AdamDown3RefIdeal.nD Cert.AdamDown3RefIdeal.τ).loc Cert.AdamDown3RefIdeal.main_arg0) = m ((c.tc : Thread Cert.AdamDown3Ideal.nD Cert.AdamDown3Ideal.τ).loc Cert.AdamDown3Ideal.main_arg0)
      ∧ m' ((c.tc : Thread Cert.AdamDown3RefIdeal.nD Cert.AdamDown3RefIdeal.τ).loc Cert.AdamDown3RefIdeal.main_arg1) = m ((c.tc : Thread Cert.AdamDown3Ideal.nD Cert.AdamDown3Ideal.τ).loc Cert.AdamDown3Ideal.main_arg1)
      ∧ m' ((c.tc : Thread Cert.AdamDown3RefIdeal.nD Cert.AdamDown3RefIdeal.τ).loc Cert.AdamDown3RefIdeal.main_arg2) = m ((c.tc : Thread Cert.AdamDown3Ideal.nD Cert.AdamDown3Ideal.τ).loc Cert.AdamDown3Ideal.main_arg2)
      ∧ m' ((c.tc : Thread Cert.AdamDown3RefIdeal.nD Cert.AdamDown3RefIdeal.τ).loc Cert.AdamDown3RefIdeal.main_arg3) = m ((c.tc : Thread Cert.AdamDown3Ideal.nD Cert.AdamDown3Ideal.τ).loc Cert.AdamDown3Ideal.main_arg3)
      ∧ m' ((c.tc : Thread Cert.AdamDown3RefIdeal.nD Cert.AdamDown3RefIdeal.τ).loc Cert.AdamDown3RefIdeal.main_arg4) = m ((c.tc : Thread Cert.AdamDown3Ideal.nD Cert.AdamDown3Ideal.τ).loc Cert.AdamDown3Ideal.main_arg4)
      ∧ m' ((c.tc : Thread Cert.AdamDown3RefIdeal.nD Cert.AdamDown3RefIdeal.τ).loc Cert.AdamDown3RefIdeal.main_arg5) = m ((c.tc : Thread Cert.AdamDown3Ideal.nD Cert.AdamDown3Ideal.τ).loc Cert.AdamDown3Ideal.main_arg5)
      ∧ m' ((c.tc : Thread Cert.AdamDown3RefIdeal.nD Cert.AdamDown3RefIdeal.τ).loc Cert.AdamDown3RefIdeal.main_arg6) = m ((c.tc : Thread Cert.AdamDown3Ideal.nD Cert.AdamDown3Ideal.τ).loc Cert.AdamDown3Ideal.main_arg6)
      ∧ m' ((c.tc : Thread Cert.AdamDown3RefIdeal.nD Cert.AdamDown3RefIdeal.τ).loc Cert.AdamDown3RefIdeal.main_arg7) = m ((c.tc : Thread Cert.AdamDown3Ideal.nD Cert.AdamDown3Ideal.τ).loc Cert.AdamDown3Ideal.main_arg7)
      ∧ m' ((c.tc : Thread Cert.AdamDown3RefIdeal.nD Cert.AdamDown3RefIdeal.τ).loc Cert.AdamDown3RefIdeal.main_arg8) = m ((c.tc : Thread Cert.AdamDown3Ideal.nD Cert.AdamDown3Ideal.τ).loc Cert.AdamDown3Ideal.main_arg8)
      ∧ m' ((c.tc : Thread Cert.AdamDown3RefIdeal.nD Cert.AdamDown3RefIdeal.τ).loc Cert.AdamDown3RefIdeal.main_arg9) = m ((c.tc : Thread Cert.AdamDown3Ideal.nD Cert.AdamDown3Ideal.τ).loc Cert.AdamDown3Ideal.main_arg9)) →
    ∃ (v0 : (c : Dev Cert.AdamDown3Ideal.nD) → Buf (Elt Ideal) ((c.tc : Thread Cert.AdamDown3Ideal.nD Cert.AdamDown3Ideal.τ).loc Cert.AdamDown3Ideal.main_v0_0)) (v1 : (c : Dev Cert.AdamDown3Ideal.nD) → Buf (Elt Ideal) ((c.tc : Thread Cert.AdamDown3Ideal.nD Cert.AdamDown3Ideal.τ).loc Cert.AdamDown3Ideal.main_v0_1)) (v2 : (c : Dev Cert.AdamDown3Ideal.nD) → Buf (Elt Ideal) ((c.tc : Thread Cert.AdamDown3Ideal.nD Cert.AdamDown3Ideal.τ).loc Cert.AdamDown3Ideal.main_v0_2)) (v3 : (c : Dev Cert.AdamDown3Ideal.nD) → Buf (Elt Ideal) ((c.tc : Thread Cert.AdamDown3Ideal.nD Cert.AdamDown3Ideal.τ).loc Cert.AdamDown3Ideal.main_v0_3)),
      θ_run (Cert.AdamDown3Ideal.defs (F := Ideal)) (onTc (τ := Cert.AdamDown3Ideal.τ) (Cert.AdamDown3Ideal.main (F := Ideal))) ⟨m, fun _ => 0, g⟩ (fun r => ∀ c : Dev Cert.AdamDown3Ideal.nD,
          r.2.mem ((c.tc : Thread Cert.AdamDown3Ideal.nD Cert.AdamDown3Ideal.τ).loc Cert.AdamDown3Ideal.main_v0_0) = v0 c
          ∧ r.2.mem ((c.tc : Thread Cert.AdamDown3Ideal.nD Cert.AdamDown3Ideal.τ).loc Cert.AdamDown3Ideal.main_v0_1) = v1 c
          ∧ r.2.mem ((c.tc : Thread Cert.AdamDown3Ideal.nD Cert.AdamDown3Ideal.τ).loc Cert.AdamDown3Ideal.main_v0_2) = v2 c
          ∧ r.2.mem ((c.tc : Thread Cert.AdamDown3Ideal.nD Cert.AdamDown3Ideal.τ).loc Cert.AdamDown3Ideal.main_v0_3) = v3 c
          ∧ r.2.mem ((c.tc : Thread Cert.AdamDown3Ideal.nD Cert.AdamDown3Ideal.τ).loc Cert.AdamDown3Ideal.main_arg0) = m ((c.tc : Thread Cert.AdamDown3Ideal.nD Cert.AdamDown3Ideal.τ).loc Cert.AdamDown3Ideal.main_arg0)
          ∧ r.2.mem ((c.tc : Thread Cert.AdamDown3Ideal.nD Cert.AdamDown3Ideal.τ).loc Cert.AdamDown3Ideal.main_arg1) = m ((c.tc : Thread Cert.AdamDown3Ideal.nD Cert.AdamDown3Ideal.τ).loc Cert.AdamDown3Ideal.main_arg1)
          ∧ r.2.mem ((c.tc : Thread Cert.AdamDown3Ideal.nD Cert.AdamDown3Ideal.τ).loc Cert.AdamDown3Ideal.main_arg2) = m ((c.tc : Thread Cert.AdamDown3Ideal.nD Cert.AdamDown3Ideal.τ).loc Cert.AdamDown3Ideal.main_arg2)
          ∧ r.2.mem ((c.tc : Thread Cert.AdamDown3Ideal.nD Cert.AdamDown3Ideal.τ).loc Cert.AdamDown3Ideal.main_arg3) = m ((c.tc : Thread Cert.AdamDown3Ideal.nD Cert.AdamDown3Ideal.τ).loc Cert.AdamDown3Ideal.main_arg3)
          ∧ r.2.mem ((c.tc : Thread Cert.AdamDown3Ideal.nD Cert.AdamDown3Ideal.τ).loc Cert.AdamDown3Ideal.main_arg4) = m ((c.tc : Thread Cert.AdamDown3Ideal.nD Cert.AdamDown3Ideal.τ).loc Cert.AdamDown3Ideal.main_arg4)
          ∧ r.2.mem ((c.tc : Thread Cert.AdamDown3Ideal.nD Cert.AdamDown3Ideal.τ).loc Cert.AdamDown3Ideal.main_arg5) = m ((c.tc : Thread Cert.AdamDown3Ideal.nD Cert.AdamDown3Ideal.τ).loc Cert.AdamDown3Ideal.main_arg5)
          ∧ r.2.mem ((c.tc : Thread Cert.AdamDown3Ideal.nD Cert.AdamDown3Ideal.τ).loc Cert.AdamDown3Ideal.main_arg6) = m ((c.tc : Thread Cert.AdamDown3Ideal.nD Cert.AdamDown3Ideal.τ).loc Cert.AdamDown3Ideal.main_arg6)
          ∧ r.2.mem ((c.tc : Thread Cert.AdamDown3Ideal.nD Cert.AdamDown3Ideal.τ).loc Cert.AdamDown3Ideal.main_arg7) = m ((c.tc : Thread Cert.AdamDown3Ideal.nD Cert.AdamDown3Ideal.τ).loc Cert.AdamDown3Ideal.main_arg7)
          ∧ r.2.mem ((c.tc : Thread Cert.AdamDown3Ideal.nD Cert.AdamDown3Ideal.τ).loc Cert.AdamDown3Ideal.main_arg8) = m ((c.tc : Thread Cert.AdamDown3Ideal.nD Cert.AdamDown3Ideal.τ).loc Cert.AdamDown3Ideal.main_arg8)
          ∧ r.2.mem ((c.tc : Thread Cert.AdamDown3Ideal.nD Cert.AdamDown3Ideal.τ).loc Cert.AdamDown3Ideal.main_arg9) = m ((c.tc : Thread Cert.AdamDown3Ideal.nD Cert.AdamDown3Ideal.τ).loc Cert.AdamDown3Ideal.main_arg9))
      ∧ θ_run (Cert.AdamDown3RefIdeal.defs (F := Ideal)) (onTc (τ := Cert.AdamDown3RefIdeal.τ) (Cert.AdamDown3RefIdeal.main (F := Ideal))) ⟨m', fun _ => 0, g'⟩ (fun r => ∀ c : Dev Cert.AdamDown3RefIdeal.nD,
          r.2.mem ((c.tc : Thread Cert.AdamDown3RefIdeal.nD Cert.AdamDown3RefIdeal.τ).loc Cert.AdamDown3RefIdeal.main_v37) = v0 c
          ∧ r.2.mem ((c.tc : Thread Cert.AdamDown3RefIdeal.nD Cert.AdamDown3RefIdeal.τ).loc Cert.AdamDown3RefIdeal.main_v42) = v1 c
          ∧ r.2.mem ((c.tc : Thread Cert.AdamDown3RefIdeal.nD Cert.AdamDown3RefIdeal.τ).loc Cert.AdamDown3RefIdeal.main_v47) = v2 c
          ∧ r.2.mem ((c.tc : Thread Cert.AdamDown3RefIdeal.nD Cert.AdamDown3RefIdeal.τ).loc Cert.AdamDown3RefIdeal.main_v52) = v3 c
          ∧ r.2.mem ((c.tc : Thread Cert.AdamDown3RefIdeal.nD Cert.AdamDown3RefIdeal.τ).loc Cert.AdamDown3RefIdeal.main_arg0) = m' ((c.tc : Thread Cert.AdamDown3RefIdeal.nD Cert.AdamDown3RefIdeal.τ).loc Cert.AdamDown3RefIdeal.main_arg0)
          ∧ r.2.mem ((c.tc : Thread Cert.AdamDown3RefIdeal.nD Cert.AdamDown3RefIdeal.τ).loc Cert.AdamDown3RefIdeal.main_arg1) = m' ((c.tc : Thread Cert.AdamDown3RefIdeal.nD Cert.AdamDown3RefIdeal.τ).loc Cert.AdamDown3RefIdeal.main_arg1)
          ∧ r.2.mem ((c.tc : Thread Cert.AdamDown3RefIdeal.nD Cert.AdamDown3RefIdeal.τ).loc Cert.AdamDown3RefIdeal.main_arg2) = m' ((c.tc : Thread Cert.AdamDown3RefIdeal.nD Cert.AdamDown3RefIdeal.τ).loc Cert.AdamDown3RefIdeal.main_arg2)
          ∧ r.2.mem ((c.tc : Thread Cert.AdamDown3RefIdeal.nD Cert.AdamDown3RefIdeal.τ).loc Cert.AdamDown3RefIdeal.main_arg3) = m' ((c.tc : Thread Cert.AdamDown3RefIdeal.nD Cert.AdamDown3RefIdeal.τ).loc Cert.AdamDown3RefIdeal.main_arg3)
          ∧ r.2.mem ((c.tc : Thread Cert.AdamDown3RefIdeal.nD Cert.AdamDown3RefIdeal.τ).loc Cert.AdamDown3RefIdeal.main_arg4) = m' ((c.tc : Thread Cert.AdamDown3RefIdeal.nD Cert.AdamDown3RefIdeal.τ).loc Cert.AdamDown3RefIdeal.main_arg4)
          ∧ r.2.mem ((c.tc : Thread Cert.AdamDown3RefIdeal.nD Cert.AdamDown3RefIdeal.τ).loc Cert.AdamDown3RefIdeal.main_arg5) = m' ((c.tc : Thread Cert.AdamDown3RefIdeal.nD Cert.AdamDown3RefIdeal.τ).loc Cert.AdamDown3RefIdeal.main_arg5)
          ∧ r.2.mem ((c.tc : Thread Cert.AdamDown3RefIdeal.nD Cert.AdamDown3RefIdeal.τ).loc Cert.AdamDown3RefIdeal.main_arg6) = m' ((c.tc : Thread Cert.AdamDown3RefIdeal.nD Cert.AdamDown3RefIdeal.τ).loc Cert.AdamDown3RefIdeal.main_arg6)
          ∧ r.2.mem ((c.tc : Thread Cert.AdamDown3RefIdeal.nD Cert.AdamDown3RefIdeal.τ).loc Cert.AdamDown3RefIdeal.main_arg7) = m' ((c.tc : Thread Cert.AdamDown3RefIdeal.nD Cert.AdamDown3RefIdeal.τ).loc Cert.AdamDown3RefIdeal.main_arg7)
          ∧ r.2.mem ((c.tc : Thread Cert.AdamDown3RefIdeal.nD Cert.AdamDown3RefIdeal.τ).loc Cert.AdamDown3RefIdeal.main_arg8) = m' ((c.tc : Thread Cert.AdamDown3RefIdeal.nD Cert.AdamDown3RefIdeal.τ).loc Cert.AdamDown3RefIdeal.main_arg8)
          ∧ r.2.mem ((c.tc : Thread Cert.AdamDown3RefIdeal.nD Cert.AdamDown3RefIdeal.τ).loc Cert.AdamDown3RefIdeal.main_arg9) = m' ((c.tc : Thread Cert.AdamDown3RefIdeal.nD Cert.AdamDown3RefIdeal.τ).loc Cert.AdamDown3RefIdeal.main_arg9))

def preserves_LnBwdTop_LnBwdTopIdeal : Prop :=
  True

def algebraic_LnBwdTopIdeal_LnBwdTopRefIdeal [hLnBwdTopIdeal : Cert.LnBwdTopIdeal.Facts] [hLnBwdTopRefIdeal : Cert.LnBwdTopRefIdeal.Facts] : Prop :=
  ∀ (m : (ℓ : Loc Cert.LnBwdTopIdeal.nD Cert.LnBwdTopIdeal.τ Cert.LnBwdTopIdeal.sig) → Buf (Elt Ideal) ℓ) (g : Dev Cert.LnBwdTopIdeal.nD → PrngReg)
    (m' : (ℓ : Loc Cert.LnBwdTopRefIdeal.nD Cert.LnBwdTopRefIdeal.τ Cert.LnBwdTopRefIdeal.sig) → Buf (Elt Ideal) ℓ) (g' : Dev Cert.LnBwdTopRefIdeal.nD → PrngReg), Pre_LnBwdTopIdeal m →
    (∀ c : Dev Cert.LnBwdTopIdeal.nD,
      m' ((c.tc : Thread Cert.LnBwdTopRefIdeal.nD Cert.LnBwdTopRefIdeal.τ).loc Cert.LnBwdTopRefIdeal.main_arg0) = m ((c.tc : Thread Cert.LnBwdTopIdeal.nD Cert.LnBwdTopIdeal.τ).loc Cert.LnBwdTopIdeal.main_arg0)
      ∧ m' ((c.tc : Thread Cert.LnBwdTopRefIdeal.nD Cert.LnBwdTopRefIdeal.τ).loc Cert.LnBwdTopRefIdeal.main_arg1) = m ((c.tc : Thread Cert.LnBwdTopIdeal.nD Cert.LnBwdTopIdeal.τ).loc Cert.LnBwdTopIdeal.main_arg1)
      ∧ m' ((c.tc : Thread Cert.LnBwdTopRefIdeal.nD Cert.LnBwdTopRefIdeal.τ).loc Cert.LnBwdTopRefIdeal.main_arg2) = m ((c.tc : Thread Cert.LnBwdTopIdeal.nD Cert.LnBwdTopIdeal.τ).loc Cert.LnBwdTopIdeal.main_arg2)) →
    ∃ (v0 : (c : Dev Cert.LnBwdTopIdeal.nD) → Buf (Elt Ideal) ((c.tc : Thread Cert.LnBwdTopIdeal.nD Cert.LnBwdTopIdeal.τ).loc Cert.LnBwdTopIdeal.main_v0_2)),
      θ_run (Cert.LnBwdTopIdeal.defs (F := Ideal)) (onTc (τ := Cert.LnBwdTopIdeal.τ) (Cert.LnBwdTopIdeal.main (F := Ideal))) ⟨m, fun _ => 0, g⟩ (fun r => ∀ c : Dev Cert.LnBwdTopIdeal.nD,
          r.2.mem ((c.tc : Thread Cert.LnBwdTopIdeal.nD Cert.LnBwdTopIdeal.τ).loc Cert.LnBwdTopIdeal.main_v0_2) = v0 c
          ∧ r.2.mem ((c.tc : Thread Cert.LnBwdTopIdeal.nD Cert.LnBwdTopIdeal.τ).loc Cert.LnBwdTopIdeal.main_arg0) = m ((c.tc : Thread Cert.LnBwdTopIdeal.nD Cert.LnBwdTopIdeal.τ).loc Cert.LnBwdTopIdeal.main_arg0)
          ∧ r.2.mem ((c.tc : Thread Cert.LnBwdTopIdeal.nD Cert.LnBwdTopIdeal.τ).loc Cert.LnBwdTopIdeal.main_arg1) = m ((c.tc : Thread Cert.LnBwdTopIdeal.nD Cert.LnBwdTopIdeal.τ).loc Cert.LnBwdTopIdeal.main_arg1)
          ∧ r.2.mem ((c.tc : Thread Cert.LnBwdTopIdeal.nD Cert.LnBwdTopIdeal.τ).loc Cert.LnBwdTopIdeal.main_arg2) = m ((c.tc : Thread Cert.LnBwdTopIdeal.nD Cert.LnBwdTopIdeal.τ).loc Cert.LnBwdTopIdeal.main_arg2))
      ∧ θ_run (Cert.LnBwdTopRefIdeal.defs (F := Ideal)) (onTc (τ := Cert.LnBwdTopRefIdeal.τ) (Cert.LnBwdTopRefIdeal.main (F := Ideal))) ⟨m', fun _ => 0, g'⟩ (fun r => ∀ c : Dev Cert.LnBwdTopRefIdeal.nD,
          r.2.mem ((c.tc : Thread Cert.LnBwdTopRefIdeal.nD Cert.LnBwdTopRefIdeal.τ).loc Cert.LnBwdTopRefIdeal.main_v36) = v0 c
          ∧ r.2.mem ((c.tc : Thread Cert.LnBwdTopRefIdeal.nD Cert.LnBwdTopRefIdeal.τ).loc Cert.LnBwdTopRefIdeal.main_arg0) = m' ((c.tc : Thread Cert.LnBwdTopRefIdeal.nD Cert.LnBwdTopRefIdeal.τ).loc Cert.LnBwdTopRefIdeal.main_arg0)
          ∧ r.2.mem ((c.tc : Thread Cert.LnBwdTopRefIdeal.nD Cert.LnBwdTopRefIdeal.τ).loc Cert.LnBwdTopRefIdeal.main_arg1) = m' ((c.tc : Thread Cert.LnBwdTopRefIdeal.nD Cert.LnBwdTopRefIdeal.τ).loc Cert.LnBwdTopRefIdeal.main_arg1)
          ∧ r.2.mem ((c.tc : Thread Cert.LnBwdTopRefIdeal.nD Cert.LnBwdTopRefIdeal.τ).loc Cert.LnBwdTopRefIdeal.main_arg2) = m' ((c.tc : Thread Cert.LnBwdTopRefIdeal.nD Cert.LnBwdTopRefIdeal.τ).loc Cert.LnBwdTopRefIdeal.main_arg2))

def preserves_LnBwdKv_LnBwdKvIdeal : Prop :=
  True

def algebraic_LnBwdKvIdeal_LnBwdKvRefIdeal [hLnBwdKvIdeal : Cert.LnBwdKvIdeal.Facts] [hLnBwdKvRefIdeal : Cert.LnBwdKvRefIdeal.Facts] : Prop :=
  ∀ (m : (ℓ : Loc Cert.LnBwdKvIdeal.nD Cert.LnBwdKvIdeal.τ Cert.LnBwdKvIdeal.sig) → Buf (Elt Ideal) ℓ) (g : Dev Cert.LnBwdKvIdeal.nD → PrngReg)
    (m' : (ℓ : Loc Cert.LnBwdKvRefIdeal.nD Cert.LnBwdKvRefIdeal.τ Cert.LnBwdKvRefIdeal.sig) → Buf (Elt Ideal) ℓ) (g' : Dev Cert.LnBwdKvRefIdeal.nD → PrngReg), Pre_LnBwdKvIdeal m →
    (∀ c : Dev Cert.LnBwdKvIdeal.nD,
      m' ((c.tc : Thread Cert.LnBwdKvRefIdeal.nD Cert.LnBwdKvRefIdeal.τ).loc Cert.LnBwdKvRefIdeal.main_arg0) = m ((c.tc : Thread Cert.LnBwdKvIdeal.nD Cert.LnBwdKvIdeal.τ).loc Cert.LnBwdKvIdeal.main_arg0)
      ∧ m' ((c.tc : Thread Cert.LnBwdKvRefIdeal.nD Cert.LnBwdKvRefIdeal.τ).loc Cert.LnBwdKvRefIdeal.main_arg1) = m ((c.tc : Thread Cert.LnBwdKvIdeal.nD Cert.LnBwdKvIdeal.τ).loc Cert.LnBwdKvIdeal.main_arg1)
      ∧ m' ((c.tc : Thread Cert.LnBwdKvRefIdeal.nD Cert.LnBwdKvRefIdeal.τ).loc Cert.LnBwdKvRefIdeal.main_arg2) = m ((c.tc : Thread Cert.LnBwdKvIdeal.nD Cert.LnBwdKvIdeal.τ).loc Cert.LnBwdKvIdeal.main_arg2)
      ∧ m' ((c.tc : Thread Cert.LnBwdKvRefIdeal.nD Cert.LnBwdKvRefIdeal.τ).loc Cert.LnBwdKvRefIdeal.main_arg3) = m ((c.tc : Thread Cert.LnBwdKvIdeal.nD Cert.LnBwdKvIdeal.τ).loc Cert.LnBwdKvIdeal.main_arg3)
      ∧ m' ((c.tc : Thread Cert.LnBwdKvRefIdeal.nD Cert.LnBwdKvRefIdeal.τ).loc Cert.LnBwdKvRefIdeal.main_arg4) = m ((c.tc : Thread Cert.LnBwdKvIdeal.nD Cert.LnBwdKvIdeal.τ).loc Cert.LnBwdKvIdeal.main_arg4)) →
    ∃ (v0 : (c : Dev Cert.LnBwdKvIdeal.nD) → Buf (Elt Ideal) ((c.tc : Thread Cert.LnBwdKvIdeal.nD Cert.LnBwdKvIdeal.τ).loc Cert.LnBwdKvIdeal.main_v0_2)),
      θ_run (Cert.LnBwdKvIdeal.defs (F := Ideal)) (onTc (τ := Cert.LnBwdKvIdeal.τ) (Cert.LnBwdKvIdeal.main (F := Ideal))) ⟨m, fun _ => 0, g⟩ (fun r => ∀ c : Dev Cert.LnBwdKvIdeal.nD,
          r.2.mem ((c.tc : Thread Cert.LnBwdKvIdeal.nD Cert.LnBwdKvIdeal.τ).loc Cert.LnBwdKvIdeal.main_v0_2) = v0 c
          ∧ r.2.mem ((c.tc : Thread Cert.LnBwdKvIdeal.nD Cert.LnBwdKvIdeal.τ).loc Cert.LnBwdKvIdeal.main_arg0) = m ((c.tc : Thread Cert.LnBwdKvIdeal.nD Cert.LnBwdKvIdeal.τ).loc Cert.LnBwdKvIdeal.main_arg0)
          ∧ r.2.mem ((c.tc : Thread Cert.LnBwdKvIdeal.nD Cert.LnBwdKvIdeal.τ).loc Cert.LnBwdKvIdeal.main_arg1) = m ((c.tc : Thread Cert.LnBwdKvIdeal.nD Cert.LnBwdKvIdeal.τ).loc Cert.LnBwdKvIdeal.main_arg1)
          ∧ r.2.mem ((c.tc : Thread Cert.LnBwdKvIdeal.nD Cert.LnBwdKvIdeal.τ).loc Cert.LnBwdKvIdeal.main_arg2) = m ((c.tc : Thread Cert.LnBwdKvIdeal.nD Cert.LnBwdKvIdeal.τ).loc Cert.LnBwdKvIdeal.main_arg2)
          ∧ r.2.mem ((c.tc : Thread Cert.LnBwdKvIdeal.nD Cert.LnBwdKvIdeal.τ).loc Cert.LnBwdKvIdeal.main_arg3) = m ((c.tc : Thread Cert.LnBwdKvIdeal.nD Cert.LnBwdKvIdeal.τ).loc Cert.LnBwdKvIdeal.main_arg3)
          ∧ r.2.mem ((c.tc : Thread Cert.LnBwdKvIdeal.nD Cert.LnBwdKvIdeal.τ).loc Cert.LnBwdKvIdeal.main_arg4) = m ((c.tc : Thread Cert.LnBwdKvIdeal.nD Cert.LnBwdKvIdeal.τ).loc Cert.LnBwdKvIdeal.main_arg4))
      ∧ θ_run (Cert.LnBwdKvRefIdeal.defs (F := Ideal)) (onTc (τ := Cert.LnBwdKvRefIdeal.τ) (Cert.LnBwdKvRefIdeal.main (F := Ideal))) ⟨m', fun _ => 0, g'⟩ (fun r => ∀ c : Dev Cert.LnBwdKvRefIdeal.nD,
          r.2.mem ((c.tc : Thread Cert.LnBwdKvRefIdeal.nD Cert.LnBwdKvRefIdeal.τ).loc Cert.LnBwdKvRefIdeal.main_v39) = v0 c
          ∧ r.2.mem ((c.tc : Thread Cert.LnBwdKvRefIdeal.nD Cert.LnBwdKvRefIdeal.τ).loc Cert.LnBwdKvRefIdeal.main_arg0) = m' ((c.tc : Thread Cert.LnBwdKvRefIdeal.nD Cert.LnBwdKvRefIdeal.τ).loc Cert.LnBwdKvRefIdeal.main_arg0)
          ∧ r.2.mem ((c.tc : Thread Cert.LnBwdKvRefIdeal.nD Cert.LnBwdKvRefIdeal.τ).loc Cert.LnBwdKvRefIdeal.main_arg1) = m' ((c.tc : Thread Cert.LnBwdKvRefIdeal.nD Cert.LnBwdKvRefIdeal.τ).loc Cert.LnBwdKvRefIdeal.main_arg1)
          ∧ r.2.mem ((c.tc : Thread Cert.LnBwdKvRefIdeal.nD Cert.LnBwdKvRefIdeal.τ).loc Cert.LnBwdKvRefIdeal.main_arg2) = m' ((c.tc : Thread Cert.LnBwdKvRefIdeal.nD Cert.LnBwdKvRefIdeal.τ).loc Cert.LnBwdKvRefIdeal.main_arg2)
          ∧ r.2.mem ((c.tc : Thread Cert.LnBwdKvRefIdeal.nD Cert.LnBwdKvRefIdeal.τ).loc Cert.LnBwdKvRefIdeal.main_arg3) = m' ((c.tc : Thread Cert.LnBwdKvRefIdeal.nD Cert.LnBwdKvRefIdeal.τ).loc Cert.LnBwdKvRefIdeal.main_arg3)
          ∧ r.2.mem ((c.tc : Thread Cert.LnBwdKvRefIdeal.nD Cert.LnBwdKvRefIdeal.τ).loc Cert.LnBwdKvRefIdeal.main_arg4) = m' ((c.tc : Thread Cert.LnBwdKvRefIdeal.nD Cert.LnBwdKvRefIdeal.τ).loc Cert.LnBwdKvRefIdeal.main_arg4))

def Claim : Prop :=
  ∃ (hKernel : Cert.Kernel.Facts) (hKernelIdeal : Cert.KernelIdeal.Facts) (hReferenceIdeal : Cert.ReferenceIdeal.Facts) (hGateUpBwd : Cert.GateUpBwd.Facts) (hGateUpBwdIdeal : Cert.GateUpBwdIdeal.Facts) (hGateUpBwdRefIdeal : Cert.GateUpBwdRefIdeal.Facts) (hDownBwd : Cert.DownBwd.Facts) (hDownBwdIdeal : Cert.DownBwdIdeal.Facts) (hDownBwdRefIdeal : Cert.DownBwdRefIdeal.Facts) (hDownDw : Cert.DownDw.Facts) (hDownDwIdeal : Cert.DownDwIdeal.Facts) (hDownDwRefIdeal : Cert.DownDwRefIdeal.Facts) (hGateUpDw : Cert.GateUpDw.Facts) (hGateUpDwIdeal : Cert.GateUpDwIdeal.Facts) (hGateUpDwRefIdeal : Cert.GateUpDwRefIdeal.Facts) (hGateUpProj : Cert.GateUpProj.Facts) (hGateUpProjIdeal : Cert.GateUpProjIdeal.Facts) (hGateUpProjRefIdeal : Cert.GateUpProjRefIdeal.Facts) (hDownProj : Cert.DownProj.Facts) (hDownProjIdeal : Cert.DownProjIdeal.Facts) (hDownProjRefIdeal : Cert.DownProjRefIdeal.Facts) (hKvBwd : Cert.KvBwd.Facts) (hKvBwdIdeal : Cert.KvBwdIdeal.Facts) (hKvBwdRefIdeal : Cert.KvBwdRefIdeal.Facts) (hKvDw : Cert.KvDw.Facts) (hKvDwIdeal : Cert.KvDwIdeal.Facts) (hKvDwRefIdeal : Cert.KvDwRefIdeal.Facts) (hKvProj : Cert.KvProj.Facts) (hKvProjIdeal : Cert.KvProjIdeal.Facts) (hKvProjRefIdeal : Cert.KvProjRefIdeal.Facts) (hQBwd : Cert.QBwd.Facts) (hQBwdIdeal : Cert.QBwdIdeal.Facts) (hQBwdRefIdeal : Cert.QBwdRefIdeal.Facts) (hQDw : Cert.QDw.Facts) (hQDwIdeal : Cert.QDwIdeal.Facts) (hQDwRefIdeal : Cert.QDwRefIdeal.Facts) (hQProj : Cert.QProj.Facts) (hQProjIdeal : Cert.QProjIdeal.Facts) (hQProjRefIdeal : Cert.QProjRefIdeal.Facts) (hOBwd : Cert.OBwd.Facts) (hOBwdIdeal : Cert.OBwdIdeal.Facts) (hOBwdRefIdeal : Cert.OBwdRefIdeal.Facts) (hODw : Cert.ODw.Facts) (hODwIdeal : Cert.ODwIdeal.Facts) (hODwRefIdeal : Cert.ODwRefIdeal.Facts) (hOProj : Cert.OProj.Facts) (hOProjIdeal : Cert.OProjIdeal.Facts) (hOProjRefIdeal : Cert.OProjRefIdeal.Facts) (hLossHead : Cert.LossHead.Facts) (hLossHeadIdeal : Cert.LossHeadIdeal.Facts) (hLossHeadRefIdeal : Cert.LossHeadRefIdeal.Facts) (hLnBwd : Cert.LnBwd.Facts) (hLnBwdIdeal : Cert.LnBwdIdeal.Facts) (hLnBwdRefIdeal : Cert.LnBwdRefIdeal.Facts) (hAdamLn : Cert.AdamLn.Facts) (hAdamLnIdeal : Cert.AdamLnIdeal.Facts) (hAdamLnRefIdeal : Cert.AdamLnRefIdeal.Facts) (hAdamConvB : Cert.AdamConvB.Facts) (hAdamConvBIdeal : Cert.AdamConvBIdeal.Facts) (hAdamConvBRefIdeal : Cert.AdamConvBRefIdeal.Facts) (hAdamKv : Cert.AdamKv.Facts) (hAdamKvIdeal : Cert.AdamKvIdeal.Facts) (hAdamKvRefIdeal : Cert.AdamKvRefIdeal.Facts) (hAdamPoolW : Cert.AdamPoolW.Facts) (hAdamPoolWIdeal : Cert.AdamPoolWIdeal.Facts) (hAdamPoolWRefIdeal : Cert.AdamPoolWRefIdeal.Facts) (hAdamPoolScale : Cert.AdamPoolScale.Facts) (hAdamPoolScaleIdeal : Cert.AdamPoolScaleIdeal.Facts) (hAdamPoolScaleRefIdeal : Cert.AdamPoolScaleRefIdeal.Facts) (hAdamConvW : Cert.AdamConvW.Facts) (hAdamConvWIdeal : Cert.AdamConvWIdeal.Facts) (hAdamConvWRefIdeal : Cert.AdamConvWRefIdeal.Facts) (hAdamQ0 : Cert.AdamQ0.Facts) (hAdamQ0Ideal : Cert.AdamQ0Ideal.Facts) (hAdamQ0RefIdeal : Cert.AdamQ0RefIdeal.Facts) (hAdamQ1 : Cert.AdamQ1.Facts) (hAdamQ1Ideal : Cert.AdamQ1Ideal.Facts) (hAdamQ1RefIdeal : Cert.AdamQ1RefIdeal.Facts) (hAdamO0 : Cert.AdamO0.Facts) (hAdamO0Ideal : Cert.AdamO0Ideal.Facts) (hAdamO0RefIdeal : Cert.AdamO0RefIdeal.Facts) (hAdamO1 : Cert.AdamO1.Facts) (hAdamO1Ideal : Cert.AdamO1Ideal.Facts) (hAdamO1RefIdeal : Cert.AdamO1RefIdeal.Facts) (hAdamGate0 : Cert.AdamGate0.Facts) (hAdamGate0Ideal : Cert.AdamGate0Ideal.Facts) (hAdamGate0RefIdeal : Cert.AdamGate0RefIdeal.Facts) (hAdamGate1 : Cert.AdamGate1.Facts) (hAdamGate1Ideal : Cert.AdamGate1Ideal.Facts) (hAdamGate1RefIdeal : Cert.AdamGate1RefIdeal.Facts) (hAdamGate2 : Cert.AdamGate2.Facts) (hAdamGate2Ideal : Cert.AdamGate2Ideal.Facts) (hAdamGate2RefIdeal : Cert.AdamGate2RefIdeal.Facts) (hAdamGate3 : Cert.AdamGate3.Facts) (hAdamGate3Ideal : Cert.AdamGate3Ideal.Facts) (hAdamGate3RefIdeal : Cert.AdamGate3RefIdeal.Facts) (hAdamDown0 : Cert.AdamDown0.Facts) (hAdamDown0Ideal : Cert.AdamDown0Ideal.Facts) (hAdamDown0RefIdeal : Cert.AdamDown0RefIdeal.Facts) (hAdamDown1 : Cert.AdamDown1.Facts) (hAdamDown1Ideal : Cert.AdamDown1Ideal.Facts) (hAdamDown1RefIdeal : Cert.AdamDown1RefIdeal.Facts) (hAdamDown2 : Cert.AdamDown2.Facts) (hAdamDown2Ideal : Cert.AdamDown2Ideal.Facts) (hAdamDown2RefIdeal : Cert.AdamDown2RefIdeal.Facts) (hAdamDown3 : Cert.AdamDown3.Facts) (hAdamDown3Ideal : Cert.AdamDown3Ideal.Facts) (hAdamDown3RefIdeal : Cert.AdamDown3RefIdeal.Facts) (hLnBwdTop : Cert.LnBwdTop.Facts) (hLnBwdTopIdeal : Cert.LnBwdTopIdeal.Facts) (hLnBwdTopRefIdeal : Cert.LnBwdTopRefIdeal.Facts) (hLnBwdKv : Cert.LnBwdKv.Facts) (hLnBwdKvIdeal : Cert.LnBwdKvIdeal.Facts) (hLnBwdKvRefIdeal : Cert.LnBwdKvRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GateUpBwd (hGateUpBwd := hGateUpBwd)
    ∧ quiescent_GateUpBwdIdeal (hGateUpBwdIdeal := hGateUpBwdIdeal)
    ∧ quiescent_GateUpBwdRefIdeal (hGateUpBwdRefIdeal := hGateUpBwdRefIdeal)
    ∧ quiescent_DownBwd (hDownBwd := hDownBwd)
    ∧ quiescent_DownBwdIdeal (hDownBwdIdeal := hDownBwdIdeal)
    ∧ quiescent_DownBwdRefIdeal (hDownBwdRefIdeal := hDownBwdRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_GateUpDw (hGateUpDw := hGateUpDw)
    ∧ quiescent_GateUpDwIdeal (hGateUpDwIdeal := hGateUpDwIdeal)
    ∧ quiescent_GateUpDwRefIdeal (hGateUpDwRefIdeal := hGateUpDwRefIdeal)
    ∧ quiescent_GateUpProj (hGateUpProj := hGateUpProj)
    ∧ quiescent_GateUpProjIdeal (hGateUpProjIdeal := hGateUpProjIdeal)
    ∧ quiescent_GateUpProjRefIdeal (hGateUpProjRefIdeal := hGateUpProjRefIdeal)
    ∧ quiescent_DownProj (hDownProj := hDownProj)
    ∧ quiescent_DownProjIdeal (hDownProjIdeal := hDownProjIdeal)
    ∧ quiescent_DownProjRefIdeal (hDownProjRefIdeal := hDownProjRefIdeal)
    ∧ quiescent_KvBwd (hKvBwd := hKvBwd)
    ∧ quiescent_KvBwdIdeal (hKvBwdIdeal := hKvBwdIdeal)
    ∧ quiescent_KvBwdRefIdeal (hKvBwdRefIdeal := hKvBwdRefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ quiescent_KvProj (hKvProj := hKvProj)
    ∧ quiescent_KvProjIdeal (hKvProjIdeal := hKvProjIdeal)
    ∧ quiescent_KvProjRefIdeal (hKvProjRefIdeal := hKvProjRefIdeal)
    ∧ quiescent_QBwd (hQBwd := hQBwd)
    ∧ quiescent_QBwdIdeal (hQBwdIdeal := hQBwdIdeal)
    ∧ quiescent_QBwdRefIdeal (hQBwdRefIdeal := hQBwdRefIdeal)
    ∧ quiescent_QDw (hQDw := hQDw)
    ∧ quiescent_QDwIdeal (hQDwIdeal := hQDwIdeal)
    ∧ quiescent_QDwRefIdeal (hQDwRefIdeal := hQDwRefIdeal)
    ∧ quiescent_QProj (hQProj := hQProj)
    ∧ quiescent_QProjIdeal (hQProjIdeal := hQProjIdeal)
    ∧ quiescent_QProjRefIdeal (hQProjRefIdeal := hQProjRefIdeal)
    ∧ quiescent_OBwd (hOBwd := hOBwd)
    ∧ quiescent_OBwdIdeal (hOBwdIdeal := hOBwdIdeal)
    ∧ quiescent_OBwdRefIdeal (hOBwdRefIdeal := hOBwdRefIdeal)
    ∧ quiescent_ODw (hODw := hODw)
    ∧ quiescent_ODwIdeal (hODwIdeal := hODwIdeal)
    ∧ quiescent_ODwRefIdeal (hODwRefIdeal := hODwRefIdeal)
    ∧ quiescent_OProj (hOProj := hOProj)
    ∧ quiescent_OProjIdeal (hOProjIdeal := hOProjIdeal)
    ∧ quiescent_OProjRefIdeal (hOProjRefIdeal := hOProjRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_LnBwd (hLnBwd := hLnBwd)
    ∧ quiescent_LnBwdIdeal (hLnBwdIdeal := hLnBwdIdeal)
    ∧ quiescent_LnBwdRefIdeal (hLnBwdRefIdeal := hLnBwdRefIdeal)
    ∧ quiescent_AdamLn (hAdamLn := hAdamLn)
    ∧ quiescent_AdamLnIdeal (hAdamLnIdeal := hAdamLnIdeal)
    ∧ quiescent_AdamLnRefIdeal (hAdamLnRefIdeal := hAdamLnRefIdeal)
    ∧ quiescent_AdamConvB (hAdamConvB := hAdamConvB)
    ∧ quiescent_AdamConvBIdeal (hAdamConvBIdeal := hAdamConvBIdeal)
    ∧ quiescent_AdamConvBRefIdeal (hAdamConvBRefIdeal := hAdamConvBRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamPoolW (hAdamPoolW := hAdamPoolW)
    ∧ quiescent_AdamPoolWIdeal (hAdamPoolWIdeal := hAdamPoolWIdeal)
    ∧ quiescent_AdamPoolWRefIdeal (hAdamPoolWRefIdeal := hAdamPoolWRefIdeal)
    ∧ quiescent_AdamPoolScale (hAdamPoolScale := hAdamPoolScale)
    ∧ quiescent_AdamPoolScaleIdeal (hAdamPoolScaleIdeal := hAdamPoolScaleIdeal)
    ∧ quiescent_AdamPoolScaleRefIdeal (hAdamPoolScaleRefIdeal := hAdamPoolScaleRefIdeal)
    ∧ quiescent_AdamConvW (hAdamConvW := hAdamConvW)
    ∧ quiescent_AdamConvWIdeal (hAdamConvWIdeal := hAdamConvWIdeal)
    ∧ quiescent_AdamConvWRefIdeal (hAdamConvWRefIdeal := hAdamConvWRefIdeal)
    ∧ quiescent_AdamQ0 (hAdamQ0 := hAdamQ0)
    ∧ quiescent_AdamQ0Ideal (hAdamQ0Ideal := hAdamQ0Ideal)
    ∧ quiescent_AdamQ0RefIdeal (hAdamQ0RefIdeal := hAdamQ0RefIdeal)
    ∧ quiescent_AdamQ1 (hAdamQ1 := hAdamQ1)
    ∧ quiescent_AdamQ1Ideal (hAdamQ1Ideal := hAdamQ1Ideal)
    ∧ quiescent_AdamQ1RefIdeal (hAdamQ1RefIdeal := hAdamQ1RefIdeal)
    ∧ quiescent_AdamO0 (hAdamO0 := hAdamO0)
    ∧ quiescent_AdamO0Ideal (hAdamO0Ideal := hAdamO0Ideal)
    ∧ quiescent_AdamO0RefIdeal (hAdamO0RefIdeal := hAdamO0RefIdeal)
    ∧ quiescent_AdamO1 (hAdamO1 := hAdamO1)
    ∧ quiescent_AdamO1Ideal (hAdamO1Ideal := hAdamO1Ideal)
    ∧ quiescent_AdamO1RefIdeal (hAdamO1RefIdeal := hAdamO1RefIdeal)
    ∧ quiescent_AdamGate0 (hAdamGate0 := hAdamGate0)
    ∧ quiescent_AdamGate0Ideal (hAdamGate0Ideal := hAdamGate0Ideal)
    ∧ quiescent_AdamGate0RefIdeal (hAdamGate0RefIdeal := hAdamGate0RefIdeal)
    ∧ quiescent_AdamGate1 (hAdamGate1 := hAdamGate1)
    ∧ quiescent_AdamGate1Ideal (hAdamGate1Ideal := hAdamGate1Ideal)
    ∧ quiescent_AdamGate1RefIdeal (hAdamGate1RefIdeal := hAdamGate1RefIdeal)
    ∧ quiescent_AdamGate2 (hAdamGate2 := hAdamGate2)
    ∧ quiescent_AdamGate2Ideal (hAdamGate2Ideal := hAdamGate2Ideal)
    ∧ quiescent_AdamGate2RefIdeal (hAdamGate2RefIdeal := hAdamGate2RefIdeal)
    ∧ quiescent_AdamGate3 (hAdamGate3 := hAdamGate3)
    ∧ quiescent_AdamGate3Ideal (hAdamGate3Ideal := hAdamGate3Ideal)
    ∧ quiescent_AdamGate3RefIdeal (hAdamGate3RefIdeal := hAdamGate3RefIdeal)
    ∧ quiescent_AdamDown0 (hAdamDown0 := hAdamDown0)
    ∧ quiescent_AdamDown0Ideal (hAdamDown0Ideal := hAdamDown0Ideal)
    ∧ quiescent_AdamDown0RefIdeal (hAdamDown0RefIdeal := hAdamDown0RefIdeal)
    ∧ quiescent_AdamDown1 (hAdamDown1 := hAdamDown1)
    ∧ quiescent_AdamDown1Ideal (hAdamDown1Ideal := hAdamDown1Ideal)
    ∧ quiescent_AdamDown1RefIdeal (hAdamDown1RefIdeal := hAdamDown1RefIdeal)
    ∧ quiescent_AdamDown2 (hAdamDown2 := hAdamDown2)
    ∧ quiescent_AdamDown2Ideal (hAdamDown2Ideal := hAdamDown2Ideal)
    ∧ quiescent_AdamDown2RefIdeal (hAdamDown2RefIdeal := hAdamDown2RefIdeal)
    ∧ quiescent_AdamDown3 (hAdamDown3 := hAdamDown3)
    ∧ quiescent_AdamDown3Ideal (hAdamDown3Ideal := hAdamDown3Ideal)
    ∧ quiescent_AdamDown3RefIdeal (hAdamDown3RefIdeal := hAdamDown3RefIdeal)
    ∧ quiescent_LnBwdTop (hLnBwdTop := hLnBwdTop)
    ∧ quiescent_LnBwdTopIdeal (hLnBwdTopIdeal := hLnBwdTopIdeal)
    ∧ quiescent_LnBwdTopRefIdeal (hLnBwdTopRefIdeal := hLnBwdTopRefIdeal)
    ∧ quiescent_LnBwdKv (hLnBwdKv := hLnBwdKv)
    ∧ quiescent_LnBwdKvIdeal (hLnBwdKvIdeal := hLnBwdKvIdeal)
    ∧ quiescent_LnBwdKvRefIdeal (hLnBwdKvRefIdeal := hLnBwdKvRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_GateUpBwd_GateUpBwdIdeal
    ∧ algebraic_GateUpBwdIdeal_GateUpBwdRefIdeal (hGateUpBwdIdeal := hGateUpBwdIdeal) (hGateUpBwdRefIdeal := hGateUpBwdRefIdeal)
    ∧ preserves_DownBwd_DownBwdIdeal
    ∧ algebraic_DownBwdIdeal_DownBwdRefIdeal (hDownBwdIdeal := hDownBwdIdeal) (hDownBwdRefIdeal := hDownBwdRefIdeal)
    ∧ preserves_DownDw_DownDwIdeal
    ∧ algebraic_DownDwIdeal_DownDwRefIdeal (hDownDwIdeal := hDownDwIdeal) (hDownDwRefIdeal := hDownDwRefIdeal)
    ∧ preserves_GateUpDw_GateUpDwIdeal
    ∧ algebraic_GateUpDwIdeal_GateUpDwRefIdeal (hGateUpDwIdeal := hGateUpDwIdeal) (hGateUpDwRefIdeal := hGateUpDwRefIdeal)
    ∧ preserves_GateUpProj_GateUpProjIdeal
    ∧ algebraic_GateUpProjIdeal_GateUpProjRefIdeal (hGateUpProjIdeal := hGateUpProjIdeal) (hGateUpProjRefIdeal := hGateUpProjRefIdeal)
    ∧ preserves_DownProj_DownProjIdeal
    ∧ algebraic_DownProjIdeal_DownProjRefIdeal (hDownProjIdeal := hDownProjIdeal) (hDownProjRefIdeal := hDownProjRefIdeal)
    ∧ preserves_KvBwd_KvBwdIdeal
    ∧ algebraic_KvBwdIdeal_KvBwdRefIdeal (hKvBwdIdeal := hKvBwdIdeal) (hKvBwdRefIdeal := hKvBwdRefIdeal)
    ∧ preserves_KvDw_KvDwIdeal
    ∧ algebraic_KvDwIdeal_KvDwRefIdeal (hKvDwIdeal := hKvDwIdeal) (hKvDwRefIdeal := hKvDwRefIdeal)
    ∧ preserves_KvProj_KvProjIdeal
    ∧ algebraic_KvProjIdeal_KvProjRefIdeal (hKvProjIdeal := hKvProjIdeal) (hKvProjRefIdeal := hKvProjRefIdeal)
    ∧ preserves_QBwd_QBwdIdeal
    ∧ algebraic_QBwdIdeal_QBwdRefIdeal (hQBwdIdeal := hQBwdIdeal) (hQBwdRefIdeal := hQBwdRefIdeal)
    ∧ preserves_QDw_QDwIdeal
    ∧ algebraic_QDwIdeal_QDwRefIdeal (hQDwIdeal := hQDwIdeal) (hQDwRefIdeal := hQDwRefIdeal)
    ∧ preserves_QProj_QProjIdeal
    ∧ algebraic_QProjIdeal_QProjRefIdeal (hQProjIdeal := hQProjIdeal) (hQProjRefIdeal := hQProjRefIdeal)
    ∧ preserves_OBwd_OBwdIdeal
    ∧ algebraic_OBwdIdeal_OBwdRefIdeal (hOBwdIdeal := hOBwdIdeal) (hOBwdRefIdeal := hOBwdRefIdeal)
    ∧ preserves_ODw_ODwIdeal
    ∧ algebraic_ODwIdeal_ODwRefIdeal (hODwIdeal := hODwIdeal) (hODwRefIdeal := hODwRefIdeal)
    ∧ preserves_OProj_OProjIdeal
    ∧ algebraic_OProjIdeal_OProjRefIdeal (hOProjIdeal := hOProjIdeal) (hOProjRefIdeal := hOProjRefIdeal)
    ∧ preserves_LossHead_LossHeadIdeal
    ∧ algebraic_LossHeadIdeal_LossHeadRefIdeal (hLossHeadIdeal := hLossHeadIdeal) (hLossHeadRefIdeal := hLossHeadRefIdeal)
    ∧ preserves_LnBwd_LnBwdIdeal
    ∧ algebraic_LnBwdIdeal_LnBwdRefIdeal (hLnBwdIdeal := hLnBwdIdeal) (hLnBwdRefIdeal := hLnBwdRefIdeal)
    ∧ preserves_AdamLn_AdamLnIdeal
    ∧ algebraic_AdamLnIdeal_AdamLnRefIdeal (hAdamLnIdeal := hAdamLnIdeal) (hAdamLnRefIdeal := hAdamLnRefIdeal)
    ∧ preserves_AdamConvB_AdamConvBIdeal
    ∧ algebraic_AdamConvBIdeal_AdamConvBRefIdeal (hAdamConvBIdeal := hAdamConvBIdeal) (hAdamConvBRefIdeal := hAdamConvBRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamPoolW_AdamPoolWIdeal
    ∧ algebraic_AdamPoolWIdeal_AdamPoolWRefIdeal (hAdamPoolWIdeal := hAdamPoolWIdeal) (hAdamPoolWRefIdeal := hAdamPoolWRefIdeal)
    ∧ preserves_AdamPoolScale_AdamPoolScaleIdeal
    ∧ algebraic_AdamPoolScaleIdeal_AdamPoolScaleRefIdeal (hAdamPoolScaleIdeal := hAdamPoolScaleIdeal) (hAdamPoolScaleRefIdeal := hAdamPoolScaleRefIdeal)
    ∧ preserves_AdamConvW_AdamConvWIdeal
    ∧ algebraic_AdamConvWIdeal_AdamConvWRefIdeal (hAdamConvWIdeal := hAdamConvWIdeal) (hAdamConvWRefIdeal := hAdamConvWRefIdeal)
    ∧ preserves_AdamQ0_AdamQ0Ideal
    ∧ algebraic_AdamQ0Ideal_AdamQ0RefIdeal (hAdamQ0Ideal := hAdamQ0Ideal) (hAdamQ0RefIdeal := hAdamQ0RefIdeal)
    ∧ preserves_AdamQ1_AdamQ1Ideal
    ∧ algebraic_AdamQ1Ideal_AdamQ1RefIdeal (hAdamQ1Ideal := hAdamQ1Ideal) (hAdamQ1RefIdeal := hAdamQ1RefIdeal)
    ∧ preserves_AdamO0_AdamO0Ideal
    ∧ algebraic_AdamO0Ideal_AdamO0RefIdeal (hAdamO0Ideal := hAdamO0Ideal) (hAdamO0RefIdeal := hAdamO0RefIdeal)
    ∧ preserves_AdamO1_AdamO1Ideal
    ∧ algebraic_AdamO1Ideal_AdamO1RefIdeal (hAdamO1Ideal := hAdamO1Ideal) (hAdamO1RefIdeal := hAdamO1RefIdeal)
    ∧ preserves_AdamGate0_AdamGate0Ideal
    ∧ algebraic_AdamGate0Ideal_AdamGate0RefIdeal (hAdamGate0Ideal := hAdamGate0Ideal) (hAdamGate0RefIdeal := hAdamGate0RefIdeal)
    ∧ preserves_AdamGate1_AdamGate1Ideal
    ∧ algebraic_AdamGate1Ideal_AdamGate1RefIdeal (hAdamGate1Ideal := hAdamGate1Ideal) (hAdamGate1RefIdeal := hAdamGate1RefIdeal)
    ∧ preserves_AdamGate2_AdamGate2Ideal
    ∧ algebraic_AdamGate2Ideal_AdamGate2RefIdeal (hAdamGate2Ideal := hAdamGate2Ideal) (hAdamGate2RefIdeal := hAdamGate2RefIdeal)
    ∧ preserves_AdamGate3_AdamGate3Ideal
    ∧ algebraic_AdamGate3Ideal_AdamGate3RefIdeal (hAdamGate3Ideal := hAdamGate3Ideal) (hAdamGate3RefIdeal := hAdamGate3RefIdeal)
    ∧ preserves_AdamDown0_AdamDown0Ideal
    ∧ algebraic_AdamDown0Ideal_AdamDown0RefIdeal (hAdamDown0Ideal := hAdamDown0Ideal) (hAdamDown0RefIdeal := hAdamDown0RefIdeal)
    ∧ preserves_AdamDown1_AdamDown1Ideal
    ∧ algebraic_AdamDown1Ideal_AdamDown1RefIdeal (hAdamDown1Ideal := hAdamDown1Ideal) (hAdamDown1RefIdeal := hAdamDown1RefIdeal)
    ∧ preserves_AdamDown2_AdamDown2Ideal
    ∧ algebraic_AdamDown2Ideal_AdamDown2RefIdeal (hAdamDown2Ideal := hAdamDown2Ideal) (hAdamDown2RefIdeal := hAdamDown2RefIdeal)
    ∧ preserves_AdamDown3_AdamDown3Ideal
    ∧ algebraic_AdamDown3Ideal_AdamDown3RefIdeal (hAdamDown3Ideal := hAdamDown3Ideal) (hAdamDown3RefIdeal := hAdamDown3RefIdeal)
    ∧ preserves_LnBwdTop_LnBwdTopIdeal
    ∧ algebraic_LnBwdTopIdeal_LnBwdTopRefIdeal (hLnBwdTopIdeal := hLnBwdTopIdeal) (hLnBwdTopRefIdeal := hLnBwdTopRefIdeal)
    ∧ preserves_LnBwdKv_LnBwdKvIdeal
    ∧ algebraic_LnBwdKvIdeal_LnBwdKvRefIdeal (hLnBwdKvIdeal := hLnBwdKvIdeal) (hLnBwdKvRefIdeal := hLnBwdKvRefIdeal)
-- ==== Pre_finite.lean ====
abbrev S4x2048x1024 : Shape := ⟨3, ![4, 2048, 1024]⟩
abbrev S4x256x256 : Shape := ⟨3, ![4, 256, 256]⟩
abbrev S1x1024 : Shape := ⟨2, ![1, 1024]⟩
abbrev S_ : Shape := ⟨0, ![]⟩

class Facts : Prop where
  bcast_S_S4x2048x1024 : S_.BroadcastsInDim S4x2048x1024 (![] : Fin 0 → Fin S4x2048x1024.rank)
  bcast_S_S4x256x256 : S_.BroadcastsInDim S4x256x256 (![] : Fin 0 → Fin S4x256x256.rank)
  bcast_S_S1x1024 : S_.BroadcastsInDim S1x1024 (![] : Fin 0 → Fin S1x1024.rank)

variable [Facts]

def fn {F : FTy → Type} [FloatOps F] (main_arg0 : FVec F S4x2048x1024 .f32) (main_arg1 : FVec F S4x2048x1024 .f32) (main_arg2 : FVec F S4x256x256 .f32) (main_arg3 : FVec F S1x1024 .f32) : IVec S4x2048x1024 1 × IVec S4x2048x1024 1 × IVec S4x256x256 1 × IVec S1x1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S4x2048x1024 .f32 := Host.absf main_arg1
  let main_cst_0 : FVec F S_ .f32 := constant S_ .f32 0x7F800000#32
  let main_v4 : FVec F S4x2048x1024 .f32 := broadcastInDim S4x2048x1024 ![] bcast_S_S4x2048x1024 main_cst_0
  let main_v5 : IVec S4x2048x1024 1 := cmpf .olt main_v3 main_v4
  let main_v6 : FVec F S4x256x256 .f32 := Host.absf main_arg2
  let main_cst_1 : FVec F S_ .f32 := constant S_ .f32 0x7F800000#32
  let main_v7 : FVec F S4x256x256 .f32 := broadcastInDim S4x256x256 ![] bcast_S_S4x256x256 main_cst_1
  let main_v8 : IVec S4x256x256 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Kernel.lean ====
abbrev S4x2048x1024 : Shape := ⟨3, ![4, 2048, 1024]⟩
abbrev S4x256x256 : Shape := ⟨3, ![4, 256, 256]⟩
abbrev S1x1024 : Shape := ⟨2, ![1, 1024]⟩
abbrev S1x512x1024 : Shape := ⟨3, ![1, 512, 1024]⟩
abbrev S1x16x1024 : Shape := ⟨3, ![1, 16, 1024]⟩
abbrev S528x1024 : Shape := ⟨2, ![528, 1024]⟩
abbrev S512x1024 : Shape := ⟨2, ![512, 1024]⟩
abbrev S16x1024 : Shape := ⟨2, ![16, 1024]⟩
abbrev S48x256 : Shape := ⟨2, ![48, 256]⟩
abbrev S32x256 : Shape := ⟨2, ![32, 256]⟩
abbrev S32x1 : Shape := ⟨2, ![32, 1]⟩
abbrev S528x256 : Shape := ⟨2, ![528, 256]⟩
abbrev S1x256 : Shape := ⟨2, ![1, 256]⟩
abbrev S1x256x256 : Shape := ⟨3, ![1, 256, 256]⟩
abbrev S256x256 : Shape := ⟨2, ![256, 256]⟩
abbrev S512x256 : Shape := ⟨2, ![512, 256]⟩
abbrev S256 : Shape := ⟨1, ![256]⟩
abbrev S48x1 : Shape := ⟨2, ![48, 1]⟩
abbrev S1x32x256 : Shape := ⟨3, ![1, 32, 256]⟩

abbrev nBuf : Space → Nat
  | .hbm => 8
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x256x256, .f32⟩
  | .hbm, ⟨3, _⟩ => ⟨S1x1024, .f32⟩
  | .hbm, ⟨4, _⟩ => ⟨S4x256x256, .bf16⟩
  | .hbm, ⟨5, _⟩ => ⟨S4x2048x1024, .f32⟩
  | .hbm, ⟨6, _⟩ => ⟨S4x256x256, .f32⟩
  | .hbm, ⟨7, _⟩ => ⟨S1x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x16x1024, .f32⟩
  | .local _ .vmem, ⟨7, _⟩ => ⟨S1x16x1024, .f32⟩
  | .local _ .vmem, ⟨8, _⟩ => ⟨S4x256x256, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | .local _ .vmem, ⟨12, _⟩ => ⟨S4x256x256, .f32⟩
  | .local _ .vmem, ⟨13, _⟩ => ⟨S1x1024, .f32⟩
  | .local _ .vmem, ⟨14, _⟩ => ⟨S528x1024, .f32⟩
  | .local _ .vmem, ⟨15, _⟩ => ⟨S512x1024, .bf16⟩
  | .local _ .vmem, ⟨16, _⟩ => ⟨S528x1024, .f32⟩
  | .local _ .vmem, ⟨17, _⟩ => ⟨S528x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_21 : BitVec 32 := 0#32
  let c16_i32 : BitVec 32 := 16#32
  let v32 : BitVec 32 := Scalar.addi c0_i32_21 c16_i32
  let c1_i32 : BitVec 32 := 1#32
  ⟨c0_i32_21, v32, c1_i32⟩
def k0_mult1 (k0_t1 : Fin k0_t1_loop.trips) : BitVec 32 :=
  let c0_i32_21 : BitVec 32 := 0#32
  let c1_i32 : BitVec 32 := 1#32
  let arg15 : BitVec 32 := Scf.iv c0_i32_21 c1_i32 k0_t1
  let c32_i32 : BitVec 32 := 32#32
  let v158 : BitVec 32 := Scalar.muli arg15 c32_i32
  v158
def k0_off1 (k0_t1 : Fin k0_t1_loop.trips) : Fin 2 → Nat :=
  let c0_i32_21 : BitVec 32 := 0#32
  let c1_i32 : BitVec 32 := 1#32
  let arg15 : BitVec 32 := Scf.iv c0_i32_21 c1_i32 k0_t1
  let c32_i32 : BitVec 32 := 32#32
  let v158 : BitVec 32 := Scalar.muli arg15 c32_i32
  let v159 : BitVec 32 := v158
  let v160 : Index := Scalar.indexCast v159
  let c0_142 : Index := 0#32
  ![v160.toNat, 0]
def k0_off2 (k0_t1 : Fin k0_t1_loop.trips) : Fin 2 → Nat :=
  let c0_i32_21 : BitVec 32 := 0#32
  let c1_i32 : BitVec 32 := 1#32
  let arg15 : BitVec 32 := Scf.iv c0_i32_21 c1_i32 k0_t1
  let c32_i32 : BitVec 32 := 32#32
  let v158 : BitVec 32 := Scalar.muli arg15 c32_i32
  let v159 : BitVec 32 := v158
  let v179 : Index := Scalar.indexCast v159
  let c0_145 : Index := 0#32
  ![v179.toNat, 0]
def k0_off3 (k0_t1 : Fin k0_t1_loop.trips) : Fin 2 → Nat :=
  let c0_i32_21 : BitVec 32 := 0#32
  let c1_i32 : BitVec 32 := 1#32
  let arg15 : BitVec 32 := Scf.iv c0_i32_21 c1_i32 k0_t1
  let c32_i32 : BitVec 32 := 32#32
  let v158 : BitVec 32 := Scalar.muli arg15 c32_i32
  let v159 : BitVec 32 := v158
  let v183 : Index := Scalar.indexCast v159
  let c256_146 : Index := 256#32
  ![v183.toNat, 256]
def k0_off4 (k0_t1 : Fin k0_t1_loop.trips) : Fin 2 → Nat :=
  let c0_i32_21 : BitVec 32 := 0#32
  let c1_i32 : BitVec 32 := 1#32
  let arg15 : BitVec 32 := Scf.iv c0_i32_21 c1_i32 k0_t1
  let c32_i32 : BitVec 32 := 32#32
  let v158 : BitVec 32 := Scalar.muli arg15 c32_i32
  let v159 : BitVec 32 := v158
  let v204 : Index := Scalar.indexCast v159
  let c256_150 : Index := 256#32
  ![v204.toNat, 256]
def k0_off5 (k0_t1 : Fin k0_t1_loop.trips) : Fin 2 → Nat :=
  let c0_i32_21 : BitVec 32 := 0#32
  let c1_i32 : BitVec 32 := 1#32
  let arg15 : BitVec 32 := Scf.iv c0_i32_21 c1_i32 k0_t1
  let c32_i32 : BitVec 32 := 32#32
  let v158 : BitVec 32 := Scalar.muli arg15 c32_i32
  let v159 : BitVec 32 := v158
  let v208 : Index := Scalar.indexCast v159
  let c512_151 : Index := 512#32
  ![v208.toNat, 512]
def k0_off6 (k0_t1 : Fin k0_t1_loop.trips) : Fin 2 → Nat :=
  let c0_i32_21 : BitVec 32 := 0#32
  let c1_i32 : BitVec 32 := 1#32
  let arg15 : BitVec 32 := Scf.iv c0_i32_21 c1_i32 k0_t1
  let c32_i32 : BitVec 32 := 32#32
  let v158 : BitVec 32 := Scalar.muli arg15 c32_i32
  let v159 : BitVec 32 := v158
  let v231 : Index := Scalar.indexCast v159
  let c512_156 : Index := 512#32
  ![v231.toNat, 512]
def k0_off7 (k0_t1 : Fin k0_t1_loop.trips) : Fin 2 → Nat :=
  let c0_i32_21 : BitVec 32 := 0#32
  let c1_i32 : BitVec 32 := 1#32
  let arg15 : BitVec 32 := Scf.iv c0_i32_21 c1_i32 k0_t1
  let c32_i32 : BitVec 32 := 32#32
  let v158 : BitVec 32 := Scalar.muli arg15 c32_i32
  let v159 : BitVec 32 := v158
  let v235 : Index := Scalar.indexCast v159
  let c768_157 : Index := 768#32
  ![v235.toNat, 768]
def k0_off8 (k0_t1 : Fin k0_t1_loop.trips) : Fin 2 → Nat :=
  let c0_i32_21 : BitVec 32 := 0#32
  let c1_i32 : BitVec 32 := 1#32
  let arg15 : BitVec 32 := Scf.iv c0_i32_21 c1_i32 k0_t1
  let c32_i32 : BitVec 32 := 32#32
  let v158 : BitVec 32 := Scalar.muli arg15 c32_i32
  let v159 : BitVec 32 := v158
  let v260 : Index := Scalar.indexCast v159
  let c768_164 : Index := 768#32
  ![v260.toNat, 768]
@[reducible] def k0_t2_loop : Scf.Loop 32 :=
  let c0_i32_138 : BitVec 32 := 0#32
  let c16_i32_139 : BitVec 32 := 16#32
  let v157 : BitVec 32 := Scalar.addi c0_i32_138 c16_i32_139
  let c1_i32_140 : BitVec 32 := 1#32
  ⟨c0_i32_138, v157, c1_i32_140⟩
def k0_mult2 (k0_t2 : Fin k0_t2_loop.trips) : BitVec 32 :=
  let c0_i32_138 : BitVec 32 := 0#32
  let c1_i32_140 : BitVec 32 := 1#32
  let arg15 : BitVec 32 := Scf.iv c0_i32_138 c1_i32_140 k0_t2
  let c32_i32 : BitVec 32 := 32#32
  let v158 : BitVec 32 := Scalar.muli arg15 c32_i32
  v158
def k0_off9 (k0_t2 : Fin k0_t2_loop.trips) : Fin 2 → Nat :=
  let c0_i32_138 : BitVec 32 := 0#32
  let c1_i32_140 : BitVec 32 := 1#32
  let arg15 : BitVec 32 := Scf.iv c0_i32_138 c1_i32_140 k0_t2
  let c32_i32 : BitVec 32 := 32#32
  let v158 : BitVec 32 := Scalar.muli arg15 c32_i32
  let v159 : BitVec 32 := v158
  let v160 : Index := Scalar.indexCast v159
  let c0_142 : Index := 0#32
  ![v160.toNat, 0]
def k0_off10 (k0_t2 : Fin k0_t2_loop.trips) : Fin 2 → Nat :=
  let c0_i32_138 : BitVec 32 := 0#32
  let c1_i32_140 : BitVec 32 := 1#32
  let arg15 : BitVec 32 := Scf.iv c0_i32_138 c1_i32_140 k0_t2
  let c32_i32 : BitVec 32 := 32#32
  let v158 : BitVec 32 := Scalar.muli arg15 c32_i32
  let v159 : BitVec 32 := v158
  let v179 : Index := Scalar.indexCast v159
  let c0_145 : Index := 0#32
  ![v179.toNat, 0]
def k0_off11 (k0_t2 : Fin k0_t2_loop.trips) : Fin 3 → Nat :=
  let c0_147 : Index := 0#32
  let c0_i32_138 : BitVec 32 := 0#32
  let c1_i32_140 : BitVec 32 := 1#32
  let arg15 : BitVec 32 := Scf.iv c0_i32_138 c1_i32_140 k0_t2
  let c32_i32 : BitVec 32 := 32#32
  let v158 : BitVec 32 := Scalar.muli arg15 c32_i32
  let v159 : BitVec 32 := v158
  let v184 : Index := Scalar.indexCast v159
  let c0_148 : Index := 0#32
  ![0, v184.toNat, 0]
def k0_off12 (k0_t2 : Fin k0_t2_loop.trips) : Fin 2 → Nat :=
  let c0_i32_138 : BitVec 32 := 0#32
  let c1_i32_140 : BitVec 32 := 1#32
  let arg15 : BitVec 32 := Scf.iv c0_i32_138 c1_i32_140 k0_t2
  let c32_i32 : BitVec 32 := 32#32
  let v158 : BitVec 32 := Scalar.muli arg15 c32_i32
  let v159 : BitVec 32 := v158
  let v188 : Index := Scalar.indexCast v159
  let c256_149 : Index := 256#32
  ![v188.toNat, 256]
def k0_off13 (k0_t2 : Fin k0_t2_loop.trips) : Fin 2 → Nat :=
  let c0_i32_138 : BitVec 32 := 0#32
  let c1_i32_140 : BitVec 32 := 1#32
  let arg15 : BitVec 32 := Scf.iv c0_i32_138 c1_i32_140 k0_t2
  let c32_i32 : BitVec 32 := 32#32
  let v158 : BitVec 32 := Scalar.muli arg15 c32_i32
  let v159 : BitVec 32 := v158
  let v209 : Index := Scalar.indexCast v159
  let c256_153 : Index := 256#32
  ![v209.toNat, 256]
def k0_off14 (k0_t2 : Fin k0_t2_loop.trips) : Fin 3 → Nat :=
  let c0_155 : Index := 0#32
  let c0_i32_138 : BitVec 32 := 0#32
  let c1_i32_140 : BitVec 32 := 1#32
  let arg15 : BitVec 32 := Scf.iv c0_i32_138 c1_i32_140 k0_t2
  let c32_i32 : BitVec 32 := 32#32
  let v158 : BitVec 32 := Scalar.muli arg15 c32_i32
  let v159 : BitVec 32 := v158
  let v214 : Index := Scalar.indexCast v159
  let c256_156 : Index := 256#32
  ![0, v214.toNat, 256]
def k0_off15 (k0_t2 : Fin k0_t2_loop.trips) : Fin 2 → Nat :=
  let c0_i32_138 : BitVec 32 := 0#32
  let c1_i32_140 : BitVec 32 := 1#32
  let arg15 : BitVec 32 := Scf.iv c0_i32_138 c1_i32_140 k0_t2
  let c32_i32 : BitVec 32 := 32#32
  let v158 : BitVec 32 := Scalar.muli arg15 c32_i32
  let v159 : BitVec 32 := v158
  let v218 : Index := Scalar.indexCast v159
  let c512_157 : Index := 512#32
  ![v218.toNat, 512]
def k0_off16 (k0_t2 : Fin k0_t2_loop.trips) : Fin 2 → Nat :=
  let c0_i32_138 : BitVec 32 := 0#32
  let c1_i32_140 : BitVec 32 := 1#32
  let arg15 : BitVec 32 := Scf.iv c0_i32_138 c1_i32_140 k0_t2
  let c32_i32 : BitVec 32 := 32#32
  let v158 : BitVec 32 := Scalar.muli arg15 c32_i32
  let v159 : BitVec 32 := v158
  let v241 : Index := Scalar.indexCast v159
  let c512_162 : Index := 512#32
  ![v241.toNat, 512]
def k0_off17 (k0_t2 : Fin k0_t2_loop.trips) : Fin 3 → Nat :=
  let c0_164 : Index := 0#32
  let c0_i32_138 : BitVec 32 := 0#32
  let c1_i32_140 : BitVec 32 := 1#32
  let arg15 : BitVec 32 := Scf.iv c0_i32_138 c1_i32_140 k0_t2
  let c32_i32 : BitVec 32 := 32#32
  let v158 : BitVec 32 := Scalar.muli arg15 c32_i32
  let v159 : BitVec 32 := v158
  let v246 : Index := Scalar.indexCast v159
  let c512_165 : Index := 512#32
  ![0, v246.toNat, 512]
def k0_off18 (k0_t2 : Fin k0_t2_loop.trips) : Fin 2 → Nat :=
  let c0_i32_138 : BitVec 32 := 0#32
  let c1_i32_140 : BitVec 32 := 1#32
  let arg15 : BitVec 32 := Scf.iv c0_i32_138 c1_i32_140 k0_t2
  let c32_i32 : BitVec 32 := 32#32
  let v158 : BitVec 32 := Scalar.muli arg15 c32_i32
  let v159 : BitVec 32 := v158
  let v250 : Index := Scalar.indexCast v159
  let c768_166 : Index := 768#32
  ![v250.toNat, 768]
def k0_off19 (k0_t2 : Fin k0_t2_loop.trips) : Fin 2 → Nat :=
  let c0_i32_138 : BitVec 32 := 0#32
  let c1_i32_140 : BitVec 32 := 1#32
  let arg15 : BitVec 32 := Scf.iv c0_i32_138 c1_i32_140 k0_t2
  let c32_i32 : BitVec 32 := 32#32
  let v158 : BitVec 32 := Scalar.muli arg15 c32_i32
  let v159 : BitVec 32 := v158
  let v275 : Index := Scalar.indexCast v159
  let c768_173 : Index := 768#32
  ![v275.toNat, 768]
def k0_off20 (k0_t2 : Fin k0_t2_loop.trips) : Fin 3 → Nat :=
  let c0_175 : Index := 0#32
  let c0_i32_138 : BitVec 32 := 0#32
  let c1_i32_140 : BitVec 32 := 1#32
  let arg15 : BitVec 32 := Scf.iv c0_i32_138 c1_i32_140 k0_t2
  let c32_i32 : BitVec 32 := 32#32
  let v158 : BitVec 32 := Scalar.muli arg15 c32_i32
  let v159 : BitVec 32 := v158
  let v280 : Index := Scalar.indexCast v159
  let c768_176 : Index := 768#32
  ![0, v280.toNat, 768]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S4x2048x1024 : Shape := ⟨3, ![4, 2048, 1024]⟩
abbrev S4x256x256 : Shape := ⟨3, ![4, 256, 256]⟩
abbrev S1x1024 : Shape := ⟨2, ![1, 1024]⟩
abbrev S_ : Shape := ⟨0, ![]⟩
abbrev S1024 : Shape := ⟨1, ![1024]⟩
abbrev S4x2048x4x256 : Shape := ⟨4, ![4, 2048, 4, 256]⟩
abbrev S4x1x4x256 : Shape := ⟨4, ![4, 1, 4, 256]⟩
abbrev S4x2049x4x256 : Shape := ⟨4, ![4, 2049, 4, 256]⟩
abbrev S2048 : Shape := ⟨1, ![2048]⟩
abbrev S4x1x1x256 : Shape := ⟨4, ![4, 1, 1, 256]⟩
abbrev S4x1x256 : Shape := ⟨3, ![4, 1, 256]⟩
abbrev S4x2047x1x256 : Shape := ⟨4, ![4, 2047, 1, 256]⟩
abbrev S4x2047x256 : Shape := ⟨3, ![4, 2047, 256]⟩
abbrev S4x2048x256 : Shape := ⟨3, ![4, 2048, 256]⟩
abbrev S1x2048x1 : Shape := ⟨3, ![1, 2048, 1]⟩
abbrev S4x2048x1x256 : Shape := ⟨4, ![4, 2048, 1, 256]⟩
abbrev S4x3x1x256 : Shape := ⟨4, ![4, 3, 1, 256]⟩
abbrev S4x3x256 : Shape := ⟨3, ![4, 3, 256]⟩
abbrev S4x2045x1x256 : Shape := ⟨4, ![4, 2045, 1, 256]⟩
abbrev S4x2045x256 : Shape := ⟨3, ![4, 2045, 256]⟩
abbrev S4x7x1x256 : Shape := ⟨4, ![4, 7, 1, 256]⟩
abbrev S4x7x256 : Shape := ⟨3, ![4, 7, 256]⟩
abbrev S4x2041x1x256 : Shape := ⟨4, ![4, 2041, 1, 256]⟩
abbrev S4x2041x256 : Shape := ⟨3, ![4, 2041, 256]⟩
abbrev S4x15x1x256 : Shape := ⟨4, ![4, 15, 1, 256]⟩
abbrev S4x15x256 : Shape := ⟨3, ![4, 15, 256]⟩
abbrev S4x2033x1x256 : Shape := ⟨4, ![4, 2033, 1, 256]⟩
abbrev S4x2033x256 : Shape := ⟨3, ![4, 2033, 256]⟩
abbrev S4x256x4x2048 : Shape := ⟨4, ![4, 256, 4, 2048]⟩
abbrev S1x1x1024 : Shape := ⟨3, ![1, 1, 1024]⟩
abbrev S4x4x2048x256 : Shape := ⟨4, ![4, 4, 2048, 256]⟩

abbrev nBuf : Space → Nat
  | .hbm => 204
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S4x256x256, .f32⟩
  | 3 => ⟨S1x1024, .f32⟩
  | 4 => ⟨S_, .f32⟩
  | 5 => ⟨S4x2048x1024, .f32⟩
  | 6 => ⟨S4x2048x1024, .f32⟩
  | 7 => ⟨S1024, .f32⟩
  | 8 => ⟨S4x2048x4x256, .f32⟩
  | 9 => ⟨S_, .f32⟩
  | 10 => ⟨S_, .f32⟩
  | 11 => ⟨S4x2048x4x256, .f32⟩
  | 12 => ⟨S4x1x4x256, .f32⟩
  | 13 => ⟨S_, .f32⟩
  | 14 => ⟨S4x1x4x256, .f32⟩
  | 15 => ⟨S4x2049x4x256, .f32⟩
  | 16 => ⟨S_, .f32⟩
  | 17 => ⟨S4x1x4x256, .f32⟩
  | 18 => ⟨S2048, .f32⟩
  | 19 => ⟨S4x1x1x256, .f32⟩
  | 20 => ⟨S4x1x256, .f32⟩
  | 21 => ⟨S_, .f32⟩
  | 22 => ⟨S4x1x256, .f32⟩
  | 23 => ⟨S4x2047x1x256, .f32⟩
  | 24 => ⟨S4x2047x256, .f32⟩
  | 25 => ⟨S4x2048x256, .f32⟩
  | 26 => ⟨S_, .f32⟩
  | 27 => ⟨S4x1x256, .f32⟩
  | 28 => ⟨S_, .f32⟩
  | 29 => ⟨S2048, .f32⟩
  | 30 => ⟨S2048, .f32⟩
  | 31 => ⟨S_, .f32⟩
  | 32 => ⟨S2048, .f32⟩
  | 33 => ⟨S2048, .f32⟩
  | 34 => ⟨S1x2048x1, .f32⟩
  | 35 => ⟨S4x2048x1x256, .f32⟩
  | 36 => ⟨S4x2048x256, .f32⟩
  | 37 => ⟨S4x2048x256, .f32⟩
  | 38 => ⟨S4x2048x256, .f32⟩
  | 39 => ⟨S4x2048x256, .f32⟩
  | 40 => ⟨S4x3x1x256, .f32⟩
  | 41 => ⟨S4x3x256, .f32⟩
  | 42 => ⟨S_, .f32⟩
  | 43 => ⟨S4x3x256, .f32⟩
  | 44 => ⟨S4x2045x1x256, .f32⟩
  | 45 => ⟨S4x2045x256, .f32⟩
  | 46 => ⟨S4x2048x256, .f32⟩
  | 47 => ⟨S_, .f32⟩
  | 48 => ⟨S4x3x256, .f32⟩
  | 49 => ⟨S_, .f32⟩
  | 50 => ⟨S2048, .f32⟩
  | 51 => ⟨S2048, .f32⟩
  | 52 => ⟨S_, .f32⟩
  | 53 => ⟨S2048, .f32⟩
  | 54 => ⟨S2048, .f32⟩
  | 55 => ⟨S1x2048x1, .f32⟩
  | 56 => ⟨S4x2048x1x256, .f32⟩
  | 57 => ⟨S4x2048x256, .f32⟩
  | 58 => ⟨S4x2048x256, .f32⟩
  | 59 => ⟨S4x2048x256, .f32⟩
  | 60 => ⟨S4x2048x256, .f32⟩
  | 61 => ⟨S4x7x1x256, .f32⟩
  | 62 => ⟨S4x7x256, .f32⟩
  | 63 => ⟨S_, .f32⟩
  | 64 => ⟨S4x7x256, .f32⟩
  | 65 => ⟨S4x2041x1x256, .f32⟩
  | 66 => ⟨S4x2041x256, .f32⟩
  | 67 => ⟨S4x2048x256, .f32⟩
  | 68 => ⟨S_, .f32⟩
  | 69 => ⟨S4x7x256, .f32⟩
  | 70 => ⟨S_, .f32⟩
  | 71 => ⟨S2048, .f32⟩
  | 72 => ⟨S2048, .f32⟩
  | 73 => ⟨S_, .f32⟩
  | 74 => ⟨S2048, .f32⟩
  | 75 => ⟨S2048, .f32⟩
  | 76 => ⟨S1x2048x1, .f32⟩
  | 77 => ⟨S4x2048x1x256, .f32⟩
  | 78 => ⟨S4x2048x256, .f32⟩
  | 79 => ⟨S4x2048x256, .f32⟩
  | 80 => ⟨S4x2048x256, .f32⟩
  | 81 => ⟨S4x2048x256, .f32⟩
  | 82 => ⟨S4x15x1x256, .f32⟩
  | 83 => ⟨S4x15x256, .f32⟩
  | 84 => ⟨S_, .f32⟩
  | 85 => ⟨S4x15x256, .f32⟩
  | 86 => ⟨S4x2033x1x256, .f32⟩
  | 87 => ⟨S4x2033x256, .f32⟩
  | 88 => ⟨S4x2048x256, .f32⟩
  | 89 => ⟨S_, .f32⟩
  | 90 => ⟨S4x15x256, .f32⟩
  | 91 => ⟨S_, .f32⟩
  | 92 => ⟨S2048, .f32⟩
  | 93 => ⟨S2048, .f32⟩
  | 94 => ⟨S_, .f32⟩
  | 95 => ⟨S2048, .f32⟩
  | 96 => ⟨S2048, .f32⟩
  | 97 => ⟨S1x2048x1, .f32⟩
  | 98 => ⟨S4x2048x1x256, .f32⟩
  | 99 => ⟨S4x2048x256, .f32⟩
  | 100 => ⟨S4x2048x256, .f32⟩
  | 101 => ⟨S4x2048x256, .f32⟩
  | 102 => ⟨S4x2048x256, .f32⟩
  | 103 => ⟨S4x2048x1x256, .f32⟩
  | 104 => ⟨S4x2048x1x256, .f32⟩
  | 105 => ⟨S4x2048x1x256, .f32⟩
  | 106 => ⟨S4x2048x1x256, .f32⟩
  | 107 => ⟨S4x2048x4x256, .f32⟩
  | 108 => ⟨S4x2048x4x256, .f32⟩
  | 109 => ⟨S4x256x4x2048, .f32⟩
  | 110 => ⟨S4x2048x4x256, .f32⟩
  | 111 => ⟨S4x2048x1024, .f32⟩
  | 112 => ⟨S1x1x1024, .f32⟩
  | 113 => ⟨S4x2048x1024, .f32⟩
  | 114 => ⟨S4x2048x1024, .f32⟩
  | 115 => ⟨S4x2048x1024, .f32⟩
  | 116 => ⟨S4x2048x1024, .f32⟩
  | 117 => ⟨S4x2048x1024, .f32⟩
  | 118 => ⟨S4x2048x1024, .f32⟩
  | 119 => ⟨S_, .f32⟩
  | 120 => ⟨S1024, .f32⟩
  | 121 => ⟨S1x1x1024, .f32⟩
  | 122 => ⟨S4x2048x1024, .f32⟩
  | 123 => ⟨S4x2048x1024, .f32⟩
  | 124 => ⟨S_, .f32⟩
  | 125 => ⟨S1024, .f32⟩
  | 126 => ⟨S4x2048x4x256, .f32⟩
  | 127 => ⟨S4x256x4x2048, .f32⟩
  | _ => ⟨S4x2048x1024, .f32⟩

abbrev hbmTy0_1 (i : Nat) : BufTy := match i % 128 with
  | 0 => ⟨S4x4x2048x256, .f32⟩
  | 1 => ⟨S4x2048x4x256, .f32⟩
  | 2 => ⟨S4x256x256, .f32⟩
  | 3 => ⟨S4x256x256, .f32⟩
  | 4 => ⟨S4x2048x4x256, .f32⟩
  | 5 => ⟨S4x2048x1x256, .f32⟩
  | 6 => ⟨S4x2048x256, .f32⟩
  | 7 => ⟨S4x2048x1x256, .f32⟩
  | 8 => ⟨S4x2048x256, .f32⟩
  | 9 => ⟨S4x2048x1x256, .f32⟩
  | 10 => ⟨S4x2048x256, .f32⟩
  | 11 => ⟨S4x2048x1x256, .f32⟩
  | 12 => ⟨S4x2048x256, .f32⟩
  | 13 => ⟨S4x2048x256, .f32⟩
  | 14 => ⟨S4x2048x256, .f32⟩
  | 15 => ⟨S4x2048x256, .f32⟩
  | 16 => ⟨S4x2048x1x256, .f32⟩
  | 17 => ⟨S_, .f32⟩
  | 18 => ⟨S4x2049x4x256, .f32⟩
  | 19 => ⟨S4x15x256, .f32⟩
  | 20 => ⟨S4x2033x256, .f32⟩
  | 21 => ⟨S4x2033x1x256, .f32⟩
  | 22 => ⟨S_, .f32⟩
  | 23 => ⟨S4x2049x4x256, .f32⟩
  | 24 => ⟨S4x2049x4x256, .f32⟩
  | 25 => ⟨S4x2048x256, .f32⟩
  | 26 => ⟨S4x2048x256, .f32⟩
  | 27 => ⟨S4x2048x256, .f32⟩
  | 28 => ⟨S4x2048x1x256, .f32⟩
  | 29 => ⟨S_, .f32⟩
  | 30 => ⟨S4x2049x4x256, .f32⟩
  | 31 => ⟨S4x2049x4x256, .f32⟩
  | 32 => ⟨S4x7x256, .f32⟩
  | 33 => ⟨S4x2041x256, .f32⟩
  | 34 => ⟨S4x2041x1x256, .f32⟩
  | 35 => ⟨S_, .f32⟩
  | 36 => ⟨S4x2049x4x256, .f32⟩
  | 37 => ⟨S4x2049x4x256, .f32⟩
  | 38 => ⟨S4x2048x256, .f32⟩
  | 39 => ⟨S4x2048x256, .f32⟩
  | 40 => ⟨S4x2048x256, .f32⟩
  | 41 => ⟨S4x2048x1x256, .f32⟩
  | 42 => ⟨S_, .f32⟩
  | 43 => ⟨S4x2049x4x256, .f32⟩
  | 44 => ⟨S4x2049x4x256, .f32⟩
  | 45 => ⟨S4x3x256, .f32⟩
  | 46 => ⟨S4x2045x256, .f32⟩
  | 47 => ⟨S4x2045x1x256, .f32⟩
  | 48 => ⟨S_, .f32⟩
  | 49 => ⟨S4x2049x4x256, .f32⟩
  | 50 => ⟨S4x2049x4x256, .f32⟩
  | 51 => ⟨S4x2048x256, .f32⟩
  | 52 => ⟨S4x2048x256, .f32⟩
  | 53 => ⟨S4x2048x256, .f32⟩
  | 54 => ⟨S4x2048x1x256, .f32⟩
  | 55 => ⟨S_, .f32⟩
  | 56 => ⟨S4x2049x4x256, .f32⟩
  | 57 => ⟨S4x2049x4x256, .f32⟩
  | 58 => ⟨S4x1x256, .f32⟩
  | 59 => ⟨S4x2047x256, .f32⟩
  | 60 => ⟨S4x2047x1x256, .f32⟩
  | 61 => ⟨S_, .f32⟩
  | 62 => ⟨S4x2049x4x256, .f32⟩
  | 63 => ⟨S4x2049x4x256, .f32⟩
  | 64 => ⟨S4x1x4x256, .f32⟩
  | 65 => ⟨S4x2048x4x256, .f32⟩
  | 66 => ⟨S_, .f32⟩
  | 67 => ⟨S_, .f32⟩
  | 68 => ⟨S4x2048x4x256, .f32⟩
  | 69 => ⟨S4x2048x4x256, .f32⟩
  | 70 => ⟨S4x2048x1024, .f32⟩
  | 71 => ⟨S1x1024, .f32⟩
  | 72 => ⟨S_, .f32⟩
  | 73 => ⟨S4x2048x1024, .f32⟩
  | 74 => ⟨S4x2048x1024, .f32⟩
  | 75 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_call0_cst : Ref sig .tc := ⟨.hbm, 9, rfl⟩
abbrev main_call0_call0_v0 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_cst_13 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_cst_16 : Ref sig .tc := ⟨.hbm, 91, rfl⟩
abbrev main_v68 : Ref sig .tc := ⟨.hbm, 92, rfl⟩
abbrev main_v69 : Ref sig .tc := ⟨.hbm, 93, rfl⟩
abbrev main_cst_17 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_18 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_19 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_cst_20 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_cst_21 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_cst_22 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_cst_23 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_cst_24 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_cst_25 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_cst_26 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_cst_27 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_call1_call0_cst : Ref sig .tc := ⟨.hbm, 194, rfl⟩
abbrev main_call1_call0_v0 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_cst_28 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩

abbrev nD : Nat := 1
abbrev τ : Topo := Topo.v7x

variable {F : FTy → Type} [FloatOps F]
-- ==== GateUpBwd.lean ====
abbrev S4x8192x704 : Shape := ⟨3, ![4, 8192, 704]⟩
abbrev S4x1024x704 : Shape := ⟨3, ![4, 1024, 704]⟩
abbrev S8192x1024 : Shape := ⟨2, ![8192, 1024]⟩
abbrev S1x2048x704 : Shape := ⟨3, ![1, 2048, 704]⟩
abbrev S1x1024x704 : Shape := ⟨3, ![1, 1024, 704]⟩
abbrev S2048x1024 : Shape := ⟨2, ![2048, 1024]⟩
abbrev S2048x704 : Shape := ⟨2, ![2048, 704]⟩
abbrev S1024x704 : Shape := ⟨2, ![1024, 704]⟩

abbrev nBuf : Space → Nat
  | .hbm => 5
  | .vmem => 10
  | .smem => 0
  | _ => 0

abbrev bufTy : (tb : Table) → Fin (tcTables nBuf tb) → BufTy
  | .hbm, ⟨0, _⟩ => ⟨S4x8192x704, .bf16⟩
  | .hbm, ⟨1, _⟩ => ⟨S4x8192x704, .bf16⟩
  | .hbm, ⟨2, _⟩ => ⟨S4x1024x704, .bf16⟩
  | .hbm, ⟨3, _⟩ => ⟨S4x1024x704, .bf16⟩
  | .hbm, ⟨4, _⟩ => ⟨S8192x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S2048x1024, .f32⟩
  | .local _ .vmem, ⟨9, _⟩ => ⟨S2048x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v11 : BitVec 1 := Scalar.cmpi .eq arg1 c0_i32
  let v12 : BitVec 32 := Scalar.extui v11
  let c0_i32_12 : BitVec 32 := 0#32
  let v13 : BitVec 1 := Scalar.cmpi .ne v12 c0_i32_12
  v13

def k0_cond2 (i : grid0.Coords) : BitVec 1 :=
  let arg1 : BitVec 32 := BitVec.ofNat 32 (i 1).val
  let c0_i32_13 : BitVec 32 := 0#32
  let v14 : BitVec 1 := Scalar.cmpi .sgt arg1 c0_i32_13
  let v15 : BitVec 32 := Scalar.extui v14
  let c0_i32_14 : BitVec 32 := 0#32
  let v16 : BitVec 1 := Scalar.cmpi .ne v15 c0_i32_14
  v16

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== GateUpBwdRefIdeal.lean ====
abbrev S4x8192x704 : Shape := ⟨3, ![4, 8192, 704]⟩
abbrev S4x1024x704 : Shape := ⟨3, ![4, 1024, 704]⟩
abbrev S_ : Shape := ⟨0, ![]⟩
abbrev S8192x1024 : Shape := ⟨2, ![8192, 1024]⟩
abbrev S4x704x8192 : Shape := ⟨3, ![4, 704, 8192]⟩

abbrev nBuf : Space → Nat
  | .hbm => 19
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S4x8192x704, .bf16⟩
  | .hbm, ⟨2, _⟩ => ⟨S4x1024x704, .bf16⟩
  | .hbm, ⟨3, _⟩ => ⟨S4x1024x704, .bf16⟩
  | .hbm, ⟨4, _⟩ => ⟨S_, .f32⟩
  | .hbm, ⟨5, _⟩ => ⟨S8192x1024, .f32⟩
  | .hbm, ⟨6, _⟩ => ⟨S4x1024x704, .f32⟩
  | .hbm, ⟨7, _⟩ => ⟨S4x704x8192, .f32⟩
  | .hbm, ⟨8, _⟩ => ⟨S4x8192x704, .f32⟩
  | .hbm, ⟨9, _⟩ => ⟨S4x1024x704, .f32⟩
  | .hbm, ⟨10, _⟩ => ⟨S4x704x8192, .f32⟩
  | .hbm, ⟨11, _⟩ => ⟨S4x8192x704, .f32⟩
  | .hbm, ⟨12, _⟩ => ⟨S4x8192x704, .f32⟩
  | .hbm, ⟨13, _⟩ => ⟨S4x8192x704, .f32⟩
  | .hbm, ⟨14, _⟩ => ⟨S4x704x8192, .f32⟩
  | .hbm, ⟨15, _⟩ => ⟨S8192x1024, .f32⟩
  | .hbm, ⟨16, _⟩ => ⟨S4x704x8192, .f32⟩
  | .hbm, ⟨17, _⟩ => ⟨S8192x1024, .f32⟩
  | .hbm, ⟨18, _⟩ => ⟨S8192x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== DownBwd.lean ====
abbrev S8192x1024 : Shape := ⟨2, ![8192, 1024]⟩
abbrev S4x704x1024 : Shape := ⟨3, ![4, 704, 1024]⟩
abbrev S4x8192x704 : Shape := ⟨3, ![4, 8192, 704]⟩
abbrev S2048x1024 : Shape := ⟨2, ![2048, 1024]⟩
abbrev S1x704x1024 : Shape := ⟨3, ![1, 704, 1024]⟩
abbrev S1x2048x704 : Shape := ⟨3, ![1, 2048, 704]⟩
abbrev S704x1024 : Shape := ⟨2, ![704, 1024]⟩
abbrev S2048x704 : Shape := ⟨2, ![2048, 704]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x704x1024, .bf16⟩
  | .hbm, ⟨2, _⟩ => ⟨S4x8192x704, .f32⟩
  | .local _ .vmem, ⟨0, _⟩ => ⟨S2048x1024, .bf16⟩
  | .local _ .vmem, ⟨1, _⟩ => ⟨S2048x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x2048x704, .f32⟩
  | .local _ .vmem, ⟨5, _⟩ => ⟨S1x2048x704, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownBwdRefIdeal.lean ====
abbrev S8192x1024 : Shape := ⟨2, ![8192, 1024]⟩
abbrev S4x704x1024 : Shape := ⟨3, ![4, 704, 1024]⟩
abbrev S_ : Shape := ⟨0, ![]⟩
abbrev S4x8192x704 : Shape := ⟨3, ![4, 8192, 704]⟩
abbrev S8192x4x704 : Shape := ⟨3, ![8192, 4, 704]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x704x1024, .bf16⟩
  | .hbm, ⟨2, _⟩ => ⟨S_, .f32⟩
  | .hbm, ⟨3, _⟩ => ⟨S4x8192x704, .f32⟩
  | .hbm, ⟨4, _⟩ => ⟨S4x704x1024, .f32⟩
  | .hbm, ⟨5, _⟩ => ⟨S8192x1024, .f32⟩
  | .hbm, ⟨6, _⟩ => ⟨S8192x1024, .f32⟩
  | .hbm, ⟨7, _⟩ => ⟨S8192x4x704, .f32⟩
  | .hbm, ⟨8, _⟩ => ⟨S4x8192x704, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDw.lean ====
abbrev S4x8192x704 : Shape := ⟨3, ![4, 8192, 704]⟩
abbrev S8192x1024 : Shape := ⟨2, ![8192, 1024]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S4x704x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .f32⟩
  | .local _ .vmem, ⟨5, _⟩ => ⟨S1x704x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownDwRefIdeal.lean ====
abbrev S4x8192x704 : Shape := ⟨3, ![4, 8192, 704]⟩
abbrev S8192x1024 : Shape := ⟨2, ![8192, 1024]⟩
abbrev S_ : Shape := ⟨0, ![]⟩
abbrev S4x704x1024 : Shape := ⟨3, ![4, 704, 1024]⟩
abbrev S1024x4x704 : Shape := ⟨3, ![1024, 4, 704]⟩

abbrev nBuf : Space → Nat
  | .hbm => 9
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S_, .f32⟩
  | .hbm, ⟨3, _⟩ => ⟨S4x704x1024, .f32⟩
  | .hbm, ⟨4, _⟩ => ⟨S4x8192x704, .f32⟩
  | .hbm, ⟨5, _⟩ => ⟨S8192x1024, .f32⟩
  | .hbm, ⟨6, _⟩ => ⟨S8192x1024, .f32⟩
  | .hbm, ⟨7, _⟩ => ⟨S1024x4x704, .f32⟩
  | .hbm, ⟨8, _⟩ => ⟨S4x704x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateUpDw.lean ====
abbrev S8192x1024 : Shape := ⟨2, ![8192, 1024]⟩
abbrev S4x8192x704 : Shape := ⟨3, ![4, 8192, 704]⟩
abbrev S4x1024x704 : Shape := ⟨3, ![4, 1024, 704]⟩
abbrev S2048x1024 : Shape := ⟨2, ![2048, 1024]⟩
abbrev S1x2048x704 : Shape := ⟨3, ![1, 2048, 704]⟩
abbrev S1x1024x704 : Shape := ⟨3, ![1, 1024, 704]⟩
abbrev S2048x704 : Shape := ⟨2, ![2048, 704]⟩
abbrev S1024x704 : Shape := ⟨2, ![1024, 704]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x8192x704, .bf16⟩
  | .hbm, ⟨2, _⟩ => ⟨S4x1024x704, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x1024x704, .f32⟩
  | .local _ .vmem, ⟨5, _⟩ => ⟨S1x1024x704, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GateUpDwRefIdeal.lean ====
abbrev S8192x1024 : Shape := ⟨2, ![8192, 1024]⟩
abbrev S4x8192x704 : Shape := ⟨3, ![4, 8192, 704]⟩
abbrev S_ : Shape := ⟨0, ![]⟩
abbrev S4x1024x704 : Shape := ⟨3, ![4, 1024, 704]⟩
abbrev S4x704x8192 : Shape := ⟨3, ![4, 704, 8192]⟩
abbrev S4x704x1024 : Shape := ⟨3, ![4, 704, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x8192x704, .bf16⟩
  | .hbm, ⟨2, _⟩ => ⟨S_, .f32⟩
  | .hbm, ⟨3, _⟩ => ⟨S4x1024x704, .f32⟩
  | .hbm, ⟨4, _⟩ => ⟨S8192x1024, .f32⟩
  | .hbm, ⟨5, _⟩ => ⟨S4x704x8192, .f32⟩
  | .hbm, ⟨6, _⟩ => ⟨S4x8192x704, .f32⟩
  | .hbm, ⟨7, _⟩ => ⟨S4x8192x704, .f32⟩
  | .hbm, ⟨8, _⟩ => ⟨S4x704x8192, .f32⟩
  | .hbm, ⟨9, _⟩ => ⟨S4x704x1024, .f32⟩
  | .hbm, ⟨10, _⟩ => ⟨S4x1024x704, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GateUpProj.lean ====
abbrev S8192x1024 : Shape := ⟨2, ![8192, 1024]⟩
abbrev S4x1024x704 : Shape := ⟨3, ![4, 1024, 704]⟩
abbrev S4x8192x704 : Shape := ⟨3, ![4, 8192, 704]⟩
abbrev S2048x1024 : Shape := ⟨2, ![2048, 1024]⟩
abbrev S1x1024x704 : Shape := ⟨3, ![1, 1024, 704]⟩
abbrev S1x2048x704 : Shape := ⟨3, ![1, 2048, 704]⟩
abbrev S1024x704 : Shape := ⟨2, ![1024, 704]⟩
abbrev S2048x704 : Shape := ⟨2, ![2048, 704]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x1024x704, .bf16⟩
  | .hbm, ⟨2, _⟩ => ⟨S4x8192x704, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x2048x704, .f32⟩
  | .local _ .vmem, ⟨5, _⟩ => ⟨S1x2048x704, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpProjRefIdeal.lean ====
abbrev S8192x1024 : Shape := ⟨2, ![8192, 1024]⟩
abbrev S4x1024x704 : Shape := ⟨3, ![4, 1024, 704]⟩
abbrev S4x704x8192 : Shape := ⟨3, ![4, 704, 8192]⟩
abbrev S4x8192x704 : Shape := ⟨3, ![4, 8192, 704]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x704, .bf16⟩
  | .hbm, ⟨2, _⟩ => ⟨S8192x1024, .f32⟩
  | .hbm, ⟨3, _⟩ => ⟨S4x1024x704, .f32⟩
  | .hbm, ⟨4, _⟩ => ⟨S4x704x8192, .f32⟩
  | .hbm, ⟨5, _⟩ => ⟨S4x8192x704, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownProj.lean ====
abbrev S4x8192x704 : Shape := ⟨3, ![4, 8192, 704]⟩
abbrev S4x704x1024 : Shape := ⟨3, ![4, 704, 1024]⟩
abbrev S8192x1024 : Shape := ⟨2, ![8192, 1024]⟩
abbrev S1x2048x704 : Shape := ⟨3, ![1, 2048, 704]⟩
abbrev S1x704x1024 : Shape := ⟨3, ![1, 704, 1024]⟩
abbrev S2048x1024 : Shape := ⟨2, ![2048, 1024]⟩
abbrev S2048x704 : Shape := ⟨2, ![2048, 704]⟩
abbrev S704x1024 : Shape := ⟨2, ![704, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x704, .bf16⟩
  | .hbm, ⟨1, _⟩ => ⟨S4x704x1024, .bf16⟩
  | .hbm, ⟨2, _⟩ => ⟨S8192x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S2048x1024, .f32⟩
  | .local _ .vmem, ⟨5, _⟩ => ⟨S2048x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg1 : BitVec 32 := BitVec.ofNat 32 (i 1).val
  let c0_i32_6 : BitVec 32 := 0#32
  let v8 : BitVec 1 := Scalar.cmpi .sgt arg1 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownProjRefIdeal.lean ====
abbrev S4x8192x704 : Shape := ⟨3, ![4, 8192, 704]⟩
abbrev S4x704x1024 : Shape := ⟨3, ![4, 704, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S4x704x1024, .bf16⟩
  | .hbm, ⟨2, _⟩ => ⟨S4x8192x704, .f32⟩
  | .hbm, ⟨3, _⟩ => ⟨S4x704x1024, .f32⟩
  | .hbm, ⟨4, _⟩ => ⟨S8192x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KvBwd.lean ====
abbrev S8192x6144 : Shape := ⟨2, ![8192, 6144]⟩
abbrev S4x1024x1536 : Shape := ⟨3, ![4, 1024, 1536]⟩
abbrev S8192x1024 : Shape := ⟨2, ![8192, 1024]⟩
abbrev S2048x768 : Shape := ⟨2, ![2048, 768]⟩
abbrev S1x1024x768 : Shape := ⟨3, ![1, 1024, 768]⟩
abbrev S2048x1024 : Shape := ⟨2, ![2048, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x6144, .bf16⟩
  | .hbm, ⟨1, _⟩ => ⟨S4x1024x1536, .bf16⟩
  | .hbm, ⟨2, _⟩ => ⟨S8192x1024, .f32⟩
  | .local _ .vmem, ⟨0, _⟩ => ⟨S2048x768, .bf16⟩
  | .local _ .vmem, ⟨1, _⟩ => ⟨S2048x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x1024, .f32⟩
  | .local _ .vmem, ⟨5, _⟩ => ⟨S2048x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== KvBwdRefIdeal.lean ====
abbrev S8192x6144 : Shape := ⟨2, ![8192, 6144]⟩
abbrev S4x1024x1536 : Shape := ⟨3, ![4, 1024, 1536]⟩
abbrev S_ : Shape := ⟨0, ![]⟩
abbrev S8192x1024 : Shape := ⟨2, ![8192, 1024]⟩
abbrev S1024x4x1536 : Shape := ⟨3, ![1024, 4, 1536]⟩
abbrev S1024x6144 : Shape := ⟨2, ![1024, 6144]⟩

abbrev nBuf : Space → Nat
  | .hbm => 10
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S4x1024x1536, .bf16⟩
  | .hbm, ⟨2, _⟩ => ⟨S_, .f32⟩
  | .hbm, ⟨3, _⟩ => ⟨S8192x1024, .f32⟩
  | .hbm, ⟨4, _⟩ => ⟨S4x1024x1536, .f32⟩
  | .hbm, ⟨5, _⟩ => ⟨S1024x4x1536, .f32⟩
  | .hbm, ⟨6, _⟩ => ⟨S1024x6144, .f32⟩
  | .hbm, ⟨7, _⟩ => ⟨S8192x6144, .f32⟩
  | .hbm, ⟨8, _⟩ => ⟨S8192x6144, .f32⟩
  | .hbm, ⟨9, _⟩ => ⟨S8192x1024, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KvDw.lean ====
abbrev S8192x1024 : Shape := ⟨2, ![8192, 1024]⟩
abbrev S8192x6144 : Shape := ⟨2, ![8192, 6144]⟩
abbrev S4x1024x1536 : Shape := ⟨3, ![4, 1024, 1536]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S4x1024x1536, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .f32⟩
  | .local _ .vmem, ⟨5, _⟩ => ⟨S1x1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== KvDwRefIdeal.lean ====
abbrev S8192x1024 : Shape := ⟨2, ![8192, 1024]⟩
abbrev S8192x6144 : Shape := ⟨2, ![8192, 6144]⟩
abbrev S_ : Shape := ⟨0, ![]⟩
abbrev S4x1024x1536 : Shape := ⟨3, ![4, 1024, 1536]⟩
abbrev S1024x4x1536 : Shape := ⟨3, ![1024, 4, 1536]⟩
abbrev S1024x6144 : Shape := ⟨2, ![1024, 6144]⟩
abbrev S6144x1024 : Shape := ⟨2, ![6144, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S_, .f32⟩
  | .hbm, ⟨3, _⟩ => ⟨S4x1024x1536, .f32⟩
  | .hbm, ⟨4, _⟩ => ⟨S8192x1024, .f32⟩
  | .hbm, ⟨5, _⟩ => ⟨S1024x4x1536, .f32⟩
  | .hbm, ⟨6, _⟩ => ⟨S1024x6144, .f32⟩
  | .hbm, ⟨7, _⟩ => ⟨S8192x6144, .f32⟩
  | .hbm, ⟨8, _⟩ => ⟨S8192x6144, .f32⟩
  | .hbm, ⟨9, _⟩ => ⟨S6144x1024, .f32⟩
  | .hbm, ⟨10, _⟩ => ⟨S1024x6144, .f32⟩
  | .hbm, ⟨11, _⟩ => ⟨S1024x4x1536, .f32⟩
  | .hbm, ⟨12, _⟩ => ⟨S4x1024x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== KvProj.lean ====
abbrev S8192x1024 : Shape := ⟨2, ![8192, 1024]⟩
abbrev S4x1024x1536 : Shape := ⟨3, ![4, 1024, 1536]⟩
abbrev S8192x6144 : Shape := ⟨2, ![8192, 6144]⟩
abbrev S2048x1024 : Shape := ⟨2, ![2048, 1024]⟩
abbrev S1x1024x768 : Shape := ⟨3, ![1, 1024, 768]⟩
abbrev S2048x768 : Shape := ⟨2, ![2048, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x1024x1536, .bf16⟩
  | .hbm, ⟨2, _⟩ => ⟨S8192x6144, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x768, .f32⟩
  | .local _ .vmem, ⟨5, _⟩ => ⟨S2048x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvProjRefIdeal.lean ====
abbrev S8192x1024 : Shape := ⟨2, ![8192, 1024]⟩
abbrev S4x1024x1536 : Shape := ⟨3, ![4, 1024, 1536]⟩
abbrev S1024x4x1536 : Shape := ⟨3, ![1024, 4, 1536]⟩
abbrev S1024x6144 : Shape := ⟨2, ![1024, 6144]⟩
abbrev S8192x6144 : Shape := ⟨2, ![8192, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x1536, .bf16⟩
  | .hbm, ⟨2, _⟩ => ⟨S8192x1024, .f32⟩
  | .hbm, ⟨3, _⟩ => ⟨S4x1024x1536, .f32⟩
  | .hbm, ⟨4, _⟩ => ⟨S1024x4x1536, .f32⟩
  | .hbm, ⟨5, _⟩ => ⟨S1024x6144, .f32⟩
  | .hbm, ⟨6, _⟩ => ⟨S8192x6144, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== QBwd.lean ====
abbrev S8192x3072 : Shape := ⟨2, ![8192, 3072]⟩
abbrev S4x1024x768 : Shape := ⟨3, ![4, 1024, 768]⟩
abbrev S8192x1024 : Shape := ⟨2, ![8192, 1024]⟩
abbrev S2048x768 : Shape := ⟨2, ![2048, 768]⟩
abbrev S1x1024x768 : Shape := ⟨3, ![1, 1024, 768]⟩
abbrev S2048x1024 : Shape := ⟨2, ![2048, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x3072, .bf16⟩
  | .hbm, ⟨1, _⟩ => ⟨S4x1024x768, .bf16⟩
  | .hbm, ⟨2, _⟩ => ⟨S8192x1024, .f32⟩
  | .local _ .vmem, ⟨0, _⟩ => ⟨S2048x768, .bf16⟩
  | .local _ .vmem, ⟨1, _⟩ => ⟨S2048x768, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x1024, .f32⟩
  | .local _ .vmem, ⟨5, _⟩ => ⟨S2048x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== QBwdRefIdeal.lean ====
abbrev S8192x3072 : Shape := ⟨2, ![8192, 3072]⟩
abbrev S4x1024x768 : Shape := ⟨3, ![4, 1024, 768]⟩
abbrev S_ : Shape := ⟨0, ![]⟩
abbrev S8192x1024 : Shape := ⟨2, ![8192, 1024]⟩
abbrev S1024x4x768 : Shape := ⟨3, ![1024, 4, 768]⟩
abbrev S1024x3072 : Shape := ⟨2, ![1024, 3072]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S4x1024x768, .bf16⟩
  | .hbm, ⟨2, _⟩ => ⟨S_, .f32⟩
  | .hbm, ⟨3, _⟩ => ⟨S8192x1024, .f32⟩
  | .hbm, ⟨4, _⟩ => ⟨S4x1024x768, .f32⟩
  | .hbm, ⟨5, _⟩ => ⟨S1024x4x768, .f32⟩
  | .hbm, ⟨6, _⟩ => ⟨S1024x3072, .f32⟩
  | .hbm, ⟨7, _⟩ => ⟨S8192x3072, .f32⟩
  | .hbm, ⟨8, _⟩ => ⟨S8192x3072, .f32⟩
  | .hbm, ⟨9, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== QDw.lean ====
abbrev S8192x1024 : Shape := ⟨2, ![8192, 1024]⟩
abbrev S8192x3072 : Shape := ⟨2, ![8192, 3072]⟩
abbrev S4x1024x768 : Shape := ⟨3, ![4, 1024, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S4x1024x768, .f32⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .f32⟩
  | .local _ .vmem, ⟨5, _⟩ => ⟨S1x1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== QDwRefIdeal.lean ====
abbrev S8192x1024 : Shape := ⟨2, ![8192, 1024]⟩
abbrev S8192x3072 : Shape := ⟨2, ![8192, 3072]⟩
abbrev S_ : Shape := ⟨0, ![]⟩
abbrev S4x1024x768 : Shape := ⟨3, ![4, 1024, 768]⟩
abbrev S1024x4x768 : Shape := ⟨3, ![1024, 4, 768]⟩
abbrev S1024x3072 : Shape := ⟨2, ![1024, 3072]⟩
abbrev S3072x1024 : Shape := ⟨2, ![3072, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S4x1024x768, .f32⟩
  | .hbm, ⟨4, _⟩ => ⟨S8192x1024, .f32⟩
  | .hbm, ⟨5, _⟩ => ⟨S1024x4x768, .f32⟩
  | .hbm, ⟨6, _⟩ => ⟨S1024x3072, .f32⟩
  | .hbm, ⟨7, _⟩ => ⟨S8192x3072, .f32⟩
  | .hbm, ⟨8, _⟩ => ⟨S8192x3072, .f32⟩
  | .hbm, ⟨9, _⟩ => ⟨S3072x1024, .f32⟩
  | .hbm, ⟨10, _⟩ => ⟨S1024x3072, .f32⟩
  | .hbm, ⟨11, _⟩ => ⟨S1024x4x768, .f32⟩
  | .hbm, ⟨12, _⟩ => ⟨S4x1024x768, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== QProj.lean ====
abbrev S8192x1024 : Shape := ⟨2, ![8192, 1024]⟩
abbrev S4x1024x768 : Shape := ⟨3, ![4, 1024, 768]⟩
abbrev S8192x3072 : Shape := ⟨2, ![8192, 3072]⟩
abbrev S2048x1024 : Shape := ⟨2, ![2048, 1024]⟩
abbrev S1x1024x768 : Shape := ⟨3, ![1, 1024, 768]⟩
abbrev S2048x768 : Shape := ⟨2, ![2048, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x1024x768, .bf16⟩
  | .hbm, ⟨2, _⟩ => ⟨S8192x3072, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x768, .f32⟩
  | .local _ .vmem, ⟨5, _⟩ => ⟨S2048x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QProjRefIdeal.lean ====
abbrev S8192x1024 : Shape := ⟨2, ![8192, 1024]⟩
abbrev S4x1024x768 : Shape := ⟨3, ![4, 1024, 768]⟩
abbrev S1024x4x768 : Shape := ⟨3, ![1024, 4, 768]⟩
abbrev S1024x3072 : Shape := ⟨2, ![1024, 3072]⟩
abbrev S8192x3072 : Shape := ⟨2, ![8192, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x768, .bf16⟩
  | .hbm, ⟨2, _⟩ => ⟨S8192x1024, .f32⟩
  | .hbm, ⟨3, _⟩ => ⟨S4x1024x768, .f32⟩
  | .hbm, ⟨4, _⟩ => ⟨S1024x4x768, .f32⟩
  | .hbm, ⟨5, _⟩ => ⟨S1024x3072, .f32⟩
  | .hbm, ⟨6, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OBwd.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== OBwdRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ODw.lean ====
abbrev S8192x1024 : Shape := ⟨2, ![8192, 1024]⟩
abbrev S4x256x1024 : Shape := ⟨3, ![4, 256, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S1x256x1024, .f32⟩
  | .local _ .vmem, ⟨5, _⟩ => ⟨S1x256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ODwRefIdeal.lean ====
abbrev S8192x1024 : Shape := ⟨2, ![8192, 1024]⟩
abbrev S_ : Shape := ⟨0, ![]⟩
abbrev S4x256x1024 : Shape := ⟨3, ![4, 256, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S4x256x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S4x256x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OProj.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== OProjRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== LossHead.lean ====
abbrev S8192x1024 : Shape := ⟨2, ![8192, 1024]⟩
abbrev S8x128 : Shape := ⟨2, ![8, 128]⟩
abbrev S1024x1024 : Shape := ⟨2, ![1024, 1024]⟩
abbrev S8x1024 : Shape := ⟨2, ![8, 1024]⟩
abbrev S16x1024 : Shape := ⟨2, ![16, 1024]⟩
abbrev S2x8x1024 : Shape := ⟨3, ![2, 8, 1024]⟩
abbrev S1x8x1024 : Shape := ⟨3, ![1, 8, 1024]⟩
abbrev S1 : Shape := ⟨1, ![1]⟩
abbrev S1x1x1 : Shape := ⟨3, ![1, 1, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | .local _ .vmem, ⟨7, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_1 : BitVec 32 := 0#32
  let c64_i32 : BitVec 32 := 64#32
  let v3 : BitVec 32 := Scalar.addi c0_i32_1 c64_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg6 : BitVec 32 := Scf.iv c0_i32_1 c1_i32 k0_t1
  let c16_i32 : BitVec 32 := 16#32
  let v7 : BitVec 32 := Scalar.muli arg6 c16_i32
  v7
def k0_off1 (k0_t1 : Fin k0_t1_loop.trips) : Fin 2 → Nat :=
  let c0_i32_1 : BitVec 32 := 0#32
  let c1_i32 : BitVec 32 := 1#32
  let arg6 : BitVec 32 := Scf.iv c0_i32_1 c1_i32 k0_t1
  let c16_i32 : BitVec 32 := 16#32
  let v7 : BitVec 32 := Scalar.muli arg6 c16_i32
  let v8 : BitVec 32 := v7
  let v9 : Index := Scalar.indexCast v8
  let c0 : Index := 0#32
  ![v9.toNat, 0]
def k0_cond2 (i : grid0.Coords) : BitVec 1 :=
  let arg0 : BitVec 32 := BitVec.ofNat 32 (i 0).val
  let c7_i32 : BitVec 32 := 7#32
  let v4 : BitVec 1 := Scalar.cmpi .eq arg0 c7_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossHeadRefIdeal.lean ====
abbrev S8192x1024 : Shape := ⟨2, ![8192, 1024]⟩
abbrev S_ : Shape := ⟨0, ![]⟩
abbrev S8192 : Shape := ⟨1, ![8192]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== LnBwd.lean ====
abbrev S8192x1024 : Shape := ⟨2, ![8192, 1024]⟩
abbrev S1x1024 : Shape := ⟨2, ![1, 1024]⟩
abbrev S2x1024 : Shape := ⟨2, ![2, 1024]⟩
abbrev S1024x1024 : Shape := ⟨2, ![1024, 1024]⟩
abbrev S2x8x1024 : Shape := ⟨3, ![2, 8, 1024]⟩
abbrev S16x1024 : Shape := ⟨2, ![16, 1024]⟩
abbrev S16 : Shape := ⟨1, ![16]⟩
abbrev S16x1 : Shape := ⟨2, ![16, 1]⟩
abbrev S1x8x1024 : Shape := ⟨3, ![1, 8, 1024]⟩
abbrev S8x1024 : Shape := ⟨2, ![8, 1024]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S2x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S2x1024, .f32⟩
  | .local _ .vmem, ⟨12, _⟩ => ⟨S2x8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_2 : BitVec 32 := 0#32
  let c64_i32 : BitVec 32 := 64#32
  let v4 : BitVec 32 := Scalar.addi c0_i32_2 c64_i32
  let c1_i32 : BitVec 32 := 1#32
  ⟨c0_i32_2, v4, c1_i32⟩
def k0_mult1 (k0_t1 : Fin k0_t1_loop.trips) : BitVec 32 :=
  let c0_i32_2 : BitVec 32 := 0#32
  let c1_i32 : BitVec 32 := 1#32
  let arg9 : BitVec 32 := Scf.iv c0_i32_2 c1_i32 k0_t1
  let c16_i32 : BitVec 32 := 16#32
  let v8 : BitVec 32 := Scalar.muli arg9 c16_i32
  v8
def k0_off1 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let c16_i32 : BitVec 32 := 16#32
  let v8 : BitVec 32 := Scalar.muli arg9 c16_i32
  let v9 : BitVec 32 := v8
  let v10 : Index := Scalar.indexCast v9
  let c0_5 : Index := 0#32
  ![v10.toNat, 0]
def k0_cond2 (i : grid0.Coords) : BitVec 1 :=
  let arg0 : BitVec 32 := BitVec.ofNat 32 (i 0).val
  let c7_i32 : BitVec 32 := 7#32
  let v5 : BitVec 1 := Scalar.cmpi .eq arg0 c7_i32
  let v6 : BitVec 32 := Scalar.extui v5
  let c0_i32_4 : BitVec 32 := 0#32
  let v7 : BitVec 1 := Scalar.cmpi .ne v6 c0_i32_4
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnBwdRefIdeal.lean ====
abbrev S8192x1024 : Shape := ⟨2, ![8192, 1024]⟩
abbrev S1x1024 : Shape := ⟨2, ![1, 1024]⟩
abbrev S_ : Shape := ⟨0, ![]⟩
abbrev S1024 : Shape := ⟨1, ![1024]⟩
abbrev S8192 : Shape := ⟨1, ![8192]⟩
abbrev S8192x1 : Shape := ⟨2, ![8192, 1]⟩
abbrev S2x1024 : Shape := ⟨2, ![2, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S_, .f32⟩
  | .hbm, ⟨44, _⟩ => ⟨S1024, .f32⟩
  | .hbm, ⟨45, _⟩ => ⟨S8192x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S1x1024, .f32⟩
  | .hbm, ⟨53, _⟩ => ⟨S2x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== AdamLn.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamLnRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConvB.lean ====
abbrev S4x2816 : Shape := ⟨2, ![4, 2816]⟩

abbrev nBuf : Space → Nat
  | .hbm => 7
  | .vmem => 7
  | .smem => 0
  | _ => 0

abbrev bufTy : (tb : Table) → Fin (tcTables nBuf tb) → BufTy
  | .hbm, ⟨0, _⟩ => ⟨S4x2816, .f32⟩
  | .hbm, ⟨1, _⟩ => ⟨S4x2816, .f32⟩
  | .hbm, ⟨2, _⟩ => ⟨S4x2816, .f32⟩
  | .hbm, ⟨3, _⟩ => ⟨S4x2816, .f32⟩
  | .hbm, ⟨4, _⟩ => ⟨S4x2816, .f32⟩
  | .hbm, ⟨5, _⟩ => ⟨S4x2816, .f32⟩
  | .hbm, ⟨6, _⟩ => ⟨S4x2816, .f32⟩
  | .local _ .vmem, ⟨0, _⟩ => ⟨S4x2816, .f32⟩
  | .local _ .vmem, ⟨1, _⟩ => ⟨S4x2816, .f32⟩
  | .local _ .vmem, ⟨2, _⟩ => ⟨S4x2816, .f32⟩
  | .local _ .vmem, ⟨3, _⟩ => ⟨S4x2816, .f32⟩
  | .local _ .vmem, ⟨4, _⟩ => ⟨S4x2816, .f32⟩
  | .local _ .vmem, ⟨5, _⟩ => ⟨S4x2816, .f32⟩
  | .local _ .vmem, ⟨6, _⟩ => ⟨S4x2816, .f32⟩
  | _, _ => ⟨S4x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamConvBRefIdeal.lean ====
abbrev S4x2816 : Shape := ⟨2, ![4, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2816, .f32⟩
  | .hbm, ⟨1, _⟩ => ⟨S4x2816, .f32⟩
  | .hbm, ⟨2, _⟩ => ⟨S4x2816, .f32⟩
  | .hbm, ⟨3, _⟩ => ⟨S4x2816, .f32⟩
  | .hbm, ⟨4, _⟩ => ⟨S_, .f32⟩
  | .hbm, ⟨5, _⟩ => ⟨S4x2816, .f32⟩
  | .hbm, ⟨6, _⟩ => ⟨S4x2816, .f32⟩
  | .hbm, ⟨7, _⟩ => ⟨S_, .f32⟩
  | .hbm, ⟨8, _⟩ => ⟨S4x2816, .f32⟩
  | .hbm, ⟨9, _⟩ => ⟨S4x2816, .f32⟩
  | .hbm, ⟨10, _⟩ => ⟨S4x2816, .f32⟩
  | .hbm, ⟨11, _⟩ => ⟨S_, .f32⟩
  | .hbm, ⟨12, _⟩ => ⟨S4x2816, .f32⟩
  | .hbm, ⟨13, _⟩ => ⟨S4x2816, .f32⟩
  | .hbm, ⟨14, _⟩ => ⟨S4x2816, .f32⟩
  | .hbm, ⟨15, _⟩ => ⟨S_, .f32⟩
  | .hbm, ⟨16, _⟩ => ⟨S4x2816, .f32⟩
  | .hbm, ⟨17, _⟩ => ⟨S4x2816, .f32⟩
  | .hbm, ⟨18, _⟩ => ⟨S4x2816, .f32⟩
  | .hbm, ⟨19, _⟩ => ⟨S_, .f32⟩
  | .hbm, ⟨20, _⟩ => ⟨S4x2816, .f32⟩
  | .hbm, ⟨21, _⟩ => ⟨S4x2816, .f32⟩
  | .hbm, ⟨22, _⟩ => ⟨S_, .f32⟩
  | .hbm, ⟨23, _⟩ => ⟨S4x2816, .f32⟩
  | .hbm, ⟨24, _⟩ => ⟨S4x2816, .f32⟩
  | .hbm, ⟨25, _⟩ => ⟨S4x2816, .f32⟩
  | .hbm, ⟨26, _⟩ => ⟨S_, .f32⟩
  | .hbm, ⟨27, _⟩ => ⟨S4x2816, .f32⟩
  | .hbm, ⟨28, _⟩ => ⟨S4x2816, .f32⟩
  | .hbm, ⟨29, _⟩ => ⟨S4x2816, .f32⟩
  | .hbm, ⟨30, _⟩ => ⟨S_, .f32⟩
  | .hbm, ⟨31, _⟩ => ⟨S4x2816, .f32⟩
  | .hbm, ⟨32, _⟩ => ⟨S4x2816, .f32⟩
  | .hbm, ⟨33, _⟩ => ⟨S4x2816, .f32⟩
  | .hbm, ⟨34, _⟩ => ⟨S_, .f32⟩
  | .hbm, ⟨35, _⟩ => ⟨S4x2816, .f32⟩
  | .hbm, ⟨36, _⟩ => ⟨S4x2816, .f32⟩
  | _, _ => ⟨S4x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKv.lean ====
abbrev S512x1536 : Shape := ⟨2, ![512, 1536]⟩
abbrev S1 : Shape := ⟨1, ![1]⟩
abbrev S1x2x512x1536 : Shape := ⟨4, ![1, 2, 512, 1536]⟩
abbrev S128x1536 : Shape := ⟨2, ![128, 1536]⟩
abbrev S1x1x128x1536 : Shape := ⟨4, ![1, 1, 128, 1536]⟩

abbrev nBuf : Space → Nat
  | .hbm => 9
  | .vmem => 18
  | .smem => 1
  | _ => 0

abbrev bufTy : (tb : Table) → Fin (tcTables nBuf tb) → BufTy
  | .hbm, ⟨0, _⟩ => ⟨S512x1536, .f32⟩
  | .hbm, ⟨1, _⟩ => ⟨S512x1536, .f32⟩
  | .hbm, ⟨2, _⟩ => ⟨S1x2x512x1536, .f32⟩
  | .hbm, ⟨3, _⟩ => ⟨S1x2x512x1536, .f32⟩
  | .hbm, ⟨4, _⟩ => ⟨S1x2x512x1536, .f32⟩
  | .hbm, ⟨5, _⟩ => ⟨S1x2x512x1536, .f32⟩
  | .hbm, ⟨6, _⟩ => ⟨S1x2x512x1536, .f32⟩
  | .hbm, ⟨7, _⟩ => ⟨S1x2x512x1536, .f32⟩
  | .hbm, ⟨8, _⟩ => ⟨S1x2x512x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S1x1x128x1536, .f32⟩
  | .local _ .vmem, ⟨5, _⟩ => ⟨S1x1x128x1536, .f32⟩
  | .local _ .vmem, ⟨6, _⟩ => ⟨S1x1x128x1536, .f32⟩
  | .local _ .vmem, ⟨7, _⟩ => ⟨S1x1x128x1536, .f32⟩
  | .local _ .vmem, ⟨8, _⟩ => ⟨S1x1x128x1536, .f32⟩
  | .local _ .vmem, ⟨9, _⟩ => ⟨S1x1x128x1536, .f32⟩
  | .local _ .vmem, ⟨10, _⟩ => ⟨S1x1x128x1536, .f32⟩
  | .local _ .vmem, ⟨11, _⟩ => ⟨S1x1x128x1536, .f32⟩
  | .local _ .vmem, ⟨12, _⟩ => ⟨S1x1x128x1536, .f32⟩
  | .local _ .vmem, ⟨13, _⟩ => ⟨S1x1x128x1536, .f32⟩
  | .local _ .vmem, ⟨14, _⟩ => ⟨S1x1x128x1536, .f32⟩
  | .local _ .vmem, ⟨15, _⟩ => ⟨S1x1x128x1536, .f32⟩
  | .local _ .vmem, ⟨16, _⟩ => ⟨S1x1x128x1536, .f32⟩
  | .local _ .vmem, ⟨17, _⟩ => ⟨S1x1x128x1536, .f32⟩
  | .local _ .smem, ⟨0, _⟩ => ⟨S1, .i32⟩
  | _, _ => ⟨S512x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamKvRefIdeal.lean ====
abbrev S512x1536 : Shape := ⟨2, ![512, 1536]⟩
abbrev S1 : Shape := ⟨1, ![1]⟩
abbrev S1x2x512x1536 : Shape := ⟨4, ![1, 2, 512, 1536]⟩
abbrev S2 : Shape := ⟨1, ![2]⟩
abbrev S2x1x1 : Shape := ⟨3, ![2, 1, 1]⟩
abbrev S_ : Shape := ⟨0, ![]⟩
abbrev S2x512x1536 : Shape := ⟨3, ![2, 512, 1536]⟩

abbrev nBuf : Space → Nat
  | .hbm => 49
  | .vmem => 0
  | .smem => 0
  | _ => 0

abbrev bufTy : (tb : Table) → Fin (tcTables nBuf tb) → BufTy
  | .hbm, ⟨0, _⟩ => ⟨S512x1536, .f32⟩
  | .hbm, ⟨1, _⟩ => ⟨S512x1536, .f32⟩
  | .hbm, ⟨2, _⟩ => ⟨S1, .i32⟩
  | .hbm, ⟨3, _⟩ => ⟨S1x2x512x1536, .f32⟩
  | .hbm, ⟨4, _⟩ => ⟨S1x2x512x1536, .f32⟩
  | .hbm, ⟨5, _⟩ => ⟨S1x2x512x1536, .f32⟩
  | .hbm, ⟨6, _⟩ => ⟨S2, .i32⟩
  | .hbm, ⟨7, _⟩ => ⟨S2x1x1, .i32⟩
  | .hbm, ⟨8, _⟩ => ⟨S_, .i32⟩
  | .hbm, ⟨9, _⟩ => ⟨S2x1x1, .i32⟩
  | .hbm, ⟨10, _⟩ => ⟨S2x1x1, .i1⟩
  | .hbm, ⟨11, _⟩ => ⟨S2x512x1536, .i1⟩
  | .hbm, ⟨12, _⟩ => ⟨S2x512x1536, .f32⟩
  | .hbm, ⟨13, _⟩ => ⟨S2x512x1536, .f32⟩
  | .hbm, ⟨14, _⟩ => ⟨S2x512x1536, .f32⟩
  | .hbm, ⟨15, _⟩ => ⟨S1x2x512x1536, .f32⟩
  | .hbm, ⟨16, _⟩ => ⟨S_, .f32⟩
  | .hbm, ⟨17, _⟩ => ⟨S1x2x512x1536, .f32⟩
  | .hbm, ⟨18, _⟩ => ⟨S1x2x512x1536, .f32⟩
  | .hbm, ⟨19, _⟩ => ⟨S_, .f32⟩
  | .hbm, ⟨20, _⟩ => ⟨S1x2x512x1536, .f32⟩
  | .hbm, ⟨21, _⟩ => ⟨S1x2x512x1536, .f32⟩
  | .hbm, ⟨22, _⟩ => ⟨S1x2x512x1536, .f32⟩
  | .hbm, ⟨23, _⟩ => ⟨S_, .f32⟩
  | .hbm, ⟨24, _⟩ => ⟨S1x2x512x1536, .f32⟩
  | .hbm, ⟨25, _⟩ => ⟨S1x2x512x1536, .f32⟩
  | .hbm, ⟨26, _⟩ => ⟨S1x2x512x1536, .f32⟩
  | .hbm, ⟨27, _⟩ => ⟨S_, .f32⟩
  | .hbm, ⟨28, _⟩ => ⟨S1x2x512x1536, .f32⟩
  | .hbm, ⟨29, _⟩ => ⟨S1x2x512x1536, .f32⟩
  | .hbm, ⟨30, _⟩ => ⟨S1x2x512x1536, .f32⟩
  | .hbm, ⟨31, _⟩ => ⟨S_, .f32⟩
  | .hbm, ⟨32, _⟩ => ⟨S1x2x512x1536, .f32⟩
  | .hbm, ⟨33, _⟩ => ⟨S1x2x512x1536, .f32⟩
  | .hbm, ⟨34, _⟩ => ⟨S_, .f32⟩
  | .hbm, ⟨35, _⟩ => ⟨S1x2x512x1536, .f32⟩
  | .hbm, ⟨36, _⟩ => ⟨S1x2x512x1536, .f32⟩
  | .hbm, ⟨37, _⟩ => ⟨S1x2x512x1536, .f32⟩
  | .hbm, ⟨38, _⟩ => ⟨S_, .f32⟩
  | .hbm, ⟨39, _⟩ => ⟨S1x2x512x1536, .f32⟩
  | .hbm, ⟨40, _⟩ => ⟨S1x2x512x1536, .f32⟩
  | .hbm, ⟨41, _⟩ => ⟨S1x2x512x1536, .f32⟩
  | .hbm, ⟨42, _⟩ => ⟨S_, .f32⟩
  | .hbm, ⟨43, _⟩ => ⟨S1x2x512x1536, .f32⟩
  | .hbm, ⟨44, _⟩ => ⟨S1x2x512x1536, .f32⟩
  | .hbm, ⟨45, _⟩ => ⟨S1x2x512x1536, .f32⟩
  | .hbm, ⟨46, _⟩ => ⟨S_, .f32⟩
  | .hbm, ⟨47, _⟩ => ⟨S1x2x512x1536, .f32⟩
  | .hbm, ⟨48, _⟩ => ⟨S1x2x512x1536, .f32⟩
  | _, _ => ⟨S512x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== AdamPoolW.lean ====
abbrev S256x256 : Shape := ⟨2, ![256, 256]⟩
abbrev S1 : Shape := ⟨1, ![1]⟩
abbrev S1x2x256x256 : Shape := ⟨4, ![1, 2, 256, 256]⟩
abbrev S1x1x256x256 : Shape := ⟨4, ![1, 1, 256, 256]⟩

abbrev nBuf : Space → Nat
  | .hbm => 9
  | .vmem => 16
  | .smem => 1
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S1x2x256x256, .f32⟩
  | .hbm, ⟨3, _⟩ => ⟨S1x2x256x256, .f32⟩
  | .hbm, ⟨4, _⟩ => ⟨S1x2x256x256, .f32⟩
  | .hbm, ⟨5, _⟩ => ⟨S1x2x256x256, .f32⟩
  | .hbm, ⟨6, _⟩ => ⟨S1x2x256x256, .f32⟩
  | .hbm, ⟨7, _⟩ => ⟨S1x2x256x256, .f32⟩
  | .hbm, ⟨8, _⟩ => ⟨S1x2x256x256, .f32⟩
  | .local _ .vmem, ⟨0, _⟩ => ⟨S256x256, .f32⟩
  | .local _ .vmem, ⟨1, _⟩ => ⟨S256x256, .f32⟩
  | .local _ .vmem, ⟨2, _⟩ => ⟨S1x1x256x256, .f32⟩
  | .local _ .vmem, ⟨3, _⟩ => ⟨S1x1x256x256, .f32⟩
  | .local _ .vmem, ⟨4, _⟩ => ⟨S1x1x256x256, .f32⟩
  | .local _ .vmem, ⟨5, _⟩ => ⟨S1x1x256x256, .f32⟩
  | .local _ .vmem, ⟨6, _⟩ => ⟨S1x1x256x256, .f32⟩
  | .local _ .vmem, ⟨7, _⟩ => ⟨S1x1x256x256, .f32⟩
  | .local _ .vmem, ⟨8, _⟩ => ⟨S1x1x256x256, .f32⟩
  | .local _ .vmem, ⟨9, _⟩ => ⟨S1x1x256x256, .f32⟩
  | .local _ .vmem, ⟨10, _⟩ => ⟨S1x1x256x256, .f32⟩
  | .local _ .vmem, ⟨11, _⟩ => ⟨S1x1x256x256, .f32⟩
  | .local _ .vmem, ⟨12, _⟩ => ⟨S1x1x256x256, .f32⟩
  | .local _ .vmem, ⟨13, _⟩ => ⟨S1x1x256x256, .f32⟩
  | .local _ .vmem, ⟨14, _⟩ => ⟨S1x1x256x256, .f32⟩
  | .local _ .vmem, ⟨15, _⟩ => ⟨S1x1x256x256, .f32⟩
  | .local _ .smem, ⟨0, _⟩ => ⟨S1, .i32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamPoolWRefIdeal.lean ====
abbrev S256x256 : Shape := ⟨2, ![256, 256]⟩
abbrev S1 : Shape := ⟨1, ![1]⟩
abbrev S1x2x256x256 : Shape := ⟨4, ![1, 2, 256, 256]⟩
abbrev S2 : Shape := ⟨1, ![2]⟩
abbrev S2x1x1 : Shape := ⟨3, ![2, 1, 1]⟩
abbrev S_ : Shape := ⟨0, ![]⟩
abbrev S2x256x256 : Shape := ⟨3, ![2, 256, 256]⟩

abbrev nBuf : Space → Nat
  | .hbm => 49
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S1, .i32⟩
  | .hbm, ⟨3, _⟩ => ⟨S1x2x256x256, .f32⟩
  | .hbm, ⟨4, _⟩ => ⟨S1x2x256x256, .f32⟩
  | .hbm, ⟨5, _⟩ => ⟨S1x2x256x256, .f32⟩
  | .hbm, ⟨6, _⟩ => ⟨S2, .i32⟩
  | .hbm, ⟨7, _⟩ => ⟨S2x1x1, .i32⟩
  | .hbm, ⟨8, _⟩ => ⟨S_, .i32⟩
  | .hbm, ⟨9, _⟩ => ⟨S2x1x1, .i32⟩
  | .hbm, ⟨10, _⟩ => ⟨S2x1x1, .i1⟩
  | .hbm, ⟨11, _⟩ => ⟨S2x256x256, .i1⟩
  | .hbm, ⟨12, _⟩ => ⟨S2x256x256, .f32⟩
  | .hbm, ⟨13, _⟩ => ⟨S2x256x256, .f32⟩
  | .hbm, ⟨14, _⟩ => ⟨S2x256x256, .f32⟩
  | .hbm, ⟨15, _⟩ => ⟨S1x2x256x256, .f32⟩
  | .hbm, ⟨16, _⟩ => ⟨S_, .f32⟩
  | .hbm, ⟨17, _⟩ => ⟨S1x2x256x256, .f32⟩
  | .hbm, ⟨18, _⟩ => ⟨S1x2x256x256, .f32⟩
  | .hbm, ⟨19, _⟩ => ⟨S_, .f32⟩
  | .hbm, ⟨20, _⟩ => ⟨S1x2x256x256, .f32⟩
  | .hbm, ⟨21, _⟩ => ⟨S1x2x256x256, .f32⟩
  | .hbm, ⟨22, _⟩ => ⟨S1x2x256x256, .f32⟩
  | .hbm, ⟨23, _⟩ => ⟨S_, .f32⟩
  | .hbm, ⟨24, _⟩ => ⟨S1x2x256x256, .f32⟩
  | .hbm, ⟨25, _⟩ => ⟨S1x2x256x256, .f32⟩
  | .hbm, ⟨26, _⟩ => ⟨S1x2x256x256, .f32⟩
  | .hbm, ⟨27, _⟩ => ⟨S_, .f32⟩
  | .hbm, ⟨28, _⟩ => ⟨S1x2x256x256, .f32⟩
  | .hbm, ⟨29, _⟩ => ⟨S1x2x256x256, .f32⟩
  | .hbm, ⟨30, _⟩ => ⟨S1x2x256x256, .f32⟩
  | .hbm, ⟨31, _⟩ => ⟨S_, .f32⟩
  | .hbm, ⟨32, _⟩ => ⟨S1x2x256x256, .f32⟩
  | .hbm, ⟨33, _⟩ => ⟨S1x2x256x256, .f32⟩
  | .hbm, ⟨34, _⟩ => ⟨S_, .f32⟩
  | .hbm, ⟨35, _⟩ => ⟨S1x2x256x256, .f32⟩
  | .hbm, ⟨36, _⟩ => ⟨S1x2x256x256, .f32⟩
  | .hbm, ⟨37, _⟩ => ⟨S1x2x256x256, .f32⟩
  | .hbm, ⟨38, _⟩ => ⟨S_, .f32⟩
  | .hbm, ⟨39, _⟩ => ⟨S1x2x256x256, .f32⟩
  | .hbm, ⟨40, _⟩ => ⟨S1x2x256x256, .f32⟩
  | .hbm, ⟨41, _⟩ => ⟨S1x2x256x256, .f32⟩
  | .hbm, ⟨42, _⟩ => ⟨S_, .f32⟩
  | .hbm, ⟨43, _⟩ => ⟨S1x2x256x256, .f32⟩
  | .hbm, ⟨44, _⟩ => ⟨S1x2x256x256, .f32⟩
  | .hbm, ⟨45, _⟩ => ⟨S1x2x256x256, .f32⟩
  | .hbm, ⟨46, _⟩ => ⟨S_, .f32⟩
  | .hbm, ⟨47, _⟩ => ⟨S1x2x256x256, .f32⟩
  | .hbm, ⟨48, _⟩ => ⟨S1x2x256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== AdamPoolScale.lean ====
abbrev S1x256 : Shape := ⟨2, ![1, 256]⟩
abbrev S1 : Shape := ⟨1, ![1]⟩
abbrev S1x2x1x256 : Shape := ⟨4, ![1, 2, 1, 256]⟩
abbrev S1x1x1x256 : Shape := ⟨4, ![1, 1, 1, 256]⟩

abbrev nBuf : Space → Nat
  | .hbm => 9
  | .vmem => 16
  | .smem => 1
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x2x1x256, .f32⟩
  | .hbm, ⟨3, _⟩ => ⟨S1x2x1x256, .f32⟩
  | .hbm, ⟨4, _⟩ => ⟨S1x2x1x256, .f32⟩
  | .hbm, ⟨5, _⟩ => ⟨S1x2x1x256, .f32⟩
  | .hbm, ⟨6, _⟩ => ⟨S1x2x1x256, .f32⟩
  | .hbm, ⟨7, _⟩ => ⟨S1x2x1x256, .f32⟩
  | .hbm, ⟨8, _⟩ => ⟨S1x2x1x256, .f32⟩
  | .local _ .vmem, ⟨0, _⟩ => ⟨S1x256, .f32⟩
  | .local _ .vmem, ⟨1, _⟩ => ⟨S1x256, .f32⟩
  | .local _ .vmem, ⟨2, _⟩ => ⟨S1x1x1x256, .f32⟩
  | .local _ .vmem, ⟨3, _⟩ => ⟨S1x1x1x256, .f32⟩
  | .local _ .vmem, ⟨4, _⟩ => ⟨S1x1x1x256, .f32⟩
  | .local _ .vmem, ⟨5, _⟩ => ⟨S1x1x1x256, .f32⟩
  | .local _ .vmem, ⟨6, _⟩ => ⟨S1x1x1x256, .f32⟩
  | .local _ .vmem, ⟨7, _⟩ => ⟨S1x1x1x256, .f32⟩
  | .local _ .vmem, ⟨8, _⟩ => ⟨S1x1x1x256, .f32⟩
  | .local _ .vmem, ⟨9, _⟩ => ⟨S1x1x1x256, .f32⟩
  | .local _ .vmem, ⟨10, _⟩ => ⟨S1x1x1x256, .f32⟩
  | .local _ .vmem, ⟨11, _⟩ => ⟨S1x1x1x256, .f32⟩
  | .local _ .vmem, ⟨12, _⟩ => ⟨S1x1x1x256, .f32⟩
  | .local _ .vmem, ⟨13, _⟩ => ⟨S1x1x1x256, .f32⟩
  | .local _ .vmem, ⟨14, _⟩ => ⟨S1x1x1x256, .f32⟩
  | .local _ .vmem, ⟨15, _⟩ => ⟨S1x1x1x256, .f32⟩
  | .local _ .smem, ⟨0, _⟩ => ⟨S1, .i32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamPoolScaleRefIdeal.lean ====
abbrev S1x256 : Shape := ⟨2, ![1, 256]⟩
abbrev S1 : Shape := ⟨1, ![1]⟩
abbrev S1x2x1x256 : Shape := ⟨4, ![1, 2, 1, 256]⟩
abbrev S2 : Shape := ⟨1, ![2]⟩
abbrev S2x1x1 : Shape := ⟨3, ![2, 1, 1]⟩
abbrev S_ : Shape := ⟨0, ![]⟩
abbrev S2x1x256 : Shape := ⟨3, ![2, 1, 256]⟩

abbrev nBuf : Space → Nat
  | .hbm => 49
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1, .i32⟩
  | .hbm, ⟨3, _⟩ => ⟨S1x2x1x256, .f32⟩
  | .hbm, ⟨4, _⟩ => ⟨S1x2x1x256, .f32⟩
  | .hbm, ⟨5, _⟩ => ⟨S1x2x1x256, .f32⟩
  | .hbm, ⟨6, _⟩ => ⟨S2, .i32⟩
  | .hbm, ⟨7, _⟩ => ⟨S2x1x1, .i32⟩
  | .hbm, ⟨8, _⟩ => ⟨S_, .i32⟩
  | .hbm, ⟨9, _⟩ => ⟨S2x1x1, .i32⟩
  | .hbm, ⟨10, _⟩ => ⟨S2x1x1, .i1⟩
  | .hbm, ⟨11, _⟩ => ⟨S2x1x256, .i1⟩
  | .hbm, ⟨12, _⟩ => ⟨S2x1x256, .f32⟩
  | .hbm, ⟨13, _⟩ => ⟨S2x1x256, .f32⟩
  | .hbm, ⟨14, _⟩ => ⟨S2x1x256, .f32⟩
  | .hbm, ⟨15, _⟩ => ⟨S1x2x1x256, .f32⟩
  | .hbm, ⟨16, _⟩ => ⟨S_, .f32⟩
  | .hbm, ⟨17, _⟩ => ⟨S1x2x1x256, .f32⟩
  | .hbm, ⟨18, _⟩ => ⟨S1x2x1x256, .f32⟩
  | .hbm, ⟨19, _⟩ => ⟨S_, .f32⟩
  | .hbm, ⟨20, _⟩ => ⟨S1x2x1x256, .f32⟩
  | .hbm, ⟨21, _⟩ => ⟨S1x2x1x256, .f32⟩
  | .hbm, ⟨22, _⟩ => ⟨S1x2x1x256, .f32⟩
  | .hbm, ⟨23, _⟩ => ⟨S_, .f32⟩
  | .hbm, ⟨24, _⟩ => ⟨S1x2x1x256, .f32⟩
  | .hbm, ⟨25, _⟩ => ⟨S1x2x1x256, .f32⟩
  | .hbm, ⟨26, _⟩ => ⟨S1x2x1x256, .f32⟩
  | .hbm, ⟨27, _⟩ => ⟨S_, .f32⟩
  | .hbm, ⟨28, _⟩ => ⟨S1x2x1x256, .f32⟩
  | .hbm, ⟨29, _⟩ => ⟨S1x2x1x256, .f32⟩
  | .hbm, ⟨30, _⟩ => ⟨S1x2x1x256, .f32⟩
  | .hbm, ⟨31, _⟩ => ⟨S_, .f32⟩
  | .hbm, ⟨32, _⟩ => ⟨S1x2x1x256, .f32⟩
  | .hbm, ⟨33, _⟩ => ⟨S1x2x1x256, .f32⟩
  | .hbm, ⟨34, _⟩ => ⟨S_, .f32⟩
  | .hbm, ⟨35, _⟩ => ⟨S1x2x1x256, .f32⟩
  | .hbm, ⟨36, _⟩ => ⟨S1x2x1x256, .f32⟩
  | .hbm, ⟨37, _⟩ => ⟨S1x2x1x256, .f32⟩
  | .hbm, ⟨38, _⟩ => ⟨S_, .f32⟩
  | .hbm, ⟨39, _⟩ => ⟨S1x2x1x256, .f32⟩
  | .hbm, ⟨40, _⟩ => ⟨S1x2x1x256, .f32⟩
  | .hbm, ⟨41, _⟩ => ⟨S1x2x1x256, .f32⟩
  | .hbm, ⟨42, _⟩ => ⟨S_, .f32⟩
  | .hbm, ⟨43, _⟩ => ⟨S1x2x1x256, .f32⟩
  | .hbm, ⟨44, _⟩ => ⟨S1x2x1x256, .f32⟩
  | .hbm, ⟨45, _⟩ => ⟨S1x2x1x256, .f32⟩
  | .hbm, ⟨46, _⟩ => ⟨S_, .f32⟩
  | .hbm, ⟨47, _⟩ => ⟨S1x2x1x256, .f32⟩
  | .hbm, ⟨48, _⟩ => ⟨S1x2x1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== AdamConvW.lean ====
abbrev S6x704 : Shape := ⟨2, ![6, 704]⟩
abbrev S1 : Shape := ⟨1, ![1]⟩
abbrev S1x2x6x704 : Shape := ⟨4, ![1, 2, 6, 704]⟩
abbrev S1x1x6x704 : Shape := ⟨4, ![1, 1, 6, 704]⟩

abbrev nBuf : Space → Nat
  | .hbm => 9
  | .vmem => 16
  | .smem => 1
  | _ => 0

abbrev bufTy : (tb : Table) → Fin (tcTables nBuf tb) → BufTy
  | .hbm, ⟨0, _⟩ => ⟨S6x704, .f32⟩
  | .hbm, ⟨1, _⟩ => ⟨S6x704, .f32⟩
  | .hbm, ⟨2, _⟩ => ⟨S1x2x6x704, .f32⟩
  | .hbm, ⟨3, _⟩ => ⟨S1x2x6x704, .f32⟩
  | .hbm, ⟨4, _⟩ => ⟨S1x2x6x704, .f32⟩
  | .hbm, ⟨5, _⟩ => ⟨S1x2x6x704, .f32⟩
  | .hbm, ⟨6, _⟩ => ⟨S1x2x6x704, .f32⟩
  | .hbm, ⟨7, _⟩ => ⟨S1x2x6x704, .f32⟩
  | .hbm, ⟨8, _⟩ => ⟨S1x2x6x704, .f32⟩
  | .local _ .vmem, ⟨0, _⟩ => ⟨S6x704, .f32⟩
  | .local _ .vmem, ⟨1, _⟩ => ⟨S6x704, .f32⟩
  | .local _ .vmem, ⟨2, _⟩ => ⟨S1x1x6x704, .f32⟩
  | .local _ .vmem, ⟨3, _⟩ => ⟨S1x1x6x704, .f32⟩
  | .local _ .vmem, ⟨4, _⟩ => ⟨S1x1x6x704, .f32⟩
  | .local _ .vmem, ⟨5, _⟩ => ⟨S1x1x6x704, .f32⟩
  | .local _ .vmem, ⟨6, _⟩ => ⟨S1x1x6x704, .f32⟩
  | .local _ .vmem, ⟨7, _⟩ => ⟨S1x1x6x704, .f32⟩
  | .local _ .vmem, ⟨8, _⟩ => ⟨S1x1x6x704, .f32⟩
  | .local _ .vmem, ⟨9, _⟩ => ⟨S1x1x6x704, .f32⟩
  | .local _ .vmem, ⟨10, _⟩ => ⟨S1x1x6x704, .f32⟩
  | .local _ .vmem, ⟨11, _⟩ => ⟨S1x1x6x704, .f32⟩
  | .local _ .vmem, ⟨12, _⟩ => ⟨S1x1x6x704, .f32⟩
  | .local _ .vmem, ⟨13, _⟩ => ⟨S1x1x6x704, .f32⟩
  | .local _ .vmem, ⟨14, _⟩ => ⟨S1x1x6x704, .f32⟩
  | .local _ .vmem, ⟨15, _⟩ => ⟨S1x1x6x704, .f32⟩
  | .local _ .smem, ⟨0, _⟩ => ⟨S1, .i32⟩
  | _, _ => ⟨S6x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 1 → Memref sig .tc .vmem S6x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S6x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1x6x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x6x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x6x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x6x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x6x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamConvWRefIdeal.lean ====
abbrev S6x704 : Shape := ⟨2, ![6, 704]⟩
abbrev S1 : Shape := ⟨1, ![1]⟩
abbrev S1x2x6x704 : Shape := ⟨4, ![1, 2, 6, 704]⟩
abbrev S2 : Shape := ⟨1, ![2]⟩
abbrev S2x1x1 : Shape := ⟨3, ![2, 1, 1]⟩
abbrev S_ : Shape := ⟨0, ![]⟩
abbrev S2x6x704 : Shape := ⟨3, ![2, 6, 704]⟩

abbrev nBuf : Space → Nat
  | .hbm => 49
  | .vmem => 0
  | .smem => 0
  | _ => 0

abbrev bufTy : (tb : Table) → Fin (tcTables nBuf tb) → BufTy
  | .hbm, ⟨0, _⟩ => ⟨S6x704, .f32⟩
  | .hbm, ⟨1, _⟩ => ⟨S6x704, .f32⟩
  | .hbm, ⟨2, _⟩ => ⟨S1, .i32⟩
  | .hbm, ⟨3, _⟩ => ⟨S1x2x6x704, .f32⟩
  | .hbm, ⟨4, _⟩ => ⟨S1x2x6x704, .f32⟩
  | .hbm, ⟨5, _⟩ => ⟨S1x2x6x704, .f32⟩
  | .hbm, ⟨6, _⟩ => ⟨S2, .i32⟩
  | .hbm, ⟨7, _⟩ => ⟨S2x1x1, .i32⟩
  | .hbm, ⟨8, _⟩ => ⟨S_, .i32⟩
  | .hbm, ⟨9, _⟩ => ⟨S2x1x1, .i32⟩
  | .hbm, ⟨10, _⟩ => ⟨S2x1x1, .i1⟩
  | .hbm, ⟨11, _⟩ => ⟨S2x6x704, .i1⟩
  | .hbm, ⟨12, _⟩ => ⟨S2x6x704, .f32⟩
  | .hbm, ⟨13, _⟩ => ⟨S2x6x704, .f32⟩
  | .hbm, ⟨14, _⟩ => ⟨S2x6x704, .f32⟩
  | .hbm, ⟨15, _⟩ => ⟨S1x2x6x704, .f32⟩
  | .hbm, ⟨16, _⟩ => ⟨S_, .f32⟩
  | .hbm, ⟨17, _⟩ => ⟨S1x2x6x704, .f32⟩
  | .hbm, ⟨18, _⟩ => ⟨S1x2x6x704, .f32⟩
  | .hbm, ⟨19, _⟩ => ⟨S_, .f32⟩
  | .hbm, ⟨20, _⟩ => ⟨S1x2x6x704, .f32⟩
  | .hbm, ⟨21, _⟩ => ⟨S1x2x6x704, .f32⟩
  | .hbm, ⟨22, _⟩ => ⟨S1x2x6x704, .f32⟩
  | .hbm, ⟨23, _⟩ => ⟨S_, .f32⟩
  | .hbm, ⟨24, _⟩ => ⟨S1x2x6x704, .f32⟩
  | .hbm, ⟨25, _⟩ => ⟨S1x2x6x704, .f32⟩
  | .hbm, ⟨26, _⟩ => ⟨S1x2x6x704, .f32⟩
  | .hbm, ⟨27, _⟩ => ⟨S_, .f32⟩
  | .hbm, ⟨28, _⟩ => ⟨S1x2x6x704, .f32⟩
  | .hbm, ⟨29, _⟩ => ⟨S1x2x6x704, .f32⟩
  | .hbm, ⟨30, _⟩ => ⟨S1x2x6x704, .f32⟩
  | .hbm, ⟨31, _⟩ => ⟨S_, .f32⟩
  | .hbm, ⟨32, _⟩ => ⟨S1x2x6x704, .f32⟩
  | .hbm, ⟨33, _⟩ => ⟨S1x2x6x704, .f32⟩
  | .hbm, ⟨34, _⟩ => ⟨S_, .f32⟩
  | .hbm, ⟨35, _⟩ => ⟨S1x2x6x704, .f32⟩
  | .hbm, ⟨36, _⟩ => ⟨S1x2x6x704, .f32⟩
  | .hbm, ⟨37, _⟩ => ⟨S1x2x6x704, .f32⟩
  | .hbm, ⟨38, _⟩ => ⟨S_, .f32⟩
  | .hbm, ⟨39, _⟩ => ⟨S1x2x6x704, .f32⟩
  | .hbm, ⟨40, _⟩ => ⟨S1x2x6x704, .f32⟩
  | .hbm, ⟨41, _⟩ => ⟨S1x2x6x704, .f32⟩
  | .hbm, ⟨42, _⟩ => ⟨S_, .f32⟩
  | .hbm, ⟨43, _⟩ => ⟨S1x2x6x704, .f32⟩
  | .hbm, ⟨44, _⟩ => ⟨S1x2x6x704, .f32⟩
  | .hbm, ⟨45, _⟩ => ⟨S1x2x6x704, .f32⟩
  | .hbm, ⟨46, _⟩ => ⟨S_, .f32⟩
  | .hbm, ⟨47, _⟩ => ⟨S1x2x6x704, .f32⟩
  | .hbm, ⟨48, _⟩ => ⟨S1x2x6x704, .f32⟩
  | _, _ => ⟨S6x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== AdamQ0.lean ====
abbrev S512x768 : Shape := ⟨2, ![512, 768]⟩
abbrev S1 : Shape := ⟨1, ![1]⟩
abbrev S2x2x512x768 : Shape := ⟨4, ![2, 2, 512, 768]⟩
abbrev S256x768 : Shape := ⟨2, ![256, 768]⟩
abbrev S1x1x256x768 : Shape := ⟨4, ![1, 1, 256, 768]⟩

abbrev nBuf : Space → Nat
  | .hbm => 13
  | .vmem => 18
  | .smem => 1
  | _ => 0

abbrev bufTy : (tb : Table) → Fin (tcTables nBuf tb) → BufTy
  | .hbm, ⟨0, _⟩ => ⟨S512x768, .f32⟩
  | .hbm, ⟨1, _⟩ => ⟨S512x768, .f32⟩
  | .hbm, ⟨2, _⟩ => ⟨S2x2x512x768, .f32⟩
  | .hbm, ⟨3, _⟩ => ⟨S2x2x512x768, .f32⟩
  | .hbm, ⟨4, _⟩ => ⟨S2x2x512x768, .f32⟩
  | .hbm, ⟨5, _⟩ => ⟨S2x2x512x768, .f32⟩
  | .hbm, ⟨6, _⟩ => ⟨S2x2x512x768, .f32⟩
  | .hbm, ⟨7, _⟩ => ⟨S2x2x512x768, .f32⟩
  | .hbm, ⟨8, _⟩ => ⟨S2x2x512x768, .f32⟩
  | .hbm, ⟨9, _⟩ => ⟨S2x2x512x768, .f32⟩
  | .hbm, ⟨10, _⟩ => ⟨S2x2x512x768, .f32⟩
  | .hbm, ⟨11, _⟩ => ⟨S2x2x512x768, .f32⟩
  | .hbm, ⟨12, _⟩ => ⟨S2x2x512x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S1x1x256x768, .f32⟩
  | .local _ .vmem, ⟨5, _⟩ => ⟨S1x1x256x768, .f32⟩
  | .local _ .vmem, ⟨6, _⟩ => ⟨S1x1x256x768, .f32⟩
  | .local _ .vmem, ⟨7, _⟩ => ⟨S1x1x256x768, .f32⟩
  | .local _ .vmem, ⟨8, _⟩ => ⟨S1x1x256x768, .f32⟩
  | .local _ .vmem, ⟨9, _⟩ => ⟨S1x1x256x768, .f32⟩
  | .local _ .vmem, ⟨10, _⟩ => ⟨S1x1x256x768, .f32⟩
  | .local _ .vmem, ⟨11, _⟩ => ⟨S1x1x256x768, .f32⟩
  | .local _ .vmem, ⟨12, _⟩ => ⟨S1x1x256x768, .f32⟩
  | .local _ .vmem, ⟨13, _⟩ => ⟨S1x1x256x768, .f32⟩
  | .local _ .vmem, ⟨14, _⟩ => ⟨S1x1x256x768, .f32⟩
  | .local _ .vmem, ⟨15, _⟩ => ⟨S1x1x256x768, .f32⟩
  | .local _ .vmem, ⟨16, _⟩ => ⟨S1x1x256x768, .f32⟩
  | .local _ .vmem, ⟨17, _⟩ => ⟨S1x1x256x768, .f32⟩
  | .local _ .smem, ⟨0, _⟩ => ⟨S1, .i32⟩
  | _, _ => ⟨S512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamQ0RefIdeal.lean ====
abbrev S512x768 : Shape := ⟨2, ![512, 768]⟩
abbrev S1 : Shape := ⟨1, ![1]⟩
abbrev S2x2x512x768 : Shape := ⟨4, ![2, 2, 512, 768]⟩
abbrev S2 : Shape := ⟨1, ![2]⟩
abbrev S2x1x1 : Shape := ⟨3, ![2, 1, 1]⟩
abbrev S_ : Shape := ⟨0, ![]⟩
abbrev S2x512x768 : Shape := ⟨3, ![2, 512, 768]⟩
abbrev S1x2x512x768 : Shape := ⟨4, ![1, 2, 512, 768]⟩
abbrev S2x1x1x1 : Shape := ⟨4, ![2, 1, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S512x768, .f32⟩
  | .hbm, ⟨1, _⟩ => ⟨S512x768, .f32⟩
  | .hbm, ⟨2, _⟩ => ⟨S1, .i32⟩
  | .hbm, ⟨3, _⟩ => ⟨S2x2x512x768, .f32⟩
  | .hbm, ⟨4, _⟩ => ⟨S2x2x512x768, .f32⟩
  | .hbm, ⟨5, _⟩ => ⟨S2x2x512x768, .f32⟩
  | .hbm, ⟨6, _⟩ => ⟨S2x2x512x768, .f32⟩
  | .hbm, ⟨7, _⟩ => ⟨S2x2x512x768, .f32⟩
  | .hbm, ⟨8, _⟩ => ⟨S2x2x512x768, .f32⟩
  | .hbm, ⟨9, _⟩ => ⟨S2x2x512x768, .f32⟩
  | .hbm, ⟨10, _⟩ => ⟨S2, .i32⟩
  | .hbm, ⟨11, _⟩ => ⟨S2x1x1, .i32⟩
  | .hbm, ⟨12, _⟩ => ⟨S_, .i32⟩
  | .hbm, ⟨13, _⟩ => ⟨S2x1x1, .i32⟩
  | .hbm, ⟨14, _⟩ => ⟨S2x1x1, .i1⟩
  | .hbm, ⟨15, _⟩ => ⟨S2x512x768, .i1⟩
  | .hbm, ⟨16, _⟩ => ⟨S2x512x768, .f32⟩
  | .hbm, ⟨17, _⟩ => ⟨S2x512x768, .f32⟩
  | .hbm, ⟨18, _⟩ => ⟨S2x512x768, .f32⟩
  | .hbm, ⟨19, _⟩ => ⟨S1x2x512x768, .f32⟩
  | .hbm, ⟨20, _⟩ => ⟨S_, .f32⟩
  | .hbm, ⟨21, _⟩ => ⟨S2x2x512x768, .f32⟩
  | .hbm, ⟨22, _⟩ => ⟨S2x2x512x768, .f32⟩
  | .hbm, ⟨23, _⟩ => ⟨S_, .f32⟩
  | .hbm, ⟨24, _⟩ => ⟨S1x2x512x768, .f32⟩
  | .hbm, ⟨25, _⟩ => ⟨S1x2x512x768, .f32⟩
  | .hbm, ⟨26, _⟩ => ⟨S2x2x512x768, .f32⟩
  | .hbm, ⟨27, _⟩ => ⟨S2x2x512x768, .f32⟩
  | .hbm, ⟨28, _⟩ => ⟨S_, .f32⟩
  | .hbm, ⟨29, _⟩ => ⟨S2x2x512x768, .f32⟩
  | .hbm, ⟨30, _⟩ => ⟨S2x2x512x768, .f32⟩
  | .hbm, ⟨31, _⟩ => ⟨S1x2x512x768, .f32⟩
  | .hbm, ⟨32, _⟩ => ⟨S_, .f32⟩
  | .hbm, ⟨33, _⟩ => ⟨S1x2x512x768, .f32⟩
  | .hbm, ⟨34, _⟩ => ⟨S1x2x512x768, .f32⟩
  | .hbm, ⟨35, _⟩ => ⟨S2x2x512x768, .f32⟩
  | .hbm, ⟨36, _⟩ => ⟨S2x2x512x768, .f32⟩
  | .hbm, ⟨37, _⟩ => ⟨S_, .f32⟩
  | .hbm, ⟨38, _⟩ => ⟨S2x2x512x768, .f32⟩
  | .hbm, ⟨39, _⟩ => ⟨S2x2x512x768, .f32⟩
  | .hbm, ⟨40, _⟩ => ⟨S_, .f32⟩
  | .hbm, ⟨41, _⟩ => ⟨S2x2x512x768, .f32⟩
  | .hbm, ⟨42, _⟩ => ⟨S2x2x512x768, .f32⟩
  | .hbm, ⟨43, _⟩ => ⟨S2x2x512x768, .f32⟩
  | .hbm, ⟨44, _⟩ => ⟨S_, .f32⟩
  | .hbm, ⟨45, _⟩ => ⟨S2x2x512x768, .f32⟩
  | .hbm, ⟨46, _⟩ => ⟨S2x2x512x768, .f32⟩
  | .hbm, ⟨47, _⟩ => ⟨S2x2x512x768, .f32⟩
  | .hbm, ⟨48, _⟩ => ⟨S_, .f32⟩
  | .hbm, ⟨49, _⟩ => ⟨S2x2x512x768, .f32⟩
  | .hbm, ⟨50, _⟩ => ⟨S2x2x512x768, .f32⟩
  | .hbm, ⟨51, _⟩ => ⟨S2x2x512x768, .f32⟩
  | .hbm, ⟨52, _⟩ => ⟨S_, .f32⟩
  | .hbm, ⟨53, _⟩ => ⟨S2x2x512x768, .f32⟩
  | .hbm, ⟨54, _⟩ => ⟨S2x2x512x768, .f32⟩
  | .hbm, ⟨55, _⟩ => ⟨S2, .i32⟩
  | .hbm, ⟨56, _⟩ => ⟨S2x1x1x1, .i32⟩
  | .hbm, ⟨57, _⟩ => ⟨S_, .i32⟩
  | .hbm, ⟨58, _⟩ => ⟨S2x1x1x1, .i32⟩
  | .hbm, ⟨59, _⟩ => ⟨S2x1x1x1, .i1⟩
  | .hbm, ⟨60, _⟩ => ⟨S2x2x512x768, .i1⟩
  | .hbm, ⟨61, _⟩ => ⟨S2x2x512x768, .f32⟩
  | .hbm, ⟨62, _⟩ => ⟨S2x2x512x768, .f32⟩
  | .hbm, ⟨63, _⟩ => ⟨S2, .i32⟩
  | .hbm, ⟨64, _⟩ => ⟨S2x1x1x1, .i32⟩
  | .hbm, ⟨65, _⟩ => ⟨S_, .i32⟩
  | .hbm, ⟨66, _⟩ => ⟨S2x1x1x1, .i32⟩
  | .hbm, ⟨67, _⟩ => ⟨S2x1x1x1, .i1⟩
  | .hbm, ⟨68, _⟩ => ⟨S2x2x512x768, .i1⟩
  | .hbm, ⟨69, _⟩ => ⟨S2x2x512x768, .f32⟩
  | .hbm, ⟨70, _⟩ => ⟨S2, .i32⟩
  | .hbm, ⟨71, _⟩ => ⟨S2x1x1x1, .i32⟩
  | .hbm, ⟨72, _⟩ => ⟨S_, .i32⟩
  | .hbm, ⟨73, _⟩ => ⟨S2x1x1x1, .i32⟩
  | .hbm, ⟨74, _⟩ => ⟨S2x1x1x1, .i1⟩
  | .hbm, ⟨75, _⟩ => ⟨S2x2x512x768, .i1⟩
  | .hbm, ⟨76, _⟩ => ⟨S2x2x512x768, .f32⟩
  | .hbm, ⟨77, _⟩ => ⟨S2, .i32⟩
  | .hbm, ⟨78, _⟩ => ⟨S2x1x1x1, .i32⟩
  | .hbm, ⟨79, _⟩ => ⟨S_, .i32⟩
  | .hbm, ⟨80, _⟩ => ⟨S2x1x1x1, .i32⟩
  | .hbm, ⟨81, _⟩ => ⟨S2x1x1x1, .i1⟩
  | .hbm, ⟨82, _⟩ => ⟨S2x2x512x768, .i1⟩
  | .hbm, ⟨83, _⟩ => ⟨S2x2x512x768, .f32⟩
  | _, _ => ⟨S512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c : Ref sig .tc := ⟨.hbm, 57, rfl⟩
abbrev main_v35 : Ref sig .tc := ⟨.hbm, 58, rfl⟩
abbrev main_v36 : Ref sig .tc := ⟨.hbm, 59, rfl⟩
abbrev main_call1_v0 : Ref sig .tc := ⟨.hbm, 60, rfl⟩
abbrev main_call1_v1 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_call2_v0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_9 : Ref sig .tc := ⟨.hbm, 72, rfl⟩
abbrev main_v45 : Ref sig .tc := ⟨.hbm, 73, rfl⟩
abbrev main_v46 : Ref sig .tc := ⟨.hbm, 74, rfl⟩
abbrev main_call3_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_10 : Ref sig .tc := ⟨.hbm, 79, rfl⟩
abbrev main_v50 : Ref sig .tc := ⟨.hbm, 80, rfl⟩
abbrev main_v51 : Ref sig .tc := ⟨.hbm, 81, rfl⟩
abbrev main_call4_v0 : Ref sig .tc := ⟨.hbm, 82, rfl⟩
abbrev main_v52 : Ref sig .tc := ⟨.hbm, 83, rfl⟩

abbrev nD : Nat := 1
abbrev τ : Topo := Topo.v7x

variable {F : FTy → Type} [FloatOps F]
-- ==== AdamQ1.lean ====
abbrev S512x768 : Shape := ⟨2, ![512, 768]⟩
abbrev S1 : Shape := ⟨1, ![1]⟩
abbrev S2x2x512x768 : Shape := ⟨4, ![2, 2, 512, 768]⟩
abbrev S256x768 : Shape := ⟨2, ![256, 768]⟩
abbrev S1x1x256x768 : Shape := ⟨4, ![1, 1, 256, 768]⟩

abbrev nBuf : Space → Nat
  | .hbm => 13
  | .vmem => 18
  | .smem => 1
  | _ => 0

abbrev bufTy : (tb : Table) → Fin (tcTables nBuf tb) → BufTy
  | .hbm, ⟨0, _⟩ => ⟨S512x768, .f32⟩
  | .hbm, ⟨1, _⟩ => ⟨S512x768, .f32⟩
  | .hbm, ⟨2, _⟩ => ⟨S2x2x512x768, .f32⟩
  | .hbm, ⟨3, _⟩ => ⟨S2x2x512x768, .f32⟩
  | .hbm, ⟨4, _⟩ => ⟨S2x2x512x768, .f32⟩
  | .hbm, ⟨5, _⟩ => ⟨S2x2x512x768, .f32⟩
  | .hbm, ⟨6, _⟩ => ⟨S2x2x512x768, .f32⟩
  | .hbm, ⟨7, _⟩ => ⟨S2x2x512x768, .f32⟩
  | .hbm, ⟨8, _⟩ => ⟨S2x2x512x768, .f32⟩
  | .hbm, ⟨9, _⟩ => ⟨S2x2x512x768, .f32⟩
  | .hbm, ⟨10, _⟩ => ⟨S2x2x512x768, .f32⟩
  | .hbm, ⟨11, _⟩ => ⟨S2x2x512x768, .f32⟩
  | .hbm, ⟨12, _⟩ => ⟨S2x2x512x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S1x1x256x768, .f32⟩
  | .local _ .vmem, ⟨5, _⟩ => ⟨S1x1x256x768, .f32⟩
  | .local _ .vmem, ⟨6, _⟩ => ⟨S1x1x256x768, .f32⟩
  | .local _ .vmem, ⟨7, _⟩ => ⟨S1x1x256x768, .f32⟩
  | .local _ .vmem, ⟨8, _⟩ => ⟨S1x1x256x768, .f32⟩
  | .local _ .vmem, ⟨9, _⟩ => ⟨S1x1x256x768, .f32⟩
  | .local _ .vmem, ⟨10, _⟩ => ⟨S1x1x256x768, .f32⟩
  | .local _ .vmem, ⟨11, _⟩ => ⟨S1x1x256x768, .f32⟩
  | .local _ .vmem, ⟨12, _⟩ => ⟨S1x1x256x768, .f32⟩
  | .local _ .vmem, ⟨13, _⟩ => ⟨S1x1x256x768, .f32⟩
  | .local _ .vmem, ⟨14, _⟩ => ⟨S1x1x256x768, .f32⟩
  | .local _ .vmem, ⟨15, _⟩ => ⟨S1x1x256x768, .f32⟩
  | .local _ .vmem, ⟨16, _⟩ => ⟨S1x1x256x768, .f32⟩
  | .local _ .vmem, ⟨17, _⟩ => ⟨S1x1x256x768, .f32⟩
  | .local _ .smem, ⟨0, _⟩ => ⟨S1, .i32⟩
  | _, _ => ⟨S512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamQ1RefIdeal.lean ====
abbrev S512x768 : Shape := ⟨2, ![512, 768]⟩
abbrev S1 : Shape := ⟨1, ![1]⟩
abbrev S2x2x512x768 : Shape := ⟨4, ![2, 2, 512, 768]⟩
abbrev S2 : Shape := ⟨1, ![2]⟩
abbrev S2x1x1 : Shape := ⟨3, ![2, 1, 1]⟩
abbrev S_ : Shape := ⟨0, ![]⟩
abbrev S2x512x768 : Shape := ⟨3, ![2, 512, 768]⟩
abbrev S1x2x512x768 : Shape := ⟨4, ![1, 2, 512, 768]⟩
abbrev S2x1x1x1 : Shape := ⟨4, ![2, 1, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S512x768, .f32⟩
  | .hbm, ⟨1, _⟩ => ⟨S512x768, .f32⟩
  | .hbm, ⟨2, _⟩ => ⟨S1, .i32⟩
  | .hbm, ⟨3, _⟩ => ⟨S2x2x512x768, .f32⟩
  | .hbm, ⟨4, _⟩ => ⟨S2x2x512x768, .f32⟩
  | .hbm, ⟨5, _⟩ => ⟨S2x2x512x768, .f32⟩
  | .hbm, ⟨6, _⟩ => ⟨S2x2x512x768, .f32⟩
  | .hbm, ⟨7, _⟩ => ⟨S2x2x512x768, .f32⟩
  | .hbm, ⟨8, _⟩ => ⟨S2x2x512x768, .f32⟩
  | .hbm, ⟨9, _⟩ => ⟨S2x2x512x768, .f32⟩
  | .hbm, ⟨10, _⟩ => ⟨S2, .i32⟩
  | .hbm, ⟨11, _⟩ => ⟨S2x1x1, .i32⟩
  | .hbm, ⟨12, _⟩ => ⟨S_, .i32⟩
  | .hbm, ⟨13, _⟩ => ⟨S2x1x1, .i32⟩
  | .hbm, ⟨14, _⟩ => ⟨S2x1x1, .i1⟩
  | .hbm, ⟨15, _⟩ => ⟨S2x512x768, .i1⟩
  | .hbm, ⟨16, _⟩ => ⟨S2x512x768, .f32⟩
  | .hbm, ⟨17, _⟩ => ⟨S2x512x768, .f32⟩
  | .hbm, ⟨18, _⟩ => ⟨S2x512x768, .f32⟩
  | .hbm, ⟨19, _⟩ => ⟨S1x2x512x768, .f32⟩
  | .hbm, ⟨20, _⟩ => ⟨S_, .f32⟩
  | .hbm, ⟨21, _⟩ => ⟨S2x2x512x768, .f32⟩
  | .hbm, ⟨22, _⟩ => ⟨S2x2x512x768, .f32⟩
  | .hbm, ⟨23, _⟩ => ⟨S_, .f32⟩
  | .hbm, ⟨24, _⟩ => ⟨S1x2x512x768, .f32⟩
  | .hbm, ⟨25, _⟩ => ⟨S1x2x512x768, .f32⟩
  | .hbm, ⟨26, _⟩ => ⟨S2x2x512x768, .f32⟩
  | .hbm, ⟨27, _⟩ => ⟨S2x2x512x768, .f32⟩
  | .hbm, ⟨28, _⟩ => ⟨S_, .f32⟩
  | .hbm, ⟨29, _⟩ => ⟨S2x2x512x768, .f32⟩
  | .hbm, ⟨30, _⟩ => ⟨S2x2x512x768, .f32⟩
  | .hbm, ⟨31, _⟩ => ⟨S1x2x512x768, .f32⟩
  | .hbm, ⟨32, _⟩ => ⟨S_, .f32⟩
  | .hbm, ⟨33, _⟩ => ⟨S1x2x512x768, .f32⟩
  | .hbm, ⟨34, _⟩ => ⟨S1x2x512x768, .f32⟩
  | .hbm, ⟨35, _⟩ => ⟨S2x2x512x768, .f32⟩
  | .hbm, ⟨36, _⟩ => ⟨S2x2x512x768, .f32⟩
  | .hbm, ⟨37, _⟩ => ⟨S_, .f32⟩
  | .hbm, ⟨38, _⟩ => ⟨S2x2x512x768, .f32⟩
  | .hbm, ⟨39, _⟩ => ⟨S2x2x512x768, .f32⟩
  | .hbm, ⟨40, _⟩ => ⟨S_, .f32⟩
  | .hbm, ⟨41, _⟩ => ⟨S2x2x512x768, .f32⟩
  | .hbm, ⟨42, _⟩ => ⟨S2x2x512x768, .f32⟩
  | .hbm, ⟨43, _⟩ => ⟨S2x2x512x768, .f32⟩
  | .hbm, ⟨44, _⟩ => ⟨S_, .f32⟩
  | .hbm, ⟨45, _⟩ => ⟨S2x2x512x768, .f32⟩
  | .hbm, ⟨46, _⟩ => ⟨S2x2x512x768, .f32⟩
  | .hbm, ⟨47, _⟩ => ⟨S2x2x512x768, .f32⟩
  | .hbm, ⟨48, _⟩ => ⟨S_, .f32⟩
  | .hbm, ⟨49, _⟩ => ⟨S2x2x512x768, .f32⟩
  | .hbm, ⟨50, _⟩ => ⟨S2x2x512x768, .f32⟩
  | .hbm, ⟨51, _⟩ => ⟨S2x2x512x768, .f32⟩
  | .hbm, ⟨52, _⟩ => ⟨S_, .f32⟩
  | .hbm, ⟨53, _⟩ => ⟨S2x2x512x768, .f32⟩
  | .hbm, ⟨54, _⟩ => ⟨S2x2x512x768, .f32⟩
  | .hbm, ⟨55, _⟩ => ⟨S2, .i32⟩
  | .hbm, ⟨56, _⟩ => ⟨S2x1x1x1, .i32⟩
  | .hbm, ⟨57, _⟩ => ⟨S_, .i32⟩
  | .hbm, ⟨58, _⟩ => ⟨S2x1x1x1, .i32⟩
  | .hbm, ⟨59, _⟩ => ⟨S2x1x1x1, .i1⟩
  | .hbm, ⟨60, _⟩ => ⟨S2x2x512x768, .i1⟩
  | .hbm, ⟨61, _⟩ => ⟨S2x2x512x768, .f32⟩
  | .hbm, ⟨62, _⟩ => ⟨S2x2x512x768, .f32⟩
  | .hbm, ⟨63, _⟩ => ⟨S2, .i32⟩
  | .hbm, ⟨64, _⟩ => ⟨S2x1x1x1, .i32⟩
  | .hbm, ⟨65, _⟩ => ⟨S_, .i32⟩
  | .hbm, ⟨66, _⟩ => ⟨S2x1x1x1, .i32⟩
  | .hbm, ⟨67, _⟩ => ⟨S2x1x1x1, .i1⟩
  | .hbm, ⟨68, _⟩ => ⟨S2x2x512x768, .i1⟩
  | .hbm, ⟨69, _⟩ => ⟨S2x2x512x768, .f32⟩
  | .hbm, ⟨70, _⟩ => ⟨S2, .i32⟩
  | .hbm, ⟨71, _⟩ => ⟨S2x1x1x1, .i32⟩
  | .hbm, ⟨72, _⟩ => ⟨S_, .i32⟩
  | .hbm, ⟨73, _⟩ => ⟨S2x1x1x1, .i32⟩
  | .hbm, ⟨74, _⟩ => ⟨S2x1x1x1, .i1⟩
  | .hbm, ⟨75, _⟩ => ⟨S2x2x512x768, .i1⟩
  | .hbm, ⟨76, _⟩ => ⟨S2x2x512x768, .f32⟩
  | .hbm, ⟨77, _⟩ => ⟨S2, .i32⟩
  | .hbm, ⟨78, _⟩ => ⟨S2x1x1x1, .i32⟩
  | .hbm, ⟨79, _⟩ => ⟨S_, .i32⟩
  | .hbm, ⟨80, _⟩ => ⟨S2x1x1x1, .i32⟩
  | .hbm, ⟨81, _⟩ => ⟨S2x1x1x1, .i1⟩
  | .hbm, ⟨82, _⟩ => ⟨S2x2x512x768, .i1⟩
  | .hbm, ⟨83, _⟩ => ⟨S2x2x512x768, .f32⟩
  | _, _ => ⟨S512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c : Ref sig .tc := ⟨.hbm, 57, rfl⟩
abbrev main_v35 : Ref sig .tc := ⟨.hbm, 58, rfl⟩
abbrev main_v36 : Ref sig .tc := ⟨.hbm, 59, rfl⟩
abbrev main_call1_v0 : Ref sig .tc := ⟨.hbm, 60, rfl⟩
abbrev main_call1_v1 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_call2_v0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_9 : Ref sig .tc := ⟨.hbm, 72, rfl⟩
abbrev main_v45 : Ref sig .tc := ⟨.hbm, 73, rfl⟩
abbrev main_v46 : Ref sig .tc := ⟨.hbm, 74, rfl⟩
abbrev main_call3_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_10 : Ref sig .tc := ⟨.hbm, 79, rfl⟩
abbrev main_v50 : Ref sig .tc := ⟨.hbm, 80, rfl⟩
abbrev main_v51 : Ref sig .tc := ⟨.hbm, 81, rfl⟩
abbrev main_call4_v0 : Ref sig .tc := ⟨.hbm, 82, rfl⟩
abbrev main_v52 : Ref sig .tc := ⟨.hbm, 83, rfl⟩

abbrev nD : Nat := 1
abbrev τ : Topo := Topo.v7x

variable {F : FTy → Type} [FloatOps F]
-- ==== AdamO0.lean ====
abbrev S128x1024 : Shape := ⟨2, ![128, 1024]⟩
abbrev S1 : Shape := ⟨1, ![1]⟩
abbrev S2x2x128x1024 : Shape := ⟨4, ![2, 2, 128, 1024]⟩
abbrev S1x1x128x1024 : Shape := ⟨4, ![1, 1, 128, 1024]⟩

abbrev nBuf : Space → Nat
  | .hbm => 13
  | .vmem => 16
  | .smem => 1
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S2x2x128x1024, .f32⟩
  | .hbm, ⟨3, _⟩ => ⟨S2x2x128x1024, .f32⟩
  | .hbm, ⟨4, _⟩ => ⟨S2x2x128x1024, .f32⟩
  | .hbm, ⟨5, _⟩ => ⟨S2x2x128x1024, .f32⟩
  | .hbm, ⟨6, _⟩ => ⟨S2x2x128x1024, .f32⟩
  | .hbm, ⟨7, _⟩ => ⟨S2x2x128x1024, .f32⟩
  | .hbm, ⟨8, _⟩ => ⟨S2x2x128x1024, .f32⟩
  | .hbm, ⟨9, _⟩ => ⟨S2x2x128x1024, .f32⟩
  | .hbm, ⟨10, _⟩ => ⟨S2x2x128x1024, .f32⟩
  | .hbm, ⟨11, _⟩ => ⟨S2x2x128x1024, .f32⟩
  | .hbm, ⟨12, _⟩ => ⟨S2x2x128x1024, .f32⟩
  | .local _ .vmem, ⟨0, _⟩ => ⟨S128x1024, .f32⟩
  | .local _ .vmem, ⟨1, _⟩ => ⟨S128x1024, .f32⟩
  | .local _ .vmem, ⟨2, _⟩ => ⟨S1x1x128x1024, .f32⟩
  | .local _ .vmem, ⟨3, _⟩ => ⟨S1x1x128x1024, .f32⟩
  | .local _ .vmem, ⟨4, _⟩ => ⟨S1x1x128x1024, .f32⟩
  | .local _ .vmem, ⟨5, _⟩ => ⟨S1x1x128x1024, .f32⟩
  | .local _ .vmem, ⟨6, _⟩ => ⟨S1x1x128x1024, .f32⟩
  | .local _ .vmem, ⟨7, _⟩ => ⟨S1x1x128x1024, .f32⟩
  | .local _ .vmem, ⟨8, _⟩ => ⟨S1x1x128x1024, .f32⟩
  | .local _ .vmem, ⟨9, _⟩ => ⟨S1x1x128x1024, .f32⟩
  | .local _ .vmem, ⟨10, _⟩ => ⟨S1x1x128x1024, .f32⟩
  | .local _ .vmem, ⟨11, _⟩ => ⟨S1x1x128x1024, .f32⟩
  | .local _ .vmem, ⟨12, _⟩ => ⟨S1x1x128x1024, .f32⟩
  | .local _ .vmem, ⟨13, _⟩ => ⟨S1x1x128x1024, .f32⟩
  | .local _ .vmem, ⟨14, _⟩ => ⟨S1x1x128x1024, .f32⟩
  | .local _ .vmem, ⟨15, _⟩ => ⟨S1x1x128x1024, .f32⟩
  | .local _ .smem, ⟨0, _⟩ => ⟨S1, .i32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamO0RefIdeal.lean ====
abbrev S128x1024 : Shape := ⟨2, ![128, 1024]⟩
abbrev S1 : Shape := ⟨1, ![1]⟩
abbrev S2x2x128x1024 : Shape := ⟨4, ![2, 2, 128, 1024]⟩
abbrev S2 : Shape := ⟨1, ![2]⟩
abbrev S2x1x1 : Shape := ⟨3, ![2, 1, 1]⟩
abbrev S_ : Shape := ⟨0, ![]⟩
abbrev S2x128x1024 : Shape := ⟨3, ![2, 128, 1024]⟩
abbrev S1x2x128x1024 : Shape := ⟨4, ![1, 2, 128, 1024]⟩
abbrev S2x1x1x1 : Shape := ⟨4, ![2, 1, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1, .i32⟩
  | .hbm, ⟨3, _⟩ => ⟨S2x2x128x1024, .f32⟩
  | .hbm, ⟨4, _⟩ => ⟨S2x2x128x1024, .f32⟩
  | .hbm, ⟨5, _⟩ => ⟨S2x2x128x1024, .f32⟩
  | .hbm, ⟨6, _⟩ => ⟨S2x2x128x1024, .f32⟩
  | .hbm, ⟨7, _⟩ => ⟨S2x2x128x1024, .f32⟩
  | .hbm, ⟨8, _⟩ => ⟨S2x2x128x1024, .f32⟩
  | .hbm, ⟨9, _⟩ => ⟨S2x2x128x1024, .f32⟩
  | .hbm, ⟨10, _⟩ => ⟨S2, .i32⟩
  | .hbm, ⟨11, _⟩ => ⟨S2x1x1, .i32⟩
  | .hbm, ⟨12, _⟩ => ⟨S_, .i32⟩
  | .hbm, ⟨13, _⟩ => ⟨S2x1x1, .i32⟩
  | .hbm, ⟨14, _⟩ => ⟨S2x1x1, .i1⟩
  | .hbm, ⟨15, _⟩ => ⟨S2x128x1024, .i1⟩
  | .hbm, ⟨16, _⟩ => ⟨S2x128x1024, .f32⟩
  | .hbm, ⟨17, _⟩ => ⟨S2x128x1024, .f32⟩
  | .hbm, ⟨18, _⟩ => ⟨S2x128x1024, .f32⟩
  | .hbm, ⟨19, _⟩ => ⟨S1x2x128x1024, .f32⟩
  | .hbm, ⟨20, _⟩ => ⟨S_, .f32⟩
  | .hbm, ⟨21, _⟩ => ⟨S2x2x128x1024, .f32⟩
  | .hbm, ⟨22, _⟩ => ⟨S2x2x128x1024, .f32⟩
  | .hbm, ⟨23, _⟩ => ⟨S_, .f32⟩
  | .hbm, ⟨24, _⟩ => ⟨S1x2x128x1024, .f32⟩
  | .hbm, ⟨25, _⟩ => ⟨S1x2x128x1024, .f32⟩
  | .hbm, ⟨26, _⟩ => ⟨S2x2x128x1024, .f32⟩
  | .hbm, ⟨27, _⟩ => ⟨S2x2x128x1024, .f32⟩
  | .hbm, ⟨28, _⟩ => ⟨S_, .f32⟩
  | .hbm, ⟨29, _⟩ => ⟨S2x2x128x1024, .f32⟩
  | .hbm, ⟨30, _⟩ => ⟨S2x2x128x1024, .f32⟩
  | .hbm, ⟨31, _⟩ => ⟨S1x2x128x1024, .f32⟩
  | .hbm, ⟨32, _⟩ => ⟨S_, .f32⟩
  | .hbm, ⟨33, _⟩ => ⟨S1x2x128x1024, .f32⟩
  | .hbm, ⟨34, _⟩ => ⟨S1x2x128x1024, .f32⟩
  | .hbm, ⟨35, _⟩ => ⟨S2x2x128x1024, .f32⟩
  | .hbm, ⟨36, _⟩ => ⟨S2x2x128x1024, .f32⟩
  | .hbm, ⟨37, _⟩ => ⟨S_, .f32⟩
  | .hbm, ⟨38, _⟩ => ⟨S2x2x128x1024, .f32⟩
  | .hbm, ⟨39, _⟩ => ⟨S2x2x128x1024, .f32⟩
  | .hbm, ⟨40, _⟩ => ⟨S_, .f32⟩
  | .hbm, ⟨41, _⟩ => ⟨S2x2x128x1024, .f32⟩
  | .hbm, ⟨42, _⟩ => ⟨S2x2x128x1024, .f32⟩
  | .hbm, ⟨43, _⟩ => ⟨S2x2x128x1024, .f32⟩
  | .hbm, ⟨44, _⟩ => ⟨S_, .f32⟩
  | .hbm, ⟨45, _⟩ => ⟨S2x2x128x1024, .f32⟩
  | .hbm, ⟨46, _⟩ => ⟨S2x2x128x1024, .f32⟩
  | .hbm, ⟨47, _⟩ => ⟨S2x2x128x1024, .f32⟩
  | .hbm, ⟨48, _⟩ => ⟨S_, .f32⟩
  | .hbm, ⟨49, _⟩ => ⟨S2x2x128x1024, .f32⟩
  | .hbm, ⟨50, _⟩ => ⟨S2x2x128x1024, .f32⟩
  | .hbm, ⟨51, _⟩ => ⟨S2x2x128x1024, .f32⟩
  | .hbm, ⟨52, _⟩ => ⟨S_, .f32⟩
  | .hbm, ⟨53, _⟩ => ⟨S2x2x128x1024, .f32⟩
  | .hbm, ⟨54, _⟩ => ⟨S2x2x128x1024, .f32⟩
  | .hbm, ⟨55, _⟩ => ⟨S2, .i32⟩
  | .hbm, ⟨56, _⟩ => ⟨S2x1x1x1, .i32⟩
  | .hbm, ⟨57, _⟩ => ⟨S_, .i32⟩
  | .hbm, ⟨58, _⟩ => ⟨S2x1x1x1, .i32⟩
  | .hbm, ⟨59, _⟩ => ⟨S2x1x1x1, .i1⟩
  | .hbm, ⟨60, _⟩ => ⟨S2x2x128x1024, .i1⟩
  | .hbm, ⟨61, _⟩ => ⟨S2x2x128x1024, .f32⟩
  | .hbm, ⟨62, _⟩ => ⟨S2x2x128x1024, .f32⟩
  | .hbm, ⟨63, _⟩ => ⟨S2, .i32⟩
  | .hbm, ⟨64, _⟩ => ⟨S2x1x1x1, .i32⟩
  | .hbm, ⟨65, _⟩ => ⟨S_, .i32⟩
  | .hbm, ⟨66, _⟩ => ⟨S2x1x1x1, .i32⟩
  | .hbm, ⟨67, _⟩ => ⟨S2x1x1x1, .i1⟩
  | .hbm, ⟨68, _⟩ => ⟨S2x2x128x1024, .i1⟩
  | .hbm, ⟨69, _⟩ => ⟨S2x2x128x1024, .f32⟩
  | .hbm, ⟨70, _⟩ => ⟨S2, .i32⟩
  | .hbm, ⟨71, _⟩ => ⟨S2x1x1x1, .i32⟩
  | .hbm, ⟨72, _⟩ => ⟨S_, .i32⟩
  | .hbm, ⟨73, _⟩ => ⟨S2x1x1x1, .i32⟩
  | .hbm, ⟨74, _⟩ => ⟨S2x1x1x1, .i1⟩
  | .hbm, ⟨75, _⟩ => ⟨S2x2x128x1024, .i1⟩
  | .hbm, ⟨76, _⟩ => ⟨S2x2x128x1024, .f32⟩
  | .hbm, ⟨77, _⟩ => ⟨S2, .i32⟩
  | .hbm, ⟨78, _⟩ => ⟨S2x1x1x1, .i32⟩
  | .hbm, ⟨79, _⟩ => ⟨S_, .i32⟩
  | .hbm, ⟨80, _⟩ => ⟨S2x1x1x1, .i32⟩
  | .hbm, ⟨81, _⟩ => ⟨S2x1x1x1, .i1⟩
  | .hbm, ⟨82, _⟩ => ⟨S2x2x128x1024, .i1⟩
  | .hbm, ⟨83, _⟩ => ⟨S2x2x128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c : Ref sig .tc := ⟨.hbm, 57, rfl⟩
abbrev main_v35 : Ref sig .tc := ⟨.hbm, 58, rfl⟩
abbrev main_v36 : Ref sig .tc := ⟨.hbm, 59, rfl⟩
abbrev main_call1_v0 : Ref sig .tc := ⟨.hbm, 60, rfl⟩
abbrev main_call1_v1 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_call2_v0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_9 : Ref sig .tc := ⟨.hbm, 72, rfl⟩
abbrev main_v45 : Ref sig .tc := ⟨.hbm, 73, rfl⟩
abbrev main_v46 : Ref sig .tc := ⟨.hbm, 74, rfl⟩
abbrev main_call3_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_10 : Ref sig .tc := ⟨.hbm, 79, rfl⟩
abbrev main_v50 : Ref sig .tc := ⟨.hbm, 80, rfl⟩
abbrev main_v51 : Ref sig .tc := ⟨.hbm, 81, rfl⟩
abbrev main_call4_v0 : Ref sig .tc := ⟨.hbm, 82, rfl⟩
abbrev main_v52 : Ref sig .tc := ⟨.hbm, 83, rfl⟩

abbrev nD : Nat := 1
abbrev τ : Topo := Topo.v7x

variable {F : FTy → Type} [FloatOps F]
-- ==== AdamO1.lean ====
abbrev S128x1024 : Shape := ⟨2, ![128, 1024]⟩
abbrev S1 : Shape := ⟨1, ![1]⟩
abbrev S2x2x128x1024 : Shape := ⟨4, ![2, 2, 128, 1024]⟩
abbrev S1x1x128x1024 : Shape := ⟨4, ![1, 1, 128, 1024]⟩

abbrev nBuf : Space → Nat
  | .hbm => 13
  | .vmem => 16
  | .smem => 1
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S2x2x128x1024, .f32⟩
  | .hbm, ⟨3, _⟩ => ⟨S2x2x128x1024, .f32⟩
  | .hbm, ⟨4, _⟩ => ⟨S2x2x128x1024, .f32⟩
  | .hbm, ⟨5, _⟩ => ⟨S2x2x128x1024, .f32⟩
  | .hbm, ⟨6, _⟩ => ⟨S2x2x128x1024, .f32⟩
  | .hbm, ⟨7, _⟩ => ⟨S2x2x128x1024, .f32⟩
  | .hbm, ⟨8, _⟩ => ⟨S2x2x128x1024, .f32⟩
  | .hbm, ⟨9, _⟩ => ⟨S2x2x128x1024, .f32⟩
  | .hbm, ⟨10, _⟩ => ⟨S2x2x128x1024, .f32⟩
  | .hbm, ⟨11, _⟩ => ⟨S2x2x128x1024, .f32⟩
  | .hbm, ⟨12, _⟩ => ⟨S2x2x128x1024, .f32⟩
  | .local _ .vmem, ⟨0, _⟩ => ⟨S128x1024, .f32⟩
  | .local _ .vmem, ⟨1, _⟩ => ⟨S128x1024, .f32⟩
  | .local _ .vmem, ⟨2, _⟩ => ⟨S1x1x128x1024, .f32⟩
  | .local _ .vmem, ⟨3, _⟩ => ⟨S1x1x128x1024, .f32⟩
  | .local _ .vmem, ⟨4, _⟩ => ⟨S1x1x128x1024, .f32⟩
  | .local _ .vmem, ⟨5, _⟩ => ⟨S1x1x128x1024, .f32⟩
  | .local _ .vmem, ⟨6, _⟩ => ⟨S1x1x128x1024, .f32⟩
  | .local _ .vmem, ⟨7, _⟩ => ⟨S1x1x128x1024, .f32⟩
  | .local _ .vmem, ⟨8, _⟩ => ⟨S1x1x128x1024, .f32⟩
  | .local _ .vmem, ⟨9, _⟩ => ⟨S1x1x128x1024, .f32⟩
  | .local _ .vmem, ⟨10, _⟩ => ⟨S1x1x128x1024, .f32⟩
  | .local _ .vmem, ⟨11, _⟩ => ⟨S1x1x128x1024, .f32⟩
  | .local _ .vmem, ⟨12, _⟩ => ⟨S1x1x128x1024, .f32⟩
  | .local _ .vmem, ⟨13, _⟩ => ⟨S1x1x128x1024, .f32⟩
  | .local _ .vmem, ⟨14, _⟩ => ⟨S1x1x128x1024, .f32⟩
  | .local _ .vmem, ⟨15, _⟩ => ⟨S1x1x128x1024, .f32⟩
  | .local _ .smem, ⟨0, _⟩ => ⟨S1, .i32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamO1RefIdeal.lean ====
abbrev S128x1024 : Shape := ⟨2, ![128, 1024]⟩
abbrev S1 : Shape := ⟨1, ![1]⟩
abbrev S2x2x128x1024 : Shape := ⟨4, ![2, 2, 128, 1024]⟩
abbrev S2 : Shape := ⟨1, ![2]⟩
abbrev S2x1x1 : Shape := ⟨3, ![2, 1, 1]⟩
abbrev S_ : Shape := ⟨0, ![]⟩
abbrev S2x128x1024 : Shape := ⟨3, ![2, 128, 1024]⟩
abbrev S1x2x128x1024 : Shape := ⟨4, ![1, 2, 128, 1024]⟩
abbrev S2x1x1x1 : Shape := ⟨4, ![2, 1, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1, .i32⟩
  | .hbm, ⟨3, _⟩ => ⟨S2x2x128x1024, .f32⟩
  | .hbm, ⟨4, _⟩ => ⟨S2x2x128x1024, .f32⟩
  | .hbm, ⟨5, _⟩ => ⟨S2x2x128x1024, .f32⟩
  | .hbm, ⟨6, _⟩ => ⟨S2x2x128x1024, .f32⟩
  | .hbm, ⟨7, _⟩ => ⟨S2x2x128x1024, .f32⟩
  | .hbm, ⟨8, _⟩ => ⟨S2x2x128x1024, .f32⟩
  | .hbm, ⟨9, _⟩ => ⟨S2x2x128x1024, .f32⟩
  | .hbm, ⟨10, _⟩ => ⟨S2, .i32⟩
  | .hbm, ⟨11, _⟩ => ⟨S2x1x1, .i32⟩
  | .hbm, ⟨12, _⟩ => ⟨S_, .i32⟩
  | .hbm, ⟨13, _⟩ => ⟨S2x1x1, .i32⟩
  | .hbm, ⟨14, _⟩ => ⟨S2x1x1, .i1⟩
  | .hbm, ⟨15, _⟩ => ⟨S2x128x1024, .i1⟩
  | .hbm, ⟨16, _⟩ => ⟨S2x128x1024, .f32⟩
  | .hbm, ⟨17, _⟩ => ⟨S2x128x1024, .f32⟩
  | .hbm, ⟨18, _⟩ => ⟨S2x128x1024, .f32⟩
  | .hbm, ⟨19, _⟩ => ⟨S1x2x128x1024, .f32⟩
  | .hbm, ⟨20, _⟩ => ⟨S_, .f32⟩
  | .hbm, ⟨21, _⟩ => ⟨S2x2x128x1024, .f32⟩
  | .hbm, ⟨22, _⟩ => ⟨S2x2x128x1024, .f32⟩
  | .hbm, ⟨23, _⟩ => ⟨S_, .f32⟩
  | .hbm, ⟨24, _⟩ => ⟨S1x2x128x1024, .f32⟩
  | .hbm, ⟨25, _⟩ => ⟨S1x2x128x1024, .f32⟩
  | .hbm, ⟨26, _⟩ => ⟨S2x2x128x1024, .f32⟩
  | .hbm, ⟨27, _⟩ => ⟨S2x2x128x1024, .f32⟩
  | .hbm, ⟨28, _⟩ => ⟨S_, .f32⟩
  | .hbm, ⟨29, _⟩ => ⟨S2x2x128x1024, .f32⟩
  | .hbm, ⟨30, _⟩ => ⟨S2x2x128x1024, .f32⟩
  | .hbm, ⟨31, _⟩ => ⟨S1x2x128x1024, .f32⟩
  | .hbm, ⟨32, _⟩ => ⟨S_, .f32⟩
  | .hbm, ⟨33, _⟩ => ⟨S1x2x128x1024, .f32⟩
  | .hbm, ⟨34, _⟩ => ⟨S1x2x128x1024, .f32⟩
  | .hbm, ⟨35, _⟩ => ⟨S2x2x128x1024, .f32⟩
  | .hbm, ⟨36, _⟩ => ⟨S2x2x128x1024, .f32⟩
  | .hbm, ⟨37, _⟩ => ⟨S_, .f32⟩
  | .hbm, ⟨38, _⟩ => ⟨S2x2x128x1024, .f32⟩
  | .hbm, ⟨39, _⟩ => ⟨S2x2x128x1024, .f32⟩
  | .hbm, ⟨40, _⟩ => ⟨S_, .f32⟩
  | .hbm, ⟨41, _⟩ => ⟨S2x2x128x1024, .f32⟩
  | .hbm, ⟨42, _⟩ => ⟨S2x2x128x1024, .f32⟩
  | .hbm, ⟨43, _⟩ => ⟨S2x2x128x1024, .f32⟩
  | .hbm, ⟨44, _⟩ => ⟨S_, .f32⟩
  | .hbm, ⟨45, _⟩ => ⟨S2x2x128x1024, .f32⟩
  | .hbm, ⟨46, _⟩ => ⟨S2x2x128x1024, .f32⟩
  | .hbm, ⟨47, _⟩ => ⟨S2x2x128x1024, .f32⟩
  | .hbm, ⟨48, _⟩ => ⟨S_, .f32⟩
  | .hbm, ⟨49, _⟩ => ⟨S2x2x128x1024, .f32⟩
  | .hbm, ⟨50, _⟩ => ⟨S2x2x128x1024, .f32⟩
  | .hbm, ⟨51, _⟩ => ⟨S2x2x128x1024, .f32⟩
  | .hbm, ⟨52, _⟩ => ⟨S_, .f32⟩
  | .hbm, ⟨53, _⟩ => ⟨S2x2x128x1024, .f32⟩
  | .hbm, ⟨54, _⟩ => ⟨S2x2x128x1024, .f32⟩
  | .hbm, ⟨55, _⟩ => ⟨S2, .i32⟩
  | .hbm, ⟨56, _⟩ => ⟨S2x1x1x1, .i32⟩
  | .hbm, ⟨57, _⟩ => ⟨S_, .i32⟩
  | .hbm, ⟨58, _⟩ => ⟨S2x1x1x1, .i32⟩
  | .hbm, ⟨59, _⟩ => ⟨S2x1x1x1, .i1⟩
  | .hbm, ⟨60, _⟩ => ⟨S2x2x128x1024, .i1⟩
  | .hbm, ⟨61, _⟩ => ⟨S2x2x128x1024, .f32⟩
  | .hbm, ⟨62, _⟩ => ⟨S2x2x128x1024, .f32⟩
  | .hbm, ⟨63, _⟩ => ⟨S2, .i32⟩
  | .hbm, ⟨64, _⟩ => ⟨S2x1x1x1, .i32⟩
  | .hbm, ⟨65, _⟩ => ⟨S_, .i32⟩
  | .hbm, ⟨66, _⟩ => ⟨S2x1x1x1, .i32⟩
  | .hbm, ⟨67, _⟩ => ⟨S2x1x1x1, .i1⟩
  | .hbm, ⟨68, _⟩ => ⟨S2x2x128x1024, .i1⟩
  | .hbm, ⟨69, _⟩ => ⟨S2x2x128x1024, .f32⟩
  | .hbm, ⟨70, _⟩ => ⟨S2, .i32⟩
  | .hbm, ⟨71, _⟩ => ⟨S2x1x1x1, .i32⟩
  | .hbm, ⟨72, _⟩ => ⟨S_, .i32⟩
  | .hbm, ⟨73, _⟩ => ⟨S2x1x1x1, .i32⟩
  | .hbm, ⟨74, _⟩ => ⟨S2x1x1x1, .i1⟩
  | .hbm, ⟨75, _⟩ => ⟨S2x2x128x1024, .i1⟩
  | .hbm, ⟨76, _⟩ => ⟨S2x2x128x1024, .f32⟩
  | .hbm, ⟨77, _⟩ => ⟨S2, .i32⟩
  | .hbm, ⟨78, _⟩ => ⟨S2x1x1x1, .i32⟩
  | .hbm, ⟨79, _⟩ => ⟨S_, .i32⟩
  | .hbm, ⟨80, _⟩ => ⟨S2x1x1x1, .i32⟩
  | .hbm, ⟨81, _⟩ => ⟨S2x1x1x1, .i1⟩
  | .hbm, ⟨82, _⟩ => ⟨S2x2x128x1024, .i1⟩
  | .hbm, ⟨83, _⟩ => ⟨S2x2x128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c : Ref sig .tc := ⟨.hbm, 57, rfl⟩
abbrev main_v35 : Ref sig .tc := ⟨.hbm, 58, rfl⟩
abbrev main_v36 : Ref sig .tc := ⟨.hbm, 59, rfl⟩
abbrev main_call1_v0 : Ref sig .tc := ⟨.hbm, 60, rfl⟩
abbrev main_call1_v1 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_call2_v0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_9 : Ref sig .tc := ⟨.hbm, 72, rfl⟩
abbrev main_v45 : Ref sig .tc := ⟨.hbm, 73, rfl⟩
abbrev main_v46 : Ref sig .tc := ⟨.hbm, 74, rfl⟩
abbrev main_call3_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_10 : Ref sig .tc := ⟨.hbm, 79, rfl⟩
abbrev main_v50 : Ref sig .tc := ⟨.hbm, 80, rfl⟩
abbrev main_v51 : Ref sig .tc := ⟨.hbm, 81, rfl⟩
abbrev main_call4_v0 : Ref sig .tc := ⟨.hbm, 82, rfl⟩
abbrev main_v52 : Ref sig .tc := ⟨.hbm, 83, rfl⟩

abbrev nD : Nat := 1
abbrev τ : Topo := Topo.v7x

variable {F : FTy → Type} [FloatOps F]
-- ==== AdamGate0.lean ====
abbrev S512x704 : Shape := ⟨2, ![512, 704]⟩
abbrev S1 : Shape := ⟨1, ![1]⟩
abbrev S4x2x512x704 : Shape := ⟨4, ![4, 2, 512, 704]⟩
abbrev S256x704 : Shape := ⟨2, ![256, 704]⟩
abbrev S1x1x256x704 : Shape := ⟨4, ![1, 1, 256, 704]⟩

abbrev nBuf : Space → Nat
  | .hbm => 13
  | .vmem => 18
  | .smem => 1
  | _ => 0

abbrev bufTy : (tb : Table) → Fin (tcTables nBuf tb) → BufTy
  | .hbm, ⟨0, _⟩ => ⟨S512x704, .f32⟩
  | .hbm, ⟨1, _⟩ => ⟨S512x704, .f32⟩
  | .hbm, ⟨2, _⟩ => ⟨S4x2x512x704, .f32⟩
  | .hbm, ⟨3, _⟩ => ⟨S4x2x512x704, .f32⟩
  | .hbm, ⟨4, _⟩ => ⟨S4x2x512x704, .f32⟩
  | .hbm, ⟨5, _⟩ => ⟨S4x2x512x704, .f32⟩
  | .hbm, ⟨6, _⟩ => ⟨S4x2x512x704, .f32⟩
  | .hbm, ⟨7, _⟩ => ⟨S4x2x512x704, .f32⟩
  | .hbm, ⟨8, _⟩ => ⟨S4x2x512x704, .f32⟩
  | .hbm, ⟨9, _⟩ => ⟨S4x2x512x704, .f32⟩
  | .hbm, ⟨10, _⟩ => ⟨S4x2x512x704, .f32⟩
  | .hbm, ⟨11, _⟩ => ⟨S4x2x512x704, .f32⟩
  | .hbm, ⟨12, _⟩ => ⟨S4x2x512x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S1x1x256x704, .f32⟩
  | .local _ .vmem, ⟨5, _⟩ => ⟨S1x1x256x704, .f32⟩
  | .local _ .vmem, ⟨6, _⟩ => ⟨S1x1x256x704, .f32⟩
  | .local _ .vmem, ⟨7, _⟩ => ⟨S1x1x256x704, .f32⟩
  | .local _ .vmem, ⟨8, _⟩ => ⟨S1x1x256x704, .f32⟩
  | .local _ .vmem, ⟨9, _⟩ => ⟨S1x1x256x704, .f32⟩
  | .local _ .vmem, ⟨10, _⟩ => ⟨S1x1x256x704, .f32⟩
  | .local _ .vmem, ⟨11, _⟩ => ⟨S1x1x256x704, .f32⟩
  | .local _ .vmem, ⟨12, _⟩ => ⟨S1x1x256x704, .f32⟩
  | .local _ .vmem, ⟨13, _⟩ => ⟨S1x1x256x704, .f32⟩
  | .local _ .vmem, ⟨14, _⟩ => ⟨S1x1x256x704, .f32⟩
  | .local _ .vmem, ⟨15, _⟩ => ⟨S1x1x256x704, .f32⟩
  | .local _ .vmem, ⟨16, _⟩ => ⟨S1x1x256x704, .f32⟩
  | .local _ .vmem, ⟨17, _⟩ => ⟨S1x1x256x704, .f32⟩
  | .local _ .smem, ⟨0, _⟩ => ⟨S1, .i32⟩
  | _, _ => ⟨S512x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamGate0RefIdeal.lean ====
abbrev S512x704 : Shape := ⟨2, ![512, 704]⟩
abbrev S1 : Shape := ⟨1, ![1]⟩
abbrev S4x2x512x704 : Shape := ⟨4, ![4, 2, 512, 704]⟩
abbrev S2 : Shape := ⟨1, ![2]⟩
abbrev S2x1x1 : Shape := ⟨3, ![2, 1, 1]⟩
abbrev S_ : Shape := ⟨0, ![]⟩
abbrev S2x512x704 : Shape := ⟨3, ![2, 512, 704]⟩
abbrev S1x2x512x704 : Shape := ⟨4, ![1, 2, 512, 704]⟩
abbrev S4 : Shape := ⟨1, ![4]⟩
abbrev S4x1x1x1 : Shape := ⟨4, ![4, 1, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S512x704, .f32⟩
  | .hbm, ⟨1, _⟩ => ⟨S512x704, .f32⟩
  | .hbm, ⟨2, _⟩ => ⟨S1, .i32⟩
  | .hbm, ⟨3, _⟩ => ⟨S4x2x512x704, .f32⟩
  | .hbm, ⟨4, _⟩ => ⟨S4x2x512x704, .f32⟩
  | .hbm, ⟨5, _⟩ => ⟨S4x2x512x704, .f32⟩
  | .hbm, ⟨6, _⟩ => ⟨S4x2x512x704, .f32⟩
  | .hbm, ⟨7, _⟩ => ⟨S4x2x512x704, .f32⟩
  | .hbm, ⟨8, _⟩ => ⟨S4x2x512x704, .f32⟩
  | .hbm, ⟨9, _⟩ => ⟨S4x2x512x704, .f32⟩
  | .hbm, ⟨10, _⟩ => ⟨S2, .i32⟩
  | .hbm, ⟨11, _⟩ => ⟨S2x1x1, .i32⟩
  | .hbm, ⟨12, _⟩ => ⟨S_, .i32⟩
  | .hbm, ⟨13, _⟩ => ⟨S2x1x1, .i32⟩
  | .hbm, ⟨14, _⟩ => ⟨S2x1x1, .i1⟩
  | .hbm, ⟨15, _⟩ => ⟨S2x512x704, .i1⟩
  | .hbm, ⟨16, _⟩ => ⟨S2x512x704, .f32⟩
  | .hbm, ⟨17, _⟩ => ⟨S2x512x704, .f32⟩
  | .hbm, ⟨18, _⟩ => ⟨S2x512x704, .f32⟩
  | .hbm, ⟨19, _⟩ => ⟨S1x2x512x704, .f32⟩
  | .hbm, ⟨20, _⟩ => ⟨S_, .f32⟩
  | .hbm, ⟨21, _⟩ => ⟨S4x2x512x704, .f32⟩
  | .hbm, ⟨22, _⟩ => ⟨S4x2x512x704, .f32⟩
  | .hbm, ⟨23, _⟩ => ⟨S_, .f32⟩
  | .hbm, ⟨24, _⟩ => ⟨S1x2x512x704, .f32⟩
  | .hbm, ⟨25, _⟩ => ⟨S1x2x512x704, .f32⟩
  | .hbm, ⟨26, _⟩ => ⟨S4x2x512x704, .f32⟩
  | .hbm, ⟨27, _⟩ => ⟨S4x2x512x704, .f32⟩
  | .hbm, ⟨28, _⟩ => ⟨S_, .f32⟩
  | .hbm, ⟨29, _⟩ => ⟨S4x2x512x704, .f32⟩
  | .hbm, ⟨30, _⟩ => ⟨S4x2x512x704, .f32⟩
  | .hbm, ⟨31, _⟩ => ⟨S1x2x512x704, .f32⟩
  | .hbm, ⟨32, _⟩ => ⟨S_, .f32⟩
  | .hbm, ⟨33, _⟩ => ⟨S1x2x512x704, .f32⟩
  | .hbm, ⟨34, _⟩ => ⟨S1x2x512x704, .f32⟩
  | .hbm, ⟨35, _⟩ => ⟨S4x2x512x704, .f32⟩
  | .hbm, ⟨36, _⟩ => ⟨S4x2x512x704, .f32⟩
  | .hbm, ⟨37, _⟩ => ⟨S_, .f32⟩
  | .hbm, ⟨38, _⟩ => ⟨S4x2x512x704, .f32⟩
  | .hbm, ⟨39, _⟩ => ⟨S4x2x512x704, .f32⟩
  | .hbm, ⟨40, _⟩ => ⟨S_, .f32⟩
  | .hbm, ⟨41, _⟩ => ⟨S4x2x512x704, .f32⟩
  | .hbm, ⟨42, _⟩ => ⟨S4x2x512x704, .f32⟩
  | .hbm, ⟨43, _⟩ => ⟨S4x2x512x704, .f32⟩
  | .hbm, ⟨44, _⟩ => ⟨S_, .f32⟩
  | .hbm, ⟨45, _⟩ => ⟨S4x2x512x704, .f32⟩
  | .hbm, ⟨46, _⟩ => ⟨S4x2x512x704, .f32⟩
  | .hbm, ⟨47, _⟩ => ⟨S4x2x512x704, .f32⟩
  | .hbm, ⟨48, _⟩ => ⟨S_, .f32⟩
  | .hbm, ⟨49, _⟩ => ⟨S4x2x512x704, .f32⟩
  | .hbm, ⟨50, _⟩ => ⟨S4x2x512x704, .f32⟩
  | .hbm, ⟨51, _⟩ => ⟨S4x2x512x704, .f32⟩
  | .hbm, ⟨52, _⟩ => ⟨S_, .f32⟩
  | .hbm, ⟨53, _⟩ => ⟨S4x2x512x704, .f32⟩
  | .hbm, ⟨54, _⟩ => ⟨S4x2x512x704, .f32⟩
  | .hbm, ⟨55, _⟩ => ⟨S4, .i32⟩
  | .hbm, ⟨56, _⟩ => ⟨S4x1x1x1, .i32⟩
  | .hbm, ⟨57, _⟩ => ⟨S_, .i32⟩
  | .hbm, ⟨58, _⟩ => ⟨S4x1x1x1, .i32⟩
  | .hbm, ⟨59, _⟩ => ⟨S4x1x1x1, .i1⟩
  | .hbm, ⟨60, _⟩ => ⟨S4x2x512x704, .i1⟩
  | .hbm, ⟨61, _⟩ => ⟨S4x2x512x704, .f32⟩
  | .hbm, ⟨62, _⟩ => ⟨S4x2x512x704, .f32⟩
  | .hbm, ⟨63, _⟩ => ⟨S4, .i32⟩
  | .hbm, ⟨64, _⟩ => ⟨S4x1x1x1, .i32⟩
  | .hbm, ⟨65, _⟩ => ⟨S_, .i32⟩
  | .hbm, ⟨66, _⟩ => ⟨S4x1x1x1, .i32⟩
  | .hbm, ⟨67, _⟩ => ⟨S4x1x1x1, .i1⟩
  | .hbm, ⟨68, _⟩ => ⟨S4x2x512x704, .i1⟩
  | .hbm, ⟨69, _⟩ => ⟨S4x2x512x704, .f32⟩
  | .hbm, ⟨70, _⟩ => ⟨S4, .i32⟩
  | .hbm, ⟨71, _⟩ => ⟨S4x1x1x1, .i32⟩
  | .hbm, ⟨72, _⟩ => ⟨S_, .i32⟩
  | .hbm, ⟨73, _⟩ => ⟨S4x1x1x1, .i32⟩
  | .hbm, ⟨74, _⟩ => ⟨S4x1x1x1, .i1⟩
  | .hbm, ⟨75, _⟩ => ⟨S4x2x512x704, .i1⟩
  | .hbm, ⟨76, _⟩ => ⟨S4x2x512x704, .f32⟩
  | .hbm, ⟨77, _⟩ => ⟨S4, .i32⟩
  | .hbm, ⟨78, _⟩ => ⟨S4x1x1x1, .i32⟩
  | .hbm, ⟨79, _⟩ => ⟨S_, .i32⟩
  | .hbm, ⟨80, _⟩ => ⟨S4x1x1x1, .i32⟩
  | .hbm, ⟨81, _⟩ => ⟨S4x1x1x1, .i1⟩
  | .hbm, ⟨82, _⟩ => ⟨S4x2x512x704, .i1⟩
  | .hbm, ⟨83, _⟩ => ⟨S4x2x512x704, .f32⟩
  | _, _ => ⟨S512x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c : Ref sig .tc := ⟨.hbm, 57, rfl⟩
abbrev main_v35 : Ref sig .tc := ⟨.hbm, 58, rfl⟩
abbrev main_v36 : Ref sig .tc := ⟨.hbm, 59, rfl⟩
abbrev main_call1_v0 : Ref sig .tc := ⟨.hbm, 60, rfl⟩
abbrev main_call1_v1 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_call2_v0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_9 : Ref sig .tc := ⟨.hbm, 72, rfl⟩
abbrev main_v45 : Ref sig .tc := ⟨.hbm, 73, rfl⟩
abbrev main_v46 : Ref sig .tc := ⟨.hbm, 74, rfl⟩
abbrev main_call3_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_10 : Ref sig .tc := ⟨.hbm, 79, rfl⟩
abbrev main_v50 : Ref sig .tc := ⟨.hbm, 80, rfl⟩
abbrev main_v51 : Ref sig .tc := ⟨.hbm, 81, rfl⟩
abbrev main_call4_v0 : Ref sig .tc := ⟨.hbm, 82, rfl⟩
abbrev main_v52 : Ref sig .tc := ⟨.hbm, 83, rfl⟩

abbrev nD : Nat := 1
abbrev τ : Topo := Topo.v7x

variable {F : FTy → Type} [FloatOps F]
-- ==== AdamGate1.lean ====
abbrev S512x704 : Shape := ⟨2, ![512, 704]⟩
abbrev S1 : Shape := ⟨1, ![1]⟩
abbrev S4x2x512x704 : Shape := ⟨4, ![4, 2, 512, 704]⟩
abbrev S256x704 : Shape := ⟨2, ![256, 704]⟩
abbrev S1x1x256x704 : Shape := ⟨4, ![1, 1, 256, 704]⟩

abbrev nBuf : Space → Nat
  | .hbm => 13
  | .vmem => 18
  | .smem => 1
  | _ => 0

abbrev bufTy : (tb : Table) → Fin (tcTables nBuf tb) → BufTy
  | .hbm, ⟨0, _⟩ => ⟨S512x704, .f32⟩
  | .hbm, ⟨1, _⟩ => ⟨S512x704, .f32⟩
  | .hbm, ⟨2, _⟩ => ⟨S4x2x512x704, .f32⟩
  | .hbm, ⟨3, _⟩ => ⟨S4x2x512x704, .f32⟩
  | .hbm, ⟨4, _⟩ => ⟨S4x2x512x704, .f32⟩
  | .hbm, ⟨5, _⟩ => ⟨S4x2x512x704, .f32⟩
  | .hbm, ⟨6, _⟩ => ⟨S4x2x512x704, .f32⟩
  | .hbm, ⟨7, _⟩ => ⟨S4x2x512x704, .f32⟩
  | .hbm, ⟨8, _⟩ => ⟨S4x2x512x704, .f32⟩
  | .hbm, ⟨9, _⟩ => ⟨S4x2x512x704, .f32⟩
  | .hbm, ⟨10, _⟩ => ⟨S4x2x512x704, .f32⟩
  | .hbm, ⟨11, _⟩ => ⟨S4x2x512x704, .f32⟩
  | .hbm, ⟨12, _⟩ => ⟨S4x2x512x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S1x1x256x704, .f32⟩
  | .local _ .vmem, ⟨5, _⟩ => ⟨S1x1x256x704, .f32⟩
  | .local _ .vmem, ⟨6, _⟩ => ⟨S1x1x256x704, .f32⟩
  | .local _ .vmem, ⟨7, _⟩ => ⟨S1x1x256x704, .f32⟩
  | .local _ .vmem, ⟨8, _⟩ => ⟨S1x1x256x704, .f32⟩
  | .local _ .vmem, ⟨9, _⟩ => ⟨S1x1x256x704, .f32⟩
  | .local _ .vmem, ⟨10, _⟩ => ⟨S1x1x256x704, .f32⟩
  | .local _ .vmem, ⟨11, _⟩ => ⟨S1x1x256x704, .f32⟩
  | .local _ .vmem, ⟨12, _⟩ => ⟨S1x1x256x704, .f32⟩
  | .local _ .vmem, ⟨13, _⟩ => ⟨S1x1x256x704, .f32⟩
  | .local _ .vmem, ⟨14, _⟩ => ⟨S1x1x256x704, .f32⟩
  | .local _ .vmem, ⟨15, _⟩ => ⟨S1x1x256x704, .f32⟩
  | .local _ .vmem, ⟨16, _⟩ => ⟨S1x1x256x704, .f32⟩
  | .local _ .vmem, ⟨17, _⟩ => ⟨S1x1x256x704, .f32⟩
  | .local _ .smem, ⟨0, _⟩ => ⟨S1, .i32⟩
  | _, _ => ⟨S512x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamGate1RefIdeal.lean ====
abbrev S512x704 : Shape := ⟨2, ![512, 704]⟩
abbrev S1 : Shape := ⟨1, ![1]⟩
abbrev S4x2x512x704 : Shape := ⟨4, ![4, 2, 512, 704]⟩
abbrev S2 : Shape := ⟨1, ![2]⟩
abbrev S2x1x1 : Shape := ⟨3, ![2, 1, 1]⟩
abbrev S_ : Shape := ⟨0, ![]⟩
abbrev S2x512x704 : Shape := ⟨3, ![2, 512, 704]⟩
abbrev S1x2x512x704 : Shape := ⟨4, ![1, 2, 512, 704]⟩
abbrev S4 : Shape := ⟨1, ![4]⟩
abbrev S4x1x1x1 : Shape := ⟨4, ![4, 1, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S512x704, .f32⟩
  | .hbm, ⟨1, _⟩ => ⟨S512x704, .f32⟩
  | .hbm, ⟨2, _⟩ => ⟨S1, .i32⟩
  | .hbm, ⟨3, _⟩ => ⟨S4x2x512x704, .f32⟩
  | .hbm, ⟨4, _⟩ => ⟨S4x2x512x704, .f32⟩
  | .hbm, ⟨5, _⟩ => ⟨S4x2x512x704, .f32⟩
  | .hbm, ⟨6, _⟩ => ⟨S4x2x512x704, .f32⟩
  | .hbm, ⟨7, _⟩ => ⟨S4x2x512x704, .f32⟩
  | .hbm, ⟨8, _⟩ => ⟨S4x2x512x704, .f32⟩
  | .hbm, ⟨9, _⟩ => ⟨S4x2x512x704, .f32⟩
  | .hbm, ⟨10, _⟩ => ⟨S2, .i32⟩
  | .hbm, ⟨11, _⟩ => ⟨S2x1x1, .i32⟩
  | .hbm, ⟨12, _⟩ => ⟨S_, .i32⟩
  | .hbm, ⟨13, _⟩ => ⟨S2x1x1, .i32⟩
  | .hbm, ⟨14, _⟩ => ⟨S2x1x1, .i1⟩
  | .hbm, ⟨15, _⟩ => ⟨S2x512x704, .i1⟩
  | .hbm, ⟨16, _⟩ => ⟨S2x512x704, .f32⟩
  | .hbm, ⟨17, _⟩ => ⟨S2x512x704, .f32⟩
  | .hbm, ⟨18, _⟩ => ⟨S2x512x704, .f32⟩
  | .hbm, ⟨19, _⟩ => ⟨S1x2x512x704, .f32⟩
  | .hbm, ⟨20, _⟩ => ⟨S_, .f32⟩
  | .hbm, ⟨21, _⟩ => ⟨S4x2x512x704, .f32⟩
  | .hbm, ⟨22, _⟩ => ⟨S4x2x512x704, .f32⟩
  | .hbm, ⟨23, _⟩ => ⟨S_, .f32⟩
  | .hbm, ⟨24, _⟩ => ⟨S1x2x512x704, .f32⟩
  | .hbm, ⟨25, _⟩ => ⟨S1x2x512x704, .f32⟩
  | .hbm, ⟨26, _⟩ => ⟨S4x2x512x704, .f32⟩
  | .hbm, ⟨27, _⟩ => ⟨S4x2x512x704, .f32⟩
  | .hbm, ⟨28, _⟩ => ⟨S_, .f32⟩
  | .hbm, ⟨29, _⟩ => ⟨S4x2x512x704, .f32⟩
  | .hbm, ⟨30, _⟩ => ⟨S4x2x512x704, .f32⟩
  | .hbm, ⟨31, _⟩ => ⟨S1x2x512x704, .f32⟩
  | .hbm, ⟨32, _⟩ => ⟨S_, .f32⟩
  | .hbm, ⟨33, _⟩ => ⟨S1x2x512x704, .f32⟩
  | .hbm, ⟨34, _⟩ => ⟨S1x2x512x704, .f32⟩
  | .hbm, ⟨35, _⟩ => ⟨S4x2x512x704, .f32⟩
  | .hbm, ⟨36, _⟩ => ⟨S4x2x512x704, .f32⟩
  | .hbm, ⟨37, _⟩ => ⟨S_, .f32⟩
  | .hbm, ⟨38, _⟩ => ⟨S4x2x512x704, .f32⟩
  | .hbm, ⟨39, _⟩ => ⟨S4x2x512x704, .f32⟩
  | .hbm, ⟨40, _⟩ => ⟨S_, .f32⟩
  | .hbm, ⟨41, _⟩ => ⟨S4x2x512x704, .f32⟩
  | .hbm, ⟨42, _⟩ => ⟨S4x2x512x704, .f32⟩
  | .hbm, ⟨43, _⟩ => ⟨S4x2x512x704, .f32⟩
  | .hbm, ⟨44, _⟩ => ⟨S_, .f32⟩
  | .hbm, ⟨45, _⟩ => ⟨S4x2x512x704, .f32⟩
  | .hbm, ⟨46, _⟩ => ⟨S4x2x512x704, .f32⟩
  | .hbm, ⟨47, _⟩ => ⟨S4x2x512x704, .f32⟩
  | .hbm, ⟨48, _⟩ => ⟨S_, .f32⟩
  | .hbm, ⟨49, _⟩ => ⟨S4x2x512x704, .f32⟩
  | .hbm, ⟨50, _⟩ => ⟨S4x2x512x704, .f32⟩
  | .hbm, ⟨51, _⟩ => ⟨S4x2x512x704, .f32⟩
  | .hbm, ⟨52, _⟩ => ⟨S_, .f32⟩
  | .hbm, ⟨53, _⟩ => ⟨S4x2x512x704, .f32⟩
  | .hbm, ⟨54, _⟩ => ⟨S4x2x512x704, .f32⟩
  | .hbm, ⟨55, _⟩ => ⟨S4, .i32⟩
  | .hbm, ⟨56, _⟩ => ⟨S4x1x1x1, .i32⟩
  | .hbm, ⟨57, _⟩ => ⟨S_, .i32⟩
  | .hbm, ⟨58, _⟩ => ⟨S4x1x1x1, .i32⟩
  | .hbm, ⟨59, _⟩ => ⟨S4x1x1x1, .i1⟩
  | .hbm, ⟨60, _⟩ => ⟨S4x2x512x704, .i1⟩
  | .hbm, ⟨61, _⟩ => ⟨S4x2x512x704, .f32⟩
  | .hbm, ⟨62, _⟩ => ⟨S4x2x512x704, .f32⟩
  | .hbm, ⟨63, _⟩ => ⟨S4, .i32⟩
  | .hbm, ⟨64, _⟩ => ⟨S4x1x1x1, .i32⟩
  | .hbm, ⟨65, _⟩ => ⟨S_, .i32⟩
  | .hbm, ⟨66, _⟩ => ⟨S4x1x1x1, .i32⟩
  | .hbm, ⟨67, _⟩ => ⟨S4x1x1x1, .i1⟩
  | .hbm, ⟨68, _⟩ => ⟨S4x2x512x704, .i1⟩
  | .hbm, ⟨69, _⟩ => ⟨S4x2x512x704, .f32⟩
  | .hbm, ⟨70, _⟩ => ⟨S4, .i32⟩
  | .hbm, ⟨71, _⟩ => ⟨S4x1x1x1, .i32⟩
  | .hbm, ⟨72, _⟩ => ⟨S_, .i32⟩
  | .hbm, ⟨73, _⟩ => ⟨S4x1x1x1, .i32⟩
  | .hbm, ⟨74, _⟩ => ⟨S4x1x1x1, .i1⟩
  | .hbm, ⟨75, _⟩ => ⟨S4x2x512x704, .i1⟩
  | .hbm, ⟨76, _⟩ => ⟨S4x2x512x704, .f32⟩
  | .hbm, ⟨77, _⟩ => ⟨S4, .i32⟩
  | .hbm, ⟨78, _⟩ => ⟨S4x1x1x1, .i32⟩
  | .hbm, ⟨79, _⟩ => ⟨S_, .i32⟩
  | .hbm, ⟨80, _⟩ => ⟨S4x1x1x1, .i32⟩
  | .hbm, ⟨81, _⟩ => ⟨S4x1x1x1, .i1⟩
  | .hbm, ⟨82, _⟩ => ⟨S4x2x512x704, .i1⟩
  | .hbm, ⟨83, _⟩ => ⟨S4x2x512x704, .f32⟩
  | _, _ => ⟨S512x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c : Ref sig .tc := ⟨.hbm, 57, rfl⟩
abbrev main_v35 : Ref sig .tc := ⟨.hbm, 58, rfl⟩
abbrev main_v36 : Ref sig .tc := ⟨.hbm, 59, rfl⟩
abbrev main_call1_v0 : Ref sig .tc := ⟨.hbm, 60, rfl⟩
abbrev main_call1_v1 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_call2_v0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_9 : Ref sig .tc := ⟨.hbm, 72, rfl⟩
abbrev main_v45 : Ref sig .tc := ⟨.hbm, 73, rfl⟩
abbrev main_v46 : Ref sig .tc := ⟨.hbm, 74, rfl⟩
abbrev main_call3_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_10 : Ref sig .tc := ⟨.hbm, 79, rfl⟩
abbrev main_v50 : Ref sig .tc := ⟨.hbm, 80, rfl⟩
abbrev main_v51 : Ref sig .tc := ⟨.hbm, 81, rfl⟩
abbrev main_call4_v0 : Ref sig .tc := ⟨.hbm, 82, rfl⟩
abbrev main_v52 : Ref sig .tc := ⟨.hbm, 83, rfl⟩

abbrev nD : Nat := 1
abbrev τ : Topo := Topo.v7x

variable {F : FTy → Type} [FloatOps F]
-- ==== AdamGate2.lean ====
abbrev S512x704 : Shape := ⟨2, ![512, 704]⟩
abbrev S1 : Shape := ⟨1, ![1]⟩
abbrev S4x2x512x704 : Shape := ⟨4, ![4, 2, 512, 704]⟩
abbrev S256x704 : Shape := ⟨2, ![256, 704]⟩
abbrev S1x1x256x704 : Shape := ⟨4, ![1, 1, 256, 704]⟩

abbrev nBuf : Space → Nat
  | .hbm => 13
  | .vmem => 18
  | .smem => 1
  | _ => 0

abbrev bufTy : (tb : Table) → Fin (tcTables nBuf tb) → BufTy
  | .hbm, ⟨0, _⟩ => ⟨S512x704, .f32⟩
  | .hbm, ⟨1, _⟩ => ⟨S512x704, .f32⟩
  | .hbm, ⟨2, _⟩ => ⟨S4x2x512x704, .f32⟩
  | .hbm, ⟨3, _⟩ => ⟨S4x2x512x704, .f32⟩
  | .hbm, ⟨4, _⟩ => ⟨S4x2x512x704, .f32⟩
  | .hbm, ⟨5, _⟩ => ⟨S4x2x512x704, .f32⟩
  | .hbm, ⟨6, _⟩ => ⟨S4x2x512x704, .f32⟩
  | .hbm, ⟨7, _⟩ => ⟨S4x2x512x704, .f32⟩
  | .hbm, ⟨8, _⟩ => ⟨S4x2x512x704, .f32⟩
  | .hbm, ⟨9, _⟩ => ⟨S4x2x512x704, .f32⟩
  | .hbm, ⟨10, _⟩ => ⟨S4x2x512x704, .f32⟩
  | .hbm, ⟨11, _⟩ => ⟨S4x2x512x704, .f32⟩
  | .hbm, ⟨12, _⟩ => ⟨S4x2x512x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S1x1x256x704, .f32⟩
  | .local _ .vmem, ⟨5, _⟩ => ⟨S1x1x256x704, .f32⟩
  | .local _ .vmem, ⟨6, _⟩ => ⟨S1x1x256x704, .f32⟩
  | .local _ .vmem, ⟨7, _⟩ => ⟨S1x1x256x704, .f32⟩
  | .local _ .vmem, ⟨8, _⟩ => ⟨S1x1x256x704, .f32⟩
  | .local _ .vmem, ⟨9, _⟩ => ⟨S1x1x256x704, .f32⟩
  | .local _ .vmem, ⟨10, _⟩ => ⟨S1x1x256x704, .f32⟩
  | .local _ .vmem, ⟨11, _⟩ => ⟨S1x1x256x704, .f32⟩
  | .local _ .vmem, ⟨12, _⟩ => ⟨S1x1x256x704, .f32⟩
  | .local _ .vmem, ⟨13, _⟩ => ⟨S1x1x256x704, .f32⟩
  | .local _ .vmem, ⟨14, _⟩ => ⟨S1x1x256x704, .f32⟩
  | .local _ .vmem, ⟨15, _⟩ => ⟨S1x1x256x704, .f32⟩
  | .local _ .vmem, ⟨16, _⟩ => ⟨S1x1x256x704, .f32⟩
  | .local _ .vmem, ⟨17, _⟩ => ⟨S1x1x256x704, .f32⟩
  | .local _ .smem, ⟨0, _⟩ => ⟨S1, .i32⟩
  | _, _ => ⟨S512x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamGate2RefIdeal.lean ====
abbrev S512x704 : Shape := ⟨2, ![512, 704]⟩
abbrev S1 : Shape := ⟨1, ![1]⟩
abbrev S4x2x512x704 : Shape := ⟨4, ![4, 2, 512, 704]⟩
abbrev S2 : Shape := ⟨1, ![2]⟩
abbrev S2x1x1 : Shape := ⟨3, ![2, 1, 1]⟩
abbrev S_ : Shape := ⟨0, ![]⟩
abbrev S2x512x704 : Shape := ⟨3, ![2, 512, 704]⟩
abbrev S1x2x512x704 : Shape := ⟨4, ![1, 2, 512, 704]⟩
abbrev S4 : Shape := ⟨1, ![4]⟩
abbrev S4x1x1x1 : Shape := ⟨4, ![4, 1, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S512x704, .f32⟩
  | .hbm, ⟨1, _⟩ => ⟨S512x704, .f32⟩
  | .hbm, ⟨2, _⟩ => ⟨S1, .i32⟩
  | .hbm, ⟨3, _⟩ => ⟨S4x2x512x704, .f32⟩
  | .hbm, ⟨4, _⟩ => ⟨S4x2x512x704, .f32⟩
  | .hbm, ⟨5, _⟩ => ⟨S4x2x512x704, .f32⟩
  | .hbm, ⟨6, _⟩ => ⟨S4x2x512x704, .f32⟩
  | .hbm, ⟨7, _⟩ => ⟨S4x2x512x704, .f32⟩
  | .hbm, ⟨8, _⟩ => ⟨S4x2x512x704, .f32⟩
  | .hbm, ⟨9, _⟩ => ⟨S4x2x512x704, .f32⟩
  | .hbm, ⟨10, _⟩ => ⟨S2, .i32⟩
  | .hbm, ⟨11, _⟩ => ⟨S2x1x1, .i32⟩
  | .hbm, ⟨12, _⟩ => ⟨S_, .i32⟩
  | .hbm, ⟨13, _⟩ => ⟨S2x1x1, .i32⟩
  | .hbm, ⟨14, _⟩ => ⟨S2x1x1, .i1⟩
  | .hbm, ⟨15, _⟩ => ⟨S2x512x704, .i1⟩
  | .hbm, ⟨16, _⟩ => ⟨S2x512x704, .f32⟩
  | .hbm, ⟨17, _⟩ => ⟨S2x512x704, .f32⟩
  | .hbm, ⟨18, _⟩ => ⟨S2x512x704, .f32⟩
  | .hbm, ⟨19, _⟩ => ⟨S1x2x512x704, .f32⟩
  | .hbm, ⟨20, _⟩ => ⟨S_, .f32⟩
  | .hbm, ⟨21, _⟩ => ⟨S4x2x512x704, .f32⟩
  | .hbm, ⟨22, _⟩ => ⟨S4x2x512x704, .f32⟩
  | .hbm, ⟨23, _⟩ => ⟨S_, .f32⟩
  | .hbm, ⟨24, _⟩ => ⟨S1x2x512x704, .f32⟩
  | .hbm, ⟨25, _⟩ => ⟨S1x2x512x704, .f32⟩
  | .hbm, ⟨26, _⟩ => ⟨S4x2x512x704, .f32⟩
  | .hbm, ⟨27, _⟩ => ⟨S4x2x512x704, .f32⟩
  | .hbm, ⟨28, _⟩ => ⟨S_, .f32⟩
  | .hbm, ⟨29, _⟩ => ⟨S4x2x512x704, .f32⟩
  | .hbm, ⟨30, _⟩ => ⟨S4x2x512x704, .f32⟩
  | .hbm, ⟨31, _⟩ => ⟨S1x2x512x704, .f32⟩
  | .hbm, ⟨32, _⟩ => ⟨S_, .f32⟩
  | .hbm, ⟨33, _⟩ => ⟨S1x2x512x704, .f32⟩
  | .hbm, ⟨34, _⟩ => ⟨S1x2x512x704, .f32⟩
  | .hbm, ⟨35, _⟩ => ⟨S4x2x512x704, .f32⟩
  | .hbm, ⟨36, _⟩ => ⟨S4x2x512x704, .f32⟩
  | .hbm, ⟨37, _⟩ => ⟨S_, .f32⟩
  | .hbm, ⟨38, _⟩ => ⟨S4x2x512x704, .f32⟩
  | .hbm, ⟨39, _⟩ => ⟨S4x2x512x704, .f32⟩
  | .hbm, ⟨40, _⟩ => ⟨S_, .f32⟩
  | .hbm, ⟨41, _⟩ => ⟨S4x2x512x704, .f32⟩
  | .hbm, ⟨42, _⟩ => ⟨S4x2x512x704, .f32⟩
  | .hbm, ⟨43, _⟩ => ⟨S4x2x512x704, .f32⟩
  | .hbm, ⟨44, _⟩ => ⟨S_, .f32⟩
  | .hbm, ⟨45, _⟩ => ⟨S4x2x512x704, .f32⟩
  | .hbm, ⟨46, _⟩ => ⟨S4x2x512x704, .f32⟩
  | .hbm, ⟨47, _⟩ => ⟨S4x2x512x704, .f32⟩
  | .hbm, ⟨48, _⟩ => ⟨S_, .f32⟩
  | .hbm, ⟨49, _⟩ => ⟨S4x2x512x704, .f32⟩
  | .hbm, ⟨50, _⟩ => ⟨S4x2x512x704, .f32⟩
  | .hbm, ⟨51, _⟩ => ⟨S4x2x512x704, .f32⟩
  | .hbm, ⟨52, _⟩ => ⟨S_, .f32⟩
  | .hbm, ⟨53, _⟩ => ⟨S4x2x512x704, .f32⟩
  | .hbm, ⟨54, _⟩ => ⟨S4x2x512x704, .f32⟩
  | .hbm, ⟨55, _⟩ => ⟨S4, .i32⟩
  | .hbm, ⟨56, _⟩ => ⟨S4x1x1x1, .i32⟩
  | .hbm, ⟨57, _⟩ => ⟨S_, .i32⟩
  | .hbm, ⟨58, _⟩ => ⟨S4x1x1x1, .i32⟩
  | .hbm, ⟨59, _⟩ => ⟨S4x1x1x1, .i1⟩
  | .hbm, ⟨60, _⟩ => ⟨S4x2x512x704, .i1⟩
  | .hbm, ⟨61, _⟩ => ⟨S4x2x512x704, .f32⟩
  | .hbm, ⟨62, _⟩ => ⟨S4x2x512x704, .f32⟩
  | .hbm, ⟨63, _⟩ => ⟨S4, .i32⟩
  | .hbm, ⟨64, _⟩ => ⟨S4x1x1x1, .i32⟩
  | .hbm, ⟨65, _⟩ => ⟨S_, .i32⟩
  | .hbm, ⟨66, _⟩ => ⟨S4x1x1x1, .i32⟩
  | .hbm, ⟨67, _⟩ => ⟨S4x1x1x1, .i1⟩
  | .hbm, ⟨68, _⟩ => ⟨S4x2x512x704, .i1⟩
  | .hbm, ⟨69, _⟩ => ⟨S4x2x512x704, .f32⟩
  | .hbm, ⟨70, _⟩ => ⟨S4, .i32⟩
  | .hbm, ⟨71, _⟩ => ⟨S4x1x1x1, .i32⟩
  | .hbm, ⟨72, _⟩ => ⟨S_, .i32⟩
  | .hbm, ⟨73, _⟩ => ⟨S4x1x1x1, .i32⟩
  | .hbm, ⟨74, _⟩ => ⟨S4x1x1x1, .i1⟩
  | .hbm, ⟨75, _⟩ => ⟨S4x2x512x704, .i1⟩
  | .hbm, ⟨76, _⟩ => ⟨S4x2x512x704, .f32⟩
  | .hbm, ⟨77, _⟩ => ⟨S4, .i32⟩
  | .hbm, ⟨78, _⟩ => ⟨S4x1x1x1, .i32⟩
  | .hbm, ⟨79, _⟩ => ⟨S_, .i32⟩
  | .hbm, ⟨80, _⟩ => ⟨S4x1x1x1, .i32⟩
  | .hbm, ⟨81, _⟩ => ⟨S4x1x1x1, .i1⟩
  | .hbm, ⟨82, _⟩ => ⟨S4x2x512x704, .i1⟩
  | .hbm, ⟨83, _⟩ => ⟨S4x2x512x704, .f32⟩
  | _, _ => ⟨S512x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c : Ref sig .tc := ⟨.hbm, 57, rfl⟩
abbrev main_v35 : Ref sig .tc := ⟨.hbm, 58, rfl⟩
abbrev main_v36 : Ref sig .tc := ⟨.hbm, 59, rfl⟩
abbrev main_call1_v0 : Ref sig .tc := ⟨.hbm, 60, rfl⟩
abbrev main_call1_v1 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_call2_v0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_9 : Ref sig .tc := ⟨.hbm, 72, rfl⟩
abbrev main_v45 : Ref sig .tc := ⟨.hbm, 73, rfl⟩
abbrev main_v46 : Ref sig .tc := ⟨.hbm, 74, rfl⟩
abbrev main_call3_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_10 : Ref sig .tc := ⟨.hbm, 79, rfl⟩
abbrev main_v50 : Ref sig .tc := ⟨.hbm, 80, rfl⟩
abbrev main_v51 : Ref sig .tc := ⟨.hbm, 81, rfl⟩
abbrev main_call4_v0 : Ref sig .tc := ⟨.hbm, 82, rfl⟩
abbrev main_v52 : Ref sig .tc := ⟨.hbm, 83, rfl⟩

abbrev nD : Nat := 1
abbrev τ : Topo := Topo.v7x

variable {F : FTy → Type} [FloatOps F]
-- ==== AdamGate3.lean ====
abbrev S512x704 : Shape := ⟨2, ![512, 704]⟩
abbrev S1 : Shape := ⟨1, ![1]⟩
abbrev S4x2x512x704 : Shape := ⟨4, ![4, 2, 512, 704]⟩
abbrev S256x704 : Shape := ⟨2, ![256, 704]⟩
abbrev S1x1x256x704 : Shape := ⟨4, ![1, 1, 256, 704]⟩

abbrev nBuf : Space → Nat
  | .hbm => 13
  | .vmem => 18
  | .smem => 1
  | _ => 0

abbrev bufTy : (tb : Table) → Fin (tcTables nBuf tb) → BufTy
  | .hbm, ⟨0, _⟩ => ⟨S512x704, .f32⟩
  | .hbm, ⟨1, _⟩ => ⟨S512x704, .f32⟩
  | .hbm, ⟨2, _⟩ => ⟨S4x2x512x704, .f32⟩
  | .hbm, ⟨3, _⟩ => ⟨S4x2x512x704, .f32⟩
  | .hbm, ⟨4, _⟩ => ⟨S4x2x512x704, .f32⟩
  | .hbm, ⟨5, _⟩ => ⟨S4x2x512x704, .f32⟩
  | .hbm, ⟨6, _⟩ => ⟨S4x2x512x704, .f32⟩
  | .hbm, ⟨7, _⟩ => ⟨S4x2x512x704, .f32⟩
  | .hbm, ⟨8, _⟩ => ⟨S4x2x512x704, .f32⟩
  | .hbm, ⟨9, _⟩ => ⟨S4x2x512x704, .f32⟩
  | .hbm, ⟨10, _⟩ => ⟨S4x2x512x704, .f32⟩
  | .hbm, ⟨11, _⟩ => ⟨S4x2x512x704, .f32⟩
  | .hbm, ⟨12, _⟩ => ⟨S4x2x512x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S1x1x256x704, .f32⟩
  | .local _ .vmem, ⟨5, _⟩ => ⟨S1x1x256x704, .f32⟩
  | .local _ .vmem, ⟨6, _⟩ => ⟨S1x1x256x704, .f32⟩
  | .local _ .vmem, ⟨7, _⟩ => ⟨S1x1x256x704, .f32⟩
  | .local _ .vmem, ⟨8, _⟩ => ⟨S1x1x256x704, .f32⟩
  | .local _ .vmem, ⟨9, _⟩ => ⟨S1x1x256x704, .f32⟩
  | .local _ .vmem, ⟨10, _⟩ => ⟨S1x1x256x704, .f32⟩
  | .local _ .vmem, ⟨11, _⟩ => ⟨S1x1x256x704, .f32⟩
  | .local _ .vmem, ⟨12, _⟩ => ⟨S1x1x256x704, .f32⟩
  | .local _ .vmem, ⟨13, _⟩ => ⟨S1x1x256x704, .f32⟩
  | .local _ .vmem, ⟨14, _⟩ => ⟨S1x1x256x704, .f32⟩
  | .local _ .vmem, ⟨15, _⟩ => ⟨S1x1x256x704, .f32⟩
  | .local _ .vmem, ⟨16, _⟩ => ⟨S1x1x256x704, .f32⟩
  | .local _ .vmem, ⟨17, _⟩ => ⟨S1x1x256x704, .f32⟩
  | .local _ .smem, ⟨0, _⟩ => ⟨S1, .i32⟩
  | _, _ => ⟨S512x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamGate3RefIdeal.lean ====
abbrev S512x704 : Shape := ⟨2, ![512, 704]⟩
abbrev S1 : Shape := ⟨1, ![1]⟩
abbrev S4x2x512x704 : Shape := ⟨4, ![4, 2, 512, 704]⟩
abbrev S2 : Shape := ⟨1, ![2]⟩
abbrev S2x1x1 : Shape := ⟨3, ![2, 1, 1]⟩
abbrev S_ : Shape := ⟨0, ![]⟩
abbrev S2x512x704 : Shape := ⟨3, ![2, 512, 704]⟩
abbrev S1x2x512x704 : Shape := ⟨4, ![1, 2, 512, 704]⟩
abbrev S4 : Shape := ⟨1, ![4]⟩
abbrev S4x1x1x1 : Shape := ⟨4, ![4, 1, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S512x704, .f32⟩
  | .hbm, ⟨1, _⟩ => ⟨S512x704, .f32⟩
  | .hbm, ⟨2, _⟩ => ⟨S1, .i32⟩
  | .hbm, ⟨3, _⟩ => ⟨S4x2x512x704, .f32⟩
  | .hbm, ⟨4, _⟩ => ⟨S4x2x512x704, .f32⟩
  | .hbm, ⟨5, _⟩ => ⟨S4x2x512x704, .f32⟩
  | .hbm, ⟨6, _⟩ => ⟨S4x2x512x704, .f32⟩
  | .hbm, ⟨7, _⟩ => ⟨S4x2x512x704, .f32⟩
  | .hbm, ⟨8, _⟩ => ⟨S4x2x512x704, .f32⟩
  | .hbm, ⟨9, _⟩ => ⟨S4x2x512x704, .f32⟩
  | .hbm, ⟨10, _⟩ => ⟨S2, .i32⟩
  | .hbm, ⟨11, _⟩ => ⟨S2x1x1, .i32⟩
  | .hbm, ⟨12, _⟩ => ⟨S_, .i32⟩
  | .hbm, ⟨13, _⟩ => ⟨S2x1x1, .i32⟩
  | .hbm, ⟨14, _⟩ => ⟨S2x1x1, .i1⟩
  | .hbm, ⟨15, _⟩ => ⟨S2x512x704, .i1⟩
  | .hbm, ⟨16, _⟩ => ⟨S2x512x704, .f32⟩
  | .hbm, ⟨17, _⟩ => ⟨S2x512x704, .f32⟩
  | .hbm, ⟨18, _⟩ => ⟨S2x512x704, .f32⟩
  | .hbm, ⟨19, _⟩ => ⟨S1x2x512x704, .f32⟩
  | .hbm, ⟨20, _⟩ => ⟨S_, .f32⟩
  | .hbm, ⟨21, _⟩ => ⟨S4x2x512x704, .f32⟩
  | .hbm, ⟨22, _⟩ => ⟨S4x2x512x704, .f32⟩
  | .hbm, ⟨23, _⟩ => ⟨S_, .f32⟩
  | .hbm, ⟨24, _⟩ => ⟨S1x2x512x704, .f32⟩
  | .hbm, ⟨25, _⟩ => ⟨S1x2x512x704, .f32⟩
  | .hbm, ⟨26, _⟩ => ⟨S4x2x512x704, .f32⟩
  | .hbm, ⟨27, _⟩ => ⟨S4x2x512x704, .f32⟩
  | .hbm, ⟨28, _⟩ => ⟨S_, .f32⟩
  | .hbm, ⟨29, _⟩ => ⟨S4x2x512x704, .f32⟩
  | .hbm, ⟨30, _⟩ => ⟨S4x2x512x704, .f32⟩
  | .hbm, ⟨31, _⟩ => ⟨S1x2x512x704, .f32⟩
  | .hbm, ⟨32, _⟩ => ⟨S_, .f32⟩
  | .hbm, ⟨33, _⟩ => ⟨S1x2x512x704, .f32⟩
  | .hbm, ⟨34, _⟩ => ⟨S1x2x512x704, .f32⟩
  | .hbm, ⟨35, _⟩ => ⟨S4x2x512x704, .f32⟩
  | .hbm, ⟨36, _⟩ => ⟨S4x2x512x704, .f32⟩
  | .hbm, ⟨37, _⟩ => ⟨S_, .f32⟩
  | .hbm, ⟨38, _⟩ => ⟨S4x2x512x704, .f32⟩
  | .hbm, ⟨39, _⟩ => ⟨S4x2x512x704, .f32⟩
  | .hbm, ⟨40, _⟩ => ⟨S_, .f32⟩
  | .hbm, ⟨41, _⟩ => ⟨S4x2x512x704, .f32⟩
  | .hbm, ⟨42, _⟩ => ⟨S4x2x512x704, .f32⟩
  | .hbm, ⟨43, _⟩ => ⟨S4x2x512x704, .f32⟩
  | .hbm, ⟨44, _⟩ => ⟨S_, .f32⟩
  | .hbm, ⟨45, _⟩ => ⟨S4x2x512x704, .f32⟩
  | .hbm, ⟨46, _⟩ => ⟨S4x2x512x704, .f32⟩
  | .hbm, ⟨47, _⟩ => ⟨S4x2x512x704, .f32⟩
  | .hbm, ⟨48, _⟩ => ⟨S_, .f32⟩
  | .hbm, ⟨49, _⟩ => ⟨S4x2x512x704, .f32⟩
  | .hbm, ⟨50, _⟩ => ⟨S4x2x512x704, .f32⟩
  | .hbm, ⟨51, _⟩ => ⟨S4x2x512x704, .f32⟩
  | .hbm, ⟨52, _⟩ => ⟨S_, .f32⟩
  | .hbm, ⟨53, _⟩ => ⟨S4x2x512x704, .f32⟩
  | .hbm, ⟨54, _⟩ => ⟨S4x2x512x704, .f32⟩
  | .hbm, ⟨55, _⟩ => ⟨S4, .i32⟩
  | .hbm, ⟨56, _⟩ => ⟨S4x1x1x1, .i32⟩
  | .hbm, ⟨57, _⟩ => ⟨S_, .i32⟩
  | .hbm, ⟨58, _⟩ => ⟨S4x1x1x1, .i32⟩
  | .hbm, ⟨59, _⟩ => ⟨S4x1x1x1, .i1⟩
  | .hbm, ⟨60, _⟩ => ⟨S4x2x512x704, .i1⟩
  | .hbm, ⟨61, _⟩ => ⟨S4x2x512x704, .f32⟩
  | .hbm, ⟨62, _⟩ => ⟨S4x2x512x704, .f32⟩
  | .hbm, ⟨63, _⟩ => ⟨S4, .i32⟩
  | .hbm, ⟨64, _⟩ => ⟨S4x1x1x1, .i32⟩
  | .hbm, ⟨65, _⟩ => ⟨S_, .i32⟩
  | .hbm, ⟨66, _⟩ => ⟨S4x1x1x1, .i32⟩
  | .hbm, ⟨67, _⟩ => ⟨S4x1x1x1, .i1⟩
  | .hbm, ⟨68, _⟩ => ⟨S4x2x512x704, .i1⟩
  | .hbm, ⟨69, _⟩ => ⟨S4x2x512x704, .f32⟩
  | .hbm, ⟨70, _⟩ => ⟨S4, .i32⟩
  | .hbm, ⟨71, _⟩ => ⟨S4x1x1x1, .i32⟩
  | .hbm, ⟨72, _⟩ => ⟨S_, .i32⟩
  | .hbm, ⟨73, _⟩ => ⟨S4x1x1x1, .i32⟩
  | .hbm, ⟨74, _⟩ => ⟨S4x1x1x1, .i1⟩
  | .hbm, ⟨75, _⟩ => ⟨S4x2x512x704, .i1⟩
  | .hbm, ⟨76, _⟩ => ⟨S4x2x512x704, .f32⟩
  | .hbm, ⟨77, _⟩ => ⟨S4, .i32⟩
  | .hbm, ⟨78, _⟩ => ⟨S4x1x1x1, .i32⟩
  | .hbm, ⟨79, _⟩ => ⟨S_, .i32⟩
  | .hbm, ⟨80, _⟩ => ⟨S4x1x1x1, .i32⟩
  | .hbm, ⟨81, _⟩ => ⟨S4x1x1x1, .i1⟩
  | .hbm, ⟨82, _⟩ => ⟨S4x2x512x704, .i1⟩
  | .hbm, ⟨83, _⟩ => ⟨S4x2x512x704, .f32⟩
  | _, _ => ⟨S512x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c : Ref sig .tc := ⟨.hbm, 57, rfl⟩
abbrev main_v35 : Ref sig .tc := ⟨.hbm, 58, rfl⟩
abbrev main_v36 : Ref sig .tc := ⟨.hbm, 59, rfl⟩
abbrev main_call1_v0 : Ref sig .tc := ⟨.hbm, 60, rfl⟩
abbrev main_call1_v1 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_call2_v0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_9 : Ref sig .tc := ⟨.hbm, 72, rfl⟩
abbrev main_v45 : Ref sig .tc := ⟨.hbm, 73, rfl⟩
abbrev main_v46 : Ref sig .tc := ⟨.hbm, 74, rfl⟩
abbrev main_call3_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_10 : Ref sig .tc := ⟨.hbm, 79, rfl⟩
abbrev main_v50 : Ref sig .tc := ⟨.hbm, 80, rfl⟩
abbrev main_v51 : Ref sig .tc := ⟨.hbm, 81, rfl⟩
abbrev main_call4_v0 : Ref sig .tc := ⟨.hbm, 82, rfl⟩
abbrev main_v52 : Ref sig .tc := ⟨.hbm, 83, rfl⟩

abbrev nD : Nat := 1
abbrev τ : Topo := Topo.v7x

variable {F : FTy → Type} [FloatOps F]
-- ==== AdamDown0.lean ====
abbrev S352x1024 : Shape := ⟨2, ![352, 1024]⟩
abbrev S1 : Shape := ⟨1, ![1]⟩
abbrev S4x2x352x1024 : Shape := ⟨4, ![4, 2, 352, 1024]⟩
abbrev S32x1024 : Shape := ⟨2, ![32, 1024]⟩
abbrev S1x1x32x1024 : Shape := ⟨4, ![1, 1, 32, 1024]⟩

abbrev nBuf : Space → Nat
  | .hbm => 13
  | .vmem => 18
  | .smem => 1
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S4x2x352x1024, .f32⟩
  | .hbm, ⟨3, _⟩ => ⟨S4x2x352x1024, .f32⟩
  | .hbm, ⟨4, _⟩ => ⟨S4x2x352x1024, .f32⟩
  | .hbm, ⟨5, _⟩ => ⟨S4x2x352x1024, .f32⟩
  | .hbm, ⟨6, _⟩ => ⟨S4x2x352x1024, .f32⟩
  | .hbm, ⟨7, _⟩ => ⟨S4x2x352x1024, .f32⟩
  | .hbm, ⟨8, _⟩ => ⟨S4x2x352x1024, .f32⟩
  | .hbm, ⟨9, _⟩ => ⟨S4x2x352x1024, .f32⟩
  | .hbm, ⟨10, _⟩ => ⟨S4x2x352x1024, .f32⟩
  | .hbm, ⟨11, _⟩ => ⟨S4x2x352x1024, .f32⟩
  | .hbm, ⟨12, _⟩ => ⟨S4x2x352x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S1x1x32x1024, .f32⟩
  | .local _ .vmem, ⟨5, _⟩ => ⟨S1x1x32x1024, .f32⟩
  | .local _ .vmem, ⟨6, _⟩ => ⟨S1x1x32x1024, .f32⟩
  | .local _ .vmem, ⟨7, _⟩ => ⟨S1x1x32x1024, .f32⟩
  | .local _ .vmem, ⟨8, _⟩ => ⟨S1x1x32x1024, .f32⟩
  | .local _ .vmem, ⟨9, _⟩ => ⟨S1x1x32x1024, .f32⟩
  | .local _ .vmem, ⟨10, _⟩ => ⟨S1x1x32x1024, .f32⟩
  | .local _ .vmem, ⟨11, _⟩ => ⟨S1x1x32x1024, .f32⟩
  | .local _ .vmem, ⟨12, _⟩ => ⟨S1x1x32x1024, .f32⟩
  | .local _ .vmem, ⟨13, _⟩ => ⟨S1x1x32x1024, .f32⟩
  | .local _ .vmem, ⟨14, _⟩ => ⟨S1x1x32x1024, .f32⟩
  | .local _ .vmem, ⟨15, _⟩ => ⟨S1x1x32x1024, .f32⟩
  | .local _ .vmem, ⟨16, _⟩ => ⟨S1x1x32x1024, .f32⟩
  | .local _ .vmem, ⟨17, _⟩ => ⟨S1x1x32x1024, .f32⟩
  | .local _ .smem, ⟨0, _⟩ => ⟨S1, .i32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDown0RefIdeal.lean ====
abbrev S352x1024 : Shape := ⟨2, ![352, 1024]⟩
abbrev S1 : Shape := ⟨1, ![1]⟩
abbrev S4x2x352x1024 : Shape := ⟨4, ![4, 2, 352, 1024]⟩
abbrev S2 : Shape := ⟨1, ![2]⟩
abbrev S2x1x1 : Shape := ⟨3, ![2, 1, 1]⟩
abbrev S_ : Shape := ⟨0, ![]⟩
abbrev S2x352x1024 : Shape := ⟨3, ![2, 352, 1024]⟩
abbrev S1x2x352x1024 : Shape := ⟨4, ![1, 2, 352, 1024]⟩
abbrev S4 : Shape := ⟨1, ![4]⟩
abbrev S4x1x1x1 : Shape := ⟨4, ![4, 1, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S1, .i32⟩
  | .hbm, ⟨3, _⟩ => ⟨S4x2x352x1024, .f32⟩
  | .hbm, ⟨4, _⟩ => ⟨S4x2x352x1024, .f32⟩
  | .hbm, ⟨5, _⟩ => ⟨S4x2x352x1024, .f32⟩
  | .hbm, ⟨6, _⟩ => ⟨S4x2x352x1024, .f32⟩
  | .hbm, ⟨7, _⟩ => ⟨S4x2x352x1024, .f32⟩
  | .hbm, ⟨8, _⟩ => ⟨S4x2x352x1024, .f32⟩
  | .hbm, ⟨9, _⟩ => ⟨S4x2x352x1024, .f32⟩
  | .hbm, ⟨10, _⟩ => ⟨S2, .i32⟩
  | .hbm, ⟨11, _⟩ => ⟨S2x1x1, .i32⟩
  | .hbm, ⟨12, _⟩ => ⟨S_, .i32⟩
  | .hbm, ⟨13, _⟩ => ⟨S2x1x1, .i32⟩
  | .hbm, ⟨14, _⟩ => ⟨S2x1x1, .i1⟩
  | .hbm, ⟨15, _⟩ => ⟨S2x352x1024, .i1⟩
  | .hbm, ⟨16, _⟩ => ⟨S2x352x1024, .f32⟩
  | .hbm, ⟨17, _⟩ => ⟨S2x352x1024, .f32⟩
  | .hbm, ⟨18, _⟩ => ⟨S2x352x1024, .f32⟩
  | .hbm, ⟨19, _⟩ => ⟨S1x2x352x1024, .f32⟩
  | .hbm, ⟨20, _⟩ => ⟨S_, .f32⟩
  | .hbm, ⟨21, _⟩ => ⟨S4x2x352x1024, .f32⟩
  | .hbm, ⟨22, _⟩ => ⟨S4x2x352x1024, .f32⟩
  | .hbm, ⟨23, _⟩ => ⟨S_, .f32⟩
  | .hbm, ⟨24, _⟩ => ⟨S1x2x352x1024, .f32⟩
  | .hbm, ⟨25, _⟩ => ⟨S1x2x352x1024, .f32⟩
  | .hbm, ⟨26, _⟩ => ⟨S4x2x352x1024, .f32⟩
  | .hbm, ⟨27, _⟩ => ⟨S4x2x352x1024, .f32⟩
  | .hbm, ⟨28, _⟩ => ⟨S_, .f32⟩
  | .hbm, ⟨29, _⟩ => ⟨S4x2x352x1024, .f32⟩
  | .hbm, ⟨30, _⟩ => ⟨S4x2x352x1024, .f32⟩
  | .hbm, ⟨31, _⟩ => ⟨S1x2x352x1024, .f32⟩
  | .hbm, ⟨32, _⟩ => ⟨S_, .f32⟩
  | .hbm, ⟨33, _⟩ => ⟨S1x2x352x1024, .f32⟩
  | .hbm, ⟨34, _⟩ => ⟨S1x2x352x1024, .f32⟩
  | .hbm, ⟨35, _⟩ => ⟨S4x2x352x1024, .f32⟩
  | .hbm, ⟨36, _⟩ => ⟨S4x2x352x1024, .f32⟩
  | .hbm, ⟨37, _⟩ => ⟨S_, .f32⟩
  | .hbm, ⟨38, _⟩ => ⟨S4x2x352x1024, .f32⟩
  | .hbm, ⟨39, _⟩ => ⟨S4x2x352x1024, .f32⟩
  | .hbm, ⟨40, _⟩ => ⟨S_, .f32⟩
  | .hbm, ⟨41, _⟩ => ⟨S4x2x352x1024, .f32⟩
  | .hbm, ⟨42, _⟩ => ⟨S4x2x352x1024, .f32⟩
  | .hbm, ⟨43, _⟩ => ⟨S4x2x352x1024, .f32⟩
  | .hbm, ⟨44, _⟩ => ⟨S_, .f32⟩
  | .hbm, ⟨45, _⟩ => ⟨S4x2x352x1024, .f32⟩
  | .hbm, ⟨46, _⟩ => ⟨S4x2x352x1024, .f32⟩
  | .hbm, ⟨47, _⟩ => ⟨S4x2x352x1024, .f32⟩
  | .hbm, ⟨48, _⟩ => ⟨S_, .f32⟩
  | .hbm, ⟨49, _⟩ => ⟨S4x2x352x1024, .f32⟩
  | .hbm, ⟨50, _⟩ => ⟨S4x2x352x1024, .f32⟩
  | .hbm, ⟨51, _⟩ => ⟨S4x2x352x1024, .f32⟩
  | .hbm, ⟨52, _⟩ => ⟨S_, .f32⟩
  | .hbm, ⟨53, _⟩ => ⟨S4x2x352x1024, .f32⟩
  | .hbm, ⟨54, _⟩ => ⟨S4x2x352x1024, .f32⟩
  | .hbm, ⟨55, _⟩ => ⟨S4, .i32⟩
  | .hbm, ⟨56, _⟩ => ⟨S4x1x1x1, .i32⟩
  | .hbm, ⟨57, _⟩ => ⟨S_, .i32⟩
  | .hbm, ⟨58, _⟩ => ⟨S4x1x1x1, .i32⟩
  | .hbm, ⟨59, _⟩ => ⟨S4x1x1x1, .i1⟩
  | .hbm, ⟨60, _⟩ => ⟨S4x2x352x1024, .i1⟩
  | .hbm, ⟨61, _⟩ => ⟨S4x2x352x1024, .f32⟩
  | .hbm, ⟨62, _⟩ => ⟨S4x2x352x1024, .f32⟩
  | .hbm, ⟨63, _⟩ => ⟨S4, .i32⟩
  | .hbm, ⟨64, _⟩ => ⟨S4x1x1x1, .i32⟩
  | .hbm, ⟨65, _⟩ => ⟨S_, .i32⟩
  | .hbm, ⟨66, _⟩ => ⟨S4x1x1x1, .i32⟩
  | .hbm, ⟨67, _⟩ => ⟨S4x1x1x1, .i1⟩
  | .hbm, ⟨68, _⟩ => ⟨S4x2x352x1024, .i1⟩
  | .hbm, ⟨69, _⟩ => ⟨S4x2x352x1024, .f32⟩
  | .hbm, ⟨70, _⟩ => ⟨S4, .i32⟩
  | .hbm, ⟨71, _⟩ => ⟨S4x1x1x1, .i32⟩
  | .hbm, ⟨72, _⟩ => ⟨S_, .i32⟩
  | .hbm, ⟨73, _⟩ => ⟨S4x1x1x1, .i32⟩
  | .hbm, ⟨74, _⟩ => ⟨S4x1x1x1, .i1⟩
  | .hbm, ⟨75, _⟩ => ⟨S4x2x352x1024, .i1⟩
  | .hbm, ⟨76, _⟩ => ⟨S4x2x352x1024, .f32⟩
  | .hbm, ⟨77, _⟩ => ⟨S4, .i32⟩
  | .hbm, ⟨78, _⟩ => ⟨S4x1x1x1, .i32⟩
  | .hbm, ⟨79, _⟩ => ⟨S_, .i32⟩
  | .hbm, ⟨80, _⟩ => ⟨S4x1x1x1, .i32⟩
  | .hbm, ⟨81, _⟩ => ⟨S4x1x1x1, .i1⟩
  | .hbm, ⟨82, _⟩ => ⟨S4x2x352x1024, .i1⟩
  | .hbm, ⟨83, _⟩ => ⟨S4x2x352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c : Ref sig .tc := ⟨.hbm, 57, rfl⟩
abbrev main_v35 : Ref sig .tc := ⟨.hbm, 58, rfl⟩
abbrev main_v36 : Ref sig .tc := ⟨.hbm, 59, rfl⟩
abbrev main_call1_v0 : Ref sig .tc := ⟨.hbm, 60, rfl⟩
abbrev main_call1_v1 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_call2_v0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_9 : Ref sig .tc := ⟨.hbm, 72, rfl⟩
abbrev main_v45 : Ref sig .tc := ⟨.hbm, 73, rfl⟩
abbrev main_v46 : Ref sig .tc := ⟨.hbm, 74, rfl⟩
abbrev main_call3_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_10 : Ref sig .tc := ⟨.hbm, 79, rfl⟩
abbrev main_v50 : Ref sig .tc := ⟨.hbm, 80, rfl⟩
abbrev main_v51 : Ref sig .tc := ⟨.hbm, 81, rfl⟩
abbrev main_call4_v0 : Ref sig .tc := ⟨.hbm, 82, rfl⟩
abbrev main_v52 : Ref sig .tc := ⟨.hbm, 83, rfl⟩

abbrev nD : Nat := 1
abbrev τ : Topo := Topo.v7x

variable {F : FTy → Type} [FloatOps F]
-- ==== AdamDown1.lean ====
abbrev S352x1024 : Shape := ⟨2, ![352, 1024]⟩
abbrev S1 : Shape := ⟨1, ![1]⟩
abbrev S4x2x352x1024 : Shape := ⟨4, ![4, 2, 352, 1024]⟩
abbrev S32x1024 : Shape := ⟨2, ![32, 1024]⟩
abbrev S1x1x32x1024 : Shape := ⟨4, ![1, 1, 32, 1024]⟩

abbrev nBuf : Space → Nat
  | .hbm => 13
  | .vmem => 18
  | .smem => 1
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S4x2x352x1024, .f32⟩
  | .hbm, ⟨3, _⟩ => ⟨S4x2x352x1024, .f32⟩
  | .hbm, ⟨4, _⟩ => ⟨S4x2x352x1024, .f32⟩
  | .hbm, ⟨5, _⟩ => ⟨S4x2x352x1024, .f32⟩
  | .hbm, ⟨6, _⟩ => ⟨S4x2x352x1024, .f32⟩
  | .hbm, ⟨7, _⟩ => ⟨S4x2x352x1024, .f32⟩
  | .hbm, ⟨8, _⟩ => ⟨S4x2x352x1024, .f32⟩
  | .hbm, ⟨9, _⟩ => ⟨S4x2x352x1024, .f32⟩
  | .hbm, ⟨10, _⟩ => ⟨S4x2x352x1024, .f32⟩
  | .hbm, ⟨11, _⟩ => ⟨S4x2x352x1024, .f32⟩
  | .hbm, ⟨12, _⟩ => ⟨S4x2x352x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S1x1x32x1024, .f32⟩
  | .local _ .vmem, ⟨5, _⟩ => ⟨S1x1x32x1024, .f32⟩
  | .local _ .vmem, ⟨6, _⟩ => ⟨S1x1x32x1024, .f32⟩
  | .local _ .vmem, ⟨7, _⟩ => ⟨S1x1x32x1024, .f32⟩
  | .local _ .vmem, ⟨8, _⟩ => ⟨S1x1x32x1024, .f32⟩
  | .local _ .vmem, ⟨9, _⟩ => ⟨S1x1x32x1024, .f32⟩
  | .local _ .vmem, ⟨10, _⟩ => ⟨S1x1x32x1024, .f32⟩
  | .local _ .vmem, ⟨11, _⟩ => ⟨S1x1x32x1024, .f32⟩
  | .local _ .vmem, ⟨12, _⟩ => ⟨S1x1x32x1024, .f32⟩
  | .local _ .vmem, ⟨13, _⟩ => ⟨S1x1x32x1024, .f32⟩
  | .local _ .vmem, ⟨14, _⟩ => ⟨S1x1x32x1024, .f32⟩
  | .local _ .vmem, ⟨15, _⟩ => ⟨S1x1x32x1024, .f32⟩
  | .local _ .vmem, ⟨16, _⟩ => ⟨S1x1x32x1024, .f32⟩
  | .local _ .vmem, ⟨17, _⟩ => ⟨S1x1x32x1024, .f32⟩
  | .local _ .smem, ⟨0, _⟩ => ⟨S1, .i32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDown1RefIdeal.lean ====
abbrev S352x1024 : Shape := ⟨2, ![352, 1024]⟩
abbrev S1 : Shape := ⟨1, ![1]⟩
abbrev S4x2x352x1024 : Shape := ⟨4, ![4, 2, 352, 1024]⟩
abbrev S2 : Shape := ⟨1, ![2]⟩
abbrev S2x1x1 : Shape := ⟨3, ![2, 1, 1]⟩
abbrev S_ : Shape := ⟨0, ![]⟩
abbrev S2x352x1024 : Shape := ⟨3, ![2, 352, 1024]⟩
abbrev S1x2x352x1024 : Shape := ⟨4, ![1, 2, 352, 1024]⟩
abbrev S4 : Shape := ⟨1, ![4]⟩
abbrev S4x1x1x1 : Shape := ⟨4, ![4, 1, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S1, .i32⟩
  | .hbm, ⟨3, _⟩ => ⟨S4x2x352x1024, .f32⟩
  | .hbm, ⟨4, _⟩ => ⟨S4x2x352x1024, .f32⟩
  | .hbm, ⟨5, _⟩ => ⟨S4x2x352x1024, .f32⟩
  | .hbm, ⟨6, _⟩ => ⟨S4x2x352x1024, .f32⟩
  | .hbm, ⟨7, _⟩ => ⟨S4x2x352x1024, .f32⟩
  | .hbm, ⟨8, _⟩ => ⟨S4x2x352x1024, .f32⟩
  | .hbm, ⟨9, _⟩ => ⟨S4x2x352x1024, .f32⟩
  | .hbm, ⟨10, _⟩ => ⟨S2, .i32⟩
  | .hbm, ⟨11, _⟩ => ⟨S2x1x1, .i32⟩
  | .hbm, ⟨12, _⟩ => ⟨S_, .i32⟩
  | .hbm, ⟨13, _⟩ => ⟨S2x1x1, .i32⟩
  | .hbm, ⟨14, _⟩ => ⟨S2x1x1, .i1⟩
  | .hbm, ⟨15, _⟩ => ⟨S2x352x1024, .i1⟩
  | .hbm, ⟨16, _⟩ => ⟨S2x352x1024, .f32⟩
  | .hbm, ⟨17, _⟩ => ⟨S2x352x1024, .f32⟩
  | .hbm, ⟨18, _⟩ => ⟨S2x352x1024, .f32⟩
  | .hbm, ⟨19, _⟩ => ⟨S1x2x352x1024, .f32⟩
  | .hbm, ⟨20, _⟩ => ⟨S_, .f32⟩
  | .hbm, ⟨21, _⟩ => ⟨S4x2x352x1024, .f32⟩
  | .hbm, ⟨22, _⟩ => ⟨S4x2x352x1024, .f32⟩
  | .hbm, ⟨23, _⟩ => ⟨S_, .f32⟩
  | .hbm, ⟨24, _⟩ => ⟨S1x2x352x1024, .f32⟩
  | .hbm, ⟨25, _⟩ => ⟨S1x2x352x1024, .f32⟩
  | .hbm, ⟨26, _⟩ => ⟨S4x2x352x1024, .f32⟩
  | .hbm, ⟨27, _⟩ => ⟨S4x2x352x1024, .f32⟩
  | .hbm, ⟨28, _⟩ => ⟨S_, .f32⟩
  | .hbm, ⟨29, _⟩ => ⟨S4x2x352x1024, .f32⟩
  | .hbm, ⟨30, _⟩ => ⟨S4x2x352x1024, .f32⟩
  | .hbm, ⟨31, _⟩ => ⟨S1x2x352x1024, .f32⟩
  | .hbm, ⟨32, _⟩ => ⟨S_, .f32⟩
  | .hbm, ⟨33, _⟩ => ⟨S1x2x352x1024, .f32⟩
  | .hbm, ⟨34, _⟩ => ⟨S1x2x352x1024, .f32⟩
  | .hbm, ⟨35, _⟩ => ⟨S4x2x352x1024, .f32⟩
  | .hbm, ⟨36, _⟩ => ⟨S4x2x352x1024, .f32⟩
  | .hbm, ⟨37, _⟩ => ⟨S_, .f32⟩
  | .hbm, ⟨38, _⟩ => ⟨S4x2x352x1024, .f32⟩
  | .hbm, ⟨39, _⟩ => ⟨S4x2x352x1024, .f32⟩
  | .hbm, ⟨40, _⟩ => ⟨S_, .f32⟩
  | .hbm, ⟨41, _⟩ => ⟨S4x2x352x1024, .f32⟩
  | .hbm, ⟨42, _⟩ => ⟨S4x2x352x1024, .f32⟩
  | .hbm, ⟨43, _⟩ => ⟨S4x2x352x1024, .f32⟩
  | .hbm, ⟨44, _⟩ => ⟨S_, .f32⟩
  | .hbm, ⟨45, _⟩ => ⟨S4x2x352x1024, .f32⟩
  | .hbm, ⟨46, _⟩ => ⟨S4x2x352x1024, .f32⟩
  | .hbm, ⟨47, _⟩ => ⟨S4x2x352x1024, .f32⟩
  | .hbm, ⟨48, _⟩ => ⟨S_, .f32⟩
  | .hbm, ⟨49, _⟩ => ⟨S4x2x352x1024, .f32⟩
  | .hbm, ⟨50, _⟩ => ⟨S4x2x352x1024, .f32⟩
  | .hbm, ⟨51, _⟩ => ⟨S4x2x352x1024, .f32⟩
  | .hbm, ⟨52, _⟩ => ⟨S_, .f32⟩
  | .hbm, ⟨53, _⟩ => ⟨S4x2x352x1024, .f32⟩
  | .hbm, ⟨54, _⟩ => ⟨S4x2x352x1024, .f32⟩
  | .hbm, ⟨55, _⟩ => ⟨S4, .i32⟩
  | .hbm, ⟨56, _⟩ => ⟨S4x1x1x1, .i32⟩
  | .hbm, ⟨57, _⟩ => ⟨S_, .i32⟩
  | .hbm, ⟨58, _⟩ => ⟨S4x1x1x1, .i32⟩
  | .hbm, ⟨59, _⟩ => ⟨S4x1x1x1, .i1⟩
  | .hbm, ⟨60, _⟩ => ⟨S4x2x352x1024, .i1⟩
  | .hbm, ⟨61, _⟩ => ⟨S4x2x352x1024, .f32⟩
  | .hbm, ⟨62, _⟩ => ⟨S4x2x352x1024, .f32⟩
  | .hbm, ⟨63, _⟩ => ⟨S4, .i32⟩
  | .hbm, ⟨64, _⟩ => ⟨S4x1x1x1, .i32⟩
  | .hbm, ⟨65, _⟩ => ⟨S_, .i32⟩
  | .hbm, ⟨66, _⟩ => ⟨S4x1x1x1, .i32⟩
  | .hbm, ⟨67, _⟩ => ⟨S4x1x1x1, .i1⟩
  | .hbm, ⟨68, _⟩ => ⟨S4x2x352x1024, .i1⟩
  | .hbm, ⟨69, _⟩ => ⟨S4x2x352x1024, .f32⟩
  | .hbm, ⟨70, _⟩ => ⟨S4, .i32⟩
  | .hbm, ⟨71, _⟩ => ⟨S4x1x1x1, .i32⟩
  | .hbm, ⟨72, _⟩ => ⟨S_, .i32⟩
  | .hbm, ⟨73, _⟩ => ⟨S4x1x1x1, .i32⟩
  | .hbm, ⟨74, _⟩ => ⟨S4x1x1x1, .i1⟩
  | .hbm, ⟨75, _⟩ => ⟨S4x2x352x1024, .i1⟩
  | .hbm, ⟨76, _⟩ => ⟨S4x2x352x1024, .f32⟩
  | .hbm, ⟨77, _⟩ => ⟨S4, .i32⟩
  | .hbm, ⟨78, _⟩ => ⟨S4x1x1x1, .i32⟩
  | .hbm, ⟨79, _⟩ => ⟨S_, .i32⟩
  | .hbm, ⟨80, _⟩ => ⟨S4x1x1x1, .i32⟩
  | .hbm, ⟨81, _⟩ => ⟨S4x1x1x1, .i1⟩
  | .hbm, ⟨82, _⟩ => ⟨S4x2x352x1024, .i1⟩
  | .hbm, ⟨83, _⟩ => ⟨S4x2x352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c : Ref sig .tc := ⟨.hbm, 57, rfl⟩
abbrev main_v35 : Ref sig .tc := ⟨.hbm, 58, rfl⟩
abbrev main_v36 : Ref sig .tc := ⟨.hbm, 59, rfl⟩
abbrev main_call1_v0 : Ref sig .tc := ⟨.hbm, 60, rfl⟩
abbrev main_call1_v1 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_call2_v0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_9 : Ref sig .tc := ⟨.hbm, 72, rfl⟩
abbrev main_v45 : Ref sig .tc := ⟨.hbm, 73, rfl⟩
abbrev main_v46 : Ref sig .tc := ⟨.hbm, 74, rfl⟩
abbrev main_call3_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_10 : Ref sig .tc := ⟨.hbm, 79, rfl⟩
abbrev main_v50 : Ref sig .tc := ⟨.hbm, 80, rfl⟩
abbrev main_v51 : Ref sig .tc := ⟨.hbm, 81, rfl⟩
abbrev main_call4_v0 : Ref sig .tc := ⟨.hbm, 82, rfl⟩
abbrev main_v52 : Ref sig .tc := ⟨.hbm, 83, rfl⟩

abbrev nD : Nat := 1
abbrev τ : Topo := Topo.v7x

variable {F : FTy → Type} [FloatOps F]
-- ==== AdamDown2.lean ====
abbrev S352x1024 : Shape := ⟨2, ![352, 1024]⟩
abbrev S1 : Shape := ⟨1, ![1]⟩
abbrev S4x2x352x1024 : Shape := ⟨4, ![4, 2, 352, 1024]⟩
abbrev S32x1024 : Shape := ⟨2, ![32, 1024]⟩
abbrev S1x1x32x1024 : Shape := ⟨4, ![1, 1, 32, 1024]⟩

abbrev nBuf : Space → Nat
  | .hbm => 13
  | .vmem => 18
  | .smem => 1
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S4x2x352x1024, .f32⟩
  | .hbm, ⟨3, _⟩ => ⟨S4x2x352x1024, .f32⟩
  | .hbm, ⟨4, _⟩ => ⟨S4x2x352x1024, .f32⟩
  | .hbm, ⟨5, _⟩ => ⟨S4x2x352x1024, .f32⟩
  | .hbm, ⟨6, _⟩ => ⟨S4x2x352x1024, .f32⟩
  | .hbm, ⟨7, _⟩ => ⟨S4x2x352x1024, .f32⟩
  | .hbm, ⟨8, _⟩ => ⟨S4x2x352x1024, .f32⟩
  | .hbm, ⟨9, _⟩ => ⟨S4x2x352x1024, .f32⟩
  | .hbm, ⟨10, _⟩ => ⟨S4x2x352x1024, .f32⟩
  | .hbm, ⟨11, _⟩ => ⟨S4x2x352x1024, .f32⟩
  | .hbm, ⟨12, _⟩ => ⟨S4x2x352x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S1x1x32x1024, .f32⟩
  | .local _ .vmem, ⟨5, _⟩ => ⟨S1x1x32x1024, .f32⟩
  | .local _ .vmem, ⟨6, _⟩ => ⟨S1x1x32x1024, .f32⟩
  | .local _ .vmem, ⟨7, _⟩ => ⟨S1x1x32x1024, .f32⟩
  | .local _ .vmem, ⟨8, _⟩ => ⟨S1x1x32x1024, .f32⟩
  | .local _ .vmem, ⟨9, _⟩ => ⟨S1x1x32x1024, .f32⟩
  | .local _ .vmem, ⟨10, _⟩ => ⟨S1x1x32x1024, .f32⟩
  | .local _ .vmem, ⟨11, _⟩ => ⟨S1x1x32x1024, .f32⟩
  | .local _ .vmem, ⟨12, _⟩ => ⟨S1x1x32x1024, .f32⟩
  | .local _ .vmem, ⟨13, _⟩ => ⟨S1x1x32x1024, .f32⟩
  | .local _ .vmem, ⟨14, _⟩ => ⟨S1x1x32x1024, .f32⟩
  | .local _ .vmem, ⟨15, _⟩ => ⟨S1x1x32x1024, .f32⟩
  | .local _ .vmem, ⟨16, _⟩ => ⟨S1x1x32x1024, .f32⟩
  | .local _ .vmem, ⟨17, _⟩ => ⟨S1x1x32x1024, .f32⟩
  | .local _ .smem, ⟨0, _⟩ => ⟨S1, .i32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDown2RefIdeal.lean ====
abbrev S352x1024 : Shape := ⟨2, ![352, 1024]⟩
abbrev S1 : Shape := ⟨1, ![1]⟩
abbrev S4x2x352x1024 : Shape := ⟨4, ![4, 2, 352, 1024]⟩
abbrev S2 : Shape := ⟨1, ![2]⟩
abbrev S2x1x1 : Shape := ⟨3, ![2, 1, 1]⟩
abbrev S_ : Shape := ⟨0, ![]⟩
abbrev S2x352x1024 : Shape := ⟨3, ![2, 352, 1024]⟩
abbrev S1x2x352x1024 : Shape := ⟨4, ![1, 2, 352, 1024]⟩
abbrev S4 : Shape := ⟨1, ![4]⟩
abbrev S4x1x1x1 : Shape := ⟨4, ![4, 1, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S1, .i32⟩
  | .hbm, ⟨3, _⟩ => ⟨S4x2x352x1024, .f32⟩
  | .hbm, ⟨4, _⟩ => ⟨S4x2x352x1024, .f32⟩
  | .hbm, ⟨5, _⟩ => ⟨S4x2x352x1024, .f32⟩
  | .hbm, ⟨6, _⟩ => ⟨S4x2x352x1024, .f32⟩
  | .hbm, ⟨7, _⟩ => ⟨S4x2x352x1024, .f32⟩
  | .hbm, ⟨8, _⟩ => ⟨S4x2x352x1024, .f32⟩
  | .hbm, ⟨9, _⟩ => ⟨S4x2x352x1024, .f32⟩
  | .hbm, ⟨10, _⟩ => ⟨S2, .i32⟩
  | .hbm, ⟨11, _⟩ => ⟨S2x1x1, .i32⟩
  | .hbm, ⟨12, _⟩ => ⟨S_, .i32⟩
  | .hbm, ⟨13, _⟩ => ⟨S2x1x1, .i32⟩
  | .hbm, ⟨14, _⟩ => ⟨S2x1x1, .i1⟩
  | .hbm, ⟨15, _⟩ => ⟨S2x352x1024, .i1⟩
  | .hbm, ⟨16, _⟩ => ⟨S2x352x1024, .f32⟩
  | .hbm, ⟨17, _⟩ => ⟨S2x352x1024, .f32⟩
  | .hbm, ⟨18, _⟩ => ⟨S2x352x1024, .f32⟩
  | .hbm, ⟨19, _⟩ => ⟨S1x2x352x1024, .f32⟩
  | .hbm, ⟨20, _⟩ => ⟨S_, .f32⟩
  | .hbm, ⟨21, _⟩ => ⟨S4x2x352x1024, .f32⟩
  | .hbm, ⟨22, _⟩ => ⟨S4x2x352x1024, .f32⟩
  | .hbm, ⟨23, _⟩ => ⟨S_, .f32⟩
  | .hbm, ⟨24, _⟩ => ⟨S1x2x352x1024, .f32⟩
  | .hbm, ⟨25, _⟩ => ⟨S1x2x352x1024, .f32⟩
  | .hbm, ⟨26, _⟩ => ⟨S4x2x352x1024, .f32⟩
  | .hbm, ⟨27, _⟩ => ⟨S4x2x352x1024, .f32⟩
  | .hbm, ⟨28, _⟩ => ⟨S_, .f32⟩
  | .hbm, ⟨29, _⟩ => ⟨S4x2x352x1024, .f32⟩
  | .hbm, ⟨30, _⟩ => ⟨S4x2x352x1024, .f32⟩
  | .hbm, ⟨31, _⟩ => ⟨S1x2x352x1024, .f32⟩
  | .hbm, ⟨32, _⟩ => ⟨S_, .f32⟩
  | .hbm, ⟨33, _⟩ => ⟨S1x2x352x1024, .f32⟩
  | .hbm, ⟨34, _⟩ => ⟨S1x2x352x1024, .f32⟩
  | .hbm, ⟨35, _⟩ => ⟨S4x2x352x1024, .f32⟩
  | .hbm, ⟨36, _⟩ => ⟨S4x2x352x1024, .f32⟩
  | .hbm, ⟨37, _⟩ => ⟨S_, .f32⟩
  | .hbm, ⟨38, _⟩ => ⟨S4x2x352x1024, .f32⟩
  | .hbm, ⟨39, _⟩ => ⟨S4x2x352x1024, .f32⟩
  | .hbm, ⟨40, _⟩ => ⟨S_, .f32⟩
  | .hbm, ⟨41, _⟩ => ⟨S4x2x352x1024, .f32⟩
  | .hbm, ⟨42, _⟩ => ⟨S4x2x352x1024, .f32⟩
  | .hbm, ⟨43, _⟩ => ⟨S4x2x352x1024, .f32⟩
  | .hbm, ⟨44, _⟩ => ⟨S_, .f32⟩
  | .hbm, ⟨45, _⟩ => ⟨S4x2x352x1024, .f32⟩
  | .hbm, ⟨46, _⟩ => ⟨S4x2x352x1024, .f32⟩
  | .hbm, ⟨47, _⟩ => ⟨S4x2x352x1024, .f32⟩
  | .hbm, ⟨48, _⟩ => ⟨S_, .f32⟩
  | .hbm, ⟨49, _⟩ => ⟨S4x2x352x1024, .f32⟩
  | .hbm, ⟨50, _⟩ => ⟨S4x2x352x1024, .f32⟩
  | .hbm, ⟨51, _⟩ => ⟨S4x2x352x1024, .f32⟩
  | .hbm, ⟨52, _⟩ => ⟨S_, .f32⟩
  | .hbm, ⟨53, _⟩ => ⟨S4x2x352x1024, .f32⟩
  | .hbm, ⟨54, _⟩ => ⟨S4x2x352x1024, .f32⟩
  | .hbm, ⟨55, _⟩ => ⟨S4, .i32⟩
  | .hbm, ⟨56, _⟩ => ⟨S4x1x1x1, .i32⟩
  | .hbm, ⟨57, _⟩ => ⟨S_, .i32⟩
  | .hbm, ⟨58, _⟩ => ⟨S4x1x1x1, .i32⟩
  | .hbm, ⟨59, _⟩ => ⟨S4x1x1x1, .i1⟩
  | .hbm, ⟨60, _⟩ => ⟨S4x2x352x1024, .i1⟩
  | .hbm, ⟨61, _⟩ => ⟨S4x2x352x1024, .f32⟩
  | .hbm, ⟨62, _⟩ => ⟨S4x2x352x1024, .f32⟩
  | .hbm, ⟨63, _⟩ => ⟨S4, .i32⟩
  | .hbm, ⟨64, _⟩ => ⟨S4x1x1x1, .i32⟩
  | .hbm, ⟨65, _⟩ => ⟨S_, .i32⟩
  | .hbm, ⟨66, _⟩ => ⟨S4x1x1x1, .i32⟩
  | .hbm, ⟨67, _⟩ => ⟨S4x1x1x1, .i1⟩
  | .hbm, ⟨68, _⟩ => ⟨S4x2x352x1024, .i1⟩
  | .hbm, ⟨69, _⟩ => ⟨S4x2x352x1024, .f32⟩
  | .hbm, ⟨70, _⟩ => ⟨S4, .i32⟩
  | .hbm, ⟨71, _⟩ => ⟨S4x1x1x1, .i32⟩
  | .hbm, ⟨72, _⟩ => ⟨S_, .i32⟩
  | .hbm, ⟨73, _⟩ => ⟨S4x1x1x1, .i32⟩
  | .hbm, ⟨74, _⟩ => ⟨S4x1x1x1, .i1⟩
  | .hbm, ⟨75, _⟩ => ⟨S4x2x352x1024, .i1⟩
  | .hbm, ⟨76, _⟩ => ⟨S4x2x352x1024, .f32⟩
  | .hbm, ⟨77, _⟩ => ⟨S4, .i32⟩
  | .hbm, ⟨78, _⟩ => ⟨S4x1x1x1, .i32⟩
  | .hbm, ⟨79, _⟩ => ⟨S_, .i32⟩
  | .hbm, ⟨80, _⟩ => ⟨S4x1x1x1, .i32⟩
  | .hbm, ⟨81, _⟩ => ⟨S4x1x1x1, .i1⟩
  | .hbm, ⟨82, _⟩ => ⟨S4x2x352x1024, .i1⟩
  | .hbm, ⟨83, _⟩ => ⟨S4x2x352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c : Ref sig .tc := ⟨.hbm, 57, rfl⟩
abbrev main_v35 : Ref sig .tc := ⟨.hbm, 58, rfl⟩
abbrev main_v36 : Ref sig .tc := ⟨.hbm, 59, rfl⟩
abbrev main_call1_v0 : Ref sig .tc := ⟨.hbm, 60, rfl⟩
abbrev main_call1_v1 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_call2_v0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_9 : Ref sig .tc := ⟨.hbm, 72, rfl⟩
abbrev main_v45 : Ref sig .tc := ⟨.hbm, 73, rfl⟩
abbrev main_v46 : Ref sig .tc := ⟨.hbm, 74, rfl⟩
abbrev main_call3_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_10 : Ref sig .tc := ⟨.hbm, 79, rfl⟩
abbrev main_v50 : Ref sig .tc := ⟨.hbm, 80, rfl⟩
abbrev main_v51 : Ref sig .tc := ⟨.hbm, 81, rfl⟩
abbrev main_call4_v0 : Ref sig .tc := ⟨.hbm, 82, rfl⟩
abbrev main_v52 : Ref sig .tc := ⟨.hbm, 83, rfl⟩

abbrev nD : Nat := 1
abbrev τ : Topo := Topo.v7x

variable {F : FTy → Type} [FloatOps F]
-- ==== AdamDown3.lean ====
abbrev S352x1024 : Shape := ⟨2, ![352, 1024]⟩
abbrev S1 : Shape := ⟨1, ![1]⟩
abbrev S4x2x352x1024 : Shape := ⟨4, ![4, 2, 352, 1024]⟩
abbrev S32x1024 : Shape := ⟨2, ![32, 1024]⟩
abbrev S1x1x32x1024 : Shape := ⟨4, ![1, 1, 32, 1024]⟩

abbrev nBuf : Space → Nat
  | .hbm => 13
  | .vmem => 18
  | .smem => 1
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S4x2x352x1024, .f32⟩
  | .hbm, ⟨3, _⟩ => ⟨S4x2x352x1024, .f32⟩
  | .hbm, ⟨4, _⟩ => ⟨S4x2x352x1024, .f32⟩
  | .hbm, ⟨5, _⟩ => ⟨S4x2x352x1024, .f32⟩
  | .hbm, ⟨6, _⟩ => ⟨S4x2x352x1024, .f32⟩
  | .hbm, ⟨7, _⟩ => ⟨S4x2x352x1024, .f32⟩
  | .hbm, ⟨8, _⟩ => ⟨S4x2x352x1024, .f32⟩
  | .hbm, ⟨9, _⟩ => ⟨S4x2x352x1024, .f32⟩
  | .hbm, ⟨10, _⟩ => ⟨S4x2x352x1024, .f32⟩
  | .hbm, ⟨11, _⟩ => ⟨S4x2x352x1024, .f32⟩
  | .hbm, ⟨12, _⟩ => ⟨S4x2x352x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S1x1x32x1024, .f32⟩
  | .local _ .vmem, ⟨5, _⟩ => ⟨S1x1x32x1024, .f32⟩
  | .local _ .vmem, ⟨6, _⟩ => ⟨S1x1x32x1024, .f32⟩
  | .local _ .vmem, ⟨7, _⟩ => ⟨S1x1x32x1024, .f32⟩
  | .local _ .vmem, ⟨8, _⟩ => ⟨S1x1x32x1024, .f32⟩
  | .local _ .vmem, ⟨9, _⟩ => ⟨S1x1x32x1024, .f32⟩
  | .local _ .vmem, ⟨10, _⟩ => ⟨S1x1x32x1024, .f32⟩
  | .local _ .vmem, ⟨11, _⟩ => ⟨S1x1x32x1024, .f32⟩
  | .local _ .vmem, ⟨12, _⟩ => ⟨S1x1x32x1024, .f32⟩
  | .local _ .vmem, ⟨13, _⟩ => ⟨S1x1x32x1024, .f32⟩
  | .local _ .vmem, ⟨14, _⟩ => ⟨S1x1x32x1024, .f32⟩
  | .local _ .vmem, ⟨15, _⟩ => ⟨S1x1x32x1024, .f32⟩
  | .local _ .vmem, ⟨16, _⟩ => ⟨S1x1x32x1024, .f32⟩
  | .local _ .vmem, ⟨17, _⟩ => ⟨S1x1x32x1024, .f32⟩
  | .local _ .smem, ⟨0, _⟩ => ⟨S1, .i32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, arg1.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDown3RefIdeal.lean ====
abbrev S352x1024 : Shape := ⟨2, ![352, 1024]⟩
abbrev S1 : Shape := ⟨1, ![1]⟩
abbrev S4x2x352x1024 : Shape := ⟨4, ![4, 2, 352, 1024]⟩
abbrev S2 : Shape := ⟨1, ![2]⟩
abbrev S2x1x1 : Shape := ⟨3, ![2, 1, 1]⟩
abbrev S_ : Shape := ⟨0, ![]⟩
abbrev S2x352x1024 : Shape := ⟨3, ![2, 352, 1024]⟩
abbrev S1x2x352x1024 : Shape := ⟨4, ![1, 2, 352, 1024]⟩
abbrev S4 : Shape := ⟨1, ![4]⟩
abbrev S4x1x1x1 : Shape := ⟨4, ![4, 1, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S1, .i32⟩
  | .hbm, ⟨3, _⟩ => ⟨S4x2x352x1024, .f32⟩
  | .hbm, ⟨4, _⟩ => ⟨S4x2x352x1024, .f32⟩
  | .hbm, ⟨5, _⟩ => ⟨S4x2x352x1024, .f32⟩
  | .hbm, ⟨6, _⟩ => ⟨S4x2x352x1024, .f32⟩
  | .hbm, ⟨7, _⟩ => ⟨S4x2x352x1024, .f32⟩
  | .hbm, ⟨8, _⟩ => ⟨S4x2x352x1024, .f32⟩
  | .hbm, ⟨9, _⟩ => ⟨S4x2x352x1024, .f32⟩
  | .hbm, ⟨10, _⟩ => ⟨S2, .i32⟩
  | .hbm, ⟨11, _⟩ => ⟨S2x1x1, .i32⟩
  | .hbm, ⟨12, _⟩ => ⟨S_, .i32⟩
  | .hbm, ⟨13, _⟩ => ⟨S2x1x1, .i32⟩
  | .hbm, ⟨14, _⟩ => ⟨S2x1x1, .i1⟩
  | .hbm, ⟨15, _⟩ => ⟨S2x352x1024, .i1⟩
  | .hbm, ⟨16, _⟩ => ⟨S2x352x1024, .f32⟩
  | .hbm, ⟨17, _⟩ => ⟨S2x352x1024, .f32⟩
  | .hbm, ⟨18, _⟩ => ⟨S2x352x1024, .f32⟩
  | .hbm, ⟨19, _⟩ => ⟨S1x2x352x1024, .f32⟩
  | .hbm, ⟨20, _⟩ => ⟨S_, .f32⟩
  | .hbm, ⟨21, _⟩ => ⟨S4x2x352x1024, .f32⟩
  | .hbm, ⟨22, _⟩ => ⟨S4x2x352x1024, .f32⟩
  | .hbm, ⟨23, _⟩ => ⟨S_, .f32⟩
  | .hbm, ⟨24, _⟩ => ⟨S1x2x352x1024, .f32⟩
  | .hbm, ⟨25, _⟩ => ⟨S1x2x352x1024, .f32⟩
  | .hbm, ⟨26, _⟩ => ⟨S4x2x352x1024, .f32⟩
  | .hbm, ⟨27, _⟩ => ⟨S4x2x352x1024, .f32⟩
  | .hbm, ⟨28, _⟩ => ⟨S_, .f32⟩
  | .hbm, ⟨29, _⟩ => ⟨S4x2x352x1024, .f32⟩
  | .hbm, ⟨30, _⟩ => ⟨S4x2x352x1024, .f32⟩
  | .hbm, ⟨31, _⟩ => ⟨S1x2x352x1024, .f32⟩
  | .hbm, ⟨32, _⟩ => ⟨S_, .f32⟩
  | .hbm, ⟨33, _⟩ => ⟨S1x2x352x1024, .f32⟩
  | .hbm, ⟨34, _⟩ => ⟨S1x2x352x1024, .f32⟩
  | .hbm, ⟨35, _⟩ => ⟨S4x2x352x1024, .f32⟩
  | .hbm, ⟨36, _⟩ => ⟨S4x2x352x1024, .f32⟩
  | .hbm, ⟨37, _⟩ => ⟨S_, .f32⟩
  | .hbm, ⟨38, _⟩ => ⟨S4x2x352x1024, .f32⟩
  | .hbm, ⟨39, _⟩ => ⟨S4x2x352x1024, .f32⟩
  | .hbm, ⟨40, _⟩ => ⟨S_, .f32⟩
  | .hbm, ⟨41, _⟩ => ⟨S4x2x352x1024, .f32⟩
  | .hbm, ⟨42, _⟩ => ⟨S4x2x352x1024, .f32⟩
  | .hbm, ⟨43, _⟩ => ⟨S4x2x352x1024, .f32⟩
  | .hbm, ⟨44, _⟩ => ⟨S_, .f32⟩
  | .hbm, ⟨45, _⟩ => ⟨S4x2x352x1024, .f32⟩
  | .hbm, ⟨46, _⟩ => ⟨S4x2x352x1024, .f32⟩
  | .hbm, ⟨47, _⟩ => ⟨S4x2x352x1024, .f32⟩
  | .hbm, ⟨48, _⟩ => ⟨S_, .f32⟩
  | .hbm, ⟨49, _⟩ => ⟨S4x2x352x1024, .f32⟩
  | .hbm, ⟨50, _⟩ => ⟨S4x2x352x1024, .f32⟩
  | .hbm, ⟨51, _⟩ => ⟨S4x2x352x1024, .f32⟩
  | .hbm, ⟨52, _⟩ => ⟨S_, .f32⟩
  | .hbm, ⟨53, _⟩ => ⟨S4x2x352x1024, .f32⟩
  | .hbm, ⟨54, _⟩ => ⟨S4x2x352x1024, .f32⟩
  | .hbm, ⟨55, _⟩ => ⟨S4, .i32⟩
  | .hbm, ⟨56, _⟩ => ⟨S4x1x1x1, .i32⟩
  | .hbm, ⟨57, _⟩ => ⟨S_, .i32⟩
  | .hbm, ⟨58, _⟩ => ⟨S4x1x1x1, .i32⟩
  | .hbm, ⟨59, _⟩ => ⟨S4x1x1x1, .i1⟩
  | .hbm, ⟨60, _⟩ => ⟨S4x2x352x1024, .i1⟩
  | .hbm, ⟨61, _⟩ => ⟨S4x2x352x1024, .f32⟩
  | .hbm, ⟨62, _⟩ => ⟨S4x2x352x1024, .f32⟩
  | .hbm, ⟨63, _⟩ => ⟨S4, .i32⟩
  | .hbm, ⟨64, _⟩ => ⟨S4x1x1x1, .i32⟩
  | .hbm, ⟨65, _⟩ => ⟨S_, .i32⟩
  | .hbm, ⟨66, _⟩ => ⟨S4x1x1x1, .i32⟩
  | .hbm, ⟨67, _⟩ => ⟨S4x1x1x1, .i1⟩
  | .hbm, ⟨68, _⟩ => ⟨S4x2x352x1024, .i1⟩
  | .hbm, ⟨69, _⟩ => ⟨S4x2x352x1024, .f32⟩
  | .hbm, ⟨70, _⟩ => ⟨S4, .i32⟩
  | .hbm, ⟨71, _⟩ => ⟨S4x1x1x1, .i32⟩
  | .hbm, ⟨72, _⟩ => ⟨S_, .i32⟩
  | .hbm, ⟨73, _⟩ => ⟨S4x1x1x1, .i32⟩
  | .hbm, ⟨74, _⟩ => ⟨S4x1x1x1, .i1⟩
  | .hbm, ⟨75, _⟩ => ⟨S4x2x352x1024, .i1⟩
  | .hbm, ⟨76, _⟩ => ⟨S4x2x352x1024, .f32⟩
  | .hbm, ⟨77, _⟩ => ⟨S4, .i32⟩
  | .hbm, ⟨78, _⟩ => ⟨S4x1x1x1, .i32⟩
  | .hbm, ⟨79, _⟩ => ⟨S_, .i32⟩
  | .hbm, ⟨80, _⟩ => ⟨S4x1x1x1, .i32⟩
  | .hbm, ⟨81, _⟩ => ⟨S4x1x1x1, .i1⟩
  | .hbm, ⟨82, _⟩ => ⟨S4x2x352x1024, .i1⟩
  | .hbm, ⟨83, _⟩ => ⟨S4x2x352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c : Ref sig .tc := ⟨.hbm, 57, rfl⟩
abbrev main_v35 : Ref sig .tc := ⟨.hbm, 58, rfl⟩
abbrev main_v36 : Ref sig .tc := ⟨.hbm, 59, rfl⟩
abbrev main_call1_v0 : Ref sig .tc := ⟨.hbm, 60, rfl⟩
abbrev main_call1_v1 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_call2_v0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_9 : Ref sig .tc := ⟨.hbm, 72, rfl⟩
abbrev main_v45 : Ref sig .tc := ⟨.hbm, 73, rfl⟩
abbrev main_v46 : Ref sig .tc := ⟨.hbm, 74, rfl⟩
abbrev main_call3_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_10 : Ref sig .tc := ⟨.hbm, 79, rfl⟩
abbrev main_v50 : Ref sig .tc := ⟨.hbm, 80, rfl⟩
abbrev main_v51 : Ref sig .tc := ⟨.hbm, 81, rfl⟩
abbrev main_call4_v0 : Ref sig .tc := ⟨.hbm, 82, rfl⟩
abbrev main_v52 : Ref sig .tc := ⟨.hbm, 83, rfl⟩

abbrev nD : Nat := 1
abbrev τ : Topo := Topo.v7x

variable {F : FTy → Type} [FloatOps F]
-- ==== LnBwdTop.lean ====
abbrev S8192x1024 : Shape := ⟨2, ![8192, 1024]⟩
abbrev S1x1024 : Shape := ⟨2, ![1, 1024]⟩
abbrev S2x1024 : Shape := ⟨2, ![2, 1024]⟩
abbrev S1024x1024 : Shape := ⟨2, ![1024, 1024]⟩
abbrev S2x8x1024 : Shape := ⟨3, ![2, 8, 1024]⟩
abbrev S16x1024 : Shape := ⟨2, ![16, 1024]⟩
abbrev S16 : Shape := ⟨1, ![16]⟩
abbrev S16x1 : Shape := ⟨2, ![16, 1]⟩
abbrev S1x8x1024 : Shape := ⟨3, ![1, 8, 1024]⟩
abbrev S8x1024 : Shape := ⟨2, ![8, 1024]⟩
abbrev S1024 : Shape := ⟨1, ![1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .bf16⟩
  | .hbm, ⟨5, _⟩ => ⟨S2x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | .local _ .vmem, ⟨9, _⟩ => ⟨S2x1024, .f32⟩
  | .local _ .vmem, ⟨10, _⟩ => ⟨S2x8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_2 : BitVec 32 := 0#32
  let c64_i32 : BitVec 32 := 64#32
  let v4 : BitVec 32 := Scalar.addi c0_i32_2 c64_i32
  let c1_i32 : BitVec 32 := 1#32
  ⟨c0_i32_2, v4, c1_i32⟩
def k0_mult1 (k0_t1 : Fin k0_t1_loop.trips) : BitVec 32 :=
  let c0_i32_2 : BitVec 32 := 0#32
  let c1_i32 : BitVec 32 := 1#32
  let arg8 : BitVec 32 := Scf.iv c0_i32_2 c1_i32 k0_t1
  let c16_i32 : BitVec 32 := 16#32
  let v8 : BitVec 32 := Scalar.muli arg8 c16_i32
  v8
def k0_off1 (k0_t1 : Fin k0_t1_loop.trips) : Fin 2 → Nat :=
  let c0_i32_2 : BitVec 32 := 0#32
  let c1_i32 : BitVec 32 := 1#32
  let arg8 : BitVec 32 := Scf.iv c0_i32_2 c1_i32 k0_t1
  let c16_i32 : BitVec 32 := 16#32
  let v8 : BitVec 32 := Scalar.muli arg8 c16_i32
  let v9 : BitVec 32 := v8
  let v10 : Index := Scalar.indexCast v9
  let c0_5 : Index := 0#32
  ![v10.toNat, 0]
def k0_cond2 (i : grid0.Coords) : BitVec 1 :=
  let arg0 : BitVec 32 := BitVec.ofNat 32 (i 0).val
  let c7_i32 : BitVec 32 := 7#32
  let v5 : BitVec 1 := Scalar.cmpi .eq arg0 c7_i32
  let v6 : BitVec 32 := Scalar.extui v5
  let c0_i32_4 : BitVec 32 := 0#32
  let v7 : BitVec 1 := Scalar.cmpi .ne v6 c0_i32_4
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LnBwdTopRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S2x1024 : Shape := ⟨2, ![2, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S1x1024, .f32⟩
  | .hbm, ⟨49, _⟩ => ⟨S2x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== LnBwdKv.lean ====
abbrev S8192x1024 : Shape := ⟨2, ![8192, 1024]⟩
abbrev S1x1024 : Shape := ⟨2, ![1, 1024]⟩
abbrev S2x1024 : Shape := ⟨2, ![2, 1024]⟩
abbrev S1024x1024 : Shape := ⟨2, ![1024, 1024]⟩
abbrev S2x8x1024 : Shape := ⟨3, ![2, 8, 1024]⟩
abbrev S16x1024 : Shape := ⟨2, ![16, 1024]⟩
abbrev S16 : Shape := ⟨1, ![16]⟩
abbrev S16x1 : Shape := ⟨2, ![16, 1]⟩
abbrev S1x8x1024 : Shape := ⟨3, ![1, 8, 1024]⟩
abbrev S8x1024 : Shape := ⟨2, ![8, 1024]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S2x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S2x1024, .f32⟩
  | .local _ .vmem, ⟨14, _⟩ => ⟨S2x8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_2 : BitVec 32 := 0#32
  let c64_i32 : BitVec 32 := 64#32
  let v4 : BitVec 32 := Scalar.addi c0_i32_2 c64_i32
  let c1_i32 : BitVec 32 := 1#32
  ⟨c0_i32_2, v4, c1_i32⟩
def k0_mult1 (k0_t1 : Fin k0_t1_loop.trips) : BitVec 32 :=
  let c0_i32_2 : BitVec 32 := 0#32
  let c1_i32 : BitVec 32 := 1#32
  let arg10 : BitVec 32 := Scf.iv c0_i32_2 c1_i32 k0_t1
  let c16_i32 : BitVec 32 := 16#32
  let v8 : BitVec 32 := Scalar.muli arg10 c16_i32
  v8
def k0_off1 (k0_t1 : Fin k0_t1_loop.trips) : Fin 2 → Nat :=
  let c0_i32_2 : BitVec 32 := 0#32
  let c1_i32 : BitVec 32 := 1#32
  let arg10 : BitVec 32 := Scf.iv c0_i32_2 c1_i32 k0_t1
  let c16_i32 : BitVec 32 := 16#32
  let v8 : BitVec 32 := Scalar.muli arg10 c16_i32
  let v9 : BitVec 32 := v8
  let v10 : Index := Scalar.indexCast v9
  let c0_5 : Index := 0#32
  ![v10.toNat, 0]
def k0_cond2 (i : grid0.Coords) : BitVec 1 :=
  let arg0 : BitVec 32 := BitVec.ofNat 32 (i 0).val
  let c7_i32 : BitVec 32 := 7#32
  let v5 : BitVec 1 := Scalar.cmpi .eq arg0 c7_i32
  let v6 : BitVec 32 := Scalar.extui v5
  let c0_i32_4 : BitVec 32 := 0#32
  let v7 : BitVec 1 := Scalar.cmpi .ne v6 c0_i32_4
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LnBwdKvRefIdeal.lean ====
abbrev S8192x1024 : Shape := ⟨2, ![8192, 1024]⟩
abbrev S1x1024 : Shape := ⟨2, ![1, 1024]⟩
abbrev S_ : Shape := ⟨0, ![]⟩
abbrev S1024 : Shape := ⟨1, ![1024]⟩
abbrev S8192 : Shape := ⟨1, ![8192]⟩
abbrev S8192x1 : Shape := ⟨2, ![8192, 1]⟩
abbrev S2x1024 : Shape := ⟨2, ![2, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S1x1024, .f32⟩
  | .hbm, ⟨55, _⟩ => ⟨S2x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Proof.Pool.Window.lean ====
/-
  Running sums along the rows of a rank-four array, as the host writes them: a window of the whole height, padded on one side.
-/
module

public import Idealize.ShloMosaic.Lib.Pipeline.ValueKit

@[expose] public section

set_option maxRecDepth 16384

noncomputable section

namespace Cert.PoolRef

open Idealize.ShloMosaic Idealize.ShloMosaic.TcCoe

/-- A window sum from zero is the sum over the window's positions, a position in the padding giving zero. -/
theorem window_eq {s t : Shape} (window strides lo hi : Fin s.rank → Nat) (h : s.ReduceWindows window strides lo hi t) (x : s.Idx → EReal) (j : t.Idx) :
    Ideal.hostReduceWindowAdd window strides lo hi h x 0 j
      = ∑ w : (⟨s.rank, window⟩ : Shape).Idx,
          if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0 := by
  rw [← Equiv.sum_comp (⟨s.rank, window⟩ : Shape).rowMajor.symm]
  have key : ∀ (N : ℕ) (F : Fin N → EReal), (List.finRange N).foldl (fun r n => r + F n) 0 = ∑ n : Fin N, F n := by
    intro N F
    rw [← List.sum_ofFn, List.ofFn_eq_map, ← List.foldl_map, List.sum_eq_foldl]
  refine Eq.trans ?_ (key _ _)
  unfold Ideal.hostReduceWindowAdd Host.reduceWindow
  refine congrArg (fun f : EReal → _ → EReal => List.foldl f 0 (List.finRange _)) (funext fun r => funext fun n => ?_)
  dsimp only
  congr

/-- A sum over the positions of a window one wide on all axes but the rows. -/
theorem sum_rows (F : (⟨4, ![1, 2048, 1, 1]⟩ : Shape).Idx → EReal) : ∑ w, F w = ∑ n : Fin 2048, F (ix4 0 n 0 0) := by
  refine Finset.sum_nbij' (fun w => w 1) (fun n => ix4 0 n 0 0) (fun _ _ => Finset.mem_univ _) (fun _ _ => Finset.mem_univ _) (fun w _ => ?_) (fun n _ => rfl) (fun w _ => ?_)
  · funext a
    match a with
    | ⟨0, _⟩ => exact (Subsingleton.elim (α := Fin 1) _ _)
    | ⟨1, _⟩ => rfl
    | ⟨2, _⟩ => exact (Subsingleton.elim (α := Fin 1) _ _)
    | ⟨3, _⟩ => exact (Subsingleton.elim (α := Fin 1) _ _)
  · refine congrArg F ?_
    funext a
    match a with
    | ⟨0, _⟩ => exact (Subsingleton.elim (α := Fin 1) _ _)
    | ⟨1, _⟩ => rfl
    | ⟨2, _⟩ => exact (Subsingleton.elim (α := Fin 1) _ _)
    | ⟨3, _⟩ => exact (Subsingleton.elim (α := Fin 1) _ _)

theorem cum_fwd (x : (⟨4, ![4, 2048, 4, 256]⟩ : Shape).Idx → EReal) (h) (j : (⟨4, ![4, 2048, 4, 256]⟩ : Shape).Idx) :
    Ideal.hostReduceWindowAdd (s := ⟨4, ![4, 2048, 4, 256]⟩) (t := ⟨4, ![4, 2048, 4, 256]⟩) ![1, 2048, 1, 1] ![1, 1, 1, 1] ![0, 2047, 0, 0] ![0, 0, 0, 0] h x 0 j
      = ∑ q : Fin 2048, if q.val ≤ (j 1).val then x (ix4 (j 0) q (j 2) (j 3)) else 0 := by
  rw [window_eq]
  refine (sum_rows _).trans ?_
  have h0 : (j 0).val < 4 := (j 0).isLt
  have h1 : (j 1).val < 2048 := (j 1).isLt
  have h2 : (j 2).val < 4 := (j 2).isLt
  have h3 : (j 3).val < 256 := (j 3).isLt
  have e : ∀ n : Fin 2048, (if hin : ∀ a : Fin 4, (![0, 2047, 0, 0] : Fin 4 → ℕ) a ≤ (j a).val * (![1, 1, 1, 1] : Fin 4 → ℕ) a + ((ix4 0 n 0 0 : (⟨4, ![1, 2048, 1, 1]⟩ : Shape).Idx) a).val
        ∧ (j a).val * (![1, 1, 1, 1] : Fin 4 → ℕ) a + ((ix4 0 n 0 0 : (⟨4, ![1, 2048, 1, 1]⟩ : Shape).Idx) a).val - (![0, 2047, 0, 0] : Fin 4 → ℕ) a < (![4, 2048, 4, 256] : Fin 4 → ℕ) a
      then x (fun a => ⟨_, (hin a).2⟩) else 0)
      = if hn : 2047 ≤ (j 1).val + n.val then x (ix4 (j 0) ⟨(j 1).val + n.val - 2047, by omega⟩ (j 2) (j 3)) else 0 := by
    intro n
    by_cases hn : 2047 ≤ (j 1).val + n.val
    · rw [dif_pos hn, dif_pos]
      · refine congrArg x (funext fun a => Fin.ext ?_)
        match a with
        | ⟨0, _⟩ => show (j 0).val * 1 + 0 - 0 = (j 0).val; omega
        | ⟨1, _⟩ => show (j 1).val * 1 + n.val - 2047 = (j 1).val + n.val - 2047; omega
        | ⟨2, _⟩ => show (j 2).val * 1 + 0 - 0 = (j 2).val; omega
        | ⟨3, _⟩ => show (j 3).val * 1 + 0 - 0 = (j 3).val; omega
      · intro a
        match a with
        | ⟨0, _⟩ => show 0 ≤ (j 0).val * 1 + 0 ∧ (j 0).val * 1 + 0 - 0 < 4; omega
        | ⟨1, _⟩ => show 2047 ≤ (j 1).val * 1 + n.val ∧ (j 1).val * 1 + n.val - 2047 < 2048; omega
        | ⟨2, _⟩ => show 0 ≤ (j 2).val * 1 + 0 ∧ (j 2).val * 1 + 0 - 0 < 4; omega
        | ⟨3, _⟩ => show 0 ≤ (j 3).val * 1 + 0 ∧ (j 3).val * 1 + 0 - 0 < 256; omega
    · rw [dif_neg hn, dif_neg]
      intro hin
      have := (hin 1).1
      have this : 2047 ≤ (j 1).val * 1 + n.val := this
      omega
  refine (Finset.sum_congr rfl fun n _ => e n).trans ?_
  rw [← Finset.sum_filter (fun q : Fin 2048 => q.val ≤ (j 1).val) (fun q => x (ix4 (j 0) q (j 2) (j 3)))]
  rw [← Finset.sum_filter_add_sum_filter_not Finset.univ (fun n : Fin 2048 => 2047 ≤ (j 1).val + n.val)]
  rw [Finset.sum_eq_zero (s := Finset.univ.filter (fun n : Fin 2048 => ¬ 2047 ≤ (j 1).val + n.val)) (fun n hn => dif_neg (Finset.mem_filter.mp hn).2), add_zero]
  refine Finset.sum_bij' (fun n hn => (⟨(j 1).val + n.val - 2047, by omega⟩ : Fin 2048))
    (fun q hq => (⟨q.val + 2047 - (j 1).val, by have := (Finset.mem_filter.mp hq).2; omega⟩ : Fin 2048)) (fun n hn => ?_) (fun q hq => ?_) (fun n hn => ?_) (fun q hq => ?_) (fun n hn => ?_)
  · have := (Finset.mem_filter.mp hn).2
    exact Finset.mem_filter.mpr ⟨Finset.mem_univ _, by show (j 1).val + n.val - 2047 ≤ (j 1).val; omega⟩
  · have := (Finset.mem_filter.mp hq).2
    exact Finset.mem_filter.mpr ⟨Finset.mem_univ _, by show 2047 ≤ (j 1).val + (q.val + 2047 - (j 1).val); omega⟩
  · have := (Finset.mem_filter.mp hn).2
    exact Fin.ext (by show (j 1).val + n.val - 2047 + 2047 - (j 1).val = n.val; omega)
  · have := (Finset.mem_filter.mp hq).2
    exact Fin.ext (by show (j 1).val + (q.val + 2047 - (j 1).val) - 2047 = q.val; omega)
  · exact dif_pos (Finset.mem_filter.mp hn).2

theorem cum_bwd (x : (⟨4, ![4, 2048, 4, 256]⟩ : Shape).Idx → EReal) (h) (j : (⟨4, ![4, 2048, 4, 256]⟩ : Shape).Idx) :
    Ideal.hostReduceWindowAdd (s := ⟨4, ![4, 2048, 4, 256]⟩) (t := ⟨4, ![4, 2048, 4, 256]⟩) ![1, 2048, 1, 1] ![1, 1, 1, 1] ![0, 0, 0, 0] ![0, 2047, 0, 0] h x 0 j
      = ∑ n : Fin 2048, if hn : (j 1).val + n.val < 2048 then x (ix4 (j 0) ⟨(j 1).val + n.val, hn⟩ (j 2) (j 3)) else 0 := by
  rw [window_eq]
  refine (sum_rows _).trans ?_
  have h0 : (j 0).val < 4 := (j 0).isLt
  have h1 : (j 1).val < 2048 := (j 1).isLt
  have h2 : (j 2).val < 4 := (j 2).isLt
  have h3 : (j 3).val < 256 := (j 3).isLt
  refine Finset.sum_congr rfl fun n _ => ?_
  by_cases hn : (j 1).val + n.val < 2048
  · rw [dif_pos hn, dif_pos]
    · refine congrArg x (funext fun a => Fin.ext ?_)
      match a with
      | ⟨0, _⟩ => show (j 0).val * 1 + 0 - 0 = (j 0).val; omega
      | ⟨1, _⟩ => show (j 1).val * 1 + n.val - 0 = (j 1).val + n.val; omega
      | ⟨2, _⟩ => show (j 2).val * 1 + 0 - 0 = (j 2).val; omega
      | ⟨3, _⟩ => show (j 3).val * 1 + 0 - 0 = (j 3).val; omega
    · intro a
      match a with
      | ⟨0, _⟩ => show 0 ≤ (j 0).val * 1 + 0 ∧ (j 0).val * 1 + 0 - 0 < 4; omega
      | ⟨1, _⟩ => show 0 ≤ (j 1).val * 1 + n.val ∧ (j 1).val * 1 + n.val - 0 < 2048; omega
      | ⟨2, _⟩ => show 0 ≤ (j 2).val * 1 + 0 ∧ (j 2).val * 1 + 0 - 0 < 4; omega
      | ⟨3, _⟩ => show 0 ≤ (j 3).val * 1 + 0 ∧ (j 3).val * 1 + 0 - 0 < 256; omega
  · rw [dif_neg hn, dif_neg]
    intro hin
    have := (hin 1).2
    have this : (j 1).val * 1 + n.val - 0 < 2048 := this
    omega

theorem host_fwd {u : Shape} (x : (⟨4, ![4, 2048, 4, 256]⟩ : Shape).Idx → EReal) (init : u.Idx → EReal) (h) (hu : 0 < u.numel) (hz : init (Shape.Idx.first hu) = 0)
    (j : (⟨4, ![4, 2048, 4, 256]⟩ : Shape).Idx) :
    (Host.reduceWindowAdd (F := Ideal) (φ := .f32) (s := ⟨4, ![4, 2048, 4, 256]⟩) (t := ⟨4, ![4, 2048, 4, 256]⟩) ![1, 2048, 1, 1] ![1, 1, 1, 1] ![0, 2047, 0, 0] ![0, 0, 0, 0] x init h hu : (⟨4, ![4, 2048, 4, 256]⟩ : Shape).Idx → EReal) j
      = ∑ q : Fin 2048, if q.val ≤ (j 1).val then x (ix4 (j 0) q (j 2) (j 3)) else 0 := by
  rw [← cum_fwd x h j, ← hz]
  rfl

theorem host_bwd {u : Shape} (x : (⟨4, ![4, 2048, 4, 256]⟩ : Shape).Idx → EReal) (init : u.Idx → EReal) (h) (hu : 0 < u.numel) (hz : init (Shape.Idx.first hu) = 0)
    (j : (⟨4, ![4, 2048, 4, 256]⟩ : Shape).Idx) :
    (Host.reduceWindowAdd (F := Ideal) (φ := .f32) (s := ⟨4, ![4, 2048, 4, 256]⟩) (t := ⟨4, ![4, 2048, 4, 256]⟩) ![1, 2048, 1, 1] ![1, 1, 1, 1] ![0, 0, 0, 0] ![0, 2047, 0, 0] x init h hu : (⟨4, ![4, 2048, 4, 256]⟩ : Shape).Idx → EReal) j
      = ∑ n : Fin 2048, if hn : (j 1).val + n.val < 2048 then x (ix4 (j 0) ⟨(j 1).val + n.val, hn⟩ (j 2) (j 3)) else 0 := by
  rw [← cum_bwd x h j, ← hz]
  rfl

end Cert.PoolRef
-- ==== Proof.Pool.Pay.lean ====
/-
  What the stores of one trip hold, element by element. A trip works on 48 rows of a column group of width 256: forwards it forms the mean of the
  `w` rows that end at a row and subtracts that row; backwards it divides by the row's count and sums the `w` rows that begin at a row. Rows are
  named by natural numbers, and `f r c` is what row `r` of the 48 holds in column `c`.
-/
module

public import proofs.«01_k».proof.Proof.Gen.KernelIdeal.Value
public import Idealize.ShloMosaic.Lib.Pipeline.ValueKit
public import Idealize.ShloMosaic.Lib.Pipeline.ReadBack
public import Idealize.ShloMosaic.Lib.PlanTiles.Rows
public import Idealize.ShloMosaic.Lib.WordArith.Masks

@[expose] public section

set_option maxRecDepth 16384

noncomputable section

namespace Cert.Pool

open Cert.KernelIdeal Cert.KernelIdeal.Gen
open Idealize.ShloMosaic Idealize.ShloMosaic.TcCoe Idealize.SL.Sem

/-- How many of the `w` rows that end at row `n` exist. -/
def cnt (n w : ℕ) : EReal := (((min (n + 1) w : ℕ) : ℝ) : EReal)

theorem up_row (a k : ℕ) (ha : a + (48 - k) < 48) (hk : k ≤ 48) : (a + 48 - k) % 48 = a + (48 - k) := by
  rw [Nat.mod_eq_of_lt (by omega)]; omega

theorem down_row (a k : ℕ) (ha : k ≤ a) (hk : a < 48) : (a + 48 - k) % 48 = a - k := by omega

/-- The count of a row as the kernel's integers form it. -/
theorem count_word (s k r w : ℕ) (hs : s < 4) (hk : k < 16) (hr : r < 48) (hw : w < 2 ^ 31) :
    (FloatOps.sitofp FTy.f32 (IntOp.minsi (IntOp.addi (IntOp.addi (Scalar.addi (Scalar.muli (BitVec.ofNat 32 s) 512#32)
      (Scalar.muli (Scf.iv 0#32 1#32 k) 32#32)) (BitVec.ofNat 32 r)) 1#32) (BitVec.ofNat 32 w)) : Ideal .f32)
      = cnt (s * 512 + 32 * k + r) w := by
  have e : IntOp.addi (IntOp.addi (Scalar.addi (Scalar.muli (BitVec.ofNat 32 s) 512#32)
      (Scalar.muli (Scf.iv 0#32 1#32 k) 32#32)) (BitVec.ofNat 32 r)) 1#32 = BitVec.ofNat 32 (s * 512 + 32 * k + r + 1) := by
    have h1 : Scf.iv 0#32 1#32 k = BitVec.ofNat 32 k := by
      apply BitVec.eq_of_toNat_eq
      rw [WordArith.toNat_iv_zero_one _ (by omega), BitVec.toNat_ofNat, Nat.mod_eq_of_lt (by omega)]
    rw [h1]
    show BitVec.ofNat 32 s * BitVec.ofNat 32 512 + BitVec.ofNat 32 k * BitVec.ofNat 32 32 + BitVec.ofNat 32 r + BitVec.ofNat 32 1 = _
    rw [← BitVec.ofNat_mul, ← BitVec.ofNat_mul, ← BitVec.ofNat_add, ← BitVec.ofNat_add, ← BitVec.ofNat_add, Nat.mul_comm k 32]
  rw [e, PlanTiles.minsi_word (by omega) hw]
  show (((BitVec.ofNat 32 _).toInt : ℝ) : EReal) = _
  unfold cnt
  rw [BitVec.toInt_eq_toNat_of_lt (by rw [BitVec.toNat_ofNat]; omega), BitVec.toNat_ofNat, Nat.mod_eq_of_lt (by omega), Nat.min_comm]
  push_cast
  rfl

section forwards

variable (s : ℕ) (hs : s < 4) (k : Fin k0_t1_loop.trips) (v : Vec Ideal S48x256 .f32) (f : ℕ → Fin 256 → EReal)
  (hv : v = fun i => f (i 0).val (i 1)) (y : S32x256.Idx)

include hs hv

theorem pay5_apply : k0_pay5 (Scalar.muli (BitVec.ofNat 32 s) 512#32) 0#32 1#32 k v y
    = Ideal.div (∑ q ∈ Finset.range 2, f (16 + y 0 - q) (y 1)) (cnt (s * 512 + 32 * k + y 0) 2) - f (16 + y 0) (y 1) := by
  have hy : (y 0).val < 32 := (y 0).isLt
  have hk : k.val < 16 := Nat.lt_of_lt_of_le k.isLt k0_t1_abs.2.1
  unfold k0_pay5
  subst hv
  pointwise
  simp (disch := omega) only [count_word, down_row, Finset.sum_range_succ, Finset.sum_range_zero, zero_add, Nat.sub_zero]

theorem pay6_apply : k0_pay7 (k0_pay6 (Scalar.muli (BitVec.ofNat 32 s) 512#32) 0#32 1#32 k v) y
    = Ideal.div (∑ q ∈ Finset.range 4, f (16 + y 0 - q) (y 1)) (cnt (s * 512 + 32 * k + y 0) 4) - f (16 + y 0) (y 1) := by
  have hy : (y 0).val < 32 := (y 0).isLt
  have hk : k.val < 16 := Nat.lt_of_lt_of_le k.isLt k0_t1_abs.2.1
  unfold k0_pay7 k0_pay6
  subst hv
  pointwise
  simp (disch := omega) only [count_word, down_row, Finset.sum_range_succ, Finset.sum_range_zero, zero_add, Nat.sub_zero, Nat.sub_sub, Nat.reduceAdd]
  congr 2
  abel

theorem pay8_apply : k0_pay8 (Scalar.muli (BitVec.ofNat 32 s) 512#32) (Scalar.muli (Scf.iv 0#32 1#32 k) 32#32) v y
    = Ideal.div (∑ q ∈ Finset.range 8, f (16 + y 0 - q) (y 1)) (cnt (s * 512 + 32 * k + y 0) 8) - f (16 + y 0) (y 1) := by
  have hy : (y 0).val < 32 := (y 0).isLt
  have hk : k.val < 16 := Nat.lt_of_lt_of_le k.isLt k0_t1_abs.2.1
  unfold k0_pay8
  subst hv
  pointwise
  simp (disch := omega) only [count_word, down_row, Finset.sum_range_succ, Finset.sum_range_zero, zero_add, Nat.sub_zero, Nat.sub_sub, Nat.reduceAdd]
  congr 2
  abel

theorem pay22_apply : k0_pay22 v (k0_pay9 v) (k0_pay10 (Scalar.muli (BitVec.ofNat 32 s) 512#32) (Scalar.muli (Scf.iv 0#32 1#32 k) 32#32)) y
    = Ideal.div (∑ q ∈ Finset.range 16, f (16 + y 0 - q) (y 1)) (cnt (s * 512 + 32 * k + y 0) 16) - f (16 + y 0) (y 1) := by
  have hy : (y 0).val < 32 := (y 0).isLt
  have hk : k.val < 16 := Nat.lt_of_lt_of_le k.isLt k0_t1_abs.2.1
  unfold k0_pay22 k0_pay9 k0_pay10
  subst hv
  pointwise
  simp (disch := omega) only [count_word, down_row, Finset.sum_range_succ, Finset.sum_range_zero, zero_add, Nat.sub_zero, Nat.sub_sub, Nat.reduceAdd]
  congr 2
  abel

end forwards

section backwards

variable (s : ℕ) (hs : s < 4) (k : Fin k0_t2_loop.trips) (v : Vec Ideal S48x256 .f32) (f : ℕ → Fin 256 → EReal)
  (hv : v = fun i => f (i 0).val (i 1)) (d : Vec Ideal S32x256 .f32) (y : S1x32x256.Idx)

/-- The factor of the residual path. -/
def alpha : EReal := Scalar.ofBits (F := Ideal) .f32 0x3FD744FD#32

include hs hv

theorem pay11_apply : k0_pay11 (BitVec.ofNat 32 s) 0#32 1#32 k v d y
    = alpha * d (ix2 (y 1) (y 2)) + ((∑ q ∈ Finset.range 2, Ideal.div (f (y 1 + q) (y 2)) (cnt (s * 512 + 32 * k + (y 1 + q)) 2)) - f (y 1) (y 2)) := by
  have hy : (y 1).val < 32 := (y 1).isLt
  have hk : k.val < 16 := Nat.lt_of_lt_of_le k.isLt k0_t2_abs.2.1
  unfold k0_pay11 alpha
  subst hv
  pointwise
  simp (disch := omega) only [count_word, up_row, Finset.sum_range_succ, Finset.sum_range_zero, zero_add, Nat.add_zero, Nat.reduceSub, Nat.add_assoc, Nat.reduceAdd]

theorem pay13_apply : k0_pay13 v (k0_pay12 (BitVec.ofNat 32 s) 0#32 1#32 k v) d y
    = alpha * d (ix2 (y 1) (y 2)) + ((∑ q ∈ Finset.range 4, Ideal.div (f (y 1 + q) (y 2)) (cnt (s * 512 + 32 * k + (y 1 + q)) 4)) - f (y 1) (y 2)) := by
  have hy : (y 1).val < 32 := (y 1).isLt
  have hk : k.val < 16 := Nat.lt_of_lt_of_le k.isLt k0_t2_abs.2.1
  unfold k0_pay13 k0_pay12 alpha
  subst hv
  pointwise
  simp (disch := omega) only [count_word, up_row, Finset.sum_range_succ, Finset.sum_range_zero, zero_add, Nat.add_zero, Nat.reduceSub, Nat.add_assoc, Nat.reduceAdd]
  congr 2
  abel

theorem pay14_apply : k0_pay3 (k0_pay14 (BitVec.ofNat 32 s) (Scalar.muli (Scf.iv 0#32 1#32 k) 32#32) v d) y
    = alpha * d (ix2 (y 1) (y 2)) + ((∑ q ∈ Finset.range 8, Ideal.div (f (y 1 + q) (y 2)) (cnt (s * 512 + 32 * k + (y 1 + q)) 8)) - f (y 1) (y 2)) := by
  have hy : (y 1).val < 32 := (y 1).isLt
  have hk : k.val < 16 := Nat.lt_of_lt_of_le k.isLt k0_t2_abs.2.1
  unfold k0_pay3 k0_pay14 alpha
  subst hv
  pointwise
  simp (disch := omega) only [count_word, up_row, Finset.sum_range_succ, Finset.sum_range_zero, zero_add, Nat.add_zero, Nat.reduceSub, Nat.add_assoc, Nat.reduceAdd]
  congr 2
  abel

theorem pay4_apply : k0_pay4 (BitVec.ofNat 32 s) (Scalar.muli (Scf.iv 0#32 1#32 k) 32#32) v d y
    = alpha * d (ix2 (y 1) (y 2)) + ((∑ q ∈ Finset.range 16, Ideal.div (f (y 1 + q) (y 2)) (cnt (s * 512 + 32 * k + (y 1 + q)) 16)) - f (y 1) (y 2)) := by
  have hy : (y 1).val < 32 := (y 1).isLt
  have hk : k.val < 16 := Nat.lt_of_lt_of_le k.isLt k0_t2_abs.2.1
  unfold k0_pay4 alpha
  subst hv
  pointwise
  simp (disch := omega) only [count_word, up_row, Finset.sum_range_succ, Finset.sum_range_zero, zero_add, Nat.add_zero, Nat.reduceSub, Nat.add_assoc, Nat.reduceAdd]
  congr 2
  abel

end backwards

end Cert.Pool
-- ==== Proof.Pool.Trips.lean ====
/-
  The two loops of the body. A trip handles 32 rows of all four column groups; `fwd` is what the first loop leaves in the scratch of pooled rows,
  `bwd` what the second leaves in the block of the gradient, both as functions of the rows the loops read.
-/
module

public import proofs.«01_k».proof.Proof.Pool.Pay

@[expose] public section

set_option maxRecDepth 16384

noncomputable section

namespace Cert.Pool

open Cert.KernelIdeal Cert.KernelIdeal.Gen
open Idealize.ShloMosaic Idealize.ShloMosaic.TcCoe Idealize.SL.Sem

/-- An array of 528 rows read by natural numbers, zero outside. -/
def at2 (X : S528x1024.Idx → EReal) (r c : ℕ) : EReal := if h : r < 528 ∧ c < 1024 then X (ix2 ⟨r, h.1⟩ ⟨c, h.2⟩) else 0

/-- The number of rows the mean of column `c` runs over: 2, 4, 8 and 16 in the four groups. -/
def wid (c : ℕ) : ℕ := 2 ^ (c / 256 + 1)

def fwd (s : ℕ) (X : ℕ → ℕ → EReal) (r c : ℕ) : EReal :=
  Ideal.div (∑ q ∈ Finset.range (wid c), X (16 + r - q) c) (cnt (s * 512 + r) (wid c)) - X (16 + r) c

def bwd (s : ℕ) (D P : ℕ → ℕ → EReal) (r c : ℕ) : EReal :=
  alpha * D r c + ((∑ q ∈ Finset.range (wid c), Ideal.div (P (r + q) c) (cnt (s * 512 + (r + q)) (wid c))) - P r c)

theorem wid_eq (g c : ℕ) (hc : c < 256) : wid (256 * g + c) = 2 ^ (g + 1) := by
  unfold wid; congr 2; omega

theorem fwd_chunk (s : ℕ) (X : ℕ → ℕ → EReal) (k x g c w : ℕ) (hc : c < 256) (hg : g < 4) (hw : w = 2 ^ (g + 1)) :
    Ideal.div (∑ q ∈ Finset.range w, X (32 * k + (16 + x - q)) (256 * g + c)) (cnt (s * 512 + 32 * k + x) w) - X (32 * k + (16 + x)) (256 * g + c)
      = fwd s X (32 * k + x) (256 * g + c) := by
  have h16 : w ≤ 16 := by interval_cases g <;> omega
  unfold fwd
  rw [wid_eq g c hc, ← hw, Nat.add_assoc (s * 512), Nat.add_left_comm 16]
  congr 2
  refine Finset.sum_congr rfl fun q hq => ?_
  have := Finset.mem_range.mp hq
  congr 1
  omega

theorem bwd_chunk (s : ℕ) (D P : ℕ → ℕ → EReal) (d : EReal) (k x g c w : ℕ) (hc : c < 256) (hw : w = 2 ^ (g + 1)) (hd : d = D (32 * k + x) (256 * g + c)) :
    alpha * d + ((∑ q ∈ Finset.range w, Ideal.div (P (32 * k + (x + q)) (256 * g + c)) (cnt (s * 512 + 32 * k + (x + q)) w)) - P (32 * k + x) (256 * g + c))
      = bwd s D P (32 * k + x) (256 * g + c) := by
  subst hd
  unfold bwd
  rw [wid_eq g c hc, ← hw]
  simp only [Nat.add_assoc]

/-- A load of 48 rows of one column group. -/
theorem load48 (X : S528x1024.Idx → EReal) (off : Fin 2 → ℕ) (R C : ℕ) (hoff : off = ![R, C]) (inb) (hR : R + 48 ≤ 528) (hC : C + 256 ≤ 1024) :
    (View.ld (Val := Elt Ideal) (e' := EltTy.f32) X (Rect.unit (s := S528x1024) off S48x256.size inb) : S48x256.Idx → EReal)
      = fun i : S48x256.Idx => at2 X (R + (i 0).val) (C + (i 1).val) := by
  subst hoff
  funext i
  have h0 : (i 0).val < 48 := (i 0).isLt
  have h1 : (i 1).val < 256 := (i 1).isLt
  rw [at2, dif_pos ⟨by omega, by omega⟩]
  refine congrArg X (funext fun a => Fin.ext ((Rect.idx_unit_val _ _ inb i a).trans ?_))
  fin_cases a <;> rfl

/-- An element of a load of 32 rows of one column group. -/
theorem load32 (X : S528x1024.Idx → EReal) (off : Fin 2 → ℕ) (R C : ℕ) (hoff : off = ![R, C]) (inb) (hR : R + 32 ≤ 528) (hC : C + 256 ≤ 1024) (i : S32x256.Idx) :
    (View.ld (Val := Elt Ideal) (e' := EltTy.f32) X (Rect.unit (s := S528x1024) off S32x256.size inb) : S32x256.Idx → EReal) i
      = at2 X (R + (i 0).val) (C + (i 1).val) := by
  subst hoff
  have h0 : (i 0).val < 32 := (i 0).isLt
  have h1 : (i 1).val < 256 := (i 1).isLt
  rw [at2, dif_pos ⟨by omega, by omega⟩]
  refine congrArg X (funext fun a => Fin.ext ((Rect.idx_unit_val _ _ inb i a).trans ?_))
  fin_cases a <;> rfl

theorem emb2 (off : Fin 2 → ℕ) (R C : ℕ) (hoff : off = ![R, C]) (inb) (x : S32x256.Idx) :
    (((Rect.unit (s := S512x1024) off S32x256.size inb).emb x) 0).val = R + (x 0).val ∧ (((Rect.unit (s := S512x1024) off S32x256.size inb).emb x) 1).val = C + (x 1).val := by
  subst hoff
  exact ⟨Rect.idx_unit_val _ _ inb x 0, Rect.idx_unit_val _ _ inb x 1⟩

theorem emb3 (off : Fin 3 → ℕ) (R C : ℕ) (hoff : off = ![0, R, C]) (inb) (x : S1x32x256.Idx) :
    (((Rect.unit (s := S1x512x1024) off S1x32x256.size inb).emb x) 1).val = R + (x 1).val ∧ (((Rect.unit (s := S1x512x1024) off S1x32x256.size inb).emb x) 2).val = C + (x 2).val := by
  subst hoff
  exact ⟨Rect.idx_unit_val _ _ inb x 1, Rect.idx_unit_val _ _ inb x 2⟩

theorem tripL1 (𝒱 : Variants) (c : Dev nD) (bd : Option 𝒱.V) (i : grid0.Coords) (arg2 : Memref sig .tc .vmem S1x512x1024 .f32) (harg2 : arg2.IsWhole) (arg3 : Memref sig .tc .vmem S1x16x1024 .f32) (harg3 : arg3.IsWhole) (arg4 : Memref sig .tc .vmem S1x512x1024 .f32) (harg4 : arg4.IsWhole) (arg5 : Memref sig .tc .vmem S1x16x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S4x256x256 .f32) (harg9 : arg9.IsWhole) (arg10 : Memref sig .tc .vmem S1x1024 .f32) (harg10 : arg10.IsWhole) (arg11 : Memref sig .tc .vmem S528x1024 .f32) (harg11 : arg11.IsWhole) (arg12 : Memref sig .tc .vmem S512x1024 .bf16) (harg12 : arg12.IsWhole) (arg13 : Memref sig .tc .vmem S528x1024 .f32) (harg13 : arg13.IsWhole) (arg14 : Memref sig .tc .vmem S528x1024 .f32) (harg14 : arg14.IsWhole) (s : ℕ) (hs : s < 4) (v27 : FVec Ideal S16x1024 .f32) (X : BufTy.Contents (Elt Ideal) arg11.view.ty)
    (k : Fin k0_t1_loop.trips) :
    View.PiecesOf (fun j : S512x1024.Idx => fwd s (at2 (arg11.view.read (Elt Ideal) X)) (j 0).val (j 1).val)
      (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (BitVec.ofNat 32 s) v27 (Scalar.muli (BitVec.ofNat 32 s) 512#32) X k) := by
  have hk : k.val < 16 := Nat.lt_of_lt_of_le k.isLt k0_t1_abs.2.1
  unfold tripL_k0_t1 trip_k0_t1
  dsimp only
  refine ⟨fun x => ?_, fun x => ?_, fun x => ?_, fun x => ?_, trivial⟩
  · refine (pay22_apply s hs k _ (fun r c => at2 (arg11.view.read (Elt Ideal) X) (32 * k.val + r) (256 * 3 + c.val))
      (load48 _ _ _ _ (k0_off7_eq k) _ (by omega) (by omega)) x).trans ?_
    exact (fwd_chunk s _ k.val (x 0).val 3 (x 1).val 16 (x 1).isLt (by omega) rfl).trans (congrArg₂ (fwd s _) (emb2 _ _ _ (k0_off8_eq k) (k0_off8_inb k) x).1.symm (emb2 _ _ _ (k0_off8_eq k) (k0_off8_inb k) x).2.symm)
  · refine (pay8_apply s hs k _ (fun r c => at2 (arg11.view.read (Elt Ideal) X) (32 * k.val + r) (256 * 2 + c.val))
      (load48 _ _ _ _ (k0_off5_eq k) _ (by omega) (by omega)) x).trans ?_
    exact (fwd_chunk s _ k.val (x 0).val 2 (x 1).val 8 (x 1).isLt (by omega) rfl).trans (congrArg₂ (fwd s _) (emb2 _ _ _ (k0_off6_eq k) (k0_off6_inb k) x).1.symm (emb2 _ _ _ (k0_off6_eq k) (k0_off6_inb k) x).2.symm)
  · refine (pay6_apply s hs k _ (fun r c => at2 (arg11.view.read (Elt Ideal) X) (32 * k.val + r) (256 * 1 + c.val))
      (load48 _ _ _ _ (k0_off3_eq k) _ (by omega) (by omega)) x).trans ?_
    exact (fwd_chunk s _ k.val (x 0).val 1 (x 1).val 4 (x 1).isLt (by omega) rfl).trans (congrArg₂ (fwd s _) (emb2 _ _ _ (k0_off4_eq k) (k0_off4_inb k) x).1.symm (emb2 _ _ _ (k0_off4_eq k) (k0_off4_inb k) x).2.symm)
  · refine (pay5_apply s hs k _ (fun r c => at2 (arg11.view.read (Elt Ideal) X) (32 * k.val + r) (256 * 0 + c.val))
      (load48 _ _ _ _ (k0_off1_eq k) _ (by omega) (by omega)) x).trans ?_
    exact (fwd_chunk s _ k.val (x 0).val 0 (x 1).val 2 (x 1).isLt (by omega) rfl).trans (congrArg₂ (fwd s _) (emb2 _ _ _ (k0_off2_eq k) (k0_off2_inb k) x).1.symm (emb2 _ _ _ (k0_off2_eq k) (k0_off2_inb k) x).2.symm)

theorem tripL2 (𝒱 : Variants) (c : Dev nD) (bd : Option 𝒱.V) (i : grid0.Coords) (arg2 : Memref sig .tc .vmem S1x512x1024 .f32) (harg2 : arg2.IsWhole) (arg3 : Memref sig .tc .vmem S1x16x1024 .f32) (harg3 : arg3.IsWhole) (arg4 : Memref sig .tc .vmem S1x512x1024 .f32) (harg4 : arg4.IsWhole) (arg5 : Memref sig .tc .vmem S1x16x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S4x256x256 .f32) (harg9 : arg9.IsWhole) (arg10 : Memref sig .tc .vmem S1x1024 .f32) (harg10 : arg10.IsWhole) (arg11 : Memref sig .tc .vmem S528x1024 .f32) (harg11 : arg11.IsWhole) (arg12 : Memref sig .tc .vmem S512x1024 .bf16) (harg12 : arg12.IsWhole) (arg13 : Memref sig .tc .vmem S528x1024 .f32) (harg13 : arg13.IsWhole) (arg14 : Memref sig .tc .vmem S528x1024 .f32) (harg14 : arg14.IsWhole) (s : ℕ) (hs : s < 4) (X : BufTy.Contents (Elt Ideal) arg13.view.ty) (Y : BufTy.Contents (Elt Ideal) arg14.view.ty)
    (k : Fin k0_t2_loop.trips) :
    View.PiecesOf (fun j : S1x512x1024.Idx => bwd s (at2 (arg13.view.read (Elt Ideal) X)) (at2 (arg14.view.read (Elt Ideal) Y)) (j 1).val (j 2).val)
      (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 (BitVec.ofNat 32 s) X Y k) := by
  have hk : k.val < 16 := Nat.lt_of_lt_of_le k.isLt k0_t2_abs.2.1
  unfold tripL_k0_t2 trip_k0_t2
  dsimp only
  refine ⟨fun x => ?_, fun x => ?_, fun x => ?_, fun x => ?_, trivial⟩
  · refine (pay4_apply s hs k _ (fun r c => at2 (arg14.view.read (Elt Ideal) Y) (32 * k.val + r) (256 * 3 + c.val))
      (load48 _ _ _ _ (k0_off18_eq k) _ (by omega) (by omega)) _ x).trans ?_
    exact (bwd_chunk s _ _ _ k.val (x 1).val 3 (x 2).val 16 (x 2).isLt rfl (load32 _ _ _ _ (k0_off19_eq k) _ (by omega) (by omega) _)).trans (congrArg₂ (bwd s _ _) (emb3 _ _ _ (k0_off20_eq k) (k0_off20_inb k) x).1.symm (emb3 _ _ _ (k0_off20_eq k) (k0_off20_inb k) x).2.symm)
  · refine (pay14_apply s hs k _ (fun r c => at2 (arg14.view.read (Elt Ideal) Y) (32 * k.val + r) (256 * 2 + c.val))
      (load48 _ _ _ _ (k0_off15_eq k) _ (by omega) (by omega)) _ x).trans ?_
    exact (bwd_chunk s _ _ _ k.val (x 1).val 2 (x 2).val 8 (x 2).isLt rfl (load32 _ _ _ _ (k0_off16_eq k) _ (by omega) (by omega) _)).trans (congrArg₂ (bwd s _ _) (emb3 _ _ _ (k0_off17_eq k) (k0_off17_inb k) x).1.symm (emb3 _ _ _ (k0_off17_eq k) (k0_off17_inb k) x).2.symm)
  · refine (pay13_apply s hs k _ (fun r c => at2 (arg14.view.read (Elt Ideal) Y) (32 * k.val + r) (256 * 1 + c.val))
      (load48 _ _ _ _ (k0_off12_eq k) _ (by omega) (by omega)) _ x).trans ?_
    exact (bwd_chunk s _ _ _ k.val (x 1).val 1 (x 2).val 4 (x 2).isLt rfl (load32 _ _ _ _ (k0_off13_eq k) _ (by omega) (by omega) _)).trans (congrArg₂ (bwd s _ _) (emb3 _ _ _ (k0_off14_eq k) (k0_off14_inb k) x).1.symm (emb3 _ _ _ (k0_off14_eq k) (k0_off14_inb k) x).2.symm)
  · refine (pay11_apply s hs k _ (fun r c => at2 (arg14.view.read (Elt Ideal) Y) (32 * k.val + r) (256 * 0 + c.val))
      (load48 _ _ _ _ (k0_off9_eq k) _ (by omega) (by omega)) _ x).trans ?_
    exact (bwd_chunk s _ _ _ k.val (x 1).val 0 (x 2).val 2 (x 2).isLt rfl (load32 _ _ _ _ (k0_off10_eq k) _ (by omega) (by omega) _)).trans (congrArg₂ (bwd s _ _) (emb3 _ _ _ (k0_off11_eq k) (k0_off11_inb k) x).1.symm (emb3 _ _ _ (k0_off11_eq k) (k0_off11_inb k) x).2.symm)

/-- All the pieces of the first loop are blocks of `fwd`. -/
theorem pieces1 (𝒱 : Variants) (c : Dev nD) (bd : Option 𝒱.V) (i : grid0.Coords) (arg2 : Memref sig .tc .vmem S1x512x1024 .f32) (harg2 : arg2.IsWhole) (arg3 : Memref sig .tc .vmem S1x16x1024 .f32) (harg3 : arg3.IsWhole) (arg4 : Memref sig .tc .vmem S1x512x1024 .f32) (harg4 : arg4.IsWhole) (arg5 : Memref sig .tc .vmem S1x16x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S4x256x256 .f32) (harg9 : arg9.IsWhole) (arg10 : Memref sig .tc .vmem S1x1024 .f32) (harg10 : arg10.IsWhole) (arg11 : Memref sig .tc .vmem S528x1024 .f32) (harg11 : arg11.IsWhole) (arg12 : Memref sig .tc .vmem S512x1024 .bf16) (harg12 : arg12.IsWhole) (arg13 : Memref sig .tc .vmem S528x1024 .f32) (harg13 : arg13.IsWhole) (arg14 : Memref sig .tc .vmem S528x1024 .f32) (harg14 : arg14.IsWhole) (s : ℕ) (hs : s < 4) (v27 : FVec Ideal S16x1024 .f32) (X : BufTy.Contents (Elt Ideal) arg11.view.ty) :
    ∀ n : ℕ, n ≤ k0_t1_loop.trips → ∀ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 (BitVec.ofNat 32 s) v27 (Scalar.muli (BitVec.ofNat 32 s) 512#32) X n,
      ∀ x : p.1.shape.Idx, p.2 x = (fun j : S512x1024.Idx => fwd s (at2 (arg11.view.read (Elt Ideal) X)) (j 0).val (j 1).val) (p.1.emb x)
  | 0, _, p, hp => absurd hp List.not_mem_nil
  | n + 1, hn, p, hp => by
    rw [show n + 1 = (⟨n, hn⟩ : Fin k0_t1_loop.trips).val + 1 from rfl, pb_k0_t1_succ] at hp
    rcases List.mem_append.mp hp with hp | hp
    · exact (tripL1 𝒱 c bd i arg2 harg2 arg3 harg3 arg4 harg4 arg5 harg5 arg6 harg6 arg7 harg7 arg8 harg8 arg9 harg9 arg10 harg10 arg11 harg11 arg12 harg12 arg13 harg13 arg14 harg14 s hs v27 X ⟨n, hn⟩).mem p hp
    · exact pieces1 𝒱 c bd i arg2 harg2 arg3 harg3 arg4 harg4 arg5 harg5 arg6 harg6 arg7 harg7 arg8 harg8 arg9 harg9 arg10 harg10 arg11 harg11 arg12 harg12 arg13 harg13 arg14 harg14 s hs v27 X n (by omega) p hp

/-- All the pieces of the second loop are blocks of `bwd`. -/
theorem pieces2 (𝒱 : Variants) (c : Dev nD) (bd : Option 𝒱.V) (i : grid0.Coords) (arg2 : Memref sig .tc .vmem S1x512x1024 .f32) (harg2 : arg2.IsWhole) (arg3 : Memref sig .tc .vmem S1x16x1024 .f32) (harg3 : arg3.IsWhole) (arg4 : Memref sig .tc .vmem S1x512x1024 .f32) (harg4 : arg4.IsWhole) (arg5 : Memref sig .tc .vmem S1x16x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S4x256x256 .f32) (harg9 : arg9.IsWhole) (arg10 : Memref sig .tc .vmem S1x1024 .f32) (harg10 : arg10.IsWhole) (arg11 : Memref sig .tc .vmem S528x1024 .f32) (harg11 : arg11.IsWhole) (arg12 : Memref sig .tc .vmem S512x1024 .bf16) (harg12 : arg12.IsWhole) (arg13 : Memref sig .tc .vmem S528x1024 .f32) (harg13 : arg13.IsWhole) (arg14 : Memref sig .tc .vmem S528x1024 .f32) (harg14 : arg14.IsWhole) (s : ℕ) (hs : s < 4) (X : BufTy.Contents (Elt Ideal) arg13.view.ty) (Y : BufTy.Contents (Elt Ideal) arg14.view.ty) :
    ∀ n : ℕ, n ≤ k0_t2_loop.trips → ∀ p ∈ pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 (BitVec.ofNat 32 s) X Y n,
      ∀ x : p.1.shape.Idx, p.2 x = (fun j : S1x512x1024.Idx => bwd s (at2 (arg13.view.read (Elt Ideal) X)) (at2 (arg14.view.read (Elt Ideal) Y)) (j 1).val (j 2).val) (p.1.emb x)
  | 0, _, p, hp => absurd hp List.not_mem_nil
  | n + 1, hn, p, hp => by
    rw [show n + 1 = (⟨n, hn⟩ : Fin k0_t2_loop.trips).val + 1 from rfl, pb_k0_t2_succ] at hp
    rcases List.mem_append.mp hp with hp | hp
    · exact (tripL2 𝒱 c bd i arg2 harg2 arg3 harg3 arg4 harg4 arg5 harg5 arg6 harg6 arg7 harg7 arg8 harg8 arg9 harg9 arg10 harg10 arg11 harg11 arg12 harg12 arg13 harg13 arg14 harg14 s hs X Y ⟨n, hn⟩).mem p hp
    · exact pieces2 𝒱 c bd i arg2 harg2 arg3 harg3 arg4 harg4 arg5 harg5 arg6 harg6 arg7 harg7 arg8 harg8 arg9 harg9 arg10 harg10 arg11 harg11 arg12 harg12 arg13 harg13 arg14 harg14 s hs X Y n (by omega) p hp

end Cert.Pool
-- ==== Proof.Pool.Mid.lean ====
/-
  What a point stores, by column group: the products against the group's weight, and the two sums that pass over the rows.
-/
module

public import proofs.«01_k».proof.Proof.Pool.Trips

@[expose] public section

set_option maxRecDepth 16384

noncomputable section

namespace Cert.Pool

open Cert.KernelIdeal Cert.KernelIdeal.Gen
open Idealize.ShloMosaic Idealize.ShloMosaic.TcCoe Idealize.SL.Sem

variable (D : ℕ → Fin 256 → EReal) (S : Fin 256 → EReal) (W : Fin 256 → Fin 256 → EReal) (P : ℕ → Fin 256 → EReal)

section rows

variable (v33 : Vec Ideal S528x256 .f32) (v34 : Vec Ideal S1x256 .f32) (v38 : Vec Ideal S1x256x256 .bf16)
  (hD : v33 = fun i => D (i 0).val (i 1)) (hS : v34 = fun i => S (i 1)) (hW : v38 = fun i => W (i 1) (i 2)) (y : S528x256.Idx)

include hD hS hW

theorem pay24_apply : k0_pay24 v33 v34 v38 y = ∑ o : Fin 256, D (y 0).val o * S o * W (y 1) o := by
  subst hD hS hW; unfold k0_pay24 k0_pay23; pointwise

theorem pay29_apply : k0_pay29 v33 v34 v38 y = ∑ o : Fin 256, D (y 0).val o * S o * W (y 1) o := by
  subst hD hS hW; unfold k0_pay29 k0_pay28; pointwise

theorem pay33_apply : k0_pay33 v33 v34 v38 y = ∑ o : Fin 256, D (y 0).val o * S o * W (y 1) o := by
  subst hD hS hW; unfold k0_pay33 k0_pay32; pointwise

theorem pay38_apply : k0_pay38 v33 v34 v38 y = ∑ o : Fin 256, D (y 0).val o * S o * W (y 1) o := by
  subst hD hS hW; unfold k0_pay38 k0_pay37; pointwise

end rows

section weights

variable (v33 : Vec Ideal S528x256 .f32) (v34 : Vec Ideal S1x256 .f32) (v44 : Vec Ideal S512x256 .bf16) (v45 : Vec Ideal S1x256x256 .f32)
  (hD : v33 = fun i => D (i 0).val (i 1)) (hS : v34 = fun i => S (i 1)) (hP : v44 = fun i => P (i 0).val (i 1)) (y : S1x256x256.Idx)

include hD hS hP

theorem pay25_apply : k0_pay25 v33 v34 v44 v45 y = v45 y + ∑ r : Fin 512, P r.val (y 1) * (D r.val (y 2) * S (y 2)) := by
  subst hD hS hP; unfold k0_pay25 k0_pay23; pointwise

theorem pay30_apply : k0_pay30 v33 v34 v44 v45 y = v45 y + ∑ r : Fin 512, P r.val (y 1) * (D r.val (y 2) * S (y 2)) := by
  subst hD hS hP; unfold k0_pay30 k0_pay28; pointwise

theorem pay35_apply : k0_pay35 (k0_pay34 v33 v34 v44 v45) y = v45 y + ∑ r : Fin 512, P r.val (y 1) * (D r.val (y 2) * S (y 2)) := by
  subst hD hS hP; unfold k0_pay35 k0_pay34 k0_pay32; pointwise

theorem pay1_apply : k0_pay1 (k0_pay39 v33 v34 v44 v45) y = v45 y + ∑ r : Fin 512, P r.val (y 1) * (D r.val (y 2) * S (y 2)) := by
  subst hD hS hP; unfold k0_pay1 k0_pay39 k0_pay37; pointwise

end weights

section scales

variable (v44 : Vec Ideal S512x256 .bf16) (v53 : Vec Ideal S1x256x256 .bf16) (v56 : Vec Ideal S1x256 .f32) (v58 : Vec Ideal S512x256 .f32)
  (hP : v44 = fun i => P (i 0).val (i 1)) (hW : v53 = fun i => W (i 1) (i 2)) (hD : v58 = fun i => D (i 0).val (i 1)) (y : S1x256.Idx)

include hP hW hD

theorem pay27_apply : k0_pay27 v44 (k0_pay26 v53) (constant S512x256 .f32 0x00000000#32) v56 v58 y
    = v56 y + ∑ r : Fin 512, D r.val (y 1) * ∑ i : Fin 256, P r.val i * W i (y 1) := by
  subst hP hW hD; unfold k0_pay27 k0_pay26; pointwise

theorem pay31_apply : k0_pay31 v44 v53 v56 v58 y = v56 y + ∑ r : Fin 512, D r.val (y 1) * ∑ i : Fin 256, P r.val i * W i (y 1) := by
  subst hP hW hD; unfold k0_pay31; pointwise

theorem pay36_apply : k0_pay36 v44 v53 v56 v58 y = v56 y + ∑ r : Fin 512, D r.val (y 1) * ∑ i : Fin 256, P r.val i * W i (y 1) := by
  subst hP hW hD; unfold k0_pay36; pointwise

theorem pay2_apply : k0_pay2 v44 v53 v56 v58 y = v56 y + ∑ r : Fin 512, D r.val (y 1) * ∑ i : Fin 256, P r.val i * W i (y 1) := by
  subst hP hW hD; unfold k0_pay2; pointwise

end scales

/-- The rows before a tile, zero at the first one. -/
theorem pay17_apply (i : grid0.Coords) (v : Vec Ideal S1x16x1024 .f32) (y : S16x1024.Idx) :
    k0_pay17 i v y = if 0 < (i 1).val then v (ix3 0 (y 0) (y 1)) else 0 := by
  have h : (i 1).val < 4 := (i 1).isLt
  unfold k0_pay17
  generalize (i 1).val = s at h
  interval_cases s <;> pointwise <;> rfl

theorem pay18_apply (v : Vec Ideal S1x512x1024 .f32) (y : S512x1024.Idx) : k0_pay18 v y = v (ix3 0 (y 0) (y 1)) := by
  unfold k0_pay18; pointwise

theorem pay19_apply (v : Vec Ideal S1x512x1024 .f32) (y : S512x1024.Idx) : k0_pay19 v y = v (ix3 0 (y 0) (y 1)) := by
  unfold k0_pay19; pointwise

/-- The rows after a tile, zero at the last one. -/
theorem pay21_apply (i : grid0.Coords) (v : Vec Ideal S1x16x1024 .f32) (y : S16x1024.Idx) :
    k0_pay21 (k0_pay20 i v) y = if (i 1).val = 3 then 0 else v (ix3 0 (y 0) (y 1)) := by
  have h : (i 1).val < 4 := (i 1).isLt
  unfold k0_pay21 k0_pay20
  generalize (i 1).val = s at h
  interval_cases s <;> pointwise <;> rfl

end Cert.Pool
-- ==== Proof.Pool.Point.lean ====
/-
  What a grid point reads and leaves, over the arguments themselves. Rows and columns are natural numbers; a row of `hp` stands 16 places behind the
  row of the block it comes from, so that the sixteen rows before the first are zero, and `dp0` is zero after the last row.
-/
module

public import proofs.«01_k».proof.Proof.Pool.Mid

@[expose] public section

set_option maxRecDepth 16384

noncomputable section

namespace Cert.Pool

open Cert.KernelIdeal Cert.KernelIdeal.Gen
open Idealize.ShloMosaic Idealize.ShloMosaic.TcCoe Idealize.SL.Sem

section closed

variable (a0 a1 : S4x2048x1024.Idx → EReal) (a2 : S4x256x256.Idx → EReal) (a3 : S1x1024.Idx → EReal)

def hp (b n c : ℕ) : EReal := if h : b < 4 ∧ 16 ≤ n ∧ n - 16 < 2048 ∧ c < 1024 then a0 (ix3 ⟨b, h.1⟩ ⟨n - 16, h.2.2.1⟩ ⟨c, h.2.2.2⟩) else 0

def dp0 (b n c : ℕ) : EReal := if h : b < 4 ∧ n < 2048 ∧ c < 1024 then a1 (ix3 ⟨b, h.1⟩ ⟨n, h.2.1⟩ ⟨c, h.2.2⟩) else 0

def sc (c : ℕ) : EReal := if h : c < 1024 then a3 (ix2 0 ⟨c, h⟩) else 0

def wt (g : ℕ) (i o : Fin 256) : EReal := if h : g < 4 then a2 (ix3 ⟨g, h⟩ i o) else 0

/-- The mean of the last rows less the row: what the mixer multiplies by its weights. -/
def plG (b n c : ℕ) : EReal := Ideal.div (∑ q ∈ Finset.range (wid c), hp a0 b (16 + n - q) c) (cnt n (wid c)) - hp a0 b (16 + n) c

/-- The gradient of that, row by row. -/
def dplG (b n c : ℕ) : EReal := ∑ o : Fin 256, dp0 a1 b n (256 * (c / 256) + o) * sc a3 (256 * (c / 256) + o) * wt a2 (c / 256) ⟨c % 256, Nat.mod_lt _ (by decide)⟩ o

def dhG (b n c : ℕ) : EReal :=
  alpha * dp0 a1 b n c + ((∑ q ∈ Finset.range (wid c), Ideal.div (dplG a1 a2 a3 b (n + q) c) (cnt (n + q) (wid c))) - dplG a1 a2 a3 b n c)

/-- What rows `512 p` to `512 p + 511` of the whole batch add to the gradient of the weights. -/
def dwP (p g : ℕ) (i o : Fin 256) : EReal :=
  ∑ r : Fin 512, plG a0 (p / 4) (p % 4 * 512 + r) (256 * g + i) * (dp0 a1 (p / 4) (p % 4 * 512 + r) (256 * g + o) * sc a3 (256 * g + o))

/-- What the same rows add to the gradient of the scale. -/
def dsP (p c : ℕ) : EReal :=
  ∑ r : Fin 512, dp0 a1 (p / 4) (p % 4 * 512 + r) c * ∑ i : Fin 256, plG a0 (p / 4) (p % 4 * 512 + r) (256 * (c / 256) + i) * wt a2 (c / 256) i ⟨c % 256, Nat.mod_lt _ (by decide)⟩

end closed

theorem idx : ∀ t : Fin cfg0.N, (grid0.coords t 1).val = t.val % 4 ∧ win0_0.index t = ![t.val / 4, t.val % 4, 0]
    ∧ win0_1.index t = ![t.val / 4, t.val % 4 * 32 - 1, 0] ∧ win0_2.index t = ![t.val / 4, t.val % 4, 0]
    ∧ win0_3.index t = ![t.val / 4, min (t.val % 4 * 32 + 32) 127, 0] ∧ win0_4.index t = ![0, 0, 0] ∧ win0_5.index t = ![0, 0]
    ∧ win0_6.index t = ![t.val / 4, t.val % 4, 0] ∧ win0_7.index t = ![0, 0, 0] ∧ win0_8.index t = ![0, 0] := by decide +kernel

variable (m : (ℓ : Loc nD τ sig) → Buf (Elt Ideal) ℓ)

abbrev A0 (c : Dev nD) := m ((c.tc : Thread nD τ).loc main_arg0)
abbrev A1 (c : Dev nD) := m ((c.tc : Thread nD τ).loc main_arg1)
abbrev A2 (c : Dev nD) := m ((c.tc : Thread nD τ).loc main_arg2)
abbrev A3 (c : Dev nD) := m ((c.tc : Thread nD τ).loc main_arg3)

theorem iblk0 (c : Dev nD) (t : Fin cfg0.N) (y : S1x512x1024.Idx) : iblk m c 0 t y = hp (A0 m c) (t.val / 4) (t.val % 4 * 512 + (16 + (y 1).val)) (y 2).val := by
  have ht : t.val < 16 := t.isLt
  have h1 : (y 1).val < 512 := (y 1).isLt
  have h2 : (y 2).val < 1024 := (y 2).isLt
  rw [hp, dif_pos ⟨by omega, by omega, by omega, h2⟩]
  blk_point [iblk, V, idx t]

theorem iblk1 (c : Dev nD) (t : Fin cfg0.N) (h : 0 < t.val % 4) (y : S1x16x1024.Idx) : iblk m c 1 t y = hp (A0 m c) (t.val / 4) (t.val % 4 * 512 + (y 1).val) (y 2).val := by
  have ht : t.val < 16 := t.isLt
  have h1 : (y 1).val < 16 := (y 1).isLt
  have h2 : (y 2).val < 1024 := (y 2).isLt
  rw [hp, dif_pos ⟨by omega, by omega, by omega, h2⟩]
  blk_point [iblk, V, idx t]

theorem iblk2 (c : Dev nD) (t : Fin cfg0.N) (y : S1x512x1024.Idx) : iblk m c 2 t y = dp0 (A1 m c) (t.val / 4) (t.val % 4 * 512 + (y 1).val) (y 2).val := by
  have ht : t.val < 16 := t.isLt
  have h1 : (y 1).val < 512 := (y 1).isLt
  have h2 : (y 2).val < 1024 := (y 2).isLt
  rw [dp0, dif_pos ⟨by omega, by omega, h2⟩]
  blk_point [iblk, V, idx t]

theorem iblk3 (c : Dev nD) (t : Fin cfg0.N) (h : t.val % 4 ≠ 3) (y : S1x16x1024.Idx) : iblk m c 3 t y = dp0 (A1 m c) (t.val / 4) (t.val % 4 * 512 + (512 + (y 1).val)) (y 2).val := by
  have ht : t.val < 16 := t.isLt
  have h1 : (y 1).val < 16 := (y 1).isLt
  have h2 : (y 2).val < 1024 := (y 2).isLt
  rw [dp0, dif_pos ⟨by omega, by omega, h2⟩]
  blk_point [iblk, V, idx t]

theorem iblk4 (c : Dev nD) (t : Fin cfg0.N) (y : S4x256x256.Idx) : iblk m c 4 t y = wt (A2 m c) (y 0).val (y 1) (y 2) := by
  have h0 : (y 0).val < 4 := (y 0).isLt
  unfold wt
  rw [dif_pos h0]
  blk_point [iblk, V, idx t]

theorem iblk5 (c : Dev nD) (t : Fin cfg0.N) (y : S1x1024.Idx) : iblk m c 5 t y = sc (A3 m c) (y 1).val := by
  have h1 : (y 1).val < 1024 := (y 1).isLt
  rw [sc, dif_pos h1]
  blk_point [iblk, V, idx t]

end Cert.Pool
-- ==== Proof.Pool.Scratch.lean ====
/-
  The scratch arrays of a grid point, read back: the rows of the block with the sixteen rows before or after it, the pooled rows, and the rows of
  the gradient at the weights' input.
-/
module

public import proofs.«01_k».proof.Proof.Pool.Point

@[expose] public section

set_option maxRecDepth 16384

noncomputable section

namespace Cert.Pool

open Cert.KernelIdeal Cert.KernelIdeal.Gen
open Idealize.ShloMosaic Idealize.ShloMosaic.TcCoe Idealize.SL.Sem

theorem fwd_global (a0 : S4x2048x1024.Idx → EReal) (b s : ℕ) (X : ℕ → ℕ → EReal) (hX : ∀ r < 528, ∀ c < 1024, X r c = hp a0 b (s * 512 + r) c)
    (r c : ℕ) (hr : r < 512) (hc : c < 1024) : fwd s X r c = plG a0 b (s * 512 + r) c := by
  have hw : wid c ≤ 16 := by
    unfold wid
    calc 2 ^ (c / 256 + 1) ≤ 2 ^ 4 := Nat.pow_le_pow_right (by decide) (by omega)
      _ = 16 := by decide
  unfold fwd plG
  rw [hX _ (by omega) c hc, Nat.add_left_comm 16]
  congr 2
  refine Finset.sum_congr rfl fun q hq => ?_
  have := Finset.mem_range.mp hq
  rw [hX _ (by omega) c hc]
  congr 1
  omega

theorem bwd_global (a1 : S4x2048x1024.Idx → EReal) (a2 : S4x256x256.Idx → EReal) (a3 : S1x1024.Idx → EReal) (b s : ℕ) (D P : ℕ → ℕ → EReal)
    (hD : ∀ r < 528, ∀ c < 1024, D r c = dp0 a1 b (s * 512 + r) c) (hP : ∀ r < 528, ∀ c < 1024, P r c = dplG a1 a2 a3 b (s * 512 + r) c)
    (r c : ℕ) (hr : r < 512) (hc : c < 1024) : bwd s D P r c = dhG a1 a2 a3 b (s * 512 + r) c := by
  have hw : wid c ≤ 16 := by
    unfold wid
    calc 2 ^ (c / 256 + 1) ≤ 2 ^ 4 := Nat.pow_le_pow_right (by decide) (by omega)
      _ = 16 := by decide
  unfold bwd dhG
  rw [hD _ (by omega) c hc, hP _ (by omega) c hc]
  congr 2
  refine Finset.sum_congr rfl fun q hq => ?_
  have := Finset.mem_range.mp hq
  rw [hP _ (by omega) c hc, Nat.add_assoc]

/-- Rows of the gradient in column group `g`, of the pooled rows, and the scale there. -/
def dG (a1 : S4x2048x1024.Idx → EReal) (p g r : ℕ) (o : Fin 256) : EReal := dp0 a1 (p / 4) (p % 4 * 512 + r) (256 * g + o.val)

def pG (a0 : S4x2048x1024.Idx → EReal) (p g r : ℕ) (o : Fin 256) : EReal := plG a0 (p / 4) (p % 4 * 512 + r) (256 * g + o.val)

def sG (a3 : S1x1024.Idx → EReal) (g : ℕ) (o : Fin 256) : EReal := sc a3 (256 * g + o.val)

theorem dplG_group (a1 : S4x2048x1024.Idx → EReal) (a2 : S4x256x256.Idx → EReal) (a3 : S1x1024.Idx → EReal) (b n g : ℕ) (x : Fin 256) :
    dplG a1 a2 a3 b n (256 * g + x.val) = ∑ o : Fin 256, dp0 a1 b n (256 * g + o.val) * sc a3 (256 * g + o.val) * wt a2 g x o := by
  have h1 : (256 * g + x.val) / 256 = g := by omega
  have h2 : (256 * g + x.val) % 256 = x.val := by omega
  unfold dplG
  rw [h1]
  simp only [h2]

theorem dsP_group (a0 a1 : S4x2048x1024.Idx → EReal) (a2 : S4x256x256.Idx → EReal) (p g : ℕ) (x : Fin 256) :
    dsP a0 a1 a2 p (256 * g + x.val) = ∑ r : Fin 512, dp0 a1 (p / 4) (p % 4 * 512 + r.val) (256 * g + x.val)
      * ∑ i : Fin 256, plG a0 (p / 4) (p % 4 * 512 + r.val) (256 * g + i.val) * wt a2 g i x := by
  have h1 : (256 * g + x.val) / 256 = g := by omega
  have h2 : (256 * g + x.val) % 256 = x.val := by omega
  unfold dsP
  rw [h1]
  simp only [h2]

variable (m : (ℓ : Loc nD τ sig) → Buf (Elt Ideal) ℓ)

theorem xs_canon (c : Dev nD) (t : Fin cfg0.N) (i : S528x1024.Idx) :
    View.canon (Val := Elt Ideal) (s := S528x1024) (e := .f32) [⟨Rect.unit ![16, 0] S512x1024.size inb_S528x1024_S512x1024_16_0, k0_pay18 (iblk m c 0 t)⟩, ⟨Rect.unit ![0, 0] S16x1024.size inb_S528x1024_S16x1024_0_0, k0_pay17 (grid0.coords t) (iblk m c 1 t)⟩] i = hp (A0 m c) (t.val / 4) (t.val % 4 * 512 + (i 0).val) (i 1).val := by
  have h0 : (i 0).val < 528 := (i 0).isLt
  have h1 : (i 1).val < 1024 := (i 1).isLt
  have hi := (idx t).1
  refine View.canon_apply_of_pieces (Val := Elt Ideal) (e := .f32) (fun i : S528x1024.Idx => hp (A0 m c) (t.val / 4) (t.val % 4 * 512 + (i 0).val) (i 1).val) _
    (View.PiecesOf.mem (Val := Elt Ideal) (e := .f32) (G := (fun i : S528x1024.Idx => hp (A0 m c) (t.val / 4) (t.val % 4 * 512 + (i 0).val) (i 1).val)) ?hp) i ?hc
  case' hp => refine ⟨fun x => ?_, fun x => ?_, trivial⟩
  · refine (pay18_apply _ x).trans ((iblk0 m c t _).trans ?_)
    exact congrArg₂ (fun r k => hp (A0 m c) (t.val / 4) (t.val % 4 * 512 + r) k) (Rect.idx_unit_val (s := S528x1024) ![16, 0] S512x1024.size inb_S528x1024_S512x1024_16_0 x 0).symm
      ((Rect.idx_unit_val (s := S528x1024) ![16, 0] S512x1024.size inb_S528x1024_S512x1024_16_0 x 1).trans (Nat.zero_add _)).symm
  · refine (pay17_apply _ _ x).trans ?_
    have hx : (x 0).val < 16 := (x 0).isLt
    have e : hp (A0 m c) (t.val / 4) (t.val % 4 * 512 + (x 0).val) (x 1).val = _ :=
      congrArg₂ (fun r k => hp (A0 m c) (t.val / 4) (t.val % 4 * 512 + r) k) ((Rect.idx_unit_val (s := S528x1024) ![0, 0] S16x1024.size inb_S528x1024_S16x1024_0_0 x 0).trans (Nat.zero_add _)).symm
        ((Rect.idx_unit_val (s := S528x1024) ![0, 0] S16x1024.size inb_S528x1024_S16x1024_0_0 x 1).trans (Nat.zero_add _)).symm
    refine Eq.trans ?_ e
    split
    · exact iblk1 m c t (by omega) _
    · rw [hp, dif_neg (by omega)]
  · rcases Nat.lt_or_ge (i 0).val 16 with h | h
    · refine ⟨_, List.mem_cons_of_mem _ List.mem_cons_self, (Rect.mem_set_unit (inb := inb_S528x1024_S16x1024_0_0)).mpr fun a => ?_⟩
      fin_cases a
      · exact ⟨Nat.zero_le _, by simpa using h⟩
      · exact ⟨Nat.zero_le _, by simpa using h1⟩
    · refine ⟨_, List.mem_cons_self, (Rect.mem_set_unit (inb := inb_S528x1024_S512x1024_16_0)).mpr fun a => ?_⟩
      fin_cases a
      · exact ⟨h, by simpa using h0⟩
      · exact ⟨Nat.zero_le _, by simpa using h1⟩

theorem ds_canon (c : Dev nD) (t : Fin cfg0.N) (i : S528x1024.Idx) :
    View.canon (Val := Elt Ideal) (s := S528x1024) (e := .f32) [⟨Rect.unit ![512, 0] S16x1024.size inb_S528x1024_S16x1024_512_0, k0_pay21 (k0_pay20 (grid0.coords t) (iblk m c 3 t))⟩, ⟨Rect.unit ![0, 0] S512x1024.size inb_S528x1024_S512x1024_0_0, k0_pay19 (iblk m c 2 t)⟩] i = dp0 (A1 m c) (t.val / 4) (t.val % 4 * 512 + (i 0).val) (i 1).val := by
  have h0 : (i 0).val < 528 := (i 0).isLt
  have h1 : (i 1).val < 1024 := (i 1).isLt
  have hi := (idx t).1
  refine View.canon_apply_of_pieces (Val := Elt Ideal) (e := .f32) (fun i : S528x1024.Idx => dp0 (A1 m c) (t.val / 4) (t.val % 4 * 512 + (i 0).val) (i 1).val) _
    (View.PiecesOf.mem (Val := Elt Ideal) (e := .f32) (G := (fun i : S528x1024.Idx => dp0 (A1 m c) (t.val / 4) (t.val % 4 * 512 + (i 0).val) (i 1).val)) ?hp) i ?hc
  case' hp => refine ⟨fun x => ?_, fun x => ?_, trivial⟩
  · refine (pay21_apply _ _ x).trans ?_
    have e : dp0 (A1 m c) (t.val / 4) (t.val % 4 * 512 + (512 + (x 0).val)) (x 1).val = _ :=
      congrArg₂ (fun r k => dp0 (A1 m c) (t.val / 4) (t.val % 4 * 512 + r) k) (Rect.idx_unit_val (s := S528x1024) ![512, 0] S16x1024.size inb_S528x1024_S16x1024_512_0 x 0).symm
        ((Rect.idx_unit_val (s := S528x1024) ![512, 0] S16x1024.size inb_S528x1024_S16x1024_512_0 x 1).trans (Nat.zero_add _)).symm
    refine Eq.trans ?_ e
    split
    · rw [dp0, dif_neg (by omega)]
    · exact iblk3 m c t (by omega) _
  · refine (pay19_apply _ x).trans ((iblk2 m c t _).trans ?_)
    exact congrArg₂ (fun r k => dp0 (A1 m c) (t.val / 4) (t.val % 4 * 512 + r) k) ((Rect.idx_unit_val (s := S528x1024) ![0, 0] S512x1024.size inb_S528x1024_S512x1024_0_0 x 0).trans (Nat.zero_add _)).symm
      ((Rect.idx_unit_val (s := S528x1024) ![0, 0] S512x1024.size inb_S528x1024_S512x1024_0_0 x 1).trans (Nat.zero_add _)).symm
  · rcases Nat.lt_or_ge (i 0).val 512 with h | h
    · refine ⟨_, List.mem_cons_of_mem _ List.mem_cons_self, (Rect.mem_set_unit (inb := inb_S528x1024_S512x1024_0_0)).mpr fun a => ?_⟩
      fin_cases a
      · exact ⟨Nat.zero_le _, by simpa using h⟩
      · exact ⟨Nat.zero_le _, by simpa using h1⟩
    · refine ⟨_, List.mem_cons_self, (Rect.mem_set_unit (inb := inb_S528x1024_S16x1024_512_0)).mpr fun a => ?_⟩
      fin_cases a
      · exact ⟨h, by simpa using h0⟩
      · exact ⟨Nat.zero_le _, by simpa using h1⟩

/-- A load of one column group of the rows of the gradient, all 528 of them. -/
theorem ds_load528 (c : Dev nD) (t : Fin cfg0.N) (g : ℕ) (inb) :
    (scM0_2.view.readCov (Val := Elt Ideal) [⟨Rect.unit ![512, 0] S16x1024.size inb_S528x1024_S16x1024_512_0, k0_pay21 (k0_pay20 (grid0.coords t) (iblk m c 3 t))⟩, ⟨Rect.unit ![0, 0] S512x1024.size inb_S528x1024_S512x1024_0_0, k0_pay19 (iblk m c 2 t)⟩] (Rect.unit (s := S528x1024) ![0, 256 * g] S528x256.size inb).toLoadRect : S528x256.Idx → EReal)
      = fun i : S528x256.Idx => dG (A1 m c) t.val g (i 0).val (i 1) := by
  rw [View.readCov_eq_canon']
  funext i
  refine (ds_canon m c t _).trans ?_
  exact congrArg₂ (fun r k => dp0 (A1 m c) (t.val / 4) (t.val % 4 * 512 + r) k) ((Rect.idx_unit_val (s := S528x1024) ![0, 256 * g] S528x256.size inb i 0).trans (Nat.zero_add _))
    (Rect.idx_unit_val (s := S528x1024) ![0, 256 * g] S528x256.size inb i 1)

theorem ds_load512 (c : Dev nD) (t : Fin cfg0.N) (g : ℕ) (inb) :
    (scM0_2.view.readCov (Val := Elt Ideal) [⟨Rect.unit ![512, 0] S16x1024.size inb_S528x1024_S16x1024_512_0, k0_pay21 (k0_pay20 (grid0.coords t) (iblk m c 3 t))⟩, ⟨Rect.unit ![0, 0] S512x1024.size inb_S528x1024_S512x1024_0_0, k0_pay19 (iblk m c 2 t)⟩] (Rect.unit (s := S528x1024) ![0, 256 * g] S512x256.size inb).toLoadRect : S512x256.Idx → EReal)
      = fun i : S512x256.Idx => dG (A1 m c) t.val g (i 0).val (i 1) := by
  rw [View.readCov_eq_canon']
  funext i
  refine (ds_canon m c t _).trans ?_
  exact congrArg₂ (fun r k => dp0 (A1 m c) (t.val / 4) (t.val % 4 * 512 + r) k) ((Rect.idx_unit_val (s := S528x1024) ![0, 256 * g] S512x256.size inb i 0).trans (Nat.zero_add _))
    (Rect.idx_unit_val (s := S528x1024) ![0, 256 * g] S512x256.size inb i 1)

theorem sc_load (c : Dev nD) (t : Fin cfg0.N) (g : ℕ) (inb) :
    (View.ld (Val := Elt Ideal) (e' := .f32) (iblk m c 5 t) (Rect.unit (s := S1x1024) ![0, 256 * g] S1x256.size inb) : S1x256.Idx → EReal)
      = fun i : S1x256.Idx => sG (A3 m c) g (i 1) := by
  funext i
  exact (iblk5 m c t _).trans (congrArg (sc (A3 m c)) (Rect.idx_unit_val (s := S1x1024) ![0, 256 * g] S1x256.size inb i 1))

theorem w_load (c : Dev nD) (t : Fin cfg0.N) (g : ℕ) (inb) :
    (View.ld (Val := Elt Ideal) (e' := .bf16) (iblk m c 4 t) (Rect.unit (s := S4x256x256) ![g, 0, 0] S1x256x256.size inb) : S1x256x256.Idx → EReal)
      = fun i : S1x256x256.Idx => wt (A2 m c) g (i 1) (i 2) := by
  funext i
  have h0 : (i 0).val < 1 := (i 0).isLt
  refine (iblk4 m c t _).trans ?_
  have e0 : ((Rect.unit (s := S4x256x256) ![g, 0, 0] S1x256x256.size inb).idx i 0).val = g := (Rect.idx_unit_val (s := S4x256x256) ![g, 0, 0] S1x256x256.size inb i 0).trans (by
    show g + (i 0).val = g
    omega)
  have e1 : (Rect.unit (s := S4x256x256) ![g, 0, 0] S1x256x256.size inb).idx i 1 = i 1 := Fin.ext ((Rect.idx_unit_val (s := S4x256x256) ![g, 0, 0] S1x256x256.size inb i 1).trans (Nat.zero_add _))
  have e2 : (Rect.unit (s := S4x256x256) ![g, 0, 0] S1x256x256.size inb).idx i 2 = i 2 := Fin.ext ((Rect.idx_unit_val (s := S4x256x256) ![g, 0, 0] S1x256x256.size inb i 2).trans (Nat.zero_add _))
  exact congr (congrArg₂ (wt (A2 m c)) e0 e1) e2

/-- A load of one column group of the pooled rows, which the first loop left. -/
theorem pl_load (c : Dev nD) (t : Fin cfg0.N) (h0 : (ms0_0 t).IsWhole) (h1 : (ms0_1 t).IsWhole) (h2 : (ms0_2 t).IsWhole) (h3 : (ms0_3 t).IsWhole) (h4 : (ms0_4 t).IsWhole) (h5 : (ms0_5 t).IsWhole) (h6 : (ms0_6 t).IsWhole) (h7 : (ms0_7 t).IsWhole) (h8 : (ms0_8 t).IsWhole) (k0 : scM0_0.IsWhole) (k1 : scM0_1.IsWhole) (k2 : scM0_2.IsWhole) (k3 : scM0_3.IsWhole) (v27) (X : BufTy.Contents (Elt Ideal) scM0_0.view.ty)
    (hX : ∀ r < 528, ∀ k < 1024, at2 (scM0_0.view.read (Elt Ideal) X) r k = hp (A0 m c) (t.val / 4) (t.val % 4 * 512 + r) k) (g : ℕ) (hg : g < 4) (inb) :
    (scM0_1.view.readCov (Val := Elt Ideal) (pb_k0_t1 (F := Ideal) Variants.none c none (grid0.coords t) (ms0_0 t) h0 (ms0_1 t) h1 (ms0_2 t) h2 (ms0_3 t) h3 (ms0_4 t) h4 (ms0_5 t) h5 (ms0_6 t) h6 (ms0_7 t) h7 (ms0_8 t) h8 scM0_0 k0 scM0_1 k1 scM0_2 k2 scM0_3 k3 (BitVec.ofNat 32 (grid0.coords t 1).val) v27 (Scalar.muli (BitVec.ofNat 32 (grid0.coords t 1).val) 512#32) X (Scf.trips k0_t1_loop.lb k0_t1_loop.ub k0_t1_loop.st)) (Rect.unit (s := S512x1024) ![0, 256 * g] S512x256.size inb).toLoadRect : S512x256.Idx → EReal)
      = fun i : S512x256.Idx => pG (A0 m c) t.val g (i 0).val (i 1) := by
  rw [View.readCov_eq_canon']
  funext i
  have b0 : (i 0).val < 512 := (i 0).isLt
  have b1 : (i 1).val < 256 := (i 1).isLt
  have hi := (idx t).1
  refine (View.canon_apply_of_pieces (Val := Elt Ideal) (e := .bf16) (fun j : S512x1024.Idx => fwd (grid0.coords t 1).val (at2 (scM0_0.view.read (Elt Ideal) X)) (j 0).val (j 1).val) _ (pieces1 Variants.none c none (grid0.coords t) (ms0_0 t) h0 (ms0_1 t) h1 (ms0_2 t) h2 (ms0_3 t) h3 (ms0_4 t) h4 (ms0_5 t) h5 (ms0_6 t) h6 (ms0_7 t) h7 (ms0_8 t) h8 scM0_0 k0 scM0_1 k1 scM0_2 k2 scM0_3 k3 (grid0.coords t 1).val (by omega) v27 X _ le_rfl) _
    (View.cover_of_tiledL (s := S512x1024) _ S32x256.size (by sl_kernel_rfl) _)).trans ?_
  rw [hi]
  refine (congrArg₂ (fwd (t.val % 4) _) ((Rect.idx_unit_val (s := S512x1024) ![0, 256 * g] S512x256.size inb i 0).trans (Nat.zero_add _))
    (Rect.idx_unit_val (s := S512x1024) ![0, 256 * g] S512x256.size inb i 1)).trans ?_
  exact fwd_global (A0 m c) (t.val / 4) (t.val % 4) _ hX (i 0).val (256 * g + (i 1).val) b0 (by omega)

/-- What the second loop leaves in the block of the gradient. -/
theorem dh_canon (c : Dev nD) (t : Fin cfg0.N) (h0 : (ms0_0 t).IsWhole) (h1 : (ms0_1 t).IsWhole) (h2 : (ms0_2 t).IsWhole) (h3 : (ms0_3 t).IsWhole) (h4 : (ms0_4 t).IsWhole) (h5 : (ms0_5 t).IsWhole) (h6 : (ms0_6 t).IsWhole) (h7 : (ms0_7 t).IsWhole) (h8 : (ms0_8 t).IsWhole) (k0 : scM0_0.IsWhole) (k1 : scM0_1.IsWhole) (k2 : scM0_2.IsWhole) (k3 : scM0_3.IsWhole) (X : BufTy.Contents (Elt Ideal) scM0_2.view.ty) (Y : BufTy.Contents (Elt Ideal) scM0_3.view.ty)
    (hX : ∀ r < 528, ∀ k < 1024, at2 (scM0_2.view.read (Elt Ideal) X) r k = dp0 (A1 m c) (t.val / 4) (t.val % 4 * 512 + r) k)
    (hY : ∀ r < 528, ∀ k < 1024, at2 (scM0_3.view.read (Elt Ideal) Y) r k = dplG (A1 m c) (A2 m c) (A3 m c) (t.val / 4) (t.val % 4 * 512 + r) k) (y : S1x512x1024.Idx) :
    View.canon (Val := Elt Ideal) (pb_k0_t2 (F := Ideal) Variants.none c none (grid0.coords t) (ms0_0 t) h0 (ms0_1 t) h1 (ms0_2 t) h2 (ms0_3 t) h3 (ms0_4 t) h4 (ms0_5 t) h5 (ms0_6 t) h6 (ms0_7 t) h7 (ms0_8 t) h8 scM0_0 k0 scM0_1 k1 scM0_2 k2 scM0_3 k3 (BitVec.ofNat 32 (grid0.coords t 1).val) X Y (Scf.trips k0_t2_loop.lb k0_t2_loop.ub k0_t2_loop.st)) y = dhG (A1 m c) (A2 m c) (A3 m c) (t.val / 4) (t.val % 4 * 512 + (y 1).val) (y 2).val := by
  have b1 : (y 1).val < 512 := (y 1).isLt
  have b2 : (y 2).val < 1024 := (y 2).isLt
  have hi := (idx t).1
  refine (View.canon_apply_of_pieces (Val := Elt Ideal) (e := .f32) (fun j : S1x512x1024.Idx => bwd (grid0.coords t 1).val (at2 (scM0_2.view.read (Elt Ideal) X)) (at2 (scM0_3.view.read (Elt Ideal) Y)) (j 1).val (j 2).val) _ (pieces2 Variants.none c none (grid0.coords t) (ms0_0 t) h0 (ms0_1 t) h1 (ms0_2 t) h2 (ms0_3 t) h3 (ms0_4 t) h4 (ms0_5 t) h5 (ms0_6 t) h6 (ms0_7 t) h7 (ms0_8 t) h8 scM0_0 k0 scM0_1 k1 scM0_2 k2 scM0_3 k3 (grid0.coords t 1).val (by omega) X Y _ le_rfl) _
    (View.cover_of_tiledL (s := S1x512x1024) _ S1x32x256.size (by sl_kernel_rfl) _)).trans ?_
  rw [hi]
  exact bwd_global (A1 m c) (A2 m c) (A3 m c) (t.val / 4) (t.val % 4) _ _ hX hY _ _ b1 b2

theorem at2_of_read (X : S528x1024.Idx → EReal) (f : ℕ → ℕ → EReal) (h : ∀ i, X i = f (i 0).val (i 1).val) (r : ℕ) (hr : r < 528) (k : ℕ) (hk : k < 1024) :
    at2 X r k = f r k := by
  unfold at2
  rw [dif_pos ⟨hr, hk⟩]
  exact h _

theorem xs_read (c : Dev nD) (t : Fin cfg0.N) : ∀ r < 528, ∀ k < 1024,
    at2 (scM0_0.view.read (Elt Ideal) (scM0_0.view.writes (Elt Ideal) scM0_0.view.junk [⟨Rect.unit ![16, 0] S512x1024.size inb_S528x1024_S512x1024_16_0, k0_pay18 (iblk m c 0 t)⟩, ⟨Rect.unit ![0, 0] S16x1024.size inb_S528x1024_S16x1024_0_0, k0_pay17 (grid0.coords t) (iblk m c 1 t)⟩])) r k = hp (A0 m c) (t.val / 4) (t.val % 4 * 512 + r) k := by
  rw [View.read_writes_junk_eq_canon]
  exact at2_of_read _ _ (xs_canon m c t)

theorem ds_read (c : Dev nD) (t : Fin cfg0.N) : ∀ r < 528, ∀ k < 1024,
    at2 (scM0_2.view.read (Elt Ideal) (scM0_2.view.writes (Elt Ideal) scM0_2.view.junk [⟨Rect.unit ![512, 0] S16x1024.size inb_S528x1024_S16x1024_512_0, k0_pay21 (k0_pay20 (grid0.coords t) (iblk m c 3 t))⟩, ⟨Rect.unit ![0, 0] S512x1024.size inb_S528x1024_S512x1024_0_0, k0_pay19 (iblk m c 2 t)⟩])) r k = dp0 (A1 m c) (t.val / 4) (t.val % 4 * 512 + r) k := by
  rw [View.read_writes_junk_eq_canon]
  exact at2_of_read _ _ (ds_canon m c t)

theorem dp_read (c : Dev nD) (t : Fin cfg0.N)
    (d0 d1 d2 d3 : Vec Ideal S528x256 .f32) (s0 s1 s2 s3 : Vec Ideal S1x256 .f32) (w0 w1 w2 w3 : Vec Ideal S1x256x256 .bf16)
    (hd : d0 = fun i => dG (A1 m c) t.val 0 (i 0).val (i 1))
    (hs : s0 = fun i => sG (A3 m c) 0 (i 1)) (hw : w0 = fun i => wt (A2 m c) 0 (i 1) (i 2))
    (hd1 : d1 = fun i => dG (A1 m c) t.val 1 (i 0).val (i 1))
    (hs1 : s1 = fun i => sG (A3 m c) 1 (i 1)) (hw1 : w1 = fun i => wt (A2 m c) 1 (i 1) (i 2))
    (hd2 : d2 = fun i => dG (A1 m c) t.val 2 (i 0).val (i 1))
    (hs2 : s2 = fun i => sG (A3 m c) 2 (i 1)) (hw2 : w2 = fun i => wt (A2 m c) 2 (i 1) (i 2))
    (hd3 : d3 = fun i => dG (A1 m c) t.val 3 (i 0).val (i 1))
    (hs3 : s3 = fun i => sG (A3 m c) 3 (i 1)) (hw3 : w3 = fun i => wt (A2 m c) 3 (i 1) (i 2)) :
    ∀ r < 528, ∀ k < 1024,
    at2 (scM0_3.view.read (Elt Ideal) (scM0_3.view.writes (Elt Ideal) scM0_3.view.junk
      [⟨Rect.unit ![0, 768] S528x256.size inb_S528x1024_S528x256_0_768, k0_pay38 d3 s3 w3⟩, ⟨Rect.unit ![0, 512] S528x256.size inb_S528x1024_S528x256_0_512, k0_pay33 d2 s2 w2⟩,
        ⟨Rect.unit ![0, 256] S528x256.size inb_S528x1024_S528x256_0_256, k0_pay29 d1 s1 w1⟩, ⟨Rect.unit ![0, 0] S528x256.size inb_S528x1024_S528x256_0_0, k0_pay24 d0 s0 w0⟩])) r k
      = dplG (A1 m c) (A2 m c) (A3 m c) (t.val / 4) (t.val % 4 * 512 + r) k := by
  rw [View.read_writes_junk_eq_canon]
  refine at2_of_read _ _ fun i => ?_
  have h0 : (i 0).val < 528 := (i 0).isLt
  have h1 : (i 1).val < 1024 := (i 1).isLt
  have key : ∀ (g : ℕ) (inb) (x : S528x256.Idx), dplG (A1 m c) (A2 m c) (A3 m c) (t.val / 4) (t.val % 4 * 512 + (x 0).val) (256 * g + (x 1).val)
      = (fun i : S528x1024.Idx => dplG (A1 m c) (A2 m c) (A3 m c) (t.val / 4) (t.val % 4 * 512 + (i 0).val) (i 1).val) ((Rect.unit (s := S528x1024) ![0, 256 * g] S528x256.size inb).emb x) := fun g inb x =>
    congrArg₂ (fun r k => dplG (A1 m c) (A2 m c) (A3 m c) (t.val / 4) (t.val % 4 * 512 + r) k) ((Rect.idx_unit_val (s := S528x1024) ![0, 256 * g] S528x256.size inb x 0).trans (Nat.zero_add _)).symm
      (Rect.idx_unit_val (s := S528x1024) ![0, 256 * g] S528x256.size inb x 1).symm
  refine View.canon_apply_of_pieces (Val := Elt Ideal) (e := .f32) (fun i : S528x1024.Idx => dplG (A1 m c) (A2 m c) (A3 m c) (t.val / 4) (t.val % 4 * 512 + (i 0).val) (i 1).val) _
    (View.PiecesOf.mem (Val := Elt Ideal) (e := .f32) (G := (fun i : S528x1024.Idx => dplG (A1 m c) (A2 m c) (A3 m c) (t.val / 4) (t.val % 4 * 512 + (i 0).val) (i 1).val)) ?hp) i ?hc
  case' hc => exact View.cover_of_tiledL (s := S528x1024) _ S528x256.size (by sl_kernel_rfl) i
  refine ⟨fun x => ?_, fun x => ?_, fun x => ?_, fun x => ?_, trivial⟩
  · exact (pay38_apply (dG (A1 m c) t.val 3) (sG (A3 m c) 3) (wt (A2 m c) 3) d3 s3 w3 hd3 hs3 hw3 x).trans ((dplG_group _ _ _ _ _ 3 (x 1)).symm.trans (key 3 inb_S528x1024_S528x256_0_768 x))
  · exact (pay33_apply (dG (A1 m c) t.val 2) (sG (A3 m c) 2) (wt (A2 m c) 2) d2 s2 w2 hd2 hs2 hw2 x).trans ((dplG_group _ _ _ _ _ 2 (x 1)).symm.trans (key 2 inb_S528x1024_S528x256_0_512 x))
  · exact (pay29_apply (dG (A1 m c) t.val 1) (sG (A3 m c) 1) (wt (A2 m c) 1) d1 s1 w1 hd1 hs1 hw1 x).trans ((dplG_group _ _ _ _ _ 1 (x 1)).symm.trans (key 1 inb_S528x1024_S528x256_0_256 x))
  · exact (pay24_apply (dG (A1 m c) t.val 0) (sG (A3 m c) 0) (wt (A2 m c) 0) d0 s0 w0 hd hs hw x).trans ((dplG_group _ _ _ _ _ 0 (x 1)).symm.trans (key 0 inb_S528x1024_S528x256_0_0 x))

end Cert.Pool
-- ==== Proof.Pool.Outs.lean ====
/-
  What a grid point leaves in its three blocks: the block of the input's gradient whole, and the two sums over the points one step further.
-/
module

public import proofs.«01_k».proof.Proof.Pool.Scratch

@[expose] public section

set_option maxRecDepth 16384

noncomputable section

namespace Cert.Pool

open Cert.KernelIdeal Cert.KernelIdeal.Gen
open Idealize.ShloMosaic Idealize.ShloMosaic.TcCoe Idealize.SL.Sem

theorem dw_key (a0 a1 : S4x2048x1024.Idx → EReal) (a3 : S1x1024.Idx → EReal) (p g : ℕ) (inb) (x : S1x256x256.Idx) :
    (∑ r : Fin 512, pG a0 p g r.val (x 1) * (dG a1 p g r.val (x 2) * sG a3 g (x 2)))
      = (fun y : S4x256x256.Idx => dwP a0 a1 a3 p (y 0).val (y 1) (y 2)) ((Rect.unit (s := S4x256x256) ![g, 0, 0] S1x256x256.size inb).emb x) := by
  have h0 : (x 0).val < 1 := (x 0).isLt
  have e0 : ((Rect.unit (s := S4x256x256) ![g, 0, 0] S1x256x256.size inb).emb x 0).val = g := (Rect.idx_unit_val (s := S4x256x256) ![g, 0, 0] S1x256x256.size inb x 0).trans (by
    show g + (x 0).val = g
    omega)
  have e1 : (Rect.unit (s := S4x256x256) ![g, 0, 0] S1x256x256.size inb).emb x 1 = x 1 := Fin.ext ((Rect.idx_unit_val (s := S4x256x256) ![g, 0, 0] S1x256x256.size inb x 1).trans (Nat.zero_add _))
  have e2 : (Rect.unit (s := S4x256x256) ![g, 0, 0] S1x256x256.size inb).emb x 2 = x 2 := Fin.ext ((Rect.idx_unit_val (s := S4x256x256) ![g, 0, 0] S1x256x256.size inb x 2).trans (Nat.zero_add _))
  exact (congr (congrArg₂ (dwP a0 a1 a3 p) e0 e1) e2).symm

theorem ds_key (a0 a1 : S4x2048x1024.Idx → EReal) (a2 : S4x256x256.Idx → EReal) (p g : ℕ) (inb) (x : S1x256.Idx) :
    (∑ r : Fin 512, dG a1 p g r.val (x 1) * ∑ i : Fin 256, pG a0 p g r.val i * wt a2 g i (x 1))
      = (fun y : S1x1024.Idx => dsP a0 a1 a2 p (y 1).val) ((Rect.unit (s := S1x1024) ![0, 256 * g] S1x256.size inb).emb x) :=
  (dsP_group a0 a1 a2 p g (x 1)).symm.trans (congrArg (dsP a0 a1 a2 p) (Rect.idx_unit_val (s := S1x1024) ![0, 256 * g] S1x256.size inb x 1).symm)

theorem fill15 (y : S4x256x256.Idx) : k0_pay15 (F := Ideal) y = 0 := by unfold k0_pay15; pointwise

theorem fill16 (y : S1x1024.Idx) : k0_pay16 (F := Ideal) y = 0 := by unfold k0_pay16; pointwise

variable (m : (ℓ : Loc nD τ sig) → Buf (Elt Ideal) ℓ)

theorem out6A (c : Dev nD) (t : Fin cfg0.N) (h : t.val % 16 = 0) (y : S1x512x1024.Idx) :
    (outsAt0 m c t.val t.isLt).1 y = dhG (A1 m c) (A2 m c) (A3 m c) (t.val / 4) (t.val % 4 * 512 + (y 1).val) (y 2).val := by
  rw [outsAt0_A m c t h]
  dsimp only
  frame_out
  exact dh_canon m c t _ _ _ _ _ _ _ _ _ _ _ _ _ _ _ (ds_read m c t) (dp_read m c t _ _ _ _ _ _ _ _ _ _ _ _
    (ds_load528 m c t 0 _) (sc_load m c t 0 _) (w_load m c t 0 _) (ds_load528 m c t 1 _) (sc_load m c t 1 _) (w_load m c t 1 _)
    (ds_load528 m c t 2 _) (sc_load m c t 2 _) (w_load m c t 2 _) (ds_load528 m c t 3 _) (sc_load m c t 3 _) (w_load m c t 3 _)) y

theorem out6B (c : Dev nD) (t : Fin cfg0.N) (h : ¬t.val % 16 = 0) (y : S1x512x1024.Idx) :
    (outsAt0 m c t.val t.isLt).1 y = dhG (A1 m c) (A2 m c) (A3 m c) (t.val / 4) (t.val % 4 * 512 + (y 1).val) (y 2).val := by
  rw [outsAt0_B m c t h]
  dsimp only
  frame_out
  exact dh_canon m c t _ _ _ _ _ _ _ _ _ _ _ _ _ _ _ (ds_read m c t) (dp_read m c t _ _ _ _ _ _ _ _ _ _ _ _
    (ds_load528 m c t 0 _) (sc_load m c t 0 _) (w_load m c t 0 _) (ds_load528 m c t 1 _) (sc_load m c t 1 _) (w_load m c t 1 _)
    (ds_load528 m c t 2 _) (sc_load m c t 2 _) (w_load m c t 2 _) (ds_load528 m c t 3 _) (sc_load m c t 3 _) (w_load m c t 3 _)) y

theorem out7A (c : Dev nD) (t : Fin cfg0.N) (h : t.val % 16 = 0) (y : S4x256x256.Idx) :
    (outsAt0 m c t.val t.isLt).2.1 y = (0 : EReal) + dwP (A0 m c) (A1 m c) (A3 m c) t.val (y 0).val (y 1) (y 2) := by
  rw [outsAt0_A m c t h]
  dsimp only
  frame_out
  refine View.canon_append_of_piecesOf (Val := Elt Ideal) (e := .f32) (fun y : S4x256x256.Idx => (0 : EReal) + dwP (A0 m c) (A1 m c) (A3 m c) t.val (y 0).val (y 1) (y 2)) [⟨_, _⟩] [⟨_, _⟩, ⟨_, _⟩, ⟨_, _⟩, ⟨_, _⟩] ?hp y ?hc
  case' hc => exact View.cover_of_tiledL (s := S4x256x256) _ S1x256x256.size (by sl_kernel_rfl) y
  refine ⟨fun x => ?_, fun x => ?_, fun x => ?_, fun x => ?_, trivial⟩
  · refine (pay1_apply (dG (A1 m c) t.val 3) (sG (A3 m c) 3) (pG (A0 m c) t.val 3) _ _ _ _ (ds_load528 m c t 3 _) (sc_load m c t 3 _)
      (pl_load m c t _ _ _ _ _ _ _ _ _ _ _ _ _ _ _ (xs_read m c t) 3 (by omega) _) x).trans (congrArg₂ (· + ·) ?_ (dw_key (A0 m c) (A1 m c) (A3 m c) t.val 3 inb_S4x256x256_S1x256x256_3_0_0 x))
    simp (disch := decide) only [↓ View.readCov_skip, ↓ View.readCov_fill]
    exact fill15 _
  · refine (pay35_apply (dG (A1 m c) t.val 2) (sG (A3 m c) 2) (pG (A0 m c) t.val 2) _ _ _ _ (ds_load528 m c t 2 _) (sc_load m c t 2 _)
      (pl_load m c t _ _ _ _ _ _ _ _ _ _ _ _ _ _ _ (xs_read m c t) 2 (by omega) _) x).trans (congrArg₂ (· + ·) ?_ (dw_key (A0 m c) (A1 m c) (A3 m c) t.val 2 inb_S4x256x256_S1x256x256_2_0_0 x))
    simp (disch := decide) only [↓ View.readCov_skip, ↓ View.readCov_fill]
    exact fill15 _
  · refine (pay30_apply (dG (A1 m c) t.val 1) (sG (A3 m c) 1) (pG (A0 m c) t.val 1) _ _ _ _ (ds_load528 m c t 1 _) (sc_load m c t 1 _)
      (pl_load m c t _ _ _ _ _ _ _ _ _ _ _ _ _ _ _ (xs_read m c t) 1 (by omega) _) x).trans (congrArg₂ (· + ·) ?_ (dw_key (A0 m c) (A1 m c) (A3 m c) t.val 1 inb_S4x256x256_S1x256x256_1_0_0 x))
    simp (disch := decide) only [↓ View.readCov_skip, ↓ View.readCov_fill]
    exact fill15 _
  · refine (pay25_apply (dG (A1 m c) t.val 0) (sG (A3 m c) 0) (pG (A0 m c) t.val 0) _ _ _ _ (ds_load528 m c t 0 _) (sc_load m c t 0 _)
      (pl_load m c t _ _ _ _ _ _ _ _ _ _ _ _ _ _ _ (xs_read m c t) 0 (by omega) _) x).trans (congrArg₂ (· + ·) ?_ (dw_key (A0 m c) (A1 m c) (A3 m c) t.val 0 inb_S4x256x256_S1x256x256_0_0_0 x))
    simp (disch := decide) only [↓ View.readCov_skip, ↓ View.readCov_fill]
    exact fill15 _

theorem out7B (c : Dev nD) (t : Fin cfg0.N) (h : ¬t.val % 16 = 0) (y : S4x256x256.Idx) :
    (outsAt0 m c t.val t.isLt).2.1 y = (outsAt0 m c (t.val - 1) (by omega)).2.1 y + dwP (A0 m c) (A1 m c) (A3 m c) t.val (y 0).val (y 1) (y 2) := by
  rw [outsAt0_B m c t h]
  dsimp only
  frame_out
  refine View.canon_apply_of_pieces (Val := Elt Ideal) (e := .f32) (fun y : S4x256x256.Idx => (outsAt0 m c (t.val - 1) (by omega)).2.1 y + dwP (A0 m c) (A1 m c) (A3 m c) t.val (y 0).val (y 1) (y 2)) [⟨_, _⟩, ⟨_, _⟩, ⟨_, _⟩, ⟨_, _⟩] (View.PiecesOf.mem (Val := Elt Ideal) (e := .f32) (G := (fun y : S4x256x256.Idx => (outsAt0 m c (t.val - 1) (by omega)).2.1 y + dwP (A0 m c) (A1 m c) (A3 m c) t.val (y 0).val (y 1) (y 2))) ?hp) y ?hc
  case' hc => exact View.cover_of_tiledL (s := S4x256x256) _ S1x256x256.size (by sl_kernel_rfl) y
  refine ⟨fun x => ?_, fun x => ?_, fun x => ?_, fun x => ?_, trivial⟩
  · refine (pay1_apply (dG (A1 m c) t.val 3) (sG (A3 m c) 3) (pG (A0 m c) t.val 3) _ _ _ _ (ds_load528 m c t 3 _) (sc_load m c t 3 _)
      (pl_load m c t _ _ _ _ _ _ _ _ _ _ _ _ _ _ _ (xs_read m c t) 3 (by omega) _) x).trans (congrArg₂ (· + ·) ?_ (dw_key (A0 m c) (A1 m c) (A3 m c) t.val 3 inb_S4x256x256_S1x256x256_3_0_0 x))
    rfl
  · refine (pay35_apply (dG (A1 m c) t.val 2) (sG (A3 m c) 2) (pG (A0 m c) t.val 2) _ _ _ _ (ds_load528 m c t 2 _) (sc_load m c t 2 _)
      (pl_load m c t _ _ _ _ _ _ _ _ _ _ _ _ _ _ _ (xs_read m c t) 2 (by omega) _) x).trans (congrArg₂ (· + ·) ?_ (dw_key (A0 m c) (A1 m c) (A3 m c) t.val 2 inb_S4x256x256_S1x256x256_2_0_0 x))
    rfl
  · refine (pay30_apply (dG (A1 m c) t.val 1) (sG (A3 m c) 1) (pG (A0 m c) t.val 1) _ _ _ _ (ds_load528 m c t 1 _) (sc_load m c t 1 _)
      (pl_load m c t _ _ _ _ _ _ _ _ _ _ _ _ _ _ _ (xs_read m c t) 1 (by omega) _) x).trans (congrArg₂ (· + ·) ?_ (dw_key (A0 m c) (A1 m c) (A3 m c) t.val 1 inb_S4x256x256_S1x256x256_1_0_0 x))
    rfl
  · refine (pay25_apply (dG (A1 m c) t.val 0) (sG (A3 m c) 0) (pG (A0 m c) t.val 0) _ _ _ _ (ds_load528 m c t 0 _) (sc_load m c t 0 _)
      (pl_load m c t _ _ _ _ _ _ _ _ _ _ _ _ _ _ _ (xs_read m c t) 0 (by omega) _) x).trans (congrArg₂ (· + ·) ?_ (dw_key (A0 m c) (A1 m c) (A3 m c) t.val 0 inb_S4x256x256_S1x256x256_0_0_0 x))
    rfl

theorem out8A (c : Dev nD) (t : Fin cfg0.N) (h : t.val % 16 = 0) (y : S1x1024.Idx) :
    (outsAt0 m c t.val t.isLt).2.2 y = (0 : EReal) + dsP (A0 m c) (A1 m c) (A2 m c) t.val (y 1).val := by
  rw [outsAt0_A m c t h]
  dsimp only
  frame_out
  refine View.canon_append_of_piecesOf (Val := Elt Ideal) (e := .f32) (fun y : S1x1024.Idx => (0 : EReal) + dsP (A0 m c) (A1 m c) (A2 m c) t.val (y 1).val) [⟨_, _⟩] [⟨_, _⟩, ⟨_, _⟩, ⟨_, _⟩, ⟨_, _⟩] ?hp y ?hc
  case' hc => exact View.cover_of_tiledL (s := S1x1024) _ S1x256.size (by sl_kernel_rfl) y
  refine ⟨fun x => ?_, fun x => ?_, fun x => ?_, fun x => ?_, trivial⟩
  · refine (pay2_apply (dG (A1 m c) t.val 3) (wt (A2 m c) 3) (pG (A0 m c) t.val 3) _ _ _ _ (pl_load m c t _ _ _ _ _ _ _ _ _ _ _ _ _ _ _ (xs_read m c t) 3 (by omega) _)
      (w_load m c t 3 _) (ds_load512 m c t 3 _) x).trans (congrArg₂ (· + ·) ?_ (ds_key (A0 m c) (A1 m c) (A2 m c) t.val 3 inb_S1x1024_S1x256_0_768 x))
    simp (disch := decide) only [↓ View.readCov_skip, ↓ View.readCov_fill]
    exact fill16 _
  · refine (pay36_apply (dG (A1 m c) t.val 2) (wt (A2 m c) 2) (pG (A0 m c) t.val 2) _ _ _ _ (pl_load m c t _ _ _ _ _ _ _ _ _ _ _ _ _ _ _ (xs_read m c t) 2 (by omega) _)
      (w_load m c t 2 _) (ds_load512 m c t 2 _) x).trans (congrArg₂ (· + ·) ?_ (ds_key (A0 m c) (A1 m c) (A2 m c) t.val 2 inb_S1x1024_S1x256_0_512 x))
    simp (disch := decide) only [↓ View.readCov_skip, ↓ View.readCov_fill]
    exact fill16 _
  · refine (pay31_apply (dG (A1 m c) t.val 1) (wt (A2 m c) 1) (pG (A0 m c) t.val 1) _ _ _ _ (pl_load m c t _ _ _ _ _ _ _ _ _ _ _ _ _ _ _ (xs_read m c t) 1 (by omega) _)
      (w_load m c t 1 _) (ds_load512 m c t 1 _) x).trans (congrArg₂ (· + ·) ?_ (ds_key (A0 m c) (A1 m c) (A2 m c) t.val 1 inb_S1x1024_S1x256_0_256 x))
    simp (disch := decide) only [↓ View.readCov_skip, ↓ View.readCov_fill]
    exact fill16 _
  · refine (pay27_apply (dG (A1 m c) t.val 0) (wt (A2 m c) 0) (pG (A0 m c) t.val 0) _ _ _ _ (pl_load m c t _ _ _ _ _ _ _ _ _ _ _ _ _ _ _ (xs_read m c t) 0 (by omega) _)
      (w_load m c t 0 _) (ds_load512 m c t 0 _) x).trans (congrArg₂ (· + ·) ?_ (ds_key (A0 m c) (A1 m c) (A2 m c) t.val 0 inb_S1x1024_S1x256_0_0 x))
    simp (disch := decide) only [↓ View.readCov_skip, ↓ View.readCov_fill]
    exact fill16 _

theorem out8B (c : Dev nD) (t : Fin cfg0.N) (h : ¬t.val % 16 = 0) (y : S1x1024.Idx) :
    (outsAt0 m c t.val t.isLt).2.2 y = (outsAt0 m c (t.val - 1) (by omega)).2.2 y + dsP (A0 m c) (A1 m c) (A2 m c) t.val (y 1).val := by
  rw [outsAt0_B m c t h]
  dsimp only
  frame_out
  refine View.canon_apply_of_pieces (Val := Elt Ideal) (e := .f32) (fun y : S1x1024.Idx => (outsAt0 m c (t.val - 1) (by omega)).2.2 y + dsP (A0 m c) (A1 m c) (A2 m c) t.val (y 1).val) [⟨_, _⟩, ⟨_, _⟩, ⟨_, _⟩, ⟨_, _⟩] (View.PiecesOf.mem (Val := Elt Ideal) (e := .f32) (G := (fun y : S1x1024.Idx => (outsAt0 m c (t.val - 1) (by omega)).2.2 y + dsP (A0 m c) (A1 m c) (A2 m c) t.val (y 1).val)) ?hp) y ?hc
  case' hc => exact View.cover_of_tiledL (s := S1x1024) _ S1x256.size (by sl_kernel_rfl) y
  refine ⟨fun x => ?_, fun x => ?_, fun x => ?_, fun x => ?_, trivial⟩
  · refine (pay2_apply (dG (A1 m c) t.val 3) (wt (A2 m c) 3) (pG (A0 m c) t.val 3) _ _ _ _ (pl_load m c t _ _ _ _ _ _ _ _ _ _ _ _ _ _ _ (xs_read m c t) 3 (by omega) _)
      (w_load m c t 3 _) (ds_load512 m c t 3 _) x).trans (congrArg₂ (· + ·) ?_ (ds_key (A0 m c) (A1 m c) (A2 m c) t.val 3 inb_S1x1024_S1x256_0_768 x))
    rfl
  · refine (pay36_apply (dG (A1 m c) t.val 2) (wt (A2 m c) 2) (pG (A0 m c) t.val 2) _ _ _ _ (pl_load m c t _ _ _ _ _ _ _ _ _ _ _ _ _ _ _ (xs_read m c t) 2 (by omega) _)
      (w_load m c t 2 _) (ds_load512 m c t 2 _) x).trans (congrArg₂ (· + ·) ?_ (ds_key (A0 m c) (A1 m c) (A2 m c) t.val 2 inb_S1x1024_S1x256_0_512 x))
    rfl
  · refine (pay31_apply (dG (A1 m c) t.val 1) (wt (A2 m c) 1) (pG (A0 m c) t.val 1) _ _ _ _ (pl_load m c t _ _ _ _ _ _ _ _ _ _ _ _ _ _ _ (xs_read m c t) 1 (by omega) _)
      (w_load m c t 1 _) (ds_load512 m c t 1 _) x).trans (congrArg₂ (· + ·) ?_ (ds_key (A0 m c) (A1 m c) (A2 m c) t.val 1 inb_S1x1024_S1x256_0_256 x))
    rfl
  · refine (pay27_apply (dG (A1 m c) t.val 0) (wt (A2 m c) 0) (pG (A0 m c) t.val 0) _ _ _ _ (pl_load m c t _ _ _ _ _ _ _ _ _ _ _ _ _ _ _ (xs_read m c t) 0 (by omega) _)
      (w_load m c t 0 _) (ds_load512 m c t 0 _) x).trans (congrArg₂ (· + ·) ?_ (ds_key (A0 m c) (A1 m c) (A2 m c) t.val 0 inb_S1x1024_S1x256_0_0 x))
    rfl

end Cert.Pool
-- ==== Proof.Pool.Final.lean ====
/-
  The three arrays after the last point: the input's gradient block by block, and the two sums over all sixteen points.
-/
module

public import proofs.«01_k».proof.Proof.Pool.Outs

@[expose] public section

set_option maxRecDepth 16384

noncomputable section

namespace Cert.Pool

open Cert.KernelIdeal Cert.KernelIdeal.Gen
open Idealize.ShloMosaic Idealize.ShloMosaic.TcCoe Idealize.SL.Sem
open Idealize.ShloMosaic.Pipeline (Dat)

def GH (a1 : S4x2048x1024.Idx → EReal) (a2 : S4x256x256.Idx → EReal) (a3 : S1x1024.Idx → EReal) (i : S4x2048x1024.Idx) : EReal :=
  dhG a1 a2 a3 (i 0).val (i 1).val (i 2).val

def GW (a0 a1 : S4x2048x1024.Idx → EReal) (a3 : S1x1024.Idx → EReal) (i : S4x256x256.Idx) : EReal := ∑ p : Fin 16, dwP a0 a1 a3 p.val (i 0).val (i 1) (i 2)

def GS (a0 a1 : S4x2048x1024.Idx → EReal) (a2 : S4x256x256.Idx → EReal) (i : S1x1024.Idx) : EReal := ∑ p : Fin 16, dsP a0 a1 a2 p.val (i 1).val

variable (m : (ℓ : Loc nD τ sig) → Buf (Elt Ideal) ℓ)

theorem final6 (c : Dev nD) : (dats m 0 c).arrAt 6 cfg0.N = GH (A1 m c) (A2 m c) (A3 m c) := by
  refine (dats m 0 c).arrAt_eq_of_covers 6 _ (by decide +kernel) fun t hf y => ?_
  blk_simp
  rw [after0_6]
  have h1 : (y 1).val < 512 := (y 1).isLt
  have h0 : (y 0).val < 1 := (y 0).isLt
  have e : (outsAt0 m c t.val t.isLt).1 y = dhG (A1 m c) (A2 m c) (A3 m c) (t.val / 4) (t.val % 4 * 512 + (y 1).val) (y 2).val := by
    by_cases h : t.val % 16 = 0
    · exact out6A m c t h y
    · exact out6B m c t h y
  refine e.trans ?_
  unfold GH
  generalize dhG (A1 m c) (A2 m c) (A3 m c) = F
  blk_point [idx t]

theorem final7 (c : Dev nD) : (dats m 0 c).arrAt 7 cfg0.N = GW (A0 m c) (A1 m c) (A3 m c) := by
  refine (dats m 0 c).arrAt_eq_of_covers 7 _ (by decide +kernel) fun t hf y => ?_
  blk_simp
  rw [after0_7]
  refine (Pipeline.eq_sum_fin_of_reset_step_apply_of_flush (fun n h => (outsAt0 m c n h).2.1) 16 (fun _ => (0 : EReal))
    (fun t j => dwP (A0 m c) (A1 m c) (A3 m c) t.val (j 0).val (j 1) (j 2)) (fun t h j => out7A m c t h j) (fun t h j => out7B m c t h j)
    t ((flush0_7 t).mp hf) y).trans ?_
  have ht : t.val < 16 := t.isLt
  have h15 := (flush0_7 t).mp hf
  unfold GW
  rw [zero_add]
  refine Finset.sum_congr rfl fun k _ => ?_
  have hk := k.isLt
  dsimp only
  rw [show 16 * (t.val / 16) + k.val = k.val by omega]
  blk_point [idx t]

theorem final8 (c : Dev nD) : (dats m 0 c).arrAt 8 cfg0.N = GS (A0 m c) (A1 m c) (A2 m c) := by
  refine (dats m 0 c).arrAt_eq_of_covers 8 _ (by decide +kernel) fun t hf y => ?_
  blk_simp
  rw [after0_8]
  refine (Pipeline.eq_sum_fin_of_reset_step_apply_of_flush (fun n h => (outsAt0 m c n h).2.2) 16 (fun _ => (0 : EReal))
    (fun t j => dsP (A0 m c) (A1 m c) (A2 m c) t.val (j 1).val) (fun t h j => out8A m c t h j) (fun t h j => out8B m c t h j)
    t ((flush0_8 t).mp hf) y).trans ?_
  have ht : t.val < 16 := t.isLt
  have h15 := (flush0_8 t).mp hf
  unfold GS
  rw [zero_add]
  refine Finset.sum_congr rfl fun k _ => ?_
  have hk := k.isLt
  dsimp only
  rw [show 16 * (t.val / 16) + k.val = k.val by omega]
  blk_point [idx t]

end Cert.Pool
-- ==== Proof.Pool.Real.lean ====
/-
  Sums of real values: the difference of two running sums is the sum of the rows between, and a running sum of differences is the sum of a window.
-/
module

public import proofs.«01_k».proof.Proof.Pool.Final

@[expose] public section

set_option maxRecDepth 16384

noncomputable section

namespace Cert.PoolRef

open Cert.Pool
open Idealize.ShloMosaic Idealize.ShloMosaic.TcCoe

/-- A value that is a real number. -/
def IsR (x : EReal) : Prop := ∃ r : ℝ, x = (r : EReal)

theorem isR_zero : IsR 0 := ⟨0, rfl⟩

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

theorem IsR.sum {ι : Type} (s : Finset ι) (f : ι → EReal) (hf : ∀ i, IsR (f i)) : IsR (∑ i ∈ s, f i) := by
  classical
  induction s using Finset.induction_on with
  | empty => rw [Finset.sum_empty]; exact isR_zero
  | insert a s ha ih => rw [Finset.sum_insert ha]; exact (hf a).add ih

theorem cnt_ne (n w : ℕ) (hw : 0 < w) : ((min (n + 1) w : ℕ) : ℝ) ≠ 0 := by
  have : 0 < min (n + 1) w := by omega
  exact_mod_cast this.ne'

theorem div_cnt (x : EReal) (n w : ℕ) (hw : 0 < w) : Ideal.div x (cnt n w) = x * ((1 / ((min (n + 1) w : ℕ) : ℝ) : ℝ) : EReal) := by
  unfold cnt
  exact Ideal.div_coe (cnt_ne n w hw) x

theorem IsR.div_cnt {x : EReal} (hx : IsR x) (n w : ℕ) (hw : 0 < w) : IsR (Ideal.div x (cnt n w)) := by
  rw [Cert.PoolRef.div_cnt x n w hw]
  exact hx.mul ⟨_, rfl⟩

theorem zero_div_cnt (n w : ℕ) (hw : 0 < w) : Ideal.div 0 (cnt n w) = 0 := by
  rw [div_cnt 0 n w hw, zero_mul]

theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty]; rfl
  | insert a s ha ih => rw [Finset.sum_insert ha, Finset.sum_insert ha, EReal.coe_add, ih]

/-- The difference of two running sums, for reals with sixteen zeros in front. -/
theorem prefix_real (h : ℕ → ℝ) (h0 : ∀ k, k < 16 → h k = 0) (n w : ℕ) (hw : w ≤ 16) :
    (∑ j ∈ Finset.range (n + 1), h (16 + j)) - ∑ j ∈ Finset.range (n + 1 - w), h (16 + j) = ∑ q ∈ Finset.range w, h (16 + n - q) := by
  induction w with
  | zero => rw [Nat.sub_zero, sub_self, Finset.sum_range_zero]
  | succ w ih =>
    have es : ∑ q ∈ Finset.range (w + 1), h (16 + n - q) = ∑ q ∈ Finset.range w, h (16 + n - q) + h (16 + n - w) := Finset.sum_range_succ _ _
    rw [es, ← ih (by omega)]
    by_cases hn : w ≤ n
    · have e1 : n + 1 - w = (n - w) + 1 := by omega
      have e2 : n + 1 - (w + 1) = n - w := by omega
      have e3 : 16 + n - w = 16 + (n - w) := by omega
      have e4 := Finset.sum_range_succ (fun j => h (16 + j)) (n - w)
      rw [e1, e2, e3, e4]
      ring
    · have e1 : n + 1 - w = 0 := by omega
      have e2 : n + 1 - (w + 1) = 0 := by omega
      rw [e1, e2, h0 (16 + n - w) (by omega), add_zero]

theorem prefix_ereal (h : ℕ → EReal) (hR : ∀ k, IsR (h k)) (h0 : ∀ k, k < 16 → h k = 0) (n w : ℕ) (hw : w ≤ 16) :
    (∑ j ∈ Finset.range (n + 1), h (16 + j)) - ∑ j ∈ Finset.range (n + 1 - w), h (16 + j) = ∑ q ∈ Finset.range w, h (16 + n - q) := by
  choose r hr using hR
  have e := prefix_real r (fun k hk => by have := h0 k hk; rw [hr k] at this; exact_mod_cast this) n w hw
  simp only [hr]
  rw [← coe_sum, ← coe_sum, ← coe_sum, ← EReal.coe_sub, e]

/-- A running sum of the differences of a sequence with itself `w` further on. -/
theorem window_real (f : ℕ → ℝ) (N w : ℕ) (h0 : ∀ k, f (N + k) = 0) :
    ∑ k ∈ Finset.range N, (f k - f (k + w)) = ∑ q ∈ Finset.range w, f q := by
  rw [Finset.sum_sub_distrib]
  have h1 : ∑ k ∈ Finset.range (N + w), f k = ∑ k ∈ Finset.range N, f k := by
    rw [Finset.sum_range_add, Finset.sum_eq_zero (fun x _ => h0 x), add_zero]
  have h2 : ∑ k ∈ Finset.range (w + N), f k = ∑ k ∈ Finset.range w, f k + ∑ k ∈ Finset.range N, f (w + k) := Finset.sum_range_add _ _ _
  rw [Nat.add_comm w N, h1] at h2
  rw [h2]
  simp only [Nat.add_comm w]
  ring

theorem window_ereal (f : ℕ → EReal) (hR : ∀ k, IsR (f k)) (N w : ℕ) (h0 : ∀ k, f (N + k) = 0) :
    ∑ k ∈ Finset.range N, (f k + -f (k + w)) = ∑ q ∈ Finset.range w, f q := by
  choose r hr using hR
  have e := window_real r N w (fun k => by have := h0 k; rw [hr] at this; exact_mod_cast this)
  simp only [hr, ← EReal.coe_neg, ← EReal.coe_add, ← sub_eq_add_neg]
  rw [← coe_sum, ← coe_sum, e]

end Cert.PoolRef
-- ==== Proof.Pool.RefA.lean ====
/-
  The reference's intermediate arrays read at an index: the running sums, the pooled rows, and the gradients that reach them.
-/
module

public import proofs.«01_k».proof.Proof.Pool.Window
public import proofs.«01_k».proof.Proof.Pool.Real
public import proofs.«01_k».proof.Proof.Gen.ReferenceIdeal.Run

@[expose] public section

set_option maxRecDepth 16384

noncomputable section

namespace Cert.PoolRef

open Cert.ReferenceIdeal Cert.ReferenceIdeal.Value Cert.Pool
open Idealize.ShloMosaic Idealize.ShloMosaic.TcCoe Idealize.SL.Sem

variable (V0 : Valuation τ sig (Elt Ideal))

abbrev B0 : S4x2048x1024.Idx → EReal := V0 (Proc.devRef .tc main_arg0)
abbrev B1 : S4x2048x1024.Idx → EReal := V0 (Proc.devRef .tc main_arg1)
abbrev B2 : S4x256x256.Idx → EReal := V0 (Proc.devRef .tc main_arg2)
abbrev B3 : S1x1024.Idx → EReal := V0 (Proc.devRef .tc main_arg3)

/-- The sum of the first `n` rows. -/
def pre (a0 : S4x2048x1024.Idx → EReal) (b n c : ℕ) : EReal := ∑ j ∈ Finset.range n, hp a0 b (16 + j) c

/-- A row of the gradient of the pooled rows, divided by the row's count. -/
def qG (a1 : S4x2048x1024.Idx → EReal) (a2 : S4x256x256.Idx → EReal) (a3 : S1x1024.Idx → EReal) (b n c : ℕ) : EReal :=
  Ideal.div (dplG a1 a2 a3 b n c) (cnt n (wid c))

theorem v3_apply (b : Fin 4) (n : Fin 2048) (g : Fin 4) (c : Fin 256) :
    (res_main_v3 V0 : S4x2048x4x256.Idx → EReal) (ix4 b n g c) = hp (B0 V0) b.val (16 + n.val) (256 * g.val + c.val) := by
  unfold res_main_v3 hp
  rw [dif_pos (by omega)]
  pointwise
  refine congrArg (B0 V0) ?_
  have e2 : (⟨256 * g.val + c.val, by omega⟩ : Fin 1024) = ⟨g.val * 256 + c.val, by omega⟩ := Fin.ext (by show 256 * g.val + c.val = g.val * 256 + c.val; omega)
  exact (congrArg (ix3 b n) e2).symm

theorem v4_apply (b : Fin 4) (n : Fin 2048) (g : Fin 4) (c : Fin 256) :
    (res_main_v4 V0 : S4x2048x4x256.Idx → EReal) (ix4 b n g c) = pre (B0 V0) b.val (n.val + 1) (256 * g.val + c.val) := by
  unfold res_main_v4
  refine (host_fwd (res_main_v3 V0 : S4x2048x4x256.Idx → EReal) _ _ _ ?_ (ix4 b n g c)).trans ?_
  · pointwise
  · unfold pre
    have e : ∀ q : Fin 2048, (if q.val ≤ n.val then (res_main_v3 V0 : S4x2048x4x256.Idx → EReal) (ix4 b q g c) else (0 : EReal))
        = (fun k : ℕ => if k ≤ n.val then hp (B0 V0) b.val (16 + k) (256 * g.val + c.val) else 0) q.val := fun q => by
      rw [v3_apply]
    refine (congrArg (fun F : Fin 2048 → EReal => ∑ q, F q) (funext e)).trans ?_
    rw [Fin.sum_univ_eq_sum_range (fun k : ℕ => if k ≤ n.val then hp (B0 V0) b.val (16 + k) (256 * g.val + c.val) else 0) 2048,
      ← Finset.sum_filter]
    refine Finset.sum_congr (Finset.ext fun k => ?_) fun _ _ => rfl
    rw [Finset.mem_filter, Finset.mem_range, Finset.mem_range]
    omega

theorem v7_apply (b : Fin 4) (n : Fin 2049) (g : Fin 4) (c : Fin 256) :
    (res_main_v7 V0 : S4x2049x4x256.Idx → EReal) (ix4 b n g c) = pre (B0 V0) b.val n.val (256 * g.val + c.val) := by
  unfold res_main_v7
  pointwise
  split
  · next h =>
    have e : n.val = 0 := by omega
    unfold pre
    rw [e, Finset.sum_range_zero]
  · next h =>
    rw [v4_apply]
    have e : n.val - 1 + 1 = n.val := by omega
    show pre (B0 V0) b.val (n.val - 1 + 1) (256 * g.val + c.val) = _
    rw [e]

theorem two_f32 : Ideal.ofBits .f32 0x40000000#32 = ((2 : ℝ) : EReal) := by
  simp [Ideal.ofBits, Ideal.ieee, -EReal.coe_mul]; norm_num
theorem four_f32 : Ideal.ofBits .f32 0x40800000#32 = ((4 : ℝ) : EReal) := by
  simp [Ideal.ofBits, Ideal.ieee, -EReal.coe_mul]; norm_num
theorem eight_f32 : Ideal.ofBits .f32 0x41000000#32 = ((8 : ℝ) : EReal) := by
  simp [Ideal.ofBits, Ideal.ieee, -EReal.coe_mul]; norm_num
theorem sixteen_f32 : Ideal.ofBits .f32 0x41800000#32 = ((16 : ℝ) : EReal) := by
  simp [Ideal.ofBits, Ideal.ieee, -EReal.coe_mul]; norm_num

/-- The count of a row as the reference forms it. -/
theorem count_host (n w : ℕ) (hn : n < 2048) : min ((((BitVec.ofNat 32 n).toInt : ℝ) : EReal) + 1) (((w : ℕ) : ℝ) : EReal) = cnt n w := by
  unfold cnt
  rw [BitVec.toInt_eq_toNat_of_lt (by rw [BitVec.toNat_ofNat]; omega), BitVec.toNat_ofNat, Nat.mod_eq_of_lt (by omega)]
  rw [← EReal.coe_one, ← EReal.coe_add]
  have e : ((((n : ℕ) : ℤ) : ℝ) + 1) = ((n + 1 : ℕ) : ℝ) := by push_cast; rfl
  rw [e]
  rcases le_total (n + 1) w with h | h
  · rw [min_eq_left h, min_eq_left (by exact_mod_cast h)]
  · rw [min_eq_right h, min_eq_right (by exact_mod_cast h)]

theorem v21_apply (n : Fin 2048) : (res_main_v21 V0 : S1x2048x1.Idx → EReal) (ix3 0 n 0) = cnt n.val 2 := by
  rw [← count_host n.val 2 n.isLt]
  unfold res_main_v21 res_main_v9
  pointwise [two_f32]
  rfl
theorem v38_apply (n : Fin 2048) : (res_main_v38 V0 : S1x2048x1.Idx → EReal) (ix3 0 n 0) = cnt n.val 4 := by
  rw [← count_host n.val 4 n.isLt]
  unfold res_main_v38 res_main_v9
  pointwise [four_f32]
  rfl
theorem v55_apply (n : Fin 2048) : (res_main_v55 V0 : S1x2048x1.Idx → EReal) (ix3 0 n 0) = cnt n.val 8 := by
  rw [← count_host n.val 8 n.isLt]
  unfold res_main_v55 res_main_v9
  pointwise [eight_f32]
  rfl
theorem v72_apply (n : Fin 2048) : (res_main_v72 V0 : S1x2048x1.Idx → EReal) (ix3 0 n 0) = cnt n.val 16 := by
  rw [← count_host n.val 16 n.isLt]
  unfold res_main_v72 res_main_v9
  pointwise [sixteen_f32]
  rfl

theorem v102_apply (b : Fin 4) (n : Fin 2048) (g : Fin 4) (c : Fin 256) :
    (res_main_v102 V0 : S4x2048x4x256.Idx → EReal) (ix4 b n g c) = dplG (B1 V0) (B2 V0) (B3 V0) b.val n.val (256 * g.val + c.val) := by
  rw [dplG_group]
  unfold res_main_v102 res_main_v100; pointwise
  unfold res_main_v92 res_main_v87; pointwise
  refine congrArg (fun F : Fin 256 → EReal => ∑ q, F q) (funext fun x => ?_)
  unfold dp0 sc wt
  rw [dif_pos (by omega), dif_pos (by omega), dif_pos (by omega)]
  have e : (⟨256 * g.val + x.val, by omega⟩ : Fin 1024) = ⟨g.val * 256 + x.val, by omega⟩ := Fin.ext (by show 256 * g.val + x.val = g.val * 256 + x.val; omega)
  rw [e]

/-- One group's pooled row, from the running sums. -/
def refPl (a0 : S4x2048x1024.Idx → EReal) (w b n c : ℕ) : EReal :=
  Ideal.div (pre a0 b (n + 1) c - pre a0 b (n + 1 - w) c) (cnt n w) - hp a0 b (16 + n) c

theorem pre_cut (a0 : S4x2048x1024.Idx → EReal) (b n c k : ℕ) : (if h : n < k then 0 else pre a0 b (n - k) c) = pre a0 b (n + 1 - (k + 1)) c := by
  by_cases h : n < k
  · have e : n + 1 - (k + 1) = 0 := by omega
    unfold pre
    rw [dif_pos h, e, Finset.sum_range_zero]
  · have e : n + 1 - (k + 1) = n - k := by omega
    rw [dif_neg h, e]

theorem v83_apply (b : Fin 4) (n : Fin 2048) (g : Fin 4) (c : Fin 256) : (res_main_v83 V0 : S4x2048x4x256.Idx → EReal) (ix4 b n g c)
    = refPl (B0 V0) (wid (256 * g.val + c.val)) b.val n.val (256 * g.val + c.val) := by
  unfold res_main_v83; pointwise
  unfold refPl
  rw [v3_apply]
  rw [wid_eq _ _ c.isLt]
  fin_cases g
  · simp only [v21_apply, v7_apply, pre_cut, Nat.add_comm 1 n.val]
    rfl
  · simp only [v38_apply, v7_apply, pre_cut, Nat.add_comm 1 n.val]
    rfl
  · simp only [v55_apply, v7_apply, pre_cut, Nat.add_comm 1 n.val]
    rfl
  · simp only [v72_apply, v7_apply, pre_cut, Nat.add_comm 1 n.val]
    rfl

theorem qG_at (a1 : S4x2048x1024.Idx → EReal) (a2 : S4x256x256.Idx → EReal) (a3 : S1x1024.Idx → EReal) (b n g c : ℕ) (hc : c < 256) :
    qG a1 a2 a3 b n (256 * g + c) = Ideal.div (dplG a1 a2 a3 b n (256 * g + c)) (cnt n (2 ^ (g + 1))) := by
  unfold qG
  rw [wid_eq g c hc]

theorem v115_apply (b : Fin 4) (n : Fin 2048) (c : Fin 256) : (res_main_v115 V0 : S4x2048x256.Idx → EReal) (ix3 b n c) = qG (B1 V0) (B2 V0) (B3 V0) b.val n.val (256 * 3 + c.val) := by
  rw [qG_at _ _ _ _ _ 3 c.val c.isLt]
  unfold res_main_v115; pointwise
  rw [v102_apply, v72_apply]
  rfl
theorem v125_apply (b : Fin 4) (n : Fin 2048) (c : Fin 256) : (res_main_v125 V0 : S4x2048x256.Idx → EReal) (ix3 b n c) = qG (B1 V0) (B2 V0) (B3 V0) b.val n.val (256 * 2 + c.val) := by
  rw [qG_at _ _ _ _ _ 2 c.val c.isLt]
  unfold res_main_v125; pointwise
  rw [v102_apply, v55_apply]
  rfl
theorem v136_apply (b : Fin 4) (n : Fin 2048) (c : Fin 256) : (res_main_v136 V0 : S4x2048x256.Idx → EReal) (ix3 b n c) = qG (B1 V0) (B2 V0) (B3 V0) b.val n.val (256 * 1 + c.val) := by
  rw [qG_at _ _ _ _ _ 1 c.val c.isLt]
  unfold res_main_v136; pointwise
  rw [v102_apply, v38_apply]
  rfl
theorem v147_apply (b : Fin 4) (n : Fin 2048) (c : Fin 256) : (res_main_v147 V0 : S4x2048x256.Idx → EReal) (ix3 b n c) = qG (B1 V0) (B2 V0) (B3 V0) b.val n.val (256 * 0 + c.val) := by
  rw [qG_at _ _ _ _ _ 0 c.val c.isLt]
  unfold res_main_v147; pointwise
  rw [v102_apply, v21_apply]
  have e : 256 * ((0 : Fin 4).val) + c.val = c.val := by simp
  rw [e]
  rfl

/-- Past the last row the divided gradient is zero. -/
theorem qG_past (a1 : S4x2048x1024.Idx → EReal) (a2 : S4x256x256.Idx → EReal) (a3 : S1x1024.Idx → EReal) (b n c : ℕ) (h : 2048 ≤ n) : qG a1 a2 a3 b n c = 0 := by
  have e : dplG a1 a2 a3 b n c = 0 := by
    unfold dplG
    refine Finset.sum_eq_zero fun o _ => ?_
    unfold dp0
    rw [dif_neg (by omega), zero_mul, zero_mul]
  unfold qG
  rw [e]
  exact zero_div_cnt n _ (by unfold wid; positivity)

theorem v156_apply (b : Fin 4) (n : Fin 2048) (g : Fin 4) (c : Fin 256) : (res_main_v156 V0 : S4x2049x4x256.Idx → EReal) (ix4 b ⟨n.val + 1, by omega⟩ g c)
    = qG (B1 V0) (B2 V0) (B3 V0) b.val n.val (256 * g.val + c.val) + -qG (B1 V0) (B2 V0) (B3 V0) b.val (n.val + wid (256 * g.val + c.val)) (256 * g.val + c.val) := by
  unfold res_main_v156 res_main_v116 res_main_v126 res_main_v137 res_main_v148; pointwise
  rw [wid_eq _ _ c.isLt]
  have hn := n.isLt
  have e1 : n.val + 1 - 1 = n.val := by omega
  fin_cases g
  · simp only [v115_apply, v125_apply, v136_apply, v147_apply, e1]
    have e2 : 1 + (n.val + 1) = n.val + 2 := by omega
    by_cases hw : n.val + 2 < 2048
    · repeat first | rw [dif_pos (by omega)] | rw [dif_neg (by omega)]
      rw [e2]
      simp only [zero_add, add_zero]
      rfl
    · repeat first | rw [dif_pos (by omega)] | rw [dif_neg (by omega)]
      simp only [zero_add, add_zero]
      rw [qG_past _ _ _ _ (n.val + 2 ^ 1) _ (by show 2048 ≤ n.val + 2; omega), neg_zero, add_zero]
  · simp only [v115_apply, v125_apply, v136_apply, v147_apply, e1]
    have e2 : 3 + (n.val + 1) = n.val + 4 := by omega
    by_cases hw : n.val + 4 < 2048
    · repeat first | rw [dif_pos (by omega)] | rw [dif_neg (by omega)]
      rw [e2]
      simp only [zero_add, add_zero]
      rfl
    · repeat first | rw [dif_pos (by omega)] | rw [dif_neg (by omega)]
      simp only [zero_add, add_zero]
      rw [qG_past _ _ _ _ (n.val + 2 ^ (1 + 1)) _ (by show 2048 ≤ n.val + 4; omega), neg_zero, add_zero]
  · simp only [v115_apply, v125_apply, v136_apply, v147_apply, e1]
    have e2 : 7 + (n.val + 1) = n.val + 8 := by omega
    by_cases hw : n.val + 8 < 2048
    · repeat first | rw [dif_pos (by omega)] | rw [dif_neg (by omega)]
      rw [e2]
      simp only [zero_add, add_zero]
      rfl
    · repeat first | rw [dif_pos (by omega)] | rw [dif_neg (by omega)]
      simp only [zero_add, add_zero]
      rw [qG_past _ _ _ _ (n.val + 2 ^ (2 + 1)) _ (by show 2048 ≤ n.val + 8; omega), neg_zero, add_zero]
  · simp only [v115_apply, v125_apply, v136_apply, v147_apply, e1]
    have e2 : 15 + (n.val + 1) = n.val + 16 := by omega
    by_cases hw : n.val + 16 < 2048
    · repeat first | rw [dif_pos (by omega)] | rw [dif_neg (by omega)]
      rw [e2]
      simp only [zero_add, add_zero]
      rfl
    · repeat first | rw [dif_pos (by omega)] | rw [dif_neg (by omega)]
      simp only [zero_add, add_zero]
      rw [qG_past _ _ _ _ (n.val + 2 ^ (3 + 1)) _ (by show 2048 ≤ n.val + 16; omega), neg_zero, add_zero]

end Cert.PoolRef
-- ==== Proof.Pool.RefB.lean ====
/-
  The reference's three results, where every value it is given is a real number, in the same words as the kernel's.
-/
module

public import proofs.«01_k».proof.Proof.Pool.RefA

@[expose] public section

set_option maxRecDepth 16384

noncomputable section

namespace Cert.PoolRef

open Cert.ReferenceIdeal Cert.ReferenceIdeal.Value Cert.Pool
open Idealize.ShloMosaic Idealize.ShloMosaic.TcCoe Idealize.SL.Sem

theorem hp_isR (a0 : S4x2048x1024.Idx → EReal) (h0 : ∀ i, IsR (a0 i)) (b n c : ℕ) : IsR (hp a0 b n c) := by
  unfold hp
  split
  · exact h0 _
  · exact isR_zero

theorem hp_front (a0 : S4x2048x1024.Idx → EReal) (b k c : ℕ) (hk : k < 16) : hp a0 b k c = 0 := by
  unfold hp
  exact dif_neg (by omega)

theorem qG_isR (a1 : S4x2048x1024.Idx → EReal) (a2 : S4x256x256.Idx → EReal) (a3 : S1x1024.Idx → EReal) (h1 : ∀ i, IsR (a1 i)) (h2 : ∀ i, IsR (a2 i)) (h3 : ∀ i, IsR (a3 i))
    (b n c : ℕ) : IsR (qG a1 a2 a3 b n c) := by
  unfold qG
  refine IsR.div_cnt ?_ n _ (by unfold wid; positivity)
  unfold dplG
  refine IsR.sum _ _ fun o => IsR.mul (IsR.mul ?_ ?_) ?_
  · unfold dp0
    split
    · exact h1 _
    · exact isR_zero
  · unfold sc
    split
    · exact h3 _
    · exact isR_zero
  · unfold wt
    split
    · exact h2 _
    · exact isR_zero

theorem refPl_eq (a0 : S4x2048x1024.Idx → EReal) (h0 : ∀ i, IsR (a0 i)) (b n g c : ℕ) (hg : g < 4) (hc : c < 256) :
    refPl a0 (wid (256 * g + c)) b n (256 * g + c) = plG a0 b n (256 * g + c) := by
  have hw : wid (256 * g + c) ≤ 16 := by
    rw [wid_eq g c hc]
    interval_cases g <;> decide
  unfold refPl plG pre
  rw [prefix_ereal (fun k => hp a0 b k (256 * g + c)) (fun k => hp_isR a0 h0 b k _) (fun k hk => hp_front a0 b k _ hk) n _ hw]

/-- The sum of a window of the divided gradients, as the running sum of their differences. -/
theorem back_eq (a1 : S4x2048x1024.Idx → EReal) (a2 : S4x256x256.Idx → EReal) (a3 : S1x1024.Idx → EReal) (h1 : ∀ i, IsR (a1 i)) (h2 : ∀ i, IsR (a2 i)) (h3 : ∀ i, IsR (a3 i))
    (b n c : ℕ) :
    (∑ k : Fin 2048, if n + k.val < 2048 then qG a1 a2 a3 b (n + k.val) c + -qG a1 a2 a3 b (n + k.val + wid c) c else 0)
      = ∑ q ∈ Finset.range (wid c), qG a1 a2 a3 b (n + q) c := by
  rw [← window_ereal (fun k => qG a1 a2 a3 b (n + k) c) (fun k => qG_isR a1 a2 a3 h1 h2 h3 b _ c) 2048 (wid c) (fun k => qG_past a1 a2 a3 b _ c (by omega)),
    ← Fin.sum_univ_eq_sum_range (fun k => qG a1 a2 a3 b (n + k) c + -qG a1 a2 a3 b (n + (k + wid c)) c) 2048]
  refine Finset.sum_congr rfl fun k _ => ?_
  by_cases h : n + k.val < 2048
  · rw [if_pos h, Nat.add_assoc]
  · rw [if_neg h, qG_past a1 a2 a3 b _ c (by omega), qG_past a1 a2 a3 b _ c (by omega), neg_zero, add_zero]

theorem reduce01 {n0 n1 n2 : ℕ} (h : (⟨3, ![n0, n1, n2]⟩ : Shape).ReducesTo [0, 1] ⟨1, ![n2]⟩) (x : (⟨3, ![n0, n1, n2]⟩ : Shape).Idx → EReal) (v : EReal)
    (j : (⟨1, ![n2]⟩ : Shape).Idx) : Ideal.hostReduceAdd h x v j = v + ∑ a : Fin n0, ∑ b : Fin n1, x (ix3 a b (j 0)) := by
  have hd : ∀ i, h.drop i = ix1 (i 2) := fun i => funext fun a => match a with | ⟨0, _⟩ => rfl
  unfold Ideal.hostReduceAdd
  refine congrArg (v + ·) ?_
  rw [← Finset.sum_product' Finset.univ Finset.univ (fun a b => x (ix3 a b (j 0)))]
  refine Finset.sum_nbij' (fun i => ((i 0 : Fin n0), (i 1 : Fin n1))) (fun p => ix3 p.1 p.2 (j 0)) (fun _ _ => Finset.mem_univ _) (fun p _ => ?_) (fun i hi => ?_) (fun p _ => rfl) (fun i hi => ?_)
  · refine Finset.mem_filter.mpr ⟨Finset.mem_univ _, ?_⟩
    rw [hd]
    exact (eq_ix1 j).symm
  · have e := (Finset.mem_filter.mp hi).2
    rw [hd] at e
    have e2 : i 2 = j 0 := congrFun e 0
    show ix3 (i 0) (i 1) (j 0) = i
    rw [← e2]
    exact (eq_ix3 i).symm
  · have e := (Finset.mem_filter.mp hi).2
    rw [hd] at e
    have e2 : i 2 = j 0 := congrFun e 0
    show x i = x (ix3 (i 0) (i 1) (j 0))
    rw [← e2]
    exact congrArg x (eq_ix3 i)

variable (V0 : Valuation τ sig (Elt Ideal))

theorem v92_apply (b : Fin 4) (n : Fin 2048) (c : Fin 1024) : (res_main_v92 V0 : S4x2048x1024.Idx → EReal) (ix3 b n c) = dp0 (B1 V0) b.val n.val c.val := by
  unfold res_main_v92 dp0
  rw [dif_pos (by omega)]
  pointwise

theorem v100_apply (b : Fin 4) (n : Fin 2048) (g : Fin 4) (o : Fin 256) : (res_main_v100 V0 : S4x256x4x2048.Idx → EReal) (ix4 g o b n)
    = dp0 (B1 V0) b.val n.val (256 * g.val + o.val) * sc (B3 V0) (256 * g.val + o.val) := by
  unfold res_main_v100; pointwise
  unfold res_main_v92 res_main_v87; pointwise
  unfold dp0 sc
  rw [dif_pos (by omega), dif_pos (by omega)]
  have e : (⟨256 * g.val + o.val, by omega⟩ : Fin 1024) = ⟨g.val * 256 + o.val, by omega⟩ := Fin.ext (by show 256 * g.val + o.val = g.val * 256 + o.val; omega)
  rw [e]

theorem v83_real (h0 : ∀ i, IsR (B0 V0 i)) (b : Fin 4) (n : Fin 2048) (g : Fin 4) (c : Fin 256) :
    (res_main_v83 V0 : S4x2048x4x256.Idx → EReal) (ix4 b n g c) = plG (B0 V0) b.val n.val (256 * g.val + c.val) := by
  rw [v83_apply, refPl_eq _ h0 _ _ _ _ g.isLt c.isLt]

theorem v86_apply (h0 : ∀ i, IsR (B0 V0 i)) (b : Fin 4) (n : Fin 2048) (c : Fin 1024) : (res_main_v86 V0 : S4x2048x1024.Idx → EReal) (ix3 b n c)
    = ∑ i : Fin 256, plG (B0 V0) b.val n.val (256 * (c.val / 256) + i.val) * wt (B2 V0) (c.val / 256) i ⟨c.val % 256, by omega⟩ := by
  unfold res_main_v86; pointwise
  refine congrArg (fun F : Fin 256 → EReal => ∑ q, F q) (funext fun x => ?_)
  rw [v83_real V0 h0]
  unfold wt
  rw [dif_pos (by omega), mul_comm]

/-- The sum over rows of a product of two arrays, as the reference forms it: over the two leading axes, twice. -/
theorem ds_read (X Y : S4x2048x1024.Idx → EReal) (hb) (hr : S4x2048x1024.ReducesTo [0, 1] S1024) (hc : S1024.ShapeCasts S1x1x1024) (hr2 : S1x1x1024.ReducesTo [0, 1] S1024) (hu : 0 < S_.numel) (z : Fin 1) (c : Fin 1024) :
    (broadcastInDim S1x1024 ![1] hb (Host.reduceAdd (F := Ideal) (φ := .f32) (shapeCast S1x1x1024 (Host.reduceAdd (F := Ideal) (φ := .f32) (mulf (F := Ideal) (φ := .f32) X Y) (constant S_ .f32 0x00000000#32) hr hu) hc)
      (constant S_ .f32 0x00000000#32) hr2 hu) : S1x1024.Idx → EReal) (ix2 z c) = ∑ a : Fin 4, ∑ b : Fin 2048, X (ix3 a b c) * Y (ix3 a b c) := by
  pointwise
  refine (reduce01 hr2 _ _ _).trans ?_
  rw [zero_add, Fin.sum_univ_one, Fin.sum_univ_one]
  pointwise
  refine (reduce01 hr _ _ _).trans ?_
  rw [zero_add]
  rfl

/-- The rows' gradient from the parts the reference adds. -/
theorem dh_parts (h1 : ∀ i, IsR (B1 V0 i)) (h2 : ∀ i, IsR (B2 V0 i)) (h3 : ∀ i, IsR (B3 V0 i)) (b n c : ℕ) :
    -dplG (B1 V0) (B2 V0) (B3 V0) b n c
      + (∑ k : Fin 2048, if n + k.val < 2048 then qG (B1 V0) (B2 V0) (B3 V0) b (n + k.val) c + -qG (B1 V0) (B2 V0) (B3 V0) b (n + k.val + wid c) c else 0)
      + alpha * dp0 (B1 V0) b n c = dhG (B1 V0) (B2 V0) (B3 V0) b n c := by
  rw [back_eq _ _ _ h1 h2 h3]
  unfold dhG qG
  rw [add_comm, add_comm (-_), ← sub_eq_add_neg]

theorem run' (m : (ℓ : Loc nD τ sig) → Buf (Elt Ideal) ℓ) (ρ : Dev nD → PrngReg)
    (h0 : ∀ c i, IsR (B0 (StableHlo.launchContents m c) i)) (h1 : ∀ c i, IsR (B1 (StableHlo.launchContents m c) i))
    (h2 : ∀ c i, IsR (B2 (StableHlo.launchContents m c) i)) (h3 : ∀ c i, IsR (B3 (StableHlo.launchContents m c) i)) :
    θ_run defs (onTc (τ := τ) (main (F := Ideal))) ⟨m, fun _ => 0, ρ⟩ fun r => ∀ c : Dev nD,
      r.2.mem ((c.tc : Thread nD τ).loc main_v165) = GH (B1 (StableHlo.launchContents m c)) (B2 (StableHlo.launchContents m c)) (B3 (StableHlo.launchContents m c))
      ∧ r.2.mem ((c.tc : Thread nD τ).loc main_v104) = GW (B0 (StableHlo.launchContents m c)) (B1 (StableHlo.launchContents m c)) (B3 (StableHlo.launchContents m c))
      ∧ r.2.mem ((c.tc : Thread nD τ).loc main_v162) = GS (B0 (StableHlo.launchContents m c)) (B1 (StableHlo.launchContents m c)) (B2 (StableHlo.launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h d => ⟨(h d).1.trans (funext fun i => ?_), (h d).2.1.trans (funext fun i => ?_), (h d).2.2.1.trans (funext fun i => ?_), (h d).2.2.2⟩) (Value.run m ρ)
  all_goals
    clear h r
    have h0 := h0 d
    have h1 := h1 d
    have h2 := h2 d
    have h3 := h3 d
    generalize StableHlo.launchContents m d = V0 at h0 h1 h2 h3 ⊢
  · obtain ⟨b, n, c, rfl⟩ : ∃ (b : Fin 4) (n : Fin 2048) (c : Fin 1024), i = ix3 b n c := ⟨_, _, _, eq_ix3 i⟩
    refine Eq.trans ?_ (dh_parts V0 h1 h2 h3 b.val n.val c.val)
    have e : 256 * (c.val / 256) + c.val % 256 = c.val := by omega
    pointwise
    refine congrArg₂ (fun x y : EReal => x + y) (congrArg₂ (fun x y : EReal => x + y) (congrArg (fun x : EReal => -x) ?_) ?_) ?_
    · rw [v102_apply]
      show dplG _ _ _ b.val n.val (256 * (c.val / 256) + c.val % 256) = _
      rw [e]
    · refine (host_bwd _ _ _ _ ?_ _).trans ?_
      · pointwise
      · refine congrArg (fun F : Fin 2048 → EReal => ∑ q, F q) (funext fun k => ?_)
        show (if hn : n.val + k.val < 2048 then _ else (0 : EReal)) = _
        split
        · next hk =>
          pointwise
          have e1 : (⟨1 + (n.val + k.val), by omega⟩ : Fin 2049) = ⟨(n.val + k.val) + 1, by omega⟩ := Fin.ext (Nat.add_comm _ _)
          refine (congrArg (fun q : Fin 2049 => (res_main_v156 V0 : S4x2049x4x256.Idx → EReal) (ix4 b q ⟨c.val / 256, by omega⟩ ⟨c.val % 256, by omega⟩)) e1).trans ?_
          refine (v156_apply V0 b ⟨n.val + k.val, hk⟩ ⟨c.val / 256, by omega⟩ ⟨c.val % 256, by omega⟩).trans ?_
          show qG _ _ _ b.val (n.val + k.val) (256 * (c.val / 256) + c.val % 256) + -qG _ _ _ b.val (n.val + k.val + wid (256 * (c.val / 256) + c.val % 256)) (256 * (c.val / 256) + c.val % 256) = _
          rw [e]
        · rfl
    · refine congrArg (fun x : EReal => alpha * x) ?_
      unfold dp0
      rw [dif_pos (by omega)]
  · obtain ⟨g, x, o, rfl⟩ : ∃ (g : Fin 4) (x : Fin 256) (o : Fin 256), i = ix3 g x o := ⟨_, _, _, eq_ix3 i⟩
    refine Eq.trans ?_ (Fin.sum_points_lanes 4 4 512 fun b n => plG (B0 V0) b n (256 * g.val + x.val) * (dp0 (B1 V0) b n (256 * g.val + o.val) * sc (B3 V0) (256 * g.val + o.val))).symm
    pointwise
    refine congrArg (fun F : Fin 4 → EReal => ∑ q, F q) (funext fun b => congrArg (fun F : Fin 2048 → EReal => ∑ q, F q) (funext fun n => ?_))
    rw [v100_apply, v83_real V0 h0, mul_comm]
  · obtain ⟨z, c, rfl⟩ : ∃ (z : Fin 1) (c : Fin 1024), i = ix2 z c := ⟨_, _, eq_ix2 i⟩
    refine Eq.trans ?_ (Fin.sum_points_lanes 4 4 512 fun b n => dp0 (B1 V0) b n c.val
      * ∑ i : Fin 256, plG (B0 V0) b n (256 * (c.val / 256) + i.val) * wt (B2 V0) (c.val / 256) i ⟨c.val % 256, by omega⟩).symm
    refine (ds_read (res_main_v86 V0) (res_main_v92 V0) _ _ _ _ _ z c).trans ?_
    refine congrArg (fun F : Fin 4 → EReal => ∑ q, F q) (funext fun b => congrArg (fun F : Fin 2048 → EReal => ∑ q, F q) (funext fun n => ?_))
    exact (congrArg₂ (fun x y : EReal => x * y) (v86_apply V0 h0 b n c) (v92_apply V0 b n c)).trans (mul_comm _ _)

end Cert.PoolRef
-- ==== Proof.Pool.Claim.lean ====
/-
  The kernel and the reference end with the same three arrays, where every argument is finite.
-/
module

public import proofs.«01_k».proof.Defs
public import proofs.«01_k».proof.Proof.Pool.RefB

@[expose] public section

set_option maxRecDepth 16384

noncomputable section

namespace Cert.Pool

open Cert.PoolRef
open Idealize.ShloMosaic Idealize.ShloMosaic.TcCoe Idealize.SL.Sem

/-- The shape relations the precondition states. -/
instance pre_facts : Cert.Pre_finite.Facts := ⟨by decide, by decide, by decide⟩

theorem inf_f32 : Ideal.ofBits .f32 0x7F800000#32 = ⊤ := by
  simp [Ideal.ofBits, Ideal.ieee]

/-- An element whose absolute value compares below infinity is a real number. -/
theorem isR_of_lt {s : Shape} (x : s.Idx → EReal) (h) (e : cmpf (F := Ideal) (φ := .f32) .olt (Host.absf (F := Ideal) (φ := .f32) x) (broadcastInDim s ![] h (constant (⟨0, ![]⟩ : Shape) .f32 0x7F800000#32)) = fun _ => 1#1)
    (i : s.Idx) : IsR (x i) := by
  have e1 : BitVec.ofBool (decide (max (x i) (-(x i)) < Ideal.ofBits .f32 0x7F800000#32)) = 1#1 := congrFun e i
  have e2 : max (x i) (-(x i)) < ⊤ := by
    rw [inf_f32] at e1
    by_contra hn
    rw [decide_eq_false hn] at e1
    exact absurd e1 (by decide)
  have h1 : x i < ⊤ := lt_of_le_of_lt (le_max_left _ _) e2
  have h2 : -(x i) < ⊤ := lt_of_le_of_lt (le_max_right _ _) e2
  have h3 : x i ≠ ⊥ := fun hb => by rw [hb, EReal.neg_bot] at h2; exact lt_irrefl _ h2
  exact ⟨(x i).toReal, (EReal.coe_toReal h1.ne h3).symm⟩

theorem algebraic : Cert.algebraic_KernelIdeal_ReferenceIdeal_pre_finite := fun m g m' g' hp hag => by
  have r0 : ∀ c i, IsR (A0 m c i) := fun c i => isR_of_lt (A0 m c) _ (hp c).1 i
  have r1 : ∀ c i, IsR (A1 m c i) := fun c i => isR_of_lt (A1 m c) _ (hp c).2.1 i
  have r2 : ∀ c i, IsR (A2 m c i) := fun c i => isR_of_lt (A2 m c) _ (hp c).2.2.1 i
  have r3 : ∀ c i, IsR (A3 m c i) := fun c i => isR_of_lt (A3 m c) _ (hp c).2.2.2 i
  have b0 : ∀ c, B0 (StableHlo.launchContents m' c) = A0 m c := fun c => (hag c).1
  have b1 : ∀ c, B1 (StableHlo.launchContents m' c) = A1 m c := fun c => (hag c).2.1
  have b2 : ∀ c, B2 (StableHlo.launchContents m' c) = A2 m c := fun c => (hag c).2.2.1
  have b3 : ∀ c, B3 (StableHlo.launchContents m' c) = A3 m c := fun c => (hag c).2.2.2
  refine ⟨fun c => (Cert.KernelIdeal.Gen.dats m 0 c).arrAt 6 Cert.KernelIdeal.cfg0.N, fun c => (Cert.KernelIdeal.Gen.dats m 0 c).arrAt 7 Cert.KernelIdeal.cfg0.N,
    fun c => (Cert.KernelIdeal.Gen.dats m 0 c).arrAt 8 Cert.KernelIdeal.cfg0.N, Cert.KernelIdeal.Value.run_blocks m g,
    (θ_run _ _ _).mono (fun r h c => ⟨?_, ?_, ?_, (h c).2.2.2⟩)
      (Cert.PoolRef.run' m' g' (fun c i => by rw [b0 c]; exact r0 c i) (fun c i => by rw [b1 c]; exact r1 c i) (fun c i => by rw [b2 c]; exact r2 c i) (fun c i => by rw [b3 c]; exact r3 c i))⟩
  · refine (h c).1.trans ?_
    dsimp only
    rw [final6 m c, b1, b2, b3]
  · refine (h c).2.1.trans ?_
    dsimp only
    rw [final7 m c, b0, b1, b3]
  · refine (h c).2.2.1.trans ?_
    dsimp only
    rw [final8 m c, b0, b1, b2]

end Cert.Pool
-- ==== Proof.GateUp.Value.lean ====
module

public import proofs.«01_k».proof.Proof.Gen.GateUpBwdIdeal.Value
public import Idealize.ShloMosaic.Lib.Pipeline.ValueKit
public import proofs.«01_k».proof.Proof.Gen.GateUpBwdRefIdeal.Run

@[expose] public section

set_option maxRecDepth 16384

noncomputable section

namespace Cert.GateUp

open Cert.GateUpBwdIdeal Cert.GateUpBwdIdeal.Gen
open Idealize.ShloMosaic Idealize.ShloMosaic.TcCoe Idealize.SL.Sem
open Idealize.ShloMosaic.Pipeline (Dat)

/-- One point's product: both pairs of blocks multiplied, and the two products added. -/
theorem pay1_apply (v0 : Vec Ideal S1x2048x704 .bf16) (v2 : Vec Ideal S1x1024x704 .bf16) (v5 : Vec Ideal S1x2048x704 .bf16)
    (v7 : Vec Ideal S1x1024x704 .bf16) (y : S2048x1024.Idx) : k0_pay1 v0 v2 v5 v7 y =
      ∑ x, v0 (ix3 0 (y 0) x) * v2 (ix3 0 (y 1) x) + ∑ x, v5 (ix3 0 (y 0) x) * v7 (ix3 0 (y 1) x) := by
  unfold k0_pay1
  pointwise

variable (m : (ℓ : Loc nD τ sig) → Buf (Elt Ideal) ℓ)

theorem idx : ∀ t : Fin cfg0.N, win0_0.index t = ![t.val % 4, t.val / 4, 0] ∧ win0_1.index t = ![t.val % 4, 0, 0] ∧
    win0_2.index t = ![t.val % 4, t.val / 4, 0] ∧ win0_3.index t = ![t.val % 4, 0, 0] ∧ win0_4.index t = ![t.val / 4, 0] := by
  decide +kernel

/-- The sum over the shards and their columns of both products. -/
def G (a0 a1 : Vec Ideal S4x8192x704 .bf16) (a2 a3 : Vec Ideal S4x1024x704 .bf16) (i : S8192x1024.Idx) : EReal :=
  ∑ q : Fin 4, (∑ x, a0 (ix3 q (i 0) x) * a2 (ix3 q (i 1) x) + ∑ x, a1 (ix3 q (i 0) x) * a3 (ix3 q (i 1) x))

theorem final (c : Dev nD) : (dats m 0 c).arrAt 4 cfg0.N =
    G (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t hf y => ?_
  blk_simp
  rw [after0_4]
  refine (Pipeline.eq_sum_fin_of_reset_step_apply_of_flush (fun n h => outsAt0 m c n h) 4 (fun _ => (0 : EReal))
    (fun t j => k0_pay1 (iblk m c 0 t) (iblk m c 1 t) (iblk m c 2 t) (iblk m c 3 t) j)
    (fun t h j => ?_) (fun t h j => ?_) t ((flush0_4 t).mp hf) y).trans ?_
  · rw [outsAt0_A m c t h (by omega)]; frame_out
    exact (zero_add _).symm
  · rw [outsAt0_B m c t h (by omega)]; frame_out
    unfold k0_pay2
    pointwise
  · simp only [pay1_apply, G, zero_add]
    refine Finset.sum_congr rfl fun k _ => ?_
    generalize hs : (⟨4 * (t.val / 4) + k.val, Pipeline.run_point_lt_of_flush t ((flush0_4 t).mp hf) k⟩ : Fin cfg0.N) = s
    have hv : s.val = 4 * (t.val / 4) + k.val := by rw [← hs]
    have hk := k.isLt
    blk_point [iblk, V, idx t, idx s]

end Cert.GateUp

namespace Cert.GateUp

open Cert.GateUpBwdRefIdeal
open Idealize.ShloMosaic Idealize.ShloMosaic.TcCoe Idealize.SL.Sem

/-- The reference's run: its result is the same sum. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) =
          G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans (funext fun i => ?_), (h c).2⟩) (Value.run m ρ)
  pointwise
  unfold G
  rw [Finset.sum_add_distrib, add_comm]

end Cert.GateUp

end
-- ==== Proof.GateUp.Claim.lean ====
module

public import proofs.«01_k».proof.Defs
public import proofs.«01_k».proof.Proof.GateUp.Value

@[expose] public section

noncomputable section

namespace Cert.GateUp

open Idealize.ShloMosaic Idealize.SL.Sem

/-- The gradient that the kernel writes is the reference's. -/
theorem algebraic : Cert.algebraic_GateUpBwdIdeal_GateUpBwdRefIdeal := fun m g m' g' _ hag =>
  ⟨fun c => (Cert.GateUpBwdIdeal.Gen.dats m 0 c).arrAt 4 Cert.GateUpBwdIdeal.cfg0.N, Cert.GateUpBwdIdeal.Value.run_blocks m g,
    (θ_run _ _ _).mono (fun r h c => ⟨by
      obtain ⟨h0, h1, h2, h3⟩ := hag c
      refine (h c).1.trans ?_
      dsimp only
      rw [final m c, h0, h1, h2, h3], (h c).2⟩) (ref_run m' g')⟩

end Cert.GateUp

end
-- ==== Proof.Prod.DownBwd.lean ====
module

public import proofs.«01_k».proof.Proof.Gen.DownBwdIdeal.Value
public import Idealize.ShloMosaic.Lib.Pipeline.ValueKit
public import proofs.«01_k».proof.Proof.Gen.DownBwdRefIdeal.Run

@[expose] public section

set_option maxRecDepth 16384

noncomputable section

namespace Cert.DownBwdV

open Cert.DownBwdIdeal Cert.DownBwdIdeal.Gen
open Idealize.ShloMosaic Idealize.ShloMosaic.TcCoe Idealize.SL.Sem

/-- One point's product of its two blocks. -/
theorem pay_apply (v0 : Vec Ideal S2048x1024 .bf16) (v1 : Vec Ideal S1x704x1024 .bf16) (y : S1x2048x704.Idx) :
    k0_pay1 v0 v1 y = ∑ x, v0 (ix2 (y 1) x) * v1 (ix3 0 (y 2) x) := by
  unfold k0_pay1
  pointwise

variable (m : (ℓ : Loc nD τ sig) → Buf (Elt Ideal) ℓ)

theorem idx : ∀ t : Fin cfg0.N, win0_0.index t = ![t.val % 4, 0] ∧ win0_1.index t = ![t.val / 4, 0, 0] ∧ win0_2.index t = ![t.val / 4, t.val % 4, 0] := by
  decide +kernel

/-- Each row of the gradient times each row of a shard. -/
def G (a0 : S8192x1024.Idx → EReal) (a1 : S4x704x1024.Idx → EReal) (i : S4x8192x704.Idx) : EReal :=
  ∑ x, a0 (ix2 (i 1) x) * a1 (ix3 (i 0) (i 2) x)

/-- What the kernel leaves in its result. -/
theorem final (c : Dev nD) : (dats m 0 c).arrAt 2 cfg0.N =
    G (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [pay_apply]
  unfold G
  blk_point [iblk, V, idx t]

end Cert.DownBwdV

namespace Cert.DownBwdV

open Cert.DownBwdRefIdeal
open Idealize.ShloMosaic Idealize.ShloMosaic.TcCoe Idealize.SL.Sem

/-- The reference's run: its result is the same array. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) =
          G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans (funext fun i => ?_), (h c).2⟩) (Value.run m ρ)
  pointwise
  unfold G
  rfl

end Cert.DownBwdV

end
-- ==== Proof.Prod.GateUpProj.lean ====
module

public import proofs.«01_k».proof.Proof.Gen.GateUpProjIdeal.Value
public import Idealize.ShloMosaic.Lib.Pipeline.ValueKit
public import proofs.«01_k».proof.Proof.Gen.GateUpProjRefIdeal.Run

@[expose] public section

set_option maxRecDepth 16384

noncomputable section

namespace Cert.GateUpProjV

open Cert.GateUpProjIdeal Cert.GateUpProjIdeal.Gen
open Idealize.ShloMosaic Idealize.ShloMosaic.TcCoe Idealize.SL.Sem

/-- One point's product of its two blocks. -/
theorem pay_apply (v0 : Vec Ideal S2048x1024 .bf16) (v1 : Vec Ideal S1x1024x704 .bf16) (y : S1x2048x704.Idx) :
    k0_pay1 v0 v1 y = ∑ x, v0 (ix2 (y 1) x) * v1 (ix3 0 x (y 2)) := by
  unfold k0_pay1
  pointwise

variable (m : (ℓ : Loc nD τ sig) → Buf (Elt Ideal) ℓ)

theorem idx : ∀ t : Fin cfg0.N, win0_0.index t = ![t.val % 4, 0] ∧ win0_1.index t = ![t.val / 4, 0, 0] ∧ win0_2.index t = ![t.val / 4, t.val % 4, 0] := by
  decide +kernel

/-- Each row of the input times each column of a shard. -/
def G (a0 : S8192x1024.Idx → EReal) (a1 : S4x1024x704.Idx → EReal) (i : S4x8192x704.Idx) : EReal :=
  ∑ x, a0 (ix2 (i 1) x) * a1 (ix3 (i 0) x (i 2))

/-- What the kernel leaves in its result. -/
theorem final (c : Dev nD) : (dats m 0 c).arrAt 2 cfg0.N =
    G (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [pay_apply]
  unfold G
  blk_point [iblk, V, idx t]

end Cert.GateUpProjV

namespace Cert.GateUpProjV

open Cert.GateUpProjRefIdeal
open Idealize.ShloMosaic Idealize.ShloMosaic.TcCoe Idealize.SL.Sem

/-- The reference's run: its result is the same array. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) =
          G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans (funext fun i => ?_), (h c).2⟩) (Value.run m ρ)
  pointwise
  unfold G
  exact Finset.sum_congr rfl fun x _ => mul_comm _ _

end Cert.GateUpProjV

end
-- ==== Proof.Prod.DownDw.lean ====
module

public import proofs.«01_k».proof.Proof.Gen.DownDwIdeal.Value
public import Idealize.ShloMosaic.Lib.Pipeline.ValueKit
public import proofs.«01_k».proof.Proof.Gen.DownDwRefIdeal.Run

@[expose] public section

set_option maxRecDepth 16384

noncomputable section

namespace Cert.DownDwV

open Cert.DownDwIdeal Cert.DownDwIdeal.Gen
open Idealize.ShloMosaic Idealize.ShloMosaic.TcCoe Idealize.SL.Sem

/-- One point's product of its two blocks. -/
theorem pay_apply (v0 : Vec Ideal S1x2048x704 .bf16) (v1 : Vec Ideal S2048x1024 .bf16) (y : S1x704x1024.Idx) :
    k0_pay2 v0 v1 y = ∑ x, v0 (ix3 0 x (y 1)) * v1 (ix2 x (y 2)) := by
  unfold k0_pay2 k0_pay1
  pointwise

variable (m : (ℓ : Loc nD τ sig) → Buf (Elt Ideal) ℓ)

theorem idx : ∀ t : Fin cfg0.N, win0_0.index t = ![t.val / 4, t.val % 4, 0] ∧ win0_1.index t = ![t.val % 4, 0] ∧ win0_2.index t = ![t.val / 4, 0, 0] := by
  decide +kernel

/-- The sum over every token of the two columns' product. -/
def G (a0 : S4x8192x704.Idx → EReal) (a1 : S8192x1024.Idx → EReal) (i : S4x704x1024.Idx) : EReal :=
  ∑ x : Fin 8192, a0 (ix3 (i 0) x (i 1)) * a1 (ix2 x (i 2))

/-- What the kernel leaves in its result. -/
theorem final (c : Dev nD) : (dats m 0 c).arrAt 2 cfg0.N =
    G (m ((c.tc : Thread nD τ).loc main_arg0)) (m ((c.tc : Thread nD τ).loc main_arg1)) := by
  refine (dats m 0 c).arrAt_eq_of_covers 2 _ (by decide +kernel) fun t hf y => ?_
  blk_simp
  rw [after0_2]
  refine (Pipeline.eq_sum_fin_of_reset_step_apply_of_flush (fun n h => outsAt0 m c n h) 4 (fun _ => (0 : EReal))
    (fun t j => k0_pay2 (iblk m c 0 t) (iblk m c 1 t) j) (fun t h j => ?_) (fun t h j => ?_) t ((flush0_2 t).mp hf) y).trans ?_
  · rw [outsAt0_A m c t h (by omega)]; frame_out
    exact (zero_add _).symm
  · rw [outsAt0_B m c t h (by omega)]; frame_out
    unfold k0_pay3
    unfold k0_pay2
    pointwise
  · simp only [pay_apply, G, zero_add]
    refine Fin.sum_mul_add_congr (S := 4) (n := 2048) fun k x hx => ?_
    generalize hs : (⟨4 * (t.val / 4) + k.val, Pipeline.run_point_lt_of_flush t ((flush0_2 t).mp hf) k⟩ : Fin cfg0.N) = s
    have hv : s.val = 4 * (t.val / 4) + k.val := by rw [← hs]
    have hk := k.isLt
    blk_point [iblk, V, idx t, idx s]

end Cert.DownDwV

namespace Cert.DownDwV

open Cert.DownDwRefIdeal
open Idealize.ShloMosaic Idealize.ShloMosaic.TcCoe Idealize.SL.Sem

/-- The reference's run: its result is the same array. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) =
          G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans (funext fun i => ?_), (h c).2⟩) (Value.run m ρ)
  pointwise
  unfold G
  exact Finset.sum_congr rfl fun x _ => mul_comm _ _

end Cert.DownDwV

end
-- ==== Proof.Prod.GateUpDw.lean ====
module

public import proofs.«01_k».proof.Proof.Gen.GateUpDwIdeal.Value
public import Idealize.ShloMosaic.Lib.Pipeline.ValueKit
public import proofs.«01_k».proof.Proof.Gen.GateUpDwRefIdeal.Run

@[expose] public section

set_option maxRecDepth 16384

noncomputable section

namespace Cert.GateUpDwV

open Cert.GateUpDwIdeal Cert.GateUpDwIdeal.Gen
open Idealize.ShloMosaic Idealize.ShloMosaic.TcCoe Idealize.SL.Sem

/-- One point's product of its two blocks. -/
theorem pay_apply (v0 : Vec Ideal S2048x1024 .bf16) (v1 : Vec Ideal S1x2048x704 .bf16) (y : S1x1024x704.Idx) :
    k0_pay2 v0 v1 y = ∑ x, v0 (ix2 x (y 1)) * v1 (ix3 0 x (y 2)) := by
  unfold k0_pay2 k0_pay1
  pointwise

variable (m : (ℓ : Loc nD τ sig) → Buf (Elt Ideal) ℓ)

theorem idx : ∀ t : Fin cfg0.N, win0_0.index t = ![t.val % 4, 0] ∧ win0_1.index t = ![t.val / 4, t.val % 4, 0] ∧ win0_2.index t = ![t.val / 4, 0, 0] := by
  decide +kernel

/-- The sum over every token of the two columns' product. -/
def G (a0 : S8192x1024.Idx → EReal) (a1 : S4x8192x704.Idx → EReal) (i : S4x1024x704.Idx) : EReal :=
  ∑ x : Fin 8192, a0 (ix2 x (i 1)) * a1 (ix3 (i 0) x (i 2))

/-- What the kernel leaves in its result. -/
theorem final (c : Dev nD) : (dats m 0 c).arrAt 2 cfg0.N =
    G (m ((c.tc : Thread nD τ).loc main_arg0)) (m ((c.tc : Thread nD τ).loc main_arg1)) := by
  refine (dats m 0 c).arrAt_eq_of_covers 2 _ (by decide +kernel) fun t hf y => ?_
  blk_simp
  rw [after0_2]
  refine (Pipeline.eq_sum_fin_of_reset_step_apply_of_flush (fun n h => outsAt0 m c n h) 4 (fun _ => (0 : EReal))
    (fun t j => k0_pay2 (iblk m c 0 t) (iblk m c 1 t) j) (fun t h j => ?_) (fun t h j => ?_) t ((flush0_2 t).mp hf) y).trans ?_
  · rw [outsAt0_A m c t h (by omega)]; frame_out
    exact (zero_add _).symm
  · rw [outsAt0_B m c t h (by omega)]; frame_out
    unfold k0_pay3
    unfold k0_pay2
    pointwise
  · simp only [pay_apply, G, zero_add]
    refine Fin.sum_mul_add_congr (S := 4) (n := 2048) fun k x hx => ?_
    generalize hs : (⟨4 * (t.val / 4) + k.val, Pipeline.run_point_lt_of_flush t ((flush0_2 t).mp hf) k⟩ : Fin cfg0.N) = s
    have hv : s.val = 4 * (t.val / 4) + k.val := by rw [← hs]
    have hk := k.isLt
    blk_point [iblk, V, idx t, idx s]

end Cert.GateUpDwV

namespace Cert.GateUpDwV

open Cert.GateUpDwRefIdeal
open Idealize.ShloMosaic Idealize.ShloMosaic.TcCoe Idealize.SL.Sem

/-- The reference's run: its result is the same array. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) =
          G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans (funext fun i => ?_), (h c).2⟩) (Value.run m ρ)
  pointwise
  unfold G
  exact Finset.sum_congr rfl fun x _ => mul_comm _ _

end Cert.GateUpDwV

end
-- ==== Proof.Prod.DownProj.lean ====
module

public import proofs.«01_k».proof.Proof.Gen.DownProjIdeal.Value
public import Idealize.ShloMosaic.Lib.Pipeline.ValueKit
public import proofs.«01_k».proof.Proof.Gen.DownProjRefIdeal.Run

@[expose] public section

set_option maxRecDepth 16384

noncomputable section

namespace Cert.DownProjV

open Cert.DownProjIdeal Cert.DownProjIdeal.Gen
open Idealize.ShloMosaic Idealize.ShloMosaic.TcCoe Idealize.SL.Sem

/-- One point's product of its two blocks. -/
theorem pay_apply (v0 : Vec Ideal S1x2048x704 .bf16) (v1 : Vec Ideal S1x704x1024 .bf16) (y : S2048x1024.Idx) :
    k0_pay1 v0 v1 y = ∑ x, v0 (ix3 0 (y 0) x) * v1 (ix3 0 x (y 1)) := by
  unfold k0_pay1
  pointwise

variable (m : (ℓ : Loc nD τ sig) → Buf (Elt Ideal) ℓ)

theorem idx : ∀ t : Fin cfg0.N, win0_0.index t = ![t.val % 4, t.val / 4, 0] ∧ win0_1.index t = ![t.val % 4, 0, 0] ∧ win0_2.index t = ![t.val / 4, 0] := by
  decide +kernel

/-- The sum over the shards and their columns. -/
def G (a0 : S4x8192x704.Idx → EReal) (a1 : S4x704x1024.Idx → EReal) (i : S8192x1024.Idx) : EReal :=
  ∑ q : Fin 4, ∑ x, a0 (ix3 q (i 0) x) * a1 (ix3 q x (i 1))

/-- What the kernel leaves in its result. -/
theorem final (c : Dev nD) : (dats m 0 c).arrAt 2 cfg0.N =
    G (m ((c.tc : Thread nD τ).loc main_arg0)) (m ((c.tc : Thread nD τ).loc main_arg1)) := by
  refine (dats m 0 c).arrAt_eq_of_covers 2 _ (by decide +kernel) fun t hf y => ?_
  blk_simp
  rw [after0_2]
  refine (Pipeline.eq_sum_fin_of_reset_step_apply_of_flush (fun n h => outsAt0 m c n h) 4 (fun _ => (0 : EReal))
    (fun t j => k0_pay1 (iblk m c 0 t) (iblk m c 1 t) j) (fun t h j => ?_) (fun t h j => ?_) t ((flush0_2 t).mp hf) y).trans ?_
  · rw [outsAt0_A m c t h (by omega)]; frame_out
    exact (zero_add _).symm
  · rw [outsAt0_B m c t h (by omega)]; frame_out
    unfold k0_pay2
    pointwise
  · simp only [pay_apply, G, zero_add]
    refine Finset.sum_congr rfl fun k _ => ?_
    generalize hs : (⟨4 * (t.val / 4) + k.val, Pipeline.run_point_lt_of_flush t ((flush0_2 t).mp hf) k⟩ : Fin cfg0.N) = s
    have hv : s.val = 4 * (t.val / 4) + k.val := by rw [← hs]
    have hk := k.isLt
    blk_point [iblk, V, idx t, idx s]

end Cert.DownProjV

namespace Cert.DownProjV

open Cert.DownProjRefIdeal
open Idealize.ShloMosaic Idealize.ShloMosaic.TcCoe Idealize.SL.Sem

/-- The reference's run: its result is the same array. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) =
          G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans (funext fun i => ?_), (h c).2⟩) (Value.run m ρ)
  pointwise
  unfold G
  exact Finset.sum_comm

end Cert.DownProjV

end
-- ==== Proof.Prod.KvBwd.lean ====
module

public import proofs.«01_k».proof.Proof.Gen.KvBwdIdeal.Value
public import Idealize.ShloMosaic.Lib.Pipeline.ValueKit
public import proofs.«01_k».proof.Proof.Gen.KvBwdRefIdeal.Run

@[expose] public section

set_option maxRecDepth 16384

noncomputable section

namespace Cert.KvBwdV

open Cert.KvBwdIdeal Cert.KvBwdIdeal.Gen
open Idealize.ShloMosaic Idealize.ShloMosaic.TcCoe Idealize.SL.Sem

/-- One point's product of its two blocks. -/
theorem pay_apply (v0 : Vec Ideal S2048x768 .bf16) (v1 : Vec Ideal S1x1024x768 .bf16) (y : S2048x1024.Idx) :
    k0_pay1 v0 v1 y = ∑ x, v0 (ix2 (y 0) x) * v1 (ix3 0 (y 1) x) := by
  unfold k0_pay1
  pointwise

variable (m : (ℓ : Loc nD τ sig) → Buf (Elt Ideal) ℓ)

theorem idx : ∀ t : Fin cfg0.N, win0_0.index t = ![t.val / 8, t.val % 8] ∧ win0_1.index t = ![t.val % 8 / 2, 0, t.val % 8 % 2] ∧ win0_2.index t = ![t.val / 8, 0] := by
  decide +kernel

/-- The sum over the columns of every shard, which stand side by side. -/
def G (a0 : S8192x6144.Idx → EReal) (a1 : S4x1024x1536.Idx → EReal) (i : S8192x1024.Idx) : EReal :=
  ∑ x : Fin 6144, a0 (ix2 (i 0) x) * a1 (ix3 ⟨x.val / 1536, by have := x.isLt; omega⟩ (i 1) ⟨x.val % 1536, Nat.mod_lt _ (by decide)⟩)

/-- What the kernel leaves in its result. -/
theorem final (c : Dev nD) : (dats m 0 c).arrAt 2 cfg0.N =
    G (m ((c.tc : Thread nD τ).loc main_arg0)) (m ((c.tc : Thread nD τ).loc main_arg1)) := by
  refine (dats m 0 c).arrAt_eq_of_covers 2 _ (by decide +kernel) fun t hf y => ?_
  blk_simp
  rw [after0_2]
  refine (Pipeline.eq_sum_fin_of_reset_step_apply_of_flush (fun n h => outsAt0 m c n h) 8 (fun _ => (0 : EReal))
    (fun t j => k0_pay1 (iblk m c 0 t) (iblk m c 1 t) j) (fun t h j => ?_) (fun t h j => ?_) t ((flush0_2 t).mp hf) y).trans ?_
  · rw [outsAt0_A m c t h (by omega)]; frame_out
    exact (zero_add _).symm
  · rw [outsAt0_B m c t h (by omega)]; frame_out
    unfold k0_pay2
    pointwise
  · simp only [pay_apply, G, zero_add]
    refine Fin.sum_mul_add_congr (S := 8) (n := 768) fun k x hx => ?_
    generalize hs : (⟨8 * (t.val / 8) + k.val, Pipeline.run_point_lt_of_flush t ((flush0_2 t).mp hf) k⟩ : Fin cfg0.N) = s
    have hv : s.val = 8 * (t.val / 8) + k.val := by rw [← hs]
    have hk := k.isLt
    blk_point [iblk, V, idx t, idx s]

end Cert.KvBwdV

namespace Cert.KvBwdV

open Cert.KvBwdRefIdeal
open Idealize.ShloMosaic Idealize.ShloMosaic.TcCoe Idealize.SL.Sem

/-- The reference's run: its result is the same array. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) =
          G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans (funext fun i => ?_), (h c).2⟩) (Value.run m ρ)
  pointwise
  unfold G
  rfl

end Cert.KvBwdV

end
-- ==== Proof.Prod.QBwd.lean ====
module

public import proofs.«01_k».proof.Proof.Gen.QBwdIdeal.Value
public import Idealize.ShloMosaic.Lib.Pipeline.ValueKit
public import proofs.«01_k».proof.Proof.Gen.QBwdRefIdeal.Run

@[expose] public section

set_option maxRecDepth 16384

noncomputable section

namespace Cert.QBwdV

open Cert.QBwdIdeal Cert.QBwdIdeal.Gen
open Idealize.ShloMosaic Idealize.ShloMosaic.TcCoe Idealize.SL.Sem

/-- One point's product of its two blocks. -/
theorem pay_apply (v0 : Vec Ideal S2048x768 .bf16) (v1 : Vec Ideal S1x1024x768 .bf16) (y : S2048x1024.Idx) :
    k0_pay1 v0 v1 y = ∑ x, v0 (ix2 (y 0) x) * v1 (ix3 0 (y 1) x) := by
  unfold k0_pay1
  pointwise

variable (m : (ℓ : Loc nD τ sig) → Buf (Elt Ideal) ℓ)

theorem idx : ∀ t : Fin cfg0.N, win0_0.index t = ![t.val / 4, t.val % 4] ∧ win0_1.index t = ![t.val % 4, 0, 0] ∧ win0_2.index t = ![t.val / 4, 0] := by
  decide +kernel

/-- The sum over the columns of every shard, which stand side by side. -/
def G (a0 : S8192x3072.Idx → EReal) (a1 : S4x1024x768.Idx → EReal) (i : S8192x1024.Idx) : EReal :=
  ∑ x : Fin 3072, a0 (ix2 (i 0) x) * a1 (ix3 ⟨x.val / 768, by have := x.isLt; omega⟩ (i 1) ⟨x.val % 768, Nat.mod_lt _ (by decide)⟩)

/-- What the kernel leaves in its result. -/
theorem final (c : Dev nD) : (dats m 0 c).arrAt 2 cfg0.N =
    G (m ((c.tc : Thread nD τ).loc main_arg0)) (m ((c.tc : Thread nD τ).loc main_arg1)) := by
  refine (dats m 0 c).arrAt_eq_of_covers 2 _ (by decide +kernel) fun t hf y => ?_
  blk_simp
  rw [after0_2]
  refine (Pipeline.eq_sum_fin_of_reset_step_apply_of_flush (fun n h => outsAt0 m c n h) 4 (fun _ => (0 : EReal))
    (fun t j => k0_pay1 (iblk m c 0 t) (iblk m c 1 t) j) (fun t h j => ?_) (fun t h j => ?_) t ((flush0_2 t).mp hf) y).trans ?_
  · rw [outsAt0_A m c t h (by omega)]; frame_out
    exact (zero_add _).symm
  · rw [outsAt0_B m c t h (by omega)]; frame_out
    unfold k0_pay2
    pointwise
  · simp only [pay_apply, G, zero_add]
    refine Fin.sum_mul_add_congr (S := 4) (n := 768) fun k x hx => ?_
    generalize hs : (⟨4 * (t.val / 4) + k.val, Pipeline.run_point_lt_of_flush t ((flush0_2 t).mp hf) k⟩ : Fin cfg0.N) = s
    have hv : s.val = 4 * (t.val / 4) + k.val := by rw [← hs]
    have hk := k.isLt
    blk_point [iblk, V, idx t, idx s]

end Cert.QBwdV

namespace Cert.QBwdV

open Cert.QBwdRefIdeal
open Idealize.ShloMosaic Idealize.ShloMosaic.TcCoe Idealize.SL.Sem

/-- The reference's run: its result is the same array. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) =
          G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans (funext fun i => ?_), (h c).2⟩) (Value.run m ρ)
  pointwise
  unfold G
  rfl

end Cert.QBwdV

end
-- ==== Proof.Prod.KvDw.lean ====
module

public import proofs.«01_k».proof.Proof.Gen.KvDwIdeal.Value
public import Idealize.ShloMosaic.Lib.Pipeline.ValueKit
public import proofs.«01_k».proof.Proof.Gen.KvDwRefIdeal.Run

@[expose] public section

set_option maxRecDepth 16384

noncomputable section

namespace Cert.KvDwV

open Cert.KvDwIdeal Cert.KvDwIdeal.Gen
open Idealize.ShloMosaic Idealize.ShloMosaic.TcCoe Idealize.SL.Sem

/-- One point's product of its two blocks. -/
theorem pay_apply (v0 : Vec Ideal S2048x1024 .bf16) (v1 : Vec Ideal S2048x768 .bf16) (y : S1x1024x768.Idx) :
    k0_pay2 v0 v1 y = ∑ x, v0 (ix2 x (y 1)) * v1 (ix2 x (y 2)) := by
  unfold k0_pay2 k0_pay1
  pointwise

variable (m : (ℓ : Loc nD τ sig) → Buf (Elt Ideal) ℓ)

theorem idx : ∀ t : Fin cfg0.N, win0_0.index t = ![t.val % 4, 0] ∧ win0_1.index t = ![t.val % 4, t.val / 4] ∧ win0_2.index t = ![t.val / 4 / 2, 0, t.val / 4 % 2] := by
  decide +kernel

/-- The sum over every token of the two columns' product; the shards' columns stand side by side in the second array. -/
def G (a0 : S8192x1024.Idx → EReal) (a1 : S8192x6144.Idx → EReal) (i : S4x1024x1536.Idx) : EReal :=
  ∑ x : Fin 8192, a0 (ix2 x (i 1)) * a1 (ix2 x ⟨(i 0).val * 1536 + (i 2).val, by have h0 := (i 0).isLt; have h2 := (i 2).isLt; dsimp at h0 h2; omega⟩)

/-- What the kernel leaves in its result. -/
theorem final (c : Dev nD) : (dats m 0 c).arrAt 2 cfg0.N =
    G (m ((c.tc : Thread nD τ).loc main_arg0)) (m ((c.tc : Thread nD τ).loc main_arg1)) := by
  refine (dats m 0 c).arrAt_eq_of_covers 2 _ (by decide +kernel) fun t hf y => ?_
  blk_simp
  rw [after0_2]
  refine (Pipeline.eq_sum_fin_of_reset_step_apply_of_flush (fun n h => outsAt0 m c n h) 4 (fun _ => (0 : EReal))
    (fun t j => k0_pay2 (iblk m c 0 t) (iblk m c 1 t) j) (fun t h j => ?_) (fun t h j => ?_) t ((flush0_2 t).mp hf) y).trans ?_
  · rw [outsAt0_A m c t h (by omega)]; frame_out
    exact (zero_add _).symm
  · rw [outsAt0_B m c t h (by omega)]; frame_out
    unfold k0_pay3
    unfold k0_pay2
    pointwise
  · simp only [pay_apply, G, zero_add]
    refine Fin.sum_mul_add_congr (S := 4) (n := 2048) fun k x hx => ?_
    generalize hs : (⟨4 * (t.val / 4) + k.val, Pipeline.run_point_lt_of_flush t ((flush0_2 t).mp hf) k⟩ : Fin cfg0.N) = s
    have hv : s.val = 4 * (t.val / 4) + k.val := by rw [← hs]
    have hk := k.isLt
    blk_point [iblk, V, idx t, idx s]

end Cert.KvDwV

namespace Cert.KvDwV

open Cert.KvDwRefIdeal
open Idealize.ShloMosaic Idealize.ShloMosaic.TcCoe Idealize.SL.Sem

/-- The reference's run: its result is the same array. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) =
          G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans (funext fun i => ?_), (h c).2⟩) (Value.run m ρ)
  pointwise
  unfold G
  exact Finset.sum_congr rfl fun x _ => mul_comm _ _

end Cert.KvDwV

end
-- ==== Proof.Prod.QDw.lean ====
module

public import proofs.«01_k».proof.Proof.Gen.QDwIdeal.Value
public import Idealize.ShloMosaic.Lib.Pipeline.ValueKit
public import proofs.«01_k».proof.Proof.Gen.QDwRefIdeal.Run

@[expose] public section

set_option maxRecDepth 16384

noncomputable section

namespace Cert.QDwV

open Cert.QDwIdeal Cert.QDwIdeal.Gen
open Idealize.ShloMosaic Idealize.ShloMosaic.TcCoe Idealize.SL.Sem

/-- One point's product of its two blocks. -/
theorem pay_apply (v0 : Vec Ideal S2048x1024 .bf16) (v1 : Vec Ideal S2048x768 .bf16) (y : S1x1024x768.Idx) :
    k0_pay2 v0 v1 y = ∑ x, v0 (ix2 x (y 1)) * v1 (ix2 x (y 2)) := by
  unfold k0_pay2 k0_pay1
  pointwise

variable (m : (ℓ : Loc nD τ sig) → Buf (Elt Ideal) ℓ)

theorem idx : ∀ t : Fin cfg0.N, win0_0.index t = ![t.val % 4, 0] ∧ win0_1.index t = ![t.val % 4, t.val / 4] ∧ win0_2.index t = ![t.val / 4, 0, 0] := by
  decide +kernel

/-- The sum over every token of the two columns' product; the shards' columns stand side by side in the second array. -/
def G (a0 : S8192x1024.Idx → EReal) (a1 : S8192x3072.Idx → EReal) (i : S4x1024x768.Idx) : EReal :=
  ∑ x : Fin 8192, a0 (ix2 x (i 1)) * a1 (ix2 x ⟨(i 0).val * 768 + (i 2).val, by have h0 := (i 0).isLt; have h2 := (i 2).isLt; dsimp at h0 h2; omega⟩)

/-- What the kernel leaves in its result. -/
theorem final (c : Dev nD) : (dats m 0 c).arrAt 2 cfg0.N =
    G (m ((c.tc : Thread nD τ).loc main_arg0)) (m ((c.tc : Thread nD τ).loc main_arg1)) := by
  refine (dats m 0 c).arrAt_eq_of_covers 2 _ (by decide +kernel) fun t hf y => ?_
  blk_simp
  rw [after0_2]
  refine (Pipeline.eq_sum_fin_of_reset_step_apply_of_flush (fun n h => outsAt0 m c n h) 4 (fun _ => (0 : EReal))
    (fun t j => k0_pay2 (iblk m c 0 t) (iblk m c 1 t) j) (fun t h j => ?_) (fun t h j => ?_) t ((flush0_2 t).mp hf) y).trans ?_
  · rw [outsAt0_A m c t h (by omega)]; frame_out
    exact (zero_add _).symm
  · rw [outsAt0_B m c t h (by omega)]; frame_out
    unfold k0_pay3
    unfold k0_pay2
    pointwise
  · simp only [pay_apply, G, zero_add]
    refine Fin.sum_mul_add_congr (S := 4) (n := 2048) fun k x hx => ?_
    generalize hs : (⟨4 * (t.val / 4) + k.val, Pipeline.run_point_lt_of_flush t ((flush0_2 t).mp hf) k⟩ : Fin cfg0.N) = s
    have hv : s.val = 4 * (t.val / 4) + k.val := by rw [← hs]
    have hk := k.isLt
    blk_point [iblk, V, idx t, idx s]

end Cert.QDwV

namespace Cert.QDwV

open Cert.QDwRefIdeal
open Idealize.ShloMosaic Idealize.ShloMosaic.TcCoe Idealize.SL.Sem

/-- The reference's run: its result is the same array. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) =
          G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans (funext fun i => ?_), (h c).2⟩) (Value.run m ρ)
  pointwise
  unfold G
  exact Finset.sum_congr rfl fun x _ => mul_comm _ _

end Cert.QDwV

end
-- ==== Proof.Prod.ODw.lean ====
module

public import proofs.«01_k».proof.Proof.Gen.ODwIdeal.Value
public import Idealize.ShloMosaic.Lib.Pipeline.ValueKit
public import proofs.«01_k».proof.Proof.Gen.ODwRefIdeal.Run

@[expose] public section

set_option maxRecDepth 16384

noncomputable section

namespace Cert.ODwV

open Cert.ODwIdeal Cert.ODwIdeal.Gen
open Idealize.ShloMosaic Idealize.ShloMosaic.TcCoe Idealize.SL.Sem

/-- One point's product of its two blocks. -/
theorem pay_apply (v0 : Vec Ideal S2048x256 .bf16) (v1 : Vec Ideal S2048x1024 .bf16) (y : S1x256x1024.Idx) :
    k0_pay2 v0 v1 y = ∑ x, v0 (ix2 x (y 1)) * v1 (ix2 x (y 2)) := by
  unfold k0_pay2 k0_pay1
  pointwise

variable (m : (ℓ : Loc nD τ sig) → Buf (Elt Ideal) ℓ)

theorem idx : ∀ t : Fin cfg0.N, win0_0.index t = ![t.val % 4, t.val / 4] ∧ win0_1.index t = ![t.val % 4, 0] ∧ win0_2.index t = ![t.val / 4, 0, 0] := by
  decide +kernel

/-- The sum over every token of the two columns' product; the shards are runs of columns of the first array. -/
def G (a0 : S8192x1024.Idx → EReal) (a1 : S8192x1024.Idx → EReal) (i : S4x256x1024.Idx) : EReal :=
  ∑ x : Fin 8192, a0 (ix2 x ⟨(i 0).val * 256 + (i 1).val, by have h0 := (i 0).isLt; have h1 := (i 1).isLt; dsimp at h0 h1; omega⟩) * a1 (ix2 x (i 2))

/-- What the kernel leaves in its result. -/
theorem final (c : Dev nD) : (dats m 0 c).arrAt 2 cfg0.N =
    G (m ((c.tc : Thread nD τ).loc main_arg0)) (m ((c.tc : Thread nD τ).loc main_arg1)) := by
  refine (dats m 0 c).arrAt_eq_of_covers 2 _ (by decide +kernel) fun t hf y => ?_
  blk_simp
  rw [after0_2]
  refine (Pipeline.eq_sum_fin_of_reset_step_apply_of_flush (fun n h => outsAt0 m c n h) 4 (fun _ => (0 : EReal))
    (fun t j => k0_pay2 (iblk m c 0 t) (iblk m c 1 t) j) (fun t h j => ?_) (fun t h j => ?_) t ((flush0_2 t).mp hf) y).trans ?_
  · rw [outsAt0_A m c t h (by omega)]; frame_out
    exact (zero_add _).symm
  · rw [outsAt0_B m c t h (by omega)]; frame_out
    unfold k0_pay3
    unfold k0_pay2
    pointwise
  · simp only [pay_apply, G, zero_add]
    refine Fin.sum_mul_add_congr (S := 4) (n := 2048) fun k x hx => ?_
    generalize hs : (⟨4 * (t.val / 4) + k.val, Pipeline.run_point_lt_of_flush t ((flush0_2 t).mp hf) k⟩ : Fin cfg0.N) = s
    have hv : s.val = 4 * (t.val / 4) + k.val := by rw [← hs]
    have hk := k.isLt
    blk_point [iblk, V, idx t, idx s]

end Cert.ODwV

namespace Cert.ODwV

open Cert.ODwRefIdeal
open Idealize.ShloMosaic Idealize.ShloMosaic.TcCoe Idealize.SL.Sem

/-- The reference's run: its result is the same array. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) =
          G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans (funext fun i => ?_), (h c).2⟩) (Value.run m ρ)
  pointwise
  unfold G
  exact Finset.sum_congr rfl fun x _ => mul_comm _ _

end Cert.ODwV

end
-- ==== Proof.Prod.KvProj.lean ====
module

public import proofs.«01_k».proof.Proof.Gen.KvProjIdeal.Value
public import Idealize.ShloMosaic.Lib.Pipeline.ValueKit
public import proofs.«01_k».proof.Proof.Gen.KvProjRefIdeal.Run

@[expose] public section

set_option maxRecDepth 16384

noncomputable section

namespace Cert.KvProjV

open Cert.KvProjIdeal Cert.KvProjIdeal.Gen
open Idealize.ShloMosaic Idealize.ShloMosaic.TcCoe Idealize.SL.Sem

/-- One point's product of its two blocks. -/
theorem pay_apply (v0 : Vec Ideal S2048x1024 .bf16) (v1 : Vec Ideal S1x1024x768 .bf16) (y : S2048x768.Idx) :
    k0_pay1 v0 v1 y = ∑ x, v0 (ix2 (y 0) x) * v1 (ix3 0 x (y 1)) := by
  unfold k0_pay1
  pointwise

variable (m : (ℓ : Loc nD τ sig) → Buf (Elt Ideal) ℓ)

theorem idx : ∀ t : Fin cfg0.N, win0_0.index t = ![t.val % 4, 0] ∧ win0_1.index t = ![t.val / 4 / 2, 0, t.val / 4 % 2] ∧ win0_2.index t = ![t.val % 4, t.val / 4] := by
  decide +kernel

/-- Each row of the input times each column of the shards, which stand side by side. -/
def G (a0 : S8192x1024.Idx → EReal) (a1 : S4x1024x1536.Idx → EReal) (i : S8192x6144.Idx) : EReal :=
  ∑ x, a0 (ix2 (i 0) x) * a1 (ix3 ⟨(i 1).val / 1536, by have := (i 1).isLt; dsimp at this; omega⟩ x ⟨(i 1).val % 1536, Nat.mod_lt _ (by decide)⟩)

/-- What the kernel leaves in its result. -/
theorem final (c : Dev nD) : (dats m 0 c).arrAt 2 cfg0.N =
    G (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [pay_apply]
  unfold G
  blk_point [iblk, V, idx t]

end Cert.KvProjV

namespace Cert.KvProjV

open Cert.KvProjRefIdeal
open Idealize.ShloMosaic Idealize.ShloMosaic.TcCoe Idealize.SL.Sem

/-- The reference's run: its result is the same array. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) =
          G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans (funext fun i => ?_), (h c).2⟩) (Value.run m ρ)
  pointwise
  unfold G
  rfl

end Cert.KvProjV

end
-- ==== Proof.Prod.QProj.lean ====
module

public import proofs.«01_k».proof.Proof.Gen.QProjIdeal.Value
public import Idealize.ShloMosaic.Lib.Pipeline.ValueKit
public import proofs.«01_k».proof.Proof.Gen.QProjRefIdeal.Run

@[expose] public section

set_option maxRecDepth 16384

noncomputable section

namespace Cert.QProjV

open Cert.QProjIdeal Cert.QProjIdeal.Gen
open Idealize.ShloMosaic Idealize.ShloMosaic.TcCoe Idealize.SL.Sem

/-- One point's product of its two blocks. -/
theorem pay_apply (v0 : Vec Ideal S2048x1024 .bf16) (v1 : Vec Ideal S1x1024x768 .bf16) (y : S2048x768.Idx) :
    k0_pay1 v0 v1 y = ∑ x, v0 (ix2 (y 0) x) * v1 (ix3 0 x (y 1)) := by
  unfold k0_pay1
  pointwise

variable (m : (ℓ : Loc nD τ sig) → Buf (Elt Ideal) ℓ)

theorem idx : ∀ t : Fin cfg0.N, win0_0.index t = ![t.val % 4, 0] ∧ win0_1.index t = ![t.val / 4, 0, 0] ∧ win0_2.index t = ![t.val % 4, t.val / 4] := by
  decide +kernel

/-- Each row of the input times each column of the shards, which stand side by side. -/
def G (a0 : S8192x1024.Idx → EReal) (a1 : S4x1024x768.Idx → EReal) (i : S8192x3072.Idx) : EReal :=
  ∑ x, a0 (ix2 (i 0) x) * a1 (ix3 ⟨(i 1).val / 768, by have := (i 1).isLt; dsimp at this; omega⟩ x ⟨(i 1).val % 768, Nat.mod_lt _ (by decide)⟩)

/-- What the kernel leaves in its result. -/
theorem final (c : Dev nD) : (dats m 0 c).arrAt 2 cfg0.N =
    G (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [pay_apply]
  unfold G
  blk_point [iblk, V, idx t]

end Cert.QProjV

namespace Cert.QProjV

open Cert.QProjRefIdeal
open Idealize.ShloMosaic Idealize.ShloMosaic.TcCoe Idealize.SL.Sem

/-- The reference's run: its result is the same array. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) =
          G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans (funext fun i => ?_), (h c).2⟩) (Value.run m ρ)
  pointwise
  unfold G
  rfl

end Cert.QProjV

end
-- ==== Proof.Prod.OBwd.lean ====
module

public import proofs.«01_k».proof.Proof.Gen.OBwdIdeal.Value
public import Idealize.ShloMosaic.Lib.Pipeline.ValueKit
public import proofs.«01_k».proof.Proof.Gen.OBwdRefIdeal.Run

@[expose] public section

set_option maxRecDepth 16384

noncomputable section

namespace Cert.OBwdV

open Cert.OBwdIdeal Cert.OBwdIdeal.Gen
open Idealize.ShloMosaic Idealize.ShloMosaic.TcCoe Idealize.SL.Sem

/-- One point's product of its two blocks. -/
theorem pay_apply (v0 : Vec Ideal S2048x1024 .bf16) (v1 : Vec Ideal S1024x1024 .bf16) (y : S2048x1024.Idx) :
    k0_pay1 v0 v1 y = ∑ x, v0 (ix2 (y 0) x) * v1 (ix2 (y 1) x) := by
  unfold k0_pay1
  pointwise

variable (m : (ℓ : Loc nD τ sig) → Buf (Elt Ideal) ℓ)

theorem idx : ∀ t : Fin cfg0.N, win0_0.index t = ![t.val, 0] ∧ win0_1.index t = ![0, 0] ∧ win0_2.index t = ![t.val, 0] := by
  decide +kernel

/-- Each row of the gradient times each row of the weight. -/
def G (a0 : S8192x1024.Idx → EReal) (a1 : S1024x1024.Idx → EReal) (i : S8192x1024.Idx) : EReal :=
  ∑ x, a0 (ix2 (i 0) x) * a1 (ix2 (i 1) x)

/-- What the kernel leaves in its result. -/
theorem final (c : Dev nD) : (dats m 0 c).arrAt 2 cfg0.N =
    G (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [pay_apply]
  unfold G
  blk_point [iblk, V, idx t]

end Cert.OBwdV

namespace Cert.OBwdV

open Cert.OBwdRefIdeal
open Idealize.ShloMosaic Idealize.ShloMosaic.TcCoe Idealize.SL.Sem

/-- The reference's run: its result is the same array. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) =
          G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans (funext fun i => ?_), (h c).2⟩) (Value.run m ρ)
  pointwise
  unfold G
  rfl

end Cert.OBwdV

end
-- ==== Proof.Prod.OProj.lean ====
module

public import proofs.«01_k».proof.Proof.Gen.OProjIdeal.Value
public import Idealize.ShloMosaic.Lib.Pipeline.ValueKit
public import proofs.«01_k».proof.Proof.Gen.OProjRefIdeal.Run

@[expose] public section

set_option maxRecDepth 16384

noncomputable section

namespace Cert.OProjV

open Cert.OProjIdeal Cert.OProjIdeal.Gen
open Idealize.ShloMosaic Idealize.ShloMosaic.TcCoe Idealize.SL.Sem

/-- One point's product of its two blocks. -/
theorem pay_apply (v0 : Vec Ideal S2048x1024 .bf16) (v1 : Vec Ideal S1024x1024 .bf16) (y : S2048x1024.Idx) :
    k0_pay1 v0 v1 y = ∑ x, v0 (ix2 (y 0) x) * v1 (ix2 x (y 1)) := by
  unfold k0_pay1
  pointwise

variable (m : (ℓ : Loc nD τ sig) → Buf (Elt Ideal) ℓ)

theorem idx : ∀ t : Fin cfg0.N, win0_0.index t = ![t.val, 0] ∧ win0_1.index t = ![0, 0] ∧ win0_2.index t = ![t.val, 0] := by
  decide +kernel

/-- Each row of the input times each column of the weight. -/
def G (a0 : S8192x1024.Idx → EReal) (a1 : S1024x1024.Idx → EReal) (i : S8192x1024.Idx) : EReal :=
  ∑ x, a0 (ix2 (i 0) x) * a1 (ix2 x (i 1))

/-- What the kernel leaves in its result. -/
theorem final (c : Dev nD) : (dats m 0 c).arrAt 2 cfg0.N =
    G (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  rw [pay_apply]
  unfold G
  blk_point [iblk, V, idx t]

end Cert.OProjV

namespace Cert.OProjV

open Cert.OProjRefIdeal
open Idealize.ShloMosaic Idealize.ShloMosaic.TcCoe Idealize.SL.Sem

/-- The reference's run: its result is the same array. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) =
          G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans (funext fun i => ?_), (h c).2⟩) (Value.run m ρ)
  pointwise
  unfold G
  rfl

end Cert.OProjV

end
-- ==== Proof.Prod.Claims.lean ====
/-
  Each product call and its reference end with the same array.
-/
module

public import proofs.«01_k».proof.Defs
public import proofs.«01_k».proof.Proof.Prod.DownBwd
public import proofs.«01_k».proof.Proof.Prod.GateUpProj
public import proofs.«01_k».proof.Proof.Prod.DownDw
public import proofs.«01_k».proof.Proof.Prod.GateUpDw
public import proofs.«01_k».proof.Proof.Prod.DownProj
public import proofs.«01_k».proof.Proof.Prod.KvBwd
public import proofs.«01_k».proof.Proof.Prod.QBwd
public import proofs.«01_k».proof.Proof.Prod.KvDw
public import proofs.«01_k».proof.Proof.Prod.QDw
public import proofs.«01_k».proof.Proof.Prod.ODw
public import proofs.«01_k».proof.Proof.Prod.KvProj
public import proofs.«01_k».proof.Proof.Prod.QProj
public import proofs.«01_k».proof.Proof.Prod.OBwd
public import proofs.«01_k».proof.Proof.Prod.OProj

@[expose] public section

set_option maxRecDepth 16384

noncomputable section

open Idealize.ShloMosaic Idealize.ShloMosaic.TcCoe Idealize.SL.Sem

theorem Cert.DownBwdV.algebraic : Cert.algebraic_DownBwdIdeal_DownBwdRefIdeal := fun m g m' g' _ hag =>
  ⟨fun c => (Cert.DownBwdIdeal.Gen.dats m 0 c).arrAt 2 Cert.DownBwdIdeal.cfg0.N, Cert.DownBwdIdeal.Value.run_blocks m g,
    (θ_run _ _ _).mono (fun r h c => ⟨by
      obtain ⟨h0, h1⟩ := hag c
      refine (h c).1.trans ?_
      dsimp only
      rw [Cert.DownBwdV.final m c, h0, h1], (h c).2⟩) (Cert.DownBwdV.ref_run m' g')⟩

theorem Cert.GateUpProjV.algebraic : Cert.algebraic_GateUpProjIdeal_GateUpProjRefIdeal := fun m g m' g' _ hag =>
  ⟨fun c => (Cert.GateUpProjIdeal.Gen.dats m 0 c).arrAt 2 Cert.GateUpProjIdeal.cfg0.N, Cert.GateUpProjIdeal.Value.run_blocks m g,
    (θ_run _ _ _).mono (fun r h c => ⟨by
      obtain ⟨h0, h1⟩ := hag c
      refine (h c).1.trans ?_
      dsimp only
      rw [Cert.GateUpProjV.final m c, h0, h1], (h c).2⟩) (Cert.GateUpProjV.ref_run m' g')⟩

theorem Cert.DownDwV.algebraic : Cert.algebraic_DownDwIdeal_DownDwRefIdeal := fun m g m' g' _ hag =>
  ⟨fun c => (Cert.DownDwIdeal.Gen.dats m 0 c).arrAt 2 Cert.DownDwIdeal.cfg0.N, Cert.DownDwIdeal.Value.run_blocks m g,
    (θ_run _ _ _).mono (fun r h c => ⟨by
      obtain ⟨h0, h1⟩ := hag c
      refine (h c).1.trans ?_
      dsimp only
      rw [Cert.DownDwV.final m c, h0, h1], (h c).2⟩) (Cert.DownDwV.ref_run m' g')⟩

theorem Cert.GateUpDwV.algebraic : Cert.algebraic_GateUpDwIdeal_GateUpDwRefIdeal := fun m g m' g' _ hag =>
  ⟨fun c => (Cert.GateUpDwIdeal.Gen.dats m 0 c).arrAt 2 Cert.GateUpDwIdeal.cfg0.N, Cert.GateUpDwIdeal.Value.run_blocks m g,
    (θ_run _ _ _).mono (fun r h c => ⟨by
      obtain ⟨h0, h1⟩ := hag c
      refine (h c).1.trans ?_
      dsimp only
      rw [Cert.GateUpDwV.final m c, h0, h1], (h c).2⟩) (Cert.GateUpDwV.ref_run m' g')⟩

theorem Cert.DownProjV.algebraic : Cert.algebraic_DownProjIdeal_DownProjRefIdeal := fun m g m' g' _ hag =>
  ⟨fun c => (Cert.DownProjIdeal.Gen.dats m 0 c).arrAt 2 Cert.DownProjIdeal.cfg0.N, Cert.DownProjIdeal.Value.run_blocks m g,
    (θ_run _ _ _).mono (fun r h c => ⟨by
      obtain ⟨h0, h1⟩ := hag c
      refine (h c).1.trans ?_
      dsimp only
      rw [Cert.DownProjV.final m c, h0, h1], (h c).2⟩) (Cert.DownProjV.ref_run m' g')⟩

theorem Cert.KvBwdV.algebraic : Cert.algebraic_KvBwdIdeal_KvBwdRefIdeal := fun m g m' g' _ hag =>
  ⟨fun c => (Cert.KvBwdIdeal.Gen.dats m 0 c).arrAt 2 Cert.KvBwdIdeal.cfg0.N, Cert.KvBwdIdeal.Value.run_blocks m g,
    (θ_run _ _ _).mono (fun r h c => ⟨by
      obtain ⟨h0, h1⟩ := hag c
      refine (h c).1.trans ?_
      dsimp only
      rw [Cert.KvBwdV.final m c, h0, h1], (h c).2⟩) (Cert.KvBwdV.ref_run m' g')⟩

theorem Cert.QBwdV.algebraic : Cert.algebraic_QBwdIdeal_QBwdRefIdeal := fun m g m' g' _ hag =>
  ⟨fun c => (Cert.QBwdIdeal.Gen.dats m 0 c).arrAt 2 Cert.QBwdIdeal.cfg0.N, Cert.QBwdIdeal.Value.run_blocks m g,
    (θ_run _ _ _).mono (fun r h c => ⟨by
      obtain ⟨h0, h1⟩ := hag c
      refine (h c).1.trans ?_
      dsimp only
      rw [Cert.QBwdV.final m c, h0, h1], (h c).2⟩) (Cert.QBwdV.ref_run m' g')⟩

theorem Cert.KvDwV.algebraic : Cert.algebraic_KvDwIdeal_KvDwRefIdeal := fun m g m' g' _ hag =>
  ⟨fun c => (Cert.KvDwIdeal.Gen.dats m 0 c).arrAt 2 Cert.KvDwIdeal.cfg0.N, Cert.KvDwIdeal.Value.run_blocks m g,
    (θ_run _ _ _).mono (fun r h c => ⟨by
      obtain ⟨h0, h1⟩ := hag c
      refine (h c).1.trans ?_
      dsimp only
      rw [Cert.KvDwV.final m c, h0, h1], (h c).2⟩) (Cert.KvDwV.ref_run m' g')⟩

theorem Cert.QDwV.algebraic : Cert.algebraic_QDwIdeal_QDwRefIdeal := fun m g m' g' _ hag =>
  ⟨fun c => (Cert.QDwIdeal.Gen.dats m 0 c).arrAt 2 Cert.QDwIdeal.cfg0.N, Cert.QDwIdeal.Value.run_blocks m g,
    (θ_run _ _ _).mono (fun r h c => ⟨by
      obtain ⟨h0, h1⟩ := hag c
      refine (h c).1.trans ?_
      dsimp only
      rw [Cert.QDwV.final m c, h0, h1], (h c).2⟩) (Cert.QDwV.ref_run m' g')⟩

theorem Cert.ODwV.algebraic : Cert.algebraic_ODwIdeal_ODwRefIdeal := fun m g m' g' _ hag =>
  ⟨fun c => (Cert.ODwIdeal.Gen.dats m 0 c).arrAt 2 Cert.ODwIdeal.cfg0.N, Cert.ODwIdeal.Value.run_blocks m g,
    (θ_run _ _ _).mono (fun r h c => ⟨by
      obtain ⟨h0, h1⟩ := hag c
      refine (h c).1.trans ?_
      dsimp only
      rw [Cert.ODwV.final m c, h0, h1], (h c).2⟩) (Cert.ODwV.ref_run m' g')⟩

theorem Cert.KvProjV.algebraic : Cert.algebraic_KvProjIdeal_KvProjRefIdeal := fun m g m' g' _ hag =>
  ⟨fun c => (Cert.KvProjIdeal.Gen.dats m 0 c).arrAt 2 Cert.KvProjIdeal.cfg0.N, Cert.KvProjIdeal.Value.run_blocks m g,
    (θ_run _ _ _).mono (fun r h c => ⟨by
      obtain ⟨h0, h1⟩ := hag c
      refine (h c).1.trans ?_
      dsimp only
      rw [Cert.KvProjV.final m c, h0, h1], (h c).2⟩) (Cert.KvProjV.ref_run m' g')⟩

theorem Cert.QProjV.algebraic : Cert.algebraic_QProjIdeal_QProjRefIdeal := fun m g m' g' _ hag =>
  ⟨fun c => (Cert.QProjIdeal.Gen.dats m 0 c).arrAt 2 Cert.QProjIdeal.cfg0.N, Cert.QProjIdeal.Value.run_blocks m g,
    (θ_run _ _ _).mono (fun r h c => ⟨by
      obtain ⟨h0, h1⟩ := hag c
      refine (h c).1.trans ?_
      dsimp only
      rw [Cert.QProjV.final m c, h0, h1], (h c).2⟩) (Cert.QProjV.ref_run m' g')⟩

theorem Cert.OBwdV.algebraic : Cert.algebraic_OBwdIdeal_OBwdRefIdeal := fun m g m' g' _ hag =>
  ⟨fun c => (Cert.OBwdIdeal.Gen.dats m 0 c).arrAt 2 Cert.OBwdIdeal.cfg0.N, Cert.OBwdIdeal.Value.run_blocks m g,
    (θ_run _ _ _).mono (fun r h c => ⟨by
      obtain ⟨h0, h1⟩ := hag c
      refine (h c).1.trans ?_
      dsimp only
      rw [Cert.OBwdV.final m c, h0, h1], (h c).2⟩) (Cert.OBwdV.ref_run m' g')⟩

theorem Cert.OProjV.algebraic : Cert.algebraic_OProjIdeal_OProjRefIdeal := fun m g m' g' _ hag =>
  ⟨fun c => (Cert.OProjIdeal.Gen.dats m 0 c).arrAt 2 Cert.OProjIdeal.cfg0.N, Cert.OProjIdeal.Value.run_blocks m g,
    (θ_run _ _ _).mono (fun r h c => ⟨by
      obtain ⟨h0, h1⟩ := hag c
      refine (h c).1.trans ?_
      dsimp only
      rw [Cert.OProjV.final m c, h0, h1], (h c).2⟩) (Cert.OProjV.ref_run m' g')⟩

end
-- ==== Proof.Loss.Run.lean ====
/-
  The loss head's body: its loop over 64 groups of 16 rows, and the three cases of its conditionals. The block of the
  gradient ends as `dyB`, the scratch of column sums as `sums` says, the block of the loss, at the last point, as the
  total of the scratch. Over any float values.
-/
module

public import proofs.«01_k».proof.Proof.Gen.LossHeadIdeal.Frame.Runs
public import Idealize.ShloMosaic.Lib.VecWindow
public import Idealize.ShloMosaic.Lib.Pipeline.ReadBack
public import Idealize.ShloMosaic.Lib.Pipeline.Value

@[expose] public section

set_option maxRecDepth 16384

noncomputable section

namespace Cert.Loss

open Cert.LossHeadIdeal Cert.LossHeadIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- Rows `16 k` to `16 k + 15` of a block. -/
def rows (x : Vec F S1024x1024 .f32) (k : Fin k0_t1_loop.trips) : Vec F S16x1024 .f32 :=
  View.ld (Val := Elt F) (e' := EltTy.f32) x (Rect.unit (s := S1024x1024) (k0_off1 k) S16x1024.size (k0_off1_inb k))

/-- What trip `k` writes into the gradient's block. -/
def piece (x0 x1 : Vec F S1024x1024 .f32) (k : Fin k0_t1_loop.trips) : View.Piece (Elt F) S1024x1024 .f32 :=
  ⟨Rect.unit (s := S1024x1024) (k0_off1 k) S16x1024.size (k0_off1_inb k), k0_pay3 (rows x0 k) (rows x1 k)⟩

/-- What the trips before `n` write there, the last first. -/
def pieces (x0 x1 : Vec F S1024x1024 .f32) : ℕ → List (View.Piece (Elt F) S1024x1024 .f32)
  | 0 => []
  | n + 1 => (if h : n < k0_t1_loop.trips then [piece x0 x1 ⟨n, h⟩] else []) ++ pieces x0 x1 n

/-- The gradient's block: the difference over 1024. -/
def dyB (x0 x1 : Vec F S1024x1024 .f32) : Vec F S1024x1024 .f32 := fun j => FloatOps.divf (FloatOps.subf (x0 j) (x1 j)) (Scalar.ofBits .f32 0x44800000#32)

/-- The column sums after the trips before `n`, from `a`. -/
def sums (x0 x1 : Vec F S1024x1024 .f32) (a : Vec F S8x1024 .f32) : ℕ → Vec F S8x1024 .f32
  | 0 => a
  | n + 1 => if h : n < k0_t1_loop.trips then k0_pay4 (rows x0 ⟨n, h⟩) (rows x1 ⟨n, h⟩) (sums x0 x1 a n) else sums x0 x1 a n

/-- The scratch after the trips before `n`, entered at `G`. -/
def scr (v : View sig .tc .vmem S8x1024 .f32) (x0 x1 : Vec F S1024x1024 .f32) (G : BufTy.Contents (Elt F) v.ty) : ℕ → BufTy.Contents (Elt F) v.ty
  | 0 => G
  | n + 1 => if h : n < k0_t1_loop.trips then
      v.writes (Elt F) (scr v x0 x1 G n) [⟨Rect.unit (s := S8x1024) ![0, 0] S8x1024.size inb_S8x1024_S8x1024_0_0,
        k0_pay4 (rows x0 ⟨n, h⟩) (rows x1 ⟨n, h⟩) (v.read (Elt F) (scr v x0 x1 G n))⟩]
    else scr v x0 x1 G n

theorem pieces_succ (x0 x1 : Vec F S1024x1024 .f32) (k : Fin k0_t1_loop.trips) : pieces x0 x1 (k.val + 1) = piece x0 x1 k :: pieces x0 x1 k.val := by
  rw [pieces, dif_pos k.isLt]; rfl

theorem scr_succ (v : View sig .tc .vmem S8x1024 .f32) (x0 x1 : Vec F S1024x1024 .f32) (G : BufTy.Contents (Elt F) v.ty) (k : Fin k0_t1_loop.trips) :
    scr v x0 x1 G (k.val + 1) = v.writes (Elt F) (scr v x0 x1 G k.val) [⟨Rect.unit (s := S8x1024) ![0, 0] S8x1024.size inb_S8x1024_S8x1024_0_0,
        k0_pay4 (rows x0 k) (rows x1 k) (v.read (Elt F) (scr v x0 x1 G k.val))⟩] := by
  rw [scr, dif_pos k.isLt]

theorem read_scr (v : View sig .tc .vmem S8x1024 .f32) (x0 x1 : Vec F S1024x1024 .f32) (G : BufTy.Contents (Elt F) v.ty) (n : ℕ) :
    v.read (Elt F) (scr v x0 x1 G n) = sums x0 x1 (v.read (Elt F) G) n := by
  induction n with
  | zero => rfl
  | succ n ih =>
    rw [scr, sums]
    split
    · exact (View.read_writes_full v _ _ _ _).trans (by rw [ih])
    · exact ih

theorem trips_eq : k0_t1_loop.trips = 64 := by decide +kernel

theorem pieces_of (x0 x1 : Vec F S1024x1024 .f32) (n : ℕ) : View.PiecesOf (dyB x0 x1) (pieces x0 x1 n) := by
  induction n with
  | zero => exact trivial
  | succ n ih =>
    show View.PiecesOf _ ((if h : n < k0_t1_loop.trips then [piece x0 x1 ⟨n, h⟩] else []) ++ pieces x0 x1 n)
    split
    · exact ⟨fun x => rfl, ih⟩
    · exact ih

theorem mem_pieces (x0 x1 : Vec F S1024x1024 .f32) (k : Fin k0_t1_loop.trips) (n : ℕ) (h : k.val < n) : piece x0 x1 k ∈ pieces x0 x1 n := by
  induction n with
  | zero => exact absurd h (Nat.not_lt_zero _)
  | succ n ih =>
    rw [pieces]
    rcases Nat.lt_succ_iff_lt_or_eq.mp h with h | h
    · exact List.mem_append_right _ (ih h)
    · subst h; rw [dif_pos k.isLt]; exact List.mem_append_left _ List.mem_cons_self

theorem read_pieces (v : View sig .tc .vmem S1024x1024 .f32) (f : BufTy.Contents (Elt F) v.ty) (x0 x1 : Vec F S1024x1024 .f32) :
    v.read (Elt F) (v.writes (Elt F) f (pieces x0 x1 64)) = dyB x0 x1 := by
  have hc : ∀ y : S1024x1024.Idx, ∃ p ∈ pieces x0 x1 64, y ∈ p.1.set := fun y => by
    have h0 : (y 0).val < 1024 := (y 0).isLt
    have h1 : (y 1).val < 1024 := (y 1).isLt
    refine ⟨_, mem_pieces x0 x1 ⟨(y 0).val / 16, by rw [trips_eq]; omega⟩ 64 (show (y 0).val / 16 < 64 by omega), (Rect.mem_set_unit (inb := k0_off1_inb _)).mpr fun a => ?_⟩
    rw [k0_off1_eq]
    fin_cases a
    · constructor
      · show 16 * ((y 0).val / 16) ≤ (y 0).val
        omega
      · show (y 0).val < 16 * ((y 0).val / 16) + 16
        omega
    · exact ⟨Nat.zero_le _, by simpa using h1⟩
  rw [View.read_writes_eq_canon v f _ hc]
  exact funext fun y => View.canon_apply_of_pieces _ _ (View.PiecesOf.mem (pieces_of x0 x1 64)) y (hc y)

section body

variable (𝒱 : Variants) (c : Dev nD) (bd : Option 𝒱.V) (E : Set ℕ) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S8x128 .f32) (harg4 : arg4.IsWhole) (arg5 : Memref sig .tc .vmem S8x1024 .f32) (harg5 : arg5.IsWhole)
  (X1 : BufTy.Contents (Elt F) arg1.view.ty) (X2 : BufTy.Contents (Elt F) arg2.view.ty)

/-- One trip's pieces, spelled out. -/
theorem trip_pieces (k : Fin k0_t1_loop.trips) (f3 : BufTy.Contents (Elt F) arg3.view.ty) (f5 : BufTy.Contents (Elt F) arg5.view.ty) :
    tripL_k0_t1 (F := F) 𝒱 c bd i arg1 harg1 arg2 harg2 arg3 harg3 arg4 harg4 arg5 harg5 X1 X2 k f3 f5
      = ([piece (arg1.view.read (Elt F) X1) (arg2.view.read (Elt F) X2) k],
         [⟨Rect.unit (s := S8x1024) ![0, 0] S8x1024.size inb_S8x1024_S8x1024_0_0,
          k0_pay4 (rows (arg1.view.read (Elt F) X1) k) (rows (arg2.view.read (Elt F) X2) k) (arg5.view.read (Elt F) f5)⟩]) := by
  unfold tripL_k0_t1 trip_k0_t1
  dsimp only
  rw [View.readAt_full]
  rfl

set_option warn.classDefReducibility false in
/-- The loop: before trip `k` the gradient's block holds what the trips before wrote, the scratch the sums so far. -/
@[sl_loop] def loopH (G3 : BufTy.Contents (Elt F) arg3.view.ty) (G5 : BufTy.Contents (Elt F) arg5.view.ty) :
    LoopInv (M := 𝕄) frame (wpE (defs₀ (F := F)) 𝒱 (c : Thread nD τ) bd) E k0_t1_loop.lb k0_t1_loop.ub k0_t1_loop.st k0_t1_ok ()
      (k0_t1_body (F := F) i arg1 harg1 arg2 harg2 arg3 harg3 arg4 harg4 arg5 harg5) where
  inv k _ := iprop((arg1.view.loc (c : Thread nD τ) ↦[arg1.view.set]{fullShare} X1) ∗ (arg2.view.loc (c : Thread nD τ) ↦[arg2.view.set]{fullShare} X2)
    ∗ (∃ f, (arg3.view.loc (c : Thread nD τ) ↦[arg3.view.set]{fullShare} f) ∗ ⌜f = arg3.view.writes (Elt F) G3 (pieces (arg1.view.read (Elt F) X1) (arg2.view.read (Elt F) X2) k)⌝)
    ∗ (∃ f, (arg5.view.loc (c : Thread nD τ) ↦[arg5.view.set]{fullShare} f) ∗ ⌜f = scr arg5.view (arg1.view.read (Elt F) X1) (arg2.view.read (Elt F) X2) G5 k⌝))
  step k acc := by
    iintro ⟨HR1, HR2, ⟨%f3, HW3, %h3⟩, ⟨%f5, HW5, %h5⟩⟩
    iapply (wp_wand_r Idealize.ShloMosaic.frame (wpE (defs₀ (F := F)) 𝒱 (c : Thread nD τ) bd) E)
    isplitl [HR1 HR2 HW3 HW5]
    · iapply ((trip_k0_t1 (F := F) 𝒱 c bd i arg1 harg1 arg2 harg2 arg3 harg3 arg4 harg4 arg5 harg5 X1 X2 k).2.2 E f3 f5)
      isplitl [HR1]; · iexact HR1
      isplitl [HR2]; · iexact HR2
      isplitl [HW3]; · iexact HW3
      iexact HW5
    · iintro %_ ⟨HR1, HR2, HW3, HW5⟩
      isplitl [HR1]; · iexact HR1
      isplitl [HR2]; · iexact HR2
      have e := trip_pieces 𝒱 c bd i arg1 harg1 arg2 harg2 arg3 harg3 arg4 harg4 arg5 harg5 X1 X2 k f3 f5
      isplitl [HW3]
      · iexists _; isplitl [HW3]; · iexact HW3
        ipureintro
        rw [pieces_succ, show (trip_k0_t1 (F := F) 𝒱 c bd i arg1 harg1 arg2 harg2 arg3 harg3 arg4 harg4 arg5 harg5 X1 X2 k).1 f3 f5 = _ from congrArg Prod.fst e, h3, ← View.writes_append]
        rfl
      iexists _; isplitl [HW5]; · iexact HW5
      ipureintro
      rw [scr_succ, show (trip_k0_t1 (F := F) 𝒱 c bd i arg1 harg1 arg2 harg2 arg3 harg3 arg4 harg4 arg5 harg5 X1 X2 k).2.1 f3 f5 = _ from congrArg Prod.snd e, h5]

end body

/-- What the body leaves: the inputs' blocks as they were, the gradient's block, the loss's block at `x3`, the scratch at `xs`. -/
def Left (c : Dev nD) (arg1 : Memref sig .tc .vmem S1024x1024 .f32) (arg2 : Memref sig .tc .vmem S1024x1024 .f32) (arg3 : Memref sig .tc .vmem S1024x1024 .f32) (arg4 : Memref sig .tc .vmem S8x128 .f32) (arg5 : Memref sig .tc .vmem S8x1024 .f32)
    (x0 x1 x2 : Vec F S1024x1024 .f32) (x3 : Vec F S8x128 .f32) (xs : Vec F S8x1024 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xs)

set_option maxHeartbeats 1000000 in
theorem runA (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S8x128 .f32) (harg4 : arg4.IsWhole) (arg5 : Memref sig .tc .vmem S8x1024 .f32) (harg5 : arg5.IsWhole) (hc0 : cond0_0 i) (hc1 : ¬cond0_1 i)
    (x0 x1 x2 : Vec F S1024x1024 .f32) (x3 : Vec F S8x128 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (Left c arg1 arg2 arg3 arg4 arg5 x0 x1 (dyB x0 x1) x3 (sums x0 x1 (k0_pay1 (F := F)) 64) -∗ K ⟨⟩))
          ⊢ wp frame (wpE (defs₀ (F := F)) Variants.none c none) E (cc0_loss_head i arg1 harg1 arg2 harg2 arg3 harg3 arg4 harg4 arg5 harg5) K := by
    simp only [cc0_loss_head_eq_skeleton]; unfold cc0_loss_head_skel
    unfold Left owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg4.eq_unread hf3
    sl_exec (disch := first | sl_exact hc0 | sl_exact hc1)
    sl_step
    iapply Hk
    isplitl [H0]
    · iexists _; isplitr; · ipureintro; exact hf0
      iexact H0
    isplitl [H1]
    · iexists _; isplitr; · ipureintro; exact hf1
      iexact H1
    isplitl [H2]
    · iexists _; isplitr
      swap; · iexact H2
      ipureintro; rw [hf0, hf1]; exact read_pieces _ _ _ _
    isplitl [H3]
    · iexists _; isplitr; · ipureintro; exact hf3
      iexact H3
    iexists _; isplitr
    swap; · iexact HS0
    ipureintro; rw [hf0, hf1]
    exact (read_scr _ _ _ _ _).trans (congrArg (sums x0 x1 · 64) (View.read_writes_full arg5.view _ _ _ []))

set_option maxHeartbeats 1000000 in
theorem runB (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S8x128 .f32) (harg4 : arg4.IsWhole) (arg5 : Memref sig .tc .vmem S8x1024 .f32) (harg5 : arg5.IsWhole) (hc0 : ¬cond0_0 i) (hc1 : ¬cond0_1 i)
    (x0 x1 x2 : Vec F S1024x1024 .f32) (x3 : Vec F S8x128 .f32) (xs : Vec F S8x1024 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xs
            ∗ (Left c arg1 arg2 arg3 arg4 arg5 x0 x1 (dyB x0 x1) x3 (sums x0 x1 xs 64) -∗ K ⟨⟩))
          ⊢ wp frame (wpE (defs₀ (F := F)) Variants.none c none) E (cc0_loss_head i arg1 harg1 arg2 harg2 arg3 harg3 arg4 harg4 arg5 harg5) K := by
    simp only [cc0_loss_head_eq_skeleton]; unfold cc0_loss_head_skel
    unfold Left owns
    iintro ⟨⟨%f0, %hf0, H0⟩, ⟨%f1, %hf1, H1⟩, ⟨%f2, %hf2, H2⟩, ⟨%f3, %hf3, H3⟩, ⟨%fs0, %hfs, HS0⟩, Hk⟩
    obtain rfl := harg1.eq_unread hf0; obtain rfl := harg2.eq_unread hf1; obtain rfl := harg4.eq_unread hf3; obtain rfl := harg5.eq_unread hfs
    sl_exec (disch := first | sl_exact hc0 | sl_exact hc1)
    sl_step
    iapply Hk
    isplitl [H0]
    · iexists _; isplitr; · ipureintro; exact hf0
      iexact H0
    isplitl [H1]
    · iexists _; isplitr; · ipureintro; exact hf1
      iexact H1
    isplitl [H2]
    · iexists _; isplitr
      swap; · iexact H2
      ipureintro; rw [hf0, hf1]; exact read_pieces _ _ _ _
    isplitl [H3]
    · iexists _; isplitr; · ipureintro; exact hf3
      iexact H3
    iexists _; isplitr
    swap; · iexact HS0
    ipureintro; rw [hf0, hf1]
    exact (read_scr _ _ _ _ _).trans (congrArg (sums x0 x1 · 64) hfs)

set_option maxHeartbeats 1000000 in
theorem runC (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S8x128 .f32) (harg4 : arg4.IsWhole) (arg5 : Memref sig .tc .vmem S8x1024 .f32) (harg5 : arg5.IsWhole) (hc0 : ¬cond0_0 i) (hc1 : cond0_1 i)
    (x0 x1 x2 : Vec F S1024x1024 .f32) (x3 : Vec F S8x128 .f32) (xs : Vec F S8x1024 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xs
            ∗ (Left c arg1 arg2 arg3 arg4 arg5 x0 x1 (dyB x0 x1) (k0_pay5 (sums x0 x1 xs 64)) (sums x0 x1 xs 64) -∗ K ⟨⟩))
          ⊢ wp frame (wpE (defs₀ (F := F)) Variants.none c none) E (cc0_loss_head i arg1 harg1 arg2 harg2 arg3 harg3 arg4 harg4 arg5 harg5) K := by
    simp only [cc0_loss_head_eq_skeleton]; unfold cc0_loss_head_skel
    unfold Left owns
    iintro ⟨⟨%f0, %hf0, H0⟩, ⟨%f1, %hf1, H1⟩, ⟨%f2, %hf2, H2⟩, ⟨%f3, %hf3, H3⟩, ⟨%fs0, %hfs, HS0⟩, Hk⟩
    obtain rfl := harg1.eq_unread hf0; obtain rfl := harg2.eq_unread hf1; obtain rfl := harg5.eq_unread hfs
    sl_exec (disch := first | sl_exact hc0 | sl_exact hc1)
    sl_step
    iapply Hk
    isplitl [H0]
    · iexists _; isplitr; · ipureintro; exact hf0
      iexact H0
    isplitl [H1]
    · iexists _; isplitr; · ipureintro; exact hf1
      iexact H1
    isplitl [H2]
    · iexists _; isplitr
      swap; · iexact H2
      ipureintro; rw [hf0, hf1]; exact read_pieces _ _ _ _
    isplitl [H3]
    · iexists _; isplitr
      swap; · iexact H3
      ipureintro
      refine (View.read_writes_full arg4.view _ _ _ []).trans (congrArg k0_pay5 ?_)
      unfold runC.sl.v8
      rw [View.readAt_full, hf0, hf1]
      exact (read_scr _ _ _ _ _).trans (congrArg (sums x0 x1 · 64) hfs)
    iexists _; isplitr
    swap; · iexact HS0
    ipureintro; rw [hf0, hf1]
    exact (read_scr _ _ _ _ _).trans (congrArg (sums x0 x1 · 64) hfs)

end Cert.Loss

end
-- ==== Proof.Loss.Frame.lean ====
/-
  The loss head's whole run: what each of the eight points finds in the scratch and leaves in the blocks, the body's
  obligation at a point out of the three runs, and the run of the program. Over any float values, so that both frames
  are this one.
-/
module

public import proofs.«01_k».proof.Proof.Loss.Run
public import Idealize.ShloMosaic.Lib.Claim

@[expose] public section

set_option maxRecDepth 16384

noncomputable section

namespace Cert.Loss

open Cert.LossHeadIdeal Cert.LossHeadIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch before point `n`: the column sums of the blocks before it. -/
def acc (c : Dev nD) : ℕ → Vec F S8x1024 .f32
  | 0 => k0_pay1
  | n + 1 => if h : n < cfg0.N then sums (iblk m c 0 ⟨n, h⟩) (iblk m c 1 ⟨n, h⟩) (acc c n) 64 else acc c n

theorem acc_succ (c : Dev nD) (t : Fin cfg0.N) : acc m c (t.val + 1) = sums (iblk m c 0 t) (iblk m c 1 t) (acc m c t.val) 64 := by
  rw [acc, dif_pos t.isLt]

/-- What holds before point `n`: nothing is known of the scratch before the first, later it holds `acc`. -/
def Phi (c : Dev nD) : ℕ → sProp 𝕄
  | 0 => Pipeline.ΦA spec0 c
  | n + 1 => iprop(owns (c : Thread nD τ) scM0_0 fullShare (acc m c (n + 1)) ∗ (∃ r, prngReg c r))

/-- The arrays as launched, what the body leaves in each block, and what holds between points. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => dyB (iblk m c 0 t) (iblk m c 1 t)
    | ⟨3, _⟩ => k0_pay5 (acc m c (t.val + 1))
  Φ t := Phi m c t.val
  q _ := fullShare
  owed _ := 0

theorem dat_A (c : Dev nD) (w : Fin cfg0.W) : (dat m 0 c).A w = V m c (Pipeline.arrRef spec0 w) := by dsimp only [dat]
theorem after_0 (c : Dev nD) (t : Fin cfg0.N) : (dat m 0 c).after 0 t = iblk m c 0 t := by dsimp only [dat]
theorem after_1 (c : Dev nD) (t : Fin cfg0.N) : (dat m 0 c).after 1 t = iblk m c 1 t := by dsimp only [dat]
theorem after_2 (c : Dev nD) (t : Fin cfg0.N) : (dat m 0 c).after 2 t = dyB (iblk m c 0 t) (iblk m c 1 t) := by dsimp only [dat]
theorem after_3 (c : Dev nD) (t : Fin cfg0.N) : (dat m 0 c).after 3 t = k0_pay5 (acc m c (t.val + 1)) := by dsimp only [dat]
theorem before_0 (c : Dev nD) (t : Fin cfg0.N) (d) : (dat m 0 c).before 0 t d = iblk m c 0 t :=
  before0_0_of m (dat m 0 c) (dat_A m c 0) (after_0 m c) t d
theorem before_1 (c : Dev nD) (t : Fin cfg0.N) (d) : (dat m 0 c).before 1 t d = iblk m c 1 t :=
  before0_1_of m (dat m 0 c) (dat_A m c 1) (after_1 m c) t d

def bodyPre (c : Dev nD) (t : Fin cfg0.N) : sProp 𝕄 :=
  iprop((dat m 0 c).Φ t.castSucc ∗ (dat m 0 c).owesAt () t.castSucc
    ∗ (∃ d, owns (c : Thread nD τ) (ms0_0 t) fullShare ((dat m 0 c).before 0 t d))
    ∗ (∃ d, owns (c : Thread nD τ) (ms0_1 t) fullShare ((dat m 0 c).before 1 t d))
    ∗ (∃ d, owns (c : Thread nD τ) (ms0_2 t) fullShare ((dat m 0 c).before 2 t d))
    ∗ (∃ d, owns (c : Thread nD τ) (ms0_3 t) fullShare ((dat m 0 c).before 3 t d)))

def bodyPost (c : Dev nD) (t : Fin cfg0.N) : sProp 𝕄 :=
  iprop((dat m 0 c).Φ t.succ ∗ (dat m 0 c).owesAt () t.succ
    ∗ (dat m 0 c).leavesExact 0 t ∗ (dat m 0 c).leavesExact 1 t ∗ (dat m 0 c).leavesExact 2 t ∗ (dat m 0 c).leavesExact 3 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dat m 0 c).owesAt () t.succ = (dat m 0 c).owesAt () t.castSucc from rfl,
    show (dat m 0 c).Φ t.castSucc = Phi m c t.val from rfl,
    show (dat m 0 c).Φ t.succ = iprop(owns (c : Thread nD τ) scM0_0 fullShare (acc m c (t.val + 1)) ∗ (∃ r, prngReg c r)) from rfl, acc_succ,
    show (dat m 0 c).leavesExact 0 t = owns (c : Thread nD τ) (ms0_0 t) fullShare (iblk m c 0 t) from by
      unfold Dat.leavesExact; rw [liveAt0_0 t, after_0],
    show (dat m 0 c).leavesExact 1 t = owns (c : Thread nD τ) (ms0_1 t) fullShare (iblk m c 1 t) from by
      unfold Dat.leavesExact; rw [liveAt0_1 t, after_1],
    show (dat m 0 c).leavesExact 2 t = owns (c : Thread nD τ) (ms0_2 t) fullShare (dyB (iblk m c 0 t) (iblk m c 1 t)) from by
      unfold Dat.leavesExact; rw [liveAt0_2 t, after_2]]
  have hN : t.val < 8 := lt_of_lt_of_eq t.isLt (show cfg0.N = 8 from N_0)
  by_cases h0 : t.val = 0
  · have c0 := (hcond0_0 t).mpr (by omega)
    have c1 : ¬ cond0_1 (grid0.coords t) := fun h => by have := (hcond0_1 t).mp h; omega
    rw [Dat.leavesExact_idle (dat m 0 c) 3 t (idleAt0_3_A t c0 c1) (noFlush0_3_A t c0 c1), h0,
      show Phi m c 0 = Pipeline.ΦA spec0 c from rfl, PhiA0_eq, show acc m c 0 = k0_pay1 from rfl]
    iintro ⟨⟨HS0, Hg⟩, Ho, ⟨%d0, H0⟩, ⟨%d1, H1⟩, ⟨%d2, H2⟩, ⟨%d3, H3⟩⟩
    iapply (runA c (grid0.coords t) _ _ _ _ _ _ _ _ _ _ c0 c1 (iblk m c 0 t) (iblk m c 1 t) _ _ Set.univ _)
    isplitl [H0]; · iexact H0
    isplitl [H1]; · iexact H1
    isplitl [H2]; · iexact H2
    isplitl [H3]; · iexact H3
    isplitl [HS0]; · iexact HS0
    unfold Left
    iintro ⟨H0, H1, H2, H3, HS0⟩
    isplitl [HS0 Hg]
    · isplitl [HS0]; · iexact HS0
      iexact Hg
    isplitl [Ho]; · iexact Ho
    isplitl [H0]; · iexact H0
    isplitl [H1]; · iexact H1
    isplitl [H2]; · iexact H2
    iexists _; iexact H3
  · have c0 : ¬ cond0_0 (grid0.coords t) := fun h => by have := (hcond0_0 t).mp h; omega
    rw [show Phi m c t.val = iprop(owns (c : Thread nD τ) scM0_0 fullShare (acc m c t.val) ∗ (∃ r, prngReg c r)) from by
      obtain ⟨n, hn⟩ := Nat.exists_eq_succ_of_ne_zero h0; rw [hn]; rfl]
    by_cases h1 : t.val = 7
    · have c1 := (hcond0_1 t).mpr (by omega)
      rw [show (dat m 0 c).leavesExact 3 t = owns (c : Thread nD τ) (ms0_3 t) fullShare (k0_pay5 (sums (iblk m c 0 t) (iblk m c 1 t) (acc m c t.val) 64)) from by
        unfold Dat.leavesExact; rw [liveAt0_3_C t c0 c1, after_3, acc_succ]]
      iintro ⟨⟨HS0, Hg⟩, Ho, ⟨%d0, H0⟩, ⟨%d1, H1⟩, ⟨%d2, H2⟩, ⟨%d3, H3⟩⟩
      iapply (runC c (grid0.coords t) _ _ _ _ _ _ _ _ _ _ c0 c1 (iblk m c 0 t) (iblk m c 1 t) _ _ _ Set.univ _)
      isplitl [H0]; · iexact H0
      isplitl [H1]; · iexact H1
      isplitl [H2]; · iexact H2
      isplitl [H3]; · iexact H3
      isplitl [HS0]; · iexact HS0
      unfold Left
      iintro ⟨H0, H1, H2, H3, HS0⟩
      isplitl [HS0 Hg]
      · isplitl [HS0]; · iexact HS0
        iexact Hg
      isplitl [Ho]; · iexact Ho
      isplitl [H0]; · iexact H0
      isplitl [H1]; · iexact H1
      isplitl [H2]; · iexact H2
      iexact H3
    · have c1 : ¬ cond0_1 (grid0.coords t) := fun h => by have := (hcond0_1 t).mp h; omega
      rw [Dat.leavesExact_idle (dat m 0 c) 3 t (idleAt0_3_B t c0 c1) (noFlush0_3_B t c0 c1)]
      iintro ⟨⟨HS0, Hg⟩, Ho, ⟨%d0, H0⟩, ⟨%d1, H1⟩, ⟨%d2, H2⟩, ⟨%d3, H3⟩⟩
      iapply (runB c (grid0.coords t) _ _ _ _ _ _ _ _ _ _ c0 c1 (iblk m c 0 t) (iblk m c 1 t) _ _ _ Set.univ _)
      isplitl [H0]; · iexact H0
      isplitl [H1]; · iexact H1
      isplitl [H2]; · iexact H2
      isplitl [H3]; · iexact H3
      isplitl [HS0]; · iexact HS0
      unfold Left
      iintro ⟨H0, H1, H2, H3, HS0⟩
      isplitl [HS0 Hg]
      · isplitl [HS0]; · iexact HS0
        iexact Hg
      isplitl [Ho]; · iexact Ho
      isplitl [H0]; · iexact H0
      isplitl [H1]; · iexact H1
      isplitl [H2]; · iexact H2
      iexists _; iexact H3

theorem body_obligation (c : Dev nD) : BodyObligation (dat (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

theorem hin (c : Dev nD) : Pipeline.ΦA spec0 c ⊢ (dat m 0 c).Φ 0 := Idealize.SL.BI.Entails.refl _

theorem hout (c : Dev nD) : (dat m 0 c).Φ (Fin.last cfg0.N) ⊢ Pipeline.ΦA spec0 c := by
  rw [show (dat m 0 c).Φ (Fin.last cfg0.N) = Phi m c 8 from rfl, show Phi m c 8 = iprop(owns (c : Thread nD τ) scM0_0 fullShare (acc m c 8) ∗ (∃ r, prngReg c r)) from rfl, PhiA0_eq]
  iintro ⟨HS0, Hg⟩
  isplitl [HS0]
  · iexists _; iexact HS0
  iexact Hg

set_option backward.isDefEq.respectTransparency.types false in
/-- The run: the arrays end as the points leave them, every semaphore counter at zero. -/
theorem run_quiescent : θ_run defs (onTc (τ := τ) (main (F := F))) (s₀ m ρ) (fun r => (Pipeline.FramePost cfgs (dat m) 0 (V m)) r ∧ r.2.sem = fun _ => 0) :=
  Pipeline.θ_run_frame_track (Q' := _) cfgs (dat m) (0 : Fin 1) launch0 defs₀ Variants.none m ρ main
    (hbody := fun c => (body_obligation m c).loose) (hshare := fun c => (dat m 0 c).share_full fun _ => rfl)
    (howed := fun _ _ => rfl) (V := V m) (hmain := hmain m Variants.none) (hA := dat_A m) (hin := hin m) (hout := hout m)

theorem run_main : θ_run defs (onTc (τ := τ) (main (F := F))) (s₀ m ρ) (Pipeline.FramePost cfgs (dat m) 0 (V m)) :=
  (θ_run defs _ _).mono (fun _ h => h.1) (run_quiescent m ρ)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dat m) (dat_A m) (run_main m ρ)) ((θ_run defs _ _).mono (fun _ h => h.2) (run_quiescent m ρ))

end Cert.Loss

end
-- ==== Proof.Loss.LossHead.lean ====
/-
  The loss head: the gradient of the loss by the output and the loss itself, as the call leaves them and as the reference
  gives them. The call adds the squares row group by row group into an 8 by 1024 scratch and scales the total once; the
  reference takes each row's mean, adds the means and halves. The scales are positive reals, so both are one sum, whatever the arguments are.
-/
module

public import proofs.«01_k».proof.Defs
public import proofs.«01_k».proof.Proof.Loss.Frame
public import proofs.«01_k».proof.Proof.Gen.LossHeadRefIdeal.Run
public import Idealize.ShloMosaic.Lib.Pointwise
public import Idealize.ShloMosaic.Lib.IdealHost
public import Idealize.ShloMosaic.Lib.Pipeline.ValueKit.Geometry

@[expose] public section

set_option maxRecDepth 16384

noncomputable section

open Idealize.ShloMosaic Idealize.ShloMosaic.TcCoe Idealize.SL.Sem

namespace Cert.LossHeadV

/-! ## Words and sums -/

theorem word_half : Ideal.ofBits .f32 0x3F000000#32 = (((1 : ℝ) / 2 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_1024 : Ideal.ofBits .f32 0x44800000#32 = ((1024 : ℝ) : EReal) := by
  simp [Ideal.ofBits, Ideal.ieee, -EReal.coe_mul]; norm_num

theorem word_scale : Ideal.ofBits .f32 0x3A000000#32 = (((1 : ℝ) / 2048 : ℝ) : EReal) := by
  simp [Ideal.ofBits, Ideal.ieee, -EReal.coe_mul]; norm_num

/-- Division by 1024 is a product with a real. -/
theorem div_1024 (x : EReal) : Ideal.div x (Ideal.ofBits .f32 0x44800000#32) = x * (((1 : ℝ) / 1024 : ℝ) : EReal) := by
  rw [word_1024]
  unfold Ideal.div
  rw [if_neg (by norm_num), ← EReal.coe_inv]
  norm_num

/-- A positive real factor comes out of a sum. -/
theorem sum_mul_real {ι : Type} (s : Finset ι) (f : ι → EReal) (r : ℝ) (hr : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih, EReal.right_distrib_of_nonneg_of_ne_top (EReal.coe_nonneg.mpr hr) (EReal.coe_ne_top r)]

/-- A sum over `a * b` numbers by groups of `b`. -/
theorem sum_groups (f : ℕ → EReal) (a b : ℕ) : ∑ n ∈ Finset.range (a * b), f n = ∑ i ∈ Finset.range a, ∑ j ∈ Finset.range b, f (i * b + j) := by
  induction a with
  | zero => simp
  | succ a ih => rw [Nat.succ_mul, Finset.sum_range_add, ih, Finset.sum_range_succ]

/-- The 8192 rows as 8 blocks of 64 groups of two by eight. -/
theorem sum_rows (f : ℕ → EReal) : ∑ t ∈ Finset.range 8, ∑ k ∈ Finset.range 64, ∑ q ∈ Finset.range 2, ∑ p ∈ Finset.range 8, f (1024 * t + 16 * k + (q * 8 + p))
    = ∑ n ∈ Finset.range 8192, f n := by
  rw [show (8192 : ℕ) = 8 * 1024 from rfl, sum_groups f 8 1024]
  refine Finset.sum_congr rfl fun t _ => ?_
  rw [show (1024 : ℕ) = 64 * 16 from rfl, sum_groups (fun n => f (t * (64 * 16) + n)) 64 16]
  refine Finset.sum_congr rfl fun k _ => ?_
  rw [show (16 : ℕ) = 2 * 8 from rfl, sum_groups (fun n => f (t * (64 * (2 * 8)) + (k * (2 * 8) + n))) 2 8]
  refine Finset.sum_congr rfl fun q _ => Finset.sum_congr rfl fun p _ => congrArg f ?_
  ring

/-- One entry's squared difference. -/
def sq (x y : (⟨2, ![8192, 1024]⟩ : Shape).Idx → EReal) (n : ℕ) (j : Fin 1024) : EReal :=
  if h : n < 8192 then (x (ix2 ⟨n, h⟩ j) - y (ix2 ⟨n, h⟩ j)) * (x (ix2 ⟨n, h⟩ j) - y (ix2 ⟨n, h⟩ j)) else 0

/-- The gradient by the output. -/
def G2 (x y : (⟨2, ![8192, 1024]⟩ : Shape).Idx → EReal) (i : (⟨2, ![8192, 1024]⟩ : Shape).Idx) : EReal := (x i - y i) * (((1 : ℝ) / 1024 : ℝ) : EReal)

/-- The loss, at every entry of the tile. -/
def G3 (x y : (⟨2, ![8192, 1024]⟩ : Shape).Idx → EReal) (i : (⟨2, ![8, 128]⟩ : Shape).Idx) : EReal :=
  (((1 : ℝ) / 2048 : ℝ) : EReal) * ∑ n ∈ Finset.range 8192, ∑ j : Fin 1024, sq x y n j

/-! ## The call -/

open Cert.LossHeadIdeal Cert.LossHeadIdeal.Gen Cert.Loss

variable (m : (ℓ : Loc nD τ sig) → Buf (Elt Ideal) ℓ)

theorem idx_nat : ∀ t : Fin cfg0.N, (cfg0.win 0).index t = ![t.val, 0] ∧ (cfg0.win 1).index t = ![t.val, 0] ∧ (cfg0.win 2).index t = ![t.val, 0]
    ∧ (cfg0.win 3).index t = ![0, 0] ∧ ((cfg0.win 3).flush t = true → t.val = 7) ∧ t.val < 8 :=
  (by decide +kernel : ∀ t : Fin grid0.N, win0_0.index t = ![t.val, 0] ∧ win0_1.index t = ![t.val, 0] ∧ win0_2.index t = ![t.val, 0]
    ∧ win0_3.index t = ![0, 0] ∧ (win0_3.flush t = true → t.val = 7) ∧ t.val < 8)

theorem covers2 : (cfg0.win 2).Covers := (by decide +kernel : win0_2.Covers)
theorem covers3 : (cfg0.win 3).Covers := (by decide +kernel : win0_3.Covers)

/-- Where an entry of point `t`'s block lies in the array. -/
def E (t : Fin cfg0.N) (y : S1024x1024.Idx) : S8192x1024.Idx :=
  ix2 ⟨1024 * t.val + (y 0).val, by have h := (idx_nat t).2.2.2.2.2; have h0 := (y 0).isLt; dsimp at h0; omega⟩ (y 1)

theorem emb2 (t : Fin cfg0.N) (y : S1024x1024.Idx) : ((cfg0.win 2).blk t).view.emb y = E t y := by
  refine funext fun ax => Fin.ext ?_
  have h : ((((cfg0.win 2).blk t).view.emb y ax : Fin _) : ℕ) = (cfg0.win 2).index t ax * S1024x1024.size ax + 1 * (y ax).val := rfl
  rw [(idx_nat t).2.2.1] at h
  refine h.trans ?_
  fin_cases ax <;> (simp [E, ix2] <;> omega)

theorem rd0 (c : Dev nD) (t : Fin cfg0.N) (y : S1024x1024.Idx) : iblk m c 0 t y = m ((c.tc : Thread nD τ).loc main_arg0) (E t y) := by
  refine (congrArg (V m c main_arg0) (funext fun ax => Fin.ext ?_)).trans (congrFun (V_main_arg0 m c) _)
  have h : ((((cfg0.win 0).blk t).view.emb y ax : Fin _) : ℕ) = (cfg0.win 0).index t ax * S1024x1024.size ax + 1 * (y ax).val := rfl
  rw [(idx_nat t).1] at h
  refine h.trans ?_
  fin_cases ax <;> (simp [E, ix2] <;> omega)

theorem rd1 (c : Dev nD) (t : Fin cfg0.N) (y : S1024x1024.Idx) : iblk m c 1 t y = m ((c.tc : Thread nD τ).loc main_arg1) (E t y) := by
  refine (congrArg (V m c main_arg1) (funext fun ax => Fin.ext ?_)).trans (congrFun (V_main_arg1 m c) _)
  have h : ((((cfg0.win 1).blk t).view.emb y ax : Fin _) : ℕ) = (cfg0.win 1).index t ax * S1024x1024.size ax + 1 * (y ax).val := rfl
  rw [(idx_nat t).2.1] at h
  refine h.trans ?_
  fin_cases ax <;> (simp [E, ix2] <;> omega)

theorem final2 (c : Dev nD) : (dat m 0 c).arrAt 2 cfg0.N = G2 (m ((c.tc : Thread nD τ).loc main_arg0)) (m ((c.tc : Thread nD τ).loc main_arg1)) := by
  refine (dat m 0 c).arrAt_eq_of_covers 2 _ covers2 (fun t hf y => ?_)
  rw [after_2]
  refine Eq.trans ?_ (congrArg (G2 (m ((c.tc : Thread nD τ).loc main_arg0)) (m ((c.tc : Thread nD τ).loc main_arg1))) (emb2 t y)).symm
  refine (div_1024 _).trans ?_
  exact congrArg₂ (fun a b : EReal => (a - b) * (((1 : ℝ) / 1024 : ℝ) : EReal)) (rd0 m c t y) (rd1 m c t y)

/-- An entry of a group of 16 rows. -/
theorem rows_apply (x : Vec Ideal S1024x1024 .f32) (k : Fin k0_t1_loop.trips) (a : Fin 16) (j : Fin 1024) :
    rows x k (ix2 a j) = x (ix2 ⟨16 * k.val + a.val, by have h := lt_of_lt_of_eq k.isLt trips_eq; omega⟩ j) := by
  unfold rows View.ld
  refine congrArg x (funext fun ax => Fin.ext ?_)
  show k0_off1 k ax + 1 * (ix2 a j ax).val = _
  rw [k0_off1_eq]
  fin_cases ax <;> simp [ix2]

theorem pay4 (u w : Vec Ideal S16x1024 .f32) (a : Vec Ideal S8x1024 .f32) (p : Fin 8) (j : Fin 1024) :
    k0_pay4 (F := Ideal) u w a (ix2 p j) = a (ix2 p j) + ∑ q : Fin 2, (u (ix2 ⟨q.val * 8 + p.val, by omega⟩ j) - w (ix2 ⟨q.val * 8 + p.val, by omega⟩ j))
      * (u (ix2 ⟨q.val * 8 + p.val, by omega⟩ j) - w (ix2 ⟨q.val * 8 + p.val, by omega⟩ j)) := by
  unfold k0_pay4 k0_pay2
  pointwise

theorem pay5 (a : Vec Ideal S8x1024 .f32) (i : S8x128.Idx) : k0_pay5 (F := Ideal) a i = (((1 : ℝ) / 2048 : ℝ) : EReal) * ∑ p : Fin 8, ∑ j : Fin 1024, a (ix2 p j) := by
  unfold k0_pay5
  pointwise
  rw [← word_scale]

variable {m} in
theorem sums_apply (c : Dev nD) (t : Fin cfg0.N) (a : Vec Ideal S8x1024 .f32) (p : Fin 8) (j : Fin 1024) : ∀ n ≤ 64,
    sums (F := Ideal) (iblk m c 0 t) (iblk m c 1 t) a n (ix2 p j) = a (ix2 p j) + ∑ k ∈ Finset.range n, ∑ q ∈ Finset.range 2,
      sq (m ((c.tc : Thread nD τ).loc main_arg0)) (m ((c.tc : Thread nD τ).loc main_arg1)) (1024 * t.val + 16 * k + (q * 8 + p.val)) j := by
  intro n
  induction n with
  | zero => intro _; simp [sums]
  | succ n ih =>
    intro hn
    have h : n < k0_t1_loop.trips := by rw [trips_eq]; omega
    rw [sums, dif_pos h, pay4, ih (by omega), Finset.sum_range_succ _ n, add_assoc]
    congr 2
    rw [Finset.sum_range]
    refine Finset.sum_congr rfl fun q _ => ?_
    have ht := (idx_nat t).2.2.2.2.2
    unfold sq
    rw [dif_pos (by omega), rows_apply, rows_apply, rd0, rd1]
    have e : E t (ix2 ⟨16 * n + (q.val * 8 + p.val), by omega⟩ j) = ix2 ⟨1024 * t.val + 16 * n + (q.val * 8 + p.val), by omega⟩ j := by
      refine funext fun ax => Fin.ext ?_
      fin_cases ax <;> simp [E, ix2]; omega
    rw [e]

theorem acc_apply (c : Dev nD) (p : Fin 8) (j : Fin 1024) : ∀ n ≤ 8, acc m c n (ix2 p j) = ∑ t ∈ Finset.range n, ∑ k ∈ Finset.range 64, ∑ q ∈ Finset.range 2,
      sq (m ((c.tc : Thread nD τ).loc main_arg0)) (m ((c.tc : Thread nD τ).loc main_arg1)) (1024 * t + 16 * k + (q * 8 + p.val)) j := by
  intro n
  induction n with
  | zero => intro _; unfold acc k0_pay1; pointwise; simp
  | succ n ih =>
    intro hn
    rw [acc_succ m c ⟨n, lt_of_lt_of_eq (show n < 8 by omega) (show cfg0.N = 8 from N_0).symm⟩, sums_apply c _ _ p j 64 le_rfl, ih (by omega), Finset.sum_range_succ _ n]

theorem total (c : Dev nD) : ∑ p : Fin 8, ∑ j : Fin 1024, acc m c 8 (ix2 p j) = ∑ n ∈ Finset.range 8192, ∑ j : Fin 1024,
      sq (m ((c.tc : Thread nD τ).loc main_arg0)) (m ((c.tc : Thread nD τ).loc main_arg1)) n j := by
  rw [← sum_rows]
  have h : ∀ p : Fin 8, ∑ j : Fin 1024, acc m c 8 (ix2 p j) = ∑ t ∈ Finset.range 8, ∑ k ∈ Finset.range 64, ∑ q ∈ Finset.range 2, ∑ j : Fin 1024,
      sq (m ((c.tc : Thread nD τ).loc main_arg0)) (m ((c.tc : Thread nD τ).loc main_arg1)) (1024 * t + 16 * k + (q * 8 + p.val)) j := fun p => by
    refine (Finset.sum_congr rfl fun j _ => acc_apply m c p j 8 le_rfl).trans ?_
    exact Finset.sum_comm.trans (Finset.sum_congr rfl fun t _ => Finset.sum_comm.trans (Finset.sum_congr rfl fun k _ => Finset.sum_comm))
  rw [Finset.sum_congr rfl fun p _ => h p]
  refine Finset.sum_comm.trans (Finset.sum_congr rfl fun t _ => Finset.sum_comm.trans (Finset.sum_congr rfl fun k _ => Finset.sum_comm.trans (Finset.sum_congr rfl fun q _ => ?_)))
  exact (Finset.sum_range (fun p => ∑ j : Fin 1024, sq (m ((c.tc : Thread nD τ).loc main_arg0)) (m ((c.tc : Thread nD τ).loc main_arg1)) (1024 * t + 16 * k + (q * 8 + p)) j)).symm

theorem final3 (c : Dev nD) : (dat m 0 c).arrAt 3 cfg0.N = G3 (m ((c.tc : Thread nD τ).loc main_arg0)) (m ((c.tc : Thread nD τ).loc main_arg1)) := by
  refine (dat m 0 c).arrAt_eq_of_covers 3 _ covers3 (fun t hf y => ?_)
  rw [after_3, (idx_nat t).2.2.2.2.1 hf]
  refine (pay5 _ _).trans ?_
  rw [total]; rfl

/-- The call's run: the two arrays, and the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v0_0) = G2 (m ((c.tc : Thread nD τ).loc main_arg0)) (m ((c.tc : Thread nD τ).loc main_arg1))
      ∧ r.2.mem ((c.tc : Thread nD τ).loc main_v0_1) = G3 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨((h.1 c).1 2).trans (final2 m c), ((h.1 c).1 3).trans (final3 m c), h.2.1 c⟩)
    (θ_run_and (run_main m ρ) (Cert.Loss.frame m ρ))

end Cert.LossHeadV

/-! ## The reference -/

namespace Cert.LossHeadV

open Cert.LossHeadRefIdeal Cert.LossHeadRefIdeal.Gen

theorem ref2 (x y : Vec Ideal S8192x1024 .f32) : mulf (F := Ideal) (φ := .f32) (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (subf x y)) = G2 x y := by
  funext i
  pointwise
  unfold G2
  refine (congrArg₂ (· * ·) (div_1024 _) rfl).trans ?_
  rw [word_half, word_two, ← mul_assoc, mul_comm (x i - y i), ← EReal.coe_mul, ← EReal.coe_mul]
  norm_num

theorem ref3 (x y : Vec Ideal S8192x1024 .f32) : (broadcastInDim S8x128 ![] bcast_S_S8x128 (mulf (F := Ideal) (φ := .f32) (constant S_ .f32 0x3F000000#32) (Host.reduceAdd (F := Ideal) (φ := .f32) (Host.divf (Host.reduceAdd (F := Ideal) (φ := .f32) (mulf (subf x y) (subf x y)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)) : Vec Ideal S8x128 .f32) = G3 x y := by
  funext i
  pointwise
  unfold G3
  have h : ∀ n : Fin 8192, Ideal.div (∑ j : Fin 1024, (x (ix2 n j) - y (ix2 n j)) * (x (ix2 n j) - y (ix2 n j))) (Ideal.ofBits FTy.f32 0x44800000#32)
      = (∑ j : Fin 1024, sq x y n.val j) * (((1 : ℝ) / 1024 : ℝ) : EReal) := fun n => by
    rw [div_1024]
    refine congrArg (· * _) (Finset.sum_congr rfl fun j _ => ?_)
    unfold sq
    rw [dif_pos n.isLt]
  rw [Finset.sum_congr rfl fun n _ => h n, sum_mul_real _ _ _ (by norm_num), ← Finset.sum_range (fun n => ∑ j : Fin 1024, sq x y n j), word_half,
    mul_comm (∑ n ∈ Finset.range 8192, ∑ j : Fin 1024, sq x y n j), ← mul_assoc, ← EReal.coe_mul]
  norm_num

/-- The reference's run: the same two arrays. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = G2 (m ((c.tc : Thread nD τ).loc main_arg0)) (m ((c.tc : Thread nD τ).loc main_arg1))
      ∧ r.2.mem ((c.tc : Thread nD τ).loc main_v15) = G3 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun r h c => ⟨(h c).1.trans (ref2 _ _), (h c).2.1.trans (ref3 _ _), (h c).2.2⟩) (Value.run m ρ)

theorem algebraic : Cert.algebraic_LossHeadIdeal_LossHeadRefIdeal := fun m g m' g' _ hag =>
  ⟨fun c => G2 (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)),
    fun c => G3 (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)),
    Cert.LossHeadV.run_blocks m g,
    (θ_run _ _ _).mono (fun r h c => by
      obtain ⟨h0, h1⟩ := hag c
      refine ⟨(h c).1.trans ?_, (h c).2.1.trans ?_, (h c).2.2⟩
      · rw [h0, h1]
      · rw [h0, h1]) (ref_run m' g')⟩

end Cert.LossHeadV

end
-- ==== Proof.Norm.Blocks.lean ====
/-
  Blocks that stores fill part by part: a block of 1024 rows filled by 64 groups of 16, one after the other, and blocks of
  two halves, each stored once. Over any values and any program.
-/
module

public import Idealize.ShloMosaic.Lib.VecWindow
public import Idealize.ShloMosaic.Lib.Pipeline.ReadBack
public import Idealize.ShloMosaic.Lib.Pipeline.Value
public import Idealize.ShloMosaic.Lib.Pointwise

@[expose] public section

set_option maxRecDepth 16384

noncomputable section

namespace Cert.Norm

open Idealize.ShloMosaic

variable {sig : RefSig} {Val : EltTy → Type} [∀ e, Nonempty (Val e)] {e : EltTy}

abbrev B16 : Shape := ⟨2, ![16, 1024]⟩
abbrev B1024 : Shape := ⟨2, ![1024, 1024]⟩

/-! ## Group by group -/

section groups

variable {T : ℕ} (hT : T = 64) (o : Fin T → Fin 2 → ℕ) (ho : ∀ k, o k = ![16 * k.val, 0]) (inb : ∀ k a, o k a + B16.size a ≤ B1024.size a)
  (w : Fin T → B16.Idx → Val e)

/-- The rectangle of group `k`. -/
abbrev R (k : Fin T) : Rect B1024 := Rect.unit (s := B1024) (o k) B16.size (inb k)

/-- What the trips before `n` write, the last first. -/
def groups : ℕ → List (View.Piece Val B1024 e)
  | 0 => []
  | n + 1 => (if h : n < T then [⟨R o inb ⟨n, h⟩, w ⟨n, h⟩⟩] else []) ++ groups n

/-- The block they fill. -/
def filled : B1024.Idx → Val e := fun j =>
  w ⟨(j 0).val / 16, by have h : (j 0).val < 1024 := (j 0).isLt; omega⟩ (ix2 ⟨(j 0).val % 16, by omega⟩ (j 1))

theorem groups_succ (k : Fin T) : groups o inb w (k.val + 1) = ⟨R o inb k, w k⟩ :: groups o inb w k.val := by
  rw [groups, dif_pos k.isLt]; rfl

include ho in
theorem group_of (k : Fin T) (x : B16.Idx) : w k x = filled hT w ((R o inb k).emb x) := by
  have hx : (x 0).val < 16 := (x 0).isLt
  have e0 : ((R o inb k).emb x 0).val = 16 * k.val + (x 0).val := by
    have h : ((R o inb k).emb x 0).val = o k 0 + 1 * (x 0).val := rfl
    rw [ho] at h; exact h.trans (by simp)
  have e1 : ((R o inb k).emb x 1).val = (x 1).val := by
    have h : ((R o inb k).emb x 1).val = o k 1 + 1 * (x 1).val := rfl
    rw [ho] at h; exact h.trans (by simp)
  have hk : (⟨((R o inb k).emb x 0).val / 16, by have := k.isLt; omega⟩ : Fin T) = k := Fin.ext (by show ((R o inb k).emb x 0).val / 16 = k.val; omega)
  show w k x = w _ _
  rw [hk]
  refine congrArg (w k) (funext fun a => Fin.ext ?_)
  fin_cases a
  · show (x 0).val = ((R o inb k).emb x 0).val % 16
    omega
  · exact e1.symm

include ho in
theorem groups_of (n : ℕ) : View.PiecesOf (filled hT w) (groups o inb w n) := by
  induction n with
  | zero => exact trivial
  | succ n ih =>
    show View.PiecesOf _ ((if h : n < T then [⟨R o inb ⟨n, h⟩, w ⟨n, h⟩⟩] else []) ++ groups o inb w n)
    split
    · exact ⟨fun x => group_of hT o ho inb w _ x, ih⟩
    · exact ih

theorem mem_groups (k : Fin T) (n : ℕ) (h : k.val < n) : (⟨R o inb k, w k⟩ : View.Piece Val B1024 e) ∈ groups o inb w n := by
  induction n with
  | zero => exact absurd h (Nat.not_lt_zero _)
  | succ n ih =>
    rw [groups]
    rcases Nat.lt_succ_iff_lt_or_eq.mp h with h | h
    · exact List.mem_append_right _ (ih h)
    · subst h; rw [dif_pos k.isLt]; exact List.mem_append_left _ List.mem_cons_self

include ho in
theorem read_groups (v : View sig .tc .vmem B1024 e) (f : BufTy.Contents Val v.ty) : v.read Val (v.writes Val f (groups o inb w 64)) = filled hT w := by
  have hc : ∀ y : B1024.Idx, ∃ p ∈ groups o inb w 64, y ∈ p.1.set := fun y => by
    have h0 : (y 0).val < 1024 := (y 0).isLt
    have h1 : (y 1).val < 1024 := (y 1).isLt
    refine ⟨_, mem_groups o inb w ⟨(y 0).val / 16, by omega⟩ 64 (show (y 0).val / 16 < 64 by omega), (Rect.mem_set_unit (inb := inb _)).mpr fun a => ?_⟩
    rw [ho]
    fin_cases a
    · constructor
      · show 16 * ((y 0).val / 16) ≤ (y 0).val
        omega
      · show (y 0).val < 16 * ((y 0).val / 16) + 16
        omega
    · exact ⟨Nat.zero_le _, by simpa using h1⟩
  rw [View.read_writes_eq_canon v f _ hc]
  exact funext fun y => View.canon_apply_of_pieces _ _ (View.PiecesOf.mem (groups_of hT o ho inb w 64)) y (hc y)

end groups

/-! ## Two halves -/

abbrev S2 : Shape := ⟨3, ![2, 8, 1024]⟩
abbrev S1 : Shape := ⟨3, ![1, 8, 1024]⟩

/-- A scratch of two halves. -/
def two (u w : S1.Idx → Val e) : S2.Idx → Val e := fun y => if (y 0).val = 0 then u (ix3 0 (y 1) (y 2)) else w (ix3 0 (y 1) (y 2))

theorem read_two (v : View sig .tc .vmem S2 e) (f : BufTy.Contents Val v.ty) (u w : S1.Idx → Val e)
    (i0 : ∀ a, (![0, 0, 0] : Fin 3 → ℕ) a + S1.size a ≤ S2.size a) (i1 : ∀ a, (![1, 0, 0] : Fin 3 → ℕ) a + S1.size a ≤ S2.size a) :
    v.read Val (v.writes Val f [⟨Rect.unit (s := S2) ![1, 0, 0] S1.size i1, w⟩, ⟨Rect.unit (s := S2) ![0, 0, 0] S1.size i0, u⟩]) = two u w := by
  have hc : ∀ y : S2.Idx, ∃ p ∈ ([⟨Rect.unit (s := S2) ![1, 0, 0] S1.size i1, w⟩, ⟨Rect.unit (s := S2) ![0, 0, 0] S1.size i0, u⟩] : List (View.Piece Val S2 e)), y ∈ p.1.set := fun y => by
    have h0 : (y 0).val < 2 := (y 0).isLt
    have h1 : (y 1).val < 8 := (y 1).isLt
    have h2 : (y 2).val < 1024 := (y 2).isLt
    by_cases h : (y 0).val = 0
    · refine ⟨⟨Rect.unit (s := S2) ![0, 0, 0] S1.size i0, u⟩, List.mem_cons_of_mem _ List.mem_cons_self, (Rect.mem_set_unit (inb := i0)).mpr fun a => ?_⟩
      fin_cases a
      · exact ⟨Nat.zero_le _, by simp [h]⟩
      · exact ⟨Nat.zero_le _, by simpa using h1⟩
      · exact ⟨Nat.zero_le _, by simpa using h2⟩
    · refine ⟨⟨Rect.unit (s := S2) ![1, 0, 0] S1.size i1, w⟩, List.mem_cons_self, (Rect.mem_set_unit (inb := i1)).mpr fun a => ?_⟩
      fin_cases a
      · exact ⟨by show 1 ≤ (y 0).val; omega, by simpa using h0⟩
      · exact ⟨Nat.zero_le _, by simpa using h1⟩
      · exact ⟨Nat.zero_le _, by simpa using h2⟩
  have hp : View.PiecesOf (two u w) ([⟨Rect.unit (s := S2) ![1, 0, 0] S1.size i1, w⟩, ⟨Rect.unit (s := S2) ![0, 0, 0] S1.size i0, u⟩] : List (View.Piece Val S2 e)) := by
    refine ⟨fun x => ?_, fun x => ?_, trivial⟩
    · have e : ∀ a, ((Rect.unit (s := S2) ![1, 0, 0] S1.size i1).emb x a).val = (![1, 0, 0] : Fin 3 → ℕ) a + 1 * (x a).val := fun _ => rfl
      have x0 : (x 0).val < 1 := (x 0).isLt
      unfold two
      rw [if_neg (by rw [e 0]; simp)]
      refine congrArg w (funext fun a => Fin.ext ?_)
      fin_cases a
      · show (x 0).val = 0; omega
      · exact (by have := e 1; simpa using this.symm)
      · exact (by have := e 2; simpa using this.symm)
    · have e : ∀ a, ((Rect.unit (s := S2) ![0, 0, 0] S1.size i0).emb x a).val = (![0, 0, 0] : Fin 3 → ℕ) a + 1 * (x a).val := fun _ => rfl
      have x0 : (x 0).val < 1 := (x 0).isLt
      unfold two
      rw [if_pos (by rw [e 0]; simp; omega)]
      refine congrArg u (funext fun a => Fin.ext ?_)
      fin_cases a
      · show (x 0).val = 0; omega
      · exact (by have := e 1; simpa using this.symm)
      · exact (by have := e 2; simpa using this.symm)
  rw [View.read_writes_eq_canon v f _ hc]
  exact funext fun y => View.canon_apply_of_pieces _ _ (View.PiecesOf.mem hp) y (hc y)

abbrev M2 : Shape := ⟨2, ![2, 1024]⟩
abbrev M1 : Shape := ⟨2, ![1, 1024]⟩

/-- A block of two rows. -/
def two1 (u w : M1.Idx → Val e) : M2.Idx → Val e := fun y => if (y 0).val = 0 then u (ix2 0 (y 1)) else w (ix2 0 (y 1))

theorem read_two1 (v : View sig .tc .vmem M2 e) (f : BufTy.Contents Val v.ty) (u w : M1.Idx → Val e)
    (i0 : ∀ a, (![0, 0] : Fin 2 → ℕ) a + M1.size a ≤ M2.size a) (i1 : ∀ a, (![1, 0] : Fin 2 → ℕ) a + M1.size a ≤ M2.size a) :
    v.read Val (v.writes Val f [⟨Rect.unit (s := M2) ![1, 0] M1.size i1, w⟩, ⟨Rect.unit (s := M2) ![0, 0] M1.size i0, u⟩]) = two1 u w := by
  have hc : ∀ y : M2.Idx, ∃ p ∈ ([⟨Rect.unit (s := M2) ![1, 0] M1.size i1, w⟩, ⟨Rect.unit (s := M2) ![0, 0] M1.size i0, u⟩] : List (View.Piece Val M2 e)), y ∈ p.1.set := fun y => by
    have h0 : (y 0).val < 2 := (y 0).isLt
    have h1 : (y 1).val < 1024 := (y 1).isLt
    by_cases h : (y 0).val = 0
    · refine ⟨⟨Rect.unit (s := M2) ![0, 0] M1.size i0, u⟩, List.mem_cons_of_mem _ List.mem_cons_self, (Rect.mem_set_unit (inb := i0)).mpr fun a => ?_⟩
      fin_cases a
      · exact ⟨Nat.zero_le _, by simp [h]⟩
      · exact ⟨Nat.zero_le _, by simpa using h1⟩
    · refine ⟨⟨Rect.unit (s := M2) ![1, 0] M1.size i1, w⟩, List.mem_cons_self, (Rect.mem_set_unit (inb := i1)).mpr fun a => ?_⟩
      fin_cases a
      · exact ⟨by show 1 ≤ (y 0).val; omega, by simpa using h0⟩
      · exact ⟨Nat.zero_le _, by simpa using h1⟩
  have hp : View.PiecesOf (two1 u w) ([⟨Rect.unit (s := M2) ![1, 0] M1.size i1, w⟩, ⟨Rect.unit (s := M2) ![0, 0] M1.size i0, u⟩] : List (View.Piece Val M2 e)) := by
    refine ⟨fun x => ?_, fun x => ?_, trivial⟩
    · have e : ∀ a, ((Rect.unit (s := M2) ![1, 0] M1.size i1).emb x a).val = (![1, 0] : Fin 2 → ℕ) a + 1 * (x a).val := fun _ => rfl
      have x0 : (x 0).val < 1 := (x 0).isLt
      unfold two1
      rw [if_neg (by rw [e 0]; simp)]
      refine congrArg w (funext fun a => Fin.ext ?_)
      fin_cases a
      · show (x 0).val = 0; omega
      · exact (by have := e 1; simpa using this.symm)
    · have e : ∀ a, ((Rect.unit (s := M2) ![0, 0] M1.size i0).emb x a).val = (![0, 0] : Fin 2 → ℕ) a + 1 * (x a).val := fun _ => rfl
      have x0 : (x 0).val < 1 := (x 0).isLt
      unfold two1
      rw [if_pos (by rw [e 0]; simp; omega)]
      refine congrArg u (funext fun a => Fin.ext ?_)
      fin_cases a
      · show (x 0).val = 0; omega
      · exact (by have := e 1; simpa using this.symm)
  rw [View.read_writes_eq_canon v f _ hc]
  exact funext fun y => View.canon_apply_of_pieces _ _ (View.PiecesOf.mem hp) y (hc y)

end Cert.Norm

end
-- ==== Proof.Norm.Sums.lean ====
/-
  Sums over 8192 rows taken block by block and group by group, and one row's norm. Over the extended reals.
-/
module

public import proofs.«01_k».proof.Proof.Norm.Blocks
public import Idealize.ShloMosaic.Lib.IdealHost

@[expose] public section

set_option maxRecDepth 16384

noncomputable section

namespace Cert.Norm

open Idealize.ShloMosaic

/-- A sum over `a * b` numbers by groups of `b`. -/
theorem sum_groups (f : ℕ → EReal) (a b : ℕ) : ∑ n ∈ Finset.range (a * b), f n = ∑ i ∈ Finset.range a, ∑ j ∈ Finset.range b, f (i * b + j) := by
  induction a with
  | zero => simp
  | succ a ih => rw [Nat.succ_mul, Finset.sum_range_add, ih, Finset.sum_range_succ]

/-- The 8192 rows as 8 blocks of 64 groups of two by eight, the eight outermost. -/
theorem sum_rows (f : ℕ → EReal) : ∑ p : Fin 8, ∑ t ∈ Finset.range 8, ∑ k ∈ Finset.range 64, ∑ q ∈ Finset.range 2, f (1024 * t + 16 * k + (q * 8 + p.val))
    = ∑ n : Fin 8192, f n.val := by
  rw [← Finset.sum_range f, show (8192 : ℕ) = 8 * 1024 from rfl, sum_groups f 8 1024,
    ← Finset.sum_range (fun p => ∑ t ∈ Finset.range 8, ∑ k ∈ Finset.range 64, ∑ q ∈ Finset.range 2, f (1024 * t + 16 * k + (q * 8 + p)))]
  refine Finset.sum_comm.trans (Finset.sum_congr rfl fun t _ => ?_)
  rw [show (1024 : ℕ) = 64 * 16 from rfl, sum_groups (fun n => f (t * (64 * 16) + n)) 64 16]
  refine Finset.sum_comm.trans (Finset.sum_congr rfl fun k _ => ?_)
  rw [show (16 : ℕ) = 2 * 8 from rfl, sum_groups (fun n => f (t * (64 * (2 * 8)) + (k * (2 * 8) + n))) 2 8]
  refine Finset.sum_comm.trans (Finset.sum_congr rfl fun q _ => Finset.sum_congr rfl fun p _ => congrArg f ?_)
  ring

/-- A row less its mean. -/
def ctr (f : Fin 1024 → EReal) (j : Fin 1024) : EReal := f j - Ideal.div (∑ l, f l) (Ideal.ofBits .f32 0x44800000#32)

/-- A row normed. -/
def nrm (f : Fin 1024 → EReal) (j : Fin 1024) : EReal :=
  ctr f j * Ideal.rsqrt (Ideal.div (∑ l, ctr f l * ctr f l) (Ideal.ofBits .f32 0x44800000#32) + Ideal.ofBits .f32 0x3727C5AC#32)

end Cert.Norm

end
-- ==== Proof.Norm.LnBwdRun.lean ====
/-
  The norm backward with one further cotangent: its body's loop over 64 groups of 16 rows, and the three cases of its conditionals. The two
  blocks of the row gradient end filled group by group, the scratch as `sums` says, the block of the gain's and the
  offset's gradients, at the last point, as the scratch's column sums. Over any float values.
-/
module

public import proofs.«01_k».proof.Proof.Gen.LnBwdIdeal.Frame.Runs
public import proofs.«01_k».proof.Proof.Norm.Blocks

@[expose] public section

set_option maxRecDepth 16384

noncomputable section

namespace Cert.LnBwdH

open Cert.Norm Cert.LnBwdIdeal Cert.LnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem trips_eq : k0_t1_loop.trips = 64 := by decide +kernel

/-- The rectangle of rows `16 k` to `16 k + 15`. -/
abbrev R16 (k : Fin k0_t1_loop.trips) : Rect S1024x1024 := Rect.unit (s := S1024x1024) (k0_off1 k) S16x1024.size (k0_off1_inb k)

/-- The scratch's two halves. -/
abbrev H0 : Rect S2x8x1024 := Rect.unit (s := S2x8x1024) ![0, 0, 0] S1x8x1024.size inb_S2x8x1024_S1x8x1024_0_0_0
abbrev H1 : Rect S2x8x1024 := Rect.unit (s := S2x8x1024) ![1, 0, 0] S1x8x1024.size inb_S2x8x1024_S1x8x1024_1_0_0

/-- The two rows of the last block. -/
abbrev L0 : Rect S2x1024 := Rect.unit (s := S2x1024) ![0, 0] S1x1024.size inb_S2x1024_S1x1024_0_0
abbrev L1 : Rect S2x1024 := Rect.unit (s := S2x1024) ![1, 0] S1x1024.size inb_S2x1024_S1x1024_1_0

/-- A group of rows of a block; half of a scratch. -/
def rows (x : Vec F S1024x1024 .f32) (k : Fin k0_t1_loop.trips) : Vec F S16x1024 .f32 := View.ld (Val := Elt F) (e' := EltTy.f32) x (R16 k)
def half (a : Vec F S2x8x1024 .f32) (r : Rect S2x8x1024) : r.shape.Idx → Elt F .f32 := View.ld (Val := Elt F) (e' := EltTy.f32) a r

/-- A group's normed rows, its cotangent, and its row gradient. -/
def xh (x0 : Vec F S1024x1024 .f32) (k : Fin k0_t1_loop.trips) : Vec F S16x1024 .f32 := k0_pay9 (rows x0 k)
def dy (x2 x3 : Vec F S1024x1024 .f32) (k : Fin k0_t1_loop.trips) : Vec F S16x1024 .f32 := k0_pay10 (rows x2 k) (rows x3 k)
def dr (g : Vec F S1x1024 .f32) (x0 x2 x3 : Vec F S1024x1024 .f32) (k : Fin k0_t1_loop.trips) : Vec F S16x1024 .f32 := k0_pay11 g (rows x0 k) (rows x2 k) (rows x3 k)
def drb (g : Vec F S1x1024 .f32) (x0 x2 x3 : Vec F S1024x1024 .f32) (k : Fin k0_t1_loop.trips) : Vec F S16x1024 .bf16 := k0_pay2 (dr g x0 x2 x3 k)

/-- The last block, of a scratch. -/
def last (a : Vec F S2x8x1024 .f32) : Vec F S2x1024 .f32 := two1 (k0_pay5 (half a H0)) (k0_pay6 (half a H1))

/-- The pieces of the trips before `n`, and the block they fill. -/
def pieces {e : EltTy} (w : Fin k0_t1_loop.trips → S16x1024.Idx → Elt F e) (n : ℕ) : List (View.Piece (Elt F) S1024x1024 e) := groups k0_off1 k0_off1_inb w n
def fill {e : EltTy} (w : Fin k0_t1_loop.trips → S16x1024.Idx → Elt F e) : S1024x1024.Idx → Elt F e := filled trips_eq w

theorem pieces_succ {e : EltTy} (w : Fin k0_t1_loop.trips → S16x1024.Idx → Elt F e) (k : Fin k0_t1_loop.trips) :
    pieces w (k.val + 1) = ⟨R16 k, w k⟩ :: pieces w k.val := groups_succ _ _ _ k

theorem read_pieces {e : EltTy} (w : Fin k0_t1_loop.trips → S16x1024.Idx → Elt F e) (v : View sig .tc .vmem S1024x1024 e) (f : BufTy.Contents (Elt F) v.ty) :
    v.read (Elt F) (v.writes (Elt F) f (pieces w 64)) = fill w := read_groups trips_eq _ k0_off1_eq _ _ _ _

/-- One trip's two stores into the scratch, of what it finds there. -/
def add2 (x0 x2 x3 : Vec F S1024x1024 .f32) (k : Fin k0_t1_loop.trips) (a : Vec F S2x8x1024 .f32) : List (View.Piece (Elt F) S2x8x1024 .f32) :=
  [⟨H1, k0_pay4 (dy x2 x3 k) (half a H1)⟩, ⟨H0, k0_pay3 (xh x0 k) (dy x2 x3 k) (half a H0)⟩]

/-- The scratch's value after the trips before `n`, from `a`. -/
def sums (x0 x2 x3 : Vec F S1024x1024 .f32) (a : Vec F S2x8x1024 .f32) : ℕ → Vec F S2x8x1024 .f32
  | 0 => a
  | n + 1 => if h : n < k0_t1_loop.trips then
      two (k0_pay3 (xh x0 ⟨n, h⟩) (dy x2 x3 ⟨n, h⟩) (half (sums x0 x2 x3 a n) H0)) (k0_pay4 (dy x2 x3 ⟨n, h⟩) (half (sums x0 x2 x3 a n) H1))
    else sums x0 x2 x3 a n

/-- The scratch after the trips before `n`, entered at `G`. -/
def scr (v : View sig .tc .vmem S2x8x1024 .f32) (x0 x2 x3 : Vec F S1024x1024 .f32) (G : BufTy.Contents (Elt F) v.ty) : ℕ → BufTy.Contents (Elt F) v.ty
  | 0 => G
  | n + 1 => if h : n < k0_t1_loop.trips then
      v.writes (Elt F) (scr v x0 x2 x3 G n) (add2 x0 x2 x3 ⟨n, h⟩ (v.read (Elt F) (scr v x0 x2 x3 G n)))
    else scr v x0 x2 x3 G n

theorem scr_succ (v : View sig .tc .vmem S2x8x1024 .f32) (x0 x2 x3 : Vec F S1024x1024 .f32) (G : BufTy.Contents (Elt F) v.ty) (k : Fin k0_t1_loop.trips) :
    scr v x0 x2 x3 G (k.val + 1) = v.writes (Elt F) (scr v x0 x2 x3 G k.val) (add2 x0 x2 x3 k (v.read (Elt F) (scr v x0 x2 x3 G k.val))) := by
  rw [scr, dif_pos k.isLt]

theorem read_scr (v : View sig .tc .vmem S2x8x1024 .f32) (x0 x2 x3 : Vec F S1024x1024 .f32) (G : BufTy.Contents (Elt F) v.ty) (n : ℕ) :
    v.read (Elt F) (scr v x0 x2 x3 G n) = sums x0 x2 x3 (v.read (Elt F) G) n := by
  induction n with
  | zero => rfl
  | succ n ih =>
    rw [scr, sums]
    split
    · exact (read_two v _ _ _ _ _).trans (by rw [ih])
    · exact ih

/-! ## The loop -/

section body

variable (𝒱 : Variants) (c : Dev nD) (bd : Option 𝒱.V) (E : Set ℕ) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S2x1024 .f32) (harg7 : arg7.IsWhole) (arg8 : Memref sig .tc .vmem S2x8x1024 .f32) (harg8 : arg8.IsWhole)
  (g : Vec F S1x1024 .f32) (X1 : BufTy.Contents (Elt F) arg1.view.ty) (X3 : BufTy.Contents (Elt F) arg3.view.ty) (X4 : BufTy.Contents (Elt F) arg4.view.ty)

/-- One trip's pieces, spelled out. -/
theorem trip_pieces (k : Fin k0_t1_loop.trips) (fD : BufTy.Contents (Elt F) arg5.view.ty) (fB : BufTy.Contents (Elt F) arg6.view.ty) (fS : BufTy.Contents (Elt F) arg8.view.ty) :
    tripL_k0_t1 (F := F) 𝒱 c bd i arg1 harg1 arg2 harg2 arg3 harg3 arg4 harg4 arg5 harg5 arg6 harg6 arg7 harg7 arg8 harg8 g X1 X3 X4 k fD fB fS
      = ([⟨R16 k, dr g (arg1.view.read (Elt F) X1) (arg3.view.read (Elt F) X3) (arg4.view.read (Elt F) X4) k⟩], [⟨R16 k, drb g (arg1.view.read (Elt F) X1) (arg3.view.read (Elt F) X3) (arg4.view.read (Elt F) X4) k⟩],
         add2 (arg1.view.read (Elt F) X1) (arg3.view.read (Elt F) X3) (arg4.view.read (Elt F) X4) k (arg8.view.read (Elt F) fS)) := by
  unfold tripL_k0_t1 trip_k0_t1
  dsimp only
  rfl

set_option warn.classDefReducibility false in
/-- The loop: before trip `k` the two blocks hold what the trips before wrote, the scratch the sums so far. -/
@[sl_loop] def loopH (GD : BufTy.Contents (Elt F) arg5.view.ty) (GB : BufTy.Contents (Elt F) arg6.view.ty) (GS : BufTy.Contents (Elt F) arg8.view.ty) :
    LoopInv (M := 𝕄) Idealize.ShloMosaic.frame (wpE (defs₀ (F := F)) 𝒱 (c : Thread nD τ) bd) E k0_t1_loop.lb k0_t1_loop.ub k0_t1_loop.st k0_t1_ok ()
      (k0_t1_body (F := F) i arg1 harg1 arg2 harg2 arg3 harg3 arg4 harg4 arg5 harg5 arg6 harg6 arg7 harg7 arg8 harg8 g) where
  inv k _ := iprop((arg1.view.loc (c : Thread nD τ) ↦[arg1.view.set]{fullShare} X1) ∗ (arg3.view.loc (c : Thread nD τ) ↦[arg3.view.set]{fullShare} X3) ∗ (arg4.view.loc (c : Thread nD τ) ↦[arg4.view.set]{fullShare} X4)
    ∗ (∃ f, (arg5.view.loc (c : Thread nD τ) ↦[arg5.view.set]{fullShare} f) ∗ ⌜f = arg5.view.writes (Elt F) GD (pieces (dr g (arg1.view.read (Elt F) X1) (arg3.view.read (Elt F) X3) (arg4.view.read (Elt F) X4)) k)⌝)
    ∗ (∃ f, (arg6.view.loc (c : Thread nD τ) ↦[arg6.view.set]{fullShare} f) ∗ ⌜f = arg6.view.writes (Elt F) GB (pieces (drb g (arg1.view.read (Elt F) X1) (arg3.view.read (Elt F) X3) (arg4.view.read (Elt F) X4)) k)⌝)
    ∗ (∃ f, (arg8.view.loc (c : Thread nD τ) ↦[arg8.view.set]{fullShare} f) ∗ ⌜f = scr arg8.view (arg1.view.read (Elt F) X1) (arg3.view.read (Elt F) X3) (arg4.view.read (Elt F) X4) GS k⌝))
  step k acc := by
    iintro ⟨HR1, HR3, HR4, ⟨%fD, HWD, %hD⟩, ⟨%fB, HWB, %hB⟩, ⟨%fS, HWS, %hS⟩⟩
    iapply (wp_wand_r Idealize.ShloMosaic.frame (wpE (defs₀ (F := F)) 𝒱 (c : Thread nD τ) bd) E)
    isplitl [HR1 HR3 HR4 HWD HWB HWS]
    · iapply ((trip_k0_t1 (F := F) 𝒱 c bd i arg1 harg1 arg2 harg2 arg3 harg3 arg4 harg4 arg5 harg5 arg6 harg6 arg7 harg7 arg8 harg8 g X1 X3 X4 k).2.2.2 E fD fB fS)
      isplitl [HR1]; · iexact HR1
      isplitl [HR3]; · iexact HR3
      isplitl [HR4]; · iexact HR4
      isplitl [HWD]; · iexact HWD
      isplitl [HWB]; · iexact HWB
      iexact HWS
    · iintro %_ ⟨HR1, HR3, HR4, HWD, HWB, HWS⟩
      isplitl [HR1]; · iexact HR1
      isplitl [HR3]; · iexact HR3
      isplitl [HR4]; · iexact HR4
      have e := trip_pieces 𝒱 c bd i arg1 harg1 arg2 harg2 arg3 harg3 arg4 harg4 arg5 harg5 arg6 harg6 arg7 harg7 arg8 harg8 g X1 X3 X4 k fD fB fS
      isplitl [HWD]
      · iexists _; isplitl [HWD]; · iexact HWD
        ipureintro
        rw [pieces_succ, show (trip_k0_t1 (F := F) 𝒱 c bd i arg1 harg1 arg2 harg2 arg3 harg3 arg4 harg4 arg5 harg5 arg6 harg6 arg7 harg7 arg8 harg8 g X1 X3 X4 k).1 fD fB fS = _ from congrArg Prod.fst e, hD, ← View.writes_append]
        rfl
      isplitl [HWB]
      · iexists _; isplitl [HWB]; · iexact HWB
        ipureintro
        rw [pieces_succ, show (trip_k0_t1 (F := F) 𝒱 c bd i arg1 harg1 arg2 harg2 arg3 harg3 arg4 harg4 arg5 harg5 arg6 harg6 arg7 harg7 arg8 harg8 g X1 X3 X4 k).2.1 fD fB fS = _ from congrArg (fun p => p.2.1) e, hB, ← View.writes_append]
        rfl
      iexists _; isplitl [HWS]; · iexact HWS
      ipureintro
      rw [scr_succ, show (trip_k0_t1 (F := F) 𝒱 c bd i arg1 harg1 arg2 harg2 arg3 harg3 arg4 harg4 arg5 harg5 arg6 harg6 arg7 harg7 arg8 harg8 g X1 X3 X4 k).2.2.1 fD fB fS = _ from congrArg (fun p => p.2.2) e, hS]

end body

/-! ## The body -/

section run

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S2x1024 .f32) (harg7 : arg7.IsWhole) (arg8 : Memref sig .tc .vmem S2x8x1024 .f32) (harg8 : arg8.IsWhole)
  (x0 x2 x3 : Vec F S1024x1024 .f32) (x1 : Vec F S1x1024 .f32) (y4 : Vec F S1024x1024 .f32) (y5 : Vec F S1024x1024 .bf16) (y6 : Vec F S2x1024 .f32) (ys : Vec F S2x8x1024 .f32)

/-- What the body leaves: the inputs' blocks as they were, the row gradient's two blocks, the last block at `z`, the scratch at `s`. -/
def Left (arg1 : Memref sig .tc .vmem S1024x1024 .f32) (arg2 : Memref sig .tc .vmem S1x1024 .f32) (arg3 : Memref sig .tc .vmem S1024x1024 .f32) (arg4 : Memref sig .tc .vmem S1024x1024 .f32) (arg5 : Memref sig .tc .vmem S1024x1024 .f32) (arg6 : Memref sig .tc .vmem S1024x1024 .bf16) (arg7 : Memref sig .tc .vmem S2x1024 .f32) (arg8 : Memref sig .tc .vmem S2x8x1024 .f32) (x0 x2 x3 : Vec F S1024x1024 .f32) (x1 : Vec F S1x1024 .f32) (z : Vec F S2x1024 .f32) (s : Vec F S2x8x1024 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (fill (dr x1 x0 x2 x3)) ∗ owns (c : Thread nD τ) arg6 fullShare (fill (drb x1 x0 x2 x3)) ∗ owns (c : Thread nD τ) arg7 fullShare z ∗ owns (c : Thread nD τ) arg8 fullShare s)

set_option maxHeartbeats 1000000 in
theorem runA (E : Set ℕ) (K : PUnit → sProp 𝕄) (hc0 : cond0_0 i) (hc1 : ¬cond0_1 i) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5 ∗ owns (c : Thread nD τ) arg7 fullShare y6 ∗ (∃ d, owns (c : Thread nD τ) arg8 fullShare d)
            ∗ (Left c arg1 arg2 arg3 arg4 arg5 arg6 arg7 arg8 x0 x2 x3 x1 y6 (sums x0 x2 x3 (k0_pay1 (F := F)) 64) -∗ K ⟨⟩))
          ⊢ wp frame (wpE (defs₀ (F := F)) Variants.none c none) E (cc0_ln_bwd i arg1 harg1 arg2 harg2 arg3 harg3 arg4 harg4 arg5 harg5 arg6 harg6 arg7 harg7 arg8 harg8) K := by
    simp only [cc0_ln_bwd_eq_skeleton]; unfold cc0_ln_bwd_skel
    unfold Left owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg1.eq_unread hf1; obtain rfl := harg2.eq_unread hf2; obtain rfl := harg3.eq_unread hf3; obtain rfl := harg4.eq_unread hf4; obtain rfl := harg7.eq_unread hf7
    sl_exec (disch := first | sl_exact hc0 | sl_exact hc1)
    sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr
      swap; · iexact H5
      ipureintro; rw [View.readAt_full, hf2, hf1, hf3, hf4]; exact read_pieces _ _ _
    isplitl [H6]
    · iexists _; isplitr
      swap; · iexact H6
      ipureintro; rw [View.readAt_full, hf2, hf1, hf3, hf4]; exact read_pieces _ _ _
    isplitl [H7]
    · iexists _; isplitr; · ipureintro; exact hf7
      iexact H7
    iexists _; isplitr
    swap; · iexact HS0
    ipureintro; rw [hf1, hf3, hf4]
    exact (read_scr _ _ _ _ _ _).trans (congrArg (sums x0 x2 x3 · 64) (View.read_writes_full arg8.view _ _ _ []))

set_option maxHeartbeats 1000000 in
theorem runB (E : Set ℕ) (K : PUnit → sProp 𝕄) (hc0 : ¬cond0_0 i) (hc1 : ¬cond0_1 i) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5 ∗ owns (c : Thread nD τ) arg7 fullShare y6 ∗ owns (c : Thread nD τ) arg8 fullShare ys
            ∗ (Left c arg1 arg2 arg3 arg4 arg5 arg6 arg7 arg8 x0 x2 x3 x1 y6 (sums x0 x2 x3 ys 64) -∗ K ⟨⟩))
          ⊢ wp frame (wpE (defs₀ (F := F)) Variants.none c none) E (cc0_ln_bwd i arg1 harg1 arg2 harg2 arg3 harg3 arg4 harg4 arg5 harg5 arg6 harg6 arg7 harg7 arg8 harg8) K := by
    simp only [cc0_ln_bwd_eq_skeleton]; unfold cc0_ln_bwd_skel
    unfold Left owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs, HS0⟩, Hk⟩
    obtain rfl := harg1.eq_unread hf1; obtain rfl := harg2.eq_unread hf2; obtain rfl := harg3.eq_unread hf3; obtain rfl := harg4.eq_unread hf4; obtain rfl := harg7.eq_unread hf7; obtain rfl := harg8.eq_unread hfs
    sl_exec (disch := first | sl_exact hc0 | sl_exact hc1)
    sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr
      swap; · iexact H5
      ipureintro; rw [View.readAt_full, hf2, hf1, hf3, hf4]; exact read_pieces _ _ _
    isplitl [H6]
    · iexists _; isplitr
      swap; · iexact H6
      ipureintro; rw [View.readAt_full, hf2, hf1, hf3, hf4]; exact read_pieces _ _ _
    isplitl [H7]
    · iexists _; isplitr; · ipureintro; exact hf7
      iexact H7
    iexists _; isplitr
    swap; · iexact HS0
    ipureintro; rw [hf1, hf3, hf4]
    exact (read_scr _ _ _ _ _ _).trans (congrArg (sums x0 x2 x3 · 64) hfs)

set_option maxHeartbeats 1000000 in
theorem runC (E : Set ℕ) (K : PUnit → sProp 𝕄) (hc0 : ¬cond0_0 i) (hc1 : cond0_1 i) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5 ∗ owns (c : Thread nD τ) arg7 fullShare y6 ∗ owns (c : Thread nD τ) arg8 fullShare ys
            ∗ (Left c arg1 arg2 arg3 arg4 arg5 arg6 arg7 arg8 x0 x2 x3 x1 (last (sums x0 x2 x3 ys 64)) (sums x0 x2 x3 ys 64) -∗ K ⟨⟩))
          ⊢ wp frame (wpE (defs₀ (F := F)) Variants.none c none) E (cc0_ln_bwd i arg1 harg1 arg2 harg2 arg3 harg3 arg4 harg4 arg5 harg5 arg6 harg6 arg7 harg7 arg8 harg8) K := by
    simp only [cc0_ln_bwd_eq_skeleton]; unfold cc0_ln_bwd_skel
    unfold Left owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs, HS0⟩, Hk⟩
    obtain rfl := harg1.eq_unread hf1; obtain rfl := harg2.eq_unread hf2; obtain rfl := harg3.eq_unread hf3; obtain rfl := harg4.eq_unread hf4; obtain rfl := harg8.eq_unread hfs
    sl_exec (disch := first | sl_exact hc0 | sl_exact hc1)
    sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr
      swap; · iexact H5
      ipureintro; rw [View.readAt_full, hf2, hf1, hf3, hf4]; exact read_pieces _ _ _
    isplitl [H6]
    · iexists _; isplitr
      swap; · iexact H6
      ipureintro; rw [View.readAt_full, hf2, hf1, hf3, hf4]; exact read_pieces _ _ _
    isplitl [H7]
    · iexists _; isplitr
      swap; · iexact H7
      ipureintro
      refine (read_two1 _ _ _ _ _ _).trans (congrArg last ?_)
      rw [hf1, hf3, hf4]
      exact (read_scr _ _ _ _ _ _).trans (congrArg (sums x0 x2 x3 · 64) hfs)
    iexists _; isplitr
    swap; · iexact HS0
    ipureintro; rw [hf1, hf3, hf4]
    exact (read_scr _ _ _ _ _ _).trans (congrArg (sums x0 x2 x3 · 64) hfs)

end run

end Cert.LnBwdH

end
-- ==== Proof.Norm.LnBwdFrame.lean ====
/-
  The norm backward with one further cotangent: its whole run. What each of the eight points finds in the scratch and leaves in the blocks,
  the body's obligation at a point out of the three runs, and the run of the program. Over any float values.
-/
module

public import proofs.«01_k».proof.Proof.Norm.LnBwdRun
public import Idealize.ShloMosaic.Lib.Claim

@[expose] public section

set_option maxRecDepth 16384

noncomputable section

namespace Cert.LnBwdH

open Cert.Norm Cert.LnBwdIdeal Cert.LnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch before point `n`: the column sums of the blocks before it. -/
def acc (c : Dev nD) : ℕ → Vec F S2x8x1024 .f32
  | 0 => k0_pay1
  | n + 1 => if h : n < cfg0.N then sums (iblk m c 0 ⟨n, h⟩) (iblk m c 2 ⟨n, h⟩) (iblk m c 3 ⟨n, h⟩) (acc c n) 64 else acc c n

theorem acc_succ (c : Dev nD) (t : Fin cfg0.N) : acc m c (t.val + 1) = sums (iblk m c 0 t) (iblk m c 2 t) (iblk m c 3 t) (acc m c t.val) 64 := by
  rw [acc, dif_pos t.isLt]

/-- What holds before point `n`: nothing is known of the scratch before the first, later it holds `acc`. -/
def Phi (c : Dev nD) : ℕ → sProp 𝕄
  | 0 => Pipeline.ΦA spec0 c
  | n + 1 => iprop(owns (c : Thread nD τ) scM0_0 fullShare (acc m c (n + 1)) ∗ (∃ r, prngReg c r))

/-- The arrays as launched, what the body leaves in each block, and what holds between points. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => fill (dr (iblk m c 1 t) (iblk m c 0 t) (iblk m c 2 t) (iblk m c 3 t))
    | ⟨5, _⟩ => fill (drb (iblk m c 1 t) (iblk m c 0 t) (iblk m c 2 t) (iblk m c 3 t))
    | ⟨6, _⟩ => last (acc m c (t.val + 1))
  Φ t := Phi m c t.val
  q _ := fullShare
  owed _ := 0

theorem dat_A (c : Dev nD) (w : Fin cfg0.W) : (dat m 0 c).A w = V m c (Pipeline.arrRef spec0 w) := by dsimp only [dat]
theorem after_0 (c : Dev nD) (t : Fin cfg0.N) : (dat m 0 c).after 0 t = iblk m c 0 t := by dsimp only [dat]
theorem after_1 (c : Dev nD) (t : Fin cfg0.N) : (dat m 0 c).after 1 t = iblk m c 1 t := by dsimp only [dat]
theorem after_2 (c : Dev nD) (t : Fin cfg0.N) : (dat m 0 c).after 2 t = iblk m c 2 t := by dsimp only [dat]
theorem after_3 (c : Dev nD) (t : Fin cfg0.N) : (dat m 0 c).after 3 t = iblk m c 3 t := by dsimp only [dat]
theorem after_4 (c : Dev nD) (t : Fin cfg0.N) : (dat m 0 c).after 4 t = fill (dr (iblk m c 1 t) (iblk m c 0 t) (iblk m c 2 t) (iblk m c 3 t)) := by dsimp only [dat]
theorem after_5 (c : Dev nD) (t : Fin cfg0.N) : (dat m 0 c).after 5 t = fill (drb (iblk m c 1 t) (iblk m c 0 t) (iblk m c 2 t) (iblk m c 3 t)) := by dsimp only [dat]
theorem after_6 (c : Dev nD) (t : Fin cfg0.N) : (dat m 0 c).after 6 t = last (acc m c (t.val + 1)) := by dsimp only [dat]
theorem before_0 (c : Dev nD) (t : Fin cfg0.N) (d) : (dat m 0 c).before 0 t d = iblk m c 0 t :=
  before0_0_of m (dat m 0 c) (dat_A m c 0) (after_0 m c) t d
theorem before_1 (c : Dev nD) (t : Fin cfg0.N) (d) : (dat m 0 c).before 1 t d = iblk m c 1 t :=
  before0_1_of m (dat m 0 c) (dat_A m c 1) (after_1 m c) t d
theorem before_2 (c : Dev nD) (t : Fin cfg0.N) (d) : (dat m 0 c).before 2 t d = iblk m c 2 t :=
  before0_2_of m (dat m 0 c) (dat_A m c 2) (after_2 m c) t d
theorem before_3 (c : Dev nD) (t : Fin cfg0.N) (d) : (dat m 0 c).before 3 t d = iblk m c 3 t :=
  before0_3_of m (dat m 0 c) (dat_A m c 3) (after_3 m c) t d

def bodyPre (c : Dev nD) (t : Fin cfg0.N) : sProp 𝕄 :=
  iprop((dat m 0 c).Φ t.castSucc ∗ (dat m 0 c).owesAt () t.castSucc
    ∗ (∃ d, owns (c : Thread nD τ) (ms0_0 t) fullShare ((dat m 0 c).before 0 t d))
    ∗ (∃ d, owns (c : Thread nD τ) (ms0_1 t) fullShare ((dat m 0 c).before 1 t d))
    ∗ (∃ d, owns (c : Thread nD τ) (ms0_2 t) fullShare ((dat m 0 c).before 2 t d))
    ∗ (∃ d, owns (c : Thread nD τ) (ms0_3 t) fullShare ((dat m 0 c).before 3 t d))
    ∗ (∃ d, owns (c : Thread nD τ) (ms0_4 t) fullShare ((dat m 0 c).before 4 t d))
    ∗ (∃ d, owns (c : Thread nD τ) (ms0_5 t) fullShare ((dat m 0 c).before 5 t d))
    ∗ (∃ d, owns (c : Thread nD τ) (ms0_6 t) fullShare ((dat m 0 c).before 6 t d)))

def bodyPost (c : Dev nD) (t : Fin cfg0.N) : sProp 𝕄 :=
  iprop((dat m 0 c).Φ t.succ ∗ (dat m 0 c).owesAt () t.succ
    ∗ (dat m 0 c).leavesExact 0 t ∗ (dat m 0 c).leavesExact 1 t ∗ (dat m 0 c).leavesExact 2 t ∗ (dat m 0 c).leavesExact 3 t ∗ (dat m 0 c).leavesExact 4 t ∗ (dat m 0 c).leavesExact 5 t ∗ (dat m 0 c).leavesExact 6 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dat m 0 c).owesAt () t.succ = (dat m 0 c).owesAt () t.castSucc from rfl,
    show (dat m 0 c).Φ t.castSucc = Phi m c t.val from rfl,
    show (dat m 0 c).Φ t.succ = iprop(owns (c : Thread nD τ) scM0_0 fullShare (acc m c (t.val + 1)) ∗ (∃ r, prngReg c r)) from rfl, acc_succ,
    show (dat m 0 c).leavesExact 0 t = owns (c : Thread nD τ) (ms0_0 t) fullShare (iblk m c 0 t) from by
      unfold Dat.leavesExact; rw [liveAt0_0 t, after_0],
    show (dat m 0 c).leavesExact 1 t = owns (c : Thread nD τ) (ms0_1 t) fullShare (iblk m c 1 t) from by
      unfold Dat.leavesExact; rw [liveAt0_1 t, after_1],
    show (dat m 0 c).leavesExact 2 t = owns (c : Thread nD τ) (ms0_2 t) fullShare (iblk m c 2 t) from by
      unfold Dat.leavesExact; rw [liveAt0_2 t, after_2],
    show (dat m 0 c).leavesExact 3 t = owns (c : Thread nD τ) (ms0_3 t) fullShare (iblk m c 3 t) from by
      unfold Dat.leavesExact; rw [liveAt0_3 t, after_3],
    show (dat m 0 c).leavesExact 4 t = owns (c : Thread nD τ) (ms0_4 t) fullShare (fill (dr (iblk m c 1 t) (iblk m c 0 t) (iblk m c 2 t) (iblk m c 3 t))) from by
      unfold Dat.leavesExact; rw [liveAt0_4 t, after_4],
    show (dat m 0 c).leavesExact 5 t = owns (c : Thread nD τ) (ms0_5 t) fullShare (fill (drb (iblk m c 1 t) (iblk m c 0 t) (iblk m c 2 t) (iblk m c 3 t))) from by
      unfold Dat.leavesExact; rw [liveAt0_5 t, after_5]]
  have hN : t.val < 8 := lt_of_lt_of_eq t.isLt (show cfg0.N = 8 from N_0)
  by_cases h0 : t.val = 0
  · have c0 := (hcond0_0 t).mpr (by omega)
    have c1 : ¬ cond0_1 (grid0.coords t) := fun h => by have := (hcond0_1 t).mp h; omega
    rw [Dat.leavesExact_idle (dat m 0 c) 6 t (idleAt0_6_A t c0 c1) (noFlush0_6_A t c0 c1), h0,
      show Phi m c 0 = Pipeline.ΦA spec0 c from rfl, PhiA0_eq, show acc m c 0 = k0_pay1 from rfl]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ _ _ (iblk m c 0 t) (iblk m c 2 t) (iblk m c 3 t) (iblk m c 1 t) _ _ _ Set.univ _ c0 c1)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    unfold Left
    iintro ⟨H0, H1, H2, H3, H4, H5, H6, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have c0 : ¬ cond0_0 (grid0.coords t) := fun h => by have := (hcond0_0 t).mp h; omega
    rw [show Phi m c t.val = iprop(owns (c : Thread nD τ) scM0_0 fullShare (acc m c t.val) ∗ (∃ r, prngReg c r)) from by
      obtain ⟨n, hn⟩ := Nat.exists_eq_succ_of_ne_zero h0; rw [hn]; rfl]
    by_cases h1 : t.val = 7
    · have c1 := (hcond0_1 t).mpr (by omega)
      rw [show (dat m 0 c).leavesExact 6 t = owns (c : Thread nD τ) (ms0_6 t) fullShare (last (sums (iblk m c 0 t) (iblk m c 2 t) (iblk m c 3 t) (acc m c t.val) 64)) from by
        unfold Dat.leavesExact; rw [liveAt0_6_C t c0 c1, after_6, acc_succ]]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply (runC c (grid0.coords t) _ _ _ _ _ _ _ _ _ _ _ _ _ _ _ _ (iblk m c 0 t) (iblk m c 2 t) (iblk m c 3 t) (iblk m c 1 t) _ _ _ _ Set.univ _ c0 c1)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      unfold Left
      iintro ⟨H0, H1, H2, H3, H4, H5, H6, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have c1 : ¬ cond0_1 (grid0.coords t) := fun h => by have := (hcond0_1 t).mp h; omega
      rw [Dat.leavesExact_idle (dat m 0 c) 6 t (idleAt0_6_B t c0 c1) (noFlush0_6_B t c0 c1)]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply (runB c (grid0.coords t) _ _ _ _ _ _ _ _ _ _ _ _ _ _ _ _ (iblk m c 0 t) (iblk m c 2 t) (iblk m c 3 t) (iblk m c 1 t) _ _ _ _ Set.univ _ c0 c1)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      unfold Left
      iintro ⟨H0, H1, H2, H3, H4, H5, H6, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation (c : Dev nD) : BodyObligation (dat (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

theorem hin (c : Dev nD) : Pipeline.ΦA spec0 c ⊢ (dat m 0 c).Φ 0 := Idealize.SL.BI.Entails.refl _

theorem hout (c : Dev nD) : (dat m 0 c).Φ (Fin.last cfg0.N) ⊢ Pipeline.ΦA spec0 c := by
  rw [show (dat m 0 c).Φ (Fin.last cfg0.N) = Phi m c 8 from rfl, show Phi m c 8 = iprop(owns (c : Thread nD τ) scM0_0 fullShare (acc m c 8) ∗ (∃ r, prngReg c r)) from rfl, PhiA0_eq]
  iintro ⟨HS0, Hg⟩
  isplitl [HS0]
  · iexists _; iexact HS0
  iexact Hg

set_option backward.isDefEq.respectTransparency.types false in
/-- The run: the arrays end as the points leave them, every semaphore counter at zero. -/
theorem run_quiescent : θ_run defs (onTc (τ := τ) (main (F := F))) (s₀ m ρ) (fun r => (Pipeline.FramePost cfgs (dat m) 0 (V m)) r ∧ r.2.sem = fun _ => 0) :=
  Pipeline.θ_run_frame_track (Q' := _) cfgs (dat m) (0 : Fin 1) launch0 defs₀ Variants.none m ρ main
    (hbody := fun c => (body_obligation m c).loose) (hshare := fun c => (dat m 0 c).share_full fun _ => rfl)
    (howed := fun _ _ => rfl) (V := V m) (hmain := hmain m Variants.none) (hA := dat_A m) (hin := hin m) (hout := hout m)

theorem run_main : θ_run defs (onTc (τ := τ) (main (F := F))) (s₀ m ρ) (Pipeline.FramePost cfgs (dat m) 0 (V m)) :=
  (θ_run defs _ _).mono (fun _ h => h.1) (run_quiescent m ρ)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dat m) (dat_A m) (run_main m ρ)) ((θ_run defs _ _).mono (fun _ h => h.2) (run_quiescent m ρ))

end Cert.LnBwdH

end
-- ==== Proof.Norm.LnBwd.lean ====
/-
  The norm backward with one further cotangent: the gradients of the gain and the offset, as the call leaves them and as the reference gives
  them. The call adds row group by row group into a scratch of two halves and adds the halves' eight rows at the end; the
  reference adds over all rows at once. Both are one sum, whatever the arguments are.
-/
module

public import proofs.«01_k».proof.Defs
public import proofs.«01_k».proof.Proof.Norm.Sums
public import proofs.«01_k».proof.Proof.Norm.LnBwdFrame
public import proofs.«01_k».proof.Proof.Gen.LnBwdRefIdeal.Run
public import Idealize.ShloMosaic.Lib.Pipeline.ValueKit.Geometry

@[expose] public section

set_option maxRecDepth 16384

noncomputable section

open Idealize.ShloMosaic Idealize.ShloMosaic.TcCoe Idealize.SL.Sem

namespace Cert.LnBwdV

open Cert.Norm

/-- The cotangent of the norm's output at an entry. -/
def D (a b : (⟨2, ![8192, 1024]⟩ : Shape).Idx → EReal) (n : Fin 8192) (j : Fin 1024) : EReal := Ideal.ofBits .f32 0x3FD744FD#32 * a (ix2 n j) + b (ix2 n j)

/-- The two gradients, one per row. -/
def G (r a b : (⟨2, ![8192, 1024]⟩ : Shape).Idx → EReal) (i : (⟨2, ![2, 1024]⟩ : Shape).Idx) : EReal :=
  if (i 0).val = 0 then ∑ n, D a b n (i 1) * nrm (fun l => r (ix2 n l)) (i 1) else ∑ n, D a b n (i 1)

/-! ## The call -/

section call

open Cert.LnBwdIdeal Cert.LnBwdIdeal.Gen Cert.LnBwdH

theorem pay9 (x : Vec Ideal S16x1024 .f32) (a : Fin 16) (j : Fin 1024) : k0_pay9 (F := Ideal) x (ix2 a j) = nrm (fun l => x (ix2 a l)) j := by
  unfold k0_pay9 k0_pay8 k0_pay7 nrm ctr
  pointwise

theorem pay10 (x y : Vec Ideal S16x1024 .f32) (i : S16x1024.Idx) : k0_pay10 (F := Ideal) x y i = Ideal.ofBits .f32 0x3FD744FD#32 * x i + y i := by
  unfold k0_pay10
  pointwise

theorem pay3 (x y : Vec Ideal S16x1024 .f32) (v : Vec Ideal S1x8x1024 .f32) (p : Fin 8) (j : Fin 1024) :
    k0_pay3 (F := Ideal) x y v (ix3 0 p j) = v (ix3 0 p j) + ∑ q : Fin 2, y (ix2 ⟨q.val * 8 + p.val, by omega⟩ j) * x (ix2 ⟨q.val * 8 + p.val, by omega⟩ j) := by
  unfold k0_pay3
  pointwise

theorem pay4 (y : Vec Ideal S16x1024 .f32) (v : Vec Ideal S1x8x1024 .f32) (p : Fin 8) (j : Fin 1024) :
    k0_pay4 (F := Ideal) y v (ix3 0 p j) = v (ix3 0 p j) + ∑ q : Fin 2, y (ix2 ⟨q.val * 8 + p.val, by omega⟩ j) := by
  unfold k0_pay4
  pointwise

theorem pay5 (v : Vec Ideal S1x8x1024 .f32) (j : Fin 1024) : k0_pay5 (F := Ideal) v (ix2 0 j) = ∑ p : Fin 8, v (ix3 0 p j) := by
  unfold k0_pay5
  pointwise

theorem pay6 (v : Vec Ideal S1x8x1024 .f32) (j : Fin 1024) : k0_pay6 (F := Ideal) v (ix2 0 j) = ∑ p : Fin 8, v (ix3 0 p j) := by
  unfold k0_pay6
  pointwise

theorem half0 (a : Vec Ideal S2x8x1024 .f32) (p : Fin 8) (j : Fin 1024) : half a H0 (ix3 0 p j) = a (ix3 0 p j) := by
  unfold half View.ld
  refine congrArg a (funext fun ax => Fin.ext ?_)
  fin_cases ax <;> simp [H0, ix3]

theorem half1 (a : Vec Ideal S2x8x1024 .f32) (p : Fin 8) (j : Fin 1024) : half a H1 (ix3 0 p j) = a (ix3 1 p j) := by
  unfold half View.ld
  refine congrArg a (funext fun ax => Fin.ext ?_)
  fin_cases ax <;> simp [H1, ix3]

/-- An entry of a group of 16 rows. -/
theorem rows_apply (x : Vec Ideal S1024x1024 .f32) (k : Fin k0_t1_loop.trips) (a : Fin 16) (j : Fin 1024) :
    rows x k (ix2 a j) = x (ix2 ⟨16 * k.val + a.val, by have h := lt_of_lt_of_eq k.isLt trips_eq; omega⟩ j) := by
  unfold rows View.ld
  refine congrArg x (funext fun ax => Fin.ext ?_)
  show k0_off1 k ax + 1 * (ix2 a j ax).val = _
  rw [k0_off1_eq]
  fin_cases ax <;> simp [ix2]

variable (m : (ℓ : Loc nD τ sig) → Buf (Elt Ideal) ℓ)

theorem idx_nat : ∀ t : Fin cfg0.N, (cfg0.win 0).index t = ![t.val, 0] ∧ (cfg0.win 2).index t = ![t.val, 0] ∧ (cfg0.win 3).index t = ![t.val, 0]
    ∧ (cfg0.win 6).index t = ![0, 0] ∧ ((cfg0.win 6).flush t = true → t.val = 7) ∧ t.val < 8 :=
  (by decide +kernel : ∀ t : Fin grid0.N, win0_0.index t = ![t.val, 0] ∧ win0_2.index t = ![t.val, 0] ∧ win0_3.index t = ![t.val, 0]
    ∧ win0_6.index t = ![0, 0] ∧ (win0_6.flush t = true → t.val = 7) ∧ t.val < 8)

theorem covers6 : (cfg0.win 6).Covers := (by decide +kernel : win0_6.Covers)

/-- Where an entry of point `t`'s block lies in the array. -/
def E (t : Fin cfg0.N) (y : S1024x1024.Idx) : S8192x1024.Idx :=
  ix2 ⟨1024 * t.val + (y 0).val, by have h := (idx_nat t).2.2.2.2.2; have h0 := (y 0).isLt; dsimp at h0; omega⟩ (y 1)

theorem rd0 (c : Dev nD) (t : Fin cfg0.N) (y : S1024x1024.Idx) : iblk m c 0 t y = m ((c.tc : Thread nD τ).loc main_arg0) (E t y) := by
  refine (congrArg (V m c main_arg0) (funext fun ax => Fin.ext ?_)).trans (congrFun (V_main_arg0 m c) _)
  have h : ((((cfg0.win 0).blk t).view.emb y ax : Fin _) : ℕ) = (cfg0.win 0).index t ax * S1024x1024.size ax + 1 * (y ax).val := rfl
  rw [(idx_nat t).1] at h
  refine h.trans ?_
  fin_cases ax <;> (simp [E, ix2] <;> omega)

theorem rd2 (c : Dev nD) (t : Fin cfg0.N) (y : S1024x1024.Idx) : iblk m c 2 t y = m ((c.tc : Thread nD τ).loc main_arg2) (E t y) := by
  refine (congrArg (V m c main_arg2) (funext fun ax => Fin.ext ?_)).trans (congrFun (V_main_arg2 m c) _)
  have h : ((((cfg0.win 2).blk t).view.emb y ax : Fin _) : ℕ) = (cfg0.win 2).index t ax * S1024x1024.size ax + 1 * (y ax).val := rfl
  rw [(idx_nat t).2.1] at h
  refine h.trans ?_
  fin_cases ax <;> (simp [E, ix2] <;> omega)

theorem rd3 (c : Dev nD) (t : Fin cfg0.N) (y : S1024x1024.Idx) : iblk m c 3 t y = m ((c.tc : Thread nD τ).loc main_arg3) (E t y) := by
  refine (congrArg (V m c main_arg3) (funext fun ax => Fin.ext ?_)).trans (congrFun (V_main_arg3 m c) _)
  have h : ((((cfg0.win 3).blk t).view.emb y ax : Fin _) : ℕ) = (cfg0.win 3).index t ax * S1024x1024.size ax + 1 * (y ax).val := rfl
  rw [(idx_nat t).2.2.1] at h
  refine h.trans ?_
  fin_cases ax <;> (simp [E, ix2] <;> omega)

/-- Row `n`'s term of the gain's gradient and of the offset's. -/
def T0 (c : Dev nD) (j : Fin 1024) (n : ℕ) : EReal := if h : n < 8192 then D (m ((c.tc : Thread nD τ).loc main_arg2)) (m ((c.tc : Thread nD τ).loc main_arg3)) ⟨n, h⟩ j
  * nrm (fun l => m ((c.tc : Thread nD τ).loc main_arg0) (ix2 ⟨n, h⟩ l)) j else 0
def T1 (c : Dev nD) (j : Fin 1024) (n : ℕ) : EReal := if h : n < 8192 then D (m ((c.tc : Thread nD τ).loc main_arg2)) (m ((c.tc : Thread nD τ).loc main_arg3)) ⟨n, h⟩ j else 0

theorem E_eq (t : Fin cfg0.N) (k : Fin k0_t1_loop.trips) (a : Fin 16) (l : Fin 1024) (h : 1024 * t.val + 16 * k.val + a.val < 8192) (h') :
    E t (ix2 ⟨16 * k.val + a.val, h'⟩ l) = ix2 ⟨1024 * t.val + 16 * k.val + a.val, h⟩ l := by
  refine funext fun ax => Fin.ext ?_
  fin_cases ax <;> simp [E, ix2]; omega

theorem dy_apply (c : Dev nD) (t : Fin cfg0.N) (k : Fin k0_t1_loop.trips) (a : Fin 16) (j : Fin 1024) (h : 1024 * t.val + 16 * k.val + a.val < 8192) :
    dy (F := Ideal) (iblk m c 2 t) (iblk m c 3 t) k (ix2 a j) = D (m ((c.tc : Thread nD τ).loc main_arg2)) (m ((c.tc : Thread nD τ).loc main_arg3)) ⟨_, h⟩ j := by
  unfold dy D
  rw [pay10, rows_apply, rows_apply, rd2, rd3, E_eq t k a j h]

theorem xh_apply (c : Dev nD) (t : Fin cfg0.N) (k : Fin k0_t1_loop.trips) (a : Fin 16) (j : Fin 1024) (h : 1024 * t.val + 16 * k.val + a.val < 8192) :
    xh (F := Ideal) (iblk m c 0 t) k (ix2 a j) = nrm (fun l => m ((c.tc : Thread nD τ).loc main_arg0) (ix2 ⟨_, h⟩ l)) j := by
  unfold xh
  rw [pay9]
  refine congrArg (nrm · j) (funext fun l => ?_)
  rw [rows_apply, rd0, E_eq t k a l h]

theorem sums_apply (c : Dev nD) (t : Fin cfg0.N) (s : Vec Ideal S2x8x1024 .f32) (p : Fin 8) (j : Fin 1024) : ∀ n ≤ 64,
    sums (F := Ideal) (iblk m c 0 t) (iblk m c 2 t) (iblk m c 3 t) s n (ix3 0 p j) = s (ix3 0 p j) + ∑ k ∈ Finset.range n, ∑ q ∈ Finset.range 2, T0 m c j (1024 * t.val + 16 * k + (q * 8 + p.val))
    ∧ sums (F := Ideal) (iblk m c 0 t) (iblk m c 2 t) (iblk m c 3 t) s n (ix3 1 p j) = s (ix3 1 p j) + ∑ k ∈ Finset.range n, ∑ q ∈ Finset.range 2, T1 m c j (1024 * t.val + 16 * k + (q * 8 + p.val)) := by
  intro n
  induction n with
  | zero => intro _; simp [sums]
  | succ n ih =>
    intro hn
    have h : n < k0_t1_loop.trips := lt_of_lt_of_eq (by omega) trips_eq.symm
    have ht := (idx_nat t).2.2.2.2.2
    obtain ⟨i0, i1⟩ := ih (by omega)
    rw [sums, dif_pos h]
    constructor
    · refine (pay3 _ _ _ p j).trans ?_
      rw [half0, i0, Finset.sum_range_succ _ n, add_assoc]
      congr 2
      rw [Finset.sum_range]
      refine Finset.sum_congr rfl fun q _ => ?_
      unfold T0
      rw [dif_pos (by omega), dy_apply m c t _ _ j (by dsimp only; omega), xh_apply m c t _ _ j (by dsimp only; omega)]
    · refine (pay4 _ _ p j).trans ?_
      rw [half1, i1, Finset.sum_range_succ _ n, add_assoc]
      congr 2
      rw [Finset.sum_range]
      refine Finset.sum_congr rfl fun q _ => ?_
      unfold T1
      rw [dif_pos (by omega), dy_apply m c t _ _ j (by dsimp only; omega)]

theorem acc_apply (c : Dev nD) (p : Fin 8) (j : Fin 1024) : ∀ n ≤ 8,
    acc m c n (ix3 0 p j) = ∑ t ∈ Finset.range n, ∑ k ∈ Finset.range 64, ∑ q ∈ Finset.range 2, T0 m c j (1024 * t + 16 * k + (q * 8 + p.val))
    ∧ acc m c n (ix3 1 p j) = ∑ t ∈ Finset.range n, ∑ k ∈ Finset.range 64, ∑ q ∈ Finset.range 2, T1 m c j (1024 * t + 16 * k + (q * 8 + p.val)) := by
  intro n
  induction n with
  | zero => intro _; unfold acc k0_pay1; constructor <;> (pointwise; simp)
  | succ n ih =>
    intro hn
    obtain ⟨i0, i1⟩ := ih (by omega)
    rw [acc_succ m c ⟨n, lt_of_lt_of_eq (show n < 8 by omega) (show cfg0.N = 8 from N_0).symm⟩, (sums_apply m c _ _ p j 64 le_rfl).1, (sums_apply m c _ _ p j 64 le_rfl).2, i0, i1,
      Finset.sum_range_succ _ n, Finset.sum_range_succ _ n]
    exact ⟨rfl, rfl⟩

theorem last_eq (c : Dev nD) (y : S2x1024.Idx) : last (acc m c 8) y = G (m ((c.tc : Thread nD τ).loc main_arg0)) (m ((c.tc : Thread nD τ).loc main_arg2)) (m ((c.tc : Thread nD τ).loc main_arg3)) y := by
  unfold G last two1
  split
  · refine (pay5 _ (y 1)).trans ?_
    refine (Finset.sum_congr rfl fun p _ => (half0 _ p _).trans (acc_apply m c p (y 1) 8 le_rfl).1).trans ((sum_rows (T0 m c (y 1))).trans (Finset.sum_congr rfl fun n _ => ?_))
    unfold T0; rw [dif_pos n.isLt]
  · refine (pay6 _ (y 1)).trans ?_
    refine (Finset.sum_congr rfl fun p _ => (half1 _ p _).trans (acc_apply m c p (y 1) 8 le_rfl).2).trans ((sum_rows (T1 m c (y 1))).trans (Finset.sum_congr rfl fun n _ => ?_))
    unfold T1; rw [dif_pos n.isLt]

theorem final6 (c : Dev nD) : (dat m 0 c).arrAt 6 cfg0.N = G (m ((c.tc : Thread nD τ).loc main_arg0)) (m ((c.tc : Thread nD τ).loc main_arg2)) (m ((c.tc : Thread nD τ).loc main_arg3)) := by
  refine (dat m 0 c).arrAt_eq_of_covers 6 _ covers6 (fun t hf y => ?_)
  have e : ((cfg0.win 6).blk t).view.emb y = y := by
    refine funext fun ax => Fin.ext ?_
    have h : ((((cfg0.win 6).blk t).view.emb y ax : Fin _) : ℕ) = (cfg0.win 6).index t ax * S2x1024.size ax + 1 * (y ax).val := rfl
    rw [(idx_nat t).2.2.2.1] at h
    refine h.trans ?_
    fin_cases ax <;> simp
  rw [after_6, (idx_nat t).2.2.2.2.1 hf]
  exact (last_eq m c y).trans (congrArg (G _ _ _) e).symm

/-- The call's run: the two gradients, and the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v0_2) = G (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨((h.1 c).1 6).trans (final6 m c), h.2.1 c⟩) (θ_run_and (run_main m ρ) (Cert.LnBwdH.frame m ρ))

end call

/-! ## The reference -/

open Cert.LnBwdRefIdeal Cert.LnBwdRefIdeal.Gen

/-- The reference's run: the same gradients. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38) = G (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨(h c).1.trans (by
    generalize m ((c.tc : Thread nD τ).loc main_arg0) = r
    generalize m ((c.tc : Thread nD τ).loc main_arg2) = a
    generalize m ((c.tc : Thread nD τ).loc main_arg3) = b
    funext i
    unfold G
    pointwise
    by_cases hi : (i 0).val < 1
    · rw [dif_pos hi, if_pos (by omega), Fin.sum_univ_one]
      exact Finset.sum_congr rfl fun n _ => mul_comm _ _
    · rw [dif_neg hi, if_neg (by omega), Fin.sum_univ_one]
      exact Finset.sum_congr rfl fun n _ => rfl), (h c).2⟩) (Value.run m ρ)

theorem algebraic : Cert.algebraic_LnBwdIdeal_LnBwdRefIdeal := fun m g m' g' _ hag =>
  ⟨fun c => G (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)),
    run_blocks m g,
    (θ_run _ _ _).mono (fun r h c => by
      obtain ⟨h0, h1, h2, h3⟩ := hag c
      exact ⟨(h c).1.trans (by rw [h0, h2, h3]), (h c).2⟩) (ref_run m' g')⟩

end Cert.LnBwdV

end
-- ==== Proof.Opt.Adam.lean ====
/-
  The update of one weight: the new moments and the step, as functions of the weight, its gradient and the old moments.
-/
module

public import Idealize.ShloMosaic.PureOps
public import Idealize.ShloMosaic.Lib.Pointwise

@[expose] public section

set_option maxRecDepth 16384

noncomputable section

open Idealize.ShloMosaic

namespace Cert.Opt

/-- The new first moment. -/
def mom1 (g m : EReal) : EReal := Ideal.ofBits .f32 0x3F666666#32 * m + Ideal.ofBits .f32 0x3DCCCCCD#32 * g

/-- The new second moment. -/
def mom2 (g v : EReal) : EReal := Ideal.ofBits .f32 0x3F7FBE77#32 * v + Ideal.ofBits .f32 0x3A83126F#32 * (g * g)

/-- The step: the corrected first moment over the root of the corrected second, and the decay of the weight. -/
def step (w g m v : EReal) : EReal :=
  Ideal.ofBits .f32 0xBA83126F#32 *
    (Ideal.div (Ideal.div (mom1 g m) (Ideal.ofBits .f32 0x3F26BD02#32))
        (Ideal.sqrt (Ideal.div (mom2 g v) (Ideal.ofBits .f32 0x3C231ACC#32)) + Ideal.ofBits .f32 0x322BCC77#32)
      + Ideal.ofBits .f32 0x3C23D70A#32 * w)

/-- A choice by a test of two words. -/
theorem sel_eq (a b : BitVec 32) (x y : EReal) : Scalar.select (Scalar.cmpi CmpIPredicate.eq a b) x y = if a = b then x else y := by
  by_cases h : a = b
  · subst h; simp [Scalar.select, Scalar.cmpi, IntOp.cmpi]
  · have e : (a == b) = false := beq_false_of_ne h
    rw [if_neg h]
    simp [Scalar.select, Scalar.cmpi, IntOp.cmpi, e]

end Cert.Opt

end
-- ==== Proof.Opt.AdamLn.lean ====
/-
  The update of one weight that every device keeps whole: the call and its reference end with the same three arrays.
-/
module

public import proofs.«01_k».proof.Defs
public import proofs.«01_k».proof.Proof.Gen.AdamLnIdeal.Value
public import proofs.«01_k».proof.Proof.Gen.AdamLnRefIdeal.Run
public import proofs.«01_k».proof.Proof.Opt.Adam

@[expose] public section

set_option maxRecDepth 16384

noncomputable section

open Idealize.ShloMosaic Idealize.ShloMosaic.TcCoe Idealize.SL.Sem

namespace Cert.AdamLnV

open Cert.AdamLnIdeal Cert.AdamLnIdeal.Gen Cert.Opt

variable (m : (ℓ : Loc nD τ sig) → Buf (Elt Ideal) ℓ)

/-- The step, entry by entry. -/
def G4 (g w m v : S4x1024.Idx → EReal) (i : S4x1024.Idx) : EReal := step (w i) (g i) (m i) (v i)
/-- The new first moment, entry by entry. -/
def G5 (g m : S4x1024.Idx → EReal) (i : S4x1024.Idx) : EReal := mom1 (g i) (m i)
/-- The new second moment, entry by entry. -/
def G6 (g v : S4x1024.Idx → EReal) (i : S4x1024.Idx) : EReal := mom2 (g i) (v i)

theorem final4 (c : Dev nD) : (dats m 0 c).arrAt 4 cfg0.N = G4 (m ((c.tc : Thread nD τ).loc main_arg0)) (m ((c.tc : Thread nD τ).loc main_arg1))
    (m ((c.tc : Thread nD τ).loc main_arg2)) (m ((c.tc : Thread nD τ).loc main_arg3)) :=
  (Cert.AdamLnIdeal.Value.final4 m c).trans rfl

theorem final5 (c : Dev nD) : (dats m 0 c).arrAt 5 cfg0.N = G5 (m ((c.tc : Thread nD τ).loc main_arg0)) (m ((c.tc : Thread nD τ).loc main_arg2)) :=
  (Cert.AdamLnIdeal.Value.final5 m c).trans rfl

theorem final6 (c : Dev nD) : (dats m 0 c).arrAt 6 cfg0.N = G6 (m ((c.tc : Thread nD τ).loc main_arg0)) (m ((c.tc : Thread nD τ).loc main_arg3)) :=
  (Cert.AdamLnIdeal.Value.final6 m c).trans rfl

end Cert.AdamLnV

namespace Cert.AdamLnV

open Cert.AdamLnRefIdeal Cert.Opt

/-- The reference's run: its results are the same arrays. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = G4 (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v4) = G5 (m ((c.tc : Thread nD τ).loc main_arg0)) (m ((c.tc : Thread nD τ).loc main_arg2))
      ∧ r.2.mem ((c.tc : Thread nD τ).loc main_v10) = G6 (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨(h c).1.trans rfl, (h c).2.1.trans rfl, (h c).2.2.1.trans rfl, (h c).2.2.2⟩) (Value.run m ρ)

theorem algebraic : Cert.algebraic_AdamLnIdeal_AdamLnRefIdeal := fun m g m' g' _ hag =>
  ⟨fun c => (Cert.AdamLnIdeal.Gen.dats m 0 c).arrAt 4 Cert.AdamLnIdeal.cfg0.N, fun c => (Cert.AdamLnIdeal.Gen.dats m 0 c).arrAt 5 Cert.AdamLnIdeal.cfg0.N,
    fun c => (Cert.AdamLnIdeal.Gen.dats m 0 c).arrAt 6 Cert.AdamLnIdeal.cfg0.N, Cert.AdamLnIdeal.Value.run_blocks m g,
    (θ_run _ _ _).mono (fun r h c => by
      obtain ⟨h0, h1, h2, h3⟩ := hag c
      refine ⟨(h c).1.trans ?_, (h c).2.1.trans ?_, (h c).2.2.1.trans ?_, (h c).2.2.2⟩
      · dsimp only; rw [final4 m c, h0, h1, h2, h3]
      · dsimp only; rw [final5 m c, h0, h2]
      · dsimp only; rw [final6 m c, h0, h3]) (ref_run m' g')⟩

end Cert.AdamLnV

end
-- ==== Proof.Opt.AdamConvB.lean ====
/-
  The update of one weight that every device keeps whole: the call and its reference end with the same three arrays.
-/
module

public import proofs.«01_k».proof.Defs
public import proofs.«01_k».proof.Proof.Gen.AdamConvBIdeal.Value
public import proofs.«01_k».proof.Proof.Gen.AdamConvBRefIdeal.Run
public import proofs.«01_k».proof.Proof.Opt.Adam

@[expose] public section

set_option maxRecDepth 16384

noncomputable section

open Idealize.ShloMosaic Idealize.ShloMosaic.TcCoe Idealize.SL.Sem

namespace Cert.AdamConvBV

open Cert.AdamConvBIdeal Cert.AdamConvBIdeal.Gen Cert.Opt

variable (m : (ℓ : Loc nD τ sig) → Buf (Elt Ideal) ℓ)

/-- The step, entry by entry. -/
def G4 (g w m v : S4x2816.Idx → EReal) (i : S4x2816.Idx) : EReal := step (w i) (g i) (m i) (v i)
/-- The new first moment, entry by entry. -/
def G5 (g m : S4x2816.Idx → EReal) (i : S4x2816.Idx) : EReal := mom1 (g i) (m i)
/-- The new second moment, entry by entry. -/
def G6 (g v : S4x2816.Idx → EReal) (i : S4x2816.Idx) : EReal := mom2 (g i) (v i)

theorem final4 (c : Dev nD) : (dats m 0 c).arrAt 4 cfg0.N = G4 (m ((c.tc : Thread nD τ).loc main_arg0)) (m ((c.tc : Thread nD τ).loc main_arg1))
    (m ((c.tc : Thread nD τ).loc main_arg2)) (m ((c.tc : Thread nD τ).loc main_arg3)) :=
  (Cert.AdamConvBIdeal.Value.final4 m c).trans rfl

theorem final5 (c : Dev nD) : (dats m 0 c).arrAt 5 cfg0.N = G5 (m ((c.tc : Thread nD τ).loc main_arg0)) (m ((c.tc : Thread nD τ).loc main_arg2)) :=
  (Cert.AdamConvBIdeal.Value.final5 m c).trans rfl

theorem final6 (c : Dev nD) : (dats m 0 c).arrAt 6 cfg0.N = G6 (m ((c.tc : Thread nD τ).loc main_arg0)) (m ((c.tc : Thread nD τ).loc main_arg3)) :=
  (Cert.AdamConvBIdeal.Value.final6 m c).trans rfl

end Cert.AdamConvBV

namespace Cert.AdamConvBV

open Cert.AdamConvBRefIdeal Cert.Opt

/-- The reference's run: its results are the same arrays. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = G4 (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v4) = G5 (m ((c.tc : Thread nD τ).loc main_arg0)) (m ((c.tc : Thread nD τ).loc main_arg2))
      ∧ r.2.mem ((c.tc : Thread nD τ).loc main_v10) = G6 (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨(h c).1.trans rfl, (h c).2.1.trans rfl, (h c).2.2.1.trans rfl, (h c).2.2.2⟩) (Value.run m ρ)

theorem algebraic : Cert.algebraic_AdamConvBIdeal_AdamConvBRefIdeal := fun m g m' g' _ hag =>
  ⟨fun c => (Cert.AdamConvBIdeal.Gen.dats m 0 c).arrAt 4 Cert.AdamConvBIdeal.cfg0.N, fun c => (Cert.AdamConvBIdeal.Gen.dats m 0 c).arrAt 5 Cert.AdamConvBIdeal.cfg0.N,
    fun c => (Cert.AdamConvBIdeal.Gen.dats m 0 c).arrAt 6 Cert.AdamConvBIdeal.cfg0.N, Cert.AdamConvBIdeal.Value.run_blocks m g,
    (θ_run _ _ _).mono (fun r h c => by
      obtain ⟨h0, h1, h2, h3⟩ := hag c
      refine ⟨(h c).1.trans ?_, (h c).2.1.trans ?_, (h c).2.2.1.trans ?_, (h c).2.2.2⟩
      · dsimp only; rw [final4 m c, h0, h1, h2, h3]
      · dsimp only; rw [final5 m c, h0, h2]
      · dsimp only; rw [final6 m c, h0, h3]) (ref_run m' g')⟩

end Cert.AdamConvBV

end
-- ==== Proof.Opt.AdamKv.lean ====
/-
  One weight's update out of its two halves: the call and its reference end with the same four arrays.
-/
module

public import proofs.«01_k».proof.Defs
public import proofs.«01_k».proof.Proof.Gen.AdamKvIdeal.Frame
public import proofs.«01_k».proof.Proof.Gen.AdamKv.Frame
public import proofs.«01_k».proof.Proof.Gen.AdamKvRefIdeal.Run
public import proofs.«01_k».proof.Proof.Opt.Adam
public import Idealize.ShloMosaic.Lib.Pipeline.ValueKit

@[expose] public section

set_option maxRecDepth 16384

noncomputable section

open Idealize.ShloMosaic Idealize.ShloMosaic.TcCoe Idealize.SL.Sem

namespace Cert.AdamKvV

theorem ok_bits {F : FTy → Type} [FloatOps F] (m : (ℓ : Loc Cert.AdamKv.nD Cert.AdamKv.τ Cert.AdamKv.sig) → Buf (Elt F) ℓ) : Cert.AdamKv.Gen.Ok m := trivial

open Cert.AdamKvIdeal Cert.AdamKvIdeal.Gen Cert.Opt

theorem ok {F : FTy → Type} [FloatOps F] (m : (ℓ : Loc nD τ sig) → Buf (Elt F) ℓ) : Cert.AdamKvIdeal.Gen.Ok m := trivial

variable (m : (ℓ : Loc nD τ sig) → Buf (Elt Ideal) ℓ)

/-- Any contents of the table: no window's place depends on them. -/
def a0 : (pcfg0 (F := Ideal)).Adm := ⟨fun | ⟨0, _⟩ => fun _ => (0#32 : BitVec 32), trivial⟩

theorem idx_nat : ∀ t : Fin grid0.N, ((cfg0 a0).win 0).index t = ![t.val % 4, 0] ∧ ((cfg0 a0).win 1).index t = ![t.val % 4, 0]
    ∧ ((cfg0 a0).win 5).index t = ![0, t.val / 4, t.val % 4, 0] ∧ (grid0.coords t 0).val = t.val / 4 := by decide +kernel

theorem covers5 (a : (pcfg0 (F := Ideal)).Adm) : ((cfg0 a).win 5).Covers := (by decide +kernel : ((cfg0 a0).win 5).Covers)

/-- The gradient out of its two halves: the half whose number the word gives is the core's own. -/
def grad (own other : S512x1536.Idx → EReal) (half : S1.Idx → BitVec 32) (i : S1x2x512x1536.Idx) : EReal :=
  if BitVec.ofNat 32 (i 1).val = half (ix1 0) then own (ix2 (i 2) (i 3)) else other (ix2 (i 2) (i 3))

/-- Where an entry of point `t`'s block lies in the weight. -/
def E (t : Fin grid0.N) (y : S1x1x128x1536.Idx) : S1x2x512x1536.Idx :=
  ix4 0 ⟨t.val / 4, by have h : t.val < 8 := t.isLt; omega⟩ ⟨t.val % 4 * 128 + (y 2).val, by have h := (y 2).isLt; dsimp at h; omega⟩ (y 3)

theorem emb5 (a : (pcfg0 (F := Ideal)).Adm) (t : Fin grid0.N) (y : S1x1x128x1536.Idx) : (((cfg0 a).win 5).blk t).view.emb y = E t y := by
  obtain ⟨e0, e1, e5, ec⟩ := idx_nat t
  refine funext fun ax => Fin.ext ?_
  have h : (((((cfg0 a).win 5).blk t).view.emb y ax : Fin _) : ℕ) = ((cfg0 a0).win 5).index t ax * S1x1x128x1536.size ax + 1 * (y ax).val := rfl
  rw [e5] at h
  refine h.trans ?_
  have h0 := (y 0).isLt; have h1 := (y 1).isLt
  dsimp at h0 h1
  fin_cases ax <;> (simp [E, ix4] <;> omega)

theorem rd0 (c : Dev nD) (t : Fin grid0.N) (a : Fin 128) (b : Fin 1536) : iblk m (ok m) c 0 t (ix2 a b) =
    m ((c.tc : Thread nD τ).loc main_arg0) (ix2 ⟨t.val % 4 * 128 + a.val, by omega⟩ b) := by
  obtain ⟨e0, e1, e5, ec⟩ := idx_nat t
  refine (congrArg (V m c main_arg0) (funext fun ax => Fin.ext ?_)).trans (congrFun (V_main_arg0 m c) _)
  have h : (((((cfg0 a0).win 0).blk t).view.emb (ix2 a b) ax : Fin _) : ℕ) = ((cfg0 a0).win 0).index t ax * S128x1536.size ax + 1 * (ix2 a b ax).val := rfl
  rw [e0] at h
  refine h.trans ?_
  fin_cases ax <;> simp [ix2]

theorem rd1 (c : Dev nD) (t : Fin grid0.N) (a : Fin 128) (b : Fin 1536) : iblk m (ok m) c 1 t (ix2 a b) =
    m ((c.tc : Thread nD τ).loc main_arg1) (ix2 ⟨t.val % 4 * 128 + a.val, by omega⟩ b) := by
  obtain ⟨e0, e1, e5, ec⟩ := idx_nat t
  refine (congrArg (V m c main_arg1) (funext fun ax => Fin.ext ?_)).trans (congrFun (V_main_arg1 m c) _)
  have h : (((((cfg0 a0).win 1).blk t).view.emb (ix2 a b) ax : Fin _) : ℕ) = ((cfg0 a0).win 1).index t ax * S128x1536.size ax + 1 * (ix2 a b ax).val := rfl
  rw [e1] at h
  refine h.trans ?_
  fin_cases ax <;> simp [ix2]

theorem rd2 (c : Dev nD) (t : Fin grid0.N) (y : S1x1x128x1536.Idx) : iblk m (ok m) c 2 t y = m ((c.tc : Thread nD τ).loc main_arg3) (E t y) :=
  (congrArg (V m c main_arg3) (emb5 a0 t y)).trans (congrFun (V_main_arg3 m c) _)

theorem rd3 (c : Dev nD) (t : Fin grid0.N) (y : S1x1x128x1536.Idx) : iblk m (ok m) c 3 t y = m ((c.tc : Thread nD τ).loc main_arg4) (E t y) :=
  (congrArg (V m c main_arg4) (emb5 a0 t y)).trans (congrFun (V_main_arg4 m c) _)

theorem rd4 (c : Dev nD) (t : Fin grid0.N) (y : S1x1x128x1536.Idx) : iblk m (ok m) c 4 t y = m ((c.tc : Thread nD τ).loc main_arg5) (E t y) :=
  (congrArg (V m c main_arg5) (emb5 a0 t y)).trans (congrFun (V_main_arg5 m c) _)

/-- The gradient at an entry, and what the update makes of it. -/
def gr (c : Dev nD) := grad (m ((c.tc : Thread nD τ).loc main_arg0)) (m ((c.tc : Thread nD τ).loc main_arg1)) (m ((c.tc : Thread nD τ).loc main_arg2))
def de (c : Dev nD) (i : S1x2x512x1536.Idx) : EReal := step (m ((c.tc : Thread nD τ).loc main_arg3) i) (gr m c i) (m ((c.tc : Thread nD τ).loc main_arg4) i) (m ((c.tc : Thread nD τ).loc main_arg5) i)
def mo (c : Dev nD) (i : S1x2x512x1536.Idx) : EReal := mom1 (gr m c i) (m ((c.tc : Thread nD τ).loc main_arg4) i)
def ve (c : Dev nD) (i : S1x2x512x1536.Idx) : EReal := mom2 (gr m c i) (m ((c.tc : Thread nD τ).loc main_arg5) i)

theorem pick (c : Dev nD) (t : Fin grid0.N) (y : S1x1x128x1536.Idx) {h : BitVec 32} (eh : h = m ((c.tc : Thread nD τ).loc main_arg2) (ix1 0)) :
    (if BitVec.ofNat 32 (grid0.coords t 0).val = h then iblk m (ok m) c 0 t (ix2 (y 2) (y 3)) else iblk m (ok m) c 1 t (ix2 (y 2) (y 3))) = gr m c (E t y) := by
  obtain ⟨e0, e1, e5, ec⟩ := idx_nat t
  refine (ite_congr rfl (fun _ => rd0 m c t (y 2) (y 3)) (fun _ => rd1 m c t (y 2) (y 3))).trans ?_
  rw [eh, ec]
  rfl

variable {m} in
theorem at5 {c : Dev nD} {t : Fin grid0.N} {y : S1x1x128x1536.Idx} {h : BitVec 32} {v2 v3 : Vec Ideal S128x1536 .f32}
    (eh : h = m ((c.tc : Thread nD τ).loc main_arg2) (ix1 0)) (e2 : v2 = iblk m (ok m) c 0 t) (e3 : v3 = iblk m (ok m) c 1 t) :
    k0_pay1 (F := Ideal) (k0_pay5 (grid0.coords t) h v2 v3) y = gr m c (E t y) := by
  refine Eq.trans ?_ (pick m c t y eh)
  subst e2 e3
  unfold k0_pay1  k0_pay5
  pointwise
  exact sel_eq _ _ _ _

variable {m} in
theorem at6 {c : Dev nD} {t : Fin grid0.N} {y : S1x1x128x1536.Idx} {h : BitVec 32} {v2 v3 : Vec Ideal S128x1536 .f32} {v5 v7 v9 : Vec Ideal S1x1x128x1536 .f32}
    (eh : h = m ((c.tc : Thread nD τ).loc main_arg2) (ix1 0)) (e2 : v2 = iblk m (ok m) c 0 t) (e3 : v3 = iblk m (ok m) c 1 t) (e5 : v5 = iblk m (ok m) c 2 t) (e7 : v7 = iblk m (ok m) c 3 t) (e9 : v9 = iblk m (ok m) c 4 t) :
    k0_pay2 (F := Ideal) (k0_pay8 (grid0.coords t) h v2 v3 v5 v7 v9) y = de m c (E t y) := by
  unfold de
  rw [← rd2 m, ← rd3 m, ← rd4 m, ← pick m c t y eh]
  subst e2 e3 e5 e7 e9
  unfold k0_pay2 k0_pay8 k0_pay6 k0_pay7 k0_pay5
  pointwise
  exact congrArg (fun g : EReal => step (iblk m (ok m) c 2 t y) g (iblk m (ok m) c 3 t y) (iblk m (ok m) c 4 t y)) (sel_eq _ _ _ _)

variable {m} in
theorem at7 {c : Dev nD} {t : Fin grid0.N} {y : S1x1x128x1536.Idx} {h : BitVec 32} {v2 v3 : Vec Ideal S128x1536 .f32} {v7 : Vec Ideal S1x1x128x1536 .f32}
    (eh : h = m ((c.tc : Thread nD τ).loc main_arg2) (ix1 0)) (e2 : v2 = iblk m (ok m) c 0 t) (e3 : v3 = iblk m (ok m) c 1 t) (e7 : v7 = iblk m (ok m) c 3 t) :
    k0_pay3 (F := Ideal) (k0_pay6 (grid0.coords t) h v2 v3 v7) y = mo m c (E t y) := by
  unfold mo
  rw [← rd3 m, ← pick m c t y eh]
  subst e2 e3 e7
  unfold k0_pay3 k0_pay6 k0_pay5
  pointwise
  exact congrArg (fun g : EReal => mom1 g (iblk m (ok m) c 3 t y)) (sel_eq _ _ _ _)

variable {m} in
theorem at8 {c : Dev nD} {t : Fin grid0.N} {y : S1x1x128x1536.Idx} {h : BitVec 32} {v2 v3 : Vec Ideal S128x1536 .f32} {v9 : Vec Ideal S1x1x128x1536 .f32}
    (eh : h = m ((c.tc : Thread nD τ).loc main_arg2) (ix1 0)) (e2 : v2 = iblk m (ok m) c 0 t) (e3 : v3 = iblk m (ok m) c 1 t) (e9 : v9 = iblk m (ok m) c 4 t) :
    k0_pay4 (F := Ideal) (k0_pay7 (grid0.coords t) h v2 v3 v9) y = ve m c (E t y) := by
  unfold ve
  rw [← rd4 m, ← pick m c t y eh]
  subst e2 e3 e9
  unfold k0_pay4 k0_pay7 k0_pay5
  pointwise
  exact congrArg (fun g : EReal => mom2 g (iblk m (ok m) c 4 t y)) (sel_eq _ _ _ _)

theorem word (c : Dev nD) : View.readAt (Elt Ideal) (View.whole main_arg2) (Rect.unit ![0] ![1] inb_S1_S1_0).toLoadRect (tbl m 0) (Shape.Idx.first (by decide)) = m ((c.tc : Thread nD τ).loc main_arg2) (ix1 0) := by
  obtain rfl : c = 0 := Subsingleton.elim _ _
  refine (congrArg (V m (0 : Dev nD) main_arg2) (funext fun ax => Fin.ext ?_)).trans (congrFun (V_main_arg2 m 0) _)
  fin_cases ax
  rfl

theorem final5 (c : Dev nD) : (dats m (ok m) 0 c).arrAt 5 (cfgM m (ok m)).N = gr m c := by
  refine (dats m (ok m) 0 c).arrAt_eq_of_covers 5 _ (covers5 _) fun t hf y => ?_
  rw [after0_5]
  unfold outsAt0
  dsimp only
  frame_out
  exact (at5 (word m c) ((hs0_0 m (ok m) t).read_unread _) ((hs0_1 m (ok m) t).read_unread _)).trans (congrArg (gr m c) (emb5 (adm m (ok m)) t y)).symm

theorem final6 (c : Dev nD) : (dats m (ok m) 0 c).arrAt 6 (cfgM m (ok m)).N = de m c := by
  refine (dats m (ok m) 0 c).arrAt_eq_of_covers 6 _ (covers5 _) fun t hf y => ?_
  rw [after0_6]
  unfold outsAt0
  dsimp only
  frame_out
  exact (at6 (word m c) ((hs0_0 m (ok m) t).read_unread _) ((hs0_1 m (ok m) t).read_unread _) ((hs0_2 m (ok m) t).read_unread _) ((hs0_3 m (ok m) t).read_unread _) ((hs0_4 m (ok m) t).read_unread _)).trans (congrArg (de m c) (emb5 (adm m (ok m)) t y)).symm

theorem final7 (c : Dev nD) : (dats m (ok m) 0 c).arrAt 7 (cfgM m (ok m)).N = mo m c := by
  refine (dats m (ok m) 0 c).arrAt_eq_of_covers 7 _ (covers5 _) fun t hf y => ?_
  rw [after0_7]
  unfold outsAt0
  dsimp only
  frame_out
  exact (at7 (word m c) ((hs0_0 m (ok m) t).read_unread _) ((hs0_1 m (ok m) t).read_unread _) ((hs0_3 m (ok m) t).read_unread _)).trans (congrArg (mo m c) (emb5 (adm m (ok m)) t y)).symm

theorem final8 (c : Dev nD) : (dats m (ok m) 0 c).arrAt 8 (cfgM m (ok m)).N = ve m c := by
  refine (dats m (ok m) 0 c).arrAt_eq_of_covers 8 _ (covers5 _) fun t hf y => ?_
  rw [after0_8]
  unfold outsAt0
  dsimp only
  frame_out
  exact (at8 (word m c) ((hs0_0 m (ok m) t).read_unread _) ((hs0_1 m (ok m) t).read_unread _) ((hs0_4 m (ok m) t).read_unread _)).trans (congrArg (ve m c) (emb5 (adm m (ok m)) t y)).symm

/-- The region's run: the four arrays, and the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v0_0) = gr m c
      ∧ r.2.mem ((c.tc : Thread nD τ).loc main_v0_1) = de m c
      ∧ r.2.mem ((c.tc : Thread nD τ).loc main_v0_2) = mo m c
      ∧ r.2.mem ((c.tc : Thread nD τ).loc main_v0_3) = ve m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨((h.1 c).1 5).trans (final5 m c), ((h.1 c).1 6).trans (final6 m c), ((h.1 c).1 7).trans (final7 m c), ((h.1 c).1 8).trans (final8 m c), h.2 c⟩)
    (θ_run_and (run_main m ρ (ok m)) (unchanged m ρ (ok m)))

end Cert.AdamKvV

namespace Cert.AdamKvV

open Cert.AdamKvRefIdeal Cert.Opt

variable (m : (ℓ : Loc nD τ sig) → Buf (Elt Ideal) ℓ)

/-- The reference's run: the same four arrays. -/
theorem ref_run (ρ : Dev nD → PrngReg) :
    θ_run defs (onTc (τ := τ) (main (F := Ideal))) ⟨m, fun _ => 0, ρ⟩ fun r => ∀ c : Dev nD,
      r.2.mem ((c.tc : Thread nD τ).loc main_v6) = (grad (m ((c.tc : Thread nD τ).loc main_arg0)) (m ((c.tc : Thread nD τ).loc main_arg1)) (m ((c.tc : Thread nD τ).loc main_arg2)))
      ∧ r.2.mem ((c.tc : Thread nD τ).loc main_v30) = (fun i => step (m ((c.tc : Thread nD τ).loc main_arg3) i) (grad (m ((c.tc : Thread nD τ).loc main_arg0)) (m ((c.tc : Thread nD τ).loc main_arg1)) (m ((c.tc : Thread nD τ).loc main_arg2)) i) (m ((c.tc : Thread nD τ).loc main_arg4) i) (m ((c.tc : Thread nD τ).loc main_arg5) i))
      ∧ r.2.mem ((c.tc : Thread nD τ).loc main_v11) = (fun i => mom1 (grad (m ((c.tc : Thread nD τ).loc main_arg0)) (m ((c.tc : Thread nD τ).loc main_arg1)) (m ((c.tc : Thread nD τ).loc main_arg2)) i) (m ((c.tc : Thread nD τ).loc main_arg4) i))
      ∧ r.2.mem ((c.tc : Thread nD τ).loc main_v17) = (fun i => mom2 (grad (m ((c.tc : Thread nD τ).loc main_arg0)) (m ((c.tc : Thread nD τ).loc main_arg1)) (m ((c.tc : Thread nD τ).loc main_arg2)) i) (m ((c.tc : Thread nD τ).loc main_arg5) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r h c => ?_) (Value.run m ρ)
  obtain ⟨h1, h2, h3, h4, hr⟩ := h c
  have e := fun i : S1x2x512x1536.Idx => sel_eq (BitVec.ofNat 32 (i 1).val) (m ((c.tc : Thread nD τ).loc main_arg2) (ix1 0)) (m ((c.tc : Thread nD τ).loc main_arg0) (ix2 (i 2) (i 3))) (m ((c.tc : Thread nD τ).loc main_arg1) (ix2 (i 2) (i 3)))
  refine ⟨h1.trans (funext fun i => ?_), h2.trans (funext fun i => ?_), h3.trans (funext fun i => ?_), h4.trans (funext fun i => ?_), hr⟩
  · pointwise
    exact congrArg (fun g : EReal => g) (e i)
  · pointwise
    exact congrArg (fun g : EReal => step (m ((c.tc : Thread nD τ).loc main_arg3) i) g (m ((c.tc : Thread nD τ).loc main_arg4) i) (m ((c.tc : Thread nD τ).loc main_arg5) i)) (e i)
  · pointwise
    exact congrArg (fun g : EReal => mom1 g (m ((c.tc : Thread nD τ).loc main_arg4) i)) (e i)
  · pointwise
    exact congrArg (fun g : EReal => mom2 g (m ((c.tc : Thread nD τ).loc main_arg5) i)) (e i)

theorem algebraic : Cert.algebraic_AdamKvIdeal_AdamKvRefIdeal := fun m g m' g' _ hag =>
  ⟨gr m, de m, mo m, ve m, run_blocks m g, (θ_run _ _ _).mono (fun r h c => by
      obtain ⟨h0, h1, h2, h3, h4, h5⟩ := hag c
      refine ⟨(h c).1.trans ?_, (h c).2.1.trans ?_, (h c).2.2.1.trans ?_, (h c).2.2.2.1.trans ?_, (h c).2.2.2.2⟩
      · rw [h0, h1, h2]; rfl
      · rw [h0, h1, h2, h3, h4, h5]; rfl
      · rw [h0, h1, h2, h4]; rfl
      · rw [h0, h1, h2, h5]; rfl) (ref_run m' g')⟩

end Cert.AdamKvV

end
-- ==== Proof.Opt.AdamPoolW.lean ====
/-
  One weight's update out of its two halves: the call and its reference end with the same four arrays.
-/
module

public import proofs.«01_k».proof.Defs
public import proofs.«01_k».proof.Proof.Gen.AdamPoolWIdeal.Frame
public import proofs.«01_k».proof.Proof.Gen.AdamPoolW.Frame
public import proofs.«01_k».proof.Proof.Gen.AdamPoolWRefIdeal.Run
public import proofs.«01_k».proof.Proof.Opt.Adam
public import Idealize.ShloMosaic.Lib.Pipeline.ValueKit

@[expose] public section

set_option maxRecDepth 16384

noncomputable section

open Idealize.ShloMosaic Idealize.ShloMosaic.TcCoe Idealize.SL.Sem

namespace Cert.AdamPoolWV

theorem ok_bits {F : FTy → Type} [FloatOps F] (m : (ℓ : Loc Cert.AdamPoolW.nD Cert.AdamPoolW.τ Cert.AdamPoolW.sig) → Buf (Elt F) ℓ) : Cert.AdamPoolW.Gen.Ok m := trivial

open Cert.AdamPoolWIdeal Cert.AdamPoolWIdeal.Gen Cert.Opt

theorem ok {F : FTy → Type} [FloatOps F] (m : (ℓ : Loc nD τ sig) → Buf (Elt F) ℓ) : Cert.AdamPoolWIdeal.Gen.Ok m := trivial

variable (m : (ℓ : Loc nD τ sig) → Buf (Elt Ideal) ℓ)

/-- Any contents of the table: no window's place depends on them. -/
def a0 : (pcfg0 (F := Ideal)).Adm := ⟨fun | ⟨0, _⟩ => fun _ => (0#32 : BitVec 32), trivial⟩

theorem idx_nat : ∀ t : Fin grid0.N, ((cfg0 a0).win 0).index t = ![t.val % 1, 0] ∧ ((cfg0 a0).win 1).index t = ![t.val % 1, 0]
    ∧ ((cfg0 a0).win 5).index t = ![0, t.val / 1, t.val % 1, 0] ∧ (grid0.coords t 0).val = t.val / 1 := by decide +kernel

theorem covers5 (a : (pcfg0 (F := Ideal)).Adm) : ((cfg0 a).win 5).Covers := (by decide +kernel : ((cfg0 a0).win 5).Covers)

/-- The gradient out of its two halves: the half whose number the word gives is the core's own. -/
def grad (own other : S256x256.Idx → EReal) (half : S1.Idx → BitVec 32) (i : S1x2x256x256.Idx) : EReal :=
  if BitVec.ofNat 32 (i 1).val = half (ix1 0) then own (ix2 (i 2) (i 3)) else other (ix2 (i 2) (i 3))

/-- Where an entry of point `t`'s block lies in the weight. -/
def E (t : Fin grid0.N) (y : S1x1x256x256.Idx) : S1x2x256x256.Idx :=
  ix4 0 ⟨t.val / 1, by have h : t.val < 2 := t.isLt; omega⟩ ⟨t.val % 1 * 256 + (y 2).val, by have h := (y 2).isLt; dsimp at h; omega⟩ (y 3)

theorem emb5 (a : (pcfg0 (F := Ideal)).Adm) (t : Fin grid0.N) (y : S1x1x256x256.Idx) : (((cfg0 a).win 5).blk t).view.emb y = E t y := by
  obtain ⟨e0, e1, e5, ec⟩ := idx_nat t
  refine funext fun ax => Fin.ext ?_
  have h : (((((cfg0 a).win 5).blk t).view.emb y ax : Fin _) : ℕ) = ((cfg0 a0).win 5).index t ax * S1x1x256x256.size ax + 1 * (y ax).val := rfl
  rw [e5] at h
  refine h.trans ?_
  have h0 := (y 0).isLt; have h1 := (y 1).isLt
  dsimp at h0 h1
  fin_cases ax <;> (simp [E, ix4] <;> omega)

theorem rd0 (c : Dev nD) (t : Fin grid0.N) (a : Fin 256) (b : Fin 256) : iblk m (ok m) c 0 t (ix2 a b) =
    m ((c.tc : Thread nD τ).loc main_arg0) (ix2 ⟨t.val % 1 * 256 + a.val, by omega⟩ b) := by
  obtain ⟨e0, e1, e5, ec⟩ := idx_nat t
  refine (congrArg (V m c main_arg0) (funext fun ax => Fin.ext ?_)).trans (congrFun (V_main_arg0 m c) _)
  have h : (((((cfg0 a0).win 0).blk t).view.emb (ix2 a b) ax : Fin _) : ℕ) = ((cfg0 a0).win 0).index t ax * S256x256.size ax + 1 * (ix2 a b ax).val := rfl
  rw [e0] at h
  refine h.trans ?_
  fin_cases ax <;> (simp [ix2] <;> omega)

theorem rd1 (c : Dev nD) (t : Fin grid0.N) (a : Fin 256) (b : Fin 256) : iblk m (ok m) c 1 t (ix2 a b) =
    m ((c.tc : Thread nD τ).loc main_arg1) (ix2 ⟨t.val % 1 * 256 + a.val, by omega⟩ b) := by
  obtain ⟨e0, e1, e5, ec⟩ := idx_nat t
  refine (congrArg (V m c main_arg1) (funext fun ax => Fin.ext ?_)).trans (congrFun (V_main_arg1 m c) _)
  have h : (((((cfg0 a0).win 1).blk t).view.emb (ix2 a b) ax : Fin _) : ℕ) = ((cfg0 a0).win 1).index t ax * S256x256.size ax + 1 * (ix2 a b ax).val := rfl
  rw [e1] at h
  refine h.trans ?_
  fin_cases ax <;> (simp [ix2] <;> omega)

theorem rd2 (c : Dev nD) (t : Fin grid0.N) (y : S1x1x256x256.Idx) : iblk m (ok m) c 2 t y = m ((c.tc : Thread nD τ).loc main_arg3) (E t y) :=
  (congrArg (V m c main_arg3) (emb5 a0 t y)).trans (congrFun (V_main_arg3 m c) _)

theorem rd3 (c : Dev nD) (t : Fin grid0.N) (y : S1x1x256x256.Idx) : iblk m (ok m) c 3 t y = m ((c.tc : Thread nD τ).loc main_arg4) (E t y) :=
  (congrArg (V m c main_arg4) (emb5 a0 t y)).trans (congrFun (V_main_arg4 m c) _)

theorem rd4 (c : Dev nD) (t : Fin grid0.N) (y : S1x1x256x256.Idx) : iblk m (ok m) c 4 t y = m ((c.tc : Thread nD τ).loc main_arg5) (E t y) :=
  (congrArg (V m c main_arg5) (emb5 a0 t y)).trans (congrFun (V_main_arg5 m c) _)

/-- The gradient at an entry, and what the update makes of it. -/
def gr (c : Dev nD) := grad (m ((c.tc : Thread nD τ).loc main_arg0)) (m ((c.tc : Thread nD τ).loc main_arg1)) (m ((c.tc : Thread nD τ).loc main_arg2))
def de (c : Dev nD) (i : S1x2x256x256.Idx) : EReal := step (m ((c.tc : Thread nD τ).loc main_arg3) i) (gr m c i) (m ((c.tc : Thread nD τ).loc main_arg4) i) (m ((c.tc : Thread nD τ).loc main_arg5) i)
def mo (c : Dev nD) (i : S1x2x256x256.Idx) : EReal := mom1 (gr m c i) (m ((c.tc : Thread nD τ).loc main_arg4) i)
def ve (c : Dev nD) (i : S1x2x256x256.Idx) : EReal := mom2 (gr m c i) (m ((c.tc : Thread nD τ).loc main_arg5) i)

theorem pick (c : Dev nD) (t : Fin grid0.N) (y : S1x1x256x256.Idx) {h : BitVec 32} (eh : h = m ((c.tc : Thread nD τ).loc main_arg2) (ix1 0)) :
    (if BitVec.ofNat 32 (grid0.coords t 0).val = h then iblk m (ok m) c 0 t (ix2 (y 2) (y 3)) else iblk m (ok m) c 1 t (ix2 (y 2) (y 3))) = gr m c (E t y) := by
  obtain ⟨e0, e1, e5, ec⟩ := idx_nat t
  refine (ite_congr rfl (fun _ => rd0 m c t (y 2) (y 3)) (fun _ => rd1 m c t (y 2) (y 3))).trans ?_
  rw [eh, ec]
  rfl

variable {m} in
theorem at5 {c : Dev nD} {t : Fin grid0.N} {y : S1x1x256x256.Idx} {h : BitVec 32} {v2 v3 : Vec Ideal S256x256 .f32}
    (eh : h = m ((c.tc : Thread nD τ).loc main_arg2) (ix1 0)) (e2 : v2 = iblk m (ok m) c 0 t) (e3 : v3 = iblk m (ok m) c 1 t) :
    k0_pay1 (F := Ideal) (k0_pay5 (grid0.coords t) h v2 v3) y = gr m c (E t y) := by
  refine Eq.trans ?_ (pick m c t y eh)
  subst e2 e3
  unfold k0_pay1  k0_pay5
  pointwise
  exact sel_eq _ _ _ _

variable {m} in
theorem at6 {c : Dev nD} {t : Fin grid0.N} {y : S1x1x256x256.Idx} {h : BitVec 32} {v2 v3 : Vec Ideal S256x256 .f32} {v5 v7 v9 : Vec Ideal S1x1x256x256 .f32}
    (eh : h = m ((c.tc : Thread nD τ).loc main_arg2) (ix1 0)) (e2 : v2 = iblk m (ok m) c 0 t) (e3 : v3 = iblk m (ok m) c 1 t) (e5 : v5 = iblk m (ok m) c 2 t) (e7 : v7 = iblk m (ok m) c 3 t) (e9 : v9 = iblk m (ok m) c 4 t) :
    k0_pay2 (F := Ideal) (k0_pay8 (grid0.coords t) h v2 v3 v5 v7 v9) y = de m c (E t y) := by
  unfold de
  rw [← rd2 m, ← rd3 m, ← rd4 m, ← pick m c t y eh]
  subst e2 e3 e5 e7 e9
  unfold k0_pay2 k0_pay8 k0_pay6 k0_pay7 k0_pay5
  pointwise
  exact congrArg (fun g : EReal => step (iblk m (ok m) c 2 t y) g (iblk m (ok m) c 3 t y) (iblk m (ok m) c 4 t y)) (sel_eq _ _ _ _)

variable {m} in
theorem at7 {c : Dev nD} {t : Fin grid0.N} {y : S1x1x256x256.Idx} {h : BitVec 32} {v2 v3 : Vec Ideal S256x256 .f32} {v7 : Vec Ideal S1x1x256x256 .f32}
    (eh : h = m ((c.tc : Thread nD τ).loc main_arg2) (ix1 0)) (e2 : v2 = iblk m (ok m) c 0 t) (e3 : v3 = iblk m (ok m) c 1 t) (e7 : v7 = iblk m (ok m) c 3 t) :
    k0_pay3 (F := Ideal) (k0_pay6 (grid0.coords t) h v2 v3 v7) y = mo m c (E t y) := by
  unfold mo
  rw [← rd3 m, ← pick m c t y eh]
  subst e2 e3 e7
  unfold k0_pay3 k0_pay6 k0_pay5
  pointwise
  exact congrArg (fun g : EReal => mom1 g (iblk m (ok m) c 3 t y)) (sel_eq _ _ _ _)

variable {m} in
theorem at8 {c : Dev nD} {t : Fin grid0.N} {y : S1x1x256x256.Idx} {h : BitVec 32} {v2 v3 : Vec Ideal S256x256 .f32} {v9 : Vec Ideal S1x1x256x256 .f32}
    (eh : h = m ((c.tc : Thread nD τ).loc main_arg2) (ix1 0)) (e2 : v2 = iblk m (ok m) c 0 t) (e3 : v3 = iblk m (ok m) c 1 t) (e9 : v9 = iblk m (ok m) c 4 t) :
    k0_pay4 (F := Ideal) (k0_pay7 (grid0.coords t) h v2 v3 v9) y = ve m c (E t y) := by
  unfold ve
  rw [← rd4 m, ← pick m c t y eh]
  subst e2 e3 e9
  unfold k0_pay4 k0_pay7 k0_pay5
  pointwise
  exact congrArg (fun g : EReal => mom2 g (iblk m (ok m) c 4 t y)) (sel_eq _ _ _ _)

theorem word (c : Dev nD) : View.readAt (Elt Ideal) (View.whole main_arg2) (Rect.unit ![0] ![1] inb_S1_S1_0).toLoadRect (tbl m 0) (Shape.Idx.first (by decide)) = m ((c.tc : Thread nD τ).loc main_arg2) (ix1 0) := by
  obtain rfl : c = 0 := Subsingleton.elim _ _
  refine (congrArg (V m (0 : Dev nD) main_arg2) (funext fun ax => Fin.ext ?_)).trans (congrFun (V_main_arg2 m 0) _)
  fin_cases ax
  rfl

theorem final5 (c : Dev nD) : (dats m (ok m) 0 c).arrAt 5 (cfgM m (ok m)).N = gr m c := by
  refine (dats m (ok m) 0 c).arrAt_eq_of_covers 5 _ (covers5 _) fun t hf y => ?_
  rw [after0_5]
  unfold outsAt0
  dsimp only
  frame_out
  exact (at5 (word m c) ((hs0_0 m (ok m) t).read_unread _) ((hs0_1 m (ok m) t).read_unread _)).trans (congrArg (gr m c) (emb5 (adm m (ok m)) t y)).symm

theorem final6 (c : Dev nD) : (dats m (ok m) 0 c).arrAt 6 (cfgM m (ok m)).N = de m c := by
  refine (dats m (ok m) 0 c).arrAt_eq_of_covers 6 _ (covers5 _) fun t hf y => ?_
  rw [after0_6]
  unfold outsAt0
  dsimp only
  frame_out
  exact (at6 (word m c) ((hs0_0 m (ok m) t).read_unread _) ((hs0_1 m (ok m) t).read_unread _) ((hs0_2 m (ok m) t).read_unread _) ((hs0_3 m (ok m) t).read_unread _) ((hs0_4 m (ok m) t).read_unread _)).trans (congrArg (de m c) (emb5 (adm m (ok m)) t y)).symm

theorem final7 (c : Dev nD) : (dats m (ok m) 0 c).arrAt 7 (cfgM m (ok m)).N = mo m c := by
  refine (dats m (ok m) 0 c).arrAt_eq_of_covers 7 _ (covers5 _) fun t hf y => ?_
  rw [after0_7]
  unfold outsAt0
  dsimp only
  frame_out
  exact (at7 (word m c) ((hs0_0 m (ok m) t).read_unread _) ((hs0_1 m (ok m) t).read_unread _) ((hs0_3 m (ok m) t).read_unread _)).trans (congrArg (mo m c) (emb5 (adm m (ok m)) t y)).symm

theorem final8 (c : Dev nD) : (dats m (ok m) 0 c).arrAt 8 (cfgM m (ok m)).N = ve m c := by
  refine (dats m (ok m) 0 c).arrAt_eq_of_covers 8 _ (covers5 _) fun t hf y => ?_
  rw [after0_8]
  unfold outsAt0
  dsimp only
  frame_out
  exact (at8 (word m c) ((hs0_0 m (ok m) t).read_unread _) ((hs0_1 m (ok m) t).read_unread _) ((hs0_4 m (ok m) t).read_unread _)).trans (congrArg (ve m c) (emb5 (adm m (ok m)) t y)).symm

/-- The region's run: the four arrays, and the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v0_0) = gr m c
      ∧ r.2.mem ((c.tc : Thread nD τ).loc main_v0_1) = de m c
      ∧ r.2.mem ((c.tc : Thread nD τ).loc main_v0_2) = mo m c
      ∧ r.2.mem ((c.tc : Thread nD τ).loc main_v0_3) = ve m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨((h.1 c).1 5).trans (final5 m c), ((h.1 c).1 6).trans (final6 m c), ((h.1 c).1 7).trans (final7 m c), ((h.1 c).1 8).trans (final8 m c), h.2 c⟩)
    (θ_run_and (run_main m ρ (ok m)) (unchanged m ρ (ok m)))

end Cert.AdamPoolWV

namespace Cert.AdamPoolWV

open Cert.AdamPoolWRefIdeal Cert.Opt

variable (m : (ℓ : Loc nD τ sig) → Buf (Elt Ideal) ℓ)

/-- The reference's run: the same four arrays. -/
theorem ref_run (ρ : Dev nD → PrngReg) :
    θ_run defs (onTc (τ := τ) (main (F := Ideal))) ⟨m, fun _ => 0, ρ⟩ fun r => ∀ c : Dev nD,
      r.2.mem ((c.tc : Thread nD τ).loc main_v6) = (grad (m ((c.tc : Thread nD τ).loc main_arg0)) (m ((c.tc : Thread nD τ).loc main_arg1)) (m ((c.tc : Thread nD τ).loc main_arg2)))
      ∧ r.2.mem ((c.tc : Thread nD τ).loc main_v30) = (fun i => step (m ((c.tc : Thread nD τ).loc main_arg3) i) (grad (m ((c.tc : Thread nD τ).loc main_arg0)) (m ((c.tc : Thread nD τ).loc main_arg1)) (m ((c.tc : Thread nD τ).loc main_arg2)) i) (m ((c.tc : Thread nD τ).loc main_arg4) i) (m ((c.tc : Thread nD τ).loc main_arg5) i))
      ∧ r.2.mem ((c.tc : Thread nD τ).loc main_v11) = (fun i => mom1 (grad (m ((c.tc : Thread nD τ).loc main_arg0)) (m ((c.tc : Thread nD τ).loc main_arg1)) (m ((c.tc : Thread nD τ).loc main_arg2)) i) (m ((c.tc : Thread nD τ).loc main_arg4) i))
      ∧ r.2.mem ((c.tc : Thread nD τ).loc main_v17) = (fun i => mom2 (grad (m ((c.tc : Thread nD τ).loc main_arg0)) (m ((c.tc : Thread nD τ).loc main_arg1)) (m ((c.tc : Thread nD τ).loc main_arg2)) i) (m ((c.tc : Thread nD τ).loc main_arg5) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r h c => ?_) (Value.run m ρ)
  obtain ⟨h1, h2, h3, h4, hr⟩ := h c
  have e := fun i : S1x2x256x256.Idx => sel_eq (BitVec.ofNat 32 (i 1).val) (m ((c.tc : Thread nD τ).loc main_arg2) (ix1 0)) (m ((c.tc : Thread nD τ).loc main_arg0) (ix2 (i 2) (i 3))) (m ((c.tc : Thread nD τ).loc main_arg1) (ix2 (i 2) (i 3)))
  refine ⟨h1.trans (funext fun i => ?_), h2.trans (funext fun i => ?_), h3.trans (funext fun i => ?_), h4.trans (funext fun i => ?_), hr⟩
  · pointwise
    exact congrArg (fun g : EReal => g) (e i)
  · pointwise
    exact congrArg (fun g : EReal => step (m ((c.tc : Thread nD τ).loc main_arg3) i) g (m ((c.tc : Thread nD τ).loc main_arg4) i) (m ((c.tc : Thread nD τ).loc main_arg5) i)) (e i)
  · pointwise
    exact congrArg (fun g : EReal => mom1 g (m ((c.tc : Thread nD τ).loc main_arg4) i)) (e i)
  · pointwise
    exact congrArg (fun g : EReal => mom2 g (m ((c.tc : Thread nD τ).loc main_arg5) i)) (e i)

theorem algebraic : Cert.algebraic_AdamPoolWIdeal_AdamPoolWRefIdeal := fun m g m' g' _ hag =>
  ⟨gr m, de m, mo m, ve m, run_blocks m g, (θ_run _ _ _).mono (fun r h c => by
      obtain ⟨h0, h1, h2, h3, h4, h5⟩ := hag c
      refine ⟨(h c).1.trans ?_, (h c).2.1.trans ?_, (h c).2.2.1.trans ?_, (h c).2.2.2.1.trans ?_, (h c).2.2.2.2⟩
      · rw [h0, h1, h2]; rfl
      · rw [h0, h1, h2, h3, h4, h5]; rfl
      · rw [h0, h1, h2, h4]; rfl
      · rw [h0, h1, h2, h5]; rfl) (ref_run m' g')⟩

end Cert.AdamPoolWV

end
-- ==== Proof.Opt.AdamPoolScale.lean ====
/-
  One weight's update out of its two halves: the call and its reference end with the same four arrays.
-/
module

public import proofs.«01_k».proof.Defs
public import proofs.«01_k».proof.Proof.Gen.AdamPoolScaleIdeal.Frame
public import proofs.«01_k».proof.Proof.Gen.AdamPoolScale.Frame
public import proofs.«01_k».proof.Proof.Gen.AdamPoolScaleRefIdeal.Run
public import proofs.«01_k».proof.Proof.Opt.Adam
public import Idealize.ShloMosaic.Lib.Pipeline.ValueKit

@[expose] public section

set_option maxRecDepth 16384

noncomputable section

open Idealize.ShloMosaic Idealize.ShloMosaic.TcCoe Idealize.SL.Sem

namespace Cert.AdamPoolScaleV

theorem ok_bits {F : FTy → Type} [FloatOps F] (m : (ℓ : Loc Cert.AdamPoolScale.nD Cert.AdamPoolScale.τ Cert.AdamPoolScale.sig) → Buf (Elt F) ℓ) : Cert.AdamPoolScale.Gen.Ok m := trivial

open Cert.AdamPoolScaleIdeal Cert.AdamPoolScaleIdeal.Gen Cert.Opt

theorem ok {F : FTy → Type} [FloatOps F] (m : (ℓ : Loc nD τ sig) → Buf (Elt F) ℓ) : Cert.AdamPoolScaleIdeal.Gen.Ok m := trivial

variable (m : (ℓ : Loc nD τ sig) → Buf (Elt Ideal) ℓ)

/-- Any contents of the table: no window's place depends on them. -/
def a0 : (pcfg0 (F := Ideal)).Adm := ⟨fun | ⟨0, _⟩ => fun _ => (0#32 : BitVec 32), trivial⟩

theorem idx_nat : ∀ t : Fin grid0.N, ((cfg0 a0).win 0).index t = ![t.val % 1, 0] ∧ ((cfg0 a0).win 1).index t = ![t.val % 1, 0]
    ∧ ((cfg0 a0).win 5).index t = ![0, t.val / 1, t.val % 1, 0] ∧ (grid0.coords t 0).val = t.val / 1 := by decide +kernel

theorem covers5 (a : (pcfg0 (F := Ideal)).Adm) : ((cfg0 a).win 5).Covers := (by decide +kernel : ((cfg0 a0).win 5).Covers)

/-- The gradient out of its two halves: the half whose number the word gives is the core's own. -/
def grad (own other : S1x256.Idx → EReal) (half : S1.Idx → BitVec 32) (i : S1x2x1x256.Idx) : EReal :=
  if BitVec.ofNat 32 (i 1).val = half (ix1 0) then own (ix2 0 (i 3)) else other (ix2 0 (i 3))

/-- Where an entry of point `t`'s block lies in the weight. -/
def E (t : Fin grid0.N) (y : S1x1x1x256.Idx) : S1x2x1x256.Idx :=
  ix4 0 ⟨t.val / 1, by have h : t.val < 2 := t.isLt; omega⟩ ⟨t.val % 1 * 1 + (y 2).val, by have h := (y 2).isLt; dsimp at h; omega⟩ (y 3)

theorem emb5 (a : (pcfg0 (F := Ideal)).Adm) (t : Fin grid0.N) (y : S1x1x1x256.Idx) : (((cfg0 a).win 5).blk t).view.emb y = E t y := by
  obtain ⟨e0, e1, e5, ec⟩ := idx_nat t
  refine funext fun ax => Fin.ext ?_
  have h : (((((cfg0 a).win 5).blk t).view.emb y ax : Fin _) : ℕ) = ((cfg0 a0).win 5).index t ax * S1x1x1x256.size ax + 1 * (y ax).val := rfl
  rw [e5] at h
  refine h.trans ?_
  have h0 := (y 0).isLt; have h1 := (y 1).isLt
  dsimp at h0 h1
  fin_cases ax <;> (simp [E, ix4] <;> omega)

theorem rd0 (c : Dev nD) (t : Fin grid0.N) (a : Fin 1) (b : Fin 256) : iblk m (ok m) c 0 t (ix2 a b) =
    m ((c.tc : Thread nD τ).loc main_arg0) (ix2 0 b) := by
  obtain ⟨e0, e1, e5, ec⟩ := idx_nat t
  refine (congrArg (V m c main_arg0) (funext fun ax => Fin.ext ?_)).trans (congrFun (V_main_arg0 m c) _)
  have h : (((((cfg0 a0).win 0).blk t).view.emb (ix2 a b) ax : Fin _) : ℕ) = ((cfg0 a0).win 0).index t ax * S1x256.size ax + 1 * (ix2 a b ax).val := rfl
  rw [e0] at h
  refine h.trans ?_
  fin_cases ax <;> (simp [ix2] <;> omega)

theorem rd1 (c : Dev nD) (t : Fin grid0.N) (a : Fin 1) (b : Fin 256) : iblk m (ok m) c 1 t (ix2 a b) =
    m ((c.tc : Thread nD τ).loc main_arg1) (ix2 0 b) := by
  obtain ⟨e0, e1, e5, ec⟩ := idx_nat t
  refine (congrArg (V m c main_arg1) (funext fun ax => Fin.ext ?_)).trans (congrFun (V_main_arg1 m c) _)
  have h : (((((cfg0 a0).win 1).blk t).view.emb (ix2 a b) ax : Fin _) : ℕ) = ((cfg0 a0).win 1).index t ax * S1x256.size ax + 1 * (ix2 a b ax).val := rfl
  rw [e1] at h
  refine h.trans ?_
  fin_cases ax <;> (simp [ix2] <;> omega)

theorem rd2 (c : Dev nD) (t : Fin grid0.N) (y : S1x1x1x256.Idx) : iblk m (ok m) c 2 t y = m ((c.tc : Thread nD τ).loc main_arg3) (E t y) :=
  (congrArg (V m c main_arg3) (emb5 a0 t y)).trans (congrFun (V_main_arg3 m c) _)

theorem rd3 (c : Dev nD) (t : Fin grid0.N) (y : S1x1x1x256.Idx) : iblk m (ok m) c 3 t y = m ((c.tc : Thread nD τ).loc main_arg4) (E t y) :=
  (congrArg (V m c main_arg4) (emb5 a0 t y)).trans (congrFun (V_main_arg4 m c) _)

theorem rd4 (c : Dev nD) (t : Fin grid0.N) (y : S1x1x1x256.Idx) : iblk m (ok m) c 4 t y = m ((c.tc : Thread nD τ).loc main_arg5) (E t y) :=
  (congrArg (V m c main_arg5) (emb5 a0 t y)).trans (congrFun (V_main_arg5 m c) _)

/-- The gradient at an entry, and what the update makes of it. -/
def gr (c : Dev nD) := grad (m ((c.tc : Thread nD τ).loc main_arg0)) (m ((c.tc : Thread nD τ).loc main_arg1)) (m ((c.tc : Thread nD τ).loc main_arg2))
def de (c : Dev nD) (i : S1x2x1x256.Idx) : EReal := step (m ((c.tc : Thread nD τ).loc main_arg3) i) (gr m c i) (m ((c.tc : Thread nD τ).loc main_arg4) i) (m ((c.tc : Thread nD τ).loc main_arg5) i)
def mo (c : Dev nD) (i : S1x2x1x256.Idx) : EReal := mom1 (gr m c i) (m ((c.tc : Thread nD τ).loc main_arg4) i)
def ve (c : Dev nD) (i : S1x2x1x256.Idx) : EReal := mom2 (gr m c i) (m ((c.tc : Thread nD τ).loc main_arg5) i)

theorem pick (c : Dev nD) (t : Fin grid0.N) (y : S1x1x1x256.Idx) {h : BitVec 32} (eh : h = m ((c.tc : Thread nD τ).loc main_arg2) (ix1 0)) :
    (if BitVec.ofNat 32 (grid0.coords t 0).val = h then iblk m (ok m) c 0 t (ix2 0 (y 3)) else iblk m (ok m) c 1 t (ix2 0 (y 3))) = gr m c (E t y) := by
  obtain ⟨e0, e1, e5, ec⟩ := idx_nat t
  refine (ite_congr rfl (fun _ => rd0 m c t 0 (y 3)) (fun _ => rd1 m c t 0 (y 3))).trans ?_
  rw [eh, ec]
  rfl

variable {m} in
theorem at5 {c : Dev nD} {t : Fin grid0.N} {y : S1x1x1x256.Idx} {h : BitVec 32} {v2 v3 : Vec Ideal S1x256 .f32}
    (eh : h = m ((c.tc : Thread nD τ).loc main_arg2) (ix1 0)) (e2 : v2 = iblk m (ok m) c 0 t) (e3 : v3 = iblk m (ok m) c 1 t) :
    k0_pay1 (F := Ideal) (k0_pay5 (grid0.coords t) h v2 v3) y = gr m c (E t y) := by
  refine Eq.trans ?_ (pick m c t y eh)
  subst e2 e3
  unfold k0_pay1  k0_pay5
  pointwise
  exact sel_eq _ _ _ _

variable {m} in
theorem at6 {c : Dev nD} {t : Fin grid0.N} {y : S1x1x1x256.Idx} {h : BitVec 32} {v2 v3 : Vec Ideal S1x256 .f32} {v5 v7 v9 : Vec Ideal S1x1x1x256 .f32}
    (eh : h = m ((c.tc : Thread nD τ).loc main_arg2) (ix1 0)) (e2 : v2 = iblk m (ok m) c 0 t) (e3 : v3 = iblk m (ok m) c 1 t) (e5 : v5 = iblk m (ok m) c 2 t) (e7 : v7 = iblk m (ok m) c 3 t) (e9 : v9 = iblk m (ok m) c 4 t) :
    k0_pay2 (F := Ideal) (k0_pay8 (grid0.coords t) h v2 v3 v5 v7 v9) y = de m c (E t y) := by
  unfold de
  rw [← rd2 m, ← rd3 m, ← rd4 m, ← pick m c t y eh]
  subst e2 e3 e5 e7 e9
  unfold k0_pay2 k0_pay8 k0_pay6 k0_pay7 k0_pay5
  pointwise
  exact congrArg (fun g : EReal => step (iblk m (ok m) c 2 t y) g (iblk m (ok m) c 3 t y) (iblk m (ok m) c 4 t y)) (sel_eq _ _ _ _)

variable {m} in
theorem at7 {c : Dev nD} {t : Fin grid0.N} {y : S1x1x1x256.Idx} {h : BitVec 32} {v2 v3 : Vec Ideal S1x256 .f32} {v7 : Vec Ideal S1x1x1x256 .f32}
    (eh : h = m ((c.tc : Thread nD τ).loc main_arg2) (ix1 0)) (e2 : v2 = iblk m (ok m) c 0 t) (e3 : v3 = iblk m (ok m) c 1 t) (e7 : v7 = iblk m (ok m) c 3 t) :
    k0_pay3 (F := Ideal) (k0_pay6 (grid0.coords t) h v2 v3 v7) y = mo m c (E t y) := by
  unfold mo
  rw [← rd3 m, ← pick m c t y eh]
  subst e2 e3 e7
  unfold k0_pay3 k0_pay6 k0_pay5
  pointwise
  exact congrArg (fun g : EReal => mom1 g (iblk m (ok m) c 3 t y)) (sel_eq _ _ _ _)

variable {m} in
theorem at8 {c : Dev nD} {t : Fin grid0.N} {y : S1x1x1x256.Idx} {h : BitVec 32} {v2 v3 : Vec Ideal S1x256 .f32} {v9 : Vec Ideal S1x1x1x256 .f32}
    (eh : h = m ((c.tc : Thread nD τ).loc main_arg2) (ix1 0)) (e2 : v2 = iblk m (ok m) c 0 t) (e3 : v3 = iblk m (ok m) c 1 t) (e9 : v9 = iblk m (ok m) c 4 t) :
    k0_pay4 (F := Ideal) (k0_pay7 (grid0.coords t) h v2 v3 v9) y = ve m c (E t y) := by
  unfold ve
  rw [← rd4 m, ← pick m c t y eh]
  subst e2 e3 e9
  unfold k0_pay4 k0_pay7 k0_pay5
  pointwise
  exact congrArg (fun g : EReal => mom2 g (iblk m (ok m) c 4 t y)) (sel_eq _ _ _ _)

theorem word (c : Dev nD) : View.readAt (Elt Ideal) (View.whole main_arg2) (Rect.unit ![0] ![1] inb_S1_S1_0).toLoadRect (tbl m 0) (Shape.Idx.first (by decide)) = m ((c.tc : Thread nD τ).loc main_arg2) (ix1 0) := by
  obtain rfl : c = 0 := Subsingleton.elim _ _
  refine (congrArg (V m (0 : Dev nD) main_arg2) (funext fun ax => Fin.ext ?_)).trans (congrFun (V_main_arg2 m 0) _)
  fin_cases ax
  rfl

theorem final5 (c : Dev nD) : (dats m (ok m) 0 c).arrAt 5 (cfgM m (ok m)).N = gr m c := by
  refine (dats m (ok m) 0 c).arrAt_eq_of_covers 5 _ (covers5 _) fun t hf y => ?_
  rw [after0_5]
  unfold outsAt0
  dsimp only
  frame_out
  exact (at5 (word m c) ((hs0_0 m (ok m) t).read_unread _) ((hs0_1 m (ok m) t).read_unread _)).trans (congrArg (gr m c) (emb5 (adm m (ok m)) t y)).symm

theorem final6 (c : Dev nD) : (dats m (ok m) 0 c).arrAt 6 (cfgM m (ok m)).N = de m c := by
  refine (dats m (ok m) 0 c).arrAt_eq_of_covers 6 _ (covers5 _) fun t hf y => ?_
  rw [after0_6]
  unfold outsAt0
  dsimp only
  frame_out
  exact (at6 (word m c) ((hs0_0 m (ok m) t).read_unread _) ((hs0_1 m (ok m) t).read_unread _) ((hs0_2 m (ok m) t).read_unread _) ((hs0_3 m (ok m) t).read_unread _) ((hs0_4 m (ok m) t).read_unread _)).trans (congrArg (de m c) (emb5 (adm m (ok m)) t y)).symm

theorem final7 (c : Dev nD) : (dats m (ok m) 0 c).arrAt 7 (cfgM m (ok m)).N = mo m c := by
  refine (dats m (ok m) 0 c).arrAt_eq_of_covers 7 _ (covers5 _) fun t hf y => ?_
  rw [after0_7]
  unfold outsAt0
  dsimp only
  frame_out
  exact (at7 (word m c) ((hs0_0 m (ok m) t).read_unread _) ((hs0_1 m (ok m) t).read_unread _) ((hs0_3 m (ok m) t).read_unread _)).trans (congrArg (mo m c) (emb5 (adm m (ok m)) t y)).symm

theorem final8 (c : Dev nD) : (dats m (ok m) 0 c).arrAt 8 (cfgM m (ok m)).N = ve m c := by
  refine (dats m (ok m) 0 c).arrAt_eq_of_covers 8 _ (covers5 _) fun t hf y => ?_
  rw [after0_8]
  unfold outsAt0
  dsimp only
  frame_out
  exact (at8 (word m c) ((hs0_0 m (ok m) t).read_unread _) ((hs0_1 m (ok m) t).read_unread _) ((hs0_4 m (ok m) t).read_unread _)).trans (congrArg (ve m c) (emb5 (adm m (ok m)) t y)).symm

/-- The region's run: the four arrays, and the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v0_0) = gr m c
      ∧ r.2.mem ((c.tc : Thread nD τ).loc main_v0_1) = de m c
      ∧ r.2.mem ((c.tc : Thread nD τ).loc main_v0_2) = mo m c
      ∧ r.2.mem ((c.tc : Thread nD τ).loc main_v0_3) = ve m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨((h.1 c).1 5).trans (final5 m c), ((h.1 c).1 6).trans (final6 m c), ((h.1 c).1 7).trans (final7 m c), ((h.1 c).1 8).trans (final8 m c), h.2 c⟩)
    (θ_run_and (run_main m ρ (ok m)) (unchanged m ρ (ok m)))

end Cert.AdamPoolScaleV

namespace Cert.AdamPoolScaleV

open Cert.AdamPoolScaleRefIdeal Cert.Opt

variable (m : (ℓ : Loc nD τ sig) → Buf (Elt Ideal) ℓ)

/-- The reference's run: the same four arrays. -/
theorem ref_run (ρ : Dev nD → PrngReg) :
    θ_run defs (onTc (τ := τ) (main (F := Ideal))) ⟨m, fun _ => 0, ρ⟩ fun r => ∀ c : Dev nD,
      r.2.mem ((c.tc : Thread nD τ).loc main_v6) = (grad (m ((c.tc : Thread nD τ).loc main_arg0)) (m ((c.tc : Thread nD τ).loc main_arg1)) (m ((c.tc : Thread nD τ).loc main_arg2)))
      ∧ r.2.mem ((c.tc : Thread nD τ).loc main_v30) = (fun i => step (m ((c.tc : Thread nD τ).loc main_arg3) i) (grad (m ((c.tc : Thread nD τ).loc main_arg0)) (m ((c.tc : Thread nD τ).loc main_arg1)) (m ((c.tc : Thread nD τ).loc main_arg2)) i) (m ((c.tc : Thread nD τ).loc main_arg4) i) (m ((c.tc : Thread nD τ).loc main_arg5) i))
      ∧ r.2.mem ((c.tc : Thread nD τ).loc main_v11) = (fun i => mom1 (grad (m ((c.tc : Thread nD τ).loc main_arg0)) (m ((c.tc : Thread nD τ).loc main_arg1)) (m ((c.tc : Thread nD τ).loc main_arg2)) i) (m ((c.tc : Thread nD τ).loc main_arg4) i))
      ∧ r.2.mem ((c.tc : Thread nD τ).loc main_v17) = (fun i => mom2 (grad (m ((c.tc : Thread nD τ).loc main_arg0)) (m ((c.tc : Thread nD τ).loc main_arg1)) (m ((c.tc : Thread nD τ).loc main_arg2)) i) (m ((c.tc : Thread nD τ).loc main_arg5) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r h c => ?_) (Value.run m ρ)
  obtain ⟨h1, h2, h3, h4, hr⟩ := h c
  have e := fun i : S1x2x1x256.Idx => sel_eq (BitVec.ofNat 32 (i 1).val) (m ((c.tc : Thread nD τ).loc main_arg2) (ix1 0)) (m ((c.tc : Thread nD τ).loc main_arg0) (ix2 0 (i 3))) (m ((c.tc : Thread nD τ).loc main_arg1) (ix2 0 (i 3)))
  refine ⟨h1.trans (funext fun i => ?_), h2.trans (funext fun i => ?_), h3.trans (funext fun i => ?_), h4.trans (funext fun i => ?_), hr⟩
  · pointwise
    exact congrArg (fun g : EReal => g) (e i)
  · pointwise
    exact congrArg (fun g : EReal => step (m ((c.tc : Thread nD τ).loc main_arg3) i) g (m ((c.tc : Thread nD τ).loc main_arg4) i) (m ((c.tc : Thread nD τ).loc main_arg5) i)) (e i)
  · pointwise
    exact congrArg (fun g : EReal => mom1 g (m ((c.tc : Thread nD τ).loc main_arg4) i)) (e i)
  · pointwise
    exact congrArg (fun g : EReal => mom2 g (m ((c.tc : Thread nD τ).loc main_arg5) i)) (e i)

theorem algebraic : Cert.algebraic_AdamPoolScaleIdeal_AdamPoolScaleRefIdeal := fun m g m' g' _ hag =>
  ⟨gr m, de m, mo m, ve m, run_blocks m g, (θ_run _ _ _).mono (fun r h c => by
      obtain ⟨h0, h1, h2, h3, h4, h5⟩ := hag c
      refine ⟨(h c).1.trans ?_, (h c).2.1.trans ?_, (h c).2.2.1.trans ?_, (h c).2.2.2.1.trans ?_, (h c).2.2.2.2⟩
      · rw [h0, h1, h2]; rfl
      · rw [h0, h1, h2, h3, h4, h5]; rfl
      · rw [h0, h1, h2, h4]; rfl
      · rw [h0, h1, h2, h5]; rfl) (ref_run m' g')⟩

end Cert.AdamPoolScaleV

end
-- ==== Proof.Opt.AdamConvW.lean ====
/-
  One weight's update out of its two halves: the call and its reference end with the same four arrays.
-/
module

public import proofs.«01_k».proof.Defs
public import proofs.«01_k».proof.Proof.Gen.AdamConvWIdeal.Frame
public import proofs.«01_k».proof.Proof.Gen.AdamConvW.Frame
public import proofs.«01_k».proof.Proof.Gen.AdamConvWRefIdeal.Run
public import proofs.«01_k».proof.Proof.Opt.Adam
public import Idealize.ShloMosaic.Lib.Pipeline.ValueKit

@[expose] public section

set_option maxRecDepth 16384

noncomputable section

open Idealize.ShloMosaic Idealize.ShloMosaic.TcCoe Idealize.SL.Sem

namespace Cert.AdamConvWV

theorem ok_bits {F : FTy → Type} [FloatOps F] (m : (ℓ : Loc Cert.AdamConvW.nD Cert.AdamConvW.τ Cert.AdamConvW.sig) → Buf (Elt F) ℓ) : Cert.AdamConvW.Gen.Ok m := trivial

open Cert.AdamConvWIdeal Cert.AdamConvWIdeal.Gen Cert.Opt

theorem ok {F : FTy → Type} [FloatOps F] (m : (ℓ : Loc nD τ sig) → Buf (Elt F) ℓ) : Cert.AdamConvWIdeal.Gen.Ok m := trivial

variable (m : (ℓ : Loc nD τ sig) → Buf (Elt Ideal) ℓ)

/-- Any contents of the table: no window's place depends on them. -/
def a0 : (pcfg0 (F := Ideal)).Adm := ⟨fun | ⟨0, _⟩ => fun _ => (0#32 : BitVec 32), trivial⟩

theorem idx_nat : ∀ t : Fin grid0.N, ((cfg0 a0).win 0).index t = ![t.val % 1, 0] ∧ ((cfg0 a0).win 1).index t = ![t.val % 1, 0]
    ∧ ((cfg0 a0).win 5).index t = ![0, t.val / 1, t.val % 1, 0] ∧ (grid0.coords t 0).val = t.val / 1 := by decide +kernel

theorem covers5 (a : (pcfg0 (F := Ideal)).Adm) : ((cfg0 a).win 5).Covers := (by decide +kernel : ((cfg0 a0).win 5).Covers)

/-- The gradient out of its two halves: the half whose number the word gives is the core's own. -/
def grad (own other : S6x704.Idx → EReal) (half : S1.Idx → BitVec 32) (i : S1x2x6x704.Idx) : EReal :=
  if BitVec.ofNat 32 (i 1).val = half (ix1 0) then own (ix2 (i 2) (i 3)) else other (ix2 (i 2) (i 3))

/-- Where an entry of point `t`'s block lies in the weight. -/
def E (t : Fin grid0.N) (y : S1x1x6x704.Idx) : S1x2x6x704.Idx :=
  ix4 0 ⟨t.val / 1, by have h : t.val < 2 := t.isLt; omega⟩ ⟨t.val % 1 * 6 + (y 2).val, by have h := (y 2).isLt; dsimp at h; omega⟩ (y 3)

theorem emb5 (a : (pcfg0 (F := Ideal)).Adm) (t : Fin grid0.N) (y : S1x1x6x704.Idx) : (((cfg0 a).win 5).blk t).view.emb y = E t y := by
  obtain ⟨e0, e1, e5, ec⟩ := idx_nat t
  refine funext fun ax => Fin.ext ?_
  have h : (((((cfg0 a).win 5).blk t).view.emb y ax : Fin _) : ℕ) = ((cfg0 a0).win 5).index t ax * S1x1x6x704.size ax + 1 * (y ax).val := rfl
  rw [e5] at h
  refine h.trans ?_
  have h0 := (y 0).isLt; have h1 := (y 1).isLt
  dsimp at h0 h1
  fin_cases ax <;> (simp [E, ix4] <;> omega)

theorem rd0 (c : Dev nD) (t : Fin grid0.N) (a : Fin 6) (b : Fin 704) : iblk m (ok m) c 0 t (ix2 a b) =
    m ((c.tc : Thread nD τ).loc main_arg0) (ix2 ⟨t.val % 1 * 6 + a.val, by omega⟩ b) := by
  obtain ⟨e0, e1, e5, ec⟩ := idx_nat t
  refine (congrArg (V m c main_arg0) (funext fun ax => Fin.ext ?_)).trans (congrFun (V_main_arg0 m c) _)
  have h : (((((cfg0 a0).win 0).blk t).view.emb (ix2 a b) ax : Fin _) : ℕ) = ((cfg0 a0).win 0).index t ax * S6x704.size ax + 1 * (ix2 a b ax).val := rfl
  rw [e0] at h
  refine h.trans ?_
  fin_cases ax <;> (simp [ix2] <;> omega)

theorem rd1 (c : Dev nD) (t : Fin grid0.N) (a : Fin 6) (b : Fin 704) : iblk m (ok m) c 1 t (ix2 a b) =
    m ((c.tc : Thread nD τ).loc main_arg1) (ix2 ⟨t.val % 1 * 6 + a.val, by omega⟩ b) := by
  obtain ⟨e0, e1, e5, ec⟩ := idx_nat t
  refine (congrArg (V m c main_arg1) (funext fun ax => Fin.ext ?_)).trans (congrFun (V_main_arg1 m c) _)
  have h : (((((cfg0 a0).win 1).blk t).view.emb (ix2 a b) ax : Fin _) : ℕ) = ((cfg0 a0).win 1).index t ax * S6x704.size ax + 1 * (ix2 a b ax).val := rfl
  rw [e1] at h
  refine h.trans ?_
  fin_cases ax <;> (simp [ix2] <;> omega)

theorem rd2 (c : Dev nD) (t : Fin grid0.N) (y : S1x1x6x704.Idx) : iblk m (ok m) c 2 t y = m ((c.tc : Thread nD τ).loc main_arg3) (E t y) :=
  (congrArg (V m c main_arg3) (emb5 a0 t y)).trans (congrFun (V_main_arg3 m c) _)

theorem rd3 (c : Dev nD) (t : Fin grid0.N) (y : S1x1x6x704.Idx) : iblk m (ok m) c 3 t y = m ((c.tc : Thread nD τ).loc main_arg4) (E t y) :=
  (congrArg (V m c main_arg4) (emb5 a0 t y)).trans (congrFun (V_main_arg4 m c) _)

theorem rd4 (c : Dev nD) (t : Fin grid0.N) (y : S1x1x6x704.Idx) : iblk m (ok m) c 4 t y = m ((c.tc : Thread nD τ).loc main_arg5) (E t y) :=
  (congrArg (V m c main_arg5) (emb5 a0 t y)).trans (congrFun (V_main_arg5 m c) _)

/-- The gradient at an entry, and what the update makes of it. -/
def gr (c : Dev nD) := grad (m ((c.tc : Thread nD τ).loc main_arg0)) (m ((c.tc : Thread nD τ).loc main_arg1)) (m ((c.tc : Thread nD τ).loc main_arg2))
def de (c : Dev nD) (i : S1x2x6x704.Idx) : EReal := step (m ((c.tc : Thread nD τ).loc main_arg3) i) (gr m c i) (m ((c.tc : Thread nD τ).loc main_arg4) i) (m ((c.tc : Thread nD τ).loc main_arg5) i)
def mo (c : Dev nD) (i : S1x2x6x704.Idx) : EReal := mom1 (gr m c i) (m ((c.tc : Thread nD τ).loc main_arg4) i)
def ve (c : Dev nD) (i : S1x2x6x704.Idx) : EReal := mom2 (gr m c i) (m ((c.tc : Thread nD τ).loc main_arg5) i)

theorem pick (c : Dev nD) (t : Fin grid0.N) (y : S1x1x6x704.Idx) {h : BitVec 32} (eh : h = m ((c.tc : Thread nD τ).loc main_arg2) (ix1 0)) :
    (if BitVec.ofNat 32 (grid0.coords t 0).val = h then iblk m (ok m) c 0 t (ix2 (y 2) (y 3)) else iblk m (ok m) c 1 t (ix2 (y 2) (y 3))) = gr m c (E t y) := by
  obtain ⟨e0, e1, e5, ec⟩ := idx_nat t
  refine (ite_congr rfl (fun _ => rd0 m c t (y 2) (y 3)) (fun _ => rd1 m c t (y 2) (y 3))).trans ?_
  rw [eh, ec]
  rfl

variable {m} in
theorem at5 {c : Dev nD} {t : Fin grid0.N} {y : S1x1x6x704.Idx} {h : BitVec 32} {v2 v3 : Vec Ideal S6x704 .f32}
    (eh : h = m ((c.tc : Thread nD τ).loc main_arg2) (ix1 0)) (e2 : v2 = iblk m (ok m) c 0 t) (e3 : v3 = iblk m (ok m) c 1 t) :
    k0_pay1 (F := Ideal) (k0_pay5 (grid0.coords t) h v2 v3) y = gr m c (E t y) := by
  refine Eq.trans ?_ (pick m c t y eh)
  subst e2 e3
  unfold k0_pay1  k0_pay5
  pointwise
  exact sel_eq _ _ _ _

variable {m} in
theorem at6 {c : Dev nD} {t : Fin grid0.N} {y : S1x1x6x704.Idx} {h : BitVec 32} {v2 v3 : Vec Ideal S6x704 .f32} {v5 v7 v9 : Vec Ideal S1x1x6x704 .f32}
    (eh : h = m ((c.tc : Thread nD τ).loc main_arg2) (ix1 0)) (e2 : v2 = iblk m (ok m) c 0 t) (e3 : v3 = iblk m (ok m) c 1 t) (e5 : v5 = iblk m (ok m) c 2 t) (e7 : v7 = iblk m (ok m) c 3 t) (e9 : v9 = iblk m (ok m) c 4 t) :
    k0_pay2 (F := Ideal) (k0_pay8 (grid0.coords t) h v2 v3 v5 v7 v9) y = de m c (E t y) := by
  unfold de
  rw [← rd2 m, ← rd3 m, ← rd4 m, ← pick m c t y eh]
  subst e2 e3 e5 e7 e9
  unfold k0_pay2 k0_pay8 k0_pay6 k0_pay7 k0_pay5
  pointwise
  exact congrArg (fun g : EReal => step (iblk m (ok m) c 2 t y) g (iblk m (ok m) c 3 t y) (iblk m (ok m) c 4 t y)) (sel_eq _ _ _ _)

variable {m} in
theorem at7 {c : Dev nD} {t : Fin grid0.N} {y : S1x1x6x704.Idx} {h : BitVec 32} {v2 v3 : Vec Ideal S6x704 .f32} {v7 : Vec Ideal S1x1x6x704 .f32}
    (eh : h = m ((c.tc : Thread nD τ).loc main_arg2) (ix1 0)) (e2 : v2 = iblk m (ok m) c 0 t) (e3 : v3 = iblk m (ok m) c 1 t) (e7 : v7 = iblk m (ok m) c 3 t) :
    k0_pay3 (F := Ideal) (k0_pay6 (grid0.coords t) h v2 v3 v7) y = mo m c (E t y) := by
  unfold mo
  rw [← rd3 m, ← pick m c t y eh]
  subst e2 e3 e7
  unfold k0_pay3 k0_pay6 k0_pay5
  pointwise
  exact congrArg (fun g : EReal => mom1 g (iblk m (ok m) c 3 t y)) (sel_eq _ _ _ _)

variable {m} in
theorem at8 {c : Dev nD} {t : Fin grid0.N} {y : S1x1x6x704.Idx} {h : BitVec 32} {v2 v3 : Vec Ideal S6x704 .f32} {v9 : Vec Ideal S1x1x6x704 .f32}
    (eh : h = m ((c.tc : Thread nD τ).loc main_arg2) (ix1 0)) (e2 : v2 = iblk m (ok m) c 0 t) (e3 : v3 = iblk m (ok m) c 1 t) (e9 : v9 = iblk m (ok m) c 4 t) :
    k0_pay4 (F := Ideal) (k0_pay7 (grid0.coords t) h v2 v3 v9) y = ve m c (E t y) := by
  unfold ve
  rw [← rd4 m, ← pick m c t y eh]
  subst e2 e3 e9
  unfold k0_pay4 k0_pay7 k0_pay5
  pointwise
  exact congrArg (fun g : EReal => mom2 g (iblk m (ok m) c 4 t y)) (sel_eq _ _ _ _)

theorem word (c : Dev nD) : View.readAt (Elt Ideal) (View.whole main_arg2) (Rect.unit ![0] ![1] inb_S1_S1_0).toLoadRect (tbl m 0) (Shape.Idx.first (by decide)) = m ((c.tc : Thread nD τ).loc main_arg2) (ix1 0) := by
  obtain rfl : c = 0 := Subsingleton.elim _ _
  refine (congrArg (V m (0 : Dev nD) main_arg2) (funext fun ax => Fin.ext ?_)).trans (congrFun (V_main_arg2 m 0) _)
  fin_cases ax
  rfl

theorem final5 (c : Dev nD) : (dats m (ok m) 0 c).arrAt 5 (cfgM m (ok m)).N = gr m c := by
  refine (dats m (ok m) 0 c).arrAt_eq_of_covers 5 _ (covers5 _) fun t hf y => ?_
  rw [after0_5]
  unfold outsAt0
  dsimp only
  frame_out
  exact (at5 (word m c) ((hs0_0 m (ok m) t).read_unread _) ((hs0_1 m (ok m) t).read_unread _)).trans (congrArg (gr m c) (emb5 (adm m (ok m)) t y)).symm

theorem final6 (c : Dev nD) : (dats m (ok m) 0 c).arrAt 6 (cfgM m (ok m)).N = de m c := by
  refine (dats m (ok m) 0 c).arrAt_eq_of_covers 6 _ (covers5 _) fun t hf y => ?_
  rw [after0_6]
  unfold outsAt0
  dsimp only
  frame_out
  exact (at6 (word m c) ((hs0_0 m (ok m) t).read_unread _) ((hs0_1 m (ok m) t).read_unread _) ((hs0_2 m (ok m) t).read_unread _) ((hs0_3 m (ok m) t).read_unread _) ((hs0_4 m (ok m) t).read_unread _)).trans (congrArg (de m c) (emb5 (adm m (ok m)) t y)).symm

theorem final7 (c : Dev nD) : (dats m (ok m) 0 c).arrAt 7 (cfgM m (ok m)).N = mo m c := by
  refine (dats m (ok m) 0 c).arrAt_eq_of_covers 7 _ (covers5 _) fun t hf y => ?_
  rw [after0_7]
  unfold outsAt0
  dsimp only
  frame_out
  exact (at7 (word m c) ((hs0_0 m (ok m) t).read_unread _) ((hs0_1 m (ok m) t).read_unread _) ((hs0_3 m (ok m) t).read_unread _)).trans (congrArg (mo m c) (emb5 (adm m (ok m)) t y)).symm

theorem final8 (c : Dev nD) : (dats m (ok m) 0 c).arrAt 8 (cfgM m (ok m)).N = ve m c := by
  refine (dats m (ok m) 0 c).arrAt_eq_of_covers 8 _ (covers5 _) fun t hf y => ?_
  rw [after0_8]
  unfold outsAt0
  dsimp only
  frame_out
  exact (at8 (word m c) ((hs0_0 m (ok m) t).read_unread _) ((hs0_1 m (ok m) t).read_unread _) ((hs0_4 m (ok m) t).read_unread _)).trans (congrArg (ve m c) (emb5 (adm m (ok m)) t y)).symm

/-- The region's run: the four arrays, and the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v0_0) = gr m c
      ∧ r.2.mem ((c.tc : Thread nD τ).loc main_v0_1) = de m c
      ∧ r.2.mem ((c.tc : Thread nD τ).loc main_v0_2) = mo m c
      ∧ r.2.mem ((c.tc : Thread nD τ).loc main_v0_3) = ve m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨((h.1 c).1 5).trans (final5 m c), ((h.1 c).1 6).trans (final6 m c), ((h.1 c).1 7).trans (final7 m c), ((h.1 c).1 8).trans (final8 m c), h.2 c⟩)
    (θ_run_and (run_main m ρ (ok m)) (unchanged m ρ (ok m)))

end Cert.AdamConvWV

namespace Cert.AdamConvWV

open Cert.AdamConvWRefIdeal Cert.Opt

variable (m : (ℓ : Loc nD τ sig) → Buf (Elt Ideal) ℓ)

/-- The reference's run: the same four arrays. -/
theorem ref_run (ρ : Dev nD → PrngReg) :
    θ_run defs (onTc (τ := τ) (main (F := Ideal))) ⟨m, fun _ => 0, ρ⟩ fun r => ∀ c : Dev nD,
      r.2.mem ((c.tc : Thread nD τ).loc main_v6) = (grad (m ((c.tc : Thread nD τ).loc main_arg0)) (m ((c.tc : Thread nD τ).loc main_arg1)) (m ((c.tc : Thread nD τ).loc main_arg2)))
      ∧ r.2.mem ((c.tc : Thread nD τ).loc main_v30) = (fun i => step (m ((c.tc : Thread nD τ).loc main_arg3) i) (grad (m ((c.tc : Thread nD τ).loc main_arg0)) (m ((c.tc : Thread nD τ).loc main_arg1)) (m ((c.tc : Thread nD τ).loc main_arg2)) i) (m ((c.tc : Thread nD τ).loc main_arg4) i) (m ((c.tc : Thread nD τ).loc main_arg5) i))
      ∧ r.2.mem ((c.tc : Thread nD τ).loc main_v11) = (fun i => mom1 (grad (m ((c.tc : Thread nD τ).loc main_arg0)) (m ((c.tc : Thread nD τ).loc main_arg1)) (m ((c.tc : Thread nD τ).loc main_arg2)) i) (m ((c.tc : Thread nD τ).loc main_arg4) i))
      ∧ r.2.mem ((c.tc : Thread nD τ).loc main_v17) = (fun i => mom2 (grad (m ((c.tc : Thread nD τ).loc main_arg0)) (m ((c.tc : Thread nD τ).loc main_arg1)) (m ((c.tc : Thread nD τ).loc main_arg2)) i) (m ((c.tc : Thread nD τ).loc main_arg5) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r h c => ?_) (Value.run m ρ)
  obtain ⟨h1, h2, h3, h4, hr⟩ := h c
  have e := fun i : S1x2x6x704.Idx => sel_eq (BitVec.ofNat 32 (i 1).val) (m ((c.tc : Thread nD τ).loc main_arg2) (ix1 0)) (m ((c.tc : Thread nD τ).loc main_arg0) (ix2 (i 2) (i 3))) (m ((c.tc : Thread nD τ).loc main_arg1) (ix2 (i 2) (i 3)))
  refine ⟨h1.trans (funext fun i => ?_), h2.trans (funext fun i => ?_), h3.trans (funext fun i => ?_), h4.trans (funext fun i => ?_), hr⟩
  · pointwise
    exact congrArg (fun g : EReal => g) (e i)
  · pointwise
    exact congrArg (fun g : EReal => step (m ((c.tc : Thread nD τ).loc main_arg3) i) g (m ((c.tc : Thread nD τ).loc main_arg4) i) (m ((c.tc : Thread nD τ).loc main_arg5) i)) (e i)
  · pointwise
    exact congrArg (fun g : EReal => mom1 g (m ((c.tc : Thread nD τ).loc main_arg4) i)) (e i)
  · pointwise
    exact congrArg (fun g : EReal => mom2 g (m ((c.tc : Thread nD τ).loc main_arg5) i)) (e i)

theorem algebraic : Cert.algebraic_AdamConvWIdeal_AdamConvWRefIdeal := fun m g m' g' _ hag =>
  ⟨gr m, de m, mo m, ve m, run_blocks m g, (θ_run _ _ _).mono (fun r h c => by
      obtain ⟨h0, h1, h2, h3, h4, h5⟩ := hag c
      refine ⟨(h c).1.trans ?_, (h c).2.1.trans ?_, (h c).2.2.1.trans ?_, (h c).2.2.2.1.trans ?_, (h c).2.2.2.2⟩
      · rw [h0, h1, h2]; rfl
      · rw [h0, h1, h2, h3, h4, h5]; rfl
      · rw [h0, h1, h2, h4]; rfl
      · rw [h0, h1, h2, h5]; rfl) (ref_run m' g')⟩

end Cert.AdamConvWV

end
-- ==== Proof.Opt.AdamQ0.lean ====
/-
  One weight's update out of its two halves, part 0 of 2: the call and its reference end with the same four arrays.
-/
module

public import proofs.«01_k».proof.Defs
public import proofs.«01_k».proof.Proof.Gen.AdamQ0Ideal.Frame
public import proofs.«01_k».proof.Proof.Gen.AdamQ0.Frame
public import proofs.«01_k».proof.Proof.Gen.AdamQ0RefIdeal.Run
public import proofs.«01_k».proof.Proof.Opt.Adam
public import Idealize.ShloMosaic.Lib.Pipeline.ValueKit

@[expose] public section

set_option maxRecDepth 16384

noncomputable section

open Idealize.ShloMosaic Idealize.ShloMosaic.TcCoe Idealize.SL.Sem

namespace Cert.AdamQ0V

theorem ok_bits {F : FTy → Type} [FloatOps F] (m : (ℓ : Loc Cert.AdamQ0.nD Cert.AdamQ0.τ Cert.AdamQ0.sig) → Buf (Elt F) ℓ) : Cert.AdamQ0.Gen.Ok m := trivial

open Cert.AdamQ0Ideal Cert.AdamQ0Ideal.Gen Cert.Opt

theorem ok {F : FTy → Type} [FloatOps F] (m : (ℓ : Loc nD τ sig) → Buf (Elt F) ℓ) : Cert.AdamQ0Ideal.Gen.Ok m := trivial

variable (m : (ℓ : Loc nD τ sig) → Buf (Elt Ideal) ℓ)

/-- Any contents of the table: no window's place depends on them. -/
def a0 : (pcfg0 (F := Ideal)).Adm := ⟨fun | ⟨0, _⟩ => fun _ => (0#32 : BitVec 32), trivial⟩

theorem idx_nat : ∀ t : Fin grid0.N, ((cfg0 a0).win 0).index t = ![t.val % 2, 0] ∧ ((cfg0 a0).win 1).index t = ![t.val % 2, 0]
    ∧ ((cfg0 a0).win 5).index t = ![0, t.val / 2, t.val % 2, 0] ∧ (grid0.coords t 0).val = t.val / 2 := by decide +kernel

/-- The blocks of part 0. -/
def Part (β : Fin 4 → ℕ) : Prop := β 0 = 0

instance : DecidablePred Part := fun β => inferInstanceAs (Decidable (β 0 = 0))

theorem covers5 (a : (pcfg0 (F := Ideal)).Adm) : ((cfg0 a).win 5).CoversWhere Part :=
  (by decide +kernel : ((cfg0 a0).win 5).CoversWhere Part)

/-- A part's number as a word. -/
theorem part_word : ∀ j : Fin 2, ¬ j.val = 0 → ¬ BitVec.ofNat 32 j.val = 0#32 := by decide

/-- The array with part 0 new and the rest as it was. -/
def put (old new : S2x2x512x768.Idx → EReal) (j : S2x2x512x768.Idx) : EReal := if BitVec.ofNat 32 (j 0).val = 0#32 then new j else old j

/-- The gradient out of its two halves: the half whose number the word gives is the core's own. -/
def grad (own other : S512x768.Idx → EReal) (half : S1.Idx → BitVec 32) (i : S2x2x512x768.Idx) : EReal :=
  if BitVec.ofNat 32 (i 1).val = half (ix1 0) then own (ix2 (i 2) (i 3)) else other (ix2 (i 2) (i 3))

/-- Where an entry of point `t`'s block lies in the weight. -/
def E (t : Fin grid0.N) (y : S1x1x256x768.Idx) : S2x2x512x768.Idx :=
  ix4 0 ⟨t.val / 2, by have h : t.val < 4 := t.isLt; omega⟩ ⟨t.val % 2 * 256 + (y 2).val, by have h := (y 2).isLt; dsimp at h; omega⟩ (y 3)

theorem emb5 (a : (pcfg0 (F := Ideal)).Adm) (t : Fin grid0.N) (y : S1x1x256x768.Idx) : (((cfg0 a).win 5).blk t).view.emb y = E t y := by
  obtain ⟨e0, e1, e5, ec⟩ := idx_nat t
  refine funext fun ax => Fin.ext ?_
  have h : (((((cfg0 a).win 5).blk t).view.emb y ax : Fin _) : ℕ) = ((cfg0 a0).win 5).index t ax * S1x1x256x768.size ax + 1 * (y ax).val := rfl
  rw [e5] at h
  refine h.trans ?_
  have h0 := (y 0).isLt; have h1 := (y 1).isLt
  dsimp at h0 h1
  fin_cases ax <;> (simp [E, ix4] <;> omega)

theorem rd0 (c : Dev nD) (t : Fin grid0.N) (a : Fin 256) (b : Fin 768) : iblk m (ok m) c 0 t (ix2 a b) =
    m ((c.tc : Thread nD τ).loc main_arg0) (ix2 ⟨t.val % 2 * 256 + a.val, by omega⟩ b) := by
  obtain ⟨e0, e1, e5, ec⟩ := idx_nat t
  refine (congrArg (V m c main_arg0) (funext fun ax => Fin.ext ?_)).trans (congrFun (V_main_arg0 m c) _)
  have h : (((((cfg0 a0).win 0).blk t).view.emb (ix2 a b) ax : Fin _) : ℕ) = ((cfg0 a0).win 0).index t ax * S256x768.size ax + 1 * (ix2 a b ax).val := rfl
  rw [e0] at h
  refine h.trans ?_
  fin_cases ax <;> simp [ix2]

theorem rd1 (c : Dev nD) (t : Fin grid0.N) (a : Fin 256) (b : Fin 768) : iblk m (ok m) c 1 t (ix2 a b) =
    m ((c.tc : Thread nD τ).loc main_arg1) (ix2 ⟨t.val % 2 * 256 + a.val, by omega⟩ b) := by
  obtain ⟨e0, e1, e5, ec⟩ := idx_nat t
  refine (congrArg (V m c main_arg1) (funext fun ax => Fin.ext ?_)).trans (congrFun (V_main_arg1 m c) _)
  have h : (((((cfg0 a0).win 1).blk t).view.emb (ix2 a b) ax : Fin _) : ℕ) = ((cfg0 a0).win 1).index t ax * S256x768.size ax + 1 * (ix2 a b ax).val := rfl
  rw [e1] at h
  refine h.trans ?_
  fin_cases ax <;> simp [ix2]

theorem rd2 (c : Dev nD) (t : Fin grid0.N) (y : S1x1x256x768.Idx) : iblk m (ok m) c 2 t y = m ((c.tc : Thread nD τ).loc main_arg3) (E t y) :=
  (congrArg (V m c main_arg3) (emb5 a0 t y)).trans (congrFun (V_main_arg3 m c) _)

theorem rd3 (c : Dev nD) (t : Fin grid0.N) (y : S1x1x256x768.Idx) : iblk m (ok m) c 3 t y = m ((c.tc : Thread nD τ).loc main_arg4) (E t y) :=
  (congrArg (V m c main_arg4) (emb5 a0 t y)).trans (congrFun (V_main_arg4 m c) _)

theorem rd4 (c : Dev nD) (t : Fin grid0.N) (y : S1x1x256x768.Idx) : iblk m (ok m) c 4 t y = m ((c.tc : Thread nD τ).loc main_arg5) (E t y) :=
  (congrArg (V m c main_arg5) (emb5 a0 t y)).trans (congrFun (V_main_arg5 m c) _)

/-- The gradient at an entry, and what the update makes of it. -/
def gr (c : Dev nD) := grad (m ((c.tc : Thread nD τ).loc main_arg0)) (m ((c.tc : Thread nD τ).loc main_arg1)) (m ((c.tc : Thread nD τ).loc main_arg2))
def de (c : Dev nD) (i : S2x2x512x768.Idx) : EReal := step (m ((c.tc : Thread nD τ).loc main_arg3) i) (gr m c i) (m ((c.tc : Thread nD τ).loc main_arg4) i) (m ((c.tc : Thread nD τ).loc main_arg5) i)
def mo (c : Dev nD) (i : S2x2x512x768.Idx) : EReal := mom1 (gr m c i) (m ((c.tc : Thread nD τ).loc main_arg4) i)
def ve (c : Dev nD) (i : S2x2x512x768.Idx) : EReal := mom2 (gr m c i) (m ((c.tc : Thread nD τ).loc main_arg5) i)

theorem pick (c : Dev nD) (t : Fin grid0.N) (y : S1x1x256x768.Idx) {h : BitVec 32} (eh : h = m ((c.tc : Thread nD τ).loc main_arg2) (ix1 0)) :
    (if BitVec.ofNat 32 (grid0.coords t 0).val = h then iblk m (ok m) c 0 t (ix2 (y 2) (y 3)) else iblk m (ok m) c 1 t (ix2 (y 2) (y 3))) = gr m c (E t y) := by
  obtain ⟨e0, e1, e5, ec⟩ := idx_nat t
  refine (ite_congr rfl (fun _ => rd0 m c t (y 2) (y 3)) (fun _ => rd1 m c t (y 2) (y 3))).trans ?_
  rw [eh, ec]
  rfl

variable {m} in
theorem at5 {c : Dev nD} {t : Fin grid0.N} {y : S1x1x256x768.Idx} {h : BitVec 32} {v2 v3 : Vec Ideal S256x768 .f32}
    (eh : h = m ((c.tc : Thread nD τ).loc main_arg2) (ix1 0)) (e2 : v2 = iblk m (ok m) c 0 t) (e3 : v3 = iblk m (ok m) c 1 t) :
    k0_pay1 (F := Ideal) (k0_pay5 (grid0.coords t) h v2 v3) y = gr m c (E t y) := by
  refine Eq.trans ?_ (pick m c t y eh)
  subst e2 e3
  unfold k0_pay1  k0_pay5
  pointwise
  exact sel_eq _ _ _ _

variable {m} in
theorem at6 {c : Dev nD} {t : Fin grid0.N} {y : S1x1x256x768.Idx} {h : BitVec 32} {v2 v3 : Vec Ideal S256x768 .f32} {v5 v7 v9 : Vec Ideal S1x1x256x768 .f32}
    (eh : h = m ((c.tc : Thread nD τ).loc main_arg2) (ix1 0)) (e2 : v2 = iblk m (ok m) c 0 t) (e3 : v3 = iblk m (ok m) c 1 t) (e5 : v5 = iblk m (ok m) c 2 t) (e7 : v7 = iblk m (ok m) c 3 t) (e9 : v9 = iblk m (ok m) c 4 t) :
    k0_pay2 (F := Ideal) (k0_pay8 (grid0.coords t) h v2 v3 v5 v7 v9) y = de m c (E t y) := by
  unfold de
  rw [← rd2 m, ← rd3 m, ← rd4 m, ← pick m c t y eh]
  subst e2 e3 e5 e7 e9
  unfold k0_pay2 k0_pay8 k0_pay6 k0_pay7 k0_pay5
  pointwise
  exact congrArg (fun g : EReal => step (iblk m (ok m) c 2 t y) g (iblk m (ok m) c 3 t y) (iblk m (ok m) c 4 t y)) (sel_eq _ _ _ _)

variable {m} in
theorem at7 {c : Dev nD} {t : Fin grid0.N} {y : S1x1x256x768.Idx} {h : BitVec 32} {v2 v3 : Vec Ideal S256x768 .f32} {v7 : Vec Ideal S1x1x256x768 .f32}
    (eh : h = m ((c.tc : Thread nD τ).loc main_arg2) (ix1 0)) (e2 : v2 = iblk m (ok m) c 0 t) (e3 : v3 = iblk m (ok m) c 1 t) (e7 : v7 = iblk m (ok m) c 3 t) :
    k0_pay3 (F := Ideal) (k0_pay6 (grid0.coords t) h v2 v3 v7) y = mo m c (E t y) := by
  unfold mo
  rw [← rd3 m, ← pick m c t y eh]
  subst e2 e3 e7
  unfold k0_pay3 k0_pay6 k0_pay5
  pointwise
  exact congrArg (fun g : EReal => mom1 g (iblk m (ok m) c 3 t y)) (sel_eq _ _ _ _)

variable {m} in
theorem at8 {c : Dev nD} {t : Fin grid0.N} {y : S1x1x256x768.Idx} {h : BitVec 32} {v2 v3 : Vec Ideal S256x768 .f32} {v9 : Vec Ideal S1x1x256x768 .f32}
    (eh : h = m ((c.tc : Thread nD τ).loc main_arg2) (ix1 0)) (e2 : v2 = iblk m (ok m) c 0 t) (e3 : v3 = iblk m (ok m) c 1 t) (e9 : v9 = iblk m (ok m) c 4 t) :
    k0_pay4 (F := Ideal) (k0_pay7 (grid0.coords t) h v2 v3 v9) y = ve m c (E t y) := by
  unfold ve
  rw [← rd4 m, ← pick m c t y eh]
  subst e2 e3 e9
  unfold k0_pay4 k0_pay7 k0_pay5
  pointwise
  exact congrArg (fun g : EReal => mom2 g (iblk m (ok m) c 4 t y)) (sel_eq _ _ _ _)

theorem word (c : Dev nD) : View.readAt (Elt Ideal) (View.whole main_arg2) (Rect.unit ![0] ![1] inb_S1_S1_0).toLoadRect (tbl m 0) (Shape.Idx.first (by decide)) = m ((c.tc : Thread nD τ).loc main_arg2) (ix1 0) := by
  obtain rfl : c = 0 := Subsingleton.elim _ _
  refine (congrArg (V m (0 : Dev nD) main_arg2) (funext fun ax => Fin.ext ?_)).trans (congrFun (V_main_arg2 m 0) _)
  fin_cases ax
  rfl

theorem V_old5 (c : Dev nD) : V m c main_v0_0 = m ((c.tc : Thread nD τ).loc main_arg6) := by
  unfold V hostOps0
  after_results_simp
  rfl

theorem final5 (c : Dev nD) : (dats m (ok m) 0 c).arrAt 5 (cfgM m (ok m)).N = put (m ((c.tc : Thread nD τ).loc main_arg6)) (gr m c) := by
  refine (dats m (ok m) 0 c).arrAt_eq_of_coversWhere_of_agree 5 _ Part (covers5 _) (fun t hf y => ?_) (fun (j : S2x2x512x768.Idx) hj => ?_)
  · rw [after0_5]
    unfold outsAt0
    dsimp only
    frame_out
    refine Eq.trans ?_ (congrArg (put (m ((c.tc : Thread nD τ).loc main_arg6)) (gr m c)) (emb5 (adm m (ok m)) t y)).symm
    refine Eq.trans ?_ (if_pos rfl).symm
    exact (at5 (word m c) ((hs0_0 m (ok m) t).read_unread _) ((hs0_1 m (ok m) t).read_unread _))
  · refine (congrFun ((A_eq m (ok m) c 5).trans (V_old5 m c)) _).trans ?_
    exact (if_neg (part_word (j 0) fun hh => hj ((Nat.div_one _).trans hh))).symm

theorem V_old6 (c : Dev nD) : V m c main_v0_1 = m ((c.tc : Thread nD τ).loc main_arg7) := by
  unfold V hostOps0
  after_results_simp
  rfl

theorem final6 (c : Dev nD) : (dats m (ok m) 0 c).arrAt 6 (cfgM m (ok m)).N = put (m ((c.tc : Thread nD τ).loc main_arg7)) (de m c) := by
  refine (dats m (ok m) 0 c).arrAt_eq_of_coversWhere_of_agree 6 _ Part (covers5 _) (fun t hf y => ?_) (fun (j : S2x2x512x768.Idx) hj => ?_)
  · rw [after0_6]
    unfold outsAt0
    dsimp only
    frame_out
    refine Eq.trans ?_ (congrArg (put (m ((c.tc : Thread nD τ).loc main_arg7)) (de m c)) (emb5 (adm m (ok m)) t y)).symm
    refine Eq.trans ?_ (if_pos rfl).symm
    exact (at6 (word m c) ((hs0_0 m (ok m) t).read_unread _) ((hs0_1 m (ok m) t).read_unread _) ((hs0_2 m (ok m) t).read_unread _) ((hs0_3 m (ok m) t).read_unread _) ((hs0_4 m (ok m) t).read_unread _))
  · refine (congrFun ((A_eq m (ok m) c 6).trans (V_old6 m c)) _).trans ?_
    exact (if_neg (part_word (j 0) fun hh => hj ((Nat.div_one _).trans hh))).symm

theorem V_old7 (c : Dev nD) : V m c main_v0_2 = m ((c.tc : Thread nD τ).loc main_arg8) := by
  unfold V hostOps0
  after_results_simp
  rfl

theorem final7 (c : Dev nD) : (dats m (ok m) 0 c).arrAt 7 (cfgM m (ok m)).N = put (m ((c.tc : Thread nD τ).loc main_arg8)) (mo m c) := by
  refine (dats m (ok m) 0 c).arrAt_eq_of_coversWhere_of_agree 7 _ Part (covers5 _) (fun t hf y => ?_) (fun (j : S2x2x512x768.Idx) hj => ?_)
  · rw [after0_7]
    unfold outsAt0
    dsimp only
    frame_out
    refine Eq.trans ?_ (congrArg (put (m ((c.tc : Thread nD τ).loc main_arg8)) (mo m c)) (emb5 (adm m (ok m)) t y)).symm
    refine Eq.trans ?_ (if_pos rfl).symm
    exact (at7 (word m c) ((hs0_0 m (ok m) t).read_unread _) ((hs0_1 m (ok m) t).read_unread _) ((hs0_3 m (ok m) t).read_unread _))
  · refine (congrFun ((A_eq m (ok m) c 7).trans (V_old7 m c)) _).trans ?_
    exact (if_neg (part_word (j 0) fun hh => hj ((Nat.div_one _).trans hh))).symm

theorem V_old8 (c : Dev nD) : V m c main_v0_3 = m ((c.tc : Thread nD τ).loc main_arg9) := by
  unfold V hostOps0
  after_results_simp
  rfl

theorem final8 (c : Dev nD) : (dats m (ok m) 0 c).arrAt 8 (cfgM m (ok m)).N = put (m ((c.tc : Thread nD τ).loc main_arg9)) (ve m c) := by
  refine (dats m (ok m) 0 c).arrAt_eq_of_coversWhere_of_agree 8 _ Part (covers5 _) (fun t hf y => ?_) (fun (j : S2x2x512x768.Idx) hj => ?_)
  · rw [after0_8]
    unfold outsAt0
    dsimp only
    frame_out
    refine Eq.trans ?_ (congrArg (put (m ((c.tc : Thread nD τ).loc main_arg9)) (ve m c)) (emb5 (adm m (ok m)) t y)).symm
    refine Eq.trans ?_ (if_pos rfl).symm
    exact (at8 (word m c) ((hs0_0 m (ok m) t).read_unread _) ((hs0_1 m (ok m) t).read_unread _) ((hs0_4 m (ok m) t).read_unread _))
  · refine (congrFun ((A_eq m (ok m) c 8).trans (V_old8 m c)) _).trans ?_
    exact (if_neg (part_word (j 0) fun hh => hj ((Nat.div_one _).trans hh))).symm

/-- The region's run: the four arrays, and the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v0_0) = put (m ((c.tc : Thread nD τ).loc main_arg6)) (gr m c)
      ∧ r.2.mem ((c.tc : Thread nD τ).loc main_v0_1) = put (m ((c.tc : Thread nD τ).loc main_arg7)) (de m c)
      ∧ r.2.mem ((c.tc : Thread nD τ).loc main_v0_2) = put (m ((c.tc : Thread nD τ).loc main_arg8)) (mo m c)
      ∧ r.2.mem ((c.tc : Thread nD τ).loc main_v0_3) = put (m ((c.tc : Thread nD τ).loc main_arg9)) (ve m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run _ _ _).mono (fun r h c => ⟨((h.1 c).1 5).trans (final5 m c), ((h.1 c).1 6).trans (final6 m c), ((h.1 c).1 7).trans (final7 m c), ((h.1 c).1 8).trans (final8 m c), h.2 c⟩)
    (θ_run_and (run_main m ρ (ok m)) (unchanged m ρ (ok m)))

end Cert.AdamQ0V

namespace Cert.AdamQ0V

open Cert.AdamQ0RefIdeal Cert.Opt

variable (m : (ℓ : Loc nD τ sig) → Buf (Elt Ideal) ℓ)

/-- The reference's run: the same four arrays. -/
theorem ref_run (ρ : Dev nD → PrngReg) :
    θ_run defs (onTc (τ := τ) (main (F := Ideal))) ⟨m, fun _ => 0, ρ⟩ fun r => ∀ c : Dev nD,
      r.2.mem ((c.tc : Thread nD τ).loc main_v37) = put (m ((c.tc : Thread nD τ).loc main_arg6)) (grad (m ((c.tc : Thread nD τ).loc main_arg0)) (m ((c.tc : Thread nD τ).loc main_arg1)) (m ((c.tc : Thread nD τ).loc main_arg2)))
      ∧ r.2.mem ((c.tc : Thread nD τ).loc main_v42) = put (m ((c.tc : Thread nD τ).loc main_arg7)) (fun i => step (m ((c.tc : Thread nD τ).loc main_arg3) i) (grad (m ((c.tc : Thread nD τ).loc main_arg0)) (m ((c.tc : Thread nD τ).loc main_arg1)) (m ((c.tc : Thread nD τ).loc main_arg2)) i) (m ((c.tc : Thread nD τ).loc main_arg4) i) (m ((c.tc : Thread nD τ).loc main_arg5) i))
      ∧ r.2.mem ((c.tc : Thread nD τ).loc main_v47) = put (m ((c.tc : Thread nD τ).loc main_arg8)) (fun i => mom1 (grad (m ((c.tc : Thread nD τ).loc main_arg0)) (m ((c.tc : Thread nD τ).loc main_arg1)) (m ((c.tc : Thread nD τ).loc main_arg2)) i) (m ((c.tc : Thread nD τ).loc main_arg4) i))
      ∧ r.2.mem ((c.tc : Thread nD τ).loc main_v52) = put (m ((c.tc : Thread nD τ).loc main_arg9)) (fun i => mom2 (grad (m ((c.tc : Thread nD τ).loc main_arg0)) (m ((c.tc : Thread nD τ).loc main_arg1)) (m ((c.tc : Thread nD τ).loc main_arg2)) i) (m ((c.tc : Thread nD τ).loc main_arg5) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ?_) (Value.run m ρ)
  obtain ⟨h1, h2, h3, h4, hr⟩ := h c
  have e := fun i : S2x2x512x768.Idx => sel_eq (BitVec.ofNat 32 (i 1).val) (m ((c.tc : Thread nD τ).loc main_arg2) (ix1 0)) (m ((c.tc : Thread nD τ).loc main_arg0) (ix2 (i 2) (i 3))) (m ((c.tc : Thread nD τ).loc main_arg1) (ix2 (i 2) (i 3)))
  refine ⟨h1.trans (funext fun i => ?_), h2.trans (funext fun i => ?_), h3.trans (funext fun i => ?_), h4.trans (funext fun i => ?_), hr⟩
  · pointwise
    refine (sel_eq _ _ _ _).trans ?_
    exact congrArg (fun g : EReal => if BitVec.ofNat 32 (i 0).val = 0#32 then g else m ((c.tc : Thread nD τ).loc main_arg6) i) (e i)
  · pointwise
    refine (sel_eq _ _ _ _).trans ?_
    exact congrArg (fun g : EReal => if BitVec.ofNat 32 (i 0).val = 0#32 then step (m ((c.tc : Thread nD τ).loc main_arg3) i) g (m ((c.tc : Thread nD τ).loc main_arg4) i) (m ((c.tc : Thread nD τ).loc main_arg5) i) else m ((c.tc : Thread nD τ).loc main_arg7) i) (e i)
  · pointwise
    refine (sel_eq _ _ _ _).trans ?_
    exact congrArg (fun g : EReal => if BitVec.ofNat 32 (i 0).val = 0#32 then mom1 g (m ((c.tc : Thread nD τ).loc main_arg4) i) else m ((c.tc : Thread nD τ).loc main_arg8) i) (e i)
  · pointwise
    refine (sel_eq _ _ _ _).trans ?_
    exact congrArg (fun g : EReal => if BitVec.ofNat 32 (i 0).val = 0#32 then mom2 g (m ((c.tc : Thread nD τ).loc main_arg5) i) else m ((c.tc : Thread nD τ).loc main_arg9) i) (e i)

theorem algebraic : Cert.algebraic_AdamQ0Ideal_AdamQ0RefIdeal := fun m g m' g' _ hag =>
  ⟨fun c => Cert.AdamQ0V.put (m ((c.tc : Thread Cert.AdamQ0Ideal.nD Cert.AdamQ0Ideal.τ).loc Cert.AdamQ0Ideal.main_arg6)) (gr m c), fun c => Cert.AdamQ0V.put (m ((c.tc : Thread Cert.AdamQ0Ideal.nD Cert.AdamQ0Ideal.τ).loc Cert.AdamQ0Ideal.main_arg7)) (de m c), fun c => Cert.AdamQ0V.put (m ((c.tc : Thread Cert.AdamQ0Ideal.nD Cert.AdamQ0Ideal.τ).loc Cert.AdamQ0Ideal.main_arg8)) (mo m c), fun c => Cert.AdamQ0V.put (m ((c.tc : Thread Cert.AdamQ0Ideal.nD Cert.AdamQ0Ideal.τ).loc Cert.AdamQ0Ideal.main_arg9)) (ve m c), run_blocks m g, (θ_run _ _ _).mono (fun r h c => by
      obtain ⟨h0, h1, h2, h3, h4, h5, h6, h7, h8, h9⟩ := hag c
      refine ⟨(h c).1.trans ?_, (h c).2.1.trans ?_, (h c).2.2.1.trans ?_, (h c).2.2.2.1.trans ?_, (h c).2.2.2.2⟩
      · rw [h0, h1, h2, h6]; rfl
      · rw [h0, h1, h2, h3, h4, h5, h7]; rfl
      · rw [h0, h1, h2, h4, h8]; rfl
      · rw [h0, h1, h2, h5, h9]; rfl) (ref_run m' g')⟩

end Cert.AdamQ0V

end
-- ==== Proof.Opt.AdamQ1.lean ====
/-
  One weight's update out of its two halves, part 1 of 2: the call and its reference end with the same four arrays.
-/
module

public import proofs.«01_k».proof.Defs
public import proofs.«01_k».proof.Proof.Gen.AdamQ1Ideal.Frame
public import proofs.«01_k».proof.Proof.Gen.AdamQ1.Frame
public import proofs.«01_k».proof.Proof.Gen.AdamQ1RefIdeal.Run
public import proofs.«01_k».proof.Proof.Opt.Adam
public import Idealize.ShloMosaic.Lib.Pipeline.ValueKit

@[expose] public section

set_option maxRecDepth 16384

noncomputable section

open Idealize.ShloMosaic Idealize.ShloMosaic.TcCoe Idealize.SL.Sem

namespace Cert.AdamQ1V

theorem ok_bits {F : FTy → Type} [FloatOps F] (m : (ℓ : Loc Cert.AdamQ1.nD Cert.AdamQ1.τ Cert.AdamQ1.sig) → Buf (Elt F) ℓ) : Cert.AdamQ1.Gen.Ok m := trivial

open Cert.AdamQ1Ideal Cert.AdamQ1Ideal.Gen Cert.Opt

theorem ok {F : FTy → Type} [FloatOps F] (m : (ℓ : Loc nD τ sig) → Buf (Elt F) ℓ) : Cert.AdamQ1Ideal.Gen.Ok m := trivial

variable (m : (ℓ : Loc nD τ sig) → Buf (Elt Ideal) ℓ)

/-- Any contents of the table: no window's place depends on them. -/
def a0 : (pcfg0 (F := Ideal)).Adm := ⟨fun | ⟨0, _⟩ => fun _ => (0#32 : BitVec 32), trivial⟩

theorem idx_nat : ∀ t : Fin grid0.N, ((cfg0 a0).win 0).index t = ![t.val % 2, 0] ∧ ((cfg0 a0).win 1).index t = ![t.val % 2, 0]
    ∧ ((cfg0 a0).win 5).index t = ![1, t.val / 2, t.val % 2, 0] ∧ (grid0.coords t 0).val = t.val / 2 := by decide +kernel

/-- The blocks of part 1. -/
def Part (β : Fin 4 → ℕ) : Prop := β 0 = 1

instance : DecidablePred Part := fun β => inferInstanceAs (Decidable (β 0 = 1))

theorem covers5 (a : (pcfg0 (F := Ideal)).Adm) : ((cfg0 a).win 5).CoversWhere Part :=
  (by decide +kernel : ((cfg0 a0).win 5).CoversWhere Part)

/-- A part's number as a word. -/
theorem part_word : ∀ j : Fin 2, ¬ j.val = 1 → ¬ BitVec.ofNat 32 j.val = 1#32 := by decide

/-- The array with part 1 new and the rest as it was. -/
def put (old new : S2x2x512x768.Idx → EReal) (j : S2x2x512x768.Idx) : EReal := if BitVec.ofNat 32 (j 0).val = 1#32 then new j else old j

/-- The gradient out of its two halves: the half whose number the word gives is the core's own. -/
def grad (own other : S512x768.Idx → EReal) (half : S1.Idx → BitVec 32) (i : S2x2x512x768.Idx) : EReal :=
  if BitVec.ofNat 32 (i 1).val = half (ix1 0) then own (ix2 (i 2) (i 3)) else other (ix2 (i 2) (i 3))

/-- Where an entry of point `t`'s block lies in the weight. -/
def E (t : Fin grid0.N) (y : S1x1x256x768.Idx) : S2x2x512x768.Idx :=
  ix4 1 ⟨t.val / 2, by have h : t.val < 4 := t.isLt; omega⟩ ⟨t.val % 2 * 256 + (y 2).val, by have h := (y 2).isLt; dsimp at h; omega⟩ (y 3)

theorem emb5 (a : (pcfg0 (F := Ideal)).Adm) (t : Fin grid0.N) (y : S1x1x256x768.Idx) : (((cfg0 a).win 5).blk t).view.emb y = E t y := by
  obtain ⟨e0, e1, e5, ec⟩ := idx_nat t
  refine funext fun ax => Fin.ext ?_
  have h : (((((cfg0 a).win 5).blk t).view.emb y ax : Fin _) : ℕ) = ((cfg0 a0).win 5).index t ax * S1x1x256x768.size ax + 1 * (y ax).val := rfl
  rw [e5] at h
  refine h.trans ?_
  have h0 := (y 0).isLt; have h1 := (y 1).isLt
  dsimp at h0 h1
  fin_cases ax <;> (simp [E, ix4] <;> omega)

theorem rd0 (c : Dev nD) (t : Fin grid0.N) (a : Fin 256) (b : Fin 768) : iblk m (ok m) c 0 t (ix2 a b) =
    m ((c.tc : Thread nD τ).loc main_arg0) (ix2 ⟨t.val % 2 * 256 + a.val, by omega⟩ b) := by
  obtain ⟨e0, e1, e5, ec⟩ := idx_nat t
  refine (congrArg (V m c main_arg0) (funext fun ax => Fin.ext ?_)).trans (congrFun (V_main_arg0 m c) _)
  have h : (((((cfg0 a0).win 0).blk t).view.emb (ix2 a b) ax : Fin _) : ℕ) = ((cfg0 a0).win 0).index t ax * S256x768.size ax + 1 * (ix2 a b ax).val := rfl
  rw [e0] at h
  refine h.trans ?_
  fin_cases ax <;> simp [ix2]

theorem rd1 (c : Dev nD) (t : Fin grid0.N) (a : Fin 256) (b : Fin 768) : iblk m (ok m) c 1 t (ix2 a b) =
    m ((c.tc : Thread nD τ).loc main_arg1) (ix2 ⟨t.val % 2 * 256 + a.val, by omega⟩ b) := by
  obtain ⟨e0, e1, e5, ec⟩ := idx_nat t
  refine (congrArg (V m c main_arg1) (funext fun ax => Fin.ext ?_)).trans (congrFun (V_main_arg1 m c) _)
  have h : (((((cfg0 a0).win 1).blk t).view.emb (ix2 a b) ax : Fin _) : ℕ) = ((cfg0 a0).win 1).index t ax * S256x768.size ax + 1 * (ix2 a b ax).val := rfl
  rw [e1] at h
  refine h.trans ?_
  fin_cases ax <;> simp [ix2]

theorem rd2 (c : Dev nD) (t : Fin grid0.N) (y : S1x1x256x768.Idx) : iblk m (ok m) c 2 t y = m ((c.tc : Thread nD τ).loc main_arg3) (E t y) :=
  (congrArg (V m c main_arg3) (emb5 a0 t y)).trans (congrFun (V_main_arg3 m c) _)

theorem rd3 (c : Dev nD) (t : Fin grid0.N) (y : S1x1x256x768.Idx) : iblk m (ok m) c 3 t y = m ((c.tc : Thread nD τ).loc main_arg4) (E t y) :=
  (congrArg (V m c main_arg4) (emb5 a0 t y)).trans (congrFun (V_main_arg4 m c) _)

theorem rd4 (c : Dev nD) (t : Fin grid0.N) (y : S1x1x256x768.Idx) : iblk m (ok m) c 4 t y = m ((c.tc : Thread nD τ).loc main_arg5) (E t y) :=
  (congrArg (V m c main_arg5) (emb5 a0 t y)).trans (congrFun (V_main_arg5 m c) _)

/-- The gradient at an entry, and what the update makes of it. -/
def gr (c : Dev nD) := grad (m ((c.tc : Thread nD τ).loc main_arg0)) (m ((c.tc : Thread nD τ).loc main_arg1)) (m ((c.tc : Thread nD τ).loc main_arg2))
def de (c : Dev nD) (i : S2x2x512x768.Idx) : EReal := step (m ((c.tc : Thread nD τ).loc main_arg3) i) (gr m c i) (m ((c.tc : Thread nD τ).loc main_arg4) i) (m ((c.tc : Thread nD τ).loc main_arg5) i)
def mo (c : Dev nD) (i : S2x2x512x768.Idx) : EReal := mom1 (gr m c i) (m ((c.tc : Thread nD τ).loc main_arg4) i)
def ve (c : Dev nD) (i : S2x2x512x768.Idx) : EReal := mom2 (gr m c i) (m ((c.tc : Thread nD τ).loc main_arg5) i)

theorem pick (c : Dev nD) (t : Fin grid0.N) (y : S1x1x256x768.Idx) {h : BitVec 32} (eh : h = m ((c.tc : Thread nD τ).loc main_arg2) (ix1 0)) :
    (if BitVec.ofNat 32 (grid0.coords t 0).val = h then iblk m (ok m) c 0 t (ix2 (y 2) (y 3)) else iblk m (ok m) c 1 t (ix2 (y 2) (y 3))) = gr m c (E t y) := by
  obtain ⟨e0, e1, e5, ec⟩ := idx_nat t
  refine (ite_congr rfl (fun _ => rd0 m c t (y 2) (y 3)) (fun _ => rd1 m c t (y 2) (y 3))).trans ?_
  rw [eh, ec]
  rfl

variable {m} in
theorem at5 {c : Dev nD} {t : Fin grid0.N} {y : S1x1x256x768.Idx} {h : BitVec 32} {v2 v3 : Vec Ideal S256x768 .f32}
    (eh : h = m ((c.tc : Thread nD τ).loc main_arg2) (ix1 0)) (e2 : v2 = iblk m (ok m) c 0 t) (e3 : v3 = iblk m (ok m) c 1 t) :
    k0_pay1 (F := Ideal) (k0_pay5 (grid0.coords t) h v2 v3) y = gr m c (E t y) := by
  refine Eq.trans ?_ (pick m c t y eh)
  subst e2 e3
  unfold k0_pay1  k0_pay5
  pointwise
  exact sel_eq _ _ _ _

variable {m} in
theorem at6 {c : Dev nD} {t : Fin grid0.N} {y : S1x1x256x768.Idx} {h : BitVec 32} {v2 v3 : Vec Ideal S256x768 .f32} {v5 v7 v9 : Vec Ideal S1x1x256x768 .f32}
    (eh : h = m ((c.tc : Thread nD τ).loc main_arg2) (ix1 0)) (e2 : v2 = iblk m (ok m) c 0 t) (e3 : v3 = iblk m (ok m) c 1 t) (e5 : v5 = iblk m (ok m) c 2 t) (e7 : v7 = iblk m (ok m) c 3 t) (e9 : v9 = iblk m (ok m) c 4 t) :
    k0_pay2 (F := Ideal) (k0_pay8 (grid0.coords t) h v2 v3 v5 v7 v9) y = de m c (E t y) := by
  unfold de
  rw [← rd2 m, ← rd3 m, ← rd4 m, ← pick m c t y eh]
  subst e2 e3 e5 e7 e9
  unfold k0_pay2 k0_pay8 k0_pay6 k0_pay7 k0_pay5
  pointwise
  exact congrArg (fun g : EReal => step (iblk m (ok m) c 2 t y) g (iblk m (ok m) c 3 t y) (iblk m (ok m) c 4 t y)) (sel_eq _ _ _ _)

variable {m} in
theorem at7 {c : Dev nD} {t : Fin grid0.N} {y : S1x1x256x768.Idx} {h : BitVec 32} {v2 v3 : Vec Ideal S256x768 .f32} {v7 : Vec Ideal S1x1x256x768 .f32}
    (eh : h = m ((c.tc : Thread nD τ).loc main_arg2) (ix1 0)) (e2 : v2 = iblk m (ok m) c 0 t) (e3 : v3 = iblk m (ok m) c 1 t) (e7 : v7 = iblk m (ok m) c 3 t) :
    k0_pay3 (F := Ideal) (k0_pay6 (grid0.coords t) h v2 v3 v7) y = mo m c (E t y) := by
  unfold mo
  rw [← rd3 m, ← pick m c t y eh]
  subst e2 e3 e7
  unfold k0_pay3 k0_pay6 k0_pay5
  pointwise
  exact congrArg (fun g : EReal => mom1 g (iblk m (ok m) c 3 t y)) (sel_eq _ _ _ _)

variable {m} in
theorem at8 {c : Dev nD} {t : Fin grid0.N} {y : S1x1x256x768.Idx} {h : BitVec 32} {v2 v3 : Vec Ideal S256x768 .f32} {v9 : Vec Ideal S1x1x256x768 .f32}
    (eh : h = m ((c.tc : Thread nD τ).loc main_arg2) (ix1 0)) (e2 : v2 = iblk m (ok m) c 0 t) (e3 : v3 = iblk m (ok m) c 1 t) (e9 : v9 = iblk m (ok m) c 4 t) :
    k0_pay4 (F := Ideal) (k0_pay7 (grid0.coords t) h v2 v3 v9) y = ve m c (E t y) := by
  unfold ve
  rw [← rd4 m, ← pick m c t y eh]
  subst e2 e3 e9
  unfold k0_pay4 k0_pay7 k0_pay5
  pointwise
  exact congrArg (fun g : EReal => mom2 g (iblk m (ok m) c 4 t y)) (sel_eq _ _ _ _)

theorem word (c : Dev nD) : View.readAt (Elt Ideal) (View.whole main_arg2) (Rect.unit ![0] ![1] inb_S1_S1_0).toLoadRect (tbl m 0) (Shape.Idx.first (by decide)) = m ((c.tc : Thread nD τ).loc main_arg2) (ix1 0) := by
  obtain rfl : c = 0 := Subsingleton.elim _ _
  refine (congrArg (V m (0 : Dev nD) main_arg2) (funext fun ax => Fin.ext ?_)).trans (congrFun (V_main_arg2 m 0) _)
  fin_cases ax
  rfl

theorem V_old5 (c : Dev nD) : V m c main_v0_0 = m ((c.tc : Thread nD τ).loc main_arg6) := by
  unfold V hostOps0
  after_results_simp
  rfl

theorem final5 (c : Dev nD) : (dats m (ok m) 0 c).arrAt 5 (cfgM m (ok m)).N = put (m ((c.tc : Thread nD τ).loc main_arg6)) (gr m c) := by
  refine (dats m (ok m) 0 c).arrAt_eq_of_coversWhere_of_agree 5 _ Part (covers5 _) (fun t hf y => ?_) (fun (j : S2x2x512x768.Idx) hj => ?_)
  · rw [after0_5]
    unfold outsAt0
    dsimp only
    frame_out
    refine Eq.trans ?_ (congrArg (put (m ((c.tc : Thread nD τ).loc main_arg6)) (gr m c)) (emb5 (adm m (ok m)) t y)).symm
    refine Eq.trans ?_ (if_pos rfl).symm
    exact (at5 (word m c) ((hs0_0 m (ok m) t).read_unread _) ((hs0_1 m (ok m) t).read_unread _))
  · refine (congrFun ((A_eq m (ok m) c 5).trans (V_old5 m c)) _).trans ?_
    exact (if_neg (part_word (j 0) fun hh => hj ((Nat.div_one _).trans hh))).symm

theorem V_old6 (c : Dev nD) : V m c main_v0_1 = m ((c.tc : Thread nD τ).loc main_arg7) := by
  unfold V hostOps0
  after_results_simp
  rfl

theorem final6 (c : Dev nD) : (dats m (ok m) 0 c).arrAt 6 (cfgM m (ok m)).N = put (m ((c.tc : Thread nD τ).loc main_arg7)) (de m c) := by
  refine (dats m (ok m) 0 c).arrAt_eq_of_coversWhere_of_agree 6 _ Part (covers5 _) (fun t hf y => ?_) (fun (j : S2x2x512x768.Idx) hj => ?_)
  · rw [after0_6]
    unfold outsAt0
    dsimp only
    frame_out
    refine Eq.trans ?_ (congrArg (put (m ((c.tc : Thread nD τ).loc main_arg7)) (de m c)) (emb5 (adm m (ok m)) t y)).symm
    refine Eq.trans ?_ (if_pos rfl).symm
    exact (at6 (word m c) ((hs0_0 m (ok m) t).read_unread _) ((hs0_1 m (ok m) t).read_unread _) ((hs0_2 m (ok m) t).read_unread _) ((hs0_3 m (ok m) t).read_unread _) ((hs0_4 m (ok m) t).read_unread _))
  · refine (congrFun ((A_eq m (ok m) c 6).trans (V_old6 m c)) _).trans ?_
    exact (if_neg (part_word (j 0) fun hh => hj ((Nat.div_one _).trans hh))).symm

theorem V_old7 (c : Dev nD) : V m c main_v0_2 = m ((c.tc : Thread nD τ).loc main_arg8) := by
  unfold V hostOps0
  after_results_simp
  rfl

theorem final7 (c : Dev nD) : (dats m (ok m) 0 c).arrAt 7 (cfgM m (ok m)).N = put (m ((c.tc : Thread nD τ).loc main_arg8)) (mo m c) := by
  refine (dats m (ok m) 0 c).arrAt_eq_of_coversWhere_of_agree 7 _ Part (covers5 _) (fun t hf y => ?_) (fun (j : S2x2x512x768.Idx) hj => ?_)
  · rw [after0_7]
    unfold outsAt0
    dsimp only
    frame_out
    refine Eq.trans ?_ (congrArg (put (m ((c.tc : Thread nD τ).loc main_arg8)) (mo m c)) (emb5 (adm m (ok m)) t y)).symm
    refine Eq.trans ?_ (if_pos rfl).symm
    exact (at7 (word m c) ((hs0_0 m (ok m) t).read_unread _) ((hs0_1 m (ok m) t).read_unread _) ((hs0_3 m (ok m) t).read_unread _))
  · refine (congrFun ((A_eq m (ok m) c 7).trans (V_old7 m c)) _).trans ?_
    exact (if_neg (part_word (j 0) fun hh => hj ((Nat.div_one _).trans hh))).symm

theorem V_old8 (c : Dev nD) : V m c main_v0_3 = m ((c.tc : Thread nD τ).loc main_arg9) := by
  unfold V hostOps0
  after_results_simp
  rfl

theorem final8 (c : Dev nD) : (dats m (ok m) 0 c).arrAt 8 (cfgM m (ok m)).N = put (m ((c.tc : Thread nD τ).loc main_arg9)) (ve m c) := by
  refine (dats m (ok m) 0 c).arrAt_eq_of_coversWhere_of_agree 8 _ Part (covers5 _) (fun t hf y => ?_) (fun (j : S2x2x512x768.Idx) hj => ?_)
  · rw [after0_8]
    unfold outsAt0
    dsimp only
    frame_out
    refine Eq.trans ?_ (congrArg (put (m ((c.tc : Thread nD τ).loc main_arg9)) (ve m c)) (emb5 (adm m (ok m)) t y)).symm
    refine Eq.trans ?_ (if_pos rfl).symm
    exact (at8 (word m c) ((hs0_0 m (ok m) t).read_unread _) ((hs0_1 m (ok m) t).read_unread _) ((hs0_4 m (ok m) t).read_unread _))
  · refine (congrFun ((A_eq m (ok m) c 8).trans (V_old8 m c)) _).trans ?_
    exact (if_neg (part_word (j 0) fun hh => hj ((Nat.div_one _).trans hh))).symm

/-- The region's run: the four arrays, and the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v0_0) = put (m ((c.tc : Thread nD τ).loc main_arg6)) (gr m c)
      ∧ r.2.mem ((c.tc : Thread nD τ).loc main_v0_1) = put (m ((c.tc : Thread nD τ).loc main_arg7)) (de m c)
      ∧ r.2.mem ((c.tc : Thread nD τ).loc main_v0_2) = put (m ((c.tc : Thread nD τ).loc main_arg8)) (mo m c)
      ∧ r.2.mem ((c.tc : Thread nD τ).loc main_v0_3) = put (m ((c.tc : Thread nD τ).loc main_arg9)) (ve m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run _ _ _).mono (fun r h c => ⟨((h.1 c).1 5).trans (final5 m c), ((h.1 c).1 6).trans (final6 m c), ((h.1 c).1 7).trans (final7 m c), ((h.1 c).1 8).trans (final8 m c), h.2 c⟩)
    (θ_run_and (run_main m ρ (ok m)) (unchanged m ρ (ok m)))

end Cert.AdamQ1V

namespace Cert.AdamQ1V

open Cert.AdamQ1RefIdeal Cert.Opt

variable (m : (ℓ : Loc nD τ sig) → Buf (Elt Ideal) ℓ)

/-- The reference's run: the same four arrays. -/
theorem ref_run (ρ : Dev nD → PrngReg) :
    θ_run defs (onTc (τ := τ) (main (F := Ideal))) ⟨m, fun _ => 0, ρ⟩ fun r => ∀ c : Dev nD,
      r.2.mem ((c.tc : Thread nD τ).loc main_v37) = put (m ((c.tc : Thread nD τ).loc main_arg6)) (grad (m ((c.tc : Thread nD τ).loc main_arg0)) (m ((c.tc : Thread nD τ).loc main_arg1)) (m ((c.tc : Thread nD τ).loc main_arg2)))
      ∧ r.2.mem ((c.tc : Thread nD τ).loc main_v42) = put (m ((c.tc : Thread nD τ).loc main_arg7)) (fun i => step (m ((c.tc : Thread nD τ).loc main_arg3) i) (grad (m ((c.tc : Thread nD τ).loc main_arg0)) (m ((c.tc : Thread nD τ).loc main_arg1)) (m ((c.tc : Thread nD τ).loc main_arg2)) i) (m ((c.tc : Thread nD τ).loc main_arg4) i) (m ((c.tc : Thread nD τ).loc main_arg5) i))
      ∧ r.2.mem ((c.tc : Thread nD τ).loc main_v47) = put (m ((c.tc : Thread nD τ).loc main_arg8)) (fun i => mom1 (grad (m ((c.tc : Thread nD τ).loc main_arg0)) (m ((c.tc : Thread nD τ).loc main_arg1)) (m ((c.tc : Thread nD τ).loc main_arg2)) i) (m ((c.tc : Thread nD τ).loc main_arg4) i))
      ∧ r.2.mem ((c.tc : Thread nD τ).loc main_v52) = put (m ((c.tc : Thread nD τ).loc main_arg9)) (fun i => mom2 (grad (m ((c.tc : Thread nD τ).loc main_arg0)) (m ((c.tc : Thread nD τ).loc main_arg1)) (m ((c.tc : Thread nD τ).loc main_arg2)) i) (m ((c.tc : Thread nD τ).loc main_arg5) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ?_) (Value.run m ρ)
  obtain ⟨h1, h2, h3, h4, hr⟩ := h c
  have e := fun i : S2x2x512x768.Idx => sel_eq (BitVec.ofNat 32 (i 1).val) (m ((c.tc : Thread nD τ).loc main_arg2) (ix1 0)) (m ((c.tc : Thread nD τ).loc main_arg0) (ix2 (i 2) (i 3))) (m ((c.tc : Thread nD τ).loc main_arg1) (ix2 (i 2) (i 3)))
  refine ⟨h1.trans (funext fun i => ?_), h2.trans (funext fun i => ?_), h3.trans (funext fun i => ?_), h4.trans (funext fun i => ?_), hr⟩
  · pointwise
    refine (sel_eq _ _ _ _).trans ?_
    exact congrArg (fun g : EReal => if BitVec.ofNat 32 (i 0).val = 1#32 then g else m ((c.tc : Thread nD τ).loc main_arg6) i) (e i)
  · pointwise
    refine (sel_eq _ _ _ _).trans ?_
    exact congrArg (fun g : EReal => if BitVec.ofNat 32 (i 0).val = 1#32 then step (m ((c.tc : Thread nD τ).loc main_arg3) i) g (m ((c.tc : Thread nD τ).loc main_arg4) i) (m ((c.tc : Thread nD τ).loc main_arg5) i) else m ((c.tc : Thread nD τ).loc main_arg7) i) (e i)
  · pointwise
    refine (sel_eq _ _ _ _).trans ?_
    exact congrArg (fun g : EReal => if BitVec.ofNat 32 (i 0).val = 1#32 then mom1 g (m ((c.tc : Thread nD τ).loc main_arg4) i) else m ((c.tc : Thread nD τ).loc main_arg8) i) (e i)
  · pointwise
    refine (sel_eq _ _ _ _).trans ?_
    exact congrArg (fun g : EReal => if BitVec.ofNat 32 (i 0).val = 1#32 then mom2 g (m ((c.tc : Thread nD τ).loc main_arg5) i) else m ((c.tc : Thread nD τ).loc main_arg9) i) (e i)

theorem algebraic : Cert.algebraic_AdamQ1Ideal_AdamQ1RefIdeal := fun m g m' g' _ hag =>
  ⟨fun c => Cert.AdamQ1V.put (m ((c.tc : Thread Cert.AdamQ1Ideal.nD Cert.AdamQ1Ideal.τ).loc Cert.AdamQ1Ideal.main_arg6)) (gr m c), fun c => Cert.AdamQ1V.put (m ((c.tc : Thread Cert.AdamQ1Ideal.nD Cert.AdamQ1Ideal.τ).loc Cert.AdamQ1Ideal.main_arg7)) (de m c), fun c => Cert.AdamQ1V.put (m ((c.tc : Thread Cert.AdamQ1Ideal.nD Cert.AdamQ1Ideal.τ).loc Cert.AdamQ1Ideal.main_arg8)) (mo m c), fun c => Cert.AdamQ1V.put (m ((c.tc : Thread Cert.AdamQ1Ideal.nD Cert.AdamQ1Ideal.τ).loc Cert.AdamQ1Ideal.main_arg9)) (ve m c), run_blocks m g, (θ_run _ _ _).mono (fun r h c => by
      obtain ⟨h0, h1, h2, h3, h4, h5, h6, h7, h8, h9⟩ := hag c
      refine ⟨(h c).1.trans ?_, (h c).2.1.trans ?_, (h c).2.2.1.trans ?_, (h c).2.2.2.1.trans ?_, (h c).2.2.2.2⟩
      · rw [h0, h1, h2, h6]; rfl
      · rw [h0, h1, h2, h3, h4, h5, h7]; rfl
      · rw [h0, h1, h2, h4, h8]; rfl
      · rw [h0, h1, h2, h5, h9]; rfl) (ref_run m' g')⟩

end Cert.AdamQ1V

end
-- ==== Proof.Opt.AdamO0.lean ====
/-
  One weight's update out of its two halves, part 0 of 2: the call and its reference end with the same four arrays.
-/
module

public import proofs.«01_k».proof.Defs
public import proofs.«01_k».proof.Proof.Gen.AdamO0Ideal.Frame
public import proofs.«01_k».proof.Proof.Gen.AdamO0.Frame
public import proofs.«01_k».proof.Proof.Gen.AdamO0RefIdeal.Run
public import proofs.«01_k».proof.Proof.Opt.Adam
public import Idealize.ShloMosaic.Lib.Pipeline.ValueKit

@[expose] public section

set_option maxRecDepth 16384

noncomputable section

open Idealize.ShloMosaic Idealize.ShloMosaic.TcCoe Idealize.SL.Sem

namespace Cert.AdamO0V

theorem ok_bits {F : FTy → Type} [FloatOps F] (m : (ℓ : Loc Cert.AdamO0.nD Cert.AdamO0.τ Cert.AdamO0.sig) → Buf (Elt F) ℓ) : Cert.AdamO0.Gen.Ok m := trivial

open Cert.AdamO0Ideal Cert.AdamO0Ideal.Gen Cert.Opt

theorem ok {F : FTy → Type} [FloatOps F] (m : (ℓ : Loc nD τ sig) → Buf (Elt F) ℓ) : Cert.AdamO0Ideal.Gen.Ok m := trivial

variable (m : (ℓ : Loc nD τ sig) → Buf (Elt Ideal) ℓ)

/-- Any contents of the table: no window's place depends on them. -/
def a0 : (pcfg0 (F := Ideal)).Adm := ⟨fun | ⟨0, _⟩ => fun _ => (0#32 : BitVec 32), trivial⟩

theorem idx_nat : ∀ t : Fin grid0.N, ((cfg0 a0).win 0).index t = ![t.val % 1, 0] ∧ ((cfg0 a0).win 1).index t = ![t.val % 1, 0]
    ∧ ((cfg0 a0).win 5).index t = ![0, t.val / 1, t.val % 1, 0] ∧ (grid0.coords t 0).val = t.val / 1 := by decide +kernel

/-- The blocks of part 0. -/
def Part (β : Fin 4 → ℕ) : Prop := β 0 = 0

instance : DecidablePred Part := fun β => inferInstanceAs (Decidable (β 0 = 0))

theorem covers5 (a : (pcfg0 (F := Ideal)).Adm) : ((cfg0 a).win 5).CoversWhere Part :=
  (by decide +kernel : ((cfg0 a0).win 5).CoversWhere Part)

/-- A part's number as a word. -/
theorem part_word : ∀ j : Fin 2, ¬ j.val = 0 → ¬ BitVec.ofNat 32 j.val = 0#32 := by decide

/-- The array with part 0 new and the rest as it was. -/
def put (old new : S2x2x128x1024.Idx → EReal) (j : S2x2x128x1024.Idx) : EReal := if BitVec.ofNat 32 (j 0).val = 0#32 then new j else old j

/-- The gradient out of its two halves: the half whose number the word gives is the core's own. -/
def grad (own other : S128x1024.Idx → EReal) (half : S1.Idx → BitVec 32) (i : S2x2x128x1024.Idx) : EReal :=
  if BitVec.ofNat 32 (i 1).val = half (ix1 0) then own (ix2 (i 2) (i 3)) else other (ix2 (i 2) (i 3))

/-- Where an entry of point `t`'s block lies in the weight. -/
def E (t : Fin grid0.N) (y : S1x1x128x1024.Idx) : S2x2x128x1024.Idx :=
  ix4 0 ⟨t.val / 1, by have h : t.val < 2 := t.isLt; omega⟩ ⟨t.val % 1 * 128 + (y 2).val, by have h := (y 2).isLt; dsimp at h; omega⟩ (y 3)

theorem emb5 (a : (pcfg0 (F := Ideal)).Adm) (t : Fin grid0.N) (y : S1x1x128x1024.Idx) : (((cfg0 a).win 5).blk t).view.emb y = E t y := by
  obtain ⟨e0, e1, e5, ec⟩ := idx_nat t
  refine funext fun ax => Fin.ext ?_
  have h : (((((cfg0 a).win 5).blk t).view.emb y ax : Fin _) : ℕ) = ((cfg0 a0).win 5).index t ax * S1x1x128x1024.size ax + 1 * (y ax).val := rfl
  rw [e5] at h
  refine h.trans ?_
  have h0 := (y 0).isLt; have h1 := (y 1).isLt
  dsimp at h0 h1
  fin_cases ax <;> (simp [E, ix4] <;> omega)

theorem rd0 (c : Dev nD) (t : Fin grid0.N) (a : Fin 128) (b : Fin 1024) : iblk m (ok m) c 0 t (ix2 a b) =
    m ((c.tc : Thread nD τ).loc main_arg0) (ix2 ⟨t.val % 1 * 128 + a.val, by omega⟩ b) := by
  obtain ⟨e0, e1, e5, ec⟩ := idx_nat t
  refine (congrArg (V m c main_arg0) (funext fun ax => Fin.ext ?_)).trans (congrFun (V_main_arg0 m c) _)
  have h : (((((cfg0 a0).win 0).blk t).view.emb (ix2 a b) ax : Fin _) : ℕ) = ((cfg0 a0).win 0).index t ax * S128x1024.size ax + 1 * (ix2 a b ax).val := rfl
  rw [e0] at h
  refine h.trans ?_
  fin_cases ax <;> (simp [ix2] <;> omega)

theorem rd1 (c : Dev nD) (t : Fin grid0.N) (a : Fin 128) (b : Fin 1024) : iblk m (ok m) c 1 t (ix2 a b) =
    m ((c.tc : Thread nD τ).loc main_arg1) (ix2 ⟨t.val % 1 * 128 + a.val, by omega⟩ b) := by
  obtain ⟨e0, e1, e5, ec⟩ := idx_nat t
  refine (congrArg (V m c main_arg1) (funext fun ax => Fin.ext ?_)).trans (congrFun (V_main_arg1 m c) _)
  have h : (((((cfg0 a0).win 1).blk t).view.emb (ix2 a b) ax : Fin _) : ℕ) = ((cfg0 a0).win 1).index t ax * S128x1024.size ax + 1 * (ix2 a b ax).val := rfl
  rw [e1] at h
  refine h.trans ?_
  fin_cases ax <;> (simp [ix2] <;> omega)

theorem rd2 (c : Dev nD) (t : Fin grid0.N) (y : S1x1x128x1024.Idx) : iblk m (ok m) c 2 t y = m ((c.tc : Thread nD τ).loc main_arg3) (E t y) :=
  (congrArg (V m c main_arg3) (emb5 a0 t y)).trans (congrFun (V_main_arg3 m c) _)

theorem rd3 (c : Dev nD) (t : Fin grid0.N) (y : S1x1x128x1024.Idx) : iblk m (ok m) c 3 t y = m ((c.tc : Thread nD τ).loc main_arg4) (E t y) :=
  (congrArg (V m c main_arg4) (emb5 a0 t y)).trans (congrFun (V_main_arg4 m c) _)

theorem rd4 (c : Dev nD) (t : Fin grid0.N) (y : S1x1x128x1024.Idx) : iblk m (ok m) c 4 t y = m ((c.tc : Thread nD τ).loc main_arg5) (E t y) :=
  (congrArg (V m c main_arg5) (emb5 a0 t y)).trans (congrFun (V_main_arg5 m c) _)

/-- The gradient at an entry, and what the update makes of it. -/
def gr (c : Dev nD) := grad (m ((c.tc : Thread nD τ).loc main_arg0)) (m ((c.tc : Thread nD τ).loc main_arg1)) (m ((c.tc : Thread nD τ).loc main_arg2))
def de (c : Dev nD) (i : S2x2x128x1024.Idx) : EReal := step (m ((c.tc : Thread nD τ).loc main_arg3) i) (gr m c i) (m ((c.tc : Thread nD τ).loc main_arg4) i) (m ((c.tc : Thread nD τ).loc main_arg5) i)
def mo (c : Dev nD) (i : S2x2x128x1024.Idx) : EReal := mom1 (gr m c i) (m ((c.tc : Thread nD τ).loc main_arg4) i)
def ve (c : Dev nD) (i : S2x2x128x1024.Idx) : EReal := mom2 (gr m c i) (m ((c.tc : Thread nD τ).loc main_arg5) i)

theorem pick (c : Dev nD) (t : Fin grid0.N) (y : S1x1x128x1024.Idx) {h : BitVec 32} (eh : h = m ((c.tc : Thread nD τ).loc main_arg2) (ix1 0)) :
    (if BitVec.ofNat 32 (grid0.coords t 0).val = h then iblk m (ok m) c 0 t (ix2 (y 2) (y 3)) else iblk m (ok m) c 1 t (ix2 (y 2) (y 3))) = gr m c (E t y) := by
  obtain ⟨e0, e1, e5, ec⟩ := idx_nat t
  refine (ite_congr rfl (fun _ => rd0 m c t (y 2) (y 3)) (fun _ => rd1 m c t (y 2) (y 3))).trans ?_
  rw [eh, ec]
  rfl

variable {m} in
theorem at5 {c : Dev nD} {t : Fin grid0.N} {y : S1x1x128x1024.Idx} {h : BitVec 32} {v2 v3 : Vec Ideal S128x1024 .f32}
    (eh : h = m ((c.tc : Thread nD τ).loc main_arg2) (ix1 0)) (e2 : v2 = iblk m (ok m) c 0 t) (e3 : v3 = iblk m (ok m) c 1 t) :
    k0_pay1 (F := Ideal) (k0_pay5 (grid0.coords t) h v2 v3) y = gr m c (E t y) := by
  refine Eq.trans ?_ (pick m c t y eh)
  subst e2 e3
  unfold k0_pay1  k0_pay5
  pointwise
  exact sel_eq _ _ _ _

variable {m} in
theorem at6 {c : Dev nD} {t : Fin grid0.N} {y : S1x1x128x1024.Idx} {h : BitVec 32} {v2 v3 : Vec Ideal S128x1024 .f32} {v5 v7 v9 : Vec Ideal S1x1x128x1024 .f32}
    (eh : h = m ((c.tc : Thread nD τ).loc main_arg2) (ix1 0)) (e2 : v2 = iblk m (ok m) c 0 t) (e3 : v3 = iblk m (ok m) c 1 t) (e5 : v5 = iblk m (ok m) c 2 t) (e7 : v7 = iblk m (ok m) c 3 t) (e9 : v9 = iblk m (ok m) c 4 t) :
    k0_pay2 (F := Ideal) (k0_pay8 (grid0.coords t) h v2 v3 v5 v7 v9) y = de m c (E t y) := by
  unfold de
  rw [← rd2 m, ← rd3 m, ← rd4 m, ← pick m c t y eh]
  subst e2 e3 e5 e7 e9
  unfold k0_pay2 k0_pay8 k0_pay6 k0_pay7 k0_pay5
  pointwise
  exact congrArg (fun g : EReal => step (iblk m (ok m) c 2 t y) g (iblk m (ok m) c 3 t y) (iblk m (ok m) c 4 t y)) (sel_eq _ _ _ _)

variable {m} in
theorem at7 {c : Dev nD} {t : Fin grid0.N} {y : S1x1x128x1024.Idx} {h : BitVec 32} {v2 v3 : Vec Ideal S128x1024 .f32} {v7 : Vec Ideal S1x1x128x1024 .f32}
    (eh : h = m ((c.tc : Thread nD τ).loc main_arg2) (ix1 0)) (e2 : v2 = iblk m (ok m) c 0 t) (e3 : v3 = iblk m (ok m) c 1 t) (e7 : v7 = iblk m (ok m) c 3 t) :
    k0_pay3 (F := Ideal) (k0_pay6 (grid0.coords t) h v2 v3 v7) y = mo m c (E t y) := by
  unfold mo
  rw [← rd3 m, ← pick m c t y eh]
  subst e2 e3 e7
  unfold k0_pay3 k0_pay6 k0_pay5
  pointwise
  exact congrArg (fun g : EReal => mom1 g (iblk m (ok m) c 3 t y)) (sel_eq _ _ _ _)

variable {m} in
theorem at8 {c : Dev nD} {t : Fin grid0.N} {y : S1x1x128x1024.Idx} {h : BitVec 32} {v2 v3 : Vec Ideal S128x1024 .f32} {v9 : Vec Ideal S1x1x128x1024 .f32}
    (eh : h = m ((c.tc : Thread nD τ).loc main_arg2) (ix1 0)) (e2 : v2 = iblk m (ok m) c 0 t) (e3 : v3 = iblk m (ok m) c 1 t) (e9 : v9 = iblk m (ok m) c 4 t) :
    k0_pay4 (F := Ideal) (k0_pay7 (grid0.coords t) h v2 v3 v9) y = ve m c (E t y) := by
  unfold ve
  rw [← rd4 m, ← pick m c t y eh]
  subst e2 e3 e9
  unfold k0_pay4 k0_pay7 k0_pay5
  pointwise
  exact congrArg (fun g : EReal => mom2 g (iblk m (ok m) c 4 t y)) (sel_eq _ _ _ _)

theorem word (c : Dev nD) : View.readAt (Elt Ideal) (View.whole main_arg2) (Rect.unit ![0] ![1] inb_S1_S1_0).toLoadRect (tbl m 0) (Shape.Idx.first (by decide)) = m ((c.tc : Thread nD τ).loc main_arg2) (ix1 0) := by
  obtain rfl : c = 0 := Subsingleton.elim _ _
  refine (congrArg (V m (0 : Dev nD) main_arg2) (funext fun ax => Fin.ext ?_)).trans (congrFun (V_main_arg2 m 0) _)
  fin_cases ax
  rfl

theorem V_old5 (c : Dev nD) : V m c main_v0_0 = m ((c.tc : Thread nD τ).loc main_arg6) := by
  unfold V hostOps0
  after_results_simp
  rfl

theorem final5 (c : Dev nD) : (dats m (ok m) 0 c).arrAt 5 (cfgM m (ok m)).N = put (m ((c.tc : Thread nD τ).loc main_arg6)) (gr m c) := by
  refine (dats m (ok m) 0 c).arrAt_eq_of_coversWhere_of_agree 5 _ Part (covers5 _) (fun t hf y => ?_) (fun (j : S2x2x128x1024.Idx) hj => ?_)
  · rw [after0_5]
    unfold outsAt0
    dsimp only
    frame_out
    refine Eq.trans ?_ (congrArg (put (m ((c.tc : Thread nD τ).loc main_arg6)) (gr m c)) (emb5 (adm m (ok m)) t y)).symm
    refine Eq.trans ?_ (if_pos rfl).symm
    exact (at5 (word m c) ((hs0_0 m (ok m) t).read_unread _) ((hs0_1 m (ok m) t).read_unread _))
  · refine (congrFun ((A_eq m (ok m) c 5).trans (V_old5 m c)) _).trans ?_
    exact (if_neg (part_word (j 0) fun hh => hj ((Nat.div_one _).trans hh))).symm

theorem V_old6 (c : Dev nD) : V m c main_v0_1 = m ((c.tc : Thread nD τ).loc main_arg7) := by
  unfold V hostOps0
  after_results_simp
  rfl

theorem final6 (c : Dev nD) : (dats m (ok m) 0 c).arrAt 6 (cfgM m (ok m)).N = put (m ((c.tc : Thread nD τ).loc main_arg7)) (de m c) := by
  refine (dats m (ok m) 0 c).arrAt_eq_of_coversWhere_of_agree 6 _ Part (covers5 _) (fun t hf y => ?_) (fun (j : S2x2x128x1024.Idx) hj => ?_)
  · rw [after0_6]
    unfold outsAt0
    dsimp only
    frame_out
    refine Eq.trans ?_ (congrArg (put (m ((c.tc : Thread nD τ).loc main_arg7)) (de m c)) (emb5 (adm m (ok m)) t y)).symm
    refine Eq.trans ?_ (if_pos rfl).symm
    exact (at6 (word m c) ((hs0_0 m (ok m) t).read_unread _) ((hs0_1 m (ok m) t).read_unread _) ((hs0_2 m (ok m) t).read_unread _) ((hs0_3 m (ok m) t).read_unread _) ((hs0_4 m (ok m) t).read_unread _))
  · refine (congrFun ((A_eq m (ok m) c 6).trans (V_old6 m c)) _).trans ?_
    exact (if_neg (part_word (j 0) fun hh => hj ((Nat.div_one _).trans hh))).symm

theorem V_old7 (c : Dev nD) : V m c main_v0_2 = m ((c.tc : Thread nD τ).loc main_arg8) := by
  unfold V hostOps0
  after_results_simp
  rfl

theorem final7 (c : Dev nD) : (dats m (ok m) 0 c).arrAt 7 (cfgM m (ok m)).N = put (m ((c.tc : Thread nD τ).loc main_arg8)) (mo m c) := by
  refine (dats m (ok m) 0 c).arrAt_eq_of_coversWhere_of_agree 7 _ Part (covers5 _) (fun t hf y => ?_) (fun (j : S2x2x128x1024.Idx) hj => ?_)
  · rw [after0_7]
    unfold outsAt0
    dsimp only
    frame_out
    refine Eq.trans ?_ (congrArg (put (m ((c.tc : Thread nD τ).loc main_arg8)) (mo m c)) (emb5 (adm m (ok m)) t y)).symm
    refine Eq.trans ?_ (if_pos rfl).symm
    exact (at7 (word m c) ((hs0_0 m (ok m) t).read_unread _) ((hs0_1 m (ok m) t).read_unread _) ((hs0_3 m (ok m) t).read_unread _))
  · refine (congrFun ((A_eq m (ok m) c 7).trans (V_old7 m c)) _).trans ?_
    exact (if_neg (part_word (j 0) fun hh => hj ((Nat.div_one _).trans hh))).symm

theorem V_old8 (c : Dev nD) : V m c main_v0_3 = m ((c.tc : Thread nD τ).loc main_arg9) := by
  unfold V hostOps0
  after_results_simp
  rfl

theorem final8 (c : Dev nD) : (dats m (ok m) 0 c).arrAt 8 (cfgM m (ok m)).N = put (m ((c.tc : Thread nD τ).loc main_arg9)) (ve m c) := by
  refine (dats m (ok m) 0 c).arrAt_eq_of_coversWhere_of_agree 8 _ Part (covers5 _) (fun t hf y => ?_) (fun (j : S2x2x128x1024.Idx) hj => ?_)
  · rw [after0_8]
    unfold outsAt0
    dsimp only
    frame_out
    refine Eq.trans ?_ (congrArg (put (m ((c.tc : Thread nD τ).loc main_arg9)) (ve m c)) (emb5 (adm m (ok m)) t y)).symm
    refine Eq.trans ?_ (if_pos rfl).symm
    exact (at8 (word m c) ((hs0_0 m (ok m) t).read_unread _) ((hs0_1 m (ok m) t).read_unread _) ((hs0_4 m (ok m) t).read_unread _))
  · refine (congrFun ((A_eq m (ok m) c 8).trans (V_old8 m c)) _).trans ?_
    exact (if_neg (part_word (j 0) fun hh => hj ((Nat.div_one _).trans hh))).symm

/-- The region's run: the four arrays, and the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v0_0) = put (m ((c.tc : Thread nD τ).loc main_arg6)) (gr m c)
      ∧ r.2.mem ((c.tc : Thread nD τ).loc main_v0_1) = put (m ((c.tc : Thread nD τ).loc main_arg7)) (de m c)
      ∧ r.2.mem ((c.tc : Thread nD τ).loc main_v0_2) = put (m ((c.tc : Thread nD τ).loc main_arg8)) (mo m c)
      ∧ r.2.mem ((c.tc : Thread nD τ).loc main_v0_3) = put (m ((c.tc : Thread nD τ).loc main_arg9)) (ve m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run _ _ _).mono (fun r h c => ⟨((h.1 c).1 5).trans (final5 m c), ((h.1 c).1 6).trans (final6 m c), ((h.1 c).1 7).trans (final7 m c), ((h.1 c).1 8).trans (final8 m c), h.2 c⟩)
    (θ_run_and (run_main m ρ (ok m)) (unchanged m ρ (ok m)))

end Cert.AdamO0V

namespace Cert.AdamO0V

open Cert.AdamO0RefIdeal Cert.Opt

variable (m : (ℓ : Loc nD τ sig) → Buf (Elt Ideal) ℓ)

/-- The reference's run: the same four arrays. -/
theorem ref_run (ρ : Dev nD → PrngReg) :
    θ_run defs (onTc (τ := τ) (main (F := Ideal))) ⟨m, fun _ => 0, ρ⟩ fun r => ∀ c : Dev nD,
      r.2.mem ((c.tc : Thread nD τ).loc main_v37) = put (m ((c.tc : Thread nD τ).loc main_arg6)) (grad (m ((c.tc : Thread nD τ).loc main_arg0)) (m ((c.tc : Thread nD τ).loc main_arg1)) (m ((c.tc : Thread nD τ).loc main_arg2)))
      ∧ r.2.mem ((c.tc : Thread nD τ).loc main_v42) = put (m ((c.tc : Thread nD τ).loc main_arg7)) (fun i => step (m ((c.tc : Thread nD τ).loc main_arg3) i) (grad (m ((c.tc : Thread nD τ).loc main_arg0)) (m ((c.tc : Thread nD τ).loc main_arg1)) (m ((c.tc : Thread nD τ).loc main_arg2)) i) (m ((c.tc : Thread nD τ).loc main_arg4) i) (m ((c.tc : Thread nD τ).loc main_arg5) i))
      ∧ r.2.mem ((c.tc : Thread nD τ).loc main_v47) = put (m ((c.tc : Thread nD τ).loc main_arg8)) (fun i => mom1 (grad (m ((c.tc : Thread nD τ).loc main_arg0)) (m ((c.tc : Thread nD τ).loc main_arg1)) (m ((c.tc : Thread nD τ).loc main_arg2)) i) (m ((c.tc : Thread nD τ).loc main_arg4) i))
      ∧ r.2.mem ((c.tc : Thread nD τ).loc main_v52) = put (m ((c.tc : Thread nD τ).loc main_arg9)) (fun i => mom2 (grad (m ((c.tc : Thread nD τ).loc main_arg0)) (m ((c.tc : Thread nD τ).loc main_arg1)) (m ((c.tc : Thread nD τ).loc main_arg2)) i) (m ((c.tc : Thread nD τ).loc main_arg5) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ?_) (Value.run m ρ)
  obtain ⟨h1, h2, h3, h4, hr⟩ := h c
  have e := fun i : S2x2x128x1024.Idx => sel_eq (BitVec.ofNat 32 (i 1).val) (m ((c.tc : Thread nD τ).loc main_arg2) (ix1 0)) (m ((c.tc : Thread nD τ).loc main_arg0) (ix2 (i 2) (i 3))) (m ((c.tc : Thread nD τ).loc main_arg1) (ix2 (i 2) (i 3)))
  refine ⟨h1.trans (funext fun i => ?_), h2.trans (funext fun i => ?_), h3.trans (funext fun i => ?_), h4.trans (funext fun i => ?_), hr⟩
  · pointwise
    refine (sel_eq _ _ _ _).trans ?_
    exact congrArg (fun g : EReal => if BitVec.ofNat 32 (i 0).val = 0#32 then g else m ((c.tc : Thread nD τ).loc main_arg6) i) (e i)
  · pointwise
    refine (sel_eq _ _ _ _).trans ?_
    exact congrArg (fun g : EReal => if BitVec.ofNat 32 (i 0).val = 0#32 then step (m ((c.tc : Thread nD τ).loc main_arg3) i) g (m ((c.tc : Thread nD τ).loc main_arg4) i) (m ((c.tc : Thread nD τ).loc main_arg5) i) else m ((c.tc : Thread nD τ).loc main_arg7) i) (e i)
  · pointwise
    refine (sel_eq _ _ _ _).trans ?_
    exact congrArg (fun g : EReal => if BitVec.ofNat 32 (i 0).val = 0#32 then mom1 g (m ((c.tc : Thread nD τ).loc main_arg4) i) else m ((c.tc : Thread nD τ).loc main_arg8) i) (e i)
  · pointwise
    refine (sel_eq _ _ _ _).trans ?_
    exact congrArg (fun g : EReal => if BitVec.ofNat 32 (i 0).val = 0#32 then mom2 g (m ((c.tc : Thread nD τ).loc main_arg5) i) else m ((c.tc : Thread nD τ).loc main_arg9) i) (e i)

theorem algebraic : Cert.algebraic_AdamO0Ideal_AdamO0RefIdeal := fun m g m' g' _ hag =>
  ⟨fun c => Cert.AdamO0V.put (m ((c.tc : Thread Cert.AdamO0Ideal.nD Cert.AdamO0Ideal.τ).loc Cert.AdamO0Ideal.main_arg6)) (gr m c), fun c => Cert.AdamO0V.put (m ((c.tc : Thread Cert.AdamO0Ideal.nD Cert.AdamO0Ideal.τ).loc Cert.AdamO0Ideal.main_arg7)) (de m c), fun c => Cert.AdamO0V.put (m ((c.tc : Thread Cert.AdamO0Ideal.nD Cert.AdamO0Ideal.τ).loc Cert.AdamO0Ideal.main_arg8)) (mo m c), fun c => Cert.AdamO0V.put (m ((c.tc : Thread Cert.AdamO0Ideal.nD Cert.AdamO0Ideal.τ).loc Cert.AdamO0Ideal.main_arg9)) (ve m c), run_blocks m g, (θ_run _ _ _).mono (fun r h c => by
      obtain ⟨h0, h1, h2, h3, h4, h5, h6, h7, h8, h9⟩ := hag c
      refine ⟨(h c).1.trans ?_, (h c).2.1.trans ?_, (h c).2.2.1.trans ?_, (h c).2.2.2.1.trans ?_, (h c).2.2.2.2⟩
      · rw [h0, h1, h2, h6]; rfl
      · rw [h0, h1, h2, h3, h4, h5, h7]; rfl
      · rw [h0, h1, h2, h4, h8]; rfl
      · rw [h0, h1, h2, h5, h9]; rfl) (ref_run m' g')⟩

end Cert.AdamO0V

end
-- ==== Proof.Opt.AdamO1.lean ====
/-
  One weight's update out of its two halves, part 1 of 2: the call and its reference end with the same four arrays.
-/
module

public import proofs.«01_k».proof.Defs
public import proofs.«01_k».proof.Proof.Gen.AdamO1Ideal.Frame
public import proofs.«01_k».proof.Proof.Gen.AdamO1.Frame
public import proofs.«01_k».proof.Proof.Gen.AdamO1RefIdeal.Run
public import proofs.«01_k».proof.Proof.Opt.Adam
public import Idealize.ShloMosaic.Lib.Pipeline.ValueKit

@[expose] public section

set_option maxRecDepth 16384

noncomputable section

open Idealize.ShloMosaic Idealize.ShloMosaic.TcCoe Idealize.SL.Sem

namespace Cert.AdamO1V

theorem ok_bits {F : FTy → Type} [FloatOps F] (m : (ℓ : Loc Cert.AdamO1.nD Cert.AdamO1.τ Cert.AdamO1.sig) → Buf (Elt F) ℓ) : Cert.AdamO1.Gen.Ok m := trivial

open Cert.AdamO1Ideal Cert.AdamO1Ideal.Gen Cert.Opt

theorem ok {F : FTy → Type} [FloatOps F] (m : (ℓ : Loc nD τ sig) → Buf (Elt F) ℓ) : Cert.AdamO1Ideal.Gen.Ok m := trivial

variable (m : (ℓ : Loc nD τ sig) → Buf (Elt Ideal) ℓ)

/-- Any contents of the table: no window's place depends on them. -/
def a0 : (pcfg0 (F := Ideal)).Adm := ⟨fun | ⟨0, _⟩ => fun _ => (0#32 : BitVec 32), trivial⟩

theorem idx_nat : ∀ t : Fin grid0.N, ((cfg0 a0).win 0).index t = ![t.val % 1, 0] ∧ ((cfg0 a0).win 1).index t = ![t.val % 1, 0]
    ∧ ((cfg0 a0).win 5).index t = ![1, t.val / 1, t.val % 1, 0] ∧ (grid0.coords t 0).val = t.val / 1 := by decide +kernel

/-- The blocks of part 1. -/
def Part (β : Fin 4 → ℕ) : Prop := β 0 = 1

instance : DecidablePred Part := fun β => inferInstanceAs (Decidable (β 0 = 1))

theorem covers5 (a : (pcfg0 (F := Ideal)).Adm) : ((cfg0 a).win 5).CoversWhere Part :=
  (by decide +kernel : ((cfg0 a0).win 5).CoversWhere Part)

/-- A part's number as a word. -/
theorem part_word : ∀ j : Fin 2, ¬ j.val = 1 → ¬ BitVec.ofNat 32 j.val = 1#32 := by decide

/-- The array with part 1 new and the rest as it was. -/
def put (old new : S2x2x128x1024.Idx → EReal) (j : S2x2x128x1024.Idx) : EReal := if BitVec.ofNat 32 (j 0).val = 1#32 then new j else old j

/-- The gradient out of its two halves: the half whose number the word gives is the core's own. -/
def grad (own other : S128x1024.Idx → EReal) (half : S1.Idx → BitVec 32) (i : S2x2x128x1024.Idx) : EReal :=
  if BitVec.ofNat 32 (i 1).val = half (ix1 0) then own (ix2 (i 2) (i 3)) else other (ix2 (i 2) (i 3))

/-- Where an entry of point `t`'s block lies in the weight. -/
def E (t : Fin grid0.N) (y : S1x1x128x1024.Idx) : S2x2x128x1024.Idx :=
  ix4 1 ⟨t.val / 1, by have h : t.val < 2 := t.isLt; omega⟩ ⟨t.val % 1 * 128 + (y 2).val, by have h := (y 2).isLt; dsimp at h; omega⟩ (y 3)

theorem emb5 (a : (pcfg0 (F := Ideal)).Adm) (t : Fin grid0.N) (y : S1x1x128x1024.Idx) : (((cfg0 a).win 5).blk t).view.emb y = E t y := by
  obtain ⟨e0, e1, e5, ec⟩ := idx_nat t
  refine funext fun ax => Fin.ext ?_
  have h : (((((cfg0 a).win 5).blk t).view.emb y ax : Fin _) : ℕ) = ((cfg0 a0).win 5).index t ax * S1x1x128x1024.size ax + 1 * (y ax).val := rfl
  rw [e5] at h
  refine h.trans ?_
  have h0 := (y 0).isLt; have h1 := (y 1).isLt
  dsimp at h0 h1
  fin_cases ax <;> (simp [E, ix4] <;> omega)

theorem rd0 (c : Dev nD) (t : Fin grid0.N) (a : Fin 128) (b : Fin 1024) : iblk m (ok m) c 0 t (ix2 a b) =
    m ((c.tc : Thread nD τ).loc main_arg0) (ix2 ⟨t.val % 1 * 128 + a.val, by omega⟩ b) := by
  obtain ⟨e0, e1, e5, ec⟩ := idx_nat t
  refine (congrArg (V m c main_arg0) (funext fun ax => Fin.ext ?_)).trans (congrFun (V_main_arg0 m c) _)
  have h : (((((cfg0 a0).win 0).blk t).view.emb (ix2 a b) ax : Fin _) : ℕ) = ((cfg0 a0).win 0).index t ax * S128x1024.size ax + 1 * (ix2 a b ax).val := rfl
  rw [e0] at h
  refine h.trans ?_
  fin_cases ax <;> (simp [ix2] <;> omega)

theorem rd1 (c : Dev nD) (t : Fin grid0.N) (a : Fin 128) (b : Fin 1024) : iblk m (ok m) c 1 t (ix2 a b) =
    m ((c.tc : Thread nD τ).loc main_arg1) (ix2 ⟨t.val % 1 * 128 + a.val, by omega⟩ b) := by
  obtain ⟨e0, e1, e5, ec⟩ := idx_nat t
  refine (congrArg (V m c main_arg1) (funext fun ax => Fin.ext ?_)).trans (congrFun (V_main_arg1 m c) _)
  have h : (((((cfg0 a0).win 1).blk t).view.emb (ix2 a b) ax : Fin _) : ℕ) = ((cfg0 a0).win 1).index t ax * S128x1024.size ax + 1 * (ix2 a b ax).val := rfl
  rw [e1] at h
  refine h.trans ?_
  fin_cases ax <;> (simp [ix2] <;> omega)

theorem rd2 (c : Dev nD) (t : Fin grid0.N) (y : S1x1x128x1024.Idx) : iblk m (ok m) c 2 t y = m ((c.tc : Thread nD τ).loc main_arg3) (E t y) :=
  (congrArg (V m c main_arg3) (emb5 a0 t y)).trans (congrFun (V_main_arg3 m c) _)

theorem rd3 (c : Dev nD) (t : Fin grid0.N) (y : S1x1x128x1024.Idx) : iblk m (ok m) c 3 t y = m ((c.tc : Thread nD τ).loc main_arg4) (E t y) :=
  (congrArg (V m c main_arg4) (emb5 a0 t y)).trans (congrFun (V_main_arg4 m c) _)

theorem rd4 (c : Dev nD) (t : Fin grid0.N) (y : S1x1x128x1024.Idx) : iblk m (ok m) c 4 t y = m ((c.tc : Thread nD τ).loc main_arg5) (E t y) :=
  (congrArg (V m c main_arg5) (emb5 a0 t y)).trans (congrFun (V_main_arg5 m c) _)

/-- The gradient at an entry, and what the update makes of it. -/
def gr (c : Dev nD) := grad (m ((c.tc : Thread nD τ).loc main_arg0)) (m ((c.tc : Thread nD τ).loc main_arg1)) (m ((c.tc : Thread nD τ).loc main_arg2))
def de (c : Dev nD) (i : S2x2x128x1024.Idx) : EReal := step (m ((c.tc : Thread nD τ).loc main_arg3) i) (gr m c i) (m ((c.tc : Thread nD τ).loc main_arg4) i) (m ((c.tc : Thread nD τ).loc main_arg5) i)
def mo (c : Dev nD) (i : S2x2x128x1024.Idx) : EReal := mom1 (gr m c i) (m ((c.tc : Thread nD τ).loc main_arg4) i)
def ve (c : Dev nD) (i : S2x2x128x1024.Idx) : EReal := mom2 (gr m c i) (m ((c.tc : Thread nD τ).loc main_arg5) i)

theorem pick (c : Dev nD) (t : Fin grid0.N) (y : S1x1x128x1024.Idx) {h : BitVec 32} (eh : h = m ((c.tc : Thread nD τ).loc main_arg2) (ix1 0)) :
    (if BitVec.ofNat 32 (grid0.coords t 0).val = h then iblk m (ok m) c 0 t (ix2 (y 2) (y 3)) else iblk m (ok m) c 1 t (ix2 (y 2) (y 3))) = gr m c (E t y) := by
  obtain ⟨e0, e1, e5, ec⟩ := idx_nat t
  refine (ite_congr rfl (fun _ => rd0 m c t (y 2) (y 3)) (fun _ => rd1 m c t (y 2) (y 3))).trans ?_
  rw [eh, ec]
  rfl

variable {m} in
theorem at5 {c : Dev nD} {t : Fin grid0.N} {y : S1x1x128x1024.Idx} {h : BitVec 32} {v2 v3 : Vec Ideal S128x1024 .f32}
    (eh : h = m ((c.tc : Thread nD τ).loc main_arg2) (ix1 0)) (e2 : v2 = iblk m (ok m) c 0 t) (e3 : v3 = iblk m (ok m) c 1 t) :
    k0_pay1 (F := Ideal) (k0_pay5 (grid0.coords t) h v2 v3) y = gr m c (E t y) := by
  refine Eq.trans ?_ (pick m c t y eh)
  subst e2 e3
  unfold k0_pay1  k0_pay5
  pointwise
  exact sel_eq _ _ _ _

variable {m} in
theorem at6 {c : Dev nD} {t : Fin grid0.N} {y : S1x1x128x1024.Idx} {h : BitVec 32} {v2 v3 : Vec Ideal S128x1024 .f32} {v5 v7 v9 : Vec Ideal S1x1x128x1024 .f32}
    (eh : h = m ((c.tc : Thread nD τ).loc main_arg2) (ix1 0)) (e2 : v2 = iblk m (ok m) c 0 t) (e3 : v3 = iblk m (ok m) c 1 t) (e5 : v5 = iblk m (ok m) c 2 t) (e7 : v7 = iblk m (ok m) c 3 t) (e9 : v9 = iblk m (ok m) c 4 t) :
    k0_pay2 (F := Ideal) (k0_pay8 (grid0.coords t) h v2 v3 v5 v7 v9) y = de m c (E t y) := by
  unfold de
  rw [← rd2 m, ← rd3 m, ← rd4 m, ← pick m c t y eh]
  subst e2 e3 e5 e7 e9
  unfold k0_pay2 k0_pay8 k0_pay6 k0_pay7 k0_pay5
  pointwise
  exact congrArg (fun g : EReal => step (iblk m (ok m) c 2 t y) g (iblk m (ok m) c 3 t y) (iblk m (ok m) c 4 t y)) (sel_eq _ _ _ _)

variable {m} in
theorem at7 {c : Dev nD} {t : Fin grid0.N} {y : S1x1x128x1024.Idx} {h : BitVec 32} {v2 v3 : Vec Ideal S128x1024 .f32} {v7 : Vec Ideal S1x1x128x1024 .f32}
    (eh : h = m ((c.tc : Thread nD τ).loc main_arg2) (ix1 0)) (e2 : v2 = iblk m (ok m) c 0 t) (e3 : v3 = iblk m (ok m) c 1 t) (e7 : v7 = iblk m (ok m) c 3 t) :
    k0_pay3 (F := Ideal) (k0_pay6 (grid0.coords t) h v2 v3 v7) y = mo m c (E t y) := by
  unfold mo
  rw [← rd3 m, ← pick m c t y eh]
  subst e2 e3 e7
  unfold k0_pay3 k0_pay6 k0_pay5
  pointwise
  exact congrArg (fun g : EReal => mom1 g (iblk m (ok m) c 3 t y)) (sel_eq _ _ _ _)

variable {m} in
theorem at8 {c : Dev nD} {t : Fin grid0.N} {y : S1x1x128x1024.Idx} {h : BitVec 32} {v2 v3 : Vec Ideal S128x1024 .f32} {v9 : Vec Ideal S1x1x128x1024 .f32}
    (eh : h = m ((c.tc : Thread nD τ).loc main_arg2) (ix1 0)) (e2 : v2 = iblk m (ok m) c 0 t) (e3 : v3 = iblk m (ok m) c 1 t) (e9 : v9 = iblk m (ok m) c 4 t) :
    k0_pay4 (F := Ideal) (k0_pay7 (grid0.coords t) h v2 v3 v9) y = ve m c (E t y) := by
  unfold ve
  rw [← rd4 m, ← pick m c t y eh]
  subst e2 e3 e9
  unfold k0_pay4 k0_pay7 k0_pay5
  pointwise
  exact congrArg (fun g : EReal => mom2 g (iblk m (ok m) c 4 t y)) (sel_eq _ _ _ _)

theorem word (c : Dev nD) : View.readAt (Elt Ideal) (View.whole main_arg2) (Rect.unit ![0] ![1] inb_S1_S1_0).toLoadRect (tbl m 0) (Shape.Idx.first (by decide)) = m ((c.tc : Thread nD τ).loc main_arg2) (ix1 0) := by
  obtain rfl : c = 0 := Subsingleton.elim _ _
  refine (congrArg (V m (0 : Dev nD) main_arg2) (funext fun ax => Fin.ext ?_)).trans (congrFun (V_main_arg2 m 0) _)
  fin_cases ax
  rfl

theorem V_old5 (c : Dev nD) : V m c main_v0_0 = m ((c.tc : Thread nD τ).loc main_arg6) := by
  unfold V hostOps0
  after_results_simp
  rfl

theorem final5 (c : Dev nD) : (dats m (ok m) 0 c).arrAt 5 (cfgM m (ok m)).N = put (m ((c.tc : Thread nD τ).loc main_arg6)) (gr m c) := by
  refine (dats m (ok m) 0 c).arrAt_eq_of_coversWhere_of_agree 5 _ Part (covers5 _) (fun t hf y => ?_) (fun (j : S2x2x128x1024.Idx) hj => ?_)
  · rw [after0_5]
    unfold outsAt0
    dsimp only
    frame_out
    refine Eq.trans ?_ (congrArg (put (m ((c.tc : Thread nD τ).loc main_arg6)) (gr m c)) (emb5 (adm m (ok m)) t y)).symm
    refine Eq.trans ?_ (if_pos rfl).symm
    exact (at5 (word m c) ((hs0_0 m (ok m) t).read_unread _) ((hs0_1 m (ok m) t).read_unread _))
  · refine (congrFun ((A_eq m (ok m) c 5).trans (V_old5 m c)) _).trans ?_
    exact (if_neg (part_word (j 0) fun hh => hj ((Nat.div_one _).trans hh))).symm

theorem V_old6 (c : Dev nD) : V m c main_v0_1 = m ((c.tc : Thread nD τ).loc main_arg7) := by
  unfold V hostOps0
  after_results_simp
  rfl

theorem final6 (c : Dev nD) : (dats m (ok m) 0 c).arrAt 6 (cfgM m (ok m)).N = put (m ((c.tc : Thread nD τ).loc main_arg7)) (de m c) := by
  refine (dats m (ok m) 0 c).arrAt_eq_of_coversWhere_of_agree 6 _ Part (covers5 _) (fun t hf y => ?_) (fun (j : S2x2x128x1024.Idx) hj => ?_)
  · rw [after0_6]
    unfold outsAt0
    dsimp only
    frame_out
    refine Eq.trans ?_ (congrArg (put (m ((c.tc : Thread nD τ).loc main_arg7)) (de m c)) (emb5 (adm m (ok m)) t y)).symm
    refine Eq.trans ?_ (if_pos rfl).symm
    exact (at6 (word m c) ((hs0_0 m (ok m) t).read_unread _) ((hs0_1 m (ok m) t).read_unread _) ((hs0_2 m (ok m) t).read_unread _) ((hs0_3 m (ok m) t).read_unread _) ((hs0_4 m (ok m) t).read_unread _))
  · refine (congrFun ((A_eq m (ok m) c 6).trans (V_old6 m c)) _).trans ?_
    exact (if_neg (part_word (j 0) fun hh => hj ((Nat.div_one _).trans hh))).symm

theorem V_old7 (c : Dev nD) : V m c main_v0_2 = m ((c.tc : Thread nD τ).loc main_arg8) := by
  unfold V hostOps0
  after_results_simp
  rfl

theorem final7 (c : Dev nD) : (dats m (ok m) 0 c).arrAt 7 (cfgM m (ok m)).N = put (m ((c.tc : Thread nD τ).loc main_arg8)) (mo m c) := by
  refine (dats m (ok m) 0 c).arrAt_eq_of_coversWhere_of_agree 7 _ Part (covers5 _) (fun t hf y => ?_) (fun (j : S2x2x128x1024.Idx) hj => ?_)
  · rw [after0_7]
    unfold outsAt0
    dsimp only
    frame_out
    refine Eq.trans ?_ (congrArg (put (m ((c.tc : Thread nD τ).loc main_arg8)) (mo m c)) (emb5 (adm m (ok m)) t y)).symm
    refine Eq.trans ?_ (if_pos rfl).symm
    exact (at7 (word m c) ((hs0_0 m (ok m) t).read_unread _) ((hs0_1 m (ok m) t).read_unread _) ((hs0_3 m (ok m) t).read_unread _))
  · refine (congrFun ((A_eq m (ok m) c 7).trans (V_old7 m c)) _).trans ?_
    exact (if_neg (part_word (j 0) fun hh => hj ((Nat.div_one _).trans hh))).symm

theorem V_old8 (c : Dev nD) : V m c main_v0_3 = m ((c.tc : Thread nD τ).loc main_arg9) := by
  unfold V hostOps0
  after_results_simp
  rfl

theorem final8 (c : Dev nD) : (dats m (ok m) 0 c).arrAt 8 (cfgM m (ok m)).N = put (m ((c.tc : Thread nD τ).loc main_arg9)) (ve m c) := by
  refine (dats m (ok m) 0 c).arrAt_eq_of_coversWhere_of_agree 8 _ Part (covers5 _) (fun t hf y => ?_) (fun (j : S2x2x128x1024.Idx) hj => ?_)
  · rw [after0_8]
    unfold outsAt0
    dsimp only
    frame_out
    refine Eq.trans ?_ (congrArg (put (m ((c.tc : Thread nD τ).loc main_arg9)) (ve m c)) (emb5 (adm m (ok m)) t y)).symm
    refine Eq.trans ?_ (if_pos rfl).symm
    exact (at8 (word m c) ((hs0_0 m (ok m) t).read_unread _) ((hs0_1 m (ok m) t).read_unread _) ((hs0_4 m (ok m) t).read_unread _))
  · refine (congrFun ((A_eq m (ok m) c 8).trans (V_old8 m c)) _).trans ?_
    exact (if_neg (part_word (j 0) fun hh => hj ((Nat.div_one _).trans hh))).symm

/-- The region's run: the four arrays, and the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v0_0) = put (m ((c.tc : Thread nD τ).loc main_arg6)) (gr m c)
      ∧ r.2.mem ((c.tc : Thread nD τ).loc main_v0_1) = put (m ((c.tc : Thread nD τ).loc main_arg7)) (de m c)
      ∧ r.2.mem ((c.tc : Thread nD τ).loc main_v0_2) = put (m ((c.tc : Thread nD τ).loc main_arg8)) (mo m c)
      ∧ r.2.mem ((c.tc : Thread nD τ).loc main_v0_3) = put (m ((c.tc : Thread nD τ).loc main_arg9)) (ve m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run _ _ _).mono (fun r h c => ⟨((h.1 c).1 5).trans (final5 m c), ((h.1 c).1 6).trans (final6 m c), ((h.1 c).1 7).trans (final7 m c), ((h.1 c).1 8).trans (final8 m c), h.2 c⟩)
    (θ_run_and (run_main m ρ (ok m)) (unchanged m ρ (ok m)))

end Cert.AdamO1V

namespace Cert.AdamO1V

open Cert.AdamO1RefIdeal Cert.Opt

variable (m : (ℓ : Loc nD τ sig) → Buf (Elt Ideal) ℓ)

/-- The reference's run: the same four arrays. -/
theorem ref_run (ρ : Dev nD → PrngReg) :
    θ_run defs (onTc (τ := τ) (main (F := Ideal))) ⟨m, fun _ => 0, ρ⟩ fun r => ∀ c : Dev nD,
      r.2.mem ((c.tc : Thread nD τ).loc main_v37) = put (m ((c.tc : Thread nD τ).loc main_arg6)) (grad (m ((c.tc : Thread nD τ).loc main_arg0)) (m ((c.tc : Thread nD τ).loc main_arg1)) (m ((c.tc : Thread nD τ).loc main_arg2)))
      ∧ r.2.mem ((c.tc : Thread nD τ).loc main_v42) = put (m ((c.tc : Thread nD τ).loc main_arg7)) (fun i => step (m ((c.tc : Thread nD τ).loc main_arg3) i) (grad (m ((c.tc : Thread nD τ).loc main_arg0)) (m ((c.tc : Thread nD τ).loc main_arg1)) (m ((c.tc : Thread nD τ).loc main_arg2)) i) (m ((c.tc : Thread nD τ).loc main_arg4) i) (m ((c.tc : Thread nD τ).loc main_arg5) i))
      ∧ r.2.mem ((c.tc : Thread nD τ).loc main_v47) = put (m ((c.tc : Thread nD τ).loc main_arg8)) (fun i => mom1 (grad (m ((c.tc : Thread nD τ).loc main_arg0)) (m ((c.tc : Thread nD τ).loc main_arg1)) (m ((c.tc : Thread nD τ).loc main_arg2)) i) (m ((c.tc : Thread nD τ).loc main_arg4) i))
      ∧ r.2.mem ((c.tc : Thread nD τ).loc main_v52) = put (m ((c.tc : Thread nD τ).loc main_arg9)) (fun i => mom2 (grad (m ((c.tc : Thread nD τ).loc main_arg0)) (m ((c.tc : Thread nD τ).loc main_arg1)) (m ((c.tc : Thread nD τ).loc main_arg2)) i) (m ((c.tc : Thread nD τ).loc main_arg5) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ?_) (Value.run m ρ)
  obtain ⟨h1, h2, h3, h4, hr⟩ := h c
  have e := fun i : S2x2x128x1024.Idx => sel_eq (BitVec.ofNat 32 (i 1).val) (m ((c.tc : Thread nD τ).loc main_arg2) (ix1 0)) (m ((c.tc : Thread nD τ).loc main_arg0) (ix2 (i 2) (i 3))) (m ((c.tc : Thread nD τ).loc main_arg1) (ix2 (i 2) (i 3)))
  refine ⟨h1.trans (funext fun i => ?_), h2.trans (funext fun i => ?_), h3.trans (funext fun i => ?_), h4.trans (funext fun i => ?_), hr⟩
  · pointwise
    refine (sel_eq _ _ _ _).trans ?_
    exact congrArg (fun g : EReal => if BitVec.ofNat 32 (i 0).val = 1#32 then g else m ((c.tc : Thread nD τ).loc main_arg6) i) (e i)
  · pointwise
    refine (sel_eq _ _ _ _).trans ?_
    exact congrArg (fun g : EReal => if BitVec.ofNat 32 (i 0).val = 1#32 then step (m ((c.tc : Thread nD τ).loc main_arg3) i) g (m ((c.tc : Thread nD τ).loc main_arg4) i) (m ((c.tc : Thread nD τ).loc main_arg5) i) else m ((c.tc : Thread nD τ).loc main_arg7) i) (e i)
  · pointwise
    refine (sel_eq _ _ _ _).trans ?_
    exact congrArg (fun g : EReal => if BitVec.ofNat 32 (i 0).val = 1#32 then mom1 g (m ((c.tc : Thread nD τ).loc main_arg4) i) else m ((c.tc : Thread nD τ).loc main_arg8) i) (e i)
  · pointwise
    refine (sel_eq _ _ _ _).trans ?_
    exact congrArg (fun g : EReal => if BitVec.ofNat 32 (i 0).val = 1#32 then mom2 g (m ((c.tc : Thread nD τ).loc main_arg5) i) else m ((c.tc : Thread nD τ).loc main_arg9) i) (e i)

theorem algebraic : Cert.algebraic_AdamO1Ideal_AdamO1RefIdeal := fun m g m' g' _ hag =>
  ⟨fun c => Cert.AdamO1V.put (m ((c.tc : Thread Cert.AdamO1Ideal.nD Cert.AdamO1Ideal.τ).loc Cert.AdamO1Ideal.main_arg6)) (gr m c), fun c => Cert.AdamO1V.put (m ((c.tc : Thread Cert.AdamO1Ideal.nD Cert.AdamO1Ideal.τ).loc Cert.AdamO1Ideal.main_arg7)) (de m c), fun c => Cert.AdamO1V.put (m ((c.tc : Thread Cert.AdamO1Ideal.nD Cert.AdamO1Ideal.τ).loc Cert.AdamO1Ideal.main_arg8)) (mo m c), fun c => Cert.AdamO1V.put (m ((c.tc : Thread Cert.AdamO1Ideal.nD Cert.AdamO1Ideal.τ).loc Cert.AdamO1Ideal.main_arg9)) (ve m c), run_blocks m g, (θ_run _ _ _).mono (fun r h c => by
      obtain ⟨h0, h1, h2, h3, h4, h5, h6, h7, h8, h9⟩ := hag c
      refine ⟨(h c).1.trans ?_, (h c).2.1.trans ?_, (h c).2.2.1.trans ?_, (h c).2.2.2.1.trans ?_, (h c).2.2.2.2⟩
      · rw [h0, h1, h2, h6]; rfl
      · rw [h0, h1, h2, h3, h4, h5, h7]; rfl
      · rw [h0, h1, h2, h4, h8]; rfl
      · rw [h0, h1, h2, h5, h9]; rfl) (ref_run m' g')⟩

end Cert.AdamO1V

end
-- ==== Proof.Opt.AdamGate0.lean ====
/-
  One weight's update out of its two halves, part 0 of 4: the call and its reference end with the same four arrays.
-/
module

public import proofs.«01_k».proof.Defs
public import proofs.«01_k».proof.Proof.Gen.AdamGate0Ideal.Frame
public import proofs.«01_k».proof.Proof.Gen.AdamGate0.Frame
public import proofs.«01_k».proof.Proof.Gen.AdamGate0RefIdeal.Run
public import proofs.«01_k».proof.Proof.Opt.Adam
public import Idealize.ShloMosaic.Lib.Pipeline.ValueKit

@[expose] public section

set_option maxRecDepth 16384

noncomputable section

open Idealize.ShloMosaic Idealize.ShloMosaic.TcCoe Idealize.SL.Sem

namespace Cert.AdamGate0V

theorem ok_bits {F : FTy → Type} [FloatOps F] (m : (ℓ : Loc Cert.AdamGate0.nD Cert.AdamGate0.τ Cert.AdamGate0.sig) → Buf (Elt F) ℓ) : Cert.AdamGate0.Gen.Ok m := trivial

open Cert.AdamGate0Ideal Cert.AdamGate0Ideal.Gen Cert.Opt

theorem ok {F : FTy → Type} [FloatOps F] (m : (ℓ : Loc nD τ sig) → Buf (Elt F) ℓ) : Cert.AdamGate0Ideal.Gen.Ok m := trivial

variable (m : (ℓ : Loc nD τ sig) → Buf (Elt Ideal) ℓ)

/-- Any contents of the table: no window's place depends on them. -/
def a0 : (pcfg0 (F := Ideal)).Adm := ⟨fun | ⟨0, _⟩ => fun _ => (0#32 : BitVec 32), trivial⟩

theorem idx_nat : ∀ t : Fin grid0.N, ((cfg0 a0).win 0).index t = ![t.val % 2, 0] ∧ ((cfg0 a0).win 1).index t = ![t.val % 2, 0]
    ∧ ((cfg0 a0).win 5).index t = ![0, t.val / 2, t.val % 2, 0] ∧ (grid0.coords t 0).val = t.val / 2 := by decide +kernel

/-- The blocks of part 0. -/
def Part (β : Fin 4 → ℕ) : Prop := β 0 = 0

instance : DecidablePred Part := fun β => inferInstanceAs (Decidable (β 0 = 0))

theorem covers5 (a : (pcfg0 (F := Ideal)).Adm) : ((cfg0 a).win 5).CoversWhere Part :=
  (by decide +kernel : ((cfg0 a0).win 5).CoversWhere Part)

/-- A part's number as a word. -/
theorem part_word : ∀ j : Fin 4, ¬ j.val = 0 → ¬ BitVec.ofNat 32 j.val = 0#32 := by decide

/-- The array with part 0 new and the rest as it was. -/
def put (old new : S4x2x512x704.Idx → EReal) (j : S4x2x512x704.Idx) : EReal := if BitVec.ofNat 32 (j 0).val = 0#32 then new j else old j

/-- The gradient out of its two halves: the half whose number the word gives is the core's own. -/
def grad (own other : S512x704.Idx → EReal) (half : S1.Idx → BitVec 32) (i : S4x2x512x704.Idx) : EReal :=
  if BitVec.ofNat 32 (i 1).val = half (ix1 0) then own (ix2 (i 2) (i 3)) else other (ix2 (i 2) (i 3))

/-- Where an entry of point `t`'s block lies in the weight. -/
def E (t : Fin grid0.N) (y : S1x1x256x704.Idx) : S4x2x512x704.Idx :=
  ix4 0 ⟨t.val / 2, by have h : t.val < 4 := t.isLt; omega⟩ ⟨t.val % 2 * 256 + (y 2).val, by have h := (y 2).isLt; dsimp at h; omega⟩ (y 3)

theorem emb5 (a : (pcfg0 (F := Ideal)).Adm) (t : Fin grid0.N) (y : S1x1x256x704.Idx) : (((cfg0 a).win 5).blk t).view.emb y = E t y := by
  obtain ⟨e0, e1, e5, ec⟩ := idx_nat t
  refine funext fun ax => Fin.ext ?_
  have h : (((((cfg0 a).win 5).blk t).view.emb y ax : Fin _) : ℕ) = ((cfg0 a0).win 5).index t ax * S1x1x256x704.size ax + 1 * (y ax).val := rfl
  rw [e5] at h
  refine h.trans ?_
  have h0 := (y 0).isLt; have h1 := (y 1).isLt
  dsimp at h0 h1
  fin_cases ax <;> (simp [E, ix4] <;> omega)

theorem rd0 (c : Dev nD) (t : Fin grid0.N) (a : Fin 256) (b : Fin 704) : iblk m (ok m) c 0 t (ix2 a b) =
    m ((c.tc : Thread nD τ).loc main_arg0) (ix2 ⟨t.val % 2 * 256 + a.val, by omega⟩ b) := by
  obtain ⟨e0, e1, e5, ec⟩ := idx_nat t
  refine (congrArg (V m c main_arg0) (funext fun ax => Fin.ext ?_)).trans (congrFun (V_main_arg0 m c) _)
  have h : (((((cfg0 a0).win 0).blk t).view.emb (ix2 a b) ax : Fin _) : ℕ) = ((cfg0 a0).win 0).index t ax * S256x704.size ax + 1 * (ix2 a b ax).val := rfl
  rw [e0] at h
  refine h.trans ?_
  fin_cases ax <;> simp [ix2]

theorem rd1 (c : Dev nD) (t : Fin grid0.N) (a : Fin 256) (b : Fin 704) : iblk m (ok m) c 1 t (ix2 a b) =
    m ((c.tc : Thread nD τ).loc main_arg1) (ix2 ⟨t.val % 2 * 256 + a.val, by omega⟩ b) := by
  obtain ⟨e0, e1, e5, ec⟩ := idx_nat t
  refine (congrArg (V m c main_arg1) (funext fun ax => Fin.ext ?_)).trans (congrFun (V_main_arg1 m c) _)
  have h : (((((cfg0 a0).win 1).blk t).view.emb (ix2 a b) ax : Fin _) : ℕ) = ((cfg0 a0).win 1).index t ax * S256x704.size ax + 1 * (ix2 a b ax).val := rfl
  rw [e1] at h
  refine h.trans ?_
  fin_cases ax <;> simp [ix2]

theorem rd2 (c : Dev nD) (t : Fin grid0.N) (y : S1x1x256x704.Idx) : iblk m (ok m) c 2 t y = m ((c.tc : Thread nD τ).loc main_arg3) (E t y) :=
  (congrArg (V m c main_arg3) (emb5 a0 t y)).trans (congrFun (V_main_arg3 m c) _)

theorem rd3 (c : Dev nD) (t : Fin grid0.N) (y : S1x1x256x704.Idx) : iblk m (ok m) c 3 t y = m ((c.tc : Thread nD τ).loc main_arg4) (E t y) :=
  (congrArg (V m c main_arg4) (emb5 a0 t y)).trans (congrFun (V_main_arg4 m c) _)

theorem rd4 (c : Dev nD) (t : Fin grid0.N) (y : S1x1x256x704.Idx) : iblk m (ok m) c 4 t y = m ((c.tc : Thread nD τ).loc main_arg5) (E t y) :=
  (congrArg (V m c main_arg5) (emb5 a0 t y)).trans (congrFun (V_main_arg5 m c) _)

/-- The gradient at an entry, and what the update makes of it. -/
def gr (c : Dev nD) := grad (m ((c.tc : Thread nD τ).loc main_arg0)) (m ((c.tc : Thread nD τ).loc main_arg1)) (m ((c.tc : Thread nD τ).loc main_arg2))
def de (c : Dev nD) (i : S4x2x512x704.Idx) : EReal := step (m ((c.tc : Thread nD τ).loc main_arg3) i) (gr m c i) (m ((c.tc : Thread nD τ).loc main_arg4) i) (m ((c.tc : Thread nD τ).loc main_arg5) i)
def mo (c : Dev nD) (i : S4x2x512x704.Idx) : EReal := mom1 (gr m c i) (m ((c.tc : Thread nD τ).loc main_arg4) i)
def ve (c : Dev nD) (i : S4x2x512x704.Idx) : EReal := mom2 (gr m c i) (m ((c.tc : Thread nD τ).loc main_arg5) i)

theorem pick (c : Dev nD) (t : Fin grid0.N) (y : S1x1x256x704.Idx) {h : BitVec 32} (eh : h = m ((c.tc : Thread nD τ).loc main_arg2) (ix1 0)) :
    (if BitVec.ofNat 32 (grid0.coords t 0).val = h then iblk m (ok m) c 0 t (ix2 (y 2) (y 3)) else iblk m (ok m) c 1 t (ix2 (y 2) (y 3))) = gr m c (E t y) := by
  obtain ⟨e0, e1, e5, ec⟩ := idx_nat t
  refine (ite_congr rfl (fun _ => rd0 m c t (y 2) (y 3)) (fun _ => rd1 m c t (y 2) (y 3))).trans ?_
  rw [eh, ec]
  rfl

variable {m} in
theorem at5 {c : Dev nD} {t : Fin grid0.N} {y : S1x1x256x704.Idx} {h : BitVec 32} {v2 v3 : Vec Ideal S256x704 .f32}
    (eh : h = m ((c.tc : Thread nD τ).loc main_arg2) (ix1 0)) (e2 : v2 = iblk m (ok m) c 0 t) (e3 : v3 = iblk m (ok m) c 1 t) :
    k0_pay1 (F := Ideal) (k0_pay5 (grid0.coords t) h v2 v3) y = gr m c (E t y) := by
  refine Eq.trans ?_ (pick m c t y eh)
  subst e2 e3
  unfold k0_pay1  k0_pay5
  pointwise
  exact sel_eq _ _ _ _

variable {m} in
theorem at6 {c : Dev nD} {t : Fin grid0.N} {y : S1x1x256x704.Idx} {h : BitVec 32} {v2 v3 : Vec Ideal S256x704 .f32} {v5 v7 v9 : Vec Ideal S1x1x256x704 .f32}
    (eh : h = m ((c.tc : Thread nD τ).loc main_arg2) (ix1 0)) (e2 : v2 = iblk m (ok m) c 0 t) (e3 : v3 = iblk m (ok m) c 1 t) (e5 : v5 = iblk m (ok m) c 2 t) (e7 : v7 = iblk m (ok m) c 3 t) (e9 : v9 = iblk m (ok m) c 4 t) :
    k0_pay2 (F := Ideal) (k0_pay8 (grid0.coords t) h v2 v3 v5 v7 v9) y = de m c (E t y) := by
  unfold de
  rw [← rd2 m, ← rd3 m, ← rd4 m, ← pick m c t y eh]
  subst e2 e3 e5 e7 e9
  unfold k0_pay2 k0_pay8 k0_pay6 k0_pay7 k0_pay5
  pointwise
  exact congrArg (fun g : EReal => step (iblk m (ok m) c 2 t y) g (iblk m (ok m) c 3 t y) (iblk m (ok m) c 4 t y)) (sel_eq _ _ _ _)

variable {m} in
theorem at7 {c : Dev nD} {t : Fin grid0.N} {y : S1x1x256x704.Idx} {h : BitVec 32} {v2 v3 : Vec Ideal S256x704 .f32} {v7 : Vec Ideal S1x1x256x704 .f32}
    (eh : h = m ((c.tc : Thread nD τ).loc main_arg2) (ix1 0)) (e2 : v2 = iblk m (ok m) c 0 t) (e3 : v3 = iblk m (ok m) c 1 t) (e7 : v7 = iblk m (ok m) c 3 t) :
    k0_pay3 (F := Ideal) (k0_pay6 (grid0.coords t) h v2 v3 v7) y = mo m c (E t y) := by
  unfold mo
  rw [← rd3 m, ← pick m c t y eh]
  subst e2 e3 e7
  unfold k0_pay3 k0_pay6 k0_pay5
  pointwise
  exact congrArg (fun g : EReal => mom1 g (iblk m (ok m) c 3 t y)) (sel_eq _ _ _ _)

variable {m} in
theorem at8 {c : Dev nD} {t : Fin grid0.N} {y : S1x1x256x704.Idx} {h : BitVec 32} {v2 v3 : Vec Ideal S256x704 .f32} {v9 : Vec Ideal S1x1x256x704 .f32}
    (eh : h = m ((c.tc : Thread nD τ).loc main_arg2) (ix1 0)) (e2 : v2 = iblk m (ok m) c 0 t) (e3 : v3 = iblk m (ok m) c 1 t) (e9 : v9 = iblk m (ok m) c 4 t) :
    k0_pay4 (F := Ideal) (k0_pay7 (grid0.coords t) h v2 v3 v9) y = ve m c (E t y) := by
  unfold ve
  rw [← rd4 m, ← pick m c t y eh]
  subst e2 e3 e9
  unfold k0_pay4 k0_pay7 k0_pay5
  pointwise
  exact congrArg (fun g : EReal => mom2 g (iblk m (ok m) c 4 t y)) (sel_eq _ _ _ _)

theorem word (c : Dev nD) : View.readAt (Elt Ideal) (View.whole main_arg2) (Rect.unit ![0] ![1] inb_S1_S1_0).toLoadRect (tbl m 0) (Shape.Idx.first (by decide)) = m ((c.tc : Thread nD τ).loc main_arg2) (ix1 0) := by
  obtain rfl : c = 0 := Subsingleton.elim _ _
  refine (congrArg (V m (0 : Dev nD) main_arg2) (funext fun ax => Fin.ext ?_)).trans (congrFun (V_main_arg2 m 0) _)
  fin_cases ax
  rfl

theorem V_old5 (c : Dev nD) : V m c main_v0_0 = m ((c.tc : Thread nD τ).loc main_arg6) := by
  unfold V hostOps0
  after_results_simp
  rfl

theorem final5 (c : Dev nD) : (dats m (ok m) 0 c).arrAt 5 (cfgM m (ok m)).N = put (m ((c.tc : Thread nD τ).loc main_arg6)) (gr m c) := by
  refine (dats m (ok m) 0 c).arrAt_eq_of_coversWhere_of_agree 5 _ Part (covers5 _) (fun t hf y => ?_) (fun (j : S4x2x512x704.Idx) hj => ?_)
  · rw [after0_5]
    unfold outsAt0
    dsimp only
    frame_out
    refine Eq.trans ?_ (congrArg (put (m ((c.tc : Thread nD τ).loc main_arg6)) (gr m c)) (emb5 (adm m (ok m)) t y)).symm
    refine Eq.trans ?_ (if_pos rfl).symm
    exact (at5 (word m c) ((hs0_0 m (ok m) t).read_unread _) ((hs0_1 m (ok m) t).read_unread _))
  · refine (congrFun ((A_eq m (ok m) c 5).trans (V_old5 m c)) _).trans ?_
    exact (if_neg (part_word (j 0) fun hh => hj ((Nat.div_one _).trans hh))).symm

theorem V_old6 (c : Dev nD) : V m c main_v0_1 = m ((c.tc : Thread nD τ).loc main_arg7) := by
  unfold V hostOps0
  after_results_simp
  rfl

theorem final6 (c : Dev nD) : (dats m (ok m) 0 c).arrAt 6 (cfgM m (ok m)).N = put (m ((c.tc : Thread nD τ).loc main_arg7)) (de m c) := by
  refine (dats m (ok m) 0 c).arrAt_eq_of_coversWhere_of_agree 6 _ Part (covers5 _) (fun t hf y => ?_) (fun (j : S4x2x512x704.Idx) hj => ?_)
  · rw [after0_6]
    unfold outsAt0
    dsimp only
    frame_out
    refine Eq.trans ?_ (congrArg (put (m ((c.tc : Thread nD τ).loc main_arg7)) (de m c)) (emb5 (adm m (ok m)) t y)).symm
    refine Eq.trans ?_ (if_pos rfl).symm
    exact (at6 (word m c) ((hs0_0 m (ok m) t).read_unread _) ((hs0_1 m (ok m) t).read_unread _) ((hs0_2 m (ok m) t).read_unread _) ((hs0_3 m (ok m) t).read_unread _) ((hs0_4 m (ok m) t).read_unread _))
  · refine (congrFun ((A_eq m (ok m) c 6).trans (V_old6 m c)) _).trans ?_
    exact (if_neg (part_word (j 0) fun hh => hj ((Nat.div_one _).trans hh))).symm

theorem V_old7 (c : Dev nD) : V m c main_v0_2 = m ((c.tc : Thread nD τ).loc main_arg8) := by
  unfold V hostOps0
  after_results_simp
  rfl

theorem final7 (c : Dev nD) : (dats m (ok m) 0 c).arrAt 7 (cfgM m (ok m)).N = put (m ((c.tc : Thread nD τ).loc main_arg8)) (mo m c) := by
  refine (dats m (ok m) 0 c).arrAt_eq_of_coversWhere_of_agree 7 _ Part (covers5 _) (fun t hf y => ?_) (fun (j : S4x2x512x704.Idx) hj => ?_)
  · rw [after0_7]
    unfold outsAt0
    dsimp only
    frame_out
    refine Eq.trans ?_ (congrArg (put (m ((c.tc : Thread nD τ).loc main_arg8)) (mo m c)) (emb5 (adm m (ok m)) t y)).symm
    refine Eq.trans ?_ (if_pos rfl).symm
    exact (at7 (word m c) ((hs0_0 m (ok m) t).read_unread _) ((hs0_1 m (ok m) t).read_unread _) ((hs0_3 m (ok m) t).read_unread _))
  · refine (congrFun ((A_eq m (ok m) c 7).trans (V_old7 m c)) _).trans ?_
    exact (if_neg (part_word (j 0) fun hh => hj ((Nat.div_one _).trans hh))).symm

theorem V_old8 (c : Dev nD) : V m c main_v0_3 = m ((c.tc : Thread nD τ).loc main_arg9) := by
  unfold V hostOps0
  after_results_simp
  rfl

theorem final8 (c : Dev nD) : (dats m (ok m) 0 c).arrAt 8 (cfgM m (ok m)).N = put (m ((c.tc : Thread nD τ).loc main_arg9)) (ve m c) := by
  refine (dats m (ok m) 0 c).arrAt_eq_of_coversWhere_of_agree 8 _ Part (covers5 _) (fun t hf y => ?_) (fun (j : S4x2x512x704.Idx) hj => ?_)
  · rw [after0_8]
    unfold outsAt0
    dsimp only
    frame_out
    refine Eq.trans ?_ (congrArg (put (m ((c.tc : Thread nD τ).loc main_arg9)) (ve m c)) (emb5 (adm m (ok m)) t y)).symm
    refine Eq.trans ?_ (if_pos rfl).symm
    exact (at8 (word m c) ((hs0_0 m (ok m) t).read_unread _) ((hs0_1 m (ok m) t).read_unread _) ((hs0_4 m (ok m) t).read_unread _))
  · refine (congrFun ((A_eq m (ok m) c 8).trans (V_old8 m c)) _).trans ?_
    exact (if_neg (part_word (j 0) fun hh => hj ((Nat.div_one _).trans hh))).symm

/-- The region's run: the four arrays, and the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v0_0) = put (m ((c.tc : Thread nD τ).loc main_arg6)) (gr m c)
      ∧ r.2.mem ((c.tc : Thread nD τ).loc main_v0_1) = put (m ((c.tc : Thread nD τ).loc main_arg7)) (de m c)
      ∧ r.2.mem ((c.tc : Thread nD τ).loc main_v0_2) = put (m ((c.tc : Thread nD τ).loc main_arg8)) (mo m c)
      ∧ r.2.mem ((c.tc : Thread nD τ).loc main_v0_3) = put (m ((c.tc : Thread nD τ).loc main_arg9)) (ve m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run _ _ _).mono (fun r h c => ⟨((h.1 c).1 5).trans (final5 m c), ((h.1 c).1 6).trans (final6 m c), ((h.1 c).1 7).trans (final7 m c), ((h.1 c).1 8).trans (final8 m c), h.2 c⟩)
    (θ_run_and (run_main m ρ (ok m)) (unchanged m ρ (ok m)))

end Cert.AdamGate0V

namespace Cert.AdamGate0V

open Cert.AdamGate0RefIdeal Cert.Opt

variable (m : (ℓ : Loc nD τ sig) → Buf (Elt Ideal) ℓ)

/-- The reference's run: the same four arrays. -/
theorem ref_run (ρ : Dev nD → PrngReg) :
    θ_run defs (onTc (τ := τ) (main (F := Ideal))) ⟨m, fun _ => 0, ρ⟩ fun r => ∀ c : Dev nD,
      r.2.mem ((c.tc : Thread nD τ).loc main_v37) = put (m ((c.tc : Thread nD τ).loc main_arg6)) (grad (m ((c.tc : Thread nD τ).loc main_arg0)) (m ((c.tc : Thread nD τ).loc main_arg1)) (m ((c.tc : Thread nD τ).loc main_arg2)))
      ∧ r.2.mem ((c.tc : Thread nD τ).loc main_v42) = put (m ((c.tc : Thread nD τ).loc main_arg7)) (fun i => step (m ((c.tc : Thread nD τ).loc main_arg3) i) (grad (m ((c.tc : Thread nD τ).loc main_arg0)) (m ((c.tc : Thread nD τ).loc main_arg1)) (m ((c.tc : Thread nD τ).loc main_arg2)) i) (m ((c.tc : Thread nD τ).loc main_arg4) i) (m ((c.tc : Thread nD τ).loc main_arg5) i))
      ∧ r.2.mem ((c.tc : Thread nD τ).loc main_v47) = put (m ((c.tc : Thread nD τ).loc main_arg8)) (fun i => mom1 (grad (m ((c.tc : Thread nD τ).loc main_arg0)) (m ((c.tc : Thread nD τ).loc main_arg1)) (m ((c.tc : Thread nD τ).loc main_arg2)) i) (m ((c.tc : Thread nD τ).loc main_arg4) i))
      ∧ r.2.mem ((c.tc : Thread nD τ).loc main_v52) = put (m ((c.tc : Thread nD τ).loc main_arg9)) (fun i => mom2 (grad (m ((c.tc : Thread nD τ).loc main_arg0)) (m ((c.tc : Thread nD τ).loc main_arg1)) (m ((c.tc : Thread nD τ).loc main_arg2)) i) (m ((c.tc : Thread nD τ).loc main_arg5) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ?_) (Value.run m ρ)
  obtain ⟨h1, h2, h3, h4, hr⟩ := h c
  have e := fun i : S4x2x512x704.Idx => sel_eq (BitVec.ofNat 32 (i 1).val) (m ((c.tc : Thread nD τ).loc main_arg2) (ix1 0)) (m ((c.tc : Thread nD τ).loc main_arg0) (ix2 (i 2) (i 3))) (m ((c.tc : Thread nD τ).loc main_arg1) (ix2 (i 2) (i 3)))
  refine ⟨h1.trans (funext fun i => ?_), h2.trans (funext fun i => ?_), h3.trans (funext fun i => ?_), h4.trans (funext fun i => ?_), hr⟩
  · pointwise
    refine (sel_eq _ _ _ _).trans ?_
    exact congrArg (fun g : EReal => if BitVec.ofNat 32 (i 0).val = 0#32 then g else m ((c.tc : Thread nD τ).loc main_arg6) i) (e i)
  · pointwise
    refine (sel_eq _ _ _ _).trans ?_
    exact congrArg (fun g : EReal => if BitVec.ofNat 32 (i 0).val = 0#32 then step (m ((c.tc : Thread nD τ).loc main_arg3) i) g (m ((c.tc : Thread nD τ).loc main_arg4) i) (m ((c.tc : Thread nD τ).loc main_arg5) i) else m ((c.tc : Thread nD τ).loc main_arg7) i) (e i)
  · pointwise
    refine (sel_eq _ _ _ _).trans ?_
    exact congrArg (fun g : EReal => if BitVec.ofNat 32 (i 0).val = 0#32 then mom1 g (m ((c.tc : Thread nD τ).loc main_arg4) i) else m ((c.tc : Thread nD τ).loc main_arg8) i) (e i)
  · pointwise
    refine (sel_eq _ _ _ _).trans ?_
    exact congrArg (fun g : EReal => if BitVec.ofNat 32 (i 0).val = 0#32 then mom2 g (m ((c.tc : Thread nD τ).loc main_arg5) i) else m ((c.tc : Thread nD τ).loc main_arg9) i) (e i)

theorem algebraic : Cert.algebraic_AdamGate0Ideal_AdamGate0RefIdeal := fun m g m' g' _ hag =>
  ⟨fun c => Cert.AdamGate0V.put (m ((c.tc : Thread Cert.AdamGate0Ideal.nD Cert.AdamGate0Ideal.τ).loc Cert.AdamGate0Ideal.main_arg6)) (gr m c), fun c => Cert.AdamGate0V.put (m ((c.tc : Thread Cert.AdamGate0Ideal.nD Cert.AdamGate0Ideal.τ).loc Cert.AdamGate0Ideal.main_arg7)) (de m c), fun c => Cert.AdamGate0V.put (m ((c.tc : Thread Cert.AdamGate0Ideal.nD Cert.AdamGate0Ideal.τ).loc Cert.AdamGate0Ideal.main_arg8)) (mo m c), fun c => Cert.AdamGate0V.put (m ((c.tc : Thread Cert.AdamGate0Ideal.nD Cert.AdamGate0Ideal.τ).loc Cert.AdamGate0Ideal.main_arg9)) (ve m c), run_blocks m g, (θ_run _ _ _).mono (fun r h c => by
      obtain ⟨h0, h1, h2, h3, h4, h5, h6, h7, h8, h9⟩ := hag c
      refine ⟨(h c).1.trans ?_, (h c).2.1.trans ?_, (h c).2.2.1.trans ?_, (h c).2.2.2.1.trans ?_, (h c).2.2.2.2⟩
      · rw [h0, h1, h2, h6]; rfl
      · rw [h0, h1, h2, h3, h4, h5, h7]; rfl
      · rw [h0, h1, h2, h4, h8]; rfl
      · rw [h0, h1, h2, h5, h9]; rfl) (ref_run m' g')⟩

end Cert.AdamGate0V

end
-- ==== Proof.Opt.AdamGate1.lean ====
/-
  One weight's update out of its two halves, part 1 of 4: the call and its reference end with the same four arrays.
-/
module

public import proofs.«01_k».proof.Defs
public import proofs.«01_k».proof.Proof.Gen.AdamGate1Ideal.Frame
public import proofs.«01_k».proof.Proof.Gen.AdamGate1.Frame
public import proofs.«01_k».proof.Proof.Gen.AdamGate1RefIdeal.Run
public import proofs.«01_k».proof.Proof.Opt.Adam
public import Idealize.ShloMosaic.Lib.Pipeline.ValueKit

@[expose] public section

set_option maxRecDepth 16384

noncomputable section

open Idealize.ShloMosaic Idealize.ShloMosaic.TcCoe Idealize.SL.Sem

namespace Cert.AdamGate1V

theorem ok_bits {F : FTy → Type} [FloatOps F] (m : (ℓ : Loc Cert.AdamGate1.nD Cert.AdamGate1.τ Cert.AdamGate1.sig) → Buf (Elt F) ℓ) : Cert.AdamGate1.Gen.Ok m := trivial

open Cert.AdamGate1Ideal Cert.AdamGate1Ideal.Gen Cert.Opt

theorem ok {F : FTy → Type} [FloatOps F] (m : (ℓ : Loc nD τ sig) → Buf (Elt F) ℓ) : Cert.AdamGate1Ideal.Gen.Ok m := trivial

variable (m : (ℓ : Loc nD τ sig) → Buf (Elt Ideal) ℓ)

/-- Any contents of the table: no window's place depends on them. -/
def a0 : (pcfg0 (F := Ideal)).Adm := ⟨fun | ⟨0, _⟩ => fun _ => (0#32 : BitVec 32), trivial⟩

theorem idx_nat : ∀ t : Fin grid0.N, ((cfg0 a0).win 0).index t = ![t.val % 2, 0] ∧ ((cfg0 a0).win 1).index t = ![t.val % 2, 0]
    ∧ ((cfg0 a0).win 5).index t = ![1, t.val / 2, t.val % 2, 0] ∧ (grid0.coords t 0).val = t.val / 2 := by decide +kernel

/-- The blocks of part 1. -/
def Part (β : Fin 4 → ℕ) : Prop := β 0 = 1

instance : DecidablePred Part := fun β => inferInstanceAs (Decidable (β 0 = 1))

theorem covers5 (a : (pcfg0 (F := Ideal)).Adm) : ((cfg0 a).win 5).CoversWhere Part :=
  (by decide +kernel : ((cfg0 a0).win 5).CoversWhere Part)

/-- A part's number as a word. -/
theorem part_word : ∀ j : Fin 4, ¬ j.val = 1 → ¬ BitVec.ofNat 32 j.val = 1#32 := by decide

/-- The array with part 1 new and the rest as it was. -/
def put (old new : S4x2x512x704.Idx → EReal) (j : S4x2x512x704.Idx) : EReal := if BitVec.ofNat 32 (j 0).val = 1#32 then new j else old j

/-- The gradient out of its two halves: the half whose number the word gives is the core's own. -/
def grad (own other : S512x704.Idx → EReal) (half : S1.Idx → BitVec 32) (i : S4x2x512x704.Idx) : EReal :=
  if BitVec.ofNat 32 (i 1).val = half (ix1 0) then own (ix2 (i 2) (i 3)) else other (ix2 (i 2) (i 3))

/-- Where an entry of point `t`'s block lies in the weight. -/
def E (t : Fin grid0.N) (y : S1x1x256x704.Idx) : S4x2x512x704.Idx :=
  ix4 1 ⟨t.val / 2, by have h : t.val < 4 := t.isLt; omega⟩ ⟨t.val % 2 * 256 + (y 2).val, by have h := (y 2).isLt; dsimp at h; omega⟩ (y 3)

theorem emb5 (a : (pcfg0 (F := Ideal)).Adm) (t : Fin grid0.N) (y : S1x1x256x704.Idx) : (((cfg0 a).win 5).blk t).view.emb y = E t y := by
  obtain ⟨e0, e1, e5, ec⟩ := idx_nat t
  refine funext fun ax => Fin.ext ?_
  have h : (((((cfg0 a).win 5).blk t).view.emb y ax : Fin _) : ℕ) = ((cfg0 a0).win 5).index t ax * S1x1x256x704.size ax + 1 * (y ax).val := rfl
  rw [e5] at h
  refine h.trans ?_
  have h0 := (y 0).isLt; have h1 := (y 1).isLt
  dsimp at h0 h1
  fin_cases ax <;> (simp [E, ix4] <;> omega)

theorem rd0 (c : Dev nD) (t : Fin grid0.N) (a : Fin 256) (b : Fin 704) : iblk m (ok m) c 0 t (ix2 a b) =
    m ((c.tc : Thread nD τ).loc main_arg0) (ix2 ⟨t.val % 2 * 256 + a.val, by omega⟩ b) := by
  obtain ⟨e0, e1, e5, ec⟩ := idx_nat t
  refine (congrArg (V m c main_arg0) (funext fun ax => Fin.ext ?_)).trans (congrFun (V_main_arg0 m c) _)
  have h : (((((cfg0 a0).win 0).blk t).view.emb (ix2 a b) ax : Fin _) : ℕ) = ((cfg0 a0).win 0).index t ax * S256x704.size ax + 1 * (ix2 a b ax).val := rfl
  rw [e0] at h
  refine h.trans ?_
  fin_cases ax <;> simp [ix2]

theorem rd1 (c : Dev nD) (t : Fin grid0.N) (a : Fin 256) (b : Fin 704) : iblk m (ok m) c 1 t (ix2 a b) =
    m ((c.tc : Thread nD τ).loc main_arg1) (ix2 ⟨t.val % 2 * 256 + a.val, by omega⟩ b) := by
  obtain ⟨e0, e1, e5, ec⟩ := idx_nat t
  refine (congrArg (V m c main_arg1) (funext fun ax => Fin.ext ?_)).trans (congrFun (V_main_arg1 m c) _)
  have h : (((((cfg0 a0).win 1).blk t).view.emb (ix2 a b) ax : Fin _) : ℕ) = ((cfg0 a0).win 1).index t ax * S256x704.size ax + 1 * (ix2 a b ax).val := rfl
  rw [e1] at h
  refine h.trans ?_
  fin_cases ax <;> simp [ix2]

theorem rd2 (c : Dev nD) (t : Fin grid0.N) (y : S1x1x256x704.Idx) : iblk m (ok m) c 2 t y = m ((c.tc : Thread nD τ).loc main_arg3) (E t y) :=
  (congrArg (V m c main_arg3) (emb5 a0 t y)).trans (congrFun (V_main_arg3 m c) _)

theorem rd3 (c : Dev nD) (t : Fin grid0.N) (y : S1x1x256x704.Idx) : iblk m (ok m) c 3 t y = m ((c.tc : Thread nD τ).loc main_arg4) (E t y) :=
  (congrArg (V m c main_arg4) (emb5 a0 t y)).trans (congrFun (V_main_arg4 m c) _)

theorem rd4 (c : Dev nD) (t : Fin grid0.N) (y : S1x1x256x704.Idx) : iblk m (ok m) c 4 t y = m ((c.tc : Thread nD τ).loc main_arg5) (E t y) :=
  (congrArg (V m c main_arg5) (emb5 a0 t y)).trans (congrFun (V_main_arg5 m c) _)

/-- The gradient at an entry, and what the update makes of it. -/
def gr (c : Dev nD) := grad (m ((c.tc : Thread nD τ).loc main_arg0)) (m ((c.tc : Thread nD τ).loc main_arg1)) (m ((c.tc : Thread nD τ).loc main_arg2))
def de (c : Dev nD) (i : S4x2x512x704.Idx) : EReal := step (m ((c.tc : Thread nD τ).loc main_arg3) i) (gr m c i) (m ((c.tc : Thread nD τ).loc main_arg4) i) (m ((c.tc : Thread nD τ).loc main_arg5) i)
def mo (c : Dev nD) (i : S4x2x512x704.Idx) : EReal := mom1 (gr m c i) (m ((c.tc : Thread nD τ).loc main_arg4) i)
def ve (c : Dev nD) (i : S4x2x512x704.Idx) : EReal := mom2 (gr m c i) (m ((c.tc : Thread nD τ).loc main_arg5) i)

theorem pick (c : Dev nD) (t : Fin grid0.N) (y : S1x1x256x704.Idx) {h : BitVec 32} (eh : h = m ((c.tc : Thread nD τ).loc main_arg2) (ix1 0)) :
    (if BitVec.ofNat 32 (grid0.coords t 0).val = h then iblk m (ok m) c 0 t (ix2 (y 2) (y 3)) else iblk m (ok m) c 1 t (ix2 (y 2) (y 3))) = gr m c (E t y) := by
  obtain ⟨e0, e1, e5, ec⟩ := idx_nat t
  refine (ite_congr rfl (fun _ => rd0 m c t (y 2) (y 3)) (fun _ => rd1 m c t (y 2) (y 3))).trans ?_
  rw [eh, ec]
  rfl

variable {m} in
theorem at5 {c : Dev nD} {t : Fin grid0.N} {y : S1x1x256x704.Idx} {h : BitVec 32} {v2 v3 : Vec Ideal S256x704 .f32}
    (eh : h = m ((c.tc : Thread nD τ).loc main_arg2) (ix1 0)) (e2 : v2 = iblk m (ok m) c 0 t) (e3 : v3 = iblk m (ok m) c 1 t) :
    k0_pay1 (F := Ideal) (k0_pay5 (grid0.coords t) h v2 v3) y = gr m c (E t y) := by
  refine Eq.trans ?_ (pick m c t y eh)
  subst e2 e3
  unfold k0_pay1  k0_pay5
  pointwise
  exact sel_eq _ _ _ _

variable {m} in
theorem at6 {c : Dev nD} {t : Fin grid0.N} {y : S1x1x256x704.Idx} {h : BitVec 32} {v2 v3 : Vec Ideal S256x704 .f32} {v5 v7 v9 : Vec Ideal S1x1x256x704 .f32}
    (eh : h = m ((c.tc : Thread nD τ).loc main_arg2) (ix1 0)) (e2 : v2 = iblk m (ok m) c 0 t) (e3 : v3 = iblk m (ok m) c 1 t) (e5 : v5 = iblk m (ok m) c 2 t) (e7 : v7 = iblk m (ok m) c 3 t) (e9 : v9 = iblk m (ok m) c 4 t) :
    k0_pay2 (F := Ideal) (k0_pay8 (grid0.coords t) h v2 v3 v5 v7 v9) y = de m c (E t y) := by
  unfold de
  rw [← rd2 m, ← rd3 m, ← rd4 m, ← pick m c t y eh]
  subst e2 e3 e5 e7 e9
  unfold k0_pay2 k0_pay8 k0_pay6 k0_pay7 k0_pay5
  pointwise
  exact congrArg (fun g : EReal => step (iblk m (ok m) c 2 t y) g (iblk m (ok m) c 3 t y) (iblk m (ok m) c 4 t y)) (sel_eq _ _ _ _)

variable {m} in
theorem at7 {c : Dev nD} {t : Fin grid0.N} {y : S1x1x256x704.Idx} {h : BitVec 32} {v2 v3 : Vec Ideal S256x704 .f32} {v7 : Vec Ideal S1x1x256x704 .f32}
    (eh : h = m ((c.tc : Thread nD τ).loc main_arg2) (ix1 0)) (e2 : v2 = iblk m (ok m) c 0 t) (e3 : v3 = iblk m (ok m) c 1 t) (e7 : v7 = iblk m (ok m) c 3 t) :
    k0_pay3 (F := Ideal) (k0_pay6 (grid0.coords t) h v2 v3 v7) y = mo m c (E t y) := by
  unfold mo
  rw [← rd3 m, ← pick m c t y eh]
  subst e2 e3 e7
  unfold k0_pay3 k0_pay6 k0_pay5
  pointwise
  exact congrArg (fun g : EReal => mom1 g (iblk m (ok m) c 3 t y)) (sel_eq _ _ _ _)

variable {m} in
theorem at8 {c : Dev nD} {t : Fin grid0.N} {y : S1x1x256x704.Idx} {h : BitVec 32} {v2 v3 : Vec Ideal S256x704 .f32} {v9 : Vec Ideal S1x1x256x704 .f32}
    (eh : h = m ((c.tc : Thread nD τ).loc main_arg2) (ix1 0)) (e2 : v2 = iblk m (ok m) c 0 t) (e3 : v3 = iblk m (ok m) c 1 t) (e9 : v9 = iblk m (ok m) c 4 t) :
    k0_pay4 (F := Ideal) (k0_pay7 (grid0.coords t) h v2 v3 v9) y = ve m c (E t y) := by
  unfold ve
  rw [← rd4 m, ← pick m c t y eh]
  subst e2 e3 e9
  unfold k0_pay4 k0_pay7 k0_pay5
  pointwise
  exact congrArg (fun g : EReal => mom2 g (iblk m (ok m) c 4 t y)) (sel_eq _ _ _ _)

theorem word (c : Dev nD) : View.readAt (Elt Ideal) (View.whole main_arg2) (Rect.unit ![0] ![1] inb_S1_S1_0).toLoadRect (tbl m 0) (Shape.Idx.first (by decide)) = m ((c.tc : Thread nD τ).loc main_arg2) (ix1 0) := by
  obtain rfl : c = 0 := Subsingleton.elim _ _
  refine (congrArg (V m (0 : Dev nD) main_arg2) (funext fun ax => Fin.ext ?_)).trans (congrFun (V_main_arg2 m 0) _)
  fin_cases ax
  rfl

theorem V_old5 (c : Dev nD) : V m c main_v0_0 = m ((c.tc : Thread nD τ).loc main_arg6) := by
  unfold V hostOps0
  after_results_simp
  rfl

theorem final5 (c : Dev nD) : (dats m (ok m) 0 c).arrAt 5 (cfgM m (ok m)).N = put (m ((c.tc : Thread nD τ).loc main_arg6)) (gr m c) := by
  refine (dats m (ok m) 0 c).arrAt_eq_of_coversWhere_of_agree 5 _ Part (covers5 _) (fun t hf y => ?_) (fun (j : S4x2x512x704.Idx) hj => ?_)
  · rw [after0_5]
    unfold outsAt0
    dsimp only
    frame_out
    refine Eq.trans ?_ (congrArg (put (m ((c.tc : Thread nD τ).loc main_arg6)) (gr m c)) (emb5 (adm m (ok m)) t y)).symm
    refine Eq.trans ?_ (if_pos rfl).symm
    exact (at5 (word m c) ((hs0_0 m (ok m) t).read_unread _) ((hs0_1 m (ok m) t).read_unread _))
  · refine (congrFun ((A_eq m (ok m) c 5).trans (V_old5 m c)) _).trans ?_
    exact (if_neg (part_word (j 0) fun hh => hj ((Nat.div_one _).trans hh))).symm

theorem V_old6 (c : Dev nD) : V m c main_v0_1 = m ((c.tc : Thread nD τ).loc main_arg7) := by
  unfold V hostOps0
  after_results_simp
  rfl

theorem final6 (c : Dev nD) : (dats m (ok m) 0 c).arrAt 6 (cfgM m (ok m)).N = put (m ((c.tc : Thread nD τ).loc main_arg7)) (de m c) := by
  refine (dats m (ok m) 0 c).arrAt_eq_of_coversWhere_of_agree 6 _ Part (covers5 _) (fun t hf y => ?_) (fun (j : S4x2x512x704.Idx) hj => ?_)
  · rw [after0_6]
    unfold outsAt0
    dsimp only
    frame_out
    refine Eq.trans ?_ (congrArg (put (m ((c.tc : Thread nD τ).loc main_arg7)) (de m c)) (emb5 (adm m (ok m)) t y)).symm
    refine Eq.trans ?_ (if_pos rfl).symm
    exact (at6 (word m c) ((hs0_0 m (ok m) t).read_unread _) ((hs0_1 m (ok m) t).read_unread _) ((hs0_2 m (ok m) t).read_unread _) ((hs0_3 m (ok m) t).read_unread _) ((hs0_4 m (ok m) t).read_unread _))
  · refine (congrFun ((A_eq m (ok m) c 6).trans (V_old6 m c)) _).trans ?_
    exact (if_neg (part_word (j 0) fun hh => hj ((Nat.div_one _).trans hh))).symm

theorem V_old7 (c : Dev nD) : V m c main_v0_2 = m ((c.tc : Thread nD τ).loc main_arg8) := by
  unfold V hostOps0
  after_results_simp
  rfl

theorem final7 (c : Dev nD) : (dats m (ok m) 0 c).arrAt 7 (cfgM m (ok m)).N = put (m ((c.tc : Thread nD τ).loc main_arg8)) (mo m c) := by
  refine (dats m (ok m) 0 c).arrAt_eq_of_coversWhere_of_agree 7 _ Part (covers5 _) (fun t hf y => ?_) (fun (j : S4x2x512x704.Idx) hj => ?_)
  · rw [after0_7]
    unfold outsAt0
    dsimp only
    frame_out
    refine Eq.trans ?_ (congrArg (put (m ((c.tc : Thread nD τ).loc main_arg8)) (mo m c)) (emb5 (adm m (ok m)) t y)).symm
    refine Eq.trans ?_ (if_pos rfl).symm
    exact (at7 (word m c) ((hs0_0 m (ok m) t).read_unread _) ((hs0_1 m (ok m) t).read_unread _) ((hs0_3 m (ok m) t).read_unread _))
  · refine (congrFun ((A_eq m (ok m) c 7).trans (V_old7 m c)) _).trans ?_
    exact (if_neg (part_word (j 0) fun hh => hj ((Nat.div_one _).trans hh))).symm

theorem V_old8 (c : Dev nD) : V m c main_v0_3 = m ((c.tc : Thread nD τ).loc main_arg9) := by
  unfold V hostOps0
  after_results_simp
  rfl

theorem final8 (c : Dev nD) : (dats m (ok m) 0 c).arrAt 8 (cfgM m (ok m)).N = put (m ((c.tc : Thread nD τ).loc main_arg9)) (ve m c) := by
  refine (dats m (ok m) 0 c).arrAt_eq_of_coversWhere_of_agree 8 _ Part (covers5 _) (fun t hf y => ?_) (fun (j : S4x2x512x704.Idx) hj => ?_)
  · rw [after0_8]
    unfold outsAt0
    dsimp only
    frame_out
    refine Eq.trans ?_ (congrArg (put (m ((c.tc : Thread nD τ).loc main_arg9)) (ve m c)) (emb5 (adm m (ok m)) t y)).symm
    refine Eq.trans ?_ (if_pos rfl).symm
    exact (at8 (word m c) ((hs0_0 m (ok m) t).read_unread _) ((hs0_1 m (ok m) t).read_unread _) ((hs0_4 m (ok m) t).read_unread _))
  · refine (congrFun ((A_eq m (ok m) c 8).trans (V_old8 m c)) _).trans ?_
    exact (if_neg (part_word (j 0) fun hh => hj ((Nat.div_one _).trans hh))).symm

/-- The region's run: the four arrays, and the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v0_0) = put (m ((c.tc : Thread nD τ).loc main_arg6)) (gr m c)
      ∧ r.2.mem ((c.tc : Thread nD τ).loc main_v0_1) = put (m ((c.tc : Thread nD τ).loc main_arg7)) (de m c)
      ∧ r.2.mem ((c.tc : Thread nD τ).loc main_v0_2) = put (m ((c.tc : Thread nD τ).loc main_arg8)) (mo m c)
      ∧ r.2.mem ((c.tc : Thread nD τ).loc main_v0_3) = put (m ((c.tc : Thread nD τ).loc main_arg9)) (ve m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run _ _ _).mono (fun r h c => ⟨((h.1 c).1 5).trans (final5 m c), ((h.1 c).1 6).trans (final6 m c), ((h.1 c).1 7).trans (final7 m c), ((h.1 c).1 8).trans (final8 m c), h.2 c⟩)
    (θ_run_and (run_main m ρ (ok m)) (unchanged m ρ (ok m)))

end Cert.AdamGate1V

namespace Cert.AdamGate1V

open Cert.AdamGate1RefIdeal Cert.Opt

variable (m : (ℓ : Loc nD τ sig) → Buf (Elt Ideal) ℓ)

/-- The reference's run: the same four arrays. -/
theorem ref_run (ρ : Dev nD → PrngReg) :
    θ_run defs (onTc (τ := τ) (main (F := Ideal))) ⟨m, fun _ => 0, ρ⟩ fun r => ∀ c : Dev nD,
      r.2.mem ((c.tc : Thread nD τ).loc main_v37) = put (m ((c.tc : Thread nD τ).loc main_arg6)) (grad (m ((c.tc : Thread nD τ).loc main_arg0)) (m ((c.tc : Thread nD τ).loc main_arg1)) (m ((c.tc : Thread nD τ).loc main_arg2)))
      ∧ r.2.mem ((c.tc : Thread nD τ).loc main_v42) = put (m ((c.tc : Thread nD τ).loc main_arg7)) (fun i => step (m ((c.tc : Thread nD τ).loc main_arg3) i) (grad (m ((c.tc : Thread nD τ).loc main_arg0)) (m ((c.tc : Thread nD τ).loc main_arg1)) (m ((c.tc : Thread nD τ).loc main_arg2)) i) (m ((c.tc : Thread nD τ).loc main_arg4) i) (m ((c.tc : Thread nD τ).loc main_arg5) i))
      ∧ r.2.mem ((c.tc : Thread nD τ).loc main_v47) = put (m ((c.tc : Thread nD τ).loc main_arg8)) (fun i => mom1 (grad (m ((c.tc : Thread nD τ).loc main_arg0)) (m ((c.tc : Thread nD τ).loc main_arg1)) (m ((c.tc : Thread nD τ).loc main_arg2)) i) (m ((c.tc : Thread nD τ).loc main_arg4) i))
      ∧ r.2.mem ((c.tc : Thread nD τ).loc main_v52) = put (m ((c.tc : Thread nD τ).loc main_arg9)) (fun i => mom2 (grad (m ((c.tc : Thread nD τ).loc main_arg0)) (m ((c.tc : Thread nD τ).loc main_arg1)) (m ((c.tc : Thread nD τ).loc main_arg2)) i) (m ((c.tc : Thread nD τ).loc main_arg5) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ?_) (Value.run m ρ)
  obtain ⟨h1, h2, h3, h4, hr⟩ := h c
  have e := fun i : S4x2x512x704.Idx => sel_eq (BitVec.ofNat 32 (i 1).val) (m ((c.tc : Thread nD τ).loc main_arg2) (ix1 0)) (m ((c.tc : Thread nD τ).loc main_arg0) (ix2 (i 2) (i 3))) (m ((c.tc : Thread nD τ).loc main_arg1) (ix2 (i 2) (i 3)))
  refine ⟨h1.trans (funext fun i => ?_), h2.trans (funext fun i => ?_), h3.trans (funext fun i => ?_), h4.trans (funext fun i => ?_), hr⟩
  · pointwise
    refine (sel_eq _ _ _ _).trans ?_
    exact congrArg (fun g : EReal => if BitVec.ofNat 32 (i 0).val = 1#32 then g else m ((c.tc : Thread nD τ).loc main_arg6) i) (e i)
  · pointwise
    refine (sel_eq _ _ _ _).trans ?_
    exact congrArg (fun g : EReal => if BitVec.ofNat 32 (i 0).val = 1#32 then step (m ((c.tc : Thread nD τ).loc main_arg3) i) g (m ((c.tc : Thread nD τ).loc main_arg4) i) (m ((c.tc : Thread nD τ).loc main_arg5) i) else m ((c.tc : Thread nD τ).loc main_arg7) i) (e i)
  · pointwise
    refine (sel_eq _ _ _ _).trans ?_
    exact congrArg (fun g : EReal => if BitVec.ofNat 32 (i 0).val = 1#32 then mom1 g (m ((c.tc : Thread nD τ).loc main_arg4) i) else m ((c.tc : Thread nD τ).loc main_arg8) i) (e i)
  · pointwise
    refine (sel_eq _ _ _ _).trans ?_
    exact congrArg (fun g : EReal => if BitVec.ofNat 32 (i 0).val = 1#32 then mom2 g (m ((c.tc : Thread nD τ).loc main_arg5) i) else m ((c.tc : Thread nD τ).loc main_arg9) i) (e i)

theorem algebraic : Cert.algebraic_AdamGate1Ideal_AdamGate1RefIdeal := fun m g m' g' _ hag =>
  ⟨fun c => Cert.AdamGate1V.put (m ((c.tc : Thread Cert.AdamGate1Ideal.nD Cert.AdamGate1Ideal.τ).loc Cert.AdamGate1Ideal.main_arg6)) (gr m c), fun c => Cert.AdamGate1V.put (m ((c.tc : Thread Cert.AdamGate1Ideal.nD Cert.AdamGate1Ideal.τ).loc Cert.AdamGate1Ideal.main_arg7)) (de m c), fun c => Cert.AdamGate1V.put (m ((c.tc : Thread Cert.AdamGate1Ideal.nD Cert.AdamGate1Ideal.τ).loc Cert.AdamGate1Ideal.main_arg8)) (mo m c), fun c => Cert.AdamGate1V.put (m ((c.tc : Thread Cert.AdamGate1Ideal.nD Cert.AdamGate1Ideal.τ).loc Cert.AdamGate1Ideal.main_arg9)) (ve m c), run_blocks m g, (θ_run _ _ _).mono (fun r h c => by
      obtain ⟨h0, h1, h2, h3, h4, h5, h6, h7, h8, h9⟩ := hag c
      refine ⟨(h c).1.trans ?_, (h c).2.1.trans ?_, (h c).2.2.1.trans ?_, (h c).2.2.2.1.trans ?_, (h c).2.2.2.2⟩
      · rw [h0, h1, h2, h6]; rfl
      · rw [h0, h1, h2, h3, h4, h5, h7]; rfl
      · rw [h0, h1, h2, h4, h8]; rfl
      · rw [h0, h1, h2, h5, h9]; rfl) (ref_run m' g')⟩

end Cert.AdamGate1V

end
-- ==== Proof.Opt.AdamGate2.lean ====
/-
  One weight's update out of its two halves, part 2 of 4: the call and its reference end with the same four arrays.
-/
module

public import proofs.«01_k».proof.Defs
public import proofs.«01_k».proof.Proof.Gen.AdamGate2Ideal.Frame
public import proofs.«01_k».proof.Proof.Gen.AdamGate2.Frame
public import proofs.«01_k».proof.Proof.Gen.AdamGate2RefIdeal.Run
public import proofs.«01_k».proof.Proof.Opt.Adam
public import Idealize.ShloMosaic.Lib.Pipeline.ValueKit

@[expose] public section

set_option maxRecDepth 16384

noncomputable section

open Idealize.ShloMosaic Idealize.ShloMosaic.TcCoe Idealize.SL.Sem

namespace Cert.AdamGate2V

theorem ok_bits {F : FTy → Type} [FloatOps F] (m : (ℓ : Loc Cert.AdamGate2.nD Cert.AdamGate2.τ Cert.AdamGate2.sig) → Buf (Elt F) ℓ) : Cert.AdamGate2.Gen.Ok m := trivial

open Cert.AdamGate2Ideal Cert.AdamGate2Ideal.Gen Cert.Opt

theorem ok {F : FTy → Type} [FloatOps F] (m : (ℓ : Loc nD τ sig) → Buf (Elt F) ℓ) : Cert.AdamGate2Ideal.Gen.Ok m := trivial

variable (m : (ℓ : Loc nD τ sig) → Buf (Elt Ideal) ℓ)

/-- Any contents of the table: no window's place depends on them. -/
def a0 : (pcfg0 (F := Ideal)).Adm := ⟨fun | ⟨0, _⟩ => fun _ => (0#32 : BitVec 32), trivial⟩

theorem idx_nat : ∀ t : Fin grid0.N, ((cfg0 a0).win 0).index t = ![t.val % 2, 0] ∧ ((cfg0 a0).win 1).index t = ![t.val % 2, 0]
    ∧ ((cfg0 a0).win 5).index t = ![2, t.val / 2, t.val % 2, 0] ∧ (grid0.coords t 0).val = t.val / 2 := by decide +kernel

/-- The blocks of part 2. -/
def Part (β : Fin 4 → ℕ) : Prop := β 0 = 2

instance : DecidablePred Part := fun β => inferInstanceAs (Decidable (β 0 = 2))

theorem covers5 (a : (pcfg0 (F := Ideal)).Adm) : ((cfg0 a).win 5).CoversWhere Part :=
  (by decide +kernel : ((cfg0 a0).win 5).CoversWhere Part)

/-- A part's number as a word. -/
theorem part_word : ∀ j : Fin 4, ¬ j.val = 2 → ¬ BitVec.ofNat 32 j.val = 2#32 := by decide

/-- The array with part 2 new and the rest as it was. -/
def put (old new : S4x2x512x704.Idx → EReal) (j : S4x2x512x704.Idx) : EReal := if BitVec.ofNat 32 (j 0).val = 2#32 then new j else old j

/-- The gradient out of its two halves: the half whose number the word gives is the core's own. -/
def grad (own other : S512x704.Idx → EReal) (half : S1.Idx → BitVec 32) (i : S4x2x512x704.Idx) : EReal :=
  if BitVec.ofNat 32 (i 1).val = half (ix1 0) then own (ix2 (i 2) (i 3)) else other (ix2 (i 2) (i 3))

/-- Where an entry of point `t`'s block lies in the weight. -/
def E (t : Fin grid0.N) (y : S1x1x256x704.Idx) : S4x2x512x704.Idx :=
  ix4 2 ⟨t.val / 2, by have h : t.val < 4 := t.isLt; omega⟩ ⟨t.val % 2 * 256 + (y 2).val, by have h := (y 2).isLt; dsimp at h; omega⟩ (y 3)

theorem emb5 (a : (pcfg0 (F := Ideal)).Adm) (t : Fin grid0.N) (y : S1x1x256x704.Idx) : (((cfg0 a).win 5).blk t).view.emb y = E t y := by
  obtain ⟨e0, e1, e5, ec⟩ := idx_nat t
  refine funext fun ax => Fin.ext ?_
  have h : (((((cfg0 a).win 5).blk t).view.emb y ax : Fin _) : ℕ) = ((cfg0 a0).win 5).index t ax * S1x1x256x704.size ax + 1 * (y ax).val := rfl
  rw [e5] at h
  refine h.trans ?_
  have h0 := (y 0).isLt; have h1 := (y 1).isLt
  dsimp at h0 h1
  fin_cases ax <;> (simp [E, ix4] <;> omega)

theorem rd0 (c : Dev nD) (t : Fin grid0.N) (a : Fin 256) (b : Fin 704) : iblk m (ok m) c 0 t (ix2 a b) =
    m ((c.tc : Thread nD τ).loc main_arg0) (ix2 ⟨t.val % 2 * 256 + a.val, by omega⟩ b) := by
  obtain ⟨e0, e1, e5, ec⟩ := idx_nat t
  refine (congrArg (V m c main_arg0) (funext fun ax => Fin.ext ?_)).trans (congrFun (V_main_arg0 m c) _)
  have h : (((((cfg0 a0).win 0).blk t).view.emb (ix2 a b) ax : Fin _) : ℕ) = ((cfg0 a0).win 0).index t ax * S256x704.size ax + 1 * (ix2 a b ax).val := rfl
  rw [e0] at h
  refine h.trans ?_
  fin_cases ax <;> simp [ix2]

theorem rd1 (c : Dev nD) (t : Fin grid0.N) (a : Fin 256) (b : Fin 704) : iblk m (ok m) c 1 t (ix2 a b) =
    m ((c.tc : Thread nD τ).loc main_arg1) (ix2 ⟨t.val % 2 * 256 + a.val, by omega⟩ b) := by
  obtain ⟨e0, e1, e5, ec⟩ := idx_nat t
  refine (congrArg (V m c main_arg1) (funext fun ax => Fin.ext ?_)).trans (congrFun (V_main_arg1 m c) _)
  have h : (((((cfg0 a0).win 1).blk t).view.emb (ix2 a b) ax : Fin _) : ℕ) = ((cfg0 a0).win 1).index t ax * S256x704.size ax + 1 * (ix2 a b ax).val := rfl
  rw [e1] at h
  refine h.trans ?_
  fin_cases ax <;> simp [ix2]

theorem rd2 (c : Dev nD) (t : Fin grid0.N) (y : S1x1x256x704.Idx) : iblk m (ok m) c 2 t y = m ((c.tc : Thread nD τ).loc main_arg3) (E t y) :=
  (congrArg (V m c main_arg3) (emb5 a0 t y)).trans (congrFun (V_main_arg3 m c) _)

theorem rd3 (c : Dev nD) (t : Fin grid0.N) (y : S1x1x256x704.Idx) : iblk m (ok m) c 3 t y = m ((c.tc : Thread nD τ).loc main_arg4) (E t y) :=
  (congrArg (V m c main_arg4) (emb5 a0 t y)).trans (congrFun (V_main_arg4 m c) _)

theorem rd4 (c : Dev nD) (t : Fin grid0.N) (y : S1x1x256x704.Idx) : iblk m (ok m) c 4 t y = m ((c.tc : Thread nD τ).loc main_arg5) (E t y) :=
  (congrArg (V m c main_arg5) (emb5 a0 t y)).trans (congrFun (V_main_arg5 m c) _)

/-- The gradient at an entry, and what the update makes of it. -/
def gr (c : Dev nD) := grad (m ((c.tc : Thread nD τ).loc main_arg0)) (m ((c.tc : Thread nD τ).loc main_arg1)) (m ((c.tc : Thread nD τ).loc main_arg2))
def de (c : Dev nD) (i : S4x2x512x704.Idx) : EReal := step (m ((c.tc : Thread nD τ).loc main_arg3) i) (gr m c i) (m ((c.tc : Thread nD τ).loc main_arg4) i) (m ((c.tc : Thread nD τ).loc main_arg5) i)
def mo (c : Dev nD) (i : S4x2x512x704.Idx) : EReal := mom1 (gr m c i) (m ((c.tc : Thread nD τ).loc main_arg4) i)
def ve (c : Dev nD) (i : S4x2x512x704.Idx) : EReal := mom2 (gr m c i) (m ((c.tc : Thread nD τ).loc main_arg5) i)

theorem pick (c : Dev nD) (t : Fin grid0.N) (y : S1x1x256x704.Idx) {h : BitVec 32} (eh : h = m ((c.tc : Thread nD τ).loc main_arg2) (ix1 0)) :
    (if BitVec.ofNat 32 (grid0.coords t 0).val = h then iblk m (ok m) c 0 t (ix2 (y 2) (y 3)) else iblk m (ok m) c 1 t (ix2 (y 2) (y 3))) = gr m c (E t y) := by
  obtain ⟨e0, e1, e5, ec⟩ := idx_nat t
  refine (ite_congr rfl (fun _ => rd0 m c t (y 2) (y 3)) (fun _ => rd1 m c t (y 2) (y 3))).trans ?_
  rw [eh, ec]
  rfl

variable {m} in
theorem at5 {c : Dev nD} {t : Fin grid0.N} {y : S1x1x256x704.Idx} {h : BitVec 32} {v2 v3 : Vec Ideal S256x704 .f32}
    (eh : h = m ((c.tc : Thread nD τ).loc main_arg2) (ix1 0)) (e2 : v2 = iblk m (ok m) c 0 t) (e3 : v3 = iblk m (ok m) c 1 t) :
    k0_pay1 (F := Ideal) (k0_pay5 (grid0.coords t) h v2 v3) y = gr m c (E t y) := by
  refine Eq.trans ?_ (pick m c t y eh)
  subst e2 e3
  unfold k0_pay1  k0_pay5
  pointwise
  exact sel_eq _ _ _ _

variable {m} in
theorem at6 {c : Dev nD} {t : Fin grid0.N} {y : S1x1x256x704.Idx} {h : BitVec 32} {v2 v3 : Vec Ideal S256x704 .f32} {v5 v7 v9 : Vec Ideal S1x1x256x704 .f32}
    (eh : h = m ((c.tc : Thread nD τ).loc main_arg2) (ix1 0)) (e2 : v2 = iblk m (ok m) c 0 t) (e3 : v3 = iblk m (ok m) c 1 t) (e5 : v5 = iblk m (ok m) c 2 t) (e7 : v7 = iblk m (ok m) c 3 t) (e9 : v9 = iblk m (ok m) c 4 t) :
    k0_pay2 (F := Ideal) (k0_pay8 (grid0.coords t) h v2 v3 v5 v7 v9) y = de m c (E t y) := by
  unfold de
  rw [← rd2 m, ← rd3 m, ← rd4 m, ← pick m c t y eh]
  subst e2 e3 e5 e7 e9
  unfold k0_pay2 k0_pay8 k0_pay6 k0_pay7 k0_pay5
  pointwise
  exact congrArg (fun g : EReal => step (iblk m (ok m) c 2 t y) g (iblk m (ok m) c 3 t y) (iblk m (ok m) c 4 t y)) (sel_eq _ _ _ _)

variable {m} in
theorem at7 {c : Dev nD} {t : Fin grid0.N} {y : S1x1x256x704.Idx} {h : BitVec 32} {v2 v3 : Vec Ideal S256x704 .f32} {v7 : Vec Ideal S1x1x256x704 .f32}
    (eh : h = m ((c.tc : Thread nD τ).loc main_arg2) (ix1 0)) (e2 : v2 = iblk m (ok m) c 0 t) (e3 : v3 = iblk m (ok m) c 1 t) (e7 : v7 = iblk m (ok m) c 3 t) :
    k0_pay3 (F := Ideal) (k0_pay6 (grid0.coords t) h v2 v3 v7) y = mo m c (E t y) := by
  unfold mo
  rw [← rd3 m, ← pick m c t y eh]
  subst e2 e3 e7
  unfold k0_pay3 k0_pay6 k0_pay5
  pointwise
  exact congrArg (fun g : EReal => mom1 g (iblk m (ok m) c 3 t y)) (sel_eq _ _ _ _)

variable {m} in
theorem at8 {c : Dev nD} {t : Fin grid0.N} {y : S1x1x256x704.Idx} {h : BitVec 32} {v2 v3 : Vec Ideal S256x704 .f32} {v9 : Vec Ideal S1x1x256x704 .f32}
    (eh : h = m ((c.tc : Thread nD τ).loc main_arg2) (ix1 0)) (e2 : v2 = iblk m (ok m) c 0 t) (e3 : v3 = iblk m (ok m) c 1 t) (e9 : v9 = iblk m (ok m) c 4 t) :
    k0_pay4 (F := Ideal) (k0_pay7 (grid0.coords t) h v2 v3 v9) y = ve m c (E t y) := by
  unfold ve
  rw [← rd4 m, ← pick m c t y eh]
  subst e2 e3 e9
  unfold k0_pay4 k0_pay7 k0_pay5
  pointwise
  exact congrArg (fun g : EReal => mom2 g (iblk m (ok m) c 4 t y)) (sel_eq _ _ _ _)

theorem word (c : Dev nD) : View.readAt (Elt Ideal) (View.whole main_arg2) (Rect.unit ![0] ![1] inb_S1_S1_0).toLoadRect (tbl m 0) (Shape.Idx.first (by decide)) = m ((c.tc : Thread nD τ).loc main_arg2) (ix1 0) := by
  obtain rfl : c = 0 := Subsingleton.elim _ _
  refine (congrArg (V m (0 : Dev nD) main_arg2) (funext fun ax => Fin.ext ?_)).trans (congrFun (V_main_arg2 m 0) _)
  fin_cases ax
  rfl

theorem V_old5 (c : Dev nD) : V m c main_v0_0 = m ((c.tc : Thread nD τ).loc main_arg6) := by
  unfold V hostOps0
  after_results_simp
  rfl

theorem final5 (c : Dev nD) : (dats m (ok m) 0 c).arrAt 5 (cfgM m (ok m)).N = put (m ((c.tc : Thread nD τ).loc main_arg6)) (gr m c) := by
  refine (dats m (ok m) 0 c).arrAt_eq_of_coversWhere_of_agree 5 _ Part (covers5 _) (fun t hf y => ?_) (fun (j : S4x2x512x704.Idx) hj => ?_)
  · rw [after0_5]
    unfold outsAt0
    dsimp only
    frame_out
    refine Eq.trans ?_ (congrArg (put (m ((c.tc : Thread nD τ).loc main_arg6)) (gr m c)) (emb5 (adm m (ok m)) t y)).symm
    refine Eq.trans ?_ (if_pos rfl).symm
    exact (at5 (word m c) ((hs0_0 m (ok m) t).read_unread _) ((hs0_1 m (ok m) t).read_unread _))
  · refine (congrFun ((A_eq m (ok m) c 5).trans (V_old5 m c)) _).trans ?_
    exact (if_neg (part_word (j 0) fun hh => hj ((Nat.div_one _).trans hh))).symm

theorem V_old6 (c : Dev nD) : V m c main_v0_1 = m ((c.tc : Thread nD τ).loc main_arg7) := by
  unfold V hostOps0
  after_results_simp
  rfl

theorem final6 (c : Dev nD) : (dats m (ok m) 0 c).arrAt 6 (cfgM m (ok m)).N = put (m ((c.tc : Thread nD τ).loc main_arg7)) (de m c) := by
  refine (dats m (ok m) 0 c).arrAt_eq_of_coversWhere_of_agree 6 _ Part (covers5 _) (fun t hf y => ?_) (fun (j : S4x2x512x704.Idx) hj => ?_)
  · rw [after0_6]
    unfold outsAt0
    dsimp only
    frame_out
    refine Eq.trans ?_ (congrArg (put (m ((c.tc : Thread nD τ).loc main_arg7)) (de m c)) (emb5 (adm m (ok m)) t y)).symm
    refine Eq.trans ?_ (if_pos rfl).symm
    exact (at6 (word m c) ((hs0_0 m (ok m) t).read_unread _) ((hs0_1 m (ok m) t).read_unread _) ((hs0_2 m (ok m) t).read_unread _) ((hs0_3 m (ok m) t).read_unread _) ((hs0_4 m (ok m) t).read_unread _))
  · refine (congrFun ((A_eq m (ok m) c 6).trans (V_old6 m c)) _).trans ?_
    exact (if_neg (part_word (j 0) fun hh => hj ((Nat.div_one _).trans hh))).symm

theorem V_old7 (c : Dev nD) : V m c main_v0_2 = m ((c.tc : Thread nD τ).loc main_arg8) := by
  unfold V hostOps0
  after_results_simp
  rfl

theorem final7 (c : Dev nD) : (dats m (ok m) 0 c).arrAt 7 (cfgM m (ok m)).N = put (m ((c.tc : Thread nD τ).loc main_arg8)) (mo m c) := by
  refine (dats m (ok m) 0 c).arrAt_eq_of_coversWhere_of_agree 7 _ Part (covers5 _) (fun t hf y => ?_) (fun (j : S4x2x512x704.Idx) hj => ?_)
  · rw [after0_7]
    unfold outsAt0
    dsimp only
    frame_out
    refine Eq.trans ?_ (congrArg (put (m ((c.tc : Thread nD τ).loc main_arg8)) (mo m c)) (emb5 (adm m (ok m)) t y)).symm
    refine Eq.trans ?_ (if_pos rfl).symm
    exact (at7 (word m c) ((hs0_0 m (ok m) t).read_unread _) ((hs0_1 m (ok m) t).read_unread _) ((hs0_3 m (ok m) t).read_unread _))
  · refine (congrFun ((A_eq m (ok m) c 7).trans (V_old7 m c)) _).trans ?_
    exact (if_neg (part_word (j 0) fun hh => hj ((Nat.div_one _).trans hh))).symm

theorem V_old8 (c : Dev nD) : V m c main_v0_3 = m ((c.tc : Thread nD τ).loc main_arg9) := by
  unfold V hostOps0
  after_results_simp
  rfl

theorem final8 (c : Dev nD) : (dats m (ok m) 0 c).arrAt 8 (cfgM m (ok m)).N = put (m ((c.tc : Thread nD τ).loc main_arg9)) (ve m c) := by
  refine (dats m (ok m) 0 c).arrAt_eq_of_coversWhere_of_agree 8 _ Part (covers5 _) (fun t hf y => ?_) (fun (j : S4x2x512x704.Idx) hj => ?_)
  · rw [after0_8]
    unfold outsAt0
    dsimp only
    frame_out
    refine Eq.trans ?_ (congrArg (put (m ((c.tc : Thread nD τ).loc main_arg9)) (ve m c)) (emb5 (adm m (ok m)) t y)).symm
    refine Eq.trans ?_ (if_pos rfl).symm
    exact (at8 (word m c) ((hs0_0 m (ok m) t).read_unread _) ((hs0_1 m (ok m) t).read_unread _) ((hs0_4 m (ok m) t).read_unread _))
  · refine (congrFun ((A_eq m (ok m) c 8).trans (V_old8 m c)) _).trans ?_
    exact (if_neg (part_word (j 0) fun hh => hj ((Nat.div_one _).trans hh))).symm

/-- The region's run: the four arrays, and the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v0_0) = put (m ((c.tc : Thread nD τ).loc main_arg6)) (gr m c)
      ∧ r.2.mem ((c.tc : Thread nD τ).loc main_v0_1) = put (m ((c.tc : Thread nD τ).loc main_arg7)) (de m c)
      ∧ r.2.mem ((c.tc : Thread nD τ).loc main_v0_2) = put (m ((c.tc : Thread nD τ).loc main_arg8)) (mo m c)
      ∧ r.2.mem ((c.tc : Thread nD τ).loc main_v0_3) = put (m ((c.tc : Thread nD τ).loc main_arg9)) (ve m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run _ _ _).mono (fun r h c => ⟨((h.1 c).1 5).trans (final5 m c), ((h.1 c).1 6).trans (final6 m c), ((h.1 c).1 7).trans (final7 m c), ((h.1 c).1 8).trans (final8 m c), h.2 c⟩)
    (θ_run_and (run_main m ρ (ok m)) (unchanged m ρ (ok m)))

end Cert.AdamGate2V

namespace Cert.AdamGate2V

open Cert.AdamGate2RefIdeal Cert.Opt

variable (m : (ℓ : Loc nD τ sig) → Buf (Elt Ideal) ℓ)

/-- The reference's run: the same four arrays. -/
theorem ref_run (ρ : Dev nD → PrngReg) :
    θ_run defs (onTc (τ := τ) (main (F := Ideal))) ⟨m, fun _ => 0, ρ⟩ fun r => ∀ c : Dev nD,
      r.2.mem ((c.tc : Thread nD τ).loc main_v37) = put (m ((c.tc : Thread nD τ).loc main_arg6)) (grad (m ((c.tc : Thread nD τ).loc main_arg0)) (m ((c.tc : Thread nD τ).loc main_arg1)) (m ((c.tc : Thread nD τ).loc main_arg2)))
      ∧ r.2.mem ((c.tc : Thread nD τ).loc main_v42) = put (m ((c.tc : Thread nD τ).loc main_arg7)) (fun i => step (m ((c.tc : Thread nD τ).loc main_arg3) i) (grad (m ((c.tc : Thread nD τ).loc main_arg0)) (m ((c.tc : Thread nD τ).loc main_arg1)) (m ((c.tc : Thread nD τ).loc main_arg2)) i) (m ((c.tc : Thread nD τ).loc main_arg4) i) (m ((c.tc : Thread nD τ).loc main_arg5) i))
      ∧ r.2.mem ((c.tc : Thread nD τ).loc main_v47) = put (m ((c.tc : Thread nD τ).loc main_arg8)) (fun i => mom1 (grad (m ((c.tc : Thread nD τ).loc main_arg0)) (m ((c.tc : Thread nD τ).loc main_arg1)) (m ((c.tc : Thread nD τ).loc main_arg2)) i) (m ((c.tc : Thread nD τ).loc main_arg4) i))
      ∧ r.2.mem ((c.tc : Thread nD τ).loc main_v52) = put (m ((c.tc : Thread nD τ).loc main_arg9)) (fun i => mom2 (grad (m ((c.tc : Thread nD τ).loc main_arg0)) (m ((c.tc : Thread nD τ).loc main_arg1)) (m ((c.tc : Thread nD τ).loc main_arg2)) i) (m ((c.tc : Thread nD τ).loc main_arg5) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ?_) (Value.run m ρ)
  obtain ⟨h1, h2, h3, h4, hr⟩ := h c
  have e := fun i : S4x2x512x704.Idx => sel_eq (BitVec.ofNat 32 (i 1).val) (m ((c.tc : Thread nD τ).loc main_arg2) (ix1 0)) (m ((c.tc : Thread nD τ).loc main_arg0) (ix2 (i 2) (i 3))) (m ((c.tc : Thread nD τ).loc main_arg1) (ix2 (i 2) (i 3)))
  refine ⟨h1.trans (funext fun i => ?_), h2.trans (funext fun i => ?_), h3.trans (funext fun i => ?_), h4.trans (funext fun i => ?_), hr⟩
  · pointwise
    refine (sel_eq _ _ _ _).trans ?_
    exact congrArg (fun g : EReal => if BitVec.ofNat 32 (i 0).val = 2#32 then g else m ((c.tc : Thread nD τ).loc main_arg6) i) (e i)
  · pointwise
    refine (sel_eq _ _ _ _).trans ?_
    exact congrArg (fun g : EReal => if BitVec.ofNat 32 (i 0).val = 2#32 then step (m ((c.tc : Thread nD τ).loc main_arg3) i) g (m ((c.tc : Thread nD τ).loc main_arg4) i) (m ((c.tc : Thread nD τ).loc main_arg5) i) else m ((c.tc : Thread nD τ).loc main_arg7) i) (e i)
  · pointwise
    refine (sel_eq _ _ _ _).trans ?_
    exact congrArg (fun g : EReal => if BitVec.ofNat 32 (i 0).val = 2#32 then mom1 g (m ((c.tc : Thread nD τ).loc main_arg4) i) else m ((c.tc : Thread nD τ).loc main_arg8) i) (e i)
  · pointwise
    refine (sel_eq _ _ _ _).trans ?_
    exact congrArg (fun g : EReal => if BitVec.ofNat 32 (i 0).val = 2#32 then mom2 g (m ((c.tc : Thread nD τ).loc main_arg5) i) else m ((c.tc : Thread nD τ).loc main_arg9) i) (e i)

theorem algebraic : Cert.algebraic_AdamGate2Ideal_AdamGate2RefIdeal := fun m g m' g' _ hag =>
  ⟨fun c => Cert.AdamGate2V.put (m ((c.tc : Thread Cert.AdamGate2Ideal.nD Cert.AdamGate2Ideal.τ).loc Cert.AdamGate2Ideal.main_arg6)) (gr m c), fun c => Cert.AdamGate2V.put (m ((c.tc : Thread Cert.AdamGate2Ideal.nD Cert.AdamGate2Ideal.τ).loc Cert.AdamGate2Ideal.main_arg7)) (de m c), fun c => Cert.AdamGate2V.put (m ((c.tc : Thread Cert.AdamGate2Ideal.nD Cert.AdamGate2Ideal.τ).loc Cert.AdamGate2Ideal.main_arg8)) (mo m c), fun c => Cert.AdamGate2V.put (m ((c.tc : Thread Cert.AdamGate2Ideal.nD Cert.AdamGate2Ideal.τ).loc Cert.AdamGate2Ideal.main_arg9)) (ve m c), run_blocks m g, (θ_run _ _ _).mono (fun r h c => by
      obtain ⟨h0, h1, h2, h3, h4, h5, h6, h7, h8, h9⟩ := hag c
      refine ⟨(h c).1.trans ?_, (h c).2.1.trans ?_, (h c).2.2.1.trans ?_, (h c).2.2.2.1.trans ?_, (h c).2.2.2.2⟩
      · rw [h0, h1, h2, h6]; rfl
      · rw [h0, h1, h2, h3, h4, h5, h7]; rfl
      · rw [h0, h1, h2, h4, h8]; rfl
      · rw [h0, h1, h2, h5, h9]; rfl) (ref_run m' g')⟩

end Cert.AdamGate2V

end
-- ==== Proof.Opt.AdamGate3.lean ====
/-
  One weight's update out of its two halves, part 3 of 4: the call and its reference end with the same four arrays.
-/
module

public import proofs.«01_k».proof.Defs
public import proofs.«01_k».proof.Proof.Gen.AdamGate3Ideal.Frame
public import proofs.«01_k».proof.Proof.Gen.AdamGate3.Frame
public import proofs.«01_k».proof.Proof.Gen.AdamGate3RefIdeal.Run
public import proofs.«01_k».proof.Proof.Opt.Adam
public import Idealize.ShloMosaic.Lib.Pipeline.ValueKit

@[expose] public section

set_option maxRecDepth 16384

noncomputable section

open Idealize.ShloMosaic Idealize.ShloMosaic.TcCoe Idealize.SL.Sem

namespace Cert.AdamGate3V

theorem ok_bits {F : FTy → Type} [FloatOps F] (m : (ℓ : Loc Cert.AdamGate3.nD Cert.AdamGate3.τ Cert.AdamGate3.sig) → Buf (Elt F) ℓ) : Cert.AdamGate3.Gen.Ok m := trivial

open Cert.AdamGate3Ideal Cert.AdamGate3Ideal.Gen Cert.Opt

theorem ok {F : FTy → Type} [FloatOps F] (m : (ℓ : Loc nD τ sig) → Buf (Elt F) ℓ) : Cert.AdamGate3Ideal.Gen.Ok m := trivial

variable (m : (ℓ : Loc nD τ sig) → Buf (Elt Ideal) ℓ)

/-- Any contents of the table: no window's place depends on them. -/
def a0 : (pcfg0 (F := Ideal)).Adm := ⟨fun | ⟨0, _⟩ => fun _ => (0#32 : BitVec 32), trivial⟩

theorem idx_nat : ∀ t : Fin grid0.N, ((cfg0 a0).win 0).index t = ![t.val % 2, 0] ∧ ((cfg0 a0).win 1).index t = ![t.val % 2, 0]
    ∧ ((cfg0 a0).win 5).index t = ![3, t.val / 2, t.val % 2, 0] ∧ (grid0.coords t 0).val = t.val / 2 := by decide +kernel

/-- The blocks of part 3. -/
def Part (β : Fin 4 → ℕ) : Prop := β 0 = 3

instance : DecidablePred Part := fun β => inferInstanceAs (Decidable (β 0 = 3))

theorem covers5 (a : (pcfg0 (F := Ideal)).Adm) : ((cfg0 a).win 5).CoversWhere Part :=
  (by decide +kernel : ((cfg0 a0).win 5).CoversWhere Part)

/-- A part's number as a word. -/
theorem part_word : ∀ j : Fin 4, ¬ j.val = 3 → ¬ BitVec.ofNat 32 j.val = 3#32 := by decide

/-- The array with part 3 new and the rest as it was. -/
def put (old new : S4x2x512x704.Idx → EReal) (j : S4x2x512x704.Idx) : EReal := if BitVec.ofNat 32 (j 0).val = 3#32 then new j else old j

/-- The gradient out of its two halves: the half whose number the word gives is the core's own. -/
def grad (own other : S512x704.Idx → EReal) (half : S1.Idx → BitVec 32) (i : S4x2x512x704.Idx) : EReal :=
  if BitVec.ofNat 32 (i 1).val = half (ix1 0) then own (ix2 (i 2) (i 3)) else other (ix2 (i 2) (i 3))

/-- Where an entry of point `t`'s block lies in the weight. -/
def E (t : Fin grid0.N) (y : S1x1x256x704.Idx) : S4x2x512x704.Idx :=
  ix4 3 ⟨t.val / 2, by have h : t.val < 4 := t.isLt; omega⟩ ⟨t.val % 2 * 256 + (y 2).val, by have h := (y 2).isLt; dsimp at h; omega⟩ (y 3)

theorem emb5 (a : (pcfg0 (F := Ideal)).Adm) (t : Fin grid0.N) (y : S1x1x256x704.Idx) : (((cfg0 a).win 5).blk t).view.emb y = E t y := by
  obtain ⟨e0, e1, e5, ec⟩ := idx_nat t
  refine funext fun ax => Fin.ext ?_
  have h : (((((cfg0 a).win 5).blk t).view.emb y ax : Fin _) : ℕ) = ((cfg0 a0).win 5).index t ax * S1x1x256x704.size ax + 1 * (y ax).val := rfl
  rw [e5] at h
  refine h.trans ?_
  have h0 := (y 0).isLt; have h1 := (y 1).isLt
  dsimp at h0 h1
  fin_cases ax <;> (simp [E, ix4] <;> omega)

theorem rd0 (c : Dev nD) (t : Fin grid0.N) (a : Fin 256) (b : Fin 704) : iblk m (ok m) c 0 t (ix2 a b) =
    m ((c.tc : Thread nD τ).loc main_arg0) (ix2 ⟨t.val % 2 * 256 + a.val, by omega⟩ b) := by
  obtain ⟨e0, e1, e5, ec⟩ := idx_nat t
  refine (congrArg (V m c main_arg0) (funext fun ax => Fin.ext ?_)).trans (congrFun (V_main_arg0 m c) _)
  have h : (((((cfg0 a0).win 0).blk t).view.emb (ix2 a b) ax : Fin _) : ℕ) = ((cfg0 a0).win 0).index t ax * S256x704.size ax + 1 * (ix2 a b ax).val := rfl
  rw [e0] at h
  refine h.trans ?_
  fin_cases ax <;> simp [ix2]

theorem rd1 (c : Dev nD) (t : Fin grid0.N) (a : Fin 256) (b : Fin 704) : iblk m (ok m) c 1 t (ix2 a b) =
    m ((c.tc : Thread nD τ).loc main_arg1) (ix2 ⟨t.val % 2 * 256 + a.val, by omega⟩ b) := by
  obtain ⟨e0, e1, e5, ec⟩ := idx_nat t
  refine (congrArg (V m c main_arg1) (funext fun ax => Fin.ext ?_)).trans (congrFun (V_main_arg1 m c) _)
  have h : (((((cfg0 a0).win 1).blk t).view.emb (ix2 a b) ax : Fin _) : ℕ) = ((cfg0 a0).win 1).index t ax * S256x704.size ax + 1 * (ix2 a b ax).val := rfl
  rw [e1] at h
  refine h.trans ?_
  fin_cases ax <;> simp [ix2]

theorem rd2 (c : Dev nD) (t : Fin grid0.N) (y : S1x1x256x704.Idx) : iblk m (ok m) c 2 t y = m ((c.tc : Thread nD τ).loc main_arg3) (E t y) :=
  (congrArg (V m c main_arg3) (emb5 a0 t y)).trans (congrFun (V_main_arg3 m c) _)

theorem rd3 (c : Dev nD) (t : Fin grid0.N) (y : S1x1x256x704.Idx) : iblk m (ok m) c 3 t y = m ((c.tc : Thread nD τ).loc main_arg4) (E t y) :=
  (congrArg (V m c main_arg4) (emb5 a0 t y)).trans (congrFun (V_main_arg4 m c) _)

theorem rd4 (c : Dev nD) (t : Fin grid0.N) (y : S1x1x256x704.Idx) : iblk m (ok m) c 4 t y = m ((c.tc : Thread nD τ).loc main_arg5) (E t y) :=
  (congrArg (V m c main_arg5) (emb5 a0 t y)).trans (congrFun (V_main_arg5 m c) _)

/-- The gradient at an entry, and what the update makes of it. -/
def gr (c : Dev nD) := grad (m ((c.tc : Thread nD τ).loc main_arg0)) (m ((c.tc : Thread nD τ).loc main_arg1)) (m ((c.tc : Thread nD τ).loc main_arg2))
def de (c : Dev nD) (i : S4x2x512x704.Idx) : EReal := step (m ((c.tc : Thread nD τ).loc main_arg3) i) (gr m c i) (m ((c.tc : Thread nD τ).loc main_arg4) i) (m ((c.tc : Thread nD τ).loc main_arg5) i)
def mo (c : Dev nD) (i : S4x2x512x704.Idx) : EReal := mom1 (gr m c i) (m ((c.tc : Thread nD τ).loc main_arg4) i)
def ve (c : Dev nD) (i : S4x2x512x704.Idx) : EReal := mom2 (gr m c i) (m ((c.tc : Thread nD τ).loc main_arg5) i)

theorem pick (c : Dev nD) (t : Fin grid0.N) (y : S1x1x256x704.Idx) {h : BitVec 32} (eh : h = m ((c.tc : Thread nD τ).loc main_arg2) (ix1 0)) :
    (if BitVec.ofNat 32 (grid0.coords t 0).val = h then iblk m (ok m) c 0 t (ix2 (y 2) (y 3)) else iblk m (ok m) c 1 t (ix2 (y 2) (y 3))) = gr m c (E t y) := by
  obtain ⟨e0, e1, e5, ec⟩ := idx_nat t
  refine (ite_congr rfl (fun _ => rd0 m c t (y 2) (y 3)) (fun _ => rd1 m c t (y 2) (y 3))).trans ?_
  rw [eh, ec]
  rfl

variable {m} in
theorem at5 {c : Dev nD} {t : Fin grid0.N} {y : S1x1x256x704.Idx} {h : BitVec 32} {v2 v3 : Vec Ideal S256x704 .f32}
    (eh : h = m ((c.tc : Thread nD τ).loc main_arg2) (ix1 0)) (e2 : v2 = iblk m (ok m) c 0 t) (e3 : v3 = iblk m (ok m) c 1 t) :
    k0_pay1 (F := Ideal) (k0_pay5 (grid0.coords t) h v2 v3) y = gr m c (E t y) := by
  refine Eq.trans ?_ (pick m c t y eh)
  subst e2 e3
  unfold k0_pay1  k0_pay5
  pointwise
  exact sel_eq _ _ _ _

variable {m} in
theorem at6 {c : Dev nD} {t : Fin grid0.N} {y : S1x1x256x704.Idx} {h : BitVec 32} {v2 v3 : Vec Ideal S256x704 .f32} {v5 v7 v9 : Vec Ideal S1x1x256x704 .f32}
    (eh : h = m ((c.tc : Thread nD τ).loc main_arg2) (ix1 0)) (e2 : v2 = iblk m (ok m) c 0 t) (e3 : v3 = iblk m (ok m) c 1 t) (e5 : v5 = iblk m (ok m) c 2 t) (e7 : v7 = iblk m (ok m) c 3 t) (e9 : v9 = iblk m (ok m) c 4 t) :
    k0_pay2 (F := Ideal) (k0_pay8 (grid0.coords t) h v2 v3 v5 v7 v9) y = de m c (E t y) := by
  unfold de
  rw [← rd2 m, ← rd3 m, ← rd4 m, ← pick m c t y eh]
  subst e2 e3 e5 e7 e9
  unfold k0_pay2 k0_pay8 k0_pay6 k0_pay7 k0_pay5
  pointwise
  exact congrArg (fun g : EReal => step (iblk m (ok m) c 2 t y) g (iblk m (ok m) c 3 t y) (iblk m (ok m) c 4 t y)) (sel_eq _ _ _ _)

variable {m} in
theorem at7 {c : Dev nD} {t : Fin grid0.N} {y : S1x1x256x704.Idx} {h : BitVec 32} {v2 v3 : Vec Ideal S256x704 .f32} {v7 : Vec Ideal S1x1x256x704 .f32}
    (eh : h = m ((c.tc : Thread nD τ).loc main_arg2) (ix1 0)) (e2 : v2 = iblk m (ok m) c 0 t) (e3 : v3 = iblk m (ok m) c 1 t) (e7 : v7 = iblk m (ok m) c 3 t) :
    k0_pay3 (F := Ideal) (k0_pay6 (grid0.coords t) h v2 v3 v7) y = mo m c (E t y) := by
  unfold mo
  rw [← rd3 m, ← pick m c t y eh]
  subst e2 e3 e7
  unfold k0_pay3 k0_pay6 k0_pay5
  pointwise
  exact congrArg (fun g : EReal => mom1 g (iblk m (ok m) c 3 t y)) (sel_eq _ _ _ _)

variable {m} in
theorem at8 {c : Dev nD} {t : Fin grid0.N} {y : S1x1x256x704.Idx} {h : BitVec 32} {v2 v3 : Vec Ideal S256x704 .f32} {v9 : Vec Ideal S1x1x256x704 .f32}
    (eh : h = m ((c.tc : Thread nD τ).loc main_arg2) (ix1 0)) (e2 : v2 = iblk m (ok m) c 0 t) (e3 : v3 = iblk m (ok m) c 1 t) (e9 : v9 = iblk m (ok m) c 4 t) :
    k0_pay4 (F := Ideal) (k0_pay7 (grid0.coords t) h v2 v3 v9) y = ve m c (E t y) := by
  unfold ve
  rw [← rd4 m, ← pick m c t y eh]
  subst e2 e3 e9
  unfold k0_pay4 k0_pay7 k0_pay5
  pointwise
  exact congrArg (fun g : EReal => mom2 g (iblk m (ok m) c 4 t y)) (sel_eq _ _ _ _)

theorem word (c : Dev nD) : View.readAt (Elt Ideal) (View.whole main_arg2) (Rect.unit ![0] ![1] inb_S1_S1_0).toLoadRect (tbl m 0) (Shape.Idx.first (by decide)) = m ((c.tc : Thread nD τ).loc main_arg2) (ix1 0) := by
  obtain rfl : c = 0 := Subsingleton.elim _ _
  refine (congrArg (V m (0 : Dev nD) main_arg2) (funext fun ax => Fin.ext ?_)).trans (congrFun (V_main_arg2 m 0) _)
  fin_cases ax
  rfl

theorem V_old5 (c : Dev nD) : V m c main_v0_0 = m ((c.tc : Thread nD τ).loc main_arg6) := by
  unfold V hostOps0
  after_results_simp
  rfl

theorem final5 (c : Dev nD) : (dats m (ok m) 0 c).arrAt 5 (cfgM m (ok m)).N = put (m ((c.tc : Thread nD τ).loc main_arg6)) (gr m c) := by
  refine (dats m (ok m) 0 c).arrAt_eq_of_coversWhere_of_agree 5 _ Part (covers5 _) (fun t hf y => ?_) (fun (j : S4x2x512x704.Idx) hj => ?_)
  · rw [after0_5]
    unfold outsAt0
    dsimp only
    frame_out
    refine Eq.trans ?_ (congrArg (put (m ((c.tc : Thread nD τ).loc main_arg6)) (gr m c)) (emb5 (adm m (ok m)) t y)).symm
    refine Eq.trans ?_ (if_pos rfl).symm
    exact (at5 (word m c) ((hs0_0 m (ok m) t).read_unread _) ((hs0_1 m (ok m) t).read_unread _))
  · refine (congrFun ((A_eq m (ok m) c 5).trans (V_old5 m c)) _).trans ?_
    exact (if_neg (part_word (j 0) fun hh => hj ((Nat.div_one _).trans hh))).symm

theorem V_old6 (c : Dev nD) : V m c main_v0_1 = m ((c.tc : Thread nD τ).loc main_arg7) := by
  unfold V hostOps0
  after_results_simp
  rfl

theorem final6 (c : Dev nD) : (dats m (ok m) 0 c).arrAt 6 (cfgM m (ok m)).N = put (m ((c.tc : Thread nD τ).loc main_arg7)) (de m c) := by
  refine (dats m (ok m) 0 c).arrAt_eq_of_coversWhere_of_agree 6 _ Part (covers5 _) (fun t hf y => ?_) (fun (j : S4x2x512x704.Idx) hj => ?_)
  · rw [after0_6]
    unfold outsAt0
    dsimp only
    frame_out
    refine Eq.trans ?_ (congrArg (put (m ((c.tc : Thread nD τ).loc main_arg7)) (de m c)) (emb5 (adm m (ok m)) t y)).symm
    refine Eq.trans ?_ (if_pos rfl).symm
    exact (at6 (word m c) ((hs0_0 m (ok m) t).read_unread _) ((hs0_1 m (ok m) t).read_unread _) ((hs0_2 m (ok m) t).read_unread _) ((hs0_3 m (ok m) t).read_unread _) ((hs0_4 m (ok m) t).read_unread _))
  · refine (congrFun ((A_eq m (ok m) c 6).trans (V_old6 m c)) _).trans ?_
    exact (if_neg (part_word (j 0) fun hh => hj ((Nat.div_one _).trans hh))).symm

theorem V_old7 (c : Dev nD) : V m c main_v0_2 = m ((c.tc : Thread nD τ).loc main_arg8) := by
  unfold V hostOps0
  after_results_simp
  rfl

theorem final7 (c : Dev nD) : (dats m (ok m) 0 c).arrAt 7 (cfgM m (ok m)).N = put (m ((c.tc : Thread nD τ).loc main_arg8)) (mo m c) := by
  refine (dats m (ok m) 0 c).arrAt_eq_of_coversWhere_of_agree 7 _ Part (covers5 _) (fun t hf y => ?_) (fun (j : S4x2x512x704.Idx) hj => ?_)
  · rw [after0_7]
    unfold outsAt0
    dsimp only
    frame_out
    refine Eq.trans ?_ (congrArg (put (m ((c.tc : Thread nD τ).loc main_arg8)) (mo m c)) (emb5 (adm m (ok m)) t y)).symm
    refine Eq.trans ?_ (if_pos rfl).symm
    exact (at7 (word m c) ((hs0_0 m (ok m) t).read_unread _) ((hs0_1 m (ok m) t).read_unread _) ((hs0_3 m (ok m) t).read_unread _))
  · refine (congrFun ((A_eq m (ok m) c 7).trans (V_old7 m c)) _).trans ?_
    exact (if_neg (part_word (j 0) fun hh => hj ((Nat.div_one _).trans hh))).symm

theorem V_old8 (c : Dev nD) : V m c main_v0_3 = m ((c.tc : Thread nD τ).loc main_arg9) := by
  unfold V hostOps0
  after_results_simp
  rfl

theorem final8 (c : Dev nD) : (dats m (ok m) 0 c).arrAt 8 (cfgM m (ok m)).N = put (m ((c.tc : Thread nD τ).loc main_arg9)) (ve m c) := by
  refine (dats m (ok m) 0 c).arrAt_eq_of_coversWhere_of_agree 8 _ Part (covers5 _) (fun t hf y => ?_) (fun (j : S4x2x512x704.Idx) hj => ?_)
  · rw [after0_8]
    unfold outsAt0
    dsimp only
    frame_out
    refine Eq.trans ?_ (congrArg (put (m ((c.tc : Thread nD τ).loc main_arg9)) (ve m c)) (emb5 (adm m (ok m)) t y)).symm
    refine Eq.trans ?_ (if_pos rfl).symm
    exact (at8 (word m c) ((hs0_0 m (ok m) t).read_unread _) ((hs0_1 m (ok m) t).read_unread _) ((hs0_4 m (ok m) t).read_unread _))
  · refine (congrFun ((A_eq m (ok m) c 8).trans (V_old8 m c)) _).trans ?_
    exact (if_neg (part_word (j 0) fun hh => hj ((Nat.div_one _).trans hh))).symm

/-- The region's run: the four arrays, and the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v0_0) = put (m ((c.tc : Thread nD τ).loc main_arg6)) (gr m c)
      ∧ r.2.mem ((c.tc : Thread nD τ).loc main_v0_1) = put (m ((c.tc : Thread nD τ).loc main_arg7)) (de m c)
      ∧ r.2.mem ((c.tc : Thread nD τ).loc main_v0_2) = put (m ((c.tc : Thread nD τ).loc main_arg8)) (mo m c)
      ∧ r.2.mem ((c.tc : Thread nD τ).loc main_v0_3) = put (m ((c.tc : Thread nD τ).loc main_arg9)) (ve m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run _ _ _).mono (fun r h c => ⟨((h.1 c).1 5).trans (final5 m c), ((h.1 c).1 6).trans (final6 m c), ((h.1 c).1 7).trans (final7 m c), ((h.1 c).1 8).trans (final8 m c), h.2 c⟩)
    (θ_run_and (run_main m ρ (ok m)) (unchanged m ρ (ok m)))

end Cert.AdamGate3V

namespace Cert.AdamGate3V

open Cert.AdamGate3RefIdeal Cert.Opt

variable (m : (ℓ : Loc nD τ sig) → Buf (Elt Ideal) ℓ)

/-- The reference's run: the same four arrays. -/
theorem ref_run (ρ : Dev nD → PrngReg) :
    θ_run defs (onTc (τ := τ) (main (F := Ideal))) ⟨m, fun _ => 0, ρ⟩ fun r => ∀ c : Dev nD,
      r.2.mem ((c.tc : Thread nD τ).loc main_v37) = put (m ((c.tc : Thread nD τ).loc main_arg6)) (grad (m ((c.tc : Thread nD τ).loc main_arg0)) (m ((c.tc : Thread nD τ).loc main_arg1)) (m ((c.tc : Thread nD τ).loc main_arg2)))
      ∧ r.2.mem ((c.tc : Thread nD τ).loc main_v42) = put (m ((c.tc : Thread nD τ).loc main_arg7)) (fun i => step (m ((c.tc : Thread nD τ).loc main_arg3) i) (grad (m ((c.tc : Thread nD τ).loc main_arg0)) (m ((c.tc : Thread nD τ).loc main_arg1)) (m ((c.tc : Thread nD τ).loc main_arg2)) i) (m ((c.tc : Thread nD τ).loc main_arg4) i) (m ((c.tc : Thread nD τ).loc main_arg5) i))
      ∧ r.2.mem ((c.tc : Thread nD τ).loc main_v47) = put (m ((c.tc : Thread nD τ).loc main_arg8)) (fun i => mom1 (grad (m ((c.tc : Thread nD τ).loc main_arg0)) (m ((c.tc : Thread nD τ).loc main_arg1)) (m ((c.tc : Thread nD τ).loc main_arg2)) i) (m ((c.tc : Thread nD τ).loc main_arg4) i))
      ∧ r.2.mem ((c.tc : Thread nD τ).loc main_v52) = put (m ((c.tc : Thread nD τ).loc main_arg9)) (fun i => mom2 (grad (m ((c.tc : Thread nD τ).loc main_arg0)) (m ((c.tc : Thread nD τ).loc main_arg1)) (m ((c.tc : Thread nD τ).loc main_arg2)) i) (m ((c.tc : Thread nD τ).loc main_arg5) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ?_) (Value.run m ρ)
  obtain ⟨h1, h2, h3, h4, hr⟩ := h c
  have e := fun i : S4x2x512x704.Idx => sel_eq (BitVec.ofNat 32 (i 1).val) (m ((c.tc : Thread nD τ).loc main_arg2) (ix1 0)) (m ((c.tc : Thread nD τ).loc main_arg0) (ix2 (i 2) (i 3))) (m ((c.tc : Thread nD τ).loc main_arg1) (ix2 (i 2) (i 3)))
  refine ⟨h1.trans (funext fun i => ?_), h2.trans (funext fun i => ?_), h3.trans (funext fun i => ?_), h4.trans (funext fun i => ?_), hr⟩
  · pointwise
    refine (sel_eq _ _ _ _).trans ?_
    exact congrArg (fun g : EReal => if BitVec.ofNat 32 (i 0).val = 3#32 then g else m ((c.tc : Thread nD τ).loc main_arg6) i) (e i)
  · pointwise
    refine (sel_eq _ _ _ _).trans ?_
    exact congrArg (fun g : EReal => if BitVec.ofNat 32 (i 0).val = 3#32 then step (m ((c.tc : Thread nD τ).loc main_arg3) i) g (m ((c.tc : Thread nD τ).loc main_arg4) i) (m ((c.tc : Thread nD τ).loc main_arg5) i) else m ((c.tc : Thread nD τ).loc main_arg7) i) (e i)
  · pointwise
    refine (sel_eq _ _ _ _).trans ?_
    exact congrArg (fun g : EReal => if BitVec.ofNat 32 (i 0).val = 3#32 then mom1 g (m ((c.tc : Thread nD τ).loc main_arg4) i) else m ((c.tc : Thread nD τ).loc main_arg8) i) (e i)
  · pointwise
    refine (sel_eq _ _ _ _).trans ?_
    exact congrArg (fun g : EReal => if BitVec.ofNat 32 (i 0).val = 3#32 then mom2 g (m ((c.tc : Thread nD τ).loc main_arg5) i) else m ((c.tc : Thread nD τ).loc main_arg9) i) (e i)

theorem algebraic : Cert.algebraic_AdamGate3Ideal_AdamGate3RefIdeal := fun m g m' g' _ hag =>
  ⟨fun c => Cert.AdamGate3V.put (m ((c.tc : Thread Cert.AdamGate3Ideal.nD Cert.AdamGate3Ideal.τ).loc Cert.AdamGate3Ideal.main_arg6)) (gr m c), fun c => Cert.AdamGate3V.put (m ((c.tc : Thread Cert.AdamGate3Ideal.nD Cert.AdamGate3Ideal.τ).loc Cert.AdamGate3Ideal.main_arg7)) (de m c), fun c => Cert.AdamGate3V.put (m ((c.tc : Thread Cert.AdamGate3Ideal.nD Cert.AdamGate3Ideal.τ).loc Cert.AdamGate3Ideal.main_arg8)) (mo m c), fun c => Cert.AdamGate3V.put (m ((c.tc : Thread Cert.AdamGate3Ideal.nD Cert.AdamGate3Ideal.τ).loc Cert.AdamGate3Ideal.main_arg9)) (ve m c), run_blocks m g, (θ_run _ _ _).mono (fun r h c => by
      obtain ⟨h0, h1, h2, h3, h4, h5, h6, h7, h8, h9⟩ := hag c
      refine ⟨(h c).1.trans ?_, (h c).2.1.trans ?_, (h c).2.2.1.trans ?_, (h c).2.2.2.1.trans ?_, (h c).2.2.2.2⟩
      · rw [h0, h1, h2, h6]; rfl
      · rw [h0, h1, h2, h3, h4, h5, h7]; rfl
      · rw [h0, h1, h2, h4, h8]; rfl
      · rw [h0, h1, h2, h5, h9]; rfl) (ref_run m' g')⟩

end Cert.AdamGate3V

end
-- ==== Proof.Opt.AdamDown0.lean ====
/-
  One weight's update out of its two halves, part 0 of 4: the call and its reference end with the same four arrays.
-/
module

public import proofs.«01_k».proof.Defs
public import proofs.«01_k».proof.Proof.Gen.AdamDown0Ideal.Frame
public import proofs.«01_k».proof.Proof.Gen.AdamDown0.Frame
public import proofs.«01_k».proof.Proof.Gen.AdamDown0RefIdeal.Run
public import proofs.«01_k».proof.Proof.Opt.Adam
public import Idealize.ShloMosaic.Lib.Pipeline.ValueKit

@[expose] public section

set_option maxRecDepth 16384

noncomputable section

open Idealize.ShloMosaic Idealize.ShloMosaic.TcCoe Idealize.SL.Sem

namespace Cert.AdamDown0V

theorem ok_bits {F : FTy → Type} [FloatOps F] (m : (ℓ : Loc Cert.AdamDown0.nD Cert.AdamDown0.τ Cert.AdamDown0.sig) → Buf (Elt F) ℓ) : Cert.AdamDown0.Gen.Ok m := trivial

open Cert.AdamDown0Ideal Cert.AdamDown0Ideal.Gen Cert.Opt

theorem ok {F : FTy → Type} [FloatOps F] (m : (ℓ : Loc nD τ sig) → Buf (Elt F) ℓ) : Cert.AdamDown0Ideal.Gen.Ok m := trivial

variable (m : (ℓ : Loc nD τ sig) → Buf (Elt Ideal) ℓ)

/-- Any contents of the table: no window's place depends on them. -/
def a0 : (pcfg0 (F := Ideal)).Adm := ⟨fun | ⟨0, _⟩ => fun _ => (0#32 : BitVec 32), trivial⟩

theorem idx_nat : ∀ t : Fin grid0.N, ((cfg0 a0).win 0).index t = ![t.val % 11, 0] ∧ ((cfg0 a0).win 1).index t = ![t.val % 11, 0]
    ∧ ((cfg0 a0).win 5).index t = ![0, t.val / 11, t.val % 11, 0] ∧ (grid0.coords t 0).val = t.val / 11 := by decide +kernel

/-- The blocks of part 0. -/
def Part (β : Fin 4 → ℕ) : Prop := β 0 = 0

instance : DecidablePred Part := fun β => inferInstanceAs (Decidable (β 0 = 0))

theorem covers5 (a : (pcfg0 (F := Ideal)).Adm) : ((cfg0 a).win 5).CoversWhere Part :=
  (by decide +kernel : ((cfg0 a0).win 5).CoversWhere Part)

/-- A part's number as a word. -/
theorem part_word : ∀ j : Fin 4, ¬ j.val = 0 → ¬ BitVec.ofNat 32 j.val = 0#32 := by decide

/-- The array with part 0 new and the rest as it was. -/
def put (old new : S4x2x352x1024.Idx → EReal) (j : S4x2x352x1024.Idx) : EReal := if BitVec.ofNat 32 (j 0).val = 0#32 then new j else old j

/-- The gradient out of its two halves: the half whose number the word gives is the core's own. -/
def grad (own other : S352x1024.Idx → EReal) (half : S1.Idx → BitVec 32) (i : S4x2x352x1024.Idx) : EReal :=
  if BitVec.ofNat 32 (i 1).val = half (ix1 0) then own (ix2 (i 2) (i 3)) else other (ix2 (i 2) (i 3))

/-- Where an entry of point `t`'s block lies in the weight. -/
def E (t : Fin grid0.N) (y : S1x1x32x1024.Idx) : S4x2x352x1024.Idx :=
  ix4 0 ⟨t.val / 11, by have h : t.val < 22 := t.isLt; omega⟩ ⟨t.val % 11 * 32 + (y 2).val, by have h := (y 2).isLt; dsimp at h; omega⟩ (y 3)

theorem emb5 (a : (pcfg0 (F := Ideal)).Adm) (t : Fin grid0.N) (y : S1x1x32x1024.Idx) : (((cfg0 a).win 5).blk t).view.emb y = E t y := by
  obtain ⟨e0, e1, e5, ec⟩ := idx_nat t
  refine funext fun ax => Fin.ext ?_
  have h : (((((cfg0 a).win 5).blk t).view.emb y ax : Fin _) : ℕ) = ((cfg0 a0).win 5).index t ax * S1x1x32x1024.size ax + 1 * (y ax).val := rfl
  rw [e5] at h
  refine h.trans ?_
  have h0 := (y 0).isLt; have h1 := (y 1).isLt
  dsimp at h0 h1
  fin_cases ax <;> (simp [E, ix4] <;> omega)

theorem rd0 (c : Dev nD) (t : Fin grid0.N) (a : Fin 32) (b : Fin 1024) : iblk m (ok m) c 0 t (ix2 a b) =
    m ((c.tc : Thread nD τ).loc main_arg0) (ix2 ⟨t.val % 11 * 32 + a.val, by omega⟩ b) := by
  obtain ⟨e0, e1, e5, ec⟩ := idx_nat t
  refine (congrArg (V m c main_arg0) (funext fun ax => Fin.ext ?_)).trans (congrFun (V_main_arg0 m c) _)
  have h : (((((cfg0 a0).win 0).blk t).view.emb (ix2 a b) ax : Fin _) : ℕ) = ((cfg0 a0).win 0).index t ax * S32x1024.size ax + 1 * (ix2 a b ax).val := rfl
  rw [e0] at h
  refine h.trans ?_
  fin_cases ax <;> simp [ix2]

theorem rd1 (c : Dev nD) (t : Fin grid0.N) (a : Fin 32) (b : Fin 1024) : iblk m (ok m) c 1 t (ix2 a b) =
    m ((c.tc : Thread nD τ).loc main_arg1) (ix2 ⟨t.val % 11 * 32 + a.val, by omega⟩ b) := by
  obtain ⟨e0, e1, e5, ec⟩ := idx_nat t
  refine (congrArg (V m c main_arg1) (funext fun ax => Fin.ext ?_)).trans (congrFun (V_main_arg1 m c) _)
  have h : (((((cfg0 a0).win 1).blk t).view.emb (ix2 a b) ax : Fin _) : ℕ) = ((cfg0 a0).win 1).index t ax * S32x1024.size ax + 1 * (ix2 a b ax).val := rfl
  rw [e1] at h
  refine h.trans ?_
  fin_cases ax <;> simp [ix2]

theorem rd2 (c : Dev nD) (t : Fin grid0.N) (y : S1x1x32x1024.Idx) : iblk m (ok m) c 2 t y = m ((c.tc : Thread nD τ).loc main_arg3) (E t y) :=
  (congrArg (V m c main_arg3) (emb5 a0 t y)).trans (congrFun (V_main_arg3 m c) _)

theorem rd3 (c : Dev nD) (t : Fin grid0.N) (y : S1x1x32x1024.Idx) : iblk m (ok m) c 3 t y = m ((c.tc : Thread nD τ).loc main_arg4) (E t y) :=
  (congrArg (V m c main_arg4) (emb5 a0 t y)).trans (congrFun (V_main_arg4 m c) _)

theorem rd4 (c : Dev nD) (t : Fin grid0.N) (y : S1x1x32x1024.Idx) : iblk m (ok m) c 4 t y = m ((c.tc : Thread nD τ).loc main_arg5) (E t y) :=
  (congrArg (V m c main_arg5) (emb5 a0 t y)).trans (congrFun (V_main_arg5 m c) _)

/-- The gradient at an entry, and what the update makes of it. -/
def gr (c : Dev nD) := grad (m ((c.tc : Thread nD τ).loc main_arg0)) (m ((c.tc : Thread nD τ).loc main_arg1)) (m ((c.tc : Thread nD τ).loc main_arg2))
def de (c : Dev nD) (i : S4x2x352x1024.Idx) : EReal := step (m ((c.tc : Thread nD τ).loc main_arg3) i) (gr m c i) (m ((c.tc : Thread nD τ).loc main_arg4) i) (m ((c.tc : Thread nD τ).loc main_arg5) i)
def mo (c : Dev nD) (i : S4x2x352x1024.Idx) : EReal := mom1 (gr m c i) (m ((c.tc : Thread nD τ).loc main_arg4) i)
def ve (c : Dev nD) (i : S4x2x352x1024.Idx) : EReal := mom2 (gr m c i) (m ((c.tc : Thread nD τ).loc main_arg5) i)

theorem pick (c : Dev nD) (t : Fin grid0.N) (y : S1x1x32x1024.Idx) {h : BitVec 32} (eh : h = m ((c.tc : Thread nD τ).loc main_arg2) (ix1 0)) :
    (if BitVec.ofNat 32 (grid0.coords t 0).val = h then iblk m (ok m) c 0 t (ix2 (y 2) (y 3)) else iblk m (ok m) c 1 t (ix2 (y 2) (y 3))) = gr m c (E t y) := by
  obtain ⟨e0, e1, e5, ec⟩ := idx_nat t
  refine (ite_congr rfl (fun _ => rd0 m c t (y 2) (y 3)) (fun _ => rd1 m c t (y 2) (y 3))).trans ?_
  rw [eh, ec]
  rfl

variable {m} in
theorem at5 {c : Dev nD} {t : Fin grid0.N} {y : S1x1x32x1024.Idx} {h : BitVec 32} {v2 v3 : Vec Ideal S32x1024 .f32}
    (eh : h = m ((c.tc : Thread nD τ).loc main_arg2) (ix1 0)) (e2 : v2 = iblk m (ok m) c 0 t) (e3 : v3 = iblk m (ok m) c 1 t) :
    k0_pay1 (F := Ideal) (k0_pay5 (grid0.coords t) h v2 v3) y = gr m c (E t y) := by
  refine Eq.trans ?_ (pick m c t y eh)
  subst e2 e3
  unfold k0_pay1  k0_pay5
  pointwise
  exact sel_eq _ _ _ _

variable {m} in
theorem at6 {c : Dev nD} {t : Fin grid0.N} {y : S1x1x32x1024.Idx} {h : BitVec 32} {v2 v3 : Vec Ideal S32x1024 .f32} {v5 v7 v9 : Vec Ideal S1x1x32x1024 .f32}
    (eh : h = m ((c.tc : Thread nD τ).loc main_arg2) (ix1 0)) (e2 : v2 = iblk m (ok m) c 0 t) (e3 : v3 = iblk m (ok m) c 1 t) (e5 : v5 = iblk m (ok m) c 2 t) (e7 : v7 = iblk m (ok m) c 3 t) (e9 : v9 = iblk m (ok m) c 4 t) :
    k0_pay2 (F := Ideal) (k0_pay8 (grid0.coords t) h v2 v3 v5 v7 v9) y = de m c (E t y) := by
  unfold de
  rw [← rd2 m, ← rd3 m, ← rd4 m, ← pick m c t y eh]
  subst e2 e3 e5 e7 e9
  unfold k0_pay2 k0_pay8 k0_pay6 k0_pay7 k0_pay5
  pointwise
  exact congrArg (fun g : EReal => step (iblk m (ok m) c 2 t y) g (iblk m (ok m) c 3 t y) (iblk m (ok m) c 4 t y)) (sel_eq _ _ _ _)

variable {m} in
theorem at7 {c : Dev nD} {t : Fin grid0.N} {y : S1x1x32x1024.Idx} {h : BitVec 32} {v2 v3 : Vec Ideal S32x1024 .f32} {v7 : Vec Ideal S1x1x32x1024 .f32}
    (eh : h = m ((c.tc : Thread nD τ).loc main_arg2) (ix1 0)) (e2 : v2 = iblk m (ok m) c 0 t) (e3 : v3 = iblk m (ok m) c 1 t) (e7 : v7 = iblk m (ok m) c 3 t) :
    k0_pay3 (F := Ideal) (k0_pay6 (grid0.coords t) h v2 v3 v7) y = mo m c (E t y) := by
  unfold mo
  rw [← rd3 m, ← pick m c t y eh]
  subst e2 e3 e7
  unfold k0_pay3 k0_pay6 k0_pay5
  pointwise
  exact congrArg (fun g : EReal => mom1 g (iblk m (ok m) c 3 t y)) (sel_eq _ _ _ _)

variable {m} in
theorem at8 {c : Dev nD} {t : Fin grid0.N} {y : S1x1x32x1024.Idx} {h : BitVec 32} {v2 v3 : Vec Ideal S32x1024 .f32} {v9 : Vec Ideal S1x1x32x1024 .f32}
    (eh : h = m ((c.tc : Thread nD τ).loc main_arg2) (ix1 0)) (e2 : v2 = iblk m (ok m) c 0 t) (e3 : v3 = iblk m (ok m) c 1 t) (e9 : v9 = iblk m (ok m) c 4 t) :
    k0_pay4 (F := Ideal) (k0_pay7 (grid0.coords t) h v2 v3 v9) y = ve m c (E t y) := by
  unfold ve
  rw [← rd4 m, ← pick m c t y eh]
  subst e2 e3 e9
  unfold k0_pay4 k0_pay7 k0_pay5
  pointwise
  exact congrArg (fun g : EReal => mom2 g (iblk m (ok m) c 4 t y)) (sel_eq _ _ _ _)

theorem word (c : Dev nD) : View.readAt (Elt Ideal) (View.whole main_arg2) (Rect.unit ![0] ![1] inb_S1_S1_0).toLoadRect (tbl m 0) (Shape.Idx.first (by decide)) = m ((c.tc : Thread nD τ).loc main_arg2) (ix1 0) := by
  obtain rfl : c = 0 := Subsingleton.elim _ _
  refine (congrArg (V m (0 : Dev nD) main_arg2) (funext fun ax => Fin.ext ?_)).trans (congrFun (V_main_arg2 m 0) _)
  fin_cases ax
  rfl

theorem V_old5 (c : Dev nD) : V m c main_v0_0 = m ((c.tc : Thread nD τ).loc main_arg6) := by
  unfold V hostOps0
  after_results_simp
  rfl

theorem final5 (c : Dev nD) : (dats m (ok m) 0 c).arrAt 5 (cfgM m (ok m)).N = put (m ((c.tc : Thread nD τ).loc main_arg6)) (gr m c) := by
  refine (dats m (ok m) 0 c).arrAt_eq_of_coversWhere_of_agree 5 _ Part (covers5 _) (fun t hf y => ?_) (fun (j : S4x2x352x1024.Idx) hj => ?_)
  · rw [after0_5]
    unfold outsAt0
    dsimp only
    frame_out
    refine Eq.trans ?_ (congrArg (put (m ((c.tc : Thread nD τ).loc main_arg6)) (gr m c)) (emb5 (adm m (ok m)) t y)).symm
    refine Eq.trans ?_ (if_pos rfl).symm
    exact (at5 (word m c) ((hs0_0 m (ok m) t).read_unread _) ((hs0_1 m (ok m) t).read_unread _))
  · refine (congrFun ((A_eq m (ok m) c 5).trans (V_old5 m c)) _).trans ?_
    exact (if_neg (part_word (j 0) fun hh => hj ((Nat.div_one _).trans hh))).symm

theorem V_old6 (c : Dev nD) : V m c main_v0_1 = m ((c.tc : Thread nD τ).loc main_arg7) := by
  unfold V hostOps0
  after_results_simp
  rfl

theorem final6 (c : Dev nD) : (dats m (ok m) 0 c).arrAt 6 (cfgM m (ok m)).N = put (m ((c.tc : Thread nD τ).loc main_arg7)) (de m c) := by
  refine (dats m (ok m) 0 c).arrAt_eq_of_coversWhere_of_agree 6 _ Part (covers5 _) (fun t hf y => ?_) (fun (j : S4x2x352x1024.Idx) hj => ?_)
  · rw [after0_6]
    unfold outsAt0
    dsimp only
    frame_out
    refine Eq.trans ?_ (congrArg (put (m ((c.tc : Thread nD τ).loc main_arg7)) (de m c)) (emb5 (adm m (ok m)) t y)).symm
    refine Eq.trans ?_ (if_pos rfl).symm
    exact (at6 (word m c) ((hs0_0 m (ok m) t).read_unread _) ((hs0_1 m (ok m) t).read_unread _) ((hs0_2 m (ok m) t).read_unread _) ((hs0_3 m (ok m) t).read_unread _) ((hs0_4 m (ok m) t).read_unread _))
  · refine (congrFun ((A_eq m (ok m) c 6).trans (V_old6 m c)) _).trans ?_
    exact (if_neg (part_word (j 0) fun hh => hj ((Nat.div_one _).trans hh))).symm

theorem V_old7 (c : Dev nD) : V m c main_v0_2 = m ((c.tc : Thread nD τ).loc main_arg8) := by
  unfold V hostOps0
  after_results_simp
  rfl

theorem final7 (c : Dev nD) : (dats m (ok m) 0 c).arrAt 7 (cfgM m (ok m)).N = put (m ((c.tc : Thread nD τ).loc main_arg8)) (mo m c) := by
  refine (dats m (ok m) 0 c).arrAt_eq_of_coversWhere_of_agree 7 _ Part (covers5 _) (fun t hf y => ?_) (fun (j : S4x2x352x1024.Idx) hj => ?_)
  · rw [after0_7]
    unfold outsAt0
    dsimp only
    frame_out
    refine Eq.trans ?_ (congrArg (put (m ((c.tc : Thread nD τ).loc main_arg8)) (mo m c)) (emb5 (adm m (ok m)) t y)).symm
    refine Eq.trans ?_ (if_pos rfl).symm
    exact (at7 (word m c) ((hs0_0 m (ok m) t).read_unread _) ((hs0_1 m (ok m) t).read_unread _) ((hs0_3 m (ok m) t).read_unread _))
  · refine (congrFun ((A_eq m (ok m) c 7).trans (V_old7 m c)) _).trans ?_
    exact (if_neg (part_word (j 0) fun hh => hj ((Nat.div_one _).trans hh))).symm

theorem V_old8 (c : Dev nD) : V m c main_v0_3 = m ((c.tc : Thread nD τ).loc main_arg9) := by
  unfold V hostOps0
  after_results_simp
  rfl

theorem final8 (c : Dev nD) : (dats m (ok m) 0 c).arrAt 8 (cfgM m (ok m)).N = put (m ((c.tc : Thread nD τ).loc main_arg9)) (ve m c) := by
  refine (dats m (ok m) 0 c).arrAt_eq_of_coversWhere_of_agree 8 _ Part (covers5 _) (fun t hf y => ?_) (fun (j : S4x2x352x1024.Idx) hj => ?_)
  · rw [after0_8]
    unfold outsAt0
    dsimp only
    frame_out
    refine Eq.trans ?_ (congrArg (put (m ((c.tc : Thread nD τ).loc main_arg9)) (ve m c)) (emb5 (adm m (ok m)) t y)).symm
    refine Eq.trans ?_ (if_pos rfl).symm
    exact (at8 (word m c) ((hs0_0 m (ok m) t).read_unread _) ((hs0_1 m (ok m) t).read_unread _) ((hs0_4 m (ok m) t).read_unread _))
  · refine (congrFun ((A_eq m (ok m) c 8).trans (V_old8 m c)) _).trans ?_
    exact (if_neg (part_word (j 0) fun hh => hj ((Nat.div_one _).trans hh))).symm

/-- The region's run: the four arrays, and the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v0_0) = put (m ((c.tc : Thread nD τ).loc main_arg6)) (gr m c)
      ∧ r.2.mem ((c.tc : Thread nD τ).loc main_v0_1) = put (m ((c.tc : Thread nD τ).loc main_arg7)) (de m c)
      ∧ r.2.mem ((c.tc : Thread nD τ).loc main_v0_2) = put (m ((c.tc : Thread nD τ).loc main_arg8)) (mo m c)
      ∧ r.2.mem ((c.tc : Thread nD τ).loc main_v0_3) = put (m ((c.tc : Thread nD τ).loc main_arg9)) (ve m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run _ _ _).mono (fun r h c => ⟨((h.1 c).1 5).trans (final5 m c), ((h.1 c).1 6).trans (final6 m c), ((h.1 c).1 7).trans (final7 m c), ((h.1 c).1 8).trans (final8 m c), h.2 c⟩)
    (θ_run_and (run_main m ρ (ok m)) (unchanged m ρ (ok m)))

end Cert.AdamDown0V

namespace Cert.AdamDown0V

open Cert.AdamDown0RefIdeal Cert.Opt

variable (m : (ℓ : Loc nD τ sig) → Buf (Elt Ideal) ℓ)

/-- The reference's run: the same four arrays. -/
theorem ref_run (ρ : Dev nD → PrngReg) :
    θ_run defs (onTc (τ := τ) (main (F := Ideal))) ⟨m, fun _ => 0, ρ⟩ fun r => ∀ c : Dev nD,
      r.2.mem ((c.tc : Thread nD τ).loc main_v37) = put (m ((c.tc : Thread nD τ).loc main_arg6)) (grad (m ((c.tc : Thread nD τ).loc main_arg0)) (m ((c.tc : Thread nD τ).loc main_arg1)) (m ((c.tc : Thread nD τ).loc main_arg2)))
      ∧ r.2.mem ((c.tc : Thread nD τ).loc main_v42) = put (m ((c.tc : Thread nD τ).loc main_arg7)) (fun i => step (m ((c.tc : Thread nD τ).loc main_arg3) i) (grad (m ((c.tc : Thread nD τ).loc main_arg0)) (m ((c.tc : Thread nD τ).loc main_arg1)) (m ((c.tc : Thread nD τ).loc main_arg2)) i) (m ((c.tc : Thread nD τ).loc main_arg4) i) (m ((c.tc : Thread nD τ).loc main_arg5) i))
      ∧ r.2.mem ((c.tc : Thread nD τ).loc main_v47) = put (m ((c.tc : Thread nD τ).loc main_arg8)) (fun i => mom1 (grad (m ((c.tc : Thread nD τ).loc main_arg0)) (m ((c.tc : Thread nD τ).loc main_arg1)) (m ((c.tc : Thread nD τ).loc main_arg2)) i) (m ((c.tc : Thread nD τ).loc main_arg4) i))
      ∧ r.2.mem ((c.tc : Thread nD τ).loc main_v52) = put (m ((c.tc : Thread nD τ).loc main_arg9)) (fun i => mom2 (grad (m ((c.tc : Thread nD τ).loc main_arg0)) (m ((c.tc : Thread nD τ).loc main_arg1)) (m ((c.tc : Thread nD τ).loc main_arg2)) i) (m ((c.tc : Thread nD τ).loc main_arg5) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ?_) (Value.run m ρ)
  obtain ⟨h1, h2, h3, h4, hr⟩ := h c
  have e := fun i : S4x2x352x1024.Idx => sel_eq (BitVec.ofNat 32 (i 1).val) (m ((c.tc : Thread nD τ).loc main_arg2) (ix1 0)) (m ((c.tc : Thread nD τ).loc main_arg0) (ix2 (i 2) (i 3))) (m ((c.tc : Thread nD τ).loc main_arg1) (ix2 (i 2) (i 3)))
  refine ⟨h1.trans (funext fun i => ?_), h2.trans (funext fun i => ?_), h3.trans (funext fun i => ?_), h4.trans (funext fun i => ?_), hr⟩
  · pointwise
    refine (sel_eq _ _ _ _).trans ?_
    exact congrArg (fun g : EReal => if BitVec.ofNat 32 (i 0).val = 0#32 then g else m ((c.tc : Thread nD τ).loc main_arg6) i) (e i)
  · pointwise
    refine (sel_eq _ _ _ _).trans ?_
    exact congrArg (fun g : EReal => if BitVec.ofNat 32 (i 0).val = 0#32 then step (m ((c.tc : Thread nD τ).loc main_arg3) i) g (m ((c.tc : Thread nD τ).loc main_arg4) i) (m ((c.tc : Thread nD τ).loc main_arg5) i) else m ((c.tc : Thread nD τ).loc main_arg7) i) (e i)
  · pointwise
    refine (sel_eq _ _ _ _).trans ?_
    exact congrArg (fun g : EReal => if BitVec.ofNat 32 (i 0).val = 0#32 then mom1 g (m ((c.tc : Thread nD τ).loc main_arg4) i) else m ((c.tc : Thread nD τ).loc main_arg8) i) (e i)
  · pointwise
    refine (sel_eq _ _ _ _).trans ?_
    exact congrArg (fun g : EReal => if BitVec.ofNat 32 (i 0).val = 0#32 then mom2 g (m ((c.tc : Thread nD τ).loc main_arg5) i) else m ((c.tc : Thread nD τ).loc main_arg9) i) (e i)

theorem algebraic : Cert.algebraic_AdamDown0Ideal_AdamDown0RefIdeal := fun m g m' g' _ hag =>
  ⟨fun c => Cert.AdamDown0V.put (m ((c.tc : Thread Cert.AdamDown0Ideal.nD Cert.AdamDown0Ideal.τ).loc Cert.AdamDown0Ideal.main_arg6)) (gr m c), fun c => Cert.AdamDown0V.put (m ((c.tc : Thread Cert.AdamDown0Ideal.nD Cert.AdamDown0Ideal.τ).loc Cert.AdamDown0Ideal.main_arg7)) (de m c), fun c => Cert.AdamDown0V.put (m ((c.tc : Thread Cert.AdamDown0Ideal.nD Cert.AdamDown0Ideal.τ).loc Cert.AdamDown0Ideal.main_arg8)) (mo m c), fun c => Cert.AdamDown0V.put (m ((c.tc : Thread Cert.AdamDown0Ideal.nD Cert.AdamDown0Ideal.τ).loc Cert.AdamDown0Ideal.main_arg9)) (ve m c), run_blocks m g, (θ_run _ _ _).mono (fun r h c => by
      obtain ⟨h0, h1, h2, h3, h4, h5, h6, h7, h8, h9⟩ := hag c
      refine ⟨(h c).1.trans ?_, (h c).2.1.trans ?_, (h c).2.2.1.trans ?_, (h c).2.2.2.1.trans ?_, (h c).2.2.2.2⟩
      · rw [h0, h1, h2, h6]; rfl
      · rw [h0, h1, h2, h3, h4, h5, h7]; rfl
      · rw [h0, h1, h2, h4, h8]; rfl
      · rw [h0, h1, h2, h5, h9]; rfl) (ref_run m' g')⟩

end Cert.AdamDown0V

end
-- ==== Proof.Opt.AdamDown1.lean ====
/-
  One weight's update out of its two halves, part 1 of 4: the call and its reference end with the same four arrays.
-/
module

public import proofs.«01_k».proof.Defs
public import proofs.«01_k».proof.Proof.Gen.AdamDown1Ideal.Frame
public import proofs.«01_k».proof.Proof.Gen.AdamDown1.Frame
public import proofs.«01_k».proof.Proof.Gen.AdamDown1RefIdeal.Run
public import proofs.«01_k».proof.Proof.Opt.Adam
public import Idealize.ShloMosaic.Lib.Pipeline.ValueKit

@[expose] public section

set_option maxRecDepth 16384

noncomputable section

open Idealize.ShloMosaic Idealize.ShloMosaic.TcCoe Idealize.SL.Sem

namespace Cert.AdamDown1V

theorem ok_bits {F : FTy → Type} [FloatOps F] (m : (ℓ : Loc Cert.AdamDown1.nD Cert.AdamDown1.τ Cert.AdamDown1.sig) → Buf (Elt F) ℓ) : Cert.AdamDown1.Gen.Ok m := trivial

open Cert.AdamDown1Ideal Cert.AdamDown1Ideal.Gen Cert.Opt

theorem ok {F : FTy → Type} [FloatOps F] (m : (ℓ : Loc nD τ sig) → Buf (Elt F) ℓ) : Cert.AdamDown1Ideal.Gen.Ok m := trivial

variable (m : (ℓ : Loc nD τ sig) → Buf (Elt Ideal) ℓ)

/-- Any contents of the table: no window's place depends on them. -/
def a0 : (pcfg0 (F := Ideal)).Adm := ⟨fun | ⟨0, _⟩ => fun _ => (0#32 : BitVec 32), trivial⟩

theorem idx_nat : ∀ t : Fin grid0.N, ((cfg0 a0).win 0).index t = ![t.val % 11, 0] ∧ ((cfg0 a0).win 1).index t = ![t.val % 11, 0]
    ∧ ((cfg0 a0).win 5).index t = ![1, t.val / 11, t.val % 11, 0] ∧ (grid0.coords t 0).val = t.val / 11 := by decide +kernel

/-- The blocks of part 1. -/
def Part (β : Fin 4 → ℕ) : Prop := β 0 = 1

instance : DecidablePred Part := fun β => inferInstanceAs (Decidable (β 0 = 1))

theorem covers5 (a : (pcfg0 (F := Ideal)).Adm) : ((cfg0 a).win 5).CoversWhere Part :=
  (by decide +kernel : ((cfg0 a0).win 5).CoversWhere Part)

/-- A part's number as a word. -/
theorem part_word : ∀ j : Fin 4, ¬ j.val = 1 → ¬ BitVec.ofNat 32 j.val = 1#32 := by decide

/-- The array with part 1 new and the rest as it was. -/
def put (old new : S4x2x352x1024.Idx → EReal) (j : S4x2x352x1024.Idx) : EReal := if BitVec.ofNat 32 (j 0).val = 1#32 then new j else old j

/-- The gradient out of its two halves: the half whose number the word gives is the core's own. -/
def grad (own other : S352x1024.Idx → EReal) (half : S1.Idx → BitVec 32) (i : S4x2x352x1024.Idx) : EReal :=
  if BitVec.ofNat 32 (i 1).val = half (ix1 0) then own (ix2 (i 2) (i 3)) else other (ix2 (i 2) (i 3))

/-- Where an entry of point `t`'s block lies in the weight. -/
def E (t : Fin grid0.N) (y : S1x1x32x1024.Idx) : S4x2x352x1024.Idx :=
  ix4 1 ⟨t.val / 11, by have h : t.val < 22 := t.isLt; omega⟩ ⟨t.val % 11 * 32 + (y 2).val, by have h := (y 2).isLt; dsimp at h; omega⟩ (y 3)

theorem emb5 (a : (pcfg0 (F := Ideal)).Adm) (t : Fin grid0.N) (y : S1x1x32x1024.Idx) : (((cfg0 a).win 5).blk t).view.emb y = E t y := by
  obtain ⟨e0, e1, e5, ec⟩ := idx_nat t
  refine funext fun ax => Fin.ext ?_
  have h : (((((cfg0 a).win 5).blk t).view.emb y ax : Fin _) : ℕ) = ((cfg0 a0).win 5).index t ax * S1x1x32x1024.size ax + 1 * (y ax).val := rfl
  rw [e5] at h
  refine h.trans ?_
  have h0 := (y 0).isLt; have h1 := (y 1).isLt
  dsimp at h0 h1
  fin_cases ax <;> (simp [E, ix4] <;> omega)

theorem rd0 (c : Dev nD) (t : Fin grid0.N) (a : Fin 32) (b : Fin 1024) : iblk m (ok m) c 0 t (ix2 a b) =
    m ((c.tc : Thread nD τ).loc main_arg0) (ix2 ⟨t.val % 11 * 32 + a.val, by omega⟩ b) := by
  obtain ⟨e0, e1, e5, ec⟩ := idx_nat t
  refine (congrArg (V m c main_arg0) (funext fun ax => Fin.ext ?_)).trans (congrFun (V_main_arg0 m c) _)
  have h : (((((cfg0 a0).win 0).blk t).view.emb (ix2 a b) ax : Fin _) : ℕ) = ((cfg0 a0).win 0).index t ax * S32x1024.size ax + 1 * (ix2 a b ax).val := rfl
  rw [e0] at h
  refine h.trans ?_
  fin_cases ax <;> simp [ix2]

theorem rd1 (c : Dev nD) (t : Fin grid0.N) (a : Fin 32) (b : Fin 1024) : iblk m (ok m) c 1 t (ix2 a b) =
    m ((c.tc : Thread nD τ).loc main_arg1) (ix2 ⟨t.val % 11 * 32 + a.val, by omega⟩ b) := by
  obtain ⟨e0, e1, e5, ec⟩ := idx_nat t
  refine (congrArg (V m c main_arg1) (funext fun ax => Fin.ext ?_)).trans (congrFun (V_main_arg1 m c) _)
  have h : (((((cfg0 a0).win 1).blk t).view.emb (ix2 a b) ax : Fin _) : ℕ) = ((cfg0 a0).win 1).index t ax * S32x1024.size ax + 1 * (ix2 a b ax).val := rfl
  rw [e1] at h
  refine h.trans ?_
  fin_cases ax <;> simp [ix2]

theorem rd2 (c : Dev nD) (t : Fin grid0.N) (y : S1x1x32x1024.Idx) : iblk m (ok m) c 2 t y = m ((c.tc : Thread nD τ).loc main_arg3) (E t y) :=
  (congrArg (V m c main_arg3) (emb5 a0 t y)).trans (congrFun (V_main_arg3 m c) _)

theorem rd3 (c : Dev nD) (t : Fin grid0.N) (y : S1x1x32x1024.Idx) : iblk m (ok m) c 3 t y = m ((c.tc : Thread nD τ).loc main_arg4) (E t y) :=
  (congrArg (V m c main_arg4) (emb5 a0 t y)).trans (congrFun (V_main_arg4 m c) _)

theorem rd4 (c : Dev nD) (t : Fin grid0.N) (y : S1x1x32x1024.Idx) : iblk m (ok m) c 4 t y = m ((c.tc : Thread nD τ).loc main_arg5) (E t y) :=
  (congrArg (V m c main_arg5) (emb5 a0 t y)).trans (congrFun (V_main_arg5 m c) _)

/-- The gradient at an entry, and what the update makes of it. -/
def gr (c : Dev nD) := grad (m ((c.tc : Thread nD τ).loc main_arg0)) (m ((c.tc : Thread nD τ).loc main_arg1)) (m ((c.tc : Thread nD τ).loc main_arg2))
def de (c : Dev nD) (i : S4x2x352x1024.Idx) : EReal := step (m ((c.tc : Thread nD τ).loc main_arg3) i) (gr m c i) (m ((c.tc : Thread nD τ).loc main_arg4) i) (m ((c.tc : Thread nD τ).loc main_arg5) i)
def mo (c : Dev nD) (i : S4x2x352x1024.Idx) : EReal := mom1 (gr m c i) (m ((c.tc : Thread nD τ).loc main_arg4) i)
def ve (c : Dev nD) (i : S4x2x352x1024.Idx) : EReal := mom2 (gr m c i) (m ((c.tc : Thread nD τ).loc main_arg5) i)

theorem pick (c : Dev nD) (t : Fin grid0.N) (y : S1x1x32x1024.Idx) {h : BitVec 32} (eh : h = m ((c.tc : Thread nD τ).loc main_arg2) (ix1 0)) :
    (if BitVec.ofNat 32 (grid0.coords t 0).val = h then iblk m (ok m) c 0 t (ix2 (y 2) (y 3)) else iblk m (ok m) c 1 t (ix2 (y 2) (y 3))) = gr m c (E t y) := by
  obtain ⟨e0, e1, e5, ec⟩ := idx_nat t
  refine (ite_congr rfl (fun _ => rd0 m c t (y 2) (y 3)) (fun _ => rd1 m c t (y 2) (y 3))).trans ?_
  rw [eh, ec]
  rfl

variable {m} in
theorem at5 {c : Dev nD} {t : Fin grid0.N} {y : S1x1x32x1024.Idx} {h : BitVec 32} {v2 v3 : Vec Ideal S32x1024 .f32}
    (eh : h = m ((c.tc : Thread nD τ).loc main_arg2) (ix1 0)) (e2 : v2 = iblk m (ok m) c 0 t) (e3 : v3 = iblk m (ok m) c 1 t) :
    k0_pay1 (F := Ideal) (k0_pay5 (grid0.coords t) h v2 v3) y = gr m c (E t y) := by
  refine Eq.trans ?_ (pick m c t y eh)
  subst e2 e3
  unfold k0_pay1  k0_pay5
  pointwise
  exact sel_eq _ _ _ _

variable {m} in
theorem at6 {c : Dev nD} {t : Fin grid0.N} {y : S1x1x32x1024.Idx} {h : BitVec 32} {v2 v3 : Vec Ideal S32x1024 .f32} {v5 v7 v9 : Vec Ideal S1x1x32x1024 .f32}
    (eh : h = m ((c.tc : Thread nD τ).loc main_arg2) (ix1 0)) (e2 : v2 = iblk m (ok m) c 0 t) (e3 : v3 = iblk m (ok m) c 1 t) (e5 : v5 = iblk m (ok m) c 2 t) (e7 : v7 = iblk m (ok m) c 3 t) (e9 : v9 = iblk m (ok m) c 4 t) :
    k0_pay2 (F := Ideal) (k0_pay8 (grid0.coords t) h v2 v3 v5 v7 v9) y = de m c (E t y) := by
  unfold de
  rw [← rd2 m, ← rd3 m, ← rd4 m, ← pick m c t y eh]
  subst e2 e3 e5 e7 e9
  unfold k0_pay2 k0_pay8 k0_pay6 k0_pay7 k0_pay5
  pointwise
  exact congrArg (fun g : EReal => step (iblk m (ok m) c 2 t y) g (iblk m (ok m) c 3 t y) (iblk m (ok m) c 4 t y)) (sel_eq _ _ _ _)

variable {m} in
theorem at7 {c : Dev nD} {t : Fin grid0.N} {y : S1x1x32x1024.Idx} {h : BitVec 32} {v2 v3 : Vec Ideal S32x1024 .f32} {v7 : Vec Ideal S1x1x32x1024 .f32}
    (eh : h = m ((c.tc : Thread nD τ).loc main_arg2) (ix1 0)) (e2 : v2 = iblk m (ok m) c 0 t) (e3 : v3 = iblk m (ok m) c 1 t) (e7 : v7 = iblk m (ok m) c 3 t) :
    k0_pay3 (F := Ideal) (k0_pay6 (grid0.coords t) h v2 v3 v7) y = mo m c (E t y) := by
  unfold mo
  rw [← rd3 m, ← pick m c t y eh]
  subst e2 e3 e7
  unfold k0_pay3 k0_pay6 k0_pay5
  pointwise
  exact congrArg (fun g : EReal => mom1 g (iblk m (ok m) c 3 t y)) (sel_eq _ _ _ _)

variable {m} in
theorem at8 {c : Dev nD} {t : Fin grid0.N} {y : S1x1x32x1024.Idx} {h : BitVec 32} {v2 v3 : Vec Ideal S32x1024 .f32} {v9 : Vec Ideal S1x1x32x1024 .f32}
    (eh : h = m ((c.tc : Thread nD τ).loc main_arg2) (ix1 0)) (e2 : v2 = iblk m (ok m) c 0 t) (e3 : v3 = iblk m (ok m) c 1 t) (e9 : v9 = iblk m (ok m) c 4 t) :
    k0_pay4 (F := Ideal) (k0_pay7 (grid0.coords t) h v2 v3 v9) y = ve m c (E t y) := by
  unfold ve
  rw [← rd4 m, ← pick m c t y eh]
  subst e2 e3 e9
  unfold k0_pay4 k0_pay7 k0_pay5
  pointwise
  exact congrArg (fun g : EReal => mom2 g (iblk m (ok m) c 4 t y)) (sel_eq _ _ _ _)

theorem word (c : Dev nD) : View.readAt (Elt Ideal) (View.whole main_arg2) (Rect.unit ![0] ![1] inb_S1_S1_0).toLoadRect (tbl m 0) (Shape.Idx.first (by decide)) = m ((c.tc : Thread nD τ).loc main_arg2) (ix1 0) := by
  obtain rfl : c = 0 := Subsingleton.elim _ _
  refine (congrArg (V m (0 : Dev nD) main_arg2) (funext fun ax => Fin.ext ?_)).trans (congrFun (V_main_arg2 m 0) _)
  fin_cases ax
  rfl

theorem V_old5 (c : Dev nD) : V m c main_v0_0 = m ((c.tc : Thread nD τ).loc main_arg6) := by
  unfold V hostOps0
  after_results_simp
  rfl

theorem final5 (c : Dev nD) : (dats m (ok m) 0 c).arrAt 5 (cfgM m (ok m)).N = put (m ((c.tc : Thread nD τ).loc main_arg6)) (gr m c) := by
  refine (dats m (ok m) 0 c).arrAt_eq_of_coversWhere_of_agree 5 _ Part (covers5 _) (fun t hf y => ?_) (fun (j : S4x2x352x1024.Idx) hj => ?_)
  · rw [after0_5]
    unfold outsAt0
    dsimp only
    frame_out
    refine Eq.trans ?_ (congrArg (put (m ((c.tc : Thread nD τ).loc main_arg6)) (gr m c)) (emb5 (adm m (ok m)) t y)).symm
    refine Eq.trans ?_ (if_pos rfl).symm
    exact (at5 (word m c) ((hs0_0 m (ok m) t).read_unread _) ((hs0_1 m (ok m) t).read_unread _))
  · refine (congrFun ((A_eq m (ok m) c 5).trans (V_old5 m c)) _).trans ?_
    exact (if_neg (part_word (j 0) fun hh => hj ((Nat.div_one _).trans hh))).symm

theorem V_old6 (c : Dev nD) : V m c main_v0_1 = m ((c.tc : Thread nD τ).loc main_arg7) := by
  unfold V hostOps0
  after_results_simp
  rfl

theorem final6 (c : Dev nD) : (dats m (ok m) 0 c).arrAt 6 (cfgM m (ok m)).N = put (m ((c.tc : Thread nD τ).loc main_arg7)) (de m c) := by
  refine (dats m (ok m) 0 c).arrAt_eq_of_coversWhere_of_agree 6 _ Part (covers5 _) (fun t hf y => ?_) (fun (j : S4x2x352x1024.Idx) hj => ?_)
  · rw [after0_6]
    unfold outsAt0
    dsimp only
    frame_out
    refine Eq.trans ?_ (congrArg (put (m ((c.tc : Thread nD τ).loc main_arg7)) (de m c)) (emb5 (adm m (ok m)) t y)).symm
    refine Eq.trans ?_ (if_pos rfl).symm
    exact (at6 (word m c) ((hs0_0 m (ok m) t).read_unread _) ((hs0_1 m (ok m) t).read_unread _) ((hs0_2 m (ok m) t).read_unread _) ((hs0_3 m (ok m) t).read_unread _) ((hs0_4 m (ok m) t).read_unread _))
  · refine (congrFun ((A_eq m (ok m) c 6).trans (V_old6 m c)) _).trans ?_
    exact (if_neg (part_word (j 0) fun hh => hj ((Nat.div_one _).trans hh))).symm

theorem V_old7 (c : Dev nD) : V m c main_v0_2 = m ((c.tc : Thread nD τ).loc main_arg8) := by
  unfold V hostOps0
  after_results_simp
  rfl

theorem final7 (c : Dev nD) : (dats m (ok m) 0 c).arrAt 7 (cfgM m (ok m)).N = put (m ((c.tc : Thread nD τ).loc main_arg8)) (mo m c) := by
  refine (dats m (ok m) 0 c).arrAt_eq_of_coversWhere_of_agree 7 _ Part (covers5 _) (fun t hf y => ?_) (fun (j : S4x2x352x1024.Idx) hj => ?_)
  · rw [after0_7]
    unfold outsAt0
    dsimp only
    frame_out
    refine Eq.trans ?_ (congrArg (put (m ((c.tc : Thread nD τ).loc main_arg8)) (mo m c)) (emb5 (adm m (ok m)) t y)).symm
    refine Eq.trans ?_ (if_pos rfl).symm
    exact (at7 (word m c) ((hs0_0 m (ok m) t).read_unread _) ((hs0_1 m (ok m) t).read_unread _) ((hs0_3 m (ok m) t).read_unread _))
  · refine (congrFun ((A_eq m (ok m) c 7).trans (V_old7 m c)) _).trans ?_
    exact (if_neg (part_word (j 0) fun hh => hj ((Nat.div_one _).trans hh))).symm

theorem V_old8 (c : Dev nD) : V m c main_v0_3 = m ((c.tc : Thread nD τ).loc main_arg9) := by
  unfold V hostOps0
  after_results_simp
  rfl

theorem final8 (c : Dev nD) : (dats m (ok m) 0 c).arrAt 8 (cfgM m (ok m)).N = put (m ((c.tc : Thread nD τ).loc main_arg9)) (ve m c) := by
  refine (dats m (ok m) 0 c).arrAt_eq_of_coversWhere_of_agree 8 _ Part (covers5 _) (fun t hf y => ?_) (fun (j : S4x2x352x1024.Idx) hj => ?_)
  · rw [after0_8]
    unfold outsAt0
    dsimp only
    frame_out
    refine Eq.trans ?_ (congrArg (put (m ((c.tc : Thread nD τ).loc main_arg9)) (ve m c)) (emb5 (adm m (ok m)) t y)).symm
    refine Eq.trans ?_ (if_pos rfl).symm
    exact (at8 (word m c) ((hs0_0 m (ok m) t).read_unread _) ((hs0_1 m (ok m) t).read_unread _) ((hs0_4 m (ok m) t).read_unread _))
  · refine (congrFun ((A_eq m (ok m) c 8).trans (V_old8 m c)) _).trans ?_
    exact (if_neg (part_word (j 0) fun hh => hj ((Nat.div_one _).trans hh))).symm

/-- The region's run: the four arrays, and the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v0_0) = put (m ((c.tc : Thread nD τ).loc main_arg6)) (gr m c)
      ∧ r.2.mem ((c.tc : Thread nD τ).loc main_v0_1) = put (m ((c.tc : Thread nD τ).loc main_arg7)) (de m c)
      ∧ r.2.mem ((c.tc : Thread nD τ).loc main_v0_2) = put (m ((c.tc : Thread nD τ).loc main_arg8)) (mo m c)
      ∧ r.2.mem ((c.tc : Thread nD τ).loc main_v0_3) = put (m ((c.tc : Thread nD τ).loc main_arg9)) (ve m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run _ _ _).mono (fun r h c => ⟨((h.1 c).1 5).trans (final5 m c), ((h.1 c).1 6).trans (final6 m c), ((h.1 c).1 7).trans (final7 m c), ((h.1 c).1 8).trans (final8 m c), h.2 c⟩)
    (θ_run_and (run_main m ρ (ok m)) (unchanged m ρ (ok m)))

end Cert.AdamDown1V

namespace Cert.AdamDown1V

open Cert.AdamDown1RefIdeal Cert.Opt

variable (m : (ℓ : Loc nD τ sig) → Buf (Elt Ideal) ℓ)

/-- The reference's run: the same four arrays. -/
theorem ref_run (ρ : Dev nD → PrngReg) :
    θ_run defs (onTc (τ := τ) (main (F := Ideal))) ⟨m, fun _ => 0, ρ⟩ fun r => ∀ c : Dev nD,
      r.2.mem ((c.tc : Thread nD τ).loc main_v37) = put (m ((c.tc : Thread nD τ).loc main_arg6)) (grad (m ((c.tc : Thread nD τ).loc main_arg0)) (m ((c.tc : Thread nD τ).loc main_arg1)) (m ((c.tc : Thread nD τ).loc main_arg2)))
      ∧ r.2.mem ((c.tc : Thread nD τ).loc main_v42) = put (m ((c.tc : Thread nD τ).loc main_arg7)) (fun i => step (m ((c.tc : Thread nD τ).loc main_arg3) i) (grad (m ((c.tc : Thread nD τ).loc main_arg0)) (m ((c.tc : Thread nD τ).loc main_arg1)) (m ((c.tc : Thread nD τ).loc main_arg2)) i) (m ((c.tc : Thread nD τ).loc main_arg4) i) (m ((c.tc : Thread nD τ).loc main_arg5) i))
      ∧ r.2.mem ((c.tc : Thread nD τ).loc main_v47) = put (m ((c.tc : Thread nD τ).loc main_arg8)) (fun i => mom1 (grad (m ((c.tc : Thread nD τ).loc main_arg0)) (m ((c.tc : Thread nD τ).loc main_arg1)) (m ((c.tc : Thread nD τ).loc main_arg2)) i) (m ((c.tc : Thread nD τ).loc main_arg4) i))
      ∧ r.2.mem ((c.tc : Thread nD τ).loc main_v52) = put (m ((c.tc : Thread nD τ).loc main_arg9)) (fun i => mom2 (grad (m ((c.tc : Thread nD τ).loc main_arg0)) (m ((c.tc : Thread nD τ).loc main_arg1)) (m ((c.tc : Thread nD τ).loc main_arg2)) i) (m ((c.tc : Thread nD τ).loc main_arg5) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ?_) (Value.run m ρ)
  obtain ⟨h1, h2, h3, h4, hr⟩ := h c
  have e := fun i : S4x2x352x1024.Idx => sel_eq (BitVec.ofNat 32 (i 1).val) (m ((c.tc : Thread nD τ).loc main_arg2) (ix1 0)) (m ((c.tc : Thread nD τ).loc main_arg0) (ix2 (i 2) (i 3))) (m ((c.tc : Thread nD τ).loc main_arg1) (ix2 (i 2) (i 3)))
  refine ⟨h1.trans (funext fun i => ?_), h2.trans (funext fun i => ?_), h3.trans (funext fun i => ?_), h4.trans (funext fun i => ?_), hr⟩
  · pointwise
    refine (sel_eq _ _ _ _).trans ?_
    exact congrArg (fun g : EReal => if BitVec.ofNat 32 (i 0).val = 1#32 then g else m ((c.tc : Thread nD τ).loc main_arg6) i) (e i)
  · pointwise
    refine (sel_eq _ _ _ _).trans ?_
    exact congrArg (fun g : EReal => if BitVec.ofNat 32 (i 0).val = 1#32 then step (m ((c.tc : Thread nD τ).loc main_arg3) i) g (m ((c.tc : Thread nD τ).loc main_arg4) i) (m ((c.tc : Thread nD τ).loc main_arg5) i) else m ((c.tc : Thread nD τ).loc main_arg7) i) (e i)
  · pointwise
    refine (sel_eq _ _ _ _).trans ?_
    exact congrArg (fun g : EReal => if BitVec.ofNat 32 (i 0).val = 1#32 then mom1 g (m ((c.tc : Thread nD τ).loc main_arg4) i) else m ((c.tc : Thread nD τ).loc main_arg8) i) (e i)
  · pointwise
    refine (sel_eq _ _ _ _).trans ?_
    exact congrArg (fun g : EReal => if BitVec.ofNat 32 (i 0).val = 1#32 then mom2 g (m ((c.tc : Thread nD τ).loc main_arg5) i) else m ((c.tc : Thread nD τ).loc main_arg9) i) (e i)

theorem algebraic : Cert.algebraic_AdamDown1Ideal_AdamDown1RefIdeal := fun m g m' g' _ hag =>
  ⟨fun c => Cert.AdamDown1V.put (m ((c.tc : Thread Cert.AdamDown1Ideal.nD Cert.AdamDown1Ideal.τ).loc Cert.AdamDown1Ideal.main_arg6)) (gr m c), fun c => Cert.AdamDown1V.put (m ((c.tc : Thread Cert.AdamDown1Ideal.nD Cert.AdamDown1Ideal.τ).loc Cert.AdamDown1Ideal.main_arg7)) (de m c), fun c => Cert.AdamDown1V.put (m ((c.tc : Thread Cert.AdamDown1Ideal.nD Cert.AdamDown1Ideal.τ).loc Cert.AdamDown1Ideal.main_arg8)) (mo m c), fun c => Cert.AdamDown1V.put (m ((c.tc : Thread Cert.AdamDown1Ideal.nD Cert.AdamDown1Ideal.τ).loc Cert.AdamDown1Ideal.main_arg9)) (ve m c), run_blocks m g, (θ_run _ _ _).mono (fun r h c => by
      obtain ⟨h0, h1, h2, h3, h4, h5, h6, h7, h8, h9⟩ := hag c
      refine ⟨(h c).1.trans ?_, (h c).2.1.trans ?_, (h c).2.2.1.trans ?_, (h c).2.2.2.1.trans ?_, (h c).2.2.2.2⟩
      · rw [h0, h1, h2, h6]; rfl
      · rw [h0, h1, h2, h3, h4, h5, h7]; rfl
      · rw [h0, h1, h2, h4, h8]; rfl
      · rw [h0, h1, h2, h5, h9]; rfl) (ref_run m' g')⟩

end Cert.AdamDown1V

end
-- ==== Proof.Opt.AdamDown2.lean ====
/-
  One weight's update out of its two halves, part 2 of 4: the call and its reference end with the same four arrays.
-/
module

public import proofs.«01_k».proof.Defs
public import proofs.«01_k».proof.Proof.Gen.AdamDown2Ideal.Frame
public import proofs.«01_k».proof.Proof.Gen.AdamDown2.Frame
public import proofs.«01_k».proof.Proof.Gen.AdamDown2RefIdeal.Run
public import proofs.«01_k».proof.Proof.Opt.Adam
public import Idealize.ShloMosaic.Lib.Pipeline.ValueKit

@[expose] public section

set_option maxRecDepth 16384

noncomputable section

open Idealize.ShloMosaic Idealize.ShloMosaic.TcCoe Idealize.SL.Sem

namespace Cert.AdamDown2V

theorem ok_bits {F : FTy → Type} [FloatOps F] (m : (ℓ : Loc Cert.AdamDown2.nD Cert.AdamDown2.τ Cert.AdamDown2.sig) → Buf (Elt F) ℓ) : Cert.AdamDown2.Gen.Ok m := trivial

open Cert.AdamDown2Ideal Cert.AdamDown2Ideal.Gen Cert.Opt

theorem ok {F : FTy → Type} [FloatOps F] (m : (ℓ : Loc nD τ sig) → Buf (Elt F) ℓ) : Cert.AdamDown2Ideal.Gen.Ok m := trivial

variable (m : (ℓ : Loc nD τ sig) → Buf (Elt Ideal) ℓ)

/-- Any contents of the table: no window's place depends on them. -/
def a0 : (pcfg0 (F := Ideal)).Adm := ⟨fun | ⟨0, _⟩ => fun _ => (0#32 : BitVec 32), trivial⟩

theorem idx_nat : ∀ t : Fin grid0.N, ((cfg0 a0).win 0).index t = ![t.val % 11, 0] ∧ ((cfg0 a0).win 1).index t = ![t.val % 11, 0]
    ∧ ((cfg0 a0).win 5).index t = ![2, t.val / 11, t.val % 11, 0] ∧ (grid0.coords t 0).val = t.val / 11 := by decide +kernel

/-- The blocks of part 2. -/
def Part (β : Fin 4 → ℕ) : Prop := β 0 = 2

instance : DecidablePred Part := fun β => inferInstanceAs (Decidable (β 0 = 2))

theorem covers5 (a : (pcfg0 (F := Ideal)).Adm) : ((cfg0 a).win 5).CoversWhere Part :=
  (by decide +kernel : ((cfg0 a0).win 5).CoversWhere Part)

/-- A part's number as a word. -/
theorem part_word : ∀ j : Fin 4, ¬ j.val = 2 → ¬ BitVec.ofNat 32 j.val = 2#32 := by decide

/-- The array with part 2 new and the rest as it was. -/
def put (old new : S4x2x352x1024.Idx → EReal) (j : S4x2x352x1024.Idx) : EReal := if BitVec.ofNat 32 (j 0).val = 2#32 then new j else old j

/-- The gradient out of its two halves: the half whose number the word gives is the core's own. -/
def grad (own other : S352x1024.Idx → EReal) (half : S1.Idx → BitVec 32) (i : S4x2x352x1024.Idx) : EReal :=
  if BitVec.ofNat 32 (i 1).val = half (ix1 0) then own (ix2 (i 2) (i 3)) else other (ix2 (i 2) (i 3))

/-- Where an entry of point `t`'s block lies in the weight. -/
def E (t : Fin grid0.N) (y : S1x1x32x1024.Idx) : S4x2x352x1024.Idx :=
  ix4 2 ⟨t.val / 11, by have h : t.val < 22 := t.isLt; omega⟩ ⟨t.val % 11 * 32 + (y 2).val, by have h := (y 2).isLt; dsimp at h; omega⟩ (y 3)

theorem emb5 (a : (pcfg0 (F := Ideal)).Adm) (t : Fin grid0.N) (y : S1x1x32x1024.Idx) : (((cfg0 a).win 5).blk t).view.emb y = E t y := by
  obtain ⟨e0, e1, e5, ec⟩ := idx_nat t
  refine funext fun ax => Fin.ext ?_
  have h : (((((cfg0 a).win 5).blk t).view.emb y ax : Fin _) : ℕ) = ((cfg0 a0).win 5).index t ax * S1x1x32x1024.size ax + 1 * (y ax).val := rfl
  rw [e5] at h
  refine h.trans ?_
  have h0 := (y 0).isLt; have h1 := (y 1).isLt
  dsimp at h0 h1
  fin_cases ax <;> (simp [E, ix4] <;> omega)

theorem rd0 (c : Dev nD) (t : Fin grid0.N) (a : Fin 32) (b : Fin 1024) : iblk m (ok m) c 0 t (ix2 a b) =
    m ((c.tc : Thread nD τ).loc main_arg0) (ix2 ⟨t.val % 11 * 32 + a.val, by omega⟩ b) := by
  obtain ⟨e0, e1, e5, ec⟩ := idx_nat t
  refine (congrArg (V m c main_arg0) (funext fun ax => Fin.ext ?_)).trans (congrFun (V_main_arg0 m c) _)
  have h : (((((cfg0 a0).win 0).blk t).view.emb (ix2 a b) ax : Fin _) : ℕ) = ((cfg0 a0).win 0).index t ax * S32x1024.size ax + 1 * (ix2 a b ax).val := rfl
  rw [e0] at h
  refine h.trans ?_
  fin_cases ax <;> simp [ix2]

theorem rd1 (c : Dev nD) (t : Fin grid0.N) (a : Fin 32) (b : Fin 1024) : iblk m (ok m) c 1 t (ix2 a b) =
    m ((c.tc : Thread nD τ).loc main_arg1) (ix2 ⟨t.val % 11 * 32 + a.val, by omega⟩ b) := by
  obtain ⟨e0, e1, e5, ec⟩ := idx_nat t
  refine (congrArg (V m c main_arg1) (funext fun ax => Fin.ext ?_)).trans (congrFun (V_main_arg1 m c) _)
  have h : (((((cfg0 a0).win 1).blk t).view.emb (ix2 a b) ax : Fin _) : ℕ) = ((cfg0 a0).win 1).index t ax * S32x1024.size ax + 1 * (ix2 a b ax).val := rfl
  rw [e1] at h
  refine h.trans ?_
  fin_cases ax <;> simp [ix2]

theorem rd2 (c : Dev nD) (t : Fin grid0.N) (y : S1x1x32x1024.Idx) : iblk m (ok m) c 2 t y = m ((c.tc : Thread nD τ).loc main_arg3) (E t y) :=
  (congrArg (V m c main_arg3) (emb5 a0 t y)).trans (congrFun (V_main_arg3 m c) _)

theorem rd3 (c : Dev nD) (t : Fin grid0.N) (y : S1x1x32x1024.Idx) : iblk m (ok m) c 3 t y = m ((c.tc : Thread nD τ).loc main_arg4) (E t y) :=
  (congrArg (V m c main_arg4) (emb5 a0 t y)).trans (congrFun (V_main_arg4 m c) _)

theorem rd4 (c : Dev nD) (t : Fin grid0.N) (y : S1x1x32x1024.Idx) : iblk m (ok m) c 4 t y = m ((c.tc : Thread nD τ).loc main_arg5) (E t y) :=
  (congrArg (V m c main_arg5) (emb5 a0 t y)).trans (congrFun (V_main_arg5 m c) _)

/-- The gradient at an entry, and what the update makes of it. -/
def gr (c : Dev nD) := grad (m ((c.tc : Thread nD τ).loc main_arg0)) (m ((c.tc : Thread nD τ).loc main_arg1)) (m ((c.tc : Thread nD τ).loc main_arg2))
def de (c : Dev nD) (i : S4x2x352x1024.Idx) : EReal := step (m ((c.tc : Thread nD τ).loc main_arg3) i) (gr m c i) (m ((c.tc : Thread nD τ).loc main_arg4) i) (m ((c.tc : Thread nD τ).loc main_arg5) i)
def mo (c : Dev nD) (i : S4x2x352x1024.Idx) : EReal := mom1 (gr m c i) (m ((c.tc : Thread nD τ).loc main_arg4) i)
def ve (c : Dev nD) (i : S4x2x352x1024.Idx) : EReal := mom2 (gr m c i) (m ((c.tc : Thread nD τ).loc main_arg5) i)

theorem pick (c : Dev nD) (t : Fin grid0.N) (y : S1x1x32x1024.Idx) {h : BitVec 32} (eh : h = m ((c.tc : Thread nD τ).loc main_arg2) (ix1 0)) :
    (if BitVec.ofNat 32 (grid0.coords t 0).val = h then iblk m (ok m) c 0 t (ix2 (y 2) (y 3)) else iblk m (ok m) c 1 t (ix2 (y 2) (y 3))) = gr m c (E t y) := by
  obtain ⟨e0, e1, e5, ec⟩ := idx_nat t
  refine (ite_congr rfl (fun _ => rd0 m c t (y 2) (y 3)) (fun _ => rd1 m c t (y 2) (y 3))).trans ?_
  rw [eh, ec]
  rfl

variable {m} in
theorem at5 {c : Dev nD} {t : Fin grid0.N} {y : S1x1x32x1024.Idx} {h : BitVec 32} {v2 v3 : Vec Ideal S32x1024 .f32}
    (eh : h = m ((c.tc : Thread nD τ).loc main_arg2) (ix1 0)) (e2 : v2 = iblk m (ok m) c 0 t) (e3 : v3 = iblk m (ok m) c 1 t) :
    k0_pay1 (F := Ideal) (k0_pay5 (grid0.coords t) h v2 v3) y = gr m c (E t y) := by
  refine Eq.trans ?_ (pick m c t y eh)
  subst e2 e3
  unfold k0_pay1  k0_pay5
  pointwise
  exact sel_eq _ _ _ _

variable {m} in
theorem at6 {c : Dev nD} {t : Fin grid0.N} {y : S1x1x32x1024.Idx} {h : BitVec 32} {v2 v3 : Vec Ideal S32x1024 .f32} {v5 v7 v9 : Vec Ideal S1x1x32x1024 .f32}
    (eh : h = m ((c.tc : Thread nD τ).loc main_arg2) (ix1 0)) (e2 : v2 = iblk m (ok m) c 0 t) (e3 : v3 = iblk m (ok m) c 1 t) (e5 : v5 = iblk m (ok m) c 2 t) (e7 : v7 = iblk m (ok m) c 3 t) (e9 : v9 = iblk m (ok m) c 4 t) :
    k0_pay2 (F := Ideal) (k0_pay8 (grid0.coords t) h v2 v3 v5 v7 v9) y = de m c (E t y) := by
  unfold de
  rw [← rd2 m, ← rd3 m, ← rd4 m, ← pick m c t y eh]
  subst e2 e3 e5 e7 e9
  unfold k0_pay2 k0_pay8 k0_pay6 k0_pay7 k0_pay5
  pointwise
  exact congrArg (fun g : EReal => step (iblk m (ok m) c 2 t y) g (iblk m (ok m) c 3 t y) (iblk m (ok m) c 4 t y)) (sel_eq _ _ _ _)

variable {m} in
theorem at7 {c : Dev nD} {t : Fin grid0.N} {y : S1x1x32x1024.Idx} {h : BitVec 32} {v2 v3 : Vec Ideal S32x1024 .f32} {v7 : Vec Ideal S1x1x32x1024 .f32}
    (eh : h = m ((c.tc : Thread nD τ).loc main_arg2) (ix1 0)) (e2 : v2 = iblk m (ok m) c 0 t) (e3 : v3 = iblk m (ok m) c 1 t) (e7 : v7 = iblk m (ok m) c 3 t) :
    k0_pay3 (F := Ideal) (k0_pay6 (grid0.coords t) h v2 v3 v7) y = mo m c (E t y) := by
  unfold mo
  rw [← rd3 m, ← pick m c t y eh]
  subst e2 e3 e7
  unfold k0_pay3 k0_pay6 k0_pay5
  pointwise
  exact congrArg (fun g : EReal => mom1 g (iblk m (ok m) c 3 t y)) (sel_eq _ _ _ _)

variable {m} in
theorem at8 {c : Dev nD} {t : Fin grid0.N} {y : S1x1x32x1024.Idx} {h : BitVec 32} {v2 v3 : Vec Ideal S32x1024 .f32} {v9 : Vec Ideal S1x1x32x1024 .f32}
    (eh : h = m ((c.tc : Thread nD τ).loc main_arg2) (ix1 0)) (e2 : v2 = iblk m (ok m) c 0 t) (e3 : v3 = iblk m (ok m) c 1 t) (e9 : v9 = iblk m (ok m) c 4 t) :
    k0_pay4 (F := Ideal) (k0_pay7 (grid0.coords t) h v2 v3 v9) y = ve m c (E t y) := by
  unfold ve
  rw [← rd4 m, ← pick m c t y eh]
  subst e2 e3 e9
  unfold k0_pay4 k0_pay7 k0_pay5
  pointwise
  exact congrArg (fun g : EReal => mom2 g (iblk m (ok m) c 4 t y)) (sel_eq _ _ _ _)

theorem word (c : Dev nD) : View.readAt (Elt Ideal) (View.whole main_arg2) (Rect.unit ![0] ![1] inb_S1_S1_0).toLoadRect (tbl m 0) (Shape.Idx.first (by decide)) = m ((c.tc : Thread nD τ).loc main_arg2) (ix1 0) := by
  obtain rfl : c = 0 := Subsingleton.elim _ _
  refine (congrArg (V m (0 : Dev nD) main_arg2) (funext fun ax => Fin.ext ?_)).trans (congrFun (V_main_arg2 m 0) _)
  fin_cases ax
  rfl

theorem V_old5 (c : Dev nD) : V m c main_v0_0 = m ((c.tc : Thread nD τ).loc main_arg6) := by
  unfold V hostOps0
  after_results_simp
  rfl

theorem final5 (c : Dev nD) : (dats m (ok m) 0 c).arrAt 5 (cfgM m (ok m)).N = put (m ((c.tc : Thread nD τ).loc main_arg6)) (gr m c) := by
  refine (dats m (ok m) 0 c).arrAt_eq_of_coversWhere_of_agree 5 _ Part (covers5 _) (fun t hf y => ?_) (fun (j : S4x2x352x1024.Idx) hj => ?_)
  · rw [after0_5]
    unfold outsAt0
    dsimp only
    frame_out
    refine Eq.trans ?_ (congrArg (put (m ((c.tc : Thread nD τ).loc main_arg6)) (gr m c)) (emb5 (adm m (ok m)) t y)).symm
    refine Eq.trans ?_ (if_pos rfl).symm
    exact (at5 (word m c) ((hs0_0 m (ok m) t).read_unread _) ((hs0_1 m (ok m) t).read_unread _))
  · refine (congrFun ((A_eq m (ok m) c 5).trans (V_old5 m c)) _).trans ?_
    exact (if_neg (part_word (j 0) fun hh => hj ((Nat.div_one _).trans hh))).symm

theorem V_old6 (c : Dev nD) : V m c main_v0_1 = m ((c.tc : Thread nD τ).loc main_arg7) := by
  unfold V hostOps0
  after_results_simp
  rfl

theorem final6 (c : Dev nD) : (dats m (ok m) 0 c).arrAt 6 (cfgM m (ok m)).N = put (m ((c.tc : Thread nD τ).loc main_arg7)) (de m c) := by
  refine (dats m (ok m) 0 c).arrAt_eq_of_coversWhere_of_agree 6 _ Part (covers5 _) (fun t hf y => ?_) (fun (j : S4x2x352x1024.Idx) hj => ?_)
  · rw [after0_6]
    unfold outsAt0
    dsimp only
    frame_out
    refine Eq.trans ?_ (congrArg (put (m ((c.tc : Thread nD τ).loc main_arg7)) (de m c)) (emb5 (adm m (ok m)) t y)).symm
    refine Eq.trans ?_ (if_pos rfl).symm
    exact (at6 (word m c) ((hs0_0 m (ok m) t).read_unread _) ((hs0_1 m (ok m) t).read_unread _) ((hs0_2 m (ok m) t).read_unread _) ((hs0_3 m (ok m) t).read_unread _) ((hs0_4 m (ok m) t).read_unread _))
  · refine (congrFun ((A_eq m (ok m) c 6).trans (V_old6 m c)) _).trans ?_
    exact (if_neg (part_word (j 0) fun hh => hj ((Nat.div_one _).trans hh))).symm

theorem V_old7 (c : Dev nD) : V m c main_v0_2 = m ((c.tc : Thread nD τ).loc main_arg8) := by
  unfold V hostOps0
  after_results_simp
  rfl

theorem final7 (c : Dev nD) : (dats m (ok m) 0 c).arrAt 7 (cfgM m (ok m)).N = put (m ((c.tc : Thread nD τ).loc main_arg8)) (mo m c) := by
  refine (dats m (ok m) 0 c).arrAt_eq_of_coversWhere_of_agree 7 _ Part (covers5 _) (fun t hf y => ?_) (fun (j : S4x2x352x1024.Idx) hj => ?_)
  · rw [after0_7]
    unfold outsAt0
    dsimp only
    frame_out
    refine Eq.trans ?_ (congrArg (put (m ((c.tc : Thread nD τ).loc main_arg8)) (mo m c)) (emb5 (adm m (ok m)) t y)).symm
    refine Eq.trans ?_ (if_pos rfl).symm
    exact (at7 (word m c) ((hs0_0 m (ok m) t).read_unread _) ((hs0_1 m (ok m) t).read_unread _) ((hs0_3 m (ok m) t).read_unread _))
  · refine (congrFun ((A_eq m (ok m) c 7).trans (V_old7 m c)) _).trans ?_
    exact (if_neg (part_word (j 0) fun hh => hj ((Nat.div_one _).trans hh))).symm

theorem V_old8 (c : Dev nD) : V m c main_v0_3 = m ((c.tc : Thread nD τ).loc main_arg9) := by
  unfold V hostOps0
  after_results_simp
  rfl

theorem final8 (c : Dev nD) : (dats m (ok m) 0 c).arrAt 8 (cfgM m (ok m)).N = put (m ((c.tc : Thread nD τ).loc main_arg9)) (ve m c) := by
  refine (dats m (ok m) 0 c).arrAt_eq_of_coversWhere_of_agree 8 _ Part (covers5 _) (fun t hf y => ?_) (fun (j : S4x2x352x1024.Idx) hj => ?_)
  · rw [after0_8]
    unfold outsAt0
    dsimp only
    frame_out
    refine Eq.trans ?_ (congrArg (put (m ((c.tc : Thread nD τ).loc main_arg9)) (ve m c)) (emb5 (adm m (ok m)) t y)).symm
    refine Eq.trans ?_ (if_pos rfl).symm
    exact (at8 (word m c) ((hs0_0 m (ok m) t).read_unread _) ((hs0_1 m (ok m) t).read_unread _) ((hs0_4 m (ok m) t).read_unread _))
  · refine (congrFun ((A_eq m (ok m) c 8).trans (V_old8 m c)) _).trans ?_
    exact (if_neg (part_word (j 0) fun hh => hj ((Nat.div_one _).trans hh))).symm

/-- The region's run: the four arrays, and the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v0_0) = put (m ((c.tc : Thread nD τ).loc main_arg6)) (gr m c)
      ∧ r.2.mem ((c.tc : Thread nD τ).loc main_v0_1) = put (m ((c.tc : Thread nD τ).loc main_arg7)) (de m c)
      ∧ r.2.mem ((c.tc : Thread nD τ).loc main_v0_2) = put (m ((c.tc : Thread nD τ).loc main_arg8)) (mo m c)
      ∧ r.2.mem ((c.tc : Thread nD τ).loc main_v0_3) = put (m ((c.tc : Thread nD τ).loc main_arg9)) (ve m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run _ _ _).mono (fun r h c => ⟨((h.1 c).1 5).trans (final5 m c), ((h.1 c).1 6).trans (final6 m c), ((h.1 c).1 7).trans (final7 m c), ((h.1 c).1 8).trans (final8 m c), h.2 c⟩)
    (θ_run_and (run_main m ρ (ok m)) (unchanged m ρ (ok m)))

end Cert.AdamDown2V

namespace Cert.AdamDown2V

open Cert.AdamDown2RefIdeal Cert.Opt

variable (m : (ℓ : Loc nD τ sig) → Buf (Elt Ideal) ℓ)

/-- The reference's run: the same four arrays. -/
theorem ref_run (ρ : Dev nD → PrngReg) :
    θ_run defs (onTc (τ := τ) (main (F := Ideal))) ⟨m, fun _ => 0, ρ⟩ fun r => ∀ c : Dev nD,
      r.2.mem ((c.tc : Thread nD τ).loc main_v37) = put (m ((c.tc : Thread nD τ).loc main_arg6)) (grad (m ((c.tc : Thread nD τ).loc main_arg0)) (m ((c.tc : Thread nD τ).loc main_arg1)) (m ((c.tc : Thread nD τ).loc main_arg2)))
      ∧ r.2.mem ((c.tc : Thread nD τ).loc main_v42) = put (m ((c.tc : Thread nD τ).loc main_arg7)) (fun i => step (m ((c.tc : Thread nD τ).loc main_arg3) i) (grad (m ((c.tc : Thread nD τ).loc main_arg0)) (m ((c.tc : Thread nD τ).loc main_arg1)) (m ((c.tc : Thread nD τ).loc main_arg2)) i) (m ((c.tc : Thread nD τ).loc main_arg4) i) (m ((c.tc : Thread nD τ).loc main_arg5) i))
      ∧ r.2.mem ((c.tc : Thread nD τ).loc main_v47) = put (m ((c.tc : Thread nD τ).loc main_arg8)) (fun i => mom1 (grad (m ((c.tc : Thread nD τ).loc main_arg0)) (m ((c.tc : Thread nD τ).loc main_arg1)) (m ((c.tc : Thread nD τ).loc main_arg2)) i) (m ((c.tc : Thread nD τ).loc main_arg4) i))
      ∧ r.2.mem ((c.tc : Thread nD τ).loc main_v52) = put (m ((c.tc : Thread nD τ).loc main_arg9)) (fun i => mom2 (grad (m ((c.tc : Thread nD τ).loc main_arg0)) (m ((c.tc : Thread nD τ).loc main_arg1)) (m ((c.tc : Thread nD τ).loc main_arg2)) i) (m ((c.tc : Thread nD τ).loc main_arg5) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ?_) (Value.run m ρ)
  obtain ⟨h1, h2, h3, h4, hr⟩ := h c
  have e := fun i : S4x2x352x1024.Idx => sel_eq (BitVec.ofNat 32 (i 1).val) (m ((c.tc : Thread nD τ).loc main_arg2) (ix1 0)) (m ((c.tc : Thread nD τ).loc main_arg0) (ix2 (i 2) (i 3))) (m ((c.tc : Thread nD τ).loc main_arg1) (ix2 (i 2) (i 3)))
  refine ⟨h1.trans (funext fun i => ?_), h2.trans (funext fun i => ?_), h3.trans (funext fun i => ?_), h4.trans (funext fun i => ?_), hr⟩
  · pointwise
    refine (sel_eq _ _ _ _).trans ?_
    exact congrArg (fun g : EReal => if BitVec.ofNat 32 (i 0).val = 2#32 then g else m ((c.tc : Thread nD τ).loc main_arg6) i) (e i)
  · pointwise
    refine (sel_eq _ _ _ _).trans ?_
    exact congrArg (fun g : EReal => if BitVec.ofNat 32 (i 0).val = 2#32 then step (m ((c.tc : Thread nD τ).loc main_arg3) i) g (m ((c.tc : Thread nD τ).loc main_arg4) i) (m ((c.tc : Thread nD τ).loc main_arg5) i) else m ((c.tc : Thread nD τ).loc main_arg7) i) (e i)
  · pointwise
    refine (sel_eq _ _ _ _).trans ?_
    exact congrArg (fun g : EReal => if BitVec.ofNat 32 (i 0).val = 2#32 then mom1 g (m ((c.tc : Thread nD τ).loc main_arg4) i) else m ((c.tc : Thread nD τ).loc main_arg8) i) (e i)
  · pointwise
    refine (sel_eq _ _ _ _).trans ?_
    exact congrArg (fun g : EReal => if BitVec.ofNat 32 (i 0).val = 2#32 then mom2 g (m ((c.tc : Thread nD τ).loc main_arg5) i) else m ((c.tc : Thread nD τ).loc main_arg9) i) (e i)

theorem algebraic : Cert.algebraic_AdamDown2Ideal_AdamDown2RefIdeal := fun m g m' g' _ hag =>
  ⟨fun c => Cert.AdamDown2V.put (m ((c.tc : Thread Cert.AdamDown2Ideal.nD Cert.AdamDown2Ideal.τ).loc Cert.AdamDown2Ideal.main_arg6)) (gr m c), fun c => Cert.AdamDown2V.put (m ((c.tc : Thread Cert.AdamDown2Ideal.nD Cert.AdamDown2Ideal.τ).loc Cert.AdamDown2Ideal.main_arg7)) (de m c), fun c => Cert.AdamDown2V.put (m ((c.tc : Thread Cert.AdamDown2Ideal.nD Cert.AdamDown2Ideal.τ).loc Cert.AdamDown2Ideal.main_arg8)) (mo m c), fun c => Cert.AdamDown2V.put (m ((c.tc : Thread Cert.AdamDown2Ideal.nD Cert.AdamDown2Ideal.τ).loc Cert.AdamDown2Ideal.main_arg9)) (ve m c), run_blocks m g, (θ_run _ _ _).mono (fun r h c => by
      obtain ⟨h0, h1, h2, h3, h4, h5, h6, h7, h8, h9⟩ := hag c
      refine ⟨(h c).1.trans ?_, (h c).2.1.trans ?_, (h c).2.2.1.trans ?_, (h c).2.2.2.1.trans ?_, (h c).2.2.2.2⟩
      · rw [h0, h1, h2, h6]; rfl
      · rw [h0, h1, h2, h3, h4, h5, h7]; rfl
      · rw [h0, h1, h2, h4, h8]; rfl
      · rw [h0, h1, h2, h5, h9]; rfl) (ref_run m' g')⟩

end Cert.AdamDown2V

end
-- ==== Proof.Opt.AdamDown3.lean ====
/-
  One weight's update out of its two halves, part 3 of 4: the call and its reference end with the same four arrays.
-/
module

public import proofs.«01_k».proof.Defs
public import proofs.«01_k».proof.Proof.Gen.AdamDown3Ideal.Frame
public import proofs.«01_k».proof.Proof.Gen.AdamDown3.Frame
public import proofs.«01_k».proof.Proof.Gen.AdamDown3RefIdeal.Run
public import proofs.«01_k».proof.Proof.Opt.Adam
public import Idealize.ShloMosaic.Lib.Pipeline.ValueKit

@[expose] public section

set_option maxRecDepth 16384

noncomputable section

open Idealize.ShloMosaic Idealize.ShloMosaic.TcCoe Idealize.SL.Sem

namespace Cert.AdamDown3V

theorem ok_bits {F : FTy → Type} [FloatOps F] (m : (ℓ : Loc Cert.AdamDown3.nD Cert.AdamDown3.τ Cert.AdamDown3.sig) → Buf (Elt F) ℓ) : Cert.AdamDown3.Gen.Ok m := trivial

open Cert.AdamDown3Ideal Cert.AdamDown3Ideal.Gen Cert.Opt

theorem ok {F : FTy → Type} [FloatOps F] (m : (ℓ : Loc nD τ sig) → Buf (Elt F) ℓ) : Cert.AdamDown3Ideal.Gen.Ok m := trivial

variable (m : (ℓ : Loc nD τ sig) → Buf (Elt Ideal) ℓ)

/-- Any contents of the table: no window's place depends on them. -/
def a0 : (pcfg0 (F := Ideal)).Adm := ⟨fun | ⟨0, _⟩ => fun _ => (0#32 : BitVec 32), trivial⟩

theorem idx_nat : ∀ t : Fin grid0.N, ((cfg0 a0).win 0).index t = ![t.val % 11, 0] ∧ ((cfg0 a0).win 1).index t = ![t.val % 11, 0]
    ∧ ((cfg0 a0).win 5).index t = ![3, t.val / 11, t.val % 11, 0] ∧ (grid0.coords t 0).val = t.val / 11 := by decide +kernel

/-- The blocks of part 3. -/
def Part (β : Fin 4 → ℕ) : Prop := β 0 = 3

instance : DecidablePred Part := fun β => inferInstanceAs (Decidable (β 0 = 3))

theorem covers5 (a : (pcfg0 (F := Ideal)).Adm) : ((cfg0 a).win 5).CoversWhere Part :=
  (by decide +kernel : ((cfg0 a0).win 5).CoversWhere Part)

/-- A part's number as a word. -/
theorem part_word : ∀ j : Fin 4, ¬ j.val = 3 → ¬ BitVec.ofNat 32 j.val = 3#32 := by decide

/-- The array with part 3 new and the rest as it was. -/
def put (old new : S4x2x352x1024.Idx → EReal) (j : S4x2x352x1024.Idx) : EReal := if BitVec.ofNat 32 (j 0).val = 3#32 then new j else old j

/-- The gradient out of its two halves: the half whose number the word gives is the core's own. -/
def grad (own other : S352x1024.Idx → EReal) (half : S1.Idx → BitVec 32) (i : S4x2x352x1024.Idx) : EReal :=
  if BitVec.ofNat 32 (i 1).val = half (ix1 0) then own (ix2 (i 2) (i 3)) else other (ix2 (i 2) (i 3))

/-- Where an entry of point `t`'s block lies in the weight. -/
def E (t : Fin grid0.N) (y : S1x1x32x1024.Idx) : S4x2x352x1024.Idx :=
  ix4 3 ⟨t.val / 11, by have h : t.val < 22 := t.isLt; omega⟩ ⟨t.val % 11 * 32 + (y 2).val, by have h := (y 2).isLt; dsimp at h; omega⟩ (y 3)

theorem emb5 (a : (pcfg0 (F := Ideal)).Adm) (t : Fin grid0.N) (y : S1x1x32x1024.Idx) : (((cfg0 a).win 5).blk t).view.emb y = E t y := by
  obtain ⟨e0, e1, e5, ec⟩ := idx_nat t
  refine funext fun ax => Fin.ext ?_
  have h : (((((cfg0 a).win 5).blk t).view.emb y ax : Fin _) : ℕ) = ((cfg0 a0).win 5).index t ax * S1x1x32x1024.size ax + 1 * (y ax).val := rfl
  rw [e5] at h
  refine h.trans ?_
  have h0 := (y 0).isLt; have h1 := (y 1).isLt
  dsimp at h0 h1
  fin_cases ax <;> (simp [E, ix4] <;> omega)

theorem rd0 (c : Dev nD) (t : Fin grid0.N) (a : Fin 32) (b : Fin 1024) : iblk m (ok m) c 0 t (ix2 a b) =
    m ((c.tc : Thread nD τ).loc main_arg0) (ix2 ⟨t.val % 11 * 32 + a.val, by omega⟩ b) := by
  obtain ⟨e0, e1, e5, ec⟩ := idx_nat t
  refine (congrArg (V m c main_arg0) (funext fun ax => Fin.ext ?_)).trans (congrFun (V_main_arg0 m c) _)
  have h : (((((cfg0 a0).win 0).blk t).view.emb (ix2 a b) ax : Fin _) : ℕ) = ((cfg0 a0).win 0).index t ax * S32x1024.size ax + 1 * (ix2 a b ax).val := rfl
  rw [e0] at h
  refine h.trans ?_
  fin_cases ax <;> simp [ix2]

theorem rd1 (c : Dev nD) (t : Fin grid0.N) (a : Fin 32) (b : Fin 1024) : iblk m (ok m) c 1 t (ix2 a b) =
    m ((c.tc : Thread nD τ).loc main_arg1) (ix2 ⟨t.val % 11 * 32 + a.val, by omega⟩ b) := by
  obtain ⟨e0, e1, e5, ec⟩ := idx_nat t
  refine (congrArg (V m c main_arg1) (funext fun ax => Fin.ext ?_)).trans (congrFun (V_main_arg1 m c) _)
  have h : (((((cfg0 a0).win 1).blk t).view.emb (ix2 a b) ax : Fin _) : ℕ) = ((cfg0 a0).win 1).index t ax * S32x1024.size ax + 1 * (ix2 a b ax).val := rfl
  rw [e1] at h
  refine h.trans ?_
  fin_cases ax <;> simp [ix2]

theorem rd2 (c : Dev nD) (t : Fin grid0.N) (y : S1x1x32x1024.Idx) : iblk m (ok m) c 2 t y = m ((c.tc : Thread nD τ).loc main_arg3) (E t y) :=
  (congrArg (V m c main_arg3) (emb5 a0 t y)).trans (congrFun (V_main_arg3 m c) _)

theorem rd3 (c : Dev nD) (t : Fin grid0.N) (y : S1x1x32x1024.Idx) : iblk m (ok m) c 3 t y = m ((c.tc : Thread nD τ).loc main_arg4) (E t y) :=
  (congrArg (V m c main_arg4) (emb5 a0 t y)).trans (congrFun (V_main_arg4 m c) _)

theorem rd4 (c : Dev nD) (t : Fin grid0.N) (y : S1x1x32x1024.Idx) : iblk m (ok m) c 4 t y = m ((c.tc : Thread nD τ).loc main_arg5) (E t y) :=
  (congrArg (V m c main_arg5) (emb5 a0 t y)).trans (congrFun (V_main_arg5 m c) _)

/-- The gradient at an entry, and what the update makes of it. -/
def gr (c : Dev nD) := grad (m ((c.tc : Thread nD τ).loc main_arg0)) (m ((c.tc : Thread nD τ).loc main_arg1)) (m ((c.tc : Thread nD τ).loc main_arg2))
def de (c : Dev nD) (i : S4x2x352x1024.Idx) : EReal := step (m ((c.tc : Thread nD τ).loc main_arg3) i) (gr m c i) (m ((c.tc : Thread nD τ).loc main_arg4) i) (m ((c.tc : Thread nD τ).loc main_arg5) i)
def mo (c : Dev nD) (i : S4x2x352x1024.Idx) : EReal := mom1 (gr m c i) (m ((c.tc : Thread nD τ).loc main_arg4) i)
def ve (c : Dev nD) (i : S4x2x352x1024.Idx) : EReal := mom2 (gr m c i) (m ((c.tc : Thread nD τ).loc main_arg5) i)

theorem pick (c : Dev nD) (t : Fin grid0.N) (y : S1x1x32x1024.Idx) {h : BitVec 32} (eh : h = m ((c.tc : Thread nD τ).loc main_arg2) (ix1 0)) :
    (if BitVec.ofNat 32 (grid0.coords t 0).val = h then iblk m (ok m) c 0 t (ix2 (y 2) (y 3)) else iblk m (ok m) c 1 t (ix2 (y 2) (y 3))) = gr m c (E t y) := by
  obtain ⟨e0, e1, e5, ec⟩ := idx_nat t
  refine (ite_congr rfl (fun _ => rd0 m c t (y 2) (y 3)) (fun _ => rd1 m c t (y 2) (y 3))).trans ?_
  rw [eh, ec]
  rfl

variable {m} in
theorem at5 {c : Dev nD} {t : Fin grid0.N} {y : S1x1x32x1024.Idx} {h : BitVec 32} {v2 v3 : Vec Ideal S32x1024 .f32}
    (eh : h = m ((c.tc : Thread nD τ).loc main_arg2) (ix1 0)) (e2 : v2 = iblk m (ok m) c 0 t) (e3 : v3 = iblk m (ok m) c 1 t) :
    k0_pay1 (F := Ideal) (k0_pay5 (grid0.coords t) h v2 v3) y = gr m c (E t y) := by
  refine Eq.trans ?_ (pick m c t y eh)
  subst e2 e3
  unfold k0_pay1  k0_pay5
  pointwise
  exact sel_eq _ _ _ _

variable {m} in
theorem at6 {c : Dev nD} {t : Fin grid0.N} {y : S1x1x32x1024.Idx} {h : BitVec 32} {v2 v3 : Vec Ideal S32x1024 .f32} {v5 v7 v9 : Vec Ideal S1x1x32x1024 .f32}
    (eh : h = m ((c.tc : Thread nD τ).loc main_arg2) (ix1 0)) (e2 : v2 = iblk m (ok m) c 0 t) (e3 : v3 = iblk m (ok m) c 1 t) (e5 : v5 = iblk m (ok m) c 2 t) (e7 : v7 = iblk m (ok m) c 3 t) (e9 : v9 = iblk m (ok m) c 4 t) :
    k0_pay2 (F := Ideal) (k0_pay8 (grid0.coords t) h v2 v3 v5 v7 v9) y = de m c (E t y) := by
  unfold de
  rw [← rd2 m, ← rd3 m, ← rd4 m, ← pick m c t y eh]
  subst e2 e3 e5 e7 e9
  unfold k0_pay2 k0_pay8 k0_pay6 k0_pay7 k0_pay5
  pointwise
  exact congrArg (fun g : EReal => step (iblk m (ok m) c 2 t y) g (iblk m (ok m) c 3 t y) (iblk m (ok m) c 4 t y)) (sel_eq _ _ _ _)

variable {m} in
theorem at7 {c : Dev nD} {t : Fin grid0.N} {y : S1x1x32x1024.Idx} {h : BitVec 32} {v2 v3 : Vec Ideal S32x1024 .f32} {v7 : Vec Ideal S1x1x32x1024 .f32}
    (eh : h = m ((c.tc : Thread nD τ).loc main_arg2) (ix1 0)) (e2 : v2 = iblk m (ok m) c 0 t) (e3 : v3 = iblk m (ok m) c 1 t) (e7 : v7 = iblk m (ok m) c 3 t) :
    k0_pay3 (F := Ideal) (k0_pay6 (grid0.coords t) h v2 v3 v7) y = mo m c (E t y) := by
  unfold mo
  rw [← rd3 m, ← pick m c t y eh]
  subst e2 e3 e7
  unfold k0_pay3 k0_pay6 k0_pay5
  pointwise
  exact congrArg (fun g : EReal => mom1 g (iblk m (ok m) c 3 t y)) (sel_eq _ _ _ _)

variable {m} in
theorem at8 {c : Dev nD} {t : Fin grid0.N} {y : S1x1x32x1024.Idx} {h : BitVec 32} {v2 v3 : Vec Ideal S32x1024 .f32} {v9 : Vec Ideal S1x1x32x1024 .f32}
    (eh : h = m ((c.tc : Thread nD τ).loc main_arg2) (ix1 0)) (e2 : v2 = iblk m (ok m) c 0 t) (e3 : v3 = iblk m (ok m) c 1 t) (e9 : v9 = iblk m (ok m) c 4 t) :
    k0_pay4 (F := Ideal) (k0_pay7 (grid0.coords t) h v2 v3 v9) y = ve m c (E t y) := by
  unfold ve
  rw [← rd4 m, ← pick m c t y eh]
  subst e2 e3 e9
  unfold k0_pay4 k0_pay7 k0_pay5
  pointwise
  exact congrArg (fun g : EReal => mom2 g (iblk m (ok m) c 4 t y)) (sel_eq _ _ _ _)

theorem word (c : Dev nD) : View.readAt (Elt Ideal) (View.whole main_arg2) (Rect.unit ![0] ![1] inb_S1_S1_0).toLoadRect (tbl m 0) (Shape.Idx.first (by decide)) = m ((c.tc : Thread nD τ).loc main_arg2) (ix1 0) := by
  obtain rfl : c = 0 := Subsingleton.elim _ _
  refine (congrArg (V m (0 : Dev nD) main_arg2) (funext fun ax => Fin.ext ?_)).trans (congrFun (V_main_arg2 m 0) _)
  fin_cases ax
  rfl

theorem V_old5 (c : Dev nD) : V m c main_v0_0 = m ((c.tc : Thread nD τ).loc main_arg6) := by
  unfold V hostOps0
  after_results_simp
  rfl

theorem final5 (c : Dev nD) : (dats m (ok m) 0 c).arrAt 5 (cfgM m (ok m)).N = put (m ((c.tc : Thread nD τ).loc main_arg6)) (gr m c) := by
  refine (dats m (ok m) 0 c).arrAt_eq_of_coversWhere_of_agree 5 _ Part (covers5 _) (fun t hf y => ?_) (fun (j : S4x2x352x1024.Idx) hj => ?_)
  · rw [after0_5]
    unfold outsAt0
    dsimp only
    frame_out
    refine Eq.trans ?_ (congrArg (put (m ((c.tc : Thread nD τ).loc main_arg6)) (gr m c)) (emb5 (adm m (ok m)) t y)).symm
    refine Eq.trans ?_ (if_pos rfl).symm
    exact (at5 (word m c) ((hs0_0 m (ok m) t).read_unread _) ((hs0_1 m (ok m) t).read_unread _))
  · refine (congrFun ((A_eq m (ok m) c 5).trans (V_old5 m c)) _).trans ?_
    exact (if_neg (part_word (j 0) fun hh => hj ((Nat.div_one _).trans hh))).symm

theorem V_old6 (c : Dev nD) : V m c main_v0_1 = m ((c.tc : Thread nD τ).loc main_arg7) := by
  unfold V hostOps0
  after_results_simp
  rfl

theorem final6 (c : Dev nD) : (dats m (ok m) 0 c).arrAt 6 (cfgM m (ok m)).N = put (m ((c.tc : Thread nD τ).loc main_arg7)) (de m c) := by
  refine (dats m (ok m) 0 c).arrAt_eq_of_coversWhere_of_agree 6 _ Part (covers5 _) (fun t hf y => ?_) (fun (j : S4x2x352x1024.Idx) hj => ?_)
  · rw [after0_6]
    unfold outsAt0
    dsimp only
    frame_out
    refine Eq.trans ?_ (congrArg (put (m ((c.tc : Thread nD τ).loc main_arg7)) (de m c)) (emb5 (adm m (ok m)) t y)).symm
    refine Eq.trans ?_ (if_pos rfl).symm
    exact (at6 (word m c) ((hs0_0 m (ok m) t).read_unread _) ((hs0_1 m (ok m) t).read_unread _) ((hs0_2 m (ok m) t).read_unread _) ((hs0_3 m (ok m) t).read_unread _) ((hs0_4 m (ok m) t).read_unread _))
  · refine (congrFun ((A_eq m (ok m) c 6).trans (V_old6 m c)) _).trans ?_
    exact (if_neg (part_word (j 0) fun hh => hj ((Nat.div_one _).trans hh))).symm

theorem V_old7 (c : Dev nD) : V m c main_v0_2 = m ((c.tc : Thread nD τ).loc main_arg8) := by
  unfold V hostOps0
  after_results_simp
  rfl

theorem final7 (c : Dev nD) : (dats m (ok m) 0 c).arrAt 7 (cfgM m (ok m)).N = put (m ((c.tc : Thread nD τ).loc main_arg8)) (mo m c) := by
  refine (dats m (ok m) 0 c).arrAt_eq_of_coversWhere_of_agree 7 _ Part (covers5 _) (fun t hf y => ?_) (fun (j : S4x2x352x1024.Idx) hj => ?_)
  · rw [after0_7]
    unfold outsAt0
    dsimp only
    frame_out
    refine Eq.trans ?_ (congrArg (put (m ((c.tc : Thread nD τ).loc main_arg8)) (mo m c)) (emb5 (adm m (ok m)) t y)).symm
    refine Eq.trans ?_ (if_pos rfl).symm
    exact (at7 (word m c) ((hs0_0 m (ok m) t).read_unread _) ((hs0_1 m (ok m) t).read_unread _) ((hs0_3 m (ok m) t).read_unread _))
  · refine (congrFun ((A_eq m (ok m) c 7).trans (V_old7 m c)) _).trans ?_
    exact (if_neg (part_word (j 0) fun hh => hj ((Nat.div_one _).trans hh))).symm

theorem V_old8 (c : Dev nD) : V m c main_v0_3 = m ((c.tc : Thread nD τ).loc main_arg9) := by
  unfold V hostOps0
  after_results_simp
  rfl

theorem final8 (c : Dev nD) : (dats m (ok m) 0 c).arrAt 8 (cfgM m (ok m)).N = put (m ((c.tc : Thread nD τ).loc main_arg9)) (ve m c) := by
  refine (dats m (ok m) 0 c).arrAt_eq_of_coversWhere_of_agree 8 _ Part (covers5 _) (fun t hf y => ?_) (fun (j : S4x2x352x1024.Idx) hj => ?_)
  · rw [after0_8]
    unfold outsAt0
    dsimp only
    frame_out
    refine Eq.trans ?_ (congrArg (put (m ((c.tc : Thread nD τ).loc main_arg9)) (ve m c)) (emb5 (adm m (ok m)) t y)).symm
    refine Eq.trans ?_ (if_pos rfl).symm
    exact (at8 (word m c) ((hs0_0 m (ok m) t).read_unread _) ((hs0_1 m (ok m) t).read_unread _) ((hs0_4 m (ok m) t).read_unread _))
  · refine (congrFun ((A_eq m (ok m) c 8).trans (V_old8 m c)) _).trans ?_
    exact (if_neg (part_word (j 0) fun hh => hj ((Nat.div_one _).trans hh))).symm

/-- The region's run: the four arrays, and the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v0_0) = put (m ((c.tc : Thread nD τ).loc main_arg6)) (gr m c)
      ∧ r.2.mem ((c.tc : Thread nD τ).loc main_v0_1) = put (m ((c.tc : Thread nD τ).loc main_arg7)) (de m c)
      ∧ r.2.mem ((c.tc : Thread nD τ).loc main_v0_2) = put (m ((c.tc : Thread nD τ).loc main_arg8)) (mo m c)
      ∧ r.2.mem ((c.tc : Thread nD τ).loc main_v0_3) = put (m ((c.tc : Thread nD τ).loc main_arg9)) (ve m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run _ _ _).mono (fun r h c => ⟨((h.1 c).1 5).trans (final5 m c), ((h.1 c).1 6).trans (final6 m c), ((h.1 c).1 7).trans (final7 m c), ((h.1 c).1 8).trans (final8 m c), h.2 c⟩)
    (θ_run_and (run_main m ρ (ok m)) (unchanged m ρ (ok m)))

end Cert.AdamDown3V

namespace Cert.AdamDown3V

open Cert.AdamDown3RefIdeal Cert.Opt

variable (m : (ℓ : Loc nD τ sig) → Buf (Elt Ideal) ℓ)

/-- The reference's run: the same four arrays. -/
theorem ref_run (ρ : Dev nD → PrngReg) :
    θ_run defs (onTc (τ := τ) (main (F := Ideal))) ⟨m, fun _ => 0, ρ⟩ fun r => ∀ c : Dev nD,
      r.2.mem ((c.tc : Thread nD τ).loc main_v37) = put (m ((c.tc : Thread nD τ).loc main_arg6)) (grad (m ((c.tc : Thread nD τ).loc main_arg0)) (m ((c.tc : Thread nD τ).loc main_arg1)) (m ((c.tc : Thread nD τ).loc main_arg2)))
      ∧ r.2.mem ((c.tc : Thread nD τ).loc main_v42) = put (m ((c.tc : Thread nD τ).loc main_arg7)) (fun i => step (m ((c.tc : Thread nD τ).loc main_arg3) i) (grad (m ((c.tc : Thread nD τ).loc main_arg0)) (m ((c.tc : Thread nD τ).loc main_arg1)) (m ((c.tc : Thread nD τ).loc main_arg2)) i) (m ((c.tc : Thread nD τ).loc main_arg4) i) (m ((c.tc : Thread nD τ).loc main_arg5) i))
      ∧ r.2.mem ((c.tc : Thread nD τ).loc main_v47) = put (m ((c.tc : Thread nD τ).loc main_arg8)) (fun i => mom1 (grad (m ((c.tc : Thread nD τ).loc main_arg0)) (m ((c.tc : Thread nD τ).loc main_arg1)) (m ((c.tc : Thread nD τ).loc main_arg2)) i) (m ((c.tc : Thread nD τ).loc main_arg4) i))
      ∧ r.2.mem ((c.tc : Thread nD τ).loc main_v52) = put (m ((c.tc : Thread nD τ).loc main_arg9)) (fun i => mom2 (grad (m ((c.tc : Thread nD τ).loc main_arg0)) (m ((c.tc : Thread nD τ).loc main_arg1)) (m ((c.tc : Thread nD τ).loc main_arg2)) i) (m ((c.tc : Thread nD τ).loc main_arg5) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ?_) (Value.run m ρ)
  obtain ⟨h1, h2, h3, h4, hr⟩ := h c
  have e := fun i : S4x2x352x1024.Idx => sel_eq (BitVec.ofNat 32 (i 1).val) (m ((c.tc : Thread nD τ).loc main_arg2) (ix1 0)) (m ((c.tc : Thread nD τ).loc main_arg0) (ix2 (i 2) (i 3))) (m ((c.tc : Thread nD τ).loc main_arg1) (ix2 (i 2) (i 3)))
  refine ⟨h1.trans (funext fun i => ?_), h2.trans (funext fun i => ?_), h3.trans (funext fun i => ?_), h4.trans (funext fun i => ?_), hr⟩
  · pointwise
    refine (sel_eq _ _ _ _).trans ?_
    exact congrArg (fun g : EReal => if BitVec.ofNat 32 (i 0).val = 3#32 then g else m ((c.tc : Thread nD τ).loc main_arg6) i) (e i)
  · pointwise
    refine (sel_eq _ _ _ _).trans ?_
    exact congrArg (fun g : EReal => if BitVec.ofNat 32 (i 0).val = 3#32 then step (m ((c.tc : Thread nD τ).loc main_arg3) i) g (m ((c.tc : Thread nD τ).loc main_arg4) i) (m ((c.tc : Thread nD τ).loc main_arg5) i) else m ((c.tc : Thread nD τ).loc main_arg7) i) (e i)
  · pointwise
    refine (sel_eq _ _ _ _).trans ?_
    exact congrArg (fun g : EReal => if BitVec.ofNat 32 (i 0).val = 3#32 then mom1 g (m ((c.tc : Thread nD τ).loc main_arg4) i) else m ((c.tc : Thread nD τ).loc main_arg8) i) (e i)
  · pointwise
    refine (sel_eq _ _ _ _).trans ?_
    exact congrArg (fun g : EReal => if BitVec.ofNat 32 (i 0).val = 3#32 then mom2 g (m ((c.tc : Thread nD τ).loc main_arg5) i) else m ((c.tc : Thread nD τ).loc main_arg9) i) (e i)

theorem algebraic : Cert.algebraic_AdamDown3Ideal_AdamDown3RefIdeal := fun m g m' g' _ hag =>
  ⟨fun c => Cert.AdamDown3V.put (m ((c.tc : Thread Cert.AdamDown3Ideal.nD Cert.AdamDown3Ideal.τ).loc Cert.AdamDown3Ideal.main_arg6)) (gr m c), fun c => Cert.AdamDown3V.put (m ((c.tc : Thread Cert.AdamDown3Ideal.nD Cert.AdamDown3Ideal.τ).loc Cert.AdamDown3Ideal.main_arg7)) (de m c), fun c => Cert.AdamDown3V.put (m ((c.tc : Thread Cert.AdamDown3Ideal.nD Cert.AdamDown3Ideal.τ).loc Cert.AdamDown3Ideal.main_arg8)) (mo m c), fun c => Cert.AdamDown3V.put (m ((c.tc : Thread Cert.AdamDown3Ideal.nD Cert.AdamDown3Ideal.τ).loc Cert.AdamDown3Ideal.main_arg9)) (ve m c), run_blocks m g, (θ_run _ _ _).mono (fun r h c => by
      obtain ⟨h0, h1, h2, h3, h4, h5, h6, h7, h8, h9⟩ := hag c
      refine ⟨(h c).1.trans ?_, (h c).2.1.trans ?_, (h c).2.2.1.trans ?_, (h c).2.2.2.1.trans ?_, (h c).2.2.2.2⟩
      · rw [h0, h1, h2, h6]; rfl
      · rw [h0, h1, h2, h3, h4, h5, h7]; rfl
      · rw [h0, h1, h2, h4, h8]; rfl
      · rw [h0, h1, h2, h5, h9]; rfl) (ref_run m' g')⟩

end Cert.AdamDown3V

end
-- ==== Proof.Norm.LnBwdTopRun.lean ====
/-
  The norm backward of the one cotangent: its body's loop over 64 groups of 16 rows, and the three cases of its conditionals. The two
  blocks of the row gradient end filled group by group, the scratch as `sums` says, the block of the gain's and the
  offset's gradients, at the last point, as the scratch's column sums. Over any float values.
-/
module

public import proofs.«01_k».proof.Proof.Gen.LnBwdTopIdeal.Frame.Runs
public import proofs.«01_k».proof.Proof.Norm.Blocks

@[expose] public section

set_option maxRecDepth 16384

noncomputable section

namespace Cert.LnBwdTopH

open Cert.Norm Cert.LnBwdTopIdeal Cert.LnBwdTopIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem trips_eq : k0_t1_loop.trips = 64 := by decide +kernel

/-- The rectangle of rows `16 k` to `16 k + 15`. -/
abbrev R16 (k : Fin k0_t1_loop.trips) : Rect S1024x1024 := Rect.unit (s := S1024x1024) (k0_off1 k) S16x1024.size (k0_off1_inb k)

/-- The scratch's two halves. -/
abbrev H0 : Rect S2x8x1024 := Rect.unit (s := S2x8x1024) ![0, 0, 0] S1x8x1024.size inb_S2x8x1024_S1x8x1024_0_0_0
abbrev H1 : Rect S2x8x1024 := Rect.unit (s := S2x8x1024) ![1, 0, 0] S1x8x1024.size inb_S2x8x1024_S1x8x1024_1_0_0

/-- The two rows of the last block. -/
abbrev L0 : Rect S2x1024 := Rect.unit (s := S2x1024) ![0, 0] S1x1024.size inb_S2x1024_S1x1024_0_0
abbrev L1 : Rect S2x1024 := Rect.unit (s := S2x1024) ![1, 0] S1x1024.size inb_S2x1024_S1x1024_1_0

/-- A group of rows of a block; half of a scratch. -/
def rows (x : Vec F S1024x1024 .f32) (k : Fin k0_t1_loop.trips) : Vec F S16x1024 .f32 := View.ld (Val := Elt F) (e' := EltTy.f32) x (R16 k)
def half (a : Vec F S2x8x1024 .f32) (r : Rect S2x8x1024) : r.shape.Idx → Elt F .f32 := View.ld (Val := Elt F) (e' := EltTy.f32) a r

/-- A group's normed rows, its cotangent, and its row gradient. -/
def xh (x0 : Vec F S1024x1024 .f32) (k : Fin k0_t1_loop.trips) : Vec F S16x1024 .f32 := k0_pay8 (rows x0 k)
def dy (x2 : Vec F S1024x1024 .f32) (k : Fin k0_t1_loop.trips) : Vec F S16x1024 .f32 := rows x2 k
def dr (g : Vec F S1x1024 .f32) (x0 x2 : Vec F S1024x1024 .f32) (k : Fin k0_t1_loop.trips) : Vec F S16x1024 .f32 := k0_pay9 g (rows x0 k) (rows x2 k)
def drb (g : Vec F S1x1024 .f32) (x0 x2 : Vec F S1024x1024 .f32) (k : Fin k0_t1_loop.trips) : Vec F S16x1024 .bf16 := k0_pay10 g (rows x0 k) (rows x2 k)

/-- The last block, of a scratch. -/
def last (a : Vec F S2x8x1024 .f32) : Vec F S2x1024 .f32 := two1 (k0_pay4 (half a H0)) (k0_pay5 (half a H1))

/-- The pieces of the trips before `n`, and the block they fill. -/
def pieces {e : EltTy} (w : Fin k0_t1_loop.trips → S16x1024.Idx → Elt F e) (n : ℕ) : List (View.Piece (Elt F) S1024x1024 e) := groups k0_off1 k0_off1_inb w n
def fill {e : EltTy} (w : Fin k0_t1_loop.trips → S16x1024.Idx → Elt F e) : S1024x1024.Idx → Elt F e := filled trips_eq w

theorem pieces_succ {e : EltTy} (w : Fin k0_t1_loop.trips → S16x1024.Idx → Elt F e) (k : Fin k0_t1_loop.trips) :
    pieces w (k.val + 1) = ⟨R16 k, w k⟩ :: pieces w k.val := groups_succ _ _ _ k

theorem read_pieces {e : EltTy} (w : Fin k0_t1_loop.trips → S16x1024.Idx → Elt F e) (v : View sig .tc .vmem S1024x1024 e) (f : BufTy.Contents (Elt F) v.ty) :
    v.read (Elt F) (v.writes (Elt F) f (pieces w 64)) = fill w := read_groups trips_eq _ k0_off1_eq _ _ _ _

/-- One trip's two stores into the scratch, of what it finds there. -/
def add2 (x0 x2 : Vec F S1024x1024 .f32) (k : Fin k0_t1_loop.trips) (a : Vec F S2x8x1024 .f32) : List (View.Piece (Elt F) S2x8x1024 .f32) :=
  [⟨H1, k0_pay3 (dy x2 k) (half a H1)⟩, ⟨H0, k0_pay2 (xh x0 k) (dy x2 k) (half a H0)⟩]

/-- The scratch's value after the trips before `n`, from `a`. -/
def sums (x0 x2 : Vec F S1024x1024 .f32) (a : Vec F S2x8x1024 .f32) : ℕ → Vec F S2x8x1024 .f32
  | 0 => a
  | n + 1 => if h : n < k0_t1_loop.trips then
      two (k0_pay2 (xh x0 ⟨n, h⟩) (dy x2 ⟨n, h⟩) (half (sums x0 x2 a n) H0)) (k0_pay3 (dy x2 ⟨n, h⟩) (half (sums x0 x2 a n) H1))
    else sums x0 x2 a n

/-- The scratch after the trips before `n`, entered at `G`. -/
def scr (v : View sig .tc .vmem S2x8x1024 .f32) (x0 x2 : Vec F S1024x1024 .f32) (G : BufTy.Contents (Elt F) v.ty) : ℕ → BufTy.Contents (Elt F) v.ty
  | 0 => G
  | n + 1 => if h : n < k0_t1_loop.trips then
      v.writes (Elt F) (scr v x0 x2 G n) (add2 x0 x2 ⟨n, h⟩ (v.read (Elt F) (scr v x0 x2 G n)))
    else scr v x0 x2 G n

theorem scr_succ (v : View sig .tc .vmem S2x8x1024 .f32) (x0 x2 : Vec F S1024x1024 .f32) (G : BufTy.Contents (Elt F) v.ty) (k : Fin k0_t1_loop.trips) :
    scr v x0 x2 G (k.val + 1) = v.writes (Elt F) (scr v x0 x2 G k.val) (add2 x0 x2 k (v.read (Elt F) (scr v x0 x2 G k.val))) := by
  rw [scr, dif_pos k.isLt]

theorem read_scr (v : View sig .tc .vmem S2x8x1024 .f32) (x0 x2 : Vec F S1024x1024 .f32) (G : BufTy.Contents (Elt F) v.ty) (n : ℕ) :
    v.read (Elt F) (scr v x0 x2 G n) = sums x0 x2 (v.read (Elt F) G) n := by
  induction n with
  | zero => rfl
  | succ n ih =>
    rw [scr, sums]
    split
    · exact (read_two v _ _ _ _ _).trans (by rw [ih])
    · exact ih

/-! ## The loop -/

section body

variable (𝒱 : Variants) (c : Dev nD) (bd : Option 𝒱.V) (E : Set ℕ) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S2x1024 .f32) (harg6 : arg6.IsWhole) (arg7 : Memref sig .tc .vmem S2x8x1024 .f32) (harg7 : arg7.IsWhole)
  (g : Vec F S1x1024 .f32) (X1 : BufTy.Contents (Elt F) arg1.view.ty) (X3 : BufTy.Contents (Elt F) arg3.view.ty)

/-- One trip's pieces, spelled out. -/
theorem trip_pieces (k : Fin k0_t1_loop.trips) (fD : BufTy.Contents (Elt F) arg4.view.ty) (fB : BufTy.Contents (Elt F) arg5.view.ty) (fS : BufTy.Contents (Elt F) arg7.view.ty) :
    tripL_k0_t1 (F := F) 𝒱 c bd i arg1 harg1 arg2 harg2 arg3 harg3 arg4 harg4 arg5 harg5 arg6 harg6 arg7 harg7 g X1 X3 k fD fB fS
      = ([⟨R16 k, dr g (arg1.view.read (Elt F) X1) (arg3.view.read (Elt F) X3) k⟩], [⟨R16 k, drb g (arg1.view.read (Elt F) X1) (arg3.view.read (Elt F) X3) k⟩],
         add2 (arg1.view.read (Elt F) X1) (arg3.view.read (Elt F) X3) k (arg7.view.read (Elt F) fS)) := by
  unfold tripL_k0_t1 trip_k0_t1
  dsimp only
  rfl

set_option warn.classDefReducibility false in
/-- The loop: before trip `k` the two blocks hold what the trips before wrote, the scratch the sums so far. -/
@[sl_loop] def loopH (GD : BufTy.Contents (Elt F) arg4.view.ty) (GB : BufTy.Contents (Elt F) arg5.view.ty) (GS : BufTy.Contents (Elt F) arg7.view.ty) :
    LoopInv (M := 𝕄) Idealize.ShloMosaic.frame (wpE (defs₀ (F := F)) 𝒱 (c : Thread nD τ) bd) E k0_t1_loop.lb k0_t1_loop.ub k0_t1_loop.st k0_t1_ok ()
      (k0_t1_body (F := F) i arg1 harg1 arg2 harg2 arg3 harg3 arg4 harg4 arg5 harg5 arg6 harg6 arg7 harg7 g) where
  inv k _ := iprop((arg1.view.loc (c : Thread nD τ) ↦[arg1.view.set]{fullShare} X1) ∗ (arg3.view.loc (c : Thread nD τ) ↦[arg3.view.set]{fullShare} X3)
    ∗ (∃ f, (arg4.view.loc (c : Thread nD τ) ↦[arg4.view.set]{fullShare} f) ∗ ⌜f = arg4.view.writes (Elt F) GD (pieces (dr g (arg1.view.read (Elt F) X1) (arg3.view.read (Elt F) X3)) k)⌝)
    ∗ (∃ f, (arg5.view.loc (c : Thread nD τ) ↦[arg5.view.set]{fullShare} f) ∗ ⌜f = arg5.view.writes (Elt F) GB (pieces (drb g (arg1.view.read (Elt F) X1) (arg3.view.read (Elt F) X3)) k)⌝)
    ∗ (∃ f, (arg7.view.loc (c : Thread nD τ) ↦[arg7.view.set]{fullShare} f) ∗ ⌜f = scr arg7.view (arg1.view.read (Elt F) X1) (arg3.view.read (Elt F) X3) GS k⌝))
  step k acc := by
    iintro ⟨HR1, HR3, ⟨%fD, HWD, %hD⟩, ⟨%fB, HWB, %hB⟩, ⟨%fS, HWS, %hS⟩⟩
    iapply (wp_wand_r Idealize.ShloMosaic.frame (wpE (defs₀ (F := F)) 𝒱 (c : Thread nD τ) bd) E)
    isplitl [HR1 HR3 HWD HWB HWS]
    · iapply ((trip_k0_t1 (F := F) 𝒱 c bd i arg1 harg1 arg2 harg2 arg3 harg3 arg4 harg4 arg5 harg5 arg6 harg6 arg7 harg7 g X1 X3 k).2.2.2 E fD fB fS)
      isplitl [HR1]; · iexact HR1
      isplitl [HR3]; · iexact HR3
      isplitl [HWD]; · iexact HWD
      isplitl [HWB]; · iexact HWB
      iexact HWS
    · iintro %_ ⟨HR1, HR3, HWD, HWB, HWS⟩
      isplitl [HR1]; · iexact HR1
      isplitl [HR3]; · iexact HR3
      have e := trip_pieces 𝒱 c bd i arg1 harg1 arg2 harg2 arg3 harg3 arg4 harg4 arg5 harg5 arg6 harg6 arg7 harg7 g X1 X3 k fD fB fS
      isplitl [HWD]
      · iexists _; isplitl [HWD]; · iexact HWD
        ipureintro
        rw [pieces_succ, show (trip_k0_t1 (F := F) 𝒱 c bd i arg1 harg1 arg2 harg2 arg3 harg3 arg4 harg4 arg5 harg5 arg6 harg6 arg7 harg7 g X1 X3 k).1 fD fB fS = _ from congrArg Prod.fst e, hD, ← View.writes_append]
        rfl
      isplitl [HWB]
      · iexists _; isplitl [HWB]; · iexact HWB
        ipureintro
        rw [pieces_succ, show (trip_k0_t1 (F := F) 𝒱 c bd i arg1 harg1 arg2 harg2 arg3 harg3 arg4 harg4 arg5 harg5 arg6 harg6 arg7 harg7 g X1 X3 k).2.1 fD fB fS = _ from congrArg (fun p => p.2.1) e, hB, ← View.writes_append]
        rfl
      iexists _; isplitl [HWS]; · iexact HWS
      ipureintro
      rw [scr_succ, show (trip_k0_t1 (F := F) 𝒱 c bd i arg1 harg1 arg2 harg2 arg3 harg3 arg4 harg4 arg5 harg5 arg6 harg6 arg7 harg7 g X1 X3 k).2.2.1 fD fB fS = _ from congrArg (fun p => p.2.2) e, hS]

end body

/-! ## The body -/

section run

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S2x1024 .f32) (harg6 : arg6.IsWhole) (arg7 : Memref sig .tc .vmem S2x8x1024 .f32) (harg7 : arg7.IsWhole)
  (x0 x2 : Vec F S1024x1024 .f32) (x1 : Vec F S1x1024 .f32) (y3 : Vec F S1024x1024 .f32) (y4 : Vec F S1024x1024 .bf16) (y5 : Vec F S2x1024 .f32) (ys : Vec F S2x8x1024 .f32)

/-- What the body leaves: the inputs' blocks as they were, the row gradient's two blocks, the last block at `z`, the scratch at `s`. -/
def Left (arg1 : Memref sig .tc .vmem S1024x1024 .f32) (arg2 : Memref sig .tc .vmem S1x1024 .f32) (arg3 : Memref sig .tc .vmem S1024x1024 .f32) (arg4 : Memref sig .tc .vmem S1024x1024 .f32) (arg5 : Memref sig .tc .vmem S1024x1024 .bf16) (arg6 : Memref sig .tc .vmem S2x1024 .f32) (arg7 : Memref sig .tc .vmem S2x8x1024 .f32) (x0 x2 : Vec F S1024x1024 .f32) (x1 : Vec F S1x1024 .f32) (z : Vec F S2x1024 .f32) (s : Vec F S2x8x1024 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare (fill (dr x1 x0 x2)) ∗ owns (c : Thread nD τ) arg5 fullShare (fill (drb x1 x0 x2)) ∗ owns (c : Thread nD τ) arg6 fullShare z ∗ owns (c : Thread nD τ) arg7 fullShare s)

set_option maxHeartbeats 1000000 in
theorem runA (E : Set ℕ) (K : PUnit → sProp 𝕄) (hc0 : cond0_0 i) (hc1 : ¬cond0_1 i) :
        iprop(owns (c : Thread nD τ) arg1 fullShare x0 ∗ owns (c : Thread nD τ) arg2 fullShare x1 ∗ owns (c : Thread nD τ) arg3 fullShare x2 ∗ owns (c : Thread nD τ) arg4 fullShare y3 ∗ owns (c : Thread nD τ) arg5 fullShare y4 ∗ owns (c : Thread nD τ) arg6 fullShare y5 ∗ (∃ d, owns (c : Thread nD τ) arg7 fullShare d)
            ∗ (Left c arg1 arg2 arg3 arg4 arg5 arg6 arg7 x0 x2 x1 y5 (sums x0 x2 (k0_pay1 (F := F)) 64) -∗ K ⟨⟩))
          ⊢ wp frame (wpE (defs₀ (F := F)) Variants.none c none) E (cc0_ln_bwd i arg1 harg1 arg2 harg2 arg3 harg3 arg4 harg4 arg5 harg5 arg6 harg6 arg7 harg7) K := by
    simp only [cc0_ln_bwd_eq_skeleton]; unfold cc0_ln_bwd_skel
    unfold Left owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg1.eq_unread hf1; obtain rfl := harg2.eq_unread hf2; obtain rfl := harg3.eq_unread hf3; obtain rfl := harg6.eq_unread hf6
    sl_exec (disch := first | sl_exact hc0 | sl_exact hc1)
    sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr
      swap; · iexact H4
      ipureintro; rw [View.readAt_full, hf2, hf1, hf3]; exact read_pieces _ _ _
    isplitl [H5]
    · iexists _; isplitr
      swap; · iexact H5
      ipureintro; rw [View.readAt_full, hf2, hf1, hf3]; exact read_pieces _ _ _
    isplitl [H6]
    · iexists _; isplitr; · ipureintro; exact hf6
      iexact H6
    iexists _; isplitr
    swap; · iexact HS0
    ipureintro; rw [hf1, hf3]
    exact (read_scr _ _ _ _ _).trans (congrArg (sums x0 x2 · 64) (View.read_writes_full arg7.view _ _ _ []))

set_option maxHeartbeats 1000000 in
theorem runB (E : Set ℕ) (K : PUnit → sProp 𝕄) (hc0 : ¬cond0_0 i) (hc1 : ¬cond0_1 i) :
        iprop(owns (c : Thread nD τ) arg1 fullShare x0 ∗ owns (c : Thread nD τ) arg2 fullShare x1 ∗ owns (c : Thread nD τ) arg3 fullShare x2 ∗ owns (c : Thread nD τ) arg4 fullShare y3 ∗ owns (c : Thread nD τ) arg5 fullShare y4 ∗ owns (c : Thread nD τ) arg6 fullShare y5 ∗ owns (c : Thread nD τ) arg7 fullShare ys
            ∗ (Left c arg1 arg2 arg3 arg4 arg5 arg6 arg7 x0 x2 x1 y5 (sums x0 x2 ys 64) -∗ K ⟨⟩))
          ⊢ wp frame (wpE (defs₀ (F := F)) Variants.none c none) E (cc0_ln_bwd i arg1 harg1 arg2 harg2 arg3 harg3 arg4 harg4 arg5 harg5 arg6 harg6 arg7 harg7) K := by
    simp only [cc0_ln_bwd_eq_skeleton]; unfold cc0_ln_bwd_skel
    unfold Left owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs, HS0⟩, Hk⟩
    obtain rfl := harg1.eq_unread hf1; obtain rfl := harg2.eq_unread hf2; obtain rfl := harg3.eq_unread hf3; obtain rfl := harg6.eq_unread hf6; obtain rfl := harg7.eq_unread hfs
    sl_exec (disch := first | sl_exact hc0 | sl_exact hc1)
    sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr
      swap; · iexact H4
      ipureintro; rw [View.readAt_full, hf2, hf1, hf3]; exact read_pieces _ _ _
    isplitl [H5]
    · iexists _; isplitr
      swap; · iexact H5
      ipureintro; rw [View.readAt_full, hf2, hf1, hf3]; exact read_pieces _ _ _
    isplitl [H6]
    · iexists _; isplitr; · ipureintro; exact hf6
      iexact H6
    iexists _; isplitr
    swap; · iexact HS0
    ipureintro; rw [hf1, hf3]
    exact (read_scr _ _ _ _ _).trans (congrArg (sums x0 x2 · 64) hfs)

set_option maxHeartbeats 1000000 in
theorem runC (E : Set ℕ) (K : PUnit → sProp 𝕄) (hc0 : ¬cond0_0 i) (hc1 : cond0_1 i) :
        iprop(owns (c : Thread nD τ) arg1 fullShare x0 ∗ owns (c : Thread nD τ) arg2 fullShare x1 ∗ owns (c : Thread nD τ) arg3 fullShare x2 ∗ owns (c : Thread nD τ) arg4 fullShare y3 ∗ owns (c : Thread nD τ) arg5 fullShare y4 ∗ owns (c : Thread nD τ) arg6 fullShare y5 ∗ owns (c : Thread nD τ) arg7 fullShare ys
            ∗ (Left c arg1 arg2 arg3 arg4 arg5 arg6 arg7 x0 x2 x1 (last (sums x0 x2 ys 64)) (sums x0 x2 ys 64) -∗ K ⟨⟩))
          ⊢ wp frame (wpE (defs₀ (F := F)) Variants.none c none) E (cc0_ln_bwd i arg1 harg1 arg2 harg2 arg3 harg3 arg4 harg4 arg5 harg5 arg6 harg6 arg7 harg7) K := by
    simp only [cc0_ln_bwd_eq_skeleton]; unfold cc0_ln_bwd_skel
    unfold Left owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs, HS0⟩, Hk⟩
    obtain rfl := harg1.eq_unread hf1; obtain rfl := harg2.eq_unread hf2; obtain rfl := harg3.eq_unread hf3; obtain rfl := harg7.eq_unread hfs
    sl_exec (disch := first | sl_exact hc0 | sl_exact hc1)
    sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr
      swap; · iexact H4
      ipureintro; rw [View.readAt_full, hf2, hf1, hf3]; exact read_pieces _ _ _
    isplitl [H5]
    · iexists _; isplitr
      swap; · iexact H5
      ipureintro; rw [View.readAt_full, hf2, hf1, hf3]; exact read_pieces _ _ _
    isplitl [H6]
    · iexists _; isplitr
      swap; · iexact H6
      ipureintro
      refine (read_two1 _ _ _ _ _ _).trans (congrArg last ?_)
      rw [hf1, hf3]
      exact (read_scr _ _ _ _ _).trans (congrArg (sums x0 x2 · 64) hfs)
    iexists _; isplitr
    swap; · iexact HS0
    ipureintro; rw [hf1, hf3]
    exact (read_scr _ _ _ _ _).trans (congrArg (sums x0 x2 · 64) hfs)

end run

end Cert.LnBwdTopH

end
-- ==== Proof.Norm.LnBwdTopFrame.lean ====
/-
  The norm backward of the one cotangent: its whole run. What each of the eight points finds in the scratch and leaves in the blocks,
  the body's obligation at a point out of the three runs, and the run of the program. Over any float values.
-/
module

public import proofs.«01_k».proof.Proof.Norm.LnBwdTopRun
public import Idealize.ShloMosaic.Lib.Claim

@[expose] public section

set_option maxRecDepth 16384

noncomputable section

namespace Cert.LnBwdTopH

open Cert.Norm Cert.LnBwdTopIdeal Cert.LnBwdTopIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch before point `n`: the column sums of the blocks before it. -/
def acc (c : Dev nD) : ℕ → Vec F S2x8x1024 .f32
  | 0 => k0_pay1
  | n + 1 => if h : n < cfg0.N then sums (iblk m c 0 ⟨n, h⟩) (iblk m c 2 ⟨n, h⟩) (acc c n) 64 else acc c n

theorem acc_succ (c : Dev nD) (t : Fin cfg0.N) : acc m c (t.val + 1) = sums (iblk m c 0 t) (iblk m c 2 t) (acc m c t.val) 64 := by
  rw [acc, dif_pos t.isLt]

/-- What holds before point `n`: nothing is known of the scratch before the first, later it holds `acc`. -/
def Phi (c : Dev nD) : ℕ → sProp 𝕄
  | 0 => Pipeline.ΦA spec0 c
  | n + 1 => iprop(owns (c : Thread nD τ) scM0_0 fullShare (acc m c (n + 1)) ∗ (∃ r, prngReg c r))

/-- The arrays as launched, what the body leaves in each block, and what holds between points. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fill (dr (iblk m c 1 t) (iblk m c 0 t) (iblk m c 2 t))
    | ⟨4, _⟩ => fill (drb (iblk m c 1 t) (iblk m c 0 t) (iblk m c 2 t))
    | ⟨5, _⟩ => last (acc m c (t.val + 1))
  Φ t := Phi m c t.val
  q _ := fullShare
  owed _ := 0

theorem dat_A (c : Dev nD) (w : Fin cfg0.W) : (dat m 0 c).A w = V m c (Pipeline.arrRef spec0 w) := by dsimp only [dat]
theorem after_0 (c : Dev nD) (t : Fin cfg0.N) : (dat m 0 c).after 0 t = iblk m c 0 t := by dsimp only [dat]
theorem after_1 (c : Dev nD) (t : Fin cfg0.N) : (dat m 0 c).after 1 t = iblk m c 1 t := by dsimp only [dat]
theorem after_2 (c : Dev nD) (t : Fin cfg0.N) : (dat m 0 c).after 2 t = iblk m c 2 t := by dsimp only [dat]
theorem after_3 (c : Dev nD) (t : Fin cfg0.N) : (dat m 0 c).after 3 t = fill (dr (iblk m c 1 t) (iblk m c 0 t) (iblk m c 2 t)) := by dsimp only [dat]
theorem after_4 (c : Dev nD) (t : Fin cfg0.N) : (dat m 0 c).after 4 t = fill (drb (iblk m c 1 t) (iblk m c 0 t) (iblk m c 2 t)) := by dsimp only [dat]
theorem after_5 (c : Dev nD) (t : Fin cfg0.N) : (dat m 0 c).after 5 t = last (acc m c (t.val + 1)) := by dsimp only [dat]
theorem before_0 (c : Dev nD) (t : Fin cfg0.N) (d) : (dat m 0 c).before 0 t d = iblk m c 0 t :=
  before0_0_of m (dat m 0 c) (dat_A m c 0) (after_0 m c) t d
theorem before_1 (c : Dev nD) (t : Fin cfg0.N) (d) : (dat m 0 c).before 1 t d = iblk m c 1 t :=
  before0_1_of m (dat m 0 c) (dat_A m c 1) (after_1 m c) t d
theorem before_2 (c : Dev nD) (t : Fin cfg0.N) (d) : (dat m 0 c).before 2 t d = iblk m c 2 t :=
  before0_2_of m (dat m 0 c) (dat_A m c 2) (after_2 m c) t d

def bodyPre (c : Dev nD) (t : Fin cfg0.N) : sProp 𝕄 :=
  iprop((dat m 0 c).Φ t.castSucc ∗ (dat m 0 c).owesAt () t.castSucc
    ∗ (∃ d, owns (c : Thread nD τ) (ms0_0 t) fullShare ((dat m 0 c).before 0 t d))
    ∗ (∃ d, owns (c : Thread nD τ) (ms0_1 t) fullShare ((dat m 0 c).before 1 t d))
    ∗ (∃ d, owns (c : Thread nD τ) (ms0_2 t) fullShare ((dat m 0 c).before 2 t d))
    ∗ (∃ d, owns (c : Thread nD τ) (ms0_3 t) fullShare ((dat m 0 c).before 3 t d))
    ∗ (∃ d, owns (c : Thread nD τ) (ms0_4 t) fullShare ((dat m 0 c).before 4 t d))
    ∗ (∃ d, owns (c : Thread nD τ) (ms0_5 t) fullShare ((dat m 0 c).before 5 t d)))

def bodyPost (c : Dev nD) (t : Fin cfg0.N) : sProp 𝕄 :=
  iprop((dat m 0 c).Φ t.succ ∗ (dat m 0 c).owesAt () t.succ
    ∗ (dat m 0 c).leavesExact 0 t ∗ (dat m 0 c).leavesExact 1 t ∗ (dat m 0 c).leavesExact 2 t ∗ (dat m 0 c).leavesExact 3 t ∗ (dat m 0 c).leavesExact 4 t ∗ (dat m 0 c).leavesExact 5 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dat m 0 c).owesAt () t.succ = (dat m 0 c).owesAt () t.castSucc from rfl,
    show (dat m 0 c).Φ t.castSucc = Phi m c t.val from rfl,
    show (dat m 0 c).Φ t.succ = iprop(owns (c : Thread nD τ) scM0_0 fullShare (acc m c (t.val + 1)) ∗ (∃ r, prngReg c r)) from rfl, acc_succ,
    show (dat m 0 c).leavesExact 0 t = owns (c : Thread nD τ) (ms0_0 t) fullShare (iblk m c 0 t) from by
      unfold Dat.leavesExact; rw [liveAt0_0 t, after_0],
    show (dat m 0 c).leavesExact 1 t = owns (c : Thread nD τ) (ms0_1 t) fullShare (iblk m c 1 t) from by
      unfold Dat.leavesExact; rw [liveAt0_1 t, after_1],
    show (dat m 0 c).leavesExact 2 t = owns (c : Thread nD τ) (ms0_2 t) fullShare (iblk m c 2 t) from by
      unfold Dat.leavesExact; rw [liveAt0_2 t, after_2],
    show (dat m 0 c).leavesExact 3 t = owns (c : Thread nD τ) (ms0_3 t) fullShare (fill (dr (iblk m c 1 t) (iblk m c 0 t) (iblk m c 2 t))) from by
      unfold Dat.leavesExact; rw [liveAt0_3 t, after_3],
    show (dat m 0 c).leavesExact 4 t = owns (c : Thread nD τ) (ms0_4 t) fullShare (fill (drb (iblk m c 1 t) (iblk m c 0 t) (iblk m c 2 t))) from by
      unfold Dat.leavesExact; rw [liveAt0_4 t, after_4]]
  have hN : t.val < 8 := lt_of_lt_of_eq t.isLt (show cfg0.N = 8 from N_0)
  by_cases h0 : t.val = 0
  · have c0 := (hcond0_0 t).mpr (by omega)
    have c1 : ¬ cond0_1 (grid0.coords t) := fun h => by have := (hcond0_1 t).mp h; omega
    rw [Dat.leavesExact_idle (dat m 0 c) 5 t (idleAt0_5_A t c0 c1) (noFlush0_5_A t c0 c1), h0,
      show Phi m c 0 = Pipeline.ΦA spec0 c from rfl, PhiA0_eq, show acc m c 0 = k0_pay1 from rfl]
    iintro ⟨⟨HS0, Hg⟩, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ _ (iblk m c 0 t) (iblk m c 2 t) (iblk m c 1 t) _ _ _ Set.univ _ c0 c1)
    isplitl [H0]; · iexact H0
    isplitl [H1]; · iexact H1
    isplitl [H2]; · iexact H2
    isplitl [H3]; · iexact H3
    isplitl [H4]; · iexact H4
    isplitl [H5]; · iexact H5
    isplitl [HS0]; · iexact HS0
    unfold Left
    iintro ⟨H0, H1, H2, H3, H4, H5, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have c0 : ¬ cond0_0 (grid0.coords t) := fun h => by have := (hcond0_0 t).mp h; omega
    rw [show Phi m c t.val = iprop(owns (c : Thread nD τ) scM0_0 fullShare (acc m c t.val) ∗ (∃ r, prngReg c r)) from by
      obtain ⟨n, hn⟩ := Nat.exists_eq_succ_of_ne_zero h0; rw [hn]; rfl]
    by_cases h1 : t.val = 7
    · have c1 := (hcond0_1 t).mpr (by omega)
      rw [show (dat m 0 c).leavesExact 5 t = owns (c : Thread nD τ) (ms0_5 t) fullShare (last (sums (iblk m c 0 t) (iblk m c 2 t) (acc m c t.val) 64)) from by
        unfold Dat.leavesExact; rw [liveAt0_5_C t c0 c1, after_5, acc_succ]]
      iintro ⟨⟨HS0, Hg⟩, Ho, ⟨%d0, H0⟩, ⟨%d1, H1⟩, ⟨%d2, H2⟩, ⟨%d3, H3⟩, ⟨%d4, H4⟩, ⟨%d5, H5⟩⟩
      iapply (runC c (grid0.coords t) _ _ _ _ _ _ _ _ _ _ _ _ _ _ (iblk m c 0 t) (iblk m c 2 t) (iblk m c 1 t) _ _ _ _ Set.univ _ c0 c1)
      isplitl [H0]; · iexact H0
      isplitl [H1]; · iexact H1
      isplitl [H2]; · iexact H2
      isplitl [H3]; · iexact H3
      isplitl [H4]; · iexact H4
      isplitl [H5]; · iexact H5
      isplitl [HS0]; · iexact HS0
      unfold Left
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
    · have c1 : ¬ cond0_1 (grid0.coords t) := fun h => by have := (hcond0_1 t).mp h; omega
      rw [Dat.leavesExact_idle (dat m 0 c) 5 t (idleAt0_5_B t c0 c1) (noFlush0_5_B t c0 c1)]
      iintro ⟨⟨HS0, Hg⟩, Ho, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ _ _ (iblk m c 0 t) (iblk m c 2 t) (iblk m c 1 t) _ _ _ _ Set.univ _ c0 c1)
      isplitl [H0]; · iexact H0
      isplitl [H1]; · iexact H1
      isplitl [H2]; · iexact H2
      isplitl [H3]; · iexact H3
      isplitl [H4]; · iexact H4
      isplitl [H5]; · iexact H5
      isplitl [HS0]; · iexact HS0
      unfold Left
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation (c : Dev nD) : BodyObligation (dat (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

theorem hin (c : Dev nD) : Pipeline.ΦA spec0 c ⊢ (dat m 0 c).Φ 0 := Idealize.SL.BI.Entails.refl _

theorem hout (c : Dev nD) : (dat m 0 c).Φ (Fin.last cfg0.N) ⊢ Pipeline.ΦA spec0 c := by
  rw [show (dat m 0 c).Φ (Fin.last cfg0.N) = Phi m c 8 from rfl, show Phi m c 8 = iprop(owns (c : Thread nD τ) scM0_0 fullShare (acc m c 8) ∗ (∃ r, prngReg c r)) from rfl, PhiA0_eq]
  iintro ⟨HS0, Hg⟩
  isplitl [HS0]
  · iexists _; iexact HS0
  iexact Hg

set_option backward.isDefEq.respectTransparency.types false in
/-- The run: the arrays end as the points leave them, every semaphore counter at zero. -/
theorem run_quiescent : θ_run defs (onTc (τ := τ) (main (F := F))) (s₀ m ρ) (fun r => (Pipeline.FramePost cfgs (dat m) 0 (V m)) r ∧ r.2.sem = fun _ => 0) :=
  Pipeline.θ_run_frame_track (Q' := _) cfgs (dat m) (0 : Fin 1) launch0 defs₀ Variants.none m ρ main
    (hbody := fun c => (body_obligation m c).loose) (hshare := fun c => (dat m 0 c).share_full fun _ => rfl)
    (howed := fun _ _ => rfl) (V := V m) (hmain := hmain m Variants.none) (hA := dat_A m) (hin := hin m) (hout := hout m)

theorem run_main : θ_run defs (onTc (τ := τ) (main (F := F))) (s₀ m ρ) (Pipeline.FramePost cfgs (dat m) 0 (V m)) :=
  (θ_run defs _ _).mono (fun _ h => h.1) (run_quiescent m ρ)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dat m) (dat_A m) (run_main m ρ)) ((θ_run defs _ _).mono (fun _ h => h.2) (run_quiescent m ρ))

end Cert.LnBwdTopH

end
-- ==== Proof.Norm.LnBwdTop.lean ====
/-
  The norm backward of the one cotangent: the gradients of the gain and the offset, as the call leaves them and as the reference gives
  them. The call adds row group by row group into a scratch of two halves and adds the halves' eight rows at the end; the
  reference adds over all rows at once. Both are one sum, whatever the arguments are.
-/
module

public import proofs.«01_k».proof.Defs
public import proofs.«01_k».proof.Proof.Norm.Sums
public import proofs.«01_k».proof.Proof.Norm.LnBwdTopFrame
public import proofs.«01_k».proof.Proof.Gen.LnBwdTopRefIdeal.Run
public import Idealize.ShloMosaic.Lib.Pipeline.ValueKit.Geometry

@[expose] public section

set_option maxRecDepth 16384

noncomputable section

open Idealize.ShloMosaic Idealize.ShloMosaic.TcCoe Idealize.SL.Sem

namespace Cert.LnBwdTopV

open Cert.Norm

/-- The cotangent of the norm's output at an entry. -/
def D (a : (⟨2, ![8192, 1024]⟩ : Shape).Idx → EReal) (n : Fin 8192) (j : Fin 1024) : EReal := a (ix2 n j)

/-- The two gradients, one per row. -/
def G (r a : (⟨2, ![8192, 1024]⟩ : Shape).Idx → EReal) (i : (⟨2, ![2, 1024]⟩ : Shape).Idx) : EReal :=
  if (i 0).val = 0 then ∑ n, D a n (i 1) * nrm (fun l => r (ix2 n l)) (i 1) else ∑ n, D a n (i 1)

/-! ## The call -/

section call

open Cert.LnBwdTopIdeal Cert.LnBwdTopIdeal.Gen Cert.LnBwdTopH

theorem payX (x : Vec Ideal S16x1024 .f32) (a : Fin 16) (j : Fin 1024) : k0_pay8 (F := Ideal) x (ix2 a j) = nrm (fun l => x (ix2 a l)) j := by
  unfold k0_pay8 k0_pay7 k0_pay6 nrm ctr
  pointwise

theorem payA (x y : Vec Ideal S16x1024 .f32) (v : Vec Ideal S1x8x1024 .f32) (p : Fin 8) (j : Fin 1024) :
    k0_pay2 (F := Ideal) x y v (ix3 0 p j) = v (ix3 0 p j) + ∑ q : Fin 2, y (ix2 ⟨q.val * 8 + p.val, by omega⟩ j) * x (ix2 ⟨q.val * 8 + p.val, by omega⟩ j) := by
  unfold k0_pay2
  pointwise

theorem payB (y : Vec Ideal S16x1024 .f32) (v : Vec Ideal S1x8x1024 .f32) (p : Fin 8) (j : Fin 1024) :
    k0_pay3 (F := Ideal) y v (ix3 0 p j) = v (ix3 0 p j) + ∑ q : Fin 2, y (ix2 ⟨q.val * 8 + p.val, by omega⟩ j) := by
  unfold k0_pay3
  pointwise

theorem payC (v : Vec Ideal S1x8x1024 .f32) (j : Fin 1024) : k0_pay4 (F := Ideal) v (ix2 0 j) = ∑ p : Fin 8, v (ix3 0 p j) := by
  unfold k0_pay4
  pointwise

theorem payD (v : Vec Ideal S1x8x1024 .f32) (j : Fin 1024) : k0_pay5 (F := Ideal) v (ix2 0 j) = ∑ p : Fin 8, v (ix3 0 p j) := by
  unfold k0_pay5
  pointwise

theorem half0 (a : Vec Ideal S2x8x1024 .f32) (p : Fin 8) (j : Fin 1024) : half a H0 (ix3 0 p j) = a (ix3 0 p j) := by
  unfold half View.ld
  refine congrArg a (funext fun ax => Fin.ext ?_)
  fin_cases ax <;> simp [H0, ix3]

theorem half1 (a : Vec Ideal S2x8x1024 .f32) (p : Fin 8) (j : Fin 1024) : half a H1 (ix3 0 p j) = a (ix3 1 p j) := by
  unfold half View.ld
  refine congrArg a (funext fun ax => Fin.ext ?_)
  fin_cases ax <;> simp [H1, ix3]

/-- An entry of a group of 16 rows. -/
theorem rows_apply (x : Vec Ideal S1024x1024 .f32) (k : Fin k0_t1_loop.trips) (a : Fin 16) (j : Fin 1024) :
    rows x k (ix2 a j) = x (ix2 ⟨16 * k.val + a.val, by have h := lt_of_lt_of_eq k.isLt trips_eq; omega⟩ j) := by
  unfold rows View.ld
  refine congrArg x (funext fun ax => Fin.ext ?_)
  show k0_off1 k ax + 1 * (ix2 a j ax).val = _
  rw [k0_off1_eq]
  fin_cases ax <;> simp [ix2]

variable (m : (ℓ : Loc nD τ sig) → Buf (Elt Ideal) ℓ)

theorem idx_nat : ∀ t : Fin cfg0.N, (cfg0.win 0).index t = ![t.val, 0] ∧ (cfg0.win 2).index t = ![t.val, 0]
    ∧ (cfg0.win 5).index t = ![0, 0] ∧ ((cfg0.win 5).flush t = true → t.val = 7) ∧ t.val < 8 :=
  (by decide +kernel : ∀ t : Fin grid0.N, win0_0.index t = ![t.val, 0] ∧ win0_2.index t = ![t.val, 0]
    ∧ win0_5.index t = ![0, 0] ∧ (win0_5.flush t = true → t.val = 7) ∧ t.val < 8)

theorem covers6 : (cfg0.win 5).Covers := (by decide +kernel : win0_5.Covers)

/-- Where an entry of point `t`'s block lies in the array. -/
def E (t : Fin cfg0.N) (y : S1024x1024.Idx) : S8192x1024.Idx :=
  ix2 ⟨1024 * t.val + (y 0).val, by have h := (idx_nat t).2.2.2.2; have h0 := (y 0).isLt; dsimp at h0; omega⟩ (y 1)

theorem rd0 (c : Dev nD) (t : Fin cfg0.N) (y : S1024x1024.Idx) : iblk m c 0 t y = m ((c.tc : Thread nD τ).loc main_arg0) (E t y) := by
  refine (congrArg (V m c main_arg0) (funext fun ax => Fin.ext ?_)).trans (congrFun (V_main_arg0 m c) _)
  have h : ((((cfg0.win 0).blk t).view.emb y ax : Fin _) : ℕ) = (cfg0.win 0).index t ax * S1024x1024.size ax + 1 * (y ax).val := rfl
  rw [(idx_nat t).1] at h
  refine h.trans ?_
  fin_cases ax <;> (simp [E, ix2] <;> omega)

theorem rd2 (c : Dev nD) (t : Fin cfg0.N) (y : S1024x1024.Idx) : iblk m c 2 t y = m ((c.tc : Thread nD τ).loc main_arg2) (E t y) := by
  refine (congrArg (V m c main_arg2) (funext fun ax => Fin.ext ?_)).trans (congrFun (V_main_arg2 m c) _)
  have h : ((((cfg0.win 2).blk t).view.emb y ax : Fin _) : ℕ) = (cfg0.win 2).index t ax * S1024x1024.size ax + 1 * (y ax).val := rfl
  rw [(idx_nat t).2.1] at h
  refine h.trans ?_
  fin_cases ax <;> (simp [E, ix2] <;> omega)

/-- Row `n`'s term of the gain's gradient and of the offset's. -/
def T0 (c : Dev nD) (j : Fin 1024) (n : ℕ) : EReal := if h : n < 8192 then D (m ((c.tc : Thread nD τ).loc main_arg2)) ⟨n, h⟩ j
  * nrm (fun l => m ((c.tc : Thread nD τ).loc main_arg0) (ix2 ⟨n, h⟩ l)) j else 0
def T1 (c : Dev nD) (j : Fin 1024) (n : ℕ) : EReal := if h : n < 8192 then D (m ((c.tc : Thread nD τ).loc main_arg2)) ⟨n, h⟩ j else 0

theorem E_eq (t : Fin cfg0.N) (k : Fin k0_t1_loop.trips) (a : Fin 16) (l : Fin 1024) (h : 1024 * t.val + 16 * k.val + a.val < 8192) (h') :
    E t (ix2 ⟨16 * k.val + a.val, h'⟩ l) = ix2 ⟨1024 * t.val + 16 * k.val + a.val, h⟩ l := by
  refine funext fun ax => Fin.ext ?_
  fin_cases ax <;> simp [E, ix2]; omega

theorem dy_apply (c : Dev nD) (t : Fin cfg0.N) (k : Fin k0_t1_loop.trips) (a : Fin 16) (j : Fin 1024) (h : 1024 * t.val + 16 * k.val + a.val < 8192) :
    dy (F := Ideal) (iblk m c 2 t) k (ix2 a j) = D (m ((c.tc : Thread nD τ).loc main_arg2)) ⟨_, h⟩ j := by
  unfold dy D
  rw [rows_apply, rd2, E_eq t k a j h]

theorem xh_apply (c : Dev nD) (t : Fin cfg0.N) (k : Fin k0_t1_loop.trips) (a : Fin 16) (j : Fin 1024) (h : 1024 * t.val + 16 * k.val + a.val < 8192) :
    xh (F := Ideal) (iblk m c 0 t) k (ix2 a j) = nrm (fun l => m ((c.tc : Thread nD τ).loc main_arg0) (ix2 ⟨_, h⟩ l)) j := by
  unfold xh
  rw [payX]
  refine congrArg (nrm · j) (funext fun l => ?_)
  rw [rows_apply, rd0, E_eq t k a l h]

theorem sums_apply (c : Dev nD) (t : Fin cfg0.N) (s : Vec Ideal S2x8x1024 .f32) (p : Fin 8) (j : Fin 1024) : ∀ n ≤ 64,
    sums (F := Ideal) (iblk m c 0 t) (iblk m c 2 t) s n (ix3 0 p j) = s (ix3 0 p j) + ∑ k ∈ Finset.range n, ∑ q ∈ Finset.range 2, T0 m c j (1024 * t.val + 16 * k + (q * 8 + p.val))
    ∧ sums (F := Ideal) (iblk m c 0 t) (iblk m c 2 t) s n (ix3 1 p j) = s (ix3 1 p j) + ∑ k ∈ Finset.range n, ∑ q ∈ Finset.range 2, T1 m c j (1024 * t.val + 16 * k + (q * 8 + p.val)) := by
  intro n
  induction n with
  | zero => intro _; simp [sums]
  | succ n ih =>
    intro hn
    have h : n < k0_t1_loop.trips := lt_of_lt_of_eq (by omega) trips_eq.symm
    have ht := (idx_nat t).2.2.2.2
    obtain ⟨i0, i1⟩ := ih (by omega)
    rw [sums, dif_pos h]
    constructor
    · refine (payA _ _ _ p j).trans ?_
      rw [half0, i0, Finset.sum_range_succ _ n, add_assoc]
      congr 2
      rw [Finset.sum_range]
      refine Finset.sum_congr rfl fun q _ => ?_
      unfold T0
      rw [dif_pos (by omega), dy_apply m c t _ _ j (by dsimp only; omega), xh_apply m c t _ _ j (by dsimp only; omega)]
    · refine (payB _ _ p j).trans ?_
      rw [half1, i1, Finset.sum_range_succ _ n, add_assoc]
      congr 2
      rw [Finset.sum_range]
      refine Finset.sum_congr rfl fun q _ => ?_
      unfold T1
      rw [dif_pos (by omega), dy_apply m c t _ _ j (by dsimp only; omega)]

theorem acc_apply (c : Dev nD) (p : Fin 8) (j : Fin 1024) : ∀ n ≤ 8,
    acc m c n (ix3 0 p j) = ∑ t ∈ Finset.range n, ∑ k ∈ Finset.range 64, ∑ q ∈ Finset.range 2, T0 m c j (1024 * t + 16 * k + (q * 8 + p.val))
    ∧ acc m c n (ix3 1 p j) = ∑ t ∈ Finset.range n, ∑ k ∈ Finset.range 64, ∑ q ∈ Finset.range 2, T1 m c j (1024 * t + 16 * k + (q * 8 + p.val)) := by
  intro n
  induction n with
  | zero => intro _; unfold acc k0_pay1; constructor <;> (pointwise; simp)
  | succ n ih =>
    intro hn
    obtain ⟨i0, i1⟩ := ih (by omega)
    rw [acc_succ m c ⟨n, lt_of_lt_of_eq (show n < 8 by omega) (show cfg0.N = 8 from N_0).symm⟩, (sums_apply m c _ _ p j 64 le_rfl).1, (sums_apply m c _ _ p j 64 le_rfl).2, i0, i1,
      Finset.sum_range_succ _ n, Finset.sum_range_succ _ n]
    exact ⟨rfl, rfl⟩

theorem last_eq (c : Dev nD) (y : S2x1024.Idx) : last (acc m c 8) y = G (m ((c.tc : Thread nD τ).loc main_arg0)) (m ((c.tc : Thread nD τ).loc main_arg2)) y := by
  unfold G last two1
  split
  · refine (payC _ (y 1)).trans ?_
    refine (Finset.sum_congr rfl fun p _ => (half0 _ p _).trans (acc_apply m c p (y 1) 8 le_rfl).1).trans ((sum_rows (T0 m c (y 1))).trans (Finset.sum_congr rfl fun n _ => ?_))
    unfold T0; rw [dif_pos n.isLt]
  · refine (payD _ (y 1)).trans ?_
    refine (Finset.sum_congr rfl fun p _ => (half1 _ p _).trans (acc_apply m c p (y 1) 8 le_rfl).2).trans ((sum_rows (T1 m c (y 1))).trans (Finset.sum_congr rfl fun n _ => ?_))
    unfold T1; rw [dif_pos n.isLt]

theorem final6 (c : Dev nD) : (dat m 0 c).arrAt 5 cfg0.N = G (m ((c.tc : Thread nD τ).loc main_arg0)) (m ((c.tc : Thread nD τ).loc main_arg2)) := by
  refine (dat m 0 c).arrAt_eq_of_covers 5 _ covers6 (fun t hf y => ?_)
  have e : ((cfg0.win 5).blk t).view.emb y = y := by
    refine funext fun ax => Fin.ext ?_
    have h : ((((cfg0.win 5).blk t).view.emb y ax : Fin _) : ℕ) = (cfg0.win 5).index t ax * S2x1024.size ax + 1 * (y ax).val := rfl
    rw [(idx_nat t).2.2.1] at h
    refine h.trans ?_
    fin_cases ax <;> simp
  rw [after_5, (idx_nat t).2.2.2.1 hf]
  exact (last_eq m c y).trans (congrArg (G _ _) e).symm

/-- The call's run: the two gradients, and the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v0_2) = G (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨((h.1 c).1 5).trans (final6 m c), h.2.1 c⟩) (θ_run_and (run_main m ρ) (Cert.LnBwdTopH.frame m ρ))

end call

/-! ## The reference -/

open Cert.LnBwdTopRefIdeal Cert.LnBwdTopRefIdeal.Gen

/-- The reference's run: the same gradients. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = G (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun r h c => ⟨(h c).1.trans (by
    generalize m ((c.tc : Thread nD τ).loc main_arg0) = r
    generalize m ((c.tc : Thread nD τ).loc main_arg2) = a
    funext i
    unfold G
    pointwise
    by_cases hi : (i 0).val < 1
    · rw [dif_pos hi, if_pos (by omega), Fin.sum_univ_one]
      exact Finset.sum_congr rfl fun n _ => mul_comm _ _
    · rw [dif_neg hi, if_neg (by omega), Fin.sum_univ_one]
      exact Finset.sum_congr rfl fun n _ => rfl), (h c).2⟩) (Value.run m ρ)

theorem algebraic : Cert.algebraic_LnBwdTopIdeal_LnBwdTopRefIdeal := fun m g m' g' _ hag =>
  ⟨fun c => G (m ((c.tc : Thread Cert.LnBwdTopIdeal.nD Cert.LnBwdTopIdeal.τ).loc Cert.LnBwdTopIdeal.main_arg0)) (m ((c.tc : Thread Cert.LnBwdTopIdeal.nD Cert.LnBwdTopIdeal.τ).loc Cert.LnBwdTopIdeal.main_arg2)),
    run_blocks m g,
    (θ_run _ _ _).mono (fun r h c => by
      obtain ⟨h0, h1, h2⟩ := hag c
      exact ⟨(h c).1.trans (by rw [h0, h2]), (h c).2⟩) (ref_run m' g')⟩

end Cert.LnBwdTopV

end
-- ==== Proof.Norm.LnBwdKvRun.lean ====
/-
  The norm backward with two further cotangents: its body's loop over 64 groups of 16 rows, and the three cases of its conditionals. The two
  blocks of the row gradient end filled group by group, the scratch as `sums` says, the block of the gain's and the
  offset's gradients, at the last point, as the scratch's column sums. Over any float values.
-/
module

public import proofs.«01_k».proof.Proof.Gen.LnBwdKvIdeal.Frame.Runs
public import proofs.«01_k».proof.Proof.Norm.Blocks

@[expose] public section

set_option maxRecDepth 16384

noncomputable section

namespace Cert.LnBwdKvH

open Cert.Norm Cert.LnBwdKvIdeal Cert.LnBwdKvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

theorem trips_eq : k0_t1_loop.trips = 64 := by decide +kernel

/-- The rectangle of rows `16 k` to `16 k + 15`. -/
abbrev R16 (k : Fin k0_t1_loop.trips) : Rect S1024x1024 := Rect.unit (s := S1024x1024) (k0_off1 k) S16x1024.size (k0_off1_inb k)

/-- The scratch's two halves. -/
abbrev H0 : Rect S2x8x1024 := Rect.unit (s := S2x8x1024) ![0, 0, 0] S1x8x1024.size inb_S2x8x1024_S1x8x1024_0_0_0
abbrev H1 : Rect S2x8x1024 := Rect.unit (s := S2x8x1024) ![1, 0, 0] S1x8x1024.size inb_S2x8x1024_S1x8x1024_1_0_0

/-- The two rows of the last block. -/
abbrev L0 : Rect S2x1024 := Rect.unit (s := S2x1024) ![0, 0] S1x1024.size inb_S2x1024_S1x1024_0_0
abbrev L1 : Rect S2x1024 := Rect.unit (s := S2x1024) ![1, 0] S1x1024.size inb_S2x1024_S1x1024_1_0

/-- A group of rows of a block; half of a scratch. -/
def rows (x : Vec F S1024x1024 .f32) (k : Fin k0_t1_loop.trips) : Vec F S16x1024 .f32 := View.ld (Val := Elt F) (e' := EltTy.f32) x (R16 k)
def half (a : Vec F S2x8x1024 .f32) (r : Rect S2x8x1024) : r.shape.Idx → Elt F .f32 := View.ld (Val := Elt F) (e' := EltTy.f32) a r

/-- A group's normed rows, its cotangent, and its row gradient. -/
def xh (x0 : Vec F S1024x1024 .f32) (k : Fin k0_t1_loop.trips) : Vec F S16x1024 .f32 := k0_pay10 (rows x0 k)
def dy (x2 x3 x4 : Vec F S1024x1024 .f32) (k : Fin k0_t1_loop.trips) : Vec F S16x1024 .f32 := k0_pay11 (rows x2 k) (rows x3 k) (rows x4 k)
def dr (g : Vec F S1x1024 .f32) (x0 x2 x3 x4 : Vec F S1024x1024 .f32) (k : Fin k0_t1_loop.trips) : Vec F S16x1024 .f32 := k0_pay2 (k0_pay9 (rows x0 k)) (k0_pay10 (rows x0 k)) (k0_pay13 g (rows x2 k) (rows x3 k) (rows x4 k)) (k0_pay14 g (rows x0 k) (rows x2 k) (rows x3 k) (rows x4 k))
def drb (g : Vec F S1x1024 .f32) (x0 x2 x3 x4 : Vec F S1024x1024 .f32) (k : Fin k0_t1_loop.trips) : Vec F S16x1024 .bf16 := k0_pay3 (k0_pay9 (rows x0 k)) (k0_pay10 (rows x0 k)) (k0_pay13 g (rows x2 k) (rows x3 k) (rows x4 k)) (k0_pay14 g (rows x0 k) (rows x2 k) (rows x3 k) (rows x4 k))

/-- The last block, of a scratch. -/
def last (a : Vec F S2x8x1024 .f32) : Vec F S2x1024 .f32 := two1 (k0_pay6 (half a H0)) (k0_pay7 (half a H1))

/-- The pieces of the trips before `n`, and the block they fill. -/
def pieces {e : EltTy} (w : Fin k0_t1_loop.trips → S16x1024.Idx → Elt F e) (n : ℕ) : List (View.Piece (Elt F) S1024x1024 e) := groups k0_off1 k0_off1_inb w n
def fill {e : EltTy} (w : Fin k0_t1_loop.trips → S16x1024.Idx → Elt F e) : S1024x1024.Idx → Elt F e := filled trips_eq w

theorem pieces_succ {e : EltTy} (w : Fin k0_t1_loop.trips → S16x1024.Idx → Elt F e) (k : Fin k0_t1_loop.trips) :
    pieces w (k.val + 1) = ⟨R16 k, w k⟩ :: pieces w k.val := groups_succ _ _ _ k

theorem read_pieces {e : EltTy} (w : Fin k0_t1_loop.trips → S16x1024.Idx → Elt F e) (v : View sig .tc .vmem S1024x1024 e) (f : BufTy.Contents (Elt F) v.ty) :
    v.read (Elt F) (v.writes (Elt F) f (pieces w 64)) = fill w := read_groups trips_eq _ k0_off1_eq _ _ _ _

/-- One trip's two stores into the scratch, of what it finds there. -/
def add2 (x0 x2 x3 x4 : Vec F S1024x1024 .f32) (k : Fin k0_t1_loop.trips) (a : Vec F S2x8x1024 .f32) : List (View.Piece (Elt F) S2x8x1024 .f32) :=
  [⟨H1, k0_pay5 (dy x2 x3 x4 k) (half a H1)⟩, ⟨H0, k0_pay4 (xh x0 k) (dy x2 x3 x4 k) (half a H0)⟩]

/-- The scratch's value after the trips before `n`, from `a`. -/
def sums (x0 x2 x3 x4 : Vec F S1024x1024 .f32) (a : Vec F S2x8x1024 .f32) : ℕ → Vec F S2x8x1024 .f32
  | 0 => a
  | n + 1 => if h : n < k0_t1_loop.trips then
      two (k0_pay4 (xh x0 ⟨n, h⟩) (dy x2 x3 x4 ⟨n, h⟩) (half (sums x0 x2 x3 x4 a n) H0)) (k0_pay5 (dy x2 x3 x4 ⟨n, h⟩) (half (sums x0 x2 x3 x4 a n) H1))
    else sums x0 x2 x3 x4 a n

/-- The scratch after the trips before `n`, entered at `G`. -/
def scr (v : View sig .tc .vmem S2x8x1024 .f32) (x0 x2 x3 x4 : Vec F S1024x1024 .f32) (G : BufTy.Contents (Elt F) v.ty) : ℕ → BufTy.Contents (Elt F) v.ty
  | 0 => G
  | n + 1 => if h : n < k0_t1_loop.trips then
      v.writes (Elt F) (scr v x0 x2 x3 x4 G n) (add2 x0 x2 x3 x4 ⟨n, h⟩ (v.read (Elt F) (scr v x0 x2 x3 x4 G n)))
    else scr v x0 x2 x3 x4 G n

theorem scr_succ (v : View sig .tc .vmem S2x8x1024 .f32) (x0 x2 x3 x4 : Vec F S1024x1024 .f32) (G : BufTy.Contents (Elt F) v.ty) (k : Fin k0_t1_loop.trips) :
    scr v x0 x2 x3 x4 G (k.val + 1) = v.writes (Elt F) (scr v x0 x2 x3 x4 G k.val) (add2 x0 x2 x3 x4 k (v.read (Elt F) (scr v x0 x2 x3 x4 G k.val))) := by
  rw [scr, dif_pos k.isLt]

theorem read_scr (v : View sig .tc .vmem S2x8x1024 .f32) (x0 x2 x3 x4 : Vec F S1024x1024 .f32) (G : BufTy.Contents (Elt F) v.ty) (n : ℕ) :
    v.read (Elt F) (scr v x0 x2 x3 x4 G n) = sums x0 x2 x3 x4 (v.read (Elt F) G) n := by
  induction n with
  | zero => rfl
  | succ n ih =>
    rw [scr, sums]
    split
    · exact (read_two v _ _ _ _ _).trans (by rw [ih])
    · exact ih

/-! ## The loop -/

section body

variable (𝒱 : Variants) (c : Dev nD) (bd : Option 𝒱.V) (E : Set ℕ) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S2x1024 .f32) (harg8 : arg8.IsWhole) (arg9 : Memref sig .tc .vmem S2x8x1024 .f32) (harg9 : arg9.IsWhole)
  (g : Vec F S1x1024 .f32) (X1 : BufTy.Contents (Elt F) arg1.view.ty) (X3 : BufTy.Contents (Elt F) arg3.view.ty) (X4 : BufTy.Contents (Elt F) arg4.view.ty) (X5 : BufTy.Contents (Elt F) arg5.view.ty)

/-- One trip's pieces, spelled out. -/
theorem trip_pieces (k : Fin k0_t1_loop.trips) (fD : BufTy.Contents (Elt F) arg6.view.ty) (fB : BufTy.Contents (Elt F) arg7.view.ty) (fS : BufTy.Contents (Elt F) arg9.view.ty) :
    tripL_k0_t1 (F := F) 𝒱 c bd i arg1 harg1 arg2 harg2 arg3 harg3 arg4 harg4 arg5 harg5 arg6 harg6 arg7 harg7 arg8 harg8 arg9 harg9 g X1 X3 X4 X5 k fD fB fS
      = ([⟨R16 k, dr g (arg1.view.read (Elt F) X1) (arg3.view.read (Elt F) X3) (arg4.view.read (Elt F) X4) (arg5.view.read (Elt F) X5) k⟩], [⟨R16 k, drb g (arg1.view.read (Elt F) X1) (arg3.view.read (Elt F) X3) (arg4.view.read (Elt F) X4) (arg5.view.read (Elt F) X5) k⟩],
         add2 (arg1.view.read (Elt F) X1) (arg3.view.read (Elt F) X3) (arg4.view.read (Elt F) X4) (arg5.view.read (Elt F) X5) k (arg9.view.read (Elt F) fS)) := by
  unfold tripL_k0_t1 trip_k0_t1
  dsimp only
  rfl

set_option warn.classDefReducibility false in
/-- The loop: before trip `k` the two blocks hold what the trips before wrote, the scratch the sums so far. -/
@[sl_loop] def loopH (GD : BufTy.Contents (Elt F) arg6.view.ty) (GB : BufTy.Contents (Elt F) arg7.view.ty) (GS : BufTy.Contents (Elt F) arg9.view.ty) :
    LoopInv (M := 𝕄) Idealize.ShloMosaic.frame (wpE (defs₀ (F := F)) 𝒱 (c : Thread nD τ) bd) E k0_t1_loop.lb k0_t1_loop.ub k0_t1_loop.st k0_t1_ok ()
      (k0_t1_body (F := F) i arg1 harg1 arg2 harg2 arg3 harg3 arg4 harg4 arg5 harg5 arg6 harg6 arg7 harg7 arg8 harg8 arg9 harg9 g) where
  inv k _ := iprop((arg1.view.loc (c : Thread nD τ) ↦[arg1.view.set]{fullShare} X1) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5)
    ∗ (∃ f, (arg6.view.loc (c : Thread nD τ) ↦[arg6.view.set]{fullShare} f) ∗ ⌜f = arg6.view.writes (Elt F) GD (pieces (dr g (arg1.view.read (Elt F) X1) (arg3.view.read (Elt F) X3) (arg4.view.read (Elt F) X4) (arg5.view.read (Elt F) X5)) k)⌝)
    ∗ (∃ f, (arg7.view.loc (c : Thread nD τ) ↦[arg7.view.set]{fullShare} f) ∗ ⌜f = arg7.view.writes (Elt F) GB (pieces (drb g (arg1.view.read (Elt F) X1) (arg3.view.read (Elt F) X3) (arg4.view.read (Elt F) X4) (arg5.view.read (Elt F) X5)) k)⌝)
    ∗ (∃ f, (arg9.view.loc (c : Thread nD τ) ↦[arg9.view.set]{fullShare} f) ∗ ⌜f = scr arg9.view (arg1.view.read (Elt F) X1) (arg3.view.read (Elt F) X3) (arg4.view.read (Elt F) X4) (arg5.view.read (Elt F) X5) GS k⌝))
  step k acc := by
    iintro ⟨HR1, HR3, HR4, HR5, ⟨%fD, HWD, %hD⟩, ⟨%fB, HWB, %hB⟩, ⟨%fS, HWS, %hS⟩⟩
    iapply (wp_wand_r Idealize.ShloMosaic.frame (wpE (defs₀ (F := F)) 𝒱 (c : Thread nD τ) bd) E)
    isplitl [HR1 HR3 HR4 HR5 HWD HWB HWS]
    · iapply ((trip_k0_t1 (F := F) 𝒱 c bd i arg1 harg1 arg2 harg2 arg3 harg3 arg4 harg4 arg5 harg5 arg6 harg6 arg7 harg7 arg8 harg8 arg9 harg9 g X1 X3 X4 X5 k).2.2.2 E fD fB fS)
      isplitl [HR1]; · iexact HR1
      isplitl [HR3]; · iexact HR3
      isplitl [HR4]; · iexact HR4
      isplitl [HR5]; · iexact HR5
      isplitl [HWD]; · iexact HWD
      isplitl [HWB]; · iexact HWB
      iexact HWS
    · iintro %_ ⟨HR1, HR3, HR4, HR5, HWD, HWB, HWS⟩
      isplitl [HR1]; · iexact HR1
      isplitl [HR3]; · iexact HR3
      isplitl [HR4]; · iexact HR4
      isplitl [HR5]; · iexact HR5
      have e := trip_pieces 𝒱 c bd i arg1 harg1 arg2 harg2 arg3 harg3 arg4 harg4 arg5 harg5 arg6 harg6 arg7 harg7 arg8 harg8 arg9 harg9 g X1 X3 X4 X5 k fD fB fS
      isplitl [HWD]
      · iexists _; isplitl [HWD]; · iexact HWD
        ipureintro
        rw [pieces_succ, show (trip_k0_t1 (F := F) 𝒱 c bd i arg1 harg1 arg2 harg2 arg3 harg3 arg4 harg4 arg5 harg5 arg6 harg6 arg7 harg7 arg8 harg8 arg9 harg9 g X1 X3 X4 X5 k).1 fD fB fS = _ from congrArg Prod.fst e, hD, ← View.writes_append]
        rfl
      isplitl [HWB]
      · iexists _; isplitl [HWB]; · iexact HWB
        ipureintro
        rw [pieces_succ, show (trip_k0_t1 (F := F) 𝒱 c bd i arg1 harg1 arg2 harg2 arg3 harg3 arg4 harg4 arg5 harg5 arg6 harg6 arg7 harg7 arg8 harg8 arg9 harg9 g X1 X3 X4 X5 k).2.1 fD fB fS = _ from congrArg (fun p => p.2.1) e, hB, ← View.writes_append]
        rfl
      iexists _; isplitl [HWS]; · iexact HWS
      ipureintro
      rw [scr_succ, show (trip_k0_t1 (F := F) 𝒱 c bd i arg1 harg1 arg2 harg2 arg3 harg3 arg4 harg4 arg5 harg5 arg6 harg6 arg7 harg7 arg8 harg8 arg9 harg9 g X1 X3 X4 X5 k).2.2.1 fD fB fS = _ from congrArg (fun p => p.2.2) e, hS]

end body

/-! ## The body -/

section run

variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S2x1024 .f32) (harg8 : arg8.IsWhole) (arg9 : Memref sig .tc .vmem S2x8x1024 .f32) (harg9 : arg9.IsWhole)
  (x0 x2 x3 x4 : Vec F S1024x1024 .f32) (x1 : Vec F S1x1024 .f32) (y5 : Vec F S1024x1024 .f32) (y6 : Vec F S1024x1024 .bf16) (y7 : Vec F S2x1024 .f32) (ys : Vec F S2x8x1024 .f32)

/-- What the body leaves: the inputs' blocks as they were, the row gradient's two blocks, the last block at `z`, the scratch at `s`. -/
def Left (arg1 : Memref sig .tc .vmem S1024x1024 .f32) (arg2 : Memref sig .tc .vmem S1x1024 .f32) (arg3 : Memref sig .tc .vmem S1024x1024 .f32) (arg4 : Memref sig .tc .vmem S1024x1024 .f32) (arg5 : Memref sig .tc .vmem S1024x1024 .f32) (arg6 : Memref sig .tc .vmem S1024x1024 .f32) (arg7 : Memref sig .tc .vmem S1024x1024 .bf16) (arg8 : Memref sig .tc .vmem S2x1024 .f32) (arg9 : Memref sig .tc .vmem S2x8x1024 .f32) (x0 x2 x3 x4 : Vec F S1024x1024 .f32) (x1 : Vec F S1x1024 .f32) (z : Vec F S2x1024 .f32) (s : Vec F S2x8x1024 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (fill (dr x1 x0 x2 x3 x4)) ∗ owns (c : Thread nD τ) arg7 fullShare (fill (drb x1 x0 x2 x3 x4)) ∗ owns (c : Thread nD τ) arg8 fullShare z ∗ owns (c : Thread nD τ) arg9 fullShare s)

set_option maxHeartbeats 1000000 in
theorem runA (E : Set ℕ) (K : PUnit → sProp 𝕄) (hc0 : cond0_0 i) (hc1 : ¬cond0_1 i) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare y6 ∗ owns (c : Thread nD τ) arg8 fullShare y7 ∗ (∃ d, owns (c : Thread nD τ) arg9 fullShare d)
            ∗ (Left c arg1 arg2 arg3 arg4 arg5 arg6 arg7 arg8 arg9 x0 x2 x3 x4 x1 y7 (sums x0 x2 x3 x4 (k0_pay1 (F := F)) 64) -∗ K ⟨⟩))
          ⊢ wp frame (wpE (defs₀ (F := F)) Variants.none c none) E (cc0_ln_bwd i arg1 harg1 arg2 harg2 arg3 harg3 arg4 harg4 arg5 harg5 arg6 harg6 arg7 harg7 arg8 harg8 arg9 harg9) K := by
    simp only [cc0_ln_bwd_eq_skeleton]; unfold cc0_ln_bwd_skel
    unfold Left owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg1.eq_unread hf1; obtain rfl := harg2.eq_unread hf2; obtain rfl := harg3.eq_unread hf3; obtain rfl := harg4.eq_unread hf4; obtain rfl := harg5.eq_unread hf5; obtain rfl := harg8.eq_unread hf8
    sl_exec (disch := first | sl_exact hc0 | sl_exact hc1)
    sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr
      swap; · iexact H6
      ipureintro; rw [View.readAt_full, hf2, hf1, hf3, hf4, hf5]; exact read_pieces _ _ _
    isplitl [H7]
    · iexists _; isplitr
      swap; · iexact H7
      ipureintro; rw [View.readAt_full, hf2, hf1, hf3, hf4, hf5]; exact read_pieces _ _ _
    isplitl [H8]
    · iexists _; isplitr; · ipureintro; exact hf8
      iexact H8
    iexists _; isplitr
    swap; · iexact HS0
    ipureintro; rw [hf1, hf3, hf4, hf5]
    exact (read_scr _ _ _ _ _ _ _).trans (congrArg (sums x0 x2 x3 x4 · 64) (View.read_writes_full arg9.view _ _ _ []))

set_option maxHeartbeats 1000000 in
theorem runB (E : Set ℕ) (K : PUnit → sProp 𝕄) (hc0 : ¬cond0_0 i) (hc1 : ¬cond0_1 i) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare y6 ∗ owns (c : Thread nD τ) arg8 fullShare y7 ∗ owns (c : Thread nD τ) arg9 fullShare ys
            ∗ (Left c arg1 arg2 arg3 arg4 arg5 arg6 arg7 arg8 arg9 x0 x2 x3 x4 x1 y7 (sums x0 x2 x3 x4 ys 64) -∗ K ⟨⟩))
          ⊢ wp frame (wpE (defs₀ (F := F)) Variants.none c none) E (cc0_ln_bwd i arg1 harg1 arg2 harg2 arg3 harg3 arg4 harg4 arg5 harg5 arg6 harg6 arg7 harg7 arg8 harg8 arg9 harg9) K := by
    simp only [cc0_ln_bwd_eq_skeleton]; unfold cc0_ln_bwd_skel
    unfold Left owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs, HS0⟩, Hk⟩
    obtain rfl := harg1.eq_unread hf1; obtain rfl := harg2.eq_unread hf2; obtain rfl := harg3.eq_unread hf3; obtain rfl := harg4.eq_unread hf4; obtain rfl := harg5.eq_unread hf5; obtain rfl := harg8.eq_unread hf8; obtain rfl := harg9.eq_unread hfs
    sl_exec (disch := first | sl_exact hc0 | sl_exact hc1)
    sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr
      swap; · iexact H6
      ipureintro; rw [View.readAt_full, hf2, hf1, hf3, hf4, hf5]; exact read_pieces _ _ _
    isplitl [H7]
    · iexists _; isplitr
      swap; · iexact H7
      ipureintro; rw [View.readAt_full, hf2, hf1, hf3, hf4, hf5]; exact read_pieces _ _ _
    isplitl [H8]
    · iexists _; isplitr; · ipureintro; exact hf8
      iexact H8
    iexists _; isplitr
    swap; · iexact HS0
    ipureintro; rw [hf1, hf3, hf4, hf5]
    exact (read_scr _ _ _ _ _ _ _).trans (congrArg (sums x0 x2 x3 x4 · 64) hfs)

set_option maxHeartbeats 1000000 in
theorem runC (E : Set ℕ) (K : PUnit → sProp 𝕄) (hc0 : ¬cond0_0 i) (hc1 : cond0_1 i) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y5 ∗ owns (c : Thread nD τ) arg7 fullShare y6 ∗ owns (c : Thread nD τ) arg8 fullShare y7 ∗ owns (c : Thread nD τ) arg9 fullShare ys
            ∗ (Left c arg1 arg2 arg3 arg4 arg5 arg6 arg7 arg8 arg9 x0 x2 x3 x4 x1 (last (sums x0 x2 x3 x4 ys 64)) (sums x0 x2 x3 x4 ys 64) -∗ K ⟨⟩))
          ⊢ wp frame (wpE (defs₀ (F := F)) Variants.none c none) E (cc0_ln_bwd i arg1 harg1 arg2 harg2 arg3 harg3 arg4 harg4 arg5 harg5 arg6 harg6 arg7 harg7 arg8 harg8 arg9 harg9) K := by
    simp only [cc0_ln_bwd_eq_skeleton]; unfold cc0_ln_bwd_skel
    unfold Left owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs, HS0⟩, Hk⟩
    obtain rfl := harg1.eq_unread hf1; obtain rfl := harg2.eq_unread hf2; obtain rfl := harg3.eq_unread hf3; obtain rfl := harg4.eq_unread hf4; obtain rfl := harg5.eq_unread hf5; obtain rfl := harg9.eq_unread hfs
    sl_exec (disch := first | sl_exact hc0 | sl_exact hc1)
    sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr
      swap; · iexact H6
      ipureintro; rw [View.readAt_full, hf2, hf1, hf3, hf4, hf5]; exact read_pieces _ _ _
    isplitl [H7]
    · iexists _; isplitr
      swap; · iexact H7
      ipureintro; rw [View.readAt_full, hf2, hf1, hf3, hf4, hf5]; exact read_pieces _ _ _
    isplitl [H8]
    · iexists _; isplitr
      swap; · iexact H8
      ipureintro
      refine (read_two1 _ _ _ _ _ _).trans (congrArg last ?_)
      rw [hf1, hf3, hf4, hf5]
      exact (read_scr _ _ _ _ _ _ _).trans (congrArg (sums x0 x2 x3 x4 · 64) hfs)
    iexists _; isplitr
    swap; · iexact HS0
    ipureintro; rw [hf1, hf3, hf4, hf5]
    exact (read_scr _ _ _ _ _ _ _).trans (congrArg (sums x0 x2 x3 x4 · 64) hfs)

end run

end Cert.LnBwdKvH

end
-- ==== Proof.Norm.LnBwdKvFrame.lean ====
/-
  The norm backward with two further cotangents: its whole run. What each of the eight points finds in the scratch and leaves in the blocks,
  the body's obligation at a point out of the three runs, and the run of the program. Over any float values.
-/
module

public import proofs.«01_k».proof.Proof.Norm.LnBwdKvRun
public import Idealize.ShloMosaic.Lib.Claim

@[expose] public section

set_option maxRecDepth 16384

noncomputable section

namespace Cert.LnBwdKvH

open Cert.Norm Cert.LnBwdKvIdeal Cert.LnBwdKvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch before point `n`: the column sums of the blocks before it. -/
def acc (c : Dev nD) : ℕ → Vec F S2x8x1024 .f32
  | 0 => k0_pay1
  | n + 1 => if h : n < cfg0.N then sums (iblk m c 0 ⟨n, h⟩) (iblk m c 2 ⟨n, h⟩) (iblk m c 3 ⟨n, h⟩) (iblk m c 4 ⟨n, h⟩) (acc c n) 64 else acc c n

theorem acc_succ (c : Dev nD) (t : Fin cfg0.N) : acc m c (t.val + 1) = sums (iblk m c 0 t) (iblk m c 2 t) (iblk m c 3 t) (iblk m c 4 t) (acc m c t.val) 64 := by
  rw [acc, dif_pos t.isLt]

/-- What holds before point `n`: nothing is known of the scratch before the first, later it holds `acc`. -/
def Phi (c : Dev nD) : ℕ → sProp 𝕄
  | 0 => Pipeline.ΦA spec0 c
  | n + 1 => iprop(owns (c : Thread nD τ) scM0_0 fullShare (acc m c (n + 1)) ∗ (∃ r, prngReg c r))

/-- The arrays as launched, what the body leaves in each block, and what holds between points. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fill (dr (iblk m c 1 t) (iblk m c 0 t) (iblk m c 2 t) (iblk m c 3 t) (iblk m c 4 t))
    | ⟨6, _⟩ => fill (drb (iblk m c 1 t) (iblk m c 0 t) (iblk m c 2 t) (iblk m c 3 t) (iblk m c 4 t))
    | ⟨7, _⟩ => last (acc m c (t.val + 1))
  Φ t := Phi m c t.val
  q _ := fullShare
  owed _ := 0

theorem dat_A (c : Dev nD) (w : Fin cfg0.W) : (dat m 0 c).A w = V m c (Pipeline.arrRef spec0 w) := by dsimp only [dat]
theorem after_0 (c : Dev nD) (t : Fin cfg0.N) : (dat m 0 c).after 0 t = iblk m c 0 t := by dsimp only [dat]
theorem after_1 (c : Dev nD) (t : Fin cfg0.N) : (dat m 0 c).after 1 t = iblk m c 1 t := by dsimp only [dat]
theorem after_2 (c : Dev nD) (t : Fin cfg0.N) : (dat m 0 c).after 2 t = iblk m c 2 t := by dsimp only [dat]
theorem after_3 (c : Dev nD) (t : Fin cfg0.N) : (dat m 0 c).after 3 t = iblk m c 3 t := by dsimp only [dat]
theorem after_4 (c : Dev nD) (t : Fin cfg0.N) : (dat m 0 c).after 4 t = iblk m c 4 t := by dsimp only [dat]
theorem after_5 (c : Dev nD) (t : Fin cfg0.N) : (dat m 0 c).after 5 t = fill (dr (iblk m c 1 t) (iblk m c 0 t) (iblk m c 2 t) (iblk m c 3 t) (iblk m c 4 t)) := by dsimp only [dat]
theorem after_6 (c : Dev nD) (t : Fin cfg0.N) : (dat m 0 c).after 6 t = fill (drb (iblk m c 1 t) (iblk m c 0 t) (iblk m c 2 t) (iblk m c 3 t) (iblk m c 4 t)) := by dsimp only [dat]
theorem after_7 (c : Dev nD) (t : Fin cfg0.N) : (dat m 0 c).after 7 t = last (acc m c (t.val + 1)) := by dsimp only [dat]
theorem before_0 (c : Dev nD) (t : Fin cfg0.N) (d) : (dat m 0 c).before 0 t d = iblk m c 0 t :=
  before0_0_of m (dat m 0 c) (dat_A m c 0) (after_0 m c) t d
theorem before_1 (c : Dev nD) (t : Fin cfg0.N) (d) : (dat m 0 c).before 1 t d = iblk m c 1 t :=
  before0_1_of m (dat m 0 c) (dat_A m c 1) (after_1 m c) t d
theorem before_2 (c : Dev nD) (t : Fin cfg0.N) (d) : (dat m 0 c).before 2 t d = iblk m c 2 t :=
  before0_2_of m (dat m 0 c) (dat_A m c 2) (after_2 m c) t d
theorem before_3 (c : Dev nD) (t : Fin cfg0.N) (d) : (dat m 0 c).before 3 t d = iblk m c 3 t :=
  before0_3_of m (dat m 0 c) (dat_A m c 3) (after_3 m c) t d
theorem before_4 (c : Dev nD) (t : Fin cfg0.N) (d) : (dat m 0 c).before 4 t d = iblk m c 4 t :=
  before0_4_of m (dat m 0 c) (dat_A m c 4) (after_4 m c) t d

def bodyPre (c : Dev nD) (t : Fin cfg0.N) : sProp 𝕄 :=
  iprop((dat m 0 c).Φ t.castSucc ∗ (dat m 0 c).owesAt () t.castSucc
    ∗ (∃ d, owns (c : Thread nD τ) (ms0_0 t) fullShare ((dat m 0 c).before 0 t d))
    ∗ (∃ d, owns (c : Thread nD τ) (ms0_1 t) fullShare ((dat m 0 c).before 1 t d))
    ∗ (∃ d, owns (c : Thread nD τ) (ms0_2 t) fullShare ((dat m 0 c).before 2 t d))
    ∗ (∃ d, owns (c : Thread nD τ) (ms0_3 t) fullShare ((dat m 0 c).before 3 t d))
    ∗ (∃ d, owns (c : Thread nD τ) (ms0_4 t) fullShare ((dat m 0 c).before 4 t d))
    ∗ (∃ d, owns (c : Thread nD τ) (ms0_5 t) fullShare ((dat m 0 c).before 5 t d))
    ∗ (∃ d, owns (c : Thread nD τ) (ms0_6 t) fullShare ((dat m 0 c).before 6 t d))
    ∗ (∃ d, owns (c : Thread nD τ) (ms0_7 t) fullShare ((dat m 0 c).before 7 t d)))

def bodyPost (c : Dev nD) (t : Fin cfg0.N) : sProp 𝕄 :=
  iprop((dat m 0 c).Φ t.succ ∗ (dat m 0 c).owesAt () t.succ
    ∗ (dat m 0 c).leavesExact 0 t ∗ (dat m 0 c).leavesExact 1 t ∗ (dat m 0 c).leavesExact 2 t ∗ (dat m 0 c).leavesExact 3 t ∗ (dat m 0 c).leavesExact 4 t ∗ (dat m 0 c).leavesExact 5 t ∗ (dat m 0 c).leavesExact 6 t ∗ (dat m 0 c).leavesExact 7 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dat m 0 c).owesAt () t.succ = (dat m 0 c).owesAt () t.castSucc from rfl,
    show (dat m 0 c).Φ t.castSucc = Phi m c t.val from rfl,
    show (dat m 0 c).Φ t.succ = iprop(owns (c : Thread nD τ) scM0_0 fullShare (acc m c (t.val + 1)) ∗ (∃ r, prngReg c r)) from rfl, acc_succ,
    show (dat m 0 c).leavesExact 0 t = owns (c : Thread nD τ) (ms0_0 t) fullShare (iblk m c 0 t) from by
      unfold Dat.leavesExact; rw [liveAt0_0 t, after_0],
    show (dat m 0 c).leavesExact 1 t = owns (c : Thread nD τ) (ms0_1 t) fullShare (iblk m c 1 t) from by
      unfold Dat.leavesExact; rw [liveAt0_1 t, after_1],
    show (dat m 0 c).leavesExact 2 t = owns (c : Thread nD τ) (ms0_2 t) fullShare (iblk m c 2 t) from by
      unfold Dat.leavesExact; rw [liveAt0_2 t, after_2],
    show (dat m 0 c).leavesExact 3 t = owns (c : Thread nD τ) (ms0_3 t) fullShare (iblk m c 3 t) from by
      unfold Dat.leavesExact; rw [liveAt0_3 t, after_3],
    show (dat m 0 c).leavesExact 4 t = owns (c : Thread nD τ) (ms0_4 t) fullShare (iblk m c 4 t) from by
      unfold Dat.leavesExact; rw [liveAt0_4 t, after_4],
    show (dat m 0 c).leavesExact 5 t = owns (c : Thread nD τ) (ms0_5 t) fullShare (fill (dr (iblk m c 1 t) (iblk m c 0 t) (iblk m c 2 t) (iblk m c 3 t) (iblk m c 4 t))) from by
      unfold Dat.leavesExact; rw [liveAt0_5 t, after_5],
    show (dat m 0 c).leavesExact 6 t = owns (c : Thread nD τ) (ms0_6 t) fullShare (fill (drb (iblk m c 1 t) (iblk m c 0 t) (iblk m c 2 t) (iblk m c 3 t) (iblk m c 4 t))) from by
      unfold Dat.leavesExact; rw [liveAt0_6 t, after_6]]
  have hN : t.val < 8 := lt_of_lt_of_eq t.isLt (show cfg0.N = 8 from N_0)
  by_cases h0 : t.val = 0
  · have c0 := (hcond0_0 t).mpr (by omega)
    have c1 : ¬ cond0_1 (grid0.coords t) := fun h => by have := (hcond0_1 t).mp h; omega
    rw [Dat.leavesExact_idle (dat m 0 c) 7 t (idleAt0_7_A t c0 c1) (noFlush0_7_A t c0 c1), h0,
      show Phi m c 0 = Pipeline.ΦA spec0 c from rfl, PhiA0_eq, show acc m c 0 = k0_pay1 from rfl]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runA c (grid0.coords t) _ _ _ _ _ _ _ _ _ _ _ _ _ _ _ _ _ _ (iblk m c 0 t) (iblk m c 2 t) (iblk m c 3 t) (iblk m c 4 t) (iblk m c 1 t) _ _ _ Set.univ _ c0 c1)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    unfold Left
    iintro ⟨H0, H1, H2, H3, H4, H5, H6, H7, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have c0 : ¬ cond0_0 (grid0.coords t) := fun h => by have := (hcond0_0 t).mp h; omega
    rw [show Phi m c t.val = iprop(owns (c : Thread nD τ) scM0_0 fullShare (acc m c t.val) ∗ (∃ r, prngReg c r)) from by
      obtain ⟨n, hn⟩ := Nat.exists_eq_succ_of_ne_zero h0; rw [hn]; rfl]
    by_cases h1 : t.val = 7
    · have c1 := (hcond0_1 t).mpr (by omega)
      rw [show (dat m 0 c).leavesExact 7 t = owns (c : Thread nD τ) (ms0_7 t) fullShare (last (sums (iblk m c 0 t) (iblk m c 2 t) (iblk m c 3 t) (iblk m c 4 t) (acc m c t.val) 64)) from by
        unfold Dat.leavesExact; rw [liveAt0_7_C t c0 c1, after_7, acc_succ]]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runC c (grid0.coords t) _ _ _ _ _ _ _ _ _ _ _ _ _ _ _ _ _ _ (iblk m c 0 t) (iblk m c 2 t) (iblk m c 3 t) (iblk m c 4 t) (iblk m c 1 t) _ _ _ _ Set.univ _ c0 c1)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      unfold Left
      iintro ⟨H0, H1, H2, H3, H4, H5, H6, H7, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have c1 : ¬ cond0_1 (grid0.coords t) := fun h => by have := (hcond0_1 t).mp h; omega
      rw [Dat.leavesExact_idle (dat m 0 c) 7 t (idleAt0_7_B t c0 c1) (noFlush0_7_B t c0 c1)]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (runB c (grid0.coords t) _ _ _ _ _ _ _ _ _ _ _ _ _ _ _ _ _ _ (iblk m c 0 t) (iblk m c 2 t) (iblk m c 3 t) (iblk m c 4 t) (iblk m c 1 t) _ _ _ _ Set.univ _ c0 c1)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      unfold Left
      iintro ⟨H0, H1, H2, H3, H4, H5, H6, H7, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem body_obligation (c : Dev nD) : BodyObligation (dat (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

theorem hin (c : Dev nD) : Pipeline.ΦA spec0 c ⊢ (dat m 0 c).Φ 0 := Idealize.SL.BI.Entails.refl _

theorem hout (c : Dev nD) : (dat m 0 c).Φ (Fin.last cfg0.N) ⊢ Pipeline.ΦA spec0 c := by
  rw [show (dat m 0 c).Φ (Fin.last cfg0.N) = Phi m c 8 from rfl, show Phi m c 8 = iprop(owns (c : Thread nD τ) scM0_0 fullShare (acc m c 8) ∗ (∃ r, prngReg c r)) from rfl, PhiA0_eq]
  iintro ⟨HS0, Hg⟩
  isplitl [HS0]
  · iexists _; iexact HS0
  iexact Hg

set_option backward.isDefEq.respectTransparency.types false in
/-- The run: the arrays end as the points leave them, every semaphore counter at zero. -/
theorem run_quiescent : θ_run defs (onTc (τ := τ) (main (F := F))) (s₀ m ρ) (fun r => (Pipeline.FramePost cfgs (dat m) 0 (V m)) r ∧ r.2.sem = fun _ => 0) :=
  Pipeline.θ_run_frame_track (Q' := _) cfgs (dat m) (0 : Fin 1) launch0 defs₀ Variants.none m ρ main
    (hbody := fun c => (body_obligation m c).loose) (hshare := fun c => (dat m 0 c).share_full fun _ => rfl)
    (howed := fun _ _ => rfl) (V := V m) (hmain := hmain m Variants.none) (hA := dat_A m) (hin := hin m) (hout := hout m)

theorem run_main : θ_run defs (onTc (τ := τ) (main (F := F))) (s₀ m ρ) (Pipeline.FramePost cfgs (dat m) 0 (V m)) :=
  (θ_run defs _ _).mono (fun _ h => h.1) (run_quiescent m ρ)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dat m) (dat_A m) (run_main m ρ)) ((θ_run defs _ _).mono (fun _ h => h.2) (run_quiescent m ρ))

end Cert.LnBwdKvH

end
-- ==== Proof.Norm.LnBwdKv.lean ====
/-
  The norm backward with two further cotangents: the gradients of the gain and the offset, as the call leaves them and as the reference gives
  them. The call adds row group by row group into a scratch of two halves and adds the halves' eight rows at the end; the
  reference adds over all rows at once. Both are one sum, whatever the arguments are.
-/
module

public import proofs.«01_k».proof.Defs
public import proofs.«01_k».proof.Proof.Norm.Sums
public import proofs.«01_k».proof.Proof.Norm.LnBwdKvFrame
public import proofs.«01_k».proof.Proof.Gen.LnBwdKvRefIdeal.Run
public import Idealize.ShloMosaic.Lib.Pipeline.ValueKit.Geometry

@[expose] public section

set_option maxRecDepth 16384

noncomputable section

open Idealize.ShloMosaic Idealize.ShloMosaic.TcCoe Idealize.SL.Sem

namespace Cert.LnBwdKvV

open Cert.Norm

/-- The cotangent of the norm's output at an entry. -/
def D (a b c : (⟨2, ![8192, 1024]⟩ : Shape).Idx → EReal) (n : Fin 8192) (j : Fin 1024) : EReal := Ideal.ofBits .f32 0x3FD744FD#32 * a (ix2 n j) + b (ix2 n j) + c (ix2 n j)

/-- The two gradients, one per row. -/
def G (r a b c : (⟨2, ![8192, 1024]⟩ : Shape).Idx → EReal) (i : (⟨2, ![2, 1024]⟩ : Shape).Idx) : EReal :=
  if (i 0).val = 0 then ∑ n, D a b c n (i 1) * nrm (fun l => r (ix2 n l)) (i 1) else ∑ n, D a b c n (i 1)

/-! ## The call -/

section call

open Cert.LnBwdKvIdeal Cert.LnBwdKvIdeal.Gen Cert.LnBwdKvH

theorem payX (x : Vec Ideal S16x1024 .f32) (a : Fin 16) (j : Fin 1024) : k0_pay10 (F := Ideal) x (ix2 a j) = nrm (fun l => x (ix2 a l)) j := by
  unfold k0_pay10 k0_pay9 k0_pay8 nrm ctr
  pointwise

theorem payY (x y z : Vec Ideal S16x1024 .f32) (i : S16x1024.Idx) : k0_pay11 (F := Ideal) x y z i = Ideal.ofBits .f32 0x3FD744FD#32 * x i + y i + z i := by
  unfold k0_pay11
  pointwise

theorem payA (x y : Vec Ideal S16x1024 .f32) (v : Vec Ideal S1x8x1024 .f32) (p : Fin 8) (j : Fin 1024) :
    k0_pay4 (F := Ideal) x y v (ix3 0 p j) = v (ix3 0 p j) + ∑ q : Fin 2, y (ix2 ⟨q.val * 8 + p.val, by omega⟩ j) * x (ix2 ⟨q.val * 8 + p.val, by omega⟩ j) := by
  unfold k0_pay4
  pointwise

theorem payB (y : Vec Ideal S16x1024 .f32) (v : Vec Ideal S1x8x1024 .f32) (p : Fin 8) (j : Fin 1024) :
    k0_pay5 (F := Ideal) y v (ix3 0 p j) = v (ix3 0 p j) + ∑ q : Fin 2, y (ix2 ⟨q.val * 8 + p.val, by omega⟩ j) := by
  unfold k0_pay5
  pointwise

theorem payC (v : Vec Ideal S1x8x1024 .f32) (j : Fin 1024) : k0_pay6 (F := Ideal) v (ix2 0 j) = ∑ p : Fin 8, v (ix3 0 p j) := by
  unfold k0_pay6
  pointwise

theorem payD (v : Vec Ideal S1x8x1024 .f32) (j : Fin 1024) : k0_pay7 (F := Ideal) v (ix2 0 j) = ∑ p : Fin 8, v (ix3 0 p j) := by
  unfold k0_pay7
  pointwise

theorem half0 (a : Vec Ideal S2x8x1024 .f32) (p : Fin 8) (j : Fin 1024) : half a H0 (ix3 0 p j) = a (ix3 0 p j) := by
  unfold half View.ld
  refine congrArg a (funext fun ax => Fin.ext ?_)
  fin_cases ax <;> simp [H0, ix3]

theorem half1 (a : Vec Ideal S2x8x1024 .f32) (p : Fin 8) (j : Fin 1024) : half a H1 (ix3 0 p j) = a (ix3 1 p j) := by
  unfold half View.ld
  refine congrArg a (funext fun ax => Fin.ext ?_)
  fin_cases ax <;> simp [H1, ix3]

/-- An entry of a group of 16 rows. -/
theorem rows_apply (x : Vec Ideal S1024x1024 .f32) (k : Fin k0_t1_loop.trips) (a : Fin 16) (j : Fin 1024) :
    rows x k (ix2 a j) = x (ix2 ⟨16 * k.val + a.val, by have h := lt_of_lt_of_eq k.isLt trips_eq; omega⟩ j) := by
  unfold rows View.ld
  refine congrArg x (funext fun ax => Fin.ext ?_)
  show k0_off1 k ax + 1 * (ix2 a j ax).val = _
  rw [k0_off1_eq]
  fin_cases ax <;> simp [ix2]

variable (m : (ℓ : Loc nD τ sig) → Buf (Elt Ideal) ℓ)

theorem idx_nat : ∀ t : Fin cfg0.N, (cfg0.win 0).index t = ![t.val, 0] ∧ (cfg0.win 2).index t = ![t.val, 0] ∧ (cfg0.win 3).index t = ![t.val, 0] ∧ (cfg0.win 4).index t = ![t.val, 0]
    ∧ (cfg0.win 7).index t = ![0, 0] ∧ ((cfg0.win 7).flush t = true → t.val = 7) ∧ t.val < 8 :=
  (by decide +kernel : ∀ t : Fin grid0.N, win0_0.index t = ![t.val, 0] ∧ win0_2.index t = ![t.val, 0] ∧ win0_3.index t = ![t.val, 0] ∧ win0_4.index t = ![t.val, 0]
    ∧ win0_7.index t = ![0, 0] ∧ (win0_7.flush t = true → t.val = 7) ∧ t.val < 8)

theorem covers6 : (cfg0.win 7).Covers := (by decide +kernel : win0_7.Covers)

/-- Where an entry of point `t`'s block lies in the array. -/
def E (t : Fin cfg0.N) (y : S1024x1024.Idx) : S8192x1024.Idx :=
  ix2 ⟨1024 * t.val + (y 0).val, by have h := (idx_nat t).2.2.2.2.2.2; have h0 := (y 0).isLt; dsimp at h0; omega⟩ (y 1)

theorem rd0 (c : Dev nD) (t : Fin cfg0.N) (y : S1024x1024.Idx) : iblk m c 0 t y = m ((c.tc : Thread nD τ).loc main_arg0) (E t y) := by
  refine (congrArg (V m c main_arg0) (funext fun ax => Fin.ext ?_)).trans (congrFun (V_main_arg0 m c) _)
  have h : ((((cfg0.win 0).blk t).view.emb y ax : Fin _) : ℕ) = (cfg0.win 0).index t ax * S1024x1024.size ax + 1 * (y ax).val := rfl
  rw [(idx_nat t).1] at h
  refine h.trans ?_
  fin_cases ax <;> (simp [E, ix2] <;> omega)

theorem rd2 (c : Dev nD) (t : Fin cfg0.N) (y : S1024x1024.Idx) : iblk m c 2 t y = m ((c.tc : Thread nD τ).loc main_arg2) (E t y) := by
  refine (congrArg (V m c main_arg2) (funext fun ax => Fin.ext ?_)).trans (congrFun (V_main_arg2 m c) _)
  have h : ((((cfg0.win 2).blk t).view.emb y ax : Fin _) : ℕ) = (cfg0.win 2).index t ax * S1024x1024.size ax + 1 * (y ax).val := rfl
  rw [(idx_nat t).2.1] at h
  refine h.trans ?_
  fin_cases ax <;> (simp [E, ix2] <;> omega)

theorem rd3 (c : Dev nD) (t : Fin cfg0.N) (y : S1024x1024.Idx) : iblk m c 3 t y = m ((c.tc : Thread nD τ).loc main_arg3) (E t y) := by
  refine (congrArg (V m c main_arg3) (funext fun ax => Fin.ext ?_)).trans (congrFun (V_main_arg3 m c) _)
  have h : ((((cfg0.win 3).blk t).view.emb y ax : Fin _) : ℕ) = (cfg0.win 3).index t ax * S1024x1024.size ax + 1 * (y ax).val := rfl
  rw [(idx_nat t).2.2.1] at h
  refine h.trans ?_
  fin_cases ax <;> (simp [E, ix2] <;> omega)

theorem rd4 (c : Dev nD) (t : Fin cfg0.N) (y : S1024x1024.Idx) : iblk m c 4 t y = m ((c.tc : Thread nD τ).loc main_arg4) (E t y) := by
  refine (congrArg (V m c main_arg4) (funext fun ax => Fin.ext ?_)).trans (congrFun (V_main_arg4 m c) _)
  have h : ((((cfg0.win 4).blk t).view.emb y ax : Fin _) : ℕ) = (cfg0.win 4).index t ax * S1024x1024.size ax + 1 * (y ax).val := rfl
  rw [(idx_nat t).2.2.2.1] at h
  refine h.trans ?_
  fin_cases ax <;> (simp [E, ix2] <;> omega)

/-- Row `n`'s term of the gain's gradient and of the offset's. -/
def T0 (c : Dev nD) (j : Fin 1024) (n : ℕ) : EReal := if h : n < 8192 then D (m ((c.tc : Thread nD τ).loc main_arg2)) (m ((c.tc : Thread nD τ).loc main_arg3)) (m ((c.tc : Thread nD τ).loc main_arg4)) ⟨n, h⟩ j
  * nrm (fun l => m ((c.tc : Thread nD τ).loc main_arg0) (ix2 ⟨n, h⟩ l)) j else 0
def T1 (c : Dev nD) (j : Fin 1024) (n : ℕ) : EReal := if h : n < 8192 then D (m ((c.tc : Thread nD τ).loc main_arg2)) (m ((c.tc : Thread nD τ).loc main_arg3)) (m ((c.tc : Thread nD τ).loc main_arg4)) ⟨n, h⟩ j else 0

theorem E_eq (t : Fin cfg0.N) (k : Fin k0_t1_loop.trips) (a : Fin 16) (l : Fin 1024) (h : 1024 * t.val + 16 * k.val + a.val < 8192) (h') :
    E t (ix2 ⟨16 * k.val + a.val, h'⟩ l) = ix2 ⟨1024 * t.val + 16 * k.val + a.val, h⟩ l := by
  refine funext fun ax => Fin.ext ?_
  fin_cases ax <;> simp [E, ix2]; omega

theorem dy_apply (c : Dev nD) (t : Fin cfg0.N) (k : Fin k0_t1_loop.trips) (a : Fin 16) (j : Fin 1024) (h : 1024 * t.val + 16 * k.val + a.val < 8192) :
    dy (F := Ideal) (iblk m c 2 t) (iblk m c 3 t) (iblk m c 4 t) k (ix2 a j) = D (m ((c.tc : Thread nD τ).loc main_arg2)) (m ((c.tc : Thread nD τ).loc main_arg3)) (m ((c.tc : Thread nD τ).loc main_arg4)) ⟨_, h⟩ j := by
  unfold dy D
  rw [payY, rows_apply, rows_apply, rows_apply, rd2, rd3, rd4, E_eq t k a j h]

theorem xh_apply (c : Dev nD) (t : Fin cfg0.N) (k : Fin k0_t1_loop.trips) (a : Fin 16) (j : Fin 1024) (h : 1024 * t.val + 16 * k.val + a.val < 8192) :
    xh (F := Ideal) (iblk m c 0 t) k (ix2 a j) = nrm (fun l => m ((c.tc : Thread nD τ).loc main_arg0) (ix2 ⟨_, h⟩ l)) j := by
  unfold xh
  rw [payX]
  refine congrArg (nrm · j) (funext fun l => ?_)
  rw [rows_apply, rd0, E_eq t k a l h]

theorem sums_apply (c : Dev nD) (t : Fin cfg0.N) (s : Vec Ideal S2x8x1024 .f32) (p : Fin 8) (j : Fin 1024) : ∀ n ≤ 64,
    sums (F := Ideal) (iblk m c 0 t) (iblk m c 2 t) (iblk m c 3 t) (iblk m c 4 t) s n (ix3 0 p j) = s (ix3 0 p j) + ∑ k ∈ Finset.range n, ∑ q ∈ Finset.range 2, T0 m c j (1024 * t.val + 16 * k + (q * 8 + p.val))
    ∧ sums (F := Ideal) (iblk m c 0 t) (iblk m c 2 t) (iblk m c 3 t) (iblk m c 4 t) s n (ix3 1 p j) = s (ix3 1 p j) + ∑ k ∈ Finset.range n, ∑ q ∈ Finset.range 2, T1 m c j (1024 * t.val + 16 * k + (q * 8 + p.val)) := by
  intro n
  induction n with
  | zero => intro _; simp [sums]
  | succ n ih =>
    intro hn
    have h : n < k0_t1_loop.trips := lt_of_lt_of_eq (by omega) trips_eq.symm
    have ht := (idx_nat t).2.2.2.2.2.2
    obtain ⟨i0, i1⟩ := ih (by omega)
    rw [sums, dif_pos h]
    constructor
    · refine (payA _ _ _ p j).trans ?_
      rw [half0, i0, Finset.sum_range_succ _ n, add_assoc]
      congr 2
      rw [Finset.sum_range]
      refine Finset.sum_congr rfl fun q _ => ?_
      unfold T0
      rw [dif_pos (by omega), dy_apply m c t _ _ j (by dsimp only; omega), xh_apply m c t _ _ j (by dsimp only; omega)]
    · refine (payB _ _ p j).trans ?_
      rw [half1, i1, Finset.sum_range_succ _ n, add_assoc]
      congr 2
      rw [Finset.sum_range]
      refine Finset.sum_congr rfl fun q _ => ?_
      unfold T1
      rw [dif_pos (by omega), dy_apply m c t _ _ j (by dsimp only; omega)]

theorem acc_apply (c : Dev nD) (p : Fin 8) (j : Fin 1024) : ∀ n ≤ 8,
    acc m c n (ix3 0 p j) = ∑ t ∈ Finset.range n, ∑ k ∈ Finset.range 64, ∑ q ∈ Finset.range 2, T0 m c j (1024 * t + 16 * k + (q * 8 + p.val))
    ∧ acc m c n (ix3 1 p j) = ∑ t ∈ Finset.range n, ∑ k ∈ Finset.range 64, ∑ q ∈ Finset.range 2, T1 m c j (1024 * t + 16 * k + (q * 8 + p.val)) := by
  intro n
  induction n with
  | zero => intro _; unfold acc k0_pay1; constructor <;> (pointwise; simp)
  | succ n ih =>
    intro hn
    obtain ⟨i0, i1⟩ := ih (by omega)
    rw [acc_succ m c ⟨n, lt_of_lt_of_eq (show n < 8 by omega) (show cfg0.N = 8 from N_0).symm⟩, (sums_apply m c _ _ p j 64 le_rfl).1, (sums_apply m c _ _ p j 64 le_rfl).2, i0, i1,
      Finset.sum_range_succ _ n, Finset.sum_range_succ _ n]
    exact ⟨rfl, rfl⟩

theorem last_eq (c : Dev nD) (y : S2x1024.Idx) : last (acc m c 8) y = G (m ((c.tc : Thread nD τ).loc main_arg0)) (m ((c.tc : Thread nD τ).loc main_arg2)) (m ((c.tc : Thread nD τ).loc main_arg3)) (m ((c.tc : Thread nD τ).loc main_arg4)) y := by
  unfold G last two1
  split
  · refine (payC _ (y 1)).trans ?_
    refine (Finset.sum_congr rfl fun p _ => (half0 _ p _).trans (acc_apply m c p (y 1) 8 le_rfl).1).trans ((sum_rows (T0 m c (y 1))).trans (Finset.sum_congr rfl fun n _ => ?_))
    unfold T0; rw [dif_pos n.isLt]
  · refine (payD _ (y 1)).trans ?_
    refine (Finset.sum_congr rfl fun p _ => (half1 _ p _).trans (acc_apply m c p (y 1) 8 le_rfl).2).trans ((sum_rows (T1 m c (y 1))).trans (Finset.sum_congr rfl fun n _ => ?_))
    unfold T1; rw [dif_pos n.isLt]

theorem final6 (c : Dev nD) : (dat m 0 c).arrAt 7 cfg0.N = G (m ((c.tc : Thread nD τ).loc main_arg0)) (m ((c.tc : Thread nD τ).loc main_arg2)) (m ((c.tc : Thread nD τ).loc main_arg3)) (m ((c.tc : Thread nD τ).loc main_arg4)) := by
  refine (dat m 0 c).arrAt_eq_of_covers 7 _ covers6 (fun t hf y => ?_)
  have e : ((cfg0.win 7).blk t).view.emb y = y := by
    refine funext fun ax => Fin.ext ?_
    have h : ((((cfg0.win 7).blk t).view.emb y ax : Fin _) : ℕ) = (cfg0.win 7).index t ax * S2x1024.size ax + 1 * (y ax).val := rfl
    rw [(idx_nat t).2.2.2.2.1] at h
    refine h.trans ?_
    fin_cases ax <;> simp
  rw [after_7, (idx_nat t).2.2.2.2.2.1 hf]
  exact (last_eq m c y).trans (congrArg (G _ _ _ _) e).symm

/-- The call's run: the two gradients, and the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v0_2) = G (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨((h.1 c).1 7).trans (final6 m c), h.2.1 c⟩) (θ_run_and (run_main m ρ) (Cert.LnBwdKvH.frame m ρ))

end call

/-! ## The reference -/

open Cert.LnBwdKvRefIdeal Cert.LnBwdKvRefIdeal.Gen

/-- The reference's run: the same gradients. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v39) = G (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨(h c).1.trans (by
    generalize m ((c.tc : Thread nD τ).loc main_arg0) = r
    generalize m ((c.tc : Thread nD τ).loc main_arg2) = a
    generalize m ((c.tc : Thread nD τ).loc main_arg3) = b
    generalize m ((c.tc : Thread nD τ).loc main_arg4) = c
    funext i
    unfold G
    pointwise
    by_cases hi : (i 0).val < 1
    · rw [dif_pos hi, if_pos (by omega), Fin.sum_univ_one]
      exact Finset.sum_congr rfl fun n _ => mul_comm _ _
    · rw [dif_neg hi, if_neg (by omega), Fin.sum_univ_one]
      exact Finset.sum_congr rfl fun n _ => rfl), (h c).2⟩) (Value.run m ρ)

theorem algebraic : Cert.algebraic_LnBwdKvIdeal_LnBwdKvRefIdeal := fun m g m' g' _ hag =>
  ⟨fun c => G (m ((c.tc : Thread Cert.LnBwdKvIdeal.nD Cert.LnBwdKvIdeal.τ).loc Cert.LnBwdKvIdeal.main_arg0)) (m ((c.tc : Thread Cert.LnBwdKvIdeal.nD Cert.LnBwdKvIdeal.τ).loc Cert.LnBwdKvIdeal.main_arg2)) (m ((c.tc : Thread Cert.LnBwdKvIdeal.nD Cert.LnBwdKvIdeal.τ).loc Cert.LnBwdKvIdeal.main_arg3)) (m ((c.tc : Thread Cert.LnBwdKvIdeal.nD Cert.LnBwdKvIdeal.τ).loc Cert.LnBwdKvIdeal.main_arg4)),
    run_blocks m g,
    (θ_run _ _ _).mono (fun r h c => by
      obtain ⟨h0, h1, h2, h3, h4⟩ := hag c
      exact ⟨(h c).1.trans (by rw [h0, h2, h3, h4]), (h c).2⟩) (ref_run m' g')⟩

end Cert.LnBwdKvV

end
-- ==== Proof.lean ====
module
public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Pool.Claim
public import proofs.«01_k».proof.Proof.Gen.GateUpBwd.Frame
public import proofs.«01_k».proof.Proof.Gen.GateUpBwdIdeal.Value
public import proofs.«01_k».proof.Proof.Gen.GateUpBwdRefIdeal.Run
public import proofs.«01_k».proof.Proof.GateUp.Claim
public import proofs.«01_k».proof.Proof.Gen.DownBwd.Frame
public import proofs.«01_k».proof.Proof.Gen.DownBwdIdeal.Value
public import proofs.«01_k».proof.Proof.Gen.DownBwdRefIdeal.Run
public import proofs.«01_k».proof.Proof.Prod.Claims
public import proofs.«01_k».proof.Proof.Gen.DownDw.Frame
public import proofs.«01_k».proof.Proof.Gen.DownDwIdeal.Value
public import proofs.«01_k».proof.Proof.Gen.DownDwRefIdeal.Run
public import proofs.«01_k».proof.Proof.Gen.GateUpDw.Frame
public import proofs.«01_k».proof.Proof.Gen.GateUpDwIdeal.Value
public import proofs.«01_k».proof.Proof.Gen.GateUpDwRefIdeal.Run
public import proofs.«01_k».proof.Proof.Gen.GateUpProj.Frame
public import proofs.«01_k».proof.Proof.Gen.GateUpProjIdeal.Value
public import proofs.«01_k».proof.Proof.Gen.GateUpProjRefIdeal.Run
public import proofs.«01_k».proof.Proof.Gen.DownProj.Frame
public import proofs.«01_k».proof.Proof.Gen.DownProjIdeal.Value
public import proofs.«01_k».proof.Proof.Gen.DownProjRefIdeal.Run
public import proofs.«01_k».proof.Proof.Gen.KvBwd.Frame
public import proofs.«01_k».proof.Proof.Gen.KvBwdIdeal.Value
public import proofs.«01_k».proof.Proof.Gen.KvBwdRefIdeal.Run
public import proofs.«01_k».proof.Proof.Gen.KvDw.Frame
public import proofs.«01_k».proof.Proof.Gen.KvDwIdeal.Value
public import proofs.«01_k».proof.Proof.Gen.KvDwRefIdeal.Run
public import proofs.«01_k».proof.Proof.Gen.KvProj.Frame
public import proofs.«01_k».proof.Proof.Gen.KvProjIdeal.Value
public import proofs.«01_k».proof.Proof.Gen.KvProjRefIdeal.Run
public import proofs.«01_k».proof.Proof.Gen.QBwd.Frame
public import proofs.«01_k».proof.Proof.Gen.QBwdIdeal.Value
public import proofs.«01_k».proof.Proof.Gen.QBwdRefIdeal.Run
public import proofs.«01_k».proof.Proof.Gen.QDw.Frame
public import proofs.«01_k».proof.Proof.Gen.QDwIdeal.Value
public import proofs.«01_k».proof.Proof.Gen.QDwRefIdeal.Run
public import proofs.«01_k».proof.Proof.Gen.QProj.Frame
public import proofs.«01_k».proof.Proof.Gen.QProjIdeal.Value
public import proofs.«01_k».proof.Proof.Gen.QProjRefIdeal.Run
public import proofs.«01_k».proof.Proof.Gen.OBwd.Frame
public import proofs.«01_k».proof.Proof.Gen.OBwdIdeal.Value
public import proofs.«01_k».proof.Proof.Gen.OBwdRefIdeal.Run
public import proofs.«01_k».proof.Proof.Gen.ODw.Frame
public import proofs.«01_k».proof.Proof.Gen.ODwIdeal.Value
public import proofs.«01_k».proof.Proof.Gen.ODwRefIdeal.Run
public import proofs.«01_k».proof.Proof.Gen.OProj.Frame
public import proofs.«01_k».proof.Proof.Gen.OProjIdeal.Value
public import proofs.«01_k».proof.Proof.Gen.OProjRefIdeal.Run
public import proofs.«01_k».proof.Proof.Gen.LossHead.Launch
public import proofs.«01_k».proof.Proof.Gen.LossHeadRefIdeal.Run
public import proofs.«01_k».proof.Proof.Loss.LossHead
public import proofs.«01_k».proof.Proof.Gen.LnBwd.Launch
public import proofs.«01_k».proof.Proof.Gen.LnBwdRefIdeal.Run
public import proofs.«01_k».proof.Proof.Norm.LnBwd
public import proofs.«01_k».proof.Proof.Gen.AdamLn.Frame
public import proofs.«01_k».proof.Proof.Gen.AdamLnIdeal.Value
public import proofs.«01_k».proof.Proof.Gen.AdamLnRefIdeal.Run
public import proofs.«01_k».proof.Proof.Opt.AdamLn
public import proofs.«01_k».proof.Proof.Gen.AdamConvB.Frame
public import proofs.«01_k».proof.Proof.Gen.AdamConvBIdeal.Value
public import proofs.«01_k».proof.Proof.Gen.AdamConvBRefIdeal.Run
public import proofs.«01_k».proof.Proof.Opt.AdamConvB
public import proofs.«01_k».proof.Proof.Gen.AdamKv.Frame
public import proofs.«01_k».proof.Proof.Gen.AdamKvIdeal.Frame
public import proofs.«01_k».proof.Proof.Gen.AdamKvRefIdeal.Run
public import proofs.«01_k».proof.Proof.Opt.AdamKv
public import proofs.«01_k».proof.Proof.Gen.AdamPoolW.Frame
public import proofs.«01_k».proof.Proof.Gen.AdamPoolWIdeal.Frame
public import proofs.«01_k».proof.Proof.Gen.AdamPoolWRefIdeal.Run
public import proofs.«01_k».proof.Proof.Opt.AdamPoolW
public import proofs.«01_k».proof.Proof.Gen.AdamPoolScale.Frame
public import proofs.«01_k».proof.Proof.Gen.AdamPoolScaleIdeal.Frame
public import proofs.«01_k».proof.Proof.Gen.AdamPoolScaleRefIdeal.Run
public import proofs.«01_k».proof.Proof.Opt.AdamPoolScale
public import proofs.«01_k».proof.Proof.Gen.AdamConvW.Frame
public import proofs.«01_k».proof.Proof.Gen.AdamConvWIdeal.Frame
public import proofs.«01_k».proof.Proof.Gen.AdamConvWRefIdeal.Run
public import proofs.«01_k».proof.Proof.Opt.AdamConvW
public import proofs.«01_k».proof.Proof.Gen.AdamQ0.Frame
public import proofs.«01_k».proof.Proof.Gen.AdamQ0Ideal.Frame
public import proofs.«01_k».proof.Proof.Gen.AdamQ0RefIdeal.Run
public import proofs.«01_k».proof.Proof.Opt.AdamQ0
public import proofs.«01_k».proof.Proof.Gen.AdamQ1.Frame
public import proofs.«01_k».proof.Proof.Gen.AdamQ1Ideal.Frame
public import proofs.«01_k».proof.Proof.Gen.AdamQ1RefIdeal.Run
public import proofs.«01_k».proof.Proof.Opt.AdamQ1
public import proofs.«01_k».proof.Proof.Gen.AdamO0.Frame
public import proofs.«01_k».proof.Proof.Gen.AdamO0Ideal.Frame
public import proofs.«01_k».proof.Proof.Gen.AdamO0RefIdeal.Run
public import proofs.«01_k».proof.Proof.Opt.AdamO0
public import proofs.«01_k».proof.Proof.Gen.AdamO1.Frame
public import proofs.«01_k».proof.Proof.Gen.AdamO1Ideal.Frame
public import proofs.«01_k».proof.Proof.Gen.AdamO1RefIdeal.Run
public import proofs.«01_k».proof.Proof.Opt.AdamO1
public import proofs.«01_k».proof.Proof.Gen.AdamGate0.Frame
public import proofs.«01_k».proof.Proof.Gen.AdamGate0Ideal.Frame
public import proofs.«01_k».proof.Proof.Gen.AdamGate0RefIdeal.Run
public import proofs.«01_k».proof.Proof.Opt.AdamGate0
public import proofs.«01_k».proof.Proof.Gen.AdamGate1.Frame
public import proofs.«01_k».proof.Proof.Gen.AdamGate1Ideal.Frame
public import proofs.«01_k».proof.Proof.Gen.AdamGate1RefIdeal.Run
public import proofs.«01_k».proof.Proof.Opt.AdamGate1
public import proofs.«01_k».proof.Proof.Gen.AdamGate2.Frame
public import proofs.«01_k».proof.Proof.Gen.AdamGate2Ideal.Frame
public import proofs.«01_k».proof.Proof.Gen.AdamGate2RefIdeal.Run
public import proofs.«01_k».proof.Proof.Opt.AdamGate2
public import proofs.«01_k».proof.Proof.Gen.AdamGate3.Frame
public import proofs.«01_k».proof.Proof.Gen.AdamGate3Ideal.Frame
public import proofs.«01_k».proof.Proof.Gen.AdamGate3RefIdeal.Run
public import proofs.«01_k».proof.Proof.Opt.AdamGate3
public import proofs.«01_k».proof.Proof.Gen.AdamDown0.Frame
public import proofs.«01_k».proof.Proof.Gen.AdamDown0Ideal.Frame
public import proofs.«01_k».proof.Proof.Gen.AdamDown0RefIdeal.Run
public import proofs.«01_k».proof.Proof.Opt.AdamDown0
public import proofs.«01_k».proof.Proof.Gen.AdamDown1.Frame
public import proofs.«01_k».proof.Proof.Gen.AdamDown1Ideal.Frame
public import proofs.«01_k».proof.Proof.Gen.AdamDown1RefIdeal.Run
public import proofs.«01_k».proof.Proof.Opt.AdamDown1
public import proofs.«01_k».proof.Proof.Gen.AdamDown2.Frame
public import proofs.«01_k».proof.Proof.Gen.AdamDown2Ideal.Frame
public import proofs.«01_k».proof.Proof.Gen.AdamDown2RefIdeal.Run
public import proofs.«01_k».proof.Proof.Opt.AdamDown2
public import proofs.«01_k».proof.Proof.Gen.AdamDown3.Frame
public import proofs.«01_k».proof.Proof.Gen.AdamDown3Ideal.Frame
public import proofs.«01_k».proof.Proof.Gen.AdamDown3RefIdeal.Run
public import proofs.«01_k».proof.Proof.Opt.AdamDown3
public import proofs.«01_k».proof.Proof.Gen.LnBwdTop.Launch
public import proofs.«01_k».proof.Proof.Gen.LnBwdTopRefIdeal.Run
public import proofs.«01_k».proof.Proof.Norm.LnBwdTop
public import proofs.«01_k».proof.Proof.Gen.LnBwdKv.Launch
public import proofs.«01_k».proof.Proof.Gen.LnBwdKvRefIdeal.Run
public import proofs.«01_k».proof.Proof.Norm.LnBwdKv

@[expose] public section

noncomputable section

namespace Cert.Proof

open Idealize.ShloMosaic Idealize.SL.Sem

/-- The reference leaves its arguments and every counter as they were. -/
theorem frame_ReferenceIdeal : Cert.quiescent_ReferenceIdeal := fun m ρ _ =>
  (θ_run _ _ _).mono (fun r h => ⟨fun c => ⟨(h c).2.2.2.1, (h c).2.2.2.2.1, (h c).2.2.2.2.2.1, (h c).2.2.2.2.2.2⟩, sem_eq_zero_of_no_sems (by decide) r.2⟩)
    (Cert.ReferenceIdeal.Value.run m ρ)

/-- The reference leaves its arguments and every counter as they were. -/
theorem frame_ReferenceIdeal_finite : Cert.quiescent_ReferenceIdeal_pre_finite := fun m ρ _ =>
  (θ_run _ _ _).mono (fun r h => ⟨fun c => ⟨(h c).2.2.2.1, (h c).2.2.2.2.1, (h c).2.2.2.2.2.1, (h c).2.2.2.2.2.2⟩, sem_eq_zero_of_no_sems (by decide) r.2⟩)
    (Cert.ReferenceIdeal.Value.run m ρ)

/-- The reference leaves its arguments and every counter as they were. -/
theorem frame_GateUpBwdRefIdeal : Cert.quiescent_GateUpBwdRefIdeal := fun m ρ _ =>
  (θ_run _ _ _).mono (fun r h => ⟨fun c => ⟨(h c).2.1, (h c).2.2.1, (h c).2.2.2.1, (h c).2.2.2.2⟩, sem_eq_zero_of_no_sems (by decide) r.2⟩)
    (Cert.GateUpBwdRefIdeal.Value.run m ρ)

/-- The reference leaves its arguments and every counter as they were. -/
theorem frame_DownBwdRefIdeal : Cert.quiescent_DownBwdRefIdeal := fun m ρ _ =>
  (θ_run _ _ _).mono (fun r h => ⟨fun c => ⟨(h c).2.1, (h c).2.2⟩, sem_eq_zero_of_no_sems (by decide) r.2⟩)
    (Cert.DownBwdRefIdeal.Value.run m ρ)

/-- The reference leaves its arguments and every counter as they were. -/
theorem frame_DownDwRefIdeal : Cert.quiescent_DownDwRefIdeal := fun m ρ _ =>
  (θ_run _ _ _).mono (fun r h => ⟨fun c => ⟨(h c).2.1, (h c).2.2⟩, sem_eq_zero_of_no_sems (by decide) r.2⟩)
    (Cert.DownDwRefIdeal.Value.run m ρ)

/-- The reference leaves its arguments and every counter as they were. -/
theorem frame_GateUpDwRefIdeal : Cert.quiescent_GateUpDwRefIdeal := fun m ρ _ =>
  (θ_run _ _ _).mono (fun r h => ⟨fun c => ⟨(h c).2.1, (h c).2.2⟩, sem_eq_zero_of_no_sems (by decide) r.2⟩)
    (Cert.GateUpDwRefIdeal.Value.run m ρ)

/-- The reference leaves its arguments and every counter as they were. -/
theorem frame_GateUpProjRefIdeal : Cert.quiescent_GateUpProjRefIdeal := fun m ρ _ =>
  (θ_run _ _ _).mono (fun r h => ⟨fun c => ⟨(h c).2.1, (h c).2.2⟩, sem_eq_zero_of_no_sems (by decide) r.2⟩)
    (Cert.GateUpProjRefIdeal.Value.run m ρ)

/-- The reference leaves its arguments and every counter as they were. -/
theorem frame_DownProjRefIdeal : Cert.quiescent_DownProjRefIdeal := fun m ρ _ =>
  (θ_run _ _ _).mono (fun r h => ⟨fun c => ⟨(h c).2.1, (h c).2.2⟩, sem_eq_zero_of_no_sems (by decide) r.2⟩)
    (Cert.DownProjRefIdeal.Value.run m ρ)

/-- The reference leaves its arguments and every counter as they were. -/
theorem frame_KvBwdRefIdeal : Cert.quiescent_KvBwdRefIdeal := fun m ρ _ =>
  (θ_run _ _ _).mono (fun r h => ⟨fun c => ⟨(h c).2.1, (h c).2.2⟩, sem_eq_zero_of_no_sems (by decide) r.2⟩)
    (Cert.KvBwdRefIdeal.Value.run m ρ)

/-- The reference leaves its arguments and every counter as they were. -/
theorem frame_KvDwRefIdeal : Cert.quiescent_KvDwRefIdeal := fun m ρ _ =>
  (θ_run _ _ _).mono (fun r h => ⟨fun c => ⟨(h c).2.1, (h c).2.2⟩, sem_eq_zero_of_no_sems (by decide) r.2⟩)
    (Cert.KvDwRefIdeal.Value.run m ρ)

/-- The reference leaves its arguments and every counter as they were. -/
theorem frame_KvProjRefIdeal : Cert.quiescent_KvProjRefIdeal := fun m ρ _ =>
  (θ_run _ _ _).mono (fun r h => ⟨fun c => ⟨(h c).2.1, (h c).2.2⟩, sem_eq_zero_of_no_sems (by decide) r.2⟩)
    (Cert.KvProjRefIdeal.Value.run m ρ)

/-- The reference leaves its arguments and every counter as they were. -/
theorem frame_QBwdRefIdeal : Cert.quiescent_QBwdRefIdeal := fun m ρ _ =>
  (θ_run _ _ _).mono (fun r h => ⟨fun c => ⟨(h c).2.1, (h c).2.2⟩, sem_eq_zero_of_no_sems (by decide) r.2⟩)
    (Cert.QBwdRefIdeal.Value.run m ρ)

/-- The reference leaves its arguments and every counter as they were. -/
theorem frame_QDwRefIdeal : Cert.quiescent_QDwRefIdeal := fun m ρ _ =>
  (θ_run _ _ _).mono (fun r h => ⟨fun c => ⟨(h c).2.1, (h c).2.2⟩, sem_eq_zero_of_no_sems (by decide) r.2⟩)
    (Cert.QDwRefIdeal.Value.run m ρ)

/-- The reference leaves its arguments and every counter as they were. -/
theorem frame_QProjRefIdeal : Cert.quiescent_QProjRefIdeal := fun m ρ _ =>
  (θ_run _ _ _).mono (fun r h => ⟨fun c => ⟨(h c).2.1, (h c).2.2⟩, sem_eq_zero_of_no_sems (by decide) r.2⟩)
    (Cert.QProjRefIdeal.Value.run m ρ)

/-- The reference leaves its arguments and every counter as they were. -/
theorem frame_OBwdRefIdeal : Cert.quiescent_OBwdRefIdeal := fun m ρ _ =>
  (θ_run _ _ _).mono (fun r h => ⟨fun c => ⟨(h c).2.1, (h c).2.2⟩, sem_eq_zero_of_no_sems (by decide) r.2⟩)
    (Cert.OBwdRefIdeal.Value.run m ρ)

/-- The reference leaves its arguments and every counter as they were. -/
theorem frame_ODwRefIdeal : Cert.quiescent_ODwRefIdeal := fun m ρ _ =>
  (θ_run _ _ _).mono (fun r h => ⟨fun c => ⟨(h c).2.1, (h c).2.2⟩, sem_eq_zero_of_no_sems (by decide) r.2⟩)
    (Cert.ODwRefIdeal.Value.run m ρ)

/-- The reference leaves its arguments and every counter as they were. -/
theorem frame_OProjRefIdeal : Cert.quiescent_OProjRefIdeal := fun m ρ _ =>
  (θ_run _ _ _).mono (fun r h => ⟨fun c => ⟨(h c).2.1, (h c).2.2⟩, sem_eq_zero_of_no_sems (by decide) r.2⟩)
    (Cert.OProjRefIdeal.Value.run m ρ)

set_option smartUnfolding false in
/-- The run is proved over any float values, so also over the words that the call computes with. -/
theorem frame_LossHead : Cert.quiescent_LossHead := fun m ρ _ => Cert.Loss.frame (F := Bits) m ρ

/-- The reference leaves its arguments and every counter as they were. -/
theorem frame_LossHeadRefIdeal : Cert.quiescent_LossHeadRefIdeal := fun m ρ _ =>
  (θ_run _ _ _).mono (fun r h => ⟨fun c => ⟨(h c).2.2.1, (h c).2.2.2⟩, sem_eq_zero_of_no_sems (by decide) r.2⟩)
    (Cert.LossHeadRefIdeal.Value.run m ρ)

set_option smartUnfolding false in
/-- The run is proved over any float values, so also over the words that the call computes with. -/
theorem frame_LnBwd : Cert.quiescent_LnBwd := fun m ρ _ => Cert.LnBwdH.frame (F := Bits) m ρ

/-- The reference leaves its arguments and every counter as they were. -/
theorem frame_LnBwdRefIdeal : Cert.quiescent_LnBwdRefIdeal := fun m ρ _ =>
  (θ_run _ _ _).mono (fun r h => ⟨fun c => ⟨(h c).2.1, (h c).2.2.1, (h c).2.2.2.1, (h c).2.2.2.2⟩, sem_eq_zero_of_no_sems (by decide) r.2⟩)
    (Cert.LnBwdRefIdeal.Value.run m ρ)

/-- The reference leaves its arguments and every counter as they were. -/
theorem frame_AdamLnRefIdeal : Cert.quiescent_AdamLnRefIdeal := fun m ρ _ =>
  (θ_run _ _ _).mono (fun r h => ⟨fun c => ⟨(h c).2.2.2.1, (h c).2.2.2.2.1, (h c).2.2.2.2.2.1, (h c).2.2.2.2.2.2⟩, sem_eq_zero_of_no_sems (by decide) r.2⟩)
    (Cert.AdamLnRefIdeal.Value.run m ρ)

/-- The reference leaves its arguments and every counter as they were. -/
theorem frame_AdamConvBRefIdeal : Cert.quiescent_AdamConvBRefIdeal := fun m ρ _ =>
  (θ_run _ _ _).mono (fun r h => ⟨fun c => ⟨(h c).2.2.2.1, (h c).2.2.2.2.1, (h c).2.2.2.2.2.1, (h c).2.2.2.2.2.2⟩, sem_eq_zero_of_no_sems (by decide) r.2⟩)
    (Cert.AdamConvBRefIdeal.Value.run m ρ)

/-- The reference leaves its arguments and every counter as they were. -/
theorem frame_AdamKvRefIdeal : Cert.quiescent_AdamKvRefIdeal := fun m ρ _ =>
  (θ_run _ _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2⟩, sem_eq_zero_of_no_sems (by decide) r.2⟩)
    (Cert.AdamKvRefIdeal.Value.run m ρ)

/-- The reference leaves its arguments and every counter as they were. -/
theorem frame_AdamPoolWRefIdeal : Cert.quiescent_AdamPoolWRefIdeal := fun m ρ _ =>
  (θ_run _ _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2⟩, sem_eq_zero_of_no_sems (by decide) r.2⟩)
    (Cert.AdamPoolWRefIdeal.Value.run m ρ)

/-- The reference leaves its arguments and every counter as they were. -/
theorem frame_AdamPoolScaleRefIdeal : Cert.quiescent_AdamPoolScaleRefIdeal := fun m ρ _ =>
  (θ_run _ _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2⟩, sem_eq_zero_of_no_sems (by decide) r.2⟩)
    (Cert.AdamPoolScaleRefIdeal.Value.run m ρ)

/-- The reference leaves its arguments and every counter as they were. -/
theorem frame_AdamConvWRefIdeal : Cert.quiescent_AdamConvWRefIdeal := fun m ρ _ =>
  (θ_run _ _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2⟩, sem_eq_zero_of_no_sems (by decide) r.2⟩)
    (Cert.AdamConvWRefIdeal.Value.run m ρ)

/-- The reference leaves its arguments and every counter as they were. -/
theorem frame_AdamQ0RefIdeal : Cert.quiescent_AdamQ0RefIdeal := fun m ρ _ =>
  (θ_run _ _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩, sem_eq_zero_of_no_sems (by decide) r.2⟩)
    (Cert.AdamQ0RefIdeal.Value.run m ρ)

/-- The reference leaves its arguments and every counter as they were. -/
theorem frame_AdamQ1RefIdeal : Cert.quiescent_AdamQ1RefIdeal := fun m ρ _ =>
  (θ_run _ _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩, sem_eq_zero_of_no_sems (by decide) r.2⟩)
    (Cert.AdamQ1RefIdeal.Value.run m ρ)

/-- The reference leaves its arguments and every counter as they were. -/
theorem frame_AdamO0RefIdeal : Cert.quiescent_AdamO0RefIdeal := fun m ρ _ =>
  (θ_run _ _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩, sem_eq_zero_of_no_sems (by decide) r.2⟩)
    (Cert.AdamO0RefIdeal.Value.run m ρ)

/-- The reference leaves its arguments and every counter as they were. -/
theorem frame_AdamO1RefIdeal : Cert.quiescent_AdamO1RefIdeal := fun m ρ _ =>
  (θ_run _ _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩, sem_eq_zero_of_no_sems (by decide) r.2⟩)
    (Cert.AdamO1RefIdeal.Value.run m ρ)

/-- The reference leaves its arguments and every counter as they were. -/
theorem frame_AdamGate0RefIdeal : Cert.quiescent_AdamGate0RefIdeal := fun m ρ _ =>
  (θ_run _ _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩, sem_eq_zero_of_no_sems (by decide) r.2⟩)
    (Cert.AdamGate0RefIdeal.Value.run m ρ)

/-- The reference leaves its arguments and every counter as they were. -/
theorem frame_AdamGate1RefIdeal : Cert.quiescent_AdamGate1RefIdeal := fun m ρ _ =>
  (θ_run _ _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩, sem_eq_zero_of_no_sems (by decide) r.2⟩)
    (Cert.AdamGate1RefIdeal.Value.run m ρ)

/-- The reference leaves its arguments and every counter as they were. -/
theorem frame_AdamGate2RefIdeal : Cert.quiescent_AdamGate2RefIdeal := fun m ρ _ =>
  (θ_run _ _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩, sem_eq_zero_of_no_sems (by decide) r.2⟩)
    (Cert.AdamGate2RefIdeal.Value.run m ρ)

/-- The reference leaves its arguments and every counter as they were. -/
theorem frame_AdamGate3RefIdeal : Cert.quiescent_AdamGate3RefIdeal := fun m ρ _ =>
  (θ_run _ _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩, sem_eq_zero_of_no_sems (by decide) r.2⟩)
    (Cert.AdamGate3RefIdeal.Value.run m ρ)

/-- The reference leaves its arguments and every counter as they were. -/
theorem frame_AdamDown0RefIdeal : Cert.quiescent_AdamDown0RefIdeal := fun m ρ _ =>
  (θ_run _ _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩, sem_eq_zero_of_no_sems (by decide) r.2⟩)
    (Cert.AdamDown0RefIdeal.Value.run m ρ)

/-- The reference leaves its arguments and every counter as they were. -/
theorem frame_AdamDown1RefIdeal : Cert.quiescent_AdamDown1RefIdeal := fun m ρ _ =>
  (θ_run _ _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩, sem_eq_zero_of_no_sems (by decide) r.2⟩)
    (Cert.AdamDown1RefIdeal.Value.run m ρ)

/-- The reference leaves its arguments and every counter as they were. -/
theorem frame_AdamDown2RefIdeal : Cert.quiescent_AdamDown2RefIdeal := fun m ρ _ =>
  (θ_run _ _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩, sem_eq_zero_of_no_sems (by decide) r.2⟩)
    (Cert.AdamDown2RefIdeal.Value.run m ρ)

/-- The reference leaves its arguments and every counter as they were. -/
theorem frame_AdamDown3RefIdeal : Cert.quiescent_AdamDown3RefIdeal := fun m ρ _ =>
  (θ_run _ _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩, sem_eq_zero_of_no_sems (by decide) r.2⟩)
    (Cert.AdamDown3RefIdeal.Value.run m ρ)

set_option smartUnfolding false in
/-- The run is proved over any float values, so also over the words that the call computes with. -/
theorem frame_LnBwdTop : Cert.quiescent_LnBwdTop := fun m ρ _ => Cert.LnBwdTopH.frame (F := Bits) m ρ

/-- The reference leaves its arguments and every counter as they were. -/
theorem frame_LnBwdTopRefIdeal : Cert.quiescent_LnBwdTopRefIdeal := fun m ρ _ =>
  (θ_run _ _ _).mono (fun r h => ⟨fun c => ⟨(h c).2.1, (h c).2.2.1, (h c).2.2.2⟩, sem_eq_zero_of_no_sems (by decide) r.2⟩)
    (Cert.LnBwdTopRefIdeal.Value.run m ρ)

set_option smartUnfolding false in
/-- The run is proved over any float values, so also over the words that the call computes with. -/
theorem frame_LnBwdKv : Cert.quiescent_LnBwdKv := fun m ρ _ => Cert.LnBwdKvH.frame (F := Bits) m ρ

/-- The reference leaves its arguments and every counter as they were. -/
theorem frame_LnBwdKvRefIdeal : Cert.quiescent_LnBwdKvRefIdeal := fun m ρ _ =>
  (θ_run _ _ _).mono (fun r h => ⟨fun c => ⟨(h c).2.1, (h c).2.2.1, (h c).2.2.2.1, (h c).2.2.2.2.1, (h c).2.2.2.2.2⟩, sem_eq_zero_of_no_sems (by decide) r.2⟩)
    (Cert.LnBwdKvRefIdeal.Value.run m ρ)

/-- Every claim of the certificate. -/
theorem claim : Cert.Claim :=
  ⟨Cert.Kernel.Gen.facts, Cert.KernelIdeal.Gen.facts, Cert.ReferenceIdeal.Gen.facts, Cert.GateUpBwd.Gen.facts, Cert.GateUpBwdIdeal.Gen.facts, Cert.GateUpBwdRefIdeal.Gen.facts, Cert.DownBwd.Gen.facts, Cert.DownBwdIdeal.Gen.facts, Cert.DownBwdRefIdeal.Gen.facts, Cert.DownDw.Gen.facts, Cert.DownDwIdeal.Gen.facts, Cert.DownDwRefIdeal.Gen.facts, Cert.GateUpDw.Gen.facts, Cert.GateUpDwIdeal.Gen.facts, Cert.GateUpDwRefIdeal.Gen.facts, Cert.GateUpProj.Gen.facts, Cert.GateUpProjIdeal.Gen.facts, Cert.GateUpProjRefIdeal.Gen.facts, Cert.DownProj.Gen.facts, Cert.DownProjIdeal.Gen.facts, Cert.DownProjRefIdeal.Gen.facts, Cert.KvBwd.Gen.facts, Cert.KvBwdIdeal.Gen.facts, Cert.KvBwdRefIdeal.Gen.facts, Cert.KvDw.Gen.facts, Cert.KvDwIdeal.Gen.facts, Cert.KvDwRefIdeal.Gen.facts, Cert.KvProj.Gen.facts, Cert.KvProjIdeal.Gen.facts, Cert.KvProjRefIdeal.Gen.facts, Cert.QBwd.Gen.facts, Cert.QBwdIdeal.Gen.facts, Cert.QBwdRefIdeal.Gen.facts, Cert.QDw.Gen.facts, Cert.QDwIdeal.Gen.facts, Cert.QDwRefIdeal.Gen.facts, Cert.QProj.Gen.facts, Cert.QProjIdeal.Gen.facts, Cert.QProjRefIdeal.Gen.facts, Cert.OBwd.Gen.facts, Cert.OBwdIdeal.Gen.facts, Cert.OBwdRefIdeal.Gen.facts, Cert.ODw.Gen.facts, Cert.ODwIdeal.Gen.facts, Cert.ODwRefIdeal.Gen.facts, Cert.OProj.Gen.facts, Cert.OProjIdeal.Gen.facts, Cert.OProjRefIdeal.Gen.facts, Cert.LossHead.Gen.facts, Cert.LossHeadIdeal.Gen.facts, Cert.LossHeadRefIdeal.Gen.facts, Cert.LnBwd.Gen.facts, Cert.LnBwdIdeal.Gen.facts, Cert.LnBwdRefIdeal.Gen.facts, Cert.AdamLn.Gen.facts, Cert.AdamLnIdeal.Gen.facts, Cert.AdamLnRefIdeal.Gen.facts, Cert.AdamConvB.Gen.facts, Cert.AdamConvBIdeal.Gen.facts, Cert.AdamConvBRefIdeal.Gen.facts, Cert.AdamKv.Gen.facts, Cert.AdamKvIdeal.Gen.facts, Cert.AdamKvRefIdeal.Gen.facts, Cert.AdamPoolW.Gen.facts, Cert.AdamPoolWIdeal.Gen.facts, Cert.AdamPoolWRefIdeal.Gen.facts, Cert.AdamPoolScale.Gen.facts, Cert.AdamPoolScaleIdeal.Gen.facts, Cert.AdamPoolScaleRefIdeal.Gen.facts, Cert.AdamConvW.Gen.facts, Cert.AdamConvWIdeal.Gen.facts, Cert.AdamConvWRefIdeal.Gen.facts, Cert.AdamQ0.Gen.facts, Cert.AdamQ0Ideal.Gen.facts, Cert.AdamQ0RefIdeal.Gen.facts, Cert.AdamQ1.Gen.facts, Cert.AdamQ1Ideal.Gen.facts, Cert.AdamQ1RefIdeal.Gen.facts, Cert.AdamO0.Gen.facts, Cert.AdamO0Ideal.Gen.facts, Cert.AdamO0RefIdeal.Gen.facts, Cert.AdamO1.Gen.facts, Cert.AdamO1Ideal.Gen.facts, Cert.AdamO1RefIdeal.Gen.facts, Cert.AdamGate0.Gen.facts, Cert.AdamGate0Ideal.Gen.facts, Cert.AdamGate0RefIdeal.Gen.facts, Cert.AdamGate1.Gen.facts, Cert.AdamGate1Ideal.Gen.facts, Cert.AdamGate1RefIdeal.Gen.facts, Cert.AdamGate2.Gen.facts, Cert.AdamGate2Ideal.Gen.facts, Cert.AdamGate2RefIdeal.Gen.facts, Cert.AdamGate3.Gen.facts, Cert.AdamGate3Ideal.Gen.facts, Cert.AdamGate3RefIdeal.Gen.facts, Cert.AdamDown0.Gen.facts, Cert.AdamDown0Ideal.Gen.facts, Cert.AdamDown0RefIdeal.Gen.facts, Cert.AdamDown1.Gen.facts, Cert.AdamDown1Ideal.Gen.facts, Cert.AdamDown1RefIdeal.Gen.facts, Cert.AdamDown2.Gen.facts, Cert.AdamDown2Ideal.Gen.facts, Cert.AdamDown2RefIdeal.Gen.facts, Cert.AdamDown3.Gen.facts, Cert.AdamDown3Ideal.Gen.facts, Cert.AdamDown3RefIdeal.Gen.facts, Cert.LnBwdTop.Gen.facts, Cert.LnBwdTopIdeal.Gen.facts, Cert.LnBwdTopRefIdeal.Gen.facts, Cert.LnBwdKv.Gen.facts, Cert.LnBwdKvIdeal.Gen.facts, Cert.LnBwdKvRefIdeal.Gen.facts, Cert.Pool.pre_facts,
    fun m ρ _ => Cert.Kernel.Gen.frame m ρ,
    fun m ρ _ => Cert.KernelIdeal.Gen.frame m ρ,
    fun m ρ _ => Cert.KernelIdeal.Gen.frame m ρ,
    frame_ReferenceIdeal,
    frame_ReferenceIdeal_finite,
    fun m ρ _ => Cert.GateUpBwd.Gen.frame m ρ,
    fun m ρ _ => Cert.GateUpBwdIdeal.Gen.frame m ρ,
    frame_GateUpBwdRefIdeal,
    fun m ρ _ => Cert.DownBwd.Gen.frame m ρ,
    fun m ρ _ => Cert.DownBwdIdeal.Gen.frame m ρ,
    frame_DownBwdRefIdeal,
    fun m ρ _ => Cert.DownDw.Gen.frame m ρ,
    fun m ρ _ => Cert.DownDwIdeal.Gen.frame m ρ,
    frame_DownDwRefIdeal,
    fun m ρ _ => Cert.GateUpDw.Gen.frame m ρ,
    fun m ρ _ => Cert.GateUpDwIdeal.Gen.frame m ρ,
    frame_GateUpDwRefIdeal,
    fun m ρ _ => Cert.GateUpProj.Gen.frame m ρ,
    fun m ρ _ => Cert.GateUpProjIdeal.Gen.frame m ρ,
    frame_GateUpProjRefIdeal,
    fun m ρ _ => Cert.DownProj.Gen.frame m ρ,
    fun m ρ _ => Cert.DownProjIdeal.Gen.frame m ρ,
    frame_DownProjRefIdeal,
    fun m ρ _ => Cert.KvBwd.Gen.frame m ρ,
    fun m ρ _ => Cert.KvBwdIdeal.Gen.frame m ρ,
    frame_KvBwdRefIdeal,
    fun m ρ _ => Cert.KvDw.Gen.frame m ρ,
    fun m ρ _ => Cert.KvDwIdeal.Gen.frame m ρ,
    frame_KvDwRefIdeal,
    fun m ρ _ => Cert.KvProj.Gen.frame m ρ,
    fun m ρ _ => Cert.KvProjIdeal.Gen.frame m ρ,
    frame_KvProjRefIdeal,
    fun m ρ _ => Cert.QBwd.Gen.frame m ρ,
    fun m ρ _ => Cert.QBwdIdeal.Gen.frame m ρ,
    frame_QBwdRefIdeal,
    fun m ρ _ => Cert.QDw.Gen.frame m ρ,
    fun m ρ _ => Cert.QDwIdeal.Gen.frame m ρ,
    frame_QDwRefIdeal,
    fun m ρ _ => Cert.QProj.Gen.frame m ρ,
    fun m ρ _ => Cert.QProjIdeal.Gen.frame m ρ,
    frame_QProjRefIdeal,
    fun m ρ _ => Cert.OBwd.Gen.frame m ρ,
    fun m ρ _ => Cert.OBwdIdeal.Gen.frame m ρ,
    frame_OBwdRefIdeal,
    fun m ρ _ => Cert.ODw.Gen.frame m ρ,
    fun m ρ _ => Cert.ODwIdeal.Gen.frame m ρ,
    frame_ODwRefIdeal,
    fun m ρ _ => Cert.OProj.Gen.frame m ρ,
    fun m ρ _ => Cert.OProjIdeal.Gen.frame m ρ,
    frame_OProjRefIdeal,
    frame_LossHead,
    fun m ρ _ => Cert.Loss.frame (F := Ideal) m ρ,
    frame_LossHeadRefIdeal,
    frame_LnBwd,
    fun m ρ _ => Cert.LnBwdH.frame (F := Ideal) m ρ,
    frame_LnBwdRefIdeal,
    fun m ρ _ => Cert.AdamLn.Gen.frame m ρ,
    fun m ρ _ => Cert.AdamLnIdeal.Gen.frame m ρ,
    frame_AdamLnRefIdeal,
    fun m ρ _ => Cert.AdamConvB.Gen.frame m ρ,
    fun m ρ _ => Cert.AdamConvBIdeal.Gen.frame m ρ,
    frame_AdamConvBRefIdeal,
    fun m ρ _ => Cert.AdamKv.Gen.frame m ρ (Cert.AdamKvV.ok_bits m),
    fun m ρ _ => Cert.AdamKvIdeal.Gen.frame m ρ (Cert.AdamKvV.ok m),
    frame_AdamKvRefIdeal,
    fun m ρ _ => Cert.AdamPoolW.Gen.frame m ρ (Cert.AdamPoolWV.ok_bits m),
    fun m ρ _ => Cert.AdamPoolWIdeal.Gen.frame m ρ (Cert.AdamPoolWV.ok m),
    frame_AdamPoolWRefIdeal,
    fun m ρ _ => Cert.AdamPoolScale.Gen.frame m ρ (Cert.AdamPoolScaleV.ok_bits m),
    fun m ρ _ => Cert.AdamPoolScaleIdeal.Gen.frame m ρ (Cert.AdamPoolScaleV.ok m),
    frame_AdamPoolScaleRefIdeal,
    fun m ρ _ => Cert.AdamConvW.Gen.frame m ρ (Cert.AdamConvWV.ok_bits m),
    fun m ρ _ => Cert.AdamConvWIdeal.Gen.frame m ρ (Cert.AdamConvWV.ok m),
    frame_AdamConvWRefIdeal,
    fun m ρ _ => Cert.AdamQ0.Gen.frame m ρ (Cert.AdamQ0V.ok_bits m),
    fun m ρ _ => Cert.AdamQ0Ideal.Gen.frame m ρ (Cert.AdamQ0V.ok m),
    frame_AdamQ0RefIdeal,
    fun m ρ _ => Cert.AdamQ1.Gen.frame m ρ (Cert.AdamQ1V.ok_bits m),
    fun m ρ _ => Cert.AdamQ1Ideal.Gen.frame m ρ (Cert.AdamQ1V.ok m),
    frame_AdamQ1RefIdeal,
    fun m ρ _ => Cert.AdamO0.Gen.frame m ρ (Cert.AdamO0V.ok_bits m),
    fun m ρ _ => Cert.AdamO0Ideal.Gen.frame m ρ (Cert.AdamO0V.ok m),
    frame_AdamO0RefIdeal,
    fun m ρ _ => Cert.AdamO1.Gen.frame m ρ (Cert.AdamO1V.ok_bits m),
    fun m ρ _ => Cert.AdamO1Ideal.Gen.frame m ρ (Cert.AdamO1V.ok m),
    frame_AdamO1RefIdeal,
    fun m ρ _ => Cert.AdamGate0.Gen.frame m ρ (Cert.AdamGate0V.ok_bits m),
    fun m ρ _ => Cert.AdamGate0Ideal.Gen.frame m ρ (Cert.AdamGate0V.ok m),
    frame_AdamGate0RefIdeal,
    fun m ρ _ => Cert.AdamGate1.Gen.frame m ρ (Cert.AdamGate1V.ok_bits m),
    fun m ρ _ => Cert.AdamGate1Ideal.Gen.frame m ρ (Cert.AdamGate1V.ok m),
    frame_AdamGate1RefIdeal,
    fun m ρ _ => Cert.AdamGate2.Gen.frame m ρ (Cert.AdamGate2V.ok_bits m),
    fun m ρ _ => Cert.AdamGate2Ideal.Gen.frame m ρ (Cert.AdamGate2V.ok m),
    frame_AdamGate2RefIdeal,
    fun m ρ _ => Cert.AdamGate3.Gen.frame m ρ (Cert.AdamGate3V.ok_bits m),
    fun m ρ _ => Cert.AdamGate3Ideal.Gen.frame m ρ (Cert.AdamGate3V.ok m),
    frame_AdamGate3RefIdeal,
    fun m ρ _ => Cert.AdamDown0.Gen.frame m ρ (Cert.AdamDown0V.ok_bits m),
    fun m ρ _ => Cert.AdamDown0Ideal.Gen.frame m ρ (Cert.AdamDown0V.ok m),
    frame_AdamDown0RefIdeal,
    fun m ρ _ => Cert.AdamDown1.Gen.frame m ρ (Cert.AdamDown1V.ok_bits m),
    fun m ρ _ => Cert.AdamDown1Ideal.Gen.frame m ρ (Cert.AdamDown1V.ok m),
    frame_AdamDown1RefIdeal,
    fun m ρ _ => Cert.AdamDown2.Gen.frame m ρ (Cert.AdamDown2V.ok_bits m),
    fun m ρ _ => Cert.AdamDown2Ideal.Gen.frame m ρ (Cert.AdamDown2V.ok m),
    frame_AdamDown2RefIdeal,
    fun m ρ _ => Cert.AdamDown3.Gen.frame m ρ (Cert.AdamDown3V.ok_bits m),
    fun m ρ _ => Cert.AdamDown3Ideal.Gen.frame m ρ (Cert.AdamDown3V.ok m),
    frame_AdamDown3RefIdeal,
    frame_LnBwdTop,
    fun m ρ _ => Cert.LnBwdTopH.frame (F := Ideal) m ρ,
    frame_LnBwdTopRefIdeal,
    frame_LnBwdKv,
    fun m ρ _ => Cert.LnBwdKvH.frame (F := Ideal) m ρ,
    frame_LnBwdKvRefIdeal,
    trivial,
    Cert.Pool.algebraic,
    trivial,
    Cert.GateUp.algebraic,
    trivial,
    Cert.DownBwdV.algebraic,
    trivial,
    Cert.DownDwV.algebraic,
    trivial,
    Cert.GateUpDwV.algebraic,
    trivial,
    Cert.GateUpProjV.algebraic,
    trivial,
    Cert.DownProjV.algebraic,
    trivial,
    Cert.KvBwdV.algebraic,
    trivial,
    Cert.KvDwV.algebraic,
    trivial,
    Cert.KvProjV.algebraic,
    trivial,
    Cert.QBwdV.algebraic,
    trivial,
    Cert.QDwV.algebraic,
    trivial,
    Cert.QProjV.algebraic,
    trivial,
    Cert.OBwdV.algebraic,
    trivial,
    Cert.ODwV.algebraic,
    trivial,
    Cert.OProjV.algebraic,
    trivial,
    Cert.LossHeadV.algebraic,
    trivial,
    Cert.LnBwdV.algebraic,
    trivial,
    Cert.AdamLnV.algebraic,
    trivial,
    Cert.AdamConvBV.algebraic,
    trivial,
    Cert.AdamKvV.algebraic,
    trivial,
    Cert.AdamPoolWV.algebraic,
    trivial,
    Cert.AdamPoolScaleV.algebraic,
    trivial,
    Cert.AdamConvWV.algebraic,
    trivial,
    Cert.AdamQ0V.algebraic,
    trivial,
    Cert.AdamQ1V.algebraic,
    trivial,
    Cert.AdamO0V.algebraic,
    trivial,
    Cert.AdamO1V.algebraic,
    trivial,
    Cert.AdamGate0V.algebraic,
    trivial,
    Cert.AdamGate1V.algebraic,
    trivial,
    Cert.AdamGate2V.algebraic,
    trivial,
    Cert.AdamGate3V.algebraic,
    trivial,
    Cert.AdamDown0V.algebraic,
    trivial,
    Cert.AdamDown1V.algebraic,
    trivial,
    Cert.AdamDown2V.algebraic,
    trivial,
    Cert.AdamDown3V.algebraic,
    trivial,
    Cert.LnBwdTopV.algebraic,
    trivial,
    Cert.LnBwdKvV.algebraic⟩

end Cert.Proof

end
